-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_rows_distinct_and_finite [hPre_rows_distinct_and_finite : Cert.Pre_rows_distinct_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_rows_distinct_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_distinct_and_finite [hPre_rows_distinct_and_finite : Cert.Pre_rows_distinct_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_rows_distinct_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel3 [hPre_rows_in_range3 : Cert.Pre_rows_in_range3.Facts] (m : (ℓ : Loc Cert.Kernel3.nD Cert.Kernel3.τ Cert.Kernel3.sig) → Buf (Elt Bits) ℓ) : Prop :=
  ∀ c : Dev Cert.Kernel3.nD,
    (Cert.Pre_rows_in_range3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_rows_in_range3 : Cert.Pre_rows_in_range3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_in_range3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Kernel3Ideal_rows_distinct_and_finite3 [hPre_rows_distinct_and_finite3 : Cert.Pre_rows_distinct_and_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_rows_distinct_and_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rows_distinct_and_finite3 [hPre_rows_distinct_and_finite3 : Cert.Pre_rows_distinct_and_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_rows_distinct_and_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rows_distinct_and_finite [hKernelIdeal : Cert.KernelIdeal.Facts] [hPre_rows_distinct_and_finite : Cert.Pre_rows_distinct_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_distinct_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rows_distinct_and_finite [hReferenceIdeal : Cert.ReferenceIdeal.Facts] [hPre_rows_distinct_and_finite : Cert.Pre_rows_distinct_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_distinct_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel3 [hKernel3 : Cert.Kernel3.Facts] [hPre_rows_in_range3 : Cert.Pre_rows_in_range3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_rows_in_range3 : Cert.Pre_rows_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_rows_distinct_and_finite3 [hKernel3Ideal : Cert.Kernel3Ideal.Facts] [hPre_rows_distinct_and_finite3 : Cert.Pre_rows_distinct_and_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_rows_distinct_and_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_rows_distinct_and_finite3 [hReference3Ideal : Cert.Reference3Ideal.Facts] [hPre_rows_distinct_and_finite3 : Cert.Pre_rows_distinct_and_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rows_distinct_and_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_rows_distinct_and_finite [hKernelIdeal : Cert.KernelIdeal.Facts] [hReferenceIdeal : Cert.ReferenceIdeal.Facts] [hPre_rows_distinct_and_finite : Cert.Pre_rows_distinct_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_distinct_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel3_Kernel3Ideal : Prop :=
  True

def algebraic_Kernel3Ideal_Reference3Ideal_pre_rows_distinct_and_finite3 [hKernel3Ideal : Cert.Kernel3Ideal.Facts] [hReference3Ideal : Cert.Reference3Ideal.Facts] [hPre_rows_distinct_and_finite3 : Cert.Pre_rows_distinct_and_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_rows_distinct_and_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel3 : Cert.Kernel3.Facts) (hKernel3Ideal : Cert.Kernel3Ideal.Facts) (hReference3Ideal : Cert.Reference3Ideal.Facts) (hPre_rows_in_range : Cert.Pre_rows_in_range.Facts) (hPre_rows_distinct_and_finite : Cert.Pre_rows_distinct_and_finite.Facts) (hPre_rows_in_range3 : Cert.Pre_rows_in_range3.Facts) (hPre_rows_distinct_and_finite3 : Cert.Pre_rows_distinct_and_finite3.Facts),
    quiescent_Kernel (hKernel := hKernel) (hPre_rows_in_range := hPre_rows_in_range)
    ∧ quiescent_KernelIdeal (hKernelIdeal := hKernelIdeal) (hPre_rows_in_range := hPre_rows_in_range)
    ∧ quiescent_KernelIdeal_pre_rows_distinct_and_finite (hKernelIdeal := hKernelIdeal) (hPre_rows_distinct_and_finite := hPre_rows_distinct_and_finite)
    ∧ quiescent_ReferenceIdeal (hReferenceIdeal := hReferenceIdeal)
    ∧ quiescent_ReferenceIdeal_pre_rows_distinct_and_finite (hReferenceIdeal := hReferenceIdeal) (hPre_rows_distinct_and_finite := hPre_rows_distinct_and_finite)
    ∧ quiescent_Kernel2 (hKernel2 := hKernel2)
    ∧ quiescent_Kernel3 (hKernel3 := hKernel3) (hPre_rows_in_range3 := hPre_rows_in_range3)
    ∧ quiescent_Kernel3Ideal (hKernel3Ideal := hKernel3Ideal) (hPre_rows_in_range3 := hPre_rows_in_range3)
    ∧ quiescent_Kernel3Ideal_pre_rows_distinct_and_finite3 (hKernel3Ideal := hKernel3Ideal) (hPre_rows_distinct_and_finite3 := hPre_rows_distinct_and_finite3)
    ∧ quiescent_Reference3Ideal (hReference3Ideal := hReference3Ideal)
    ∧ quiescent_Reference3Ideal_pre_rows_distinct_and_finite3 (hReference3Ideal := hReference3Ideal) (hPre_rows_distinct_and_finite3 := hPre_rows_distinct_and_finite3)
    ∧ preserves_Kernel_KernelIdeal
    ∧ algebraic_KernelIdeal_ReferenceIdeal_pre_rows_distinct_and_finite (hKernelIdeal := hKernelIdeal) (hReferenceIdeal := hReferenceIdeal) (hPre_rows_distinct_and_finite := hPre_rows_distinct_and_finite)
    ∧ preserves_Kernel3_Kernel3Ideal
    ∧ algebraic_Kernel3Ideal_Reference3Ideal_pre_rows_distinct_and_finite3 (hKernel3Ideal := hKernel3Ideal) (hReference3Ideal := hReference3Ideal) (hPre_rows_distinct_and_finite3 := hPre_rows_distinct_and_finite3)
-- ==== Pre_rows_distinct_and_finite.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S1024 : Shape := ⟨1, ![1024]⟩
abbrev S16x16x64x4 : Shape := ⟨4, ![16, 16, 64, 4]⟩
abbrev S16x16x64x1 : Shape := ⟨4, ![16, 16, 64, 1]⟩
abbrev S16x16x64 : Shape := ⟨3, ![16, 16, 64]⟩
abbrev S_ : Shape := ⟨0, ![]⟩

class Facts : Prop where
  shapeCasts_S16x16x256_S16x16x64x4 : S16x16x256.ShapeCasts S16x16x64x4
  slices_S16x16x64x4_S16x16x64x1_0_0_0_0 : S16x16x64x4.Slices ![0, 0, 0, 0] S16x16x64x1
  shapeCasts_S16x16x64x1_S16x16x64 : S16x16x64x1.ShapeCasts S16x16x64
  slices_S16x16x64x4_S16x16x64x1_0_0_0_1 : S16x16x64x4.Slices ![0, 0, 0, 1] S16x16x64x1
  slices_S16x16x64x4_S16x16x64x1_0_0_0_2 : S16x16x64x4.Slices ![0, 0, 0, 2] S16x16x64x1
  slices_S16x16x64x4_S16x16x64x1_0_0_0_3 : S16x16x64x4.Slices ![0, 0, 0, 3] S16x16x64x1
  bcast_S_S16x2048x512 : S_.BroadcastsInDim S16x2048x512 (![] : Fin 0 → Fin S16x2048x512.rank)
  bcast_S_S16x16x256 : S_.BroadcastsInDim S16x16x256 (![] : Fin 0 → Fin S16x16x256.rank)
  bcast_S_S144x1x1024 : S_.BroadcastsInDim S144x1x1024 (![] : Fin 0 → Fin S144x1x1024.rank)
  bitsLt_bf16_f32 : FTy.bits .bf16 < FTy.bits .f32
  bcast_S_S16x1024x1024 : S_.BroadcastsInDim S16x1024x1024 (![] : Fin 0 → Fin S16x1024x1024.rank)

variable [Facts]

def fn_part2 {F : FTy → Type} [FloatOps F] (main_arg5 : FVec F S16x1024x1024 .bf16) (main_arg6 : FVec F S16x1024x1024 .bf16) (main_arg7 : FVec F S16x1024x1024 .bf16) (main_v19 : IVec S16x16x64 1) (main_v32 : IVec S16x16x256 1) (main_v33 : IVec S16x2048x512 1) (main_v36 : IVec S16x16x256 1) (main_v39 : IVec S144x1x1024 1) : IVec S16x16x256 1 × IVec S16x16x64 1 × IVec S16x2048x512 1 × IVec S16x16x256 1 × IVec S144x1x1024 1 × IVec S16x1024x1024 1 × IVec S16x1024x1024 1 × IVec S16x1024x1024 1 :=
  let main_v40 : FVec F S16x1024x1024 .f32 := (extf .f32 · bitsLt_bf16_f32) main_arg5
  let main_v41 : FVec F S16x1024x1024 .f32 := Host.absf main_v40
  let main_cst_6 : FVec F S_ .f32 := constant S_ .f32 0x7F800000#32
  let main_v42 : FVec F S16x1024x1024 .f32 := broadcastInDim S16x1024x1024 ![] bcast_S_S16x1024x1024 main_cst_6
  let main_v43 : IVec S16x1024x1024 1 := cmpf .olt main_v41 main_v42
  let main_v44 : FVec F S16x1024x1024 .f32 := (extf .f32 · bitsLt_bf16_f32) main_arg6
  let main_v45 : FVec F S16x1024x1024 .f32 := Host.absf main_v44
  let main_cst_7 : FVec F S_ .f32 := constant S_ .f32 0x7F800000#32
  let main_v46 : FVec F S16x1024x1024 .f32 := broadcastInDim S16x1024x1024 ![] bcast_S_S16x1024x1024 main_cst_7
  let main_v47 : IVec S16x1024x1024 1 := cmpf .olt main_v45 main_v46
  let main_v48 : FVec F S16x1024x1024 .f32 := (extf .f32 · bitsLt_bf16_f32) main_arg7
  let main_v49 : FVec F S16x1024x1024 .f32 := Host.absf main_v48
  let main_cst_8 : FVec F S_ .f32 := constant S_ .f32 0x7F800000#32
  let main_v50 : FVec F S16x1024x1024 .f32 := broadcastInDim S16x1024x1024 ![] bcast_S_S16x1024x1024 main_cst_8
  let main_v51 : IVec S16x1024x1024 1 := cmpf .olt main_v49 main_v50
  (main_v32, main_v19, main_v33, main_v36, main_v39, main_v43, main_v47, main_v51)

def fn_part1 {F : FTy → Type} [FloatOps F] (main_arg0 : IVec S16x2048x512 32) (main_arg1 : IVec S16x16x256 32) (main_arg2 : FVec F S16x16x256 .f32) (main_arg4 : FVec F S144x1x1024 .f32) (main_arg5 : FVec F S16x1024x1024 .bf16) (main_arg6 : FVec F S16x1024x1024 .bf16) (main_arg7 : FVec F S16x1024x1024 .bf16) (main_v19 : IVec S16x16x64 1) (main_v21 : IVec S16x2048x512 32) (main_c_0 : IVec S_ 32) : IVec S16x16x256 1 × IVec S16x16x64 1 × IVec S16x2048x512 1 × IVec S16x16x256 1 × IVec S144x1x1024 1 × IVec S16x1024x1024 1 × IVec S16x1024x1024 1 × IVec S16x1024x1024 1 :=
  let main_v22 : IVec S16x2048x512 32 := broadcastInDim S16x2048x512 ![] bcast_S_S16x2048x512 main_c_0
  let main_v23 : IVec S16x2048x512 1 := cmpi .ne main_v21 main_v22
  let main_c_1 : IVec S_ 32 := constantI S_ 32 2139095040#32
  let main_v24 : IVec S16x2048x512 32 := broadcastInDim S16x2048x512 ![] bcast_S_S16x2048x512 main_c_1
  let main_v25 : IVec S16x2048x512 32 := andi main_arg0 main_v24
  let main_c_2 : IVec S_ 32 := constantI S_ 32 2139095040#32
  let main_v26 : IVec S16x2048x512 32 := broadcastInDim S16x2048x512 ![] bcast_S_S16x2048x512 main_c_2
  let main_v27 : IVec S16x2048x512 1 := cmpi .ne main_v25 main_v26
  let main_c_3 : IVec S_ 32 := constantI S_ 32 0#32
  let main_v28 : IVec S16x16x256 32 := broadcastInDim S16x16x256 ![] bcast_S_S16x16x256 main_c_3
  let main_v29 : IVec S16x16x256 1 := cmpi .sge main_arg1 main_v28
  let main_c_4 : IVec S_ 32 := constantI S_ 32 2048#32
  let main_v30 : IVec S16x16x256 32 := broadcastInDim S16x16x256 ![] bcast_S_S16x16x256 main_c_4
  let main_v31 : IVec S16x16x256 1 := cmpi .slt main_arg1 main_v30
  let main_v32 : IVec S16x16x256 1 := andi main_v29 main_v31
  let main_v33 : IVec S16x2048x512 1 := andi main_v23 main_v27
  let main_v34 : FVec F S16x16x256 .f32 := Host.absf main_arg2
  let main_cst : FVec F S_ .f32 := constant S_ .f32 0x7F800000#32
  let main_v35 : FVec F S16x16x256 .f32 := broadcastInDim S16x16x256 ![] bcast_S_S16x16x256 main_cst
  let main_v36 : IVec S16x16x256 1 := cmpf .olt main_v34 main_v35
  let main_v37 : FVec F S144x1x1024 .f32 := Host.absf main_arg4
  let main_cst_5 : FVec F S_ .f32 := constant S_ .f32 0x7F800000#32
  let main_v38 : FVec F S144x1x1024 .f32 := broadcastInDim S144x1x1024 ![] bcast_S_S144x1x1024 main_cst_5
  let main_v39 : IVec S144x1x1024 1 := cmpf .olt main_v37 main_v38
  fn_part2 (F := F) main_arg5 main_arg6 main_arg7 main_v19 main_v32 main_v33 main_v36 main_v39

def fn {F : FTy → Type} [FloatOps F] (main_arg0 : IVec S16x2048x512 32) (main_arg1 : IVec S16x16x256 32) (main_arg2 : FVec F S16x16x256 .f32) (main_arg3 : FVec F S16x2048x1024 .f32) (main_arg4 : FVec F S144x1x1024 .f32) (main_arg5 : FVec F S16x1024x1024 .bf16) (main_arg6 : FVec F S16x1024x1024 .bf16) (main_arg7 : FVec F S16x1024x1024 .bf16) (main_arg8 : FVec F S1024 .f32) : IVec S16x16x256 1 × IVec S16x16x64 1 × IVec S16x2048x512 1 × IVec S16x16x256 1 × IVec S144x1x1024 1 × IVec S16x1024x1024 1 × IVec S16x1024x1024 1 × IVec S16x1024x1024 1 :=
  let main_v0 : IVec S16x16x64x4 32 := shapeCast S16x16x64x4 main_arg1 shapeCasts_S16x16x256_S16x16x64x4
  let main_v1 : IVec S16x16x64x1 32 := (extractStridedSlice S16x16x64x1 ![0, 0, 0, 0] · slices_S16x16x64x4_S16x16x64x1_0_0_0_0) main_v0
  let main_v2 : IVec S16x16x64 32 := shapeCast S16x16x64 main_v1 shapeCasts_S16x16x64x1_S16x16x64
  let main_v3 : IVec S16x16x64x1 32 := (extractStridedSlice S16x16x64x1 ![0, 0, 0, 1] · slices_S16x16x64x4_S16x16x64x1_0_0_0_1) main_v0
  let main_v4 : IVec S16x16x64 32 := shapeCast S16x16x64 main_v3 shapeCasts_S16x16x64x1_S16x16x64
  let main_v5 : IVec S16x16x64x1 32 := (extractStridedSlice S16x16x64x1 ![0, 0, 0, 2] · slices_S16x16x64x4_S16x16x64x1_0_0_0_2) main_v0
  let main_v6 : IVec S16x16x64 32 := shapeCast S16x16x64 main_v5 shapeCasts_S16x16x64x1_S16x16x64
  let main_v7 : IVec S16x16x64x1 32 := (extractStridedSlice S16x16x64x1 ![0, 0, 0, 3] · slices_S16x16x64x4_S16x16x64x1_0_0_0_3) main_v0
  let main_v8 : IVec S16x16x64 32 := shapeCast S16x16x64 main_v7 shapeCasts_S16x16x64x1_S16x16x64
  let main_v9 : IVec S16x16x64 1 := cmpi .ne main_v2 main_v4
  let main_v10 : IVec S16x16x64 1 := cmpi .ne main_v2 main_v6
  let main_v11 : IVec S16x16x64 1 := andi main_v9 main_v10
  let main_v12 : IVec S16x16x64 1 := cmpi .ne main_v2 main_v8
  let main_v13 : IVec S16x16x64 1 := andi main_v11 main_v12
  let main_v14 : IVec S16x16x64 1 := cmpi .ne main_v4 main_v6
  let main_v15 : IVec S16x16x64 1 := andi main_v13 main_v14
  let main_v16 : IVec S16x16x64 1 := cmpi .ne main_v4 main_v8
  let main_v17 : IVec S16x16x64 1 := andi main_v15 main_v16
  let main_v18 : IVec S16x16x64 1 := cmpi .ne main_v6 main_v8
  let main_v19 : IVec S16x16x64 1 := andi main_v17 main_v18
  let main_c : IVec S_ 32 := constantI S_ 32 32640#32
  let main_v20 : IVec S16x2048x512 32 := broadcastInDim S16x2048x512 ![] bcast_S_S16x2048x512 main_c
  let main_v21 : IVec S16x2048x512 32 := andi main_arg0 main_v20
  let main_c_0 : IVec S_ 32 := constantI S_ 32 32640#32
  fn_part1 (F := F) main_arg0 main_arg1 main_arg2 main_arg4 main_arg5 main_arg6 main_arg7 main_v19 main_v21 main_c_0
-- ==== Pre_rows_distinct_and_finite3.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S16x16x64x4 : Shape := ⟨4, ![16, 16, 64, 4]⟩
abbrev S16x16x64x1 : Shape := ⟨4, ![16, 16, 64, 1]⟩
abbrev S16x16x64 : Shape := ⟨3, ![16, 16, 64]⟩
abbrev S_ : Shape := ⟨0, ![]⟩

class Facts : Prop where
  shapeCasts_S16x16x256_S16x16x64x4 : S16x16x256.ShapeCasts S16x16x64x4
  slices_S16x16x64x4_S16x16x64x1_0_0_0_0 : S16x16x64x4.Slices ![0, 0, 0, 0] S16x16x64x1
  shapeCasts_S16x16x64x1_S16x16x64 : S16x16x64x1.ShapeCasts S16x16x64
  slices_S16x16x64x4_S16x16x64x1_0_0_0_1 : S16x16x64x4.Slices ![0, 0, 0, 1] S16x16x64x1
  slices_S16x16x64x4_S16x16x64x1_0_0_0_2 : S16x16x64x4.Slices ![0, 0, 0, 2] S16x16x64x1
  slices_S16x16x64x4_S16x16x64x1_0_0_0_3 : S16x16x64x4.Slices ![0, 0, 0, 3] S16x16x64x1
  bcast_S_S16x2048x512 : S_.BroadcastsInDim S16x2048x512 (![] : Fin 0 → Fin S16x2048x512.rank)
  bcast_S_S16x16x256 : S_.BroadcastsInDim S16x16x256 (![] : Fin 0 → Fin S16x16x256.rank)
  bcast_S_S144x1x1024 : S_.BroadcastsInDim S144x1x1024 (![] : Fin 0 → Fin S144x1x1024.rank)
  bitsLt_bf16_f32 : FTy.bits .bf16 < FTy.bits .f32
  bcast_S_S16x1024x1024 : S_.BroadcastsInDim S16x1024x1024 (![] : Fin 0 → Fin S16x1024x1024.rank)

variable [Facts]

def fn_part2 {F : FTy → Type} [FloatOps F] (main_arg5 : FVec F S16x1024x1024 .bf16) (main_arg6 : FVec F S16x1024x1024 .bf16) (main_arg7 : FVec F S16x1024x1024 .bf16) (main_v19 : IVec S16x16x64 1) (main_v32 : IVec S16x16x256 1) (main_v33 : IVec S16x2048x512 1) (main_v36 : IVec S16x16x256 1) (main_v39 : IVec S144x1x1024 1) : IVec S16x16x256 1 × IVec S16x16x64 1 × IVec S16x2048x512 1 × IVec S16x16x256 1 × IVec S144x1x1024 1 × IVec S16x1024x1024 1 × IVec S16x1024x1024 1 × IVec S16x1024x1024 1 :=
  let main_v40 : FVec F S16x1024x1024 .f32 := (extf .f32 · bitsLt_bf16_f32) main_arg5
  let main_v41 : FVec F S16x1024x1024 .f32 := Host.absf main_v40
  let main_cst_6 : FVec F S_ .f32 := constant S_ .f32 0x7F800000#32
  let main_v42 : FVec F S16x1024x1024 .f32 := broadcastInDim S16x1024x1024 ![] bcast_S_S16x1024x1024 main_cst_6
  let main_v43 : IVec S16x1024x1024 1 := cmpf .olt main_v41 main_v42
  let main_v44 : FVec F S16x1024x1024 .f32 := (extf .f32 · bitsLt_bf16_f32) main_arg6
  let main_v45 : FVec F S16x1024x1024 .f32 := Host.absf main_v44
  let main_cst_7 : FVec F S_ .f32 := constant S_ .f32 0x7F800000#32
  let main_v46 : FVec F S16x1024x1024 .f32 := broadcastInDim S16x1024x1024 ![] bcast_S_S16x1024x1024 main_cst_7
  let main_v47 : IVec S16x1024x1024 1 := cmpf .olt main_v45 main_v46
  let main_v48 : FVec F S16x1024x1024 .f32 := (extf .f32 · bitsLt_bf16_f32) main_arg7
  let main_v49 : FVec F S16x1024x1024 .f32 := Host.absf main_v48
  let main_cst_8 : FVec F S_ .f32 := constant S_ .f32 0x7F800000#32
  let main_v50 : FVec F S16x1024x1024 .f32 := broadcastInDim S16x1024x1024 ![] bcast_S_S16x1024x1024 main_cst_8
  let main_v51 : IVec S16x1024x1024 1 := cmpf .olt main_v49 main_v50
  (main_v32, main_v19, main_v33, main_v36, main_v39, main_v43, main_v47, main_v51)

def fn_part1 {F : FTy → Type} [FloatOps F] (main_arg0 : IVec S16x2048x512 32) (main_arg1 : IVec S16x16x256 32) (main_arg2 : FVec F S16x16x256 .f32) (main_arg4 : FVec F S144x1x1024 .f32) (main_arg5 : FVec F S16x1024x1024 .bf16) (main_arg6 : FVec F S16x1024x1024 .bf16) (main_arg7 : FVec F S16x1024x1024 .bf16) (main_v19 : IVec S16x16x64 1) (main_v21 : IVec S16x2048x512 32) (main_c_0 : IVec S_ 32) : IVec S16x16x256 1 × IVec S16x16x64 1 × IVec S16x2048x512 1 × IVec S16x16x256 1 × IVec S144x1x1024 1 × IVec S16x1024x1024 1 × IVec S16x1024x1024 1 × IVec S16x1024x1024 1 :=
  let main_v22 : IVec S16x2048x512 32 := broadcastInDim S16x2048x512 ![] bcast_S_S16x2048x512 main_c_0
  let main_v23 : IVec S16x2048x512 1 := cmpi .ne main_v21 main_v22
  let main_c_1 : IVec S_ 32 := constantI S_ 32 2139095040#32
  let main_v24 : IVec S16x2048x512 32 := broadcastInDim S16x2048x512 ![] bcast_S_S16x2048x512 main_c_1
  let main_v25 : IVec S16x2048x512 32 := andi main_arg0 main_v24
  let main_c_2 : IVec S_ 32 := constantI S_ 32 2139095040#32
  let main_v26 : IVec S16x2048x512 32 := broadcastInDim S16x2048x512 ![] bcast_S_S16x2048x512 main_c_2
  let main_v27 : IVec S16x2048x512 1 := cmpi .ne main_v25 main_v26
  let main_c_3 : IVec S_ 32 := constantI S_ 32 0#32
  let main_v28 : IVec S16x16x256 32 := broadcastInDim S16x16x256 ![] bcast_S_S16x16x256 main_c_3
  let main_v29 : IVec S16x16x256 1 := cmpi .sge main_arg1 main_v28
  let main_c_4 : IVec S_ 32 := constantI S_ 32 2048#32
  let main_v30 : IVec S16x16x256 32 := broadcastInDim S16x16x256 ![] bcast_S_S16x16x256 main_c_4
  let main_v31 : IVec S16x16x256 1 := cmpi .slt main_arg1 main_v30
  let main_v32 : IVec S16x16x256 1 := andi main_v29 main_v31
  let main_v33 : IVec S16x2048x512 1 := andi main_v23 main_v27
  let main_v34 : FVec F S16x16x256 .f32 := Host.absf main_arg2
  let main_cst : FVec F S_ .f32 := constant S_ .f32 0x7F800000#32
  let main_v35 : FVec F S16x16x256 .f32 := broadcastInDim S16x16x256 ![] bcast_S_S16x16x256 main_cst
  let main_v36 : IVec S16x16x256 1 := cmpf .olt main_v34 main_v35
  let main_v37 : FVec F S144x1x1024 .f32 := Host.absf main_arg4
  let main_cst_5 : FVec F S_ .f32 := constant S_ .f32 0x7F800000#32
  let main_v38 : FVec F S144x1x1024 .f32 := broadcastInDim S144x1x1024 ![] bcast_S_S144x1x1024 main_cst_5
  let main_v39 : IVec S144x1x1024 1 := cmpf .olt main_v37 main_v38
  fn_part2 (F := F) main_arg5 main_arg6 main_arg7 main_v19 main_v32 main_v33 main_v36 main_v39

def fn {F : FTy → Type} [FloatOps F] (main_arg0 : IVec S16x2048x512 32) (main_arg1 : IVec S16x16x256 32) (main_arg2 : FVec F S16x16x256 .f32) (main_arg3 : FVec F S16x2048x1024 .f32) (main_arg4 : FVec F S144x1x1024 .f32) (main_arg5 : FVec F S16x1024x1024 .bf16) (main_arg6 : FVec F S16x1024x1024 .bf16) (main_arg7 : FVec F S16x1024x1024 .bf16) : IVec S16x16x256 1 × IVec S16x16x64 1 × IVec S16x2048x512 1 × IVec S16x16x256 1 × IVec S144x1x1024 1 × IVec S16x1024x1024 1 × IVec S16x1024x1024 1 × IVec S16x1024x1024 1 :=
  let main_v0 : IVec S16x16x64x4 32 := shapeCast S16x16x64x4 main_arg1 shapeCasts_S16x16x256_S16x16x64x4
  let main_v1 : IVec S16x16x64x1 32 := (extractStridedSlice S16x16x64x1 ![0, 0, 0, 0] · slices_S16x16x64x4_S16x16x64x1_0_0_0_0) main_v0
  let main_v2 : IVec S16x16x64 32 := shapeCast S16x16x64 main_v1 shapeCasts_S16x16x64x1_S16x16x64
  let main_v3 : IVec S16x16x64x1 32 := (extractStridedSlice S16x16x64x1 ![0, 0, 0, 1] · slices_S16x16x64x4_S16x16x64x1_0_0_0_1) main_v0
  let main_v4 : IVec S16x16x64 32 := shapeCast S16x16x64 main_v3 shapeCasts_S16x16x64x1_S16x16x64
  let main_v5 : IVec S16x16x64x1 32 := (extractStridedSlice S16x16x64x1 ![0, 0, 0, 2] · slices_S16x16x64x4_S16x16x64x1_0_0_0_2) main_v0
  let main_v6 : IVec S16x16x64 32 := shapeCast S16x16x64 main_v5 shapeCasts_S16x16x64x1_S16x16x64
  let main_v7 : IVec S16x16x64x1 32 := (extractStridedSlice S16x16x64x1 ![0, 0, 0, 3] · slices_S16x16x64x4_S16x16x64x1_0_0_0_3) main_v0
  let main_v8 : IVec S16x16x64 32 := shapeCast S16x16x64 main_v7 shapeCasts_S16x16x64x1_S16x16x64
  let main_v9 : IVec S16x16x64 1 := cmpi .ne main_v2 main_v4
  let main_v10 : IVec S16x16x64 1 := cmpi .ne main_v2 main_v6
  let main_v11 : IVec S16x16x64 1 := andi main_v9 main_v10
  let main_v12 : IVec S16x16x64 1 := cmpi .ne main_v2 main_v8
  let main_v13 : IVec S16x16x64 1 := andi main_v11 main_v12
  let main_v14 : IVec S16x16x64 1 := cmpi .ne main_v4 main_v6
  let main_v15 : IVec S16x16x64 1 := andi main_v13 main_v14
  let main_v16 : IVec S16x16x64 1 := cmpi .ne main_v4 main_v8
  let main_v17 : IVec S16x16x64 1 := andi main_v15 main_v16
  let main_v18 : IVec S16x16x64 1 := cmpi .ne main_v6 main_v8
  let main_v19 : IVec S16x16x64 1 := andi main_v17 main_v18
  let main_c : IVec S_ 32 := constantI S_ 32 32640#32
  let main_v20 : IVec S16x2048x512 32 := broadcastInDim S16x2048x512 ![] bcast_S_S16x2048x512 main_c
  let main_v21 : IVec S16x2048x512 32 := andi main_arg0 main_v20
  let main_c_0 : IVec S_ 32 := constantI S_ 32 32640#32
  fn_part1 (F := F) main_arg0 main_arg1 main_arg2 main_arg4 main_arg5 main_arg6 main_arg7 main_v19 main_v21 main_c_0
-- ==== Pre_rows_in_range.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S1024 : Shape := ⟨1, ![1024]⟩
abbrev S_ : Shape := ⟨0, ![]⟩

class Facts : Prop where
  bcast_S_S16x16x256 : S_.BroadcastsInDim S16x16x256 (![] : Fin 0 → Fin S16x16x256.rank)

variable [Facts]

def fn {F : FTy → Type} [FloatOps F] (main_arg0 : IVec S16x2048x512 32) (main_arg1 : IVec S16x16x256 32) (main_arg2 : FVec F S16x16x256 .f32) (main_arg3 : FVec F S16x2048x1024 .f32) (main_arg4 : FVec F S144x1x1024 .f32) (main_arg5 : FVec F S16x1024x1024 .bf16) (main_arg6 : FVec F S16x1024x1024 .bf16) (main_arg7 : FVec F S16x1024x1024 .bf16) (main_arg8 : FVec F S1024 .f32) : IVec S16x16x256 1 :=
  let main_c : IVec S_ 32 := constantI S_ 32 0#32
  let main_v0 : IVec S16x16x256 32 := broadcastInDim S16x16x256 ![] bcast_S_S16x16x256 main_c
  let main_v1 : IVec S16x16x256 1 := cmpi .sge main_arg1 main_v0
  let main_c_0 : IVec S_ 32 := constantI S_ 32 2048#32
  let main_v2 : IVec S16x16x256 32 := broadcastInDim S16x16x256 ![] bcast_S_S16x16x256 main_c_0
  let main_v3 : IVec S16x16x256 1 := cmpi .slt main_arg1 main_v2
  let main_v4 : IVec S16x16x256 1 := andi main_v1 main_v3
  main_v4
-- ==== Pre_rows_in_range3.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S_ : Shape := ⟨0, ![]⟩

class Facts : Prop where
  bcast_S_S16x16x256 : S_.BroadcastsInDim S16x16x256 (![] : Fin 0 → Fin S16x16x256.rank)

variable [Facts]

def fn {F : FTy → Type} [FloatOps F] (main_arg0 : IVec S16x2048x512 32) (main_arg1 : IVec S16x16x256 32) (main_arg2 : FVec F S16x16x256 .f32) (main_arg3 : FVec F S16x2048x1024 .f32) (main_arg4 : FVec F S144x1x1024 .f32) (main_arg5 : FVec F S16x1024x1024 .bf16) (main_arg6 : FVec F S16x1024x1024 .bf16) (main_arg7 : FVec F S16x1024x1024 .bf16) : IVec S16x16x256 1 :=
  let main_c : IVec S_ 32 := constantI S_ 32 0#32
  let main_v0 : IVec S16x16x256 32 := broadcastInDim S16x16x256 ![] bcast_S_S16x16x256 main_c
  let main_v1 : IVec S16x16x256 1 := cmpi .sge main_arg1 main_v0
  let main_c_0 : IVec S_ 32 := constantI S_ 32 2048#32
  let main_v2 : IVec S16x16x256 32 := broadcastInDim S16x16x256 ![] bcast_S_S16x16x256 main_c_0
  let main_v3 : IVec S16x16x256 1 := cmpi .slt main_arg1 main_v2
  let main_v4 : IVec S16x16x256 1 := andi main_v1 main_v3
  main_v4
-- ==== Kernel.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S1024 : Shape := ⟨1, ![1024]⟩
abbrev S1x1024 : Shape := ⟨2, ![1, 1024]⟩
abbrev S1x16x256 : Shape := ⟨3, ![1, 16, 256]⟩
abbrev S1x2048x512 : Shape := ⟨3, ![1, 2048, 512]⟩
abbrev S1x2048x1024 : Shape := ⟨3, ![1, 2048, 1024]⟩
abbrev S1x1x1024 : Shape := ⟨3, ![1, 1, 1024]⟩
abbrev S1x1024x1024 : Shape := ⟨3, ![1, 1024, 1024]⟩
abbrev S256x512 : Shape := ⟨2, ![256, 512]⟩
abbrev S256x1024 : Shape := ⟨2, ![256, 1024]⟩
abbrev S2048x1024 : Shape := ⟨2, ![2048, 1024]⟩
abbrev S1x1x1 : Shape := ⟨3, ![1, 1, 1]⟩
abbrev S1x1x512 : Shape := ⟨3, ![1, 1, 512]⟩
abbrev S1x512 : Shape := ⟨2, ![1, 512]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 17
  | .smem => 4
  | _ => 0

abbrev bufTy : (tb : Table) → Fin (tcTables nBuf tb) → BufTy
  | .hbm, ⟨0, _⟩ => ⟨S16x2048x512, .i32⟩
  | .hbm, ⟨1, _⟩ => ⟨S16x16x256, .i32⟩
  | .hbm, ⟨2, _⟩ => ⟨S16x16x256, .f32⟩
  | .hbm, ⟨3, _⟩ => ⟨S16x2048x1024, .f32⟩
  | .hbm, ⟨4, _⟩ => ⟨S144x1x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S1024, .f32⟩
  | .hbm, ⟨9, _⟩ => ⟨S1x1024, .f32⟩
  | .hbm, ⟨10, _⟩ => ⟨S16x2048x1024, .f32⟩
  | .local _ .vmem, ⟨0, _⟩ => ⟨S1x2048x512, .i32⟩
  | .local _ .vmem, ⟨1, _⟩ => ⟨S1x2048x512, .i32⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024, .f32⟩
  | .local _ .vmem, ⟨13, _⟩ => ⟨S1x2048x1024, .f32⟩
  | .local _ .vmem, ⟨14, _⟩ => ⟨S1x2048x1024, .f32⟩
  | .local _ .vmem, ⟨15, _⟩ => ⟨S256x512, .i32⟩
  | .local _ .vmem, ⟨16, _⟩ => ⟨S256x1024, .f32⟩
  | .local _ .smem, ⟨0, _⟩ => ⟨S1x16x256, .i32⟩
  | .local _ .smem, ⟨1, _⟩ => ⟨S1x16x256, .i32⟩
  | .local _ .smem, ⟨2, _⟩ => ⟨S1x16x256, .f32⟩
  | .local _ .smem, ⟨3, _⟩ => ⟨S1x16x256, .f32⟩
  | _, _ => ⟨S16x2048x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (v6193 : BitVec 32) : Fin 3 → Nat :=
  let c0_3880 : Index := 0#32
  let v6194 : Index := Scalar.indexCast v6193
  let c0_3881 : Index := 0#32
  ![0, v6194.toNat, 0]

def k0_chk1 (i : grid0.Coords) (v6193 : BitVec 32) : Prop :=
  (∀ (k0_h1 : k0_cond1 i = 1#1), ∀ a, (k0_off1 v6193) a + S1x1x512.size a ≤ S1x2048x512.size a)
theorem k0_off1_inb : ∀ (i : grid0.Coords) (v6193 : BitVec 32) (k0_hw1 : k0_chk1 i v6193), ∀ (k0_h1 : k0_cond1 i = 1#1), ∀ a, (k0_off1 v6193) a + S1x1x512.size a ≤ S1x2048x512.size a := fun i v6193 k0_hw1 k0_h1 => k0_hw1 k0_h1

def k0_off2 (v6200 : BitVec 32) : Fin 3 → Nat :=
  let c0_3887 : Index := 0#32
  let v6201 : Index := Scalar.indexCast v6200
  let c0_3888 : Index := 0#32
  ![0, v6201.toNat, 0]

def k0_chk2 (i : grid0.Coords) (v6200 : BitVec 32) : Prop :=
  (∀ (k0_h1 : k0_cond1 i = 1#1), ∀ a, (k0_off2 v6200) a + S1x1x512.size a ≤ S1x2048x512.size a)
theorem k0_off2_inb : ∀ (i : grid0.Coords) (v6200 : BitVec 32) (k0_hw2 : k0_chk2 i v6200), ∀ (k0_h1 : k0_cond1 i = 1#1), ∀ a, (k0_off2 v6200) a + S1x1x512.size a ≤ S1x2048x512.size a := fun i v6200 k0_hw2 k0_h1 => k0_hw2 k0_h1

def k0_off3 (v6207 : BitVec 32) : Fin 3 → Nat :=
  let c0_3894 : Index := 0#32
  let v6208 : Index := Scalar.indexCast v6207
  let c0_3895 : Index := 0#32
  ![0, v6208.toNat, 0]

def k0_chk3 (i : grid0.Coords) (v6207 : BitVec 32) : Prop :=
  (∀ (k0_h1 : k0_cond1 i = 1#1), ∀ a, (k0_off3 v6207) a + S1x1x512.size a ≤ S1x2048x512.size a)
theorem k0_off3_inb : ∀ (i : grid0.Coords) (v6207 : BitVec 32) (k0_hw3 : k0_chk3 i v6207), ∀ (k0_h1 : k0_cond1 i = 1#1), ∀ a, (k0_off3 v6207) a + S1x1x512.size a ≤ S1x2048x512.size a := fun i v6207 k0_hw3 k0_h1 => k0_hw3 k0_h1

def k0_off4 (v6214 : BitVec 32) : Fin 3 → Nat :=
  let c0_3901 : Index := 0#32
  let v6215 : Index := Scalar.indexCast v6214
  let c0_3902 : Index := 0#32
  ![0, v6215.toNat, 0]

def k0_chk4 (i : grid0.Coords) (v6214 : BitVec 32) : Prop :=
  (∀ (k0_h1 : k0_cond1 i = 1#1), ∀ a, (k0_off4 v6214) a + S1x1x512.size a ≤ S1x2048x512.size a)
theorem k0_off4_inb : ∀ (i : grid0.Coords) (v6214 : BitVec 32) (k0_hw4 : k0_chk4 i v6214), ∀ (k0_h1 : k0_cond1 i = 1#1), ∀ a, (k0_off4 v6214) a + S1x1x512.size a ≤ S1x2048x512.size a := fun i v6214 k0_hw4 k0_h1 => k0_hw4 k0_h1

def k0_off5 (v6221 : BitVec 32) : Fin 3 → Nat :=
  let c0_3908 : Index := 0#32
  let v6222 : Index := Scalar.indexCast v6221
  let c0_3909 : Index := 0#32
  ![0, v6222.toNat, 0]

def k0_chk5 (i : grid0.Coords) (v6221 : BitVec 32) : Prop :=
  (∀ (k0_h1 : k0_cond1 i = 1#1), ∀ a, (k0_off5 v6221) a + S1x1x512.size a ≤ S1x2048x512.size a)
theorem k0_off5_inb : ∀ (i : grid0.Coords) (v6221 : BitVec 32) (k0_hw5 : k0_chk5 i v6221), ∀ (k0_h1 : k0_cond1 i = 1#1), ∀ a, (k0_off5 v6221) a + S1x1x512.size a ≤ S1x2048x512.size a := fun i v6221 k0_hw5 k0_h1 => k0_hw5 k0_h1

def k0_off6 (v6228 : BitVec 32) : Fin 3 → Nat :=
  let c0_3915 : Index := 0#32
  let v6229 : Index := Scalar.indexCast v6228
  let c0_3916 : Index := 0#32
  ![0, v6229.toNat, 0]

def k0_chk6 (i : grid0.Coords) (v6228 : BitVec 32) : Prop :=
  (∀ (k0_h1 : k0_cond1 i = 1#1), ∀ a, (k0_off6 v6228) a + S1x1x512.size a ≤ S1x2048x512.size a)
theorem k0_off6_inb : ∀ (i : grid0.Coords) (v6228 : BitVec 32) (k0_hw6 : k0_chk6 i v6228), ∀ (k0_h1 : k0_cond1 i = 1#1), ∀ a, (k0_off6 v6228) a + S1x1x512.size a ≤ S1x2048x512.size a := fun i v6228 k0_hw6 k0_h1 => k0_hw6 k0_h1

def k0_off7 (v6235 : BitVec 32) : Fin 3 → Nat :=
  let c0_3922 : Index := 0#32
  let v6236 : Index := Scalar.indexCast v6235
  let c0_3923 : Index := 0#32
  ![0, v6236.toNat, 0]

def k0_chk7 (i : grid0.Coords) (v6235 : BitVec 32) : Prop :=
  (∀ (k0_h1 : k0_cond1 i = 1#1), ∀ a, (k0_off7 v6235) a + S1x1x512.size a ≤ S1x2048x512.size a)
theorem k0_off7_inb : ∀ (i : grid0.Coords) (v6235 : BitVec 32) (k0_hw7 : k0_chk7 i v6235), ∀ (k0_h1 : k0_cond1 i = 1#1), ∀ a, (k0_off7 v6235) a + S1x1x512.size a ≤ S1x2048x512.size a := fun i v6235 k0_hw7 k0_h1 => k0_hw7 k0_h1

def k0_off8 (v6242 : BitVec 32) : Fin 3 → Nat :=
  let c0_3929 : Index := 0#32
  let v6243 : Index := Scalar.indexCast v6242
  let c0_3930 : Index := 0#32
  ![0, v6243.toNat, 0]

def k0_chk8 (i : grid0.Coords) (v6242 : BitVec 32) : Prop :=
  (∀ (k0_h1 : k0_cond1 i = 1#1), ∀ a, (k0_off8 v6242) a + S1x1x512.size a ≤ S1x2048x512.size a)
theorem k0_off8_inb : ∀ (i : grid0.Coords) (v6242 : BitVec 32) (k0_hw8 : k0_chk8 i v6242), ∀ (k0_h1 : k0_cond1 i = 1#1), ∀ a, (k0_off8 v6242) a + S1x1x512.size a ≤ S1x2048x512.size a := fun i v6242 k0_hw8 k0_h1 => k0_hw8 k0_h1

def k0_off9 (v6249 : BitVec 32) : Fin 3 → Nat :=
  let c0_3936 : Index := 0#32
  let v6250 : Index := Scalar.indexCast v6249
  let c0_3937 : Index := 0#32
  ![0, v6250.toNat, 0]

def k0_chk9 (i : grid0.Coords) (v6249 : BitVec 32) : Prop :=
  (∀ (k0_h1 : k0_cond1 i = 1#1), ∀ a, (k0_off9 v6249) a + S1x1x512.size a ≤ S1x2048x512.size a)
theorem k0_off9_inb : ∀ (i : grid0.Coords) (v6249 : BitVec 32) (k0_hw9 : k0_chk9 i v6249), ∀ (k0_h1 : k0_cond1 i = 1#1), ∀ a, (k0_off9 v6249) a + S1x1x512.size a ≤ S1x2048x512.size a := fun i v6249 k0_hw9 k0_h1 => k0_hw9 k0_h1

def k0_off10 (v6256 : BitVec 32) : Fin 3 → Nat :=
  let c0_3943 : Index := 0#32
  let v6257 : Index := Scalar.indexCast v6256
  let c0_3944 : Index := 0#32
  ![0, v6257.toNat, 0]

def k0_chk10 (i : grid0.Coords) (v6256 : BitVec 32) : Prop :=
  (∀ (k0_h1 : k0_cond1 i = 1#1), ∀ a, (k0_off10 v6256) a + S1x1x512.size a ≤ S1x2048x512.size a)
theorem k0_off10_inb : ∀ (i : grid0.Coords) (v6256 : BitVec 32) (k0_hw10 : k0_chk10 i v6256), ∀ (k0_h1 : k0_cond1 i = 1#1), ∀ a, (k0_off10 v6256) a + S1x1x512.size a ≤ S1x2048x512.size a := fun i v6256 k0_hw10 k0_h1 => k0_hw10 k0_h1

def k0_off11 (v6263 : BitVec 32) : Fin 3 → Nat :=
  let c0_3950 : Index := 0#32
  let v6264 : Index := Scalar.indexCast v6263
  let c0_3951 : Index := 0#32
  ![0, v6264.toNat, 0]

def k0_chk11 (i : grid0.Coords) (v6263 : BitVec 32) : Prop :=
  (∀ (k0_h1 : k0_cond1 i = 1#1), ∀ a, (k0_off11 v6263) a + S1x1x512.size a ≤ S1x2048x512.size a)
theorem k0_off11_inb : ∀ (i : grid0.Coords) (v6263 : BitVec 32) (k0_hw11 : k0_chk11 i v6263), ∀ (k0_h1 : k0_cond1 i = 1#1), ∀ a, (k0_off11 v6263) a + S1x1x512.size a ≤ S1x2048x512.size a := fun i v6263 k0_hw11 k0_h1 => k0_hw11 k0_h1

def k0_off12 (v6270 : BitVec 32) : Fin 3 → Nat :=
  let c0_3957 : Index := 0#32
  let v6271 : Index := Scalar.indexCast v6270
  let c0_3958 : Index := 0#32
  ![0, v6271.toNat, 0]

def k0_chk12 (i : grid0.Coords) (v6270 : BitVec 32) : Prop :=
  (∀ (k0_h1 : k0_cond1 i = 1#1), ∀ a, (k0_off12 v6270) a + S1x1x512.size a ≤ S1x2048x512.size a)
theorem k0_off12_inb : ∀ (i : grid0.Coords) (v6270 : BitVec 32) (k0_hw12 : k0_chk12 i v6270), ∀ (k0_h1 : k0_cond1 i = 1#1), ∀ a, (k0_off12 v6270) a + S1x1x512.size a ≤ S1x2048x512.size a := fun i v6270 k0_hw12 k0_h1 => k0_hw12 k0_h1

def k0_off13 (v6277 : BitVec 32) : Fin 3 → Nat :=
  let c0_3964 : Index := 0#32
  let v6278 : Index := Scalar.indexCast v6277
  let c0_3965 : Index := 0#32
  ![0, v6278.toNat, 0]

def k0_chk13 (i : grid0.Coords) (v6277 : BitVec 32) : Prop :=
  (∀ (k0_h1 : k0_cond1 i = 1#1), ∀ a, (k0_off13 v6277) a + S1x1x512.size a ≤ S1x2048x512.size a)
theorem k0_off13_inb : ∀ (i : grid0.Coords) (v6277 : BitVec 32) (k0_hw13 : k0_chk13 i v6277), ∀ (k0_h1 : k0_cond1 i = 1#1), ∀ a, (k0_off13 v6277) a + S1x1x512.size a ≤ S1x2048x512.size a := fun i v6277 k0_hw13 k0_h1 => k0_hw13 k0_h1

def k0_off14 (v6284 : BitVec 32) : Fin 3 → Nat :=
  let c0_3971 : Index := 0#32
  let v6285 : Index := Scalar.indexCast v6284
  let c0_3972 : Index := 0#32
  ![0, v6285.toNat, 0]

def k0_chk14 (i : grid0.Coords) (v6284 : BitVec 32) : Prop :=
  (∀ (k0_h1 : k0_cond1 i = 1#1), ∀ a, (k0_off14 v6284) a + S1x1x512.size a ≤ S1x2048x512.size a)
theorem k0_off14_inb : ∀ (i : grid0.Coords) (v6284 : BitVec 32) (k0_hw14 : k0_chk14 i v6284), ∀ (k0_h1 : k0_cond1 i = 1#1), ∀ a, (k0_off14 v6284) a + S1x1x512.size a ≤ S1x2048x512.size a := fun i v6284 k0_hw14 k0_h1 => k0_hw14 k0_h1

def k0_off15 (v6291 : BitVec 32) : Fin 3 → Nat :=
  let c0_3978 : Index := 0#32
  let v6292 : Index := Scalar.indexCast v6291
  let c0_3979 : Index := 0#32
  ![0, v6292.toNat, 0]

def k0_chk15 (i : grid0.Coords) (v6291 : BitVec 32) : Prop :=
  (∀ (k0_h1 : k0_cond1 i = 1#1), ∀ a, (k0_off15 v6291) a + S1x1x512.size a ≤ S1x2048x512.size a)
theorem k0_off15_inb : ∀ (i : grid0.Coords) (v6291 : BitVec 32) (k0_hw15 : k0_chk15 i v6291), ∀ (k0_h1 : k0_cond1 i = 1#1), ∀ a, (k0_off15 v6291) a + S1x1x512.size a ≤ S1x2048x512.size a := fun i v6291 k0_hw15 k0_h1 => k0_hw15 k0_h1

def k0_off16 (v6298 : BitVec 32) : Fin 3 → Nat :=
  let c0_3985 : Index := 0#32
  let v6299 : Index := Scalar.indexCast v6298
  let c0_3986 : Index := 0#32
  ![0, v6299.toNat, 0]

def k0_chk16 (i : grid0.Coords) (v6298 : BitVec 32) : Prop :=
  (∀ (k0_h1 : k0_cond1 i = 1#1), ∀ a, (k0_off16 v6298) a + S1x1x512.size a ≤ S1x2048x512.size a)
theorem k0_off16_inb : ∀ (i : grid0.Coords) (v6298 : BitVec 32) (k0_hw16 : k0_chk16 i v6298), ∀ (k0_h1 : k0_cond1 i = 1#1), ∀ a, (k0_off16 v6298) a + S1x1x512.size a ≤ S1x2048x512.size a := fun i v6298 k0_hw16 k0_h1 => k0_hw16 k0_h1

def k0_off17 (v6305 : BitVec 32) : Fin 3 → Nat :=
  let c0_3992 : Index := 0#32
  let v6306 : Index := Scalar.indexCast v6305
  let c0_3993 : Index := 0#32
  ![0, v6306.toNat, 0]

def k0_chk17 (i : grid0.Coords) (v6305 : BitVec 32) : Prop :=
  (∀ (k0_h1 : k0_cond1 i = 1#1), ∀ a, (k0_off17 v6305) a + S1x1x512.size a ≤ S1x2048x512.size a)
theorem k0_off17_inb : ∀ (i : grid0.Coords) (v6305 : BitVec 32) (k0_hw17 : k0_chk17 i v6305), ∀ (k0_h1 : k0_cond1 i = 1#1), ∀ a, (k0_off17 v6305) a + S1x1x512.size a ≤ S1x2048x512.size a := fun i v6305 k0_hw17 k0_h1 => k0_hw17 k0_h1

def k0_off18 (v6312 : BitVec 32) : Fin 3 → Nat :=
  let c0_3999 : Index := 0#32
  let v6313 : Index := Scalar.indexCast v6312
  let c0_4000 : Index := 0#32
  ![0, v6313.toNat, 0]

def k0_chk18 (i : grid0.Coords) (v6312 : BitVec 32) : Prop :=
  (∀ (k0_h1 : k0_cond1 i = 1#1), ∀ a, (k0_off18 v6312) a + S1x1x512.size a ≤ S1x2048x512.size a)
theorem k0_off18_inb : ∀ (i : grid0.Coords) (v6312 : BitVec 32) (k0_hw18 : k0_chk18 i v6312), ∀ (k0_h1 : k0_cond1 i = 1#1), ∀ a, (k0_off18 v6312) a + S1x1x512.size a ≤ S1x2048x512.size a := fun i v6312 k0_hw18 k0_h1 => k0_hw18 k0_h1

def k0_off19 (v6319 : BitVec 32) : Fin 3 → Nat :=
  let c0_4006 : Index := 0#32
  let v6320 : Index := Scalar.indexCast v6319
  let c0_4007 : Index := 0#32
  ![0, v6320.toNat, 0]

def k0_chk19 (i : grid0.Coords) (v6319 : BitVec 32) : Prop :=
  (∀ (k0_h1 : k0_cond1 i = 1#1), ∀ a, (k0_off19 v6319) a + S1x1x512.size a ≤ S1x2048x512.size a)
theorem k0_off19_inb : ∀ (i : grid0.Coords) (v6319 : BitVec 32) (k0_hw19 : k0_chk19 i v6319), ∀ (k0_h1 : k0_cond1 i = 1#1), ∀ a, (k0_off19 v6319) a + S1x1x512.size a ≤ S1x2048x512.size a := fun i v6319 k0_hw19 k0_h1 => k0_hw19 k0_h1

def k0_off20 (v6326 : BitVec 32) : Fin 3 → Nat :=
  let c0_4013 : Index := 0#32
  let v6327 : Index := Scalar.indexCast v6326
  let c0_4014 : Index := 0#32
  ![0, v6327.toNat, 0]

def k0_chk20 (i : grid0.Coords) (v6326 : BitVec 32) : Prop :=
  (∀ (k0_h1 : k0_cond1 i = 1#1), ∀ a, (k0_off20 v6326) a + S1x1x512.size a ≤ S1x2048x512.size a)
theorem k0_off20_inb : ∀ (i : grid0.Coords) (v6326 : BitVec 32) (k0_hw20 : k0_chk20 i v6326), ∀ (k0_h1 : k0_cond1 i = 1#1), ∀ a, (k0_off20 v6326) a + S1x1x512.size a ≤ S1x2048x512.size a := fun i v6326 k0_hw20 k0_h1 => k0_hw20 k0_h1

def k0_off21 (v6333 : BitVec 32) : Fin 3 → Nat :=
  let c0_4020 : Index := 0#32
  let v6334 : Index := Scalar.indexCast v6333
  let c0_4021 : Index := 0#32
  ![0, v6334.toNat, 0]

def k0_chk21 (i : grid0.Coords) (v6333 : BitVec 32) : Prop :=
  (∀ (k0_h1 : k0_cond1 i = 1#1), ∀ a, (k0_off21 v6333) a + S1x1x512.size a ≤ S1x2048x512.size a)
theorem k0_off21_inb : ∀ (i : grid0.Coords) (v6333 : BitVec 32) (k0_hw21 : k0_chk21 i v6333), ∀ (k0_h1 : k0_cond1 i = 1#1), ∀ a, (k0_off21 v6333) a + S1x1x512.size a ≤ S1x2048x512.size a := fun i v6333 k0_hw21 k0_h1 => k0_hw21 k0_h1

def k0_off22 (v6340 : BitVec 32) : Fin 3 → Nat :=
  let c0_4027 : Index := 0#32
  let v6341 : Index := Scalar.indexCast v6340
  let c0_4028 : Index := 0#32
  ![0, v6341.toNat, 0]

def k0_chk22 (i : grid0.Coords) (v6340 : BitVec 32) : Prop :=
  (∀ (k0_h1 : k0_cond1 i = 1#1), ∀ a, (k0_off22 v6340) a + S1x1x512.size a ≤ S1x2048x512.size a)
theorem k0_off22_inb : ∀ (i : grid0.Coords) (v6340 : BitVec 32) (k0_hw22 : k0_chk22 i v6340), ∀ (k0_h1 : k0_cond1 i = 1#1), ∀ a, (k0_off22 v6340) a + S1x1x512.size a ≤ S1x2048x512.size a := fun i v6340 k0_hw22 k0_h1 => k0_hw22 k0_h1

def k0_off23 (v6347 : BitVec 32) : Fin 3 → Nat :=
  let c0_4034 : Index := 0#32
  let v6348 : Index := Scalar.indexCast v6347
  let c0_4035 : Index := 0#32
  ![0, v6348.toNat, 0]

def k0_chk23 (i : grid0.Coords) (v6347 : BitVec 32) : Prop :=
  (∀ (k0_h1 : k0_cond1 i = 1#1), ∀ a, (k0_off23 v6347) a + S1x1x512.size a ≤ S1x2048x512.size a)
theorem k0_off23_inb : ∀ (i : grid0.Coords) (v6347 : BitVec 32) (k0_hw23 : k0_chk23 i v6347), ∀ (k0_h1 : k0_cond1 i = 1#1), ∀ a, (k0_off23 v6347) a + S1x1x512.size a ≤ S1x2048x512.size a := fun i v6347 k0_hw23 k0_h1 => k0_hw23 k0_h1

def k0_off24 (v6354 : BitVec 32) : Fin 3 → Nat :=
  let c0_4041 : Index := 0#32
  let v6355 : Index := Scalar.indexCast v6354
  let c0_4042 : Index := 0#32
  ![0, v6355.toNat, 0]

def k0_chk24 (i : grid0.Coords) (v6354 : BitVec 32) : Prop :=
  (∀ (k0_h1 : k0_cond1 i = 1#1), ∀ a, (k0_off24 v6354) a + S1x1x512.size a ≤ S1x2048x512.size a)
theorem k0_off24_inb : ∀ (i : grid0.Coords) (v6354 : BitVec 32) (k0_hw24 : k0_chk24 i v6354), ∀ (k0_h1 : k0_cond1 i = 1#1), ∀ a, (k0_off24 v6354) a + S1x1x512.size a ≤ S1x2048x512.size a := fun i v6354 k0_hw24 k0_h1 => k0_hw24 k0_h1

def k0_off25 (v6361 : BitVec 32) : Fin 3 → Nat :=
  let c0_4048 : Index := 0#32
  let v6362 : Index := Scalar.indexCast v6361
  let c0_4049 : Index := 0#32
  ![0, v6362.toNat, 0]

def k0_chk25 (i : grid0.Coords) (v6361 : BitVec 32) : Prop :=
  (∀ (k0_h1 : k0_cond1 i = 1#1), ∀ a, (k0_off25 v6361) a + S1x1x512.size a ≤ S1x2048x512.size a)
theorem k0_off25_inb : ∀ (i : grid0.Coords) (v6361 : BitVec 32) (k0_hw25 : k0_chk25 i v6361), ∀ (k0_h1 : k0_cond1 i = 1#1), ∀ a, (k0_off25 v6361) a + S1x1x512.size a ≤ S1x2048x512.size a := fun i v6361 k0_hw25 k0_h1 => k0_hw25 k0_h1

def k0_off26 (v6368 : BitVec 32) : Fin 3 → Nat :=
  let c0_4055 : Index := 0#32
  let v6369 : Index := Scalar.indexCast v6368
  let c0_4056 : Index := 0#32
  ![0, v6369.toNat, 0]

def k0_chk26 (i : grid0.Coords) (v6368 : BitVec 32) : Prop :=
  (∀ (k0_h1 : k0_cond1 i = 1#1), ∀ a, (k0_off26 v6368) a + S1x1x512.size a ≤ S1x2048x512.size a)
theorem k0_off26_inb : ∀ (i : grid0.Coords) (v6368 : BitVec 32) (k0_hw26 : k0_chk26 i v6368), ∀ (k0_h1 : k0_cond1 i = 1#1), ∀ a, (k0_off26 v6368) a + S1x1x512.size a ≤ S1x2048x512.size a := fun i v6368 k0_hw26 k0_h1 => k0_hw26 k0_h1

def k0_off27 (v6375 : BitVec 32) : Fin 3 → Nat :=
  let c0_4062 : Index := 0#32
  let v6376 : Index := Scalar.indexCast v6375
  let c0_4063 : Index := 0#32
  ![0, v6376.toNat, 0]

def k0_chk27 (i : grid0.Coords) (v6375 : BitVec 32) : Prop :=
  (∀ (k0_h1 : k0_cond1 i = 1#1), ∀ a, (k0_off27 v6375) a + S1x1x512.size a ≤ S1x2048x512.size a)
theorem k0_off27_inb : ∀ (i : grid0.Coords) (v6375 : BitVec 32) (k0_hw27 : k0_chk27 i v6375), ∀ (k0_h1 : k0_cond1 i = 1#1), ∀ a, (k0_off27 v6375) a + S1x1x512.size a ≤ S1x2048x512.size a := fun i v6375 k0_hw27 k0_h1 => k0_hw27 k0_h1

def k0_off28 (v6382 : BitVec 32) : Fin 3 → Nat :=
  let c0_4069 : Index := 0#32
  let v6383 : Index := Scalar.indexCast v6382
  let c0_4070 : Index := 0#32
  ![0, v6383.toNat, 0]

def k0_chk28 (i : grid0.Coords) (v6382 : BitVec 32) : Prop :=
  (∀ (k0_h1 : k0_cond1 i = 1#1), ∀ a, (k0_off28 v6382) a + S1x1x512.size a ≤ S1x2048x512.size a)
theorem k0_off28_inb : ∀ (i : grid0.Coords) (v6382 : BitVec 32) (k0_hw28 : k0_chk28 i v6382), ∀ (k0_h1 : k0_cond1 i = 1#1), ∀ a, (k0_off28 v6382) a + S1x1x512.size a ≤ S1x2048x512.size a := fun i v6382 k0_hw28 k0_h1 => k0_hw28 k0_h1

def k0_off29 (v6389 : BitVec 32) : Fin 3 → Nat :=
  let c0_4076 : Index := 0#32
  let v6390 : Index := Scalar.indexCast v6389
  let c0_4077 : Index := 0#32
  ![0, v6390.toNat, 0]

def k0_chk29 (i : grid0.Coords) (v6389 : BitVec 32) : Prop :=
  (∀ (k0_h1 : k0_cond1 i = 1#1), ∀ a, (k0_off29 v6389) a + S1x1x512.size a ≤ S1x2048x512.size a)
theorem k0_off29_inb : ∀ (i : grid0.Coords) (v6389 : BitVec 32) (k0_hw29 : k0_chk29 i v6389), ∀ (k0_h1 : k0_cond1 i = 1#1), ∀ a, (k0_off29 v6389) a + S1x1x512.size a ≤ S1x2048x512.size a := fun i v6389 k0_hw29 k0_h1 => k0_hw29 k0_h1

def k0_off30 (v6396 : BitVec 32) : Fin 3 → Nat :=
  let c0_4083 : Index := 0#32
  let v6397 : Index := Scalar.indexCast v6396
  let c0_4084 : Index := 0#32
  ![0, v6397.toNat, 0]

def k0_chk30 (i : grid0.Coords) (v6396 : BitVec 32) : Prop :=
  (∀ (k0_h1 : k0_cond1 i = 1#1), ∀ a, (k0_off30 v6396) a + S1x1x512.size a ≤ S1x2048x512.size a)
theorem k0_off30_inb : ∀ (i : grid0.Coords) (v6396 : BitVec 32) (k0_hw30 : k0_chk30 i v6396), ∀ (k0_h1 : k0_cond1 i = 1#1), ∀ a, (k0_off30 v6396) a + S1x1x512.size a ≤ S1x2048x512.size a := fun i v6396 k0_hw30 k0_h1 => k0_hw30 k0_h1

def k0_off31 (v6403 : BitVec 32) : Fin 3 → Nat :=
  let c0_4090 : Index := 0#32
  let v6404 : Index := Scalar.indexCast v6403
  let c0_4091 : Index := 0#32
  ![0, v6404.toNat, 0]

def k0_chk31 (i : grid0.Coords) (v6403 : BitVec 32) : Prop :=
  (∀ (k0_h1 : k0_cond1 i = 1#1), ∀ a, (k0_off31 v6403) a + S1x1x512.size a ≤ S1x2048x512.size a)
theorem k0_off31_inb : ∀ (i : grid0.Coords) (v6403 : BitVec 32) (k0_hw31 : k0_chk31 i v6403), ∀ (k0_h1 : k0_cond1 i = 1#1), ∀ a, (k0_off31 v6403) a + S1x1x512.size a ≤ S1x2048x512.size a := fun i v6403 k0_hw31 k0_h1 => k0_hw31 k0_h1

def k0_off32 (v6410 : BitVec 32) : Fin 3 → Nat :=
  let c0_4097 : Index := 0#32
  let v6411 : Index := Scalar.indexCast v6410
  let c0_4098 : Index := 0#32
  ![0, v6411.toNat, 0]

def k0_chk32 (i : grid0.Coords) (v6410 : BitVec 32) : Prop :=
  (∀ (k0_h1 : k0_cond1 i = 1#1), ∀ a, (k0_off32 v6410) a + S1x1x512.size a ≤ S1x2048x512.size a)
theorem k0_off32_inb : ∀ (i : grid0.Coords) (v6410 : BitVec 32) (k0_hw32 : k0_chk32 i v6410), ∀ (k0_h1 : k0_cond1 i = 1#1), ∀ a, (k0_off32 v6410) a + S1x1x512.size a ≤ S1x2048x512.size a := fun i v6410 k0_hw32 k0_h1 => k0_hw32 k0_h1

def k0_off33 (v6417 : BitVec 32) : Fin 3 → Nat :=
  let c0_4104 : Index := 0#32
  let v6418 : Index := Scalar.indexCast v6417
  let c0_4105 : Index := 0#32
  ![0, v6418.toNat, 0]

def k0_chk33 (i : grid0.Coords) (v6417 : BitVec 32) : Prop :=
  (∀ (k0_h1 : k0_cond1 i = 1#1), ∀ a, (k0_off33 v6417) a + S1x1x512.size a ≤ S1x2048x512.size a)
theorem k0_off33_inb : ∀ (i : grid0.Coords) (v6417 : BitVec 32) (k0_hw33 : k0_chk33 i v6417), ∀ (k0_h1 : k0_cond1 i = 1#1), ∀ a, (k0_off33 v6417) a + S1x1x512.size a ≤ S1x2048x512.size a := fun i v6417 k0_hw33 k0_h1 => k0_hw33 k0_h1

def k0_off34 (v6424 : BitVec 32) : Fin 3 → Nat :=
  let c0_4111 : Index := 0#32
  let v6425 : Index := Scalar.indexCast v6424
  let c0_4112 : Index := 0#32
  ![0, v6425.toNat, 0]

def k0_chk34 (i : grid0.Coords) (v6424 : BitVec 32) : Prop :=
  (∀ (k0_h1 : k0_cond1 i = 1#1), ∀ a, (k0_off34 v6424) a + S1x1x512.size a ≤ S1x2048x512.size a)
theorem k0_off34_inb : ∀ (i : grid0.Coords) (v6424 : BitVec 32) (k0_hw34 : k0_chk34 i v6424), ∀ (k0_h1 : k0_cond1 i = 1#1), ∀ a, (k0_off34 v6424) a + S1x1x512.size a ≤ S1x2048x512.size a := fun i v6424 k0_hw34 k0_h1 => k0_hw34 k0_h1

def k0_off35 (v6431 : BitVec 32) : Fin 3 → Nat :=
  let c0_4118 : Index := 0#32
  let v6432 : Index := Scalar.indexCast v6431
  let c0_4119 : Index := 0#32
  ![0, v6432.toNat, 0]

def k0_chk35 (i : grid0.Coords) (v6431 : BitVec 32) : Prop :=
  (∀ (k0_h1 : k0_cond1 i = 1#1), ∀ a, (k0_off35 v6431) a + S1x1x512.size a ≤ S1x2048x512.size a)
theorem k0_off35_inb : ∀ (i : grid0.Coords) (v6431 : BitVec 32) (k0_hw35 : k0_chk35 i v6431), ∀ (k0_h1 : k0_cond1 i = 1#1), ∀ a, (k0_off35 v6431) a + S1x1x512.size a ≤ S1x2048x512.size a := fun i v6431 k0_hw35 k0_h1 => k0_hw35 k0_h1

def k0_off36 (v6438 : BitVec 32) : Fin 3 → Nat :=
  let c0_4125 : Index := 0#32
  let v6439 : Index := Scalar.indexCast v6438
  let c0_4126 : Index := 0#32
  ![0, v6439.toNat, 0]

def k0_chk36 (i : grid0.Coords) (v6438 : BitVec 32) : Prop :=
  (∀ (k0_h1 : k0_cond1 i = 1#1), ∀ a, (k0_off36 v6438) a + S1x1x512.size a ≤ S1x2048x512.size a)
theorem k0_off36_inb : ∀ (i : grid0.Coords) (v6438 : BitVec 32) (k0_hw36 : k0_chk36 i v6438), ∀ (k0_h1 : k0_cond1 i = 1#1), ∀ a, (k0_off36 v6438) a + S1x1x512.size a ≤ S1x2048x512.size a := fun i v6438 k0_hw36 k0_h1 => k0_hw36 k0_h1

def k0_off37 (v6445 : BitVec 32) : Fin 3 → Nat :=
  let c0_4132 : Index := 0#32
  let v6446 : Index := Scalar.indexCast v6445
  let c0_4133 : Index := 0#32
  ![0, v6446.toNat, 0]

def k0_chk37 (i : grid0.Coords) (v6445 : BitVec 32) : Prop :=
  (∀ (k0_h1 : k0_cond1 i = 1#1), ∀ a, (k0_off37 v6445) a + S1x1x512.size a ≤ S1x2048x512.size a)
theorem k0_off37_inb : ∀ (i : grid0.Coords) (v6445 : BitVec 32) (k0_hw37 : k0_chk37 i v6445), ∀ (k0_h1 : k0_cond1 i = 1#1), ∀ a, (k0_off37 v6445) a + S1x1x512.size a ≤ S1x2048x512.size a := fun i v6445 k0_hw37 k0_h1 => k0_hw37 k0_h1

def k0_off38 (v6452 : BitVec 32) : Fin 3 → Nat :=
  let c0_4139 : Index := 0#32
  let v6453 : Index := Scalar.indexCast v6452
  let c0_4140 : Index := 0#32
  ![0, v6453.toNat, 0]

def k0_chk38 (i : grid0.Coords) (v6452 : BitVec 32) : Prop :=
  (∀ (k0_h1 : k0_cond1 i = 1#1), ∀ a, (k0_off38 v6452) a + S1x1x512.size a ≤ S1x2048x512.size a)
theorem k0_off38_inb : ∀ (i : grid0.Coords) (v6452 : BitVec 32) (k0_hw38 : k0_chk38 i v6452), ∀ (k0_h1 : k0_cond1 i = 1#1), ∀ a, (k0_off38 v6452) a + S1x1x512.size a ≤ S1x2048x512.size a := fun i v6452 k0_hw38 k0_h1 => k0_hw38 k0_h1

def k0_off39 (v6459 : BitVec 32) : Fin 3 → Nat :=
  let c0_4146 : Index := 0#32
  let v6460 : Index := Scalar.indexCast v6459
  let c0_4147 : Index := 0#32
  ![0, v6460.toNat, 0]

def k0_chk39 (i : grid0.Coords) (v6459 : BitVec 32) : Prop :=
  (∀ (k0_h1 : k0_cond1 i = 1#1), ∀ a, (k0_off39 v6459) a + S1x1x512.size a ≤ S1x2048x512.size a)
theorem k0_off39_inb : ∀ (i : grid0.Coords) (v6459 : BitVec 32) (k0_hw39 : k0_chk39 i v6459), ∀ (k0_h1 : k0_cond1 i = 1#1), ∀ a, (k0_off39 v6459) a + S1x1x512.size a ≤ S1x2048x512.size a := fun i v6459 k0_hw39 k0_h1 => k0_hw39 k0_h1

def k0_off40 (v6466 : BitVec 32) : Fin 3 → Nat :=
  let c0_4153 : Index := 0#32
  let v6467 : Index := Scalar.indexCast v6466
  let c0_4154 : Index := 0#32
  ![0, v6467.toNat, 0]

def k0_chk40 (i : grid0.Coords) (v6466 : BitVec 32) : Prop :=
  (∀ (k0_h1 : k0_cond1 i = 1#1), ∀ a, (k0_off40 v6466) a + S1x1x512.size a ≤ S1x2048x512.size a)
theorem k0_off40_inb : ∀ (i : grid0.Coords) (v6466 : BitVec 32) (k0_hw40 : k0_chk40 i v6466), ∀ (k0_h1 : k0_cond1 i = 1#1), ∀ a, (k0_off40 v6466) a + S1x1x512.size a ≤ S1x2048x512.size a := fun i v6466 k0_hw40 k0_h1 => k0_hw40 k0_h1

def k0_off41 (v6473 : BitVec 32) : Fin 3 → Nat :=
  let c0_4160 : Index := 0#32
  let v6474 : Index := Scalar.indexCast v6473
  let c0_4161 : Index := 0#32
  ![0, v6474.toNat, 0]

def k0_chk41 (i : grid0.Coords) (v6473 : BitVec 32) : Prop :=
  (∀ (k0_h1 : k0_cond1 i = 1#1), ∀ a, (k0_off41 v6473) a + S1x1x512.size a ≤ S1x2048x512.size a)
theorem k0_off41_inb : ∀ (i : grid0.Coords) (v6473 : BitVec 32) (k0_hw41 : k0_chk41 i v6473), ∀ (k0_h1 : k0_cond1 i = 1#1), ∀ a, (k0_off41 v6473) a + S1x1x512.size a ≤ S1x2048x512.size a := fun i v6473 k0_hw41 k0_h1 => k0_hw41 k0_h1

def k0_off42 (v6480 : BitVec 32) : Fin 3 → Nat :=
  let c0_4167 : Index := 0#32
  let v6481 : Index := Scalar.indexCast v6480
  let c0_4168 : Index := 0#32
  ![0, v6481.toNat, 0]

def k0_chk42 (i : grid0.Coords) (v6480 : BitVec 32) : Prop :=
  (∀ (k0_h1 : k0_cond1 i = 1#1), ∀ a, (k0_off42 v6480) a + S1x1x512.size a ≤ S1x2048x512.size a)
theorem k0_off42_inb : ∀ (i : grid0.Coords) (v6480 : BitVec 32) (k0_hw42 : k0_chk42 i v6480), ∀ (k0_h1 : k0_cond1 i = 1#1), ∀ a, (k0_off42 v6480) a + S1x1x512.size a ≤ S1x2048x512.size a := fun i v6480 k0_hw42 k0_h1 => k0_hw42 k0_h1

def k0_off43 (v6487 : BitVec 32) : Fin 3 → Nat :=
  let c0_4174 : Index := 0#32
  let v6488 : Index := Scalar.indexCast v6487
  let c0_4175 : Index := 0#32
  ![0, v6488.toNat, 0]

def k0_chk43 (i : grid0.Coords) (v6487 : BitVec 32) : Prop :=
  (∀ (k0_h1 : k0_cond1 i = 1#1), ∀ a, (k0_off43 v6487) a + S1x1x512.size a ≤ S1x2048x512.size a)
theorem k0_off43_inb : ∀ (i : grid0.Coords) (v6487 : BitVec 32) (k0_hw43 : k0_chk43 i v6487), ∀ (k0_h1 : k0_cond1 i = 1#1), ∀ a, (k0_off43 v6487) a + S1x1x512.size a ≤ S1x2048x512.size a := fun i v6487 k0_hw43 k0_h1 => k0_hw43 k0_h1

def k0_off44 (v6494 : BitVec 32) : Fin 3 → Nat :=
  let c0_4181 : Index := 0#32
  let v6495 : Index := Scalar.indexCast v6494
  let c0_4182 : Index := 0#32
  ![0, v6495.toNat, 0]

def k0_chk44 (i : grid0.Coords) (v6494 : BitVec 32) : Prop :=
  (∀ (k0_h1 : k0_cond1 i = 1#1), ∀ a, (k0_off44 v6494) a + S1x1x512.size a ≤ S1x2048x512.size a)
theorem k0_off44_inb : ∀ (i : grid0.Coords) (v6494 : BitVec 32) (k0_hw44 : k0_chk44 i v6494), ∀ (k0_h1 : k0_cond1 i = 1#1), ∀ a, (k0_off44 v6494) a + S1x1x512.size a ≤ S1x2048x512.size a := fun i v6494 k0_hw44 k0_h1 => k0_hw44 k0_h1

def k0_off45 (v6501 : BitVec 32) : Fin 3 → Nat :=
  let c0_4188 : Index := 0#32
  let v6502 : Index := Scalar.indexCast v6501
  let c0_4189 : Index := 0#32
  ![0, v6502.toNat, 0]

def k0_chk45 (i : grid0.Coords) (v6501 : BitVec 32) : Prop :=
  (∀ (k0_h1 : k0_cond1 i = 1#1), ∀ a, (k0_off45 v6501) a + S1x1x512.size a ≤ S1x2048x512.size a)
theorem k0_off45_inb : ∀ (i : grid0.Coords) (v6501 : BitVec 32) (k0_hw45 : k0_chk45 i v6501), ∀ (k0_h1 : k0_cond1 i = 1#1), ∀ a, (k0_off45 v6501) a + S1x1x512.size a ≤ S1x2048x512.size a := fun i v6501 k0_hw45 k0_h1 => k0_hw45 k0_h1

def k0_off46 (v6508 : BitVec 32) : Fin 3 → Nat :=
  let c0_4195 : Index := 0#32
  let v6509 : Index := Scalar.indexCast v6508
  let c0_4196 : Index := 0#32
  ![0, v6509.toNat, 0]

def k0_chk46 (i : grid0.Coords) (v6508 : BitVec 32) : Prop :=
  (∀ (k0_h1 : k0_cond1 i = 1#1), ∀ a, (k0_off46 v6508) a + S1x1x512.size a ≤ S1x2048x512.size a)
theorem k0_off46_inb : ∀ (i : grid0.Coords) (v6508 : BitVec 32) (k0_hw46 : k0_chk46 i v6508), ∀ (k0_h1 : k0_cond1 i = 1#1), ∀ a, (k0_off46 v6508) a + S1x1x512.size a ≤ S1x2048x512.size a := fun i v6508 k0_hw46 k0_h1 => k0_hw46 k0_h1

def k0_off47 (v6515 : BitVec 32) : Fin 3 → Nat :=
  let c0_4202 : Index := 0#32
  let v6516 : Index := Scalar.indexCast v6515
  let c0_4203 : Index := 0#32
  ![0, v6516.toNat, 0]

def k0_chk47 (i : grid0.Coords) (v6515 : BitVec 32) : Prop :=
  (∀ (k0_h1 : k0_cond1 i = 1#1), ∀ a, (k0_off47 v6515) a + S1x1x512.size a ≤ S1x2048x512.size a)
theorem k0_off47_inb : ∀ (i : grid0.Coords) (v6515 : BitVec 32) (k0_hw47 : k0_chk47 i v6515), ∀ (k0_h1 : k0_cond1 i = 1#1), ∀ a, (k0_off47 v6515) a + S1x1x512.size a ≤ S1x2048x512.size a := fun i v6515 k0_hw47 k0_h1 => k0_hw47 k0_h1

def k0_off48 (v6522 : BitVec 32) : Fin 3 → Nat :=
  let c0_4209 : Index := 0#32
  let v6523 : Index := Scalar.indexCast v6522
  let c0_4210 : Index := 0#32
  ![0, v6523.toNat, 0]

def k0_chk48 (i : grid0.Coords) (v6522 : BitVec 32) : Prop :=
  (∀ (k0_h1 : k0_cond1 i = 1#1), ∀ a, (k0_off48 v6522) a + S1x1x512.size a ≤ S1x2048x512.size a)
theorem k0_off48_inb : ∀ (i : grid0.Coords) (v6522 : BitVec 32) (k0_hw48 : k0_chk48 i v6522), ∀ (k0_h1 : k0_cond1 i = 1#1), ∀ a, (k0_off48 v6522) a + S1x1x512.size a ≤ S1x2048x512.size a := fun i v6522 k0_hw48 k0_h1 => k0_hw48 k0_h1

def k0_off49 (v6529 : BitVec 32) : Fin 3 → Nat :=
  let c0_4216 : Index := 0#32
  let v6530 : Index := Scalar.indexCast v6529
  let c0_4217 : Index := 0#32
  ![0, v6530.toNat, 0]

def k0_chk49 (i : grid0.Coords) (v6529 : BitVec 32) : Prop :=
  (∀ (k0_h1 : k0_cond1 i = 1#1), ∀ a, (k0_off49 v6529) a + S1x1x512.size a ≤ S1x2048x512.size a)
theorem k0_off49_inb : ∀ (i : grid0.Coords) (v6529 : BitVec 32) (k0_hw49 : k0_chk49 i v6529), ∀ (k0_h1 : k0_cond1 i = 1#1), ∀ a, (k0_off49 v6529) a + S1x1x512.size a ≤ S1x2048x512.size a := fun i v6529 k0_hw49 k0_h1 => k0_hw49 k0_h1

def k0_off50 (v6536 : BitVec 32) : Fin 3 → Nat :=
  let c0_4223 : Index := 0#32
  let v6537 : Index := Scalar.indexCast v6536
  let c0_4224 : Index := 0#32
  ![0, v6537.toNat, 0]

def k0_chk50 (i : grid0.Coords) (v6536 : BitVec 32) : Prop :=
  (∀ (k0_h1 : k0_cond1 i = 1#1), ∀ a, (k0_off50 v6536) a + S1x1x512.size a ≤ S1x2048x512.size a)
theorem k0_off50_inb : ∀ (i : grid0.Coords) (v6536 : BitVec 32) (k0_hw50 : k0_chk50 i v6536), ∀ (k0_h1 : k0_cond1 i = 1#1), ∀ a, (k0_off50 v6536) a + S1x1x512.size a ≤ S1x2048x512.size a := fun i v6536 k0_hw50 k0_h1 => k0_hw50 k0_h1

def k0_off51 (v6543 : BitVec 32) : Fin 3 → Nat :=
  let c0_4230 : Index := 0#32
  let v6544 : Index := Scalar.indexCast v6543
  let c0_4231 : Index := 0#32
  ![0, v6544.toNat, 0]

def k0_chk51 (i : grid0.Coords) (v6543 : BitVec 32) : Prop :=
  (∀ (k0_h1 : k0_cond1 i = 1#1), ∀ a, (k0_off51 v6543) a + S1x1x512.size a ≤ S1x2048x512.size a)
theorem k0_off51_inb : ∀ (i : grid0.Coords) (v6543 : BitVec 32) (k0_hw51 : k0_chk51 i v6543), ∀ (k0_h1 : k0_cond1 i = 1#1), ∀ a, (k0_off51 v6543) a + S1x1x512.size a ≤ S1x2048x512.size a := fun i v6543 k0_hw51 k0_h1 => k0_hw51 k0_h1

def k0_off52 (v6550 : BitVec 32) : Fin 3 → Nat :=
  let c0_4237 : Index := 0#32
  let v6551 : Index := Scalar.indexCast v6550
  let c0_4238 : Index := 0#32
  ![0, v6551.toNat, 0]

def k0_chk52 (i : grid0.Coords) (v6550 : BitVec 32) : Prop :=
  (∀ (k0_h1 : k0_cond1 i = 1#1), ∀ a, (k0_off52 v6550) a + S1x1x512.size a ≤ S1x2048x512.size a)
theorem k0_off52_inb : ∀ (i : grid0.Coords) (v6550 : BitVec 32) (k0_hw52 : k0_chk52 i v6550), ∀ (k0_h1 : k0_cond1 i = 1#1), ∀ a, (k0_off52 v6550) a + S1x1x512.size a ≤ S1x2048x512.size a := fun i v6550 k0_hw52 k0_h1 => k0_hw52 k0_h1

def k0_off53 (v6557 : BitVec 32) : Fin 3 → Nat :=
  let c0_4244 : Index := 0#32
  let v6558 : Index := Scalar.indexCast v6557
  let c0_4245 : Index := 0#32
  ![0, v6558.toNat, 0]

def k0_chk53 (i : grid0.Coords) (v6557 : BitVec 32) : Prop :=
  (∀ (k0_h1 : k0_cond1 i = 1#1), ∀ a, (k0_off53 v6557) a + S1x1x512.size a ≤ S1x2048x512.size a)
theorem k0_off53_inb : ∀ (i : grid0.Coords) (v6557 : BitVec 32) (k0_hw53 : k0_chk53 i v6557), ∀ (k0_h1 : k0_cond1 i = 1#1), ∀ a, (k0_off53 v6557) a + S1x1x512.size a ≤ S1x2048x512.size a := fun i v6557 k0_hw53 k0_h1 => k0_hw53 k0_h1

def k0_off54 (v6564 : BitVec 32) : Fin 3 → Nat :=
  let c0_4251 : Index := 0#32
  let v6565 : Index := Scalar.indexCast v6564
  let c0_4252 : Index := 0#32
  ![0, v6565.toNat, 0]

def k0_chk54 (i : grid0.Coords) (v6564 : BitVec 32) : Prop :=
  (∀ (k0_h1 : k0_cond1 i = 1#1), ∀ a, (k0_off54 v6564) a + S1x1x512.size a ≤ S1x2048x512.size a)
theorem k0_off54_inb : ∀ (i : grid0.Coords) (v6564 : BitVec 32) (k0_hw54 : k0_chk54 i v6564), ∀ (k0_h1 : k0_cond1 i = 1#1), ∀ a, (k0_off54 v6564) a + S1x1x512.size a ≤ S1x2048x512.size a := fun i v6564 k0_hw54 k0_h1 => k0_hw54 k0_h1

def k0_off55 (v6571 : BitVec 32) : Fin 3 → Nat :=
  let c0_4258 : Index := 0#32
  let v6572 : Index := Scalar.indexCast v6571
  let c0_4259 : Index := 0#32
  ![0, v6572.toNat, 0]

def k0_chk55 (i : grid0.Coords) (v6571 : BitVec 32) : Prop :=
  (∀ (k0_h1 : k0_cond1 i = 1#1), ∀ a, (k0_off55 v6571) a + S1x1x512.size a ≤ S1x2048x512.size a)
theorem k0_off55_inb : ∀ (i : grid0.Coords) (v6571 : BitVec 32) (k0_hw55 : k0_chk55 i v6571), ∀ (k0_h1 : k0_cond1 i = 1#1), ∀ a, (k0_off55 v6571) a + S1x1x512.size a ≤ S1x2048x512.size a := fun i v6571 k0_hw55 k0_h1 => k0_hw55 k0_h1

def k0_off56 (v6578 : BitVec 32) : Fin 3 → Nat :=
  let c0_4265 : Index := 0#32
  let v6579 : Index := Scalar.indexCast v6578
  let c0_4266 : Index := 0#32
  ![0, v6579.toNat, 0]

def k0_chk56 (i : grid0.Coords) (v6578 : BitVec 32) : Prop :=
  (∀ (k0_h1 : k0_cond1 i = 1#1), ∀ a, (k0_off56 v6578) a + S1x1x512.size a ≤ S1x2048x512.size a)
theorem k0_off56_inb : ∀ (i : grid0.Coords) (v6578 : BitVec 32) (k0_hw56 : k0_chk56 i v6578), ∀ (k0_h1 : k0_cond1 i = 1#1), ∀ a, (k0_off56 v6578) a + S1x1x512.size a ≤ S1x2048x512.size a := fun i v6578 k0_hw56 k0_h1 => k0_hw56 k0_h1

def k0_off57 (v6585 : BitVec 32) : Fin 3 → Nat :=
  let c0_4272 : Index := 0#32
  let v6586 : Index := Scalar.indexCast v6585
  let c0_4273 : Index := 0#32
  ![0, v6586.toNat, 0]

def k0_chk57 (i : grid0.Coords) (v6585 : BitVec 32) : Prop :=
  (∀ (k0_h1 : k0_cond1 i = 1#1), ∀ a, (k0_off57 v6585) a + S1x1x512.size a ≤ S1x2048x512.size a)
theorem k0_off57_inb : ∀ (i : grid0.Coords) (v6585 : BitVec 32) (k0_hw57 : k0_chk57 i v6585), ∀ (k0_h1 : k0_cond1 i = 1#1), ∀ a, (k0_off57 v6585) a + S1x1x512.size a ≤ S1x2048x512.size a := fun i v6585 k0_hw57 k0_h1 => k0_hw57 k0_h1

def k0_off58 (v6592 : BitVec 32) : Fin 3 → Nat :=
  let c0_4279 : Index := 0#32
  let v6593 : Index := Scalar.indexCast v6592
  let c0_4280 : Index := 0#32
  ![0, v6593.toNat, 0]

def k0_chk58 (i : grid0.Coords) (v6592 : BitVec 32) : Prop :=
  (∀ (k0_h1 : k0_cond1 i = 1#1), ∀ a, (k0_off58 v6592) a + S1x1x512.size a ≤ S1x2048x512.size a)
theorem k0_off58_inb : ∀ (i : grid0.Coords) (v6592 : BitVec 32) (k0_hw58 : k0_chk58 i v6592), ∀ (k0_h1 : k0_cond1 i = 1#1), ∀ a, (k0_off58 v6592) a + S1x1x512.size a ≤ S1x2048x512.size a := fun i v6592 k0_hw58 k0_h1 => k0_hw58 k0_h1

def k0_off59 (v6599 : BitVec 32) : Fin 3 → Nat :=
  let c0_4286 : Index := 0#32
  let v6600 : Index := Scalar.indexCast v6599
  let c0_4287 : Index := 0#32
  ![0, v6600.toNat, 0]

def k0_chk59 (i : grid0.Coords) (v6599 : BitVec 32) : Prop :=
  (∀ (k0_h1 : k0_cond1 i = 1#1), ∀ a, (k0_off59 v6599) a + S1x1x512.size a ≤ S1x2048x512.size a)
theorem k0_off59_inb : ∀ (i : grid0.Coords) (v6599 : BitVec 32) (k0_hw59 : k0_chk59 i v6599), ∀ (k0_h1 : k0_cond1 i = 1#1), ∀ a, (k0_off59 v6599) a + S1x1x512.size a ≤ S1x2048x512.size a := fun i v6599 k0_hw59 k0_h1 => k0_hw59 k0_h1

def k0_off60 (v6606 : BitVec 32) : Fin 3 → Nat :=
  let c0_4293 : Index := 0#32
  let v6607 : Index := Scalar.indexCast v6606
  let c0_4294 : Index := 0#32
  ![0, v6607.toNat, 0]

def k0_chk60 (i : grid0.Coords) (v6606 : BitVec 32) : Prop :=
  (∀ (k0_h1 : k0_cond1 i = 1#1), ∀ a, (k0_off60 v6606) a + S1x1x512.size a ≤ S1x2048x512.size a)
theorem k0_off60_inb : ∀ (i : grid0.Coords) (v6606 : BitVec 32) (k0_hw60 : k0_chk60 i v6606), ∀ (k0_h1 : k0_cond1 i = 1#1), ∀ a, (k0_off60 v6606) a + S1x1x512.size a ≤ S1x2048x512.size a := fun i v6606 k0_hw60 k0_h1 => k0_hw60 k0_h1

def k0_off61 (v6613 : BitVec 32) : Fin 3 → Nat :=
  let c0_4300 : Index := 0#32
  let v6614 : Index := Scalar.indexCast v6613
  let c0_4301 : Index := 0#32
  ![0, v6614.toNat, 0]

def k0_chk61 (i : grid0.Coords) (v6613 : BitVec 32) : Prop :=
  (∀ (k0_h1 : k0_cond1 i = 1#1), ∀ a, (k0_off61 v6613) a + S1x1x512.size a ≤ S1x2048x512.size a)
theorem k0_off61_inb : ∀ (i : grid0.Coords) (v6613 : BitVec 32) (k0_hw61 : k0_chk61 i v6613), ∀ (k0_h1 : k0_cond1 i = 1#1), ∀ a, (k0_off61 v6613) a + S1x1x512.size a ≤ S1x2048x512.size a := fun i v6613 k0_hw61 k0_h1 => k0_hw61 k0_h1

def k0_off62 (v6620 : BitVec 32) : Fin 3 → Nat :=
  let c0_4307 : Index := 0#32
  let v6621 : Index := Scalar.indexCast v6620
  let c0_4308 : Index := 0#32
  ![0, v6621.toNat, 0]

def k0_chk62 (i : grid0.Coords) (v6620 : BitVec 32) : Prop :=
  (∀ (k0_h1 : k0_cond1 i = 1#1), ∀ a, (k0_off62 v6620) a + S1x1x512.size a ≤ S1x2048x512.size a)
theorem k0_off62_inb : ∀ (i : grid0.Coords) (v6620 : BitVec 32) (k0_hw62 : k0_chk62 i v6620), ∀ (k0_h1 : k0_cond1 i = 1#1), ∀ a, (k0_off62 v6620) a + S1x1x512.size a ≤ S1x2048x512.size a := fun i v6620 k0_hw62 k0_h1 => k0_hw62 k0_h1

def k0_off63 (v6627 : BitVec 32) : Fin 3 → Nat :=
  let c0_4314 : Index := 0#32
  let v6628 : Index := Scalar.indexCast v6627
  let c0_4315 : Index := 0#32
  ![0, v6628.toNat, 0]

def k0_chk63 (i : grid0.Coords) (v6627 : BitVec 32) : Prop :=
  (∀ (k0_h1 : k0_cond1 i = 1#1), ∀ a, (k0_off63 v6627) a + S1x1x512.size a ≤ S1x2048x512.size a)
theorem k0_off63_inb : ∀ (i : grid0.Coords) (v6627 : BitVec 32) (k0_hw63 : k0_chk63 i v6627), ∀ (k0_h1 : k0_cond1 i = 1#1), ∀ a, (k0_off63 v6627) a + S1x1x512.size a ≤ S1x2048x512.size a := fun i v6627 k0_hw63 k0_h1 => k0_hw63 k0_h1

def k0_off64 (v6634 : BitVec 32) : Fin 3 → Nat :=
  let c0_4321 : Index := 0#32
  let v6635 : Index := Scalar.indexCast v6634
  let c0_4322 : Index := 0#32
  ![0, v6635.toNat, 0]

def k0_chk64 (i : grid0.Coords) (v6634 : BitVec 32) : Prop :=
  (∀ (k0_h1 : k0_cond1 i = 1#1), ∀ a, (k0_off64 v6634) a + S1x1x512.size a ≤ S1x2048x512.size a)
theorem k0_off64_inb : ∀ (i : grid0.Coords) (v6634 : BitVec 32) (k0_hw64 : k0_chk64 i v6634), ∀ (k0_h1 : k0_cond1 i = 1#1), ∀ a, (k0_off64 v6634) a + S1x1x512.size a ≤ S1x2048x512.size a := fun i v6634 k0_hw64 k0_h1 => k0_hw64 k0_h1

def k0_off65 (v6641 : BitVec 32) : Fin 3 → Nat :=
  let c0_4328 : Index := 0#32
  let v6642 : Index := Scalar.indexCast v6641
  let c0_4329 : Index := 0#32
  ![0, v6642.toNat, 0]

def k0_chk65 (i : grid0.Coords) (v6641 : BitVec 32) : Prop :=
  (∀ (k0_h1 : k0_cond1 i = 1#1), ∀ a, (k0_off65 v6641) a + S1x1x512.size a ≤ S1x2048x512.size a)
theorem k0_off65_inb : ∀ (i : grid0.Coords) (v6641 : BitVec 32) (k0_hw65 : k0_chk65 i v6641), ∀ (k0_h1 : k0_cond1 i = 1#1), ∀ a, (k0_off65 v6641) a + S1x1x512.size a ≤ S1x2048x512.size a := fun i v6641 k0_hw65 k0_h1 => k0_hw65 k0_h1

def k0_off66 (v6648 : BitVec 32) : Fin 3 → Nat :=
  let c0_4335 : Index := 0#32
  let v6649 : Index := Scalar.indexCast v6648
  let c0_4336 : Index := 0#32
  ![0, v6649.toNat, 0]

def k0_chk66 (i : grid0.Coords) (v6648 : BitVec 32) : Prop :=
  (∀ (k0_h1 : k0_cond1 i = 1#1), ∀ a, (k0_off66 v6648) a + S1x1x512.size a ≤ S1x2048x512.size a)
theorem k0_off66_inb : ∀ (i : grid0.Coords) (v6648 : BitVec 32) (k0_hw66 : k0_chk66 i v6648), ∀ (k0_h1 : k0_cond1 i = 1#1), ∀ a, (k0_off66 v6648) a + S1x1x512.size a ≤ S1x2048x512.size a := fun i v6648 k0_hw66 k0_h1 => k0_hw66 k0_h1

def k0_off67 (v6655 : BitVec 32) : Fin 3 → Nat :=
  let c0_4342 : Index := 0#32
  let v6656 : Index := Scalar.indexCast v6655
  let c0_4343 : Index := 0#32
  ![0, v6656.toNat, 0]

def k0_chk67 (i : grid0.Coords) (v6655 : BitVec 32) : Prop :=
  (∀ (k0_h1 : k0_cond1 i = 1#1), ∀ a, (k0_off67 v6655) a + S1x1x512.size a ≤ S1x2048x512.size a)
theorem k0_off67_inb : ∀ (i : grid0.Coords) (v6655 : BitVec 32) (k0_hw67 : k0_chk67 i v6655), ∀ (k0_h1 : k0_cond1 i = 1#1), ∀ a, (k0_off67 v6655) a + S1x1x512.size a ≤ S1x2048x512.size a := fun i v6655 k0_hw67 k0_h1 => k0_hw67 k0_h1

def k0_off68 (v6662 : BitVec 32) : Fin 3 → Nat :=
  let c0_4349 : Index := 0#32
  let v6663 : Index := Scalar.indexCast v6662
  let c0_4350 : Index := 0#32
  ![0, v6663.toNat, 0]

def k0_chk68 (i : grid0.Coords) (v6662 : BitVec 32) : Prop :=
  (∀ (k0_h1 : k0_cond1 i = 1#1), ∀ a, (k0_off68 v6662) a + S1x1x512.size a ≤ S1x2048x512.size a)
theorem k0_off68_inb : ∀ (i : grid0.Coords) (v6662 : BitVec 32) (k0_hw68 : k0_chk68 i v6662), ∀ (k0_h1 : k0_cond1 i = 1#1), ∀ a, (k0_off68 v6662) a + S1x1x512.size a ≤ S1x2048x512.size a := fun i v6662 k0_hw68 k0_h1 => k0_hw68 k0_h1

def k0_off69 (v6669 : BitVec 32) : Fin 3 → Nat :=
  let c0_4356 : Index := 0#32
  let v6670 : Index := Scalar.indexCast v6669
  let c0_4357 : Index := 0#32
  ![0, v6670.toNat, 0]

def k0_chk69 (i : grid0.Coords) (v6669 : BitVec 32) : Prop :=
  (∀ (k0_h1 : k0_cond1 i = 1#1), ∀ a, (k0_off69 v6669) a + S1x1x512.size a ≤ S1x2048x512.size a)
theorem k0_off69_inb : ∀ (i : grid0.Coords) (v6669 : BitVec 32) (k0_hw69 : k0_chk69 i v6669), ∀ (k0_h1 : k0_cond1 i = 1#1), ∀ a, (k0_off69 v6669) a + S1x1x512.size a ≤ S1x2048x512.size a := fun i v6669 k0_hw69 k0_h1 => k0_hw69 k0_h1

def k0_off70 (v6676 : BitVec 32) : Fin 3 → Nat :=
  let c0_4363 : Index := 0#32
  let v6677 : Index := Scalar.indexCast v6676
  let c0_4364 : Index := 0#32
  ![0, v6677.toNat, 0]

def k0_chk70 (i : grid0.Coords) (v6676 : BitVec 32) : Prop :=
  (∀ (k0_h1 : k0_cond1 i = 1#1), ∀ a, (k0_off70 v6676) a + S1x1x512.size a ≤ S1x2048x512.size a)
theorem k0_off70_inb : ∀ (i : grid0.Coords) (v6676 : BitVec 32) (k0_hw70 : k0_chk70 i v6676), ∀ (k0_h1 : k0_cond1 i = 1#1), ∀ a, (k0_off70 v6676) a + S1x1x512.size a ≤ S1x2048x512.size a := fun i v6676 k0_hw70 k0_h1 => k0_hw70 k0_h1

def k0_off71 (v6683 : BitVec 32) : Fin 3 → Nat :=
  let c0_4370 : Index := 0#32
  let v6684 : Index := Scalar.indexCast v6683
  let c0_4371 : Index := 0#32
  ![0, v6684.toNat, 0]

def k0_chk71 (i : grid0.Coords) (v6683 : BitVec 32) : Prop :=
  (∀ (k0_h1 : k0_cond1 i = 1#1), ∀ a, (k0_off71 v6683) a + S1x1x512.size a ≤ S1x2048x512.size a)
theorem k0_off71_inb : ∀ (i : grid0.Coords) (v6683 : BitVec 32) (k0_hw71 : k0_chk71 i v6683), ∀ (k0_h1 : k0_cond1 i = 1#1), ∀ a, (k0_off71 v6683) a + S1x1x512.size a ≤ S1x2048x512.size a := fun i v6683 k0_hw71 k0_h1 => k0_hw71 k0_h1

def k0_off72 (v6690 : BitVec 32) : Fin 3 → Nat :=
  let c0_4377 : Index := 0#32
  let v6691 : Index := Scalar.indexCast v6690
  let c0_4378 : Index := 0#32
  ![0, v6691.toNat, 0]

def k0_chk72 (i : grid0.Coords) (v6690 : BitVec 32) : Prop :=
  (∀ (k0_h1 : k0_cond1 i = 1#1), ∀ a, (k0_off72 v6690) a + S1x1x512.size a ≤ S1x2048x512.size a)
theorem k0_off72_inb : ∀ (i : grid0.Coords) (v6690 : BitVec 32) (k0_hw72 : k0_chk72 i v6690), ∀ (k0_h1 : k0_cond1 i = 1#1), ∀ a, (k0_off72 v6690) a + S1x1x512.size a ≤ S1x2048x512.size a := fun i v6690 k0_hw72 k0_h1 => k0_hw72 k0_h1

def k0_off73 (v6697 : BitVec 32) : Fin 3 → Nat :=
  let c0_4384 : Index := 0#32
  let v6698 : Index := Scalar.indexCast v6697
  let c0_4385 : Index := 0#32
  ![0, v6698.toNat, 0]

def k0_chk73 (i : grid0.Coords) (v6697 : BitVec 32) : Prop :=
  (∀ (k0_h1 : k0_cond1 i = 1#1), ∀ a, (k0_off73 v6697) a + S1x1x512.size a ≤ S1x2048x512.size a)
theorem k0_off73_inb : ∀ (i : grid0.Coords) (v6697 : BitVec 32) (k0_hw73 : k0_chk73 i v6697), ∀ (k0_h1 : k0_cond1 i = 1#1), ∀ a, (k0_off73 v6697) a + S1x1x512.size a ≤ S1x2048x512.size a := fun i v6697 k0_hw73 k0_h1 => k0_hw73 k0_h1

def k0_off74 (v6704 : BitVec 32) : Fin 3 → Nat :=
  let c0_4391 : Index := 0#32
  let v6705 : Index := Scalar.indexCast v6704
  let c0_4392 : Index := 0#32
  ![0, v6705.toNat, 0]

def k0_chk74 (i : grid0.Coords) (v6704 : BitVec 32) : Prop :=
  (∀ (k0_h1 : k0_cond1 i = 1#1), ∀ a, (k0_off74 v6704) a + S1x1x512.size a ≤ S1x2048x512.size a)
theorem k0_off74_inb : ∀ (i : grid0.Coords) (v6704 : BitVec 32) (k0_hw74 : k0_chk74 i v6704), ∀ (k0_h1 : k0_cond1 i = 1#1), ∀ a, (k0_off74 v6704) a + S1x1x512.size a ≤ S1x2048x512.size a := fun i v6704 k0_hw74 k0_h1 => k0_hw74 k0_h1

def k0_off75 (v6711 : BitVec 32) : Fin 3 → Nat :=
  let c0_4398 : Index := 0#32
  let v6712 : Index := Scalar.indexCast v6711
  let c0_4399 : Index := 0#32
  ![0, v6712.toNat, 0]

def k0_chk75 (i : grid0.Coords) (v6711 : BitVec 32) : Prop :=
  (∀ (k0_h1 : k0_cond1 i = 1#1), ∀ a, (k0_off75 v6711) a + S1x1x512.size a ≤ S1x2048x512.size a)
theorem k0_off75_inb : ∀ (i : grid0.Coords) (v6711 : BitVec 32) (k0_hw75 : k0_chk75 i v6711), ∀ (k0_h1 : k0_cond1 i = 1#1), ∀ a, (k0_off75 v6711) a + S1x1x512.size a ≤ S1x2048x512.size a := fun i v6711 k0_hw75 k0_h1 => k0_hw75 k0_h1

def k0_off76 (v6718 : BitVec 32) : Fin 3 → Nat :=
  let c0_4405 : Index := 0#32
  let v6719 : Index := Scalar.indexCast v6718
  let c0_4406 : Index := 0#32
  ![0, v6719.toNat, 0]

def k0_chk76 (i : grid0.Coords) (v6718 : BitVec 32) : Prop :=
  (∀ (k0_h1 : k0_cond1 i = 1#1), ∀ a, (k0_off76 v6718) a + S1x1x512.size a ≤ S1x2048x512.size a)
theorem k0_off76_inb : ∀ (i : grid0.Coords) (v6718 : BitVec 32) (k0_hw76 : k0_chk76 i v6718), ∀ (k0_h1 : k0_cond1 i = 1#1), ∀ a, (k0_off76 v6718) a + S1x1x512.size a ≤ S1x2048x512.size a := fun i v6718 k0_hw76 k0_h1 => k0_hw76 k0_h1

def k0_off77 (v6725 : BitVec 32) : Fin 3 → Nat :=
  let c0_4412 : Index := 0#32
  let v6726 : Index := Scalar.indexCast v6725
  let c0_4413 : Index := 0#32
  ![0, v6726.toNat, 0]

def k0_chk77 (i : grid0.Coords) (v6725 : BitVec 32) : Prop :=
  (∀ (k0_h1 : k0_cond1 i = 1#1), ∀ a, (k0_off77 v6725) a + S1x1x512.size a ≤ S1x2048x512.size a)
theorem k0_off77_inb : ∀ (i : grid0.Coords) (v6725 : BitVec 32) (k0_hw77 : k0_chk77 i v6725), ∀ (k0_h1 : k0_cond1 i = 1#1), ∀ a, (k0_off77 v6725) a + S1x1x512.size a ≤ S1x2048x512.size a := fun i v6725 k0_hw77 k0_h1 => k0_hw77 k0_h1

def k0_off78 (v6732 : BitVec 32) : Fin 3 → Nat :=
  let c0_4419 : Index := 0#32
  let v6733 : Index := Scalar.indexCast v6732
  let c0_4420 : Index := 0#32
  ![0, v6733.toNat, 0]

def k0_chk78 (i : grid0.Coords) (v6732 : BitVec 32) : Prop :=
  (∀ (k0_h1 : k0_cond1 i = 1#1), ∀ a, (k0_off78 v6732) a + S1x1x512.size a ≤ S1x2048x512.size a)
theorem k0_off78_inb : ∀ (i : grid0.Coords) (v6732 : BitVec 32) (k0_hw78 : k0_chk78 i v6732), ∀ (k0_h1 : k0_cond1 i = 1#1), ∀ a, (k0_off78 v6732) a + S1x1x512.size a ≤ S1x2048x512.size a := fun i v6732 k0_hw78 k0_h1 => k0_hw78 k0_h1

def k0_off79 (v6739 : BitVec 32) : Fin 3 → Nat :=
  let c0_4426 : Index := 0#32
  let v6740 : Index := Scalar.indexCast v6739
  let c0_4427 : Index := 0#32
  ![0, v6740.toNat, 0]

def k0_chk79 (i : grid0.Coords) (v6739 : BitVec 32) : Prop :=
  (∀ (k0_h1 : k0_cond1 i = 1#1), ∀ a, (k0_off79 v6739) a + S1x1x512.size a ≤ S1x2048x512.size a)
theorem k0_off79_inb : ∀ (i : grid0.Coords) (v6739 : BitVec 32) (k0_hw79 : k0_chk79 i v6739), ∀ (k0_h1 : k0_cond1 i = 1#1), ∀ a, (k0_off79 v6739) a + S1x1x512.size a ≤ S1x2048x512.size a := fun i v6739 k0_hw79 k0_h1 => k0_hw79 k0_h1

def k0_off80 (v6746 : BitVec 32) : Fin 3 → Nat :=
  let c0_4433 : Index := 0#32
  let v6747 : Index := Scalar.indexCast v6746
  let c0_4434 : Index := 0#32
  ![0, v6747.toNat, 0]

def k0_chk80 (i : grid0.Coords) (v6746 : BitVec 32) : Prop :=
  (∀ (k0_h1 : k0_cond1 i = 1#1), ∀ a, (k0_off80 v6746) a + S1x1x512.size a ≤ S1x2048x512.size a)
theorem k0_off80_inb : ∀ (i : grid0.Coords) (v6746 : BitVec 32) (k0_hw80 : k0_chk80 i v6746), ∀ (k0_h1 : k0_cond1 i = 1#1), ∀ a, (k0_off80 v6746) a + S1x1x512.size a ≤ S1x2048x512.size a := fun i v6746 k0_hw80 k0_h1 => k0_hw80 k0_h1

def k0_off81 (v6753 : BitVec 32) : Fin 3 → Nat :=
  let c0_4440 : Index := 0#32
  let v6754 : Index := Scalar.indexCast v6753
  let c0_4441 : Index := 0#32
  ![0, v6754.toNat, 0]

def k0_chk81 (i : grid0.Coords) (v6753 : BitVec 32) : Prop :=
  (∀ (k0_h1 : k0_cond1 i = 1#1), ∀ a, (k0_off81 v6753) a + S1x1x512.size a ≤ S1x2048x512.size a)
theorem k0_off81_inb : ∀ (i : grid0.Coords) (v6753 : BitVec 32) (k0_hw81 : k0_chk81 i v6753), ∀ (k0_h1 : k0_cond1 i = 1#1), ∀ a, (k0_off81 v6753) a + S1x1x512.size a ≤ S1x2048x512.size a := fun i v6753 k0_hw81 k0_h1 => k0_hw81 k0_h1

def k0_off82 (v6760 : BitVec 32) : Fin 3 → Nat :=
  let c0_4447 : Index := 0#32
  let v6761 : Index := Scalar.indexCast v6760
  let c0_4448 : Index := 0#32
  ![0, v6761.toNat, 0]

def k0_chk82 (i : grid0.Coords) (v6760 : BitVec 32) : Prop :=
  (∀ (k0_h1 : k0_cond1 i = 1#1), ∀ a, (k0_off82 v6760) a + S1x1x512.size a ≤ S1x2048x512.size a)
theorem k0_off82_inb : ∀ (i : grid0.Coords) (v6760 : BitVec 32) (k0_hw82 : k0_chk82 i v6760), ∀ (k0_h1 : k0_cond1 i = 1#1), ∀ a, (k0_off82 v6760) a + S1x1x512.size a ≤ S1x2048x512.size a := fun i v6760 k0_hw82 k0_h1 => k0_hw82 k0_h1

def k0_off83 (v6767 : BitVec 32) : Fin 3 → Nat :=
  let c0_4454 : Index := 0#32
  let v6768 : Index := Scalar.indexCast v6767
  let c0_4455 : Index := 0#32
  ![0, v6768.toNat, 0]

def k0_chk83 (i : grid0.Coords) (v6767 : BitVec 32) : Prop :=
  (∀ (k0_h1 : k0_cond1 i = 1#1), ∀ a, (k0_off83 v6767) a + S1x1x512.size a ≤ S1x2048x512.size a)
theorem k0_off83_inb : ∀ (i : grid0.Coords) (v6767 : BitVec 32) (k0_hw83 : k0_chk83 i v6767), ∀ (k0_h1 : k0_cond1 i = 1#1), ∀ a, (k0_off83 v6767) a + S1x1x512.size a ≤ S1x2048x512.size a := fun i v6767 k0_hw83 k0_h1 => k0_hw83 k0_h1

def k0_off84 (v6774 : BitVec 32) : Fin 3 → Nat :=
  let c0_4461 : Index := 0#32
  let v6775 : Index := Scalar.indexCast v6774
  let c0_4462 : Index := 0#32
  ![0, v6775.toNat, 0]

def k0_chk84 (i : grid0.Coords) (v6774 : BitVec 32) : Prop :=
  (∀ (k0_h1 : k0_cond1 i = 1#1), ∀ a, (k0_off84 v6774) a + S1x1x512.size a ≤ S1x2048x512.size a)
theorem k0_off84_inb : ∀ (i : grid0.Coords) (v6774 : BitVec 32) (k0_hw84 : k0_chk84 i v6774), ∀ (k0_h1 : k0_cond1 i = 1#1), ∀ a, (k0_off84 v6774) a + S1x1x512.size a ≤ S1x2048x512.size a := fun i v6774 k0_hw84 k0_h1 => k0_hw84 k0_h1

def k0_off85 (v6781 : BitVec 32) : Fin 3 → Nat :=
  let c0_4468 : Index := 0#32
  let v6782 : Index := Scalar.indexCast v6781
  let c0_4469 : Index := 0#32
  ![0, v6782.toNat, 0]

def k0_chk85 (i : grid0.Coords) (v6781 : BitVec 32) : Prop :=
  (∀ (k0_h1 : k0_cond1 i = 1#1), ∀ a, (k0_off85 v6781) a + S1x1x512.size a ≤ S1x2048x512.size a)
theorem k0_off85_inb : ∀ (i : grid0.Coords) (v6781 : BitVec 32) (k0_hw85 : k0_chk85 i v6781), ∀ (k0_h1 : k0_cond1 i = 1#1), ∀ a, (k0_off85 v6781) a + S1x1x512.size a ≤ S1x2048x512.size a := fun i v6781 k0_hw85 k0_h1 => k0_hw85 k0_h1

def k0_off86 (v6788 : BitVec 32) : Fin 3 → Nat :=
  let c0_4475 : Index := 0#32
  let v6789 : Index := Scalar.indexCast v6788
  let c0_4476 : Index := 0#32
  ![0, v6789.toNat, 0]

def k0_chk86 (i : grid0.Coords) (v6788 : BitVec 32) : Prop :=
  (∀ (k0_h1 : k0_cond1 i = 1#1), ∀ a, (k0_off86 v6788) a + S1x1x512.size a ≤ S1x2048x512.size a)
theorem k0_off86_inb : ∀ (i : grid0.Coords) (v6788 : BitVec 32) (k0_hw86 : k0_chk86 i v6788), ∀ (k0_h1 : k0_cond1 i = 1#1), ∀ a, (k0_off86 v6788) a + S1x1x512.size a ≤ S1x2048x512.size a := fun i v6788 k0_hw86 k0_h1 => k0_hw86 k0_h1

def k0_off87 (v6795 : BitVec 32) : Fin 3 → Nat :=
  let c0_4482 : Index := 0#32
  let v6796 : Index := Scalar.indexCast v6795
  let c0_4483 : Index := 0#32
  ![0, v6796.toNat, 0]

def k0_chk87 (i : grid0.Coords) (v6795 : BitVec 32) : Prop :=
  (∀ (k0_h1 : k0_cond1 i = 1#1), ∀ a, (k0_off87 v6795) a + S1x1x512.size a ≤ S1x2048x512.size a)
theorem k0_off87_inb : ∀ (i : grid0.Coords) (v6795 : BitVec 32) (k0_hw87 : k0_chk87 i v6795), ∀ (k0_h1 : k0_cond1 i = 1#1), ∀ a, (k0_off87 v6795) a + S1x1x512.size a ≤ S1x2048x512.size a := fun i v6795 k0_hw87 k0_h1 => k0_hw87 k0_h1

def k0_off88 (v6802 : BitVec 32) : Fin 3 → Nat :=
  let c0_4489 : Index := 0#32
  let v6803 : Index := Scalar.indexCast v6802
  let c0_4490 : Index := 0#32
  ![0, v6803.toNat, 0]

def k0_chk88 (i : grid0.Coords) (v6802 : BitVec 32) : Prop :=
  (∀ (k0_h1 : k0_cond1 i = 1#1), ∀ a, (k0_off88 v6802) a + S1x1x512.size a ≤ S1x2048x512.size a)
theorem k0_off88_inb : ∀ (i : grid0.Coords) (v6802 : BitVec 32) (k0_hw88 : k0_chk88 i v6802), ∀ (k0_h1 : k0_cond1 i = 1#1), ∀ a, (k0_off88 v6802) a + S1x1x512.size a ≤ S1x2048x512.size a := fun i v6802 k0_hw88 k0_h1 => k0_hw88 k0_h1

def k0_off89 (v6809 : BitVec 32) : Fin 3 → Nat :=
  let c0_4496 : Index := 0#32
  let v6810 : Index := Scalar.indexCast v6809
  let c0_4497 : Index := 0#32
  ![0, v6810.toNat, 0]

def k0_chk89 (i : grid0.Coords) (v6809 : BitVec 32) : Prop :=
  (∀ (k0_h1 : k0_cond1 i = 1#1), ∀ a, (k0_off89 v6809) a + S1x1x512.size a ≤ S1x2048x512.size a)
theorem k0_off89_inb : ∀ (i : grid0.Coords) (v6809 : BitVec 32) (k0_hw89 : k0_chk89 i v6809), ∀ (k0_h1 : k0_cond1 i = 1#1), ∀ a, (k0_off89 v6809) a + S1x1x512.size a ≤ S1x2048x512.size a := fun i v6809 k0_hw89 k0_h1 => k0_hw89 k0_h1

def k0_off90 (v6816 : BitVec 32) : Fin 3 → Nat :=
  let c0_4503 : Index := 0#32
  let v6817 : Index := Scalar.indexCast v6816
  let c0_4504 : Index := 0#32
  ![0, v6817.toNat, 0]

def k0_chk90 (i : grid0.Coords) (v6816 : BitVec 32) : Prop :=
  (∀ (k0_h1 : k0_cond1 i = 1#1), ∀ a, (k0_off90 v6816) a + S1x1x512.size a ≤ S1x2048x512.size a)
theorem k0_off90_inb : ∀ (i : grid0.Coords) (v6816 : BitVec 32) (k0_hw90 : k0_chk90 i v6816), ∀ (k0_h1 : k0_cond1 i = 1#1), ∀ a, (k0_off90 v6816) a + S1x1x512.size a ≤ S1x2048x512.size a := fun i v6816 k0_hw90 k0_h1 => k0_hw90 k0_h1

def k0_off91 (v6823 : BitVec 32) : Fin 3 → Nat :=
  let c0_4510 : Index := 0#32
  let v6824 : Index := Scalar.indexCast v6823
  let c0_4511 : Index := 0#32
  ![0, v6824.toNat, 0]

def k0_chk91 (i : grid0.Coords) (v6823 : BitVec 32) : Prop :=
  (∀ (k0_h1 : k0_cond1 i = 1#1), ∀ a, (k0_off91 v6823) a + S1x1x512.size a ≤ S1x2048x512.size a)
theorem k0_off91_inb : ∀ (i : grid0.Coords) (v6823 : BitVec 32) (k0_hw91 : k0_chk91 i v6823), ∀ (k0_h1 : k0_cond1 i = 1#1), ∀ a, (k0_off91 v6823) a + S1x1x512.size a ≤ S1x2048x512.size a := fun i v6823 k0_hw91 k0_h1 => k0_hw91 k0_h1

def k0_off92 (v6830 : BitVec 32) : Fin 3 → Nat :=
  let c0_4517 : Index := 0#32
  let v6831 : Index := Scalar.indexCast v6830
  let c0_4518 : Index := 0#32
  ![0, v6831.toNat, 0]

def k0_chk92 (i : grid0.Coords) (v6830 : BitVec 32) : Prop :=
  (∀ (k0_h1 : k0_cond1 i = 1#1), ∀ a, (k0_off92 v6830) a + S1x1x512.size a ≤ S1x2048x512.size a)
theorem k0_off92_inb : ∀ (i : grid0.Coords) (v6830 : BitVec 32) (k0_hw92 : k0_chk92 i v6830), ∀ (k0_h1 : k0_cond1 i = 1#1), ∀ a, (k0_off92 v6830) a + S1x1x512.size a ≤ S1x2048x512.size a := fun i v6830 k0_hw92 k0_h1 => k0_hw92 k0_h1

def k0_off93 (v6837 : BitVec 32) : Fin 3 → Nat :=
  let c0_4524 : Index := 0#32
  let v6838 : Index := Scalar.indexCast v6837
  let c0_4525 : Index := 0#32
  ![0, v6838.toNat, 0]

def k0_chk93 (i : grid0.Coords) (v6837 : BitVec 32) : Prop :=
  (∀ (k0_h1 : k0_cond1 i = 1#1), ∀ a, (k0_off93 v6837) a + S1x1x512.size a ≤ S1x2048x512.size a)
theorem k0_off93_inb : ∀ (i : grid0.Coords) (v6837 : BitVec 32) (k0_hw93 : k0_chk93 i v6837), ∀ (k0_h1 : k0_cond1 i = 1#1), ∀ a, (k0_off93 v6837) a + S1x1x512.size a ≤ S1x2048x512.size a := fun i v6837 k0_hw93 k0_h1 => k0_hw93 k0_h1

def k0_off94 (v6844 : BitVec 32) : Fin 3 → Nat :=
  let c0_4531 : Index := 0#32
  let v6845 : Index := Scalar.indexCast v6844
  let c0_4532 : Index := 0#32
  ![0, v6845.toNat, 0]

def k0_chk94 (i : grid0.Coords) (v6844 : BitVec 32) : Prop :=
  (∀ (k0_h1 : k0_cond1 i = 1#1), ∀ a, (k0_off94 v6844) a + S1x1x512.size a ≤ S1x2048x512.size a)
theorem k0_off94_inb : ∀ (i : grid0.Coords) (v6844 : BitVec 32) (k0_hw94 : k0_chk94 i v6844), ∀ (k0_h1 : k0_cond1 i = 1#1), ∀ a, (k0_off94 v6844) a + S1x1x512.size a ≤ S1x2048x512.size a := fun i v6844 k0_hw94 k0_h1 => k0_hw94 k0_h1

def k0_off95 (v6851 : BitVec 32) : Fin 3 → Nat :=
  let c0_4538 : Index := 0#32
  let v6852 : Index := Scalar.indexCast v6851
  let c0_4539 : Index := 0#32
  ![0, v6852.toNat, 0]

def k0_chk95 (i : grid0.Coords) (v6851 : BitVec 32) : Prop :=
  (∀ (k0_h1 : k0_cond1 i = 1#1), ∀ a, (k0_off95 v6851) a + S1x1x512.size a ≤ S1x2048x512.size a)
theorem k0_off95_inb : ∀ (i : grid0.Coords) (v6851 : BitVec 32) (k0_hw95 : k0_chk95 i v6851), ∀ (k0_h1 : k0_cond1 i = 1#1), ∀ a, (k0_off95 v6851) a + S1x1x512.size a ≤ S1x2048x512.size a := fun i v6851 k0_hw95 k0_h1 => k0_hw95 k0_h1

def k0_off96 (v6858 : BitVec 32) : Fin 3 → Nat :=
  let c0_4545 : Index := 0#32
  let v6859 : Index := Scalar.indexCast v6858
  let c0_4546 : Index := 0#32
  ![0, v6859.toNat, 0]

def k0_chk96 (i : grid0.Coords) (v6858 : BitVec 32) : Prop :=
  (∀ (k0_h1 : k0_cond1 i = 1#1), ∀ a, (k0_off96 v6858) a + S1x1x512.size a ≤ S1x2048x512.size a)
theorem k0_off96_inb : ∀ (i : grid0.Coords) (v6858 : BitVec 32) (k0_hw96 : k0_chk96 i v6858), ∀ (k0_h1 : k0_cond1 i = 1#1), ∀ a, (k0_off96 v6858) a + S1x1x512.size a ≤ S1x2048x512.size a := fun i v6858 k0_hw96 k0_h1 => k0_hw96 k0_h1

def k0_off97 (v6865 : BitVec 32) : Fin 3 → Nat :=
  let c0_4552 : Index := 0#32
  let v6866 : Index := Scalar.indexCast v6865
  let c0_4553 : Index := 0#32
  ![0, v6866.toNat, 0]

def k0_chk97 (i : grid0.Coords) (v6865 : BitVec 32) : Prop :=
  (∀ (k0_h1 : k0_cond1 i = 1#1), ∀ a, (k0_off97 v6865) a + S1x1x512.size a ≤ S1x2048x512.size a)
theorem k0_off97_inb : ∀ (i : grid0.Coords) (v6865 : BitVec 32) (k0_hw97 : k0_chk97 i v6865), ∀ (k0_h1 : k0_cond1 i = 1#1), ∀ a, (k0_off97 v6865) a + S1x1x512.size a ≤ S1x2048x512.size a := fun i v6865 k0_hw97 k0_h1 => k0_hw97 k0_h1

def k0_off98 (v6872 : BitVec 32) : Fin 3 → Nat :=
  let c0_4559 : Index := 0#32
  let v6873 : Index := Scalar.indexCast v6872
  let c0_4560 : Index := 0#32
  ![0, v6873.toNat, 0]

def k0_chk98 (i : grid0.Coords) (v6872 : BitVec 32) : Prop :=
  (∀ (k0_h1 : k0_cond1 i = 1#1), ∀ a, (k0_off98 v6872) a + S1x1x512.size a ≤ S1x2048x512.size a)
theorem k0_off98_inb : ∀ (i : grid0.Coords) (v6872 : BitVec 32) (k0_hw98 : k0_chk98 i v6872), ∀ (k0_h1 : k0_cond1 i = 1#1), ∀ a, (k0_off98 v6872) a + S1x1x512.size a ≤ S1x2048x512.size a := fun i v6872 k0_hw98 k0_h1 => k0_hw98 k0_h1

def k0_off99 (v6879 : BitVec 32) : Fin 3 → Nat :=
  let c0_4566 : Index := 0#32
  let v6880 : Index := Scalar.indexCast v6879
  let c0_4567 : Index := 0#32
  ![0, v6880.toNat, 0]

def k0_chk99 (i : grid0.Coords) (v6879 : BitVec 32) : Prop :=
  (∀ (k0_h1 : k0_cond1 i = 1#1), ∀ a, (k0_off99 v6879) a + S1x1x512.size a ≤ S1x2048x512.size a)
theorem k0_off99_inb : ∀ (i : grid0.Coords) (v6879 : BitVec 32) (k0_hw99 : k0_chk99 i v6879), ∀ (k0_h1 : k0_cond1 i = 1#1), ∀ a, (k0_off99 v6879) a + S1x1x512.size a ≤ S1x2048x512.size a := fun i v6879 k0_hw99 k0_h1 => k0_hw99 k0_h1

def k0_off100 (v6886 : BitVec 32) : Fin 3 → Nat :=
  let c0_4573 : Index := 0#32
  let v6887 : Index := Scalar.indexCast v6886
  let c0_4574 : Index := 0#32
  ![0, v6887.toNat, 0]

def k0_chk100 (i : grid0.Coords) (v6886 : BitVec 32) : Prop :=
  (∀ (k0_h1 : k0_cond1 i = 1#1), ∀ a, (k0_off100 v6886) a + S1x1x512.size a ≤ S1x2048x512.size a)
theorem k0_off100_inb : ∀ (i : grid0.Coords) (v6886 : BitVec 32) (k0_hw100 : k0_chk100 i v6886), ∀ (k0_h1 : k0_cond1 i = 1#1), ∀ a, (k0_off100 v6886) a + S1x1x512.size a ≤ S1x2048x512.size a := fun i v6886 k0_hw100 k0_h1 => k0_hw100 k0_h1

def k0_off101 (v6893 : BitVec 32) : Fin 3 → Nat :=
  let c0_4580 : Index := 0#32
  let v6894 : Index := Scalar.indexCast v6893
  let c0_4581 : Index := 0#32
  ![0, v6894.toNat, 0]

def k0_chk101 (i : grid0.Coords) (v6893 : BitVec 32) : Prop :=
  (∀ (k0_h1 : k0_cond1 i = 1#1), ∀ a, (k0_off101 v6893) a + S1x1x512.size a ≤ S1x2048x512.size a)
theorem k0_off101_inb : ∀ (i : grid0.Coords) (v6893 : BitVec 32) (k0_hw101 : k0_chk101 i v6893), ∀ (k0_h1 : k0_cond1 i = 1#1), ∀ a, (k0_off101 v6893) a + S1x1x512.size a ≤ S1x2048x512.size a := fun i v6893 k0_hw101 k0_h1 => k0_hw101 k0_h1

def k0_off102 (v6900 : BitVec 32) : Fin 3 → Nat :=
  let c0_4587 : Index := 0#32
  let v6901 : Index := Scalar.indexCast v6900
  let c0_4588 : Index := 0#32
  ![0, v6901.toNat, 0]

def k0_chk102 (i : grid0.Coords) (v6900 : BitVec 32) : Prop :=
  (∀ (k0_h1 : k0_cond1 i = 1#1), ∀ a, (k0_off102 v6900) a + S1x1x512.size a ≤ S1x2048x512.size a)
theorem k0_off102_inb : ∀ (i : grid0.Coords) (v6900 : BitVec 32) (k0_hw102 : k0_chk102 i v6900), ∀ (k0_h1 : k0_cond1 i = 1#1), ∀ a, (k0_off102 v6900) a + S1x1x512.size a ≤ S1x2048x512.size a := fun i v6900 k0_hw102 k0_h1 => k0_hw102 k0_h1

def k0_off103 (v6907 : BitVec 32) : Fin 3 → Nat :=
  let c0_4594 : Index := 0#32
  let v6908 : Index := Scalar.indexCast v6907
  let c0_4595 : Index := 0#32
  ![0, v6908.toNat, 0]

def k0_chk103 (i : grid0.Coords) (v6907 : BitVec 32) : Prop :=
  (∀ (k0_h1 : k0_cond1 i = 1#1), ∀ a, (k0_off103 v6907) a + S1x1x512.size a ≤ S1x2048x512.size a)
theorem k0_off103_inb : ∀ (i : grid0.Coords) (v6907 : BitVec 32) (k0_hw103 : k0_chk103 i v6907), ∀ (k0_h1 : k0_cond1 i = 1#1), ∀ a, (k0_off103 v6907) a + S1x1x512.size a ≤ S1x2048x512.size a := fun i v6907 k0_hw103 k0_h1 => k0_hw103 k0_h1

def k0_off104 (v6914 : BitVec 32) : Fin 3 → Nat :=
  let c0_4601 : Index := 0#32
  let v6915 : Index := Scalar.indexCast v6914
  let c0_4602 : Index := 0#32
  ![0, v6915.toNat, 0]

def k0_chk104 (i : grid0.Coords) (v6914 : BitVec 32) : Prop :=
  (∀ (k0_h1 : k0_cond1 i = 1#1), ∀ a, (k0_off104 v6914) a + S1x1x512.size a ≤ S1x2048x512.size a)
theorem k0_off104_inb : ∀ (i : grid0.Coords) (v6914 : BitVec 32) (k0_hw104 : k0_chk104 i v6914), ∀ (k0_h1 : k0_cond1 i = 1#1), ∀ a, (k0_off104 v6914) a + S1x1x512.size a ≤ S1x2048x512.size a := fun i v6914 k0_hw104 k0_h1 => k0_hw104 k0_h1

def k0_off105 (v6921 : BitVec 32) : Fin 3 → Nat :=
  let c0_4608 : Index := 0#32
  let v6922 : Index := Scalar.indexCast v6921
  let c0_4609 : Index := 0#32
  ![0, v6922.toNat, 0]

def k0_chk105 (i : grid0.Coords) (v6921 : BitVec 32) : Prop :=
  (∀ (k0_h1 : k0_cond1 i = 1#1), ∀ a, (k0_off105 v6921) a + S1x1x512.size a ≤ S1x2048x512.size a)
theorem k0_off105_inb : ∀ (i : grid0.Coords) (v6921 : BitVec 32) (k0_hw105 : k0_chk105 i v6921), ∀ (k0_h1 : k0_cond1 i = 1#1), ∀ a, (k0_off105 v6921) a + S1x1x512.size a ≤ S1x2048x512.size a := fun i v6921 k0_hw105 k0_h1 => k0_hw105 k0_h1

def k0_off106 (v6928 : BitVec 32) : Fin 3 → Nat :=
  let c0_4615 : Index := 0#32
  let v6929 : Index := Scalar.indexCast v6928
  let c0_4616 : Index := 0#32
  ![0, v6929.toNat, 0]

def k0_chk106 (i : grid0.Coords) (v6928 : BitVec 32) : Prop :=
  (∀ (k0_h1 : k0_cond1 i = 1#1), ∀ a, (k0_off106 v6928) a + S1x1x512.size a ≤ S1x2048x512.size a)
theorem k0_off106_inb : ∀ (i : grid0.Coords) (v6928 : BitVec 32) (k0_hw106 : k0_chk106 i v6928), ∀ (k0_h1 : k0_cond1 i = 1#1), ∀ a, (k0_off106 v6928) a + S1x1x512.size a ≤ S1x2048x512.size a := fun i v6928 k0_hw106 k0_h1 => k0_hw106 k0_h1

def k0_off107 (v6935 : BitVec 32) : Fin 3 → Nat :=
  let c0_4622 : Index := 0#32
  let v6936 : Index := Scalar.indexCast v6935
  let c0_4623 : Index := 0#32
  ![0, v6936.toNat, 0]

def k0_chk107 (i : grid0.Coords) (v6935 : BitVec 32) : Prop :=
  (∀ (k0_h1 : k0_cond1 i = 1#1), ∀ a, (k0_off107 v6935) a + S1x1x512.size a ≤ S1x2048x512.size a)
theorem k0_off107_inb : ∀ (i : grid0.Coords) (v6935 : BitVec 32) (k0_hw107 : k0_chk107 i v6935), ∀ (k0_h1 : k0_cond1 i = 1#1), ∀ a, (k0_off107 v6935) a + S1x1x512.size a ≤ S1x2048x512.size a := fun i v6935 k0_hw107 k0_h1 => k0_hw107 k0_h1

def k0_off108 (v6942 : BitVec 32) : Fin 3 → Nat :=
  let c0_4629 : Index := 0#32
  let v6943 : Index := Scalar.indexCast v6942
  let c0_4630 : Index := 0#32
  ![0, v6943.toNat, 0]

def k0_chk108 (i : grid0.Coords) (v6942 : BitVec 32) : Prop :=
  (∀ (k0_h1 : k0_cond1 i = 1#1), ∀ a, (k0_off108 v6942) a + S1x1x512.size a ≤ S1x2048x512.size a)
theorem k0_off108_inb : ∀ (i : grid0.Coords) (v6942 : BitVec 32) (k0_hw108 : k0_chk108 i v6942), ∀ (k0_h1 : k0_cond1 i = 1#1), ∀ a, (k0_off108 v6942) a + S1x1x512.size a ≤ S1x2048x512.size a := fun i v6942 k0_hw108 k0_h1 => k0_hw108 k0_h1

def k0_off109 (v6949 : BitVec 32) : Fin 3 → Nat :=
  let c0_4636 : Index := 0#32
  let v6950 : Index := Scalar.indexCast v6949
  let c0_4637 : Index := 0#32
  ![0, v6950.toNat, 0]

def k0_chk109 (i : grid0.Coords) (v6949 : BitVec 32) : Prop :=
  (∀ (k0_h1 : k0_cond1 i = 1#1), ∀ a, (k0_off109 v6949) a + S1x1x512.size a ≤ S1x2048x512.size a)
theorem k0_off109_inb : ∀ (i : grid0.Coords) (v6949 : BitVec 32) (k0_hw109 : k0_chk109 i v6949), ∀ (k0_h1 : k0_cond1 i = 1#1), ∀ a, (k0_off109 v6949) a + S1x1x512.size a ≤ S1x2048x512.size a := fun i v6949 k0_hw109 k0_h1 => k0_hw109 k0_h1

def k0_off110 (v6956 : BitVec 32) : Fin 3 → Nat :=
  let c0_4643 : Index := 0#32
  let v6957 : Index := Scalar.indexCast v6956
  let c0_4644 : Index := 0#32
  ![0, v6957.toNat, 0]

def k0_chk110 (i : grid0.Coords) (v6956 : BitVec 32) : Prop :=
  (∀ (k0_h1 : k0_cond1 i = 1#1), ∀ a, (k0_off110 v6956) a + S1x1x512.size a ≤ S1x2048x512.size a)
theorem k0_off110_inb : ∀ (i : grid0.Coords) (v6956 : BitVec 32) (k0_hw110 : k0_chk110 i v6956), ∀ (k0_h1 : k0_cond1 i = 1#1), ∀ a, (k0_off110 v6956) a + S1x1x512.size a ≤ S1x2048x512.size a := fun i v6956 k0_hw110 k0_h1 => k0_hw110 k0_h1

def k0_off111 (v6963 : BitVec 32) : Fin 3 → Nat :=
  let c0_4650 : Index := 0#32
  let v6964 : Index := Scalar.indexCast v6963
  let c0_4651 : Index := 0#32
  ![0, v6964.toNat, 0]

def k0_chk111 (i : grid0.Coords) (v6963 : BitVec 32) : Prop :=
  (∀ (k0_h1 : k0_cond1 i = 1#1), ∀ a, (k0_off111 v6963) a + S1x1x512.size a ≤ S1x2048x512.size a)
theorem k0_off111_inb : ∀ (i : grid0.Coords) (v6963 : BitVec 32) (k0_hw111 : k0_chk111 i v6963), ∀ (k0_h1 : k0_cond1 i = 1#1), ∀ a, (k0_off111 v6963) a + S1x1x512.size a ≤ S1x2048x512.size a := fun i v6963 k0_hw111 k0_h1 => k0_hw111 k0_h1

def k0_off112 (v6970 : BitVec 32) : Fin 3 → Nat :=
  let c0_4657 : Index := 0#32
  let v6971 : Index := Scalar.indexCast v6970
  let c0_4658 : Index := 0#32
  ![0, v6971.toNat, 0]

def k0_chk112 (i : grid0.Coords) (v6970 : BitVec 32) : Prop :=
  (∀ (k0_h1 : k0_cond1 i = 1#1), ∀ a, (k0_off112 v6970) a + S1x1x512.size a ≤ S1x2048x512.size a)
theorem k0_off112_inb : ∀ (i : grid0.Coords) (v6970 : BitVec 32) (k0_hw112 : k0_chk112 i v6970), ∀ (k0_h1 : k0_cond1 i = 1#1), ∀ a, (k0_off112 v6970) a + S1x1x512.size a ≤ S1x2048x512.size a := fun i v6970 k0_hw112 k0_h1 => k0_hw112 k0_h1

def k0_off113 (v6977 : BitVec 32) : Fin 3 → Nat :=
  let c0_4664 : Index := 0#32
  let v6978 : Index := Scalar.indexCast v6977
  let c0_4665 : Index := 0#32
  ![0, v6978.toNat, 0]

def k0_chk113 (i : grid0.Coords) (v6977 : BitVec 32) : Prop :=
  (∀ (k0_h1 : k0_cond1 i = 1#1), ∀ a, (k0_off113 v6977) a + S1x1x512.size a ≤ S1x2048x512.size a)
theorem k0_off113_inb : ∀ (i : grid0.Coords) (v6977 : BitVec 32) (k0_hw113 : k0_chk113 i v6977), ∀ (k0_h1 : k0_cond1 i = 1#1), ∀ a, (k0_off113 v6977) a + S1x1x512.size a ≤ S1x2048x512.size a := fun i v6977 k0_hw113 k0_h1 => k0_hw113 k0_h1

def k0_off114 (v6984 : BitVec 32) : Fin 3 → Nat :=
  let c0_4671 : Index := 0#32
  let v6985 : Index := Scalar.indexCast v6984
  let c0_4672 : Index := 0#32
  ![0, v6985.toNat, 0]

def k0_chk114 (i : grid0.Coords) (v6984 : BitVec 32) : Prop :=
  (∀ (k0_h1 : k0_cond1 i = 1#1), ∀ a, (k0_off114 v6984) a + S1x1x512.size a ≤ S1x2048x512.size a)
theorem k0_off114_inb : ∀ (i : grid0.Coords) (v6984 : BitVec 32) (k0_hw114 : k0_chk114 i v6984), ∀ (k0_h1 : k0_cond1 i = 1#1), ∀ a, (k0_off114 v6984) a + S1x1x512.size a ≤ S1x2048x512.size a := fun i v6984 k0_hw114 k0_h1 => k0_hw114 k0_h1

def k0_off115 (v6991 : BitVec 32) : Fin 3 → Nat :=
  let c0_4678 : Index := 0#32
  let v6992 : Index := Scalar.indexCast v6991
  let c0_4679 : Index := 0#32
  ![0, v6992.toNat, 0]

def k0_chk115 (i : grid0.Coords) (v6991 : BitVec 32) : Prop :=
  (∀ (k0_h1 : k0_cond1 i = 1#1), ∀ a, (k0_off115 v6991) a + S1x1x512.size a ≤ S1x2048x512.size a)
theorem k0_off115_inb : ∀ (i : grid0.Coords) (v6991 : BitVec 32) (k0_hw115 : k0_chk115 i v6991), ∀ (k0_h1 : k0_cond1 i = 1#1), ∀ a, (k0_off115 v6991) a + S1x1x512.size a ≤ S1x2048x512.size a := fun i v6991 k0_hw115 k0_h1 => k0_hw115 k0_h1

def k0_off116 (v6998 : BitVec 32) : Fin 3 → Nat :=
  let c0_4685 : Index := 0#32
  let v6999 : Index := Scalar.indexCast v6998
  let c0_4686 : Index := 0#32
  ![0, v6999.toNat, 0]

def k0_chk116 (i : grid0.Coords) (v6998 : BitVec 32) : Prop :=
  (∀ (k0_h1 : k0_cond1 i = 1#1), ∀ a, (k0_off116 v6998) a + S1x1x512.size a ≤ S1x2048x512.size a)
theorem k0_off116_inb : ∀ (i : grid0.Coords) (v6998 : BitVec 32) (k0_hw116 : k0_chk116 i v6998), ∀ (k0_h1 : k0_cond1 i = 1#1), ∀ a, (k0_off116 v6998) a + S1x1x512.size a ≤ S1x2048x512.size a := fun i v6998 k0_hw116 k0_h1 => k0_hw116 k0_h1

def k0_off117 (v7005 : BitVec 32) : Fin 3 → Nat :=
  let c0_4692 : Index := 0#32
  let v7006 : Index := Scalar.indexCast v7005
  let c0_4693 : Index := 0#32
  ![0, v7006.toNat, 0]

def k0_chk117 (i : grid0.Coords) (v7005 : BitVec 32) : Prop :=
  (∀ (k0_h1 : k0_cond1 i = 1#1), ∀ a, (k0_off117 v7005) a + S1x1x512.size a ≤ S1x2048x512.size a)
theorem k0_off117_inb : ∀ (i : grid0.Coords) (v7005 : BitVec 32) (k0_hw117 : k0_chk117 i v7005), ∀ (k0_h1 : k0_cond1 i = 1#1), ∀ a, (k0_off117 v7005) a + S1x1x512.size a ≤ S1x2048x512.size a := fun i v7005 k0_hw117 k0_h1 => k0_hw117 k0_h1

def k0_off118 (v7012 : BitVec 32) : Fin 3 → Nat :=
  let c0_4699 : Index := 0#32
  let v7013 : Index := Scalar.indexCast v7012
  let c0_4700 : Index := 0#32
  ![0, v7013.toNat, 0]

def k0_chk118 (i : grid0.Coords) (v7012 : BitVec 32) : Prop :=
  (∀ (k0_h1 : k0_cond1 i = 1#1), ∀ a, (k0_off118 v7012) a + S1x1x512.size a ≤ S1x2048x512.size a)
theorem k0_off118_inb : ∀ (i : grid0.Coords) (v7012 : BitVec 32) (k0_hw118 : k0_chk118 i v7012), ∀ (k0_h1 : k0_cond1 i = 1#1), ∀ a, (k0_off118 v7012) a + S1x1x512.size a ≤ S1x2048x512.size a := fun i v7012 k0_hw118 k0_h1 => k0_hw118 k0_h1

def k0_off119 (v7019 : BitVec 32) : Fin 3 → Nat :=
  let c0_4706 : Index := 0#32
  let v7020 : Index := Scalar.indexCast v7019
  let c0_4707 : Index := 0#32
  ![0, v7020.toNat, 0]

def k0_chk119 (i : grid0.Coords) (v7019 : BitVec 32) : Prop :=
  (∀ (k0_h1 : k0_cond1 i = 1#1), ∀ a, (k0_off119 v7019) a + S1x1x512.size a ≤ S1x2048x512.size a)
theorem k0_off119_inb : ∀ (i : grid0.Coords) (v7019 : BitVec 32) (k0_hw119 : k0_chk119 i v7019), ∀ (k0_h1 : k0_cond1 i = 1#1), ∀ a, (k0_off119 v7019) a + S1x1x512.size a ≤ S1x2048x512.size a := fun i v7019 k0_hw119 k0_h1 => k0_hw119 k0_h1

def k0_off120 (v7026 : BitVec 32) : Fin 3 → Nat :=
  let c0_4713 : Index := 0#32
  let v7027 : Index := Scalar.indexCast v7026
  let c0_4714 : Index := 0#32
  ![0, v7027.toNat, 0]

def k0_chk120 (i : grid0.Coords) (v7026 : BitVec 32) : Prop :=
  (∀ (k0_h1 : k0_cond1 i = 1#1), ∀ a, (k0_off120 v7026) a + S1x1x512.size a ≤ S1x2048x512.size a)
theorem k0_off120_inb : ∀ (i : grid0.Coords) (v7026 : BitVec 32) (k0_hw120 : k0_chk120 i v7026), ∀ (k0_h1 : k0_cond1 i = 1#1), ∀ a, (k0_off120 v7026) a + S1x1x512.size a ≤ S1x2048x512.size a := fun i v7026 k0_hw120 k0_h1 => k0_hw120 k0_h1

def k0_off121 (v7033 : BitVec 32) : Fin 3 → Nat :=
  let c0_4720 : Index := 0#32
  let v7034 : Index := Scalar.indexCast v7033
  let c0_4721 : Index := 0#32
  ![0, v7034.toNat, 0]

def k0_chk121 (i : grid0.Coords) (v7033 : BitVec 32) : Prop :=
  (∀ (k0_h1 : k0_cond1 i = 1#1), ∀ a, (k0_off121 v7033) a + S1x1x512.size a ≤ S1x2048x512.size a)
theorem k0_off121_inb : ∀ (i : grid0.Coords) (v7033 : BitVec 32) (k0_hw121 : k0_chk121 i v7033), ∀ (k0_h1 : k0_cond1 i = 1#1), ∀ a, (k0_off121 v7033) a + S1x1x512.size a ≤ S1x2048x512.size a := fun i v7033 k0_hw121 k0_h1 => k0_hw121 k0_h1

def k0_off122 (v7040 : BitVec 32) : Fin 3 → Nat :=
  let c0_4727 : Index := 0#32
  let v7041 : Index := Scalar.indexCast v7040
  let c0_4728 : Index := 0#32
  ![0, v7041.toNat, 0]

def k0_chk122 (i : grid0.Coords) (v7040 : BitVec 32) : Prop :=
  (∀ (k0_h1 : k0_cond1 i = 1#1), ∀ a, (k0_off122 v7040) a + S1x1x512.size a ≤ S1x2048x512.size a)
theorem k0_off122_inb : ∀ (i : grid0.Coords) (v7040 : BitVec 32) (k0_hw122 : k0_chk122 i v7040), ∀ (k0_h1 : k0_cond1 i = 1#1), ∀ a, (k0_off122 v7040) a + S1x1x512.size a ≤ S1x2048x512.size a := fun i v7040 k0_hw122 k0_h1 => k0_hw122 k0_h1

def k0_off123 (v7047 : BitVec 32) : Fin 3 → Nat :=
  let c0_4734 : Index := 0#32
  let v7048 : Index := Scalar.indexCast v7047
  let c0_4735 : Index := 0#32
  ![0, v7048.toNat, 0]

def k0_chk123 (i : grid0.Coords) (v7047 : BitVec 32) : Prop :=
  (∀ (k0_h1 : k0_cond1 i = 1#1), ∀ a, (k0_off123 v7047) a + S1x1x512.size a ≤ S1x2048x512.size a)
theorem k0_off123_inb : ∀ (i : grid0.Coords) (v7047 : BitVec 32) (k0_hw123 : k0_chk123 i v7047), ∀ (k0_h1 : k0_cond1 i = 1#1), ∀ a, (k0_off123 v7047) a + S1x1x512.size a ≤ S1x2048x512.size a := fun i v7047 k0_hw123 k0_h1 => k0_hw123 k0_h1

def k0_off124 (v7054 : BitVec 32) : Fin 3 → Nat :=
  let c0_4741 : Index := 0#32
  let v7055 : Index := Scalar.indexCast v7054
  let c0_4742 : Index := 0#32
  ![0, v7055.toNat, 0]

def k0_chk124 (i : grid0.Coords) (v7054 : BitVec 32) : Prop :=
  (∀ (k0_h1 : k0_cond1 i = 1#1), ∀ a, (k0_off124 v7054) a + S1x1x512.size a ≤ S1x2048x512.size a)
theorem k0_off124_inb : ∀ (i : grid0.Coords) (v7054 : BitVec 32) (k0_hw124 : k0_chk124 i v7054), ∀ (k0_h1 : k0_cond1 i = 1#1), ∀ a, (k0_off124 v7054) a + S1x1x512.size a ≤ S1x2048x512.size a := fun i v7054 k0_hw124 k0_h1 => k0_hw124 k0_h1

def k0_off125 (v7061 : BitVec 32) : Fin 3 → Nat :=
  let c0_4748 : Index := 0#32
  let v7062 : Index := Scalar.indexCast v7061
  let c0_4749 : Index := 0#32
  ![0, v7062.toNat, 0]

def k0_chk125 (i : grid0.Coords) (v7061 : BitVec 32) : Prop :=
  (∀ (k0_h1 : k0_cond1 i = 1#1), ∀ a, (k0_off125 v7061) a + S1x1x512.size a ≤ S1x2048x512.size a)
theorem k0_off125_inb : ∀ (i : grid0.Coords) (v7061 : BitVec 32) (k0_hw125 : k0_chk125 i v7061), ∀ (k0_h1 : k0_cond1 i = 1#1), ∀ a, (k0_off125 v7061) a + S1x1x512.size a ≤ S1x2048x512.size a := fun i v7061 k0_hw125 k0_h1 => k0_hw125 k0_h1

def k0_off126 (v7068 : BitVec 32) : Fin 3 → Nat :=
  let c0_4755 : Index := 0#32
  let v7069 : Index := Scalar.indexCast v7068
  let c0_4756 : Index := 0#32
  ![0, v7069.toNat, 0]

def k0_chk126 (i : grid0.Coords) (v7068 : BitVec 32) : Prop :=
  (∀ (k0_h1 : k0_cond1 i = 1#1), ∀ a, (k0_off126 v7068) a + S1x1x512.size a ≤ S1x2048x512.size a)
theorem k0_off126_inb : ∀ (i : grid0.Coords) (v7068 : BitVec 32) (k0_hw126 : k0_chk126 i v7068), ∀ (k0_h1 : k0_cond1 i = 1#1), ∀ a, (k0_off126 v7068) a + S1x1x512.size a ≤ S1x2048x512.size a := fun i v7068 k0_hw126 k0_h1 => k0_hw126 k0_h1

def k0_off127 (v7075 : BitVec 32) : Fin 3 → Nat :=
  let c0_4762 : Index := 0#32
  let v7076 : Index := Scalar.indexCast v7075
  let c0_4763 : Index := 0#32
  ![0, v7076.toNat, 0]

def k0_chk127 (i : grid0.Coords) (v7075 : BitVec 32) : Prop :=
  (∀ (k0_h1 : k0_cond1 i = 1#1), ∀ a, (k0_off127 v7075) a + S1x1x512.size a ≤ S1x2048x512.size a)
theorem k0_off127_inb : ∀ (i : grid0.Coords) (v7075 : BitVec 32) (k0_hw127 : k0_chk127 i v7075), ∀ (k0_h1 : k0_cond1 i = 1#1), ∀ a, (k0_off127 v7075) a + S1x1x512.size a ≤ S1x2048x512.size a := fun i v7075 k0_hw127 k0_h1 => k0_hw127 k0_h1

def k0_off128 (v7082 : BitVec 32) : Fin 3 → Nat :=
  let c0_4769 : Index := 0#32
  let v7083 : Index := Scalar.indexCast v7082
  let c0_4770 : Index := 0#32
  ![0, v7083.toNat, 0]

def k0_chk128 (i : grid0.Coords) (v7082 : BitVec 32) : Prop :=
  (∀ (k0_h1 : k0_cond1 i = 1#1), ∀ a, (k0_off128 v7082) a + S1x1x512.size a ≤ S1x2048x512.size a)
theorem k0_off128_inb : ∀ (i : grid0.Coords) (v7082 : BitVec 32) (k0_hw128 : k0_chk128 i v7082), ∀ (k0_h1 : k0_cond1 i = 1#1), ∀ a, (k0_off128 v7082) a + S1x1x512.size a ≤ S1x2048x512.size a := fun i v7082 k0_hw128 k0_h1 => k0_hw128 k0_h1

def k0_off129 (v7089 : BitVec 32) : Fin 3 → Nat :=
  let c0_4776 : Index := 0#32
  let v7090 : Index := Scalar.indexCast v7089
  let c0_4777 : Index := 0#32
  ![0, v7090.toNat, 0]

def k0_chk129 (i : grid0.Coords) (v7089 : BitVec 32) : Prop :=
  (∀ (k0_h1 : k0_cond1 i = 1#1), ∀ a, (k0_off129 v7089) a + S1x1x512.size a ≤ S1x2048x512.size a)
theorem k0_off129_inb : ∀ (i : grid0.Coords) (v7089 : BitVec 32) (k0_hw129 : k0_chk129 i v7089), ∀ (k0_h1 : k0_cond1 i = 1#1), ∀ a, (k0_off129 v7089) a + S1x1x512.size a ≤ S1x2048x512.size a := fun i v7089 k0_hw129 k0_h1 => k0_hw129 k0_h1

def k0_off130 (v7096 : BitVec 32) : Fin 3 → Nat :=
  let c0_4783 : Index := 0#32
  let v7097 : Index := Scalar.indexCast v7096
  let c0_4784 : Index := 0#32
  ![0, v7097.toNat, 0]

def k0_chk130 (i : grid0.Coords) (v7096 : BitVec 32) : Prop :=
  (∀ (k0_h1 : k0_cond1 i = 1#1), ∀ a, (k0_off130 v7096) a + S1x1x512.size a ≤ S1x2048x512.size a)
theorem k0_off130_inb : ∀ (i : grid0.Coords) (v7096 : BitVec 32) (k0_hw130 : k0_chk130 i v7096), ∀ (k0_h1 : k0_cond1 i = 1#1), ∀ a, (k0_off130 v7096) a + S1x1x512.size a ≤ S1x2048x512.size a := fun i v7096 k0_hw130 k0_h1 => k0_hw130 k0_h1

def k0_off131 (v7103 : BitVec 32) : Fin 3 → Nat :=
  let c0_4790 : Index := 0#32
  let v7104 : Index := Scalar.indexCast v7103
  let c0_4791 : Index := 0#32
  ![0, v7104.toNat, 0]

def k0_chk131 (i : grid0.Coords) (v7103 : BitVec 32) : Prop :=
  (∀ (k0_h1 : k0_cond1 i = 1#1), ∀ a, (k0_off131 v7103) a + S1x1x512.size a ≤ S1x2048x512.size a)
theorem k0_off131_inb : ∀ (i : grid0.Coords) (v7103 : BitVec 32) (k0_hw131 : k0_chk131 i v7103), ∀ (k0_h1 : k0_cond1 i = 1#1), ∀ a, (k0_off131 v7103) a + S1x1x512.size a ≤ S1x2048x512.size a := fun i v7103 k0_hw131 k0_h1 => k0_hw131 k0_h1

def k0_off132 (v7110 : BitVec 32) : Fin 3 → Nat :=
  let c0_4797 : Index := 0#32
  let v7111 : Index := Scalar.indexCast v7110
  let c0_4798 : Index := 0#32
  ![0, v7111.toNat, 0]

def k0_chk132 (i : grid0.Coords) (v7110 : BitVec 32) : Prop :=
  (∀ (k0_h1 : k0_cond1 i = 1#1), ∀ a, (k0_off132 v7110) a + S1x1x512.size a ≤ S1x2048x512.size a)
theorem k0_off132_inb : ∀ (i : grid0.Coords) (v7110 : BitVec 32) (k0_hw132 : k0_chk132 i v7110), ∀ (k0_h1 : k0_cond1 i = 1#1), ∀ a, (k0_off132 v7110) a + S1x1x512.size a ≤ S1x2048x512.size a := fun i v7110 k0_hw132 k0_h1 => k0_hw132 k0_h1

def k0_off133 (v7117 : BitVec 32) : Fin 3 → Nat :=
  let c0_4804 : Index := 0#32
  let v7118 : Index := Scalar.indexCast v7117
  let c0_4805 : Index := 0#32
  ![0, v7118.toNat, 0]

def k0_chk133 (i : grid0.Coords) (v7117 : BitVec 32) : Prop :=
  (∀ (k0_h1 : k0_cond1 i = 1#1), ∀ a, (k0_off133 v7117) a + S1x1x512.size a ≤ S1x2048x512.size a)
theorem k0_off133_inb : ∀ (i : grid0.Coords) (v7117 : BitVec 32) (k0_hw133 : k0_chk133 i v7117), ∀ (k0_h1 : k0_cond1 i = 1#1), ∀ a, (k0_off133 v7117) a + S1x1x512.size a ≤ S1x2048x512.size a := fun i v7117 k0_hw133 k0_h1 => k0_hw133 k0_h1

def k0_off134 (v7124 : BitVec 32) : Fin 3 → Nat :=
  let c0_4811 : Index := 0#32
  let v7125 : Index := Scalar.indexCast v7124
  let c0_4812 : Index := 0#32
  ![0, v7125.toNat, 0]

def k0_chk134 (i : grid0.Coords) (v7124 : BitVec 32) : Prop :=
  (∀ (k0_h1 : k0_cond1 i = 1#1), ∀ a, (k0_off134 v7124) a + S1x1x512.size a ≤ S1x2048x512.size a)
theorem k0_off134_inb : ∀ (i : grid0.Coords) (v7124 : BitVec 32) (k0_hw134 : k0_chk134 i v7124), ∀ (k0_h1 : k0_cond1 i = 1#1), ∀ a, (k0_off134 v7124) a + S1x1x512.size a ≤ S1x2048x512.size a := fun i v7124 k0_hw134 k0_h1 => k0_hw134 k0_h1

def k0_off135 (v7131 : BitVec 32) : Fin 3 → Nat :=
  let c0_4818 : Index := 0#32
  let v7132 : Index := Scalar.indexCast v7131
  let c0_4819 : Index := 0#32
  ![0, v7132.toNat, 0]

def k0_chk135 (i : grid0.Coords) (v7131 : BitVec 32) : Prop :=
  (∀ (k0_h1 : k0_cond1 i = 1#1), ∀ a, (k0_off135 v7131) a + S1x1x512.size a ≤ S1x2048x512.size a)
theorem k0_off135_inb : ∀ (i : grid0.Coords) (v7131 : BitVec 32) (k0_hw135 : k0_chk135 i v7131), ∀ (k0_h1 : k0_cond1 i = 1#1), ∀ a, (k0_off135 v7131) a + S1x1x512.size a ≤ S1x2048x512.size a := fun i v7131 k0_hw135 k0_h1 => k0_hw135 k0_h1

def k0_off136 (v7138 : BitVec 32) : Fin 3 → Nat :=
  let c0_4825 : Index := 0#32
  let v7139 : Index := Scalar.indexCast v7138
  let c0_4826 : Index := 0#32
  ![0, v7139.toNat, 0]

def k0_chk136 (i : grid0.Coords) (v7138 : BitVec 32) : Prop :=
  (∀ (k0_h1 : k0_cond1 i = 1#1), ∀ a, (k0_off136 v7138) a + S1x1x512.size a ≤ S1x2048x512.size a)
theorem k0_off136_inb : ∀ (i : grid0.Coords) (v7138 : BitVec 32) (k0_hw136 : k0_chk136 i v7138), ∀ (k0_h1 : k0_cond1 i = 1#1), ∀ a, (k0_off136 v7138) a + S1x1x512.size a ≤ S1x2048x512.size a := fun i v7138 k0_hw136 k0_h1 => k0_hw136 k0_h1

def k0_off137 (v7145 : BitVec 32) : Fin 3 → Nat :=
  let c0_4832 : Index := 0#32
  let v7146 : Index := Scalar.indexCast v7145
  let c0_4833 : Index := 0#32
  ![0, v7146.toNat, 0]

def k0_chk137 (i : grid0.Coords) (v7145 : BitVec 32) : Prop :=
  (∀ (k0_h1 : k0_cond1 i = 1#1), ∀ a, (k0_off137 v7145) a + S1x1x512.size a ≤ S1x2048x512.size a)
theorem k0_off137_inb : ∀ (i : grid0.Coords) (v7145 : BitVec 32) (k0_hw137 : k0_chk137 i v7145), ∀ (k0_h1 : k0_cond1 i = 1#1), ∀ a, (k0_off137 v7145) a + S1x1x512.size a ≤ S1x2048x512.size a := fun i v7145 k0_hw137 k0_h1 => k0_hw137 k0_h1

def k0_off138 (v7152 : BitVec 32) : Fin 3 → Nat :=
  let c0_4839 : Index := 0#32
  let v7153 : Index := Scalar.indexCast v7152
  let c0_4840 : Index := 0#32
  ![0, v7153.toNat, 0]

def k0_chk138 (i : grid0.Coords) (v7152 : BitVec 32) : Prop :=
  (∀ (k0_h1 : k0_cond1 i = 1#1), ∀ a, (k0_off138 v7152) a + S1x1x512.size a ≤ S1x2048x512.size a)
theorem k0_off138_inb : ∀ (i : grid0.Coords) (v7152 : BitVec 32) (k0_hw138 : k0_chk138 i v7152), ∀ (k0_h1 : k0_cond1 i = 1#1), ∀ a, (k0_off138 v7152) a + S1x1x512.size a ≤ S1x2048x512.size a := fun i v7152 k0_hw138 k0_h1 => k0_hw138 k0_h1

def k0_off139 (v7159 : BitVec 32) : Fin 3 → Nat :=
  let c0_4846 : Index := 0#32
  let v7160 : Index := Scalar.indexCast v7159
  let c0_4847 : Index := 0#32
  ![0, v7160.toNat, 0]

def k0_chk139 (i : grid0.Coords) (v7159 : BitVec 32) : Prop :=
  (∀ (k0_h1 : k0_cond1 i = 1#1), ∀ a, (k0_off139 v7159) a + S1x1x512.size a ≤ S1x2048x512.size a)
theorem k0_off139_inb : ∀ (i : grid0.Coords) (v7159 : BitVec 32) (k0_hw139 : k0_chk139 i v7159), ∀ (k0_h1 : k0_cond1 i = 1#1), ∀ a, (k0_off139 v7159) a + S1x1x512.size a ≤ S1x2048x512.size a := fun i v7159 k0_hw139 k0_h1 => k0_hw139 k0_h1

def k0_off140 (v7166 : BitVec 32) : Fin 3 → Nat :=
  let c0_4853 : Index := 0#32
  let v7167 : Index := Scalar.indexCast v7166
  let c0_4854 : Index := 0#32
  ![0, v7167.toNat, 0]

def k0_chk140 (i : grid0.Coords) (v7166 : BitVec 32) : Prop :=
  (∀ (k0_h1 : k0_cond1 i = 1#1), ∀ a, (k0_off140 v7166) a + S1x1x512.size a ≤ S1x2048x512.size a)
theorem k0_off140_inb : ∀ (i : grid0.Coords) (v7166 : BitVec 32) (k0_hw140 : k0_chk140 i v7166), ∀ (k0_h1 : k0_cond1 i = 1#1), ∀ a, (k0_off140 v7166) a + S1x1x512.size a ≤ S1x2048x512.size a := fun i v7166 k0_hw140 k0_h1 => k0_hw140 k0_h1

def k0_off141 (v7173 : BitVec 32) : Fin 3 → Nat :=
  let c0_4860 : Index := 0#32
  let v7174 : Index := Scalar.indexCast v7173
  let c0_4861 : Index := 0#32
  ![0, v7174.toNat, 0]

def k0_chk141 (i : grid0.Coords) (v7173 : BitVec 32) : Prop :=
  (∀ (k0_h1 : k0_cond1 i = 1#1), ∀ a, (k0_off141 v7173) a + S1x1x512.size a ≤ S1x2048x512.size a)
theorem k0_off141_inb : ∀ (i : grid0.Coords) (v7173 : BitVec 32) (k0_hw141 : k0_chk141 i v7173), ∀ (k0_h1 : k0_cond1 i = 1#1), ∀ a, (k0_off141 v7173) a + S1x1x512.size a ≤ S1x2048x512.size a := fun i v7173 k0_hw141 k0_h1 => k0_hw141 k0_h1

def k0_off142 (v7180 : BitVec 32) : Fin 3 → Nat :=
  let c0_4867 : Index := 0#32
  let v7181 : Index := Scalar.indexCast v7180
  let c0_4868 : Index := 0#32
  ![0, v7181.toNat, 0]

def k0_chk142 (i : grid0.Coords) (v7180 : BitVec 32) : Prop :=
  (∀ (k0_h1 : k0_cond1 i = 1#1), ∀ a, (k0_off142 v7180) a + S1x1x512.size a ≤ S1x2048x512.size a)
theorem k0_off142_inb : ∀ (i : grid0.Coords) (v7180 : BitVec 32) (k0_hw142 : k0_chk142 i v7180), ∀ (k0_h1 : k0_cond1 i = 1#1), ∀ a, (k0_off142 v7180) a + S1x1x512.size a ≤ S1x2048x512.size a := fun i v7180 k0_hw142 k0_h1 => k0_hw142 k0_h1

def k0_off143 (v7187 : BitVec 32) : Fin 3 → Nat :=
  let c0_4874 : Index := 0#32
  let v7188 : Index := Scalar.indexCast v7187
  let c0_4875 : Index := 0#32
  ![0, v7188.toNat, 0]

def k0_chk143 (i : grid0.Coords) (v7187 : BitVec 32) : Prop :=
  (∀ (k0_h1 : k0_cond1 i = 1#1), ∀ a, (k0_off143 v7187) a + S1x1x512.size a ≤ S1x2048x512.size a)
theorem k0_off143_inb : ∀ (i : grid0.Coords) (v7187 : BitVec 32) (k0_hw143 : k0_chk143 i v7187), ∀ (k0_h1 : k0_cond1 i = 1#1), ∀ a, (k0_off143 v7187) a + S1x1x512.size a ≤ S1x2048x512.size a := fun i v7187 k0_hw143 k0_h1 => k0_hw143 k0_h1

def k0_off144 (v7194 : BitVec 32) : Fin 3 → Nat :=
  let c0_4881 : Index := 0#32
  let v7195 : Index := Scalar.indexCast v7194
  let c0_4882 : Index := 0#32
  ![0, v7195.toNat, 0]

def k0_chk144 (i : grid0.Coords) (v7194 : BitVec 32) : Prop :=
  (∀ (k0_h1 : k0_cond1 i = 1#1), ∀ a, (k0_off144 v7194) a + S1x1x512.size a ≤ S1x2048x512.size a)
theorem k0_off144_inb : ∀ (i : grid0.Coords) (v7194 : BitVec 32) (k0_hw144 : k0_chk144 i v7194), ∀ (k0_h1 : k0_cond1 i = 1#1), ∀ a, (k0_off144 v7194) a + S1x1x512.size a ≤ S1x2048x512.size a := fun i v7194 k0_hw144 k0_h1 => k0_hw144 k0_h1

def k0_off145 (v7201 : BitVec 32) : Fin 3 → Nat :=
  let c0_4888 : Index := 0#32
  let v7202 : Index := Scalar.indexCast v7201
  let c0_4889 : Index := 0#32
  ![0, v7202.toNat, 0]

def k0_chk145 (i : grid0.Coords) (v7201 : BitVec 32) : Prop :=
  (∀ (k0_h1 : k0_cond1 i = 1#1), ∀ a, (k0_off145 v7201) a + S1x1x512.size a ≤ S1x2048x512.size a)
theorem k0_off145_inb : ∀ (i : grid0.Coords) (v7201 : BitVec 32) (k0_hw145 : k0_chk145 i v7201), ∀ (k0_h1 : k0_cond1 i = 1#1), ∀ a, (k0_off145 v7201) a + S1x1x512.size a ≤ S1x2048x512.size a := fun i v7201 k0_hw145 k0_h1 => k0_hw145 k0_h1

def k0_off146 (v7208 : BitVec 32) : Fin 3 → Nat :=
  let c0_4895 : Index := 0#32
  let v7209 : Index := Scalar.indexCast v7208
  let c0_4896 : Index := 0#32
  ![0, v7209.toNat, 0]

def k0_chk146 (i : grid0.Coords) (v7208 : BitVec 32) : Prop :=
  (∀ (k0_h1 : k0_cond1 i = 1#1), ∀ a, (k0_off146 v7208) a + S1x1x512.size a ≤ S1x2048x512.size a)
theorem k0_off146_inb : ∀ (i : grid0.Coords) (v7208 : BitVec 32) (k0_hw146 : k0_chk146 i v7208), ∀ (k0_h1 : k0_cond1 i = 1#1), ∀ a, (k0_off146 v7208) a + S1x1x512.size a ≤ S1x2048x512.size a := fun i v7208 k0_hw146 k0_h1 => k0_hw146 k0_h1

def k0_off147 (v7215 : BitVec 32) : Fin 3 → Nat :=
  let c0_4902 : Index := 0#32
  let v7216 : Index := Scalar.indexCast v7215
  let c0_4903 : Index := 0#32
  ![0, v7216.toNat, 0]

def k0_chk147 (i : grid0.Coords) (v7215 : BitVec 32) : Prop :=
  (∀ (k0_h1 : k0_cond1 i = 1#1), ∀ a, (k0_off147 v7215) a + S1x1x512.size a ≤ S1x2048x512.size a)
theorem k0_off147_inb : ∀ (i : grid0.Coords) (v7215 : BitVec 32) (k0_hw147 : k0_chk147 i v7215), ∀ (k0_h1 : k0_cond1 i = 1#1), ∀ a, (k0_off147 v7215) a + S1x1x512.size a ≤ S1x2048x512.size a := fun i v7215 k0_hw147 k0_h1 => k0_hw147 k0_h1

def k0_off148 (v7222 : BitVec 32) : Fin 3 → Nat :=
  let c0_4909 : Index := 0#32
  let v7223 : Index := Scalar.indexCast v7222
  let c0_4910 : Index := 0#32
  ![0, v7223.toNat, 0]

def k0_chk148 (i : grid0.Coords) (v7222 : BitVec 32) : Prop :=
  (∀ (k0_h1 : k0_cond1 i = 1#1), ∀ a, (k0_off148 v7222) a + S1x1x512.size a ≤ S1x2048x512.size a)
theorem k0_off148_inb : ∀ (i : grid0.Coords) (v7222 : BitVec 32) (k0_hw148 : k0_chk148 i v7222), ∀ (k0_h1 : k0_cond1 i = 1#1), ∀ a, (k0_off148 v7222) a + S1x1x512.size a ≤ S1x2048x512.size a := fun i v7222 k0_hw148 k0_h1 => k0_hw148 k0_h1

def k0_off149 (v7229 : BitVec 32) : Fin 3 → Nat :=
  let c0_4916 : Index := 0#32
  let v7230 : Index := Scalar.indexCast v7229
  let c0_4917 : Index := 0#32
  ![0, v7230.toNat, 0]

def k0_chk149 (i : grid0.Coords) (v7229 : BitVec 32) : Prop :=
  (∀ (k0_h1 : k0_cond1 i = 1#1), ∀ a, (k0_off149 v7229) a + S1x1x512.size a ≤ S1x2048x512.size a)
theorem k0_off149_inb : ∀ (i : grid0.Coords) (v7229 : BitVec 32) (k0_hw149 : k0_chk149 i v7229), ∀ (k0_h1 : k0_cond1 i = 1#1), ∀ a, (k0_off149 v7229) a + S1x1x512.size a ≤ S1x2048x512.size a := fun i v7229 k0_hw149 k0_h1 => k0_hw149 k0_h1

def k0_off150 (v7236 : BitVec 32) : Fin 3 → Nat :=
  let c0_4923 : Index := 0#32
  let v7237 : Index := Scalar.indexCast v7236
  let c0_4924 : Index := 0#32
  ![0, v7237.toNat, 0]

def k0_chk150 (i : grid0.Coords) (v7236 : BitVec 32) : Prop :=
  (∀ (k0_h1 : k0_cond1 i = 1#1), ∀ a, (k0_off150 v7236) a + S1x1x512.size a ≤ S1x2048x512.size a)
theorem k0_off150_inb : ∀ (i : grid0.Coords) (v7236 : BitVec 32) (k0_hw150 : k0_chk150 i v7236), ∀ (k0_h1 : k0_cond1 i = 1#1), ∀ a, (k0_off150 v7236) a + S1x1x512.size a ≤ S1x2048x512.size a := fun i v7236 k0_hw150 k0_h1 => k0_hw150 k0_h1

def k0_off151 (v7243 : BitVec 32) : Fin 3 → Nat :=
  let c0_4930 : Index := 0#32
  let v7244 : Index := Scalar.indexCast v7243
  let c0_4931 : Index := 0#32
  ![0, v7244.toNat, 0]

def k0_chk151 (i : grid0.Coords) (v7243 : BitVec 32) : Prop :=
  (∀ (k0_h1 : k0_cond1 i = 1#1), ∀ a, (k0_off151 v7243) a + S1x1x512.size a ≤ S1x2048x512.size a)
theorem k0_off151_inb : ∀ (i : grid0.Coords) (v7243 : BitVec 32) (k0_hw151 : k0_chk151 i v7243), ∀ (k0_h1 : k0_cond1 i = 1#1), ∀ a, (k0_off151 v7243) a + S1x1x512.size a ≤ S1x2048x512.size a := fun i v7243 k0_hw151 k0_h1 => k0_hw151 k0_h1

def k0_off152 (v7250 : BitVec 32) : Fin 3 → Nat :=
  let c0_4937 : Index := 0#32
  let v7251 : Index := Scalar.indexCast v7250
  let c0_4938 : Index := 0#32
  ![0, v7251.toNat, 0]

def k0_chk152 (i : grid0.Coords) (v7250 : BitVec 32) : Prop :=
  (∀ (k0_h1 : k0_cond1 i = 1#1), ∀ a, (k0_off152 v7250) a + S1x1x512.size a ≤ S1x2048x512.size a)
theorem k0_off152_inb : ∀ (i : grid0.Coords) (v7250 : BitVec 32) (k0_hw152 : k0_chk152 i v7250), ∀ (k0_h1 : k0_cond1 i = 1#1), ∀ a, (k0_off152 v7250) a + S1x1x512.size a ≤ S1x2048x512.size a := fun i v7250 k0_hw152 k0_h1 => k0_hw152 k0_h1

def k0_off153 (v7257 : BitVec 32) : Fin 3 → Nat :=
  let c0_4944 : Index := 0#32
  let v7258 : Index := Scalar.indexCast v7257
  let c0_4945 : Index := 0#32
  ![0, v7258.toNat, 0]

def k0_chk153 (i : grid0.Coords) (v7257 : BitVec 32) : Prop :=
  (∀ (k0_h1 : k0_cond1 i = 1#1), ∀ a, (k0_off153 v7257) a + S1x1x512.size a ≤ S1x2048x512.size a)
theorem k0_off153_inb : ∀ (i : grid0.Coords) (v7257 : BitVec 32) (k0_hw153 : k0_chk153 i v7257), ∀ (k0_h1 : k0_cond1 i = 1#1), ∀ a, (k0_off153 v7257) a + S1x1x512.size a ≤ S1x2048x512.size a := fun i v7257 k0_hw153 k0_h1 => k0_hw153 k0_h1

def k0_off154 (v7264 : BitVec 32) : Fin 3 → Nat :=
  let c0_4951 : Index := 0#32
  let v7265 : Index := Scalar.indexCast v7264
  let c0_4952 : Index := 0#32
  ![0, v7265.toNat, 0]

def k0_chk154 (i : grid0.Coords) (v7264 : BitVec 32) : Prop :=
  (∀ (k0_h1 : k0_cond1 i = 1#1), ∀ a, (k0_off154 v7264) a + S1x1x512.size a ≤ S1x2048x512.size a)
theorem k0_off154_inb : ∀ (i : grid0.Coords) (v7264 : BitVec 32) (k0_hw154 : k0_chk154 i v7264), ∀ (k0_h1 : k0_cond1 i = 1#1), ∀ a, (k0_off154 v7264) a + S1x1x512.size a ≤ S1x2048x512.size a := fun i v7264 k0_hw154 k0_h1 => k0_hw154 k0_h1

def k0_off155 (v7271 : BitVec 32) : Fin 3 → Nat :=
  let c0_4958 : Index := 0#32
  let v7272 : Index := Scalar.indexCast v7271
  let c0_4959 : Index := 0#32
  ![0, v7272.toNat, 0]

def k0_chk155 (i : grid0.Coords) (v7271 : BitVec 32) : Prop :=
  (∀ (k0_h1 : k0_cond1 i = 1#1), ∀ a, (k0_off155 v7271) a + S1x1x512.size a ≤ S1x2048x512.size a)
theorem k0_off155_inb : ∀ (i : grid0.Coords) (v7271 : BitVec 32) (k0_hw155 : k0_chk155 i v7271), ∀ (k0_h1 : k0_cond1 i = 1#1), ∀ a, (k0_off155 v7271) a + S1x1x512.size a ≤ S1x2048x512.size a := fun i v7271 k0_hw155 k0_h1 => k0_hw155 k0_h1

def k0_off156 (v7278 : BitVec 32) : Fin 3 → Nat :=
  let c0_4965 : Index := 0#32
  let v7279 : Index := Scalar.indexCast v7278
  let c0_4966 : Index := 0#32
  ![0, v7279.toNat, 0]

def k0_chk156 (i : grid0.Coords) (v7278 : BitVec 32) : Prop :=
  (∀ (k0_h1 : k0_cond1 i = 1#1), ∀ a, (k0_off156 v7278) a + S1x1x512.size a ≤ S1x2048x512.size a)
theorem k0_off156_inb : ∀ (i : grid0.Coords) (v7278 : BitVec 32) (k0_hw156 : k0_chk156 i v7278), ∀ (k0_h1 : k0_cond1 i = 1#1), ∀ a, (k0_off156 v7278) a + S1x1x512.size a ≤ S1x2048x512.size a := fun i v7278 k0_hw156 k0_h1 => k0_hw156 k0_h1

def k0_off157 (v7285 : BitVec 32) : Fin 3 → Nat :=
  let c0_4972 : Index := 0#32
  let v7286 : Index := Scalar.indexCast v7285
  let c0_4973 : Index := 0#32
  ![0, v7286.toNat, 0]

def k0_chk157 (i : grid0.Coords) (v7285 : BitVec 32) : Prop :=
  (∀ (k0_h1 : k0_cond1 i = 1#1), ∀ a, (k0_off157 v7285) a + S1x1x512.size a ≤ S1x2048x512.size a)
theorem k0_off157_inb : ∀ (i : grid0.Coords) (v7285 : BitVec 32) (k0_hw157 : k0_chk157 i v7285), ∀ (k0_h1 : k0_cond1 i = 1#1), ∀ a, (k0_off157 v7285) a + S1x1x512.size a ≤ S1x2048x512.size a := fun i v7285 k0_hw157 k0_h1 => k0_hw157 k0_h1

def k0_off158 (v7292 : BitVec 32) : Fin 3 → Nat :=
  let c0_4979 : Index := 0#32
  let v7293 : Index := Scalar.indexCast v7292
  let c0_4980 : Index := 0#32
  ![0, v7293.toNat, 0]

def k0_chk158 (i : grid0.Coords) (v7292 : BitVec 32) : Prop :=
  (∀ (k0_h1 : k0_cond1 i = 1#1), ∀ a, (k0_off158 v7292) a + S1x1x512.size a ≤ S1x2048x512.size a)
theorem k0_off158_inb : ∀ (i : grid0.Coords) (v7292 : BitVec 32) (k0_hw158 : k0_chk158 i v7292), ∀ (k0_h1 : k0_cond1 i = 1#1), ∀ a, (k0_off158 v7292) a + S1x1x512.size a ≤ S1x2048x512.size a := fun i v7292 k0_hw158 k0_h1 => k0_hw158 k0_h1

def k0_off159 (v7299 : BitVec 32) : Fin 3 → Nat :=
  let c0_4986 : Index := 0#32
  let v7300 : Index := Scalar.indexCast v7299
  let c0_4987 : Index := 0#32
  ![0, v7300.toNat, 0]

def k0_chk159 (i : grid0.Coords) (v7299 : BitVec 32) : Prop :=
  (∀ (k0_h1 : k0_cond1 i = 1#1), ∀ a, (k0_off159 v7299) a + S1x1x512.size a ≤ S1x2048x512.size a)
theorem k0_off159_inb : ∀ (i : grid0.Coords) (v7299 : BitVec 32) (k0_hw159 : k0_chk159 i v7299), ∀ (k0_h1 : k0_cond1 i = 1#1), ∀ a, (k0_off159 v7299) a + S1x1x512.size a ≤ S1x2048x512.size a := fun i v7299 k0_hw159 k0_h1 => k0_hw159 k0_h1

def k0_off160 (v7306 : BitVec 32) : Fin 3 → Nat :=
  let c0_4993 : Index := 0#32
  let v7307 : Index := Scalar.indexCast v7306
  let c0_4994 : Index := 0#32
  ![0, v7307.toNat, 0]

def k0_chk160 (i : grid0.Coords) (v7306 : BitVec 32) : Prop :=
  (∀ (k0_h1 : k0_cond1 i = 1#1), ∀ a, (k0_off160 v7306) a + S1x1x512.size a ≤ S1x2048x512.size a)
theorem k0_off160_inb : ∀ (i : grid0.Coords) (v7306 : BitVec 32) (k0_hw160 : k0_chk160 i v7306), ∀ (k0_h1 : k0_cond1 i = 1#1), ∀ a, (k0_off160 v7306) a + S1x1x512.size a ≤ S1x2048x512.size a := fun i v7306 k0_hw160 k0_h1 => k0_hw160 k0_h1

def k0_off161 (v7313 : BitVec 32) : Fin 3 → Nat :=
  let c0_5000 : Index := 0#32
  let v7314 : Index := Scalar.indexCast v7313
  let c0_5001 : Index := 0#32
  ![0, v7314.toNat, 0]

def k0_chk161 (i : grid0.Coords) (v7313 : BitVec 32) : Prop :=
  (∀ (k0_h1 : k0_cond1 i = 1#1), ∀ a, (k0_off161 v7313) a + S1x1x512.size a ≤ S1x2048x512.size a)
theorem k0_off161_inb : ∀ (i : grid0.Coords) (v7313 : BitVec 32) (k0_hw161 : k0_chk161 i v7313), ∀ (k0_h1 : k0_cond1 i = 1#1), ∀ a, (k0_off161 v7313) a + S1x1x512.size a ≤ S1x2048x512.size a := fun i v7313 k0_hw161 k0_h1 => k0_hw161 k0_h1

def k0_off162 (v7320 : BitVec 32) : Fin 3 → Nat :=
  let c0_5007 : Index := 0#32
  let v7321 : Index := Scalar.indexCast v7320
  let c0_5008 : Index := 0#32
  ![0, v7321.toNat, 0]

def k0_chk162 (i : grid0.Coords) (v7320 : BitVec 32) : Prop :=
  (∀ (k0_h1 : k0_cond1 i = 1#1), ∀ a, (k0_off162 v7320) a + S1x1x512.size a ≤ S1x2048x512.size a)
theorem k0_off162_inb : ∀ (i : grid0.Coords) (v7320 : BitVec 32) (k0_hw162 : k0_chk162 i v7320), ∀ (k0_h1 : k0_cond1 i = 1#1), ∀ a, (k0_off162 v7320) a + S1x1x512.size a ≤ S1x2048x512.size a := fun i v7320 k0_hw162 k0_h1 => k0_hw162 k0_h1

def k0_off163 (v7327 : BitVec 32) : Fin 3 → Nat :=
  let c0_5014 : Index := 0#32
  let v7328 : Index := Scalar.indexCast v7327
  let c0_5015 : Index := 0#32
  ![0, v7328.toNat, 0]

def k0_chk163 (i : grid0.Coords) (v7327 : BitVec 32) : Prop :=
  (∀ (k0_h1 : k0_cond1 i = 1#1), ∀ a, (k0_off163 v7327) a + S1x1x512.size a ≤ S1x2048x512.size a)
theorem k0_off163_inb : ∀ (i : grid0.Coords) (v7327 : BitVec 32) (k0_hw163 : k0_chk163 i v7327), ∀ (k0_h1 : k0_cond1 i = 1#1), ∀ a, (k0_off163 v7327) a + S1x1x512.size a ≤ S1x2048x512.size a := fun i v7327 k0_hw163 k0_h1 => k0_hw163 k0_h1

def k0_off164 (v7334 : BitVec 32) : Fin 3 → Nat :=
  let c0_5021 : Index := 0#32
  let v7335 : Index := Scalar.indexCast v7334
  let c0_5022 : Index := 0#32
  ![0, v7335.toNat, 0]

def k0_chk164 (i : grid0.Coords) (v7334 : BitVec 32) : Prop :=
  (∀ (k0_h1 : k0_cond1 i = 1#1), ∀ a, (k0_off164 v7334) a + S1x1x512.size a ≤ S1x2048x512.size a)
theorem k0_off164_inb : ∀ (i : grid0.Coords) (v7334 : BitVec 32) (k0_hw164 : k0_chk164 i v7334), ∀ (k0_h1 : k0_cond1 i = 1#1), ∀ a, (k0_off164 v7334) a + S1x1x512.size a ≤ S1x2048x512.size a := fun i v7334 k0_hw164 k0_h1 => k0_hw164 k0_h1

def k0_off165 (v7341 : BitVec 32) : Fin 3 → Nat :=
  let c0_5028 : Index := 0#32
  let v7342 : Index := Scalar.indexCast v7341
  let c0_5029 : Index := 0#32
  ![0, v7342.toNat, 0]

def k0_chk165 (i : grid0.Coords) (v7341 : BitVec 32) : Prop :=
  (∀ (k0_h1 : k0_cond1 i = 1#1), ∀ a, (k0_off165 v7341) a + S1x1x512.size a ≤ S1x2048x512.size a)
theorem k0_off165_inb : ∀ (i : grid0.Coords) (v7341 : BitVec 32) (k0_hw165 : k0_chk165 i v7341), ∀ (k0_h1 : k0_cond1 i = 1#1), ∀ a, (k0_off165 v7341) a + S1x1x512.size a ≤ S1x2048x512.size a := fun i v7341 k0_hw165 k0_h1 => k0_hw165 k0_h1

def k0_off166 (v7348 : BitVec 32) : Fin 3 → Nat :=
  let c0_5035 : Index := 0#32
  let v7349 : Index := Scalar.indexCast v7348
  let c0_5036 : Index := 0#32
  ![0, v7349.toNat, 0]

def k0_chk166 (i : grid0.Coords) (v7348 : BitVec 32) : Prop :=
  (∀ (k0_h1 : k0_cond1 i = 1#1), ∀ a, (k0_off166 v7348) a + S1x1x512.size a ≤ S1x2048x512.size a)
theorem k0_off166_inb : ∀ (i : grid0.Coords) (v7348 : BitVec 32) (k0_hw166 : k0_chk166 i v7348), ∀ (k0_h1 : k0_cond1 i = 1#1), ∀ a, (k0_off166 v7348) a + S1x1x512.size a ≤ S1x2048x512.size a := fun i v7348 k0_hw166 k0_h1 => k0_hw166 k0_h1

def k0_off167 (v7355 : BitVec 32) : Fin 3 → Nat :=
  let c0_5042 : Index := 0#32
  let v7356 : Index := Scalar.indexCast v7355
  let c0_5043 : Index := 0#32
  ![0, v7356.toNat, 0]

def k0_chk167 (i : grid0.Coords) (v7355 : BitVec 32) : Prop :=
  (∀ (k0_h1 : k0_cond1 i = 1#1), ∀ a, (k0_off167 v7355) a + S1x1x512.size a ≤ S1x2048x512.size a)
theorem k0_off167_inb : ∀ (i : grid0.Coords) (v7355 : BitVec 32) (k0_hw167 : k0_chk167 i v7355), ∀ (k0_h1 : k0_cond1 i = 1#1), ∀ a, (k0_off167 v7355) a + S1x1x512.size a ≤ S1x2048x512.size a := fun i v7355 k0_hw167 k0_h1 => k0_hw167 k0_h1

def k0_off168 (v7362 : BitVec 32) : Fin 3 → Nat :=
  let c0_5049 : Index := 0#32
  let v7363 : Index := Scalar.indexCast v7362
  let c0_5050 : Index := 0#32
  ![0, v7363.toNat, 0]

def k0_chk168 (i : grid0.Coords) (v7362 : BitVec 32) : Prop :=
  (∀ (k0_h1 : k0_cond1 i = 1#1), ∀ a, (k0_off168 v7362) a + S1x1x512.size a ≤ S1x2048x512.size a)
theorem k0_off168_inb : ∀ (i : grid0.Coords) (v7362 : BitVec 32) (k0_hw168 : k0_chk168 i v7362), ∀ (k0_h1 : k0_cond1 i = 1#1), ∀ a, (k0_off168 v7362) a + S1x1x512.size a ≤ S1x2048x512.size a := fun i v7362 k0_hw168 k0_h1 => k0_hw168 k0_h1

def k0_off169 (v7369 : BitVec 32) : Fin 3 → Nat :=
  let c0_5056 : Index := 0#32
  let v7370 : Index := Scalar.indexCast v7369
  let c0_5057 : Index := 0#32
  ![0, v7370.toNat, 0]

def k0_chk169 (i : grid0.Coords) (v7369 : BitVec 32) : Prop :=
  (∀ (k0_h1 : k0_cond1 i = 1#1), ∀ a, (k0_off169 v7369) a + S1x1x512.size a ≤ S1x2048x512.size a)
theorem k0_off169_inb : ∀ (i : grid0.Coords) (v7369 : BitVec 32) (k0_hw169 : k0_chk169 i v7369), ∀ (k0_h1 : k0_cond1 i = 1#1), ∀ a, (k0_off169 v7369) a + S1x1x512.size a ≤ S1x2048x512.size a := fun i v7369 k0_hw169 k0_h1 => k0_hw169 k0_h1

def k0_off170 (v7376 : BitVec 32) : Fin 3 → Nat :=
  let c0_5063 : Index := 0#32
  let v7377 : Index := Scalar.indexCast v7376
  let c0_5064 : Index := 0#32
  ![0, v7377.toNat, 0]

def k0_chk170 (i : grid0.Coords) (v7376 : BitVec 32) : Prop :=
  (∀ (k0_h1 : k0_cond1 i = 1#1), ∀ a, (k0_off170 v7376) a + S1x1x512.size a ≤ S1x2048x512.size a)
theorem k0_off170_inb : ∀ (i : grid0.Coords) (v7376 : BitVec 32) (k0_hw170 : k0_chk170 i v7376), ∀ (k0_h1 : k0_cond1 i = 1#1), ∀ a, (k0_off170 v7376) a + S1x1x512.size a ≤ S1x2048x512.size a := fun i v7376 k0_hw170 k0_h1 => k0_hw170 k0_h1

def k0_off171 (v7383 : BitVec 32) : Fin 3 → Nat :=
  let c0_5070 : Index := 0#32
  let v7384 : Index := Scalar.indexCast v7383
  let c0_5071 : Index := 0#32
  ![0, v7384.toNat, 0]

def k0_chk171 (i : grid0.Coords) (v7383 : BitVec 32) : Prop :=
  (∀ (k0_h1 : k0_cond1 i = 1#1), ∀ a, (k0_off171 v7383) a + S1x1x512.size a ≤ S1x2048x512.size a)
theorem k0_off171_inb : ∀ (i : grid0.Coords) (v7383 : BitVec 32) (k0_hw171 : k0_chk171 i v7383), ∀ (k0_h1 : k0_cond1 i = 1#1), ∀ a, (k0_off171 v7383) a + S1x1x512.size a ≤ S1x2048x512.size a := fun i v7383 k0_hw171 k0_h1 => k0_hw171 k0_h1

def k0_off172 (v7390 : BitVec 32) : Fin 3 → Nat :=
  let c0_5077 : Index := 0#32
  let v7391 : Index := Scalar.indexCast v7390
  let c0_5078 : Index := 0#32
  ![0, v7391.toNat, 0]

def k0_chk172 (i : grid0.Coords) (v7390 : BitVec 32) : Prop :=
  (∀ (k0_h1 : k0_cond1 i = 1#1), ∀ a, (k0_off172 v7390) a + S1x1x512.size a ≤ S1x2048x512.size a)
theorem k0_off172_inb : ∀ (i : grid0.Coords) (v7390 : BitVec 32) (k0_hw172 : k0_chk172 i v7390), ∀ (k0_h1 : k0_cond1 i = 1#1), ∀ a, (k0_off172 v7390) a + S1x1x512.size a ≤ S1x2048x512.size a := fun i v7390 k0_hw172 k0_h1 => k0_hw172 k0_h1

def k0_off173 (v7397 : BitVec 32) : Fin 3 → Nat :=
  let c0_5084 : Index := 0#32
  let v7398 : Index := Scalar.indexCast v7397
  let c0_5085 : Index := 0#32
  ![0, v7398.toNat, 0]

def k0_chk173 (i : grid0.Coords) (v7397 : BitVec 32) : Prop :=
  (∀ (k0_h1 : k0_cond1 i = 1#1), ∀ a, (k0_off173 v7397) a + S1x1x512.size a ≤ S1x2048x512.size a)
theorem k0_off173_inb : ∀ (i : grid0.Coords) (v7397 : BitVec 32) (k0_hw173 : k0_chk173 i v7397), ∀ (k0_h1 : k0_cond1 i = 1#1), ∀ a, (k0_off173 v7397) a + S1x1x512.size a ≤ S1x2048x512.size a := fun i v7397 k0_hw173 k0_h1 => k0_hw173 k0_h1

def k0_off174 (v7404 : BitVec 32) : Fin 3 → Nat :=
  let c0_5091 : Index := 0#32
  let v7405 : Index := Scalar.indexCast v7404
  let c0_5092 : Index := 0#32
  ![0, v7405.toNat, 0]

def k0_chk174 (i : grid0.Coords) (v7404 : BitVec 32) : Prop :=
  (∀ (k0_h1 : k0_cond1 i = 1#1), ∀ a, (k0_off174 v7404) a + S1x1x512.size a ≤ S1x2048x512.size a)
theorem k0_off174_inb : ∀ (i : grid0.Coords) (v7404 : BitVec 32) (k0_hw174 : k0_chk174 i v7404), ∀ (k0_h1 : k0_cond1 i = 1#1), ∀ a, (k0_off174 v7404) a + S1x1x512.size a ≤ S1x2048x512.size a := fun i v7404 k0_hw174 k0_h1 => k0_hw174 k0_h1

def k0_off175 (v7411 : BitVec 32) : Fin 3 → Nat :=
  let c0_5098 : Index := 0#32
  let v7412 : Index := Scalar.indexCast v7411
  let c0_5099 : Index := 0#32
  ![0, v7412.toNat, 0]

def k0_chk175 (i : grid0.Coords) (v7411 : BitVec 32) : Prop :=
  (∀ (k0_h1 : k0_cond1 i = 1#1), ∀ a, (k0_off175 v7411) a + S1x1x512.size a ≤ S1x2048x512.size a)
theorem k0_off175_inb : ∀ (i : grid0.Coords) (v7411 : BitVec 32) (k0_hw175 : k0_chk175 i v7411), ∀ (k0_h1 : k0_cond1 i = 1#1), ∀ a, (k0_off175 v7411) a + S1x1x512.size a ≤ S1x2048x512.size a := fun i v7411 k0_hw175 k0_h1 => k0_hw175 k0_h1

def k0_off176 (v7418 : BitVec 32) : Fin 3 → Nat :=
  let c0_5105 : Index := 0#32
  let v7419 : Index := Scalar.indexCast v7418
  let c0_5106 : Index := 0#32
  ![0, v7419.toNat, 0]

def k0_chk176 (i : grid0.Coords) (v7418 : BitVec 32) : Prop :=
  (∀ (k0_h1 : k0_cond1 i = 1#1), ∀ a, (k0_off176 v7418) a + S1x1x512.size a ≤ S1x2048x512.size a)
theorem k0_off176_inb : ∀ (i : grid0.Coords) (v7418 : BitVec 32) (k0_hw176 : k0_chk176 i v7418), ∀ (k0_h1 : k0_cond1 i = 1#1), ∀ a, (k0_off176 v7418) a + S1x1x512.size a ≤ S1x2048x512.size a := fun i v7418 k0_hw176 k0_h1 => k0_hw176 k0_h1

def k0_off177 (v7425 : BitVec 32) : Fin 3 → Nat :=
  let c0_5112 : Index := 0#32
  let v7426 : Index := Scalar.indexCast v7425
  let c0_5113 : Index := 0#32
  ![0, v7426.toNat, 0]

def k0_chk177 (i : grid0.Coords) (v7425 : BitVec 32) : Prop :=
  (∀ (k0_h1 : k0_cond1 i = 1#1), ∀ a, (k0_off177 v7425) a + S1x1x512.size a ≤ S1x2048x512.size a)
theorem k0_off177_inb : ∀ (i : grid0.Coords) (v7425 : BitVec 32) (k0_hw177 : k0_chk177 i v7425), ∀ (k0_h1 : k0_cond1 i = 1#1), ∀ a, (k0_off177 v7425) a + S1x1x512.size a ≤ S1x2048x512.size a := fun i v7425 k0_hw177 k0_h1 => k0_hw177 k0_h1

def k0_off178 (v7432 : BitVec 32) : Fin 3 → Nat :=
  let c0_5119 : Index := 0#32
  let v7433 : Index := Scalar.indexCast v7432
  let c0_5120 : Index := 0#32
  ![0, v7433.toNat, 0]

def k0_chk178 (i : grid0.Coords) (v7432 : BitVec 32) : Prop :=
  (∀ (k0_h1 : k0_cond1 i = 1#1), ∀ a, (k0_off178 v7432) a + S1x1x512.size a ≤ S1x2048x512.size a)
theorem k0_off178_inb : ∀ (i : grid0.Coords) (v7432 : BitVec 32) (k0_hw178 : k0_chk178 i v7432), ∀ (k0_h1 : k0_cond1 i = 1#1), ∀ a, (k0_off178 v7432) a + S1x1x512.size a ≤ S1x2048x512.size a := fun i v7432 k0_hw178 k0_h1 => k0_hw178 k0_h1

def k0_off179 (v7439 : BitVec 32) : Fin 3 → Nat :=
  let c0_5126 : Index := 0#32
  let v7440 : Index := Scalar.indexCast v7439
  let c0_5127 : Index := 0#32
  ![0, v7440.toNat, 0]

def k0_chk179 (i : grid0.Coords) (v7439 : BitVec 32) : Prop :=
  (∀ (k0_h1 : k0_cond1 i = 1#1), ∀ a, (k0_off179 v7439) a + S1x1x512.size a ≤ S1x2048x512.size a)
theorem k0_off179_inb : ∀ (i : grid0.Coords) (v7439 : BitVec 32) (k0_hw179 : k0_chk179 i v7439), ∀ (k0_h1 : k0_cond1 i = 1#1), ∀ a, (k0_off179 v7439) a + S1x1x512.size a ≤ S1x2048x512.size a := fun i v7439 k0_hw179 k0_h1 => k0_hw179 k0_h1

def k0_off180 (v7446 : BitVec 32) : Fin 3 → Nat :=
  let c0_5133 : Index := 0#32
  let v7447 : Index := Scalar.indexCast v7446
  let c0_5134 : Index := 0#32
  ![0, v7447.toNat, 0]

def k0_chk180 (i : grid0.Coords) (v7446 : BitVec 32) : Prop :=
  (∀ (k0_h1 : k0_cond1 i = 1#1), ∀ a, (k0_off180 v7446) a + S1x1x512.size a ≤ S1x2048x512.size a)
theorem k0_off180_inb : ∀ (i : grid0.Coords) (v7446 : BitVec 32) (k0_hw180 : k0_chk180 i v7446), ∀ (k0_h1 : k0_cond1 i = 1#1), ∀ a, (k0_off180 v7446) a + S1x1x512.size a ≤ S1x2048x512.size a := fun i v7446 k0_hw180 k0_h1 => k0_hw180 k0_h1

def k0_off181 (v7453 : BitVec 32) : Fin 3 → Nat :=
  let c0_5140 : Index := 0#32
  let v7454 : Index := Scalar.indexCast v7453
  let c0_5141 : Index := 0#32
  ![0, v7454.toNat, 0]

def k0_chk181 (i : grid0.Coords) (v7453 : BitVec 32) : Prop :=
  (∀ (k0_h1 : k0_cond1 i = 1#1), ∀ a, (k0_off181 v7453) a + S1x1x512.size a ≤ S1x2048x512.size a)
theorem k0_off181_inb : ∀ (i : grid0.Coords) (v7453 : BitVec 32) (k0_hw181 : k0_chk181 i v7453), ∀ (k0_h1 : k0_cond1 i = 1#1), ∀ a, (k0_off181 v7453) a + S1x1x512.size a ≤ S1x2048x512.size a := fun i v7453 k0_hw181 k0_h1 => k0_hw181 k0_h1

def k0_off182 (v7460 : BitVec 32) : Fin 3 → Nat :=
  let c0_5147 : Index := 0#32
  let v7461 : Index := Scalar.indexCast v7460
  let c0_5148 : Index := 0#32
  ![0, v7461.toNat, 0]

def k0_chk182 (i : grid0.Coords) (v7460 : BitVec 32) : Prop :=
  (∀ (k0_h1 : k0_cond1 i = 1#1), ∀ a, (k0_off182 v7460) a + S1x1x512.size a ≤ S1x2048x512.size a)
theorem k0_off182_inb : ∀ (i : grid0.Coords) (v7460 : BitVec 32) (k0_hw182 : k0_chk182 i v7460), ∀ (k0_h1 : k0_cond1 i = 1#1), ∀ a, (k0_off182 v7460) a + S1x1x512.size a ≤ S1x2048x512.size a := fun i v7460 k0_hw182 k0_h1 => k0_hw182 k0_h1

def k0_off183 (v7467 : BitVec 32) : Fin 3 → Nat :=
  let c0_5154 : Index := 0#32
  let v7468 : Index := Scalar.indexCast v7467
  let c0_5155 : Index := 0#32
  ![0, v7468.toNat, 0]

def k0_chk183 (i : grid0.Coords) (v7467 : BitVec 32) : Prop :=
  (∀ (k0_h1 : k0_cond1 i = 1#1), ∀ a, (k0_off183 v7467) a + S1x1x512.size a ≤ S1x2048x512.size a)
theorem k0_off183_inb : ∀ (i : grid0.Coords) (v7467 : BitVec 32) (k0_hw183 : k0_chk183 i v7467), ∀ (k0_h1 : k0_cond1 i = 1#1), ∀ a, (k0_off183 v7467) a + S1x1x512.size a ≤ S1x2048x512.size a := fun i v7467 k0_hw183 k0_h1 => k0_hw183 k0_h1

def k0_off184 (v7474 : BitVec 32) : Fin 3 → Nat :=
  let c0_5161 : Index := 0#32
  let v7475 : Index := Scalar.indexCast v7474
  let c0_5162 : Index := 0#32
  ![0, v7475.toNat, 0]

def k0_chk184 (i : grid0.Coords) (v7474 : BitVec 32) : Prop :=
  (∀ (k0_h1 : k0_cond1 i = 1#1), ∀ a, (k0_off184 v7474) a + S1x1x512.size a ≤ S1x2048x512.size a)
theorem k0_off184_inb : ∀ (i : grid0.Coords) (v7474 : BitVec 32) (k0_hw184 : k0_chk184 i v7474), ∀ (k0_h1 : k0_cond1 i = 1#1), ∀ a, (k0_off184 v7474) a + S1x1x512.size a ≤ S1x2048x512.size a := fun i v7474 k0_hw184 k0_h1 => k0_hw184 k0_h1

def k0_off185 (v7481 : BitVec 32) : Fin 3 → Nat :=
  let c0_5168 : Index := 0#32
  let v7482 : Index := Scalar.indexCast v7481
  let c0_5169 : Index := 0#32
  ![0, v7482.toNat, 0]

def k0_chk185 (i : grid0.Coords) (v7481 : BitVec 32) : Prop :=
  (∀ (k0_h1 : k0_cond1 i = 1#1), ∀ a, (k0_off185 v7481) a + S1x1x512.size a ≤ S1x2048x512.size a)
theorem k0_off185_inb : ∀ (i : grid0.Coords) (v7481 : BitVec 32) (k0_hw185 : k0_chk185 i v7481), ∀ (k0_h1 : k0_cond1 i = 1#1), ∀ a, (k0_off185 v7481) a + S1x1x512.size a ≤ S1x2048x512.size a := fun i v7481 k0_hw185 k0_h1 => k0_hw185 k0_h1

def k0_off186 (v7488 : BitVec 32) : Fin 3 → Nat :=
  let c0_5175 : Index := 0#32
  let v7489 : Index := Scalar.indexCast v7488
  let c0_5176 : Index := 0#32
  ![0, v7489.toNat, 0]

def k0_chk186 (i : grid0.Coords) (v7488 : BitVec 32) : Prop :=
  (∀ (k0_h1 : k0_cond1 i = 1#1), ∀ a, (k0_off186 v7488) a + S1x1x512.size a ≤ S1x2048x512.size a)
theorem k0_off186_inb : ∀ (i : grid0.Coords) (v7488 : BitVec 32) (k0_hw186 : k0_chk186 i v7488), ∀ (k0_h1 : k0_cond1 i = 1#1), ∀ a, (k0_off186 v7488) a + S1x1x512.size a ≤ S1x2048x512.size a := fun i v7488 k0_hw186 k0_h1 => k0_hw186 k0_h1

def k0_off187 (v7495 : BitVec 32) : Fin 3 → Nat :=
  let c0_5182 : Index := 0#32
  let v7496 : Index := Scalar.indexCast v7495
  let c0_5183 : Index := 0#32
  ![0, v7496.toNat, 0]

def k0_chk187 (i : grid0.Coords) (v7495 : BitVec 32) : Prop :=
  (∀ (k0_h1 : k0_cond1 i = 1#1), ∀ a, (k0_off187 v7495) a + S1x1x512.size a ≤ S1x2048x512.size a)
theorem k0_off187_inb : ∀ (i : grid0.Coords) (v7495 : BitVec 32) (k0_hw187 : k0_chk187 i v7495), ∀ (k0_h1 : k0_cond1 i = 1#1), ∀ a, (k0_off187 v7495) a + S1x1x512.size a ≤ S1x2048x512.size a := fun i v7495 k0_hw187 k0_h1 => k0_hw187 k0_h1

def k0_off188 (v7502 : BitVec 32) : Fin 3 → Nat :=
  let c0_5189 : Index := 0#32
  let v7503 : Index := Scalar.indexCast v7502
  let c0_5190 : Index := 0#32
  ![0, v7503.toNat, 0]

def k0_chk188 (i : grid0.Coords) (v7502 : BitVec 32) : Prop :=
  (∀ (k0_h1 : k0_cond1 i = 1#1), ∀ a, (k0_off188 v7502) a + S1x1x512.size a ≤ S1x2048x512.size a)
theorem k0_off188_inb : ∀ (i : grid0.Coords) (v7502 : BitVec 32) (k0_hw188 : k0_chk188 i v7502), ∀ (k0_h1 : k0_cond1 i = 1#1), ∀ a, (k0_off188 v7502) a + S1x1x512.size a ≤ S1x2048x512.size a := fun i v7502 k0_hw188 k0_h1 => k0_hw188 k0_h1

def k0_off189 (v7509 : BitVec 32) : Fin 3 → Nat :=
  let c0_5196 : Index := 0#32
  let v7510 : Index := Scalar.indexCast v7509
  let c0_5197 : Index := 0#32
  ![0, v7510.toNat, 0]

def k0_chk189 (i : grid0.Coords) (v7509 : BitVec 32) : Prop :=
  (∀ (k0_h1 : k0_cond1 i = 1#1), ∀ a, (k0_off189 v7509) a + S1x1x512.size a ≤ S1x2048x512.size a)
theorem k0_off189_inb : ∀ (i : grid0.Coords) (v7509 : BitVec 32) (k0_hw189 : k0_chk189 i v7509), ∀ (k0_h1 : k0_cond1 i = 1#1), ∀ a, (k0_off189 v7509) a + S1x1x512.size a ≤ S1x2048x512.size a := fun i v7509 k0_hw189 k0_h1 => k0_hw189 k0_h1

def k0_off190 (v7516 : BitVec 32) : Fin 3 → Nat :=
  let c0_5203 : Index := 0#32
  let v7517 : Index := Scalar.indexCast v7516
  let c0_5204 : Index := 0#32
  ![0, v7517.toNat, 0]

def k0_chk190 (i : grid0.Coords) (v7516 : BitVec 32) : Prop :=
  (∀ (k0_h1 : k0_cond1 i = 1#1), ∀ a, (k0_off190 v7516) a + S1x1x512.size a ≤ S1x2048x512.size a)
theorem k0_off190_inb : ∀ (i : grid0.Coords) (v7516 : BitVec 32) (k0_hw190 : k0_chk190 i v7516), ∀ (k0_h1 : k0_cond1 i = 1#1), ∀ a, (k0_off190 v7516) a + S1x1x512.size a ≤ S1x2048x512.size a := fun i v7516 k0_hw190 k0_h1 => k0_hw190 k0_h1

def k0_off191 (v7523 : BitVec 32) : Fin 3 → Nat :=
  let c0_5210 : Index := 0#32
  let v7524 : Index := Scalar.indexCast v7523
  let c0_5211 : Index := 0#32
  ![0, v7524.toNat, 0]

def k0_chk191 (i : grid0.Coords) (v7523 : BitVec 32) : Prop :=
  (∀ (k0_h1 : k0_cond1 i = 1#1), ∀ a, (k0_off191 v7523) a + S1x1x512.size a ≤ S1x2048x512.size a)
theorem k0_off191_inb : ∀ (i : grid0.Coords) (v7523 : BitVec 32) (k0_hw191 : k0_chk191 i v7523), ∀ (k0_h1 : k0_cond1 i = 1#1), ∀ a, (k0_off191 v7523) a + S1x1x512.size a ≤ S1x2048x512.size a := fun i v7523 k0_hw191 k0_h1 => k0_hw191 k0_h1

def k0_off192 (v7530 : BitVec 32) : Fin 3 → Nat :=
  let c0_5217 : Index := 0#32
  let v7531 : Index := Scalar.indexCast v7530
  let c0_5218 : Index := 0#32
  ![0, v7531.toNat, 0]

def k0_chk192 (i : grid0.Coords) (v7530 : BitVec 32) : Prop :=
  (∀ (k0_h1 : k0_cond1 i = 1#1), ∀ a, (k0_off192 v7530) a + S1x1x512.size a ≤ S1x2048x512.size a)
theorem k0_off192_inb : ∀ (i : grid0.Coords) (v7530 : BitVec 32) (k0_hw192 : k0_chk192 i v7530), ∀ (k0_h1 : k0_cond1 i = 1#1), ∀ a, (k0_off192 v7530) a + S1x1x512.size a ≤ S1x2048x512.size a := fun i v7530 k0_hw192 k0_h1 => k0_hw192 k0_h1

def k0_off193 (v7537 : BitVec 32) : Fin 3 → Nat :=
  let c0_5224 : Index := 0#32
  let v7538 : Index := Scalar.indexCast v7537
  let c0_5225 : Index := 0#32
  ![0, v7538.toNat, 0]

def k0_chk193 (i : grid0.Coords) (v7537 : BitVec 32) : Prop :=
  (∀ (k0_h1 : k0_cond1 i = 1#1), ∀ a, (k0_off193 v7537) a + S1x1x512.size a ≤ S1x2048x512.size a)
theorem k0_off193_inb : ∀ (i : grid0.Coords) (v7537 : BitVec 32) (k0_hw193 : k0_chk193 i v7537), ∀ (k0_h1 : k0_cond1 i = 1#1), ∀ a, (k0_off193 v7537) a + S1x1x512.size a ≤ S1x2048x512.size a := fun i v7537 k0_hw193 k0_h1 => k0_hw193 k0_h1

def k0_off194 (v7544 : BitVec 32) : Fin 3 → Nat :=
  let c0_5231 : Index := 0#32
  let v7545 : Index := Scalar.indexCast v7544
  let c0_5232 : Index := 0#32
  ![0, v7545.toNat, 0]

def k0_chk194 (i : grid0.Coords) (v7544 : BitVec 32) : Prop :=
  (∀ (k0_h1 : k0_cond1 i = 1#1), ∀ a, (k0_off194 v7544) a + S1x1x512.size a ≤ S1x2048x512.size a)
theorem k0_off194_inb : ∀ (i : grid0.Coords) (v7544 : BitVec 32) (k0_hw194 : k0_chk194 i v7544), ∀ (k0_h1 : k0_cond1 i = 1#1), ∀ a, (k0_off194 v7544) a + S1x1x512.size a ≤ S1x2048x512.size a := fun i v7544 k0_hw194 k0_h1 => k0_hw194 k0_h1

def k0_off195 (v7551 : BitVec 32) : Fin 3 → Nat :=
  let c0_5238 : Index := 0#32
  let v7552 : Index := Scalar.indexCast v7551
  let c0_5239 : Index := 0#32
  ![0, v7552.toNat, 0]

def k0_chk195 (i : grid0.Coords) (v7551 : BitVec 32) : Prop :=
  (∀ (k0_h1 : k0_cond1 i = 1#1), ∀ a, (k0_off195 v7551) a + S1x1x512.size a ≤ S1x2048x512.size a)
theorem k0_off195_inb : ∀ (i : grid0.Coords) (v7551 : BitVec 32) (k0_hw195 : k0_chk195 i v7551), ∀ (k0_h1 : k0_cond1 i = 1#1), ∀ a, (k0_off195 v7551) a + S1x1x512.size a ≤ S1x2048x512.size a := fun i v7551 k0_hw195 k0_h1 => k0_hw195 k0_h1

def k0_off196 (v7558 : BitVec 32) : Fin 3 → Nat :=
  let c0_5245 : Index := 0#32
  let v7559 : Index := Scalar.indexCast v7558
  let c0_5246 : Index := 0#32
  ![0, v7559.toNat, 0]

def k0_chk196 (i : grid0.Coords) (v7558 : BitVec 32) : Prop :=
  (∀ (k0_h1 : k0_cond1 i = 1#1), ∀ a, (k0_off196 v7558) a + S1x1x512.size a ≤ S1x2048x512.size a)
theorem k0_off196_inb : ∀ (i : grid0.Coords) (v7558 : BitVec 32) (k0_hw196 : k0_chk196 i v7558), ∀ (k0_h1 : k0_cond1 i = 1#1), ∀ a, (k0_off196 v7558) a + S1x1x512.size a ≤ S1x2048x512.size a := fun i v7558 k0_hw196 k0_h1 => k0_hw196 k0_h1

def k0_off197 (v7565 : BitVec 32) : Fin 3 → Nat :=
  let c0_5252 : Index := 0#32
  let v7566 : Index := Scalar.indexCast v7565
  let c0_5253 : Index := 0#32
  ![0, v7566.toNat, 0]

def k0_chk197 (i : grid0.Coords) (v7565 : BitVec 32) : Prop :=
  (∀ (k0_h1 : k0_cond1 i = 1#1), ∀ a, (k0_off197 v7565) a + S1x1x512.size a ≤ S1x2048x512.size a)
theorem k0_off197_inb : ∀ (i : grid0.Coords) (v7565 : BitVec 32) (k0_hw197 : k0_chk197 i v7565), ∀ (k0_h1 : k0_cond1 i = 1#1), ∀ a, (k0_off197 v7565) a + S1x1x512.size a ≤ S1x2048x512.size a := fun i v7565 k0_hw197 k0_h1 => k0_hw197 k0_h1

def k0_off198 (v7572 : BitVec 32) : Fin 3 → Nat :=
  let c0_5259 : Index := 0#32
  let v7573 : Index := Scalar.indexCast v7572
  let c0_5260 : Index := 0#32
  ![0, v7573.toNat, 0]

def k0_chk198 (i : grid0.Coords) (v7572 : BitVec 32) : Prop :=
  (∀ (k0_h1 : k0_cond1 i = 1#1), ∀ a, (k0_off198 v7572) a + S1x1x512.size a ≤ S1x2048x512.size a)
theorem k0_off198_inb : ∀ (i : grid0.Coords) (v7572 : BitVec 32) (k0_hw198 : k0_chk198 i v7572), ∀ (k0_h1 : k0_cond1 i = 1#1), ∀ a, (k0_off198 v7572) a + S1x1x512.size a ≤ S1x2048x512.size a := fun i v7572 k0_hw198 k0_h1 => k0_hw198 k0_h1

def k0_off199 (v7579 : BitVec 32) : Fin 3 → Nat :=
  let c0_5266 : Index := 0#32
  let v7580 : Index := Scalar.indexCast v7579
  let c0_5267 : Index := 0#32
  ![0, v7580.toNat, 0]

def k0_chk199 (i : grid0.Coords) (v7579 : BitVec 32) : Prop :=
  (∀ (k0_h1 : k0_cond1 i = 1#1), ∀ a, (k0_off199 v7579) a + S1x1x512.size a ≤ S1x2048x512.size a)
theorem k0_off199_inb : ∀ (i : grid0.Coords) (v7579 : BitVec 32) (k0_hw199 : k0_chk199 i v7579), ∀ (k0_h1 : k0_cond1 i = 1#1), ∀ a, (k0_off199 v7579) a + S1x1x512.size a ≤ S1x2048x512.size a := fun i v7579 k0_hw199 k0_h1 => k0_hw199 k0_h1

def k0_off200 (v7586 : BitVec 32) : Fin 3 → Nat :=
  let c0_5273 : Index := 0#32
  let v7587 : Index := Scalar.indexCast v7586
  let c0_5274 : Index := 0#32
  ![0, v7587.toNat, 0]

def k0_chk200 (i : grid0.Coords) (v7586 : BitVec 32) : Prop :=
  (∀ (k0_h1 : k0_cond1 i = 1#1), ∀ a, (k0_off200 v7586) a + S1x1x512.size a ≤ S1x2048x512.size a)
theorem k0_off200_inb : ∀ (i : grid0.Coords) (v7586 : BitVec 32) (k0_hw200 : k0_chk200 i v7586), ∀ (k0_h1 : k0_cond1 i = 1#1), ∀ a, (k0_off200 v7586) a + S1x1x512.size a ≤ S1x2048x512.size a := fun i v7586 k0_hw200 k0_h1 => k0_hw200 k0_h1

def k0_off201 (v7593 : BitVec 32) : Fin 3 → Nat :=
  let c0_5280 : Index := 0#32
  let v7594 : Index := Scalar.indexCast v7593
  let c0_5281 : Index := 0#32
  ![0, v7594.toNat, 0]

def k0_chk201 (i : grid0.Coords) (v7593 : BitVec 32) : Prop :=
  (∀ (k0_h1 : k0_cond1 i = 1#1), ∀ a, (k0_off201 v7593) a + S1x1x512.size a ≤ S1x2048x512.size a)
theorem k0_off201_inb : ∀ (i : grid0.Coords) (v7593 : BitVec 32) (k0_hw201 : k0_chk201 i v7593), ∀ (k0_h1 : k0_cond1 i = 1#1), ∀ a, (k0_off201 v7593) a + S1x1x512.size a ≤ S1x2048x512.size a := fun i v7593 k0_hw201 k0_h1 => k0_hw201 k0_h1

def k0_off202 (v7600 : BitVec 32) : Fin 3 → Nat :=
  let c0_5287 : Index := 0#32
  let v7601 : Index := Scalar.indexCast v7600
  let c0_5288 : Index := 0#32
  ![0, v7601.toNat, 0]

def k0_chk202 (i : grid0.Coords) (v7600 : BitVec 32) : Prop :=
  (∀ (k0_h1 : k0_cond1 i = 1#1), ∀ a, (k0_off202 v7600) a + S1x1x512.size a ≤ S1x2048x512.size a)
theorem k0_off202_inb : ∀ (i : grid0.Coords) (v7600 : BitVec 32) (k0_hw202 : k0_chk202 i v7600), ∀ (k0_h1 : k0_cond1 i = 1#1), ∀ a, (k0_off202 v7600) a + S1x1x512.size a ≤ S1x2048x512.size a := fun i v7600 k0_hw202 k0_h1 => k0_hw202 k0_h1

def k0_off203 (v7607 : BitVec 32) : Fin 3 → Nat :=
  let c0_5294 : Index := 0#32
  let v7608 : Index := Scalar.indexCast v7607
  let c0_5295 : Index := 0#32
  ![0, v7608.toNat, 0]

def k0_chk203 (i : grid0.Coords) (v7607 : BitVec 32) : Prop :=
  (∀ (k0_h1 : k0_cond1 i = 1#1), ∀ a, (k0_off203 v7607) a + S1x1x512.size a ≤ S1x2048x512.size a)
theorem k0_off203_inb : ∀ (i : grid0.Coords) (v7607 : BitVec 32) (k0_hw203 : k0_chk203 i v7607), ∀ (k0_h1 : k0_cond1 i = 1#1), ∀ a, (k0_off203 v7607) a + S1x1x512.size a ≤ S1x2048x512.size a := fun i v7607 k0_hw203 k0_h1 => k0_hw203 k0_h1

def k0_off204 (v7614 : BitVec 32) : Fin 3 → Nat :=
  let c0_5301 : Index := 0#32
  let v7615 : Index := Scalar.indexCast v7614
  let c0_5302 : Index := 0#32
  ![0, v7615.toNat, 0]

def k0_chk204 (i : grid0.Coords) (v7614 : BitVec 32) : Prop :=
  (∀ (k0_h1 : k0_cond1 i = 1#1), ∀ a, (k0_off204 v7614) a + S1x1x512.size a ≤ S1x2048x512.size a)
theorem k0_off204_inb : ∀ (i : grid0.Coords) (v7614 : BitVec 32) (k0_hw204 : k0_chk204 i v7614), ∀ (k0_h1 : k0_cond1 i = 1#1), ∀ a, (k0_off204 v7614) a + S1x1x512.size a ≤ S1x2048x512.size a := fun i v7614 k0_hw204 k0_h1 => k0_hw204 k0_h1

def k0_off205 (v7621 : BitVec 32) : Fin 3 → Nat :=
  let c0_5308 : Index := 0#32
  let v7622 : Index := Scalar.indexCast v7621
  let c0_5309 : Index := 0#32
  ![0, v7622.toNat, 0]

def k0_chk205 (i : grid0.Coords) (v7621 : BitVec 32) : Prop :=
  (∀ (k0_h1 : k0_cond1 i = 1#1), ∀ a, (k0_off205 v7621) a + S1x1x512.size a ≤ S1x2048x512.size a)
theorem k0_off205_inb : ∀ (i : grid0.Coords) (v7621 : BitVec 32) (k0_hw205 : k0_chk205 i v7621), ∀ (k0_h1 : k0_cond1 i = 1#1), ∀ a, (k0_off205 v7621) a + S1x1x512.size a ≤ S1x2048x512.size a := fun i v7621 k0_hw205 k0_h1 => k0_hw205 k0_h1

def k0_off206 (v7628 : BitVec 32) : Fin 3 → Nat :=
  let c0_5315 : Index := 0#32
  let v7629 : Index := Scalar.indexCast v7628
  let c0_5316 : Index := 0#32
  ![0, v7629.toNat, 0]

def k0_chk206 (i : grid0.Coords) (v7628 : BitVec 32) : Prop :=
  (∀ (k0_h1 : k0_cond1 i = 1#1), ∀ a, (k0_off206 v7628) a + S1x1x512.size a ≤ S1x2048x512.size a)
theorem k0_off206_inb : ∀ (i : grid0.Coords) (v7628 : BitVec 32) (k0_hw206 : k0_chk206 i v7628), ∀ (k0_h1 : k0_cond1 i = 1#1), ∀ a, (k0_off206 v7628) a + S1x1x512.size a ≤ S1x2048x512.size a := fun i v7628 k0_hw206 k0_h1 => k0_hw206 k0_h1

def k0_off207 (v7635 : BitVec 32) : Fin 3 → Nat :=
  let c0_5322 : Index := 0#32
  let v7636 : Index := Scalar.indexCast v7635
  let c0_5323 : Index := 0#32
  ![0, v7636.toNat, 0]

def k0_chk207 (i : grid0.Coords) (v7635 : BitVec 32) : Prop :=
  (∀ (k0_h1 : k0_cond1 i = 1#1), ∀ a, (k0_off207 v7635) a + S1x1x512.size a ≤ S1x2048x512.size a)
theorem k0_off207_inb : ∀ (i : grid0.Coords) (v7635 : BitVec 32) (k0_hw207 : k0_chk207 i v7635), ∀ (k0_h1 : k0_cond1 i = 1#1), ∀ a, (k0_off207 v7635) a + S1x1x512.size a ≤ S1x2048x512.size a := fun i v7635 k0_hw207 k0_h1 => k0_hw207 k0_h1

def k0_off208 (v7642 : BitVec 32) : Fin 3 → Nat :=
  let c0_5329 : Index := 0#32
  let v7643 : Index := Scalar.indexCast v7642
  let c0_5330 : Index := 0#32
  ![0, v7643.toNat, 0]

def k0_chk208 (i : grid0.Coords) (v7642 : BitVec 32) : Prop :=
  (∀ (k0_h1 : k0_cond1 i = 1#1), ∀ a, (k0_off208 v7642) a + S1x1x512.size a ≤ S1x2048x512.size a)
theorem k0_off208_inb : ∀ (i : grid0.Coords) (v7642 : BitVec 32) (k0_hw208 : k0_chk208 i v7642), ∀ (k0_h1 : k0_cond1 i = 1#1), ∀ a, (k0_off208 v7642) a + S1x1x512.size a ≤ S1x2048x512.size a := fun i v7642 k0_hw208 k0_h1 => k0_hw208 k0_h1

def k0_off209 (v7649 : BitVec 32) : Fin 3 → Nat :=
  let c0_5336 : Index := 0#32
  let v7650 : Index := Scalar.indexCast v7649
  let c0_5337 : Index := 0#32
  ![0, v7650.toNat, 0]

def k0_chk209 (i : grid0.Coords) (v7649 : BitVec 32) : Prop :=
  (∀ (k0_h1 : k0_cond1 i = 1#1), ∀ a, (k0_off209 v7649) a + S1x1x512.size a ≤ S1x2048x512.size a)
theorem k0_off209_inb : ∀ (i : grid0.Coords) (v7649 : BitVec 32) (k0_hw209 : k0_chk209 i v7649), ∀ (k0_h1 : k0_cond1 i = 1#1), ∀ a, (k0_off209 v7649) a + S1x1x512.size a ≤ S1x2048x512.size a := fun i v7649 k0_hw209 k0_h1 => k0_hw209 k0_h1

def k0_off210 (v7656 : BitVec 32) : Fin 3 → Nat :=
  let c0_5343 : Index := 0#32
  let v7657 : Index := Scalar.indexCast v7656
  let c0_5344 : Index := 0#32
  ![0, v7657.toNat, 0]

def k0_chk210 (i : grid0.Coords) (v7656 : BitVec 32) : Prop :=
  (∀ (k0_h1 : k0_cond1 i = 1#1), ∀ a, (k0_off210 v7656) a + S1x1x512.size a ≤ S1x2048x512.size a)
theorem k0_off210_inb : ∀ (i : grid0.Coords) (v7656 : BitVec 32) (k0_hw210 : k0_chk210 i v7656), ∀ (k0_h1 : k0_cond1 i = 1#1), ∀ a, (k0_off210 v7656) a + S1x1x512.size a ≤ S1x2048x512.size a := fun i v7656 k0_hw210 k0_h1 => k0_hw210 k0_h1

def k0_off211 (v7663 : BitVec 32) : Fin 3 → Nat :=
  let c0_5350 : Index := 0#32
  let v7664 : Index := Scalar.indexCast v7663
  let c0_5351 : Index := 0#32
  ![0, v7664.toNat, 0]

def k0_chk211 (i : grid0.Coords) (v7663 : BitVec 32) : Prop :=
  (∀ (k0_h1 : k0_cond1 i = 1#1), ∀ a, (k0_off211 v7663) a + S1x1x512.size a ≤ S1x2048x512.size a)
theorem k0_off211_inb : ∀ (i : grid0.Coords) (v7663 : BitVec 32) (k0_hw211 : k0_chk211 i v7663), ∀ (k0_h1 : k0_cond1 i = 1#1), ∀ a, (k0_off211 v7663) a + S1x1x512.size a ≤ S1x2048x512.size a := fun i v7663 k0_hw211 k0_h1 => k0_hw211 k0_h1

def k0_off212 (v7670 : BitVec 32) : Fin 3 → Nat :=
  let c0_5357 : Index := 0#32
  let v7671 : Index := Scalar.indexCast v7670
  let c0_5358 : Index := 0#32
  ![0, v7671.toNat, 0]

def k0_chk212 (i : grid0.Coords) (v7670 : BitVec 32) : Prop :=
  (∀ (k0_h1 : k0_cond1 i = 1#1), ∀ a, (k0_off212 v7670) a + S1x1x512.size a ≤ S1x2048x512.size a)
theorem k0_off212_inb : ∀ (i : grid0.Coords) (v7670 : BitVec 32) (k0_hw212 : k0_chk212 i v7670), ∀ (k0_h1 : k0_cond1 i = 1#1), ∀ a, (k0_off212 v7670) a + S1x1x512.size a ≤ S1x2048x512.size a := fun i v7670 k0_hw212 k0_h1 => k0_hw212 k0_h1

def k0_off213 (v7677 : BitVec 32) : Fin 3 → Nat :=
  let c0_5364 : Index := 0#32
  let v7678 : Index := Scalar.indexCast v7677
  let c0_5365 : Index := 0#32
  ![0, v7678.toNat, 0]

def k0_chk213 (i : grid0.Coords) (v7677 : BitVec 32) : Prop :=
  (∀ (k0_h1 : k0_cond1 i = 1#1), ∀ a, (k0_off213 v7677) a + S1x1x512.size a ≤ S1x2048x512.size a)
theorem k0_off213_inb : ∀ (i : grid0.Coords) (v7677 : BitVec 32) (k0_hw213 : k0_chk213 i v7677), ∀ (k0_h1 : k0_cond1 i = 1#1), ∀ a, (k0_off213 v7677) a + S1x1x512.size a ≤ S1x2048x512.size a := fun i v7677 k0_hw213 k0_h1 => k0_hw213 k0_h1

def k0_off214 (v7684 : BitVec 32) : Fin 3 → Nat :=
  let c0_5371 : Index := 0#32
  let v7685 : Index := Scalar.indexCast v7684
  let c0_5372 : Index := 0#32
  ![0, v7685.toNat, 0]

def k0_chk214 (i : grid0.Coords) (v7684 : BitVec 32) : Prop :=
  (∀ (k0_h1 : k0_cond1 i = 1#1), ∀ a, (k0_off214 v7684) a + S1x1x512.size a ≤ S1x2048x512.size a)
theorem k0_off214_inb : ∀ (i : grid0.Coords) (v7684 : BitVec 32) (k0_hw214 : k0_chk214 i v7684), ∀ (k0_h1 : k0_cond1 i = 1#1), ∀ a, (k0_off214 v7684) a + S1x1x512.size a ≤ S1x2048x512.size a := fun i v7684 k0_hw214 k0_h1 => k0_hw214 k0_h1

def k0_off215 (v7691 : BitVec 32) : Fin 3 → Nat :=
  let c0_5378 : Index := 0#32
  let v7692 : Index := Scalar.indexCast v7691
  let c0_5379 : Index := 0#32
  ![0, v7692.toNat, 0]

def k0_chk215 (i : grid0.Coords) (v7691 : BitVec 32) : Prop :=
  (∀ (k0_h1 : k0_cond1 i = 1#1), ∀ a, (k0_off215 v7691) a + S1x1x512.size a ≤ S1x2048x512.size a)
theorem k0_off215_inb : ∀ (i : grid0.Coords) (v7691 : BitVec 32) (k0_hw215 : k0_chk215 i v7691), ∀ (k0_h1 : k0_cond1 i = 1#1), ∀ a, (k0_off215 v7691) a + S1x1x512.size a ≤ S1x2048x512.size a := fun i v7691 k0_hw215 k0_h1 => k0_hw215 k0_h1

def k0_off216 (v7698 : BitVec 32) : Fin 3 → Nat :=
  let c0_5385 : Index := 0#32
  let v7699 : Index := Scalar.indexCast v7698
  let c0_5386 : Index := 0#32
  ![0, v7699.toNat, 0]

def k0_chk216 (i : grid0.Coords) (v7698 : BitVec 32) : Prop :=
  (∀ (k0_h1 : k0_cond1 i = 1#1), ∀ a, (k0_off216 v7698) a + S1x1x512.size a ≤ S1x2048x512.size a)
theorem k0_off216_inb : ∀ (i : grid0.Coords) (v7698 : BitVec 32) (k0_hw216 : k0_chk216 i v7698), ∀ (k0_h1 : k0_cond1 i = 1#1), ∀ a, (k0_off216 v7698) a + S1x1x512.size a ≤ S1x2048x512.size a := fun i v7698 k0_hw216 k0_h1 => k0_hw216 k0_h1

def k0_off217 (v7705 : BitVec 32) : Fin 3 → Nat :=
  let c0_5392 : Index := 0#32
  let v7706 : Index := Scalar.indexCast v7705
  let c0_5393 : Index := 0#32
  ![0, v7706.toNat, 0]

def k0_chk217 (i : grid0.Coords) (v7705 : BitVec 32) : Prop :=
  (∀ (k0_h1 : k0_cond1 i = 1#1), ∀ a, (k0_off217 v7705) a + S1x1x512.size a ≤ S1x2048x512.size a)
theorem k0_off217_inb : ∀ (i : grid0.Coords) (v7705 : BitVec 32) (k0_hw217 : k0_chk217 i v7705), ∀ (k0_h1 : k0_cond1 i = 1#1), ∀ a, (k0_off217 v7705) a + S1x1x512.size a ≤ S1x2048x512.size a := fun i v7705 k0_hw217 k0_h1 => k0_hw217 k0_h1

def k0_off218 (v7712 : BitVec 32) : Fin 3 → Nat :=
  let c0_5399 : Index := 0#32
  let v7713 : Index := Scalar.indexCast v7712
  let c0_5400 : Index := 0#32
  ![0, v7713.toNat, 0]

def k0_chk218 (i : grid0.Coords) (v7712 : BitVec 32) : Prop :=
  (∀ (k0_h1 : k0_cond1 i = 1#1), ∀ a, (k0_off218 v7712) a + S1x1x512.size a ≤ S1x2048x512.size a)
theorem k0_off218_inb : ∀ (i : grid0.Coords) (v7712 : BitVec 32) (k0_hw218 : k0_chk218 i v7712), ∀ (k0_h1 : k0_cond1 i = 1#1), ∀ a, (k0_off218 v7712) a + S1x1x512.size a ≤ S1x2048x512.size a := fun i v7712 k0_hw218 k0_h1 => k0_hw218 k0_h1

def k0_off219 (v7719 : BitVec 32) : Fin 3 → Nat :=
  let c0_5406 : Index := 0#32
  let v7720 : Index := Scalar.indexCast v7719
  let c0_5407 : Index := 0#32
  ![0, v7720.toNat, 0]

def k0_chk219 (i : grid0.Coords) (v7719 : BitVec 32) : Prop :=
  (∀ (k0_h1 : k0_cond1 i = 1#1), ∀ a, (k0_off219 v7719) a + S1x1x512.size a ≤ S1x2048x512.size a)
theorem k0_off219_inb : ∀ (i : grid0.Coords) (v7719 : BitVec 32) (k0_hw219 : k0_chk219 i v7719), ∀ (k0_h1 : k0_cond1 i = 1#1), ∀ a, (k0_off219 v7719) a + S1x1x512.size a ≤ S1x2048x512.size a := fun i v7719 k0_hw219 k0_h1 => k0_hw219 k0_h1

def k0_off220 (v7726 : BitVec 32) : Fin 3 → Nat :=
  let c0_5413 : Index := 0#32
  let v7727 : Index := Scalar.indexCast v7726
  let c0_5414 : Index := 0#32
  ![0, v7727.toNat, 0]

def k0_chk220 (i : grid0.Coords) (v7726 : BitVec 32) : Prop :=
  (∀ (k0_h1 : k0_cond1 i = 1#1), ∀ a, (k0_off220 v7726) a + S1x1x512.size a ≤ S1x2048x512.size a)
theorem k0_off220_inb : ∀ (i : grid0.Coords) (v7726 : BitVec 32) (k0_hw220 : k0_chk220 i v7726), ∀ (k0_h1 : k0_cond1 i = 1#1), ∀ a, (k0_off220 v7726) a + S1x1x512.size a ≤ S1x2048x512.size a := fun i v7726 k0_hw220 k0_h1 => k0_hw220 k0_h1

def k0_off221 (v7733 : BitVec 32) : Fin 3 → Nat :=
  let c0_5420 : Index := 0#32
  let v7734 : Index := Scalar.indexCast v7733
  let c0_5421 : Index := 0#32
  ![0, v7734.toNat, 0]

def k0_chk221 (i : grid0.Coords) (v7733 : BitVec 32) : Prop :=
  (∀ (k0_h1 : k0_cond1 i = 1#1), ∀ a, (k0_off221 v7733) a + S1x1x512.size a ≤ S1x2048x512.size a)
theorem k0_off221_inb : ∀ (i : grid0.Coords) (v7733 : BitVec 32) (k0_hw221 : k0_chk221 i v7733), ∀ (k0_h1 : k0_cond1 i = 1#1), ∀ a, (k0_off221 v7733) a + S1x1x512.size a ≤ S1x2048x512.size a := fun i v7733 k0_hw221 k0_h1 => k0_hw221 k0_h1

def k0_off222 (v7740 : BitVec 32) : Fin 3 → Nat :=
  let c0_5427 : Index := 0#32
  let v7741 : Index := Scalar.indexCast v7740
  let c0_5428 : Index := 0#32
  ![0, v7741.toNat, 0]

def k0_chk222 (i : grid0.Coords) (v7740 : BitVec 32) : Prop :=
  (∀ (k0_h1 : k0_cond1 i = 1#1), ∀ a, (k0_off222 v7740) a + S1x1x512.size a ≤ S1x2048x512.size a)
theorem k0_off222_inb : ∀ (i : grid0.Coords) (v7740 : BitVec 32) (k0_hw222 : k0_chk222 i v7740), ∀ (k0_h1 : k0_cond1 i = 1#1), ∀ a, (k0_off222 v7740) a + S1x1x512.size a ≤ S1x2048x512.size a := fun i v7740 k0_hw222 k0_h1 => k0_hw222 k0_h1

def k0_off223 (v7747 : BitVec 32) : Fin 3 → Nat :=
  let c0_5434 : Index := 0#32
  let v7748 : Index := Scalar.indexCast v7747
  let c0_5435 : Index := 0#32
  ![0, v7748.toNat, 0]

def k0_chk223 (i : grid0.Coords) (v7747 : BitVec 32) : Prop :=
  (∀ (k0_h1 : k0_cond1 i = 1#1), ∀ a, (k0_off223 v7747) a + S1x1x512.size a ≤ S1x2048x512.size a)
theorem k0_off223_inb : ∀ (i : grid0.Coords) (v7747 : BitVec 32) (k0_hw223 : k0_chk223 i v7747), ∀ (k0_h1 : k0_cond1 i = 1#1), ∀ a, (k0_off223 v7747) a + S1x1x512.size a ≤ S1x2048x512.size a := fun i v7747 k0_hw223 k0_h1 => k0_hw223 k0_h1

def k0_off224 (v7754 : BitVec 32) : Fin 3 → Nat :=
  let c0_5441 : Index := 0#32
  let v7755 : Index := Scalar.indexCast v7754
  let c0_5442 : Index := 0#32
  ![0, v7755.toNat, 0]

def k0_chk224 (i : grid0.Coords) (v7754 : BitVec 32) : Prop :=
  (∀ (k0_h1 : k0_cond1 i = 1#1), ∀ a, (k0_off224 v7754) a + S1x1x512.size a ≤ S1x2048x512.size a)
theorem k0_off224_inb : ∀ (i : grid0.Coords) (v7754 : BitVec 32) (k0_hw224 : k0_chk224 i v7754), ∀ (k0_h1 : k0_cond1 i = 1#1), ∀ a, (k0_off224 v7754) a + S1x1x512.size a ≤ S1x2048x512.size a := fun i v7754 k0_hw224 k0_h1 => k0_hw224 k0_h1

def k0_off225 (v7761 : BitVec 32) : Fin 3 → Nat :=
  let c0_5448 : Index := 0#32
  let v7762 : Index := Scalar.indexCast v7761
  let c0_5449 : Index := 0#32
  ![0, v7762.toNat, 0]

def k0_chk225 (i : grid0.Coords) (v7761 : BitVec 32) : Prop :=
  (∀ (k0_h1 : k0_cond1 i = 1#1), ∀ a, (k0_off225 v7761) a + S1x1x512.size a ≤ S1x2048x512.size a)
theorem k0_off225_inb : ∀ (i : grid0.Coords) (v7761 : BitVec 32) (k0_hw225 : k0_chk225 i v7761), ∀ (k0_h1 : k0_cond1 i = 1#1), ∀ a, (k0_off225 v7761) a + S1x1x512.size a ≤ S1x2048x512.size a := fun i v7761 k0_hw225 k0_h1 => k0_hw225 k0_h1

def k0_off226 (v7768 : BitVec 32) : Fin 3 → Nat :=
  let c0_5455 : Index := 0#32
  let v7769 : Index := Scalar.indexCast v7768
  let c0_5456 : Index := 0#32
  ![0, v7769.toNat, 0]

def k0_chk226 (i : grid0.Coords) (v7768 : BitVec 32) : Prop :=
  (∀ (k0_h1 : k0_cond1 i = 1#1), ∀ a, (k0_off226 v7768) a + S1x1x512.size a ≤ S1x2048x512.size a)
theorem k0_off226_inb : ∀ (i : grid0.Coords) (v7768 : BitVec 32) (k0_hw226 : k0_chk226 i v7768), ∀ (k0_h1 : k0_cond1 i = 1#1), ∀ a, (k0_off226 v7768) a + S1x1x512.size a ≤ S1x2048x512.size a := fun i v7768 k0_hw226 k0_h1 => k0_hw226 k0_h1

def k0_off227 (v7775 : BitVec 32) : Fin 3 → Nat :=
  let c0_5462 : Index := 0#32
  let v7776 : Index := Scalar.indexCast v7775
  let c0_5463 : Index := 0#32
  ![0, v7776.toNat, 0]

def k0_chk227 (i : grid0.Coords) (v7775 : BitVec 32) : Prop :=
  (∀ (k0_h1 : k0_cond1 i = 1#1), ∀ a, (k0_off227 v7775) a + S1x1x512.size a ≤ S1x2048x512.size a)
theorem k0_off227_inb : ∀ (i : grid0.Coords) (v7775 : BitVec 32) (k0_hw227 : k0_chk227 i v7775), ∀ (k0_h1 : k0_cond1 i = 1#1), ∀ a, (k0_off227 v7775) a + S1x1x512.size a ≤ S1x2048x512.size a := fun i v7775 k0_hw227 k0_h1 => k0_hw227 k0_h1

def k0_off228 (v7782 : BitVec 32) : Fin 3 → Nat :=
  let c0_5469 : Index := 0#32
  let v7783 : Index := Scalar.indexCast v7782
  let c0_5470 : Index := 0#32
  ![0, v7783.toNat, 0]

def k0_chk228 (i : grid0.Coords) (v7782 : BitVec 32) : Prop :=
  (∀ (k0_h1 : k0_cond1 i = 1#1), ∀ a, (k0_off228 v7782) a + S1x1x512.size a ≤ S1x2048x512.size a)
theorem k0_off228_inb : ∀ (i : grid0.Coords) (v7782 : BitVec 32) (k0_hw228 : k0_chk228 i v7782), ∀ (k0_h1 : k0_cond1 i = 1#1), ∀ a, (k0_off228 v7782) a + S1x1x512.size a ≤ S1x2048x512.size a := fun i v7782 k0_hw228 k0_h1 => k0_hw228 k0_h1

def k0_off229 (v7789 : BitVec 32) : Fin 3 → Nat :=
  let c0_5476 : Index := 0#32
  let v7790 : Index := Scalar.indexCast v7789
  let c0_5477 : Index := 0#32
  ![0, v7790.toNat, 0]

def k0_chk229 (i : grid0.Coords) (v7789 : BitVec 32) : Prop :=
  (∀ (k0_h1 : k0_cond1 i = 1#1), ∀ a, (k0_off229 v7789) a + S1x1x512.size a ≤ S1x2048x512.size a)
theorem k0_off229_inb : ∀ (i : grid0.Coords) (v7789 : BitVec 32) (k0_hw229 : k0_chk229 i v7789), ∀ (k0_h1 : k0_cond1 i = 1#1), ∀ a, (k0_off229 v7789) a + S1x1x512.size a ≤ S1x2048x512.size a := fun i v7789 k0_hw229 k0_h1 => k0_hw229 k0_h1

def k0_off230 (v7796 : BitVec 32) : Fin 3 → Nat :=
  let c0_5483 : Index := 0#32
  let v7797 : Index := Scalar.indexCast v7796
  let c0_5484 : Index := 0#32
  ![0, v7797.toNat, 0]

def k0_chk230 (i : grid0.Coords) (v7796 : BitVec 32) : Prop :=
  (∀ (k0_h1 : k0_cond1 i = 1#1), ∀ a, (k0_off230 v7796) a + S1x1x512.size a ≤ S1x2048x512.size a)
theorem k0_off230_inb : ∀ (i : grid0.Coords) (v7796 : BitVec 32) (k0_hw230 : k0_chk230 i v7796), ∀ (k0_h1 : k0_cond1 i = 1#1), ∀ a, (k0_off230 v7796) a + S1x1x512.size a ≤ S1x2048x512.size a := fun i v7796 k0_hw230 k0_h1 => k0_hw230 k0_h1

def k0_off231 (v7803 : BitVec 32) : Fin 3 → Nat :=
  let c0_5490 : Index := 0#32
  let v7804 : Index := Scalar.indexCast v7803
  let c0_5491 : Index := 0#32
  ![0, v7804.toNat, 0]

def k0_chk231 (i : grid0.Coords) (v7803 : BitVec 32) : Prop :=
  (∀ (k0_h1 : k0_cond1 i = 1#1), ∀ a, (k0_off231 v7803) a + S1x1x512.size a ≤ S1x2048x512.size a)
theorem k0_off231_inb : ∀ (i : grid0.Coords) (v7803 : BitVec 32) (k0_hw231 : k0_chk231 i v7803), ∀ (k0_h1 : k0_cond1 i = 1#1), ∀ a, (k0_off231 v7803) a + S1x1x512.size a ≤ S1x2048x512.size a := fun i v7803 k0_hw231 k0_h1 => k0_hw231 k0_h1

def k0_off232 (v7810 : BitVec 32) : Fin 3 → Nat :=
  let c0_5497 : Index := 0#32
  let v7811 : Index := Scalar.indexCast v7810
  let c0_5498 : Index := 0#32
  ![0, v7811.toNat, 0]

def k0_chk232 (i : grid0.Coords) (v7810 : BitVec 32) : Prop :=
  (∀ (k0_h1 : k0_cond1 i = 1#1), ∀ a, (k0_off232 v7810) a + S1x1x512.size a ≤ S1x2048x512.size a)
theorem k0_off232_inb : ∀ (i : grid0.Coords) (v7810 : BitVec 32) (k0_hw232 : k0_chk232 i v7810), ∀ (k0_h1 : k0_cond1 i = 1#1), ∀ a, (k0_off232 v7810) a + S1x1x512.size a ≤ S1x2048x512.size a := fun i v7810 k0_hw232 k0_h1 => k0_hw232 k0_h1

def k0_off233 (v7817 : BitVec 32) : Fin 3 → Nat :=
  let c0_5504 : Index := 0#32
  let v7818 : Index := Scalar.indexCast v7817
  let c0_5505 : Index := 0#32
  ![0, v7818.toNat, 0]

def k0_chk233 (i : grid0.Coords) (v7817 : BitVec 32) : Prop :=
  (∀ (k0_h1 : k0_cond1 i = 1#1), ∀ a, (k0_off233 v7817) a + S1x1x512.size a ≤ S1x2048x512.size a)
theorem k0_off233_inb : ∀ (i : grid0.Coords) (v7817 : BitVec 32) (k0_hw233 : k0_chk233 i v7817), ∀ (k0_h1 : k0_cond1 i = 1#1), ∀ a, (k0_off233 v7817) a + S1x1x512.size a ≤ S1x2048x512.size a := fun i v7817 k0_hw233 k0_h1 => k0_hw233 k0_h1

def k0_off234 (v7824 : BitVec 32) : Fin 3 → Nat :=
  let c0_5511 : Index := 0#32
  let v7825 : Index := Scalar.indexCast v7824
  let c0_5512 : Index := 0#32
  ![0, v7825.toNat, 0]

def k0_chk234 (i : grid0.Coords) (v7824 : BitVec 32) : Prop :=
  (∀ (k0_h1 : k0_cond1 i = 1#1), ∀ a, (k0_off234 v7824) a + S1x1x512.size a ≤ S1x2048x512.size a)
theorem k0_off234_inb : ∀ (i : grid0.Coords) (v7824 : BitVec 32) (k0_hw234 : k0_chk234 i v7824), ∀ (k0_h1 : k0_cond1 i = 1#1), ∀ a, (k0_off234 v7824) a + S1x1x512.size a ≤ S1x2048x512.size a := fun i v7824 k0_hw234 k0_h1 => k0_hw234 k0_h1

def k0_off235 (v7831 : BitVec 32) : Fin 3 → Nat :=
  let c0_5518 : Index := 0#32
  let v7832 : Index := Scalar.indexCast v7831
  let c0_5519 : Index := 0#32
  ![0, v7832.toNat, 0]

def k0_chk235 (i : grid0.Coords) (v7831 : BitVec 32) : Prop :=
  (∀ (k0_h1 : k0_cond1 i = 1#1), ∀ a, (k0_off235 v7831) a + S1x1x512.size a ≤ S1x2048x512.size a)
theorem k0_off235_inb : ∀ (i : grid0.Coords) (v7831 : BitVec 32) (k0_hw235 : k0_chk235 i v7831), ∀ (k0_h1 : k0_cond1 i = 1#1), ∀ a, (k0_off235 v7831) a + S1x1x512.size a ≤ S1x2048x512.size a := fun i v7831 k0_hw235 k0_h1 => k0_hw235 k0_h1

def k0_off236 (v7838 : BitVec 32) : Fin 3 → Nat :=
  let c0_5525 : Index := 0#32
  let v7839 : Index := Scalar.indexCast v7838
  let c0_5526 : Index := 0#32
  ![0, v7839.toNat, 0]

def k0_chk236 (i : grid0.Coords) (v7838 : BitVec 32) : Prop :=
  (∀ (k0_h1 : k0_cond1 i = 1#1), ∀ a, (k0_off236 v7838) a + S1x1x512.size a ≤ S1x2048x512.size a)
theorem k0_off236_inb : ∀ (i : grid0.Coords) (v7838 : BitVec 32) (k0_hw236 : k0_chk236 i v7838), ∀ (k0_h1 : k0_cond1 i = 1#1), ∀ a, (k0_off236 v7838) a + S1x1x512.size a ≤ S1x2048x512.size a := fun i v7838 k0_hw236 k0_h1 => k0_hw236 k0_h1

def k0_off237 (v7845 : BitVec 32) : Fin 3 → Nat :=
  let c0_5532 : Index := 0#32
  let v7846 : Index := Scalar.indexCast v7845
  let c0_5533 : Index := 0#32
  ![0, v7846.toNat, 0]

def k0_chk237 (i : grid0.Coords) (v7845 : BitVec 32) : Prop :=
  (∀ (k0_h1 : k0_cond1 i = 1#1), ∀ a, (k0_off237 v7845) a + S1x1x512.size a ≤ S1x2048x512.size a)
theorem k0_off237_inb : ∀ (i : grid0.Coords) (v7845 : BitVec 32) (k0_hw237 : k0_chk237 i v7845), ∀ (k0_h1 : k0_cond1 i = 1#1), ∀ a, (k0_off237 v7845) a + S1x1x512.size a ≤ S1x2048x512.size a := fun i v7845 k0_hw237 k0_h1 => k0_hw237 k0_h1

def k0_off238 (v7852 : BitVec 32) : Fin 3 → Nat :=
  let c0_5539 : Index := 0#32
  let v7853 : Index := Scalar.indexCast v7852
  let c0_5540 : Index := 0#32
  ![0, v7853.toNat, 0]

def k0_chk238 (i : grid0.Coords) (v7852 : BitVec 32) : Prop :=
  (∀ (k0_h1 : k0_cond1 i = 1#1), ∀ a, (k0_off238 v7852) a + S1x1x512.size a ≤ S1x2048x512.size a)
theorem k0_off238_inb : ∀ (i : grid0.Coords) (v7852 : BitVec 32) (k0_hw238 : k0_chk238 i v7852), ∀ (k0_h1 : k0_cond1 i = 1#1), ∀ a, (k0_off238 v7852) a + S1x1x512.size a ≤ S1x2048x512.size a := fun i v7852 k0_hw238 k0_h1 => k0_hw238 k0_h1

def k0_off239 (v7859 : BitVec 32) : Fin 3 → Nat :=
  let c0_5546 : Index := 0#32
  let v7860 : Index := Scalar.indexCast v7859
  let c0_5547 : Index := 0#32
  ![0, v7860.toNat, 0]

def k0_chk239 (i : grid0.Coords) (v7859 : BitVec 32) : Prop :=
  (∀ (k0_h1 : k0_cond1 i = 1#1), ∀ a, (k0_off239 v7859) a + S1x1x512.size a ≤ S1x2048x512.size a)
theorem k0_off239_inb : ∀ (i : grid0.Coords) (v7859 : BitVec 32) (k0_hw239 : k0_chk239 i v7859), ∀ (k0_h1 : k0_cond1 i = 1#1), ∀ a, (k0_off239 v7859) a + S1x1x512.size a ≤ S1x2048x512.size a := fun i v7859 k0_hw239 k0_h1 => k0_hw239 k0_h1

def k0_off240 (v7866 : BitVec 32) : Fin 3 → Nat :=
  let c0_5553 : Index := 0#32
  let v7867 : Index := Scalar.indexCast v7866
  let c0_5554 : Index := 0#32
  ![0, v7867.toNat, 0]

def k0_chk240 (i : grid0.Coords) (v7866 : BitVec 32) : Prop :=
  (∀ (k0_h1 : k0_cond1 i = 1#1), ∀ a, (k0_off240 v7866) a + S1x1x512.size a ≤ S1x2048x512.size a)
theorem k0_off240_inb : ∀ (i : grid0.Coords) (v7866 : BitVec 32) (k0_hw240 : k0_chk240 i v7866), ∀ (k0_h1 : k0_cond1 i = 1#1), ∀ a, (k0_off240 v7866) a + S1x1x512.size a ≤ S1x2048x512.size a := fun i v7866 k0_hw240 k0_h1 => k0_hw240 k0_h1

def k0_off241 (v7873 : BitVec 32) : Fin 3 → Nat :=
  let c0_5560 : Index := 0#32
  let v7874 : Index := Scalar.indexCast v7873
  let c0_5561 : Index := 0#32
  ![0, v7874.toNat, 0]

def k0_chk241 (i : grid0.Coords) (v7873 : BitVec 32) : Prop :=
  (∀ (k0_h1 : k0_cond1 i = 1#1), ∀ a, (k0_off241 v7873) a + S1x1x512.size a ≤ S1x2048x512.size a)
theorem k0_off241_inb : ∀ (i : grid0.Coords) (v7873 : BitVec 32) (k0_hw241 : k0_chk241 i v7873), ∀ (k0_h1 : k0_cond1 i = 1#1), ∀ a, (k0_off241 v7873) a + S1x1x512.size a ≤ S1x2048x512.size a := fun i v7873 k0_hw241 k0_h1 => k0_hw241 k0_h1

def k0_off242 (v7880 : BitVec 32) : Fin 3 → Nat :=
  let c0_5567 : Index := 0#32
  let v7881 : Index := Scalar.indexCast v7880
  let c0_5568 : Index := 0#32
  ![0, v7881.toNat, 0]

def k0_chk242 (i : grid0.Coords) (v7880 : BitVec 32) : Prop :=
  (∀ (k0_h1 : k0_cond1 i = 1#1), ∀ a, (k0_off242 v7880) a + S1x1x512.size a ≤ S1x2048x512.size a)
theorem k0_off242_inb : ∀ (i : grid0.Coords) (v7880 : BitVec 32) (k0_hw242 : k0_chk242 i v7880), ∀ (k0_h1 : k0_cond1 i = 1#1), ∀ a, (k0_off242 v7880) a + S1x1x512.size a ≤ S1x2048x512.size a := fun i v7880 k0_hw242 k0_h1 => k0_hw242 k0_h1

def k0_off243 (v7887 : BitVec 32) : Fin 3 → Nat :=
  let c0_5574 : Index := 0#32
  let v7888 : Index := Scalar.indexCast v7887
  let c0_5575 : Index := 0#32
  ![0, v7888.toNat, 0]

def k0_chk243 (i : grid0.Coords) (v7887 : BitVec 32) : Prop :=
  (∀ (k0_h1 : k0_cond1 i = 1#1), ∀ a, (k0_off243 v7887) a + S1x1x512.size a ≤ S1x2048x512.size a)
theorem k0_off243_inb : ∀ (i : grid0.Coords) (v7887 : BitVec 32) (k0_hw243 : k0_chk243 i v7887), ∀ (k0_h1 : k0_cond1 i = 1#1), ∀ a, (k0_off243 v7887) a + S1x1x512.size a ≤ S1x2048x512.size a := fun i v7887 k0_hw243 k0_h1 => k0_hw243 k0_h1

def k0_off244 (v7894 : BitVec 32) : Fin 3 → Nat :=
  let c0_5581 : Index := 0#32
  let v7895 : Index := Scalar.indexCast v7894
  let c0_5582 : Index := 0#32
  ![0, v7895.toNat, 0]

def k0_chk244 (i : grid0.Coords) (v7894 : BitVec 32) : Prop :=
  (∀ (k0_h1 : k0_cond1 i = 1#1), ∀ a, (k0_off244 v7894) a + S1x1x512.size a ≤ S1x2048x512.size a)
theorem k0_off244_inb : ∀ (i : grid0.Coords) (v7894 : BitVec 32) (k0_hw244 : k0_chk244 i v7894), ∀ (k0_h1 : k0_cond1 i = 1#1), ∀ a, (k0_off244 v7894) a + S1x1x512.size a ≤ S1x2048x512.size a := fun i v7894 k0_hw244 k0_h1 => k0_hw244 k0_h1

def k0_off245 (v7901 : BitVec 32) : Fin 3 → Nat :=
  let c0_5588 : Index := 0#32
  let v7902 : Index := Scalar.indexCast v7901
  let c0_5589 : Index := 0#32
  ![0, v7902.toNat, 0]

def k0_chk245 (i : grid0.Coords) (v7901 : BitVec 32) : Prop :=
  (∀ (k0_h1 : k0_cond1 i = 1#1), ∀ a, (k0_off245 v7901) a + S1x1x512.size a ≤ S1x2048x512.size a)
theorem k0_off245_inb : ∀ (i : grid0.Coords) (v7901 : BitVec 32) (k0_hw245 : k0_chk245 i v7901), ∀ (k0_h1 : k0_cond1 i = 1#1), ∀ a, (k0_off245 v7901) a + S1x1x512.size a ≤ S1x2048x512.size a := fun i v7901 k0_hw245 k0_h1 => k0_hw245 k0_h1

def k0_off246 (v7908 : BitVec 32) : Fin 3 → Nat :=
  let c0_5595 : Index := 0#32
  let v7909 : Index := Scalar.indexCast v7908
  let c0_5596 : Index := 0#32
  ![0, v7909.toNat, 0]

def k0_chk246 (i : grid0.Coords) (v7908 : BitVec 32) : Prop :=
  (∀ (k0_h1 : k0_cond1 i = 1#1), ∀ a, (k0_off246 v7908) a + S1x1x512.size a ≤ S1x2048x512.size a)
theorem k0_off246_inb : ∀ (i : grid0.Coords) (v7908 : BitVec 32) (k0_hw246 : k0_chk246 i v7908), ∀ (k0_h1 : k0_cond1 i = 1#1), ∀ a, (k0_off246 v7908) a + S1x1x512.size a ≤ S1x2048x512.size a := fun i v7908 k0_hw246 k0_h1 => k0_hw246 k0_h1

def k0_off247 (v7915 : BitVec 32) : Fin 3 → Nat :=
  let c0_5602 : Index := 0#32
  let v7916 : Index := Scalar.indexCast v7915
  let c0_5603 : Index := 0#32
  ![0, v7916.toNat, 0]

def k0_chk247 (i : grid0.Coords) (v7915 : BitVec 32) : Prop :=
  (∀ (k0_h1 : k0_cond1 i = 1#1), ∀ a, (k0_off247 v7915) a + S1x1x512.size a ≤ S1x2048x512.size a)
theorem k0_off247_inb : ∀ (i : grid0.Coords) (v7915 : BitVec 32) (k0_hw247 : k0_chk247 i v7915), ∀ (k0_h1 : k0_cond1 i = 1#1), ∀ a, (k0_off247 v7915) a + S1x1x512.size a ≤ S1x2048x512.size a := fun i v7915 k0_hw247 k0_h1 => k0_hw247 k0_h1

def k0_off248 (v7922 : BitVec 32) : Fin 3 → Nat :=
  let c0_5609 : Index := 0#32
  let v7923 : Index := Scalar.indexCast v7922
  let c0_5610 : Index := 0#32
  ![0, v7923.toNat, 0]

def k0_chk248 (i : grid0.Coords) (v7922 : BitVec 32) : Prop :=
  (∀ (k0_h1 : k0_cond1 i = 1#1), ∀ a, (k0_off248 v7922) a + S1x1x512.size a ≤ S1x2048x512.size a)
theorem k0_off248_inb : ∀ (i : grid0.Coords) (v7922 : BitVec 32) (k0_hw248 : k0_chk248 i v7922), ∀ (k0_h1 : k0_cond1 i = 1#1), ∀ a, (k0_off248 v7922) a + S1x1x512.size a ≤ S1x2048x512.size a := fun i v7922 k0_hw248 k0_h1 => k0_hw248 k0_h1

def k0_off249 (v7929 : BitVec 32) : Fin 3 → Nat :=
  let c0_5616 : Index := 0#32
  let v7930 : Index := Scalar.indexCast v7929
  let c0_5617 : Index := 0#32
  ![0, v7930.toNat, 0]

def k0_chk249 (i : grid0.Coords) (v7929 : BitVec 32) : Prop :=
  (∀ (k0_h1 : k0_cond1 i = 1#1), ∀ a, (k0_off249 v7929) a + S1x1x512.size a ≤ S1x2048x512.size a)
theorem k0_off249_inb : ∀ (i : grid0.Coords) (v7929 : BitVec 32) (k0_hw249 : k0_chk249 i v7929), ∀ (k0_h1 : k0_cond1 i = 1#1), ∀ a, (k0_off249 v7929) a + S1x1x512.size a ≤ S1x2048x512.size a := fun i v7929 k0_hw249 k0_h1 => k0_hw249 k0_h1

def k0_off250 (v7936 : BitVec 32) : Fin 3 → Nat :=
  let c0_5623 : Index := 0#32
  let v7937 : Index := Scalar.indexCast v7936
  let c0_5624 : Index := 0#32
  ![0, v7937.toNat, 0]

def k0_chk250 (i : grid0.Coords) (v7936 : BitVec 32) : Prop :=
  (∀ (k0_h1 : k0_cond1 i = 1#1), ∀ a, (k0_off250 v7936) a + S1x1x512.size a ≤ S1x2048x512.size a)
theorem k0_off250_inb : ∀ (i : grid0.Coords) (v7936 : BitVec 32) (k0_hw250 : k0_chk250 i v7936), ∀ (k0_h1 : k0_cond1 i = 1#1), ∀ a, (k0_off250 v7936) a + S1x1x512.size a ≤ S1x2048x512.size a := fun i v7936 k0_hw250 k0_h1 => k0_hw250 k0_h1

def k0_off251 (v7943 : BitVec 32) : Fin 3 → Nat :=
  let c0_5630 : Index := 0#32
  let v7944 : Index := Scalar.indexCast v7943
  let c0_5631 : Index := 0#32
  ![0, v7944.toNat, 0]

def k0_chk251 (i : grid0.Coords) (v7943 : BitVec 32) : Prop :=
  (∀ (k0_h1 : k0_cond1 i = 1#1), ∀ a, (k0_off251 v7943) a + S1x1x512.size a ≤ S1x2048x512.size a)
theorem k0_off251_inb : ∀ (i : grid0.Coords) (v7943 : BitVec 32) (k0_hw251 : k0_chk251 i v7943), ∀ (k0_h1 : k0_cond1 i = 1#1), ∀ a, (k0_off251 v7943) a + S1x1x512.size a ≤ S1x2048x512.size a := fun i v7943 k0_hw251 k0_h1 => k0_hw251 k0_h1

def k0_off252 (v7950 : BitVec 32) : Fin 3 → Nat :=
  let c0_5637 : Index := 0#32
  let v7951 : Index := Scalar.indexCast v7950
  let c0_5638 : Index := 0#32
  ![0, v7951.toNat, 0]

def k0_chk252 (i : grid0.Coords) (v7950 : BitVec 32) : Prop :=
  (∀ (k0_h1 : k0_cond1 i = 1#1), ∀ a, (k0_off252 v7950) a + S1x1x512.size a ≤ S1x2048x512.size a)
theorem k0_off252_inb : ∀ (i : grid0.Coords) (v7950 : BitVec 32) (k0_hw252 : k0_chk252 i v7950), ∀ (k0_h1 : k0_cond1 i = 1#1), ∀ a, (k0_off252 v7950) a + S1x1x512.size a ≤ S1x2048x512.size a := fun i v7950 k0_hw252 k0_h1 => k0_hw252 k0_h1

def k0_off253 (v7957 : BitVec 32) : Fin 3 → Nat :=
  let c0_5644 : Index := 0#32
  let v7958 : Index := Scalar.indexCast v7957
  let c0_5645 : Index := 0#32
  ![0, v7958.toNat, 0]

def k0_chk253 (i : grid0.Coords) (v7957 : BitVec 32) : Prop :=
  (∀ (k0_h1 : k0_cond1 i = 1#1), ∀ a, (k0_off253 v7957) a + S1x1x512.size a ≤ S1x2048x512.size a)
theorem k0_off253_inb : ∀ (i : grid0.Coords) (v7957 : BitVec 32) (k0_hw253 : k0_chk253 i v7957), ∀ (k0_h1 : k0_cond1 i = 1#1), ∀ a, (k0_off253 v7957) a + S1x1x512.size a ≤ S1x2048x512.size a := fun i v7957 k0_hw253 k0_h1 => k0_hw253 k0_h1

def k0_off254 (v7964 : BitVec 32) : Fin 3 → Nat :=
  let c0_5651 : Index := 0#32
  let v7965 : Index := Scalar.indexCast v7964
  let c0_5652 : Index := 0#32
  ![0, v7965.toNat, 0]

def k0_chk254 (i : grid0.Coords) (v7964 : BitVec 32) : Prop :=
  (∀ (k0_h1 : k0_cond1 i = 1#1), ∀ a, (k0_off254 v7964) a + S1x1x512.size a ≤ S1x2048x512.size a)
theorem k0_off254_inb : ∀ (i : grid0.Coords) (v7964 : BitVec 32) (k0_hw254 : k0_chk254 i v7964), ∀ (k0_h1 : k0_cond1 i = 1#1), ∀ a, (k0_off254 v7964) a + S1x1x512.size a ≤ S1x2048x512.size a := fun i v7964 k0_hw254 k0_h1 => k0_hw254 k0_h1

def k0_off255 (v7971 : BitVec 32) : Fin 3 → Nat :=
  let c0_5658 : Index := 0#32
  let v7972 : Index := Scalar.indexCast v7971
  let c0_5659 : Index := 0#32
  ![0, v7972.toNat, 0]

def k0_chk255 (i : grid0.Coords) (v7971 : BitVec 32) : Prop :=
  (∀ (k0_h1 : k0_cond1 i = 1#1), ∀ a, (k0_off255 v7971) a + S1x1x512.size a ≤ S1x2048x512.size a)
theorem k0_off255_inb : ∀ (i : grid0.Coords) (v7971 : BitVec 32) (k0_hw255 : k0_chk255 i v7971), ∀ (k0_h1 : k0_cond1 i = 1#1), ∀ a, (k0_off255 v7971) a + S1x1x512.size a ≤ S1x2048x512.size a := fun i v7971 k0_hw255 k0_h1 => k0_hw255 k0_h1

def k0_off256 (v7978 : BitVec 32) : Fin 3 → Nat :=
  let c0_5665 : Index := 0#32
  let v7979 : Index := Scalar.indexCast v7978
  let c0_5666 : Index := 0#32
  ![0, v7979.toNat, 0]

def k0_chk256 (i : grid0.Coords) (v7978 : BitVec 32) : Prop :=
  (∀ (k0_h1 : k0_cond1 i = 1#1), ∀ a, (k0_off256 v7978) a + S1x1x512.size a ≤ S1x2048x512.size a)
theorem k0_off256_inb : ∀ (i : grid0.Coords) (v7978 : BitVec 32) (k0_hw256 : k0_chk256 i v7978), ∀ (k0_h1 : k0_cond1 i = 1#1), ∀ a, (k0_off256 v7978) a + S1x1x512.size a ≤ S1x2048x512.size a := fun i v7978 k0_hw256 k0_h1 => k0_hw256 k0_h1

def k0_off257 (i : grid0.Coords) : Fin 3 → Nat :=
  let c0_2 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v10 : Index := Scalar.indexCast v9
  let c0_3 : Index := 0#32
  ![0, v10.toNat, 0]
def k0_off258 (v11 : BitVec 32) : Fin 3 → Nat :=
  let c0_4 : Index := 0#32
  let v12 : Index := Scalar.indexCast v11
  let c0_5 : Index := 0#32
  ![0, v12.toNat, 0]

def k0_chk257 (v11 : BitVec 32) : Prop :=
  (∀ a, (k0_off258 v11) a + S1x1x512.size a ≤ S1x2048x512.size a)
theorem k0_off258_inb : ∀ (v11 : BitVec 32) (k0_hw257 : k0_chk257 v11), ∀ a, (k0_off258 v11) a + S1x1x512.size a ≤ S1x2048x512.size a := fun v11 k0_hw257 => k0_hw257

def k0_off259 (i : grid0.Coords) : Fin 3 → Nat :=
  let c0_8 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v18 : Index := Scalar.indexCast v9
  let c1 : Index := 1#32
  ![0, v18.toNat, 1]
def k0_off260 (v19 : BitVec 32) : Fin 3 → Nat :=
  let c0_9 : Index := 0#32
  let v20 : Index := Scalar.indexCast v19
  let c0_10 : Index := 0#32
  ![0, v20.toNat, 0]

def k0_chk258 (v19 : BitVec 32) : Prop :=
  (∀ a, (k0_off260 v19) a + S1x1x512.size a ≤ S1x2048x512.size a)
theorem k0_off260_inb : ∀ (v19 : BitVec 32) (k0_hw258 : k0_chk258 v19), ∀ a, (k0_off260 v19) a + S1x1x512.size a ≤ S1x2048x512.size a := fun v19 k0_hw258 => k0_hw258

def k0_off261 (i : grid0.Coords) : Fin 3 → Nat :=
  let c0_13 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v26 : Index := Scalar.indexCast v9
  let c2 : Index := 2#32
  ![0, v26.toNat, 2]
def k0_off262 (v27 : BitVec 32) : Fin 3 → Nat :=
  let c0_14 : Index := 0#32
  let v28 : Index := Scalar.indexCast v27
  let c0_15 : Index := 0#32
  ![0, v28.toNat, 0]

def k0_chk259 (v27 : BitVec 32) : Prop :=
  (∀ a, (k0_off262 v27) a + S1x1x512.size a ≤ S1x2048x512.size a)
theorem k0_off262_inb : ∀ (v27 : BitVec 32) (k0_hw259 : k0_chk259 v27), ∀ a, (k0_off262 v27) a + S1x1x512.size a ≤ S1x2048x512.size a := fun v27 k0_hw259 => k0_hw259

def k0_off263 (i : grid0.Coords) : Fin 3 → Nat :=
  let c0_18 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v34 : Index := Scalar.indexCast v9
  let c3 : Index := 3#32
  ![0, v34.toNat, 3]
def k0_off264 (v35 : BitVec 32) : Fin 3 → Nat :=
  let c0_19 : Index := 0#32
  let v36 : Index := Scalar.indexCast v35
  let c0_20 : Index := 0#32
  ![0, v36.toNat, 0]

def k0_chk260 (v35 : BitVec 32) : Prop :=
  (∀ a, (k0_off264 v35) a + S1x1x512.size a ≤ S1x2048x512.size a)
theorem k0_off264_inb : ∀ (v35 : BitVec 32) (k0_hw260 : k0_chk260 v35), ∀ a, (k0_off264 v35) a + S1x1x512.size a ≤ S1x2048x512.size a := fun v35 k0_hw260 => k0_hw260

def k0_off265 (i : grid0.Coords) : Fin 3 → Nat :=
  let c0_23 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v42 : Index := Scalar.indexCast v9
  let c4 : Index := 4#32
  ![0, v42.toNat, 4]
def k0_off266 (v43 : BitVec 32) : Fin 3 → Nat :=
  let c0_24 : Index := 0#32
  let v44 : Index := Scalar.indexCast v43
  let c0_25 : Index := 0#32
  ![0, v44.toNat, 0]

def k0_chk261 (v43 : BitVec 32) : Prop :=
  (∀ a, (k0_off266 v43) a + S1x1x512.size a ≤ S1x2048x512.size a)
theorem k0_off266_inb : ∀ (v43 : BitVec 32) (k0_hw261 : k0_chk261 v43), ∀ a, (k0_off266 v43) a + S1x1x512.size a ≤ S1x2048x512.size a := fun v43 k0_hw261 => k0_hw261

def k0_off267 (i : grid0.Coords) : Fin 3 → Nat :=
  let c0_28 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v50 : Index := Scalar.indexCast v9
  let c5 : Index := 5#32
  ![0, v50.toNat, 5]
def k0_off268 (v51 : BitVec 32) : Fin 3 → Nat :=
  let c0_29 : Index := 0#32
  let v52 : Index := Scalar.indexCast v51
  let c0_30 : Index := 0#32
  ![0, v52.toNat, 0]

def k0_chk262 (v51 : BitVec 32) : Prop :=
  (∀ a, (k0_off268 v51) a + S1x1x512.size a ≤ S1x2048x512.size a)
theorem k0_off268_inb : ∀ (v51 : BitVec 32) (k0_hw262 : k0_chk262 v51), ∀ a, (k0_off268 v51) a + S1x1x512.size a ≤ S1x2048x512.size a := fun v51 k0_hw262 => k0_hw262

def k0_off269 (i : grid0.Coords) : Fin 3 → Nat :=
  let c0_33 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v58 : Index := Scalar.indexCast v9
  let c6 : Index := 6#32
  ![0, v58.toNat, 6]
def k0_off270 (v59 : BitVec 32) : Fin 3 → Nat :=
  let c0_34 : Index := 0#32
  let v60 : Index := Scalar.indexCast v59
  let c0_35 : Index := 0#32
  ![0, v60.toNat, 0]

def k0_chk263 (v59 : BitVec 32) : Prop :=
  (∀ a, (k0_off270 v59) a + S1x1x512.size a ≤ S1x2048x512.size a)
theorem k0_off270_inb : ∀ (v59 : BitVec 32) (k0_hw263 : k0_chk263 v59), ∀ a, (k0_off270 v59) a + S1x1x512.size a ≤ S1x2048x512.size a := fun v59 k0_hw263 => k0_hw263

def k0_off271 (i : grid0.Coords) : Fin 3 → Nat :=
  let c0_38 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v66 : Index := Scalar.indexCast v9
  let c7 : Index := 7#32
  ![0, v66.toNat, 7]
def k0_off272 (v67 : BitVec 32) : Fin 3 → Nat :=
  let c0_39 : Index := 0#32
  let v68 : Index := Scalar.indexCast v67
  let c0_40 : Index := 0#32
  ![0, v68.toNat, 0]

def k0_chk264 (v67 : BitVec 32) : Prop :=
  (∀ a, (k0_off272 v67) a + S1x1x512.size a ≤ S1x2048x512.size a)
theorem k0_off272_inb : ∀ (v67 : BitVec 32) (k0_hw264 : k0_chk264 v67), ∀ a, (k0_off272 v67) a + S1x1x512.size a ≤ S1x2048x512.size a := fun v67 k0_hw264 => k0_hw264

def k0_off273 (i : grid0.Coords) : Fin 3 → Nat :=
  let c0_43 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v74 : Index := Scalar.indexCast v9
  let c8 : Index := 8#32
  ![0, v74.toNat, 8]
def k0_off274 (v75 : BitVec 32) : Fin 3 → Nat :=
  let c0_44 : Index := 0#32
  let v76 : Index := Scalar.indexCast v75
  let c0_45 : Index := 0#32
  ![0, v76.toNat, 0]

def k0_chk265 (v75 : BitVec 32) : Prop :=
  (∀ a, (k0_off274 v75) a + S1x1x512.size a ≤ S1x2048x512.size a)
theorem k0_off274_inb : ∀ (v75 : BitVec 32) (k0_hw265 : k0_chk265 v75), ∀ a, (k0_off274 v75) a + S1x1x512.size a ≤ S1x2048x512.size a := fun v75 k0_hw265 => k0_hw265

def k0_off275 (i : grid0.Coords) : Fin 3 → Nat :=
  let c0_48 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v82 : Index := Scalar.indexCast v9
  let c9 : Index := 9#32
  ![0, v82.toNat, 9]
def k0_off276 (v83 : BitVec 32) : Fin 3 → Nat :=
  let c0_49 : Index := 0#32
  let v84 : Index := Scalar.indexCast v83
  let c0_50 : Index := 0#32
  ![0, v84.toNat, 0]

def k0_chk266 (v83 : BitVec 32) : Prop :=
  (∀ a, (k0_off276 v83) a + S1x1x512.size a ≤ S1x2048x512.size a)
theorem k0_off276_inb : ∀ (v83 : BitVec 32) (k0_hw266 : k0_chk266 v83), ∀ a, (k0_off276 v83) a + S1x1x512.size a ≤ S1x2048x512.size a := fun v83 k0_hw266 => k0_hw266

def k0_off277 (i : grid0.Coords) : Fin 3 → Nat :=
  let c0_53 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v90 : Index := Scalar.indexCast v9
  let c10 : Index := 10#32
  ![0, v90.toNat, 10]
def k0_off278 (v91 : BitVec 32) : Fin 3 → Nat :=
  let c0_54 : Index := 0#32
  let v92 : Index := Scalar.indexCast v91
  let c0_55 : Index := 0#32
  ![0, v92.toNat, 0]

def k0_chk267 (v91 : BitVec 32) : Prop :=
  (∀ a, (k0_off278 v91) a + S1x1x512.size a ≤ S1x2048x512.size a)
theorem k0_off278_inb : ∀ (v91 : BitVec 32) (k0_hw267 : k0_chk267 v91), ∀ a, (k0_off278 v91) a + S1x1x512.size a ≤ S1x2048x512.size a := fun v91 k0_hw267 => k0_hw267

def k0_off279 (i : grid0.Coords) : Fin 3 → Nat :=
  let c0_58 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v98 : Index := Scalar.indexCast v9
  let c11 : Index := 11#32
  ![0, v98.toNat, 11]
def k0_off280 (v99 : BitVec 32) : Fin 3 → Nat :=
  let c0_59 : Index := 0#32
  let v100 : Index := Scalar.indexCast v99
  let c0_60 : Index := 0#32
  ![0, v100.toNat, 0]

def k0_chk268 (v99 : BitVec 32) : Prop :=
  (∀ a, (k0_off280 v99) a + S1x1x512.size a ≤ S1x2048x512.size a)
theorem k0_off280_inb : ∀ (v99 : BitVec 32) (k0_hw268 : k0_chk268 v99), ∀ a, (k0_off280 v99) a + S1x1x512.size a ≤ S1x2048x512.size a := fun v99 k0_hw268 => k0_hw268

def k0_off281 (i : grid0.Coords) : Fin 3 → Nat :=
  let c0_63 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v106 : Index := Scalar.indexCast v9
  let c12 : Index := 12#32
  ![0, v106.toNat, 12]
def k0_off282 (v107 : BitVec 32) : Fin 3 → Nat :=
  let c0_64 : Index := 0#32
  let v108 : Index := Scalar.indexCast v107
  let c0_65 : Index := 0#32
  ![0, v108.toNat, 0]

def k0_chk269 (v107 : BitVec 32) : Prop :=
  (∀ a, (k0_off282 v107) a + S1x1x512.size a ≤ S1x2048x512.size a)
theorem k0_off282_inb : ∀ (v107 : BitVec 32) (k0_hw269 : k0_chk269 v107), ∀ a, (k0_off282 v107) a + S1x1x512.size a ≤ S1x2048x512.size a := fun v107 k0_hw269 => k0_hw269

def k0_off283 (i : grid0.Coords) : Fin 3 → Nat :=
  let c0_68 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v114 : Index := Scalar.indexCast v9
  let c13 : Index := 13#32
  ![0, v114.toNat, 13]
def k0_off284 (v115 : BitVec 32) : Fin 3 → Nat :=
  let c0_69 : Index := 0#32
  let v116 : Index := Scalar.indexCast v115
  let c0_70 : Index := 0#32
  ![0, v116.toNat, 0]

def k0_chk270 (v115 : BitVec 32) : Prop :=
  (∀ a, (k0_off284 v115) a + S1x1x512.size a ≤ S1x2048x512.size a)
theorem k0_off284_inb : ∀ (v115 : BitVec 32) (k0_hw270 : k0_chk270 v115), ∀ a, (k0_off284 v115) a + S1x1x512.size a ≤ S1x2048x512.size a := fun v115 k0_hw270 => k0_hw270

def k0_off285 (i : grid0.Coords) : Fin 3 → Nat :=
  let c0_73 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v122 : Index := Scalar.indexCast v9
  let c14 : Index := 14#32
  ![0, v122.toNat, 14]
def k0_off286 (v123 : BitVec 32) : Fin 3 → Nat :=
  let c0_74 : Index := 0#32
  let v124 : Index := Scalar.indexCast v123
  let c0_75 : Index := 0#32
  ![0, v124.toNat, 0]

def k0_chk271 (v123 : BitVec 32) : Prop :=
  (∀ a, (k0_off286 v123) a + S1x1x512.size a ≤ S1x2048x512.size a)
theorem k0_off286_inb : ∀ (v123 : BitVec 32) (k0_hw271 : k0_chk271 v123), ∀ a, (k0_off286 v123) a + S1x1x512.size a ≤ S1x2048x512.size a := fun v123 k0_hw271 => k0_hw271

def k0_off287 (i : grid0.Coords) : Fin 3 → Nat :=
  let c0_78 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v130 : Index := Scalar.indexCast v9
  let c15 : Index := 15#32
  ![0, v130.toNat, 15]
def k0_off288 (v131 : BitVec 32) : Fin 3 → Nat :=
  let c0_79 : Index := 0#32
  let v132 : Index := Scalar.indexCast v131
  let c0_80 : Index := 0#32
  ![0, v132.toNat, 0]

def k0_chk272 (v131 : BitVec 32) : Prop :=
  (∀ a, (k0_off288 v131) a + S1x1x512.size a ≤ S1x2048x512.size a)
theorem k0_off288_inb : ∀ (v131 : BitVec 32) (k0_hw272 : k0_chk272 v131), ∀ a, (k0_off288 v131) a + S1x1x512.size a ≤ S1x2048x512.size a := fun v131 k0_hw272 => k0_hw272

def k0_off289 (i : grid0.Coords) : Fin 3 → Nat :=
  let c0_83 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v138 : Index := Scalar.indexCast v9
  let c16 : Index := 16#32
  ![0, v138.toNat, 16]
def k0_off290 (v139 : BitVec 32) : Fin 3 → Nat :=
  let c0_84 : Index := 0#32
  let v140 : Index := Scalar.indexCast v139
  let c0_85 : Index := 0#32
  ![0, v140.toNat, 0]

def k0_chk273 (v139 : BitVec 32) : Prop :=
  (∀ a, (k0_off290 v139) a + S1x1x512.size a ≤ S1x2048x512.size a)
theorem k0_off290_inb : ∀ (v139 : BitVec 32) (k0_hw273 : k0_chk273 v139), ∀ a, (k0_off290 v139) a + S1x1x512.size a ≤ S1x2048x512.size a := fun v139 k0_hw273 => k0_hw273

def k0_off291 (i : grid0.Coords) : Fin 3 → Nat :=
  let c0_88 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v146 : Index := Scalar.indexCast v9
  let c17 : Index := 17#32
  ![0, v146.toNat, 17]
def k0_off292 (v147 : BitVec 32) : Fin 3 → Nat :=
  let c0_89 : Index := 0#32
  let v148 : Index := Scalar.indexCast v147
  let c0_90 : Index := 0#32
  ![0, v148.toNat, 0]

def k0_chk274 (v147 : BitVec 32) : Prop :=
  (∀ a, (k0_off292 v147) a + S1x1x512.size a ≤ S1x2048x512.size a)
theorem k0_off292_inb : ∀ (v147 : BitVec 32) (k0_hw274 : k0_chk274 v147), ∀ a, (k0_off292 v147) a + S1x1x512.size a ≤ S1x2048x512.size a := fun v147 k0_hw274 => k0_hw274

def k0_off293 (i : grid0.Coords) : Fin 3 → Nat :=
  let c0_93 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v154 : Index := Scalar.indexCast v9
  let c18 : Index := 18#32
  ![0, v154.toNat, 18]
def k0_off294 (v155 : BitVec 32) : Fin 3 → Nat :=
  let c0_94 : Index := 0#32
  let v156 : Index := Scalar.indexCast v155
  let c0_95 : Index := 0#32
  ![0, v156.toNat, 0]

def k0_chk275 (v155 : BitVec 32) : Prop :=
  (∀ a, (k0_off294 v155) a + S1x1x512.size a ≤ S1x2048x512.size a)
theorem k0_off294_inb : ∀ (v155 : BitVec 32) (k0_hw275 : k0_chk275 v155), ∀ a, (k0_off294 v155) a + S1x1x512.size a ≤ S1x2048x512.size a := fun v155 k0_hw275 => k0_hw275

def k0_off295 (i : grid0.Coords) : Fin 3 → Nat :=
  let c0_98 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v162 : Index := Scalar.indexCast v9
  let c19 : Index := 19#32
  ![0, v162.toNat, 19]
def k0_off296 (v163 : BitVec 32) : Fin 3 → Nat :=
  let c0_99 : Index := 0#32
  let v164 : Index := Scalar.indexCast v163
  let c0_100 : Index := 0#32
  ![0, v164.toNat, 0]

def k0_chk276 (v163 : BitVec 32) : Prop :=
  (∀ a, (k0_off296 v163) a + S1x1x512.size a ≤ S1x2048x512.size a)
theorem k0_off296_inb : ∀ (v163 : BitVec 32) (k0_hw276 : k0_chk276 v163), ∀ a, (k0_off296 v163) a + S1x1x512.size a ≤ S1x2048x512.size a := fun v163 k0_hw276 => k0_hw276

def k0_off297 (i : grid0.Coords) : Fin 3 → Nat :=
  let c0_103 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v170 : Index := Scalar.indexCast v9
  let c20 : Index := 20#32
  ![0, v170.toNat, 20]
def k0_off298 (v171 : BitVec 32) : Fin 3 → Nat :=
  let c0_104 : Index := 0#32
  let v172 : Index := Scalar.indexCast v171
  let c0_105 : Index := 0#32
  ![0, v172.toNat, 0]

def k0_chk277 (v171 : BitVec 32) : Prop :=
  (∀ a, (k0_off298 v171) a + S1x1x512.size a ≤ S1x2048x512.size a)
theorem k0_off298_inb : ∀ (v171 : BitVec 32) (k0_hw277 : k0_chk277 v171), ∀ a, (k0_off298 v171) a + S1x1x512.size a ≤ S1x2048x512.size a := fun v171 k0_hw277 => k0_hw277

def k0_off299 (i : grid0.Coords) : Fin 3 → Nat :=
  let c0_108 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v178 : Index := Scalar.indexCast v9
  let c21 : Index := 21#32
  ![0, v178.toNat, 21]
def k0_off300 (v179 : BitVec 32) : Fin 3 → Nat :=
  let c0_109 : Index := 0#32
  let v180 : Index := Scalar.indexCast v179
  let c0_110 : Index := 0#32
  ![0, v180.toNat, 0]

def k0_chk278 (v179 : BitVec 32) : Prop :=
  (∀ a, (k0_off300 v179) a + S1x1x512.size a ≤ S1x2048x512.size a)
theorem k0_off300_inb : ∀ (v179 : BitVec 32) (k0_hw278 : k0_chk278 v179), ∀ a, (k0_off300 v179) a + S1x1x512.size a ≤ S1x2048x512.size a := fun v179 k0_hw278 => k0_hw278

def k0_off301 (i : grid0.Coords) : Fin 3 → Nat :=
  let c0_113 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v186 : Index := Scalar.indexCast v9
  let c22 : Index := 22#32
  ![0, v186.toNat, 22]
def k0_off302 (v187 : BitVec 32) : Fin 3 → Nat :=
  let c0_114 : Index := 0#32
  let v188 : Index := Scalar.indexCast v187
  let c0_115 : Index := 0#32
  ![0, v188.toNat, 0]

def k0_chk279 (v187 : BitVec 32) : Prop :=
  (∀ a, (k0_off302 v187) a + S1x1x512.size a ≤ S1x2048x512.size a)
theorem k0_off302_inb : ∀ (v187 : BitVec 32) (k0_hw279 : k0_chk279 v187), ∀ a, (k0_off302 v187) a + S1x1x512.size a ≤ S1x2048x512.size a := fun v187 k0_hw279 => k0_hw279

def k0_off303 (i : grid0.Coords) : Fin 3 → Nat :=
  let c0_118 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v194 : Index := Scalar.indexCast v9
  let c23 : Index := 23#32
  ![0, v194.toNat, 23]
def k0_off304 (v195 : BitVec 32) : Fin 3 → Nat :=
  let c0_119 : Index := 0#32
  let v196 : Index := Scalar.indexCast v195
  let c0_120 : Index := 0#32
  ![0, v196.toNat, 0]

def k0_chk280 (v195 : BitVec 32) : Prop :=
  (∀ a, (k0_off304 v195) a + S1x1x512.size a ≤ S1x2048x512.size a)
theorem k0_off304_inb : ∀ (v195 : BitVec 32) (k0_hw280 : k0_chk280 v195), ∀ a, (k0_off304 v195) a + S1x1x512.size a ≤ S1x2048x512.size a := fun v195 k0_hw280 => k0_hw280

def k0_off305 (i : grid0.Coords) : Fin 3 → Nat :=
  let c0_123 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v202 : Index := Scalar.indexCast v9
  let c24 : Index := 24#32
  ![0, v202.toNat, 24]
def k0_off306 (v203 : BitVec 32) : Fin 3 → Nat :=
  let c0_124 : Index := 0#32
  let v204 : Index := Scalar.indexCast v203
  let c0_125 : Index := 0#32
  ![0, v204.toNat, 0]

def k0_chk281 (v203 : BitVec 32) : Prop :=
  (∀ a, (k0_off306 v203) a + S1x1x512.size a ≤ S1x2048x512.size a)
theorem k0_off306_inb : ∀ (v203 : BitVec 32) (k0_hw281 : k0_chk281 v203), ∀ a, (k0_off306 v203) a + S1x1x512.size a ≤ S1x2048x512.size a := fun v203 k0_hw281 => k0_hw281

def k0_off307 (i : grid0.Coords) : Fin 3 → Nat :=
  let c0_128 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v210 : Index := Scalar.indexCast v9
  let c25 : Index := 25#32
  ![0, v210.toNat, 25]
def k0_off308 (v211 : BitVec 32) : Fin 3 → Nat :=
  let c0_129 : Index := 0#32
  let v212 : Index := Scalar.indexCast v211
  let c0_130 : Index := 0#32
  ![0, v212.toNat, 0]

def k0_chk282 (v211 : BitVec 32) : Prop :=
  (∀ a, (k0_off308 v211) a + S1x1x512.size a ≤ S1x2048x512.size a)
theorem k0_off308_inb : ∀ (v211 : BitVec 32) (k0_hw282 : k0_chk282 v211), ∀ a, (k0_off308 v211) a + S1x1x512.size a ≤ S1x2048x512.size a := fun v211 k0_hw282 => k0_hw282

def k0_off309 (i : grid0.Coords) : Fin 3 → Nat :=
  let c0_133 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v218 : Index := Scalar.indexCast v9
  let c26 : Index := 26#32
  ![0, v218.toNat, 26]
def k0_off310 (v219 : BitVec 32) : Fin 3 → Nat :=
  let c0_134 : Index := 0#32
  let v220 : Index := Scalar.indexCast v219
  let c0_135 : Index := 0#32
  ![0, v220.toNat, 0]

def k0_chk283 (v219 : BitVec 32) : Prop :=
  (∀ a, (k0_off310 v219) a + S1x1x512.size a ≤ S1x2048x512.size a)
theorem k0_off310_inb : ∀ (v219 : BitVec 32) (k0_hw283 : k0_chk283 v219), ∀ a, (k0_off310 v219) a + S1x1x512.size a ≤ S1x2048x512.size a := fun v219 k0_hw283 => k0_hw283

def k0_off311 (i : grid0.Coords) : Fin 3 → Nat :=
  let c0_138 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v226 : Index := Scalar.indexCast v9
  let c27 : Index := 27#32
  ![0, v226.toNat, 27]
def k0_off312 (v227 : BitVec 32) : Fin 3 → Nat :=
  let c0_139 : Index := 0#32
  let v228 : Index := Scalar.indexCast v227
  let c0_140 : Index := 0#32
  ![0, v228.toNat, 0]

def k0_chk284 (v227 : BitVec 32) : Prop :=
  (∀ a, (k0_off312 v227) a + S1x1x512.size a ≤ S1x2048x512.size a)
theorem k0_off312_inb : ∀ (v227 : BitVec 32) (k0_hw284 : k0_chk284 v227), ∀ a, (k0_off312 v227) a + S1x1x512.size a ≤ S1x2048x512.size a := fun v227 k0_hw284 => k0_hw284

def k0_off313 (i : grid0.Coords) : Fin 3 → Nat :=
  let c0_143 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v234 : Index := Scalar.indexCast v9
  let c28 : Index := 28#32
  ![0, v234.toNat, 28]
def k0_off314 (v235 : BitVec 32) : Fin 3 → Nat :=
  let c0_144 : Index := 0#32
  let v236 : Index := Scalar.indexCast v235
  let c0_145 : Index := 0#32
  ![0, v236.toNat, 0]

def k0_chk285 (v235 : BitVec 32) : Prop :=
  (∀ a, (k0_off314 v235) a + S1x1x512.size a ≤ S1x2048x512.size a)
theorem k0_off314_inb : ∀ (v235 : BitVec 32) (k0_hw285 : k0_chk285 v235), ∀ a, (k0_off314 v235) a + S1x1x512.size a ≤ S1x2048x512.size a := fun v235 k0_hw285 => k0_hw285

def k0_off315 (i : grid0.Coords) : Fin 3 → Nat :=
  let c0_148 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v242 : Index := Scalar.indexCast v9
  let c29 : Index := 29#32
  ![0, v242.toNat, 29]
def k0_off316 (v243 : BitVec 32) : Fin 3 → Nat :=
  let c0_149 : Index := 0#32
  let v244 : Index := Scalar.indexCast v243
  let c0_150 : Index := 0#32
  ![0, v244.toNat, 0]

def k0_chk286 (v243 : BitVec 32) : Prop :=
  (∀ a, (k0_off316 v243) a + S1x1x512.size a ≤ S1x2048x512.size a)
theorem k0_off316_inb : ∀ (v243 : BitVec 32) (k0_hw286 : k0_chk286 v243), ∀ a, (k0_off316 v243) a + S1x1x512.size a ≤ S1x2048x512.size a := fun v243 k0_hw286 => k0_hw286

def k0_off317 (i : grid0.Coords) : Fin 3 → Nat :=
  let c0_153 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v250 : Index := Scalar.indexCast v9
  let c30 : Index := 30#32
  ![0, v250.toNat, 30]
def k0_off318 (v251 : BitVec 32) : Fin 3 → Nat :=
  let c0_154 : Index := 0#32
  let v252 : Index := Scalar.indexCast v251
  let c0_155 : Index := 0#32
  ![0, v252.toNat, 0]

def k0_chk287 (v251 : BitVec 32) : Prop :=
  (∀ a, (k0_off318 v251) a + S1x1x512.size a ≤ S1x2048x512.size a)
theorem k0_off318_inb : ∀ (v251 : BitVec 32) (k0_hw287 : k0_chk287 v251), ∀ a, (k0_off318 v251) a + S1x1x512.size a ≤ S1x2048x512.size a := fun v251 k0_hw287 => k0_hw287

def k0_off319 (i : grid0.Coords) : Fin 3 → Nat :=
  let c0_158 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v258 : Index := Scalar.indexCast v9
  let c31 : Index := 31#32
  ![0, v258.toNat, 31]
def k0_off320 (v259 : BitVec 32) : Fin 3 → Nat :=
  let c0_159 : Index := 0#32
  let v260 : Index := Scalar.indexCast v259
  let c0_160 : Index := 0#32
  ![0, v260.toNat, 0]

def k0_chk288 (v259 : BitVec 32) : Prop :=
  (∀ a, (k0_off320 v259) a + S1x1x512.size a ≤ S1x2048x512.size a)
theorem k0_off320_inb : ∀ (v259 : BitVec 32) (k0_hw288 : k0_chk288 v259), ∀ a, (k0_off320 v259) a + S1x1x512.size a ≤ S1x2048x512.size a := fun v259 k0_hw288 => k0_hw288

def k0_off321 (i : grid0.Coords) : Fin 3 → Nat :=
  let c0_163 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v266 : Index := Scalar.indexCast v9
  let c32 : Index := 32#32
  ![0, v266.toNat, 32]
def k0_off322 (v267 : BitVec 32) : Fin 3 → Nat :=
  let c0_164 : Index := 0#32
  let v268 : Index := Scalar.indexCast v267
  let c0_165 : Index := 0#32
  ![0, v268.toNat, 0]

def k0_chk289 (v267 : BitVec 32) : Prop :=
  (∀ a, (k0_off322 v267) a + S1x1x512.size a ≤ S1x2048x512.size a)
theorem k0_off322_inb : ∀ (v267 : BitVec 32) (k0_hw289 : k0_chk289 v267), ∀ a, (k0_off322 v267) a + S1x1x512.size a ≤ S1x2048x512.size a := fun v267 k0_hw289 => k0_hw289

def k0_off323 (i : grid0.Coords) : Fin 3 → Nat :=
  let c0_168 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v274 : Index := Scalar.indexCast v9
  let c33 : Index := 33#32
  ![0, v274.toNat, 33]
def k0_off324 (v275 : BitVec 32) : Fin 3 → Nat :=
  let c0_169 : Index := 0#32
  let v276 : Index := Scalar.indexCast v275
  let c0_170 : Index := 0#32
  ![0, v276.toNat, 0]

def k0_chk290 (v275 : BitVec 32) : Prop :=
  (∀ a, (k0_off324 v275) a + S1x1x512.size a ≤ S1x2048x512.size a)
theorem k0_off324_inb : ∀ (v275 : BitVec 32) (k0_hw290 : k0_chk290 v275), ∀ a, (k0_off324 v275) a + S1x1x512.size a ≤ S1x2048x512.size a := fun v275 k0_hw290 => k0_hw290

def k0_off325 (i : grid0.Coords) : Fin 3 → Nat :=
  let c0_173 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v282 : Index := Scalar.indexCast v9
  let c34 : Index := 34#32
  ![0, v282.toNat, 34]
def k0_off326 (v283 : BitVec 32) : Fin 3 → Nat :=
  let c0_174 : Index := 0#32
  let v284 : Index := Scalar.indexCast v283
  let c0_175 : Index := 0#32
  ![0, v284.toNat, 0]

def k0_chk291 (v283 : BitVec 32) : Prop :=
  (∀ a, (k0_off326 v283) a + S1x1x512.size a ≤ S1x2048x512.size a)
theorem k0_off326_inb : ∀ (v283 : BitVec 32) (k0_hw291 : k0_chk291 v283), ∀ a, (k0_off326 v283) a + S1x1x512.size a ≤ S1x2048x512.size a := fun v283 k0_hw291 => k0_hw291

def k0_off327 (i : grid0.Coords) : Fin 3 → Nat :=
  let c0_178 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v290 : Index := Scalar.indexCast v9
  let c35 : Index := 35#32
  ![0, v290.toNat, 35]
def k0_off328 (v291 : BitVec 32) : Fin 3 → Nat :=
  let c0_179 : Index := 0#32
  let v292 : Index := Scalar.indexCast v291
  let c0_180 : Index := 0#32
  ![0, v292.toNat, 0]

def k0_chk292 (v291 : BitVec 32) : Prop :=
  (∀ a, (k0_off328 v291) a + S1x1x512.size a ≤ S1x2048x512.size a)
theorem k0_off328_inb : ∀ (v291 : BitVec 32) (k0_hw292 : k0_chk292 v291), ∀ a, (k0_off328 v291) a + S1x1x512.size a ≤ S1x2048x512.size a := fun v291 k0_hw292 => k0_hw292

def k0_off329 (i : grid0.Coords) : Fin 3 → Nat :=
  let c0_183 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v298 : Index := Scalar.indexCast v9
  let c36 : Index := 36#32
  ![0, v298.toNat, 36]
def k0_off330 (v299 : BitVec 32) : Fin 3 → Nat :=
  let c0_184 : Index := 0#32
  let v300 : Index := Scalar.indexCast v299
  let c0_185 : Index := 0#32
  ![0, v300.toNat, 0]

def k0_chk293 (v299 : BitVec 32) : Prop :=
  (∀ a, (k0_off330 v299) a + S1x1x512.size a ≤ S1x2048x512.size a)
theorem k0_off330_inb : ∀ (v299 : BitVec 32) (k0_hw293 : k0_chk293 v299), ∀ a, (k0_off330 v299) a + S1x1x512.size a ≤ S1x2048x512.size a := fun v299 k0_hw293 => k0_hw293

def k0_off331 (i : grid0.Coords) : Fin 3 → Nat :=
  let c0_188 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v306 : Index := Scalar.indexCast v9
  let c37 : Index := 37#32
  ![0, v306.toNat, 37]
def k0_off332 (v307 : BitVec 32) : Fin 3 → Nat :=
  let c0_189 : Index := 0#32
  let v308 : Index := Scalar.indexCast v307
  let c0_190 : Index := 0#32
  ![0, v308.toNat, 0]

def k0_chk294 (v307 : BitVec 32) : Prop :=
  (∀ a, (k0_off332 v307) a + S1x1x512.size a ≤ S1x2048x512.size a)
theorem k0_off332_inb : ∀ (v307 : BitVec 32) (k0_hw294 : k0_chk294 v307), ∀ a, (k0_off332 v307) a + S1x1x512.size a ≤ S1x2048x512.size a := fun v307 k0_hw294 => k0_hw294

def k0_off333 (i : grid0.Coords) : Fin 3 → Nat :=
  let c0_193 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v314 : Index := Scalar.indexCast v9
  let c38 : Index := 38#32
  ![0, v314.toNat, 38]
def k0_off334 (v315 : BitVec 32) : Fin 3 → Nat :=
  let c0_194 : Index := 0#32
  let v316 : Index := Scalar.indexCast v315
  let c0_195 : Index := 0#32
  ![0, v316.toNat, 0]

def k0_chk295 (v315 : BitVec 32) : Prop :=
  (∀ a, (k0_off334 v315) a + S1x1x512.size a ≤ S1x2048x512.size a)
theorem k0_off334_inb : ∀ (v315 : BitVec 32) (k0_hw295 : k0_chk295 v315), ∀ a, (k0_off334 v315) a + S1x1x512.size a ≤ S1x2048x512.size a := fun v315 k0_hw295 => k0_hw295

def k0_off335 (i : grid0.Coords) : Fin 3 → Nat :=
  let c0_198 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v322 : Index := Scalar.indexCast v9
  let c39 : Index := 39#32
  ![0, v322.toNat, 39]
def k0_off336 (v323 : BitVec 32) : Fin 3 → Nat :=
  let c0_199 : Index := 0#32
  let v324 : Index := Scalar.indexCast v323
  let c0_200 : Index := 0#32
  ![0, v324.toNat, 0]

def k0_chk296 (v323 : BitVec 32) : Prop :=
  (∀ a, (k0_off336 v323) a + S1x1x512.size a ≤ S1x2048x512.size a)
theorem k0_off336_inb : ∀ (v323 : BitVec 32) (k0_hw296 : k0_chk296 v323), ∀ a, (k0_off336 v323) a + S1x1x512.size a ≤ S1x2048x512.size a := fun v323 k0_hw296 => k0_hw296

def k0_off337 (i : grid0.Coords) : Fin 3 → Nat :=
  let c0_203 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v330 : Index := Scalar.indexCast v9
  let c40 : Index := 40#32
  ![0, v330.toNat, 40]
def k0_off338 (v331 : BitVec 32) : Fin 3 → Nat :=
  let c0_204 : Index := 0#32
  let v332 : Index := Scalar.indexCast v331
  let c0_205 : Index := 0#32
  ![0, v332.toNat, 0]

def k0_chk297 (v331 : BitVec 32) : Prop :=
  (∀ a, (k0_off338 v331) a + S1x1x512.size a ≤ S1x2048x512.size a)
theorem k0_off338_inb : ∀ (v331 : BitVec 32) (k0_hw297 : k0_chk297 v331), ∀ a, (k0_off338 v331) a + S1x1x512.size a ≤ S1x2048x512.size a := fun v331 k0_hw297 => k0_hw297

def k0_off339 (i : grid0.Coords) : Fin 3 → Nat :=
  let c0_208 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v338 : Index := Scalar.indexCast v9
  let c41 : Index := 41#32
  ![0, v338.toNat, 41]
def k0_off340 (v339 : BitVec 32) : Fin 3 → Nat :=
  let c0_209 : Index := 0#32
  let v340 : Index := Scalar.indexCast v339
  let c0_210 : Index := 0#32
  ![0, v340.toNat, 0]

def k0_chk298 (v339 : BitVec 32) : Prop :=
  (∀ a, (k0_off340 v339) a + S1x1x512.size a ≤ S1x2048x512.size a)
theorem k0_off340_inb : ∀ (v339 : BitVec 32) (k0_hw298 : k0_chk298 v339), ∀ a, (k0_off340 v339) a + S1x1x512.size a ≤ S1x2048x512.size a := fun v339 k0_hw298 => k0_hw298

def k0_off341 (i : grid0.Coords) : Fin 3 → Nat :=
  let c0_213 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v346 : Index := Scalar.indexCast v9
  let c42 : Index := 42#32
  ![0, v346.toNat, 42]
def k0_off342 (v347 : BitVec 32) : Fin 3 → Nat :=
  let c0_214 : Index := 0#32
  let v348 : Index := Scalar.indexCast v347
  let c0_215 : Index := 0#32
  ![0, v348.toNat, 0]

def k0_chk299 (v347 : BitVec 32) : Prop :=
  (∀ a, (k0_off342 v347) a + S1x1x512.size a ≤ S1x2048x512.size a)
theorem k0_off342_inb : ∀ (v347 : BitVec 32) (k0_hw299 : k0_chk299 v347), ∀ a, (k0_off342 v347) a + S1x1x512.size a ≤ S1x2048x512.size a := fun v347 k0_hw299 => k0_hw299

def k0_off343 (i : grid0.Coords) : Fin 3 → Nat :=
  let c0_218 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v354 : Index := Scalar.indexCast v9
  let c43 : Index := 43#32
  ![0, v354.toNat, 43]
def k0_off344 (v355 : BitVec 32) : Fin 3 → Nat :=
  let c0_219 : Index := 0#32
  let v356 : Index := Scalar.indexCast v355
  let c0_220 : Index := 0#32
  ![0, v356.toNat, 0]

def k0_chk300 (v355 : BitVec 32) : Prop :=
  (∀ a, (k0_off344 v355) a + S1x1x512.size a ≤ S1x2048x512.size a)
theorem k0_off344_inb : ∀ (v355 : BitVec 32) (k0_hw300 : k0_chk300 v355), ∀ a, (k0_off344 v355) a + S1x1x512.size a ≤ S1x2048x512.size a := fun v355 k0_hw300 => k0_hw300

def k0_off345 (i : grid0.Coords) : Fin 3 → Nat :=
  let c0_223 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v362 : Index := Scalar.indexCast v9
  let c44 : Index := 44#32
  ![0, v362.toNat, 44]
def k0_off346 (v363 : BitVec 32) : Fin 3 → Nat :=
  let c0_224 : Index := 0#32
  let v364 : Index := Scalar.indexCast v363
  let c0_225 : Index := 0#32
  ![0, v364.toNat, 0]

def k0_chk301 (v363 : BitVec 32) : Prop :=
  (∀ a, (k0_off346 v363) a + S1x1x512.size a ≤ S1x2048x512.size a)
theorem k0_off346_inb : ∀ (v363 : BitVec 32) (k0_hw301 : k0_chk301 v363), ∀ a, (k0_off346 v363) a + S1x1x512.size a ≤ S1x2048x512.size a := fun v363 k0_hw301 => k0_hw301

def k0_off347 (i : grid0.Coords) : Fin 3 → Nat :=
  let c0_228 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v370 : Index := Scalar.indexCast v9
  let c45 : Index := 45#32
  ![0, v370.toNat, 45]
def k0_off348 (v371 : BitVec 32) : Fin 3 → Nat :=
  let c0_229 : Index := 0#32
  let v372 : Index := Scalar.indexCast v371
  let c0_230 : Index := 0#32
  ![0, v372.toNat, 0]

def k0_chk302 (v371 : BitVec 32) : Prop :=
  (∀ a, (k0_off348 v371) a + S1x1x512.size a ≤ S1x2048x512.size a)
theorem k0_off348_inb : ∀ (v371 : BitVec 32) (k0_hw302 : k0_chk302 v371), ∀ a, (k0_off348 v371) a + S1x1x512.size a ≤ S1x2048x512.size a := fun v371 k0_hw302 => k0_hw302

def k0_off349 (i : grid0.Coords) : Fin 3 → Nat :=
  let c0_233 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v378 : Index := Scalar.indexCast v9
  let c46 : Index := 46#32
  ![0, v378.toNat, 46]
def k0_off350 (v379 : BitVec 32) : Fin 3 → Nat :=
  let c0_234 : Index := 0#32
  let v380 : Index := Scalar.indexCast v379
  let c0_235 : Index := 0#32
  ![0, v380.toNat, 0]

def k0_chk303 (v379 : BitVec 32) : Prop :=
  (∀ a, (k0_off350 v379) a + S1x1x512.size a ≤ S1x2048x512.size a)
theorem k0_off350_inb : ∀ (v379 : BitVec 32) (k0_hw303 : k0_chk303 v379), ∀ a, (k0_off350 v379) a + S1x1x512.size a ≤ S1x2048x512.size a := fun v379 k0_hw303 => k0_hw303

def k0_off351 (i : grid0.Coords) : Fin 3 → Nat :=
  let c0_238 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v386 : Index := Scalar.indexCast v9
  let c47 : Index := 47#32
  ![0, v386.toNat, 47]
def k0_off352 (v387 : BitVec 32) : Fin 3 → Nat :=
  let c0_239 : Index := 0#32
  let v388 : Index := Scalar.indexCast v387
  let c0_240 : Index := 0#32
  ![0, v388.toNat, 0]

def k0_chk304 (v387 : BitVec 32) : Prop :=
  (∀ a, (k0_off352 v387) a + S1x1x512.size a ≤ S1x2048x512.size a)
theorem k0_off352_inb : ∀ (v387 : BitVec 32) (k0_hw304 : k0_chk304 v387), ∀ a, (k0_off352 v387) a + S1x1x512.size a ≤ S1x2048x512.size a := fun v387 k0_hw304 => k0_hw304

def k0_off353 (i : grid0.Coords) : Fin 3 → Nat :=
  let c0_243 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v394 : Index := Scalar.indexCast v9
  let c48 : Index := 48#32
  ![0, v394.toNat, 48]
def k0_off354 (v395 : BitVec 32) : Fin 3 → Nat :=
  let c0_244 : Index := 0#32
  let v396 : Index := Scalar.indexCast v395
  let c0_245 : Index := 0#32
  ![0, v396.toNat, 0]

def k0_chk305 (v395 : BitVec 32) : Prop :=
  (∀ a, (k0_off354 v395) a + S1x1x512.size a ≤ S1x2048x512.size a)
theorem k0_off354_inb : ∀ (v395 : BitVec 32) (k0_hw305 : k0_chk305 v395), ∀ a, (k0_off354 v395) a + S1x1x512.size a ≤ S1x2048x512.size a := fun v395 k0_hw305 => k0_hw305

def k0_off355 (i : grid0.Coords) : Fin 3 → Nat :=
  let c0_248 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v402 : Index := Scalar.indexCast v9
  let c49 : Index := 49#32
  ![0, v402.toNat, 49]
def k0_off356 (v403 : BitVec 32) : Fin 3 → Nat :=
  let c0_249 : Index := 0#32
  let v404 : Index := Scalar.indexCast v403
  let c0_250 : Index := 0#32
  ![0, v404.toNat, 0]

def k0_chk306 (v403 : BitVec 32) : Prop :=
  (∀ a, (k0_off356 v403) a + S1x1x512.size a ≤ S1x2048x512.size a)
theorem k0_off356_inb : ∀ (v403 : BitVec 32) (k0_hw306 : k0_chk306 v403), ∀ a, (k0_off356 v403) a + S1x1x512.size a ≤ S1x2048x512.size a := fun v403 k0_hw306 => k0_hw306

def k0_off357 (i : grid0.Coords) : Fin 3 → Nat :=
  let c0_253 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v410 : Index := Scalar.indexCast v9
  let c50 : Index := 50#32
  ![0, v410.toNat, 50]
def k0_off358 (v411 : BitVec 32) : Fin 3 → Nat :=
  let c0_254 : Index := 0#32
  let v412 : Index := Scalar.indexCast v411
  let c0_255 : Index := 0#32
  ![0, v412.toNat, 0]

def k0_chk307 (v411 : BitVec 32) : Prop :=
  (∀ a, (k0_off358 v411) a + S1x1x512.size a ≤ S1x2048x512.size a)
theorem k0_off358_inb : ∀ (v411 : BitVec 32) (k0_hw307 : k0_chk307 v411), ∀ a, (k0_off358 v411) a + S1x1x512.size a ≤ S1x2048x512.size a := fun v411 k0_hw307 => k0_hw307

def k0_off359 (i : grid0.Coords) : Fin 3 → Nat :=
  let c0_258 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v418 : Index := Scalar.indexCast v9
  let c51 : Index := 51#32
  ![0, v418.toNat, 51]
def k0_off360 (v419 : BitVec 32) : Fin 3 → Nat :=
  let c0_259 : Index := 0#32
  let v420 : Index := Scalar.indexCast v419
  let c0_260 : Index := 0#32
  ![0, v420.toNat, 0]

def k0_chk308 (v419 : BitVec 32) : Prop :=
  (∀ a, (k0_off360 v419) a + S1x1x512.size a ≤ S1x2048x512.size a)
theorem k0_off360_inb : ∀ (v419 : BitVec 32) (k0_hw308 : k0_chk308 v419), ∀ a, (k0_off360 v419) a + S1x1x512.size a ≤ S1x2048x512.size a := fun v419 k0_hw308 => k0_hw308

def k0_off361 (i : grid0.Coords) : Fin 3 → Nat :=
  let c0_263 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v426 : Index := Scalar.indexCast v9
  let c52 : Index := 52#32
  ![0, v426.toNat, 52]
def k0_off362 (v427 : BitVec 32) : Fin 3 → Nat :=
  let c0_264 : Index := 0#32
  let v428 : Index := Scalar.indexCast v427
  let c0_265 : Index := 0#32
  ![0, v428.toNat, 0]

def k0_chk309 (v427 : BitVec 32) : Prop :=
  (∀ a, (k0_off362 v427) a + S1x1x512.size a ≤ S1x2048x512.size a)
theorem k0_off362_inb : ∀ (v427 : BitVec 32) (k0_hw309 : k0_chk309 v427), ∀ a, (k0_off362 v427) a + S1x1x512.size a ≤ S1x2048x512.size a := fun v427 k0_hw309 => k0_hw309

def k0_off363 (i : grid0.Coords) : Fin 3 → Nat :=
  let c0_268 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v434 : Index := Scalar.indexCast v9
  let c53 : Index := 53#32
  ![0, v434.toNat, 53]
def k0_off364 (v435 : BitVec 32) : Fin 3 → Nat :=
  let c0_269 : Index := 0#32
  let v436 : Index := Scalar.indexCast v435
  let c0_270 : Index := 0#32
  ![0, v436.toNat, 0]

def k0_chk310 (v435 : BitVec 32) : Prop :=
  (∀ a, (k0_off364 v435) a + S1x1x512.size a ≤ S1x2048x512.size a)
theorem k0_off364_inb : ∀ (v435 : BitVec 32) (k0_hw310 : k0_chk310 v435), ∀ a, (k0_off364 v435) a + S1x1x512.size a ≤ S1x2048x512.size a := fun v435 k0_hw310 => k0_hw310

def k0_off365 (i : grid0.Coords) : Fin 3 → Nat :=
  let c0_273 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v442 : Index := Scalar.indexCast v9
  let c54 : Index := 54#32
  ![0, v442.toNat, 54]
def k0_off366 (v443 : BitVec 32) : Fin 3 → Nat :=
  let c0_274 : Index := 0#32
  let v444 : Index := Scalar.indexCast v443
  let c0_275 : Index := 0#32
  ![0, v444.toNat, 0]

def k0_chk311 (v443 : BitVec 32) : Prop :=
  (∀ a, (k0_off366 v443) a + S1x1x512.size a ≤ S1x2048x512.size a)
theorem k0_off366_inb : ∀ (v443 : BitVec 32) (k0_hw311 : k0_chk311 v443), ∀ a, (k0_off366 v443) a + S1x1x512.size a ≤ S1x2048x512.size a := fun v443 k0_hw311 => k0_hw311

def k0_off367 (i : grid0.Coords) : Fin 3 → Nat :=
  let c0_278 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v450 : Index := Scalar.indexCast v9
  let c55 : Index := 55#32
  ![0, v450.toNat, 55]
def k0_off368 (v451 : BitVec 32) : Fin 3 → Nat :=
  let c0_279 : Index := 0#32
  let v452 : Index := Scalar.indexCast v451
  let c0_280 : Index := 0#32
  ![0, v452.toNat, 0]

def k0_chk312 (v451 : BitVec 32) : Prop :=
  (∀ a, (k0_off368 v451) a + S1x1x512.size a ≤ S1x2048x512.size a)
theorem k0_off368_inb : ∀ (v451 : BitVec 32) (k0_hw312 : k0_chk312 v451), ∀ a, (k0_off368 v451) a + S1x1x512.size a ≤ S1x2048x512.size a := fun v451 k0_hw312 => k0_hw312

def k0_off369 (i : grid0.Coords) : Fin 3 → Nat :=
  let c0_283 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v458 : Index := Scalar.indexCast v9
  let c56 : Index := 56#32
  ![0, v458.toNat, 56]
def k0_off370 (v459 : BitVec 32) : Fin 3 → Nat :=
  let c0_284 : Index := 0#32
  let v460 : Index := Scalar.indexCast v459
  let c0_285 : Index := 0#32
  ![0, v460.toNat, 0]

def k0_chk313 (v459 : BitVec 32) : Prop :=
  (∀ a, (k0_off370 v459) a + S1x1x512.size a ≤ S1x2048x512.size a)
theorem k0_off370_inb : ∀ (v459 : BitVec 32) (k0_hw313 : k0_chk313 v459), ∀ a, (k0_off370 v459) a + S1x1x512.size a ≤ S1x2048x512.size a := fun v459 k0_hw313 => k0_hw313

def k0_off371 (i : grid0.Coords) : Fin 3 → Nat :=
  let c0_288 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v466 : Index := Scalar.indexCast v9
  let c57 : Index := 57#32
  ![0, v466.toNat, 57]
def k0_off372 (v467 : BitVec 32) : Fin 3 → Nat :=
  let c0_289 : Index := 0#32
  let v468 : Index := Scalar.indexCast v467
  let c0_290 : Index := 0#32
  ![0, v468.toNat, 0]

def k0_chk314 (v467 : BitVec 32) : Prop :=
  (∀ a, (k0_off372 v467) a + S1x1x512.size a ≤ S1x2048x512.size a)
theorem k0_off372_inb : ∀ (v467 : BitVec 32) (k0_hw314 : k0_chk314 v467), ∀ a, (k0_off372 v467) a + S1x1x512.size a ≤ S1x2048x512.size a := fun v467 k0_hw314 => k0_hw314

def k0_off373 (i : grid0.Coords) : Fin 3 → Nat :=
  let c0_293 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v474 : Index := Scalar.indexCast v9
  let c58 : Index := 58#32
  ![0, v474.toNat, 58]
def k0_off374 (v475 : BitVec 32) : Fin 3 → Nat :=
  let c0_294 : Index := 0#32
  let v476 : Index := Scalar.indexCast v475
  let c0_295 : Index := 0#32
  ![0, v476.toNat, 0]

def k0_chk315 (v475 : BitVec 32) : Prop :=
  (∀ a, (k0_off374 v475) a + S1x1x512.size a ≤ S1x2048x512.size a)
theorem k0_off374_inb : ∀ (v475 : BitVec 32) (k0_hw315 : k0_chk315 v475), ∀ a, (k0_off374 v475) a + S1x1x512.size a ≤ S1x2048x512.size a := fun v475 k0_hw315 => k0_hw315

def k0_off375 (i : grid0.Coords) : Fin 3 → Nat :=
  let c0_298 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v482 : Index := Scalar.indexCast v9
  let c59 : Index := 59#32
  ![0, v482.toNat, 59]
def k0_off376 (v483 : BitVec 32) : Fin 3 → Nat :=
  let c0_299 : Index := 0#32
  let v484 : Index := Scalar.indexCast v483
  let c0_300 : Index := 0#32
  ![0, v484.toNat, 0]

def k0_chk316 (v483 : BitVec 32) : Prop :=
  (∀ a, (k0_off376 v483) a + S1x1x512.size a ≤ S1x2048x512.size a)
theorem k0_off376_inb : ∀ (v483 : BitVec 32) (k0_hw316 : k0_chk316 v483), ∀ a, (k0_off376 v483) a + S1x1x512.size a ≤ S1x2048x512.size a := fun v483 k0_hw316 => k0_hw316

def k0_off377 (i : grid0.Coords) : Fin 3 → Nat :=
  let c0_303 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v490 : Index := Scalar.indexCast v9
  let c60 : Index := 60#32
  ![0, v490.toNat, 60]
def k0_off378 (v491 : BitVec 32) : Fin 3 → Nat :=
  let c0_304 : Index := 0#32
  let v492 : Index := Scalar.indexCast v491
  let c0_305 : Index := 0#32
  ![0, v492.toNat, 0]

def k0_chk317 (v491 : BitVec 32) : Prop :=
  (∀ a, (k0_off378 v491) a + S1x1x512.size a ≤ S1x2048x512.size a)
theorem k0_off378_inb : ∀ (v491 : BitVec 32) (k0_hw317 : k0_chk317 v491), ∀ a, (k0_off378 v491) a + S1x1x512.size a ≤ S1x2048x512.size a := fun v491 k0_hw317 => k0_hw317

def k0_off379 (i : grid0.Coords) : Fin 3 → Nat :=
  let c0_308 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v498 : Index := Scalar.indexCast v9
  let c61 : Index := 61#32
  ![0, v498.toNat, 61]
def k0_off380 (v499 : BitVec 32) : Fin 3 → Nat :=
  let c0_309 : Index := 0#32
  let v500 : Index := Scalar.indexCast v499
  let c0_310 : Index := 0#32
  ![0, v500.toNat, 0]

def k0_chk318 (v499 : BitVec 32) : Prop :=
  (∀ a, (k0_off380 v499) a + S1x1x512.size a ≤ S1x2048x512.size a)
theorem k0_off380_inb : ∀ (v499 : BitVec 32) (k0_hw318 : k0_chk318 v499), ∀ a, (k0_off380 v499) a + S1x1x512.size a ≤ S1x2048x512.size a := fun v499 k0_hw318 => k0_hw318

def k0_off381 (i : grid0.Coords) : Fin 3 → Nat :=
  let c0_313 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v506 : Index := Scalar.indexCast v9
  let c62 : Index := 62#32
  ![0, v506.toNat, 62]
def k0_off382 (v507 : BitVec 32) : Fin 3 → Nat :=
  let c0_314 : Index := 0#32
  let v508 : Index := Scalar.indexCast v507
  let c0_315 : Index := 0#32
  ![0, v508.toNat, 0]

def k0_chk319 (v507 : BitVec 32) : Prop :=
  (∀ a, (k0_off382 v507) a + S1x1x512.size a ≤ S1x2048x512.size a)
theorem k0_off382_inb : ∀ (v507 : BitVec 32) (k0_hw319 : k0_chk319 v507), ∀ a, (k0_off382 v507) a + S1x1x512.size a ≤ S1x2048x512.size a := fun v507 k0_hw319 => k0_hw319

def k0_off383 (i : grid0.Coords) : Fin 3 → Nat :=
  let c0_318 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v514 : Index := Scalar.indexCast v9
  let c63 : Index := 63#32
  ![0, v514.toNat, 63]
def k0_off384 (v515 : BitVec 32) : Fin 3 → Nat :=
  let c0_319 : Index := 0#32
  let v516 : Index := Scalar.indexCast v515
  let c0_320 : Index := 0#32
  ![0, v516.toNat, 0]

def k0_chk320 (v515 : BitVec 32) : Prop :=
  (∀ a, (k0_off384 v515) a + S1x1x512.size a ≤ S1x2048x512.size a)
theorem k0_off384_inb : ∀ (v515 : BitVec 32) (k0_hw320 : k0_chk320 v515), ∀ a, (k0_off384 v515) a + S1x1x512.size a ≤ S1x2048x512.size a := fun v515 k0_hw320 => k0_hw320

def k0_off385 (i : grid0.Coords) : Fin 3 → Nat :=
  let c0_323 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v522 : Index := Scalar.indexCast v9
  let c64 : Index := 64#32
  ![0, v522.toNat, 64]
def k0_off386 (v523 : BitVec 32) : Fin 3 → Nat :=
  let c0_324 : Index := 0#32
  let v524 : Index := Scalar.indexCast v523
  let c0_325 : Index := 0#32
  ![0, v524.toNat, 0]

def k0_chk321 (v523 : BitVec 32) : Prop :=
  (∀ a, (k0_off386 v523) a + S1x1x512.size a ≤ S1x2048x512.size a)
theorem k0_off386_inb : ∀ (v523 : BitVec 32) (k0_hw321 : k0_chk321 v523), ∀ a, (k0_off386 v523) a + S1x1x512.size a ≤ S1x2048x512.size a := fun v523 k0_hw321 => k0_hw321

def k0_off387 (i : grid0.Coords) : Fin 3 → Nat :=
  let c0_328 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v530 : Index := Scalar.indexCast v9
  let c65 : Index := 65#32
  ![0, v530.toNat, 65]
def k0_off388 (v531 : BitVec 32) : Fin 3 → Nat :=
  let c0_329 : Index := 0#32
  let v532 : Index := Scalar.indexCast v531
  let c0_330 : Index := 0#32
  ![0, v532.toNat, 0]

def k0_chk322 (v531 : BitVec 32) : Prop :=
  (∀ a, (k0_off388 v531) a + S1x1x512.size a ≤ S1x2048x512.size a)
theorem k0_off388_inb : ∀ (v531 : BitVec 32) (k0_hw322 : k0_chk322 v531), ∀ a, (k0_off388 v531) a + S1x1x512.size a ≤ S1x2048x512.size a := fun v531 k0_hw322 => k0_hw322

def k0_off389 (i : grid0.Coords) : Fin 3 → Nat :=
  let c0_333 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v538 : Index := Scalar.indexCast v9
  let c66 : Index := 66#32
  ![0, v538.toNat, 66]
def k0_off390 (v539 : BitVec 32) : Fin 3 → Nat :=
  let c0_334 : Index := 0#32
  let v540 : Index := Scalar.indexCast v539
  let c0_335 : Index := 0#32
  ![0, v540.toNat, 0]

def k0_chk323 (v539 : BitVec 32) : Prop :=
  (∀ a, (k0_off390 v539) a + S1x1x512.size a ≤ S1x2048x512.size a)
theorem k0_off390_inb : ∀ (v539 : BitVec 32) (k0_hw323 : k0_chk323 v539), ∀ a, (k0_off390 v539) a + S1x1x512.size a ≤ S1x2048x512.size a := fun v539 k0_hw323 => k0_hw323

def k0_off391 (i : grid0.Coords) : Fin 3 → Nat :=
  let c0_338 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v546 : Index := Scalar.indexCast v9
  let c67 : Index := 67#32
  ![0, v546.toNat, 67]
def k0_off392 (v547 : BitVec 32) : Fin 3 → Nat :=
  let c0_339 : Index := 0#32
  let v548 : Index := Scalar.indexCast v547
  let c0_340 : Index := 0#32
  ![0, v548.toNat, 0]

def k0_chk324 (v547 : BitVec 32) : Prop :=
  (∀ a, (k0_off392 v547) a + S1x1x512.size a ≤ S1x2048x512.size a)
theorem k0_off392_inb : ∀ (v547 : BitVec 32) (k0_hw324 : k0_chk324 v547), ∀ a, (k0_off392 v547) a + S1x1x512.size a ≤ S1x2048x512.size a := fun v547 k0_hw324 => k0_hw324

def k0_off393 (i : grid0.Coords) : Fin 3 → Nat :=
  let c0_343 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v554 : Index := Scalar.indexCast v9
  let c68 : Index := 68#32
  ![0, v554.toNat, 68]
def k0_off394 (v555 : BitVec 32) : Fin 3 → Nat :=
  let c0_344 : Index := 0#32
  let v556 : Index := Scalar.indexCast v555
  let c0_345 : Index := 0#32
  ![0, v556.toNat, 0]

def k0_chk325 (v555 : BitVec 32) : Prop :=
  (∀ a, (k0_off394 v555) a + S1x1x512.size a ≤ S1x2048x512.size a)
theorem k0_off394_inb : ∀ (v555 : BitVec 32) (k0_hw325 : k0_chk325 v555), ∀ a, (k0_off394 v555) a + S1x1x512.size a ≤ S1x2048x512.size a := fun v555 k0_hw325 => k0_hw325

def k0_off395 (i : grid0.Coords) : Fin 3 → Nat :=
  let c0_348 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v562 : Index := Scalar.indexCast v9
  let c69 : Index := 69#32
  ![0, v562.toNat, 69]
def k0_off396 (v563 : BitVec 32) : Fin 3 → Nat :=
  let c0_349 : Index := 0#32
  let v564 : Index := Scalar.indexCast v563
  let c0_350 : Index := 0#32
  ![0, v564.toNat, 0]

def k0_chk326 (v563 : BitVec 32) : Prop :=
  (∀ a, (k0_off396 v563) a + S1x1x512.size a ≤ S1x2048x512.size a)
theorem k0_off396_inb : ∀ (v563 : BitVec 32) (k0_hw326 : k0_chk326 v563), ∀ a, (k0_off396 v563) a + S1x1x512.size a ≤ S1x2048x512.size a := fun v563 k0_hw326 => k0_hw326

def k0_off397 (i : grid0.Coords) : Fin 3 → Nat :=
  let c0_353 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v570 : Index := Scalar.indexCast v9
  let c70 : Index := 70#32
  ![0, v570.toNat, 70]
def k0_off398 (v571 : BitVec 32) : Fin 3 → Nat :=
  let c0_354 : Index := 0#32
  let v572 : Index := Scalar.indexCast v571
  let c0_355 : Index := 0#32
  ![0, v572.toNat, 0]

def k0_chk327 (v571 : BitVec 32) : Prop :=
  (∀ a, (k0_off398 v571) a + S1x1x512.size a ≤ S1x2048x512.size a)
theorem k0_off398_inb : ∀ (v571 : BitVec 32) (k0_hw327 : k0_chk327 v571), ∀ a, (k0_off398 v571) a + S1x1x512.size a ≤ S1x2048x512.size a := fun v571 k0_hw327 => k0_hw327

def k0_off399 (i : grid0.Coords) : Fin 3 → Nat :=
  let c0_358 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v578 : Index := Scalar.indexCast v9
  let c71 : Index := 71#32
  ![0, v578.toNat, 71]
def k0_off400 (v579 : BitVec 32) : Fin 3 → Nat :=
  let c0_359 : Index := 0#32
  let v580 : Index := Scalar.indexCast v579
  let c0_360 : Index := 0#32
  ![0, v580.toNat, 0]

def k0_chk328 (v579 : BitVec 32) : Prop :=
  (∀ a, (k0_off400 v579) a + S1x1x512.size a ≤ S1x2048x512.size a)
theorem k0_off400_inb : ∀ (v579 : BitVec 32) (k0_hw328 : k0_chk328 v579), ∀ a, (k0_off400 v579) a + S1x1x512.size a ≤ S1x2048x512.size a := fun v579 k0_hw328 => k0_hw328

def k0_off401 (i : grid0.Coords) : Fin 3 → Nat :=
  let c0_363 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v586 : Index := Scalar.indexCast v9
  let c72 : Index := 72#32
  ![0, v586.toNat, 72]
def k0_off402 (v587 : BitVec 32) : Fin 3 → Nat :=
  let c0_364 : Index := 0#32
  let v588 : Index := Scalar.indexCast v587
  let c0_365 : Index := 0#32
  ![0, v588.toNat, 0]

def k0_chk329 (v587 : BitVec 32) : Prop :=
  (∀ a, (k0_off402 v587) a + S1x1x512.size a ≤ S1x2048x512.size a)
theorem k0_off402_inb : ∀ (v587 : BitVec 32) (k0_hw329 : k0_chk329 v587), ∀ a, (k0_off402 v587) a + S1x1x512.size a ≤ S1x2048x512.size a := fun v587 k0_hw329 => k0_hw329

def k0_off403 (i : grid0.Coords) : Fin 3 → Nat :=
  let c0_368 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v594 : Index := Scalar.indexCast v9
  let c73 : Index := 73#32
  ![0, v594.toNat, 73]
def k0_off404 (v595 : BitVec 32) : Fin 3 → Nat :=
  let c0_369 : Index := 0#32
  let v596 : Index := Scalar.indexCast v595
  let c0_370 : Index := 0#32
  ![0, v596.toNat, 0]

def k0_chk330 (v595 : BitVec 32) : Prop :=
  (∀ a, (k0_off404 v595) a + S1x1x512.size a ≤ S1x2048x512.size a)
theorem k0_off404_inb : ∀ (v595 : BitVec 32) (k0_hw330 : k0_chk330 v595), ∀ a, (k0_off404 v595) a + S1x1x512.size a ≤ S1x2048x512.size a := fun v595 k0_hw330 => k0_hw330

def k0_off405 (i : grid0.Coords) : Fin 3 → Nat :=
  let c0_373 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v602 : Index := Scalar.indexCast v9
  let c74 : Index := 74#32
  ![0, v602.toNat, 74]
def k0_off406 (v603 : BitVec 32) : Fin 3 → Nat :=
  let c0_374 : Index := 0#32
  let v604 : Index := Scalar.indexCast v603
  let c0_375 : Index := 0#32
  ![0, v604.toNat, 0]

def k0_chk331 (v603 : BitVec 32) : Prop :=
  (∀ a, (k0_off406 v603) a + S1x1x512.size a ≤ S1x2048x512.size a)
theorem k0_off406_inb : ∀ (v603 : BitVec 32) (k0_hw331 : k0_chk331 v603), ∀ a, (k0_off406 v603) a + S1x1x512.size a ≤ S1x2048x512.size a := fun v603 k0_hw331 => k0_hw331

def k0_off407 (i : grid0.Coords) : Fin 3 → Nat :=
  let c0_378 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v610 : Index := Scalar.indexCast v9
  let c75 : Index := 75#32
  ![0, v610.toNat, 75]
def k0_off408 (v611 : BitVec 32) : Fin 3 → Nat :=
  let c0_379 : Index := 0#32
  let v612 : Index := Scalar.indexCast v611
  let c0_380 : Index := 0#32
  ![0, v612.toNat, 0]

def k0_chk332 (v611 : BitVec 32) : Prop :=
  (∀ a, (k0_off408 v611) a + S1x1x512.size a ≤ S1x2048x512.size a)
theorem k0_off408_inb : ∀ (v611 : BitVec 32) (k0_hw332 : k0_chk332 v611), ∀ a, (k0_off408 v611) a + S1x1x512.size a ≤ S1x2048x512.size a := fun v611 k0_hw332 => k0_hw332

def k0_off409 (i : grid0.Coords) : Fin 3 → Nat :=
  let c0_383 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v618 : Index := Scalar.indexCast v9
  let c76 : Index := 76#32
  ![0, v618.toNat, 76]
def k0_off410 (v619 : BitVec 32) : Fin 3 → Nat :=
  let c0_384 : Index := 0#32
  let v620 : Index := Scalar.indexCast v619
  let c0_385 : Index := 0#32
  ![0, v620.toNat, 0]

def k0_chk333 (v619 : BitVec 32) : Prop :=
  (∀ a, (k0_off410 v619) a + S1x1x512.size a ≤ S1x2048x512.size a)
theorem k0_off410_inb : ∀ (v619 : BitVec 32) (k0_hw333 : k0_chk333 v619), ∀ a, (k0_off410 v619) a + S1x1x512.size a ≤ S1x2048x512.size a := fun v619 k0_hw333 => k0_hw333

def k0_off411 (i : grid0.Coords) : Fin 3 → Nat :=
  let c0_388 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v626 : Index := Scalar.indexCast v9
  let c77 : Index := 77#32
  ![0, v626.toNat, 77]
def k0_off412 (v627 : BitVec 32) : Fin 3 → Nat :=
  let c0_389 : Index := 0#32
  let v628 : Index := Scalar.indexCast v627
  let c0_390 : Index := 0#32
  ![0, v628.toNat, 0]

def k0_chk334 (v627 : BitVec 32) : Prop :=
  (∀ a, (k0_off412 v627) a + S1x1x512.size a ≤ S1x2048x512.size a)
theorem k0_off412_inb : ∀ (v627 : BitVec 32) (k0_hw334 : k0_chk334 v627), ∀ a, (k0_off412 v627) a + S1x1x512.size a ≤ S1x2048x512.size a := fun v627 k0_hw334 => k0_hw334

def k0_off413 (i : grid0.Coords) : Fin 3 → Nat :=
  let c0_393 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v634 : Index := Scalar.indexCast v9
  let c78 : Index := 78#32
  ![0, v634.toNat, 78]
def k0_off414 (v635 : BitVec 32) : Fin 3 → Nat :=
  let c0_394 : Index := 0#32
  let v636 : Index := Scalar.indexCast v635
  let c0_395 : Index := 0#32
  ![0, v636.toNat, 0]

def k0_chk335 (v635 : BitVec 32) : Prop :=
  (∀ a, (k0_off414 v635) a + S1x1x512.size a ≤ S1x2048x512.size a)
theorem k0_off414_inb : ∀ (v635 : BitVec 32) (k0_hw335 : k0_chk335 v635), ∀ a, (k0_off414 v635) a + S1x1x512.size a ≤ S1x2048x512.size a := fun v635 k0_hw335 => k0_hw335

def k0_off415 (i : grid0.Coords) : Fin 3 → Nat :=
  let c0_398 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v642 : Index := Scalar.indexCast v9
  let c79 : Index := 79#32
  ![0, v642.toNat, 79]
def k0_off416 (v643 : BitVec 32) : Fin 3 → Nat :=
  let c0_399 : Index := 0#32
  let v644 : Index := Scalar.indexCast v643
  let c0_400 : Index := 0#32
  ![0, v644.toNat, 0]

def k0_chk336 (v643 : BitVec 32) : Prop :=
  (∀ a, (k0_off416 v643) a + S1x1x512.size a ≤ S1x2048x512.size a)
theorem k0_off416_inb : ∀ (v643 : BitVec 32) (k0_hw336 : k0_chk336 v643), ∀ a, (k0_off416 v643) a + S1x1x512.size a ≤ S1x2048x512.size a := fun v643 k0_hw336 => k0_hw336

def k0_off417 (i : grid0.Coords) : Fin 3 → Nat :=
  let c0_403 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v650 : Index := Scalar.indexCast v9
  let c80 : Index := 80#32
  ![0, v650.toNat, 80]
def k0_off418 (v651 : BitVec 32) : Fin 3 → Nat :=
  let c0_404 : Index := 0#32
  let v652 : Index := Scalar.indexCast v651
  let c0_405 : Index := 0#32
  ![0, v652.toNat, 0]

def k0_chk337 (v651 : BitVec 32) : Prop :=
  (∀ a, (k0_off418 v651) a + S1x1x512.size a ≤ S1x2048x512.size a)
theorem k0_off418_inb : ∀ (v651 : BitVec 32) (k0_hw337 : k0_chk337 v651), ∀ a, (k0_off418 v651) a + S1x1x512.size a ≤ S1x2048x512.size a := fun v651 k0_hw337 => k0_hw337

def k0_off419 (i : grid0.Coords) : Fin 3 → Nat :=
  let c0_408 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v658 : Index := Scalar.indexCast v9
  let c81 : Index := 81#32
  ![0, v658.toNat, 81]
def k0_off420 (v659 : BitVec 32) : Fin 3 → Nat :=
  let c0_409 : Index := 0#32
  let v660 : Index := Scalar.indexCast v659
  let c0_410 : Index := 0#32
  ![0, v660.toNat, 0]

def k0_chk338 (v659 : BitVec 32) : Prop :=
  (∀ a, (k0_off420 v659) a + S1x1x512.size a ≤ S1x2048x512.size a)
theorem k0_off420_inb : ∀ (v659 : BitVec 32) (k0_hw338 : k0_chk338 v659), ∀ a, (k0_off420 v659) a + S1x1x512.size a ≤ S1x2048x512.size a := fun v659 k0_hw338 => k0_hw338

def k0_off421 (i : grid0.Coords) : Fin 3 → Nat :=
  let c0_413 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v666 : Index := Scalar.indexCast v9
  let c82 : Index := 82#32
  ![0, v666.toNat, 82]
def k0_off422 (v667 : BitVec 32) : Fin 3 → Nat :=
  let c0_414 : Index := 0#32
  let v668 : Index := Scalar.indexCast v667
  let c0_415 : Index := 0#32
  ![0, v668.toNat, 0]

def k0_chk339 (v667 : BitVec 32) : Prop :=
  (∀ a, (k0_off422 v667) a + S1x1x512.size a ≤ S1x2048x512.size a)
theorem k0_off422_inb : ∀ (v667 : BitVec 32) (k0_hw339 : k0_chk339 v667), ∀ a, (k0_off422 v667) a + S1x1x512.size a ≤ S1x2048x512.size a := fun v667 k0_hw339 => k0_hw339

def k0_off423 (i : grid0.Coords) : Fin 3 → Nat :=
  let c0_418 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v674 : Index := Scalar.indexCast v9
  let c83 : Index := 83#32
  ![0, v674.toNat, 83]
def k0_off424 (v675 : BitVec 32) : Fin 3 → Nat :=
  let c0_419 : Index := 0#32
  let v676 : Index := Scalar.indexCast v675
  let c0_420 : Index := 0#32
  ![0, v676.toNat, 0]

def k0_chk340 (v675 : BitVec 32) : Prop :=
  (∀ a, (k0_off424 v675) a + S1x1x512.size a ≤ S1x2048x512.size a)
theorem k0_off424_inb : ∀ (v675 : BitVec 32) (k0_hw340 : k0_chk340 v675), ∀ a, (k0_off424 v675) a + S1x1x512.size a ≤ S1x2048x512.size a := fun v675 k0_hw340 => k0_hw340

def k0_off425 (i : grid0.Coords) : Fin 3 → Nat :=
  let c0_423 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v682 : Index := Scalar.indexCast v9
  let c84 : Index := 84#32
  ![0, v682.toNat, 84]
def k0_off426 (v683 : BitVec 32) : Fin 3 → Nat :=
  let c0_424 : Index := 0#32
  let v684 : Index := Scalar.indexCast v683
  let c0_425 : Index := 0#32
  ![0, v684.toNat, 0]

def k0_chk341 (v683 : BitVec 32) : Prop :=
  (∀ a, (k0_off426 v683) a + S1x1x512.size a ≤ S1x2048x512.size a)
theorem k0_off426_inb : ∀ (v683 : BitVec 32) (k0_hw341 : k0_chk341 v683), ∀ a, (k0_off426 v683) a + S1x1x512.size a ≤ S1x2048x512.size a := fun v683 k0_hw341 => k0_hw341

def k0_off427 (i : grid0.Coords) : Fin 3 → Nat :=
  let c0_428 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v690 : Index := Scalar.indexCast v9
  let c85 : Index := 85#32
  ![0, v690.toNat, 85]
def k0_off428 (v691 : BitVec 32) : Fin 3 → Nat :=
  let c0_429 : Index := 0#32
  let v692 : Index := Scalar.indexCast v691
  let c0_430 : Index := 0#32
  ![0, v692.toNat, 0]

def k0_chk342 (v691 : BitVec 32) : Prop :=
  (∀ a, (k0_off428 v691) a + S1x1x512.size a ≤ S1x2048x512.size a)
theorem k0_off428_inb : ∀ (v691 : BitVec 32) (k0_hw342 : k0_chk342 v691), ∀ a, (k0_off428 v691) a + S1x1x512.size a ≤ S1x2048x512.size a := fun v691 k0_hw342 => k0_hw342

def k0_off429 (i : grid0.Coords) : Fin 3 → Nat :=
  let c0_433 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v698 : Index := Scalar.indexCast v9
  let c86 : Index := 86#32
  ![0, v698.toNat, 86]
def k0_off430 (v699 : BitVec 32) : Fin 3 → Nat :=
  let c0_434 : Index := 0#32
  let v700 : Index := Scalar.indexCast v699
  let c0_435 : Index := 0#32
  ![0, v700.toNat, 0]

def k0_chk343 (v699 : BitVec 32) : Prop :=
  (∀ a, (k0_off430 v699) a + S1x1x512.size a ≤ S1x2048x512.size a)
theorem k0_off430_inb : ∀ (v699 : BitVec 32) (k0_hw343 : k0_chk343 v699), ∀ a, (k0_off430 v699) a + S1x1x512.size a ≤ S1x2048x512.size a := fun v699 k0_hw343 => k0_hw343

def k0_off431 (i : grid0.Coords) : Fin 3 → Nat :=
  let c0_438 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v706 : Index := Scalar.indexCast v9
  let c87 : Index := 87#32
  ![0, v706.toNat, 87]
def k0_off432 (v707 : BitVec 32) : Fin 3 → Nat :=
  let c0_439 : Index := 0#32
  let v708 : Index := Scalar.indexCast v707
  let c0_440 : Index := 0#32
  ![0, v708.toNat, 0]

def k0_chk344 (v707 : BitVec 32) : Prop :=
  (∀ a, (k0_off432 v707) a + S1x1x512.size a ≤ S1x2048x512.size a)
theorem k0_off432_inb : ∀ (v707 : BitVec 32) (k0_hw344 : k0_chk344 v707), ∀ a, (k0_off432 v707) a + S1x1x512.size a ≤ S1x2048x512.size a := fun v707 k0_hw344 => k0_hw344

def k0_off433 (i : grid0.Coords) : Fin 3 → Nat :=
  let c0_443 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v714 : Index := Scalar.indexCast v9
  let c88 : Index := 88#32
  ![0, v714.toNat, 88]
def k0_off434 (v715 : BitVec 32) : Fin 3 → Nat :=
  let c0_444 : Index := 0#32
  let v716 : Index := Scalar.indexCast v715
  let c0_445 : Index := 0#32
  ![0, v716.toNat, 0]

def k0_chk345 (v715 : BitVec 32) : Prop :=
  (∀ a, (k0_off434 v715) a + S1x1x512.size a ≤ S1x2048x512.size a)
theorem k0_off434_inb : ∀ (v715 : BitVec 32) (k0_hw345 : k0_chk345 v715), ∀ a, (k0_off434 v715) a + S1x1x512.size a ≤ S1x2048x512.size a := fun v715 k0_hw345 => k0_hw345

def k0_off435 (i : grid0.Coords) : Fin 3 → Nat :=
  let c0_448 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v722 : Index := Scalar.indexCast v9
  let c89 : Index := 89#32
  ![0, v722.toNat, 89]
def k0_off436 (v723 : BitVec 32) : Fin 3 → Nat :=
  let c0_449 : Index := 0#32
  let v724 : Index := Scalar.indexCast v723
  let c0_450 : Index := 0#32
  ![0, v724.toNat, 0]

def k0_chk346 (v723 : BitVec 32) : Prop :=
  (∀ a, (k0_off436 v723) a + S1x1x512.size a ≤ S1x2048x512.size a)
theorem k0_off436_inb : ∀ (v723 : BitVec 32) (k0_hw346 : k0_chk346 v723), ∀ a, (k0_off436 v723) a + S1x1x512.size a ≤ S1x2048x512.size a := fun v723 k0_hw346 => k0_hw346

def k0_off437 (i : grid0.Coords) : Fin 3 → Nat :=
  let c0_453 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v730 : Index := Scalar.indexCast v9
  let c90 : Index := 90#32
  ![0, v730.toNat, 90]
def k0_off438 (v731 : BitVec 32) : Fin 3 → Nat :=
  let c0_454 : Index := 0#32
  let v732 : Index := Scalar.indexCast v731
  let c0_455 : Index := 0#32
  ![0, v732.toNat, 0]

def k0_chk347 (v731 : BitVec 32) : Prop :=
  (∀ a, (k0_off438 v731) a + S1x1x512.size a ≤ S1x2048x512.size a)
theorem k0_off438_inb : ∀ (v731 : BitVec 32) (k0_hw347 : k0_chk347 v731), ∀ a, (k0_off438 v731) a + S1x1x512.size a ≤ S1x2048x512.size a := fun v731 k0_hw347 => k0_hw347

def k0_off439 (i : grid0.Coords) : Fin 3 → Nat :=
  let c0_458 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v738 : Index := Scalar.indexCast v9
  let c91 : Index := 91#32
  ![0, v738.toNat, 91]
def k0_off440 (v739 : BitVec 32) : Fin 3 → Nat :=
  let c0_459 : Index := 0#32
  let v740 : Index := Scalar.indexCast v739
  let c0_460 : Index := 0#32
  ![0, v740.toNat, 0]

def k0_chk348 (v739 : BitVec 32) : Prop :=
  (∀ a, (k0_off440 v739) a + S1x1x512.size a ≤ S1x2048x512.size a)
theorem k0_off440_inb : ∀ (v739 : BitVec 32) (k0_hw348 : k0_chk348 v739), ∀ a, (k0_off440 v739) a + S1x1x512.size a ≤ S1x2048x512.size a := fun v739 k0_hw348 => k0_hw348

def k0_off441 (i : grid0.Coords) : Fin 3 → Nat :=
  let c0_463 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v746 : Index := Scalar.indexCast v9
  let c92 : Index := 92#32
  ![0, v746.toNat, 92]
def k0_off442 (v747 : BitVec 32) : Fin 3 → Nat :=
  let c0_464 : Index := 0#32
  let v748 : Index := Scalar.indexCast v747
  let c0_465 : Index := 0#32
  ![0, v748.toNat, 0]

def k0_chk349 (v747 : BitVec 32) : Prop :=
  (∀ a, (k0_off442 v747) a + S1x1x512.size a ≤ S1x2048x512.size a)
theorem k0_off442_inb : ∀ (v747 : BitVec 32) (k0_hw349 : k0_chk349 v747), ∀ a, (k0_off442 v747) a + S1x1x512.size a ≤ S1x2048x512.size a := fun v747 k0_hw349 => k0_hw349

def k0_off443 (i : grid0.Coords) : Fin 3 → Nat :=
  let c0_468 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v754 : Index := Scalar.indexCast v9
  let c93 : Index := 93#32
  ![0, v754.toNat, 93]
def k0_off444 (v755 : BitVec 32) : Fin 3 → Nat :=
  let c0_469 : Index := 0#32
  let v756 : Index := Scalar.indexCast v755
  let c0_470 : Index := 0#32
  ![0, v756.toNat, 0]

def k0_chk350 (v755 : BitVec 32) : Prop :=
  (∀ a, (k0_off444 v755) a + S1x1x512.size a ≤ S1x2048x512.size a)
theorem k0_off444_inb : ∀ (v755 : BitVec 32) (k0_hw350 : k0_chk350 v755), ∀ a, (k0_off444 v755) a + S1x1x512.size a ≤ S1x2048x512.size a := fun v755 k0_hw350 => k0_hw350

def k0_off445 (i : grid0.Coords) : Fin 3 → Nat :=
  let c0_473 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v762 : Index := Scalar.indexCast v9
  let c94 : Index := 94#32
  ![0, v762.toNat, 94]
def k0_off446 (v763 : BitVec 32) : Fin 3 → Nat :=
  let c0_474 : Index := 0#32
  let v764 : Index := Scalar.indexCast v763
  let c0_475 : Index := 0#32
  ![0, v764.toNat, 0]

def k0_chk351 (v763 : BitVec 32) : Prop :=
  (∀ a, (k0_off446 v763) a + S1x1x512.size a ≤ S1x2048x512.size a)
theorem k0_off446_inb : ∀ (v763 : BitVec 32) (k0_hw351 : k0_chk351 v763), ∀ a, (k0_off446 v763) a + S1x1x512.size a ≤ S1x2048x512.size a := fun v763 k0_hw351 => k0_hw351

def k0_off447 (i : grid0.Coords) : Fin 3 → Nat :=
  let c0_478 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v770 : Index := Scalar.indexCast v9
  let c95 : Index := 95#32
  ![0, v770.toNat, 95]
def k0_off448 (v771 : BitVec 32) : Fin 3 → Nat :=
  let c0_479 : Index := 0#32
  let v772 : Index := Scalar.indexCast v771
  let c0_480 : Index := 0#32
  ![0, v772.toNat, 0]

def k0_chk352 (v771 : BitVec 32) : Prop :=
  (∀ a, (k0_off448 v771) a + S1x1x512.size a ≤ S1x2048x512.size a)
theorem k0_off448_inb : ∀ (v771 : BitVec 32) (k0_hw352 : k0_chk352 v771), ∀ a, (k0_off448 v771) a + S1x1x512.size a ≤ S1x2048x512.size a := fun v771 k0_hw352 => k0_hw352

def k0_off449 (i : grid0.Coords) : Fin 3 → Nat :=
  let c0_483 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v778 : Index := Scalar.indexCast v9
  let c96 : Index := 96#32
  ![0, v778.toNat, 96]
def k0_off450 (v779 : BitVec 32) : Fin 3 → Nat :=
  let c0_484 : Index := 0#32
  let v780 : Index := Scalar.indexCast v779
  let c0_485 : Index := 0#32
  ![0, v780.toNat, 0]

def k0_chk353 (v779 : BitVec 32) : Prop :=
  (∀ a, (k0_off450 v779) a + S1x1x512.size a ≤ S1x2048x512.size a)
theorem k0_off450_inb : ∀ (v779 : BitVec 32) (k0_hw353 : k0_chk353 v779), ∀ a, (k0_off450 v779) a + S1x1x512.size a ≤ S1x2048x512.size a := fun v779 k0_hw353 => k0_hw353

def k0_off451 (i : grid0.Coords) : Fin 3 → Nat :=
  let c0_488 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v786 : Index := Scalar.indexCast v9
  let c97 : Index := 97#32
  ![0, v786.toNat, 97]
def k0_off452 (v787 : BitVec 32) : Fin 3 → Nat :=
  let c0_489 : Index := 0#32
  let v788 : Index := Scalar.indexCast v787
  let c0_490 : Index := 0#32
  ![0, v788.toNat, 0]

def k0_chk354 (v787 : BitVec 32) : Prop :=
  (∀ a, (k0_off452 v787) a + S1x1x512.size a ≤ S1x2048x512.size a)
theorem k0_off452_inb : ∀ (v787 : BitVec 32) (k0_hw354 : k0_chk354 v787), ∀ a, (k0_off452 v787) a + S1x1x512.size a ≤ S1x2048x512.size a := fun v787 k0_hw354 => k0_hw354

def k0_off453 (i : grid0.Coords) : Fin 3 → Nat :=
  let c0_493 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v794 : Index := Scalar.indexCast v9
  let c98 : Index := 98#32
  ![0, v794.toNat, 98]
def k0_off454 (v795 : BitVec 32) : Fin 3 → Nat :=
  let c0_494 : Index := 0#32
  let v796 : Index := Scalar.indexCast v795
  let c0_495 : Index := 0#32
  ![0, v796.toNat, 0]

def k0_chk355 (v795 : BitVec 32) : Prop :=
  (∀ a, (k0_off454 v795) a + S1x1x512.size a ≤ S1x2048x512.size a)
theorem k0_off454_inb : ∀ (v795 : BitVec 32) (k0_hw355 : k0_chk355 v795), ∀ a, (k0_off454 v795) a + S1x1x512.size a ≤ S1x2048x512.size a := fun v795 k0_hw355 => k0_hw355

def k0_off455 (i : grid0.Coords) : Fin 3 → Nat :=
  let c0_498 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v802 : Index := Scalar.indexCast v9
  let c99 : Index := 99#32
  ![0, v802.toNat, 99]
def k0_off456 (v803 : BitVec 32) : Fin 3 → Nat :=
  let c0_499 : Index := 0#32
  let v804 : Index := Scalar.indexCast v803
  let c0_500 : Index := 0#32
  ![0, v804.toNat, 0]

def k0_chk356 (v803 : BitVec 32) : Prop :=
  (∀ a, (k0_off456 v803) a + S1x1x512.size a ≤ S1x2048x512.size a)
theorem k0_off456_inb : ∀ (v803 : BitVec 32) (k0_hw356 : k0_chk356 v803), ∀ a, (k0_off456 v803) a + S1x1x512.size a ≤ S1x2048x512.size a := fun v803 k0_hw356 => k0_hw356

def k0_off457 (i : grid0.Coords) : Fin 3 → Nat :=
  let c0_503 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v810 : Index := Scalar.indexCast v9
  let c100 : Index := 100#32
  ![0, v810.toNat, 100]
def k0_off458 (v811 : BitVec 32) : Fin 3 → Nat :=
  let c0_504 : Index := 0#32
  let v812 : Index := Scalar.indexCast v811
  let c0_505 : Index := 0#32
  ![0, v812.toNat, 0]

def k0_chk357 (v811 : BitVec 32) : Prop :=
  (∀ a, (k0_off458 v811) a + S1x1x512.size a ≤ S1x2048x512.size a)
theorem k0_off458_inb : ∀ (v811 : BitVec 32) (k0_hw357 : k0_chk357 v811), ∀ a, (k0_off458 v811) a + S1x1x512.size a ≤ S1x2048x512.size a := fun v811 k0_hw357 => k0_hw357

def k0_off459 (i : grid0.Coords) : Fin 3 → Nat :=
  let c0_508 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v818 : Index := Scalar.indexCast v9
  let c101 : Index := 101#32
  ![0, v818.toNat, 101]
def k0_off460 (v819 : BitVec 32) : Fin 3 → Nat :=
  let c0_509 : Index := 0#32
  let v820 : Index := Scalar.indexCast v819
  let c0_510 : Index := 0#32
  ![0, v820.toNat, 0]

def k0_chk358 (v819 : BitVec 32) : Prop :=
  (∀ a, (k0_off460 v819) a + S1x1x512.size a ≤ S1x2048x512.size a)
theorem k0_off460_inb : ∀ (v819 : BitVec 32) (k0_hw358 : k0_chk358 v819), ∀ a, (k0_off460 v819) a + S1x1x512.size a ≤ S1x2048x512.size a := fun v819 k0_hw358 => k0_hw358

def k0_off461 (i : grid0.Coords) : Fin 3 → Nat :=
  let c0_513 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v826 : Index := Scalar.indexCast v9
  let c102 : Index := 102#32
  ![0, v826.toNat, 102]
def k0_off462 (v827 : BitVec 32) : Fin 3 → Nat :=
  let c0_514 : Index := 0#32
  let v828 : Index := Scalar.indexCast v827
  let c0_515 : Index := 0#32
  ![0, v828.toNat, 0]

def k0_chk359 (v827 : BitVec 32) : Prop :=
  (∀ a, (k0_off462 v827) a + S1x1x512.size a ≤ S1x2048x512.size a)
theorem k0_off462_inb : ∀ (v827 : BitVec 32) (k0_hw359 : k0_chk359 v827), ∀ a, (k0_off462 v827) a + S1x1x512.size a ≤ S1x2048x512.size a := fun v827 k0_hw359 => k0_hw359

def k0_off463 (i : grid0.Coords) : Fin 3 → Nat :=
  let c0_518 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v834 : Index := Scalar.indexCast v9
  let c103 : Index := 103#32
  ![0, v834.toNat, 103]
def k0_off464 (v835 : BitVec 32) : Fin 3 → Nat :=
  let c0_519 : Index := 0#32
  let v836 : Index := Scalar.indexCast v835
  let c0_520 : Index := 0#32
  ![0, v836.toNat, 0]

def k0_chk360 (v835 : BitVec 32) : Prop :=
  (∀ a, (k0_off464 v835) a + S1x1x512.size a ≤ S1x2048x512.size a)
theorem k0_off464_inb : ∀ (v835 : BitVec 32) (k0_hw360 : k0_chk360 v835), ∀ a, (k0_off464 v835) a + S1x1x512.size a ≤ S1x2048x512.size a := fun v835 k0_hw360 => k0_hw360

def k0_off465 (i : grid0.Coords) : Fin 3 → Nat :=
  let c0_523 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v842 : Index := Scalar.indexCast v9
  let c104 : Index := 104#32
  ![0, v842.toNat, 104]
def k0_off466 (v843 : BitVec 32) : Fin 3 → Nat :=
  let c0_524 : Index := 0#32
  let v844 : Index := Scalar.indexCast v843
  let c0_525 : Index := 0#32
  ![0, v844.toNat, 0]

def k0_chk361 (v843 : BitVec 32) : Prop :=
  (∀ a, (k0_off466 v843) a + S1x1x512.size a ≤ S1x2048x512.size a)
theorem k0_off466_inb : ∀ (v843 : BitVec 32) (k0_hw361 : k0_chk361 v843), ∀ a, (k0_off466 v843) a + S1x1x512.size a ≤ S1x2048x512.size a := fun v843 k0_hw361 => k0_hw361

def k0_off467 (i : grid0.Coords) : Fin 3 → Nat :=
  let c0_528 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v850 : Index := Scalar.indexCast v9
  let c105 : Index := 105#32
  ![0, v850.toNat, 105]
def k0_off468 (v851 : BitVec 32) : Fin 3 → Nat :=
  let c0_529 : Index := 0#32
  let v852 : Index := Scalar.indexCast v851
  let c0_530 : Index := 0#32
  ![0, v852.toNat, 0]

def k0_chk362 (v851 : BitVec 32) : Prop :=
  (∀ a, (k0_off468 v851) a + S1x1x512.size a ≤ S1x2048x512.size a)
theorem k0_off468_inb : ∀ (v851 : BitVec 32) (k0_hw362 : k0_chk362 v851), ∀ a, (k0_off468 v851) a + S1x1x512.size a ≤ S1x2048x512.size a := fun v851 k0_hw362 => k0_hw362

def k0_off469 (i : grid0.Coords) : Fin 3 → Nat :=
  let c0_533 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v858 : Index := Scalar.indexCast v9
  let c106 : Index := 106#32
  ![0, v858.toNat, 106]
def k0_off470 (v859 : BitVec 32) : Fin 3 → Nat :=
  let c0_534 : Index := 0#32
  let v860 : Index := Scalar.indexCast v859
  let c0_535 : Index := 0#32
  ![0, v860.toNat, 0]

def k0_chk363 (v859 : BitVec 32) : Prop :=
  (∀ a, (k0_off470 v859) a + S1x1x512.size a ≤ S1x2048x512.size a)
theorem k0_off470_inb : ∀ (v859 : BitVec 32) (k0_hw363 : k0_chk363 v859), ∀ a, (k0_off470 v859) a + S1x1x512.size a ≤ S1x2048x512.size a := fun v859 k0_hw363 => k0_hw363

def k0_off471 (i : grid0.Coords) : Fin 3 → Nat :=
  let c0_538 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v866 : Index := Scalar.indexCast v9
  let c107 : Index := 107#32
  ![0, v866.toNat, 107]
def k0_off472 (v867 : BitVec 32) : Fin 3 → Nat :=
  let c0_539 : Index := 0#32
  let v868 : Index := Scalar.indexCast v867
  let c0_540 : Index := 0#32
  ![0, v868.toNat, 0]

def k0_chk364 (v867 : BitVec 32) : Prop :=
  (∀ a, (k0_off472 v867) a + S1x1x512.size a ≤ S1x2048x512.size a)
theorem k0_off472_inb : ∀ (v867 : BitVec 32) (k0_hw364 : k0_chk364 v867), ∀ a, (k0_off472 v867) a + S1x1x512.size a ≤ S1x2048x512.size a := fun v867 k0_hw364 => k0_hw364

def k0_off473 (i : grid0.Coords) : Fin 3 → Nat :=
  let c0_543 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v874 : Index := Scalar.indexCast v9
  let c108 : Index := 108#32
  ![0, v874.toNat, 108]
def k0_off474 (v875 : BitVec 32) : Fin 3 → Nat :=
  let c0_544 : Index := 0#32
  let v876 : Index := Scalar.indexCast v875
  let c0_545 : Index := 0#32
  ![0, v876.toNat, 0]

def k0_chk365 (v875 : BitVec 32) : Prop :=
  (∀ a, (k0_off474 v875) a + S1x1x512.size a ≤ S1x2048x512.size a)
theorem k0_off474_inb : ∀ (v875 : BitVec 32) (k0_hw365 : k0_chk365 v875), ∀ a, (k0_off474 v875) a + S1x1x512.size a ≤ S1x2048x512.size a := fun v875 k0_hw365 => k0_hw365

def k0_off475 (i : grid0.Coords) : Fin 3 → Nat :=
  let c0_548 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v882 : Index := Scalar.indexCast v9
  let c109 : Index := 109#32
  ![0, v882.toNat, 109]
def k0_off476 (v883 : BitVec 32) : Fin 3 → Nat :=
  let c0_549 : Index := 0#32
  let v884 : Index := Scalar.indexCast v883
  let c0_550 : Index := 0#32
  ![0, v884.toNat, 0]

def k0_chk366 (v883 : BitVec 32) : Prop :=
  (∀ a, (k0_off476 v883) a + S1x1x512.size a ≤ S1x2048x512.size a)
theorem k0_off476_inb : ∀ (v883 : BitVec 32) (k0_hw366 : k0_chk366 v883), ∀ a, (k0_off476 v883) a + S1x1x512.size a ≤ S1x2048x512.size a := fun v883 k0_hw366 => k0_hw366

def k0_off477 (i : grid0.Coords) : Fin 3 → Nat :=
  let c0_553 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v890 : Index := Scalar.indexCast v9
  let c110 : Index := 110#32
  ![0, v890.toNat, 110]
def k0_off478 (v891 : BitVec 32) : Fin 3 → Nat :=
  let c0_554 : Index := 0#32
  let v892 : Index := Scalar.indexCast v891
  let c0_555 : Index := 0#32
  ![0, v892.toNat, 0]

def k0_chk367 (v891 : BitVec 32) : Prop :=
  (∀ a, (k0_off478 v891) a + S1x1x512.size a ≤ S1x2048x512.size a)
theorem k0_off478_inb : ∀ (v891 : BitVec 32) (k0_hw367 : k0_chk367 v891), ∀ a, (k0_off478 v891) a + S1x1x512.size a ≤ S1x2048x512.size a := fun v891 k0_hw367 => k0_hw367

def k0_off479 (i : grid0.Coords) : Fin 3 → Nat :=
  let c0_558 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v898 : Index := Scalar.indexCast v9
  let c111 : Index := 111#32
  ![0, v898.toNat, 111]
def k0_off480 (v899 : BitVec 32) : Fin 3 → Nat :=
  let c0_559 : Index := 0#32
  let v900 : Index := Scalar.indexCast v899
  let c0_560 : Index := 0#32
  ![0, v900.toNat, 0]

def k0_chk368 (v899 : BitVec 32) : Prop :=
  (∀ a, (k0_off480 v899) a + S1x1x512.size a ≤ S1x2048x512.size a)
theorem k0_off480_inb : ∀ (v899 : BitVec 32) (k0_hw368 : k0_chk368 v899), ∀ a, (k0_off480 v899) a + S1x1x512.size a ≤ S1x2048x512.size a := fun v899 k0_hw368 => k0_hw368

def k0_off481 (i : grid0.Coords) : Fin 3 → Nat :=
  let c0_563 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v906 : Index := Scalar.indexCast v9
  let c112 : Index := 112#32
  ![0, v906.toNat, 112]
def k0_off482 (v907 : BitVec 32) : Fin 3 → Nat :=
  let c0_564 : Index := 0#32
  let v908 : Index := Scalar.indexCast v907
  let c0_565 : Index := 0#32
  ![0, v908.toNat, 0]

def k0_chk369 (v907 : BitVec 32) : Prop :=
  (∀ a, (k0_off482 v907) a + S1x1x512.size a ≤ S1x2048x512.size a)
theorem k0_off482_inb : ∀ (v907 : BitVec 32) (k0_hw369 : k0_chk369 v907), ∀ a, (k0_off482 v907) a + S1x1x512.size a ≤ S1x2048x512.size a := fun v907 k0_hw369 => k0_hw369

def k0_off483 (i : grid0.Coords) : Fin 3 → Nat :=
  let c0_568 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v914 : Index := Scalar.indexCast v9
  let c113 : Index := 113#32
  ![0, v914.toNat, 113]
def k0_off484 (v915 : BitVec 32) : Fin 3 → Nat :=
  let c0_569 : Index := 0#32
  let v916 : Index := Scalar.indexCast v915
  let c0_570 : Index := 0#32
  ![0, v916.toNat, 0]

def k0_chk370 (v915 : BitVec 32) : Prop :=
  (∀ a, (k0_off484 v915) a + S1x1x512.size a ≤ S1x2048x512.size a)
theorem k0_off484_inb : ∀ (v915 : BitVec 32) (k0_hw370 : k0_chk370 v915), ∀ a, (k0_off484 v915) a + S1x1x512.size a ≤ S1x2048x512.size a := fun v915 k0_hw370 => k0_hw370

def k0_off485 (i : grid0.Coords) : Fin 3 → Nat :=
  let c0_573 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v922 : Index := Scalar.indexCast v9
  let c114 : Index := 114#32
  ![0, v922.toNat, 114]
def k0_off486 (v923 : BitVec 32) : Fin 3 → Nat :=
  let c0_574 : Index := 0#32
  let v924 : Index := Scalar.indexCast v923
  let c0_575 : Index := 0#32
  ![0, v924.toNat, 0]

def k0_chk371 (v923 : BitVec 32) : Prop :=
  (∀ a, (k0_off486 v923) a + S1x1x512.size a ≤ S1x2048x512.size a)
theorem k0_off486_inb : ∀ (v923 : BitVec 32) (k0_hw371 : k0_chk371 v923), ∀ a, (k0_off486 v923) a + S1x1x512.size a ≤ S1x2048x512.size a := fun v923 k0_hw371 => k0_hw371

def k0_off487 (i : grid0.Coords) : Fin 3 → Nat :=
  let c0_578 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v930 : Index := Scalar.indexCast v9
  let c115 : Index := 115#32
  ![0, v930.toNat, 115]
def k0_off488 (v931 : BitVec 32) : Fin 3 → Nat :=
  let c0_579 : Index := 0#32
  let v932 : Index := Scalar.indexCast v931
  let c0_580 : Index := 0#32
  ![0, v932.toNat, 0]

def k0_chk372 (v931 : BitVec 32) : Prop :=
  (∀ a, (k0_off488 v931) a + S1x1x512.size a ≤ S1x2048x512.size a)
theorem k0_off488_inb : ∀ (v931 : BitVec 32) (k0_hw372 : k0_chk372 v931), ∀ a, (k0_off488 v931) a + S1x1x512.size a ≤ S1x2048x512.size a := fun v931 k0_hw372 => k0_hw372

def k0_off489 (i : grid0.Coords) : Fin 3 → Nat :=
  let c0_583 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v938 : Index := Scalar.indexCast v9
  let c116 : Index := 116#32
  ![0, v938.toNat, 116]
def k0_off490 (v939 : BitVec 32) : Fin 3 → Nat :=
  let c0_584 : Index := 0#32
  let v940 : Index := Scalar.indexCast v939
  let c0_585 : Index := 0#32
  ![0, v940.toNat, 0]

def k0_chk373 (v939 : BitVec 32) : Prop :=
  (∀ a, (k0_off490 v939) a + S1x1x512.size a ≤ S1x2048x512.size a)
theorem k0_off490_inb : ∀ (v939 : BitVec 32) (k0_hw373 : k0_chk373 v939), ∀ a, (k0_off490 v939) a + S1x1x512.size a ≤ S1x2048x512.size a := fun v939 k0_hw373 => k0_hw373

def k0_off491 (i : grid0.Coords) : Fin 3 → Nat :=
  let c0_588 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v946 : Index := Scalar.indexCast v9
  let c117 : Index := 117#32
  ![0, v946.toNat, 117]
def k0_off492 (v947 : BitVec 32) : Fin 3 → Nat :=
  let c0_589 : Index := 0#32
  let v948 : Index := Scalar.indexCast v947
  let c0_590 : Index := 0#32
  ![0, v948.toNat, 0]

def k0_chk374 (v947 : BitVec 32) : Prop :=
  (∀ a, (k0_off492 v947) a + S1x1x512.size a ≤ S1x2048x512.size a)
theorem k0_off492_inb : ∀ (v947 : BitVec 32) (k0_hw374 : k0_chk374 v947), ∀ a, (k0_off492 v947) a + S1x1x512.size a ≤ S1x2048x512.size a := fun v947 k0_hw374 => k0_hw374

def k0_off493 (i : grid0.Coords) : Fin 3 → Nat :=
  let c0_593 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v954 : Index := Scalar.indexCast v9
  let c118 : Index := 118#32
  ![0, v954.toNat, 118]
def k0_off494 (v955 : BitVec 32) : Fin 3 → Nat :=
  let c0_594 : Index := 0#32
  let v956 : Index := Scalar.indexCast v955
  let c0_595 : Index := 0#32
  ![0, v956.toNat, 0]

def k0_chk375 (v955 : BitVec 32) : Prop :=
  (∀ a, (k0_off494 v955) a + S1x1x512.size a ≤ S1x2048x512.size a)
theorem k0_off494_inb : ∀ (v955 : BitVec 32) (k0_hw375 : k0_chk375 v955), ∀ a, (k0_off494 v955) a + S1x1x512.size a ≤ S1x2048x512.size a := fun v955 k0_hw375 => k0_hw375

def k0_off495 (i : grid0.Coords) : Fin 3 → Nat :=
  let c0_598 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v962 : Index := Scalar.indexCast v9
  let c119 : Index := 119#32
  ![0, v962.toNat, 119]
def k0_off496 (v963 : BitVec 32) : Fin 3 → Nat :=
  let c0_599 : Index := 0#32
  let v964 : Index := Scalar.indexCast v963
  let c0_600 : Index := 0#32
  ![0, v964.toNat, 0]

def k0_chk376 (v963 : BitVec 32) : Prop :=
  (∀ a, (k0_off496 v963) a + S1x1x512.size a ≤ S1x2048x512.size a)
theorem k0_off496_inb : ∀ (v963 : BitVec 32) (k0_hw376 : k0_chk376 v963), ∀ a, (k0_off496 v963) a + S1x1x512.size a ≤ S1x2048x512.size a := fun v963 k0_hw376 => k0_hw376

def k0_off497 (i : grid0.Coords) : Fin 3 → Nat :=
  let c0_603 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v970 : Index := Scalar.indexCast v9
  let c120 : Index := 120#32
  ![0, v970.toNat, 120]
def k0_off498 (v971 : BitVec 32) : Fin 3 → Nat :=
  let c0_604 : Index := 0#32
  let v972 : Index := Scalar.indexCast v971
  let c0_605 : Index := 0#32
  ![0, v972.toNat, 0]

def k0_chk377 (v971 : BitVec 32) : Prop :=
  (∀ a, (k0_off498 v971) a + S1x1x512.size a ≤ S1x2048x512.size a)
theorem k0_off498_inb : ∀ (v971 : BitVec 32) (k0_hw377 : k0_chk377 v971), ∀ a, (k0_off498 v971) a + S1x1x512.size a ≤ S1x2048x512.size a := fun v971 k0_hw377 => k0_hw377

def k0_off499 (i : grid0.Coords) : Fin 3 → Nat :=
  let c0_608 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v978 : Index := Scalar.indexCast v9
  let c121 : Index := 121#32
  ![0, v978.toNat, 121]
def k0_off500 (v979 : BitVec 32) : Fin 3 → Nat :=
  let c0_609 : Index := 0#32
  let v980 : Index := Scalar.indexCast v979
  let c0_610 : Index := 0#32
  ![0, v980.toNat, 0]

def k0_chk378 (v979 : BitVec 32) : Prop :=
  (∀ a, (k0_off500 v979) a + S1x1x512.size a ≤ S1x2048x512.size a)
theorem k0_off500_inb : ∀ (v979 : BitVec 32) (k0_hw378 : k0_chk378 v979), ∀ a, (k0_off500 v979) a + S1x1x512.size a ≤ S1x2048x512.size a := fun v979 k0_hw378 => k0_hw378

def k0_off501 (i : grid0.Coords) : Fin 3 → Nat :=
  let c0_613 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v986 : Index := Scalar.indexCast v9
  let c122 : Index := 122#32
  ![0, v986.toNat, 122]
def k0_off502 (v987 : BitVec 32) : Fin 3 → Nat :=
  let c0_614 : Index := 0#32
  let v988 : Index := Scalar.indexCast v987
  let c0_615 : Index := 0#32
  ![0, v988.toNat, 0]

def k0_chk379 (v987 : BitVec 32) : Prop :=
  (∀ a, (k0_off502 v987) a + S1x1x512.size a ≤ S1x2048x512.size a)
theorem k0_off502_inb : ∀ (v987 : BitVec 32) (k0_hw379 : k0_chk379 v987), ∀ a, (k0_off502 v987) a + S1x1x512.size a ≤ S1x2048x512.size a := fun v987 k0_hw379 => k0_hw379

def k0_off503 (i : grid0.Coords) : Fin 3 → Nat :=
  let c0_618 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v994 : Index := Scalar.indexCast v9
  let c123 : Index := 123#32
  ![0, v994.toNat, 123]
def k0_off504 (v995 : BitVec 32) : Fin 3 → Nat :=
  let c0_619 : Index := 0#32
  let v996 : Index := Scalar.indexCast v995
  let c0_620 : Index := 0#32
  ![0, v996.toNat, 0]

def k0_chk380 (v995 : BitVec 32) : Prop :=
  (∀ a, (k0_off504 v995) a + S1x1x512.size a ≤ S1x2048x512.size a)
theorem k0_off504_inb : ∀ (v995 : BitVec 32) (k0_hw380 : k0_chk380 v995), ∀ a, (k0_off504 v995) a + S1x1x512.size a ≤ S1x2048x512.size a := fun v995 k0_hw380 => k0_hw380

def k0_off505 (i : grid0.Coords) : Fin 3 → Nat :=
  let c0_623 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1002 : Index := Scalar.indexCast v9
  let c124 : Index := 124#32
  ![0, v1002.toNat, 124]
def k0_off506 (v1003 : BitVec 32) : Fin 3 → Nat :=
  let c0_624 : Index := 0#32
  let v1004 : Index := Scalar.indexCast v1003
  let c0_625 : Index := 0#32
  ![0, v1004.toNat, 0]

def k0_chk381 (v1003 : BitVec 32) : Prop :=
  (∀ a, (k0_off506 v1003) a + S1x1x512.size a ≤ S1x2048x512.size a)
theorem k0_off506_inb : ∀ (v1003 : BitVec 32) (k0_hw381 : k0_chk381 v1003), ∀ a, (k0_off506 v1003) a + S1x1x512.size a ≤ S1x2048x512.size a := fun v1003 k0_hw381 => k0_hw381

def k0_off507 (i : grid0.Coords) : Fin 3 → Nat :=
  let c0_628 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1010 : Index := Scalar.indexCast v9
  let c125 : Index := 125#32
  ![0, v1010.toNat, 125]
def k0_off508 (v1011 : BitVec 32) : Fin 3 → Nat :=
  let c0_629 : Index := 0#32
  let v1012 : Index := Scalar.indexCast v1011
  let c0_630 : Index := 0#32
  ![0, v1012.toNat, 0]

def k0_chk382 (v1011 : BitVec 32) : Prop :=
  (∀ a, (k0_off508 v1011) a + S1x1x512.size a ≤ S1x2048x512.size a)
theorem k0_off508_inb : ∀ (v1011 : BitVec 32) (k0_hw382 : k0_chk382 v1011), ∀ a, (k0_off508 v1011) a + S1x1x512.size a ≤ S1x2048x512.size a := fun v1011 k0_hw382 => k0_hw382

def k0_off509 (i : grid0.Coords) : Fin 3 → Nat :=
  let c0_633 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1018 : Index := Scalar.indexCast v9
  let c126 : Index := 126#32
  ![0, v1018.toNat, 126]
def k0_off510 (v1019 : BitVec 32) : Fin 3 → Nat :=
  let c0_634 : Index := 0#32
  let v1020 : Index := Scalar.indexCast v1019
  let c0_635 : Index := 0#32
  ![0, v1020.toNat, 0]

def k0_chk383 (v1019 : BitVec 32) : Prop :=
  (∀ a, (k0_off510 v1019) a + S1x1x512.size a ≤ S1x2048x512.size a)
theorem k0_off510_inb : ∀ (v1019 : BitVec 32) (k0_hw383 : k0_chk383 v1019), ∀ a, (k0_off510 v1019) a + S1x1x512.size a ≤ S1x2048x512.size a := fun v1019 k0_hw383 => k0_hw383

def k0_off511 (i : grid0.Coords) : Fin 3 → Nat :=
  let c0_638 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1026 : Index := Scalar.indexCast v9
  let c127 : Index := 127#32
  ![0, v1026.toNat, 127]
def k0_off512 (v1027 : BitVec 32) : Fin 3 → Nat :=
  let c0_639 : Index := 0#32
  let v1028 : Index := Scalar.indexCast v1027
  let c0_640 : Index := 0#32
  ![0, v1028.toNat, 0]

def k0_chk384 (v1027 : BitVec 32) : Prop :=
  (∀ a, (k0_off512 v1027) a + S1x1x512.size a ≤ S1x2048x512.size a)
theorem k0_off512_inb : ∀ (v1027 : BitVec 32) (k0_hw384 : k0_chk384 v1027), ∀ a, (k0_off512 v1027) a + S1x1x512.size a ≤ S1x2048x512.size a := fun v1027 k0_hw384 => k0_hw384

def k0_off513 (i : grid0.Coords) : Fin 3 → Nat :=
  let c0_643 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1034 : Index := Scalar.indexCast v9
  let c128 : Index := 128#32
  ![0, v1034.toNat, 128]
def k0_off514 (v1035 : BitVec 32) : Fin 3 → Nat :=
  let c0_644 : Index := 0#32
  let v1036 : Index := Scalar.indexCast v1035
  let c0_645 : Index := 0#32
  ![0, v1036.toNat, 0]

def k0_chk385 (v1035 : BitVec 32) : Prop :=
  (∀ a, (k0_off514 v1035) a + S1x1x512.size a ≤ S1x2048x512.size a)
theorem k0_off514_inb : ∀ (v1035 : BitVec 32) (k0_hw385 : k0_chk385 v1035), ∀ a, (k0_off514 v1035) a + S1x1x512.size a ≤ S1x2048x512.size a := fun v1035 k0_hw385 => k0_hw385

def k0_off515 (i : grid0.Coords) : Fin 3 → Nat :=
  let c0_648 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1042 : Index := Scalar.indexCast v9
  let c129 : Index := 129#32
  ![0, v1042.toNat, 129]
def k0_off516 (v1043 : BitVec 32) : Fin 3 → Nat :=
  let c0_649 : Index := 0#32
  let v1044 : Index := Scalar.indexCast v1043
  let c0_650 : Index := 0#32
  ![0, v1044.toNat, 0]

def k0_chk386 (v1043 : BitVec 32) : Prop :=
  (∀ a, (k0_off516 v1043) a + S1x1x512.size a ≤ S1x2048x512.size a)
theorem k0_off516_inb : ∀ (v1043 : BitVec 32) (k0_hw386 : k0_chk386 v1043), ∀ a, (k0_off516 v1043) a + S1x1x512.size a ≤ S1x2048x512.size a := fun v1043 k0_hw386 => k0_hw386

def k0_off517 (i : grid0.Coords) : Fin 3 → Nat :=
  let c0_653 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1050 : Index := Scalar.indexCast v9
  let c130 : Index := 130#32
  ![0, v1050.toNat, 130]
def k0_off518 (v1051 : BitVec 32) : Fin 3 → Nat :=
  let c0_654 : Index := 0#32
  let v1052 : Index := Scalar.indexCast v1051
  let c0_655 : Index := 0#32
  ![0, v1052.toNat, 0]

def k0_chk387 (v1051 : BitVec 32) : Prop :=
  (∀ a, (k0_off518 v1051) a + S1x1x512.size a ≤ S1x2048x512.size a)
theorem k0_off518_inb : ∀ (v1051 : BitVec 32) (k0_hw387 : k0_chk387 v1051), ∀ a, (k0_off518 v1051) a + S1x1x512.size a ≤ S1x2048x512.size a := fun v1051 k0_hw387 => k0_hw387

def k0_off519 (i : grid0.Coords) : Fin 3 → Nat :=
  let c0_658 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1058 : Index := Scalar.indexCast v9
  let c131 : Index := 131#32
  ![0, v1058.toNat, 131]
def k0_off520 (v1059 : BitVec 32) : Fin 3 → Nat :=
  let c0_659 : Index := 0#32
  let v1060 : Index := Scalar.indexCast v1059
  let c0_660 : Index := 0#32
  ![0, v1060.toNat, 0]

def k0_chk388 (v1059 : BitVec 32) : Prop :=
  (∀ a, (k0_off520 v1059) a + S1x1x512.size a ≤ S1x2048x512.size a)
theorem k0_off520_inb : ∀ (v1059 : BitVec 32) (k0_hw388 : k0_chk388 v1059), ∀ a, (k0_off520 v1059) a + S1x1x512.size a ≤ S1x2048x512.size a := fun v1059 k0_hw388 => k0_hw388

def k0_off521 (i : grid0.Coords) : Fin 3 → Nat :=
  let c0_663 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1066 : Index := Scalar.indexCast v9
  let c132 : Index := 132#32
  ![0, v1066.toNat, 132]
def k0_off522 (v1067 : BitVec 32) : Fin 3 → Nat :=
  let c0_664 : Index := 0#32
  let v1068 : Index := Scalar.indexCast v1067
  let c0_665 : Index := 0#32
  ![0, v1068.toNat, 0]

def k0_chk389 (v1067 : BitVec 32) : Prop :=
  (∀ a, (k0_off522 v1067) a + S1x1x512.size a ≤ S1x2048x512.size a)
theorem k0_off522_inb : ∀ (v1067 : BitVec 32) (k0_hw389 : k0_chk389 v1067), ∀ a, (k0_off522 v1067) a + S1x1x512.size a ≤ S1x2048x512.size a := fun v1067 k0_hw389 => k0_hw389

def k0_off523 (i : grid0.Coords) : Fin 3 → Nat :=
  let c0_668 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1074 : Index := Scalar.indexCast v9
  let c133 : Index := 133#32
  ![0, v1074.toNat, 133]
def k0_off524 (v1075 : BitVec 32) : Fin 3 → Nat :=
  let c0_669 : Index := 0#32
  let v1076 : Index := Scalar.indexCast v1075
  let c0_670 : Index := 0#32
  ![0, v1076.toNat, 0]

def k0_chk390 (v1075 : BitVec 32) : Prop :=
  (∀ a, (k0_off524 v1075) a + S1x1x512.size a ≤ S1x2048x512.size a)
theorem k0_off524_inb : ∀ (v1075 : BitVec 32) (k0_hw390 : k0_chk390 v1075), ∀ a, (k0_off524 v1075) a + S1x1x512.size a ≤ S1x2048x512.size a := fun v1075 k0_hw390 => k0_hw390

def k0_off525 (i : grid0.Coords) : Fin 3 → Nat :=
  let c0_673 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1082 : Index := Scalar.indexCast v9
  let c134 : Index := 134#32
  ![0, v1082.toNat, 134]
def k0_off526 (v1083 : BitVec 32) : Fin 3 → Nat :=
  let c0_674 : Index := 0#32
  let v1084 : Index := Scalar.indexCast v1083
  let c0_675 : Index := 0#32
  ![0, v1084.toNat, 0]

def k0_chk391 (v1083 : BitVec 32) : Prop :=
  (∀ a, (k0_off526 v1083) a + S1x1x512.size a ≤ S1x2048x512.size a)
theorem k0_off526_inb : ∀ (v1083 : BitVec 32) (k0_hw391 : k0_chk391 v1083), ∀ a, (k0_off526 v1083) a + S1x1x512.size a ≤ S1x2048x512.size a := fun v1083 k0_hw391 => k0_hw391

def k0_off527 (i : grid0.Coords) : Fin 3 → Nat :=
  let c0_678 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1090 : Index := Scalar.indexCast v9
  let c135 : Index := 135#32
  ![0, v1090.toNat, 135]
def k0_off528 (v1091 : BitVec 32) : Fin 3 → Nat :=
  let c0_679 : Index := 0#32
  let v1092 : Index := Scalar.indexCast v1091
  let c0_680 : Index := 0#32
  ![0, v1092.toNat, 0]

def k0_chk392 (v1091 : BitVec 32) : Prop :=
  (∀ a, (k0_off528 v1091) a + S1x1x512.size a ≤ S1x2048x512.size a)
theorem k0_off528_inb : ∀ (v1091 : BitVec 32) (k0_hw392 : k0_chk392 v1091), ∀ a, (k0_off528 v1091) a + S1x1x512.size a ≤ S1x2048x512.size a := fun v1091 k0_hw392 => k0_hw392

def k0_off529 (i : grid0.Coords) : Fin 3 → Nat :=
  let c0_683 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1098 : Index := Scalar.indexCast v9
  let c136 : Index := 136#32
  ![0, v1098.toNat, 136]
def k0_off530 (v1099 : BitVec 32) : Fin 3 → Nat :=
  let c0_684 : Index := 0#32
  let v1100 : Index := Scalar.indexCast v1099
  let c0_685 : Index := 0#32
  ![0, v1100.toNat, 0]

def k0_chk393 (v1099 : BitVec 32) : Prop :=
  (∀ a, (k0_off530 v1099) a + S1x1x512.size a ≤ S1x2048x512.size a)
theorem k0_off530_inb : ∀ (v1099 : BitVec 32) (k0_hw393 : k0_chk393 v1099), ∀ a, (k0_off530 v1099) a + S1x1x512.size a ≤ S1x2048x512.size a := fun v1099 k0_hw393 => k0_hw393

def k0_off531 (i : grid0.Coords) : Fin 3 → Nat :=
  let c0_688 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1106 : Index := Scalar.indexCast v9
  let c137 : Index := 137#32
  ![0, v1106.toNat, 137]
def k0_off532 (v1107 : BitVec 32) : Fin 3 → Nat :=
  let c0_689 : Index := 0#32
  let v1108 : Index := Scalar.indexCast v1107
  let c0_690 : Index := 0#32
  ![0, v1108.toNat, 0]

def k0_chk394 (v1107 : BitVec 32) : Prop :=
  (∀ a, (k0_off532 v1107) a + S1x1x512.size a ≤ S1x2048x512.size a)
theorem k0_off532_inb : ∀ (v1107 : BitVec 32) (k0_hw394 : k0_chk394 v1107), ∀ a, (k0_off532 v1107) a + S1x1x512.size a ≤ S1x2048x512.size a := fun v1107 k0_hw394 => k0_hw394

def k0_off533 (i : grid0.Coords) : Fin 3 → Nat :=
  let c0_693 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1114 : Index := Scalar.indexCast v9
  let c138 : Index := 138#32
  ![0, v1114.toNat, 138]
def k0_off534 (v1115 : BitVec 32) : Fin 3 → Nat :=
  let c0_694 : Index := 0#32
  let v1116 : Index := Scalar.indexCast v1115
  let c0_695 : Index := 0#32
  ![0, v1116.toNat, 0]

def k0_chk395 (v1115 : BitVec 32) : Prop :=
  (∀ a, (k0_off534 v1115) a + S1x1x512.size a ≤ S1x2048x512.size a)
theorem k0_off534_inb : ∀ (v1115 : BitVec 32) (k0_hw395 : k0_chk395 v1115), ∀ a, (k0_off534 v1115) a + S1x1x512.size a ≤ S1x2048x512.size a := fun v1115 k0_hw395 => k0_hw395

def k0_off535 (i : grid0.Coords) : Fin 3 → Nat :=
  let c0_698 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1122 : Index := Scalar.indexCast v9
  let c139 : Index := 139#32
  ![0, v1122.toNat, 139]
def k0_off536 (v1123 : BitVec 32) : Fin 3 → Nat :=
  let c0_699 : Index := 0#32
  let v1124 : Index := Scalar.indexCast v1123
  let c0_700 : Index := 0#32
  ![0, v1124.toNat, 0]

def k0_chk396 (v1123 : BitVec 32) : Prop :=
  (∀ a, (k0_off536 v1123) a + S1x1x512.size a ≤ S1x2048x512.size a)
theorem k0_off536_inb : ∀ (v1123 : BitVec 32) (k0_hw396 : k0_chk396 v1123), ∀ a, (k0_off536 v1123) a + S1x1x512.size a ≤ S1x2048x512.size a := fun v1123 k0_hw396 => k0_hw396

def k0_off537 (i : grid0.Coords) : Fin 3 → Nat :=
  let c0_703 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1130 : Index := Scalar.indexCast v9
  let c140 : Index := 140#32
  ![0, v1130.toNat, 140]
def k0_off538 (v1131 : BitVec 32) : Fin 3 → Nat :=
  let c0_704 : Index := 0#32
  let v1132 : Index := Scalar.indexCast v1131
  let c0_705 : Index := 0#32
  ![0, v1132.toNat, 0]

def k0_chk397 (v1131 : BitVec 32) : Prop :=
  (∀ a, (k0_off538 v1131) a + S1x1x512.size a ≤ S1x2048x512.size a)
theorem k0_off538_inb : ∀ (v1131 : BitVec 32) (k0_hw397 : k0_chk397 v1131), ∀ a, (k0_off538 v1131) a + S1x1x512.size a ≤ S1x2048x512.size a := fun v1131 k0_hw397 => k0_hw397

def k0_off539 (i : grid0.Coords) : Fin 3 → Nat :=
  let c0_708 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1138 : Index := Scalar.indexCast v9
  let c141 : Index := 141#32
  ![0, v1138.toNat, 141]
def k0_off540 (v1139 : BitVec 32) : Fin 3 → Nat :=
  let c0_709 : Index := 0#32
  let v1140 : Index := Scalar.indexCast v1139
  let c0_710 : Index := 0#32
  ![0, v1140.toNat, 0]

def k0_chk398 (v1139 : BitVec 32) : Prop :=
  (∀ a, (k0_off540 v1139) a + S1x1x512.size a ≤ S1x2048x512.size a)
theorem k0_off540_inb : ∀ (v1139 : BitVec 32) (k0_hw398 : k0_chk398 v1139), ∀ a, (k0_off540 v1139) a + S1x1x512.size a ≤ S1x2048x512.size a := fun v1139 k0_hw398 => k0_hw398

def k0_off541 (i : grid0.Coords) : Fin 3 → Nat :=
  let c0_713 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1146 : Index := Scalar.indexCast v9
  let c142 : Index := 142#32
  ![0, v1146.toNat, 142]
def k0_off542 (v1147 : BitVec 32) : Fin 3 → Nat :=
  let c0_714 : Index := 0#32
  let v1148 : Index := Scalar.indexCast v1147
  let c0_715 : Index := 0#32
  ![0, v1148.toNat, 0]

def k0_chk399 (v1147 : BitVec 32) : Prop :=
  (∀ a, (k0_off542 v1147) a + S1x1x512.size a ≤ S1x2048x512.size a)
theorem k0_off542_inb : ∀ (v1147 : BitVec 32) (k0_hw399 : k0_chk399 v1147), ∀ a, (k0_off542 v1147) a + S1x1x512.size a ≤ S1x2048x512.size a := fun v1147 k0_hw399 => k0_hw399

def k0_off543 (i : grid0.Coords) : Fin 3 → Nat :=
  let c0_718 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1154 : Index := Scalar.indexCast v9
  let c143 : Index := 143#32
  ![0, v1154.toNat, 143]
def k0_off544 (v1155 : BitVec 32) : Fin 3 → Nat :=
  let c0_719 : Index := 0#32
  let v1156 : Index := Scalar.indexCast v1155
  let c0_720 : Index := 0#32
  ![0, v1156.toNat, 0]

def k0_chk400 (v1155 : BitVec 32) : Prop :=
  (∀ a, (k0_off544 v1155) a + S1x1x512.size a ≤ S1x2048x512.size a)
theorem k0_off544_inb : ∀ (v1155 : BitVec 32) (k0_hw400 : k0_chk400 v1155), ∀ a, (k0_off544 v1155) a + S1x1x512.size a ≤ S1x2048x512.size a := fun v1155 k0_hw400 => k0_hw400

def k0_off545 (i : grid0.Coords) : Fin 3 → Nat :=
  let c0_723 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1162 : Index := Scalar.indexCast v9
  let c144 : Index := 144#32
  ![0, v1162.toNat, 144]
def k0_off546 (v1163 : BitVec 32) : Fin 3 → Nat :=
  let c0_724 : Index := 0#32
  let v1164 : Index := Scalar.indexCast v1163
  let c0_725 : Index := 0#32
  ![0, v1164.toNat, 0]

def k0_chk401 (v1163 : BitVec 32) : Prop :=
  (∀ a, (k0_off546 v1163) a + S1x1x512.size a ≤ S1x2048x512.size a)
theorem k0_off546_inb : ∀ (v1163 : BitVec 32) (k0_hw401 : k0_chk401 v1163), ∀ a, (k0_off546 v1163) a + S1x1x512.size a ≤ S1x2048x512.size a := fun v1163 k0_hw401 => k0_hw401

def k0_off547 (i : grid0.Coords) : Fin 3 → Nat :=
  let c0_728 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1170 : Index := Scalar.indexCast v9
  let c145 : Index := 145#32
  ![0, v1170.toNat, 145]
def k0_off548 (v1171 : BitVec 32) : Fin 3 → Nat :=
  let c0_729 : Index := 0#32
  let v1172 : Index := Scalar.indexCast v1171
  let c0_730 : Index := 0#32
  ![0, v1172.toNat, 0]

def k0_chk402 (v1171 : BitVec 32) : Prop :=
  (∀ a, (k0_off548 v1171) a + S1x1x512.size a ≤ S1x2048x512.size a)
theorem k0_off548_inb : ∀ (v1171 : BitVec 32) (k0_hw402 : k0_chk402 v1171), ∀ a, (k0_off548 v1171) a + S1x1x512.size a ≤ S1x2048x512.size a := fun v1171 k0_hw402 => k0_hw402

def k0_off549 (i : grid0.Coords) : Fin 3 → Nat :=
  let c0_733 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1178 : Index := Scalar.indexCast v9
  let c146 : Index := 146#32
  ![0, v1178.toNat, 146]
def k0_off550 (v1179 : BitVec 32) : Fin 3 → Nat :=
  let c0_734 : Index := 0#32
  let v1180 : Index := Scalar.indexCast v1179
  let c0_735 : Index := 0#32
  ![0, v1180.toNat, 0]

def k0_chk403 (v1179 : BitVec 32) : Prop :=
  (∀ a, (k0_off550 v1179) a + S1x1x512.size a ≤ S1x2048x512.size a)
theorem k0_off550_inb : ∀ (v1179 : BitVec 32) (k0_hw403 : k0_chk403 v1179), ∀ a, (k0_off550 v1179) a + S1x1x512.size a ≤ S1x2048x512.size a := fun v1179 k0_hw403 => k0_hw403

def k0_off551 (i : grid0.Coords) : Fin 3 → Nat :=
  let c0_738 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1186 : Index := Scalar.indexCast v9
  let c147 : Index := 147#32
  ![0, v1186.toNat, 147]
def k0_off552 (v1187 : BitVec 32) : Fin 3 → Nat :=
  let c0_739 : Index := 0#32
  let v1188 : Index := Scalar.indexCast v1187
  let c0_740 : Index := 0#32
  ![0, v1188.toNat, 0]

def k0_chk404 (v1187 : BitVec 32) : Prop :=
  (∀ a, (k0_off552 v1187) a + S1x1x512.size a ≤ S1x2048x512.size a)
theorem k0_off552_inb : ∀ (v1187 : BitVec 32) (k0_hw404 : k0_chk404 v1187), ∀ a, (k0_off552 v1187) a + S1x1x512.size a ≤ S1x2048x512.size a := fun v1187 k0_hw404 => k0_hw404

def k0_off553 (i : grid0.Coords) : Fin 3 → Nat :=
  let c0_743 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1194 : Index := Scalar.indexCast v9
  let c148 : Index := 148#32
  ![0, v1194.toNat, 148]
def k0_off554 (v1195 : BitVec 32) : Fin 3 → Nat :=
  let c0_744 : Index := 0#32
  let v1196 : Index := Scalar.indexCast v1195
  let c0_745 : Index := 0#32
  ![0, v1196.toNat, 0]

def k0_chk405 (v1195 : BitVec 32) : Prop :=
  (∀ a, (k0_off554 v1195) a + S1x1x512.size a ≤ S1x2048x512.size a)
theorem k0_off554_inb : ∀ (v1195 : BitVec 32) (k0_hw405 : k0_chk405 v1195), ∀ a, (k0_off554 v1195) a + S1x1x512.size a ≤ S1x2048x512.size a := fun v1195 k0_hw405 => k0_hw405

def k0_off555 (i : grid0.Coords) : Fin 3 → Nat :=
  let c0_748 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1202 : Index := Scalar.indexCast v9
  let c149 : Index := 149#32
  ![0, v1202.toNat, 149]
def k0_off556 (v1203 : BitVec 32) : Fin 3 → Nat :=
  let c0_749 : Index := 0#32
  let v1204 : Index := Scalar.indexCast v1203
  let c0_750 : Index := 0#32
  ![0, v1204.toNat, 0]

def k0_chk406 (v1203 : BitVec 32) : Prop :=
  (∀ a, (k0_off556 v1203) a + S1x1x512.size a ≤ S1x2048x512.size a)
theorem k0_off556_inb : ∀ (v1203 : BitVec 32) (k0_hw406 : k0_chk406 v1203), ∀ a, (k0_off556 v1203) a + S1x1x512.size a ≤ S1x2048x512.size a := fun v1203 k0_hw406 => k0_hw406

def k0_off557 (i : grid0.Coords) : Fin 3 → Nat :=
  let c0_753 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1210 : Index := Scalar.indexCast v9
  let c150 : Index := 150#32
  ![0, v1210.toNat, 150]
def k0_off558 (v1211 : BitVec 32) : Fin 3 → Nat :=
  let c0_754 : Index := 0#32
  let v1212 : Index := Scalar.indexCast v1211
  let c0_755 : Index := 0#32
  ![0, v1212.toNat, 0]

def k0_chk407 (v1211 : BitVec 32) : Prop :=
  (∀ a, (k0_off558 v1211) a + S1x1x512.size a ≤ S1x2048x512.size a)
theorem k0_off558_inb : ∀ (v1211 : BitVec 32) (k0_hw407 : k0_chk407 v1211), ∀ a, (k0_off558 v1211) a + S1x1x512.size a ≤ S1x2048x512.size a := fun v1211 k0_hw407 => k0_hw407

def k0_off559 (i : grid0.Coords) : Fin 3 → Nat :=
  let c0_758 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1218 : Index := Scalar.indexCast v9
  let c151 : Index := 151#32
  ![0, v1218.toNat, 151]
def k0_off560 (v1219 : BitVec 32) : Fin 3 → Nat :=
  let c0_759 : Index := 0#32
  let v1220 : Index := Scalar.indexCast v1219
  let c0_760 : Index := 0#32
  ![0, v1220.toNat, 0]

def k0_chk408 (v1219 : BitVec 32) : Prop :=
  (∀ a, (k0_off560 v1219) a + S1x1x512.size a ≤ S1x2048x512.size a)
theorem k0_off560_inb : ∀ (v1219 : BitVec 32) (k0_hw408 : k0_chk408 v1219), ∀ a, (k0_off560 v1219) a + S1x1x512.size a ≤ S1x2048x512.size a := fun v1219 k0_hw408 => k0_hw408

def k0_off561 (i : grid0.Coords) : Fin 3 → Nat :=
  let c0_763 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1226 : Index := Scalar.indexCast v9
  let c152 : Index := 152#32
  ![0, v1226.toNat, 152]
def k0_off562 (v1227 : BitVec 32) : Fin 3 → Nat :=
  let c0_764 : Index := 0#32
  let v1228 : Index := Scalar.indexCast v1227
  let c0_765 : Index := 0#32
  ![0, v1228.toNat, 0]

def k0_chk409 (v1227 : BitVec 32) : Prop :=
  (∀ a, (k0_off562 v1227) a + S1x1x512.size a ≤ S1x2048x512.size a)
theorem k0_off562_inb : ∀ (v1227 : BitVec 32) (k0_hw409 : k0_chk409 v1227), ∀ a, (k0_off562 v1227) a + S1x1x512.size a ≤ S1x2048x512.size a := fun v1227 k0_hw409 => k0_hw409

def k0_off563 (i : grid0.Coords) : Fin 3 → Nat :=
  let c0_768 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1234 : Index := Scalar.indexCast v9
  let c153 : Index := 153#32
  ![0, v1234.toNat, 153]
def k0_off564 (v1235 : BitVec 32) : Fin 3 → Nat :=
  let c0_769 : Index := 0#32
  let v1236 : Index := Scalar.indexCast v1235
  let c0_770 : Index := 0#32
  ![0, v1236.toNat, 0]

def k0_chk410 (v1235 : BitVec 32) : Prop :=
  (∀ a, (k0_off564 v1235) a + S1x1x512.size a ≤ S1x2048x512.size a)
theorem k0_off564_inb : ∀ (v1235 : BitVec 32) (k0_hw410 : k0_chk410 v1235), ∀ a, (k0_off564 v1235) a + S1x1x512.size a ≤ S1x2048x512.size a := fun v1235 k0_hw410 => k0_hw410

def k0_off565 (i : grid0.Coords) : Fin 3 → Nat :=
  let c0_773 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1242 : Index := Scalar.indexCast v9
  let c154 : Index := 154#32
  ![0, v1242.toNat, 154]
def k0_off566 (v1243 : BitVec 32) : Fin 3 → Nat :=
  let c0_774 : Index := 0#32
  let v1244 : Index := Scalar.indexCast v1243
  let c0_775 : Index := 0#32
  ![0, v1244.toNat, 0]

def k0_chk411 (v1243 : BitVec 32) : Prop :=
  (∀ a, (k0_off566 v1243) a + S1x1x512.size a ≤ S1x2048x512.size a)
theorem k0_off566_inb : ∀ (v1243 : BitVec 32) (k0_hw411 : k0_chk411 v1243), ∀ a, (k0_off566 v1243) a + S1x1x512.size a ≤ S1x2048x512.size a := fun v1243 k0_hw411 => k0_hw411

def k0_off567 (i : grid0.Coords) : Fin 3 → Nat :=
  let c0_778 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1250 : Index := Scalar.indexCast v9
  let c155 : Index := 155#32
  ![0, v1250.toNat, 155]
def k0_off568 (v1251 : BitVec 32) : Fin 3 → Nat :=
  let c0_779 : Index := 0#32
  let v1252 : Index := Scalar.indexCast v1251
  let c0_780 : Index := 0#32
  ![0, v1252.toNat, 0]

def k0_chk412 (v1251 : BitVec 32) : Prop :=
  (∀ a, (k0_off568 v1251) a + S1x1x512.size a ≤ S1x2048x512.size a)
theorem k0_off568_inb : ∀ (v1251 : BitVec 32) (k0_hw412 : k0_chk412 v1251), ∀ a, (k0_off568 v1251) a + S1x1x512.size a ≤ S1x2048x512.size a := fun v1251 k0_hw412 => k0_hw412

def k0_off569 (i : grid0.Coords) : Fin 3 → Nat :=
  let c0_783 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1258 : Index := Scalar.indexCast v9
  let c156 : Index := 156#32
  ![0, v1258.toNat, 156]
def k0_off570 (v1259 : BitVec 32) : Fin 3 → Nat :=
  let c0_784 : Index := 0#32
  let v1260 : Index := Scalar.indexCast v1259
  let c0_785 : Index := 0#32
  ![0, v1260.toNat, 0]

def k0_chk413 (v1259 : BitVec 32) : Prop :=
  (∀ a, (k0_off570 v1259) a + S1x1x512.size a ≤ S1x2048x512.size a)
theorem k0_off570_inb : ∀ (v1259 : BitVec 32) (k0_hw413 : k0_chk413 v1259), ∀ a, (k0_off570 v1259) a + S1x1x512.size a ≤ S1x2048x512.size a := fun v1259 k0_hw413 => k0_hw413

def k0_off571 (i : grid0.Coords) : Fin 3 → Nat :=
  let c0_788 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1266 : Index := Scalar.indexCast v9
  let c157 : Index := 157#32
  ![0, v1266.toNat, 157]
def k0_off572 (v1267 : BitVec 32) : Fin 3 → Nat :=
  let c0_789 : Index := 0#32
  let v1268 : Index := Scalar.indexCast v1267
  let c0_790 : Index := 0#32
  ![0, v1268.toNat, 0]

def k0_chk414 (v1267 : BitVec 32) : Prop :=
  (∀ a, (k0_off572 v1267) a + S1x1x512.size a ≤ S1x2048x512.size a)
theorem k0_off572_inb : ∀ (v1267 : BitVec 32) (k0_hw414 : k0_chk414 v1267), ∀ a, (k0_off572 v1267) a + S1x1x512.size a ≤ S1x2048x512.size a := fun v1267 k0_hw414 => k0_hw414

def k0_off573 (i : grid0.Coords) : Fin 3 → Nat :=
  let c0_793 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1274 : Index := Scalar.indexCast v9
  let c158 : Index := 158#32
  ![0, v1274.toNat, 158]
def k0_off574 (v1275 : BitVec 32) : Fin 3 → Nat :=
  let c0_794 : Index := 0#32
  let v1276 : Index := Scalar.indexCast v1275
  let c0_795 : Index := 0#32
  ![0, v1276.toNat, 0]

def k0_chk415 (v1275 : BitVec 32) : Prop :=
  (∀ a, (k0_off574 v1275) a + S1x1x512.size a ≤ S1x2048x512.size a)
theorem k0_off574_inb : ∀ (v1275 : BitVec 32) (k0_hw415 : k0_chk415 v1275), ∀ a, (k0_off574 v1275) a + S1x1x512.size a ≤ S1x2048x512.size a := fun v1275 k0_hw415 => k0_hw415

def k0_off575 (i : grid0.Coords) : Fin 3 → Nat :=
  let c0_798 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1282 : Index := Scalar.indexCast v9
  let c159 : Index := 159#32
  ![0, v1282.toNat, 159]
def k0_off576 (v1283 : BitVec 32) : Fin 3 → Nat :=
  let c0_799 : Index := 0#32
  let v1284 : Index := Scalar.indexCast v1283
  let c0_800 : Index := 0#32
  ![0, v1284.toNat, 0]

def k0_chk416 (v1283 : BitVec 32) : Prop :=
  (∀ a, (k0_off576 v1283) a + S1x1x512.size a ≤ S1x2048x512.size a)
theorem k0_off576_inb : ∀ (v1283 : BitVec 32) (k0_hw416 : k0_chk416 v1283), ∀ a, (k0_off576 v1283) a + S1x1x512.size a ≤ S1x2048x512.size a := fun v1283 k0_hw416 => k0_hw416

def k0_off577 (i : grid0.Coords) : Fin 3 → Nat :=
  let c0_803 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1290 : Index := Scalar.indexCast v9
  let c160 : Index := 160#32
  ![0, v1290.toNat, 160]
def k0_off578 (v1291 : BitVec 32) : Fin 3 → Nat :=
  let c0_804 : Index := 0#32
  let v1292 : Index := Scalar.indexCast v1291
  let c0_805 : Index := 0#32
  ![0, v1292.toNat, 0]

def k0_chk417 (v1291 : BitVec 32) : Prop :=
  (∀ a, (k0_off578 v1291) a + S1x1x512.size a ≤ S1x2048x512.size a)
theorem k0_off578_inb : ∀ (v1291 : BitVec 32) (k0_hw417 : k0_chk417 v1291), ∀ a, (k0_off578 v1291) a + S1x1x512.size a ≤ S1x2048x512.size a := fun v1291 k0_hw417 => k0_hw417

def k0_off579 (i : grid0.Coords) : Fin 3 → Nat :=
  let c0_808 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1298 : Index := Scalar.indexCast v9
  let c161 : Index := 161#32
  ![0, v1298.toNat, 161]
def k0_off580 (v1299 : BitVec 32) : Fin 3 → Nat :=
  let c0_809 : Index := 0#32
  let v1300 : Index := Scalar.indexCast v1299
  let c0_810 : Index := 0#32
  ![0, v1300.toNat, 0]

def k0_chk418 (v1299 : BitVec 32) : Prop :=
  (∀ a, (k0_off580 v1299) a + S1x1x512.size a ≤ S1x2048x512.size a)
theorem k0_off580_inb : ∀ (v1299 : BitVec 32) (k0_hw418 : k0_chk418 v1299), ∀ a, (k0_off580 v1299) a + S1x1x512.size a ≤ S1x2048x512.size a := fun v1299 k0_hw418 => k0_hw418

def k0_off581 (i : grid0.Coords) : Fin 3 → Nat :=
  let c0_813 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1306 : Index := Scalar.indexCast v9
  let c162 : Index := 162#32
  ![0, v1306.toNat, 162]
def k0_off582 (v1307 : BitVec 32) : Fin 3 → Nat :=
  let c0_814 : Index := 0#32
  let v1308 : Index := Scalar.indexCast v1307
  let c0_815 : Index := 0#32
  ![0, v1308.toNat, 0]

def k0_chk419 (v1307 : BitVec 32) : Prop :=
  (∀ a, (k0_off582 v1307) a + S1x1x512.size a ≤ S1x2048x512.size a)
theorem k0_off582_inb : ∀ (v1307 : BitVec 32) (k0_hw419 : k0_chk419 v1307), ∀ a, (k0_off582 v1307) a + S1x1x512.size a ≤ S1x2048x512.size a := fun v1307 k0_hw419 => k0_hw419

def k0_off583 (i : grid0.Coords) : Fin 3 → Nat :=
  let c0_818 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1314 : Index := Scalar.indexCast v9
  let c163 : Index := 163#32
  ![0, v1314.toNat, 163]
def k0_off584 (v1315 : BitVec 32) : Fin 3 → Nat :=
  let c0_819 : Index := 0#32
  let v1316 : Index := Scalar.indexCast v1315
  let c0_820 : Index := 0#32
  ![0, v1316.toNat, 0]

def k0_chk420 (v1315 : BitVec 32) : Prop :=
  (∀ a, (k0_off584 v1315) a + S1x1x512.size a ≤ S1x2048x512.size a)
theorem k0_off584_inb : ∀ (v1315 : BitVec 32) (k0_hw420 : k0_chk420 v1315), ∀ a, (k0_off584 v1315) a + S1x1x512.size a ≤ S1x2048x512.size a := fun v1315 k0_hw420 => k0_hw420

def k0_off585 (i : grid0.Coords) : Fin 3 → Nat :=
  let c0_823 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1322 : Index := Scalar.indexCast v9
  let c164 : Index := 164#32
  ![0, v1322.toNat, 164]
def k0_off586 (v1323 : BitVec 32) : Fin 3 → Nat :=
  let c0_824 : Index := 0#32
  let v1324 : Index := Scalar.indexCast v1323
  let c0_825 : Index := 0#32
  ![0, v1324.toNat, 0]

def k0_chk421 (v1323 : BitVec 32) : Prop :=
  (∀ a, (k0_off586 v1323) a + S1x1x512.size a ≤ S1x2048x512.size a)
theorem k0_off586_inb : ∀ (v1323 : BitVec 32) (k0_hw421 : k0_chk421 v1323), ∀ a, (k0_off586 v1323) a + S1x1x512.size a ≤ S1x2048x512.size a := fun v1323 k0_hw421 => k0_hw421

def k0_off587 (i : grid0.Coords) : Fin 3 → Nat :=
  let c0_828 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1330 : Index := Scalar.indexCast v9
  let c165 : Index := 165#32
  ![0, v1330.toNat, 165]
def k0_off588 (v1331 : BitVec 32) : Fin 3 → Nat :=
  let c0_829 : Index := 0#32
  let v1332 : Index := Scalar.indexCast v1331
  let c0_830 : Index := 0#32
  ![0, v1332.toNat, 0]

def k0_chk422 (v1331 : BitVec 32) : Prop :=
  (∀ a, (k0_off588 v1331) a + S1x1x512.size a ≤ S1x2048x512.size a)
theorem k0_off588_inb : ∀ (v1331 : BitVec 32) (k0_hw422 : k0_chk422 v1331), ∀ a, (k0_off588 v1331) a + S1x1x512.size a ≤ S1x2048x512.size a := fun v1331 k0_hw422 => k0_hw422

def k0_off589 (i : grid0.Coords) : Fin 3 → Nat :=
  let c0_833 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1338 : Index := Scalar.indexCast v9
  let c166 : Index := 166#32
  ![0, v1338.toNat, 166]
def k0_off590 (v1339 : BitVec 32) : Fin 3 → Nat :=
  let c0_834 : Index := 0#32
  let v1340 : Index := Scalar.indexCast v1339
  let c0_835 : Index := 0#32
  ![0, v1340.toNat, 0]

def k0_chk423 (v1339 : BitVec 32) : Prop :=
  (∀ a, (k0_off590 v1339) a + S1x1x512.size a ≤ S1x2048x512.size a)
theorem k0_off590_inb : ∀ (v1339 : BitVec 32) (k0_hw423 : k0_chk423 v1339), ∀ a, (k0_off590 v1339) a + S1x1x512.size a ≤ S1x2048x512.size a := fun v1339 k0_hw423 => k0_hw423

def k0_off591 (i : grid0.Coords) : Fin 3 → Nat :=
  let c0_838 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1346 : Index := Scalar.indexCast v9
  let c167 : Index := 167#32
  ![0, v1346.toNat, 167]
def k0_off592 (v1347 : BitVec 32) : Fin 3 → Nat :=
  let c0_839 : Index := 0#32
  let v1348 : Index := Scalar.indexCast v1347
  let c0_840 : Index := 0#32
  ![0, v1348.toNat, 0]

def k0_chk424 (v1347 : BitVec 32) : Prop :=
  (∀ a, (k0_off592 v1347) a + S1x1x512.size a ≤ S1x2048x512.size a)
theorem k0_off592_inb : ∀ (v1347 : BitVec 32) (k0_hw424 : k0_chk424 v1347), ∀ a, (k0_off592 v1347) a + S1x1x512.size a ≤ S1x2048x512.size a := fun v1347 k0_hw424 => k0_hw424

def k0_off593 (i : grid0.Coords) : Fin 3 → Nat :=
  let c0_843 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1354 : Index := Scalar.indexCast v9
  let c168 : Index := 168#32
  ![0, v1354.toNat, 168]
def k0_off594 (v1355 : BitVec 32) : Fin 3 → Nat :=
  let c0_844 : Index := 0#32
  let v1356 : Index := Scalar.indexCast v1355
  let c0_845 : Index := 0#32
  ![0, v1356.toNat, 0]

def k0_chk425 (v1355 : BitVec 32) : Prop :=
  (∀ a, (k0_off594 v1355) a + S1x1x512.size a ≤ S1x2048x512.size a)
theorem k0_off594_inb : ∀ (v1355 : BitVec 32) (k0_hw425 : k0_chk425 v1355), ∀ a, (k0_off594 v1355) a + S1x1x512.size a ≤ S1x2048x512.size a := fun v1355 k0_hw425 => k0_hw425

def k0_off595 (i : grid0.Coords) : Fin 3 → Nat :=
  let c0_848 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1362 : Index := Scalar.indexCast v9
  let c169 : Index := 169#32
  ![0, v1362.toNat, 169]
def k0_off596 (v1363 : BitVec 32) : Fin 3 → Nat :=
  let c0_849 : Index := 0#32
  let v1364 : Index := Scalar.indexCast v1363
  let c0_850 : Index := 0#32
  ![0, v1364.toNat, 0]

def k0_chk426 (v1363 : BitVec 32) : Prop :=
  (∀ a, (k0_off596 v1363) a + S1x1x512.size a ≤ S1x2048x512.size a)
theorem k0_off596_inb : ∀ (v1363 : BitVec 32) (k0_hw426 : k0_chk426 v1363), ∀ a, (k0_off596 v1363) a + S1x1x512.size a ≤ S1x2048x512.size a := fun v1363 k0_hw426 => k0_hw426

def k0_off597 (i : grid0.Coords) : Fin 3 → Nat :=
  let c0_853 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1370 : Index := Scalar.indexCast v9
  let c170 : Index := 170#32
  ![0, v1370.toNat, 170]
def k0_off598 (v1371 : BitVec 32) : Fin 3 → Nat :=
  let c0_854 : Index := 0#32
  let v1372 : Index := Scalar.indexCast v1371
  let c0_855 : Index := 0#32
  ![0, v1372.toNat, 0]

def k0_chk427 (v1371 : BitVec 32) : Prop :=
  (∀ a, (k0_off598 v1371) a + S1x1x512.size a ≤ S1x2048x512.size a)
theorem k0_off598_inb : ∀ (v1371 : BitVec 32) (k0_hw427 : k0_chk427 v1371), ∀ a, (k0_off598 v1371) a + S1x1x512.size a ≤ S1x2048x512.size a := fun v1371 k0_hw427 => k0_hw427

def k0_off599 (i : grid0.Coords) : Fin 3 → Nat :=
  let c0_858 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1378 : Index := Scalar.indexCast v9
  let c171 : Index := 171#32
  ![0, v1378.toNat, 171]
def k0_off600 (v1379 : BitVec 32) : Fin 3 → Nat :=
  let c0_859 : Index := 0#32
  let v1380 : Index := Scalar.indexCast v1379
  let c0_860 : Index := 0#32
  ![0, v1380.toNat, 0]

def k0_chk428 (v1379 : BitVec 32) : Prop :=
  (∀ a, (k0_off600 v1379) a + S1x1x512.size a ≤ S1x2048x512.size a)
theorem k0_off600_inb : ∀ (v1379 : BitVec 32) (k0_hw428 : k0_chk428 v1379), ∀ a, (k0_off600 v1379) a + S1x1x512.size a ≤ S1x2048x512.size a := fun v1379 k0_hw428 => k0_hw428

def k0_off601 (i : grid0.Coords) : Fin 3 → Nat :=
  let c0_863 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1386 : Index := Scalar.indexCast v9
  let c172 : Index := 172#32
  ![0, v1386.toNat, 172]
def k0_off602 (v1387 : BitVec 32) : Fin 3 → Nat :=
  let c0_864 : Index := 0#32
  let v1388 : Index := Scalar.indexCast v1387
  let c0_865 : Index := 0#32
  ![0, v1388.toNat, 0]

def k0_chk429 (v1387 : BitVec 32) : Prop :=
  (∀ a, (k0_off602 v1387) a + S1x1x512.size a ≤ S1x2048x512.size a)
theorem k0_off602_inb : ∀ (v1387 : BitVec 32) (k0_hw429 : k0_chk429 v1387), ∀ a, (k0_off602 v1387) a + S1x1x512.size a ≤ S1x2048x512.size a := fun v1387 k0_hw429 => k0_hw429

def k0_off603 (i : grid0.Coords) : Fin 3 → Nat :=
  let c0_868 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1394 : Index := Scalar.indexCast v9
  let c173 : Index := 173#32
  ![0, v1394.toNat, 173]
def k0_off604 (v1395 : BitVec 32) : Fin 3 → Nat :=
  let c0_869 : Index := 0#32
  let v1396 : Index := Scalar.indexCast v1395
  let c0_870 : Index := 0#32
  ![0, v1396.toNat, 0]

def k0_chk430 (v1395 : BitVec 32) : Prop :=
  (∀ a, (k0_off604 v1395) a + S1x1x512.size a ≤ S1x2048x512.size a)
theorem k0_off604_inb : ∀ (v1395 : BitVec 32) (k0_hw430 : k0_chk430 v1395), ∀ a, (k0_off604 v1395) a + S1x1x512.size a ≤ S1x2048x512.size a := fun v1395 k0_hw430 => k0_hw430

def k0_off605 (i : grid0.Coords) : Fin 3 → Nat :=
  let c0_873 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1402 : Index := Scalar.indexCast v9
  let c174 : Index := 174#32
  ![0, v1402.toNat, 174]
def k0_off606 (v1403 : BitVec 32) : Fin 3 → Nat :=
  let c0_874 : Index := 0#32
  let v1404 : Index := Scalar.indexCast v1403
  let c0_875 : Index := 0#32
  ![0, v1404.toNat, 0]

def k0_chk431 (v1403 : BitVec 32) : Prop :=
  (∀ a, (k0_off606 v1403) a + S1x1x512.size a ≤ S1x2048x512.size a)
theorem k0_off606_inb : ∀ (v1403 : BitVec 32) (k0_hw431 : k0_chk431 v1403), ∀ a, (k0_off606 v1403) a + S1x1x512.size a ≤ S1x2048x512.size a := fun v1403 k0_hw431 => k0_hw431

def k0_off607 (i : grid0.Coords) : Fin 3 → Nat :=
  let c0_878 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1410 : Index := Scalar.indexCast v9
  let c175 : Index := 175#32
  ![0, v1410.toNat, 175]
def k0_off608 (v1411 : BitVec 32) : Fin 3 → Nat :=
  let c0_879 : Index := 0#32
  let v1412 : Index := Scalar.indexCast v1411
  let c0_880 : Index := 0#32
  ![0, v1412.toNat, 0]

def k0_chk432 (v1411 : BitVec 32) : Prop :=
  (∀ a, (k0_off608 v1411) a + S1x1x512.size a ≤ S1x2048x512.size a)
theorem k0_off608_inb : ∀ (v1411 : BitVec 32) (k0_hw432 : k0_chk432 v1411), ∀ a, (k0_off608 v1411) a + S1x1x512.size a ≤ S1x2048x512.size a := fun v1411 k0_hw432 => k0_hw432

def k0_off609 (i : grid0.Coords) : Fin 3 → Nat :=
  let c0_883 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1418 : Index := Scalar.indexCast v9
  let c176 : Index := 176#32
  ![0, v1418.toNat, 176]
def k0_off610 (v1419 : BitVec 32) : Fin 3 → Nat :=
  let c0_884 : Index := 0#32
  let v1420 : Index := Scalar.indexCast v1419
  let c0_885 : Index := 0#32
  ![0, v1420.toNat, 0]

def k0_chk433 (v1419 : BitVec 32) : Prop :=
  (∀ a, (k0_off610 v1419) a + S1x1x512.size a ≤ S1x2048x512.size a)
theorem k0_off610_inb : ∀ (v1419 : BitVec 32) (k0_hw433 : k0_chk433 v1419), ∀ a, (k0_off610 v1419) a + S1x1x512.size a ≤ S1x2048x512.size a := fun v1419 k0_hw433 => k0_hw433

def k0_off611 (i : grid0.Coords) : Fin 3 → Nat :=
  let c0_888 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1426 : Index := Scalar.indexCast v9
  let c177 : Index := 177#32
  ![0, v1426.toNat, 177]
def k0_off612 (v1427 : BitVec 32) : Fin 3 → Nat :=
  let c0_889 : Index := 0#32
  let v1428 : Index := Scalar.indexCast v1427
  let c0_890 : Index := 0#32
  ![0, v1428.toNat, 0]

def k0_chk434 (v1427 : BitVec 32) : Prop :=
  (∀ a, (k0_off612 v1427) a + S1x1x512.size a ≤ S1x2048x512.size a)
theorem k0_off612_inb : ∀ (v1427 : BitVec 32) (k0_hw434 : k0_chk434 v1427), ∀ a, (k0_off612 v1427) a + S1x1x512.size a ≤ S1x2048x512.size a := fun v1427 k0_hw434 => k0_hw434

def k0_off613 (i : grid0.Coords) : Fin 3 → Nat :=
  let c0_893 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1434 : Index := Scalar.indexCast v9
  let c178 : Index := 178#32
  ![0, v1434.toNat, 178]
def k0_off614 (v1435 : BitVec 32) : Fin 3 → Nat :=
  let c0_894 : Index := 0#32
  let v1436 : Index := Scalar.indexCast v1435
  let c0_895 : Index := 0#32
  ![0, v1436.toNat, 0]

def k0_chk435 (v1435 : BitVec 32) : Prop :=
  (∀ a, (k0_off614 v1435) a + S1x1x512.size a ≤ S1x2048x512.size a)
theorem k0_off614_inb : ∀ (v1435 : BitVec 32) (k0_hw435 : k0_chk435 v1435), ∀ a, (k0_off614 v1435) a + S1x1x512.size a ≤ S1x2048x512.size a := fun v1435 k0_hw435 => k0_hw435

def k0_off615 (i : grid0.Coords) : Fin 3 → Nat :=
  let c0_898 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1442 : Index := Scalar.indexCast v9
  let c179 : Index := 179#32
  ![0, v1442.toNat, 179]
def k0_off616 (v1443 : BitVec 32) : Fin 3 → Nat :=
  let c0_899 : Index := 0#32
  let v1444 : Index := Scalar.indexCast v1443
  let c0_900 : Index := 0#32
  ![0, v1444.toNat, 0]

def k0_chk436 (v1443 : BitVec 32) : Prop :=
  (∀ a, (k0_off616 v1443) a + S1x1x512.size a ≤ S1x2048x512.size a)
theorem k0_off616_inb : ∀ (v1443 : BitVec 32) (k0_hw436 : k0_chk436 v1443), ∀ a, (k0_off616 v1443) a + S1x1x512.size a ≤ S1x2048x512.size a := fun v1443 k0_hw436 => k0_hw436

def k0_off617 (i : grid0.Coords) : Fin 3 → Nat :=
  let c0_903 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1450 : Index := Scalar.indexCast v9
  let c180 : Index := 180#32
  ![0, v1450.toNat, 180]
def k0_off618 (v1451 : BitVec 32) : Fin 3 → Nat :=
  let c0_904 : Index := 0#32
  let v1452 : Index := Scalar.indexCast v1451
  let c0_905 : Index := 0#32
  ![0, v1452.toNat, 0]

def k0_chk437 (v1451 : BitVec 32) : Prop :=
  (∀ a, (k0_off618 v1451) a + S1x1x512.size a ≤ S1x2048x512.size a)
theorem k0_off618_inb : ∀ (v1451 : BitVec 32) (k0_hw437 : k0_chk437 v1451), ∀ a, (k0_off618 v1451) a + S1x1x512.size a ≤ S1x2048x512.size a := fun v1451 k0_hw437 => k0_hw437

def k0_off619 (i : grid0.Coords) : Fin 3 → Nat :=
  let c0_908 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1458 : Index := Scalar.indexCast v9
  let c181 : Index := 181#32
  ![0, v1458.toNat, 181]
def k0_off620 (v1459 : BitVec 32) : Fin 3 → Nat :=
  let c0_909 : Index := 0#32
  let v1460 : Index := Scalar.indexCast v1459
  let c0_910 : Index := 0#32
  ![0, v1460.toNat, 0]

def k0_chk438 (v1459 : BitVec 32) : Prop :=
  (∀ a, (k0_off620 v1459) a + S1x1x512.size a ≤ S1x2048x512.size a)
theorem k0_off620_inb : ∀ (v1459 : BitVec 32) (k0_hw438 : k0_chk438 v1459), ∀ a, (k0_off620 v1459) a + S1x1x512.size a ≤ S1x2048x512.size a := fun v1459 k0_hw438 => k0_hw438

def k0_off621 (i : grid0.Coords) : Fin 3 → Nat :=
  let c0_913 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1466 : Index := Scalar.indexCast v9
  let c182 : Index := 182#32
  ![0, v1466.toNat, 182]
def k0_off622 (v1467 : BitVec 32) : Fin 3 → Nat :=
  let c0_914 : Index := 0#32
  let v1468 : Index := Scalar.indexCast v1467
  let c0_915 : Index := 0#32
  ![0, v1468.toNat, 0]

def k0_chk439 (v1467 : BitVec 32) : Prop :=
  (∀ a, (k0_off622 v1467) a + S1x1x512.size a ≤ S1x2048x512.size a)
theorem k0_off622_inb : ∀ (v1467 : BitVec 32) (k0_hw439 : k0_chk439 v1467), ∀ a, (k0_off622 v1467) a + S1x1x512.size a ≤ S1x2048x512.size a := fun v1467 k0_hw439 => k0_hw439

def k0_off623 (i : grid0.Coords) : Fin 3 → Nat :=
  let c0_918 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1474 : Index := Scalar.indexCast v9
  let c183 : Index := 183#32
  ![0, v1474.toNat, 183]
def k0_off624 (v1475 : BitVec 32) : Fin 3 → Nat :=
  let c0_919 : Index := 0#32
  let v1476 : Index := Scalar.indexCast v1475
  let c0_920 : Index := 0#32
  ![0, v1476.toNat, 0]

def k0_chk440 (v1475 : BitVec 32) : Prop :=
  (∀ a, (k0_off624 v1475) a + S1x1x512.size a ≤ S1x2048x512.size a)
theorem k0_off624_inb : ∀ (v1475 : BitVec 32) (k0_hw440 : k0_chk440 v1475), ∀ a, (k0_off624 v1475) a + S1x1x512.size a ≤ S1x2048x512.size a := fun v1475 k0_hw440 => k0_hw440

def k0_off625 (i : grid0.Coords) : Fin 3 → Nat :=
  let c0_923 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1482 : Index := Scalar.indexCast v9
  let c184 : Index := 184#32
  ![0, v1482.toNat, 184]
def k0_off626 (v1483 : BitVec 32) : Fin 3 → Nat :=
  let c0_924 : Index := 0#32
  let v1484 : Index := Scalar.indexCast v1483
  let c0_925 : Index := 0#32
  ![0, v1484.toNat, 0]

def k0_chk441 (v1483 : BitVec 32) : Prop :=
  (∀ a, (k0_off626 v1483) a + S1x1x512.size a ≤ S1x2048x512.size a)
theorem k0_off626_inb : ∀ (v1483 : BitVec 32) (k0_hw441 : k0_chk441 v1483), ∀ a, (k0_off626 v1483) a + S1x1x512.size a ≤ S1x2048x512.size a := fun v1483 k0_hw441 => k0_hw441

def k0_off627 (i : grid0.Coords) : Fin 3 → Nat :=
  let c0_928 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1490 : Index := Scalar.indexCast v9
  let c185 : Index := 185#32
  ![0, v1490.toNat, 185]
def k0_off628 (v1491 : BitVec 32) : Fin 3 → Nat :=
  let c0_929 : Index := 0#32
  let v1492 : Index := Scalar.indexCast v1491
  let c0_930 : Index := 0#32
  ![0, v1492.toNat, 0]

def k0_chk442 (v1491 : BitVec 32) : Prop :=
  (∀ a, (k0_off628 v1491) a + S1x1x512.size a ≤ S1x2048x512.size a)
theorem k0_off628_inb : ∀ (v1491 : BitVec 32) (k0_hw442 : k0_chk442 v1491), ∀ a, (k0_off628 v1491) a + S1x1x512.size a ≤ S1x2048x512.size a := fun v1491 k0_hw442 => k0_hw442

def k0_off629 (i : grid0.Coords) : Fin 3 → Nat :=
  let c0_933 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1498 : Index := Scalar.indexCast v9
  let c186 : Index := 186#32
  ![0, v1498.toNat, 186]
def k0_off630 (v1499 : BitVec 32) : Fin 3 → Nat :=
  let c0_934 : Index := 0#32
  let v1500 : Index := Scalar.indexCast v1499
  let c0_935 : Index := 0#32
  ![0, v1500.toNat, 0]

def k0_chk443 (v1499 : BitVec 32) : Prop :=
  (∀ a, (k0_off630 v1499) a + S1x1x512.size a ≤ S1x2048x512.size a)
theorem k0_off630_inb : ∀ (v1499 : BitVec 32) (k0_hw443 : k0_chk443 v1499), ∀ a, (k0_off630 v1499) a + S1x1x512.size a ≤ S1x2048x512.size a := fun v1499 k0_hw443 => k0_hw443

def k0_off631 (i : grid0.Coords) : Fin 3 → Nat :=
  let c0_938 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1506 : Index := Scalar.indexCast v9
  let c187 : Index := 187#32
  ![0, v1506.toNat, 187]
def k0_off632 (v1507 : BitVec 32) : Fin 3 → Nat :=
  let c0_939 : Index := 0#32
  let v1508 : Index := Scalar.indexCast v1507
  let c0_940 : Index := 0#32
  ![0, v1508.toNat, 0]

def k0_chk444 (v1507 : BitVec 32) : Prop :=
  (∀ a, (k0_off632 v1507) a + S1x1x512.size a ≤ S1x2048x512.size a)
theorem k0_off632_inb : ∀ (v1507 : BitVec 32) (k0_hw444 : k0_chk444 v1507), ∀ a, (k0_off632 v1507) a + S1x1x512.size a ≤ S1x2048x512.size a := fun v1507 k0_hw444 => k0_hw444

def k0_off633 (i : grid0.Coords) : Fin 3 → Nat :=
  let c0_943 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1514 : Index := Scalar.indexCast v9
  let c188 : Index := 188#32
  ![0, v1514.toNat, 188]
def k0_off634 (v1515 : BitVec 32) : Fin 3 → Nat :=
  let c0_944 : Index := 0#32
  let v1516 : Index := Scalar.indexCast v1515
  let c0_945 : Index := 0#32
  ![0, v1516.toNat, 0]

def k0_chk445 (v1515 : BitVec 32) : Prop :=
  (∀ a, (k0_off634 v1515) a + S1x1x512.size a ≤ S1x2048x512.size a)
theorem k0_off634_inb : ∀ (v1515 : BitVec 32) (k0_hw445 : k0_chk445 v1515), ∀ a, (k0_off634 v1515) a + S1x1x512.size a ≤ S1x2048x512.size a := fun v1515 k0_hw445 => k0_hw445

def k0_off635 (i : grid0.Coords) : Fin 3 → Nat :=
  let c0_948 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1522 : Index := Scalar.indexCast v9
  let c189 : Index := 189#32
  ![0, v1522.toNat, 189]
def k0_off636 (v1523 : BitVec 32) : Fin 3 → Nat :=
  let c0_949 : Index := 0#32
  let v1524 : Index := Scalar.indexCast v1523
  let c0_950 : Index := 0#32
  ![0, v1524.toNat, 0]

def k0_chk446 (v1523 : BitVec 32) : Prop :=
  (∀ a, (k0_off636 v1523) a + S1x1x512.size a ≤ S1x2048x512.size a)
theorem k0_off636_inb : ∀ (v1523 : BitVec 32) (k0_hw446 : k0_chk446 v1523), ∀ a, (k0_off636 v1523) a + S1x1x512.size a ≤ S1x2048x512.size a := fun v1523 k0_hw446 => k0_hw446

def k0_off637 (i : grid0.Coords) : Fin 3 → Nat :=
  let c0_953 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1530 : Index := Scalar.indexCast v9
  let c190 : Index := 190#32
  ![0, v1530.toNat, 190]
def k0_off638 (v1531 : BitVec 32) : Fin 3 → Nat :=
  let c0_954 : Index := 0#32
  let v1532 : Index := Scalar.indexCast v1531
  let c0_955 : Index := 0#32
  ![0, v1532.toNat, 0]

def k0_chk447 (v1531 : BitVec 32) : Prop :=
  (∀ a, (k0_off638 v1531) a + S1x1x512.size a ≤ S1x2048x512.size a)
theorem k0_off638_inb : ∀ (v1531 : BitVec 32) (k0_hw447 : k0_chk447 v1531), ∀ a, (k0_off638 v1531) a + S1x1x512.size a ≤ S1x2048x512.size a := fun v1531 k0_hw447 => k0_hw447

def k0_off639 (i : grid0.Coords) : Fin 3 → Nat :=
  let c0_958 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1538 : Index := Scalar.indexCast v9
  let c191 : Index := 191#32
  ![0, v1538.toNat, 191]
def k0_off640 (v1539 : BitVec 32) : Fin 3 → Nat :=
  let c0_959 : Index := 0#32
  let v1540 : Index := Scalar.indexCast v1539
  let c0_960 : Index := 0#32
  ![0, v1540.toNat, 0]

def k0_chk448 (v1539 : BitVec 32) : Prop :=
  (∀ a, (k0_off640 v1539) a + S1x1x512.size a ≤ S1x2048x512.size a)
theorem k0_off640_inb : ∀ (v1539 : BitVec 32) (k0_hw448 : k0_chk448 v1539), ∀ a, (k0_off640 v1539) a + S1x1x512.size a ≤ S1x2048x512.size a := fun v1539 k0_hw448 => k0_hw448

def k0_off641 (i : grid0.Coords) : Fin 3 → Nat :=
  let c0_963 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1546 : Index := Scalar.indexCast v9
  let c192 : Index := 192#32
  ![0, v1546.toNat, 192]
def k0_off642 (v1547 : BitVec 32) : Fin 3 → Nat :=
  let c0_964 : Index := 0#32
  let v1548 : Index := Scalar.indexCast v1547
  let c0_965 : Index := 0#32
  ![0, v1548.toNat, 0]

def k0_chk449 (v1547 : BitVec 32) : Prop :=
  (∀ a, (k0_off642 v1547) a + S1x1x512.size a ≤ S1x2048x512.size a)
theorem k0_off642_inb : ∀ (v1547 : BitVec 32) (k0_hw449 : k0_chk449 v1547), ∀ a, (k0_off642 v1547) a + S1x1x512.size a ≤ S1x2048x512.size a := fun v1547 k0_hw449 => k0_hw449

def k0_off643 (i : grid0.Coords) : Fin 3 → Nat :=
  let c0_968 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1554 : Index := Scalar.indexCast v9
  let c193 : Index := 193#32
  ![0, v1554.toNat, 193]
def k0_off644 (v1555 : BitVec 32) : Fin 3 → Nat :=
  let c0_969 : Index := 0#32
  let v1556 : Index := Scalar.indexCast v1555
  let c0_970 : Index := 0#32
  ![0, v1556.toNat, 0]

def k0_chk450 (v1555 : BitVec 32) : Prop :=
  (∀ a, (k0_off644 v1555) a + S1x1x512.size a ≤ S1x2048x512.size a)
theorem k0_off644_inb : ∀ (v1555 : BitVec 32) (k0_hw450 : k0_chk450 v1555), ∀ a, (k0_off644 v1555) a + S1x1x512.size a ≤ S1x2048x512.size a := fun v1555 k0_hw450 => k0_hw450

def k0_off645 (i : grid0.Coords) : Fin 3 → Nat :=
  let c0_973 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1562 : Index := Scalar.indexCast v9
  let c194 : Index := 194#32
  ![0, v1562.toNat, 194]
def k0_off646 (v1563 : BitVec 32) : Fin 3 → Nat :=
  let c0_974 : Index := 0#32
  let v1564 : Index := Scalar.indexCast v1563
  let c0_975 : Index := 0#32
  ![0, v1564.toNat, 0]

def k0_chk451 (v1563 : BitVec 32) : Prop :=
  (∀ a, (k0_off646 v1563) a + S1x1x512.size a ≤ S1x2048x512.size a)
theorem k0_off646_inb : ∀ (v1563 : BitVec 32) (k0_hw451 : k0_chk451 v1563), ∀ a, (k0_off646 v1563) a + S1x1x512.size a ≤ S1x2048x512.size a := fun v1563 k0_hw451 => k0_hw451

def k0_off647 (i : grid0.Coords) : Fin 3 → Nat :=
  let c0_978 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1570 : Index := Scalar.indexCast v9
  let c195 : Index := 195#32
  ![0, v1570.toNat, 195]
def k0_off648 (v1571 : BitVec 32) : Fin 3 → Nat :=
  let c0_979 : Index := 0#32
  let v1572 : Index := Scalar.indexCast v1571
  let c0_980 : Index := 0#32
  ![0, v1572.toNat, 0]

def k0_chk452 (v1571 : BitVec 32) : Prop :=
  (∀ a, (k0_off648 v1571) a + S1x1x512.size a ≤ S1x2048x512.size a)
theorem k0_off648_inb : ∀ (v1571 : BitVec 32) (k0_hw452 : k0_chk452 v1571), ∀ a, (k0_off648 v1571) a + S1x1x512.size a ≤ S1x2048x512.size a := fun v1571 k0_hw452 => k0_hw452

def k0_off649 (i : grid0.Coords) : Fin 3 → Nat :=
  let c0_983 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1578 : Index := Scalar.indexCast v9
  let c196 : Index := 196#32
  ![0, v1578.toNat, 196]
def k0_off650 (v1579 : BitVec 32) : Fin 3 → Nat :=
  let c0_984 : Index := 0#32
  let v1580 : Index := Scalar.indexCast v1579
  let c0_985 : Index := 0#32
  ![0, v1580.toNat, 0]

def k0_chk453 (v1579 : BitVec 32) : Prop :=
  (∀ a, (k0_off650 v1579) a + S1x1x512.size a ≤ S1x2048x512.size a)
theorem k0_off650_inb : ∀ (v1579 : BitVec 32) (k0_hw453 : k0_chk453 v1579), ∀ a, (k0_off650 v1579) a + S1x1x512.size a ≤ S1x2048x512.size a := fun v1579 k0_hw453 => k0_hw453

def k0_off651 (i : grid0.Coords) : Fin 3 → Nat :=
  let c0_988 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1586 : Index := Scalar.indexCast v9
  let c197 : Index := 197#32
  ![0, v1586.toNat, 197]
def k0_off652 (v1587 : BitVec 32) : Fin 3 → Nat :=
  let c0_989 : Index := 0#32
  let v1588 : Index := Scalar.indexCast v1587
  let c0_990 : Index := 0#32
  ![0, v1588.toNat, 0]

def k0_chk454 (v1587 : BitVec 32) : Prop :=
  (∀ a, (k0_off652 v1587) a + S1x1x512.size a ≤ S1x2048x512.size a)
theorem k0_off652_inb : ∀ (v1587 : BitVec 32) (k0_hw454 : k0_chk454 v1587), ∀ a, (k0_off652 v1587) a + S1x1x512.size a ≤ S1x2048x512.size a := fun v1587 k0_hw454 => k0_hw454

def k0_off653 (i : grid0.Coords) : Fin 3 → Nat :=
  let c0_993 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1594 : Index := Scalar.indexCast v9
  let c198 : Index := 198#32
  ![0, v1594.toNat, 198]
def k0_off654 (v1595 : BitVec 32) : Fin 3 → Nat :=
  let c0_994 : Index := 0#32
  let v1596 : Index := Scalar.indexCast v1595
  let c0_995 : Index := 0#32
  ![0, v1596.toNat, 0]

def k0_chk455 (v1595 : BitVec 32) : Prop :=
  (∀ a, (k0_off654 v1595) a + S1x1x512.size a ≤ S1x2048x512.size a)
theorem k0_off654_inb : ∀ (v1595 : BitVec 32) (k0_hw455 : k0_chk455 v1595), ∀ a, (k0_off654 v1595) a + S1x1x512.size a ≤ S1x2048x512.size a := fun v1595 k0_hw455 => k0_hw455

def k0_off655 (i : grid0.Coords) : Fin 3 → Nat :=
  let c0_998 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1602 : Index := Scalar.indexCast v9
  let c199 : Index := 199#32
  ![0, v1602.toNat, 199]
def k0_off656 (v1603 : BitVec 32) : Fin 3 → Nat :=
  let c0_999 : Index := 0#32
  let v1604 : Index := Scalar.indexCast v1603
  let c0_1000 : Index := 0#32
  ![0, v1604.toNat, 0]

def k0_chk456 (v1603 : BitVec 32) : Prop :=
  (∀ a, (k0_off656 v1603) a + S1x1x512.size a ≤ S1x2048x512.size a)
theorem k0_off656_inb : ∀ (v1603 : BitVec 32) (k0_hw456 : k0_chk456 v1603), ∀ a, (k0_off656 v1603) a + S1x1x512.size a ≤ S1x2048x512.size a := fun v1603 k0_hw456 => k0_hw456

def k0_off657 (i : grid0.Coords) : Fin 3 → Nat :=
  let c0_1003 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1610 : Index := Scalar.indexCast v9
  let c200 : Index := 200#32
  ![0, v1610.toNat, 200]
def k0_off658 (v1611 : BitVec 32) : Fin 3 → Nat :=
  let c0_1004 : Index := 0#32
  let v1612 : Index := Scalar.indexCast v1611
  let c0_1005 : Index := 0#32
  ![0, v1612.toNat, 0]

def k0_chk457 (v1611 : BitVec 32) : Prop :=
  (∀ a, (k0_off658 v1611) a + S1x1x512.size a ≤ S1x2048x512.size a)
theorem k0_off658_inb : ∀ (v1611 : BitVec 32) (k0_hw457 : k0_chk457 v1611), ∀ a, (k0_off658 v1611) a + S1x1x512.size a ≤ S1x2048x512.size a := fun v1611 k0_hw457 => k0_hw457

def k0_off659 (i : grid0.Coords) : Fin 3 → Nat :=
  let c0_1008 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1618 : Index := Scalar.indexCast v9
  let c201 : Index := 201#32
  ![0, v1618.toNat, 201]
def k0_off660 (v1619 : BitVec 32) : Fin 3 → Nat :=
  let c0_1009 : Index := 0#32
  let v1620 : Index := Scalar.indexCast v1619
  let c0_1010 : Index := 0#32
  ![0, v1620.toNat, 0]

def k0_chk458 (v1619 : BitVec 32) : Prop :=
  (∀ a, (k0_off660 v1619) a + S1x1x512.size a ≤ S1x2048x512.size a)
theorem k0_off660_inb : ∀ (v1619 : BitVec 32) (k0_hw458 : k0_chk458 v1619), ∀ a, (k0_off660 v1619) a + S1x1x512.size a ≤ S1x2048x512.size a := fun v1619 k0_hw458 => k0_hw458

def k0_off661 (i : grid0.Coords) : Fin 3 → Nat :=
  let c0_1013 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1626 : Index := Scalar.indexCast v9
  let c202 : Index := 202#32
  ![0, v1626.toNat, 202]
def k0_off662 (v1627 : BitVec 32) : Fin 3 → Nat :=
  let c0_1014 : Index := 0#32
  let v1628 : Index := Scalar.indexCast v1627
  let c0_1015 : Index := 0#32
  ![0, v1628.toNat, 0]

def k0_chk459 (v1627 : BitVec 32) : Prop :=
  (∀ a, (k0_off662 v1627) a + S1x1x512.size a ≤ S1x2048x512.size a)
theorem k0_off662_inb : ∀ (v1627 : BitVec 32) (k0_hw459 : k0_chk459 v1627), ∀ a, (k0_off662 v1627) a + S1x1x512.size a ≤ S1x2048x512.size a := fun v1627 k0_hw459 => k0_hw459

def k0_off663 (i : grid0.Coords) : Fin 3 → Nat :=
  let c0_1018 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1634 : Index := Scalar.indexCast v9
  let c203 : Index := 203#32
  ![0, v1634.toNat, 203]
def k0_off664 (v1635 : BitVec 32) : Fin 3 → Nat :=
  let c0_1019 : Index := 0#32
  let v1636 : Index := Scalar.indexCast v1635
  let c0_1020 : Index := 0#32
  ![0, v1636.toNat, 0]

def k0_chk460 (v1635 : BitVec 32) : Prop :=
  (∀ a, (k0_off664 v1635) a + S1x1x512.size a ≤ S1x2048x512.size a)
theorem k0_off664_inb : ∀ (v1635 : BitVec 32) (k0_hw460 : k0_chk460 v1635), ∀ a, (k0_off664 v1635) a + S1x1x512.size a ≤ S1x2048x512.size a := fun v1635 k0_hw460 => k0_hw460

def k0_off665 (i : grid0.Coords) : Fin 3 → Nat :=
  let c0_1023 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1642 : Index := Scalar.indexCast v9
  let c204 : Index := 204#32
  ![0, v1642.toNat, 204]
def k0_off666 (v1643 : BitVec 32) : Fin 3 → Nat :=
  let c0_1024 : Index := 0#32
  let v1644 : Index := Scalar.indexCast v1643
  let c0_1025 : Index := 0#32
  ![0, v1644.toNat, 0]

def k0_chk461 (v1643 : BitVec 32) : Prop :=
  (∀ a, (k0_off666 v1643) a + S1x1x512.size a ≤ S1x2048x512.size a)
theorem k0_off666_inb : ∀ (v1643 : BitVec 32) (k0_hw461 : k0_chk461 v1643), ∀ a, (k0_off666 v1643) a + S1x1x512.size a ≤ S1x2048x512.size a := fun v1643 k0_hw461 => k0_hw461

def k0_off667 (i : grid0.Coords) : Fin 3 → Nat :=
  let c0_1028 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1650 : Index := Scalar.indexCast v9
  let c205 : Index := 205#32
  ![0, v1650.toNat, 205]
def k0_off668 (v1651 : BitVec 32) : Fin 3 → Nat :=
  let c0_1029 : Index := 0#32
  let v1652 : Index := Scalar.indexCast v1651
  let c0_1030 : Index := 0#32
  ![0, v1652.toNat, 0]

def k0_chk462 (v1651 : BitVec 32) : Prop :=
  (∀ a, (k0_off668 v1651) a + S1x1x512.size a ≤ S1x2048x512.size a)
theorem k0_off668_inb : ∀ (v1651 : BitVec 32) (k0_hw462 : k0_chk462 v1651), ∀ a, (k0_off668 v1651) a + S1x1x512.size a ≤ S1x2048x512.size a := fun v1651 k0_hw462 => k0_hw462

def k0_off669 (i : grid0.Coords) : Fin 3 → Nat :=
  let c0_1033 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1658 : Index := Scalar.indexCast v9
  let c206 : Index := 206#32
  ![0, v1658.toNat, 206]
def k0_off670 (v1659 : BitVec 32) : Fin 3 → Nat :=
  let c0_1034 : Index := 0#32
  let v1660 : Index := Scalar.indexCast v1659
  let c0_1035 : Index := 0#32
  ![0, v1660.toNat, 0]

def k0_chk463 (v1659 : BitVec 32) : Prop :=
  (∀ a, (k0_off670 v1659) a + S1x1x512.size a ≤ S1x2048x512.size a)
theorem k0_off670_inb : ∀ (v1659 : BitVec 32) (k0_hw463 : k0_chk463 v1659), ∀ a, (k0_off670 v1659) a + S1x1x512.size a ≤ S1x2048x512.size a := fun v1659 k0_hw463 => k0_hw463

def k0_off671 (i : grid0.Coords) : Fin 3 → Nat :=
  let c0_1038 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1666 : Index := Scalar.indexCast v9
  let c207 : Index := 207#32
  ![0, v1666.toNat, 207]
def k0_off672 (v1667 : BitVec 32) : Fin 3 → Nat :=
  let c0_1039 : Index := 0#32
  let v1668 : Index := Scalar.indexCast v1667
  let c0_1040 : Index := 0#32
  ![0, v1668.toNat, 0]

def k0_chk464 (v1667 : BitVec 32) : Prop :=
  (∀ a, (k0_off672 v1667) a + S1x1x512.size a ≤ S1x2048x512.size a)
theorem k0_off672_inb : ∀ (v1667 : BitVec 32) (k0_hw464 : k0_chk464 v1667), ∀ a, (k0_off672 v1667) a + S1x1x512.size a ≤ S1x2048x512.size a := fun v1667 k0_hw464 => k0_hw464

def k0_off673 (i : grid0.Coords) : Fin 3 → Nat :=
  let c0_1043 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1674 : Index := Scalar.indexCast v9
  let c208 : Index := 208#32
  ![0, v1674.toNat, 208]
def k0_off674 (v1675 : BitVec 32) : Fin 3 → Nat :=
  let c0_1044 : Index := 0#32
  let v1676 : Index := Scalar.indexCast v1675
  let c0_1045 : Index := 0#32
  ![0, v1676.toNat, 0]

def k0_chk465 (v1675 : BitVec 32) : Prop :=
  (∀ a, (k0_off674 v1675) a + S1x1x512.size a ≤ S1x2048x512.size a)
theorem k0_off674_inb : ∀ (v1675 : BitVec 32) (k0_hw465 : k0_chk465 v1675), ∀ a, (k0_off674 v1675) a + S1x1x512.size a ≤ S1x2048x512.size a := fun v1675 k0_hw465 => k0_hw465

def k0_off675 (i : grid0.Coords) : Fin 3 → Nat :=
  let c0_1048 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1682 : Index := Scalar.indexCast v9
  let c209 : Index := 209#32
  ![0, v1682.toNat, 209]
def k0_off676 (v1683 : BitVec 32) : Fin 3 → Nat :=
  let c0_1049 : Index := 0#32
  let v1684 : Index := Scalar.indexCast v1683
  let c0_1050 : Index := 0#32
  ![0, v1684.toNat, 0]

def k0_chk466 (v1683 : BitVec 32) : Prop :=
  (∀ a, (k0_off676 v1683) a + S1x1x512.size a ≤ S1x2048x512.size a)
theorem k0_off676_inb : ∀ (v1683 : BitVec 32) (k0_hw466 : k0_chk466 v1683), ∀ a, (k0_off676 v1683) a + S1x1x512.size a ≤ S1x2048x512.size a := fun v1683 k0_hw466 => k0_hw466

def k0_off677 (i : grid0.Coords) : Fin 3 → Nat :=
  let c0_1053 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1690 : Index := Scalar.indexCast v9
  let c210 : Index := 210#32
  ![0, v1690.toNat, 210]
def k0_off678 (v1691 : BitVec 32) : Fin 3 → Nat :=
  let c0_1054 : Index := 0#32
  let v1692 : Index := Scalar.indexCast v1691
  let c0_1055 : Index := 0#32
  ![0, v1692.toNat, 0]

def k0_chk467 (v1691 : BitVec 32) : Prop :=
  (∀ a, (k0_off678 v1691) a + S1x1x512.size a ≤ S1x2048x512.size a)
theorem k0_off678_inb : ∀ (v1691 : BitVec 32) (k0_hw467 : k0_chk467 v1691), ∀ a, (k0_off678 v1691) a + S1x1x512.size a ≤ S1x2048x512.size a := fun v1691 k0_hw467 => k0_hw467

def k0_off679 (i : grid0.Coords) : Fin 3 → Nat :=
  let c0_1058 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1698 : Index := Scalar.indexCast v9
  let c211 : Index := 211#32
  ![0, v1698.toNat, 211]
def k0_off680 (v1699 : BitVec 32) : Fin 3 → Nat :=
  let c0_1059 : Index := 0#32
  let v1700 : Index := Scalar.indexCast v1699
  let c0_1060 : Index := 0#32
  ![0, v1700.toNat, 0]

def k0_chk468 (v1699 : BitVec 32) : Prop :=
  (∀ a, (k0_off680 v1699) a + S1x1x512.size a ≤ S1x2048x512.size a)
theorem k0_off680_inb : ∀ (v1699 : BitVec 32) (k0_hw468 : k0_chk468 v1699), ∀ a, (k0_off680 v1699) a + S1x1x512.size a ≤ S1x2048x512.size a := fun v1699 k0_hw468 => k0_hw468

def k0_off681 (i : grid0.Coords) : Fin 3 → Nat :=
  let c0_1063 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1706 : Index := Scalar.indexCast v9
  let c212 : Index := 212#32
  ![0, v1706.toNat, 212]
def k0_off682 (v1707 : BitVec 32) : Fin 3 → Nat :=
  let c0_1064 : Index := 0#32
  let v1708 : Index := Scalar.indexCast v1707
  let c0_1065 : Index := 0#32
  ![0, v1708.toNat, 0]

def k0_chk469 (v1707 : BitVec 32) : Prop :=
  (∀ a, (k0_off682 v1707) a + S1x1x512.size a ≤ S1x2048x512.size a)
theorem k0_off682_inb : ∀ (v1707 : BitVec 32) (k0_hw469 : k0_chk469 v1707), ∀ a, (k0_off682 v1707) a + S1x1x512.size a ≤ S1x2048x512.size a := fun v1707 k0_hw469 => k0_hw469

def k0_off683 (i : grid0.Coords) : Fin 3 → Nat :=
  let c0_1068 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1714 : Index := Scalar.indexCast v9
  let c213 : Index := 213#32
  ![0, v1714.toNat, 213]
def k0_off684 (v1715 : BitVec 32) : Fin 3 → Nat :=
  let c0_1069 : Index := 0#32
  let v1716 : Index := Scalar.indexCast v1715
  let c0_1070 : Index := 0#32
  ![0, v1716.toNat, 0]

def k0_chk470 (v1715 : BitVec 32) : Prop :=
  (∀ a, (k0_off684 v1715) a + S1x1x512.size a ≤ S1x2048x512.size a)
theorem k0_off684_inb : ∀ (v1715 : BitVec 32) (k0_hw470 : k0_chk470 v1715), ∀ a, (k0_off684 v1715) a + S1x1x512.size a ≤ S1x2048x512.size a := fun v1715 k0_hw470 => k0_hw470

def k0_off685 (i : grid0.Coords) : Fin 3 → Nat :=
  let c0_1073 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1722 : Index := Scalar.indexCast v9
  let c214 : Index := 214#32
  ![0, v1722.toNat, 214]
def k0_off686 (v1723 : BitVec 32) : Fin 3 → Nat :=
  let c0_1074 : Index := 0#32
  let v1724 : Index := Scalar.indexCast v1723
  let c0_1075 : Index := 0#32
  ![0, v1724.toNat, 0]

def k0_chk471 (v1723 : BitVec 32) : Prop :=
  (∀ a, (k0_off686 v1723) a + S1x1x512.size a ≤ S1x2048x512.size a)
theorem k0_off686_inb : ∀ (v1723 : BitVec 32) (k0_hw471 : k0_chk471 v1723), ∀ a, (k0_off686 v1723) a + S1x1x512.size a ≤ S1x2048x512.size a := fun v1723 k0_hw471 => k0_hw471

def k0_off687 (i : grid0.Coords) : Fin 3 → Nat :=
  let c0_1078 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1730 : Index := Scalar.indexCast v9
  let c215 : Index := 215#32
  ![0, v1730.toNat, 215]
def k0_off688 (v1731 : BitVec 32) : Fin 3 → Nat :=
  let c0_1079 : Index := 0#32
  let v1732 : Index := Scalar.indexCast v1731
  let c0_1080 : Index := 0#32
  ![0, v1732.toNat, 0]

def k0_chk472 (v1731 : BitVec 32) : Prop :=
  (∀ a, (k0_off688 v1731) a + S1x1x512.size a ≤ S1x2048x512.size a)
theorem k0_off688_inb : ∀ (v1731 : BitVec 32) (k0_hw472 : k0_chk472 v1731), ∀ a, (k0_off688 v1731) a + S1x1x512.size a ≤ S1x2048x512.size a := fun v1731 k0_hw472 => k0_hw472

def k0_off689 (i : grid0.Coords) : Fin 3 → Nat :=
  let c0_1083 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1738 : Index := Scalar.indexCast v9
  let c216 : Index := 216#32
  ![0, v1738.toNat, 216]
def k0_off690 (v1739 : BitVec 32) : Fin 3 → Nat :=
  let c0_1084 : Index := 0#32
  let v1740 : Index := Scalar.indexCast v1739
  let c0_1085 : Index := 0#32
  ![0, v1740.toNat, 0]

def k0_chk473 (v1739 : BitVec 32) : Prop :=
  (∀ a, (k0_off690 v1739) a + S1x1x512.size a ≤ S1x2048x512.size a)
theorem k0_off690_inb : ∀ (v1739 : BitVec 32) (k0_hw473 : k0_chk473 v1739), ∀ a, (k0_off690 v1739) a + S1x1x512.size a ≤ S1x2048x512.size a := fun v1739 k0_hw473 => k0_hw473

def k0_off691 (i : grid0.Coords) : Fin 3 → Nat :=
  let c0_1088 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1746 : Index := Scalar.indexCast v9
  let c217 : Index := 217#32
  ![0, v1746.toNat, 217]
def k0_off692 (v1747 : BitVec 32) : Fin 3 → Nat :=
  let c0_1089 : Index := 0#32
  let v1748 : Index := Scalar.indexCast v1747
  let c0_1090 : Index := 0#32
  ![0, v1748.toNat, 0]

def k0_chk474 (v1747 : BitVec 32) : Prop :=
  (∀ a, (k0_off692 v1747) a + S1x1x512.size a ≤ S1x2048x512.size a)
theorem k0_off692_inb : ∀ (v1747 : BitVec 32) (k0_hw474 : k0_chk474 v1747), ∀ a, (k0_off692 v1747) a + S1x1x512.size a ≤ S1x2048x512.size a := fun v1747 k0_hw474 => k0_hw474

def k0_off693 (i : grid0.Coords) : Fin 3 → Nat :=
  let c0_1093 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1754 : Index := Scalar.indexCast v9
  let c218 : Index := 218#32
  ![0, v1754.toNat, 218]
def k0_off694 (v1755 : BitVec 32) : Fin 3 → Nat :=
  let c0_1094 : Index := 0#32
  let v1756 : Index := Scalar.indexCast v1755
  let c0_1095 : Index := 0#32
  ![0, v1756.toNat, 0]

def k0_chk475 (v1755 : BitVec 32) : Prop :=
  (∀ a, (k0_off694 v1755) a + S1x1x512.size a ≤ S1x2048x512.size a)
theorem k0_off694_inb : ∀ (v1755 : BitVec 32) (k0_hw475 : k0_chk475 v1755), ∀ a, (k0_off694 v1755) a + S1x1x512.size a ≤ S1x2048x512.size a := fun v1755 k0_hw475 => k0_hw475

def k0_off695 (i : grid0.Coords) : Fin 3 → Nat :=
  let c0_1098 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1762 : Index := Scalar.indexCast v9
  let c219 : Index := 219#32
  ![0, v1762.toNat, 219]
def k0_off696 (v1763 : BitVec 32) : Fin 3 → Nat :=
  let c0_1099 : Index := 0#32
  let v1764 : Index := Scalar.indexCast v1763
  let c0_1100 : Index := 0#32
  ![0, v1764.toNat, 0]

def k0_chk476 (v1763 : BitVec 32) : Prop :=
  (∀ a, (k0_off696 v1763) a + S1x1x512.size a ≤ S1x2048x512.size a)
theorem k0_off696_inb : ∀ (v1763 : BitVec 32) (k0_hw476 : k0_chk476 v1763), ∀ a, (k0_off696 v1763) a + S1x1x512.size a ≤ S1x2048x512.size a := fun v1763 k0_hw476 => k0_hw476

def k0_off697 (i : grid0.Coords) : Fin 3 → Nat :=
  let c0_1103 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1770 : Index := Scalar.indexCast v9
  let c220 : Index := 220#32
  ![0, v1770.toNat, 220]
def k0_off698 (v1771 : BitVec 32) : Fin 3 → Nat :=
  let c0_1104 : Index := 0#32
  let v1772 : Index := Scalar.indexCast v1771
  let c0_1105 : Index := 0#32
  ![0, v1772.toNat, 0]

def k0_chk477 (v1771 : BitVec 32) : Prop :=
  (∀ a, (k0_off698 v1771) a + S1x1x512.size a ≤ S1x2048x512.size a)
theorem k0_off698_inb : ∀ (v1771 : BitVec 32) (k0_hw477 : k0_chk477 v1771), ∀ a, (k0_off698 v1771) a + S1x1x512.size a ≤ S1x2048x512.size a := fun v1771 k0_hw477 => k0_hw477

def k0_off699 (i : grid0.Coords) : Fin 3 → Nat :=
  let c0_1108 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1778 : Index := Scalar.indexCast v9
  let c221 : Index := 221#32
  ![0, v1778.toNat, 221]
def k0_off700 (v1779 : BitVec 32) : Fin 3 → Nat :=
  let c0_1109 : Index := 0#32
  let v1780 : Index := Scalar.indexCast v1779
  let c0_1110 : Index := 0#32
  ![0, v1780.toNat, 0]

def k0_chk478 (v1779 : BitVec 32) : Prop :=
  (∀ a, (k0_off700 v1779) a + S1x1x512.size a ≤ S1x2048x512.size a)
theorem k0_off700_inb : ∀ (v1779 : BitVec 32) (k0_hw478 : k0_chk478 v1779), ∀ a, (k0_off700 v1779) a + S1x1x512.size a ≤ S1x2048x512.size a := fun v1779 k0_hw478 => k0_hw478

def k0_off701 (i : grid0.Coords) : Fin 3 → Nat :=
  let c0_1113 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1786 : Index := Scalar.indexCast v9
  let c222 : Index := 222#32
  ![0, v1786.toNat, 222]
def k0_off702 (v1787 : BitVec 32) : Fin 3 → Nat :=
  let c0_1114 : Index := 0#32
  let v1788 : Index := Scalar.indexCast v1787
  let c0_1115 : Index := 0#32
  ![0, v1788.toNat, 0]

def k0_chk479 (v1787 : BitVec 32) : Prop :=
  (∀ a, (k0_off702 v1787) a + S1x1x512.size a ≤ S1x2048x512.size a)
theorem k0_off702_inb : ∀ (v1787 : BitVec 32) (k0_hw479 : k0_chk479 v1787), ∀ a, (k0_off702 v1787) a + S1x1x512.size a ≤ S1x2048x512.size a := fun v1787 k0_hw479 => k0_hw479

def k0_off703 (i : grid0.Coords) : Fin 3 → Nat :=
  let c0_1118 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1794 : Index := Scalar.indexCast v9
  let c223 : Index := 223#32
  ![0, v1794.toNat, 223]
def k0_off704 (v1795 : BitVec 32) : Fin 3 → Nat :=
  let c0_1119 : Index := 0#32
  let v1796 : Index := Scalar.indexCast v1795
  let c0_1120 : Index := 0#32
  ![0, v1796.toNat, 0]

def k0_chk480 (v1795 : BitVec 32) : Prop :=
  (∀ a, (k0_off704 v1795) a + S1x1x512.size a ≤ S1x2048x512.size a)
theorem k0_off704_inb : ∀ (v1795 : BitVec 32) (k0_hw480 : k0_chk480 v1795), ∀ a, (k0_off704 v1795) a + S1x1x512.size a ≤ S1x2048x512.size a := fun v1795 k0_hw480 => k0_hw480

def k0_off705 (i : grid0.Coords) : Fin 3 → Nat :=
  let c0_1123 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1802 : Index := Scalar.indexCast v9
  let c224 : Index := 224#32
  ![0, v1802.toNat, 224]
def k0_off706 (v1803 : BitVec 32) : Fin 3 → Nat :=
  let c0_1124 : Index := 0#32
  let v1804 : Index := Scalar.indexCast v1803
  let c0_1125 : Index := 0#32
  ![0, v1804.toNat, 0]

def k0_chk481 (v1803 : BitVec 32) : Prop :=
  (∀ a, (k0_off706 v1803) a + S1x1x512.size a ≤ S1x2048x512.size a)
theorem k0_off706_inb : ∀ (v1803 : BitVec 32) (k0_hw481 : k0_chk481 v1803), ∀ a, (k0_off706 v1803) a + S1x1x512.size a ≤ S1x2048x512.size a := fun v1803 k0_hw481 => k0_hw481

def k0_off707 (i : grid0.Coords) : Fin 3 → Nat :=
  let c0_1128 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1810 : Index := Scalar.indexCast v9
  let c225 : Index := 225#32
  ![0, v1810.toNat, 225]
def k0_off708 (v1811 : BitVec 32) : Fin 3 → Nat :=
  let c0_1129 : Index := 0#32
  let v1812 : Index := Scalar.indexCast v1811
  let c0_1130 : Index := 0#32
  ![0, v1812.toNat, 0]

def k0_chk482 (v1811 : BitVec 32) : Prop :=
  (∀ a, (k0_off708 v1811) a + S1x1x512.size a ≤ S1x2048x512.size a)
theorem k0_off708_inb : ∀ (v1811 : BitVec 32) (k0_hw482 : k0_chk482 v1811), ∀ a, (k0_off708 v1811) a + S1x1x512.size a ≤ S1x2048x512.size a := fun v1811 k0_hw482 => k0_hw482

def k0_off709 (i : grid0.Coords) : Fin 3 → Nat :=
  let c0_1133 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1818 : Index := Scalar.indexCast v9
  let c226 : Index := 226#32
  ![0, v1818.toNat, 226]
def k0_off710 (v1819 : BitVec 32) : Fin 3 → Nat :=
  let c0_1134 : Index := 0#32
  let v1820 : Index := Scalar.indexCast v1819
  let c0_1135 : Index := 0#32
  ![0, v1820.toNat, 0]

def k0_chk483 (v1819 : BitVec 32) : Prop :=
  (∀ a, (k0_off710 v1819) a + S1x1x512.size a ≤ S1x2048x512.size a)
theorem k0_off710_inb : ∀ (v1819 : BitVec 32) (k0_hw483 : k0_chk483 v1819), ∀ a, (k0_off710 v1819) a + S1x1x512.size a ≤ S1x2048x512.size a := fun v1819 k0_hw483 => k0_hw483

def k0_off711 (i : grid0.Coords) : Fin 3 → Nat :=
  let c0_1138 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1826 : Index := Scalar.indexCast v9
  let c227 : Index := 227#32
  ![0, v1826.toNat, 227]
def k0_off712 (v1827 : BitVec 32) : Fin 3 → Nat :=
  let c0_1139 : Index := 0#32
  let v1828 : Index := Scalar.indexCast v1827
  let c0_1140 : Index := 0#32
  ![0, v1828.toNat, 0]

def k0_chk484 (v1827 : BitVec 32) : Prop :=
  (∀ a, (k0_off712 v1827) a + S1x1x512.size a ≤ S1x2048x512.size a)
theorem k0_off712_inb : ∀ (v1827 : BitVec 32) (k0_hw484 : k0_chk484 v1827), ∀ a, (k0_off712 v1827) a + S1x1x512.size a ≤ S1x2048x512.size a := fun v1827 k0_hw484 => k0_hw484

def k0_off713 (i : grid0.Coords) : Fin 3 → Nat :=
  let c0_1143 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1834 : Index := Scalar.indexCast v9
  let c228 : Index := 228#32
  ![0, v1834.toNat, 228]
def k0_off714 (v1835 : BitVec 32) : Fin 3 → Nat :=
  let c0_1144 : Index := 0#32
  let v1836 : Index := Scalar.indexCast v1835
  let c0_1145 : Index := 0#32
  ![0, v1836.toNat, 0]

def k0_chk485 (v1835 : BitVec 32) : Prop :=
  (∀ a, (k0_off714 v1835) a + S1x1x512.size a ≤ S1x2048x512.size a)
theorem k0_off714_inb : ∀ (v1835 : BitVec 32) (k0_hw485 : k0_chk485 v1835), ∀ a, (k0_off714 v1835) a + S1x1x512.size a ≤ S1x2048x512.size a := fun v1835 k0_hw485 => k0_hw485

def k0_off715 (i : grid0.Coords) : Fin 3 → Nat :=
  let c0_1148 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1842 : Index := Scalar.indexCast v9
  let c229 : Index := 229#32
  ![0, v1842.toNat, 229]
def k0_off716 (v1843 : BitVec 32) : Fin 3 → Nat :=
  let c0_1149 : Index := 0#32
  let v1844 : Index := Scalar.indexCast v1843
  let c0_1150 : Index := 0#32
  ![0, v1844.toNat, 0]

def k0_chk486 (v1843 : BitVec 32) : Prop :=
  (∀ a, (k0_off716 v1843) a + S1x1x512.size a ≤ S1x2048x512.size a)
theorem k0_off716_inb : ∀ (v1843 : BitVec 32) (k0_hw486 : k0_chk486 v1843), ∀ a, (k0_off716 v1843) a + S1x1x512.size a ≤ S1x2048x512.size a := fun v1843 k0_hw486 => k0_hw486

def k0_off717 (i : grid0.Coords) : Fin 3 → Nat :=
  let c0_1153 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1850 : Index := Scalar.indexCast v9
  let c230 : Index := 230#32
  ![0, v1850.toNat, 230]
def k0_off718 (v1851 : BitVec 32) : Fin 3 → Nat :=
  let c0_1154 : Index := 0#32
  let v1852 : Index := Scalar.indexCast v1851
  let c0_1155 : Index := 0#32
  ![0, v1852.toNat, 0]

def k0_chk487 (v1851 : BitVec 32) : Prop :=
  (∀ a, (k0_off718 v1851) a + S1x1x512.size a ≤ S1x2048x512.size a)
theorem k0_off718_inb : ∀ (v1851 : BitVec 32) (k0_hw487 : k0_chk487 v1851), ∀ a, (k0_off718 v1851) a + S1x1x512.size a ≤ S1x2048x512.size a := fun v1851 k0_hw487 => k0_hw487

def k0_off719 (i : grid0.Coords) : Fin 3 → Nat :=
  let c0_1158 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1858 : Index := Scalar.indexCast v9
  let c231 : Index := 231#32
  ![0, v1858.toNat, 231]
def k0_off720 (v1859 : BitVec 32) : Fin 3 → Nat :=
  let c0_1159 : Index := 0#32
  let v1860 : Index := Scalar.indexCast v1859
  let c0_1160 : Index := 0#32
  ![0, v1860.toNat, 0]

def k0_chk488 (v1859 : BitVec 32) : Prop :=
  (∀ a, (k0_off720 v1859) a + S1x1x512.size a ≤ S1x2048x512.size a)
theorem k0_off720_inb : ∀ (v1859 : BitVec 32) (k0_hw488 : k0_chk488 v1859), ∀ a, (k0_off720 v1859) a + S1x1x512.size a ≤ S1x2048x512.size a := fun v1859 k0_hw488 => k0_hw488

def k0_off721 (i : grid0.Coords) : Fin 3 → Nat :=
  let c0_1163 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1866 : Index := Scalar.indexCast v9
  let c232 : Index := 232#32
  ![0, v1866.toNat, 232]
def k0_off722 (v1867 : BitVec 32) : Fin 3 → Nat :=
  let c0_1164 : Index := 0#32
  let v1868 : Index := Scalar.indexCast v1867
  let c0_1165 : Index := 0#32
  ![0, v1868.toNat, 0]

def k0_chk489 (v1867 : BitVec 32) : Prop :=
  (∀ a, (k0_off722 v1867) a + S1x1x512.size a ≤ S1x2048x512.size a)
theorem k0_off722_inb : ∀ (v1867 : BitVec 32) (k0_hw489 : k0_chk489 v1867), ∀ a, (k0_off722 v1867) a + S1x1x512.size a ≤ S1x2048x512.size a := fun v1867 k0_hw489 => k0_hw489

def k0_off723 (i : grid0.Coords) : Fin 3 → Nat :=
  let c0_1168 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1874 : Index := Scalar.indexCast v9
  let c233 : Index := 233#32
  ![0, v1874.toNat, 233]
def k0_off724 (v1875 : BitVec 32) : Fin 3 → Nat :=
  let c0_1169 : Index := 0#32
  let v1876 : Index := Scalar.indexCast v1875
  let c0_1170 : Index := 0#32
  ![0, v1876.toNat, 0]

def k0_chk490 (v1875 : BitVec 32) : Prop :=
  (∀ a, (k0_off724 v1875) a + S1x1x512.size a ≤ S1x2048x512.size a)
theorem k0_off724_inb : ∀ (v1875 : BitVec 32) (k0_hw490 : k0_chk490 v1875), ∀ a, (k0_off724 v1875) a + S1x1x512.size a ≤ S1x2048x512.size a := fun v1875 k0_hw490 => k0_hw490

def k0_off725 (i : grid0.Coords) : Fin 3 → Nat :=
  let c0_1173 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1882 : Index := Scalar.indexCast v9
  let c234 : Index := 234#32
  ![0, v1882.toNat, 234]
def k0_off726 (v1883 : BitVec 32) : Fin 3 → Nat :=
  let c0_1174 : Index := 0#32
  let v1884 : Index := Scalar.indexCast v1883
  let c0_1175 : Index := 0#32
  ![0, v1884.toNat, 0]

def k0_chk491 (v1883 : BitVec 32) : Prop :=
  (∀ a, (k0_off726 v1883) a + S1x1x512.size a ≤ S1x2048x512.size a)
theorem k0_off726_inb : ∀ (v1883 : BitVec 32) (k0_hw491 : k0_chk491 v1883), ∀ a, (k0_off726 v1883) a + S1x1x512.size a ≤ S1x2048x512.size a := fun v1883 k0_hw491 => k0_hw491

def k0_off727 (i : grid0.Coords) : Fin 3 → Nat :=
  let c0_1178 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1890 : Index := Scalar.indexCast v9
  let c235 : Index := 235#32
  ![0, v1890.toNat, 235]
def k0_off728 (v1891 : BitVec 32) : Fin 3 → Nat :=
  let c0_1179 : Index := 0#32
  let v1892 : Index := Scalar.indexCast v1891
  let c0_1180 : Index := 0#32
  ![0, v1892.toNat, 0]

def k0_chk492 (v1891 : BitVec 32) : Prop :=
  (∀ a, (k0_off728 v1891) a + S1x1x512.size a ≤ S1x2048x512.size a)
theorem k0_off728_inb : ∀ (v1891 : BitVec 32) (k0_hw492 : k0_chk492 v1891), ∀ a, (k0_off728 v1891) a + S1x1x512.size a ≤ S1x2048x512.size a := fun v1891 k0_hw492 => k0_hw492

def k0_off729 (i : grid0.Coords) : Fin 3 → Nat :=
  let c0_1183 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1898 : Index := Scalar.indexCast v9
  let c236 : Index := 236#32
  ![0, v1898.toNat, 236]
def k0_off730 (v1899 : BitVec 32) : Fin 3 → Nat :=
  let c0_1184 : Index := 0#32
  let v1900 : Index := Scalar.indexCast v1899
  let c0_1185 : Index := 0#32
  ![0, v1900.toNat, 0]

def k0_chk493 (v1899 : BitVec 32) : Prop :=
  (∀ a, (k0_off730 v1899) a + S1x1x512.size a ≤ S1x2048x512.size a)
theorem k0_off730_inb : ∀ (v1899 : BitVec 32) (k0_hw493 : k0_chk493 v1899), ∀ a, (k0_off730 v1899) a + S1x1x512.size a ≤ S1x2048x512.size a := fun v1899 k0_hw493 => k0_hw493

def k0_off731 (i : grid0.Coords) : Fin 3 → Nat :=
  let c0_1188 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1906 : Index := Scalar.indexCast v9
  let c237 : Index := 237#32
  ![0, v1906.toNat, 237]
def k0_off732 (v1907 : BitVec 32) : Fin 3 → Nat :=
  let c0_1189 : Index := 0#32
  let v1908 : Index := Scalar.indexCast v1907
  let c0_1190 : Index := 0#32
  ![0, v1908.toNat, 0]

def k0_chk494 (v1907 : BitVec 32) : Prop :=
  (∀ a, (k0_off732 v1907) a + S1x1x512.size a ≤ S1x2048x512.size a)
theorem k0_off732_inb : ∀ (v1907 : BitVec 32) (k0_hw494 : k0_chk494 v1907), ∀ a, (k0_off732 v1907) a + S1x1x512.size a ≤ S1x2048x512.size a := fun v1907 k0_hw494 => k0_hw494

def k0_off733 (i : grid0.Coords) : Fin 3 → Nat :=
  let c0_1193 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1914 : Index := Scalar.indexCast v9
  let c238 : Index := 238#32
  ![0, v1914.toNat, 238]
def k0_off734 (v1915 : BitVec 32) : Fin 3 → Nat :=
  let c0_1194 : Index := 0#32
  let v1916 : Index := Scalar.indexCast v1915
  let c0_1195 : Index := 0#32
  ![0, v1916.toNat, 0]

def k0_chk495 (v1915 : BitVec 32) : Prop :=
  (∀ a, (k0_off734 v1915) a + S1x1x512.size a ≤ S1x2048x512.size a)
theorem k0_off734_inb : ∀ (v1915 : BitVec 32) (k0_hw495 : k0_chk495 v1915), ∀ a, (k0_off734 v1915) a + S1x1x512.size a ≤ S1x2048x512.size a := fun v1915 k0_hw495 => k0_hw495

def k0_off735 (i : grid0.Coords) : Fin 3 → Nat :=
  let c0_1198 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1922 : Index := Scalar.indexCast v9
  let c239 : Index := 239#32
  ![0, v1922.toNat, 239]
def k0_off736 (v1923 : BitVec 32) : Fin 3 → Nat :=
  let c0_1199 : Index := 0#32
  let v1924 : Index := Scalar.indexCast v1923
  let c0_1200 : Index := 0#32
  ![0, v1924.toNat, 0]

def k0_chk496 (v1923 : BitVec 32) : Prop :=
  (∀ a, (k0_off736 v1923) a + S1x1x512.size a ≤ S1x2048x512.size a)
theorem k0_off736_inb : ∀ (v1923 : BitVec 32) (k0_hw496 : k0_chk496 v1923), ∀ a, (k0_off736 v1923) a + S1x1x512.size a ≤ S1x2048x512.size a := fun v1923 k0_hw496 => k0_hw496

def k0_off737 (i : grid0.Coords) : Fin 3 → Nat :=
  let c0_1203 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1930 : Index := Scalar.indexCast v9
  let c240 : Index := 240#32
  ![0, v1930.toNat, 240]
def k0_off738 (v1931 : BitVec 32) : Fin 3 → Nat :=
  let c0_1204 : Index := 0#32
  let v1932 : Index := Scalar.indexCast v1931
  let c0_1205 : Index := 0#32
  ![0, v1932.toNat, 0]

def k0_chk497 (v1931 : BitVec 32) : Prop :=
  (∀ a, (k0_off738 v1931) a + S1x1x512.size a ≤ S1x2048x512.size a)
theorem k0_off738_inb : ∀ (v1931 : BitVec 32) (k0_hw497 : k0_chk497 v1931), ∀ a, (k0_off738 v1931) a + S1x1x512.size a ≤ S1x2048x512.size a := fun v1931 k0_hw497 => k0_hw497

def k0_off739 (i : grid0.Coords) : Fin 3 → Nat :=
  let c0_1208 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1938 : Index := Scalar.indexCast v9
  let c241 : Index := 241#32
  ![0, v1938.toNat, 241]
def k0_off740 (v1939 : BitVec 32) : Fin 3 → Nat :=
  let c0_1209 : Index := 0#32
  let v1940 : Index := Scalar.indexCast v1939
  let c0_1210 : Index := 0#32
  ![0, v1940.toNat, 0]

def k0_chk498 (v1939 : BitVec 32) : Prop :=
  (∀ a, (k0_off740 v1939) a + S1x1x512.size a ≤ S1x2048x512.size a)
theorem k0_off740_inb : ∀ (v1939 : BitVec 32) (k0_hw498 : k0_chk498 v1939), ∀ a, (k0_off740 v1939) a + S1x1x512.size a ≤ S1x2048x512.size a := fun v1939 k0_hw498 => k0_hw498

def k0_off741 (i : grid0.Coords) : Fin 3 → Nat :=
  let c0_1213 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1946 : Index := Scalar.indexCast v9
  let c242 : Index := 242#32
  ![0, v1946.toNat, 242]
def k0_off742 (v1947 : BitVec 32) : Fin 3 → Nat :=
  let c0_1214 : Index := 0#32
  let v1948 : Index := Scalar.indexCast v1947
  let c0_1215 : Index := 0#32
  ![0, v1948.toNat, 0]

def k0_chk499 (v1947 : BitVec 32) : Prop :=
  (∀ a, (k0_off742 v1947) a + S1x1x512.size a ≤ S1x2048x512.size a)
theorem k0_off742_inb : ∀ (v1947 : BitVec 32) (k0_hw499 : k0_chk499 v1947), ∀ a, (k0_off742 v1947) a + S1x1x512.size a ≤ S1x2048x512.size a := fun v1947 k0_hw499 => k0_hw499

def k0_off743 (i : grid0.Coords) : Fin 3 → Nat :=
  let c0_1218 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1954 : Index := Scalar.indexCast v9
  let c243 : Index := 243#32
  ![0, v1954.toNat, 243]
def k0_off744 (v1955 : BitVec 32) : Fin 3 → Nat :=
  let c0_1219 : Index := 0#32
  let v1956 : Index := Scalar.indexCast v1955
  let c0_1220 : Index := 0#32
  ![0, v1956.toNat, 0]

def k0_chk500 (v1955 : BitVec 32) : Prop :=
  (∀ a, (k0_off744 v1955) a + S1x1x512.size a ≤ S1x2048x512.size a)
theorem k0_off744_inb : ∀ (v1955 : BitVec 32) (k0_hw500 : k0_chk500 v1955), ∀ a, (k0_off744 v1955) a + S1x1x512.size a ≤ S1x2048x512.size a := fun v1955 k0_hw500 => k0_hw500

def k0_off745 (i : grid0.Coords) : Fin 3 → Nat :=
  let c0_1223 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1962 : Index := Scalar.indexCast v9
  let c244 : Index := 244#32
  ![0, v1962.toNat, 244]
def k0_off746 (v1963 : BitVec 32) : Fin 3 → Nat :=
  let c0_1224 : Index := 0#32
  let v1964 : Index := Scalar.indexCast v1963
  let c0_1225 : Index := 0#32
  ![0, v1964.toNat, 0]

def k0_chk501 (v1963 : BitVec 32) : Prop :=
  (∀ a, (k0_off746 v1963) a + S1x1x512.size a ≤ S1x2048x512.size a)
theorem k0_off746_inb : ∀ (v1963 : BitVec 32) (k0_hw501 : k0_chk501 v1963), ∀ a, (k0_off746 v1963) a + S1x1x512.size a ≤ S1x2048x512.size a := fun v1963 k0_hw501 => k0_hw501

def k0_off747 (i : grid0.Coords) : Fin 3 → Nat :=
  let c0_1228 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1970 : Index := Scalar.indexCast v9
  let c245 : Index := 245#32
  ![0, v1970.toNat, 245]
def k0_off748 (v1971 : BitVec 32) : Fin 3 → Nat :=
  let c0_1229 : Index := 0#32
  let v1972 : Index := Scalar.indexCast v1971
  let c0_1230 : Index := 0#32
  ![0, v1972.toNat, 0]

def k0_chk502 (v1971 : BitVec 32) : Prop :=
  (∀ a, (k0_off748 v1971) a + S1x1x512.size a ≤ S1x2048x512.size a)
theorem k0_off748_inb : ∀ (v1971 : BitVec 32) (k0_hw502 : k0_chk502 v1971), ∀ a, (k0_off748 v1971) a + S1x1x512.size a ≤ S1x2048x512.size a := fun v1971 k0_hw502 => k0_hw502

def k0_off749 (i : grid0.Coords) : Fin 3 → Nat :=
  let c0_1233 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1978 : Index := Scalar.indexCast v9
  let c246 : Index := 246#32
  ![0, v1978.toNat, 246]
def k0_off750 (v1979 : BitVec 32) : Fin 3 → Nat :=
  let c0_1234 : Index := 0#32
  let v1980 : Index := Scalar.indexCast v1979
  let c0_1235 : Index := 0#32
  ![0, v1980.toNat, 0]

def k0_chk503 (v1979 : BitVec 32) : Prop :=
  (∀ a, (k0_off750 v1979) a + S1x1x512.size a ≤ S1x2048x512.size a)
theorem k0_off750_inb : ∀ (v1979 : BitVec 32) (k0_hw503 : k0_chk503 v1979), ∀ a, (k0_off750 v1979) a + S1x1x512.size a ≤ S1x2048x512.size a := fun v1979 k0_hw503 => k0_hw503

def k0_off751 (i : grid0.Coords) : Fin 3 → Nat :=
  let c0_1238 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1986 : Index := Scalar.indexCast v9
  let c247 : Index := 247#32
  ![0, v1986.toNat, 247]
def k0_off752 (v1987 : BitVec 32) : Fin 3 → Nat :=
  let c0_1239 : Index := 0#32
  let v1988 : Index := Scalar.indexCast v1987
  let c0_1240 : Index := 0#32
  ![0, v1988.toNat, 0]

def k0_chk504 (v1987 : BitVec 32) : Prop :=
  (∀ a, (k0_off752 v1987) a + S1x1x512.size a ≤ S1x2048x512.size a)
theorem k0_off752_inb : ∀ (v1987 : BitVec 32) (k0_hw504 : k0_chk504 v1987), ∀ a, (k0_off752 v1987) a + S1x1x512.size a ≤ S1x2048x512.size a := fun v1987 k0_hw504 => k0_hw504

def k0_off753 (i : grid0.Coords) : Fin 3 → Nat :=
  let c0_1243 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1994 : Index := Scalar.indexCast v9
  let c248 : Index := 248#32
  ![0, v1994.toNat, 248]
def k0_off754 (v1995 : BitVec 32) : Fin 3 → Nat :=
  let c0_1244 : Index := 0#32
  let v1996 : Index := Scalar.indexCast v1995
  let c0_1245 : Index := 0#32
  ![0, v1996.toNat, 0]

def k0_chk505 (v1995 : BitVec 32) : Prop :=
  (∀ a, (k0_off754 v1995) a + S1x1x512.size a ≤ S1x2048x512.size a)
theorem k0_off754_inb : ∀ (v1995 : BitVec 32) (k0_hw505 : k0_chk505 v1995), ∀ a, (k0_off754 v1995) a + S1x1x512.size a ≤ S1x2048x512.size a := fun v1995 k0_hw505 => k0_hw505

def k0_off755 (i : grid0.Coords) : Fin 3 → Nat :=
  let c0_1248 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2002 : Index := Scalar.indexCast v9
  let c249 : Index := 249#32
  ![0, v2002.toNat, 249]
def k0_off756 (v2003 : BitVec 32) : Fin 3 → Nat :=
  let c0_1249 : Index := 0#32
  let v2004 : Index := Scalar.indexCast v2003
  let c0_1250 : Index := 0#32
  ![0, v2004.toNat, 0]

def k0_chk506 (v2003 : BitVec 32) : Prop :=
  (∀ a, (k0_off756 v2003) a + S1x1x512.size a ≤ S1x2048x512.size a)
theorem k0_off756_inb : ∀ (v2003 : BitVec 32) (k0_hw506 : k0_chk506 v2003), ∀ a, (k0_off756 v2003) a + S1x1x512.size a ≤ S1x2048x512.size a := fun v2003 k0_hw506 => k0_hw506

def k0_off757 (i : grid0.Coords) : Fin 3 → Nat :=
  let c0_1253 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2010 : Index := Scalar.indexCast v9
  let c250 : Index := 250#32
  ![0, v2010.toNat, 250]
def k0_off758 (v2011 : BitVec 32) : Fin 3 → Nat :=
  let c0_1254 : Index := 0#32
  let v2012 : Index := Scalar.indexCast v2011
  let c0_1255 : Index := 0#32
  ![0, v2012.toNat, 0]

def k0_chk507 (v2011 : BitVec 32) : Prop :=
  (∀ a, (k0_off758 v2011) a + S1x1x512.size a ≤ S1x2048x512.size a)
theorem k0_off758_inb : ∀ (v2011 : BitVec 32) (k0_hw507 : k0_chk507 v2011), ∀ a, (k0_off758 v2011) a + S1x1x512.size a ≤ S1x2048x512.size a := fun v2011 k0_hw507 => k0_hw507

def k0_off759 (i : grid0.Coords) : Fin 3 → Nat :=
  let c0_1258 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2018 : Index := Scalar.indexCast v9
  let c251 : Index := 251#32
  ![0, v2018.toNat, 251]
def k0_off760 (v2019 : BitVec 32) : Fin 3 → Nat :=
  let c0_1259 : Index := 0#32
  let v2020 : Index := Scalar.indexCast v2019
  let c0_1260 : Index := 0#32
  ![0, v2020.toNat, 0]

def k0_chk508 (v2019 : BitVec 32) : Prop :=
  (∀ a, (k0_off760 v2019) a + S1x1x512.size a ≤ S1x2048x512.size a)
theorem k0_off760_inb : ∀ (v2019 : BitVec 32) (k0_hw508 : k0_chk508 v2019), ∀ a, (k0_off760 v2019) a + S1x1x512.size a ≤ S1x2048x512.size a := fun v2019 k0_hw508 => k0_hw508

def k0_off761 (i : grid0.Coords) : Fin 3 → Nat :=
  let c0_1263 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2026 : Index := Scalar.indexCast v9
  let c252 : Index := 252#32
  ![0, v2026.toNat, 252]
def k0_off762 (v2027 : BitVec 32) : Fin 3 → Nat :=
  let c0_1264 : Index := 0#32
  let v2028 : Index := Scalar.indexCast v2027
  let c0_1265 : Index := 0#32
  ![0, v2028.toNat, 0]

def k0_chk509 (v2027 : BitVec 32) : Prop :=
  (∀ a, (k0_off762 v2027) a + S1x1x512.size a ≤ S1x2048x512.size a)
theorem k0_off762_inb : ∀ (v2027 : BitVec 32) (k0_hw509 : k0_chk509 v2027), ∀ a, (k0_off762 v2027) a + S1x1x512.size a ≤ S1x2048x512.size a := fun v2027 k0_hw509 => k0_hw509

def k0_off763 (i : grid0.Coords) : Fin 3 → Nat :=
  let c0_1268 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2034 : Index := Scalar.indexCast v9
  let c253 : Index := 253#32
  ![0, v2034.toNat, 253]
def k0_off764 (v2035 : BitVec 32) : Fin 3 → Nat :=
  let c0_1269 : Index := 0#32
  let v2036 : Index := Scalar.indexCast v2035
  let c0_1270 : Index := 0#32
  ![0, v2036.toNat, 0]

def k0_chk510 (v2035 : BitVec 32) : Prop :=
  (∀ a, (k0_off764 v2035) a + S1x1x512.size a ≤ S1x2048x512.size a)
theorem k0_off764_inb : ∀ (v2035 : BitVec 32) (k0_hw510 : k0_chk510 v2035), ∀ a, (k0_off764 v2035) a + S1x1x512.size a ≤ S1x2048x512.size a := fun v2035 k0_hw510 => k0_hw510

def k0_off765 (i : grid0.Coords) : Fin 3 → Nat :=
  let c0_1273 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2042 : Index := Scalar.indexCast v9
  let c254 : Index := 254#32
  ![0, v2042.toNat, 254]
def k0_off766 (v2043 : BitVec 32) : Fin 3 → Nat :=
  let c0_1274 : Index := 0#32
  let v2044 : Index := Scalar.indexCast v2043
  let c0_1275 : Index := 0#32
  ![0, v2044.toNat, 0]

def k0_chk511 (v2043 : BitVec 32) : Prop :=
  (∀ a, (k0_off766 v2043) a + S1x1x512.size a ≤ S1x2048x512.size a)
theorem k0_off766_inb : ∀ (v2043 : BitVec 32) (k0_hw511 : k0_chk511 v2043), ∀ a, (k0_off766 v2043) a + S1x1x512.size a ≤ S1x2048x512.size a := fun v2043 k0_hw511 => k0_hw511

def k0_off767 (i : grid0.Coords) : Fin 3 → Nat :=
  let c0_1278 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2050 : Index := Scalar.indexCast v9
  let c255 : Index := 255#32
  ![0, v2050.toNat, 255]
def k0_off768 (v2051 : BitVec 32) : Fin 3 → Nat :=
  let c0_1279 : Index := 0#32
  let v2052 : Index := Scalar.indexCast v2051
  let c0_1280 : Index := 0#32
  ![0, v2052.toNat, 0]

def k0_chk512 (v2051 : BitVec 32) : Prop :=
  (∀ a, (k0_off768 v2051) a + S1x1x512.size a ≤ S1x2048x512.size a)
theorem k0_off768_inb : ∀ (v2051 : BitVec 32) (k0_hw512 : k0_chk512 v2051), ∀ a, (k0_off768 v2051) a + S1x1x512.size a ≤ S1x2048x512.size a := fun v2051 k0_hw512 => k0_hw512

def k0_off769 (i : grid0.Coords) : Fin 3 → Nat :=
  let c0_1287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2062 : Index := Scalar.indexCast v2059
  let c0_1288 : Index := 0#32
  ![0, v2062.toNat, 0]
def k0_off770 (i : grid0.Coords) : Fin 3 → Nat :=
  let c0_1289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2064 : Index := Scalar.indexCast v2059
  let c1_1290 : Index := 1#32
  ![0, v2064.toNat, 1]
def k0_off771 (i : grid0.Coords) : Fin 3 → Nat :=
  let c0_1291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2066 : Index := Scalar.indexCast v2059
  let c2_1292 : Index := 2#32
  ![0, v2066.toNat, 2]
def k0_off772 (i : grid0.Coords) : Fin 3 → Nat :=
  let c0_1293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2068 : Index := Scalar.indexCast v2059
  let c3_1294 : Index := 3#32
  ![0, v2068.toNat, 3]
def k0_off773 (v2063 : BitVec 32) : Fin 3 → Nat :=
  let c0_1295 : Index := 0#32
  let v2070 : Index := Scalar.indexCast v2063
  let c0_1296 : Index := 0#32
  ![0, v2070.toNat, 0]

def k0_off774 (i : grid0.Coords) : Fin 3 → Nat :=
  let c0_1297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2073 : Index := Scalar.indexCast v2059
  let c0_1298 : Index := 0#32
  ![0, v2073.toNat, 0]
def k0_off775 (v2065 : BitVec 32) : Fin 3 → Nat :=
  let c0_1301 : Index := 0#32
  let v2080 : Index := Scalar.indexCast v2065
  let c0_1302 : Index := 0#32
  ![0, v2080.toNat, 0]

def k0_off776 (i : grid0.Coords) : Fin 3 → Nat :=
  let c0_1303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2083 : Index := Scalar.indexCast v2059
  let c1_1304 : Index := 1#32
  ![0, v2083.toNat, 1]
def k0_off777 (v2067 : BitVec 32) : Fin 3 → Nat :=
  let c0_1307 : Index := 0#32
  let v2090 : Index := Scalar.indexCast v2067
  let c0_1308 : Index := 0#32
  ![0, v2090.toNat, 0]

def k0_off778 (i : grid0.Coords) : Fin 3 → Nat :=
  let c0_1309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2093 : Index := Scalar.indexCast v2059
  let c2_1310 : Index := 2#32
  ![0, v2093.toNat, 2]
def k0_off779 (v2069 : BitVec 32) : Fin 3 → Nat :=
  let c0_1313 : Index := 0#32
  let v2100 : Index := Scalar.indexCast v2069
  let c0_1314 : Index := 0#32
  ![0, v2100.toNat, 0]

def k0_chk516 (v2069 : BitVec 32) : Prop :=
  (∀ a, (k0_off779 v2069) a + S1x1x1024.size a ≤ S1x2048x1024.size a)
theorem k0_off779_inb : ∀ (v2069 : BitVec 32) (k0_hw516 : k0_chk516 v2069), ∀ a, (k0_off779 v2069) a + S1x1x1024.size a ≤ S1x2048x1024.size a := fun v2069 k0_hw516 => k0_hw516

def k0_off780 (i : grid0.Coords) : Fin 3 → Nat :=
  let c0_1315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2103 : Index := Scalar.indexCast v2059
  let c3_1316 : Index := 3#32
  ![0, v2103.toNat, 3]
def k0_off781 (v2063 : BitVec 32) : Fin 3 → Nat :=
  let c0_1319 : Index := 0#32
  let v2110 : Index := Scalar.indexCast v2063
  let c0_1320 : Index := 0#32
  ![0, v2110.toNat, 0]

def k0_chk513 (v2063 : BitVec 32) : Prop :=
  (∀ a, (k0_off773 v2063) a + S1x1x1024.size a ≤ S1x2048x1024.size a) ∧
  (∀ a, (k0_off781 v2063) a + S1x1x1024.size a ≤ S1x2048x1024.size a)
theorem k0_off773_inb : ∀ (v2063 : BitVec 32) (k0_hw513 : k0_chk513 v2063), ∀ a, (k0_off773 v2063) a + S1x1x1024.size a ≤ S1x2048x1024.size a := fun v2063 k0_hw513 => k0_hw513.1
theorem k0_off781_inb : ∀ (v2063 : BitVec 32) (k0_hw513 : k0_chk513 v2063), ∀ a, (k0_off781 v2063) a + S1x1x1024.size a ≤ S1x2048x1024.size a := fun v2063 k0_hw513 => k0_hw513.2

def k0_off782 (v2065 : BitVec 32) : Fin 3 → Nat :=
  let c0_1321 : Index := 0#32
  let v2114 : Index := Scalar.indexCast v2065
  let c0_1322 : Index := 0#32
  ![0, v2114.toNat, 0]

def k0_chk514 (v2065 : BitVec 32) : Prop :=
  (∀ a, (k0_off775 v2065) a + S1x1x1024.size a ≤ S1x2048x1024.size a) ∧
  (∀ a, (k0_off782 v2065) a + S1x1x1024.size a ≤ S1x2048x1024.size a)
theorem k0_off775_inb : ∀ (v2065 : BitVec 32) (k0_hw514 : k0_chk514 v2065), ∀ a, (k0_off775 v2065) a + S1x1x1024.size a ≤ S1x2048x1024.size a := fun v2065 k0_hw514 => k0_hw514.1
theorem k0_off782_inb : ∀ (v2065 : BitVec 32) (k0_hw514 : k0_chk514 v2065), ∀ a, (k0_off782 v2065) a + S1x1x1024.size a ≤ S1x2048x1024.size a := fun v2065 k0_hw514 => k0_hw514.2

def k0_off783 (v2067 : BitVec 32) : Fin 3 → Nat :=
  let c0_1323 : Index := 0#32
  let v2118 : Index := Scalar.indexCast v2067
  let c0_1324 : Index := 0#32
  ![0, v2118.toNat, 0]

def k0_chk515 (v2067 : BitVec 32) : Prop :=
  (∀ a, (k0_off777 v2067) a + S1x1x1024.size a ≤ S1x2048x1024.size a) ∧
  (∀ a, (k0_off783 v2067) a + S1x1x1024.size a ≤ S1x2048x1024.size a)
theorem k0_off777_inb : ∀ (v2067 : BitVec 32) (k0_hw515 : k0_chk515 v2067), ∀ a, (k0_off777 v2067) a + S1x1x1024.size a ≤ S1x2048x1024.size a := fun v2067 k0_hw515 => k0_hw515.1
theorem k0_off783_inb : ∀ (v2067 : BitVec 32) (k0_hw515 : k0_chk515 v2067), ∀ a, (k0_off783 v2067) a + S1x1x1024.size a ≤ S1x2048x1024.size a := fun v2067 k0_hw515 => k0_hw515.2

def k0_off784 (i : grid0.Coords) : Fin 3 → Nat :=
  let c0_1327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2126 : Index := Scalar.indexCast v2059
  let c4_1328 : Index := 4#32
  ![0, v2126.toNat, 4]
def k0_off785 (i : grid0.Coords) : Fin 3 → Nat :=
  let c0_1329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2128 : Index := Scalar.indexCast v2059
  let c5_1330 : Index := 5#32
  ![0, v2128.toNat, 5]
def k0_off786 (i : grid0.Coords) : Fin 3 → Nat :=
  let c0_1331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2130 : Index := Scalar.indexCast v2059
  let c6_1332 : Index := 6#32
  ![0, v2130.toNat, 6]
def k0_off787 (i : grid0.Coords) : Fin 3 → Nat :=
  let c0_1333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2132 : Index := Scalar.indexCast v2059
  let c7_1334 : Index := 7#32
  ![0, v2132.toNat, 7]
def k0_off788 (v2127 : BitVec 32) : Fin 3 → Nat :=
  let c0_1335 : Index := 0#32
  let v2134 : Index := Scalar.indexCast v2127
  let c0_1336 : Index := 0#32
  ![0, v2134.toNat, 0]

def k0_off789 (i : grid0.Coords) : Fin 3 → Nat :=
  let c0_1337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2137 : Index := Scalar.indexCast v2059
  let c4_1338 : Index := 4#32
  ![0, v2137.toNat, 4]
def k0_off790 (v2129 : BitVec 32) : Fin 3 → Nat :=
  let c0_1341 : Index := 0#32
  let v2144 : Index := Scalar.indexCast v2129
  let c0_1342 : Index := 0#32
  ![0, v2144.toNat, 0]

def k0_off791 (i : grid0.Coords) : Fin 3 → Nat :=
  let c0_1343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2147 : Index := Scalar.indexCast v2059
  let c5_1344 : Index := 5#32
  ![0, v2147.toNat, 5]
def k0_off792 (v2131 : BitVec 32) : Fin 3 → Nat :=
  let c0_1347 : Index := 0#32
  let v2154 : Index := Scalar.indexCast v2131
  let c0_1348 : Index := 0#32
  ![0, v2154.toNat, 0]

def k0_off793 (i : grid0.Coords) : Fin 3 → Nat :=
  let c0_1349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2157 : Index := Scalar.indexCast v2059
  let c6_1350 : Index := 6#32
  ![0, v2157.toNat, 6]
def k0_off794 (v2133 : BitVec 32) : Fin 3 → Nat :=
  let c0_1353 : Index := 0#32
  let v2164 : Index := Scalar.indexCast v2133
  let c0_1354 : Index := 0#32
  ![0, v2164.toNat, 0]

def k0_chk520 (v2133 : BitVec 32) : Prop :=
  (∀ a, (k0_off794 v2133) a + S1x1x1024.size a ≤ S1x2048x1024.size a)
theorem k0_off794_inb : ∀ (v2133 : BitVec 32) (k0_hw520 : k0_chk520 v2133), ∀ a, (k0_off794 v2133) a + S1x1x1024.size a ≤ S1x2048x1024.size a := fun v2133 k0_hw520 => k0_hw520

def k0_off795 (i : grid0.Coords) : Fin 3 → Nat :=
  let c0_1355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2167 : Index := Scalar.indexCast v2059
  let c7_1356 : Index := 7#32
  ![0, v2167.toNat, 7]
def k0_off796 (v2127 : BitVec 32) : Fin 3 → Nat :=
  let c0_1359 : Index := 0#32
  let v2174 : Index := Scalar.indexCast v2127
  let c0_1360 : Index := 0#32
  ![0, v2174.toNat, 0]

def k0_chk517 (v2127 : BitVec 32) : Prop :=
  (∀ a, (k0_off788 v2127) a + S1x1x1024.size a ≤ S1x2048x1024.size a) ∧
  (∀ a, (k0_off796 v2127) a + S1x1x1024.size a ≤ S1x2048x1024.size a)
theorem k0_off788_inb : ∀ (v2127 : BitVec 32) (k0_hw517 : k0_chk517 v2127), ∀ a, (k0_off788 v2127) a + S1x1x1024.size a ≤ S1x2048x1024.size a := fun v2127 k0_hw517 => k0_hw517.1
theorem k0_off796_inb : ∀ (v2127 : BitVec 32) (k0_hw517 : k0_chk517 v2127), ∀ a, (k0_off796 v2127) a + S1x1x1024.size a ≤ S1x2048x1024.size a := fun v2127 k0_hw517 => k0_hw517.2

def k0_off797 (v2129 : BitVec 32) : Fin 3 → Nat :=
  let c0_1361 : Index := 0#32
  let v2178 : Index := Scalar.indexCast v2129
  let c0_1362 : Index := 0#32
  ![0, v2178.toNat, 0]

def k0_chk518 (v2129 : BitVec 32) : Prop :=
  (∀ a, (k0_off790 v2129) a + S1x1x1024.size a ≤ S1x2048x1024.size a) ∧
  (∀ a, (k0_off797 v2129) a + S1x1x1024.size a ≤ S1x2048x1024.size a)
theorem k0_off790_inb : ∀ (v2129 : BitVec 32) (k0_hw518 : k0_chk518 v2129), ∀ a, (k0_off790 v2129) a + S1x1x1024.size a ≤ S1x2048x1024.size a := fun v2129 k0_hw518 => k0_hw518.1
theorem k0_off797_inb : ∀ (v2129 : BitVec 32) (k0_hw518 : k0_chk518 v2129), ∀ a, (k0_off797 v2129) a + S1x1x1024.size a ≤ S1x2048x1024.size a := fun v2129 k0_hw518 => k0_hw518.2

def k0_off798 (v2131 : BitVec 32) : Fin 3 → Nat :=
  let c0_1363 : Index := 0#32
  let v2182 : Index := Scalar.indexCast v2131
  let c0_1364 : Index := 0#32
  ![0, v2182.toNat, 0]

def k0_chk519 (v2131 : BitVec 32) : Prop :=
  (∀ a, (k0_off792 v2131) a + S1x1x1024.size a ≤ S1x2048x1024.size a) ∧
  (∀ a, (k0_off798 v2131) a + S1x1x1024.size a ≤ S1x2048x1024.size a)
theorem k0_off792_inb : ∀ (v2131 : BitVec 32) (k0_hw519 : k0_chk519 v2131), ∀ a, (k0_off792 v2131) a + S1x1x1024.size a ≤ S1x2048x1024.size a := fun v2131 k0_hw519 => k0_hw519.1
theorem k0_off798_inb : ∀ (v2131 : BitVec 32) (k0_hw519 : k0_chk519 v2131), ∀ a, (k0_off798 v2131) a + S1x1x1024.size a ≤ S1x2048x1024.size a := fun v2131 k0_hw519 => k0_hw519.2

def k0_off799 (i : grid0.Coords) : Fin 3 → Nat :=
  let c0_1367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2190 : Index := Scalar.indexCast v2059
  let c8_1368 : Index := 8#32
  ![0, v2190.toNat, 8]
def k0_off800 (i : grid0.Coords) : Fin 3 → Nat :=
  let c0_1369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2192 : Index := Scalar.indexCast v2059
  let c9_1370 : Index := 9#32
  ![0, v2192.toNat, 9]
def k0_off801 (i : grid0.Coords) : Fin 3 → Nat :=
  let c0_1371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2194 : Index := Scalar.indexCast v2059
  let c10_1372 : Index := 10#32
  ![0, v2194.toNat, 10]
def k0_off802 (i : grid0.Coords) : Fin 3 → Nat :=
  let c0_1373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2196 : Index := Scalar.indexCast v2059
  let c11_1374 : Index := 11#32
  ![0, v2196.toNat, 11]
def k0_off803 (v2191 : BitVec 32) : Fin 3 → Nat :=
  let c0_1375 : Index := 0#32
  let v2198 : Index := Scalar.indexCast v2191
  let c0_1376 : Index := 0#32
  ![0, v2198.toNat, 0]

def k0_off804 (i : grid0.Coords) : Fin 3 → Nat :=
  let c0_1377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2201 : Index := Scalar.indexCast v2059
  let c8_1378 : Index := 8#32
  ![0, v2201.toNat, 8]
def k0_off805 (v2193 : BitVec 32) : Fin 3 → Nat :=
  let c0_1381 : Index := 0#32
  let v2208 : Index := Scalar.indexCast v2193
  let c0_1382 : Index := 0#32
  ![0, v2208.toNat, 0]

def k0_off806 (i : grid0.Coords) : Fin 3 → Nat :=
  let c0_1383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2211 : Index := Scalar.indexCast v2059
  let c9_1384 : Index := 9#32
  ![0, v2211.toNat, 9]
def k0_off807 (v2195 : BitVec 32) : Fin 3 → Nat :=
  let c0_1387 : Index := 0#32
  let v2218 : Index := Scalar.indexCast v2195
  let c0_1388 : Index := 0#32
  ![0, v2218.toNat, 0]

def k0_off808 (i : grid0.Coords) : Fin 3 → Nat :=
  let c0_1389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2221 : Index := Scalar.indexCast v2059
  let c10_1390 : Index := 10#32
  ![0, v2221.toNat, 10]
def k0_off809 (v2197 : BitVec 32) : Fin 3 → Nat :=
  let c0_1393 : Index := 0#32
  let v2228 : Index := Scalar.indexCast v2197
  let c0_1394 : Index := 0#32
  ![0, v2228.toNat, 0]

def k0_chk524 (v2197 : BitVec 32) : Prop :=
  (∀ a, (k0_off809 v2197) a + S1x1x1024.size a ≤ S1x2048x1024.size a)
theorem k0_off809_inb : ∀ (v2197 : BitVec 32) (k0_hw524 : k0_chk524 v2197), ∀ a, (k0_off809 v2197) a + S1x1x1024.size a ≤ S1x2048x1024.size a := fun v2197 k0_hw524 => k0_hw524

def k0_off810 (i : grid0.Coords) : Fin 3 → Nat :=
  let c0_1395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2231 : Index := Scalar.indexCast v2059
  let c11_1396 : Index := 11#32
  ![0, v2231.toNat, 11]
def k0_off811 (v2191 : BitVec 32) : Fin 3 → Nat :=
  let c0_1399 : Index := 0#32
  let v2238 : Index := Scalar.indexCast v2191
  let c0_1400 : Index := 0#32
  ![0, v2238.toNat, 0]

def k0_chk521 (v2191 : BitVec 32) : Prop :=
  (∀ a, (k0_off803 v2191) a + S1x1x1024.size a ≤ S1x2048x1024.size a) ∧
  (∀ a, (k0_off811 v2191) a + S1x1x1024.size a ≤ S1x2048x1024.size a)
theorem k0_off803_inb : ∀ (v2191 : BitVec 32) (k0_hw521 : k0_chk521 v2191), ∀ a, (k0_off803 v2191) a + S1x1x1024.size a ≤ S1x2048x1024.size a := fun v2191 k0_hw521 => k0_hw521.1
theorem k0_off811_inb : ∀ (v2191 : BitVec 32) (k0_hw521 : k0_chk521 v2191), ∀ a, (k0_off811 v2191) a + S1x1x1024.size a ≤ S1x2048x1024.size a := fun v2191 k0_hw521 => k0_hw521.2

def k0_off812 (v2193 : BitVec 32) : Fin 3 → Nat :=
  let c0_1401 : Index := 0#32
  let v2242 : Index := Scalar.indexCast v2193
  let c0_1402 : Index := 0#32
  ![0, v2242.toNat, 0]

def k0_chk522 (v2193 : BitVec 32) : Prop :=
  (∀ a, (k0_off805 v2193) a + S1x1x1024.size a ≤ S1x2048x1024.size a) ∧
  (∀ a, (k0_off812 v2193) a + S1x1x1024.size a ≤ S1x2048x1024.size a)
theorem k0_off805_inb : ∀ (v2193 : BitVec 32) (k0_hw522 : k0_chk522 v2193), ∀ a, (k0_off805 v2193) a + S1x1x1024.size a ≤ S1x2048x1024.size a := fun v2193 k0_hw522 => k0_hw522.1
theorem k0_off812_inb : ∀ (v2193 : BitVec 32) (k0_hw522 : k0_chk522 v2193), ∀ a, (k0_off812 v2193) a + S1x1x1024.size a ≤ S1x2048x1024.size a := fun v2193 k0_hw522 => k0_hw522.2

def k0_off813 (v2195 : BitVec 32) : Fin 3 → Nat :=
  let c0_1403 : Index := 0#32
  let v2246 : Index := Scalar.indexCast v2195
  let c0_1404 : Index := 0#32
  ![0, v2246.toNat, 0]

def k0_chk523 (v2195 : BitVec 32) : Prop :=
  (∀ a, (k0_off807 v2195) a + S1x1x1024.size a ≤ S1x2048x1024.size a) ∧
  (∀ a, (k0_off813 v2195) a + S1x1x1024.size a ≤ S1x2048x1024.size a)
theorem k0_off807_inb : ∀ (v2195 : BitVec 32) (k0_hw523 : k0_chk523 v2195), ∀ a, (k0_off807 v2195) a + S1x1x1024.size a ≤ S1x2048x1024.size a := fun v2195 k0_hw523 => k0_hw523.1
theorem k0_off813_inb : ∀ (v2195 : BitVec 32) (k0_hw523 : k0_chk523 v2195), ∀ a, (k0_off813 v2195) a + S1x1x1024.size a ≤ S1x2048x1024.size a := fun v2195 k0_hw523 => k0_hw523.2

def k0_off814 (i : grid0.Coords) : Fin 3 → Nat :=
  let c0_1407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2254 : Index := Scalar.indexCast v2059
  let c12_1408 : Index := 12#32
  ![0, v2254.toNat, 12]
def k0_off815 (i : grid0.Coords) : Fin 3 → Nat :=
  let c0_1409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2256 : Index := Scalar.indexCast v2059
  let c13_1410 : Index := 13#32
  ![0, v2256.toNat, 13]
def k0_off816 (i : grid0.Coords) : Fin 3 → Nat :=
  let c0_1411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2258 : Index := Scalar.indexCast v2059
  let c14_1412 : Index := 14#32
  ![0, v2258.toNat, 14]
def k0_off817 (i : grid0.Coords) : Fin 3 → Nat :=
  let c0_1413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2260 : Index := Scalar.indexCast v2059
  let c15_1414 : Index := 15#32
  ![0, v2260.toNat, 15]
def k0_off818 (v2255 : BitVec 32) : Fin 3 → Nat :=
  let c0_1415 : Index := 0#32
  let v2262 : Index := Scalar.indexCast v2255
  let c0_1416 : Index := 0#32
  ![0, v2262.toNat, 0]

def k0_off819 (i : grid0.Coords) : Fin 3 → Nat :=
  let c0_1417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2265 : Index := Scalar.indexCast v2059
  let c12_1418 : Index := 12#32
  ![0, v2265.toNat, 12]
def k0_off820 (v2257 : BitVec 32) : Fin 3 → Nat :=
  let c0_1421 : Index := 0#32
  let v2272 : Index := Scalar.indexCast v2257
  let c0_1422 : Index := 0#32
  ![0, v2272.toNat, 0]

def k0_off821 (i : grid0.Coords) : Fin 3 → Nat :=
  let c0_1423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2275 : Index := Scalar.indexCast v2059
  let c13_1424 : Index := 13#32
  ![0, v2275.toNat, 13]
def k0_off822 (v2259 : BitVec 32) : Fin 3 → Nat :=
  let c0_1427 : Index := 0#32
  let v2282 : Index := Scalar.indexCast v2259
  let c0_1428 : Index := 0#32
  ![0, v2282.toNat, 0]

def k0_off823 (i : grid0.Coords) : Fin 3 → Nat :=
  let c0_1429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2285 : Index := Scalar.indexCast v2059
  let c14_1430 : Index := 14#32
  ![0, v2285.toNat, 14]
def k0_off824 (v2261 : BitVec 32) : Fin 3 → Nat :=
  let c0_1433 : Index := 0#32
  let v2292 : Index := Scalar.indexCast v2261
  let c0_1434 : Index := 0#32
  ![0, v2292.toNat, 0]

def k0_chk528 (v2261 : BitVec 32) : Prop :=
  (∀ a, (k0_off824 v2261) a + S1x1x1024.size a ≤ S1x2048x1024.size a)
theorem k0_off824_inb : ∀ (v2261 : BitVec 32) (k0_hw528 : k0_chk528 v2261), ∀ a, (k0_off824 v2261) a + S1x1x1024.size a ≤ S1x2048x1024.size a := fun v2261 k0_hw528 => k0_hw528

def k0_off825 (i : grid0.Coords) : Fin 3 → Nat :=
  let c0_1435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2295 : Index := Scalar.indexCast v2059
  let c15_1436 : Index := 15#32
  ![0, v2295.toNat, 15]
def k0_off826 (v2255 : BitVec 32) : Fin 3 → Nat :=
  let c0_1439 : Index := 0#32
  let v2302 : Index := Scalar.indexCast v2255
  let c0_1440 : Index := 0#32
  ![0, v2302.toNat, 0]

def k0_chk525 (v2255 : BitVec 32) : Prop :=
  (∀ a, (k0_off818 v2255) a + S1x1x1024.size a ≤ S1x2048x1024.size a) ∧
  (∀ a, (k0_off826 v2255) a + S1x1x1024.size a ≤ S1x2048x1024.size a)
theorem k0_off818_inb : ∀ (v2255 : BitVec 32) (k0_hw525 : k0_chk525 v2255), ∀ a, (k0_off818 v2255) a + S1x1x1024.size a ≤ S1x2048x1024.size a := fun v2255 k0_hw525 => k0_hw525.1
theorem k0_off826_inb : ∀ (v2255 : BitVec 32) (k0_hw525 : k0_chk525 v2255), ∀ a, (k0_off826 v2255) a + S1x1x1024.size a ≤ S1x2048x1024.size a := fun v2255 k0_hw525 => k0_hw525.2

def k0_off827 (v2257 : BitVec 32) : Fin 3 → Nat :=
  let c0_1441 : Index := 0#32
  let v2306 : Index := Scalar.indexCast v2257
  let c0_1442 : Index := 0#32
  ![0, v2306.toNat, 0]

def k0_chk526 (v2257 : BitVec 32) : Prop :=
  (∀ a, (k0_off820 v2257) a + S1x1x1024.size a ≤ S1x2048x1024.size a) ∧
  (∀ a, (k0_off827 v2257) a + S1x1x1024.size a ≤ S1x2048x1024.size a)
theorem k0_off820_inb : ∀ (v2257 : BitVec 32) (k0_hw526 : k0_chk526 v2257), ∀ a, (k0_off820 v2257) a + S1x1x1024.size a ≤ S1x2048x1024.size a := fun v2257 k0_hw526 => k0_hw526.1
theorem k0_off827_inb : ∀ (v2257 : BitVec 32) (k0_hw526 : k0_chk526 v2257), ∀ a, (k0_off827 v2257) a + S1x1x1024.size a ≤ S1x2048x1024.size a := fun v2257 k0_hw526 => k0_hw526.2

def k0_off828 (v2259 : BitVec 32) : Fin 3 → Nat :=
  let c0_1443 : Index := 0#32
  let v2310 : Index := Scalar.indexCast v2259
  let c0_1444 : Index := 0#32
  ![0, v2310.toNat, 0]

def k0_chk527 (v2259 : BitVec 32) : Prop :=
  (∀ a, (k0_off822 v2259) a + S1x1x1024.size a ≤ S1x2048x1024.size a) ∧
  (∀ a, (k0_off828 v2259) a + S1x1x1024.size a ≤ S1x2048x1024.size a)
theorem k0_off822_inb : ∀ (v2259 : BitVec 32) (k0_hw527 : k0_chk527 v2259), ∀ a, (k0_off822 v2259) a + S1x1x1024.size a ≤ S1x2048x1024.size a := fun v2259 k0_hw527 => k0_hw527.1
theorem k0_off828_inb : ∀ (v2259 : BitVec 32) (k0_hw527 : k0_chk527 v2259), ∀ a, (k0_off828 v2259) a + S1x1x1024.size a ≤ S1x2048x1024.size a := fun v2259 k0_hw527 => k0_hw527.2

def k0_off829 (i : grid0.Coords) : Fin 3 → Nat :=
  let c0_1447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2318 : Index := Scalar.indexCast v2059
  let c16_1448 : Index := 16#32
  ![0, v2318.toNat, 16]
def k0_off830 (i : grid0.Coords) : Fin 3 → Nat :=
  let c0_1449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2320 : Index := Scalar.indexCast v2059
  let c17_1450 : Index := 17#32
  ![0, v2320.toNat, 17]
def k0_off831 (i : grid0.Coords) : Fin 3 → Nat :=
  let c0_1451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2322 : Index := Scalar.indexCast v2059
  let c18_1452 : Index := 18#32
  ![0, v2322.toNat, 18]
def k0_off832 (i : grid0.Coords) : Fin 3 → Nat :=
  let c0_1453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2324 : Index := Scalar.indexCast v2059
  let c19_1454 : Index := 19#32
  ![0, v2324.toNat, 19]
def k0_off833 (v2319 : BitVec 32) : Fin 3 → Nat :=
  let c0_1455 : Index := 0#32
  let v2326 : Index := Scalar.indexCast v2319
  let c0_1456 : Index := 0#32
  ![0, v2326.toNat, 0]

def k0_off834 (i : grid0.Coords) : Fin 3 → Nat :=
  let c0_1457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2329 : Index := Scalar.indexCast v2059
  let c16_1458 : Index := 16#32
  ![0, v2329.toNat, 16]
def k0_off835 (v2321 : BitVec 32) : Fin 3 → Nat :=
  let c0_1461 : Index := 0#32
  let v2336 : Index := Scalar.indexCast v2321
  let c0_1462 : Index := 0#32
  ![0, v2336.toNat, 0]

def k0_off836 (i : grid0.Coords) : Fin 3 → Nat :=
  let c0_1463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2339 : Index := Scalar.indexCast v2059
  let c17_1464 : Index := 17#32
  ![0, v2339.toNat, 17]
def k0_off837 (v2323 : BitVec 32) : Fin 3 → Nat :=
  let c0_1467 : Index := 0#32
  let v2346 : Index := Scalar.indexCast v2323
  let c0_1468 : Index := 0#32
  ![0, v2346.toNat, 0]

def k0_off838 (i : grid0.Coords) : Fin 3 → Nat :=
  let c0_1469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2349 : Index := Scalar.indexCast v2059
  let c18_1470 : Index := 18#32
  ![0, v2349.toNat, 18]
def k0_off839 (v2325 : BitVec 32) : Fin 3 → Nat :=
  let c0_1473 : Index := 0#32
  let v2356 : Index := Scalar.indexCast v2325
  let c0_1474 : Index := 0#32
  ![0, v2356.toNat, 0]

def k0_chk532 (v2325 : BitVec 32) : Prop :=
  (∀ a, (k0_off839 v2325) a + S1x1x1024.size a ≤ S1x2048x1024.size a)
theorem k0_off839_inb : ∀ (v2325 : BitVec 32) (k0_hw532 : k0_chk532 v2325), ∀ a, (k0_off839 v2325) a + S1x1x1024.size a ≤ S1x2048x1024.size a := fun v2325 k0_hw532 => k0_hw532

def k0_off840 (i : grid0.Coords) : Fin 3 → Nat :=
  let c0_1475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2359 : Index := Scalar.indexCast v2059
  let c19_1476 : Index := 19#32
  ![0, v2359.toNat, 19]
def k0_off841 (v2319 : BitVec 32) : Fin 3 → Nat :=
  let c0_1479 : Index := 0#32
  let v2366 : Index := Scalar.indexCast v2319
  let c0_1480 : Index := 0#32
  ![0, v2366.toNat, 0]

def k0_chk529 (v2319 : BitVec 32) : Prop :=
  (∀ a, (k0_off833 v2319) a + S1x1x1024.size a ≤ S1x2048x1024.size a) ∧
  (∀ a, (k0_off841 v2319) a + S1x1x1024.size a ≤ S1x2048x1024.size a)
theorem k0_off833_inb : ∀ (v2319 : BitVec 32) (k0_hw529 : k0_chk529 v2319), ∀ a, (k0_off833 v2319) a + S1x1x1024.size a ≤ S1x2048x1024.size a := fun v2319 k0_hw529 => k0_hw529.1
theorem k0_off841_inb : ∀ (v2319 : BitVec 32) (k0_hw529 : k0_chk529 v2319), ∀ a, (k0_off841 v2319) a + S1x1x1024.size a ≤ S1x2048x1024.size a := fun v2319 k0_hw529 => k0_hw529.2

def k0_off842 (v2321 : BitVec 32) : Fin 3 → Nat :=
  let c0_1481 : Index := 0#32
  let v2370 : Index := Scalar.indexCast v2321
  let c0_1482 : Index := 0#32
  ![0, v2370.toNat, 0]

def k0_chk530 (v2321 : BitVec 32) : Prop :=
  (∀ a, (k0_off835 v2321) a + S1x1x1024.size a ≤ S1x2048x1024.size a) ∧
  (∀ a, (k0_off842 v2321) a + S1x1x1024.size a ≤ S1x2048x1024.size a)
theorem k0_off835_inb : ∀ (v2321 : BitVec 32) (k0_hw530 : k0_chk530 v2321), ∀ a, (k0_off835 v2321) a + S1x1x1024.size a ≤ S1x2048x1024.size a := fun v2321 k0_hw530 => k0_hw530.1
theorem k0_off842_inb : ∀ (v2321 : BitVec 32) (k0_hw530 : k0_chk530 v2321), ∀ a, (k0_off842 v2321) a + S1x1x1024.size a ≤ S1x2048x1024.size a := fun v2321 k0_hw530 => k0_hw530.2

def k0_off843 (v2323 : BitVec 32) : Fin 3 → Nat :=
  let c0_1483 : Index := 0#32
  let v2374 : Index := Scalar.indexCast v2323
  let c0_1484 : Index := 0#32
  ![0, v2374.toNat, 0]

def k0_chk531 (v2323 : BitVec 32) : Prop :=
  (∀ a, (k0_off837 v2323) a + S1x1x1024.size a ≤ S1x2048x1024.size a) ∧
  (∀ a, (k0_off843 v2323) a + S1x1x1024.size a ≤ S1x2048x1024.size a)
theorem k0_off837_inb : ∀ (v2323 : BitVec 32) (k0_hw531 : k0_chk531 v2323), ∀ a, (k0_off837 v2323) a + S1x1x1024.size a ≤ S1x2048x1024.size a := fun v2323 k0_hw531 => k0_hw531.1
theorem k0_off843_inb : ∀ (v2323 : BitVec 32) (k0_hw531 : k0_chk531 v2323), ∀ a, (k0_off843 v2323) a + S1x1x1024.size a ≤ S1x2048x1024.size a := fun v2323 k0_hw531 => k0_hw531.2

def k0_off844 (i : grid0.Coords) : Fin 3 → Nat :=
  let c0_1487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2382 : Index := Scalar.indexCast v2059
  let c20_1488 : Index := 20#32
  ![0, v2382.toNat, 20]
def k0_off845 (i : grid0.Coords) : Fin 3 → Nat :=
  let c0_1489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2384 : Index := Scalar.indexCast v2059
  let c21_1490 : Index := 21#32
  ![0, v2384.toNat, 21]
def k0_off846 (i : grid0.Coords) : Fin 3 → Nat :=
  let c0_1491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2386 : Index := Scalar.indexCast v2059
  let c22_1492 : Index := 22#32
  ![0, v2386.toNat, 22]
def k0_off847 (i : grid0.Coords) : Fin 3 → Nat :=
  let c0_1493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2388 : Index := Scalar.indexCast v2059
  let c23_1494 : Index := 23#32
  ![0, v2388.toNat, 23]
def k0_off848 (v2383 : BitVec 32) : Fin 3 → Nat :=
  let c0_1495 : Index := 0#32
  let v2390 : Index := Scalar.indexCast v2383
  let c0_1496 : Index := 0#32
  ![0, v2390.toNat, 0]

def k0_off849 (i : grid0.Coords) : Fin 3 → Nat :=
  let c0_1497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2393 : Index := Scalar.indexCast v2059
  let c20_1498 : Index := 20#32
  ![0, v2393.toNat, 20]
def k0_off850 (v2385 : BitVec 32) : Fin 3 → Nat :=
  let c0_1501 : Index := 0#32
  let v2400 : Index := Scalar.indexCast v2385
  let c0_1502 : Index := 0#32
  ![0, v2400.toNat, 0]

def k0_off851 (i : grid0.Coords) : Fin 3 → Nat :=
  let c0_1503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2403 : Index := Scalar.indexCast v2059
  let c21_1504 : Index := 21#32
  ![0, v2403.toNat, 21]
def k0_off852 (v2387 : BitVec 32) : Fin 3 → Nat :=
  let c0_1507 : Index := 0#32
  let v2410 : Index := Scalar.indexCast v2387
  let c0_1508 : Index := 0#32
  ![0, v2410.toNat, 0]

def k0_off853 (i : grid0.Coords) : Fin 3 → Nat :=
  let c0_1509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2413 : Index := Scalar.indexCast v2059
  let c22_1510 : Index := 22#32
  ![0, v2413.toNat, 22]
def k0_off854 (v2389 : BitVec 32) : Fin 3 → Nat :=
  let c0_1513 : Index := 0#32
  let v2420 : Index := Scalar.indexCast v2389
  let c0_1514 : Index := 0#32
  ![0, v2420.toNat, 0]

def k0_chk536 (v2389 : BitVec 32) : Prop :=
  (∀ a, (k0_off854 v2389) a + S1x1x1024.size a ≤ S1x2048x1024.size a)
theorem k0_off854_inb : ∀ (v2389 : BitVec 32) (k0_hw536 : k0_chk536 v2389), ∀ a, (k0_off854 v2389) a + S1x1x1024.size a ≤ S1x2048x1024.size a := fun v2389 k0_hw536 => k0_hw536

def k0_off855 (i : grid0.Coords) : Fin 3 → Nat :=
  let c0_1515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2423 : Index := Scalar.indexCast v2059
  let c23_1516 : Index := 23#32
  ![0, v2423.toNat, 23]
def k0_off856 (v2383 : BitVec 32) : Fin 3 → Nat :=
  let c0_1519 : Index := 0#32
  let v2430 : Index := Scalar.indexCast v2383
  let c0_1520 : Index := 0#32
  ![0, v2430.toNat, 0]

def k0_chk533 (v2383 : BitVec 32) : Prop :=
  (∀ a, (k0_off848 v2383) a + S1x1x1024.size a ≤ S1x2048x1024.size a) ∧
  (∀ a, (k0_off856 v2383) a + S1x1x1024.size a ≤ S1x2048x1024.size a)
theorem k0_off848_inb : ∀ (v2383 : BitVec 32) (k0_hw533 : k0_chk533 v2383), ∀ a, (k0_off848 v2383) a + S1x1x1024.size a ≤ S1x2048x1024.size a := fun v2383 k0_hw533 => k0_hw533.1
theorem k0_off856_inb : ∀ (v2383 : BitVec 32) (k0_hw533 : k0_chk533 v2383), ∀ a, (k0_off856 v2383) a + S1x1x1024.size a ≤ S1x2048x1024.size a := fun v2383 k0_hw533 => k0_hw533.2

def k0_off857 (v2385 : BitVec 32) : Fin 3 → Nat :=
  let c0_1521 : Index := 0#32
  let v2434 : Index := Scalar.indexCast v2385
  let c0_1522 : Index := 0#32
  ![0, v2434.toNat, 0]

def k0_chk534 (v2385 : BitVec 32) : Prop :=
  (∀ a, (k0_off850 v2385) a + S1x1x1024.size a ≤ S1x2048x1024.size a) ∧
  (∀ a, (k0_off857 v2385) a + S1x1x1024.size a ≤ S1x2048x1024.size a)
theorem k0_off850_inb : ∀ (v2385 : BitVec 32) (k0_hw534 : k0_chk534 v2385), ∀ a, (k0_off850 v2385) a + S1x1x1024.size a ≤ S1x2048x1024.size a := fun v2385 k0_hw534 => k0_hw534.1
theorem k0_off857_inb : ∀ (v2385 : BitVec 32) (k0_hw534 : k0_chk534 v2385), ∀ a, (k0_off857 v2385) a + S1x1x1024.size a ≤ S1x2048x1024.size a := fun v2385 k0_hw534 => k0_hw534.2

def k0_off858 (v2387 : BitVec 32) : Fin 3 → Nat :=
  let c0_1523 : Index := 0#32
  let v2438 : Index := Scalar.indexCast v2387
  let c0_1524 : Index := 0#32
  ![0, v2438.toNat, 0]

def k0_chk535 (v2387 : BitVec 32) : Prop :=
  (∀ a, (k0_off852 v2387) a + S1x1x1024.size a ≤ S1x2048x1024.size a) ∧
  (∀ a, (k0_off858 v2387) a + S1x1x1024.size a ≤ S1x2048x1024.size a)
theorem k0_off852_inb : ∀ (v2387 : BitVec 32) (k0_hw535 : k0_chk535 v2387), ∀ a, (k0_off852 v2387) a + S1x1x1024.size a ≤ S1x2048x1024.size a := fun v2387 k0_hw535 => k0_hw535.1
theorem k0_off858_inb : ∀ (v2387 : BitVec 32) (k0_hw535 : k0_chk535 v2387), ∀ a, (k0_off858 v2387) a + S1x1x1024.size a ≤ S1x2048x1024.size a := fun v2387 k0_hw535 => k0_hw535.2

def k0_off859 (i : grid0.Coords) : Fin 3 → Nat :=
  let c0_1527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2446 : Index := Scalar.indexCast v2059
  let c24_1528 : Index := 24#32
  ![0, v2446.toNat, 24]
def k0_off860 (i : grid0.Coords) : Fin 3 → Nat :=
  let c0_1529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2448 : Index := Scalar.indexCast v2059
  let c25_1530 : Index := 25#32
  ![0, v2448.toNat, 25]
def k0_off861 (i : grid0.Coords) : Fin 3 → Nat :=
  let c0_1531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2450 : Index := Scalar.indexCast v2059
  let c26_1532 : Index := 26#32
  ![0, v2450.toNat, 26]
def k0_off862 (i : grid0.Coords) : Fin 3 → Nat :=
  let c0_1533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2452 : Index := Scalar.indexCast v2059
  let c27_1534 : Index := 27#32
  ![0, v2452.toNat, 27]
def k0_off863 (v2447 : BitVec 32) : Fin 3 → Nat :=
  let c0_1535 : Index := 0#32
  let v2454 : Index := Scalar.indexCast v2447
  let c0_1536 : Index := 0#32
  ![0, v2454.toNat, 0]

def k0_off864 (i : grid0.Coords) : Fin 3 → Nat :=
  let c0_1537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2457 : Index := Scalar.indexCast v2059
  let c24_1538 : Index := 24#32
  ![0, v2457.toNat, 24]
def k0_off865 (v2449 : BitVec 32) : Fin 3 → Nat :=
  let c0_1541 : Index := 0#32
  let v2464 : Index := Scalar.indexCast v2449
  let c0_1542 : Index := 0#32
  ![0, v2464.toNat, 0]

def k0_off866 (i : grid0.Coords) : Fin 3 → Nat :=
  let c0_1543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2467 : Index := Scalar.indexCast v2059
  let c25_1544 : Index := 25#32
  ![0, v2467.toNat, 25]
def k0_off867 (v2451 : BitVec 32) : Fin 3 → Nat :=
  let c0_1547 : Index := 0#32
  let v2474 : Index := Scalar.indexCast v2451
  let c0_1548 : Index := 0#32
  ![0, v2474.toNat, 0]

def k0_off868 (i : grid0.Coords) : Fin 3 → Nat :=
  let c0_1549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2477 : Index := Scalar.indexCast v2059
  let c26_1550 : Index := 26#32
  ![0, v2477.toNat, 26]
def k0_off869 (v2453 : BitVec 32) : Fin 3 → Nat :=
  let c0_1553 : Index := 0#32
  let v2484 : Index := Scalar.indexCast v2453
  let c0_1554 : Index := 0#32
  ![0, v2484.toNat, 0]

def k0_chk540 (v2453 : BitVec 32) : Prop :=
  (∀ a, (k0_off869 v2453) a + S1x1x1024.size a ≤ S1x2048x1024.size a)
theorem k0_off869_inb : ∀ (v2453 : BitVec 32) (k0_hw540 : k0_chk540 v2453), ∀ a, (k0_off869 v2453) a + S1x1x1024.size a ≤ S1x2048x1024.size a := fun v2453 k0_hw540 => k0_hw540

def k0_off870 (i : grid0.Coords) : Fin 3 → Nat :=
  let c0_1555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2487 : Index := Scalar.indexCast v2059
  let c27_1556 : Index := 27#32
  ![0, v2487.toNat, 27]
def k0_off871 (v2447 : BitVec 32) : Fin 3 → Nat :=
  let c0_1559 : Index := 0#32
  let v2494 : Index := Scalar.indexCast v2447
  let c0_1560 : Index := 0#32
  ![0, v2494.toNat, 0]

def k0_chk537 (v2447 : BitVec 32) : Prop :=
  (∀ a, (k0_off863 v2447) a + S1x1x1024.size a ≤ S1x2048x1024.size a) ∧
  (∀ a, (k0_off871 v2447) a + S1x1x1024.size a ≤ S1x2048x1024.size a)
theorem k0_off863_inb : ∀ (v2447 : BitVec 32) (k0_hw537 : k0_chk537 v2447), ∀ a, (k0_off863 v2447) a + S1x1x1024.size a ≤ S1x2048x1024.size a := fun v2447 k0_hw537 => k0_hw537.1
theorem k0_off871_inb : ∀ (v2447 : BitVec 32) (k0_hw537 : k0_chk537 v2447), ∀ a, (k0_off871 v2447) a + S1x1x1024.size a ≤ S1x2048x1024.size a := fun v2447 k0_hw537 => k0_hw537.2

def k0_off872 (v2449 : BitVec 32) : Fin 3 → Nat :=
  let c0_1561 : Index := 0#32
  let v2498 : Index := Scalar.indexCast v2449
  let c0_1562 : Index := 0#32
  ![0, v2498.toNat, 0]

def k0_chk538 (v2449 : BitVec 32) : Prop :=
  (∀ a, (k0_off865 v2449) a + S1x1x1024.size a ≤ S1x2048x1024.size a) ∧
  (∀ a, (k0_off872 v2449) a + S1x1x1024.size a ≤ S1x2048x1024.size a)
theorem k0_off865_inb : ∀ (v2449 : BitVec 32) (k0_hw538 : k0_chk538 v2449), ∀ a, (k0_off865 v2449) a + S1x1x1024.size a ≤ S1x2048x1024.size a := fun v2449 k0_hw538 => k0_hw538.1
theorem k0_off872_inb : ∀ (v2449 : BitVec 32) (k0_hw538 : k0_chk538 v2449), ∀ a, (k0_off872 v2449) a + S1x1x1024.size a ≤ S1x2048x1024.size a := fun v2449 k0_hw538 => k0_hw538.2

def k0_off873 (v2451 : BitVec 32) : Fin 3 → Nat :=
  let c0_1563 : Index := 0#32
  let v2502 : Index := Scalar.indexCast v2451
  let c0_1564 : Index := 0#32
  ![0, v2502.toNat, 0]

def k0_chk539 (v2451 : BitVec 32) : Prop :=
  (∀ a, (k0_off867 v2451) a + S1x1x1024.size a ≤ S1x2048x1024.size a) ∧
  (∀ a, (k0_off873 v2451) a + S1x1x1024.size a ≤ S1x2048x1024.size a)
theorem k0_off867_inb : ∀ (v2451 : BitVec 32) (k0_hw539 : k0_chk539 v2451), ∀ a, (k0_off867 v2451) a + S1x1x1024.size a ≤ S1x2048x1024.size a := fun v2451 k0_hw539 => k0_hw539.1
theorem k0_off873_inb : ∀ (v2451 : BitVec 32) (k0_hw539 : k0_chk539 v2451), ∀ a, (k0_off873 v2451) a + S1x1x1024.size a ≤ S1x2048x1024.size a := fun v2451 k0_hw539 => k0_hw539.2

def k0_off874 (i : grid0.Coords) : Fin 3 → Nat :=
  let c0_1567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2510 : Index := Scalar.indexCast v2059
  let c28_1568 : Index := 28#32
  ![0, v2510.toNat, 28]
def k0_off875 (i : grid0.Coords) : Fin 3 → Nat :=
  let c0_1569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2512 : Index := Scalar.indexCast v2059
  let c29_1570 : Index := 29#32
  ![0, v2512.toNat, 29]
def k0_off876 (i : grid0.Coords) : Fin 3 → Nat :=
  let c0_1571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2514 : Index := Scalar.indexCast v2059
  let c30_1572 : Index := 30#32
  ![0, v2514.toNat, 30]
def k0_off877 (i : grid0.Coords) : Fin 3 → Nat :=
  let c0_1573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2516 : Index := Scalar.indexCast v2059
  let c31_1574 : Index := 31#32
  ![0, v2516.toNat, 31]
def k0_off878 (v2511 : BitVec 32) : Fin 3 → Nat :=
  let c0_1575 : Index := 0#32
  let v2518 : Index := Scalar.indexCast v2511
  let c0_1576 : Index := 0#32
  ![0, v2518.toNat, 0]

def k0_off879 (i : grid0.Coords) : Fin 3 → Nat :=
  let c0_1577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2521 : Index := Scalar.indexCast v2059
  let c28_1578 : Index := 28#32
  ![0, v2521.toNat, 28]
def k0_off880 (v2513 : BitVec 32) : Fin 3 → Nat :=
  let c0_1581 : Index := 0#32
  let v2528 : Index := Scalar.indexCast v2513
  let c0_1582 : Index := 0#32
  ![0, v2528.toNat, 0]

def k0_off881 (i : grid0.Coords) : Fin 3 → Nat :=
  let c0_1583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2531 : Index := Scalar.indexCast v2059
  let c29_1584 : Index := 29#32
  ![0, v2531.toNat, 29]
def k0_off882 (v2515 : BitVec 32) : Fin 3 → Nat :=
  let c0_1587 : Index := 0#32
  let v2538 : Index := Scalar.indexCast v2515
  let c0_1588 : Index := 0#32
  ![0, v2538.toNat, 0]

def k0_off883 (i : grid0.Coords) : Fin 3 → Nat :=
  let c0_1589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2541 : Index := Scalar.indexCast v2059
  let c30_1590 : Index := 30#32
  ![0, v2541.toNat, 30]
def k0_off884 (v2517 : BitVec 32) : Fin 3 → Nat :=
  let c0_1593 : Index := 0#32
  let v2548 : Index := Scalar.indexCast v2517
  let c0_1594 : Index := 0#32
  ![0, v2548.toNat, 0]

def k0_chk544 (v2517 : BitVec 32) : Prop :=
  (∀ a, (k0_off884 v2517) a + S1x1x1024.size a ≤ S1x2048x1024.size a)
theorem k0_off884_inb : ∀ (v2517 : BitVec 32) (k0_hw544 : k0_chk544 v2517), ∀ a, (k0_off884 v2517) a + S1x1x1024.size a ≤ S1x2048x1024.size a := fun v2517 k0_hw544 => k0_hw544

def k0_off885 (i : grid0.Coords) : Fin 3 → Nat :=
  let c0_1595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2551 : Index := Scalar.indexCast v2059
  let c31_1596 : Index := 31#32
  ![0, v2551.toNat, 31]
def k0_off886 (v2511 : BitVec 32) : Fin 3 → Nat :=
  let c0_1599 : Index := 0#32
  let v2558 : Index := Scalar.indexCast v2511
  let c0_1600 : Index := 0#32
  ![0, v2558.toNat, 0]

def k0_chk541 (v2511 : BitVec 32) : Prop :=
  (∀ a, (k0_off878 v2511) a + S1x1x1024.size a ≤ S1x2048x1024.size a) ∧
  (∀ a, (k0_off886 v2511) a + S1x1x1024.size a ≤ S1x2048x1024.size a)
theorem k0_off878_inb : ∀ (v2511 : BitVec 32) (k0_hw541 : k0_chk541 v2511), ∀ a, (k0_off878 v2511) a + S1x1x1024.size a ≤ S1x2048x1024.size a := fun v2511 k0_hw541 => k0_hw541.1
theorem k0_off886_inb : ∀ (v2511 : BitVec 32) (k0_hw541 : k0_chk541 v2511), ∀ a, (k0_off886 v2511) a + S1x1x1024.size a ≤ S1x2048x1024.size a := fun v2511 k0_hw541 => k0_hw541.2

def k0_off887 (v2513 : BitVec 32) : Fin 3 → Nat :=
  let c0_1601 : Index := 0#32
  let v2562 : Index := Scalar.indexCast v2513
  let c0_1602 : Index := 0#32
  ![0, v2562.toNat, 0]

def k0_chk542 (v2513 : BitVec 32) : Prop :=
  (∀ a, (k0_off880 v2513) a + S1x1x1024.size a ≤ S1x2048x1024.size a) ∧
  (∀ a, (k0_off887 v2513) a + S1x1x1024.size a ≤ S1x2048x1024.size a)
theorem k0_off880_inb : ∀ (v2513 : BitVec 32) (k0_hw542 : k0_chk542 v2513), ∀ a, (k0_off880 v2513) a + S1x1x1024.size a ≤ S1x2048x1024.size a := fun v2513 k0_hw542 => k0_hw542.1
theorem k0_off887_inb : ∀ (v2513 : BitVec 32) (k0_hw542 : k0_chk542 v2513), ∀ a, (k0_off887 v2513) a + S1x1x1024.size a ≤ S1x2048x1024.size a := fun v2513 k0_hw542 => k0_hw542.2

def k0_off888 (v2515 : BitVec 32) : Fin 3 → Nat :=
  let c0_1603 : Index := 0#32
  let v2566 : Index := Scalar.indexCast v2515
  let c0_1604 : Index := 0#32
  ![0, v2566.toNat, 0]

def k0_chk543 (v2515 : BitVec 32) : Prop :=
  (∀ a, (k0_off882 v2515) a + S1x1x1024.size a ≤ S1x2048x1024.size a) ∧
  (∀ a, (k0_off888 v2515) a + S1x1x1024.size a ≤ S1x2048x1024.size a)
theorem k0_off882_inb : ∀ (v2515 : BitVec 32) (k0_hw543 : k0_chk543 v2515), ∀ a, (k0_off882 v2515) a + S1x1x1024.size a ≤ S1x2048x1024.size a := fun v2515 k0_hw543 => k0_hw543.1
theorem k0_off888_inb : ∀ (v2515 : BitVec 32) (k0_hw543 : k0_chk543 v2515), ∀ a, (k0_off888 v2515) a + S1x1x1024.size a ≤ S1x2048x1024.size a := fun v2515 k0_hw543 => k0_hw543.2

def k0_off889 (i : grid0.Coords) : Fin 3 → Nat :=
  let c0_1607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2574 : Index := Scalar.indexCast v2059
  let c32_1608 : Index := 32#32
  ![0, v2574.toNat, 32]
def k0_off890 (i : grid0.Coords) : Fin 3 → Nat :=
  let c0_1609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2576 : Index := Scalar.indexCast v2059
  let c33_1610 : Index := 33#32
  ![0, v2576.toNat, 33]
def k0_off891 (i : grid0.Coords) : Fin 3 → Nat :=
  let c0_1611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2578 : Index := Scalar.indexCast v2059
  let c34_1612 : Index := 34#32
  ![0, v2578.toNat, 34]
def k0_off892 (i : grid0.Coords) : Fin 3 → Nat :=
  let c0_1613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2580 : Index := Scalar.indexCast v2059
  let c35_1614 : Index := 35#32
  ![0, v2580.toNat, 35]
def k0_off893 (v2575 : BitVec 32) : Fin 3 → Nat :=
  let c0_1615 : Index := 0#32
  let v2582 : Index := Scalar.indexCast v2575
  let c0_1616 : Index := 0#32
  ![0, v2582.toNat, 0]

def k0_off894 (i : grid0.Coords) : Fin 3 → Nat :=
  let c0_1617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2585 : Index := Scalar.indexCast v2059
  let c32_1618 : Index := 32#32
  ![0, v2585.toNat, 32]
def k0_off895 (v2577 : BitVec 32) : Fin 3 → Nat :=
  let c0_1621 : Index := 0#32
  let v2592 : Index := Scalar.indexCast v2577
  let c0_1622 : Index := 0#32
  ![0, v2592.toNat, 0]

def k0_off896 (i : grid0.Coords) : Fin 3 → Nat :=
  let c0_1623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2595 : Index := Scalar.indexCast v2059
  let c33_1624 : Index := 33#32
  ![0, v2595.toNat, 33]
def k0_off897 (v2579 : BitVec 32) : Fin 3 → Nat :=
  let c0_1627 : Index := 0#32
  let v2602 : Index := Scalar.indexCast v2579
  let c0_1628 : Index := 0#32
  ![0, v2602.toNat, 0]

def k0_off898 (i : grid0.Coords) : Fin 3 → Nat :=
  let c0_1629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2605 : Index := Scalar.indexCast v2059
  let c34_1630 : Index := 34#32
  ![0, v2605.toNat, 34]
def k0_off899 (v2581 : BitVec 32) : Fin 3 → Nat :=
  let c0_1633 : Index := 0#32
  let v2612 : Index := Scalar.indexCast v2581
  let c0_1634 : Index := 0#32
  ![0, v2612.toNat, 0]

def k0_chk548 (v2581 : BitVec 32) : Prop :=
  (∀ a, (k0_off899 v2581) a + S1x1x1024.size a ≤ S1x2048x1024.size a)
theorem k0_off899_inb : ∀ (v2581 : BitVec 32) (k0_hw548 : k0_chk548 v2581), ∀ a, (k0_off899 v2581) a + S1x1x1024.size a ≤ S1x2048x1024.size a := fun v2581 k0_hw548 => k0_hw548

def k0_off900 (i : grid0.Coords) : Fin 3 → Nat :=
  let c0_1635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2615 : Index := Scalar.indexCast v2059
  let c35_1636 : Index := 35#32
  ![0, v2615.toNat, 35]
def k0_off901 (v2575 : BitVec 32) : Fin 3 → Nat :=
  let c0_1639 : Index := 0#32
  let v2622 : Index := Scalar.indexCast v2575
  let c0_1640 : Index := 0#32
  ![0, v2622.toNat, 0]

def k0_chk545 (v2575 : BitVec 32) : Prop :=
  (∀ a, (k0_off893 v2575) a + S1x1x1024.size a ≤ S1x2048x1024.size a) ∧
  (∀ a, (k0_off901 v2575) a + S1x1x1024.size a ≤ S1x2048x1024.size a)
theorem k0_off893_inb : ∀ (v2575 : BitVec 32) (k0_hw545 : k0_chk545 v2575), ∀ a, (k0_off893 v2575) a + S1x1x1024.size a ≤ S1x2048x1024.size a := fun v2575 k0_hw545 => k0_hw545.1
theorem k0_off901_inb : ∀ (v2575 : BitVec 32) (k0_hw545 : k0_chk545 v2575), ∀ a, (k0_off901 v2575) a + S1x1x1024.size a ≤ S1x2048x1024.size a := fun v2575 k0_hw545 => k0_hw545.2

def k0_off902 (v2577 : BitVec 32) : Fin 3 → Nat :=
  let c0_1641 : Index := 0#32
  let v2626 : Index := Scalar.indexCast v2577
  let c0_1642 : Index := 0#32
  ![0, v2626.toNat, 0]

def k0_chk546 (v2577 : BitVec 32) : Prop :=
  (∀ a, (k0_off895 v2577) a + S1x1x1024.size a ≤ S1x2048x1024.size a) ∧
  (∀ a, (k0_off902 v2577) a + S1x1x1024.size a ≤ S1x2048x1024.size a)
theorem k0_off895_inb : ∀ (v2577 : BitVec 32) (k0_hw546 : k0_chk546 v2577), ∀ a, (k0_off895 v2577) a + S1x1x1024.size a ≤ S1x2048x1024.size a := fun v2577 k0_hw546 => k0_hw546.1
theorem k0_off902_inb : ∀ (v2577 : BitVec 32) (k0_hw546 : k0_chk546 v2577), ∀ a, (k0_off902 v2577) a + S1x1x1024.size a ≤ S1x2048x1024.size a := fun v2577 k0_hw546 => k0_hw546.2

def k0_off903 (v2579 : BitVec 32) : Fin 3 → Nat :=
  let c0_1643 : Index := 0#32
  let v2630 : Index := Scalar.indexCast v2579
  let c0_1644 : Index := 0#32
  ![0, v2630.toNat, 0]

def k0_chk547 (v2579 : BitVec 32) : Prop :=
  (∀ a, (k0_off897 v2579) a + S1x1x1024.size a ≤ S1x2048x1024.size a) ∧
  (∀ a, (k0_off903 v2579) a + S1x1x1024.size a ≤ S1x2048x1024.size a)
theorem k0_off897_inb : ∀ (v2579 : BitVec 32) (k0_hw547 : k0_chk547 v2579), ∀ a, (k0_off897 v2579) a + S1x1x1024.size a ≤ S1x2048x1024.size a := fun v2579 k0_hw547 => k0_hw547.1
theorem k0_off903_inb : ∀ (v2579 : BitVec 32) (k0_hw547 : k0_chk547 v2579), ∀ a, (k0_off903 v2579) a + S1x1x1024.size a ≤ S1x2048x1024.size a := fun v2579 k0_hw547 => k0_hw547.2

def k0_off904 (i : grid0.Coords) : Fin 3 → Nat :=
  let c0_1647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2638 : Index := Scalar.indexCast v2059
  let c36_1648 : Index := 36#32
  ![0, v2638.toNat, 36]
def k0_off905 (i : grid0.Coords) : Fin 3 → Nat :=
  let c0_1649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2640 : Index := Scalar.indexCast v2059
  let c37_1650 : Index := 37#32
  ![0, v2640.toNat, 37]
def k0_off906 (i : grid0.Coords) : Fin 3 → Nat :=
  let c0_1651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2642 : Index := Scalar.indexCast v2059
  let c38_1652 : Index := 38#32
  ![0, v2642.toNat, 38]
def k0_off907 (i : grid0.Coords) : Fin 3 → Nat :=
  let c0_1653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2644 : Index := Scalar.indexCast v2059
  let c39_1654 : Index := 39#32
  ![0, v2644.toNat, 39]
def k0_off908 (v2639 : BitVec 32) : Fin 3 → Nat :=
  let c0_1655 : Index := 0#32
  let v2646 : Index := Scalar.indexCast v2639
  let c0_1656 : Index := 0#32
  ![0, v2646.toNat, 0]

def k0_off909 (i : grid0.Coords) : Fin 3 → Nat :=
  let c0_1657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2649 : Index := Scalar.indexCast v2059
  let c36_1658 : Index := 36#32
  ![0, v2649.toNat, 36]
def k0_off910 (v2641 : BitVec 32) : Fin 3 → Nat :=
  let c0_1661 : Index := 0#32
  let v2656 : Index := Scalar.indexCast v2641
  let c0_1662 : Index := 0#32
  ![0, v2656.toNat, 0]

def k0_off911 (i : grid0.Coords) : Fin 3 → Nat :=
  let c0_1663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2659 : Index := Scalar.indexCast v2059
  let c37_1664 : Index := 37#32
  ![0, v2659.toNat, 37]
def k0_off912 (v2643 : BitVec 32) : Fin 3 → Nat :=
  let c0_1667 : Index := 0#32
  let v2666 : Index := Scalar.indexCast v2643
  let c0_1668 : Index := 0#32
  ![0, v2666.toNat, 0]

def k0_off913 (i : grid0.Coords) : Fin 3 → Nat :=
  let c0_1669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2669 : Index := Scalar.indexCast v2059
  let c38_1670 : Index := 38#32
  ![0, v2669.toNat, 38]
def k0_off914 (v2645 : BitVec 32) : Fin 3 → Nat :=
  let c0_1673 : Index := 0#32
  let v2676 : Index := Scalar.indexCast v2645
  let c0_1674 : Index := 0#32
  ![0, v2676.toNat, 0]

def k0_chk552 (v2645 : BitVec 32) : Prop :=
  (∀ a, (k0_off914 v2645) a + S1x1x1024.size a ≤ S1x2048x1024.size a)
theorem k0_off914_inb : ∀ (v2645 : BitVec 32) (k0_hw552 : k0_chk552 v2645), ∀ a, (k0_off914 v2645) a + S1x1x1024.size a ≤ S1x2048x1024.size a := fun v2645 k0_hw552 => k0_hw552

def k0_off915 (i : grid0.Coords) : Fin 3 → Nat :=
  let c0_1675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2679 : Index := Scalar.indexCast v2059
  let c39_1676 : Index := 39#32
  ![0, v2679.toNat, 39]
def k0_off916 (v2639 : BitVec 32) : Fin 3 → Nat :=
  let c0_1679 : Index := 0#32
  let v2686 : Index := Scalar.indexCast v2639
  let c0_1680 : Index := 0#32
  ![0, v2686.toNat, 0]

def k0_chk549 (v2639 : BitVec 32) : Prop :=
  (∀ a, (k0_off908 v2639) a + S1x1x1024.size a ≤ S1x2048x1024.size a) ∧
  (∀ a, (k0_off916 v2639) a + S1x1x1024.size a ≤ S1x2048x1024.size a)
theorem k0_off908_inb : ∀ (v2639 : BitVec 32) (k0_hw549 : k0_chk549 v2639), ∀ a, (k0_off908 v2639) a + S1x1x1024.size a ≤ S1x2048x1024.size a := fun v2639 k0_hw549 => k0_hw549.1
theorem k0_off916_inb : ∀ (v2639 : BitVec 32) (k0_hw549 : k0_chk549 v2639), ∀ a, (k0_off916 v2639) a + S1x1x1024.size a ≤ S1x2048x1024.size a := fun v2639 k0_hw549 => k0_hw549.2

def k0_off917 (v2641 : BitVec 32) : Fin 3 → Nat :=
  let c0_1681 : Index := 0#32
  let v2690 : Index := Scalar.indexCast v2641
  let c0_1682 : Index := 0#32
  ![0, v2690.toNat, 0]

def k0_chk550 (v2641 : BitVec 32) : Prop :=
  (∀ a, (k0_off910 v2641) a + S1x1x1024.size a ≤ S1x2048x1024.size a) ∧
  (∀ a, (k0_off917 v2641) a + S1x1x1024.size a ≤ S1x2048x1024.size a)
theorem k0_off910_inb : ∀ (v2641 : BitVec 32) (k0_hw550 : k0_chk550 v2641), ∀ a, (k0_off910 v2641) a + S1x1x1024.size a ≤ S1x2048x1024.size a := fun v2641 k0_hw550 => k0_hw550.1
theorem k0_off917_inb : ∀ (v2641 : BitVec 32) (k0_hw550 : k0_chk550 v2641), ∀ a, (k0_off917 v2641) a + S1x1x1024.size a ≤ S1x2048x1024.size a := fun v2641 k0_hw550 => k0_hw550.2

def k0_off918 (v2643 : BitVec 32) : Fin 3 → Nat :=
  let c0_1683 : Index := 0#32
  let v2694 : Index := Scalar.indexCast v2643
  let c0_1684 : Index := 0#32
  ![0, v2694.toNat, 0]

def k0_chk551 (v2643 : BitVec 32) : Prop :=
  (∀ a, (k0_off912 v2643) a + S1x1x1024.size a ≤ S1x2048x1024.size a) ∧
  (∀ a, (k0_off918 v2643) a + S1x1x1024.size a ≤ S1x2048x1024.size a)
theorem k0_off912_inb : ∀ (v2643 : BitVec 32) (k0_hw551 : k0_chk551 v2643), ∀ a, (k0_off912 v2643) a + S1x1x1024.size a ≤ S1x2048x1024.size a := fun v2643 k0_hw551 => k0_hw551.1
theorem k0_off918_inb : ∀ (v2643 : BitVec 32) (k0_hw551 : k0_chk551 v2643), ∀ a, (k0_off918 v2643) a + S1x1x1024.size a ≤ S1x2048x1024.size a := fun v2643 k0_hw551 => k0_hw551.2

def k0_off919 (i : grid0.Coords) : Fin 3 → Nat :=
  let c0_1687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2702 : Index := Scalar.indexCast v2059
  let c40_1688 : Index := 40#32
  ![0, v2702.toNat, 40]
def k0_off920 (i : grid0.Coords) : Fin 3 → Nat :=
  let c0_1689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2704 : Index := Scalar.indexCast v2059
  let c41_1690 : Index := 41#32
  ![0, v2704.toNat, 41]
def k0_off921 (i : grid0.Coords) : Fin 3 → Nat :=
  let c0_1691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2706 : Index := Scalar.indexCast v2059
  let c42_1692 : Index := 42#32
  ![0, v2706.toNat, 42]
def k0_off922 (i : grid0.Coords) : Fin 3 → Nat :=
  let c0_1693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2708 : Index := Scalar.indexCast v2059
  let c43_1694 : Index := 43#32
  ![0, v2708.toNat, 43]
def k0_off923 (v2703 : BitVec 32) : Fin 3 → Nat :=
  let c0_1695 : Index := 0#32
  let v2710 : Index := Scalar.indexCast v2703
  let c0_1696 : Index := 0#32
  ![0, v2710.toNat, 0]

def k0_off924 (i : grid0.Coords) : Fin 3 → Nat :=
  let c0_1697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2713 : Index := Scalar.indexCast v2059
  let c40_1698 : Index := 40#32
  ![0, v2713.toNat, 40]
def k0_off925 (v2705 : BitVec 32) : Fin 3 → Nat :=
  let c0_1701 : Index := 0#32
  let v2720 : Index := Scalar.indexCast v2705
  let c0_1702 : Index := 0#32
  ![0, v2720.toNat, 0]

def k0_off926 (i : grid0.Coords) : Fin 3 → Nat :=
  let c0_1703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2723 : Index := Scalar.indexCast v2059
  let c41_1704 : Index := 41#32
  ![0, v2723.toNat, 41]
def k0_off927 (v2707 : BitVec 32) : Fin 3 → Nat :=
  let c0_1707 : Index := 0#32
  let v2730 : Index := Scalar.indexCast v2707
  let c0_1708 : Index := 0#32
  ![0, v2730.toNat, 0]

def k0_off928 (i : grid0.Coords) : Fin 3 → Nat :=
  let c0_1709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2733 : Index := Scalar.indexCast v2059
  let c42_1710 : Index := 42#32
  ![0, v2733.toNat, 42]
def k0_off929 (v2709 : BitVec 32) : Fin 3 → Nat :=
  let c0_1713 : Index := 0#32
  let v2740 : Index := Scalar.indexCast v2709
  let c0_1714 : Index := 0#32
  ![0, v2740.toNat, 0]

def k0_chk556 (v2709 : BitVec 32) : Prop :=
  (∀ a, (k0_off929 v2709) a + S1x1x1024.size a ≤ S1x2048x1024.size a)
theorem k0_off929_inb : ∀ (v2709 : BitVec 32) (k0_hw556 : k0_chk556 v2709), ∀ a, (k0_off929 v2709) a + S1x1x1024.size a ≤ S1x2048x1024.size a := fun v2709 k0_hw556 => k0_hw556

def k0_off930 (i : grid0.Coords) : Fin 3 → Nat :=
  let c0_1715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2743 : Index := Scalar.indexCast v2059
  let c43_1716 : Index := 43#32
  ![0, v2743.toNat, 43]
def k0_off931 (v2703 : BitVec 32) : Fin 3 → Nat :=
  let c0_1719 : Index := 0#32
  let v2750 : Index := Scalar.indexCast v2703
  let c0_1720 : Index := 0#32
  ![0, v2750.toNat, 0]

def k0_chk553 (v2703 : BitVec 32) : Prop :=
  (∀ a, (k0_off923 v2703) a + S1x1x1024.size a ≤ S1x2048x1024.size a) ∧
  (∀ a, (k0_off931 v2703) a + S1x1x1024.size a ≤ S1x2048x1024.size a)
theorem k0_off923_inb : ∀ (v2703 : BitVec 32) (k0_hw553 : k0_chk553 v2703), ∀ a, (k0_off923 v2703) a + S1x1x1024.size a ≤ S1x2048x1024.size a := fun v2703 k0_hw553 => k0_hw553.1
theorem k0_off931_inb : ∀ (v2703 : BitVec 32) (k0_hw553 : k0_chk553 v2703), ∀ a, (k0_off931 v2703) a + S1x1x1024.size a ≤ S1x2048x1024.size a := fun v2703 k0_hw553 => k0_hw553.2

def k0_off932 (v2705 : BitVec 32) : Fin 3 → Nat :=
  let c0_1721 : Index := 0#32
  let v2754 : Index := Scalar.indexCast v2705
  let c0_1722 : Index := 0#32
  ![0, v2754.toNat, 0]

def k0_chk554 (v2705 : BitVec 32) : Prop :=
  (∀ a, (k0_off925 v2705) a + S1x1x1024.size a ≤ S1x2048x1024.size a) ∧
  (∀ a, (k0_off932 v2705) a + S1x1x1024.size a ≤ S1x2048x1024.size a)
theorem k0_off925_inb : ∀ (v2705 : BitVec 32) (k0_hw554 : k0_chk554 v2705), ∀ a, (k0_off925 v2705) a + S1x1x1024.size a ≤ S1x2048x1024.size a := fun v2705 k0_hw554 => k0_hw554.1
theorem k0_off932_inb : ∀ (v2705 : BitVec 32) (k0_hw554 : k0_chk554 v2705), ∀ a, (k0_off932 v2705) a + S1x1x1024.size a ≤ S1x2048x1024.size a := fun v2705 k0_hw554 => k0_hw554.2

def k0_off933 (v2707 : BitVec 32) : Fin 3 → Nat :=
  let c0_1723 : Index := 0#32
  let v2758 : Index := Scalar.indexCast v2707
  let c0_1724 : Index := 0#32
  ![0, v2758.toNat, 0]

def k0_chk555 (v2707 : BitVec 32) : Prop :=
  (∀ a, (k0_off927 v2707) a + S1x1x1024.size a ≤ S1x2048x1024.size a) ∧
  (∀ a, (k0_off933 v2707) a + S1x1x1024.size a ≤ S1x2048x1024.size a)
theorem k0_off927_inb : ∀ (v2707 : BitVec 32) (k0_hw555 : k0_chk555 v2707), ∀ a, (k0_off927 v2707) a + S1x1x1024.size a ≤ S1x2048x1024.size a := fun v2707 k0_hw555 => k0_hw555.1
theorem k0_off933_inb : ∀ (v2707 : BitVec 32) (k0_hw555 : k0_chk555 v2707), ∀ a, (k0_off933 v2707) a + S1x1x1024.size a ≤ S1x2048x1024.size a := fun v2707 k0_hw555 => k0_hw555.2

def k0_off934 (i : grid0.Coords) : Fin 3 → Nat :=
  let c0_1727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2766 : Index := Scalar.indexCast v2059
  let c44_1728 : Index := 44#32
  ![0, v2766.toNat, 44]
def k0_off935 (i : grid0.Coords) : Fin 3 → Nat :=
  let c0_1729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2768 : Index := Scalar.indexCast v2059
  let c45_1730 : Index := 45#32
  ![0, v2768.toNat, 45]
def k0_off936 (i : grid0.Coords) : Fin 3 → Nat :=
  let c0_1731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2770 : Index := Scalar.indexCast v2059
  let c46_1732 : Index := 46#32
  ![0, v2770.toNat, 46]
def k0_off937 (i : grid0.Coords) : Fin 3 → Nat :=
  let c0_1733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2772 : Index := Scalar.indexCast v2059
  let c47_1734 : Index := 47#32
  ![0, v2772.toNat, 47]
def k0_off938 (v2767 : BitVec 32) : Fin 3 → Nat :=
  let c0_1735 : Index := 0#32
  let v2774 : Index := Scalar.indexCast v2767
  let c0_1736 : Index := 0#32
  ![0, v2774.toNat, 0]

def k0_off939 (i : grid0.Coords) : Fin 3 → Nat :=
  let c0_1737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2777 : Index := Scalar.indexCast v2059
  let c44_1738 : Index := 44#32
  ![0, v2777.toNat, 44]
def k0_off940 (v2769 : BitVec 32) : Fin 3 → Nat :=
  let c0_1741 : Index := 0#32
  let v2784 : Index := Scalar.indexCast v2769
  let c0_1742 : Index := 0#32
  ![0, v2784.toNat, 0]

def k0_off941 (i : grid0.Coords) : Fin 3 → Nat :=
  let c0_1743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2787 : Index := Scalar.indexCast v2059
  let c45_1744 : Index := 45#32
  ![0, v2787.toNat, 45]
def k0_off942 (v2771 : BitVec 32) : Fin 3 → Nat :=
  let c0_1747 : Index := 0#32
  let v2794 : Index := Scalar.indexCast v2771
  let c0_1748 : Index := 0#32
  ![0, v2794.toNat, 0]

def k0_off943 (i : grid0.Coords) : Fin 3 → Nat :=
  let c0_1749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2797 : Index := Scalar.indexCast v2059
  let c46_1750 : Index := 46#32
  ![0, v2797.toNat, 46]
def k0_off944 (v2773 : BitVec 32) : Fin 3 → Nat :=
  let c0_1753 : Index := 0#32
  let v2804 : Index := Scalar.indexCast v2773
  let c0_1754 : Index := 0#32
  ![0, v2804.toNat, 0]

def k0_chk560 (v2773 : BitVec 32) : Prop :=
  (∀ a, (k0_off944 v2773) a + S1x1x1024.size a ≤ S1x2048x1024.size a)
theorem k0_off944_inb : ∀ (v2773 : BitVec 32) (k0_hw560 : k0_chk560 v2773), ∀ a, (k0_off944 v2773) a + S1x1x1024.size a ≤ S1x2048x1024.size a := fun v2773 k0_hw560 => k0_hw560

def k0_off945 (i : grid0.Coords) : Fin 3 → Nat :=
  let c0_1755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2807 : Index := Scalar.indexCast v2059
  let c47_1756 : Index := 47#32
  ![0, v2807.toNat, 47]
def k0_off946 (v2767 : BitVec 32) : Fin 3 → Nat :=
  let c0_1759 : Index := 0#32
  let v2814 : Index := Scalar.indexCast v2767
  let c0_1760 : Index := 0#32
  ![0, v2814.toNat, 0]

def k0_chk557 (v2767 : BitVec 32) : Prop :=
  (∀ a, (k0_off938 v2767) a + S1x1x1024.size a ≤ S1x2048x1024.size a) ∧
  (∀ a, (k0_off946 v2767) a + S1x1x1024.size a ≤ S1x2048x1024.size a)
theorem k0_off938_inb : ∀ (v2767 : BitVec 32) (k0_hw557 : k0_chk557 v2767), ∀ a, (k0_off938 v2767) a + S1x1x1024.size a ≤ S1x2048x1024.size a := fun v2767 k0_hw557 => k0_hw557.1
theorem k0_off946_inb : ∀ (v2767 : BitVec 32) (k0_hw557 : k0_chk557 v2767), ∀ a, (k0_off946 v2767) a + S1x1x1024.size a ≤ S1x2048x1024.size a := fun v2767 k0_hw557 => k0_hw557.2

def k0_off947 (v2769 : BitVec 32) : Fin 3 → Nat :=
  let c0_1761 : Index := 0#32
  let v2818 : Index := Scalar.indexCast v2769
  let c0_1762 : Index := 0#32
  ![0, v2818.toNat, 0]

def k0_chk558 (v2769 : BitVec 32) : Prop :=
  (∀ a, (k0_off940 v2769) a + S1x1x1024.size a ≤ S1x2048x1024.size a) ∧
  (∀ a, (k0_off947 v2769) a + S1x1x1024.size a ≤ S1x2048x1024.size a)
theorem k0_off940_inb : ∀ (v2769 : BitVec 32) (k0_hw558 : k0_chk558 v2769), ∀ a, (k0_off940 v2769) a + S1x1x1024.size a ≤ S1x2048x1024.size a := fun v2769 k0_hw558 => k0_hw558.1
theorem k0_off947_inb : ∀ (v2769 : BitVec 32) (k0_hw558 : k0_chk558 v2769), ∀ a, (k0_off947 v2769) a + S1x1x1024.size a ≤ S1x2048x1024.size a := fun v2769 k0_hw558 => k0_hw558.2

def k0_off948 (v2771 : BitVec 32) : Fin 3 → Nat :=
  let c0_1763 : Index := 0#32
  let v2822 : Index := Scalar.indexCast v2771
  let c0_1764 : Index := 0#32
  ![0, v2822.toNat, 0]

def k0_chk559 (v2771 : BitVec 32) : Prop :=
  (∀ a, (k0_off942 v2771) a + S1x1x1024.size a ≤ S1x2048x1024.size a) ∧
  (∀ a, (k0_off948 v2771) a + S1x1x1024.size a ≤ S1x2048x1024.size a)
theorem k0_off942_inb : ∀ (v2771 : BitVec 32) (k0_hw559 : k0_chk559 v2771), ∀ a, (k0_off942 v2771) a + S1x1x1024.size a ≤ S1x2048x1024.size a := fun v2771 k0_hw559 => k0_hw559.1
theorem k0_off948_inb : ∀ (v2771 : BitVec 32) (k0_hw559 : k0_chk559 v2771), ∀ a, (k0_off948 v2771) a + S1x1x1024.size a ≤ S1x2048x1024.size a := fun v2771 k0_hw559 => k0_hw559.2

def k0_off949 (i : grid0.Coords) : Fin 3 → Nat :=
  let c0_1767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2830 : Index := Scalar.indexCast v2059
  let c48_1768 : Index := 48#32
  ![0, v2830.toNat, 48]
def k0_off950 (i : grid0.Coords) : Fin 3 → Nat :=
  let c0_1769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2832 : Index := Scalar.indexCast v2059
  let c49_1770 : Index := 49#32
  ![0, v2832.toNat, 49]
def k0_off951 (i : grid0.Coords) : Fin 3 → Nat :=
  let c0_1771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2834 : Index := Scalar.indexCast v2059
  let c50_1772 : Index := 50#32
  ![0, v2834.toNat, 50]
def k0_off952 (i : grid0.Coords) : Fin 3 → Nat :=
  let c0_1773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2836 : Index := Scalar.indexCast v2059
  let c51_1774 : Index := 51#32
  ![0, v2836.toNat, 51]
def k0_off953 (v2831 : BitVec 32) : Fin 3 → Nat :=
  let c0_1775 : Index := 0#32
  let v2838 : Index := Scalar.indexCast v2831
  let c0_1776 : Index := 0#32
  ![0, v2838.toNat, 0]

def k0_off954 (i : grid0.Coords) : Fin 3 → Nat :=
  let c0_1777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2841 : Index := Scalar.indexCast v2059
  let c48_1778 : Index := 48#32
  ![0, v2841.toNat, 48]
def k0_off955 (v2833 : BitVec 32) : Fin 3 → Nat :=
  let c0_1781 : Index := 0#32
  let v2848 : Index := Scalar.indexCast v2833
  let c0_1782 : Index := 0#32
  ![0, v2848.toNat, 0]

def k0_off956 (i : grid0.Coords) : Fin 3 → Nat :=
  let c0_1783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2851 : Index := Scalar.indexCast v2059
  let c49_1784 : Index := 49#32
  ![0, v2851.toNat, 49]
def k0_off957 (v2835 : BitVec 32) : Fin 3 → Nat :=
  let c0_1787 : Index := 0#32
  let v2858 : Index := Scalar.indexCast v2835
  let c0_1788 : Index := 0#32
  ![0, v2858.toNat, 0]

def k0_off958 (i : grid0.Coords) : Fin 3 → Nat :=
  let c0_1789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2861 : Index := Scalar.indexCast v2059
  let c50_1790 : Index := 50#32
  ![0, v2861.toNat, 50]
def k0_off959 (v2837 : BitVec 32) : Fin 3 → Nat :=
  let c0_1793 : Index := 0#32
  let v2868 : Index := Scalar.indexCast v2837
  let c0_1794 : Index := 0#32
  ![0, v2868.toNat, 0]

def k0_chk564 (v2837 : BitVec 32) : Prop :=
  (∀ a, (k0_off959 v2837) a + S1x1x1024.size a ≤ S1x2048x1024.size a)
theorem k0_off959_inb : ∀ (v2837 : BitVec 32) (k0_hw564 : k0_chk564 v2837), ∀ a, (k0_off959 v2837) a + S1x1x1024.size a ≤ S1x2048x1024.size a := fun v2837 k0_hw564 => k0_hw564

def k0_off960 (i : grid0.Coords) : Fin 3 → Nat :=
  let c0_1795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2871 : Index := Scalar.indexCast v2059
  let c51_1796 : Index := 51#32
  ![0, v2871.toNat, 51]
def k0_off961 (v2831 : BitVec 32) : Fin 3 → Nat :=
  let c0_1799 : Index := 0#32
  let v2878 : Index := Scalar.indexCast v2831
  let c0_1800 : Index := 0#32
  ![0, v2878.toNat, 0]

def k0_chk561 (v2831 : BitVec 32) : Prop :=
  (∀ a, (k0_off953 v2831) a + S1x1x1024.size a ≤ S1x2048x1024.size a) ∧
  (∀ a, (k0_off961 v2831) a + S1x1x1024.size a ≤ S1x2048x1024.size a)
theorem k0_off953_inb : ∀ (v2831 : BitVec 32) (k0_hw561 : k0_chk561 v2831), ∀ a, (k0_off953 v2831) a + S1x1x1024.size a ≤ S1x2048x1024.size a := fun v2831 k0_hw561 => k0_hw561.1
theorem k0_off961_inb : ∀ (v2831 : BitVec 32) (k0_hw561 : k0_chk561 v2831), ∀ a, (k0_off961 v2831) a + S1x1x1024.size a ≤ S1x2048x1024.size a := fun v2831 k0_hw561 => k0_hw561.2

def k0_off962 (v2833 : BitVec 32) : Fin 3 → Nat :=
  let c0_1801 : Index := 0#32
  let v2882 : Index := Scalar.indexCast v2833
  let c0_1802 : Index := 0#32
  ![0, v2882.toNat, 0]

def k0_chk562 (v2833 : BitVec 32) : Prop :=
  (∀ a, (k0_off955 v2833) a + S1x1x1024.size a ≤ S1x2048x1024.size a) ∧
  (∀ a, (k0_off962 v2833) a + S1x1x1024.size a ≤ S1x2048x1024.size a)
theorem k0_off955_inb : ∀ (v2833 : BitVec 32) (k0_hw562 : k0_chk562 v2833), ∀ a, (k0_off955 v2833) a + S1x1x1024.size a ≤ S1x2048x1024.size a := fun v2833 k0_hw562 => k0_hw562.1
theorem k0_off962_inb : ∀ (v2833 : BitVec 32) (k0_hw562 : k0_chk562 v2833), ∀ a, (k0_off962 v2833) a + S1x1x1024.size a ≤ S1x2048x1024.size a := fun v2833 k0_hw562 => k0_hw562.2

def k0_off963 (v2835 : BitVec 32) : Fin 3 → Nat :=
  let c0_1803 : Index := 0#32
  let v2886 : Index := Scalar.indexCast v2835
  let c0_1804 : Index := 0#32
  ![0, v2886.toNat, 0]

def k0_chk563 (v2835 : BitVec 32) : Prop :=
  (∀ a, (k0_off957 v2835) a + S1x1x1024.size a ≤ S1x2048x1024.size a) ∧
  (∀ a, (k0_off963 v2835) a + S1x1x1024.size a ≤ S1x2048x1024.size a)
theorem k0_off957_inb : ∀ (v2835 : BitVec 32) (k0_hw563 : k0_chk563 v2835), ∀ a, (k0_off957 v2835) a + S1x1x1024.size a ≤ S1x2048x1024.size a := fun v2835 k0_hw563 => k0_hw563.1
theorem k0_off963_inb : ∀ (v2835 : BitVec 32) (k0_hw563 : k0_chk563 v2835), ∀ a, (k0_off963 v2835) a + S1x1x1024.size a ≤ S1x2048x1024.size a := fun v2835 k0_hw563 => k0_hw563.2

def k0_off964 (i : grid0.Coords) : Fin 3 → Nat :=
  let c0_1807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2894 : Index := Scalar.indexCast v2059
  let c52_1808 : Index := 52#32
  ![0, v2894.toNat, 52]
def k0_off965 (i : grid0.Coords) : Fin 3 → Nat :=
  let c0_1809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2896 : Index := Scalar.indexCast v2059
  let c53_1810 : Index := 53#32
  ![0, v2896.toNat, 53]
def k0_off966 (i : grid0.Coords) : Fin 3 → Nat :=
  let c0_1811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2898 : Index := Scalar.indexCast v2059
  let c54_1812 : Index := 54#32
  ![0, v2898.toNat, 54]
def k0_off967 (i : grid0.Coords) : Fin 3 → Nat :=
  let c0_1813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2900 : Index := Scalar.indexCast v2059
  let c55_1814 : Index := 55#32
  ![0, v2900.toNat, 55]
def k0_off968 (v2895 : BitVec 32) : Fin 3 → Nat :=
  let c0_1815 : Index := 0#32
  let v2902 : Index := Scalar.indexCast v2895
  let c0_1816 : Index := 0#32
  ![0, v2902.toNat, 0]

def k0_off969 (i : grid0.Coords) : Fin 3 → Nat :=
  let c0_1817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2905 : Index := Scalar.indexCast v2059
  let c52_1818 : Index := 52#32
  ![0, v2905.toNat, 52]
def k0_off970 (v2897 : BitVec 32) : Fin 3 → Nat :=
  let c0_1821 : Index := 0#32
  let v2912 : Index := Scalar.indexCast v2897
  let c0_1822 : Index := 0#32
  ![0, v2912.toNat, 0]

def k0_off971 (i : grid0.Coords) : Fin 3 → Nat :=
  let c0_1823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2915 : Index := Scalar.indexCast v2059
  let c53_1824 : Index := 53#32
  ![0, v2915.toNat, 53]
def k0_off972 (v2899 : BitVec 32) : Fin 3 → Nat :=
  let c0_1827 : Index := 0#32
  let v2922 : Index := Scalar.indexCast v2899
  let c0_1828 : Index := 0#32
  ![0, v2922.toNat, 0]

def k0_off973 (i : grid0.Coords) : Fin 3 → Nat :=
  let c0_1829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2925 : Index := Scalar.indexCast v2059
  let c54_1830 : Index := 54#32
  ![0, v2925.toNat, 54]
def k0_off974 (v2901 : BitVec 32) : Fin 3 → Nat :=
  let c0_1833 : Index := 0#32
  let v2932 : Index := Scalar.indexCast v2901
  let c0_1834 : Index := 0#32
  ![0, v2932.toNat, 0]

def k0_chk568 (v2901 : BitVec 32) : Prop :=
  (∀ a, (k0_off974 v2901) a + S1x1x1024.size a ≤ S1x2048x1024.size a)
theorem k0_off974_inb : ∀ (v2901 : BitVec 32) (k0_hw568 : k0_chk568 v2901), ∀ a, (k0_off974 v2901) a + S1x1x1024.size a ≤ S1x2048x1024.size a := fun v2901 k0_hw568 => k0_hw568

def k0_off975 (i : grid0.Coords) : Fin 3 → Nat :=
  let c0_1835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2935 : Index := Scalar.indexCast v2059
  let c55_1836 : Index := 55#32
  ![0, v2935.toNat, 55]
def k0_off976 (v2895 : BitVec 32) : Fin 3 → Nat :=
  let c0_1839 : Index := 0#32
  let v2942 : Index := Scalar.indexCast v2895
  let c0_1840 : Index := 0#32
  ![0, v2942.toNat, 0]

def k0_chk565 (v2895 : BitVec 32) : Prop :=
  (∀ a, (k0_off968 v2895) a + S1x1x1024.size a ≤ S1x2048x1024.size a) ∧
  (∀ a, (k0_off976 v2895) a + S1x1x1024.size a ≤ S1x2048x1024.size a)
theorem k0_off968_inb : ∀ (v2895 : BitVec 32) (k0_hw565 : k0_chk565 v2895), ∀ a, (k0_off968 v2895) a + S1x1x1024.size a ≤ S1x2048x1024.size a := fun v2895 k0_hw565 => k0_hw565.1
theorem k0_off976_inb : ∀ (v2895 : BitVec 32) (k0_hw565 : k0_chk565 v2895), ∀ a, (k0_off976 v2895) a + S1x1x1024.size a ≤ S1x2048x1024.size a := fun v2895 k0_hw565 => k0_hw565.2

def k0_off977 (v2897 : BitVec 32) : Fin 3 → Nat :=
  let c0_1841 : Index := 0#32
  let v2946 : Index := Scalar.indexCast v2897
  let c0_1842 : Index := 0#32
  ![0, v2946.toNat, 0]

def k0_chk566 (v2897 : BitVec 32) : Prop :=
  (∀ a, (k0_off970 v2897) a + S1x1x1024.size a ≤ S1x2048x1024.size a) ∧
  (∀ a, (k0_off977 v2897) a + S1x1x1024.size a ≤ S1x2048x1024.size a)
theorem k0_off970_inb : ∀ (v2897 : BitVec 32) (k0_hw566 : k0_chk566 v2897), ∀ a, (k0_off970 v2897) a + S1x1x1024.size a ≤ S1x2048x1024.size a := fun v2897 k0_hw566 => k0_hw566.1
theorem k0_off977_inb : ∀ (v2897 : BitVec 32) (k0_hw566 : k0_chk566 v2897), ∀ a, (k0_off977 v2897) a + S1x1x1024.size a ≤ S1x2048x1024.size a := fun v2897 k0_hw566 => k0_hw566.2

def k0_off978 (v2899 : BitVec 32) : Fin 3 → Nat :=
  let c0_1843 : Index := 0#32
  let v2950 : Index := Scalar.indexCast v2899
  let c0_1844 : Index := 0#32
  ![0, v2950.toNat, 0]

def k0_chk567 (v2899 : BitVec 32) : Prop :=
  (∀ a, (k0_off972 v2899) a + S1x1x1024.size a ≤ S1x2048x1024.size a) ∧
  (∀ a, (k0_off978 v2899) a + S1x1x1024.size a ≤ S1x2048x1024.size a)
theorem k0_off972_inb : ∀ (v2899 : BitVec 32) (k0_hw567 : k0_chk567 v2899), ∀ a, (k0_off972 v2899) a + S1x1x1024.size a ≤ S1x2048x1024.size a := fun v2899 k0_hw567 => k0_hw567.1
theorem k0_off978_inb : ∀ (v2899 : BitVec 32) (k0_hw567 : k0_chk567 v2899), ∀ a, (k0_off978 v2899) a + S1x1x1024.size a ≤ S1x2048x1024.size a := fun v2899 k0_hw567 => k0_hw567.2

def k0_off979 (i : grid0.Coords) : Fin 3 → Nat :=
  let c0_1847 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2958 : Index := Scalar.indexCast v2059
  let c56_1848 : Index := 56#32
  ![0, v2958.toNat, 56]
def k0_off980 (i : grid0.Coords) : Fin 3 → Nat :=
  let c0_1849 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2960 : Index := Scalar.indexCast v2059
  let c57_1850 : Index := 57#32
  ![0, v2960.toNat, 57]
def k0_off981 (i : grid0.Coords) : Fin 3 → Nat :=
  let c0_1851 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2962 : Index := Scalar.indexCast v2059
  let c58_1852 : Index := 58#32
  ![0, v2962.toNat, 58]
def k0_off982 (i : grid0.Coords) : Fin 3 → Nat :=
  let c0_1853 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2964 : Index := Scalar.indexCast v2059
  let c59_1854 : Index := 59#32
  ![0, v2964.toNat, 59]
def k0_off983 (v2959 : BitVec 32) : Fin 3 → Nat :=
  let c0_1855 : Index := 0#32
  let v2966 : Index := Scalar.indexCast v2959
  let c0_1856 : Index := 0#32
  ![0, v2966.toNat, 0]

def k0_off984 (i : grid0.Coords) : Fin 3 → Nat :=
  let c0_1857 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2969 : Index := Scalar.indexCast v2059
  let c56_1858 : Index := 56#32
  ![0, v2969.toNat, 56]
def k0_off985 (v2961 : BitVec 32) : Fin 3 → Nat :=
  let c0_1861 : Index := 0#32
  let v2976 : Index := Scalar.indexCast v2961
  let c0_1862 : Index := 0#32
  ![0, v2976.toNat, 0]

def k0_off986 (i : grid0.Coords) : Fin 3 → Nat :=
  let c0_1863 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2979 : Index := Scalar.indexCast v2059
  let c57_1864 : Index := 57#32
  ![0, v2979.toNat, 57]
def k0_off987 (v2963 : BitVec 32) : Fin 3 → Nat :=
  let c0_1867 : Index := 0#32
  let v2986 : Index := Scalar.indexCast v2963
  let c0_1868 : Index := 0#32
  ![0, v2986.toNat, 0]

def k0_off988 (i : grid0.Coords) : Fin 3 → Nat :=
  let c0_1869 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2989 : Index := Scalar.indexCast v2059
  let c58_1870 : Index := 58#32
  ![0, v2989.toNat, 58]
def k0_off989 (v2965 : BitVec 32) : Fin 3 → Nat :=
  let c0_1873 : Index := 0#32
  let v2996 : Index := Scalar.indexCast v2965
  let c0_1874 : Index := 0#32
  ![0, v2996.toNat, 0]

def k0_chk572 (v2965 : BitVec 32) : Prop :=
  (∀ a, (k0_off989 v2965) a + S1x1x1024.size a ≤ S1x2048x1024.size a)
theorem k0_off989_inb : ∀ (v2965 : BitVec 32) (k0_hw572 : k0_chk572 v2965), ∀ a, (k0_off989 v2965) a + S1x1x1024.size a ≤ S1x2048x1024.size a := fun v2965 k0_hw572 => k0_hw572

def k0_off990 (i : grid0.Coords) : Fin 3 → Nat :=
  let c0_1875 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2999 : Index := Scalar.indexCast v2059
  let c59_1876 : Index := 59#32
  ![0, v2999.toNat, 59]
def k0_off991 (v2959 : BitVec 32) : Fin 3 → Nat :=
  let c0_1879 : Index := 0#32
  let v3006 : Index := Scalar.indexCast v2959
  let c0_1880 : Index := 0#32
  ![0, v3006.toNat, 0]

def k0_chk569 (v2959 : BitVec 32) : Prop :=
  (∀ a, (k0_off983 v2959) a + S1x1x1024.size a ≤ S1x2048x1024.size a) ∧
  (∀ a, (k0_off991 v2959) a + S1x1x1024.size a ≤ S1x2048x1024.size a)
theorem k0_off983_inb : ∀ (v2959 : BitVec 32) (k0_hw569 : k0_chk569 v2959), ∀ a, (k0_off983 v2959) a + S1x1x1024.size a ≤ S1x2048x1024.size a := fun v2959 k0_hw569 => k0_hw569.1
theorem k0_off991_inb : ∀ (v2959 : BitVec 32) (k0_hw569 : k0_chk569 v2959), ∀ a, (k0_off991 v2959) a + S1x1x1024.size a ≤ S1x2048x1024.size a := fun v2959 k0_hw569 => k0_hw569.2

def k0_off992 (v2961 : BitVec 32) : Fin 3 → Nat :=
  let c0_1881 : Index := 0#32
  let v3010 : Index := Scalar.indexCast v2961
  let c0_1882 : Index := 0#32
  ![0, v3010.toNat, 0]

def k0_chk570 (v2961 : BitVec 32) : Prop :=
  (∀ a, (k0_off985 v2961) a + S1x1x1024.size a ≤ S1x2048x1024.size a) ∧
  (∀ a, (k0_off992 v2961) a + S1x1x1024.size a ≤ S1x2048x1024.size a)
theorem k0_off985_inb : ∀ (v2961 : BitVec 32) (k0_hw570 : k0_chk570 v2961), ∀ a, (k0_off985 v2961) a + S1x1x1024.size a ≤ S1x2048x1024.size a := fun v2961 k0_hw570 => k0_hw570.1
theorem k0_off992_inb : ∀ (v2961 : BitVec 32) (k0_hw570 : k0_chk570 v2961), ∀ a, (k0_off992 v2961) a + S1x1x1024.size a ≤ S1x2048x1024.size a := fun v2961 k0_hw570 => k0_hw570.2

def k0_off993 (v2963 : BitVec 32) : Fin 3 → Nat :=
  let c0_1883 : Index := 0#32
  let v3014 : Index := Scalar.indexCast v2963
  let c0_1884 : Index := 0#32
  ![0, v3014.toNat, 0]

def k0_chk571 (v2963 : BitVec 32) : Prop :=
  (∀ a, (k0_off987 v2963) a + S1x1x1024.size a ≤ S1x2048x1024.size a) ∧
  (∀ a, (k0_off993 v2963) a + S1x1x1024.size a ≤ S1x2048x1024.size a)
theorem k0_off987_inb : ∀ (v2963 : BitVec 32) (k0_hw571 : k0_chk571 v2963), ∀ a, (k0_off987 v2963) a + S1x1x1024.size a ≤ S1x2048x1024.size a := fun v2963 k0_hw571 => k0_hw571.1
theorem k0_off993_inb : ∀ (v2963 : BitVec 32) (k0_hw571 : k0_chk571 v2963), ∀ a, (k0_off993 v2963) a + S1x1x1024.size a ≤ S1x2048x1024.size a := fun v2963 k0_hw571 => k0_hw571.2

def k0_off994 (i : grid0.Coords) : Fin 3 → Nat :=
  let c0_1887 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3022 : Index := Scalar.indexCast v2059
  let c60_1888 : Index := 60#32
  ![0, v3022.toNat, 60]
def k0_off995 (i : grid0.Coords) : Fin 3 → Nat :=
  let c0_1889 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3024 : Index := Scalar.indexCast v2059
  let c61_1890 : Index := 61#32
  ![0, v3024.toNat, 61]
def k0_off996 (i : grid0.Coords) : Fin 3 → Nat :=
  let c0_1891 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3026 : Index := Scalar.indexCast v2059
  let c62_1892 : Index := 62#32
  ![0, v3026.toNat, 62]
def k0_off997 (i : grid0.Coords) : Fin 3 → Nat :=
  let c0_1893 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3028 : Index := Scalar.indexCast v2059
  let c63_1894 : Index := 63#32
  ![0, v3028.toNat, 63]
def k0_off998 (v3023 : BitVec 32) : Fin 3 → Nat :=
  let c0_1895 : Index := 0#32
  let v3030 : Index := Scalar.indexCast v3023
  let c0_1896 : Index := 0#32
  ![0, v3030.toNat, 0]

def k0_off999 (i : grid0.Coords) : Fin 3 → Nat :=
  let c0_1897 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3033 : Index := Scalar.indexCast v2059
  let c60_1898 : Index := 60#32
  ![0, v3033.toNat, 60]
def k0_off1000 (v3025 : BitVec 32) : Fin 3 → Nat :=
  let c0_1901 : Index := 0#32
  let v3040 : Index := Scalar.indexCast v3025
  let c0_1902 : Index := 0#32
  ![0, v3040.toNat, 0]

def k0_off1001 (i : grid0.Coords) : Fin 3 → Nat :=
  let c0_1903 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3043 : Index := Scalar.indexCast v2059
  let c61_1904 : Index := 61#32
  ![0, v3043.toNat, 61]
def k0_off1002 (v3027 : BitVec 32) : Fin 3 → Nat :=
  let c0_1907 : Index := 0#32
  let v3050 : Index := Scalar.indexCast v3027
  let c0_1908 : Index := 0#32
  ![0, v3050.toNat, 0]

def k0_off1003 (i : grid0.Coords) : Fin 3 → Nat :=
  let c0_1909 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3053 : Index := Scalar.indexCast v2059
  let c62_1910 : Index := 62#32
  ![0, v3053.toNat, 62]
def k0_off1004 (v3029 : BitVec 32) : Fin 3 → Nat :=
  let c0_1913 : Index := 0#32
  let v3060 : Index := Scalar.indexCast v3029
  let c0_1914 : Index := 0#32
  ![0, v3060.toNat, 0]

def k0_chk576 (v3029 : BitVec 32) : Prop :=
  (∀ a, (k0_off1004 v3029) a + S1x1x1024.size a ≤ S1x2048x1024.size a)
theorem k0_off1004_inb : ∀ (v3029 : BitVec 32) (k0_hw576 : k0_chk576 v3029), ∀ a, (k0_off1004 v3029) a + S1x1x1024.size a ≤ S1x2048x1024.size a := fun v3029 k0_hw576 => k0_hw576

def k0_off1005 (i : grid0.Coords) : Fin 3 → Nat :=
  let c0_1915 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3063 : Index := Scalar.indexCast v2059
  let c63_1916 : Index := 63#32
  ![0, v3063.toNat, 63]
def k0_off1006 (v3023 : BitVec 32) : Fin 3 → Nat :=
  let c0_1919 : Index := 0#32
  let v3070 : Index := Scalar.indexCast v3023
  let c0_1920 : Index := 0#32
  ![0, v3070.toNat, 0]

def k0_chk573 (v3023 : BitVec 32) : Prop :=
  (∀ a, (k0_off998 v3023) a + S1x1x1024.size a ≤ S1x2048x1024.size a) ∧
  (∀ a, (k0_off1006 v3023) a + S1x1x1024.size a ≤ S1x2048x1024.size a)
theorem k0_off998_inb : ∀ (v3023 : BitVec 32) (k0_hw573 : k0_chk573 v3023), ∀ a, (k0_off998 v3023) a + S1x1x1024.size a ≤ S1x2048x1024.size a := fun v3023 k0_hw573 => k0_hw573.1
theorem k0_off1006_inb : ∀ (v3023 : BitVec 32) (k0_hw573 : k0_chk573 v3023), ∀ a, (k0_off1006 v3023) a + S1x1x1024.size a ≤ S1x2048x1024.size a := fun v3023 k0_hw573 => k0_hw573.2

def k0_off1007 (v3025 : BitVec 32) : Fin 3 → Nat :=
  let c0_1921 : Index := 0#32
  let v3074 : Index := Scalar.indexCast v3025
  let c0_1922 : Index := 0#32
  ![0, v3074.toNat, 0]

def k0_chk574 (v3025 : BitVec 32) : Prop :=
  (∀ a, (k0_off1000 v3025) a + S1x1x1024.size a ≤ S1x2048x1024.size a) ∧
  (∀ a, (k0_off1007 v3025) a + S1x1x1024.size a ≤ S1x2048x1024.size a)
theorem k0_off1000_inb : ∀ (v3025 : BitVec 32) (k0_hw574 : k0_chk574 v3025), ∀ a, (k0_off1000 v3025) a + S1x1x1024.size a ≤ S1x2048x1024.size a := fun v3025 k0_hw574 => k0_hw574.1
theorem k0_off1007_inb : ∀ (v3025 : BitVec 32) (k0_hw574 : k0_chk574 v3025), ∀ a, (k0_off1007 v3025) a + S1x1x1024.size a ≤ S1x2048x1024.size a := fun v3025 k0_hw574 => k0_hw574.2

def k0_off1008 (v3027 : BitVec 32) : Fin 3 → Nat :=
  let c0_1923 : Index := 0#32
  let v3078 : Index := Scalar.indexCast v3027
  let c0_1924 : Index := 0#32
  ![0, v3078.toNat, 0]

def k0_chk575 (v3027 : BitVec 32) : Prop :=
  (∀ a, (k0_off1002 v3027) a + S1x1x1024.size a ≤ S1x2048x1024.size a) ∧
  (∀ a, (k0_off1008 v3027) a + S1x1x1024.size a ≤ S1x2048x1024.size a)
theorem k0_off1002_inb : ∀ (v3027 : BitVec 32) (k0_hw575 : k0_chk575 v3027), ∀ a, (k0_off1002 v3027) a + S1x1x1024.size a ≤ S1x2048x1024.size a := fun v3027 k0_hw575 => k0_hw575.1
theorem k0_off1008_inb : ∀ (v3027 : BitVec 32) (k0_hw575 : k0_chk575 v3027), ∀ a, (k0_off1008 v3027) a + S1x1x1024.size a ≤ S1x2048x1024.size a := fun v3027 k0_hw575 => k0_hw575.2

def k0_off1009 (i : grid0.Coords) : Fin 3 → Nat :=
  let c0_1927 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3086 : Index := Scalar.indexCast v2059
  let c64_1928 : Index := 64#32
  ![0, v3086.toNat, 64]
def k0_off1010 (i : grid0.Coords) : Fin 3 → Nat :=
  let c0_1929 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3088 : Index := Scalar.indexCast v2059
  let c65_1930 : Index := 65#32
  ![0, v3088.toNat, 65]
def k0_off1011 (i : grid0.Coords) : Fin 3 → Nat :=
  let c0_1931 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3090 : Index := Scalar.indexCast v2059
  let c66_1932 : Index := 66#32
  ![0, v3090.toNat, 66]
def k0_off1012 (i : grid0.Coords) : Fin 3 → Nat :=
  let c0_1933 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3092 : Index := Scalar.indexCast v2059
  let c67_1934 : Index := 67#32
  ![0, v3092.toNat, 67]
def k0_off1013 (v3087 : BitVec 32) : Fin 3 → Nat :=
  let c0_1935 : Index := 0#32
  let v3094 : Index := Scalar.indexCast v3087
  let c0_1936 : Index := 0#32
  ![0, v3094.toNat, 0]

def k0_off1014 (i : grid0.Coords) : Fin 3 → Nat :=
  let c0_1937 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3097 : Index := Scalar.indexCast v2059
  let c64_1938 : Index := 64#32
  ![0, v3097.toNat, 64]
def k0_off1015 (v3089 : BitVec 32) : Fin 3 → Nat :=
  let c0_1941 : Index := 0#32
  let v3104 : Index := Scalar.indexCast v3089
  let c0_1942 : Index := 0#32
  ![0, v3104.toNat, 0]

def k0_off1016 (i : grid0.Coords) : Fin 3 → Nat :=
  let c0_1943 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3107 : Index := Scalar.indexCast v2059
  let c65_1944 : Index := 65#32
  ![0, v3107.toNat, 65]
def k0_off1017 (v3091 : BitVec 32) : Fin 3 → Nat :=
  let c0_1947 : Index := 0#32
  let v3114 : Index := Scalar.indexCast v3091
  let c0_1948 : Index := 0#32
  ![0, v3114.toNat, 0]

def k0_off1018 (i : grid0.Coords) : Fin 3 → Nat :=
  let c0_1949 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3117 : Index := Scalar.indexCast v2059
  let c66_1950 : Index := 66#32
  ![0, v3117.toNat, 66]
def k0_off1019 (v3093 : BitVec 32) : Fin 3 → Nat :=
  let c0_1953 : Index := 0#32
  let v3124 : Index := Scalar.indexCast v3093
  let c0_1954 : Index := 0#32
  ![0, v3124.toNat, 0]

def k0_chk580 (v3093 : BitVec 32) : Prop :=
  (∀ a, (k0_off1019 v3093) a + S1x1x1024.size a ≤ S1x2048x1024.size a)
theorem k0_off1019_inb : ∀ (v3093 : BitVec 32) (k0_hw580 : k0_chk580 v3093), ∀ a, (k0_off1019 v3093) a + S1x1x1024.size a ≤ S1x2048x1024.size a := fun v3093 k0_hw580 => k0_hw580

def k0_off1020 (i : grid0.Coords) : Fin 3 → Nat :=
  let c0_1955 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3127 : Index := Scalar.indexCast v2059
  let c67_1956 : Index := 67#32
  ![0, v3127.toNat, 67]
def k0_off1021 (v3087 : BitVec 32) : Fin 3 → Nat :=
  let c0_1959 : Index := 0#32
  let v3134 : Index := Scalar.indexCast v3087
  let c0_1960 : Index := 0#32
  ![0, v3134.toNat, 0]

def k0_chk577 (v3087 : BitVec 32) : Prop :=
  (∀ a, (k0_off1013 v3087) a + S1x1x1024.size a ≤ S1x2048x1024.size a) ∧
  (∀ a, (k0_off1021 v3087) a + S1x1x1024.size a ≤ S1x2048x1024.size a)
theorem k0_off1013_inb : ∀ (v3087 : BitVec 32) (k0_hw577 : k0_chk577 v3087), ∀ a, (k0_off1013 v3087) a + S1x1x1024.size a ≤ S1x2048x1024.size a := fun v3087 k0_hw577 => k0_hw577.1
theorem k0_off1021_inb : ∀ (v3087 : BitVec 32) (k0_hw577 : k0_chk577 v3087), ∀ a, (k0_off1021 v3087) a + S1x1x1024.size a ≤ S1x2048x1024.size a := fun v3087 k0_hw577 => k0_hw577.2

def k0_off1022 (v3089 : BitVec 32) : Fin 3 → Nat :=
  let c0_1961 : Index := 0#32
  let v3138 : Index := Scalar.indexCast v3089
  let c0_1962 : Index := 0#32
  ![0, v3138.toNat, 0]

def k0_chk578 (v3089 : BitVec 32) : Prop :=
  (∀ a, (k0_off1015 v3089) a + S1x1x1024.size a ≤ S1x2048x1024.size a) ∧
  (∀ a, (k0_off1022 v3089) a + S1x1x1024.size a ≤ S1x2048x1024.size a)
theorem k0_off1015_inb : ∀ (v3089 : BitVec 32) (k0_hw578 : k0_chk578 v3089), ∀ a, (k0_off1015 v3089) a + S1x1x1024.size a ≤ S1x2048x1024.size a := fun v3089 k0_hw578 => k0_hw578.1
theorem k0_off1022_inb : ∀ (v3089 : BitVec 32) (k0_hw578 : k0_chk578 v3089), ∀ a, (k0_off1022 v3089) a + S1x1x1024.size a ≤ S1x2048x1024.size a := fun v3089 k0_hw578 => k0_hw578.2

def k0_off1023 (v3091 : BitVec 32) : Fin 3 → Nat :=
  let c0_1963 : Index := 0#32
  let v3142 : Index := Scalar.indexCast v3091
  let c0_1964 : Index := 0#32
  ![0, v3142.toNat, 0]

def k0_chk579 (v3091 : BitVec 32) : Prop :=
  (∀ a, (k0_off1017 v3091) a + S1x1x1024.size a ≤ S1x2048x1024.size a) ∧
  (∀ a, (k0_off1023 v3091) a + S1x1x1024.size a ≤ S1x2048x1024.size a)
theorem k0_off1017_inb : ∀ (v3091 : BitVec 32) (k0_hw579 : k0_chk579 v3091), ∀ a, (k0_off1017 v3091) a + S1x1x1024.size a ≤ S1x2048x1024.size a := fun v3091 k0_hw579 => k0_hw579.1
theorem k0_off1023_inb : ∀ (v3091 : BitVec 32) (k0_hw579 : k0_chk579 v3091), ∀ a, (k0_off1023 v3091) a + S1x1x1024.size a ≤ S1x2048x1024.size a := fun v3091 k0_hw579 => k0_hw579.2

def k0_off1024 (i : grid0.Coords) : Fin 3 → Nat :=
  let c0_1967 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3150 : Index := Scalar.indexCast v2059
  let c68_1968 : Index := 68#32
  ![0, v3150.toNat, 68]
def k0_off1025 (i : grid0.Coords) : Fin 3 → Nat :=
  let c0_1969 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3152 : Index := Scalar.indexCast v2059
  let c69_1970 : Index := 69#32
  ![0, v3152.toNat, 69]
def k0_off1026 (i : grid0.Coords) : Fin 3 → Nat :=
  let c0_1971 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3154 : Index := Scalar.indexCast v2059
  let c70_1972 : Index := 70#32
  ![0, v3154.toNat, 70]
def k0_off1027 (i : grid0.Coords) : Fin 3 → Nat :=
  let c0_1973 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3156 : Index := Scalar.indexCast v2059
  let c71_1974 : Index := 71#32
  ![0, v3156.toNat, 71]
def k0_off1028 (v3151 : BitVec 32) : Fin 3 → Nat :=
  let c0_1975 : Index := 0#32
  let v3158 : Index := Scalar.indexCast v3151
  let c0_1976 : Index := 0#32
  ![0, v3158.toNat, 0]

def k0_off1029 (i : grid0.Coords) : Fin 3 → Nat :=
  let c0_1977 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3161 : Index := Scalar.indexCast v2059
  let c68_1978 : Index := 68#32
  ![0, v3161.toNat, 68]
def k0_off1030 (v3153 : BitVec 32) : Fin 3 → Nat :=
  let c0_1981 : Index := 0#32
  let v3168 : Index := Scalar.indexCast v3153
  let c0_1982 : Index := 0#32
  ![0, v3168.toNat, 0]

def k0_off1031 (i : grid0.Coords) : Fin 3 → Nat :=
  let c0_1983 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3171 : Index := Scalar.indexCast v2059
  let c69_1984 : Index := 69#32
  ![0, v3171.toNat, 69]
def k0_off1032 (v3155 : BitVec 32) : Fin 3 → Nat :=
  let c0_1987 : Index := 0#32
  let v3178 : Index := Scalar.indexCast v3155
  let c0_1988 : Index := 0#32
  ![0, v3178.toNat, 0]

def k0_off1033 (i : grid0.Coords) : Fin 3 → Nat :=
  let c0_1989 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3181 : Index := Scalar.indexCast v2059
  let c70_1990 : Index := 70#32
  ![0, v3181.toNat, 70]
def k0_off1034 (v3157 : BitVec 32) : Fin 3 → Nat :=
  let c0_1993 : Index := 0#32
  let v3188 : Index := Scalar.indexCast v3157
  let c0_1994 : Index := 0#32
  ![0, v3188.toNat, 0]

def k0_chk584 (v3157 : BitVec 32) : Prop :=
  (∀ a, (k0_off1034 v3157) a + S1x1x1024.size a ≤ S1x2048x1024.size a)
theorem k0_off1034_inb : ∀ (v3157 : BitVec 32) (k0_hw584 : k0_chk584 v3157), ∀ a, (k0_off1034 v3157) a + S1x1x1024.size a ≤ S1x2048x1024.size a := fun v3157 k0_hw584 => k0_hw584

def k0_off1035 (i : grid0.Coords) : Fin 3 → Nat :=
  let c0_1995 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3191 : Index := Scalar.indexCast v2059
  let c71_1996 : Index := 71#32
  ![0, v3191.toNat, 71]
def k0_off1036 (v3151 : BitVec 32) : Fin 3 → Nat :=
  let c0_1999 : Index := 0#32
  let v3198 : Index := Scalar.indexCast v3151
  let c0_2000 : Index := 0#32
  ![0, v3198.toNat, 0]

def k0_chk581 (v3151 : BitVec 32) : Prop :=
  (∀ a, (k0_off1028 v3151) a + S1x1x1024.size a ≤ S1x2048x1024.size a) ∧
  (∀ a, (k0_off1036 v3151) a + S1x1x1024.size a ≤ S1x2048x1024.size a)
theorem k0_off1028_inb : ∀ (v3151 : BitVec 32) (k0_hw581 : k0_chk581 v3151), ∀ a, (k0_off1028 v3151) a + S1x1x1024.size a ≤ S1x2048x1024.size a := fun v3151 k0_hw581 => k0_hw581.1
theorem k0_off1036_inb : ∀ (v3151 : BitVec 32) (k0_hw581 : k0_chk581 v3151), ∀ a, (k0_off1036 v3151) a + S1x1x1024.size a ≤ S1x2048x1024.size a := fun v3151 k0_hw581 => k0_hw581.2

def k0_off1037 (v3153 : BitVec 32) : Fin 3 → Nat :=
  let c0_2001 : Index := 0#32
  let v3202 : Index := Scalar.indexCast v3153
  let c0_2002 : Index := 0#32
  ![0, v3202.toNat, 0]

def k0_chk582 (v3153 : BitVec 32) : Prop :=
  (∀ a, (k0_off1030 v3153) a + S1x1x1024.size a ≤ S1x2048x1024.size a) ∧
  (∀ a, (k0_off1037 v3153) a + S1x1x1024.size a ≤ S1x2048x1024.size a)
theorem k0_off1030_inb : ∀ (v3153 : BitVec 32) (k0_hw582 : k0_chk582 v3153), ∀ a, (k0_off1030 v3153) a + S1x1x1024.size a ≤ S1x2048x1024.size a := fun v3153 k0_hw582 => k0_hw582.1
theorem k0_off1037_inb : ∀ (v3153 : BitVec 32) (k0_hw582 : k0_chk582 v3153), ∀ a, (k0_off1037 v3153) a + S1x1x1024.size a ≤ S1x2048x1024.size a := fun v3153 k0_hw582 => k0_hw582.2

def k0_off1038 (v3155 : BitVec 32) : Fin 3 → Nat :=
  let c0_2003 : Index := 0#32
  let v3206 : Index := Scalar.indexCast v3155
  let c0_2004 : Index := 0#32
  ![0, v3206.toNat, 0]

def k0_chk583 (v3155 : BitVec 32) : Prop :=
  (∀ a, (k0_off1032 v3155) a + S1x1x1024.size a ≤ S1x2048x1024.size a) ∧
  (∀ a, (k0_off1038 v3155) a + S1x1x1024.size a ≤ S1x2048x1024.size a)
theorem k0_off1032_inb : ∀ (v3155 : BitVec 32) (k0_hw583 : k0_chk583 v3155), ∀ a, (k0_off1032 v3155) a + S1x1x1024.size a ≤ S1x2048x1024.size a := fun v3155 k0_hw583 => k0_hw583.1
theorem k0_off1038_inb : ∀ (v3155 : BitVec 32) (k0_hw583 : k0_chk583 v3155), ∀ a, (k0_off1038 v3155) a + S1x1x1024.size a ≤ S1x2048x1024.size a := fun v3155 k0_hw583 => k0_hw583.2

def k0_off1039 (i : grid0.Coords) : Fin 3 → Nat :=
  let c0_2007 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3214 : Index := Scalar.indexCast v2059
  let c72_2008 : Index := 72#32
  ![0, v3214.toNat, 72]
def k0_off1040 (i : grid0.Coords) : Fin 3 → Nat :=
  let c0_2009 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3216 : Index := Scalar.indexCast v2059
  let c73_2010 : Index := 73#32
  ![0, v3216.toNat, 73]
def k0_off1041 (i : grid0.Coords) : Fin 3 → Nat :=
  let c0_2011 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3218 : Index := Scalar.indexCast v2059
  let c74_2012 : Index := 74#32
  ![0, v3218.toNat, 74]
def k0_off1042 (i : grid0.Coords) : Fin 3 → Nat :=
  let c0_2013 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3220 : Index := Scalar.indexCast v2059
  let c75_2014 : Index := 75#32
  ![0, v3220.toNat, 75]
def k0_off1043 (v3215 : BitVec 32) : Fin 3 → Nat :=
  let c0_2015 : Index := 0#32
  let v3222 : Index := Scalar.indexCast v3215
  let c0_2016 : Index := 0#32
  ![0, v3222.toNat, 0]

def k0_off1044 (i : grid0.Coords) : Fin 3 → Nat :=
  let c0_2017 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3225 : Index := Scalar.indexCast v2059
  let c72_2018 : Index := 72#32
  ![0, v3225.toNat, 72]
def k0_off1045 (v3217 : BitVec 32) : Fin 3 → Nat :=
  let c0_2021 : Index := 0#32
  let v3232 : Index := Scalar.indexCast v3217
  let c0_2022 : Index := 0#32
  ![0, v3232.toNat, 0]

def k0_off1046 (i : grid0.Coords) : Fin 3 → Nat :=
  let c0_2023 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3235 : Index := Scalar.indexCast v2059
  let c73_2024 : Index := 73#32
  ![0, v3235.toNat, 73]
def k0_off1047 (v3219 : BitVec 32) : Fin 3 → Nat :=
  let c0_2027 : Index := 0#32
  let v3242 : Index := Scalar.indexCast v3219
  let c0_2028 : Index := 0#32
  ![0, v3242.toNat, 0]

def k0_off1048 (i : grid0.Coords) : Fin 3 → Nat :=
  let c0_2029 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3245 : Index := Scalar.indexCast v2059
  let c74_2030 : Index := 74#32
  ![0, v3245.toNat, 74]
def k0_off1049 (v3221 : BitVec 32) : Fin 3 → Nat :=
  let c0_2033 : Index := 0#32
  let v3252 : Index := Scalar.indexCast v3221
  let c0_2034 : Index := 0#32
  ![0, v3252.toNat, 0]

def k0_chk588 (v3221 : BitVec 32) : Prop :=
  (∀ a, (k0_off1049 v3221) a + S1x1x1024.size a ≤ S1x2048x1024.size a)
theorem k0_off1049_inb : ∀ (v3221 : BitVec 32) (k0_hw588 : k0_chk588 v3221), ∀ a, (k0_off1049 v3221) a + S1x1x1024.size a ≤ S1x2048x1024.size a := fun v3221 k0_hw588 => k0_hw588

def k0_off1050 (i : grid0.Coords) : Fin 3 → Nat :=
  let c0_2035 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3255 : Index := Scalar.indexCast v2059
  let c75_2036 : Index := 75#32
  ![0, v3255.toNat, 75]
def k0_off1051 (v3215 : BitVec 32) : Fin 3 → Nat :=
  let c0_2039 : Index := 0#32
  let v3262 : Index := Scalar.indexCast v3215
  let c0_2040 : Index := 0#32
  ![0, v3262.toNat, 0]

def k0_chk585 (v3215 : BitVec 32) : Prop :=
  (∀ a, (k0_off1043 v3215) a + S1x1x1024.size a ≤ S1x2048x1024.size a) ∧
  (∀ a, (k0_off1051 v3215) a + S1x1x1024.size a ≤ S1x2048x1024.size a)
theorem k0_off1043_inb : ∀ (v3215 : BitVec 32) (k0_hw585 : k0_chk585 v3215), ∀ a, (k0_off1043 v3215) a + S1x1x1024.size a ≤ S1x2048x1024.size a := fun v3215 k0_hw585 => k0_hw585.1
theorem k0_off1051_inb : ∀ (v3215 : BitVec 32) (k0_hw585 : k0_chk585 v3215), ∀ a, (k0_off1051 v3215) a + S1x1x1024.size a ≤ S1x2048x1024.size a := fun v3215 k0_hw585 => k0_hw585.2

def k0_off1052 (v3217 : BitVec 32) : Fin 3 → Nat :=
  let c0_2041 : Index := 0#32
  let v3266 : Index := Scalar.indexCast v3217
  let c0_2042 : Index := 0#32
  ![0, v3266.toNat, 0]

def k0_chk586 (v3217 : BitVec 32) : Prop :=
  (∀ a, (k0_off1045 v3217) a + S1x1x1024.size a ≤ S1x2048x1024.size a) ∧
  (∀ a, (k0_off1052 v3217) a + S1x1x1024.size a ≤ S1x2048x1024.size a)
theorem k0_off1045_inb : ∀ (v3217 : BitVec 32) (k0_hw586 : k0_chk586 v3217), ∀ a, (k0_off1045 v3217) a + S1x1x1024.size a ≤ S1x2048x1024.size a := fun v3217 k0_hw586 => k0_hw586.1
theorem k0_off1052_inb : ∀ (v3217 : BitVec 32) (k0_hw586 : k0_chk586 v3217), ∀ a, (k0_off1052 v3217) a + S1x1x1024.size a ≤ S1x2048x1024.size a := fun v3217 k0_hw586 => k0_hw586.2

def k0_off1053 (v3219 : BitVec 32) : Fin 3 → Nat :=
  let c0_2043 : Index := 0#32
  let v3270 : Index := Scalar.indexCast v3219
  let c0_2044 : Index := 0#32
  ![0, v3270.toNat, 0]

def k0_chk587 (v3219 : BitVec 32) : Prop :=
  (∀ a, (k0_off1047 v3219) a + S1x1x1024.size a ≤ S1x2048x1024.size a) ∧
  (∀ a, (k0_off1053 v3219) a + S1x1x1024.size a ≤ S1x2048x1024.size a)
theorem k0_off1047_inb : ∀ (v3219 : BitVec 32) (k0_hw587 : k0_chk587 v3219), ∀ a, (k0_off1047 v3219) a + S1x1x1024.size a ≤ S1x2048x1024.size a := fun v3219 k0_hw587 => k0_hw587.1
theorem k0_off1053_inb : ∀ (v3219 : BitVec 32) (k0_hw587 : k0_chk587 v3219), ∀ a, (k0_off1053 v3219) a + S1x1x1024.size a ≤ S1x2048x1024.size a := fun v3219 k0_hw587 => k0_hw587.2

def k0_off1054 (i : grid0.Coords) : Fin 3 → Nat :=
  let c0_2047 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3278 : Index := Scalar.indexCast v2059
  let c76_2048 : Index := 76#32
  ![0, v3278.toNat, 76]
def k0_off1055 (i : grid0.Coords) : Fin 3 → Nat :=
  let c0_2049 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3280 : Index := Scalar.indexCast v2059
  let c77_2050 : Index := 77#32
  ![0, v3280.toNat, 77]
def k0_off1056 (i : grid0.Coords) : Fin 3 → Nat :=
  let c0_2051 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3282 : Index := Scalar.indexCast v2059
  let c78_2052 : Index := 78#32
  ![0, v3282.toNat, 78]
def k0_off1057 (i : grid0.Coords) : Fin 3 → Nat :=
  let c0_2053 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3284 : Index := Scalar.indexCast v2059
  let c79_2054 : Index := 79#32
  ![0, v3284.toNat, 79]
def k0_off1058 (v3279 : BitVec 32) : Fin 3 → Nat :=
  let c0_2055 : Index := 0#32
  let v3286 : Index := Scalar.indexCast v3279
  let c0_2056 : Index := 0#32
  ![0, v3286.toNat, 0]

def k0_off1059 (i : grid0.Coords) : Fin 3 → Nat :=
  let c0_2057 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3289 : Index := Scalar.indexCast v2059
  let c76_2058 : Index := 76#32
  ![0, v3289.toNat, 76]
def k0_off1060 (v3281 : BitVec 32) : Fin 3 → Nat :=
  let c0_2061 : Index := 0#32
  let v3296 : Index := Scalar.indexCast v3281
  let c0_2062 : Index := 0#32
  ![0, v3296.toNat, 0]

def k0_off1061 (i : grid0.Coords) : Fin 3 → Nat :=
  let c0_2063 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3299 : Index := Scalar.indexCast v2059
  let c77_2064 : Index := 77#32
  ![0, v3299.toNat, 77]
def k0_off1062 (v3283 : BitVec 32) : Fin 3 → Nat :=
  let c0_2067 : Index := 0#32
  let v3306 : Index := Scalar.indexCast v3283
  let c0_2068 : Index := 0#32
  ![0, v3306.toNat, 0]

def k0_off1063 (i : grid0.Coords) : Fin 3 → Nat :=
  let c0_2069 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3309 : Index := Scalar.indexCast v2059
  let c78_2070 : Index := 78#32
  ![0, v3309.toNat, 78]
def k0_off1064 (v3285 : BitVec 32) : Fin 3 → Nat :=
  let c0_2073 : Index := 0#32
  let v3316 : Index := Scalar.indexCast v3285
  let c0_2074 : Index := 0#32
  ![0, v3316.toNat, 0]

def k0_chk592 (v3285 : BitVec 32) : Prop :=
  (∀ a, (k0_off1064 v3285) a + S1x1x1024.size a ≤ S1x2048x1024.size a)
theorem k0_off1064_inb : ∀ (v3285 : BitVec 32) (k0_hw592 : k0_chk592 v3285), ∀ a, (k0_off1064 v3285) a + S1x1x1024.size a ≤ S1x2048x1024.size a := fun v3285 k0_hw592 => k0_hw592

def k0_off1065 (i : grid0.Coords) : Fin 3 → Nat :=
  let c0_2075 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3319 : Index := Scalar.indexCast v2059
  let c79_2076 : Index := 79#32
  ![0, v3319.toNat, 79]
def k0_off1066 (v3279 : BitVec 32) : Fin 3 → Nat :=
  let c0_2079 : Index := 0#32
  let v3326 : Index := Scalar.indexCast v3279
  let c0_2080 : Index := 0#32
  ![0, v3326.toNat, 0]

def k0_chk589 (v3279 : BitVec 32) : Prop :=
  (∀ a, (k0_off1058 v3279) a + S1x1x1024.size a ≤ S1x2048x1024.size a) ∧
  (∀ a, (k0_off1066 v3279) a + S1x1x1024.size a ≤ S1x2048x1024.size a)
theorem k0_off1058_inb : ∀ (v3279 : BitVec 32) (k0_hw589 : k0_chk589 v3279), ∀ a, (k0_off1058 v3279) a + S1x1x1024.size a ≤ S1x2048x1024.size a := fun v3279 k0_hw589 => k0_hw589.1
theorem k0_off1066_inb : ∀ (v3279 : BitVec 32) (k0_hw589 : k0_chk589 v3279), ∀ a, (k0_off1066 v3279) a + S1x1x1024.size a ≤ S1x2048x1024.size a := fun v3279 k0_hw589 => k0_hw589.2

def k0_off1067 (v3281 : BitVec 32) : Fin 3 → Nat :=
  let c0_2081 : Index := 0#32
  let v3330 : Index := Scalar.indexCast v3281
  let c0_2082 : Index := 0#32
  ![0, v3330.toNat, 0]

def k0_chk590 (v3281 : BitVec 32) : Prop :=
  (∀ a, (k0_off1060 v3281) a + S1x1x1024.size a ≤ S1x2048x1024.size a) ∧
  (∀ a, (k0_off1067 v3281) a + S1x1x1024.size a ≤ S1x2048x1024.size a)
theorem k0_off1060_inb : ∀ (v3281 : BitVec 32) (k0_hw590 : k0_chk590 v3281), ∀ a, (k0_off1060 v3281) a + S1x1x1024.size a ≤ S1x2048x1024.size a := fun v3281 k0_hw590 => k0_hw590.1
theorem k0_off1067_inb : ∀ (v3281 : BitVec 32) (k0_hw590 : k0_chk590 v3281), ∀ a, (k0_off1067 v3281) a + S1x1x1024.size a ≤ S1x2048x1024.size a := fun v3281 k0_hw590 => k0_hw590.2

def k0_off1068 (v3283 : BitVec 32) : Fin 3 → Nat :=
  let c0_2083 : Index := 0#32
  let v3334 : Index := Scalar.indexCast v3283
  let c0_2084 : Index := 0#32
  ![0, v3334.toNat, 0]

def k0_chk591 (v3283 : BitVec 32) : Prop :=
  (∀ a, (k0_off1062 v3283) a + S1x1x1024.size a ≤ S1x2048x1024.size a) ∧
  (∀ a, (k0_off1068 v3283) a + S1x1x1024.size a ≤ S1x2048x1024.size a)
theorem k0_off1062_inb : ∀ (v3283 : BitVec 32) (k0_hw591 : k0_chk591 v3283), ∀ a, (k0_off1062 v3283) a + S1x1x1024.size a ≤ S1x2048x1024.size a := fun v3283 k0_hw591 => k0_hw591.1
theorem k0_off1068_inb : ∀ (v3283 : BitVec 32) (k0_hw591 : k0_chk591 v3283), ∀ a, (k0_off1068 v3283) a + S1x1x1024.size a ≤ S1x2048x1024.size a := fun v3283 k0_hw591 => k0_hw591.2

def k0_off1069 (i : grid0.Coords) : Fin 3 → Nat :=
  let c0_2087 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3342 : Index := Scalar.indexCast v2059
  let c80_2088 : Index := 80#32
  ![0, v3342.toNat, 80]
def k0_off1070 (i : grid0.Coords) : Fin 3 → Nat :=
  let c0_2089 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3344 : Index := Scalar.indexCast v2059
  let c81_2090 : Index := 81#32
  ![0, v3344.toNat, 81]
def k0_off1071 (i : grid0.Coords) : Fin 3 → Nat :=
  let c0_2091 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3346 : Index := Scalar.indexCast v2059
  let c82_2092 : Index := 82#32
  ![0, v3346.toNat, 82]
def k0_off1072 (i : grid0.Coords) : Fin 3 → Nat :=
  let c0_2093 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3348 : Index := Scalar.indexCast v2059
  let c83_2094 : Index := 83#32
  ![0, v3348.toNat, 83]
def k0_off1073 (v3343 : BitVec 32) : Fin 3 → Nat :=
  let c0_2095 : Index := 0#32
  let v3350 : Index := Scalar.indexCast v3343
  let c0_2096 : Index := 0#32
  ![0, v3350.toNat, 0]

def k0_off1074 (i : grid0.Coords) : Fin 3 → Nat :=
  let c0_2097 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3353 : Index := Scalar.indexCast v2059
  let c80_2098 : Index := 80#32
  ![0, v3353.toNat, 80]
def k0_off1075 (v3345 : BitVec 32) : Fin 3 → Nat :=
  let c0_2101 : Index := 0#32
  let v3360 : Index := Scalar.indexCast v3345
  let c0_2102 : Index := 0#32
  ![0, v3360.toNat, 0]

def k0_off1076 (i : grid0.Coords) : Fin 3 → Nat :=
  let c0_2103 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3363 : Index := Scalar.indexCast v2059
  let c81_2104 : Index := 81#32
  ![0, v3363.toNat, 81]
def k0_off1077 (v3347 : BitVec 32) : Fin 3 → Nat :=
  let c0_2107 : Index := 0#32
  let v3370 : Index := Scalar.indexCast v3347
  let c0_2108 : Index := 0#32
  ![0, v3370.toNat, 0]

def k0_off1078 (i : grid0.Coords) : Fin 3 → Nat :=
  let c0_2109 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3373 : Index := Scalar.indexCast v2059
  let c82_2110 : Index := 82#32
  ![0, v3373.toNat, 82]
def k0_off1079 (v3349 : BitVec 32) : Fin 3 → Nat :=
  let c0_2113 : Index := 0#32
  let v3380 : Index := Scalar.indexCast v3349
  let c0_2114 : Index := 0#32
  ![0, v3380.toNat, 0]

def k0_chk596 (v3349 : BitVec 32) : Prop :=
  (∀ a, (k0_off1079 v3349) a + S1x1x1024.size a ≤ S1x2048x1024.size a)
theorem k0_off1079_inb : ∀ (v3349 : BitVec 32) (k0_hw596 : k0_chk596 v3349), ∀ a, (k0_off1079 v3349) a + S1x1x1024.size a ≤ S1x2048x1024.size a := fun v3349 k0_hw596 => k0_hw596

def k0_off1080 (i : grid0.Coords) : Fin 3 → Nat :=
  let c0_2115 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3383 : Index := Scalar.indexCast v2059
  let c83_2116 : Index := 83#32
  ![0, v3383.toNat, 83]
def k0_off1081 (v3343 : BitVec 32) : Fin 3 → Nat :=
  let c0_2119 : Index := 0#32
  let v3390 : Index := Scalar.indexCast v3343
  let c0_2120 : Index := 0#32
  ![0, v3390.toNat, 0]

def k0_chk593 (v3343 : BitVec 32) : Prop :=
  (∀ a, (k0_off1073 v3343) a + S1x1x1024.size a ≤ S1x2048x1024.size a) ∧
  (∀ a, (k0_off1081 v3343) a + S1x1x1024.size a ≤ S1x2048x1024.size a)
theorem k0_off1073_inb : ∀ (v3343 : BitVec 32) (k0_hw593 : k0_chk593 v3343), ∀ a, (k0_off1073 v3343) a + S1x1x1024.size a ≤ S1x2048x1024.size a := fun v3343 k0_hw593 => k0_hw593.1
theorem k0_off1081_inb : ∀ (v3343 : BitVec 32) (k0_hw593 : k0_chk593 v3343), ∀ a, (k0_off1081 v3343) a + S1x1x1024.size a ≤ S1x2048x1024.size a := fun v3343 k0_hw593 => k0_hw593.2

def k0_off1082 (v3345 : BitVec 32) : Fin 3 → Nat :=
  let c0_2121 : Index := 0#32
  let v3394 : Index := Scalar.indexCast v3345
  let c0_2122 : Index := 0#32
  ![0, v3394.toNat, 0]

def k0_chk594 (v3345 : BitVec 32) : Prop :=
  (∀ a, (k0_off1075 v3345) a + S1x1x1024.size a ≤ S1x2048x1024.size a) ∧
  (∀ a, (k0_off1082 v3345) a + S1x1x1024.size a ≤ S1x2048x1024.size a)
theorem k0_off1075_inb : ∀ (v3345 : BitVec 32) (k0_hw594 : k0_chk594 v3345), ∀ a, (k0_off1075 v3345) a + S1x1x1024.size a ≤ S1x2048x1024.size a := fun v3345 k0_hw594 => k0_hw594.1
theorem k0_off1082_inb : ∀ (v3345 : BitVec 32) (k0_hw594 : k0_chk594 v3345), ∀ a, (k0_off1082 v3345) a + S1x1x1024.size a ≤ S1x2048x1024.size a := fun v3345 k0_hw594 => k0_hw594.2

def k0_off1083 (v3347 : BitVec 32) : Fin 3 → Nat :=
  let c0_2123 : Index := 0#32
  let v3398 : Index := Scalar.indexCast v3347
  let c0_2124 : Index := 0#32
  ![0, v3398.toNat, 0]

def k0_chk595 (v3347 : BitVec 32) : Prop :=
  (∀ a, (k0_off1077 v3347) a + S1x1x1024.size a ≤ S1x2048x1024.size a) ∧
  (∀ a, (k0_off1083 v3347) a + S1x1x1024.size a ≤ S1x2048x1024.size a)
theorem k0_off1077_inb : ∀ (v3347 : BitVec 32) (k0_hw595 : k0_chk595 v3347), ∀ a, (k0_off1077 v3347) a + S1x1x1024.size a ≤ S1x2048x1024.size a := fun v3347 k0_hw595 => k0_hw595.1
theorem k0_off1083_inb : ∀ (v3347 : BitVec 32) (k0_hw595 : k0_chk595 v3347), ∀ a, (k0_off1083 v3347) a + S1x1x1024.size a ≤ S1x2048x1024.size a := fun v3347 k0_hw595 => k0_hw595.2

def k0_off1084 (i : grid0.Coords) : Fin 3 → Nat :=
  let c0_2127 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3406 : Index := Scalar.indexCast v2059
  let c84_2128 : Index := 84#32
  ![0, v3406.toNat, 84]
def k0_off1085 (i : grid0.Coords) : Fin 3 → Nat :=
  let c0_2129 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3408 : Index := Scalar.indexCast v2059
  let c85_2130 : Index := 85#32
  ![0, v3408.toNat, 85]
def k0_off1086 (i : grid0.Coords) : Fin 3 → Nat :=
  let c0_2131 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3410 : Index := Scalar.indexCast v2059
  let c86_2132 : Index := 86#32
  ![0, v3410.toNat, 86]
def k0_off1087 (i : grid0.Coords) : Fin 3 → Nat :=
  let c0_2133 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3412 : Index := Scalar.indexCast v2059
  let c87_2134 : Index := 87#32
  ![0, v3412.toNat, 87]
def k0_off1088 (v3407 : BitVec 32) : Fin 3 → Nat :=
  let c0_2135 : Index := 0#32
  let v3414 : Index := Scalar.indexCast v3407
  let c0_2136 : Index := 0#32
  ![0, v3414.toNat, 0]

def k0_off1089 (i : grid0.Coords) : Fin 3 → Nat :=
  let c0_2137 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3417 : Index := Scalar.indexCast v2059
  let c84_2138 : Index := 84#32
  ![0, v3417.toNat, 84]
def k0_off1090 (v3409 : BitVec 32) : Fin 3 → Nat :=
  let c0_2141 : Index := 0#32
  let v3424 : Index := Scalar.indexCast v3409
  let c0_2142 : Index := 0#32
  ![0, v3424.toNat, 0]

def k0_off1091 (i : grid0.Coords) : Fin 3 → Nat :=
  let c0_2143 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3427 : Index := Scalar.indexCast v2059
  let c85_2144 : Index := 85#32
  ![0, v3427.toNat, 85]
def k0_off1092 (v3411 : BitVec 32) : Fin 3 → Nat :=
  let c0_2147 : Index := 0#32
  let v3434 : Index := Scalar.indexCast v3411
  let c0_2148 : Index := 0#32
  ![0, v3434.toNat, 0]

def k0_off1093 (i : grid0.Coords) : Fin 3 → Nat :=
  let c0_2149 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3437 : Index := Scalar.indexCast v2059
  let c86_2150 : Index := 86#32
  ![0, v3437.toNat, 86]
def k0_off1094 (v3413 : BitVec 32) : Fin 3 → Nat :=
  let c0_2153 : Index := 0#32
  let v3444 : Index := Scalar.indexCast v3413
  let c0_2154 : Index := 0#32
  ![0, v3444.toNat, 0]

def k0_chk600 (v3413 : BitVec 32) : Prop :=
  (∀ a, (k0_off1094 v3413) a + S1x1x1024.size a ≤ S1x2048x1024.size a)
theorem k0_off1094_inb : ∀ (v3413 : BitVec 32) (k0_hw600 : k0_chk600 v3413), ∀ a, (k0_off1094 v3413) a + S1x1x1024.size a ≤ S1x2048x1024.size a := fun v3413 k0_hw600 => k0_hw600

def k0_off1095 (i : grid0.Coords) : Fin 3 → Nat :=
  let c0_2155 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3447 : Index := Scalar.indexCast v2059
  let c87_2156 : Index := 87#32
  ![0, v3447.toNat, 87]
def k0_off1096 (v3407 : BitVec 32) : Fin 3 → Nat :=
  let c0_2159 : Index := 0#32
  let v3454 : Index := Scalar.indexCast v3407
  let c0_2160 : Index := 0#32
  ![0, v3454.toNat, 0]

def k0_chk597 (v3407 : BitVec 32) : Prop :=
  (∀ a, (k0_off1088 v3407) a + S1x1x1024.size a ≤ S1x2048x1024.size a) ∧
  (∀ a, (k0_off1096 v3407) a + S1x1x1024.size a ≤ S1x2048x1024.size a)
theorem k0_off1088_inb : ∀ (v3407 : BitVec 32) (k0_hw597 : k0_chk597 v3407), ∀ a, (k0_off1088 v3407) a + S1x1x1024.size a ≤ S1x2048x1024.size a := fun v3407 k0_hw597 => k0_hw597.1
theorem k0_off1096_inb : ∀ (v3407 : BitVec 32) (k0_hw597 : k0_chk597 v3407), ∀ a, (k0_off1096 v3407) a + S1x1x1024.size a ≤ S1x2048x1024.size a := fun v3407 k0_hw597 => k0_hw597.2

def k0_off1097 (v3409 : BitVec 32) : Fin 3 → Nat :=
  let c0_2161 : Index := 0#32
  let v3458 : Index := Scalar.indexCast v3409
  let c0_2162 : Index := 0#32
  ![0, v3458.toNat, 0]

def k0_chk598 (v3409 : BitVec 32) : Prop :=
  (∀ a, (k0_off1090 v3409) a + S1x1x1024.size a ≤ S1x2048x1024.size a) ∧
  (∀ a, (k0_off1097 v3409) a + S1x1x1024.size a ≤ S1x2048x1024.size a)
theorem k0_off1090_inb : ∀ (v3409 : BitVec 32) (k0_hw598 : k0_chk598 v3409), ∀ a, (k0_off1090 v3409) a + S1x1x1024.size a ≤ S1x2048x1024.size a := fun v3409 k0_hw598 => k0_hw598.1
theorem k0_off1097_inb : ∀ (v3409 : BitVec 32) (k0_hw598 : k0_chk598 v3409), ∀ a, (k0_off1097 v3409) a + S1x1x1024.size a ≤ S1x2048x1024.size a := fun v3409 k0_hw598 => k0_hw598.2

def k0_off1098 (v3411 : BitVec 32) : Fin 3 → Nat :=
  let c0_2163 : Index := 0#32
  let v3462 : Index := Scalar.indexCast v3411
  let c0_2164 : Index := 0#32
  ![0, v3462.toNat, 0]

def k0_chk599 (v3411 : BitVec 32) : Prop :=
  (∀ a, (k0_off1092 v3411) a + S1x1x1024.size a ≤ S1x2048x1024.size a) ∧
  (∀ a, (k0_off1098 v3411) a + S1x1x1024.size a ≤ S1x2048x1024.size a)
theorem k0_off1092_inb : ∀ (v3411 : BitVec 32) (k0_hw599 : k0_chk599 v3411), ∀ a, (k0_off1092 v3411) a + S1x1x1024.size a ≤ S1x2048x1024.size a := fun v3411 k0_hw599 => k0_hw599.1
theorem k0_off1098_inb : ∀ (v3411 : BitVec 32) (k0_hw599 : k0_chk599 v3411), ∀ a, (k0_off1098 v3411) a + S1x1x1024.size a ≤ S1x2048x1024.size a := fun v3411 k0_hw599 => k0_hw599.2

def k0_off1099 (i : grid0.Coords) : Fin 3 → Nat :=
  let c0_2167 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3470 : Index := Scalar.indexCast v2059
  let c88_2168 : Index := 88#32
  ![0, v3470.toNat, 88]
def k0_off1100 (i : grid0.Coords) : Fin 3 → Nat :=
  let c0_2169 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3472 : Index := Scalar.indexCast v2059
  let c89_2170 : Index := 89#32
  ![0, v3472.toNat, 89]
def k0_off1101 (i : grid0.Coords) : Fin 3 → Nat :=
  let c0_2171 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3474 : Index := Scalar.indexCast v2059
  let c90_2172 : Index := 90#32
  ![0, v3474.toNat, 90]
def k0_off1102 (i : grid0.Coords) : Fin 3 → Nat :=
  let c0_2173 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3476 : Index := Scalar.indexCast v2059
  let c91_2174 : Index := 91#32
  ![0, v3476.toNat, 91]
def k0_off1103 (v3471 : BitVec 32) : Fin 3 → Nat :=
  let c0_2175 : Index := 0#32
  let v3478 : Index := Scalar.indexCast v3471
  let c0_2176 : Index := 0#32
  ![0, v3478.toNat, 0]

def k0_off1104 (i : grid0.Coords) : Fin 3 → Nat :=
  let c0_2177 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3481 : Index := Scalar.indexCast v2059
  let c88_2178 : Index := 88#32
  ![0, v3481.toNat, 88]
def k0_off1105 (v3473 : BitVec 32) : Fin 3 → Nat :=
  let c0_2181 : Index := 0#32
  let v3488 : Index := Scalar.indexCast v3473
  let c0_2182 : Index := 0#32
  ![0, v3488.toNat, 0]

def k0_off1106 (i : grid0.Coords) : Fin 3 → Nat :=
  let c0_2183 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3491 : Index := Scalar.indexCast v2059
  let c89_2184 : Index := 89#32
  ![0, v3491.toNat, 89]
def k0_off1107 (v3475 : BitVec 32) : Fin 3 → Nat :=
  let c0_2187 : Index := 0#32
  let v3498 : Index := Scalar.indexCast v3475
  let c0_2188 : Index := 0#32
  ![0, v3498.toNat, 0]

def k0_off1108 (i : grid0.Coords) : Fin 3 → Nat :=
  let c0_2189 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3501 : Index := Scalar.indexCast v2059
  let c90_2190 : Index := 90#32
  ![0, v3501.toNat, 90]
def k0_off1109 (v3477 : BitVec 32) : Fin 3 → Nat :=
  let c0_2193 : Index := 0#32
  let v3508 : Index := Scalar.indexCast v3477
  let c0_2194 : Index := 0#32
  ![0, v3508.toNat, 0]

def k0_chk604 (v3477 : BitVec 32) : Prop :=
  (∀ a, (k0_off1109 v3477) a + S1x1x1024.size a ≤ S1x2048x1024.size a)
theorem k0_off1109_inb : ∀ (v3477 : BitVec 32) (k0_hw604 : k0_chk604 v3477), ∀ a, (k0_off1109 v3477) a + S1x1x1024.size a ≤ S1x2048x1024.size a := fun v3477 k0_hw604 => k0_hw604

def k0_off1110 (i : grid0.Coords) : Fin 3 → Nat :=
  let c0_2195 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3511 : Index := Scalar.indexCast v2059
  let c91_2196 : Index := 91#32
  ![0, v3511.toNat, 91]
def k0_off1111 (v3471 : BitVec 32) : Fin 3 → Nat :=
  let c0_2199 : Index := 0#32
  let v3518 : Index := Scalar.indexCast v3471
  let c0_2200 : Index := 0#32
  ![0, v3518.toNat, 0]

def k0_chk601 (v3471 : BitVec 32) : Prop :=
  (∀ a, (k0_off1103 v3471) a + S1x1x1024.size a ≤ S1x2048x1024.size a) ∧
  (∀ a, (k0_off1111 v3471) a + S1x1x1024.size a ≤ S1x2048x1024.size a)
theorem k0_off1103_inb : ∀ (v3471 : BitVec 32) (k0_hw601 : k0_chk601 v3471), ∀ a, (k0_off1103 v3471) a + S1x1x1024.size a ≤ S1x2048x1024.size a := fun v3471 k0_hw601 => k0_hw601.1
theorem k0_off1111_inb : ∀ (v3471 : BitVec 32) (k0_hw601 : k0_chk601 v3471), ∀ a, (k0_off1111 v3471) a + S1x1x1024.size a ≤ S1x2048x1024.size a := fun v3471 k0_hw601 => k0_hw601.2

def k0_off1112 (v3473 : BitVec 32) : Fin 3 → Nat :=
  let c0_2201 : Index := 0#32
  let v3522 : Index := Scalar.indexCast v3473
  let c0_2202 : Index := 0#32
  ![0, v3522.toNat, 0]

def k0_chk602 (v3473 : BitVec 32) : Prop :=
  (∀ a, (k0_off1105 v3473) a + S1x1x1024.size a ≤ S1x2048x1024.size a) ∧
  (∀ a, (k0_off1112 v3473) a + S1x1x1024.size a ≤ S1x2048x1024.size a)
theorem k0_off1105_inb : ∀ (v3473 : BitVec 32) (k0_hw602 : k0_chk602 v3473), ∀ a, (k0_off1105 v3473) a + S1x1x1024.size a ≤ S1x2048x1024.size a := fun v3473 k0_hw602 => k0_hw602.1
theorem k0_off1112_inb : ∀ (v3473 : BitVec 32) (k0_hw602 : k0_chk602 v3473), ∀ a, (k0_off1112 v3473) a + S1x1x1024.size a ≤ S1x2048x1024.size a := fun v3473 k0_hw602 => k0_hw602.2

def k0_off1113 (v3475 : BitVec 32) : Fin 3 → Nat :=
  let c0_2203 : Index := 0#32
  let v3526 : Index := Scalar.indexCast v3475
  let c0_2204 : Index := 0#32
  ![0, v3526.toNat, 0]

def k0_chk603 (v3475 : BitVec 32) : Prop :=
  (∀ a, (k0_off1107 v3475) a + S1x1x1024.size a ≤ S1x2048x1024.size a) ∧
  (∀ a, (k0_off1113 v3475) a + S1x1x1024.size a ≤ S1x2048x1024.size a)
theorem k0_off1107_inb : ∀ (v3475 : BitVec 32) (k0_hw603 : k0_chk603 v3475), ∀ a, (k0_off1107 v3475) a + S1x1x1024.size a ≤ S1x2048x1024.size a := fun v3475 k0_hw603 => k0_hw603.1
theorem k0_off1113_inb : ∀ (v3475 : BitVec 32) (k0_hw603 : k0_chk603 v3475), ∀ a, (k0_off1113 v3475) a + S1x1x1024.size a ≤ S1x2048x1024.size a := fun v3475 k0_hw603 => k0_hw603.2

def k0_off1114 (i : grid0.Coords) : Fin 3 → Nat :=
  let c0_2207 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3534 : Index := Scalar.indexCast v2059
  let c92_2208 : Index := 92#32
  ![0, v3534.toNat, 92]
def k0_off1115 (i : grid0.Coords) : Fin 3 → Nat :=
  let c0_2209 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3536 : Index := Scalar.indexCast v2059
  let c93_2210 : Index := 93#32
  ![0, v3536.toNat, 93]
def k0_off1116 (i : grid0.Coords) : Fin 3 → Nat :=
  let c0_2211 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3538 : Index := Scalar.indexCast v2059
  let c94_2212 : Index := 94#32
  ![0, v3538.toNat, 94]
def k0_off1117 (i : grid0.Coords) : Fin 3 → Nat :=
  let c0_2213 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3540 : Index := Scalar.indexCast v2059
  let c95_2214 : Index := 95#32
  ![0, v3540.toNat, 95]
def k0_off1118 (v3535 : BitVec 32) : Fin 3 → Nat :=
  let c0_2215 : Index := 0#32
  let v3542 : Index := Scalar.indexCast v3535
  let c0_2216 : Index := 0#32
  ![0, v3542.toNat, 0]

def k0_off1119 (i : grid0.Coords) : Fin 3 → Nat :=
  let c0_2217 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3545 : Index := Scalar.indexCast v2059
  let c92_2218 : Index := 92#32
  ![0, v3545.toNat, 92]
def k0_off1120 (v3537 : BitVec 32) : Fin 3 → Nat :=
  let c0_2221 : Index := 0#32
  let v3552 : Index := Scalar.indexCast v3537
  let c0_2222 : Index := 0#32
  ![0, v3552.toNat, 0]

def k0_off1121 (i : grid0.Coords) : Fin 3 → Nat :=
  let c0_2223 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3555 : Index := Scalar.indexCast v2059
  let c93_2224 : Index := 93#32
  ![0, v3555.toNat, 93]
def k0_off1122 (v3539 : BitVec 32) : Fin 3 → Nat :=
  let c0_2227 : Index := 0#32
  let v3562 : Index := Scalar.indexCast v3539
  let c0_2228 : Index := 0#32
  ![0, v3562.toNat, 0]

def k0_off1123 (i : grid0.Coords) : Fin 3 → Nat :=
  let c0_2229 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3565 : Index := Scalar.indexCast v2059
  let c94_2230 : Index := 94#32
  ![0, v3565.toNat, 94]
def k0_off1124 (v3541 : BitVec 32) : Fin 3 → Nat :=
  let c0_2233 : Index := 0#32
  let v3572 : Index := Scalar.indexCast v3541
  let c0_2234 : Index := 0#32
  ![0, v3572.toNat, 0]

def k0_chk608 (v3541 : BitVec 32) : Prop :=
  (∀ a, (k0_off1124 v3541) a + S1x1x1024.size a ≤ S1x2048x1024.size a)
theorem k0_off1124_inb : ∀ (v3541 : BitVec 32) (k0_hw608 : k0_chk608 v3541), ∀ a, (k0_off1124 v3541) a + S1x1x1024.size a ≤ S1x2048x1024.size a := fun v3541 k0_hw608 => k0_hw608

def k0_off1125 (i : grid0.Coords) : Fin 3 → Nat :=
  let c0_2235 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3575 : Index := Scalar.indexCast v2059
  let c95_2236 : Index := 95#32
  ![0, v3575.toNat, 95]
def k0_off1126 (v3535 : BitVec 32) : Fin 3 → Nat :=
  let c0_2239 : Index := 0#32
  let v3582 : Index := Scalar.indexCast v3535
  let c0_2240 : Index := 0#32
  ![0, v3582.toNat, 0]

def k0_chk605 (v3535 : BitVec 32) : Prop :=
  (∀ a, (k0_off1118 v3535) a + S1x1x1024.size a ≤ S1x2048x1024.size a) ∧
  (∀ a, (k0_off1126 v3535) a + S1x1x1024.size a ≤ S1x2048x1024.size a)
theorem k0_off1118_inb : ∀ (v3535 : BitVec 32) (k0_hw605 : k0_chk605 v3535), ∀ a, (k0_off1118 v3535) a + S1x1x1024.size a ≤ S1x2048x1024.size a := fun v3535 k0_hw605 => k0_hw605.1
theorem k0_off1126_inb : ∀ (v3535 : BitVec 32) (k0_hw605 : k0_chk605 v3535), ∀ a, (k0_off1126 v3535) a + S1x1x1024.size a ≤ S1x2048x1024.size a := fun v3535 k0_hw605 => k0_hw605.2

def k0_off1127 (v3537 : BitVec 32) : Fin 3 → Nat :=
  let c0_2241 : Index := 0#32
  let v3586 : Index := Scalar.indexCast v3537
  let c0_2242 : Index := 0#32
  ![0, v3586.toNat, 0]

def k0_chk606 (v3537 : BitVec 32) : Prop :=
  (∀ a, (k0_off1120 v3537) a + S1x1x1024.size a ≤ S1x2048x1024.size a) ∧
  (∀ a, (k0_off1127 v3537) a + S1x1x1024.size a ≤ S1x2048x1024.size a)
theorem k0_off1120_inb : ∀ (v3537 : BitVec 32) (k0_hw606 : k0_chk606 v3537), ∀ a, (k0_off1120 v3537) a + S1x1x1024.size a ≤ S1x2048x1024.size a := fun v3537 k0_hw606 => k0_hw606.1
theorem k0_off1127_inb : ∀ (v3537 : BitVec 32) (k0_hw606 : k0_chk606 v3537), ∀ a, (k0_off1127 v3537) a + S1x1x1024.size a ≤ S1x2048x1024.size a := fun v3537 k0_hw606 => k0_hw606.2

def k0_off1128 (v3539 : BitVec 32) : Fin 3 → Nat :=
  let c0_2243 : Index := 0#32
  let v3590 : Index := Scalar.indexCast v3539
  let c0_2244 : Index := 0#32
  ![0, v3590.toNat, 0]

def k0_chk607 (v3539 : BitVec 32) : Prop :=
  (∀ a, (k0_off1122 v3539) a + S1x1x1024.size a ≤ S1x2048x1024.size a) ∧
  (∀ a, (k0_off1128 v3539) a + S1x1x1024.size a ≤ S1x2048x1024.size a)
theorem k0_off1122_inb : ∀ (v3539 : BitVec 32) (k0_hw607 : k0_chk607 v3539), ∀ a, (k0_off1122 v3539) a + S1x1x1024.size a ≤ S1x2048x1024.size a := fun v3539 k0_hw607 => k0_hw607.1
theorem k0_off1128_inb : ∀ (v3539 : BitVec 32) (k0_hw607 : k0_chk607 v3539), ∀ a, (k0_off1128 v3539) a + S1x1x1024.size a ≤ S1x2048x1024.size a := fun v3539 k0_hw607 => k0_hw607.2

def k0_off1129 (i : grid0.Coords) : Fin 3 → Nat :=
  let c0_2247 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3598 : Index := Scalar.indexCast v2059
  let c96_2248 : Index := 96#32
  ![0, v3598.toNat, 96]
def k0_off1130 (i : grid0.Coords) : Fin 3 → Nat :=
  let c0_2249 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3600 : Index := Scalar.indexCast v2059
  let c97_2250 : Index := 97#32
  ![0, v3600.toNat, 97]
def k0_off1131 (i : grid0.Coords) : Fin 3 → Nat :=
  let c0_2251 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3602 : Index := Scalar.indexCast v2059
  let c98_2252 : Index := 98#32
  ![0, v3602.toNat, 98]
def k0_off1132 (i : grid0.Coords) : Fin 3 → Nat :=
  let c0_2253 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3604 : Index := Scalar.indexCast v2059
  let c99_2254 : Index := 99#32
  ![0, v3604.toNat, 99]
def k0_off1133 (v3599 : BitVec 32) : Fin 3 → Nat :=
  let c0_2255 : Index := 0#32
  let v3606 : Index := Scalar.indexCast v3599
  let c0_2256 : Index := 0#32
  ![0, v3606.toNat, 0]

def k0_off1134 (i : grid0.Coords) : Fin 3 → Nat :=
  let c0_2257 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3609 : Index := Scalar.indexCast v2059
  let c96_2258 : Index := 96#32
  ![0, v3609.toNat, 96]
def k0_off1135 (v3601 : BitVec 32) : Fin 3 → Nat :=
  let c0_2261 : Index := 0#32
  let v3616 : Index := Scalar.indexCast v3601
  let c0_2262 : Index := 0#32
  ![0, v3616.toNat, 0]

def k0_off1136 (i : grid0.Coords) : Fin 3 → Nat :=
  let c0_2263 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3619 : Index := Scalar.indexCast v2059
  let c97_2264 : Index := 97#32
  ![0, v3619.toNat, 97]
def k0_off1137 (v3603 : BitVec 32) : Fin 3 → Nat :=
  let c0_2267 : Index := 0#32
  let v3626 : Index := Scalar.indexCast v3603
  let c0_2268 : Index := 0#32
  ![0, v3626.toNat, 0]

def k0_off1138 (i : grid0.Coords) : Fin 3 → Nat :=
  let c0_2269 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3629 : Index := Scalar.indexCast v2059
  let c98_2270 : Index := 98#32
  ![0, v3629.toNat, 98]
def k0_off1139 (v3605 : BitVec 32) : Fin 3 → Nat :=
  let c0_2273 : Index := 0#32
  let v3636 : Index := Scalar.indexCast v3605
  let c0_2274 : Index := 0#32
  ![0, v3636.toNat, 0]

def k0_chk612 (v3605 : BitVec 32) : Prop :=
  (∀ a, (k0_off1139 v3605) a + S1x1x1024.size a ≤ S1x2048x1024.size a)
theorem k0_off1139_inb : ∀ (v3605 : BitVec 32) (k0_hw612 : k0_chk612 v3605), ∀ a, (k0_off1139 v3605) a + S1x1x1024.size a ≤ S1x2048x1024.size a := fun v3605 k0_hw612 => k0_hw612

def k0_off1140 (i : grid0.Coords) : Fin 3 → Nat :=
  let c0_2275 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3639 : Index := Scalar.indexCast v2059
  let c99_2276 : Index := 99#32
  ![0, v3639.toNat, 99]
def k0_off1141 (v3599 : BitVec 32) : Fin 3 → Nat :=
  let c0_2279 : Index := 0#32
  let v3646 : Index := Scalar.indexCast v3599
  let c0_2280 : Index := 0#32
  ![0, v3646.toNat, 0]

def k0_chk609 (v3599 : BitVec 32) : Prop :=
  (∀ a, (k0_off1133 v3599) a + S1x1x1024.size a ≤ S1x2048x1024.size a) ∧
  (∀ a, (k0_off1141 v3599) a + S1x1x1024.size a ≤ S1x2048x1024.size a)
theorem k0_off1133_inb : ∀ (v3599 : BitVec 32) (k0_hw609 : k0_chk609 v3599), ∀ a, (k0_off1133 v3599) a + S1x1x1024.size a ≤ S1x2048x1024.size a := fun v3599 k0_hw609 => k0_hw609.1
theorem k0_off1141_inb : ∀ (v3599 : BitVec 32) (k0_hw609 : k0_chk609 v3599), ∀ a, (k0_off1141 v3599) a + S1x1x1024.size a ≤ S1x2048x1024.size a := fun v3599 k0_hw609 => k0_hw609.2

def k0_off1142 (v3601 : BitVec 32) : Fin 3 → Nat :=
  let c0_2281 : Index := 0#32
  let v3650 : Index := Scalar.indexCast v3601
  let c0_2282 : Index := 0#32
  ![0, v3650.toNat, 0]

def k0_chk610 (v3601 : BitVec 32) : Prop :=
  (∀ a, (k0_off1135 v3601) a + S1x1x1024.size a ≤ S1x2048x1024.size a) ∧
  (∀ a, (k0_off1142 v3601) a + S1x1x1024.size a ≤ S1x2048x1024.size a)
theorem k0_off1135_inb : ∀ (v3601 : BitVec 32) (k0_hw610 : k0_chk610 v3601), ∀ a, (k0_off1135 v3601) a + S1x1x1024.size a ≤ S1x2048x1024.size a := fun v3601 k0_hw610 => k0_hw610.1
theorem k0_off1142_inb : ∀ (v3601 : BitVec 32) (k0_hw610 : k0_chk610 v3601), ∀ a, (k0_off1142 v3601) a + S1x1x1024.size a ≤ S1x2048x1024.size a := fun v3601 k0_hw610 => k0_hw610.2

def k0_off1143 (v3603 : BitVec 32) : Fin 3 → Nat :=
  let c0_2283 : Index := 0#32
  let v3654 : Index := Scalar.indexCast v3603
  let c0_2284 : Index := 0#32
  ![0, v3654.toNat, 0]

def k0_chk611 (v3603 : BitVec 32) : Prop :=
  (∀ a, (k0_off1137 v3603) a + S1x1x1024.size a ≤ S1x2048x1024.size a) ∧
  (∀ a, (k0_off1143 v3603) a + S1x1x1024.size a ≤ S1x2048x1024.size a)
theorem k0_off1137_inb : ∀ (v3603 : BitVec 32) (k0_hw611 : k0_chk611 v3603), ∀ a, (k0_off1137 v3603) a + S1x1x1024.size a ≤ S1x2048x1024.size a := fun v3603 k0_hw611 => k0_hw611.1
theorem k0_off1143_inb : ∀ (v3603 : BitVec 32) (k0_hw611 : k0_chk611 v3603), ∀ a, (k0_off1143 v3603) a + S1x1x1024.size a ≤ S1x2048x1024.size a := fun v3603 k0_hw611 => k0_hw611.2

def k0_off1144 (i : grid0.Coords) : Fin 3 → Nat :=
  let c0_2287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3662 : Index := Scalar.indexCast v2059
  let c100_2288 : Index := 100#32
  ![0, v3662.toNat, 100]
def k0_off1145 (i : grid0.Coords) : Fin 3 → Nat :=
  let c0_2289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3664 : Index := Scalar.indexCast v2059
  let c101_2290 : Index := 101#32
  ![0, v3664.toNat, 101]
def k0_off1146 (i : grid0.Coords) : Fin 3 → Nat :=
  let c0_2291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3666 : Index := Scalar.indexCast v2059
  let c102_2292 : Index := 102#32
  ![0, v3666.toNat, 102]
def k0_off1147 (i : grid0.Coords) : Fin 3 → Nat :=
  let c0_2293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3668 : Index := Scalar.indexCast v2059
  let c103_2294 : Index := 103#32
  ![0, v3668.toNat, 103]
def k0_off1148 (v3663 : BitVec 32) : Fin 3 → Nat :=
  let c0_2295 : Index := 0#32
  let v3670 : Index := Scalar.indexCast v3663
  let c0_2296 : Index := 0#32
  ![0, v3670.toNat, 0]

def k0_off1149 (i : grid0.Coords) : Fin 3 → Nat :=
  let c0_2297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3673 : Index := Scalar.indexCast v2059
  let c100_2298 : Index := 100#32
  ![0, v3673.toNat, 100]
def k0_off1150 (v3665 : BitVec 32) : Fin 3 → Nat :=
  let c0_2301 : Index := 0#32
  let v3680 : Index := Scalar.indexCast v3665
  let c0_2302 : Index := 0#32
  ![0, v3680.toNat, 0]

def k0_off1151 (i : grid0.Coords) : Fin 3 → Nat :=
  let c0_2303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3683 : Index := Scalar.indexCast v2059
  let c101_2304 : Index := 101#32
  ![0, v3683.toNat, 101]
def k0_off1152 (v3667 : BitVec 32) : Fin 3 → Nat :=
  let c0_2307 : Index := 0#32
  let v3690 : Index := Scalar.indexCast v3667
  let c0_2308 : Index := 0#32
  ![0, v3690.toNat, 0]

def k0_off1153 (i : grid0.Coords) : Fin 3 → Nat :=
  let c0_2309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3693 : Index := Scalar.indexCast v2059
  let c102_2310 : Index := 102#32
  ![0, v3693.toNat, 102]
def k0_off1154 (v3669 : BitVec 32) : Fin 3 → Nat :=
  let c0_2313 : Index := 0#32
  let v3700 : Index := Scalar.indexCast v3669
  let c0_2314 : Index := 0#32
  ![0, v3700.toNat, 0]

def k0_chk616 (v3669 : BitVec 32) : Prop :=
  (∀ a, (k0_off1154 v3669) a + S1x1x1024.size a ≤ S1x2048x1024.size a)
theorem k0_off1154_inb : ∀ (v3669 : BitVec 32) (k0_hw616 : k0_chk616 v3669), ∀ a, (k0_off1154 v3669) a + S1x1x1024.size a ≤ S1x2048x1024.size a := fun v3669 k0_hw616 => k0_hw616

def k0_off1155 (i : grid0.Coords) : Fin 3 → Nat :=
  let c0_2315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3703 : Index := Scalar.indexCast v2059
  let c103_2316 : Index := 103#32
  ![0, v3703.toNat, 103]
def k0_off1156 (v3663 : BitVec 32) : Fin 3 → Nat :=
  let c0_2319 : Index := 0#32
  let v3710 : Index := Scalar.indexCast v3663
  let c0_2320 : Index := 0#32
  ![0, v3710.toNat, 0]

def k0_chk613 (v3663 : BitVec 32) : Prop :=
  (∀ a, (k0_off1148 v3663) a + S1x1x1024.size a ≤ S1x2048x1024.size a) ∧
  (∀ a, (k0_off1156 v3663) a + S1x1x1024.size a ≤ S1x2048x1024.size a)
theorem k0_off1148_inb : ∀ (v3663 : BitVec 32) (k0_hw613 : k0_chk613 v3663), ∀ a, (k0_off1148 v3663) a + S1x1x1024.size a ≤ S1x2048x1024.size a := fun v3663 k0_hw613 => k0_hw613.1
theorem k0_off1156_inb : ∀ (v3663 : BitVec 32) (k0_hw613 : k0_chk613 v3663), ∀ a, (k0_off1156 v3663) a + S1x1x1024.size a ≤ S1x2048x1024.size a := fun v3663 k0_hw613 => k0_hw613.2

def k0_off1157 (v3665 : BitVec 32) : Fin 3 → Nat :=
  let c0_2321 : Index := 0#32
  let v3714 : Index := Scalar.indexCast v3665
  let c0_2322 : Index := 0#32
  ![0, v3714.toNat, 0]

def k0_chk614 (v3665 : BitVec 32) : Prop :=
  (∀ a, (k0_off1150 v3665) a + S1x1x1024.size a ≤ S1x2048x1024.size a) ∧
  (∀ a, (k0_off1157 v3665) a + S1x1x1024.size a ≤ S1x2048x1024.size a)
theorem k0_off1150_inb : ∀ (v3665 : BitVec 32) (k0_hw614 : k0_chk614 v3665), ∀ a, (k0_off1150 v3665) a + S1x1x1024.size a ≤ S1x2048x1024.size a := fun v3665 k0_hw614 => k0_hw614.1
theorem k0_off1157_inb : ∀ (v3665 : BitVec 32) (k0_hw614 : k0_chk614 v3665), ∀ a, (k0_off1157 v3665) a + S1x1x1024.size a ≤ S1x2048x1024.size a := fun v3665 k0_hw614 => k0_hw614.2

def k0_off1158 (v3667 : BitVec 32) : Fin 3 → Nat :=
  let c0_2323 : Index := 0#32
  let v3718 : Index := Scalar.indexCast v3667
  let c0_2324 : Index := 0#32
  ![0, v3718.toNat, 0]

def k0_chk615 (v3667 : BitVec 32) : Prop :=
  (∀ a, (k0_off1152 v3667) a + S1x1x1024.size a ≤ S1x2048x1024.size a) ∧
  (∀ a, (k0_off1158 v3667) a + S1x1x1024.size a ≤ S1x2048x1024.size a)
theorem k0_off1152_inb : ∀ (v3667 : BitVec 32) (k0_hw615 : k0_chk615 v3667), ∀ a, (k0_off1152 v3667) a + S1x1x1024.size a ≤ S1x2048x1024.size a := fun v3667 k0_hw615 => k0_hw615.1
theorem k0_off1158_inb : ∀ (v3667 : BitVec 32) (k0_hw615 : k0_chk615 v3667), ∀ a, (k0_off1158 v3667) a + S1x1x1024.size a ≤ S1x2048x1024.size a := fun v3667 k0_hw615 => k0_hw615.2

def k0_off1159 (i : grid0.Coords) : Fin 3 → Nat :=
  let c0_2327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3726 : Index := Scalar.indexCast v2059
  let c104_2328 : Index := 104#32
  ![0, v3726.toNat, 104]
def k0_off1160 (i : grid0.Coords) : Fin 3 → Nat :=
  let c0_2329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3728 : Index := Scalar.indexCast v2059
  let c105_2330 : Index := 105#32
  ![0, v3728.toNat, 105]
def k0_off1161 (i : grid0.Coords) : Fin 3 → Nat :=
  let c0_2331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3730 : Index := Scalar.indexCast v2059
  let c106_2332 : Index := 106#32
  ![0, v3730.toNat, 106]
def k0_off1162 (i : grid0.Coords) : Fin 3 → Nat :=
  let c0_2333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3732 : Index := Scalar.indexCast v2059
  let c107_2334 : Index := 107#32
  ![0, v3732.toNat, 107]
def k0_off1163 (v3727 : BitVec 32) : Fin 3 → Nat :=
  let c0_2335 : Index := 0#32
  let v3734 : Index := Scalar.indexCast v3727
  let c0_2336 : Index := 0#32
  ![0, v3734.toNat, 0]

def k0_off1164 (i : grid0.Coords) : Fin 3 → Nat :=
  let c0_2337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3737 : Index := Scalar.indexCast v2059
  let c104_2338 : Index := 104#32
  ![0, v3737.toNat, 104]
def k0_off1165 (v3729 : BitVec 32) : Fin 3 → Nat :=
  let c0_2341 : Index := 0#32
  let v3744 : Index := Scalar.indexCast v3729
  let c0_2342 : Index := 0#32
  ![0, v3744.toNat, 0]

def k0_off1166 (i : grid0.Coords) : Fin 3 → Nat :=
  let c0_2343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3747 : Index := Scalar.indexCast v2059
  let c105_2344 : Index := 105#32
  ![0, v3747.toNat, 105]
def k0_off1167 (v3731 : BitVec 32) : Fin 3 → Nat :=
  let c0_2347 : Index := 0#32
  let v3754 : Index := Scalar.indexCast v3731
  let c0_2348 : Index := 0#32
  ![0, v3754.toNat, 0]

def k0_off1168 (i : grid0.Coords) : Fin 3 → Nat :=
  let c0_2349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3757 : Index := Scalar.indexCast v2059
  let c106_2350 : Index := 106#32
  ![0, v3757.toNat, 106]
def k0_off1169 (v3733 : BitVec 32) : Fin 3 → Nat :=
  let c0_2353 : Index := 0#32
  let v3764 : Index := Scalar.indexCast v3733
  let c0_2354 : Index := 0#32
  ![0, v3764.toNat, 0]

def k0_chk620 (v3733 : BitVec 32) : Prop :=
  (∀ a, (k0_off1169 v3733) a + S1x1x1024.size a ≤ S1x2048x1024.size a)
theorem k0_off1169_inb : ∀ (v3733 : BitVec 32) (k0_hw620 : k0_chk620 v3733), ∀ a, (k0_off1169 v3733) a + S1x1x1024.size a ≤ S1x2048x1024.size a := fun v3733 k0_hw620 => k0_hw620

def k0_off1170 (i : grid0.Coords) : Fin 3 → Nat :=
  let c0_2355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3767 : Index := Scalar.indexCast v2059
  let c107_2356 : Index := 107#32
  ![0, v3767.toNat, 107]
def k0_off1171 (v3727 : BitVec 32) : Fin 3 → Nat :=
  let c0_2359 : Index := 0#32
  let v3774 : Index := Scalar.indexCast v3727
  let c0_2360 : Index := 0#32
  ![0, v3774.toNat, 0]

def k0_chk617 (v3727 : BitVec 32) : Prop :=
  (∀ a, (k0_off1163 v3727) a + S1x1x1024.size a ≤ S1x2048x1024.size a) ∧
  (∀ a, (k0_off1171 v3727) a + S1x1x1024.size a ≤ S1x2048x1024.size a)
theorem k0_off1163_inb : ∀ (v3727 : BitVec 32) (k0_hw617 : k0_chk617 v3727), ∀ a, (k0_off1163 v3727) a + S1x1x1024.size a ≤ S1x2048x1024.size a := fun v3727 k0_hw617 => k0_hw617.1
theorem k0_off1171_inb : ∀ (v3727 : BitVec 32) (k0_hw617 : k0_chk617 v3727), ∀ a, (k0_off1171 v3727) a + S1x1x1024.size a ≤ S1x2048x1024.size a := fun v3727 k0_hw617 => k0_hw617.2

def k0_off1172 (v3729 : BitVec 32) : Fin 3 → Nat :=
  let c0_2361 : Index := 0#32
  let v3778 : Index := Scalar.indexCast v3729
  let c0_2362 : Index := 0#32
  ![0, v3778.toNat, 0]

def k0_chk618 (v3729 : BitVec 32) : Prop :=
  (∀ a, (k0_off1165 v3729) a + S1x1x1024.size a ≤ S1x2048x1024.size a) ∧
  (∀ a, (k0_off1172 v3729) a + S1x1x1024.size a ≤ S1x2048x1024.size a)
theorem k0_off1165_inb : ∀ (v3729 : BitVec 32) (k0_hw618 : k0_chk618 v3729), ∀ a, (k0_off1165 v3729) a + S1x1x1024.size a ≤ S1x2048x1024.size a := fun v3729 k0_hw618 => k0_hw618.1
theorem k0_off1172_inb : ∀ (v3729 : BitVec 32) (k0_hw618 : k0_chk618 v3729), ∀ a, (k0_off1172 v3729) a + S1x1x1024.size a ≤ S1x2048x1024.size a := fun v3729 k0_hw618 => k0_hw618.2

def k0_off1173 (v3731 : BitVec 32) : Fin 3 → Nat :=
  let c0_2363 : Index := 0#32
  let v3782 : Index := Scalar.indexCast v3731
  let c0_2364 : Index := 0#32
  ![0, v3782.toNat, 0]

def k0_chk619 (v3731 : BitVec 32) : Prop :=
  (∀ a, (k0_off1167 v3731) a + S1x1x1024.size a ≤ S1x2048x1024.size a) ∧
  (∀ a, (k0_off1173 v3731) a + S1x1x1024.size a ≤ S1x2048x1024.size a)
theorem k0_off1167_inb : ∀ (v3731 : BitVec 32) (k0_hw619 : k0_chk619 v3731), ∀ a, (k0_off1167 v3731) a + S1x1x1024.size a ≤ S1x2048x1024.size a := fun v3731 k0_hw619 => k0_hw619.1
theorem k0_off1173_inb : ∀ (v3731 : BitVec 32) (k0_hw619 : k0_chk619 v3731), ∀ a, (k0_off1173 v3731) a + S1x1x1024.size a ≤ S1x2048x1024.size a := fun v3731 k0_hw619 => k0_hw619.2

def k0_off1174 (i : grid0.Coords) : Fin 3 → Nat :=
  let c0_2367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3790 : Index := Scalar.indexCast v2059
  let c108_2368 : Index := 108#32
  ![0, v3790.toNat, 108]
def k0_off1175 (i : grid0.Coords) : Fin 3 → Nat :=
  let c0_2369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3792 : Index := Scalar.indexCast v2059
  let c109_2370 : Index := 109#32
  ![0, v3792.toNat, 109]
def k0_off1176 (i : grid0.Coords) : Fin 3 → Nat :=
  let c0_2371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3794 : Index := Scalar.indexCast v2059
  let c110_2372 : Index := 110#32
  ![0, v3794.toNat, 110]
def k0_off1177 (i : grid0.Coords) : Fin 3 → Nat :=
  let c0_2373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3796 : Index := Scalar.indexCast v2059
  let c111_2374 : Index := 111#32
  ![0, v3796.toNat, 111]
def k0_off1178 (v3791 : BitVec 32) : Fin 3 → Nat :=
  let c0_2375 : Index := 0#32
  let v3798 : Index := Scalar.indexCast v3791
  let c0_2376 : Index := 0#32
  ![0, v3798.toNat, 0]

def k0_off1179 (i : grid0.Coords) : Fin 3 → Nat :=
  let c0_2377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3801 : Index := Scalar.indexCast v2059
  let c108_2378 : Index := 108#32
  ![0, v3801.toNat, 108]
def k0_off1180 (v3793 : BitVec 32) : Fin 3 → Nat :=
  let c0_2381 : Index := 0#32
  let v3808 : Index := Scalar.indexCast v3793
  let c0_2382 : Index := 0#32
  ![0, v3808.toNat, 0]

def k0_off1181 (i : grid0.Coords) : Fin 3 → Nat :=
  let c0_2383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3811 : Index := Scalar.indexCast v2059
  let c109_2384 : Index := 109#32
  ![0, v3811.toNat, 109]
def k0_off1182 (v3795 : BitVec 32) : Fin 3 → Nat :=
  let c0_2387 : Index := 0#32
  let v3818 : Index := Scalar.indexCast v3795
  let c0_2388 : Index := 0#32
  ![0, v3818.toNat, 0]

def k0_off1183 (i : grid0.Coords) : Fin 3 → Nat :=
  let c0_2389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3821 : Index := Scalar.indexCast v2059
  let c110_2390 : Index := 110#32
  ![0, v3821.toNat, 110]
def k0_off1184 (v3797 : BitVec 32) : Fin 3 → Nat :=
  let c0_2393 : Index := 0#32
  let v3828 : Index := Scalar.indexCast v3797
  let c0_2394 : Index := 0#32
  ![0, v3828.toNat, 0]

def k0_chk624 (v3797 : BitVec 32) : Prop :=
  (∀ a, (k0_off1184 v3797) a + S1x1x1024.size a ≤ S1x2048x1024.size a)
theorem k0_off1184_inb : ∀ (v3797 : BitVec 32) (k0_hw624 : k0_chk624 v3797), ∀ a, (k0_off1184 v3797) a + S1x1x1024.size a ≤ S1x2048x1024.size a := fun v3797 k0_hw624 => k0_hw624

def k0_off1185 (i : grid0.Coords) : Fin 3 → Nat :=
  let c0_2395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3831 : Index := Scalar.indexCast v2059
  let c111_2396 : Index := 111#32
  ![0, v3831.toNat, 111]
def k0_off1186 (v3791 : BitVec 32) : Fin 3 → Nat :=
  let c0_2399 : Index := 0#32
  let v3838 : Index := Scalar.indexCast v3791
  let c0_2400 : Index := 0#32
  ![0, v3838.toNat, 0]

def k0_chk621 (v3791 : BitVec 32) : Prop :=
  (∀ a, (k0_off1178 v3791) a + S1x1x1024.size a ≤ S1x2048x1024.size a) ∧
  (∀ a, (k0_off1186 v3791) a + S1x1x1024.size a ≤ S1x2048x1024.size a)
theorem k0_off1178_inb : ∀ (v3791 : BitVec 32) (k0_hw621 : k0_chk621 v3791), ∀ a, (k0_off1178 v3791) a + S1x1x1024.size a ≤ S1x2048x1024.size a := fun v3791 k0_hw621 => k0_hw621.1
theorem k0_off1186_inb : ∀ (v3791 : BitVec 32) (k0_hw621 : k0_chk621 v3791), ∀ a, (k0_off1186 v3791) a + S1x1x1024.size a ≤ S1x2048x1024.size a := fun v3791 k0_hw621 => k0_hw621.2

def k0_off1187 (v3793 : BitVec 32) : Fin 3 → Nat :=
  let c0_2401 : Index := 0#32
  let v3842 : Index := Scalar.indexCast v3793
  let c0_2402 : Index := 0#32
  ![0, v3842.toNat, 0]

def k0_chk622 (v3793 : BitVec 32) : Prop :=
  (∀ a, (k0_off1180 v3793) a + S1x1x1024.size a ≤ S1x2048x1024.size a) ∧
  (∀ a, (k0_off1187 v3793) a + S1x1x1024.size a ≤ S1x2048x1024.size a)
theorem k0_off1180_inb : ∀ (v3793 : BitVec 32) (k0_hw622 : k0_chk622 v3793), ∀ a, (k0_off1180 v3793) a + S1x1x1024.size a ≤ S1x2048x1024.size a := fun v3793 k0_hw622 => k0_hw622.1
theorem k0_off1187_inb : ∀ (v3793 : BitVec 32) (k0_hw622 : k0_chk622 v3793), ∀ a, (k0_off1187 v3793) a + S1x1x1024.size a ≤ S1x2048x1024.size a := fun v3793 k0_hw622 => k0_hw622.2

def k0_off1188 (v3795 : BitVec 32) : Fin 3 → Nat :=
  let c0_2403 : Index := 0#32
  let v3846 : Index := Scalar.indexCast v3795
  let c0_2404 : Index := 0#32
  ![0, v3846.toNat, 0]

def k0_chk623 (v3795 : BitVec 32) : Prop :=
  (∀ a, (k0_off1182 v3795) a + S1x1x1024.size a ≤ S1x2048x1024.size a) ∧
  (∀ a, (k0_off1188 v3795) a + S1x1x1024.size a ≤ S1x2048x1024.size a)
theorem k0_off1182_inb : ∀ (v3795 : BitVec 32) (k0_hw623 : k0_chk623 v3795), ∀ a, (k0_off1182 v3795) a + S1x1x1024.size a ≤ S1x2048x1024.size a := fun v3795 k0_hw623 => k0_hw623.1
theorem k0_off1188_inb : ∀ (v3795 : BitVec 32) (k0_hw623 : k0_chk623 v3795), ∀ a, (k0_off1188 v3795) a + S1x1x1024.size a ≤ S1x2048x1024.size a := fun v3795 k0_hw623 => k0_hw623.2

def k0_off1189 (i : grid0.Coords) : Fin 3 → Nat :=
  let c0_2407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3854 : Index := Scalar.indexCast v2059
  let c112_2408 : Index := 112#32
  ![0, v3854.toNat, 112]
def k0_off1190 (i : grid0.Coords) : Fin 3 → Nat :=
  let c0_2409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3856 : Index := Scalar.indexCast v2059
  let c113_2410 : Index := 113#32
  ![0, v3856.toNat, 113]
def k0_off1191 (i : grid0.Coords) : Fin 3 → Nat :=
  let c0_2411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3858 : Index := Scalar.indexCast v2059
  let c114_2412 : Index := 114#32
  ![0, v3858.toNat, 114]
def k0_off1192 (i : grid0.Coords) : Fin 3 → Nat :=
  let c0_2413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3860 : Index := Scalar.indexCast v2059
  let c115_2414 : Index := 115#32
  ![0, v3860.toNat, 115]
def k0_off1193 (v3855 : BitVec 32) : Fin 3 → Nat :=
  let c0_2415 : Index := 0#32
  let v3862 : Index := Scalar.indexCast v3855
  let c0_2416 : Index := 0#32
  ![0, v3862.toNat, 0]

def k0_off1194 (i : grid0.Coords) : Fin 3 → Nat :=
  let c0_2417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3865 : Index := Scalar.indexCast v2059
  let c112_2418 : Index := 112#32
  ![0, v3865.toNat, 112]
def k0_off1195 (v3857 : BitVec 32) : Fin 3 → Nat :=
  let c0_2421 : Index := 0#32
  let v3872 : Index := Scalar.indexCast v3857
  let c0_2422 : Index := 0#32
  ![0, v3872.toNat, 0]

def k0_off1196 (i : grid0.Coords) : Fin 3 → Nat :=
  let c0_2423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3875 : Index := Scalar.indexCast v2059
  let c113_2424 : Index := 113#32
  ![0, v3875.toNat, 113]
def k0_off1197 (v3859 : BitVec 32) : Fin 3 → Nat :=
  let c0_2427 : Index := 0#32
  let v3882 : Index := Scalar.indexCast v3859
  let c0_2428 : Index := 0#32
  ![0, v3882.toNat, 0]

def k0_off1198 (i : grid0.Coords) : Fin 3 → Nat :=
  let c0_2429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3885 : Index := Scalar.indexCast v2059
  let c114_2430 : Index := 114#32
  ![0, v3885.toNat, 114]
def k0_off1199 (v3861 : BitVec 32) : Fin 3 → Nat :=
  let c0_2433 : Index := 0#32
  let v3892 : Index := Scalar.indexCast v3861
  let c0_2434 : Index := 0#32
  ![0, v3892.toNat, 0]

def k0_chk628 (v3861 : BitVec 32) : Prop :=
  (∀ a, (k0_off1199 v3861) a + S1x1x1024.size a ≤ S1x2048x1024.size a)
theorem k0_off1199_inb : ∀ (v3861 : BitVec 32) (k0_hw628 : k0_chk628 v3861), ∀ a, (k0_off1199 v3861) a + S1x1x1024.size a ≤ S1x2048x1024.size a := fun v3861 k0_hw628 => k0_hw628

def k0_off1200 (i : grid0.Coords) : Fin 3 → Nat :=
  let c0_2435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3895 : Index := Scalar.indexCast v2059
  let c115_2436 : Index := 115#32
  ![0, v3895.toNat, 115]
def k0_off1201 (v3855 : BitVec 32) : Fin 3 → Nat :=
  let c0_2439 : Index := 0#32
  let v3902 : Index := Scalar.indexCast v3855
  let c0_2440 : Index := 0#32
  ![0, v3902.toNat, 0]

def k0_chk625 (v3855 : BitVec 32) : Prop :=
  (∀ a, (k0_off1193 v3855) a + S1x1x1024.size a ≤ S1x2048x1024.size a) ∧
  (∀ a, (k0_off1201 v3855) a + S1x1x1024.size a ≤ S1x2048x1024.size a)
theorem k0_off1193_inb : ∀ (v3855 : BitVec 32) (k0_hw625 : k0_chk625 v3855), ∀ a, (k0_off1193 v3855) a + S1x1x1024.size a ≤ S1x2048x1024.size a := fun v3855 k0_hw625 => k0_hw625.1
theorem k0_off1201_inb : ∀ (v3855 : BitVec 32) (k0_hw625 : k0_chk625 v3855), ∀ a, (k0_off1201 v3855) a + S1x1x1024.size a ≤ S1x2048x1024.size a := fun v3855 k0_hw625 => k0_hw625.2

def k0_off1202 (v3857 : BitVec 32) : Fin 3 → Nat :=
  let c0_2441 : Index := 0#32
  let v3906 : Index := Scalar.indexCast v3857
  let c0_2442 : Index := 0#32
  ![0, v3906.toNat, 0]

def k0_chk626 (v3857 : BitVec 32) : Prop :=
  (∀ a, (k0_off1195 v3857) a + S1x1x1024.size a ≤ S1x2048x1024.size a) ∧
  (∀ a, (k0_off1202 v3857) a + S1x1x1024.size a ≤ S1x2048x1024.size a)
theorem k0_off1195_inb : ∀ (v3857 : BitVec 32) (k0_hw626 : k0_chk626 v3857), ∀ a, (k0_off1195 v3857) a + S1x1x1024.size a ≤ S1x2048x1024.size a := fun v3857 k0_hw626 => k0_hw626.1
theorem k0_off1202_inb : ∀ (v3857 : BitVec 32) (k0_hw626 : k0_chk626 v3857), ∀ a, (k0_off1202 v3857) a + S1x1x1024.size a ≤ S1x2048x1024.size a := fun v3857 k0_hw626 => k0_hw626.2

def k0_off1203 (v3859 : BitVec 32) : Fin 3 → Nat :=
  let c0_2443 : Index := 0#32
  let v3910 : Index := Scalar.indexCast v3859
  let c0_2444 : Index := 0#32
  ![0, v3910.toNat, 0]

def k0_chk627 (v3859 : BitVec 32) : Prop :=
  (∀ a, (k0_off1197 v3859) a + S1x1x1024.size a ≤ S1x2048x1024.size a) ∧
  (∀ a, (k0_off1203 v3859) a + S1x1x1024.size a ≤ S1x2048x1024.size a)
theorem k0_off1197_inb : ∀ (v3859 : BitVec 32) (k0_hw627 : k0_chk627 v3859), ∀ a, (k0_off1197 v3859) a + S1x1x1024.size a ≤ S1x2048x1024.size a := fun v3859 k0_hw627 => k0_hw627.1
theorem k0_off1203_inb : ∀ (v3859 : BitVec 32) (k0_hw627 : k0_chk627 v3859), ∀ a, (k0_off1203 v3859) a + S1x1x1024.size a ≤ S1x2048x1024.size a := fun v3859 k0_hw627 => k0_hw627.2

def k0_off1204 (i : grid0.Coords) : Fin 3 → Nat :=
  let c0_2447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3918 : Index := Scalar.indexCast v2059
  let c116_2448 : Index := 116#32
  ![0, v3918.toNat, 116]
def k0_off1205 (i : grid0.Coords) : Fin 3 → Nat :=
  let c0_2449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3920 : Index := Scalar.indexCast v2059
  let c117_2450 : Index := 117#32
  ![0, v3920.toNat, 117]
def k0_off1206 (i : grid0.Coords) : Fin 3 → Nat :=
  let c0_2451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3922 : Index := Scalar.indexCast v2059
  let c118_2452 : Index := 118#32
  ![0, v3922.toNat, 118]
def k0_off1207 (i : grid0.Coords) : Fin 3 → Nat :=
  let c0_2453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3924 : Index := Scalar.indexCast v2059
  let c119_2454 : Index := 119#32
  ![0, v3924.toNat, 119]
def k0_off1208 (v3919 : BitVec 32) : Fin 3 → Nat :=
  let c0_2455 : Index := 0#32
  let v3926 : Index := Scalar.indexCast v3919
  let c0_2456 : Index := 0#32
  ![0, v3926.toNat, 0]

def k0_off1209 (i : grid0.Coords) : Fin 3 → Nat :=
  let c0_2457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3929 : Index := Scalar.indexCast v2059
  let c116_2458 : Index := 116#32
  ![0, v3929.toNat, 116]
def k0_off1210 (v3921 : BitVec 32) : Fin 3 → Nat :=
  let c0_2461 : Index := 0#32
  let v3936 : Index := Scalar.indexCast v3921
  let c0_2462 : Index := 0#32
  ![0, v3936.toNat, 0]

def k0_off1211 (i : grid0.Coords) : Fin 3 → Nat :=
  let c0_2463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3939 : Index := Scalar.indexCast v2059
  let c117_2464 : Index := 117#32
  ![0, v3939.toNat, 117]
def k0_off1212 (v3923 : BitVec 32) : Fin 3 → Nat :=
  let c0_2467 : Index := 0#32
  let v3946 : Index := Scalar.indexCast v3923
  let c0_2468 : Index := 0#32
  ![0, v3946.toNat, 0]

def k0_off1213 (i : grid0.Coords) : Fin 3 → Nat :=
  let c0_2469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3949 : Index := Scalar.indexCast v2059
  let c118_2470 : Index := 118#32
  ![0, v3949.toNat, 118]
def k0_off1214 (v3925 : BitVec 32) : Fin 3 → Nat :=
  let c0_2473 : Index := 0#32
  let v3956 : Index := Scalar.indexCast v3925
  let c0_2474 : Index := 0#32
  ![0, v3956.toNat, 0]

def k0_chk632 (v3925 : BitVec 32) : Prop :=
  (∀ a, (k0_off1214 v3925) a + S1x1x1024.size a ≤ S1x2048x1024.size a)
theorem k0_off1214_inb : ∀ (v3925 : BitVec 32) (k0_hw632 : k0_chk632 v3925), ∀ a, (k0_off1214 v3925) a + S1x1x1024.size a ≤ S1x2048x1024.size a := fun v3925 k0_hw632 => k0_hw632

def k0_off1215 (i : grid0.Coords) : Fin 3 → Nat :=
  let c0_2475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3959 : Index := Scalar.indexCast v2059
  let c119_2476 : Index := 119#32
  ![0, v3959.toNat, 119]
def k0_off1216 (v3919 : BitVec 32) : Fin 3 → Nat :=
  let c0_2479 : Index := 0#32
  let v3966 : Index := Scalar.indexCast v3919
  let c0_2480 : Index := 0#32
  ![0, v3966.toNat, 0]

def k0_chk629 (v3919 : BitVec 32) : Prop :=
  (∀ a, (k0_off1208 v3919) a + S1x1x1024.size a ≤ S1x2048x1024.size a) ∧
  (∀ a, (k0_off1216 v3919) a + S1x1x1024.size a ≤ S1x2048x1024.size a)
theorem k0_off1208_inb : ∀ (v3919 : BitVec 32) (k0_hw629 : k0_chk629 v3919), ∀ a, (k0_off1208 v3919) a + S1x1x1024.size a ≤ S1x2048x1024.size a := fun v3919 k0_hw629 => k0_hw629.1
theorem k0_off1216_inb : ∀ (v3919 : BitVec 32) (k0_hw629 : k0_chk629 v3919), ∀ a, (k0_off1216 v3919) a + S1x1x1024.size a ≤ S1x2048x1024.size a := fun v3919 k0_hw629 => k0_hw629.2

def k0_off1217 (v3921 : BitVec 32) : Fin 3 → Nat :=
  let c0_2481 : Index := 0#32
  let v3970 : Index := Scalar.indexCast v3921
  let c0_2482 : Index := 0#32
  ![0, v3970.toNat, 0]

def k0_chk630 (v3921 : BitVec 32) : Prop :=
  (∀ a, (k0_off1210 v3921) a + S1x1x1024.size a ≤ S1x2048x1024.size a) ∧
  (∀ a, (k0_off1217 v3921) a + S1x1x1024.size a ≤ S1x2048x1024.size a)
theorem k0_off1210_inb : ∀ (v3921 : BitVec 32) (k0_hw630 : k0_chk630 v3921), ∀ a, (k0_off1210 v3921) a + S1x1x1024.size a ≤ S1x2048x1024.size a := fun v3921 k0_hw630 => k0_hw630.1
theorem k0_off1217_inb : ∀ (v3921 : BitVec 32) (k0_hw630 : k0_chk630 v3921), ∀ a, (k0_off1217 v3921) a + S1x1x1024.size a ≤ S1x2048x1024.size a := fun v3921 k0_hw630 => k0_hw630.2

def k0_off1218 (v3923 : BitVec 32) : Fin 3 → Nat :=
  let c0_2483 : Index := 0#32
  let v3974 : Index := Scalar.indexCast v3923
  let c0_2484 : Index := 0#32
  ![0, v3974.toNat, 0]

def k0_chk631 (v3923 : BitVec 32) : Prop :=
  (∀ a, (k0_off1212 v3923) a + S1x1x1024.size a ≤ S1x2048x1024.size a) ∧
  (∀ a, (k0_off1218 v3923) a + S1x1x1024.size a ≤ S1x2048x1024.size a)
theorem k0_off1212_inb : ∀ (v3923 : BitVec 32) (k0_hw631 : k0_chk631 v3923), ∀ a, (k0_off1212 v3923) a + S1x1x1024.size a ≤ S1x2048x1024.size a := fun v3923 k0_hw631 => k0_hw631.1
theorem k0_off1218_inb : ∀ (v3923 : BitVec 32) (k0_hw631 : k0_chk631 v3923), ∀ a, (k0_off1218 v3923) a + S1x1x1024.size a ≤ S1x2048x1024.size a := fun v3923 k0_hw631 => k0_hw631.2

def k0_off1219 (i : grid0.Coords) : Fin 3 → Nat :=
  let c0_2487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3982 : Index := Scalar.indexCast v2059
  let c120_2488 : Index := 120#32
  ![0, v3982.toNat, 120]
def k0_off1220 (i : grid0.Coords) : Fin 3 → Nat :=
  let c0_2489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3984 : Index := Scalar.indexCast v2059
  let c121_2490 : Index := 121#32
  ![0, v3984.toNat, 121]
def k0_off1221 (i : grid0.Coords) : Fin 3 → Nat :=
  let c0_2491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3986 : Index := Scalar.indexCast v2059
  let c122_2492 : Index := 122#32
  ![0, v3986.toNat, 122]
def k0_off1222 (i : grid0.Coords) : Fin 3 → Nat :=
  let c0_2493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3988 : Index := Scalar.indexCast v2059
  let c123_2494 : Index := 123#32
  ![0, v3988.toNat, 123]
def k0_off1223 (v3983 : BitVec 32) : Fin 3 → Nat :=
  let c0_2495 : Index := 0#32
  let v3990 : Index := Scalar.indexCast v3983
  let c0_2496 : Index := 0#32
  ![0, v3990.toNat, 0]

def k0_off1224 (i : grid0.Coords) : Fin 3 → Nat :=
  let c0_2497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3993 : Index := Scalar.indexCast v2059
  let c120_2498 : Index := 120#32
  ![0, v3993.toNat, 120]
def k0_off1225 (v3985 : BitVec 32) : Fin 3 → Nat :=
  let c0_2501 : Index := 0#32
  let v4000 : Index := Scalar.indexCast v3985
  let c0_2502 : Index := 0#32
  ![0, v4000.toNat, 0]

def k0_off1226 (i : grid0.Coords) : Fin 3 → Nat :=
  let c0_2503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4003 : Index := Scalar.indexCast v2059
  let c121_2504 : Index := 121#32
  ![0, v4003.toNat, 121]
def k0_off1227 (v3987 : BitVec 32) : Fin 3 → Nat :=
  let c0_2507 : Index := 0#32
  let v4010 : Index := Scalar.indexCast v3987
  let c0_2508 : Index := 0#32
  ![0, v4010.toNat, 0]

def k0_off1228 (i : grid0.Coords) : Fin 3 → Nat :=
  let c0_2509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4013 : Index := Scalar.indexCast v2059
  let c122_2510 : Index := 122#32
  ![0, v4013.toNat, 122]
def k0_off1229 (v3989 : BitVec 32) : Fin 3 → Nat :=
  let c0_2513 : Index := 0#32
  let v4020 : Index := Scalar.indexCast v3989
  let c0_2514 : Index := 0#32
  ![0, v4020.toNat, 0]

def k0_chk636 (v3989 : BitVec 32) : Prop :=
  (∀ a, (k0_off1229 v3989) a + S1x1x1024.size a ≤ S1x2048x1024.size a)
theorem k0_off1229_inb : ∀ (v3989 : BitVec 32) (k0_hw636 : k0_chk636 v3989), ∀ a, (k0_off1229 v3989) a + S1x1x1024.size a ≤ S1x2048x1024.size a := fun v3989 k0_hw636 => k0_hw636

def k0_off1230 (i : grid0.Coords) : Fin 3 → Nat :=
  let c0_2515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4023 : Index := Scalar.indexCast v2059
  let c123_2516 : Index := 123#32
  ![0, v4023.toNat, 123]
def k0_off1231 (v3983 : BitVec 32) : Fin 3 → Nat :=
  let c0_2519 : Index := 0#32
  let v4030 : Index := Scalar.indexCast v3983
  let c0_2520 : Index := 0#32
  ![0, v4030.toNat, 0]

def k0_chk633 (v3983 : BitVec 32) : Prop :=
  (∀ a, (k0_off1223 v3983) a + S1x1x1024.size a ≤ S1x2048x1024.size a) ∧
  (∀ a, (k0_off1231 v3983) a + S1x1x1024.size a ≤ S1x2048x1024.size a)
theorem k0_off1223_inb : ∀ (v3983 : BitVec 32) (k0_hw633 : k0_chk633 v3983), ∀ a, (k0_off1223 v3983) a + S1x1x1024.size a ≤ S1x2048x1024.size a := fun v3983 k0_hw633 => k0_hw633.1
theorem k0_off1231_inb : ∀ (v3983 : BitVec 32) (k0_hw633 : k0_chk633 v3983), ∀ a, (k0_off1231 v3983) a + S1x1x1024.size a ≤ S1x2048x1024.size a := fun v3983 k0_hw633 => k0_hw633.2

def k0_off1232 (v3985 : BitVec 32) : Fin 3 → Nat :=
  let c0_2521 : Index := 0#32
  let v4034 : Index := Scalar.indexCast v3985
  let c0_2522 : Index := 0#32
  ![0, v4034.toNat, 0]

def k0_chk634 (v3985 : BitVec 32) : Prop :=
  (∀ a, (k0_off1225 v3985) a + S1x1x1024.size a ≤ S1x2048x1024.size a) ∧
  (∀ a, (k0_off1232 v3985) a + S1x1x1024.size a ≤ S1x2048x1024.size a)
theorem k0_off1225_inb : ∀ (v3985 : BitVec 32) (k0_hw634 : k0_chk634 v3985), ∀ a, (k0_off1225 v3985) a + S1x1x1024.size a ≤ S1x2048x1024.size a := fun v3985 k0_hw634 => k0_hw634.1
theorem k0_off1232_inb : ∀ (v3985 : BitVec 32) (k0_hw634 : k0_chk634 v3985), ∀ a, (k0_off1232 v3985) a + S1x1x1024.size a ≤ S1x2048x1024.size a := fun v3985 k0_hw634 => k0_hw634.2

def k0_off1233 (v3987 : BitVec 32) : Fin 3 → Nat :=
  let c0_2523 : Index := 0#32
  let v4038 : Index := Scalar.indexCast v3987
  let c0_2524 : Index := 0#32
  ![0, v4038.toNat, 0]

def k0_chk635 (v3987 : BitVec 32) : Prop :=
  (∀ a, (k0_off1227 v3987) a + S1x1x1024.size a ≤ S1x2048x1024.size a) ∧
  (∀ a, (k0_off1233 v3987) a + S1x1x1024.size a ≤ S1x2048x1024.size a)
theorem k0_off1227_inb : ∀ (v3987 : BitVec 32) (k0_hw635 : k0_chk635 v3987), ∀ a, (k0_off1227 v3987) a + S1x1x1024.size a ≤ S1x2048x1024.size a := fun v3987 k0_hw635 => k0_hw635.1
theorem k0_off1233_inb : ∀ (v3987 : BitVec 32) (k0_hw635 : k0_chk635 v3987), ∀ a, (k0_off1233 v3987) a + S1x1x1024.size a ≤ S1x2048x1024.size a := fun v3987 k0_hw635 => k0_hw635.2

def k0_off1234 (i : grid0.Coords) : Fin 3 → Nat :=
  let c0_2527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4046 : Index := Scalar.indexCast v2059
  let c124_2528 : Index := 124#32
  ![0, v4046.toNat, 124]
def k0_off1235 (i : grid0.Coords) : Fin 3 → Nat :=
  let c0_2529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4048 : Index := Scalar.indexCast v2059
  let c125_2530 : Index := 125#32
  ![0, v4048.toNat, 125]
def k0_off1236 (i : grid0.Coords) : Fin 3 → Nat :=
  let c0_2531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4050 : Index := Scalar.indexCast v2059
  let c126_2532 : Index := 126#32
  ![0, v4050.toNat, 126]
def k0_off1237 (i : grid0.Coords) : Fin 3 → Nat :=
  let c0_2533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4052 : Index := Scalar.indexCast v2059
  let c127_2534 : Index := 127#32
  ![0, v4052.toNat, 127]
def k0_off1238 (v4047 : BitVec 32) : Fin 3 → Nat :=
  let c0_2535 : Index := 0#32
  let v4054 : Index := Scalar.indexCast v4047
  let c0_2536 : Index := 0#32
  ![0, v4054.toNat, 0]

def k0_off1239 (i : grid0.Coords) : Fin 3 → Nat :=
  let c0_2537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4057 : Index := Scalar.indexCast v2059
  let c124_2538 : Index := 124#32
  ![0, v4057.toNat, 124]
def k0_off1240 (v4049 : BitVec 32) : Fin 3 → Nat :=
  let c0_2541 : Index := 0#32
  let v4064 : Index := Scalar.indexCast v4049
  let c0_2542 : Index := 0#32
  ![0, v4064.toNat, 0]

def k0_off1241 (i : grid0.Coords) : Fin 3 → Nat :=
  let c0_2543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4067 : Index := Scalar.indexCast v2059
  let c125_2544 : Index := 125#32
  ![0, v4067.toNat, 125]
def k0_off1242 (v4051 : BitVec 32) : Fin 3 → Nat :=
  let c0_2547 : Index := 0#32
  let v4074 : Index := Scalar.indexCast v4051
  let c0_2548 : Index := 0#32
  ![0, v4074.toNat, 0]

def k0_off1243 (i : grid0.Coords) : Fin 3 → Nat :=
  let c0_2549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4077 : Index := Scalar.indexCast v2059
  let c126_2550 : Index := 126#32
  ![0, v4077.toNat, 126]
def k0_off1244 (v4053 : BitVec 32) : Fin 3 → Nat :=
  let c0_2553 : Index := 0#32
  let v4084 : Index := Scalar.indexCast v4053
  let c0_2554 : Index := 0#32
  ![0, v4084.toNat, 0]

def k0_chk640 (v4053 : BitVec 32) : Prop :=
  (∀ a, (k0_off1244 v4053) a + S1x1x1024.size a ≤ S1x2048x1024.size a)
theorem k0_off1244_inb : ∀ (v4053 : BitVec 32) (k0_hw640 : k0_chk640 v4053), ∀ a, (k0_off1244 v4053) a + S1x1x1024.size a ≤ S1x2048x1024.size a := fun v4053 k0_hw640 => k0_hw640

def k0_off1245 (i : grid0.Coords) : Fin 3 → Nat :=
  let c0_2555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4087 : Index := Scalar.indexCast v2059
  let c127_2556 : Index := 127#32
  ![0, v4087.toNat, 127]
def k0_off1246 (v4047 : BitVec 32) : Fin 3 → Nat :=
  let c0_2559 : Index := 0#32
  let v4094 : Index := Scalar.indexCast v4047
  let c0_2560 : Index := 0#32
  ![0, v4094.toNat, 0]

def k0_chk637 (v4047 : BitVec 32) : Prop :=
  (∀ a, (k0_off1238 v4047) a + S1x1x1024.size a ≤ S1x2048x1024.size a) ∧
  (∀ a, (k0_off1246 v4047) a + S1x1x1024.size a ≤ S1x2048x1024.size a)
theorem k0_off1238_inb : ∀ (v4047 : BitVec 32) (k0_hw637 : k0_chk637 v4047), ∀ a, (k0_off1238 v4047) a + S1x1x1024.size a ≤ S1x2048x1024.size a := fun v4047 k0_hw637 => k0_hw637.1
theorem k0_off1246_inb : ∀ (v4047 : BitVec 32) (k0_hw637 : k0_chk637 v4047), ∀ a, (k0_off1246 v4047) a + S1x1x1024.size a ≤ S1x2048x1024.size a := fun v4047 k0_hw637 => k0_hw637.2

def k0_off1247 (v4049 : BitVec 32) : Fin 3 → Nat :=
  let c0_2561 : Index := 0#32
  let v4098 : Index := Scalar.indexCast v4049
  let c0_2562 : Index := 0#32
  ![0, v4098.toNat, 0]

def k0_chk638 (v4049 : BitVec 32) : Prop :=
  (∀ a, (k0_off1240 v4049) a + S1x1x1024.size a ≤ S1x2048x1024.size a) ∧
  (∀ a, (k0_off1247 v4049) a + S1x1x1024.size a ≤ S1x2048x1024.size a)
theorem k0_off1240_inb : ∀ (v4049 : BitVec 32) (k0_hw638 : k0_chk638 v4049), ∀ a, (k0_off1240 v4049) a + S1x1x1024.size a ≤ S1x2048x1024.size a := fun v4049 k0_hw638 => k0_hw638.1
theorem k0_off1247_inb : ∀ (v4049 : BitVec 32) (k0_hw638 : k0_chk638 v4049), ∀ a, (k0_off1247 v4049) a + S1x1x1024.size a ≤ S1x2048x1024.size a := fun v4049 k0_hw638 => k0_hw638.2

def k0_off1248 (v4051 : BitVec 32) : Fin 3 → Nat :=
  let c0_2563 : Index := 0#32
  let v4102 : Index := Scalar.indexCast v4051
  let c0_2564 : Index := 0#32
  ![0, v4102.toNat, 0]

def k0_chk639 (v4051 : BitVec 32) : Prop :=
  (∀ a, (k0_off1242 v4051) a + S1x1x1024.size a ≤ S1x2048x1024.size a) ∧
  (∀ a, (k0_off1248 v4051) a + S1x1x1024.size a ≤ S1x2048x1024.size a)
theorem k0_off1242_inb : ∀ (v4051 : BitVec 32) (k0_hw639 : k0_chk639 v4051), ∀ a, (k0_off1242 v4051) a + S1x1x1024.size a ≤ S1x2048x1024.size a := fun v4051 k0_hw639 => k0_hw639.1
theorem k0_off1248_inb : ∀ (v4051 : BitVec 32) (k0_hw639 : k0_chk639 v4051), ∀ a, (k0_off1248 v4051) a + S1x1x1024.size a ≤ S1x2048x1024.size a := fun v4051 k0_hw639 => k0_hw639.2

def k0_off1249 (i : grid0.Coords) : Fin 3 → Nat :=
  let c0_2567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4110 : Index := Scalar.indexCast v2059
  let c128_2568 : Index := 128#32
  ![0, v4110.toNat, 128]
def k0_off1250 (i : grid0.Coords) : Fin 3 → Nat :=
  let c0_2569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4112 : Index := Scalar.indexCast v2059
  let c129_2570 : Index := 129#32
  ![0, v4112.toNat, 129]
def k0_off1251 (i : grid0.Coords) : Fin 3 → Nat :=
  let c0_2571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4114 : Index := Scalar.indexCast v2059
  let c130_2572 : Index := 130#32
  ![0, v4114.toNat, 130]
def k0_off1252 (i : grid0.Coords) : Fin 3 → Nat :=
  let c0_2573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4116 : Index := Scalar.indexCast v2059
  let c131_2574 : Index := 131#32
  ![0, v4116.toNat, 131]
def k0_off1253 (v4111 : BitVec 32) : Fin 3 → Nat :=
  let c0_2575 : Index := 0#32
  let v4118 : Index := Scalar.indexCast v4111
  let c0_2576 : Index := 0#32
  ![0, v4118.toNat, 0]

def k0_off1254 (i : grid0.Coords) : Fin 3 → Nat :=
  let c0_2577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4121 : Index := Scalar.indexCast v2059
  let c128_2578 : Index := 128#32
  ![0, v4121.toNat, 128]
def k0_off1255 (v4113 : BitVec 32) : Fin 3 → Nat :=
  let c0_2581 : Index := 0#32
  let v4128 : Index := Scalar.indexCast v4113
  let c0_2582 : Index := 0#32
  ![0, v4128.toNat, 0]

def k0_off1256 (i : grid0.Coords) : Fin 3 → Nat :=
  let c0_2583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4131 : Index := Scalar.indexCast v2059
  let c129_2584 : Index := 129#32
  ![0, v4131.toNat, 129]
def k0_off1257 (v4115 : BitVec 32) : Fin 3 → Nat :=
  let c0_2587 : Index := 0#32
  let v4138 : Index := Scalar.indexCast v4115
  let c0_2588 : Index := 0#32
  ![0, v4138.toNat, 0]

def k0_off1258 (i : grid0.Coords) : Fin 3 → Nat :=
  let c0_2589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4141 : Index := Scalar.indexCast v2059
  let c130_2590 : Index := 130#32
  ![0, v4141.toNat, 130]
def k0_off1259 (v4117 : BitVec 32) : Fin 3 → Nat :=
  let c0_2593 : Index := 0#32
  let v4148 : Index := Scalar.indexCast v4117
  let c0_2594 : Index := 0#32
  ![0, v4148.toNat, 0]

def k0_chk644 (v4117 : BitVec 32) : Prop :=
  (∀ a, (k0_off1259 v4117) a + S1x1x1024.size a ≤ S1x2048x1024.size a)
theorem k0_off1259_inb : ∀ (v4117 : BitVec 32) (k0_hw644 : k0_chk644 v4117), ∀ a, (k0_off1259 v4117) a + S1x1x1024.size a ≤ S1x2048x1024.size a := fun v4117 k0_hw644 => k0_hw644

def k0_off1260 (i : grid0.Coords) : Fin 3 → Nat :=
  let c0_2595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4151 : Index := Scalar.indexCast v2059
  let c131_2596 : Index := 131#32
  ![0, v4151.toNat, 131]
def k0_off1261 (v4111 : BitVec 32) : Fin 3 → Nat :=
  let c0_2599 : Index := 0#32
  let v4158 : Index := Scalar.indexCast v4111
  let c0_2600 : Index := 0#32
  ![0, v4158.toNat, 0]

def k0_chk641 (v4111 : BitVec 32) : Prop :=
  (∀ a, (k0_off1253 v4111) a + S1x1x1024.size a ≤ S1x2048x1024.size a) ∧
  (∀ a, (k0_off1261 v4111) a + S1x1x1024.size a ≤ S1x2048x1024.size a)
theorem k0_off1253_inb : ∀ (v4111 : BitVec 32) (k0_hw641 : k0_chk641 v4111), ∀ a, (k0_off1253 v4111) a + S1x1x1024.size a ≤ S1x2048x1024.size a := fun v4111 k0_hw641 => k0_hw641.1
theorem k0_off1261_inb : ∀ (v4111 : BitVec 32) (k0_hw641 : k0_chk641 v4111), ∀ a, (k0_off1261 v4111) a + S1x1x1024.size a ≤ S1x2048x1024.size a := fun v4111 k0_hw641 => k0_hw641.2

def k0_off1262 (v4113 : BitVec 32) : Fin 3 → Nat :=
  let c0_2601 : Index := 0#32
  let v4162 : Index := Scalar.indexCast v4113
  let c0_2602 : Index := 0#32
  ![0, v4162.toNat, 0]

def k0_chk642 (v4113 : BitVec 32) : Prop :=
  (∀ a, (k0_off1255 v4113) a + S1x1x1024.size a ≤ S1x2048x1024.size a) ∧
  (∀ a, (k0_off1262 v4113) a + S1x1x1024.size a ≤ S1x2048x1024.size a)
theorem k0_off1255_inb : ∀ (v4113 : BitVec 32) (k0_hw642 : k0_chk642 v4113), ∀ a, (k0_off1255 v4113) a + S1x1x1024.size a ≤ S1x2048x1024.size a := fun v4113 k0_hw642 => k0_hw642.1
theorem k0_off1262_inb : ∀ (v4113 : BitVec 32) (k0_hw642 : k0_chk642 v4113), ∀ a, (k0_off1262 v4113) a + S1x1x1024.size a ≤ S1x2048x1024.size a := fun v4113 k0_hw642 => k0_hw642.2

def k0_off1263 (v4115 : BitVec 32) : Fin 3 → Nat :=
  let c0_2603 : Index := 0#32
  let v4166 : Index := Scalar.indexCast v4115
  let c0_2604 : Index := 0#32
  ![0, v4166.toNat, 0]

def k0_chk643 (v4115 : BitVec 32) : Prop :=
  (∀ a, (k0_off1257 v4115) a + S1x1x1024.size a ≤ S1x2048x1024.size a) ∧
  (∀ a, (k0_off1263 v4115) a + S1x1x1024.size a ≤ S1x2048x1024.size a)
theorem k0_off1257_inb : ∀ (v4115 : BitVec 32) (k0_hw643 : k0_chk643 v4115), ∀ a, (k0_off1257 v4115) a + S1x1x1024.size a ≤ S1x2048x1024.size a := fun v4115 k0_hw643 => k0_hw643.1
theorem k0_off1263_inb : ∀ (v4115 : BitVec 32) (k0_hw643 : k0_chk643 v4115), ∀ a, (k0_off1263 v4115) a + S1x1x1024.size a ≤ S1x2048x1024.size a := fun v4115 k0_hw643 => k0_hw643.2

def k0_off1264 (i : grid0.Coords) : Fin 3 → Nat :=
  let c0_2607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4174 : Index := Scalar.indexCast v2059
  let c132_2608 : Index := 132#32
  ![0, v4174.toNat, 132]
def k0_off1265 (i : grid0.Coords) : Fin 3 → Nat :=
  let c0_2609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4176 : Index := Scalar.indexCast v2059
  let c133_2610 : Index := 133#32
  ![0, v4176.toNat, 133]
def k0_off1266 (i : grid0.Coords) : Fin 3 → Nat :=
  let c0_2611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4178 : Index := Scalar.indexCast v2059
  let c134_2612 : Index := 134#32
  ![0, v4178.toNat, 134]
def k0_off1267 (i : grid0.Coords) : Fin 3 → Nat :=
  let c0_2613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4180 : Index := Scalar.indexCast v2059
  let c135_2614 : Index := 135#32
  ![0, v4180.toNat, 135]
def k0_off1268 (v4175 : BitVec 32) : Fin 3 → Nat :=
  let c0_2615 : Index := 0#32
  let v4182 : Index := Scalar.indexCast v4175
  let c0_2616 : Index := 0#32
  ![0, v4182.toNat, 0]

def k0_off1269 (i : grid0.Coords) : Fin 3 → Nat :=
  let c0_2617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4185 : Index := Scalar.indexCast v2059
  let c132_2618 : Index := 132#32
  ![0, v4185.toNat, 132]
def k0_off1270 (v4177 : BitVec 32) : Fin 3 → Nat :=
  let c0_2621 : Index := 0#32
  let v4192 : Index := Scalar.indexCast v4177
  let c0_2622 : Index := 0#32
  ![0, v4192.toNat, 0]

def k0_off1271 (i : grid0.Coords) : Fin 3 → Nat :=
  let c0_2623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4195 : Index := Scalar.indexCast v2059
  let c133_2624 : Index := 133#32
  ![0, v4195.toNat, 133]
def k0_off1272 (v4179 : BitVec 32) : Fin 3 → Nat :=
  let c0_2627 : Index := 0#32
  let v4202 : Index := Scalar.indexCast v4179
  let c0_2628 : Index := 0#32
  ![0, v4202.toNat, 0]

def k0_off1273 (i : grid0.Coords) : Fin 3 → Nat :=
  let c0_2629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4205 : Index := Scalar.indexCast v2059
  let c134_2630 : Index := 134#32
  ![0, v4205.toNat, 134]
def k0_off1274 (v4181 : BitVec 32) : Fin 3 → Nat :=
  let c0_2633 : Index := 0#32
  let v4212 : Index := Scalar.indexCast v4181
  let c0_2634 : Index := 0#32
  ![0, v4212.toNat, 0]

def k0_chk648 (v4181 : BitVec 32) : Prop :=
  (∀ a, (k0_off1274 v4181) a + S1x1x1024.size a ≤ S1x2048x1024.size a)
theorem k0_off1274_inb : ∀ (v4181 : BitVec 32) (k0_hw648 : k0_chk648 v4181), ∀ a, (k0_off1274 v4181) a + S1x1x1024.size a ≤ S1x2048x1024.size a := fun v4181 k0_hw648 => k0_hw648

def k0_off1275 (i : grid0.Coords) : Fin 3 → Nat :=
  let c0_2635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4215 : Index := Scalar.indexCast v2059
  let c135_2636 : Index := 135#32
  ![0, v4215.toNat, 135]
def k0_off1276 (v4175 : BitVec 32) : Fin 3 → Nat :=
  let c0_2639 : Index := 0#32
  let v4222 : Index := Scalar.indexCast v4175
  let c0_2640 : Index := 0#32
  ![0, v4222.toNat, 0]

def k0_chk645 (v4175 : BitVec 32) : Prop :=
  (∀ a, (k0_off1268 v4175) a + S1x1x1024.size a ≤ S1x2048x1024.size a) ∧
  (∀ a, (k0_off1276 v4175) a + S1x1x1024.size a ≤ S1x2048x1024.size a)
theorem k0_off1268_inb : ∀ (v4175 : BitVec 32) (k0_hw645 : k0_chk645 v4175), ∀ a, (k0_off1268 v4175) a + S1x1x1024.size a ≤ S1x2048x1024.size a := fun v4175 k0_hw645 => k0_hw645.1
theorem k0_off1276_inb : ∀ (v4175 : BitVec 32) (k0_hw645 : k0_chk645 v4175), ∀ a, (k0_off1276 v4175) a + S1x1x1024.size a ≤ S1x2048x1024.size a := fun v4175 k0_hw645 => k0_hw645.2

def k0_off1277 (v4177 : BitVec 32) : Fin 3 → Nat :=
  let c0_2641 : Index := 0#32
  let v4226 : Index := Scalar.indexCast v4177
  let c0_2642 : Index := 0#32
  ![0, v4226.toNat, 0]

def k0_chk646 (v4177 : BitVec 32) : Prop :=
  (∀ a, (k0_off1270 v4177) a + S1x1x1024.size a ≤ S1x2048x1024.size a) ∧
  (∀ a, (k0_off1277 v4177) a + S1x1x1024.size a ≤ S1x2048x1024.size a)
theorem k0_off1270_inb : ∀ (v4177 : BitVec 32) (k0_hw646 : k0_chk646 v4177), ∀ a, (k0_off1270 v4177) a + S1x1x1024.size a ≤ S1x2048x1024.size a := fun v4177 k0_hw646 => k0_hw646.1
theorem k0_off1277_inb : ∀ (v4177 : BitVec 32) (k0_hw646 : k0_chk646 v4177), ∀ a, (k0_off1277 v4177) a + S1x1x1024.size a ≤ S1x2048x1024.size a := fun v4177 k0_hw646 => k0_hw646.2

def k0_off1278 (v4179 : BitVec 32) : Fin 3 → Nat :=
  let c0_2643 : Index := 0#32
  let v4230 : Index := Scalar.indexCast v4179
  let c0_2644 : Index := 0#32
  ![0, v4230.toNat, 0]

def k0_chk647 (v4179 : BitVec 32) : Prop :=
  (∀ a, (k0_off1272 v4179) a + S1x1x1024.size a ≤ S1x2048x1024.size a) ∧
  (∀ a, (k0_off1278 v4179) a + S1x1x1024.size a ≤ S1x2048x1024.size a)
theorem k0_off1272_inb : ∀ (v4179 : BitVec 32) (k0_hw647 : k0_chk647 v4179), ∀ a, (k0_off1272 v4179) a + S1x1x1024.size a ≤ S1x2048x1024.size a := fun v4179 k0_hw647 => k0_hw647.1
theorem k0_off1278_inb : ∀ (v4179 : BitVec 32) (k0_hw647 : k0_chk647 v4179), ∀ a, (k0_off1278 v4179) a + S1x1x1024.size a ≤ S1x2048x1024.size a := fun v4179 k0_hw647 => k0_hw647.2

def k0_off1279 (i : grid0.Coords) : Fin 3 → Nat :=
  let c0_2647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4238 : Index := Scalar.indexCast v2059
  let c136_2648 : Index := 136#32
  ![0, v4238.toNat, 136]
def k0_off1280 (i : grid0.Coords) : Fin 3 → Nat :=
  let c0_2649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4240 : Index := Scalar.indexCast v2059
  let c137_2650 : Index := 137#32
  ![0, v4240.toNat, 137]
def k0_off1281 (i : grid0.Coords) : Fin 3 → Nat :=
  let c0_2651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4242 : Index := Scalar.indexCast v2059
  let c138_2652 : Index := 138#32
  ![0, v4242.toNat, 138]
def k0_off1282 (i : grid0.Coords) : Fin 3 → Nat :=
  let c0_2653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4244 : Index := Scalar.indexCast v2059
  let c139_2654 : Index := 139#32
  ![0, v4244.toNat, 139]
def k0_off1283 (v4239 : BitVec 32) : Fin 3 → Nat :=
  let c0_2655 : Index := 0#32
  let v4246 : Index := Scalar.indexCast v4239
  let c0_2656 : Index := 0#32
  ![0, v4246.toNat, 0]

def k0_off1284 (i : grid0.Coords) : Fin 3 → Nat :=
  let c0_2657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4249 : Index := Scalar.indexCast v2059
  let c136_2658 : Index := 136#32
  ![0, v4249.toNat, 136]
def k0_off1285 (v4241 : BitVec 32) : Fin 3 → Nat :=
  let c0_2661 : Index := 0#32
  let v4256 : Index := Scalar.indexCast v4241
  let c0_2662 : Index := 0#32
  ![0, v4256.toNat, 0]

def k0_off1286 (i : grid0.Coords) : Fin 3 → Nat :=
  let c0_2663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4259 : Index := Scalar.indexCast v2059
  let c137_2664 : Index := 137#32
  ![0, v4259.toNat, 137]
def k0_off1287 (v4243 : BitVec 32) : Fin 3 → Nat :=
  let c0_2667 : Index := 0#32
  let v4266 : Index := Scalar.indexCast v4243
  let c0_2668 : Index := 0#32
  ![0, v4266.toNat, 0]

def k0_off1288 (i : grid0.Coords) : Fin 3 → Nat :=
  let c0_2669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4269 : Index := Scalar.indexCast v2059
  let c138_2670 : Index := 138#32
  ![0, v4269.toNat, 138]
def k0_off1289 (v4245 : BitVec 32) : Fin 3 → Nat :=
  let c0_2673 : Index := 0#32
  let v4276 : Index := Scalar.indexCast v4245
  let c0_2674 : Index := 0#32
  ![0, v4276.toNat, 0]

def k0_chk652 (v4245 : BitVec 32) : Prop :=
  (∀ a, (k0_off1289 v4245) a + S1x1x1024.size a ≤ S1x2048x1024.size a)
theorem k0_off1289_inb : ∀ (v4245 : BitVec 32) (k0_hw652 : k0_chk652 v4245), ∀ a, (k0_off1289 v4245) a + S1x1x1024.size a ≤ S1x2048x1024.size a := fun v4245 k0_hw652 => k0_hw652

def k0_off1290 (i : grid0.Coords) : Fin 3 → Nat :=
  let c0_2675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4279 : Index := Scalar.indexCast v2059
  let c139_2676 : Index := 139#32
  ![0, v4279.toNat, 139]
def k0_off1291 (v4239 : BitVec 32) : Fin 3 → Nat :=
  let c0_2679 : Index := 0#32
  let v4286 : Index := Scalar.indexCast v4239
  let c0_2680 : Index := 0#32
  ![0, v4286.toNat, 0]

def k0_chk649 (v4239 : BitVec 32) : Prop :=
  (∀ a, (k0_off1283 v4239) a + S1x1x1024.size a ≤ S1x2048x1024.size a) ∧
  (∀ a, (k0_off1291 v4239) a + S1x1x1024.size a ≤ S1x2048x1024.size a)
theorem k0_off1283_inb : ∀ (v4239 : BitVec 32) (k0_hw649 : k0_chk649 v4239), ∀ a, (k0_off1283 v4239) a + S1x1x1024.size a ≤ S1x2048x1024.size a := fun v4239 k0_hw649 => k0_hw649.1
theorem k0_off1291_inb : ∀ (v4239 : BitVec 32) (k0_hw649 : k0_chk649 v4239), ∀ a, (k0_off1291 v4239) a + S1x1x1024.size a ≤ S1x2048x1024.size a := fun v4239 k0_hw649 => k0_hw649.2

def k0_off1292 (v4241 : BitVec 32) : Fin 3 → Nat :=
  let c0_2681 : Index := 0#32
  let v4290 : Index := Scalar.indexCast v4241
  let c0_2682 : Index := 0#32
  ![0, v4290.toNat, 0]

def k0_chk650 (v4241 : BitVec 32) : Prop :=
  (∀ a, (k0_off1285 v4241) a + S1x1x1024.size a ≤ S1x2048x1024.size a) ∧
  (∀ a, (k0_off1292 v4241) a + S1x1x1024.size a ≤ S1x2048x1024.size a)
theorem k0_off1285_inb : ∀ (v4241 : BitVec 32) (k0_hw650 : k0_chk650 v4241), ∀ a, (k0_off1285 v4241) a + S1x1x1024.size a ≤ S1x2048x1024.size a := fun v4241 k0_hw650 => k0_hw650.1
theorem k0_off1292_inb : ∀ (v4241 : BitVec 32) (k0_hw650 : k0_chk650 v4241), ∀ a, (k0_off1292 v4241) a + S1x1x1024.size a ≤ S1x2048x1024.size a := fun v4241 k0_hw650 => k0_hw650.2

def k0_off1293 (v4243 : BitVec 32) : Fin 3 → Nat :=
  let c0_2683 : Index := 0#32
  let v4294 : Index := Scalar.indexCast v4243
  let c0_2684 : Index := 0#32
  ![0, v4294.toNat, 0]

def k0_chk651 (v4243 : BitVec 32) : Prop :=
  (∀ a, (k0_off1287 v4243) a + S1x1x1024.size a ≤ S1x2048x1024.size a) ∧
  (∀ a, (k0_off1293 v4243) a + S1x1x1024.size a ≤ S1x2048x1024.size a)
theorem k0_off1287_inb : ∀ (v4243 : BitVec 32) (k0_hw651 : k0_chk651 v4243), ∀ a, (k0_off1287 v4243) a + S1x1x1024.size a ≤ S1x2048x1024.size a := fun v4243 k0_hw651 => k0_hw651.1
theorem k0_off1293_inb : ∀ (v4243 : BitVec 32) (k0_hw651 : k0_chk651 v4243), ∀ a, (k0_off1293 v4243) a + S1x1x1024.size a ≤ S1x2048x1024.size a := fun v4243 k0_hw651 => k0_hw651.2

def k0_off1294 (i : grid0.Coords) : Fin 3 → Nat :=
  let c0_2687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4302 : Index := Scalar.indexCast v2059
  let c140_2688 : Index := 140#32
  ![0, v4302.toNat, 140]
def k0_off1295 (i : grid0.Coords) : Fin 3 → Nat :=
  let c0_2689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4304 : Index := Scalar.indexCast v2059
  let c141_2690 : Index := 141#32
  ![0, v4304.toNat, 141]
def k0_off1296 (i : grid0.Coords) : Fin 3 → Nat :=
  let c0_2691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4306 : Index := Scalar.indexCast v2059
  let c142_2692 : Index := 142#32
  ![0, v4306.toNat, 142]
def k0_off1297 (i : grid0.Coords) : Fin 3 → Nat :=
  let c0_2693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4308 : Index := Scalar.indexCast v2059
  let c143_2694 : Index := 143#32
  ![0, v4308.toNat, 143]
def k0_off1298 (v4303 : BitVec 32) : Fin 3 → Nat :=
  let c0_2695 : Index := 0#32
  let v4310 : Index := Scalar.indexCast v4303
  let c0_2696 : Index := 0#32
  ![0, v4310.toNat, 0]

def k0_off1299 (i : grid0.Coords) : Fin 3 → Nat :=
  let c0_2697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4313 : Index := Scalar.indexCast v2059
  let c140_2698 : Index := 140#32
  ![0, v4313.toNat, 140]
def k0_off1300 (v4305 : BitVec 32) : Fin 3 → Nat :=
  let c0_2701 : Index := 0#32
  let v4320 : Index := Scalar.indexCast v4305
  let c0_2702 : Index := 0#32
  ![0, v4320.toNat, 0]

def k0_off1301 (i : grid0.Coords) : Fin 3 → Nat :=
  let c0_2703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4323 : Index := Scalar.indexCast v2059
  let c141_2704 : Index := 141#32
  ![0, v4323.toNat, 141]
def k0_off1302 (v4307 : BitVec 32) : Fin 3 → Nat :=
  let c0_2707 : Index := 0#32
  let v4330 : Index := Scalar.indexCast v4307
  let c0_2708 : Index := 0#32
  ![0, v4330.toNat, 0]

def k0_off1303 (i : grid0.Coords) : Fin 3 → Nat :=
  let c0_2709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4333 : Index := Scalar.indexCast v2059
  let c142_2710 : Index := 142#32
  ![0, v4333.toNat, 142]
def k0_off1304 (v4309 : BitVec 32) : Fin 3 → Nat :=
  let c0_2713 : Index := 0#32
  let v4340 : Index := Scalar.indexCast v4309
  let c0_2714 : Index := 0#32
  ![0, v4340.toNat, 0]

def k0_chk656 (v4309 : BitVec 32) : Prop :=
  (∀ a, (k0_off1304 v4309) a + S1x1x1024.size a ≤ S1x2048x1024.size a)
theorem k0_off1304_inb : ∀ (v4309 : BitVec 32) (k0_hw656 : k0_chk656 v4309), ∀ a, (k0_off1304 v4309) a + S1x1x1024.size a ≤ S1x2048x1024.size a := fun v4309 k0_hw656 => k0_hw656

def k0_off1305 (i : grid0.Coords) : Fin 3 → Nat :=
  let c0_2715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4343 : Index := Scalar.indexCast v2059
  let c143_2716 : Index := 143#32
  ![0, v4343.toNat, 143]
def k0_off1306 (v4303 : BitVec 32) : Fin 3 → Nat :=
  let c0_2719 : Index := 0#32
  let v4350 : Index := Scalar.indexCast v4303
  let c0_2720 : Index := 0#32
  ![0, v4350.toNat, 0]

def k0_chk653 (v4303 : BitVec 32) : Prop :=
  (∀ a, (k0_off1298 v4303) a + S1x1x1024.size a ≤ S1x2048x1024.size a) ∧
  (∀ a, (k0_off1306 v4303) a + S1x1x1024.size a ≤ S1x2048x1024.size a)
theorem k0_off1298_inb : ∀ (v4303 : BitVec 32) (k0_hw653 : k0_chk653 v4303), ∀ a, (k0_off1298 v4303) a + S1x1x1024.size a ≤ S1x2048x1024.size a := fun v4303 k0_hw653 => k0_hw653.1
theorem k0_off1306_inb : ∀ (v4303 : BitVec 32) (k0_hw653 : k0_chk653 v4303), ∀ a, (k0_off1306 v4303) a + S1x1x1024.size a ≤ S1x2048x1024.size a := fun v4303 k0_hw653 => k0_hw653.2

def k0_off1307 (v4305 : BitVec 32) : Fin 3 → Nat :=
  let c0_2721 : Index := 0#32
  let v4354 : Index := Scalar.indexCast v4305
  let c0_2722 : Index := 0#32
  ![0, v4354.toNat, 0]

def k0_chk654 (v4305 : BitVec 32) : Prop :=
  (∀ a, (k0_off1300 v4305) a + S1x1x1024.size a ≤ S1x2048x1024.size a) ∧
  (∀ a, (k0_off1307 v4305) a + S1x1x1024.size a ≤ S1x2048x1024.size a)
theorem k0_off1300_inb : ∀ (v4305 : BitVec 32) (k0_hw654 : k0_chk654 v4305), ∀ a, (k0_off1300 v4305) a + S1x1x1024.size a ≤ S1x2048x1024.size a := fun v4305 k0_hw654 => k0_hw654.1
theorem k0_off1307_inb : ∀ (v4305 : BitVec 32) (k0_hw654 : k0_chk654 v4305), ∀ a, (k0_off1307 v4305) a + S1x1x1024.size a ≤ S1x2048x1024.size a := fun v4305 k0_hw654 => k0_hw654.2

def k0_off1308 (v4307 : BitVec 32) : Fin 3 → Nat :=
  let c0_2723 : Index := 0#32
  let v4358 : Index := Scalar.indexCast v4307
  let c0_2724 : Index := 0#32
  ![0, v4358.toNat, 0]

def k0_chk655 (v4307 : BitVec 32) : Prop :=
  (∀ a, (k0_off1302 v4307) a + S1x1x1024.size a ≤ S1x2048x1024.size a) ∧
  (∀ a, (k0_off1308 v4307) a + S1x1x1024.size a ≤ S1x2048x1024.size a)
theorem k0_off1302_inb : ∀ (v4307 : BitVec 32) (k0_hw655 : k0_chk655 v4307), ∀ a, (k0_off1302 v4307) a + S1x1x1024.size a ≤ S1x2048x1024.size a := fun v4307 k0_hw655 => k0_hw655.1
theorem k0_off1308_inb : ∀ (v4307 : BitVec 32) (k0_hw655 : k0_chk655 v4307), ∀ a, (k0_off1308 v4307) a + S1x1x1024.size a ≤ S1x2048x1024.size a := fun v4307 k0_hw655 => k0_hw655.2

def k0_off1309 (i : grid0.Coords) : Fin 3 → Nat :=
  let c0_2727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4366 : Index := Scalar.indexCast v2059
  let c144_2728 : Index := 144#32
  ![0, v4366.toNat, 144]
def k0_off1310 (i : grid0.Coords) : Fin 3 → Nat :=
  let c0_2729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4368 : Index := Scalar.indexCast v2059
  let c145_2730 : Index := 145#32
  ![0, v4368.toNat, 145]
def k0_off1311 (i : grid0.Coords) : Fin 3 → Nat :=
  let c0_2731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4370 : Index := Scalar.indexCast v2059
  let c146_2732 : Index := 146#32
  ![0, v4370.toNat, 146]
def k0_off1312 (i : grid0.Coords) : Fin 3 → Nat :=
  let c0_2733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4372 : Index := Scalar.indexCast v2059
  let c147_2734 : Index := 147#32
  ![0, v4372.toNat, 147]
def k0_off1313 (v4367 : BitVec 32) : Fin 3 → Nat :=
  let c0_2735 : Index := 0#32
  let v4374 : Index := Scalar.indexCast v4367
  let c0_2736 : Index := 0#32
  ![0, v4374.toNat, 0]

def k0_off1314 (i : grid0.Coords) : Fin 3 → Nat :=
  let c0_2737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4377 : Index := Scalar.indexCast v2059
  let c144_2738 : Index := 144#32
  ![0, v4377.toNat, 144]
def k0_off1315 (v4369 : BitVec 32) : Fin 3 → Nat :=
  let c0_2741 : Index := 0#32
  let v4384 : Index := Scalar.indexCast v4369
  let c0_2742 : Index := 0#32
  ![0, v4384.toNat, 0]

def k0_off1316 (i : grid0.Coords) : Fin 3 → Nat :=
  let c0_2743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4387 : Index := Scalar.indexCast v2059
  let c145_2744 : Index := 145#32
  ![0, v4387.toNat, 145]
def k0_off1317 (v4371 : BitVec 32) : Fin 3 → Nat :=
  let c0_2747 : Index := 0#32
  let v4394 : Index := Scalar.indexCast v4371
  let c0_2748 : Index := 0#32
  ![0, v4394.toNat, 0]

def k0_off1318 (i : grid0.Coords) : Fin 3 → Nat :=
  let c0_2749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4397 : Index := Scalar.indexCast v2059
  let c146_2750 : Index := 146#32
  ![0, v4397.toNat, 146]
def k0_off1319 (v4373 : BitVec 32) : Fin 3 → Nat :=
  let c0_2753 : Index := 0#32
  let v4404 : Index := Scalar.indexCast v4373
  let c0_2754 : Index := 0#32
  ![0, v4404.toNat, 0]

def k0_chk660 (v4373 : BitVec 32) : Prop :=
  (∀ a, (k0_off1319 v4373) a + S1x1x1024.size a ≤ S1x2048x1024.size a)
theorem k0_off1319_inb : ∀ (v4373 : BitVec 32) (k0_hw660 : k0_chk660 v4373), ∀ a, (k0_off1319 v4373) a + S1x1x1024.size a ≤ S1x2048x1024.size a := fun v4373 k0_hw660 => k0_hw660

def k0_off1320 (i : grid0.Coords) : Fin 3 → Nat :=
  let c0_2755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4407 : Index := Scalar.indexCast v2059
  let c147_2756 : Index := 147#32
  ![0, v4407.toNat, 147]
def k0_off1321 (v4367 : BitVec 32) : Fin 3 → Nat :=
  let c0_2759 : Index := 0#32
  let v4414 : Index := Scalar.indexCast v4367
  let c0_2760 : Index := 0#32
  ![0, v4414.toNat, 0]

def k0_chk657 (v4367 : BitVec 32) : Prop :=
  (∀ a, (k0_off1313 v4367) a + S1x1x1024.size a ≤ S1x2048x1024.size a) ∧
  (∀ a, (k0_off1321 v4367) a + S1x1x1024.size a ≤ S1x2048x1024.size a)
theorem k0_off1313_inb : ∀ (v4367 : BitVec 32) (k0_hw657 : k0_chk657 v4367), ∀ a, (k0_off1313 v4367) a + S1x1x1024.size a ≤ S1x2048x1024.size a := fun v4367 k0_hw657 => k0_hw657.1
theorem k0_off1321_inb : ∀ (v4367 : BitVec 32) (k0_hw657 : k0_chk657 v4367), ∀ a, (k0_off1321 v4367) a + S1x1x1024.size a ≤ S1x2048x1024.size a := fun v4367 k0_hw657 => k0_hw657.2

def k0_off1322 (v4369 : BitVec 32) : Fin 3 → Nat :=
  let c0_2761 : Index := 0#32
  let v4418 : Index := Scalar.indexCast v4369
  let c0_2762 : Index := 0#32
  ![0, v4418.toNat, 0]

def k0_chk658 (v4369 : BitVec 32) : Prop :=
  (∀ a, (k0_off1315 v4369) a + S1x1x1024.size a ≤ S1x2048x1024.size a) ∧
  (∀ a, (k0_off1322 v4369) a + S1x1x1024.size a ≤ S1x2048x1024.size a)
theorem k0_off1315_inb : ∀ (v4369 : BitVec 32) (k0_hw658 : k0_chk658 v4369), ∀ a, (k0_off1315 v4369) a + S1x1x1024.size a ≤ S1x2048x1024.size a := fun v4369 k0_hw658 => k0_hw658.1
theorem k0_off1322_inb : ∀ (v4369 : BitVec 32) (k0_hw658 : k0_chk658 v4369), ∀ a, (k0_off1322 v4369) a + S1x1x1024.size a ≤ S1x2048x1024.size a := fun v4369 k0_hw658 => k0_hw658.2

def k0_off1323 (v4371 : BitVec 32) : Fin 3 → Nat :=
  let c0_2763 : Index := 0#32
  let v4422 : Index := Scalar.indexCast v4371
  let c0_2764 : Index := 0#32
  ![0, v4422.toNat, 0]

def k0_chk659 (v4371 : BitVec 32) : Prop :=
  (∀ a, (k0_off1317 v4371) a + S1x1x1024.size a ≤ S1x2048x1024.size a) ∧
  (∀ a, (k0_off1323 v4371) a + S1x1x1024.size a ≤ S1x2048x1024.size a)
theorem k0_off1317_inb : ∀ (v4371 : BitVec 32) (k0_hw659 : k0_chk659 v4371), ∀ a, (k0_off1317 v4371) a + S1x1x1024.size a ≤ S1x2048x1024.size a := fun v4371 k0_hw659 => k0_hw659.1
theorem k0_off1323_inb : ∀ (v4371 : BitVec 32) (k0_hw659 : k0_chk659 v4371), ∀ a, (k0_off1323 v4371) a + S1x1x1024.size a ≤ S1x2048x1024.size a := fun v4371 k0_hw659 => k0_hw659.2

def k0_off1324 (i : grid0.Coords) : Fin 3 → Nat :=
  let c0_2767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4430 : Index := Scalar.indexCast v2059
  let c148_2768 : Index := 148#32
  ![0, v4430.toNat, 148]
def k0_off1325 (i : grid0.Coords) : Fin 3 → Nat :=
  let c0_2769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4432 : Index := Scalar.indexCast v2059
  let c149_2770 : Index := 149#32
  ![0, v4432.toNat, 149]
def k0_off1326 (i : grid0.Coords) : Fin 3 → Nat :=
  let c0_2771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4434 : Index := Scalar.indexCast v2059
  let c150_2772 : Index := 150#32
  ![0, v4434.toNat, 150]
def k0_off1327 (i : grid0.Coords) : Fin 3 → Nat :=
  let c0_2773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4436 : Index := Scalar.indexCast v2059
  let c151_2774 : Index := 151#32
  ![0, v4436.toNat, 151]
def k0_off1328 (v4431 : BitVec 32) : Fin 3 → Nat :=
  let c0_2775 : Index := 0#32
  let v4438 : Index := Scalar.indexCast v4431
  let c0_2776 : Index := 0#32
  ![0, v4438.toNat, 0]

def k0_off1329 (i : grid0.Coords) : Fin 3 → Nat :=
  let c0_2777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4441 : Index := Scalar.indexCast v2059
  let c148_2778 : Index := 148#32
  ![0, v4441.toNat, 148]
def k0_off1330 (v4433 : BitVec 32) : Fin 3 → Nat :=
  let c0_2781 : Index := 0#32
  let v4448 : Index := Scalar.indexCast v4433
  let c0_2782 : Index := 0#32
  ![0, v4448.toNat, 0]

def k0_off1331 (i : grid0.Coords) : Fin 3 → Nat :=
  let c0_2783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4451 : Index := Scalar.indexCast v2059
  let c149_2784 : Index := 149#32
  ![0, v4451.toNat, 149]
def k0_off1332 (v4435 : BitVec 32) : Fin 3 → Nat :=
  let c0_2787 : Index := 0#32
  let v4458 : Index := Scalar.indexCast v4435
  let c0_2788 : Index := 0#32
  ![0, v4458.toNat, 0]

def k0_off1333 (i : grid0.Coords) : Fin 3 → Nat :=
  let c0_2789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4461 : Index := Scalar.indexCast v2059
  let c150_2790 : Index := 150#32
  ![0, v4461.toNat, 150]
def k0_off1334 (v4437 : BitVec 32) : Fin 3 → Nat :=
  let c0_2793 : Index := 0#32
  let v4468 : Index := Scalar.indexCast v4437
  let c0_2794 : Index := 0#32
  ![0, v4468.toNat, 0]

def k0_chk664 (v4437 : BitVec 32) : Prop :=
  (∀ a, (k0_off1334 v4437) a + S1x1x1024.size a ≤ S1x2048x1024.size a)
theorem k0_off1334_inb : ∀ (v4437 : BitVec 32) (k0_hw664 : k0_chk664 v4437), ∀ a, (k0_off1334 v4437) a + S1x1x1024.size a ≤ S1x2048x1024.size a := fun v4437 k0_hw664 => k0_hw664

def k0_off1335 (i : grid0.Coords) : Fin 3 → Nat :=
  let c0_2795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4471 : Index := Scalar.indexCast v2059
  let c151_2796 : Index := 151#32
  ![0, v4471.toNat, 151]
def k0_off1336 (v4431 : BitVec 32) : Fin 3 → Nat :=
  let c0_2799 : Index := 0#32
  let v4478 : Index := Scalar.indexCast v4431
  let c0_2800 : Index := 0#32
  ![0, v4478.toNat, 0]

def k0_chk661 (v4431 : BitVec 32) : Prop :=
  (∀ a, (k0_off1328 v4431) a + S1x1x1024.size a ≤ S1x2048x1024.size a) ∧
  (∀ a, (k0_off1336 v4431) a + S1x1x1024.size a ≤ S1x2048x1024.size a)
theorem k0_off1328_inb : ∀ (v4431 : BitVec 32) (k0_hw661 : k0_chk661 v4431), ∀ a, (k0_off1328 v4431) a + S1x1x1024.size a ≤ S1x2048x1024.size a := fun v4431 k0_hw661 => k0_hw661.1
theorem k0_off1336_inb : ∀ (v4431 : BitVec 32) (k0_hw661 : k0_chk661 v4431), ∀ a, (k0_off1336 v4431) a + S1x1x1024.size a ≤ S1x2048x1024.size a := fun v4431 k0_hw661 => k0_hw661.2

def k0_off1337 (v4433 : BitVec 32) : Fin 3 → Nat :=
  let c0_2801 : Index := 0#32
  let v4482 : Index := Scalar.indexCast v4433
  let c0_2802 : Index := 0#32
  ![0, v4482.toNat, 0]

def k0_chk662 (v4433 : BitVec 32) : Prop :=
  (∀ a, (k0_off1330 v4433) a + S1x1x1024.size a ≤ S1x2048x1024.size a) ∧
  (∀ a, (k0_off1337 v4433) a + S1x1x1024.size a ≤ S1x2048x1024.size a)
theorem k0_off1330_inb : ∀ (v4433 : BitVec 32) (k0_hw662 : k0_chk662 v4433), ∀ a, (k0_off1330 v4433) a + S1x1x1024.size a ≤ S1x2048x1024.size a := fun v4433 k0_hw662 => k0_hw662.1
theorem k0_off1337_inb : ∀ (v4433 : BitVec 32) (k0_hw662 : k0_chk662 v4433), ∀ a, (k0_off1337 v4433) a + S1x1x1024.size a ≤ S1x2048x1024.size a := fun v4433 k0_hw662 => k0_hw662.2

def k0_off1338 (v4435 : BitVec 32) : Fin 3 → Nat :=
  let c0_2803 : Index := 0#32
  let v4486 : Index := Scalar.indexCast v4435
  let c0_2804 : Index := 0#32
  ![0, v4486.toNat, 0]

def k0_chk663 (v4435 : BitVec 32) : Prop :=
  (∀ a, (k0_off1332 v4435) a + S1x1x1024.size a ≤ S1x2048x1024.size a) ∧
  (∀ a, (k0_off1338 v4435) a + S1x1x1024.size a ≤ S1x2048x1024.size a)
theorem k0_off1332_inb : ∀ (v4435 : BitVec 32) (k0_hw663 : k0_chk663 v4435), ∀ a, (k0_off1332 v4435) a + S1x1x1024.size a ≤ S1x2048x1024.size a := fun v4435 k0_hw663 => k0_hw663.1
theorem k0_off1338_inb : ∀ (v4435 : BitVec 32) (k0_hw663 : k0_chk663 v4435), ∀ a, (k0_off1338 v4435) a + S1x1x1024.size a ≤ S1x2048x1024.size a := fun v4435 k0_hw663 => k0_hw663.2

def k0_off1339 (i : grid0.Coords) : Fin 3 → Nat :=
  let c0_2807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4494 : Index := Scalar.indexCast v2059
  let c152_2808 : Index := 152#32
  ![0, v4494.toNat, 152]
def k0_off1340 (i : grid0.Coords) : Fin 3 → Nat :=
  let c0_2809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4496 : Index := Scalar.indexCast v2059
  let c153_2810 : Index := 153#32
  ![0, v4496.toNat, 153]
def k0_off1341 (i : grid0.Coords) : Fin 3 → Nat :=
  let c0_2811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4498 : Index := Scalar.indexCast v2059
  let c154_2812 : Index := 154#32
  ![0, v4498.toNat, 154]
def k0_off1342 (i : grid0.Coords) : Fin 3 → Nat :=
  let c0_2813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4500 : Index := Scalar.indexCast v2059
  let c155_2814 : Index := 155#32
  ![0, v4500.toNat, 155]
def k0_off1343 (v4495 : BitVec 32) : Fin 3 → Nat :=
  let c0_2815 : Index := 0#32
  let v4502 : Index := Scalar.indexCast v4495
  let c0_2816 : Index := 0#32
  ![0, v4502.toNat, 0]

def k0_off1344 (i : grid0.Coords) : Fin 3 → Nat :=
  let c0_2817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4505 : Index := Scalar.indexCast v2059
  let c152_2818 : Index := 152#32
  ![0, v4505.toNat, 152]
def k0_off1345 (v4497 : BitVec 32) : Fin 3 → Nat :=
  let c0_2821 : Index := 0#32
  let v4512 : Index := Scalar.indexCast v4497
  let c0_2822 : Index := 0#32
  ![0, v4512.toNat, 0]

def k0_off1346 (i : grid0.Coords) : Fin 3 → Nat :=
  let c0_2823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4515 : Index := Scalar.indexCast v2059
  let c153_2824 : Index := 153#32
  ![0, v4515.toNat, 153]
def k0_off1347 (v4499 : BitVec 32) : Fin 3 → Nat :=
  let c0_2827 : Index := 0#32
  let v4522 : Index := Scalar.indexCast v4499
  let c0_2828 : Index := 0#32
  ![0, v4522.toNat, 0]

def k0_off1348 (i : grid0.Coords) : Fin 3 → Nat :=
  let c0_2829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4525 : Index := Scalar.indexCast v2059
  let c154_2830 : Index := 154#32
  ![0, v4525.toNat, 154]
def k0_off1349 (v4501 : BitVec 32) : Fin 3 → Nat :=
  let c0_2833 : Index := 0#32
  let v4532 : Index := Scalar.indexCast v4501
  let c0_2834 : Index := 0#32
  ![0, v4532.toNat, 0]

def k0_chk668 (v4501 : BitVec 32) : Prop :=
  (∀ a, (k0_off1349 v4501) a + S1x1x1024.size a ≤ S1x2048x1024.size a)
theorem k0_off1349_inb : ∀ (v4501 : BitVec 32) (k0_hw668 : k0_chk668 v4501), ∀ a, (k0_off1349 v4501) a + S1x1x1024.size a ≤ S1x2048x1024.size a := fun v4501 k0_hw668 => k0_hw668

def k0_off1350 (i : grid0.Coords) : Fin 3 → Nat :=
  let c0_2835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4535 : Index := Scalar.indexCast v2059
  let c155_2836 : Index := 155#32
  ![0, v4535.toNat, 155]
def k0_off1351 (v4495 : BitVec 32) : Fin 3 → Nat :=
  let c0_2839 : Index := 0#32
  let v4542 : Index := Scalar.indexCast v4495
  let c0_2840 : Index := 0#32
  ![0, v4542.toNat, 0]

def k0_chk665 (v4495 : BitVec 32) : Prop :=
  (∀ a, (k0_off1343 v4495) a + S1x1x1024.size a ≤ S1x2048x1024.size a) ∧
  (∀ a, (k0_off1351 v4495) a + S1x1x1024.size a ≤ S1x2048x1024.size a)
theorem k0_off1343_inb : ∀ (v4495 : BitVec 32) (k0_hw665 : k0_chk665 v4495), ∀ a, (k0_off1343 v4495) a + S1x1x1024.size a ≤ S1x2048x1024.size a := fun v4495 k0_hw665 => k0_hw665.1
theorem k0_off1351_inb : ∀ (v4495 : BitVec 32) (k0_hw665 : k0_chk665 v4495), ∀ a, (k0_off1351 v4495) a + S1x1x1024.size a ≤ S1x2048x1024.size a := fun v4495 k0_hw665 => k0_hw665.2

def k0_off1352 (v4497 : BitVec 32) : Fin 3 → Nat :=
  let c0_2841 : Index := 0#32
  let v4546 : Index := Scalar.indexCast v4497
  let c0_2842 : Index := 0#32
  ![0, v4546.toNat, 0]

def k0_chk666 (v4497 : BitVec 32) : Prop :=
  (∀ a, (k0_off1345 v4497) a + S1x1x1024.size a ≤ S1x2048x1024.size a) ∧
  (∀ a, (k0_off1352 v4497) a + S1x1x1024.size a ≤ S1x2048x1024.size a)
theorem k0_off1345_inb : ∀ (v4497 : BitVec 32) (k0_hw666 : k0_chk666 v4497), ∀ a, (k0_off1345 v4497) a + S1x1x1024.size a ≤ S1x2048x1024.size a := fun v4497 k0_hw666 => k0_hw666.1
theorem k0_off1352_inb : ∀ (v4497 : BitVec 32) (k0_hw666 : k0_chk666 v4497), ∀ a, (k0_off1352 v4497) a + S1x1x1024.size a ≤ S1x2048x1024.size a := fun v4497 k0_hw666 => k0_hw666.2

def k0_off1353 (v4499 : BitVec 32) : Fin 3 → Nat :=
  let c0_2843 : Index := 0#32
  let v4550 : Index := Scalar.indexCast v4499
  let c0_2844 : Index := 0#32
  ![0, v4550.toNat, 0]

def k0_chk667 (v4499 : BitVec 32) : Prop :=
  (∀ a, (k0_off1347 v4499) a + S1x1x1024.size a ≤ S1x2048x1024.size a) ∧
  (∀ a, (k0_off1353 v4499) a + S1x1x1024.size a ≤ S1x2048x1024.size a)
theorem k0_off1347_inb : ∀ (v4499 : BitVec 32) (k0_hw667 : k0_chk667 v4499), ∀ a, (k0_off1347 v4499) a + S1x1x1024.size a ≤ S1x2048x1024.size a := fun v4499 k0_hw667 => k0_hw667.1
theorem k0_off1353_inb : ∀ (v4499 : BitVec 32) (k0_hw667 : k0_chk667 v4499), ∀ a, (k0_off1353 v4499) a + S1x1x1024.size a ≤ S1x2048x1024.size a := fun v4499 k0_hw667 => k0_hw667.2

def k0_off1354 (i : grid0.Coords) : Fin 3 → Nat :=
  let c0_2847 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4558 : Index := Scalar.indexCast v2059
  let c156_2848 : Index := 156#32
  ![0, v4558.toNat, 156]
def k0_off1355 (i : grid0.Coords) : Fin 3 → Nat :=
  let c0_2849 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4560 : Index := Scalar.indexCast v2059
  let c157_2850 : Index := 157#32
  ![0, v4560.toNat, 157]
def k0_off1356 (i : grid0.Coords) : Fin 3 → Nat :=
  let c0_2851 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4562 : Index := Scalar.indexCast v2059
  let c158_2852 : Index := 158#32
  ![0, v4562.toNat, 158]
def k0_off1357 (i : grid0.Coords) : Fin 3 → Nat :=
  let c0_2853 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4564 : Index := Scalar.indexCast v2059
  let c159_2854 : Index := 159#32
  ![0, v4564.toNat, 159]
def k0_off1358 (v4559 : BitVec 32) : Fin 3 → Nat :=
  let c0_2855 : Index := 0#32
  let v4566 : Index := Scalar.indexCast v4559
  let c0_2856 : Index := 0#32
  ![0, v4566.toNat, 0]

def k0_off1359 (i : grid0.Coords) : Fin 3 → Nat :=
  let c0_2857 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4569 : Index := Scalar.indexCast v2059
  let c156_2858 : Index := 156#32
  ![0, v4569.toNat, 156]
def k0_off1360 (v4561 : BitVec 32) : Fin 3 → Nat :=
  let c0_2861 : Index := 0#32
  let v4576 : Index := Scalar.indexCast v4561
  let c0_2862 : Index := 0#32
  ![0, v4576.toNat, 0]

def k0_off1361 (i : grid0.Coords) : Fin 3 → Nat :=
  let c0_2863 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4579 : Index := Scalar.indexCast v2059
  let c157_2864 : Index := 157#32
  ![0, v4579.toNat, 157]
def k0_off1362 (v4563 : BitVec 32) : Fin 3 → Nat :=
  let c0_2867 : Index := 0#32
  let v4586 : Index := Scalar.indexCast v4563
  let c0_2868 : Index := 0#32
  ![0, v4586.toNat, 0]

def k0_off1363 (i : grid0.Coords) : Fin 3 → Nat :=
  let c0_2869 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4589 : Index := Scalar.indexCast v2059
  let c158_2870 : Index := 158#32
  ![0, v4589.toNat, 158]
def k0_off1364 (v4565 : BitVec 32) : Fin 3 → Nat :=
  let c0_2873 : Index := 0#32
  let v4596 : Index := Scalar.indexCast v4565
  let c0_2874 : Index := 0#32
  ![0, v4596.toNat, 0]

def k0_chk672 (v4565 : BitVec 32) : Prop :=
  (∀ a, (k0_off1364 v4565) a + S1x1x1024.size a ≤ S1x2048x1024.size a)
theorem k0_off1364_inb : ∀ (v4565 : BitVec 32) (k0_hw672 : k0_chk672 v4565), ∀ a, (k0_off1364 v4565) a + S1x1x1024.size a ≤ S1x2048x1024.size a := fun v4565 k0_hw672 => k0_hw672

def k0_off1365 (i : grid0.Coords) : Fin 3 → Nat :=
  let c0_2875 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4599 : Index := Scalar.indexCast v2059
  let c159_2876 : Index := 159#32
  ![0, v4599.toNat, 159]
def k0_off1366 (v4559 : BitVec 32) : Fin 3 → Nat :=
  let c0_2879 : Index := 0#32
  let v4606 : Index := Scalar.indexCast v4559
  let c0_2880 : Index := 0#32
  ![0, v4606.toNat, 0]

def k0_chk669 (v4559 : BitVec 32) : Prop :=
  (∀ a, (k0_off1358 v4559) a + S1x1x1024.size a ≤ S1x2048x1024.size a) ∧
  (∀ a, (k0_off1366 v4559) a + S1x1x1024.size a ≤ S1x2048x1024.size a)
theorem k0_off1358_inb : ∀ (v4559 : BitVec 32) (k0_hw669 : k0_chk669 v4559), ∀ a, (k0_off1358 v4559) a + S1x1x1024.size a ≤ S1x2048x1024.size a := fun v4559 k0_hw669 => k0_hw669.1
theorem k0_off1366_inb : ∀ (v4559 : BitVec 32) (k0_hw669 : k0_chk669 v4559), ∀ a, (k0_off1366 v4559) a + S1x1x1024.size a ≤ S1x2048x1024.size a := fun v4559 k0_hw669 => k0_hw669.2

def k0_off1367 (v4561 : BitVec 32) : Fin 3 → Nat :=
  let c0_2881 : Index := 0#32
  let v4610 : Index := Scalar.indexCast v4561
  let c0_2882 : Index := 0#32
  ![0, v4610.toNat, 0]

def k0_chk670 (v4561 : BitVec 32) : Prop :=
  (∀ a, (k0_off1360 v4561) a + S1x1x1024.size a ≤ S1x2048x1024.size a) ∧
  (∀ a, (k0_off1367 v4561) a + S1x1x1024.size a ≤ S1x2048x1024.size a)
theorem k0_off1360_inb : ∀ (v4561 : BitVec 32) (k0_hw670 : k0_chk670 v4561), ∀ a, (k0_off1360 v4561) a + S1x1x1024.size a ≤ S1x2048x1024.size a := fun v4561 k0_hw670 => k0_hw670.1
theorem k0_off1367_inb : ∀ (v4561 : BitVec 32) (k0_hw670 : k0_chk670 v4561), ∀ a, (k0_off1367 v4561) a + S1x1x1024.size a ≤ S1x2048x1024.size a := fun v4561 k0_hw670 => k0_hw670.2

def k0_off1368 (v4563 : BitVec 32) : Fin 3 → Nat :=
  let c0_2883 : Index := 0#32
  let v4614 : Index := Scalar.indexCast v4563
  let c0_2884 : Index := 0#32
  ![0, v4614.toNat, 0]

def k0_chk671 (v4563 : BitVec 32) : Prop :=
  (∀ a, (k0_off1362 v4563) a + S1x1x1024.size a ≤ S1x2048x1024.size a) ∧
  (∀ a, (k0_off1368 v4563) a + S1x1x1024.size a ≤ S1x2048x1024.size a)
theorem k0_off1362_inb : ∀ (v4563 : BitVec 32) (k0_hw671 : k0_chk671 v4563), ∀ a, (k0_off1362 v4563) a + S1x1x1024.size a ≤ S1x2048x1024.size a := fun v4563 k0_hw671 => k0_hw671.1
theorem k0_off1368_inb : ∀ (v4563 : BitVec 32) (k0_hw671 : k0_chk671 v4563), ∀ a, (k0_off1368 v4563) a + S1x1x1024.size a ≤ S1x2048x1024.size a := fun v4563 k0_hw671 => k0_hw671.2

def k0_off1369 (i : grid0.Coords) : Fin 3 → Nat :=
  let c0_2887 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4622 : Index := Scalar.indexCast v2059
  let c160_2888 : Index := 160#32
  ![0, v4622.toNat, 160]
def k0_off1370 (i : grid0.Coords) : Fin 3 → Nat :=
  let c0_2889 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4624 : Index := Scalar.indexCast v2059
  let c161_2890 : Index := 161#32
  ![0, v4624.toNat, 161]
def k0_off1371 (i : grid0.Coords) : Fin 3 → Nat :=
  let c0_2891 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4626 : Index := Scalar.indexCast v2059
  let c162_2892 : Index := 162#32
  ![0, v4626.toNat, 162]
def k0_off1372 (i : grid0.Coords) : Fin 3 → Nat :=
  let c0_2893 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4628 : Index := Scalar.indexCast v2059
  let c163_2894 : Index := 163#32
  ![0, v4628.toNat, 163]
def k0_off1373 (v4623 : BitVec 32) : Fin 3 → Nat :=
  let c0_2895 : Index := 0#32
  let v4630 : Index := Scalar.indexCast v4623
  let c0_2896 : Index := 0#32
  ![0, v4630.toNat, 0]

def k0_off1374 (i : grid0.Coords) : Fin 3 → Nat :=
  let c0_2897 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4633 : Index := Scalar.indexCast v2059
  let c160_2898 : Index := 160#32
  ![0, v4633.toNat, 160]
def k0_off1375 (v4625 : BitVec 32) : Fin 3 → Nat :=
  let c0_2901 : Index := 0#32
  let v4640 : Index := Scalar.indexCast v4625
  let c0_2902 : Index := 0#32
  ![0, v4640.toNat, 0]

def k0_off1376 (i : grid0.Coords) : Fin 3 → Nat :=
  let c0_2903 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4643 : Index := Scalar.indexCast v2059
  let c161_2904 : Index := 161#32
  ![0, v4643.toNat, 161]
def k0_off1377 (v4627 : BitVec 32) : Fin 3 → Nat :=
  let c0_2907 : Index := 0#32
  let v4650 : Index := Scalar.indexCast v4627
  let c0_2908 : Index := 0#32
  ![0, v4650.toNat, 0]

def k0_off1378 (i : grid0.Coords) : Fin 3 → Nat :=
  let c0_2909 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4653 : Index := Scalar.indexCast v2059
  let c162_2910 : Index := 162#32
  ![0, v4653.toNat, 162]
def k0_off1379 (v4629 : BitVec 32) : Fin 3 → Nat :=
  let c0_2913 : Index := 0#32
  let v4660 : Index := Scalar.indexCast v4629
  let c0_2914 : Index := 0#32
  ![0, v4660.toNat, 0]

def k0_chk676 (v4629 : BitVec 32) : Prop :=
  (∀ a, (k0_off1379 v4629) a + S1x1x1024.size a ≤ S1x2048x1024.size a)
theorem k0_off1379_inb : ∀ (v4629 : BitVec 32) (k0_hw676 : k0_chk676 v4629), ∀ a, (k0_off1379 v4629) a + S1x1x1024.size a ≤ S1x2048x1024.size a := fun v4629 k0_hw676 => k0_hw676

def k0_off1380 (i : grid0.Coords) : Fin 3 → Nat :=
  let c0_2915 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4663 : Index := Scalar.indexCast v2059
  let c163_2916 : Index := 163#32
  ![0, v4663.toNat, 163]
def k0_off1381 (v4623 : BitVec 32) : Fin 3 → Nat :=
  let c0_2919 : Index := 0#32
  let v4670 : Index := Scalar.indexCast v4623
  let c0_2920 : Index := 0#32
  ![0, v4670.toNat, 0]

def k0_chk673 (v4623 : BitVec 32) : Prop :=
  (∀ a, (k0_off1373 v4623) a + S1x1x1024.size a ≤ S1x2048x1024.size a) ∧
  (∀ a, (k0_off1381 v4623) a + S1x1x1024.size a ≤ S1x2048x1024.size a)
theorem k0_off1373_inb : ∀ (v4623 : BitVec 32) (k0_hw673 : k0_chk673 v4623), ∀ a, (k0_off1373 v4623) a + S1x1x1024.size a ≤ S1x2048x1024.size a := fun v4623 k0_hw673 => k0_hw673.1
theorem k0_off1381_inb : ∀ (v4623 : BitVec 32) (k0_hw673 : k0_chk673 v4623), ∀ a, (k0_off1381 v4623) a + S1x1x1024.size a ≤ S1x2048x1024.size a := fun v4623 k0_hw673 => k0_hw673.2

def k0_off1382 (v4625 : BitVec 32) : Fin 3 → Nat :=
  let c0_2921 : Index := 0#32
  let v4674 : Index := Scalar.indexCast v4625
  let c0_2922 : Index := 0#32
  ![0, v4674.toNat, 0]

def k0_chk674 (v4625 : BitVec 32) : Prop :=
  (∀ a, (k0_off1375 v4625) a + S1x1x1024.size a ≤ S1x2048x1024.size a) ∧
  (∀ a, (k0_off1382 v4625) a + S1x1x1024.size a ≤ S1x2048x1024.size a)
theorem k0_off1375_inb : ∀ (v4625 : BitVec 32) (k0_hw674 : k0_chk674 v4625), ∀ a, (k0_off1375 v4625) a + S1x1x1024.size a ≤ S1x2048x1024.size a := fun v4625 k0_hw674 => k0_hw674.1
theorem k0_off1382_inb : ∀ (v4625 : BitVec 32) (k0_hw674 : k0_chk674 v4625), ∀ a, (k0_off1382 v4625) a + S1x1x1024.size a ≤ S1x2048x1024.size a := fun v4625 k0_hw674 => k0_hw674.2

def k0_off1383 (v4627 : BitVec 32) : Fin 3 → Nat :=
  let c0_2923 : Index := 0#32
  let v4678 : Index := Scalar.indexCast v4627
  let c0_2924 : Index := 0#32
  ![0, v4678.toNat, 0]

def k0_chk675 (v4627 : BitVec 32) : Prop :=
  (∀ a, (k0_off1377 v4627) a + S1x1x1024.size a ≤ S1x2048x1024.size a) ∧
  (∀ a, (k0_off1383 v4627) a + S1x1x1024.size a ≤ S1x2048x1024.size a)
theorem k0_off1377_inb : ∀ (v4627 : BitVec 32) (k0_hw675 : k0_chk675 v4627), ∀ a, (k0_off1377 v4627) a + S1x1x1024.size a ≤ S1x2048x1024.size a := fun v4627 k0_hw675 => k0_hw675.1
theorem k0_off1383_inb : ∀ (v4627 : BitVec 32) (k0_hw675 : k0_chk675 v4627), ∀ a, (k0_off1383 v4627) a + S1x1x1024.size a ≤ S1x2048x1024.size a := fun v4627 k0_hw675 => k0_hw675.2

def k0_off1384 (i : grid0.Coords) : Fin 3 → Nat :=
  let c0_2927 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4686 : Index := Scalar.indexCast v2059
  let c164_2928 : Index := 164#32
  ![0, v4686.toNat, 164]
def k0_off1385 (i : grid0.Coords) : Fin 3 → Nat :=
  let c0_2929 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4688 : Index := Scalar.indexCast v2059
  let c165_2930 : Index := 165#32
  ![0, v4688.toNat, 165]
def k0_off1386 (i : grid0.Coords) : Fin 3 → Nat :=
  let c0_2931 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4690 : Index := Scalar.indexCast v2059
  let c166_2932 : Index := 166#32
  ![0, v4690.toNat, 166]
def k0_off1387 (i : grid0.Coords) : Fin 3 → Nat :=
  let c0_2933 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4692 : Index := Scalar.indexCast v2059
  let c167_2934 : Index := 167#32
  ![0, v4692.toNat, 167]
def k0_off1388 (v4687 : BitVec 32) : Fin 3 → Nat :=
  let c0_2935 : Index := 0#32
  let v4694 : Index := Scalar.indexCast v4687
  let c0_2936 : Index := 0#32
  ![0, v4694.toNat, 0]

def k0_off1389 (i : grid0.Coords) : Fin 3 → Nat :=
  let c0_2937 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4697 : Index := Scalar.indexCast v2059
  let c164_2938 : Index := 164#32
  ![0, v4697.toNat, 164]
def k0_off1390 (v4689 : BitVec 32) : Fin 3 → Nat :=
  let c0_2941 : Index := 0#32
  let v4704 : Index := Scalar.indexCast v4689
  let c0_2942 : Index := 0#32
  ![0, v4704.toNat, 0]

def k0_off1391 (i : grid0.Coords) : Fin 3 → Nat :=
  let c0_2943 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4707 : Index := Scalar.indexCast v2059
  let c165_2944 : Index := 165#32
  ![0, v4707.toNat, 165]
def k0_off1392 (v4691 : BitVec 32) : Fin 3 → Nat :=
  let c0_2947 : Index := 0#32
  let v4714 : Index := Scalar.indexCast v4691
  let c0_2948 : Index := 0#32
  ![0, v4714.toNat, 0]

def k0_off1393 (i : grid0.Coords) : Fin 3 → Nat :=
  let c0_2949 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4717 : Index := Scalar.indexCast v2059
  let c166_2950 : Index := 166#32
  ![0, v4717.toNat, 166]
def k0_off1394 (v4693 : BitVec 32) : Fin 3 → Nat :=
  let c0_2953 : Index := 0#32
  let v4724 : Index := Scalar.indexCast v4693
  let c0_2954 : Index := 0#32
  ![0, v4724.toNat, 0]

def k0_chk680 (v4693 : BitVec 32) : Prop :=
  (∀ a, (k0_off1394 v4693) a + S1x1x1024.size a ≤ S1x2048x1024.size a)
theorem k0_off1394_inb : ∀ (v4693 : BitVec 32) (k0_hw680 : k0_chk680 v4693), ∀ a, (k0_off1394 v4693) a + S1x1x1024.size a ≤ S1x2048x1024.size a := fun v4693 k0_hw680 => k0_hw680

def k0_off1395 (i : grid0.Coords) : Fin 3 → Nat :=
  let c0_2955 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4727 : Index := Scalar.indexCast v2059
  let c167_2956 : Index := 167#32
  ![0, v4727.toNat, 167]
def k0_off1396 (v4687 : BitVec 32) : Fin 3 → Nat :=
  let c0_2959 : Index := 0#32
  let v4734 : Index := Scalar.indexCast v4687
  let c0_2960 : Index := 0#32
  ![0, v4734.toNat, 0]

def k0_chk677 (v4687 : BitVec 32) : Prop :=
  (∀ a, (k0_off1388 v4687) a + S1x1x1024.size a ≤ S1x2048x1024.size a) ∧
  (∀ a, (k0_off1396 v4687) a + S1x1x1024.size a ≤ S1x2048x1024.size a)
theorem k0_off1388_inb : ∀ (v4687 : BitVec 32) (k0_hw677 : k0_chk677 v4687), ∀ a, (k0_off1388 v4687) a + S1x1x1024.size a ≤ S1x2048x1024.size a := fun v4687 k0_hw677 => k0_hw677.1
theorem k0_off1396_inb : ∀ (v4687 : BitVec 32) (k0_hw677 : k0_chk677 v4687), ∀ a, (k0_off1396 v4687) a + S1x1x1024.size a ≤ S1x2048x1024.size a := fun v4687 k0_hw677 => k0_hw677.2

def k0_off1397 (v4689 : BitVec 32) : Fin 3 → Nat :=
  let c0_2961 : Index := 0#32
  let v4738 : Index := Scalar.indexCast v4689
  let c0_2962 : Index := 0#32
  ![0, v4738.toNat, 0]

def k0_chk678 (v4689 : BitVec 32) : Prop :=
  (∀ a, (k0_off1390 v4689) a + S1x1x1024.size a ≤ S1x2048x1024.size a) ∧
  (∀ a, (k0_off1397 v4689) a + S1x1x1024.size a ≤ S1x2048x1024.size a)
theorem k0_off1390_inb : ∀ (v4689 : BitVec 32) (k0_hw678 : k0_chk678 v4689), ∀ a, (k0_off1390 v4689) a + S1x1x1024.size a ≤ S1x2048x1024.size a := fun v4689 k0_hw678 => k0_hw678.1
theorem k0_off1397_inb : ∀ (v4689 : BitVec 32) (k0_hw678 : k0_chk678 v4689), ∀ a, (k0_off1397 v4689) a + S1x1x1024.size a ≤ S1x2048x1024.size a := fun v4689 k0_hw678 => k0_hw678.2

def k0_off1398 (v4691 : BitVec 32) : Fin 3 → Nat :=
  let c0_2963 : Index := 0#32
  let v4742 : Index := Scalar.indexCast v4691
  let c0_2964 : Index := 0#32
  ![0, v4742.toNat, 0]

def k0_chk679 (v4691 : BitVec 32) : Prop :=
  (∀ a, (k0_off1392 v4691) a + S1x1x1024.size a ≤ S1x2048x1024.size a) ∧
  (∀ a, (k0_off1398 v4691) a + S1x1x1024.size a ≤ S1x2048x1024.size a)
theorem k0_off1392_inb : ∀ (v4691 : BitVec 32) (k0_hw679 : k0_chk679 v4691), ∀ a, (k0_off1392 v4691) a + S1x1x1024.size a ≤ S1x2048x1024.size a := fun v4691 k0_hw679 => k0_hw679.1
theorem k0_off1398_inb : ∀ (v4691 : BitVec 32) (k0_hw679 : k0_chk679 v4691), ∀ a, (k0_off1398 v4691) a + S1x1x1024.size a ≤ S1x2048x1024.size a := fun v4691 k0_hw679 => k0_hw679.2

def k0_off1399 (i : grid0.Coords) : Fin 3 → Nat :=
  let c0_2967 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4750 : Index := Scalar.indexCast v2059
  let c168_2968 : Index := 168#32
  ![0, v4750.toNat, 168]
def k0_off1400 (i : grid0.Coords) : Fin 3 → Nat :=
  let c0_2969 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4752 : Index := Scalar.indexCast v2059
  let c169_2970 : Index := 169#32
  ![0, v4752.toNat, 169]
def k0_off1401 (i : grid0.Coords) : Fin 3 → Nat :=
  let c0_2971 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4754 : Index := Scalar.indexCast v2059
  let c170_2972 : Index := 170#32
  ![0, v4754.toNat, 170]
def k0_off1402 (i : grid0.Coords) : Fin 3 → Nat :=
  let c0_2973 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4756 : Index := Scalar.indexCast v2059
  let c171_2974 : Index := 171#32
  ![0, v4756.toNat, 171]
def k0_off1403 (v4751 : BitVec 32) : Fin 3 → Nat :=
  let c0_2975 : Index := 0#32
  let v4758 : Index := Scalar.indexCast v4751
  let c0_2976 : Index := 0#32
  ![0, v4758.toNat, 0]

def k0_off1404 (i : grid0.Coords) : Fin 3 → Nat :=
  let c0_2977 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4761 : Index := Scalar.indexCast v2059
  let c168_2978 : Index := 168#32
  ![0, v4761.toNat, 168]
def k0_off1405 (v4753 : BitVec 32) : Fin 3 → Nat :=
  let c0_2981 : Index := 0#32
  let v4768 : Index := Scalar.indexCast v4753
  let c0_2982 : Index := 0#32
  ![0, v4768.toNat, 0]

def k0_off1406 (i : grid0.Coords) : Fin 3 → Nat :=
  let c0_2983 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4771 : Index := Scalar.indexCast v2059
  let c169_2984 : Index := 169#32
  ![0, v4771.toNat, 169]
def k0_off1407 (v4755 : BitVec 32) : Fin 3 → Nat :=
  let c0_2987 : Index := 0#32
  let v4778 : Index := Scalar.indexCast v4755
  let c0_2988 : Index := 0#32
  ![0, v4778.toNat, 0]

def k0_off1408 (i : grid0.Coords) : Fin 3 → Nat :=
  let c0_2989 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4781 : Index := Scalar.indexCast v2059
  let c170_2990 : Index := 170#32
  ![0, v4781.toNat, 170]
def k0_off1409 (v4757 : BitVec 32) : Fin 3 → Nat :=
  let c0_2993 : Index := 0#32
  let v4788 : Index := Scalar.indexCast v4757
  let c0_2994 : Index := 0#32
  ![0, v4788.toNat, 0]

def k0_chk684 (v4757 : BitVec 32) : Prop :=
  (∀ a, (k0_off1409 v4757) a + S1x1x1024.size a ≤ S1x2048x1024.size a)
theorem k0_off1409_inb : ∀ (v4757 : BitVec 32) (k0_hw684 : k0_chk684 v4757), ∀ a, (k0_off1409 v4757) a + S1x1x1024.size a ≤ S1x2048x1024.size a := fun v4757 k0_hw684 => k0_hw684

def k0_off1410 (i : grid0.Coords) : Fin 3 → Nat :=
  let c0_2995 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4791 : Index := Scalar.indexCast v2059
  let c171_2996 : Index := 171#32
  ![0, v4791.toNat, 171]
def k0_off1411 (v4751 : BitVec 32) : Fin 3 → Nat :=
  let c0_2999 : Index := 0#32
  let v4798 : Index := Scalar.indexCast v4751
  let c0_3000 : Index := 0#32
  ![0, v4798.toNat, 0]

def k0_chk681 (v4751 : BitVec 32) : Prop :=
  (∀ a, (k0_off1403 v4751) a + S1x1x1024.size a ≤ S1x2048x1024.size a) ∧
  (∀ a, (k0_off1411 v4751) a + S1x1x1024.size a ≤ S1x2048x1024.size a)
theorem k0_off1403_inb : ∀ (v4751 : BitVec 32) (k0_hw681 : k0_chk681 v4751), ∀ a, (k0_off1403 v4751) a + S1x1x1024.size a ≤ S1x2048x1024.size a := fun v4751 k0_hw681 => k0_hw681.1
theorem k0_off1411_inb : ∀ (v4751 : BitVec 32) (k0_hw681 : k0_chk681 v4751), ∀ a, (k0_off1411 v4751) a + S1x1x1024.size a ≤ S1x2048x1024.size a := fun v4751 k0_hw681 => k0_hw681.2

def k0_off1412 (v4753 : BitVec 32) : Fin 3 → Nat :=
  let c0_3001 : Index := 0#32
  let v4802 : Index := Scalar.indexCast v4753
  let c0_3002 : Index := 0#32
  ![0, v4802.toNat, 0]

def k0_chk682 (v4753 : BitVec 32) : Prop :=
  (∀ a, (k0_off1405 v4753) a + S1x1x1024.size a ≤ S1x2048x1024.size a) ∧
  (∀ a, (k0_off1412 v4753) a + S1x1x1024.size a ≤ S1x2048x1024.size a)
theorem k0_off1405_inb : ∀ (v4753 : BitVec 32) (k0_hw682 : k0_chk682 v4753), ∀ a, (k0_off1405 v4753) a + S1x1x1024.size a ≤ S1x2048x1024.size a := fun v4753 k0_hw682 => k0_hw682.1
theorem k0_off1412_inb : ∀ (v4753 : BitVec 32) (k0_hw682 : k0_chk682 v4753), ∀ a, (k0_off1412 v4753) a + S1x1x1024.size a ≤ S1x2048x1024.size a := fun v4753 k0_hw682 => k0_hw682.2

def k0_off1413 (v4755 : BitVec 32) : Fin 3 → Nat :=
  let c0_3003 : Index := 0#32
  let v4806 : Index := Scalar.indexCast v4755
  let c0_3004 : Index := 0#32
  ![0, v4806.toNat, 0]

def k0_chk683 (v4755 : BitVec 32) : Prop :=
  (∀ a, (k0_off1407 v4755) a + S1x1x1024.size a ≤ S1x2048x1024.size a) ∧
  (∀ a, (k0_off1413 v4755) a + S1x1x1024.size a ≤ S1x2048x1024.size a)
theorem k0_off1407_inb : ∀ (v4755 : BitVec 32) (k0_hw683 : k0_chk683 v4755), ∀ a, (k0_off1407 v4755) a + S1x1x1024.size a ≤ S1x2048x1024.size a := fun v4755 k0_hw683 => k0_hw683.1
theorem k0_off1413_inb : ∀ (v4755 : BitVec 32) (k0_hw683 : k0_chk683 v4755), ∀ a, (k0_off1413 v4755) a + S1x1x1024.size a ≤ S1x2048x1024.size a := fun v4755 k0_hw683 => k0_hw683.2

def k0_off1414 (i : grid0.Coords) : Fin 3 → Nat :=
  let c0_3007 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4814 : Index := Scalar.indexCast v2059
  let c172_3008 : Index := 172#32
  ![0, v4814.toNat, 172]
def k0_off1415 (i : grid0.Coords) : Fin 3 → Nat :=
  let c0_3009 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4816 : Index := Scalar.indexCast v2059
  let c173_3010 : Index := 173#32
  ![0, v4816.toNat, 173]
def k0_off1416 (i : grid0.Coords) : Fin 3 → Nat :=
  let c0_3011 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4818 : Index := Scalar.indexCast v2059
  let c174_3012 : Index := 174#32
  ![0, v4818.toNat, 174]
def k0_off1417 (i : grid0.Coords) : Fin 3 → Nat :=
  let c0_3013 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4820 : Index := Scalar.indexCast v2059
  let c175_3014 : Index := 175#32
  ![0, v4820.toNat, 175]
def k0_off1418 (v4815 : BitVec 32) : Fin 3 → Nat :=
  let c0_3015 : Index := 0#32
  let v4822 : Index := Scalar.indexCast v4815
  let c0_3016 : Index := 0#32
  ![0, v4822.toNat, 0]

def k0_off1419 (i : grid0.Coords) : Fin 3 → Nat :=
  let c0_3017 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4825 : Index := Scalar.indexCast v2059
  let c172_3018 : Index := 172#32
  ![0, v4825.toNat, 172]
def k0_off1420 (v4817 : BitVec 32) : Fin 3 → Nat :=
  let c0_3021 : Index := 0#32
  let v4832 : Index := Scalar.indexCast v4817
  let c0_3022 : Index := 0#32
  ![0, v4832.toNat, 0]

def k0_off1421 (i : grid0.Coords) : Fin 3 → Nat :=
  let c0_3023 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4835 : Index := Scalar.indexCast v2059
  let c173_3024 : Index := 173#32
  ![0, v4835.toNat, 173]
def k0_off1422 (v4819 : BitVec 32) : Fin 3 → Nat :=
  let c0_3027 : Index := 0#32
  let v4842 : Index := Scalar.indexCast v4819
  let c0_3028 : Index := 0#32
  ![0, v4842.toNat, 0]

def k0_off1423 (i : grid0.Coords) : Fin 3 → Nat :=
  let c0_3029 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4845 : Index := Scalar.indexCast v2059
  let c174_3030 : Index := 174#32
  ![0, v4845.toNat, 174]
def k0_off1424 (v4821 : BitVec 32) : Fin 3 → Nat :=
  let c0_3033 : Index := 0#32
  let v4852 : Index := Scalar.indexCast v4821
  let c0_3034 : Index := 0#32
  ![0, v4852.toNat, 0]

def k0_chk688 (v4821 : BitVec 32) : Prop :=
  (∀ a, (k0_off1424 v4821) a + S1x1x1024.size a ≤ S1x2048x1024.size a)
theorem k0_off1424_inb : ∀ (v4821 : BitVec 32) (k0_hw688 : k0_chk688 v4821), ∀ a, (k0_off1424 v4821) a + S1x1x1024.size a ≤ S1x2048x1024.size a := fun v4821 k0_hw688 => k0_hw688

def k0_off1425 (i : grid0.Coords) : Fin 3 → Nat :=
  let c0_3035 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4855 : Index := Scalar.indexCast v2059
  let c175_3036 : Index := 175#32
  ![0, v4855.toNat, 175]
def k0_off1426 (v4815 : BitVec 32) : Fin 3 → Nat :=
  let c0_3039 : Index := 0#32
  let v4862 : Index := Scalar.indexCast v4815
  let c0_3040 : Index := 0#32
  ![0, v4862.toNat, 0]

def k0_chk685 (v4815 : BitVec 32) : Prop :=
  (∀ a, (k0_off1418 v4815) a + S1x1x1024.size a ≤ S1x2048x1024.size a) ∧
  (∀ a, (k0_off1426 v4815) a + S1x1x1024.size a ≤ S1x2048x1024.size a)
theorem k0_off1418_inb : ∀ (v4815 : BitVec 32) (k0_hw685 : k0_chk685 v4815), ∀ a, (k0_off1418 v4815) a + S1x1x1024.size a ≤ S1x2048x1024.size a := fun v4815 k0_hw685 => k0_hw685.1
theorem k0_off1426_inb : ∀ (v4815 : BitVec 32) (k0_hw685 : k0_chk685 v4815), ∀ a, (k0_off1426 v4815) a + S1x1x1024.size a ≤ S1x2048x1024.size a := fun v4815 k0_hw685 => k0_hw685.2

def k0_off1427 (v4817 : BitVec 32) : Fin 3 → Nat :=
  let c0_3041 : Index := 0#32
  let v4866 : Index := Scalar.indexCast v4817
  let c0_3042 : Index := 0#32
  ![0, v4866.toNat, 0]

def k0_chk686 (v4817 : BitVec 32) : Prop :=
  (∀ a, (k0_off1420 v4817) a + S1x1x1024.size a ≤ S1x2048x1024.size a) ∧
  (∀ a, (k0_off1427 v4817) a + S1x1x1024.size a ≤ S1x2048x1024.size a)
theorem k0_off1420_inb : ∀ (v4817 : BitVec 32) (k0_hw686 : k0_chk686 v4817), ∀ a, (k0_off1420 v4817) a + S1x1x1024.size a ≤ S1x2048x1024.size a := fun v4817 k0_hw686 => k0_hw686.1
theorem k0_off1427_inb : ∀ (v4817 : BitVec 32) (k0_hw686 : k0_chk686 v4817), ∀ a, (k0_off1427 v4817) a + S1x1x1024.size a ≤ S1x2048x1024.size a := fun v4817 k0_hw686 => k0_hw686.2

def k0_off1428 (v4819 : BitVec 32) : Fin 3 → Nat :=
  let c0_3043 : Index := 0#32
  let v4870 : Index := Scalar.indexCast v4819
  let c0_3044 : Index := 0#32
  ![0, v4870.toNat, 0]

def k0_chk687 (v4819 : BitVec 32) : Prop :=
  (∀ a, (k0_off1422 v4819) a + S1x1x1024.size a ≤ S1x2048x1024.size a) ∧
  (∀ a, (k0_off1428 v4819) a + S1x1x1024.size a ≤ S1x2048x1024.size a)
theorem k0_off1422_inb : ∀ (v4819 : BitVec 32) (k0_hw687 : k0_chk687 v4819), ∀ a, (k0_off1422 v4819) a + S1x1x1024.size a ≤ S1x2048x1024.size a := fun v4819 k0_hw687 => k0_hw687.1
theorem k0_off1428_inb : ∀ (v4819 : BitVec 32) (k0_hw687 : k0_chk687 v4819), ∀ a, (k0_off1428 v4819) a + S1x1x1024.size a ≤ S1x2048x1024.size a := fun v4819 k0_hw687 => k0_hw687.2

def k0_off1429 (i : grid0.Coords) : Fin 3 → Nat :=
  let c0_3047 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4878 : Index := Scalar.indexCast v2059
  let c176_3048 : Index := 176#32
  ![0, v4878.toNat, 176]
def k0_off1430 (i : grid0.Coords) : Fin 3 → Nat :=
  let c0_3049 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4880 : Index := Scalar.indexCast v2059
  let c177_3050 : Index := 177#32
  ![0, v4880.toNat, 177]
def k0_off1431 (i : grid0.Coords) : Fin 3 → Nat :=
  let c0_3051 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4882 : Index := Scalar.indexCast v2059
  let c178_3052 : Index := 178#32
  ![0, v4882.toNat, 178]
def k0_off1432 (i : grid0.Coords) : Fin 3 → Nat :=
  let c0_3053 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4884 : Index := Scalar.indexCast v2059
  let c179_3054 : Index := 179#32
  ![0, v4884.toNat, 179]
def k0_off1433 (v4879 : BitVec 32) : Fin 3 → Nat :=
  let c0_3055 : Index := 0#32
  let v4886 : Index := Scalar.indexCast v4879
  let c0_3056 : Index := 0#32
  ![0, v4886.toNat, 0]

def k0_off1434 (i : grid0.Coords) : Fin 3 → Nat :=
  let c0_3057 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4889 : Index := Scalar.indexCast v2059
  let c176_3058 : Index := 176#32
  ![0, v4889.toNat, 176]
def k0_off1435 (v4881 : BitVec 32) : Fin 3 → Nat :=
  let c0_3061 : Index := 0#32
  let v4896 : Index := Scalar.indexCast v4881
  let c0_3062 : Index := 0#32
  ![0, v4896.toNat, 0]

def k0_off1436 (i : grid0.Coords) : Fin 3 → Nat :=
  let c0_3063 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4899 : Index := Scalar.indexCast v2059
  let c177_3064 : Index := 177#32
  ![0, v4899.toNat, 177]
def k0_off1437 (v4883 : BitVec 32) : Fin 3 → Nat :=
  let c0_3067 : Index := 0#32
  let v4906 : Index := Scalar.indexCast v4883
  let c0_3068 : Index := 0#32
  ![0, v4906.toNat, 0]

def k0_off1438 (i : grid0.Coords) : Fin 3 → Nat :=
  let c0_3069 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4909 : Index := Scalar.indexCast v2059
  let c178_3070 : Index := 178#32
  ![0, v4909.toNat, 178]
def k0_off1439 (v4885 : BitVec 32) : Fin 3 → Nat :=
  let c0_3073 : Index := 0#32
  let v4916 : Index := Scalar.indexCast v4885
  let c0_3074 : Index := 0#32
  ![0, v4916.toNat, 0]

def k0_chk692 (v4885 : BitVec 32) : Prop :=
  (∀ a, (k0_off1439 v4885) a + S1x1x1024.size a ≤ S1x2048x1024.size a)
theorem k0_off1439_inb : ∀ (v4885 : BitVec 32) (k0_hw692 : k0_chk692 v4885), ∀ a, (k0_off1439 v4885) a + S1x1x1024.size a ≤ S1x2048x1024.size a := fun v4885 k0_hw692 => k0_hw692

def k0_off1440 (i : grid0.Coords) : Fin 3 → Nat :=
  let c0_3075 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4919 : Index := Scalar.indexCast v2059
  let c179_3076 : Index := 179#32
  ![0, v4919.toNat, 179]
def k0_off1441 (v4879 : BitVec 32) : Fin 3 → Nat :=
  let c0_3079 : Index := 0#32
  let v4926 : Index := Scalar.indexCast v4879
  let c0_3080 : Index := 0#32
  ![0, v4926.toNat, 0]

def k0_chk689 (v4879 : BitVec 32) : Prop :=
  (∀ a, (k0_off1433 v4879) a + S1x1x1024.size a ≤ S1x2048x1024.size a) ∧
  (∀ a, (k0_off1441 v4879) a + S1x1x1024.size a ≤ S1x2048x1024.size a)
theorem k0_off1433_inb : ∀ (v4879 : BitVec 32) (k0_hw689 : k0_chk689 v4879), ∀ a, (k0_off1433 v4879) a + S1x1x1024.size a ≤ S1x2048x1024.size a := fun v4879 k0_hw689 => k0_hw689.1
theorem k0_off1441_inb : ∀ (v4879 : BitVec 32) (k0_hw689 : k0_chk689 v4879), ∀ a, (k0_off1441 v4879) a + S1x1x1024.size a ≤ S1x2048x1024.size a := fun v4879 k0_hw689 => k0_hw689.2

def k0_off1442 (v4881 : BitVec 32) : Fin 3 → Nat :=
  let c0_3081 : Index := 0#32
  let v4930 : Index := Scalar.indexCast v4881
  let c0_3082 : Index := 0#32
  ![0, v4930.toNat, 0]

def k0_chk690 (v4881 : BitVec 32) : Prop :=
  (∀ a, (k0_off1435 v4881) a + S1x1x1024.size a ≤ S1x2048x1024.size a) ∧
  (∀ a, (k0_off1442 v4881) a + S1x1x1024.size a ≤ S1x2048x1024.size a)
theorem k0_off1435_inb : ∀ (v4881 : BitVec 32) (k0_hw690 : k0_chk690 v4881), ∀ a, (k0_off1435 v4881) a + S1x1x1024.size a ≤ S1x2048x1024.size a := fun v4881 k0_hw690 => k0_hw690.1
theorem k0_off1442_inb : ∀ (v4881 : BitVec 32) (k0_hw690 : k0_chk690 v4881), ∀ a, (k0_off1442 v4881) a + S1x1x1024.size a ≤ S1x2048x1024.size a := fun v4881 k0_hw690 => k0_hw690.2

def k0_off1443 (v4883 : BitVec 32) : Fin 3 → Nat :=
  let c0_3083 : Index := 0#32
  let v4934 : Index := Scalar.indexCast v4883
  let c0_3084 : Index := 0#32
  ![0, v4934.toNat, 0]

def k0_chk691 (v4883 : BitVec 32) : Prop :=
  (∀ a, (k0_off1437 v4883) a + S1x1x1024.size a ≤ S1x2048x1024.size a) ∧
  (∀ a, (k0_off1443 v4883) a + S1x1x1024.size a ≤ S1x2048x1024.size a)
theorem k0_off1437_inb : ∀ (v4883 : BitVec 32) (k0_hw691 : k0_chk691 v4883), ∀ a, (k0_off1437 v4883) a + S1x1x1024.size a ≤ S1x2048x1024.size a := fun v4883 k0_hw691 => k0_hw691.1
theorem k0_off1443_inb : ∀ (v4883 : BitVec 32) (k0_hw691 : k0_chk691 v4883), ∀ a, (k0_off1443 v4883) a + S1x1x1024.size a ≤ S1x2048x1024.size a := fun v4883 k0_hw691 => k0_hw691.2

def k0_off1444 (i : grid0.Coords) : Fin 3 → Nat :=
  let c0_3087 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4942 : Index := Scalar.indexCast v2059
  let c180_3088 : Index := 180#32
  ![0, v4942.toNat, 180]
def k0_off1445 (i : grid0.Coords) : Fin 3 → Nat :=
  let c0_3089 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4944 : Index := Scalar.indexCast v2059
  let c181_3090 : Index := 181#32
  ![0, v4944.toNat, 181]
def k0_off1446 (i : grid0.Coords) : Fin 3 → Nat :=
  let c0_3091 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4946 : Index := Scalar.indexCast v2059
  let c182_3092 : Index := 182#32
  ![0, v4946.toNat, 182]
def k0_off1447 (i : grid0.Coords) : Fin 3 → Nat :=
  let c0_3093 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4948 : Index := Scalar.indexCast v2059
  let c183_3094 : Index := 183#32
  ![0, v4948.toNat, 183]
def k0_off1448 (v4943 : BitVec 32) : Fin 3 → Nat :=
  let c0_3095 : Index := 0#32
  let v4950 : Index := Scalar.indexCast v4943
  let c0_3096 : Index := 0#32
  ![0, v4950.toNat, 0]

def k0_off1449 (i : grid0.Coords) : Fin 3 → Nat :=
  let c0_3097 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4953 : Index := Scalar.indexCast v2059
  let c180_3098 : Index := 180#32
  ![0, v4953.toNat, 180]
def k0_off1450 (v4945 : BitVec 32) : Fin 3 → Nat :=
  let c0_3101 : Index := 0#32
  let v4960 : Index := Scalar.indexCast v4945
  let c0_3102 : Index := 0#32
  ![0, v4960.toNat, 0]

def k0_off1451 (i : grid0.Coords) : Fin 3 → Nat :=
  let c0_3103 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4963 : Index := Scalar.indexCast v2059
  let c181_3104 : Index := 181#32
  ![0, v4963.toNat, 181]
def k0_off1452 (v4947 : BitVec 32) : Fin 3 → Nat :=
  let c0_3107 : Index := 0#32
  let v4970 : Index := Scalar.indexCast v4947
  let c0_3108 : Index := 0#32
  ![0, v4970.toNat, 0]

def k0_off1453 (i : grid0.Coords) : Fin 3 → Nat :=
  let c0_3109 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4973 : Index := Scalar.indexCast v2059
  let c182_3110 : Index := 182#32
  ![0, v4973.toNat, 182]
def k0_off1454 (v4949 : BitVec 32) : Fin 3 → Nat :=
  let c0_3113 : Index := 0#32
  let v4980 : Index := Scalar.indexCast v4949
  let c0_3114 : Index := 0#32
  ![0, v4980.toNat, 0]

def k0_chk696 (v4949 : BitVec 32) : Prop :=
  (∀ a, (k0_off1454 v4949) a + S1x1x1024.size a ≤ S1x2048x1024.size a)
theorem k0_off1454_inb : ∀ (v4949 : BitVec 32) (k0_hw696 : k0_chk696 v4949), ∀ a, (k0_off1454 v4949) a + S1x1x1024.size a ≤ S1x2048x1024.size a := fun v4949 k0_hw696 => k0_hw696

def k0_off1455 (i : grid0.Coords) : Fin 3 → Nat :=
  let c0_3115 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4983 : Index := Scalar.indexCast v2059
  let c183_3116 : Index := 183#32
  ![0, v4983.toNat, 183]
def k0_off1456 (v4943 : BitVec 32) : Fin 3 → Nat :=
  let c0_3119 : Index := 0#32
  let v4990 : Index := Scalar.indexCast v4943
  let c0_3120 : Index := 0#32
  ![0, v4990.toNat, 0]

def k0_chk693 (v4943 : BitVec 32) : Prop :=
  (∀ a, (k0_off1448 v4943) a + S1x1x1024.size a ≤ S1x2048x1024.size a) ∧
  (∀ a, (k0_off1456 v4943) a + S1x1x1024.size a ≤ S1x2048x1024.size a)
theorem k0_off1448_inb : ∀ (v4943 : BitVec 32) (k0_hw693 : k0_chk693 v4943), ∀ a, (k0_off1448 v4943) a + S1x1x1024.size a ≤ S1x2048x1024.size a := fun v4943 k0_hw693 => k0_hw693.1
theorem k0_off1456_inb : ∀ (v4943 : BitVec 32) (k0_hw693 : k0_chk693 v4943), ∀ a, (k0_off1456 v4943) a + S1x1x1024.size a ≤ S1x2048x1024.size a := fun v4943 k0_hw693 => k0_hw693.2

def k0_off1457 (v4945 : BitVec 32) : Fin 3 → Nat :=
  let c0_3121 : Index := 0#32
  let v4994 : Index := Scalar.indexCast v4945
  let c0_3122 : Index := 0#32
  ![0, v4994.toNat, 0]

def k0_chk694 (v4945 : BitVec 32) : Prop :=
  (∀ a, (k0_off1450 v4945) a + S1x1x1024.size a ≤ S1x2048x1024.size a) ∧
  (∀ a, (k0_off1457 v4945) a + S1x1x1024.size a ≤ S1x2048x1024.size a)
theorem k0_off1450_inb : ∀ (v4945 : BitVec 32) (k0_hw694 : k0_chk694 v4945), ∀ a, (k0_off1450 v4945) a + S1x1x1024.size a ≤ S1x2048x1024.size a := fun v4945 k0_hw694 => k0_hw694.1
theorem k0_off1457_inb : ∀ (v4945 : BitVec 32) (k0_hw694 : k0_chk694 v4945), ∀ a, (k0_off1457 v4945) a + S1x1x1024.size a ≤ S1x2048x1024.size a := fun v4945 k0_hw694 => k0_hw694.2

def k0_off1458 (v4947 : BitVec 32) : Fin 3 → Nat :=
  let c0_3123 : Index := 0#32
  let v4998 : Index := Scalar.indexCast v4947
  let c0_3124 : Index := 0#32
  ![0, v4998.toNat, 0]

def k0_chk695 (v4947 : BitVec 32) : Prop :=
  (∀ a, (k0_off1452 v4947) a + S1x1x1024.size a ≤ S1x2048x1024.size a) ∧
  (∀ a, (k0_off1458 v4947) a + S1x1x1024.size a ≤ S1x2048x1024.size a)
theorem k0_off1452_inb : ∀ (v4947 : BitVec 32) (k0_hw695 : k0_chk695 v4947), ∀ a, (k0_off1452 v4947) a + S1x1x1024.size a ≤ S1x2048x1024.size a := fun v4947 k0_hw695 => k0_hw695.1
theorem k0_off1458_inb : ∀ (v4947 : BitVec 32) (k0_hw695 : k0_chk695 v4947), ∀ a, (k0_off1458 v4947) a + S1x1x1024.size a ≤ S1x2048x1024.size a := fun v4947 k0_hw695 => k0_hw695.2

def k0_off1459 (i : grid0.Coords) : Fin 3 → Nat :=
  let c0_3127 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5006 : Index := Scalar.indexCast v2059
  let c184_3128 : Index := 184#32
  ![0, v5006.toNat, 184]
def k0_off1460 (i : grid0.Coords) : Fin 3 → Nat :=
  let c0_3129 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5008 : Index := Scalar.indexCast v2059
  let c185_3130 : Index := 185#32
  ![0, v5008.toNat, 185]
def k0_off1461 (i : grid0.Coords) : Fin 3 → Nat :=
  let c0_3131 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5010 : Index := Scalar.indexCast v2059
  let c186_3132 : Index := 186#32
  ![0, v5010.toNat, 186]
def k0_off1462 (i : grid0.Coords) : Fin 3 → Nat :=
  let c0_3133 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5012 : Index := Scalar.indexCast v2059
  let c187_3134 : Index := 187#32
  ![0, v5012.toNat, 187]
def k0_off1463 (v5007 : BitVec 32) : Fin 3 → Nat :=
  let c0_3135 : Index := 0#32
  let v5014 : Index := Scalar.indexCast v5007
  let c0_3136 : Index := 0#32
  ![0, v5014.toNat, 0]

def k0_off1464 (i : grid0.Coords) : Fin 3 → Nat :=
  let c0_3137 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5017 : Index := Scalar.indexCast v2059
  let c184_3138 : Index := 184#32
  ![0, v5017.toNat, 184]
def k0_off1465 (v5009 : BitVec 32) : Fin 3 → Nat :=
  let c0_3141 : Index := 0#32
  let v5024 : Index := Scalar.indexCast v5009
  let c0_3142 : Index := 0#32
  ![0, v5024.toNat, 0]

def k0_off1466 (i : grid0.Coords) : Fin 3 → Nat :=
  let c0_3143 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5027 : Index := Scalar.indexCast v2059
  let c185_3144 : Index := 185#32
  ![0, v5027.toNat, 185]
def k0_off1467 (v5011 : BitVec 32) : Fin 3 → Nat :=
  let c0_3147 : Index := 0#32
  let v5034 : Index := Scalar.indexCast v5011
  let c0_3148 : Index := 0#32
  ![0, v5034.toNat, 0]

def k0_off1468 (i : grid0.Coords) : Fin 3 → Nat :=
  let c0_3149 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5037 : Index := Scalar.indexCast v2059
  let c186_3150 : Index := 186#32
  ![0, v5037.toNat, 186]
def k0_off1469 (v5013 : BitVec 32) : Fin 3 → Nat :=
  let c0_3153 : Index := 0#32
  let v5044 : Index := Scalar.indexCast v5013
  let c0_3154 : Index := 0#32
  ![0, v5044.toNat, 0]

def k0_chk700 (v5013 : BitVec 32) : Prop :=
  (∀ a, (k0_off1469 v5013) a + S1x1x1024.size a ≤ S1x2048x1024.size a)
theorem k0_off1469_inb : ∀ (v5013 : BitVec 32) (k0_hw700 : k0_chk700 v5013), ∀ a, (k0_off1469 v5013) a + S1x1x1024.size a ≤ S1x2048x1024.size a := fun v5013 k0_hw700 => k0_hw700

def k0_off1470 (i : grid0.Coords) : Fin 3 → Nat :=
  let c0_3155 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5047 : Index := Scalar.indexCast v2059
  let c187_3156 : Index := 187#32
  ![0, v5047.toNat, 187]
def k0_off1471 (v5007 : BitVec 32) : Fin 3 → Nat :=
  let c0_3159 : Index := 0#32
  let v5054 : Index := Scalar.indexCast v5007
  let c0_3160 : Index := 0#32
  ![0, v5054.toNat, 0]

def k0_chk697 (v5007 : BitVec 32) : Prop :=
  (∀ a, (k0_off1463 v5007) a + S1x1x1024.size a ≤ S1x2048x1024.size a) ∧
  (∀ a, (k0_off1471 v5007) a + S1x1x1024.size a ≤ S1x2048x1024.size a)
theorem k0_off1463_inb : ∀ (v5007 : BitVec 32) (k0_hw697 : k0_chk697 v5007), ∀ a, (k0_off1463 v5007) a + S1x1x1024.size a ≤ S1x2048x1024.size a := fun v5007 k0_hw697 => k0_hw697.1
theorem k0_off1471_inb : ∀ (v5007 : BitVec 32) (k0_hw697 : k0_chk697 v5007), ∀ a, (k0_off1471 v5007) a + S1x1x1024.size a ≤ S1x2048x1024.size a := fun v5007 k0_hw697 => k0_hw697.2

def k0_off1472 (v5009 : BitVec 32) : Fin 3 → Nat :=
  let c0_3161 : Index := 0#32
  let v5058 : Index := Scalar.indexCast v5009
  let c0_3162 : Index := 0#32
  ![0, v5058.toNat, 0]

def k0_chk698 (v5009 : BitVec 32) : Prop :=
  (∀ a, (k0_off1465 v5009) a + S1x1x1024.size a ≤ S1x2048x1024.size a) ∧
  (∀ a, (k0_off1472 v5009) a + S1x1x1024.size a ≤ S1x2048x1024.size a)
theorem k0_off1465_inb : ∀ (v5009 : BitVec 32) (k0_hw698 : k0_chk698 v5009), ∀ a, (k0_off1465 v5009) a + S1x1x1024.size a ≤ S1x2048x1024.size a := fun v5009 k0_hw698 => k0_hw698.1
theorem k0_off1472_inb : ∀ (v5009 : BitVec 32) (k0_hw698 : k0_chk698 v5009), ∀ a, (k0_off1472 v5009) a + S1x1x1024.size a ≤ S1x2048x1024.size a := fun v5009 k0_hw698 => k0_hw698.2

def k0_off1473 (v5011 : BitVec 32) : Fin 3 → Nat :=
  let c0_3163 : Index := 0#32
  let v5062 : Index := Scalar.indexCast v5011
  let c0_3164 : Index := 0#32
  ![0, v5062.toNat, 0]

def k0_chk699 (v5011 : BitVec 32) : Prop :=
  (∀ a, (k0_off1467 v5011) a + S1x1x1024.size a ≤ S1x2048x1024.size a) ∧
  (∀ a, (k0_off1473 v5011) a + S1x1x1024.size a ≤ S1x2048x1024.size a)
theorem k0_off1467_inb : ∀ (v5011 : BitVec 32) (k0_hw699 : k0_chk699 v5011), ∀ a, (k0_off1467 v5011) a + S1x1x1024.size a ≤ S1x2048x1024.size a := fun v5011 k0_hw699 => k0_hw699.1
theorem k0_off1473_inb : ∀ (v5011 : BitVec 32) (k0_hw699 : k0_chk699 v5011), ∀ a, (k0_off1473 v5011) a + S1x1x1024.size a ≤ S1x2048x1024.size a := fun v5011 k0_hw699 => k0_hw699.2

def k0_off1474 (i : grid0.Coords) : Fin 3 → Nat :=
  let c0_3167 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5070 : Index := Scalar.indexCast v2059
  let c188_3168 : Index := 188#32
  ![0, v5070.toNat, 188]
def k0_off1475 (i : grid0.Coords) : Fin 3 → Nat :=
  let c0_3169 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5072 : Index := Scalar.indexCast v2059
  let c189_3170 : Index := 189#32
  ![0, v5072.toNat, 189]
def k0_off1476 (i : grid0.Coords) : Fin 3 → Nat :=
  let c0_3171 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5074 : Index := Scalar.indexCast v2059
  let c190_3172 : Index := 190#32
  ![0, v5074.toNat, 190]
def k0_off1477 (i : grid0.Coords) : Fin 3 → Nat :=
  let c0_3173 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5076 : Index := Scalar.indexCast v2059
  let c191_3174 : Index := 191#32
  ![0, v5076.toNat, 191]
def k0_off1478 (v5071 : BitVec 32) : Fin 3 → Nat :=
  let c0_3175 : Index := 0#32
  let v5078 : Index := Scalar.indexCast v5071
  let c0_3176 : Index := 0#32
  ![0, v5078.toNat, 0]

def k0_off1479 (i : grid0.Coords) : Fin 3 → Nat :=
  let c0_3177 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5081 : Index := Scalar.indexCast v2059
  let c188_3178 : Index := 188#32
  ![0, v5081.toNat, 188]
def k0_off1480 (v5073 : BitVec 32) : Fin 3 → Nat :=
  let c0_3181 : Index := 0#32
  let v5088 : Index := Scalar.indexCast v5073
  let c0_3182 : Index := 0#32
  ![0, v5088.toNat, 0]

def k0_off1481 (i : grid0.Coords) : Fin 3 → Nat :=
  let c0_3183 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5091 : Index := Scalar.indexCast v2059
  let c189_3184 : Index := 189#32
  ![0, v5091.toNat, 189]
def k0_off1482 (v5075 : BitVec 32) : Fin 3 → Nat :=
  let c0_3187 : Index := 0#32
  let v5098 : Index := Scalar.indexCast v5075
  let c0_3188 : Index := 0#32
  ![0, v5098.toNat, 0]

def k0_off1483 (i : grid0.Coords) : Fin 3 → Nat :=
  let c0_3189 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5101 : Index := Scalar.indexCast v2059
  let c190_3190 : Index := 190#32
  ![0, v5101.toNat, 190]
def k0_off1484 (v5077 : BitVec 32) : Fin 3 → Nat :=
  let c0_3193 : Index := 0#32
  let v5108 : Index := Scalar.indexCast v5077
  let c0_3194 : Index := 0#32
  ![0, v5108.toNat, 0]

def k0_chk704 (v5077 : BitVec 32) : Prop :=
  (∀ a, (k0_off1484 v5077) a + S1x1x1024.size a ≤ S1x2048x1024.size a)
theorem k0_off1484_inb : ∀ (v5077 : BitVec 32) (k0_hw704 : k0_chk704 v5077), ∀ a, (k0_off1484 v5077) a + S1x1x1024.size a ≤ S1x2048x1024.size a := fun v5077 k0_hw704 => k0_hw704

def k0_off1485 (i : grid0.Coords) : Fin 3 → Nat :=
  let c0_3195 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5111 : Index := Scalar.indexCast v2059
  let c191_3196 : Index := 191#32
  ![0, v5111.toNat, 191]
def k0_off1486 (v5071 : BitVec 32) : Fin 3 → Nat :=
  let c0_3199 : Index := 0#32
  let v5118 : Index := Scalar.indexCast v5071
  let c0_3200 : Index := 0#32
  ![0, v5118.toNat, 0]

def k0_chk701 (v5071 : BitVec 32) : Prop :=
  (∀ a, (k0_off1478 v5071) a + S1x1x1024.size a ≤ S1x2048x1024.size a) ∧
  (∀ a, (k0_off1486 v5071) a + S1x1x1024.size a ≤ S1x2048x1024.size a)
theorem k0_off1478_inb : ∀ (v5071 : BitVec 32) (k0_hw701 : k0_chk701 v5071), ∀ a, (k0_off1478 v5071) a + S1x1x1024.size a ≤ S1x2048x1024.size a := fun v5071 k0_hw701 => k0_hw701.1
theorem k0_off1486_inb : ∀ (v5071 : BitVec 32) (k0_hw701 : k0_chk701 v5071), ∀ a, (k0_off1486 v5071) a + S1x1x1024.size a ≤ S1x2048x1024.size a := fun v5071 k0_hw701 => k0_hw701.2

def k0_off1487 (v5073 : BitVec 32) : Fin 3 → Nat :=
  let c0_3201 : Index := 0#32
  let v5122 : Index := Scalar.indexCast v5073
  let c0_3202 : Index := 0#32
  ![0, v5122.toNat, 0]

def k0_chk702 (v5073 : BitVec 32) : Prop :=
  (∀ a, (k0_off1480 v5073) a + S1x1x1024.size a ≤ S1x2048x1024.size a) ∧
  (∀ a, (k0_off1487 v5073) a + S1x1x1024.size a ≤ S1x2048x1024.size a)
theorem k0_off1480_inb : ∀ (v5073 : BitVec 32) (k0_hw702 : k0_chk702 v5073), ∀ a, (k0_off1480 v5073) a + S1x1x1024.size a ≤ S1x2048x1024.size a := fun v5073 k0_hw702 => k0_hw702.1
theorem k0_off1487_inb : ∀ (v5073 : BitVec 32) (k0_hw702 : k0_chk702 v5073), ∀ a, (k0_off1487 v5073) a + S1x1x1024.size a ≤ S1x2048x1024.size a := fun v5073 k0_hw702 => k0_hw702.2

def k0_off1488 (v5075 : BitVec 32) : Fin 3 → Nat :=
  let c0_3203 : Index := 0#32
  let v5126 : Index := Scalar.indexCast v5075
  let c0_3204 : Index := 0#32
  ![0, v5126.toNat, 0]

def k0_chk703 (v5075 : BitVec 32) : Prop :=
  (∀ a, (k0_off1482 v5075) a + S1x1x1024.size a ≤ S1x2048x1024.size a) ∧
  (∀ a, (k0_off1488 v5075) a + S1x1x1024.size a ≤ S1x2048x1024.size a)
theorem k0_off1482_inb : ∀ (v5075 : BitVec 32) (k0_hw703 : k0_chk703 v5075), ∀ a, (k0_off1482 v5075) a + S1x1x1024.size a ≤ S1x2048x1024.size a := fun v5075 k0_hw703 => k0_hw703.1
theorem k0_off1488_inb : ∀ (v5075 : BitVec 32) (k0_hw703 : k0_chk703 v5075), ∀ a, (k0_off1488 v5075) a + S1x1x1024.size a ≤ S1x2048x1024.size a := fun v5075 k0_hw703 => k0_hw703.2

def k0_off1489 (i : grid0.Coords) : Fin 3 → Nat :=
  let c0_3207 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5134 : Index := Scalar.indexCast v2059
  let c192_3208 : Index := 192#32
  ![0, v5134.toNat, 192]
def k0_off1490 (i : grid0.Coords) : Fin 3 → Nat :=
  let c0_3209 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5136 : Index := Scalar.indexCast v2059
  let c193_3210 : Index := 193#32
  ![0, v5136.toNat, 193]
def k0_off1491 (i : grid0.Coords) : Fin 3 → Nat :=
  let c0_3211 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5138 : Index := Scalar.indexCast v2059
  let c194_3212 : Index := 194#32
  ![0, v5138.toNat, 194]
def k0_off1492 (i : grid0.Coords) : Fin 3 → Nat :=
  let c0_3213 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5140 : Index := Scalar.indexCast v2059
  let c195_3214 : Index := 195#32
  ![0, v5140.toNat, 195]
def k0_off1493 (v5135 : BitVec 32) : Fin 3 → Nat :=
  let c0_3215 : Index := 0#32
  let v5142 : Index := Scalar.indexCast v5135
  let c0_3216 : Index := 0#32
  ![0, v5142.toNat, 0]

def k0_off1494 (i : grid0.Coords) : Fin 3 → Nat :=
  let c0_3217 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5145 : Index := Scalar.indexCast v2059
  let c192_3218 : Index := 192#32
  ![0, v5145.toNat, 192]
def k0_off1495 (v5137 : BitVec 32) : Fin 3 → Nat :=
  let c0_3221 : Index := 0#32
  let v5152 : Index := Scalar.indexCast v5137
  let c0_3222 : Index := 0#32
  ![0, v5152.toNat, 0]

def k0_off1496 (i : grid0.Coords) : Fin 3 → Nat :=
  let c0_3223 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5155 : Index := Scalar.indexCast v2059
  let c193_3224 : Index := 193#32
  ![0, v5155.toNat, 193]
def k0_off1497 (v5139 : BitVec 32) : Fin 3 → Nat :=
  let c0_3227 : Index := 0#32
  let v5162 : Index := Scalar.indexCast v5139
  let c0_3228 : Index := 0#32
  ![0, v5162.toNat, 0]

def k0_off1498 (i : grid0.Coords) : Fin 3 → Nat :=
  let c0_3229 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5165 : Index := Scalar.indexCast v2059
  let c194_3230 : Index := 194#32
  ![0, v5165.toNat, 194]
def k0_off1499 (v5141 : BitVec 32) : Fin 3 → Nat :=
  let c0_3233 : Index := 0#32
  let v5172 : Index := Scalar.indexCast v5141
  let c0_3234 : Index := 0#32
  ![0, v5172.toNat, 0]

def k0_chk708 (v5141 : BitVec 32) : Prop :=
  (∀ a, (k0_off1499 v5141) a + S1x1x1024.size a ≤ S1x2048x1024.size a)
theorem k0_off1499_inb : ∀ (v5141 : BitVec 32) (k0_hw708 : k0_chk708 v5141), ∀ a, (k0_off1499 v5141) a + S1x1x1024.size a ≤ S1x2048x1024.size a := fun v5141 k0_hw708 => k0_hw708

def k0_off1500 (i : grid0.Coords) : Fin 3 → Nat :=
  let c0_3235 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5175 : Index := Scalar.indexCast v2059
  let c195_3236 : Index := 195#32
  ![0, v5175.toNat, 195]
def k0_off1501 (v5135 : BitVec 32) : Fin 3 → Nat :=
  let c0_3239 : Index := 0#32
  let v5182 : Index := Scalar.indexCast v5135
  let c0_3240 : Index := 0#32
  ![0, v5182.toNat, 0]

def k0_chk705 (v5135 : BitVec 32) : Prop :=
  (∀ a, (k0_off1493 v5135) a + S1x1x1024.size a ≤ S1x2048x1024.size a) ∧
  (∀ a, (k0_off1501 v5135) a + S1x1x1024.size a ≤ S1x2048x1024.size a)
theorem k0_off1493_inb : ∀ (v5135 : BitVec 32) (k0_hw705 : k0_chk705 v5135), ∀ a, (k0_off1493 v5135) a + S1x1x1024.size a ≤ S1x2048x1024.size a := fun v5135 k0_hw705 => k0_hw705.1
theorem k0_off1501_inb : ∀ (v5135 : BitVec 32) (k0_hw705 : k0_chk705 v5135), ∀ a, (k0_off1501 v5135) a + S1x1x1024.size a ≤ S1x2048x1024.size a := fun v5135 k0_hw705 => k0_hw705.2

def k0_off1502 (v5137 : BitVec 32) : Fin 3 → Nat :=
  let c0_3241 : Index := 0#32
  let v5186 : Index := Scalar.indexCast v5137
  let c0_3242 : Index := 0#32
  ![0, v5186.toNat, 0]

def k0_chk706 (v5137 : BitVec 32) : Prop :=
  (∀ a, (k0_off1495 v5137) a + S1x1x1024.size a ≤ S1x2048x1024.size a) ∧
  (∀ a, (k0_off1502 v5137) a + S1x1x1024.size a ≤ S1x2048x1024.size a)
theorem k0_off1495_inb : ∀ (v5137 : BitVec 32) (k0_hw706 : k0_chk706 v5137), ∀ a, (k0_off1495 v5137) a + S1x1x1024.size a ≤ S1x2048x1024.size a := fun v5137 k0_hw706 => k0_hw706.1
theorem k0_off1502_inb : ∀ (v5137 : BitVec 32) (k0_hw706 : k0_chk706 v5137), ∀ a, (k0_off1502 v5137) a + S1x1x1024.size a ≤ S1x2048x1024.size a := fun v5137 k0_hw706 => k0_hw706.2

def k0_off1503 (v5139 : BitVec 32) : Fin 3 → Nat :=
  let c0_3243 : Index := 0#32
  let v5190 : Index := Scalar.indexCast v5139
  let c0_3244 : Index := 0#32
  ![0, v5190.toNat, 0]

def k0_chk707 (v5139 : BitVec 32) : Prop :=
  (∀ a, (k0_off1497 v5139) a + S1x1x1024.size a ≤ S1x2048x1024.size a) ∧
  (∀ a, (k0_off1503 v5139) a + S1x1x1024.size a ≤ S1x2048x1024.size a)
theorem k0_off1497_inb : ∀ (v5139 : BitVec 32) (k0_hw707 : k0_chk707 v5139), ∀ a, (k0_off1497 v5139) a + S1x1x1024.size a ≤ S1x2048x1024.size a := fun v5139 k0_hw707 => k0_hw707.1
theorem k0_off1503_inb : ∀ (v5139 : BitVec 32) (k0_hw707 : k0_chk707 v5139), ∀ a, (k0_off1503 v5139) a + S1x1x1024.size a ≤ S1x2048x1024.size a := fun v5139 k0_hw707 => k0_hw707.2

def k0_off1504 (i : grid0.Coords) : Fin 3 → Nat :=
  let c0_3247 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5198 : Index := Scalar.indexCast v2059
  let c196_3248 : Index := 196#32
  ![0, v5198.toNat, 196]
def k0_off1505 (i : grid0.Coords) : Fin 3 → Nat :=
  let c0_3249 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5200 : Index := Scalar.indexCast v2059
  let c197_3250 : Index := 197#32
  ![0, v5200.toNat, 197]
def k0_off1506 (i : grid0.Coords) : Fin 3 → Nat :=
  let c0_3251 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5202 : Index := Scalar.indexCast v2059
  let c198_3252 : Index := 198#32
  ![0, v5202.toNat, 198]
def k0_off1507 (i : grid0.Coords) : Fin 3 → Nat :=
  let c0_3253 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5204 : Index := Scalar.indexCast v2059
  let c199_3254 : Index := 199#32
  ![0, v5204.toNat, 199]
def k0_off1508 (v5199 : BitVec 32) : Fin 3 → Nat :=
  let c0_3255 : Index := 0#32
  let v5206 : Index := Scalar.indexCast v5199
  let c0_3256 : Index := 0#32
  ![0, v5206.toNat, 0]

def k0_off1509 (i : grid0.Coords) : Fin 3 → Nat :=
  let c0_3257 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5209 : Index := Scalar.indexCast v2059
  let c196_3258 : Index := 196#32
  ![0, v5209.toNat, 196]
def k0_off1510 (v5201 : BitVec 32) : Fin 3 → Nat :=
  let c0_3261 : Index := 0#32
  let v5216 : Index := Scalar.indexCast v5201
  let c0_3262 : Index := 0#32
  ![0, v5216.toNat, 0]

def k0_off1511 (i : grid0.Coords) : Fin 3 → Nat :=
  let c0_3263 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5219 : Index := Scalar.indexCast v2059
  let c197_3264 : Index := 197#32
  ![0, v5219.toNat, 197]
def k0_off1512 (v5203 : BitVec 32) : Fin 3 → Nat :=
  let c0_3267 : Index := 0#32
  let v5226 : Index := Scalar.indexCast v5203
  let c0_3268 : Index := 0#32
  ![0, v5226.toNat, 0]

def k0_off1513 (i : grid0.Coords) : Fin 3 → Nat :=
  let c0_3269 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5229 : Index := Scalar.indexCast v2059
  let c198_3270 : Index := 198#32
  ![0, v5229.toNat, 198]
def k0_off1514 (v5205 : BitVec 32) : Fin 3 → Nat :=
  let c0_3273 : Index := 0#32
  let v5236 : Index := Scalar.indexCast v5205
  let c0_3274 : Index := 0#32
  ![0, v5236.toNat, 0]

def k0_chk712 (v5205 : BitVec 32) : Prop :=
  (∀ a, (k0_off1514 v5205) a + S1x1x1024.size a ≤ S1x2048x1024.size a)
theorem k0_off1514_inb : ∀ (v5205 : BitVec 32) (k0_hw712 : k0_chk712 v5205), ∀ a, (k0_off1514 v5205) a + S1x1x1024.size a ≤ S1x2048x1024.size a := fun v5205 k0_hw712 => k0_hw712

def k0_off1515 (i : grid0.Coords) : Fin 3 → Nat :=
  let c0_3275 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5239 : Index := Scalar.indexCast v2059
  let c199_3276 : Index := 199#32
  ![0, v5239.toNat, 199]
def k0_off1516 (v5199 : BitVec 32) : Fin 3 → Nat :=
  let c0_3279 : Index := 0#32
  let v5246 : Index := Scalar.indexCast v5199
  let c0_3280 : Index := 0#32
  ![0, v5246.toNat, 0]

def k0_chk709 (v5199 : BitVec 32) : Prop :=
  (∀ a, (k0_off1508 v5199) a + S1x1x1024.size a ≤ S1x2048x1024.size a) ∧
  (∀ a, (k0_off1516 v5199) a + S1x1x1024.size a ≤ S1x2048x1024.size a)
theorem k0_off1508_inb : ∀ (v5199 : BitVec 32) (k0_hw709 : k0_chk709 v5199), ∀ a, (k0_off1508 v5199) a + S1x1x1024.size a ≤ S1x2048x1024.size a := fun v5199 k0_hw709 => k0_hw709.1
theorem k0_off1516_inb : ∀ (v5199 : BitVec 32) (k0_hw709 : k0_chk709 v5199), ∀ a, (k0_off1516 v5199) a + S1x1x1024.size a ≤ S1x2048x1024.size a := fun v5199 k0_hw709 => k0_hw709.2

def k0_off1517 (v5201 : BitVec 32) : Fin 3 → Nat :=
  let c0_3281 : Index := 0#32
  let v5250 : Index := Scalar.indexCast v5201
  let c0_3282 : Index := 0#32
  ![0, v5250.toNat, 0]

def k0_chk710 (v5201 : BitVec 32) : Prop :=
  (∀ a, (k0_off1510 v5201) a + S1x1x1024.size a ≤ S1x2048x1024.size a) ∧
  (∀ a, (k0_off1517 v5201) a + S1x1x1024.size a ≤ S1x2048x1024.size a)
theorem k0_off1510_inb : ∀ (v5201 : BitVec 32) (k0_hw710 : k0_chk710 v5201), ∀ a, (k0_off1510 v5201) a + S1x1x1024.size a ≤ S1x2048x1024.size a := fun v5201 k0_hw710 => k0_hw710.1
theorem k0_off1517_inb : ∀ (v5201 : BitVec 32) (k0_hw710 : k0_chk710 v5201), ∀ a, (k0_off1517 v5201) a + S1x1x1024.size a ≤ S1x2048x1024.size a := fun v5201 k0_hw710 => k0_hw710.2

def k0_off1518 (v5203 : BitVec 32) : Fin 3 → Nat :=
  let c0_3283 : Index := 0#32
  let v5254 : Index := Scalar.indexCast v5203
  let c0_3284 : Index := 0#32
  ![0, v5254.toNat, 0]

def k0_chk711 (v5203 : BitVec 32) : Prop :=
  (∀ a, (k0_off1512 v5203) a + S1x1x1024.size a ≤ S1x2048x1024.size a) ∧
  (∀ a, (k0_off1518 v5203) a + S1x1x1024.size a ≤ S1x2048x1024.size a)
theorem k0_off1512_inb : ∀ (v5203 : BitVec 32) (k0_hw711 : k0_chk711 v5203), ∀ a, (k0_off1512 v5203) a + S1x1x1024.size a ≤ S1x2048x1024.size a := fun v5203 k0_hw711 => k0_hw711.1
theorem k0_off1518_inb : ∀ (v5203 : BitVec 32) (k0_hw711 : k0_chk711 v5203), ∀ a, (k0_off1518 v5203) a + S1x1x1024.size a ≤ S1x2048x1024.size a := fun v5203 k0_hw711 => k0_hw711.2

def k0_off1519 (i : grid0.Coords) : Fin 3 → Nat :=
  let c0_3287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5262 : Index := Scalar.indexCast v2059
  let c200_3288 : Index := 200#32
  ![0, v5262.toNat, 200]
def k0_off1520 (i : grid0.Coords) : Fin 3 → Nat :=
  let c0_3289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5264 : Index := Scalar.indexCast v2059
  let c201_3290 : Index := 201#32
  ![0, v5264.toNat, 201]
def k0_off1521 (i : grid0.Coords) : Fin 3 → Nat :=
  let c0_3291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5266 : Index := Scalar.indexCast v2059
  let c202_3292 : Index := 202#32
  ![0, v5266.toNat, 202]
def k0_off1522 (i : grid0.Coords) : Fin 3 → Nat :=
  let c0_3293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5268 : Index := Scalar.indexCast v2059
  let c203_3294 : Index := 203#32
  ![0, v5268.toNat, 203]
def k0_off1523 (v5263 : BitVec 32) : Fin 3 → Nat :=
  let c0_3295 : Index := 0#32
  let v5270 : Index := Scalar.indexCast v5263
  let c0_3296 : Index := 0#32
  ![0, v5270.toNat, 0]

def k0_off1524 (i : grid0.Coords) : Fin 3 → Nat :=
  let c0_3297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5273 : Index := Scalar.indexCast v2059
  let c200_3298 : Index := 200#32
  ![0, v5273.toNat, 200]
def k0_off1525 (v5265 : BitVec 32) : Fin 3 → Nat :=
  let c0_3301 : Index := 0#32
  let v5280 : Index := Scalar.indexCast v5265
  let c0_3302 : Index := 0#32
  ![0, v5280.toNat, 0]

def k0_off1526 (i : grid0.Coords) : Fin 3 → Nat :=
  let c0_3303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5283 : Index := Scalar.indexCast v2059
  let c201_3304 : Index := 201#32
  ![0, v5283.toNat, 201]
def k0_off1527 (v5267 : BitVec 32) : Fin 3 → Nat :=
  let c0_3307 : Index := 0#32
  let v5290 : Index := Scalar.indexCast v5267
  let c0_3308 : Index := 0#32
  ![0, v5290.toNat, 0]

def k0_off1528 (i : grid0.Coords) : Fin 3 → Nat :=
  let c0_3309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5293 : Index := Scalar.indexCast v2059
  let c202_3310 : Index := 202#32
  ![0, v5293.toNat, 202]
def k0_off1529 (v5269 : BitVec 32) : Fin 3 → Nat :=
  let c0_3313 : Index := 0#32
  let v5300 : Index := Scalar.indexCast v5269
  let c0_3314 : Index := 0#32
  ![0, v5300.toNat, 0]

def k0_chk716 (v5269 : BitVec 32) : Prop :=
  (∀ a, (k0_off1529 v5269) a + S1x1x1024.size a ≤ S1x2048x1024.size a)
theorem k0_off1529_inb : ∀ (v5269 : BitVec 32) (k0_hw716 : k0_chk716 v5269), ∀ a, (k0_off1529 v5269) a + S1x1x1024.size a ≤ S1x2048x1024.size a := fun v5269 k0_hw716 => k0_hw716

def k0_off1530 (i : grid0.Coords) : Fin 3 → Nat :=
  let c0_3315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5303 : Index := Scalar.indexCast v2059
  let c203_3316 : Index := 203#32
  ![0, v5303.toNat, 203]
def k0_off1531 (v5263 : BitVec 32) : Fin 3 → Nat :=
  let c0_3319 : Index := 0#32
  let v5310 : Index := Scalar.indexCast v5263
  let c0_3320 : Index := 0#32
  ![0, v5310.toNat, 0]

def k0_chk713 (v5263 : BitVec 32) : Prop :=
  (∀ a, (k0_off1523 v5263) a + S1x1x1024.size a ≤ S1x2048x1024.size a) ∧
  (∀ a, (k0_off1531 v5263) a + S1x1x1024.size a ≤ S1x2048x1024.size a)
theorem k0_off1523_inb : ∀ (v5263 : BitVec 32) (k0_hw713 : k0_chk713 v5263), ∀ a, (k0_off1523 v5263) a + S1x1x1024.size a ≤ S1x2048x1024.size a := fun v5263 k0_hw713 => k0_hw713.1
theorem k0_off1531_inb : ∀ (v5263 : BitVec 32) (k0_hw713 : k0_chk713 v5263), ∀ a, (k0_off1531 v5263) a + S1x1x1024.size a ≤ S1x2048x1024.size a := fun v5263 k0_hw713 => k0_hw713.2

def k0_off1532 (v5265 : BitVec 32) : Fin 3 → Nat :=
  let c0_3321 : Index := 0#32
  let v5314 : Index := Scalar.indexCast v5265
  let c0_3322 : Index := 0#32
  ![0, v5314.toNat, 0]

def k0_chk714 (v5265 : BitVec 32) : Prop :=
  (∀ a, (k0_off1525 v5265) a + S1x1x1024.size a ≤ S1x2048x1024.size a) ∧
  (∀ a, (k0_off1532 v5265) a + S1x1x1024.size a ≤ S1x2048x1024.size a)
theorem k0_off1525_inb : ∀ (v5265 : BitVec 32) (k0_hw714 : k0_chk714 v5265), ∀ a, (k0_off1525 v5265) a + S1x1x1024.size a ≤ S1x2048x1024.size a := fun v5265 k0_hw714 => k0_hw714.1
theorem k0_off1532_inb : ∀ (v5265 : BitVec 32) (k0_hw714 : k0_chk714 v5265), ∀ a, (k0_off1532 v5265) a + S1x1x1024.size a ≤ S1x2048x1024.size a := fun v5265 k0_hw714 => k0_hw714.2

def k0_off1533 (v5267 : BitVec 32) : Fin 3 → Nat :=
  let c0_3323 : Index := 0#32
  let v5318 : Index := Scalar.indexCast v5267
  let c0_3324 : Index := 0#32
  ![0, v5318.toNat, 0]

def k0_chk715 (v5267 : BitVec 32) : Prop :=
  (∀ a, (k0_off1527 v5267) a + S1x1x1024.size a ≤ S1x2048x1024.size a) ∧
  (∀ a, (k0_off1533 v5267) a + S1x1x1024.size a ≤ S1x2048x1024.size a)
theorem k0_off1527_inb : ∀ (v5267 : BitVec 32) (k0_hw715 : k0_chk715 v5267), ∀ a, (k0_off1527 v5267) a + S1x1x1024.size a ≤ S1x2048x1024.size a := fun v5267 k0_hw715 => k0_hw715.1
theorem k0_off1533_inb : ∀ (v5267 : BitVec 32) (k0_hw715 : k0_chk715 v5267), ∀ a, (k0_off1533 v5267) a + S1x1x1024.size a ≤ S1x2048x1024.size a := fun v5267 k0_hw715 => k0_hw715.2

def k0_off1534 (i : grid0.Coords) : Fin 3 → Nat :=
  let c0_3327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5326 : Index := Scalar.indexCast v2059
  let c204_3328 : Index := 204#32
  ![0, v5326.toNat, 204]
def k0_off1535 (i : grid0.Coords) : Fin 3 → Nat :=
  let c0_3329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5328 : Index := Scalar.indexCast v2059
  let c205_3330 : Index := 205#32
  ![0, v5328.toNat, 205]
def k0_off1536 (i : grid0.Coords) : Fin 3 → Nat :=
  let c0_3331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5330 : Index := Scalar.indexCast v2059
  let c206_3332 : Index := 206#32
  ![0, v5330.toNat, 206]
def k0_off1537 (i : grid0.Coords) : Fin 3 → Nat :=
  let c0_3333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5332 : Index := Scalar.indexCast v2059
  let c207_3334 : Index := 207#32
  ![0, v5332.toNat, 207]
def k0_off1538 (v5327 : BitVec 32) : Fin 3 → Nat :=
  let c0_3335 : Index := 0#32
  let v5334 : Index := Scalar.indexCast v5327
  let c0_3336 : Index := 0#32
  ![0, v5334.toNat, 0]

def k0_off1539 (i : grid0.Coords) : Fin 3 → Nat :=
  let c0_3337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5337 : Index := Scalar.indexCast v2059
  let c204_3338 : Index := 204#32
  ![0, v5337.toNat, 204]
def k0_off1540 (v5329 : BitVec 32) : Fin 3 → Nat :=
  let c0_3341 : Index := 0#32
  let v5344 : Index := Scalar.indexCast v5329
  let c0_3342 : Index := 0#32
  ![0, v5344.toNat, 0]

def k0_off1541 (i : grid0.Coords) : Fin 3 → Nat :=
  let c0_3343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5347 : Index := Scalar.indexCast v2059
  let c205_3344 : Index := 205#32
  ![0, v5347.toNat, 205]
def k0_off1542 (v5331 : BitVec 32) : Fin 3 → Nat :=
  let c0_3347 : Index := 0#32
  let v5354 : Index := Scalar.indexCast v5331
  let c0_3348 : Index := 0#32
  ![0, v5354.toNat, 0]

def k0_off1543 (i : grid0.Coords) : Fin 3 → Nat :=
  let c0_3349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5357 : Index := Scalar.indexCast v2059
  let c206_3350 : Index := 206#32
  ![0, v5357.toNat, 206]
def k0_off1544 (v5333 : BitVec 32) : Fin 3 → Nat :=
  let c0_3353 : Index := 0#32
  let v5364 : Index := Scalar.indexCast v5333
  let c0_3354 : Index := 0#32
  ![0, v5364.toNat, 0]

def k0_chk720 (v5333 : BitVec 32) : Prop :=
  (∀ a, (k0_off1544 v5333) a + S1x1x1024.size a ≤ S1x2048x1024.size a)
theorem k0_off1544_inb : ∀ (v5333 : BitVec 32) (k0_hw720 : k0_chk720 v5333), ∀ a, (k0_off1544 v5333) a + S1x1x1024.size a ≤ S1x2048x1024.size a := fun v5333 k0_hw720 => k0_hw720

def k0_off1545 (i : grid0.Coords) : Fin 3 → Nat :=
  let c0_3355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5367 : Index := Scalar.indexCast v2059
  let c207_3356 : Index := 207#32
  ![0, v5367.toNat, 207]
def k0_off1546 (v5327 : BitVec 32) : Fin 3 → Nat :=
  let c0_3359 : Index := 0#32
  let v5374 : Index := Scalar.indexCast v5327
  let c0_3360 : Index := 0#32
  ![0, v5374.toNat, 0]

def k0_chk717 (v5327 : BitVec 32) : Prop :=
  (∀ a, (k0_off1538 v5327) a + S1x1x1024.size a ≤ S1x2048x1024.size a) ∧
  (∀ a, (k0_off1546 v5327) a + S1x1x1024.size a ≤ S1x2048x1024.size a)
theorem k0_off1538_inb : ∀ (v5327 : BitVec 32) (k0_hw717 : k0_chk717 v5327), ∀ a, (k0_off1538 v5327) a + S1x1x1024.size a ≤ S1x2048x1024.size a := fun v5327 k0_hw717 => k0_hw717.1
theorem k0_off1546_inb : ∀ (v5327 : BitVec 32) (k0_hw717 : k0_chk717 v5327), ∀ a, (k0_off1546 v5327) a + S1x1x1024.size a ≤ S1x2048x1024.size a := fun v5327 k0_hw717 => k0_hw717.2

def k0_off1547 (v5329 : BitVec 32) : Fin 3 → Nat :=
  let c0_3361 : Index := 0#32
  let v5378 : Index := Scalar.indexCast v5329
  let c0_3362 : Index := 0#32
  ![0, v5378.toNat, 0]

def k0_chk718 (v5329 : BitVec 32) : Prop :=
  (∀ a, (k0_off1540 v5329) a + S1x1x1024.size a ≤ S1x2048x1024.size a) ∧
  (∀ a, (k0_off1547 v5329) a + S1x1x1024.size a ≤ S1x2048x1024.size a)
theorem k0_off1540_inb : ∀ (v5329 : BitVec 32) (k0_hw718 : k0_chk718 v5329), ∀ a, (k0_off1540 v5329) a + S1x1x1024.size a ≤ S1x2048x1024.size a := fun v5329 k0_hw718 => k0_hw718.1
theorem k0_off1547_inb : ∀ (v5329 : BitVec 32) (k0_hw718 : k0_chk718 v5329), ∀ a, (k0_off1547 v5329) a + S1x1x1024.size a ≤ S1x2048x1024.size a := fun v5329 k0_hw718 => k0_hw718.2

def k0_off1548 (v5331 : BitVec 32) : Fin 3 → Nat :=
  let c0_3363 : Index := 0#32
  let v5382 : Index := Scalar.indexCast v5331
  let c0_3364 : Index := 0#32
  ![0, v5382.toNat, 0]

def k0_chk719 (v5331 : BitVec 32) : Prop :=
  (∀ a, (k0_off1542 v5331) a + S1x1x1024.size a ≤ S1x2048x1024.size a) ∧
  (∀ a, (k0_off1548 v5331) a + S1x1x1024.size a ≤ S1x2048x1024.size a)
theorem k0_off1542_inb : ∀ (v5331 : BitVec 32) (k0_hw719 : k0_chk719 v5331), ∀ a, (k0_off1542 v5331) a + S1x1x1024.size a ≤ S1x2048x1024.size a := fun v5331 k0_hw719 => k0_hw719.1
theorem k0_off1548_inb : ∀ (v5331 : BitVec 32) (k0_hw719 : k0_chk719 v5331), ∀ a, (k0_off1548 v5331) a + S1x1x1024.size a ≤ S1x2048x1024.size a := fun v5331 k0_hw719 => k0_hw719.2

def k0_off1549 (i : grid0.Coords) : Fin 3 → Nat :=
  let c0_3367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5390 : Index := Scalar.indexCast v2059
  let c208_3368 : Index := 208#32
  ![0, v5390.toNat, 208]
def k0_off1550 (i : grid0.Coords) : Fin 3 → Nat :=
  let c0_3369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5392 : Index := Scalar.indexCast v2059
  let c209_3370 : Index := 209#32
  ![0, v5392.toNat, 209]
def k0_off1551 (i : grid0.Coords) : Fin 3 → Nat :=
  let c0_3371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5394 : Index := Scalar.indexCast v2059
  let c210_3372 : Index := 210#32
  ![0, v5394.toNat, 210]
def k0_off1552 (i : grid0.Coords) : Fin 3 → Nat :=
  let c0_3373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5396 : Index := Scalar.indexCast v2059
  let c211_3374 : Index := 211#32
  ![0, v5396.toNat, 211]
def k0_off1553 (v5391 : BitVec 32) : Fin 3 → Nat :=
  let c0_3375 : Index := 0#32
  let v5398 : Index := Scalar.indexCast v5391
  let c0_3376 : Index := 0#32
  ![0, v5398.toNat, 0]

def k0_off1554 (i : grid0.Coords) : Fin 3 → Nat :=
  let c0_3377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5401 : Index := Scalar.indexCast v2059
  let c208_3378 : Index := 208#32
  ![0, v5401.toNat, 208]
def k0_off1555 (v5393 : BitVec 32) : Fin 3 → Nat :=
  let c0_3381 : Index := 0#32
  let v5408 : Index := Scalar.indexCast v5393
  let c0_3382 : Index := 0#32
  ![0, v5408.toNat, 0]

def k0_off1556 (i : grid0.Coords) : Fin 3 → Nat :=
  let c0_3383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5411 : Index := Scalar.indexCast v2059
  let c209_3384 : Index := 209#32
  ![0, v5411.toNat, 209]
def k0_off1557 (v5395 : BitVec 32) : Fin 3 → Nat :=
  let c0_3387 : Index := 0#32
  let v5418 : Index := Scalar.indexCast v5395
  let c0_3388 : Index := 0#32
  ![0, v5418.toNat, 0]

def k0_off1558 (i : grid0.Coords) : Fin 3 → Nat :=
  let c0_3389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5421 : Index := Scalar.indexCast v2059
  let c210_3390 : Index := 210#32
  ![0, v5421.toNat, 210]
def k0_off1559 (v5397 : BitVec 32) : Fin 3 → Nat :=
  let c0_3393 : Index := 0#32
  let v5428 : Index := Scalar.indexCast v5397
  let c0_3394 : Index := 0#32
  ![0, v5428.toNat, 0]

def k0_chk724 (v5397 : BitVec 32) : Prop :=
  (∀ a, (k0_off1559 v5397) a + S1x1x1024.size a ≤ S1x2048x1024.size a)
theorem k0_off1559_inb : ∀ (v5397 : BitVec 32) (k0_hw724 : k0_chk724 v5397), ∀ a, (k0_off1559 v5397) a + S1x1x1024.size a ≤ S1x2048x1024.size a := fun v5397 k0_hw724 => k0_hw724

def k0_off1560 (i : grid0.Coords) : Fin 3 → Nat :=
  let c0_3395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5431 : Index := Scalar.indexCast v2059
  let c211_3396 : Index := 211#32
  ![0, v5431.toNat, 211]
def k0_off1561 (v5391 : BitVec 32) : Fin 3 → Nat :=
  let c0_3399 : Index := 0#32
  let v5438 : Index := Scalar.indexCast v5391
  let c0_3400 : Index := 0#32
  ![0, v5438.toNat, 0]

def k0_chk721 (v5391 : BitVec 32) : Prop :=
  (∀ a, (k0_off1553 v5391) a + S1x1x1024.size a ≤ S1x2048x1024.size a) ∧
  (∀ a, (k0_off1561 v5391) a + S1x1x1024.size a ≤ S1x2048x1024.size a)
theorem k0_off1553_inb : ∀ (v5391 : BitVec 32) (k0_hw721 : k0_chk721 v5391), ∀ a, (k0_off1553 v5391) a + S1x1x1024.size a ≤ S1x2048x1024.size a := fun v5391 k0_hw721 => k0_hw721.1
theorem k0_off1561_inb : ∀ (v5391 : BitVec 32) (k0_hw721 : k0_chk721 v5391), ∀ a, (k0_off1561 v5391) a + S1x1x1024.size a ≤ S1x2048x1024.size a := fun v5391 k0_hw721 => k0_hw721.2

def k0_off1562 (v5393 : BitVec 32) : Fin 3 → Nat :=
  let c0_3401 : Index := 0#32
  let v5442 : Index := Scalar.indexCast v5393
  let c0_3402 : Index := 0#32
  ![0, v5442.toNat, 0]

def k0_chk722 (v5393 : BitVec 32) : Prop :=
  (∀ a, (k0_off1555 v5393) a + S1x1x1024.size a ≤ S1x2048x1024.size a) ∧
  (∀ a, (k0_off1562 v5393) a + S1x1x1024.size a ≤ S1x2048x1024.size a)
theorem k0_off1555_inb : ∀ (v5393 : BitVec 32) (k0_hw722 : k0_chk722 v5393), ∀ a, (k0_off1555 v5393) a + S1x1x1024.size a ≤ S1x2048x1024.size a := fun v5393 k0_hw722 => k0_hw722.1
theorem k0_off1562_inb : ∀ (v5393 : BitVec 32) (k0_hw722 : k0_chk722 v5393), ∀ a, (k0_off1562 v5393) a + S1x1x1024.size a ≤ S1x2048x1024.size a := fun v5393 k0_hw722 => k0_hw722.2

def k0_off1563 (v5395 : BitVec 32) : Fin 3 → Nat :=
  let c0_3403 : Index := 0#32
  let v5446 : Index := Scalar.indexCast v5395
  let c0_3404 : Index := 0#32
  ![0, v5446.toNat, 0]

def k0_chk723 (v5395 : BitVec 32) : Prop :=
  (∀ a, (k0_off1557 v5395) a + S1x1x1024.size a ≤ S1x2048x1024.size a) ∧
  (∀ a, (k0_off1563 v5395) a + S1x1x1024.size a ≤ S1x2048x1024.size a)
theorem k0_off1557_inb : ∀ (v5395 : BitVec 32) (k0_hw723 : k0_chk723 v5395), ∀ a, (k0_off1557 v5395) a + S1x1x1024.size a ≤ S1x2048x1024.size a := fun v5395 k0_hw723 => k0_hw723.1
theorem k0_off1563_inb : ∀ (v5395 : BitVec 32) (k0_hw723 : k0_chk723 v5395), ∀ a, (k0_off1563 v5395) a + S1x1x1024.size a ≤ S1x2048x1024.size a := fun v5395 k0_hw723 => k0_hw723.2

def k0_off1564 (i : grid0.Coords) : Fin 3 → Nat :=
  let c0_3407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5454 : Index := Scalar.indexCast v2059
  let c212_3408 : Index := 212#32
  ![0, v5454.toNat, 212]
def k0_off1565 (i : grid0.Coords) : Fin 3 → Nat :=
  let c0_3409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5456 : Index := Scalar.indexCast v2059
  let c213_3410 : Index := 213#32
  ![0, v5456.toNat, 213]
def k0_off1566 (i : grid0.Coords) : Fin 3 → Nat :=
  let c0_3411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5458 : Index := Scalar.indexCast v2059
  let c214_3412 : Index := 214#32
  ![0, v5458.toNat, 214]
def k0_off1567 (i : grid0.Coords) : Fin 3 → Nat :=
  let c0_3413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5460 : Index := Scalar.indexCast v2059
  let c215_3414 : Index := 215#32
  ![0, v5460.toNat, 215]
def k0_off1568 (v5455 : BitVec 32) : Fin 3 → Nat :=
  let c0_3415 : Index := 0#32
  let v5462 : Index := Scalar.indexCast v5455
  let c0_3416 : Index := 0#32
  ![0, v5462.toNat, 0]

def k0_off1569 (i : grid0.Coords) : Fin 3 → Nat :=
  let c0_3417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5465 : Index := Scalar.indexCast v2059
  let c212_3418 : Index := 212#32
  ![0, v5465.toNat, 212]
def k0_off1570 (v5457 : BitVec 32) : Fin 3 → Nat :=
  let c0_3421 : Index := 0#32
  let v5472 : Index := Scalar.indexCast v5457
  let c0_3422 : Index := 0#32
  ![0, v5472.toNat, 0]

def k0_off1571 (i : grid0.Coords) : Fin 3 → Nat :=
  let c0_3423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5475 : Index := Scalar.indexCast v2059
  let c213_3424 : Index := 213#32
  ![0, v5475.toNat, 213]
def k0_off1572 (v5459 : BitVec 32) : Fin 3 → Nat :=
  let c0_3427 : Index := 0#32
  let v5482 : Index := Scalar.indexCast v5459
  let c0_3428 : Index := 0#32
  ![0, v5482.toNat, 0]

def k0_off1573 (i : grid0.Coords) : Fin 3 → Nat :=
  let c0_3429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5485 : Index := Scalar.indexCast v2059
  let c214_3430 : Index := 214#32
  ![0, v5485.toNat, 214]
def k0_off1574 (v5461 : BitVec 32) : Fin 3 → Nat :=
  let c0_3433 : Index := 0#32
  let v5492 : Index := Scalar.indexCast v5461
  let c0_3434 : Index := 0#32
  ![0, v5492.toNat, 0]

def k0_chk728 (v5461 : BitVec 32) : Prop :=
  (∀ a, (k0_off1574 v5461) a + S1x1x1024.size a ≤ S1x2048x1024.size a)
theorem k0_off1574_inb : ∀ (v5461 : BitVec 32) (k0_hw728 : k0_chk728 v5461), ∀ a, (k0_off1574 v5461) a + S1x1x1024.size a ≤ S1x2048x1024.size a := fun v5461 k0_hw728 => k0_hw728

def k0_off1575 (i : grid0.Coords) : Fin 3 → Nat :=
  let c0_3435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5495 : Index := Scalar.indexCast v2059
  let c215_3436 : Index := 215#32
  ![0, v5495.toNat, 215]
def k0_off1576 (v5455 : BitVec 32) : Fin 3 → Nat :=
  let c0_3439 : Index := 0#32
  let v5502 : Index := Scalar.indexCast v5455
  let c0_3440 : Index := 0#32
  ![0, v5502.toNat, 0]

def k0_chk725 (v5455 : BitVec 32) : Prop :=
  (∀ a, (k0_off1568 v5455) a + S1x1x1024.size a ≤ S1x2048x1024.size a) ∧
  (∀ a, (k0_off1576 v5455) a + S1x1x1024.size a ≤ S1x2048x1024.size a)
theorem k0_off1568_inb : ∀ (v5455 : BitVec 32) (k0_hw725 : k0_chk725 v5455), ∀ a, (k0_off1568 v5455) a + S1x1x1024.size a ≤ S1x2048x1024.size a := fun v5455 k0_hw725 => k0_hw725.1
theorem k0_off1576_inb : ∀ (v5455 : BitVec 32) (k0_hw725 : k0_chk725 v5455), ∀ a, (k0_off1576 v5455) a + S1x1x1024.size a ≤ S1x2048x1024.size a := fun v5455 k0_hw725 => k0_hw725.2

def k0_off1577 (v5457 : BitVec 32) : Fin 3 → Nat :=
  let c0_3441 : Index := 0#32
  let v5506 : Index := Scalar.indexCast v5457
  let c0_3442 : Index := 0#32
  ![0, v5506.toNat, 0]

def k0_chk726 (v5457 : BitVec 32) : Prop :=
  (∀ a, (k0_off1570 v5457) a + S1x1x1024.size a ≤ S1x2048x1024.size a) ∧
  (∀ a, (k0_off1577 v5457) a + S1x1x1024.size a ≤ S1x2048x1024.size a)
theorem k0_off1570_inb : ∀ (v5457 : BitVec 32) (k0_hw726 : k0_chk726 v5457), ∀ a, (k0_off1570 v5457) a + S1x1x1024.size a ≤ S1x2048x1024.size a := fun v5457 k0_hw726 => k0_hw726.1
theorem k0_off1577_inb : ∀ (v5457 : BitVec 32) (k0_hw726 : k0_chk726 v5457), ∀ a, (k0_off1577 v5457) a + S1x1x1024.size a ≤ S1x2048x1024.size a := fun v5457 k0_hw726 => k0_hw726.2

def k0_off1578 (v5459 : BitVec 32) : Fin 3 → Nat :=
  let c0_3443 : Index := 0#32
  let v5510 : Index := Scalar.indexCast v5459
  let c0_3444 : Index := 0#32
  ![0, v5510.toNat, 0]

def k0_chk727 (v5459 : BitVec 32) : Prop :=
  (∀ a, (k0_off1572 v5459) a + S1x1x1024.size a ≤ S1x2048x1024.size a) ∧
  (∀ a, (k0_off1578 v5459) a + S1x1x1024.size a ≤ S1x2048x1024.size a)
theorem k0_off1572_inb : ∀ (v5459 : BitVec 32) (k0_hw727 : k0_chk727 v5459), ∀ a, (k0_off1572 v5459) a + S1x1x1024.size a ≤ S1x2048x1024.size a := fun v5459 k0_hw727 => k0_hw727.1
theorem k0_off1578_inb : ∀ (v5459 : BitVec 32) (k0_hw727 : k0_chk727 v5459), ∀ a, (k0_off1578 v5459) a + S1x1x1024.size a ≤ S1x2048x1024.size a := fun v5459 k0_hw727 => k0_hw727.2

def k0_off1579 (i : grid0.Coords) : Fin 3 → Nat :=
  let c0_3447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5518 : Index := Scalar.indexCast v2059
  let c216_3448 : Index := 216#32
  ![0, v5518.toNat, 216]
def k0_off1580 (i : grid0.Coords) : Fin 3 → Nat :=
  let c0_3449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5520 : Index := Scalar.indexCast v2059
  let c217_3450 : Index := 217#32
  ![0, v5520.toNat, 217]
def k0_off1581 (i : grid0.Coords) : Fin 3 → Nat :=
  let c0_3451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5522 : Index := Scalar.indexCast v2059
  let c218_3452 : Index := 218#32
  ![0, v5522.toNat, 218]
def k0_off1582 (i : grid0.Coords) : Fin 3 → Nat :=
  let c0_3453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5524 : Index := Scalar.indexCast v2059
  let c219_3454 : Index := 219#32
  ![0, v5524.toNat, 219]
def k0_off1583 (v5519 : BitVec 32) : Fin 3 → Nat :=
  let c0_3455 : Index := 0#32
  let v5526 : Index := Scalar.indexCast v5519
  let c0_3456 : Index := 0#32
  ![0, v5526.toNat, 0]

def k0_off1584 (i : grid0.Coords) : Fin 3 → Nat :=
  let c0_3457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5529 : Index := Scalar.indexCast v2059
  let c216_3458 : Index := 216#32
  ![0, v5529.toNat, 216]
def k0_off1585 (v5521 : BitVec 32) : Fin 3 → Nat :=
  let c0_3461 : Index := 0#32
  let v5536 : Index := Scalar.indexCast v5521
  let c0_3462 : Index := 0#32
  ![0, v5536.toNat, 0]

def k0_off1586 (i : grid0.Coords) : Fin 3 → Nat :=
  let c0_3463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5539 : Index := Scalar.indexCast v2059
  let c217_3464 : Index := 217#32
  ![0, v5539.toNat, 217]
def k0_off1587 (v5523 : BitVec 32) : Fin 3 → Nat :=
  let c0_3467 : Index := 0#32
  let v5546 : Index := Scalar.indexCast v5523
  let c0_3468 : Index := 0#32
  ![0, v5546.toNat, 0]

def k0_off1588 (i : grid0.Coords) : Fin 3 → Nat :=
  let c0_3469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5549 : Index := Scalar.indexCast v2059
  let c218_3470 : Index := 218#32
  ![0, v5549.toNat, 218]
def k0_off1589 (v5525 : BitVec 32) : Fin 3 → Nat :=
  let c0_3473 : Index := 0#32
  let v5556 : Index := Scalar.indexCast v5525
  let c0_3474 : Index := 0#32
  ![0, v5556.toNat, 0]

def k0_chk732 (v5525 : BitVec 32) : Prop :=
  (∀ a, (k0_off1589 v5525) a + S1x1x1024.size a ≤ S1x2048x1024.size a)
theorem k0_off1589_inb : ∀ (v5525 : BitVec 32) (k0_hw732 : k0_chk732 v5525), ∀ a, (k0_off1589 v5525) a + S1x1x1024.size a ≤ S1x2048x1024.size a := fun v5525 k0_hw732 => k0_hw732

def k0_off1590 (i : grid0.Coords) : Fin 3 → Nat :=
  let c0_3475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5559 : Index := Scalar.indexCast v2059
  let c219_3476 : Index := 219#32
  ![0, v5559.toNat, 219]
def k0_off1591 (v5519 : BitVec 32) : Fin 3 → Nat :=
  let c0_3479 : Index := 0#32
  let v5566 : Index := Scalar.indexCast v5519
  let c0_3480 : Index := 0#32
  ![0, v5566.toNat, 0]

def k0_chk729 (v5519 : BitVec 32) : Prop :=
  (∀ a, (k0_off1583 v5519) a + S1x1x1024.size a ≤ S1x2048x1024.size a) ∧
  (∀ a, (k0_off1591 v5519) a + S1x1x1024.size a ≤ S1x2048x1024.size a)
theorem k0_off1583_inb : ∀ (v5519 : BitVec 32) (k0_hw729 : k0_chk729 v5519), ∀ a, (k0_off1583 v5519) a + S1x1x1024.size a ≤ S1x2048x1024.size a := fun v5519 k0_hw729 => k0_hw729.1
theorem k0_off1591_inb : ∀ (v5519 : BitVec 32) (k0_hw729 : k0_chk729 v5519), ∀ a, (k0_off1591 v5519) a + S1x1x1024.size a ≤ S1x2048x1024.size a := fun v5519 k0_hw729 => k0_hw729.2

def k0_off1592 (v5521 : BitVec 32) : Fin 3 → Nat :=
  let c0_3481 : Index := 0#32
  let v5570 : Index := Scalar.indexCast v5521
  let c0_3482 : Index := 0#32
  ![0, v5570.toNat, 0]

def k0_chk730 (v5521 : BitVec 32) : Prop :=
  (∀ a, (k0_off1585 v5521) a + S1x1x1024.size a ≤ S1x2048x1024.size a) ∧
  (∀ a, (k0_off1592 v5521) a + S1x1x1024.size a ≤ S1x2048x1024.size a)
theorem k0_off1585_inb : ∀ (v5521 : BitVec 32) (k0_hw730 : k0_chk730 v5521), ∀ a, (k0_off1585 v5521) a + S1x1x1024.size a ≤ S1x2048x1024.size a := fun v5521 k0_hw730 => k0_hw730.1
theorem k0_off1592_inb : ∀ (v5521 : BitVec 32) (k0_hw730 : k0_chk730 v5521), ∀ a, (k0_off1592 v5521) a + S1x1x1024.size a ≤ S1x2048x1024.size a := fun v5521 k0_hw730 => k0_hw730.2

def k0_off1593 (v5523 : BitVec 32) : Fin 3 → Nat :=
  let c0_3483 : Index := 0#32
  let v5574 : Index := Scalar.indexCast v5523
  let c0_3484 : Index := 0#32
  ![0, v5574.toNat, 0]

def k0_chk731 (v5523 : BitVec 32) : Prop :=
  (∀ a, (k0_off1587 v5523) a + S1x1x1024.size a ≤ S1x2048x1024.size a) ∧
  (∀ a, (k0_off1593 v5523) a + S1x1x1024.size a ≤ S1x2048x1024.size a)
theorem k0_off1587_inb : ∀ (v5523 : BitVec 32) (k0_hw731 : k0_chk731 v5523), ∀ a, (k0_off1587 v5523) a + S1x1x1024.size a ≤ S1x2048x1024.size a := fun v5523 k0_hw731 => k0_hw731.1
theorem k0_off1593_inb : ∀ (v5523 : BitVec 32) (k0_hw731 : k0_chk731 v5523), ∀ a, (k0_off1593 v5523) a + S1x1x1024.size a ≤ S1x2048x1024.size a := fun v5523 k0_hw731 => k0_hw731.2

def k0_off1594 (i : grid0.Coords) : Fin 3 → Nat :=
  let c0_3487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5582 : Index := Scalar.indexCast v2059
  let c220_3488 : Index := 220#32
  ![0, v5582.toNat, 220]
def k0_off1595 (i : grid0.Coords) : Fin 3 → Nat :=
  let c0_3489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5584 : Index := Scalar.indexCast v2059
  let c221_3490 : Index := 221#32
  ![0, v5584.toNat, 221]
def k0_off1596 (i : grid0.Coords) : Fin 3 → Nat :=
  let c0_3491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5586 : Index := Scalar.indexCast v2059
  let c222_3492 : Index := 222#32
  ![0, v5586.toNat, 222]
def k0_off1597 (i : grid0.Coords) : Fin 3 → Nat :=
  let c0_3493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5588 : Index := Scalar.indexCast v2059
  let c223_3494 : Index := 223#32
  ![0, v5588.toNat, 223]
def k0_off1598 (v5583 : BitVec 32) : Fin 3 → Nat :=
  let c0_3495 : Index := 0#32
  let v5590 : Index := Scalar.indexCast v5583
  let c0_3496 : Index := 0#32
  ![0, v5590.toNat, 0]

def k0_off1599 (i : grid0.Coords) : Fin 3 → Nat :=
  let c0_3497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5593 : Index := Scalar.indexCast v2059
  let c220_3498 : Index := 220#32
  ![0, v5593.toNat, 220]
def k0_off1600 (v5585 : BitVec 32) : Fin 3 → Nat :=
  let c0_3501 : Index := 0#32
  let v5600 : Index := Scalar.indexCast v5585
  let c0_3502 : Index := 0#32
  ![0, v5600.toNat, 0]

def k0_off1601 (i : grid0.Coords) : Fin 3 → Nat :=
  let c0_3503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5603 : Index := Scalar.indexCast v2059
  let c221_3504 : Index := 221#32
  ![0, v5603.toNat, 221]
def k0_off1602 (v5587 : BitVec 32) : Fin 3 → Nat :=
  let c0_3507 : Index := 0#32
  let v5610 : Index := Scalar.indexCast v5587
  let c0_3508 : Index := 0#32
  ![0, v5610.toNat, 0]

def k0_off1603 (i : grid0.Coords) : Fin 3 → Nat :=
  let c0_3509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5613 : Index := Scalar.indexCast v2059
  let c222_3510 : Index := 222#32
  ![0, v5613.toNat, 222]
def k0_off1604 (v5589 : BitVec 32) : Fin 3 → Nat :=
  let c0_3513 : Index := 0#32
  let v5620 : Index := Scalar.indexCast v5589
  let c0_3514 : Index := 0#32
  ![0, v5620.toNat, 0]

def k0_chk736 (v5589 : BitVec 32) : Prop :=
  (∀ a, (k0_off1604 v5589) a + S1x1x1024.size a ≤ S1x2048x1024.size a)
theorem k0_off1604_inb : ∀ (v5589 : BitVec 32) (k0_hw736 : k0_chk736 v5589), ∀ a, (k0_off1604 v5589) a + S1x1x1024.size a ≤ S1x2048x1024.size a := fun v5589 k0_hw736 => k0_hw736

def k0_off1605 (i : grid0.Coords) : Fin 3 → Nat :=
  let c0_3515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5623 : Index := Scalar.indexCast v2059
  let c223_3516 : Index := 223#32
  ![0, v5623.toNat, 223]
def k0_off1606 (v5583 : BitVec 32) : Fin 3 → Nat :=
  let c0_3519 : Index := 0#32
  let v5630 : Index := Scalar.indexCast v5583
  let c0_3520 : Index := 0#32
  ![0, v5630.toNat, 0]

def k0_chk733 (v5583 : BitVec 32) : Prop :=
  (∀ a, (k0_off1598 v5583) a + S1x1x1024.size a ≤ S1x2048x1024.size a) ∧
  (∀ a, (k0_off1606 v5583) a + S1x1x1024.size a ≤ S1x2048x1024.size a)
theorem k0_off1598_inb : ∀ (v5583 : BitVec 32) (k0_hw733 : k0_chk733 v5583), ∀ a, (k0_off1598 v5583) a + S1x1x1024.size a ≤ S1x2048x1024.size a := fun v5583 k0_hw733 => k0_hw733.1
theorem k0_off1606_inb : ∀ (v5583 : BitVec 32) (k0_hw733 : k0_chk733 v5583), ∀ a, (k0_off1606 v5583) a + S1x1x1024.size a ≤ S1x2048x1024.size a := fun v5583 k0_hw733 => k0_hw733.2

def k0_off1607 (v5585 : BitVec 32) : Fin 3 → Nat :=
  let c0_3521 : Index := 0#32
  let v5634 : Index := Scalar.indexCast v5585
  let c0_3522 : Index := 0#32
  ![0, v5634.toNat, 0]

def k0_chk734 (v5585 : BitVec 32) : Prop :=
  (∀ a, (k0_off1600 v5585) a + S1x1x1024.size a ≤ S1x2048x1024.size a) ∧
  (∀ a, (k0_off1607 v5585) a + S1x1x1024.size a ≤ S1x2048x1024.size a)
theorem k0_off1600_inb : ∀ (v5585 : BitVec 32) (k0_hw734 : k0_chk734 v5585), ∀ a, (k0_off1600 v5585) a + S1x1x1024.size a ≤ S1x2048x1024.size a := fun v5585 k0_hw734 => k0_hw734.1
theorem k0_off1607_inb : ∀ (v5585 : BitVec 32) (k0_hw734 : k0_chk734 v5585), ∀ a, (k0_off1607 v5585) a + S1x1x1024.size a ≤ S1x2048x1024.size a := fun v5585 k0_hw734 => k0_hw734.2

def k0_off1608 (v5587 : BitVec 32) : Fin 3 → Nat :=
  let c0_3523 : Index := 0#32
  let v5638 : Index := Scalar.indexCast v5587
  let c0_3524 : Index := 0#32
  ![0, v5638.toNat, 0]

def k0_chk735 (v5587 : BitVec 32) : Prop :=
  (∀ a, (k0_off1602 v5587) a + S1x1x1024.size a ≤ S1x2048x1024.size a) ∧
  (∀ a, (k0_off1608 v5587) a + S1x1x1024.size a ≤ S1x2048x1024.size a)
theorem k0_off1602_inb : ∀ (v5587 : BitVec 32) (k0_hw735 : k0_chk735 v5587), ∀ a, (k0_off1602 v5587) a + S1x1x1024.size a ≤ S1x2048x1024.size a := fun v5587 k0_hw735 => k0_hw735.1
theorem k0_off1608_inb : ∀ (v5587 : BitVec 32) (k0_hw735 : k0_chk735 v5587), ∀ a, (k0_off1608 v5587) a + S1x1x1024.size a ≤ S1x2048x1024.size a := fun v5587 k0_hw735 => k0_hw735.2

def k0_off1609 (i : grid0.Coords) : Fin 3 → Nat :=
  let c0_3527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5646 : Index := Scalar.indexCast v2059
  let c224_3528 : Index := 224#32
  ![0, v5646.toNat, 224]
def k0_off1610 (i : grid0.Coords) : Fin 3 → Nat :=
  let c0_3529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5648 : Index := Scalar.indexCast v2059
  let c225_3530 : Index := 225#32
  ![0, v5648.toNat, 225]
def k0_off1611 (i : grid0.Coords) : Fin 3 → Nat :=
  let c0_3531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5650 : Index := Scalar.indexCast v2059
  let c226_3532 : Index := 226#32
  ![0, v5650.toNat, 226]
def k0_off1612 (i : grid0.Coords) : Fin 3 → Nat :=
  let c0_3533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5652 : Index := Scalar.indexCast v2059
  let c227_3534 : Index := 227#32
  ![0, v5652.toNat, 227]
def k0_off1613 (v5647 : BitVec 32) : Fin 3 → Nat :=
  let c0_3535 : Index := 0#32
  let v5654 : Index := Scalar.indexCast v5647
  let c0_3536 : Index := 0#32
  ![0, v5654.toNat, 0]

def k0_off1614 (i : grid0.Coords) : Fin 3 → Nat :=
  let c0_3537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5657 : Index := Scalar.indexCast v2059
  let c224_3538 : Index := 224#32
  ![0, v5657.toNat, 224]
def k0_off1615 (v5649 : BitVec 32) : Fin 3 → Nat :=
  let c0_3541 : Index := 0#32
  let v5664 : Index := Scalar.indexCast v5649
  let c0_3542 : Index := 0#32
  ![0, v5664.toNat, 0]

def k0_off1616 (i : grid0.Coords) : Fin 3 → Nat :=
  let c0_3543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5667 : Index := Scalar.indexCast v2059
  let c225_3544 : Index := 225#32
  ![0, v5667.toNat, 225]
def k0_off1617 (v5651 : BitVec 32) : Fin 3 → Nat :=
  let c0_3547 : Index := 0#32
  let v5674 : Index := Scalar.indexCast v5651
  let c0_3548 : Index := 0#32
  ![0, v5674.toNat, 0]

def k0_off1618 (i : grid0.Coords) : Fin 3 → Nat :=
  let c0_3549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5677 : Index := Scalar.indexCast v2059
  let c226_3550 : Index := 226#32
  ![0, v5677.toNat, 226]
def k0_off1619 (v5653 : BitVec 32) : Fin 3 → Nat :=
  let c0_3553 : Index := 0#32
  let v5684 : Index := Scalar.indexCast v5653
  let c0_3554 : Index := 0#32
  ![0, v5684.toNat, 0]

def k0_chk740 (v5653 : BitVec 32) : Prop :=
  (∀ a, (k0_off1619 v5653) a + S1x1x1024.size a ≤ S1x2048x1024.size a)
theorem k0_off1619_inb : ∀ (v5653 : BitVec 32) (k0_hw740 : k0_chk740 v5653), ∀ a, (k0_off1619 v5653) a + S1x1x1024.size a ≤ S1x2048x1024.size a := fun v5653 k0_hw740 => k0_hw740

def k0_off1620 (i : grid0.Coords) : Fin 3 → Nat :=
  let c0_3555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5687 : Index := Scalar.indexCast v2059
  let c227_3556 : Index := 227#32
  ![0, v5687.toNat, 227]
def k0_off1621 (v5647 : BitVec 32) : Fin 3 → Nat :=
  let c0_3559 : Index := 0#32
  let v5694 : Index := Scalar.indexCast v5647
  let c0_3560 : Index := 0#32
  ![0, v5694.toNat, 0]

def k0_chk737 (v5647 : BitVec 32) : Prop :=
  (∀ a, (k0_off1613 v5647) a + S1x1x1024.size a ≤ S1x2048x1024.size a) ∧
  (∀ a, (k0_off1621 v5647) a + S1x1x1024.size a ≤ S1x2048x1024.size a)
theorem k0_off1613_inb : ∀ (v5647 : BitVec 32) (k0_hw737 : k0_chk737 v5647), ∀ a, (k0_off1613 v5647) a + S1x1x1024.size a ≤ S1x2048x1024.size a := fun v5647 k0_hw737 => k0_hw737.1
theorem k0_off1621_inb : ∀ (v5647 : BitVec 32) (k0_hw737 : k0_chk737 v5647), ∀ a, (k0_off1621 v5647) a + S1x1x1024.size a ≤ S1x2048x1024.size a := fun v5647 k0_hw737 => k0_hw737.2

def k0_off1622 (v5649 : BitVec 32) : Fin 3 → Nat :=
  let c0_3561 : Index := 0#32
  let v5698 : Index := Scalar.indexCast v5649
  let c0_3562 : Index := 0#32
  ![0, v5698.toNat, 0]

def k0_chk738 (v5649 : BitVec 32) : Prop :=
  (∀ a, (k0_off1615 v5649) a + S1x1x1024.size a ≤ S1x2048x1024.size a) ∧
  (∀ a, (k0_off1622 v5649) a + S1x1x1024.size a ≤ S1x2048x1024.size a)
theorem k0_off1615_inb : ∀ (v5649 : BitVec 32) (k0_hw738 : k0_chk738 v5649), ∀ a, (k0_off1615 v5649) a + S1x1x1024.size a ≤ S1x2048x1024.size a := fun v5649 k0_hw738 => k0_hw738.1
theorem k0_off1622_inb : ∀ (v5649 : BitVec 32) (k0_hw738 : k0_chk738 v5649), ∀ a, (k0_off1622 v5649) a + S1x1x1024.size a ≤ S1x2048x1024.size a := fun v5649 k0_hw738 => k0_hw738.2

def k0_off1623 (v5651 : BitVec 32) : Fin 3 → Nat :=
  let c0_3563 : Index := 0#32
  let v5702 : Index := Scalar.indexCast v5651
  let c0_3564 : Index := 0#32
  ![0, v5702.toNat, 0]

def k0_chk739 (v5651 : BitVec 32) : Prop :=
  (∀ a, (k0_off1617 v5651) a + S1x1x1024.size a ≤ S1x2048x1024.size a) ∧
  (∀ a, (k0_off1623 v5651) a + S1x1x1024.size a ≤ S1x2048x1024.size a)
theorem k0_off1617_inb : ∀ (v5651 : BitVec 32) (k0_hw739 : k0_chk739 v5651), ∀ a, (k0_off1617 v5651) a + S1x1x1024.size a ≤ S1x2048x1024.size a := fun v5651 k0_hw739 => k0_hw739.1
theorem k0_off1623_inb : ∀ (v5651 : BitVec 32) (k0_hw739 : k0_chk739 v5651), ∀ a, (k0_off1623 v5651) a + S1x1x1024.size a ≤ S1x2048x1024.size a := fun v5651 k0_hw739 => k0_hw739.2

def k0_off1624 (i : grid0.Coords) : Fin 3 → Nat :=
  let c0_3567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5710 : Index := Scalar.indexCast v2059
  let c228_3568 : Index := 228#32
  ![0, v5710.toNat, 228]
def k0_off1625 (i : grid0.Coords) : Fin 3 → Nat :=
  let c0_3569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5712 : Index := Scalar.indexCast v2059
  let c229_3570 : Index := 229#32
  ![0, v5712.toNat, 229]
def k0_off1626 (i : grid0.Coords) : Fin 3 → Nat :=
  let c0_3571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5714 : Index := Scalar.indexCast v2059
  let c230_3572 : Index := 230#32
  ![0, v5714.toNat, 230]
def k0_off1627 (i : grid0.Coords) : Fin 3 → Nat :=
  let c0_3573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5716 : Index := Scalar.indexCast v2059
  let c231_3574 : Index := 231#32
  ![0, v5716.toNat, 231]
def k0_off1628 (v5711 : BitVec 32) : Fin 3 → Nat :=
  let c0_3575 : Index := 0#32
  let v5718 : Index := Scalar.indexCast v5711
  let c0_3576 : Index := 0#32
  ![0, v5718.toNat, 0]

def k0_off1629 (i : grid0.Coords) : Fin 3 → Nat :=
  let c0_3577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5721 : Index := Scalar.indexCast v2059
  let c228_3578 : Index := 228#32
  ![0, v5721.toNat, 228]
def k0_off1630 (v5713 : BitVec 32) : Fin 3 → Nat :=
  let c0_3581 : Index := 0#32
  let v5728 : Index := Scalar.indexCast v5713
  let c0_3582 : Index := 0#32
  ![0, v5728.toNat, 0]

def k0_off1631 (i : grid0.Coords) : Fin 3 → Nat :=
  let c0_3583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5731 : Index := Scalar.indexCast v2059
  let c229_3584 : Index := 229#32
  ![0, v5731.toNat, 229]
def k0_off1632 (v5715 : BitVec 32) : Fin 3 → Nat :=
  let c0_3587 : Index := 0#32
  let v5738 : Index := Scalar.indexCast v5715
  let c0_3588 : Index := 0#32
  ![0, v5738.toNat, 0]

def k0_off1633 (i : grid0.Coords) : Fin 3 → Nat :=
  let c0_3589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5741 : Index := Scalar.indexCast v2059
  let c230_3590 : Index := 230#32
  ![0, v5741.toNat, 230]
def k0_off1634 (v5717 : BitVec 32) : Fin 3 → Nat :=
  let c0_3593 : Index := 0#32
  let v5748 : Index := Scalar.indexCast v5717
  let c0_3594 : Index := 0#32
  ![0, v5748.toNat, 0]

def k0_chk744 (v5717 : BitVec 32) : Prop :=
  (∀ a, (k0_off1634 v5717) a + S1x1x1024.size a ≤ S1x2048x1024.size a)
theorem k0_off1634_inb : ∀ (v5717 : BitVec 32) (k0_hw744 : k0_chk744 v5717), ∀ a, (k0_off1634 v5717) a + S1x1x1024.size a ≤ S1x2048x1024.size a := fun v5717 k0_hw744 => k0_hw744

def k0_off1635 (i : grid0.Coords) : Fin 3 → Nat :=
  let c0_3595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5751 : Index := Scalar.indexCast v2059
  let c231_3596 : Index := 231#32
  ![0, v5751.toNat, 231]
def k0_off1636 (v5711 : BitVec 32) : Fin 3 → Nat :=
  let c0_3599 : Index := 0#32
  let v5758 : Index := Scalar.indexCast v5711
  let c0_3600 : Index := 0#32
  ![0, v5758.toNat, 0]

def k0_chk741 (v5711 : BitVec 32) : Prop :=
  (∀ a, (k0_off1628 v5711) a + S1x1x1024.size a ≤ S1x2048x1024.size a) ∧
  (∀ a, (k0_off1636 v5711) a + S1x1x1024.size a ≤ S1x2048x1024.size a)
theorem k0_off1628_inb : ∀ (v5711 : BitVec 32) (k0_hw741 : k0_chk741 v5711), ∀ a, (k0_off1628 v5711) a + S1x1x1024.size a ≤ S1x2048x1024.size a := fun v5711 k0_hw741 => k0_hw741.1
theorem k0_off1636_inb : ∀ (v5711 : BitVec 32) (k0_hw741 : k0_chk741 v5711), ∀ a, (k0_off1636 v5711) a + S1x1x1024.size a ≤ S1x2048x1024.size a := fun v5711 k0_hw741 => k0_hw741.2

def k0_off1637 (v5713 : BitVec 32) : Fin 3 → Nat :=
  let c0_3601 : Index := 0#32
  let v5762 : Index := Scalar.indexCast v5713
  let c0_3602 : Index := 0#32
  ![0, v5762.toNat, 0]

def k0_chk742 (v5713 : BitVec 32) : Prop :=
  (∀ a, (k0_off1630 v5713) a + S1x1x1024.size a ≤ S1x2048x1024.size a) ∧
  (∀ a, (k0_off1637 v5713) a + S1x1x1024.size a ≤ S1x2048x1024.size a)
theorem k0_off1630_inb : ∀ (v5713 : BitVec 32) (k0_hw742 : k0_chk742 v5713), ∀ a, (k0_off1630 v5713) a + S1x1x1024.size a ≤ S1x2048x1024.size a := fun v5713 k0_hw742 => k0_hw742.1
theorem k0_off1637_inb : ∀ (v5713 : BitVec 32) (k0_hw742 : k0_chk742 v5713), ∀ a, (k0_off1637 v5713) a + S1x1x1024.size a ≤ S1x2048x1024.size a := fun v5713 k0_hw742 => k0_hw742.2

def k0_off1638 (v5715 : BitVec 32) : Fin 3 → Nat :=
  let c0_3603 : Index := 0#32
  let v5766 : Index := Scalar.indexCast v5715
  let c0_3604 : Index := 0#32
  ![0, v5766.toNat, 0]

def k0_chk743 (v5715 : BitVec 32) : Prop :=
  (∀ a, (k0_off1632 v5715) a + S1x1x1024.size a ≤ S1x2048x1024.size a) ∧
  (∀ a, (k0_off1638 v5715) a + S1x1x1024.size a ≤ S1x2048x1024.size a)
theorem k0_off1632_inb : ∀ (v5715 : BitVec 32) (k0_hw743 : k0_chk743 v5715), ∀ a, (k0_off1632 v5715) a + S1x1x1024.size a ≤ S1x2048x1024.size a := fun v5715 k0_hw743 => k0_hw743.1
theorem k0_off1638_inb : ∀ (v5715 : BitVec 32) (k0_hw743 : k0_chk743 v5715), ∀ a, (k0_off1638 v5715) a + S1x1x1024.size a ≤ S1x2048x1024.size a := fun v5715 k0_hw743 => k0_hw743.2

def k0_off1639 (i : grid0.Coords) : Fin 3 → Nat :=
  let c0_3607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5774 : Index := Scalar.indexCast v2059
  let c232_3608 : Index := 232#32
  ![0, v5774.toNat, 232]
def k0_off1640 (i : grid0.Coords) : Fin 3 → Nat :=
  let c0_3609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5776 : Index := Scalar.indexCast v2059
  let c233_3610 : Index := 233#32
  ![0, v5776.toNat, 233]
def k0_off1641 (i : grid0.Coords) : Fin 3 → Nat :=
  let c0_3611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5778 : Index := Scalar.indexCast v2059
  let c234_3612 : Index := 234#32
  ![0, v5778.toNat, 234]
def k0_off1642 (i : grid0.Coords) : Fin 3 → Nat :=
  let c0_3613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5780 : Index := Scalar.indexCast v2059
  let c235_3614 : Index := 235#32
  ![0, v5780.toNat, 235]
def k0_off1643 (v5775 : BitVec 32) : Fin 3 → Nat :=
  let c0_3615 : Index := 0#32
  let v5782 : Index := Scalar.indexCast v5775
  let c0_3616 : Index := 0#32
  ![0, v5782.toNat, 0]

def k0_off1644 (i : grid0.Coords) : Fin 3 → Nat :=
  let c0_3617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5785 : Index := Scalar.indexCast v2059
  let c232_3618 : Index := 232#32
  ![0, v5785.toNat, 232]
def k0_off1645 (v5777 : BitVec 32) : Fin 3 → Nat :=
  let c0_3621 : Index := 0#32
  let v5792 : Index := Scalar.indexCast v5777
  let c0_3622 : Index := 0#32
  ![0, v5792.toNat, 0]

def k0_off1646 (i : grid0.Coords) : Fin 3 → Nat :=
  let c0_3623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5795 : Index := Scalar.indexCast v2059
  let c233_3624 : Index := 233#32
  ![0, v5795.toNat, 233]
def k0_off1647 (v5779 : BitVec 32) : Fin 3 → Nat :=
  let c0_3627 : Index := 0#32
  let v5802 : Index := Scalar.indexCast v5779
  let c0_3628 : Index := 0#32
  ![0, v5802.toNat, 0]

def k0_off1648 (i : grid0.Coords) : Fin 3 → Nat :=
  let c0_3629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5805 : Index := Scalar.indexCast v2059
  let c234_3630 : Index := 234#32
  ![0, v5805.toNat, 234]
def k0_off1649 (v5781 : BitVec 32) : Fin 3 → Nat :=
  let c0_3633 : Index := 0#32
  let v5812 : Index := Scalar.indexCast v5781
  let c0_3634 : Index := 0#32
  ![0, v5812.toNat, 0]

def k0_chk748 (v5781 : BitVec 32) : Prop :=
  (∀ a, (k0_off1649 v5781) a + S1x1x1024.size a ≤ S1x2048x1024.size a)
theorem k0_off1649_inb : ∀ (v5781 : BitVec 32) (k0_hw748 : k0_chk748 v5781), ∀ a, (k0_off1649 v5781) a + S1x1x1024.size a ≤ S1x2048x1024.size a := fun v5781 k0_hw748 => k0_hw748

def k0_off1650 (i : grid0.Coords) : Fin 3 → Nat :=
  let c0_3635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5815 : Index := Scalar.indexCast v2059
  let c235_3636 : Index := 235#32
  ![0, v5815.toNat, 235]
def k0_off1651 (v5775 : BitVec 32) : Fin 3 → Nat :=
  let c0_3639 : Index := 0#32
  let v5822 : Index := Scalar.indexCast v5775
  let c0_3640 : Index := 0#32
  ![0, v5822.toNat, 0]

def k0_chk745 (v5775 : BitVec 32) : Prop :=
  (∀ a, (k0_off1643 v5775) a + S1x1x1024.size a ≤ S1x2048x1024.size a) ∧
  (∀ a, (k0_off1651 v5775) a + S1x1x1024.size a ≤ S1x2048x1024.size a)
theorem k0_off1643_inb : ∀ (v5775 : BitVec 32) (k0_hw745 : k0_chk745 v5775), ∀ a, (k0_off1643 v5775) a + S1x1x1024.size a ≤ S1x2048x1024.size a := fun v5775 k0_hw745 => k0_hw745.1
theorem k0_off1651_inb : ∀ (v5775 : BitVec 32) (k0_hw745 : k0_chk745 v5775), ∀ a, (k0_off1651 v5775) a + S1x1x1024.size a ≤ S1x2048x1024.size a := fun v5775 k0_hw745 => k0_hw745.2

def k0_off1652 (v5777 : BitVec 32) : Fin 3 → Nat :=
  let c0_3641 : Index := 0#32
  let v5826 : Index := Scalar.indexCast v5777
  let c0_3642 : Index := 0#32
  ![0, v5826.toNat, 0]

def k0_chk746 (v5777 : BitVec 32) : Prop :=
  (∀ a, (k0_off1645 v5777) a + S1x1x1024.size a ≤ S1x2048x1024.size a) ∧
  (∀ a, (k0_off1652 v5777) a + S1x1x1024.size a ≤ S1x2048x1024.size a)
theorem k0_off1645_inb : ∀ (v5777 : BitVec 32) (k0_hw746 : k0_chk746 v5777), ∀ a, (k0_off1645 v5777) a + S1x1x1024.size a ≤ S1x2048x1024.size a := fun v5777 k0_hw746 => k0_hw746.1
theorem k0_off1652_inb : ∀ (v5777 : BitVec 32) (k0_hw746 : k0_chk746 v5777), ∀ a, (k0_off1652 v5777) a + S1x1x1024.size a ≤ S1x2048x1024.size a := fun v5777 k0_hw746 => k0_hw746.2

def k0_off1653 (v5779 : BitVec 32) : Fin 3 → Nat :=
  let c0_3643 : Index := 0#32
  let v5830 : Index := Scalar.indexCast v5779
  let c0_3644 : Index := 0#32
  ![0, v5830.toNat, 0]

def k0_chk747 (v5779 : BitVec 32) : Prop :=
  (∀ a, (k0_off1647 v5779) a + S1x1x1024.size a ≤ S1x2048x1024.size a) ∧
  (∀ a, (k0_off1653 v5779) a + S1x1x1024.size a ≤ S1x2048x1024.size a)
theorem k0_off1647_inb : ∀ (v5779 : BitVec 32) (k0_hw747 : k0_chk747 v5779), ∀ a, (k0_off1647 v5779) a + S1x1x1024.size a ≤ S1x2048x1024.size a := fun v5779 k0_hw747 => k0_hw747.1
theorem k0_off1653_inb : ∀ (v5779 : BitVec 32) (k0_hw747 : k0_chk747 v5779), ∀ a, (k0_off1653 v5779) a + S1x1x1024.size a ≤ S1x2048x1024.size a := fun v5779 k0_hw747 => k0_hw747.2

def k0_off1654 (i : grid0.Coords) : Fin 3 → Nat :=
  let c0_3647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5838 : Index := Scalar.indexCast v2059
  let c236_3648 : Index := 236#32
  ![0, v5838.toNat, 236]
def k0_off1655 (i : grid0.Coords) : Fin 3 → Nat :=
  let c0_3649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5840 : Index := Scalar.indexCast v2059
  let c237_3650 : Index := 237#32
  ![0, v5840.toNat, 237]
def k0_off1656 (i : grid0.Coords) : Fin 3 → Nat :=
  let c0_3651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5842 : Index := Scalar.indexCast v2059
  let c238_3652 : Index := 238#32
  ![0, v5842.toNat, 238]
def k0_off1657 (i : grid0.Coords) : Fin 3 → Nat :=
  let c0_3653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5844 : Index := Scalar.indexCast v2059
  let c239_3654 : Index := 239#32
  ![0, v5844.toNat, 239]
def k0_off1658 (v5839 : BitVec 32) : Fin 3 → Nat :=
  let c0_3655 : Index := 0#32
  let v5846 : Index := Scalar.indexCast v5839
  let c0_3656 : Index := 0#32
  ![0, v5846.toNat, 0]

def k0_off1659 (i : grid0.Coords) : Fin 3 → Nat :=
  let c0_3657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5849 : Index := Scalar.indexCast v2059
  let c236_3658 : Index := 236#32
  ![0, v5849.toNat, 236]
def k0_off1660 (v5841 : BitVec 32) : Fin 3 → Nat :=
  let c0_3661 : Index := 0#32
  let v5856 : Index := Scalar.indexCast v5841
  let c0_3662 : Index := 0#32
  ![0, v5856.toNat, 0]

def k0_off1661 (i : grid0.Coords) : Fin 3 → Nat :=
  let c0_3663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5859 : Index := Scalar.indexCast v2059
  let c237_3664 : Index := 237#32
  ![0, v5859.toNat, 237]
def k0_off1662 (v5843 : BitVec 32) : Fin 3 → Nat :=
  let c0_3667 : Index := 0#32
  let v5866 : Index := Scalar.indexCast v5843
  let c0_3668 : Index := 0#32
  ![0, v5866.toNat, 0]

def k0_off1663 (i : grid0.Coords) : Fin 3 → Nat :=
  let c0_3669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5869 : Index := Scalar.indexCast v2059
  let c238_3670 : Index := 238#32
  ![0, v5869.toNat, 238]
def k0_off1664 (v5845 : BitVec 32) : Fin 3 → Nat :=
  let c0_3673 : Index := 0#32
  let v5876 : Index := Scalar.indexCast v5845
  let c0_3674 : Index := 0#32
  ![0, v5876.toNat, 0]

def k0_chk752 (v5845 : BitVec 32) : Prop :=
  (∀ a, (k0_off1664 v5845) a + S1x1x1024.size a ≤ S1x2048x1024.size a)
theorem k0_off1664_inb : ∀ (v5845 : BitVec 32) (k0_hw752 : k0_chk752 v5845), ∀ a, (k0_off1664 v5845) a + S1x1x1024.size a ≤ S1x2048x1024.size a := fun v5845 k0_hw752 => k0_hw752

def k0_off1665 (i : grid0.Coords) : Fin 3 → Nat :=
  let c0_3675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5879 : Index := Scalar.indexCast v2059
  let c239_3676 : Index := 239#32
  ![0, v5879.toNat, 239]
def k0_off1666 (v5839 : BitVec 32) : Fin 3 → Nat :=
  let c0_3679 : Index := 0#32
  let v5886 : Index := Scalar.indexCast v5839
  let c0_3680 : Index := 0#32
  ![0, v5886.toNat, 0]

def k0_chk749 (v5839 : BitVec 32) : Prop :=
  (∀ a, (k0_off1658 v5839) a + S1x1x1024.size a ≤ S1x2048x1024.size a) ∧
  (∀ a, (k0_off1666 v5839) a + S1x1x1024.size a ≤ S1x2048x1024.size a)
theorem k0_off1658_inb : ∀ (v5839 : BitVec 32) (k0_hw749 : k0_chk749 v5839), ∀ a, (k0_off1658 v5839) a + S1x1x1024.size a ≤ S1x2048x1024.size a := fun v5839 k0_hw749 => k0_hw749.1
theorem k0_off1666_inb : ∀ (v5839 : BitVec 32) (k0_hw749 : k0_chk749 v5839), ∀ a, (k0_off1666 v5839) a + S1x1x1024.size a ≤ S1x2048x1024.size a := fun v5839 k0_hw749 => k0_hw749.2

def k0_off1667 (v5841 : BitVec 32) : Fin 3 → Nat :=
  let c0_3681 : Index := 0#32
  let v5890 : Index := Scalar.indexCast v5841
  let c0_3682 : Index := 0#32
  ![0, v5890.toNat, 0]

def k0_chk750 (v5841 : BitVec 32) : Prop :=
  (∀ a, (k0_off1660 v5841) a + S1x1x1024.size a ≤ S1x2048x1024.size a) ∧
  (∀ a, (k0_off1667 v5841) a + S1x1x1024.size a ≤ S1x2048x1024.size a)
theorem k0_off1660_inb : ∀ (v5841 : BitVec 32) (k0_hw750 : k0_chk750 v5841), ∀ a, (k0_off1660 v5841) a + S1x1x1024.size a ≤ S1x2048x1024.size a := fun v5841 k0_hw750 => k0_hw750.1
theorem k0_off1667_inb : ∀ (v5841 : BitVec 32) (k0_hw750 : k0_chk750 v5841), ∀ a, (k0_off1667 v5841) a + S1x1x1024.size a ≤ S1x2048x1024.size a := fun v5841 k0_hw750 => k0_hw750.2

def k0_off1668 (v5843 : BitVec 32) : Fin 3 → Nat :=
  let c0_3683 : Index := 0#32
  let v5894 : Index := Scalar.indexCast v5843
  let c0_3684 : Index := 0#32
  ![0, v5894.toNat, 0]

def k0_chk751 (v5843 : BitVec 32) : Prop :=
  (∀ a, (k0_off1662 v5843) a + S1x1x1024.size a ≤ S1x2048x1024.size a) ∧
  (∀ a, (k0_off1668 v5843) a + S1x1x1024.size a ≤ S1x2048x1024.size a)
theorem k0_off1662_inb : ∀ (v5843 : BitVec 32) (k0_hw751 : k0_chk751 v5843), ∀ a, (k0_off1662 v5843) a + S1x1x1024.size a ≤ S1x2048x1024.size a := fun v5843 k0_hw751 => k0_hw751.1
theorem k0_off1668_inb : ∀ (v5843 : BitVec 32) (k0_hw751 : k0_chk751 v5843), ∀ a, (k0_off1668 v5843) a + S1x1x1024.size a ≤ S1x2048x1024.size a := fun v5843 k0_hw751 => k0_hw751.2

def k0_off1669 (i : grid0.Coords) : Fin 3 → Nat :=
  let c0_3687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5902 : Index := Scalar.indexCast v2059
  let c240_3688 : Index := 240#32
  ![0, v5902.toNat, 240]
def k0_off1670 (i : grid0.Coords) : Fin 3 → Nat :=
  let c0_3689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5904 : Index := Scalar.indexCast v2059
  let c241_3690 : Index := 241#32
  ![0, v5904.toNat, 241]
def k0_off1671 (i : grid0.Coords) : Fin 3 → Nat :=
  let c0_3691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5906 : Index := Scalar.indexCast v2059
  let c242_3692 : Index := 242#32
  ![0, v5906.toNat, 242]
def k0_off1672 (i : grid0.Coords) : Fin 3 → Nat :=
  let c0_3693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5908 : Index := Scalar.indexCast v2059
  let c243_3694 : Index := 243#32
  ![0, v5908.toNat, 243]
def k0_off1673 (v5903 : BitVec 32) : Fin 3 → Nat :=
  let c0_3695 : Index := 0#32
  let v5910 : Index := Scalar.indexCast v5903
  let c0_3696 : Index := 0#32
  ![0, v5910.toNat, 0]

def k0_off1674 (i : grid0.Coords) : Fin 3 → Nat :=
  let c0_3697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5913 : Index := Scalar.indexCast v2059
  let c240_3698 : Index := 240#32
  ![0, v5913.toNat, 240]
def k0_off1675 (v5905 : BitVec 32) : Fin 3 → Nat :=
  let c0_3701 : Index := 0#32
  let v5920 : Index := Scalar.indexCast v5905
  let c0_3702 : Index := 0#32
  ![0, v5920.toNat, 0]

def k0_off1676 (i : grid0.Coords) : Fin 3 → Nat :=
  let c0_3703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5923 : Index := Scalar.indexCast v2059
  let c241_3704 : Index := 241#32
  ![0, v5923.toNat, 241]
def k0_off1677 (v5907 : BitVec 32) : Fin 3 → Nat :=
  let c0_3707 : Index := 0#32
  let v5930 : Index := Scalar.indexCast v5907
  let c0_3708 : Index := 0#32
  ![0, v5930.toNat, 0]

def k0_off1678 (i : grid0.Coords) : Fin 3 → Nat :=
  let c0_3709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5933 : Index := Scalar.indexCast v2059
  let c242_3710 : Index := 242#32
  ![0, v5933.toNat, 242]
def k0_off1679 (v5909 : BitVec 32) : Fin 3 → Nat :=
  let c0_3713 : Index := 0#32
  let v5940 : Index := Scalar.indexCast v5909
  let c0_3714 : Index := 0#32
  ![0, v5940.toNat, 0]

def k0_chk756 (v5909 : BitVec 32) : Prop :=
  (∀ a, (k0_off1679 v5909) a + S1x1x1024.size a ≤ S1x2048x1024.size a)
theorem k0_off1679_inb : ∀ (v5909 : BitVec 32) (k0_hw756 : k0_chk756 v5909), ∀ a, (k0_off1679 v5909) a + S1x1x1024.size a ≤ S1x2048x1024.size a := fun v5909 k0_hw756 => k0_hw756

def k0_off1680 (i : grid0.Coords) : Fin 3 → Nat :=
  let c0_3715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5943 : Index := Scalar.indexCast v2059
  let c243_3716 : Index := 243#32
  ![0, v5943.toNat, 243]
def k0_off1681 (v5903 : BitVec 32) : Fin 3 → Nat :=
  let c0_3719 : Index := 0#32
  let v5950 : Index := Scalar.indexCast v5903
  let c0_3720 : Index := 0#32
  ![0, v5950.toNat, 0]

def k0_chk753 (v5903 : BitVec 32) : Prop :=
  (∀ a, (k0_off1673 v5903) a + S1x1x1024.size a ≤ S1x2048x1024.size a) ∧
  (∀ a, (k0_off1681 v5903) a + S1x1x1024.size a ≤ S1x2048x1024.size a)
theorem k0_off1673_inb : ∀ (v5903 : BitVec 32) (k0_hw753 : k0_chk753 v5903), ∀ a, (k0_off1673 v5903) a + S1x1x1024.size a ≤ S1x2048x1024.size a := fun v5903 k0_hw753 => k0_hw753.1
theorem k0_off1681_inb : ∀ (v5903 : BitVec 32) (k0_hw753 : k0_chk753 v5903), ∀ a, (k0_off1681 v5903) a + S1x1x1024.size a ≤ S1x2048x1024.size a := fun v5903 k0_hw753 => k0_hw753.2

def k0_off1682 (v5905 : BitVec 32) : Fin 3 → Nat :=
  let c0_3721 : Index := 0#32
  let v5954 : Index := Scalar.indexCast v5905
  let c0_3722 : Index := 0#32
  ![0, v5954.toNat, 0]

def k0_chk754 (v5905 : BitVec 32) : Prop :=
  (∀ a, (k0_off1675 v5905) a + S1x1x1024.size a ≤ S1x2048x1024.size a) ∧
  (∀ a, (k0_off1682 v5905) a + S1x1x1024.size a ≤ S1x2048x1024.size a)
theorem k0_off1675_inb : ∀ (v5905 : BitVec 32) (k0_hw754 : k0_chk754 v5905), ∀ a, (k0_off1675 v5905) a + S1x1x1024.size a ≤ S1x2048x1024.size a := fun v5905 k0_hw754 => k0_hw754.1
theorem k0_off1682_inb : ∀ (v5905 : BitVec 32) (k0_hw754 : k0_chk754 v5905), ∀ a, (k0_off1682 v5905) a + S1x1x1024.size a ≤ S1x2048x1024.size a := fun v5905 k0_hw754 => k0_hw754.2

def k0_off1683 (v5907 : BitVec 32) : Fin 3 → Nat :=
  let c0_3723 : Index := 0#32
  let v5958 : Index := Scalar.indexCast v5907
  let c0_3724 : Index := 0#32
  ![0, v5958.toNat, 0]

def k0_chk755 (v5907 : BitVec 32) : Prop :=
  (∀ a, (k0_off1677 v5907) a + S1x1x1024.size a ≤ S1x2048x1024.size a) ∧
  (∀ a, (k0_off1683 v5907) a + S1x1x1024.size a ≤ S1x2048x1024.size a)
theorem k0_off1677_inb : ∀ (v5907 : BitVec 32) (k0_hw755 : k0_chk755 v5907), ∀ a, (k0_off1677 v5907) a + S1x1x1024.size a ≤ S1x2048x1024.size a := fun v5907 k0_hw755 => k0_hw755.1
theorem k0_off1683_inb : ∀ (v5907 : BitVec 32) (k0_hw755 : k0_chk755 v5907), ∀ a, (k0_off1683 v5907) a + S1x1x1024.size a ≤ S1x2048x1024.size a := fun v5907 k0_hw755 => k0_hw755.2

def k0_off1684 (i : grid0.Coords) : Fin 3 → Nat :=
  let c0_3727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5966 : Index := Scalar.indexCast v2059
  let c244_3728 : Index := 244#32
  ![0, v5966.toNat, 244]
def k0_off1685 (i : grid0.Coords) : Fin 3 → Nat :=
  let c0_3729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5968 : Index := Scalar.indexCast v2059
  let c245_3730 : Index := 245#32
  ![0, v5968.toNat, 245]
def k0_off1686 (i : grid0.Coords) : Fin 3 → Nat :=
  let c0_3731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5970 : Index := Scalar.indexCast v2059
  let c246_3732 : Index := 246#32
  ![0, v5970.toNat, 246]
def k0_off1687 (i : grid0.Coords) : Fin 3 → Nat :=
  let c0_3733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5972 : Index := Scalar.indexCast v2059
  let c247_3734 : Index := 247#32
  ![0, v5972.toNat, 247]
def k0_off1688 (v5967 : BitVec 32) : Fin 3 → Nat :=
  let c0_3735 : Index := 0#32
  let v5974 : Index := Scalar.indexCast v5967
  let c0_3736 : Index := 0#32
  ![0, v5974.toNat, 0]

def k0_off1689 (i : grid0.Coords) : Fin 3 → Nat :=
  let c0_3737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5977 : Index := Scalar.indexCast v2059
  let c244_3738 : Index := 244#32
  ![0, v5977.toNat, 244]
def k0_off1690 (v5969 : BitVec 32) : Fin 3 → Nat :=
  let c0_3741 : Index := 0#32
  let v5984 : Index := Scalar.indexCast v5969
  let c0_3742 : Index := 0#32
  ![0, v5984.toNat, 0]

def k0_off1691 (i : grid0.Coords) : Fin 3 → Nat :=
  let c0_3743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5987 : Index := Scalar.indexCast v2059
  let c245_3744 : Index := 245#32
  ![0, v5987.toNat, 245]
def k0_off1692 (v5971 : BitVec 32) : Fin 3 → Nat :=
  let c0_3747 : Index := 0#32
  let v5994 : Index := Scalar.indexCast v5971
  let c0_3748 : Index := 0#32
  ![0, v5994.toNat, 0]

def k0_off1693 (i : grid0.Coords) : Fin 3 → Nat :=
  let c0_3749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5997 : Index := Scalar.indexCast v2059
  let c246_3750 : Index := 246#32
  ![0, v5997.toNat, 246]
def k0_off1694 (v5973 : BitVec 32) : Fin 3 → Nat :=
  let c0_3753 : Index := 0#32
  let v6004 : Index := Scalar.indexCast v5973
  let c0_3754 : Index := 0#32
  ![0, v6004.toNat, 0]

def k0_chk760 (v5973 : BitVec 32) : Prop :=
  (∀ a, (k0_off1694 v5973) a + S1x1x1024.size a ≤ S1x2048x1024.size a)
theorem k0_off1694_inb : ∀ (v5973 : BitVec 32) (k0_hw760 : k0_chk760 v5973), ∀ a, (k0_off1694 v5973) a + S1x1x1024.size a ≤ S1x2048x1024.size a := fun v5973 k0_hw760 => k0_hw760

def k0_off1695 (i : grid0.Coords) : Fin 3 → Nat :=
  let c0_3755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6007 : Index := Scalar.indexCast v2059
  let c247_3756 : Index := 247#32
  ![0, v6007.toNat, 247]
def k0_off1696 (v5967 : BitVec 32) : Fin 3 → Nat :=
  let c0_3759 : Index := 0#32
  let v6014 : Index := Scalar.indexCast v5967
  let c0_3760 : Index := 0#32
  ![0, v6014.toNat, 0]

def k0_chk757 (v5967 : BitVec 32) : Prop :=
  (∀ a, (k0_off1688 v5967) a + S1x1x1024.size a ≤ S1x2048x1024.size a) ∧
  (∀ a, (k0_off1696 v5967) a + S1x1x1024.size a ≤ S1x2048x1024.size a)
theorem k0_off1688_inb : ∀ (v5967 : BitVec 32) (k0_hw757 : k0_chk757 v5967), ∀ a, (k0_off1688 v5967) a + S1x1x1024.size a ≤ S1x2048x1024.size a := fun v5967 k0_hw757 => k0_hw757.1
theorem k0_off1696_inb : ∀ (v5967 : BitVec 32) (k0_hw757 : k0_chk757 v5967), ∀ a, (k0_off1696 v5967) a + S1x1x1024.size a ≤ S1x2048x1024.size a := fun v5967 k0_hw757 => k0_hw757.2

def k0_off1697 (v5969 : BitVec 32) : Fin 3 → Nat :=
  let c0_3761 : Index := 0#32
  let v6018 : Index := Scalar.indexCast v5969
  let c0_3762 : Index := 0#32
  ![0, v6018.toNat, 0]

def k0_chk758 (v5969 : BitVec 32) : Prop :=
  (∀ a, (k0_off1690 v5969) a + S1x1x1024.size a ≤ S1x2048x1024.size a) ∧
  (∀ a, (k0_off1697 v5969) a + S1x1x1024.size a ≤ S1x2048x1024.size a)
theorem k0_off1690_inb : ∀ (v5969 : BitVec 32) (k0_hw758 : k0_chk758 v5969), ∀ a, (k0_off1690 v5969) a + S1x1x1024.size a ≤ S1x2048x1024.size a := fun v5969 k0_hw758 => k0_hw758.1
theorem k0_off1697_inb : ∀ (v5969 : BitVec 32) (k0_hw758 : k0_chk758 v5969), ∀ a, (k0_off1697 v5969) a + S1x1x1024.size a ≤ S1x2048x1024.size a := fun v5969 k0_hw758 => k0_hw758.2

def k0_off1698 (v5971 : BitVec 32) : Fin 3 → Nat :=
  let c0_3763 : Index := 0#32
  let v6022 : Index := Scalar.indexCast v5971
  let c0_3764 : Index := 0#32
  ![0, v6022.toNat, 0]

def k0_chk759 (v5971 : BitVec 32) : Prop :=
  (∀ a, (k0_off1692 v5971) a + S1x1x1024.size a ≤ S1x2048x1024.size a) ∧
  (∀ a, (k0_off1698 v5971) a + S1x1x1024.size a ≤ S1x2048x1024.size a)
theorem k0_off1692_inb : ∀ (v5971 : BitVec 32) (k0_hw759 : k0_chk759 v5971), ∀ a, (k0_off1692 v5971) a + S1x1x1024.size a ≤ S1x2048x1024.size a := fun v5971 k0_hw759 => k0_hw759.1
theorem k0_off1698_inb : ∀ (v5971 : BitVec 32) (k0_hw759 : k0_chk759 v5971), ∀ a, (k0_off1698 v5971) a + S1x1x1024.size a ≤ S1x2048x1024.size a := fun v5971 k0_hw759 => k0_hw759.2

def k0_off1699 (i : grid0.Coords) : Fin 3 → Nat :=
  let c0_3767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6030 : Index := Scalar.indexCast v2059
  let c248_3768 : Index := 248#32
  ![0, v6030.toNat, 248]
def k0_off1700 (i : grid0.Coords) : Fin 3 → Nat :=
  let c0_3769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6032 : Index := Scalar.indexCast v2059
  let c249_3770 : Index := 249#32
  ![0, v6032.toNat, 249]
def k0_off1701 (i : grid0.Coords) : Fin 3 → Nat :=
  let c0_3771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6034 : Index := Scalar.indexCast v2059
  let c250_3772 : Index := 250#32
  ![0, v6034.toNat, 250]
def k0_off1702 (i : grid0.Coords) : Fin 3 → Nat :=
  let c0_3773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6036 : Index := Scalar.indexCast v2059
  let c251_3774 : Index := 251#32
  ![0, v6036.toNat, 251]
def k0_off1703 (v6031 : BitVec 32) : Fin 3 → Nat :=
  let c0_3775 : Index := 0#32
  let v6038 : Index := Scalar.indexCast v6031
  let c0_3776 : Index := 0#32
  ![0, v6038.toNat, 0]

def k0_off1704 (i : grid0.Coords) : Fin 3 → Nat :=
  let c0_3777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6041 : Index := Scalar.indexCast v2059
  let c248_3778 : Index := 248#32
  ![0, v6041.toNat, 248]
def k0_off1705 (v6033 : BitVec 32) : Fin 3 → Nat :=
  let c0_3781 : Index := 0#32
  let v6048 : Index := Scalar.indexCast v6033
  let c0_3782 : Index := 0#32
  ![0, v6048.toNat, 0]

def k0_off1706 (i : grid0.Coords) : Fin 3 → Nat :=
  let c0_3783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6051 : Index := Scalar.indexCast v2059
  let c249_3784 : Index := 249#32
  ![0, v6051.toNat, 249]
def k0_off1707 (v6035 : BitVec 32) : Fin 3 → Nat :=
  let c0_3787 : Index := 0#32
  let v6058 : Index := Scalar.indexCast v6035
  let c0_3788 : Index := 0#32
  ![0, v6058.toNat, 0]

def k0_off1708 (i : grid0.Coords) : Fin 3 → Nat :=
  let c0_3789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6061 : Index := Scalar.indexCast v2059
  let c250_3790 : Index := 250#32
  ![0, v6061.toNat, 250]
def k0_off1709 (v6037 : BitVec 32) : Fin 3 → Nat :=
  let c0_3793 : Index := 0#32
  let v6068 : Index := Scalar.indexCast v6037
  let c0_3794 : Index := 0#32
  ![0, v6068.toNat, 0]

def k0_chk764 (v6037 : BitVec 32) : Prop :=
  (∀ a, (k0_off1709 v6037) a + S1x1x1024.size a ≤ S1x2048x1024.size a)
theorem k0_off1709_inb : ∀ (v6037 : BitVec 32) (k0_hw764 : k0_chk764 v6037), ∀ a, (k0_off1709 v6037) a + S1x1x1024.size a ≤ S1x2048x1024.size a := fun v6037 k0_hw764 => k0_hw764

def k0_off1710 (i : grid0.Coords) : Fin 3 → Nat :=
  let c0_3795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6071 : Index := Scalar.indexCast v2059
  let c251_3796 : Index := 251#32
  ![0, v6071.toNat, 251]
def k0_off1711 (v6031 : BitVec 32) : Fin 3 → Nat :=
  let c0_3799 : Index := 0#32
  let v6078 : Index := Scalar.indexCast v6031
  let c0_3800 : Index := 0#32
  ![0, v6078.toNat, 0]

def k0_chk761 (v6031 : BitVec 32) : Prop :=
  (∀ a, (k0_off1703 v6031) a + S1x1x1024.size a ≤ S1x2048x1024.size a) ∧
  (∀ a, (k0_off1711 v6031) a + S1x1x1024.size a ≤ S1x2048x1024.size a)
theorem k0_off1703_inb : ∀ (v6031 : BitVec 32) (k0_hw761 : k0_chk761 v6031), ∀ a, (k0_off1703 v6031) a + S1x1x1024.size a ≤ S1x2048x1024.size a := fun v6031 k0_hw761 => k0_hw761.1
theorem k0_off1711_inb : ∀ (v6031 : BitVec 32) (k0_hw761 : k0_chk761 v6031), ∀ a, (k0_off1711 v6031) a + S1x1x1024.size a ≤ S1x2048x1024.size a := fun v6031 k0_hw761 => k0_hw761.2

def k0_off1712 (v6033 : BitVec 32) : Fin 3 → Nat :=
  let c0_3801 : Index := 0#32
  let v6082 : Index := Scalar.indexCast v6033
  let c0_3802 : Index := 0#32
  ![0, v6082.toNat, 0]

def k0_chk762 (v6033 : BitVec 32) : Prop :=
  (∀ a, (k0_off1705 v6033) a + S1x1x1024.size a ≤ S1x2048x1024.size a) ∧
  (∀ a, (k0_off1712 v6033) a + S1x1x1024.size a ≤ S1x2048x1024.size a)
theorem k0_off1705_inb : ∀ (v6033 : BitVec 32) (k0_hw762 : k0_chk762 v6033), ∀ a, (k0_off1705 v6033) a + S1x1x1024.size a ≤ S1x2048x1024.size a := fun v6033 k0_hw762 => k0_hw762.1
theorem k0_off1712_inb : ∀ (v6033 : BitVec 32) (k0_hw762 : k0_chk762 v6033), ∀ a, (k0_off1712 v6033) a + S1x1x1024.size a ≤ S1x2048x1024.size a := fun v6033 k0_hw762 => k0_hw762.2

def k0_off1713 (v6035 : BitVec 32) : Fin 3 → Nat :=
  let c0_3803 : Index := 0#32
  let v6086 : Index := Scalar.indexCast v6035
  let c0_3804 : Index := 0#32
  ![0, v6086.toNat, 0]

def k0_chk763 (v6035 : BitVec 32) : Prop :=
  (∀ a, (k0_off1707 v6035) a + S1x1x1024.size a ≤ S1x2048x1024.size a) ∧
  (∀ a, (k0_off1713 v6035) a + S1x1x1024.size a ≤ S1x2048x1024.size a)
theorem k0_off1707_inb : ∀ (v6035 : BitVec 32) (k0_hw763 : k0_chk763 v6035), ∀ a, (k0_off1707 v6035) a + S1x1x1024.size a ≤ S1x2048x1024.size a := fun v6035 k0_hw763 => k0_hw763.1
theorem k0_off1713_inb : ∀ (v6035 : BitVec 32) (k0_hw763 : k0_chk763 v6035), ∀ a, (k0_off1713 v6035) a + S1x1x1024.size a ≤ S1x2048x1024.size a := fun v6035 k0_hw763 => k0_hw763.2

def k0_off1714 (i : grid0.Coords) : Fin 3 → Nat :=
  let c0_3807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6094 : Index := Scalar.indexCast v2059
  let c252_3808 : Index := 252#32
  ![0, v6094.toNat, 252]
def k0_off1715 (i : grid0.Coords) : Fin 3 → Nat :=
  let c0_3809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6096 : Index := Scalar.indexCast v2059
  let c253_3810 : Index := 253#32
  ![0, v6096.toNat, 253]
def k0_off1716 (i : grid0.Coords) : Fin 3 → Nat :=
  let c0_3811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6098 : Index := Scalar.indexCast v2059
  let c254_3812 : Index := 254#32
  ![0, v6098.toNat, 254]
def k0_off1717 (i : grid0.Coords) : Fin 3 → Nat :=
  let c0_3813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6100 : Index := Scalar.indexCast v2059
  let c255_3814 : Index := 255#32
  ![0, v6100.toNat, 255]
def k0_off1718 (v6095 : BitVec 32) : Fin 3 → Nat :=
  let c0_3815 : Index := 0#32
  let v6102 : Index := Scalar.indexCast v6095
  let c0_3816 : Index := 0#32
  ![0, v6102.toNat, 0]

def k0_off1719 (i : grid0.Coords) : Fin 3 → Nat :=
  let c0_3817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6105 : Index := Scalar.indexCast v2059
  let c252_3818 : Index := 252#32
  ![0, v6105.toNat, 252]
def k0_off1720 (v6097 : BitVec 32) : Fin 3 → Nat :=
  let c0_3821 : Index := 0#32
  let v6112 : Index := Scalar.indexCast v6097
  let c0_3822 : Index := 0#32
  ![0, v6112.toNat, 0]

def k0_off1721 (i : grid0.Coords) : Fin 3 → Nat :=
  let c0_3823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6115 : Index := Scalar.indexCast v2059
  let c253_3824 : Index := 253#32
  ![0, v6115.toNat, 253]
def k0_off1722 (v6099 : BitVec 32) : Fin 3 → Nat :=
  let c0_3827 : Index := 0#32
  let v6122 : Index := Scalar.indexCast v6099
  let c0_3828 : Index := 0#32
  ![0, v6122.toNat, 0]

def k0_off1723 (i : grid0.Coords) : Fin 3 → Nat :=
  let c0_3829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6125 : Index := Scalar.indexCast v2059
  let c254_3830 : Index := 254#32
  ![0, v6125.toNat, 254]
def k0_off1724 (v6101 : BitVec 32) : Fin 3 → Nat :=
  let c0_3833 : Index := 0#32
  let v6132 : Index := Scalar.indexCast v6101
  let c0_3834 : Index := 0#32
  ![0, v6132.toNat, 0]

def k0_chk768 (v6101 : BitVec 32) : Prop :=
  (∀ a, (k0_off1724 v6101) a + S1x1x1024.size a ≤ S1x2048x1024.size a)
theorem k0_off1724_inb : ∀ (v6101 : BitVec 32) (k0_hw768 : k0_chk768 v6101), ∀ a, (k0_off1724 v6101) a + S1x1x1024.size a ≤ S1x2048x1024.size a := fun v6101 k0_hw768 => k0_hw768

def k0_off1725 (i : grid0.Coords) : Fin 3 → Nat :=
  let c0_3835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6135 : Index := Scalar.indexCast v2059
  let c255_3836 : Index := 255#32
  ![0, v6135.toNat, 255]
def k0_off1726 (v6095 : BitVec 32) : Fin 3 → Nat :=
  let c0_3839 : Index := 0#32
  let v6142 : Index := Scalar.indexCast v6095
  let c0_3840 : Index := 0#32
  ![0, v6142.toNat, 0]

def k0_chk765 (v6095 : BitVec 32) : Prop :=
  (∀ a, (k0_off1718 v6095) a + S1x1x1024.size a ≤ S1x2048x1024.size a) ∧
  (∀ a, (k0_off1726 v6095) a + S1x1x1024.size a ≤ S1x2048x1024.size a)
theorem k0_off1718_inb : ∀ (v6095 : BitVec 32) (k0_hw765 : k0_chk765 v6095), ∀ a, (k0_off1718 v6095) a + S1x1x1024.size a ≤ S1x2048x1024.size a := fun v6095 k0_hw765 => k0_hw765.1
theorem k0_off1726_inb : ∀ (v6095 : BitVec 32) (k0_hw765 : k0_chk765 v6095), ∀ a, (k0_off1726 v6095) a + S1x1x1024.size a ≤ S1x2048x1024.size a := fun v6095 k0_hw765 => k0_hw765.2

def k0_off1727 (v6097 : BitVec 32) : Fin 3 → Nat :=
  let c0_3841 : Index := 0#32
  let v6146 : Index := Scalar.indexCast v6097
  let c0_3842 : Index := 0#32
  ![0, v6146.toNat, 0]

def k0_chk766 (v6097 : BitVec 32) : Prop :=
  (∀ a, (k0_off1720 v6097) a + S1x1x1024.size a ≤ S1x2048x1024.size a) ∧
  (∀ a, (k0_off1727 v6097) a + S1x1x1024.size a ≤ S1x2048x1024.size a)
theorem k0_off1720_inb : ∀ (v6097 : BitVec 32) (k0_hw766 : k0_chk766 v6097), ∀ a, (k0_off1720 v6097) a + S1x1x1024.size a ≤ S1x2048x1024.size a := fun v6097 k0_hw766 => k0_hw766.1
theorem k0_off1727_inb : ∀ (v6097 : BitVec 32) (k0_hw766 : k0_chk766 v6097), ∀ a, (k0_off1727 v6097) a + S1x1x1024.size a ≤ S1x2048x1024.size a := fun v6097 k0_hw766 => k0_hw766.2

def k0_off1728 (v6099 : BitVec 32) : Fin 3 → Nat :=
  let c0_3843 : Index := 0#32
  let v6150 : Index := Scalar.indexCast v6099
  let c0_3844 : Index := 0#32
  ![0, v6150.toNat, 0]

def k0_chk767 (v6099 : BitVec 32) : Prop :=
  (∀ a, (k0_off1722 v6099) a + S1x1x1024.size a ≤ S1x2048x1024.size a) ∧
  (∀ a, (k0_off1728 v6099) a + S1x1x1024.size a ≤ S1x2048x1024.size a)
theorem k0_off1722_inb : ∀ (v6099 : BitVec 32) (k0_hw767 : k0_chk767 v6099), ∀ a, (k0_off1722 v6099) a + S1x1x1024.size a ≤ S1x2048x1024.size a := fun v6099 k0_hw767 => k0_hw767.1
theorem k0_off1728_inb : ∀ (v6099 : BitVec 32) (k0_hw767 : k0_chk767 v6099), ∀ a, (k0_off1728 v6099) a + S1x1x1024.size a ≤ S1x2048x1024.size a := fun v6099 k0_hw767 => k0_hw767.2

def k0_cond2 (i : grid0.Coords) : BitVec 1 :=
  let arg1 : BitVec 32 := BitVec.ofNat 32 (i 1).val
  let c15_i32_3864 : BitVec 32 := 15#32
  let v6178 : BitVec 1 := Scalar.cmpi .eq arg1 c15_i32_3864
  let v6179 : BitVec 32 := Scalar.extui v6178
  let c0_i32_3865 : BitVec 32 := 0#32
  let v6180 : BitVec 1 := Scalar.cmpi .ne v6179 c0_i32_3865
  v6180

def k0_off1729 (v6184 : BitVec 32) : Fin 3 → Nat :=
  let c0_3880 : Index := 0#32
  let v6188 : Index := Scalar.indexCast v6184
  let c0_3881 : Index := 0#32
  ![0, v6188.toNat, 0]

def k0_off1730 (v6185 : BitVec 32) : Fin 3 → Nat :=
  let c0_3888 : Index := 0#32
  let v6197 : Index := Scalar.indexCast v6185
  let c0_3889 : Index := 0#32
  ![0, v6197.toNat, 0]

def k0_off1731 (v6186 : BitVec 32) : Fin 3 → Nat :=
  let c0_3896 : Index := 0#32
  let v6206 : Index := Scalar.indexCast v6186
  let c0_3897 : Index := 0#32
  ![0, v6206.toNat, 0]

def k0_off1732 (v6187 : BitVec 32) : Fin 3 → Nat :=
  let c0_3904 : Index := 0#32
  let v6215 : Index := Scalar.indexCast v6187
  let c0_3905 : Index := 0#32
  ![0, v6215.toNat, 0]

def k0_chk772 (i : grid0.Coords) (v6187 : BitVec 32) : Prop :=
  (∀ (k0_h2 : k0_cond2 i = 1#1), ∀ a, (k0_off1732 v6187) a + S1x1x1024.size a ≤ S1x2048x1024.size a)
theorem k0_off1732_inb : ∀ (i : grid0.Coords) (v6187 : BitVec 32) (k0_hw772 : k0_chk772 i v6187), ∀ (k0_h2 : k0_cond2 i = 1#1), ∀ a, (k0_off1732 v6187) a + S1x1x1024.size a ≤ S1x2048x1024.size a := fun i v6187 k0_hw772 k0_h2 => k0_hw772 k0_h2

def k0_off1733 (v6184 : BitVec 32) : Fin 3 → Nat :=
  let c0_3912 : Index := 0#32
  let v6224 : Index := Scalar.indexCast v6184
  let c0_3913 : Index := 0#32
  ![0, v6224.toNat, 0]

def k0_chk769 (i : grid0.Coords) (v6184 : BitVec 32) : Prop :=
  (∀ (k0_h2 : k0_cond2 i = 1#1), ∀ a, (k0_off1729 v6184) a + S1x1x1024.size a ≤ S1x2048x1024.size a) ∧
  (∀ (k0_h2 : k0_cond2 i = 1#1), ∀ a, (k0_off1733 v6184) a + S1x1x1024.size a ≤ S1x2048x1024.size a)
theorem k0_off1729_inb : ∀ (i : grid0.Coords) (v6184 : BitVec 32) (k0_hw769 : k0_chk769 i v6184), ∀ (k0_h2 : k0_cond2 i = 1#1), ∀ a, (k0_off1729 v6184) a + S1x1x1024.size a ≤ S1x2048x1024.size a := fun i v6184 k0_hw769 k0_h2 => k0_hw769.1 k0_h2
theorem k0_off1733_inb : ∀ (i : grid0.Coords) (v6184 : BitVec 32) (k0_hw769 : k0_chk769 i v6184), ∀ (k0_h2 : k0_cond2 i = 1#1), ∀ a, (k0_off1733 v6184) a + S1x1x1024.size a ≤ S1x2048x1024.size a := fun i v6184 k0_hw769 k0_h2 => k0_hw769.2 k0_h2

def k0_off1734 (v6185 : BitVec 32) : Fin 3 → Nat :=
  let c0_3914 : Index := 0#32
  let v6228 : Index := Scalar.indexCast v6185
  let c0_3915 : Index := 0#32
  ![0, v6228.toNat, 0]

def k0_chk770 (i : grid0.Coords) (v6185 : BitVec 32) : Prop :=
  (∀ (k0_h2 : k0_cond2 i = 1#1), ∀ a, (k0_off1730 v6185) a + S1x1x1024.size a ≤ S1x2048x1024.size a) ∧
  (∀ (k0_h2 : k0_cond2 i = 1#1), ∀ a, (k0_off1734 v6185) a + S1x1x1024.size a ≤ S1x2048x1024.size a)
theorem k0_off1730_inb : ∀ (i : grid0.Coords) (v6185 : BitVec 32) (k0_hw770 : k0_chk770 i v6185), ∀ (k0_h2 : k0_cond2 i = 1#1), ∀ a, (k0_off1730 v6185) a + S1x1x1024.size a ≤ S1x2048x1024.size a := fun i v6185 k0_hw770 k0_h2 => k0_hw770.1 k0_h2
theorem k0_off1734_inb : ∀ (i : grid0.Coords) (v6185 : BitVec 32) (k0_hw770 : k0_chk770 i v6185), ∀ (k0_h2 : k0_cond2 i = 1#1), ∀ a, (k0_off1734 v6185) a + S1x1x1024.size a ≤ S1x2048x1024.size a := fun i v6185 k0_hw770 k0_h2 => k0_hw770.2 k0_h2

def k0_off1735 (v6186 : BitVec 32) : Fin 3 → Nat :=
  let c0_3916 : Index := 0#32
  let v6232 : Index := Scalar.indexCast v6186
  let c0_3917 : Index := 0#32
  ![0, v6232.toNat, 0]

def k0_chk771 (i : grid0.Coords) (v6186 : BitVec 32) : Prop :=
  (∀ (k0_h2 : k0_cond2 i = 1#1), ∀ a, (k0_off1731 v6186) a + S1x1x1024.size a ≤ S1x2048x1024.size a) ∧
  (∀ (k0_h2 : k0_cond2 i = 1#1), ∀ a, (k0_off1735 v6186) a + S1x1x1024.size a ≤ S1x2048x1024.size a)
theorem k0_off1731_inb : ∀ (i : grid0.Coords) (v6186 : BitVec 32) (k0_hw771 : k0_chk771 i v6186), ∀ (k0_h2 : k0_cond2 i = 1#1), ∀ a, (k0_off1731 v6186) a + S1x1x1024.size a ≤ S1x2048x1024.size a := fun i v6186 k0_hw771 k0_h2 => k0_hw771.1 k0_h2
theorem k0_off1735_inb : ∀ (i : grid0.Coords) (v6186 : BitVec 32) (k0_hw771 : k0_chk771 i v6186), ∀ (k0_h2 : k0_cond2 i = 1#1), ∀ a, (k0_off1735 v6186) a + S1x1x1024.size a ≤ S1x2048x1024.size a := fun i v6186 k0_hw771 k0_h2 => k0_hw771.2 k0_h2

def k0_off1736 (v6240 : BitVec 32) : Fin 3 → Nat :=
  let c0_3932 : Index := 0#32
  let v6244 : Index := Scalar.indexCast v6240
  let c0_3933 : Index := 0#32
  ![0, v6244.toNat, 0]

def k0_off1737 (v6241 : BitVec 32) : Fin 3 → Nat :=
  let c0_3940 : Index := 0#32
  let v6253 : Index := Scalar.indexCast v6241
  let c0_3941 : Index := 0#32
  ![0, v6253.toNat, 0]

def k0_off1738 (v6242 : BitVec 32) : Fin 3 → Nat :=
  let c0_3948 : Index := 0#32
  let v6262 : Index := Scalar.indexCast v6242
  let c0_3949 : Index := 0#32
  ![0, v6262.toNat, 0]

def k0_off1739 (v6243 : BitVec 32) : Fin 3 → Nat :=
  let c0_3956 : Index := 0#32
  let v6271 : Index := Scalar.indexCast v6243
  let c0_3957 : Index := 0#32
  ![0, v6271.toNat, 0]

def k0_chk776 (i : grid0.Coords) (v6243 : BitVec 32) : Prop :=
  (∀ (k0_h2 : k0_cond2 i = 1#1), ∀ a, (k0_off1739 v6243) a + S1x1x1024.size a ≤ S1x2048x1024.size a)
theorem k0_off1739_inb : ∀ (i : grid0.Coords) (v6243 : BitVec 32) (k0_hw776 : k0_chk776 i v6243), ∀ (k0_h2 : k0_cond2 i = 1#1), ∀ a, (k0_off1739 v6243) a + S1x1x1024.size a ≤ S1x2048x1024.size a := fun i v6243 k0_hw776 k0_h2 => k0_hw776 k0_h2

def k0_off1740 (v6240 : BitVec 32) : Fin 3 → Nat :=
  let c0_3964 : Index := 0#32
  let v6280 : Index := Scalar.indexCast v6240
  let c0_3965 : Index := 0#32
  ![0, v6280.toNat, 0]

def k0_chk773 (i : grid0.Coords) (v6240 : BitVec 32) : Prop :=
  (∀ (k0_h2 : k0_cond2 i = 1#1), ∀ a, (k0_off1736 v6240) a + S1x1x1024.size a ≤ S1x2048x1024.size a) ∧
  (∀ (k0_h2 : k0_cond2 i = 1#1), ∀ a, (k0_off1740 v6240) a + S1x1x1024.size a ≤ S1x2048x1024.size a)
theorem k0_off1736_inb : ∀ (i : grid0.Coords) (v6240 : BitVec 32) (k0_hw773 : k0_chk773 i v6240), ∀ (k0_h2 : k0_cond2 i = 1#1), ∀ a, (k0_off1736 v6240) a + S1x1x1024.size a ≤ S1x2048x1024.size a := fun i v6240 k0_hw773 k0_h2 => k0_hw773.1 k0_h2
theorem k0_off1740_inb : ∀ (i : grid0.Coords) (v6240 : BitVec 32) (k0_hw773 : k0_chk773 i v6240), ∀ (k0_h2 : k0_cond2 i = 1#1), ∀ a, (k0_off1740 v6240) a + S1x1x1024.size a ≤ S1x2048x1024.size a := fun i v6240 k0_hw773 k0_h2 => k0_hw773.2 k0_h2

def k0_off1741 (v6241 : BitVec 32) : Fin 3 → Nat :=
  let c0_3966 : Index := 0#32
  let v6284 : Index := Scalar.indexCast v6241
  let c0_3967 : Index := 0#32
  ![0, v6284.toNat, 0]

def k0_chk774 (i : grid0.Coords) (v6241 : BitVec 32) : Prop :=
  (∀ (k0_h2 : k0_cond2 i = 1#1), ∀ a, (k0_off1737 v6241) a + S1x1x1024.size a ≤ S1x2048x1024.size a) ∧
  (∀ (k0_h2 : k0_cond2 i = 1#1), ∀ a, (k0_off1741 v6241) a + S1x1x1024.size a ≤ S1x2048x1024.size a)
theorem k0_off1737_inb : ∀ (i : grid0.Coords) (v6241 : BitVec 32) (k0_hw774 : k0_chk774 i v6241), ∀ (k0_h2 : k0_cond2 i = 1#1), ∀ a, (k0_off1737 v6241) a + S1x1x1024.size a ≤ S1x2048x1024.size a := fun i v6241 k0_hw774 k0_h2 => k0_hw774.1 k0_h2
theorem k0_off1741_inb : ∀ (i : grid0.Coords) (v6241 : BitVec 32) (k0_hw774 : k0_chk774 i v6241), ∀ (k0_h2 : k0_cond2 i = 1#1), ∀ a, (k0_off1741 v6241) a + S1x1x1024.size a ≤ S1x2048x1024.size a := fun i v6241 k0_hw774 k0_h2 => k0_hw774.2 k0_h2

def k0_off1742 (v6242 : BitVec 32) : Fin 3 → Nat :=
  let c0_3968 : Index := 0#32
  let v6288 : Index := Scalar.indexCast v6242
  let c0_3969 : Index := 0#32
  ![0, v6288.toNat, 0]

def k0_chk775 (i : grid0.Coords) (v6242 : BitVec 32) : Prop :=
  (∀ (k0_h2 : k0_cond2 i = 1#1), ∀ a, (k0_off1738 v6242) a + S1x1x1024.size a ≤ S1x2048x1024.size a) ∧
  (∀ (k0_h2 : k0_cond2 i = 1#1), ∀ a, (k0_off1742 v6242) a + S1x1x1024.size a ≤ S1x2048x1024.size a)
theorem k0_off1738_inb : ∀ (i : grid0.Coords) (v6242 : BitVec 32) (k0_hw775 : k0_chk775 i v6242), ∀ (k0_h2 : k0_cond2 i = 1#1), ∀ a, (k0_off1738 v6242) a + S1x1x1024.size a ≤ S1x2048x1024.size a := fun i v6242 k0_hw775 k0_h2 => k0_hw775.1 k0_h2
theorem k0_off1742_inb : ∀ (i : grid0.Coords) (v6242 : BitVec 32) (k0_hw775 : k0_chk775 i v6242), ∀ (k0_h2 : k0_cond2 i = 1#1), ∀ a, (k0_off1742 v6242) a + S1x1x1024.size a ≤ S1x2048x1024.size a := fun i v6242 k0_hw775 k0_h2 => k0_hw775.2 k0_h2

def k0_off1743 (v6296 : BitVec 32) : Fin 3 → Nat :=
  let c0_3984 : Index := 0#32
  let v6300 : Index := Scalar.indexCast v6296
  let c0_3985 : Index := 0#32
  ![0, v6300.toNat, 0]

def k0_off1744 (v6297 : BitVec 32) : Fin 3 → Nat :=
  let c0_3992 : Index := 0#32
  let v6309 : Index := Scalar.indexCast v6297
  let c0_3993 : Index := 0#32
  ![0, v6309.toNat, 0]

def k0_off1745 (v6298 : BitVec 32) : Fin 3 → Nat :=
  let c0_4000 : Index := 0#32
  let v6318 : Index := Scalar.indexCast v6298
  let c0_4001 : Index := 0#32
  ![0, v6318.toNat, 0]

def k0_off1746 (v6299 : BitVec 32) : Fin 3 → Nat :=
  let c0_4008 : Index := 0#32
  let v6327 : Index := Scalar.indexCast v6299
  let c0_4009 : Index := 0#32
  ![0, v6327.toNat, 0]

def k0_chk780 (i : grid0.Coords) (v6299 : BitVec 32) : Prop :=
  (∀ (k0_h2 : k0_cond2 i = 1#1), ∀ a, (k0_off1746 v6299) a + S1x1x1024.size a ≤ S1x2048x1024.size a)
theorem k0_off1746_inb : ∀ (i : grid0.Coords) (v6299 : BitVec 32) (k0_hw780 : k0_chk780 i v6299), ∀ (k0_h2 : k0_cond2 i = 1#1), ∀ a, (k0_off1746 v6299) a + S1x1x1024.size a ≤ S1x2048x1024.size a := fun i v6299 k0_hw780 k0_h2 => k0_hw780 k0_h2

def k0_off1747 (v6296 : BitVec 32) : Fin 3 → Nat :=
  let c0_4016 : Index := 0#32
  let v6336 : Index := Scalar.indexCast v6296
  let c0_4017 : Index := 0#32
  ![0, v6336.toNat, 0]

def k0_chk777 (i : grid0.Coords) (v6296 : BitVec 32) : Prop :=
  (∀ (k0_h2 : k0_cond2 i = 1#1), ∀ a, (k0_off1743 v6296) a + S1x1x1024.size a ≤ S1x2048x1024.size a) ∧
  (∀ (k0_h2 : k0_cond2 i = 1#1), ∀ a, (k0_off1747 v6296) a + S1x1x1024.size a ≤ S1x2048x1024.size a)
theorem k0_off1743_inb : ∀ (i : grid0.Coords) (v6296 : BitVec 32) (k0_hw777 : k0_chk777 i v6296), ∀ (k0_h2 : k0_cond2 i = 1#1), ∀ a, (k0_off1743 v6296) a + S1x1x1024.size a ≤ S1x2048x1024.size a := fun i v6296 k0_hw777 k0_h2 => k0_hw777.1 k0_h2
theorem k0_off1747_inb : ∀ (i : grid0.Coords) (v6296 : BitVec 32) (k0_hw777 : k0_chk777 i v6296), ∀ (k0_h2 : k0_cond2 i = 1#1), ∀ a, (k0_off1747 v6296) a + S1x1x1024.size a ≤ S1x2048x1024.size a := fun i v6296 k0_hw777 k0_h2 => k0_hw777.2 k0_h2

def k0_off1748 (v6297 : BitVec 32) : Fin 3 → Nat :=
  let c0_4018 : Index := 0#32
  let v6340 : Index := Scalar.indexCast v6297
  let c0_4019 : Index := 0#32
  ![0, v6340.toNat, 0]

def k0_chk778 (i : grid0.Coords) (v6297 : BitVec 32) : Prop :=
  (∀ (k0_h2 : k0_cond2 i = 1#1), ∀ a, (k0_off1744 v6297) a + S1x1x1024.size a ≤ S1x2048x1024.size a) ∧
  (∀ (k0_h2 : k0_cond2 i = 1#1), ∀ a, (k0_off1748 v6297) a + S1x1x1024.size a ≤ S1x2048x1024.size a)
theorem k0_off1744_inb : ∀ (i : grid0.Coords) (v6297 : BitVec 32) (k0_hw778 : k0_chk778 i v6297), ∀ (k0_h2 : k0_cond2 i = 1#1), ∀ a, (k0_off1744 v6297) a + S1x1x1024.size a ≤ S1x2048x1024.size a := fun i v6297 k0_hw778 k0_h2 => k0_hw778.1 k0_h2
theorem k0_off1748_inb : ∀ (i : grid0.Coords) (v6297 : BitVec 32) (k0_hw778 : k0_chk778 i v6297), ∀ (k0_h2 : k0_cond2 i = 1#1), ∀ a, (k0_off1748 v6297) a + S1x1x1024.size a ≤ S1x2048x1024.size a := fun i v6297 k0_hw778 k0_h2 => k0_hw778.2 k0_h2

def k0_off1749 (v6298 : BitVec 32) : Fin 3 → Nat :=
  let c0_4020 : Index := 0#32
  let v6344 : Index := Scalar.indexCast v6298
  let c0_4021 : Index := 0#32
  ![0, v6344.toNat, 0]

def k0_chk779 (i : grid0.Coords) (v6298 : BitVec 32) : Prop :=
  (∀ (k0_h2 : k0_cond2 i = 1#1), ∀ a, (k0_off1745 v6298) a + S1x1x1024.size a ≤ S1x2048x1024.size a) ∧
  (∀ (k0_h2 : k0_cond2 i = 1#1), ∀ a, (k0_off1749 v6298) a + S1x1x1024.size a ≤ S1x2048x1024.size a)
theorem k0_off1745_inb : ∀ (i : grid0.Coords) (v6298 : BitVec 32) (k0_hw779 : k0_chk779 i v6298), ∀ (k0_h2 : k0_cond2 i = 1#1), ∀ a, (k0_off1745 v6298) a + S1x1x1024.size a ≤ S1x2048x1024.size a := fun i v6298 k0_hw779 k0_h2 => k0_hw779.1 k0_h2
theorem k0_off1749_inb : ∀ (i : grid0.Coords) (v6298 : BitVec 32) (k0_hw779 : k0_chk779 i v6298), ∀ (k0_h2 : k0_cond2 i = 1#1), ∀ a, (k0_off1749 v6298) a + S1x1x1024.size a ≤ S1x2048x1024.size a := fun i v6298 k0_hw779 k0_h2 => k0_hw779.2 k0_h2

def k0_off1750 (v6352 : BitVec 32) : Fin 3 → Nat :=
  let c0_4036 : Index := 0#32
  let v6356 : Index := Scalar.indexCast v6352
  let c0_4037 : Index := 0#32
  ![0, v6356.toNat, 0]

def k0_off1751 (v6353 : BitVec 32) : Fin 3 → Nat :=
  let c0_4044 : Index := 0#32
  let v6365 : Index := Scalar.indexCast v6353
  let c0_4045 : Index := 0#32
  ![0, v6365.toNat, 0]

def k0_off1752 (v6354 : BitVec 32) : Fin 3 → Nat :=
  let c0_4052 : Index := 0#32
  let v6374 : Index := Scalar.indexCast v6354
  let c0_4053 : Index := 0#32
  ![0, v6374.toNat, 0]

def k0_off1753 (v6355 : BitVec 32) : Fin 3 → Nat :=
  let c0_4060 : Index := 0#32
  let v6383 : Index := Scalar.indexCast v6355
  let c0_4061 : Index := 0#32
  ![0, v6383.toNat, 0]

def k0_chk784 (i : grid0.Coords) (v6355 : BitVec 32) : Prop :=
  (∀ (k0_h2 : k0_cond2 i = 1#1), ∀ a, (k0_off1753 v6355) a + S1x1x1024.size a ≤ S1x2048x1024.size a)
theorem k0_off1753_inb : ∀ (i : grid0.Coords) (v6355 : BitVec 32) (k0_hw784 : k0_chk784 i v6355), ∀ (k0_h2 : k0_cond2 i = 1#1), ∀ a, (k0_off1753 v6355) a + S1x1x1024.size a ≤ S1x2048x1024.size a := fun i v6355 k0_hw784 k0_h2 => k0_hw784 k0_h2

def k0_off1754 (v6352 : BitVec 32) : Fin 3 → Nat :=
  let c0_4068 : Index := 0#32
  let v6392 : Index := Scalar.indexCast v6352
  let c0_4069 : Index := 0#32
  ![0, v6392.toNat, 0]

def k0_chk781 (i : grid0.Coords) (v6352 : BitVec 32) : Prop :=
  (∀ (k0_h2 : k0_cond2 i = 1#1), ∀ a, (k0_off1750 v6352) a + S1x1x1024.size a ≤ S1x2048x1024.size a) ∧
  (∀ (k0_h2 : k0_cond2 i = 1#1), ∀ a, (k0_off1754 v6352) a + S1x1x1024.size a ≤ S1x2048x1024.size a)
theorem k0_off1750_inb : ∀ (i : grid0.Coords) (v6352 : BitVec 32) (k0_hw781 : k0_chk781 i v6352), ∀ (k0_h2 : k0_cond2 i = 1#1), ∀ a, (k0_off1750 v6352) a + S1x1x1024.size a ≤ S1x2048x1024.size a := fun i v6352 k0_hw781 k0_h2 => k0_hw781.1 k0_h2
theorem k0_off1754_inb : ∀ (i : grid0.Coords) (v6352 : BitVec 32) (k0_hw781 : k0_chk781 i v6352), ∀ (k0_h2 : k0_cond2 i = 1#1), ∀ a, (k0_off1754 v6352) a + S1x1x1024.size a ≤ S1x2048x1024.size a := fun i v6352 k0_hw781 k0_h2 => k0_hw781.2 k0_h2

def k0_off1755 (v6353 : BitVec 32) : Fin 3 → Nat :=
  let c0_4070 : Index := 0#32
  let v6396 : Index := Scalar.indexCast v6353
  let c0_4071 : Index := 0#32
  ![0, v6396.toNat, 0]

def k0_chk782 (i : grid0.Coords) (v6353 : BitVec 32) : Prop :=
  (∀ (k0_h2 : k0_cond2 i = 1#1), ∀ a, (k0_off1751 v6353) a + S1x1x1024.size a ≤ S1x2048x1024.size a) ∧
  (∀ (k0_h2 : k0_cond2 i = 1#1), ∀ a, (k0_off1755 v6353) a + S1x1x1024.size a ≤ S1x2048x1024.size a)
theorem k0_off1751_inb : ∀ (i : grid0.Coords) (v6353 : BitVec 32) (k0_hw782 : k0_chk782 i v6353), ∀ (k0_h2 : k0_cond2 i = 1#1), ∀ a, (k0_off1751 v6353) a + S1x1x1024.size a ≤ S1x2048x1024.size a := fun i v6353 k0_hw782 k0_h2 => k0_hw782.1 k0_h2
theorem k0_off1755_inb : ∀ (i : grid0.Coords) (v6353 : BitVec 32) (k0_hw782 : k0_chk782 i v6353), ∀ (k0_h2 : k0_cond2 i = 1#1), ∀ a, (k0_off1755 v6353) a + S1x1x1024.size a ≤ S1x2048x1024.size a := fun i v6353 k0_hw782 k0_h2 => k0_hw782.2 k0_h2

def k0_off1756 (v6354 : BitVec 32) : Fin 3 → Nat :=
  let c0_4072 : Index := 0#32
  let v6400 : Index := Scalar.indexCast v6354
  let c0_4073 : Index := 0#32
  ![0, v6400.toNat, 0]

def k0_chk783 (i : grid0.Coords) (v6354 : BitVec 32) : Prop :=
  (∀ (k0_h2 : k0_cond2 i = 1#1), ∀ a, (k0_off1752 v6354) a + S1x1x1024.size a ≤ S1x2048x1024.size a) ∧
  (∀ (k0_h2 : k0_cond2 i = 1#1), ∀ a, (k0_off1756 v6354) a + S1x1x1024.size a ≤ S1x2048x1024.size a)
theorem k0_off1752_inb : ∀ (i : grid0.Coords) (v6354 : BitVec 32) (k0_hw783 : k0_chk783 i v6354), ∀ (k0_h2 : k0_cond2 i = 1#1), ∀ a, (k0_off1752 v6354) a + S1x1x1024.size a ≤ S1x2048x1024.size a := fun i v6354 k0_hw783 k0_h2 => k0_hw783.1 k0_h2
theorem k0_off1756_inb : ∀ (i : grid0.Coords) (v6354 : BitVec 32) (k0_hw783 : k0_chk783 i v6354), ∀ (k0_h2 : k0_cond2 i = 1#1), ∀ a, (k0_off1756 v6354) a + S1x1x1024.size a ≤ S1x2048x1024.size a := fun i v6354 k0_hw783 k0_h2 => k0_hw783.2 k0_h2

def k0_off1757 (v6408 : BitVec 32) : Fin 3 → Nat :=
  let c0_4088 : Index := 0#32
  let v6412 : Index := Scalar.indexCast v6408
  let c0_4089 : Index := 0#32
  ![0, v6412.toNat, 0]

def k0_off1758 (v6409 : BitVec 32) : Fin 3 → Nat :=
  let c0_4096 : Index := 0#32
  let v6421 : Index := Scalar.indexCast v6409
  let c0_4097 : Index := 0#32
  ![0, v6421.toNat, 0]

def k0_off1759 (v6410 : BitVec 32) : Fin 3 → Nat :=
  let c0_4104 : Index := 0#32
  let v6430 : Index := Scalar.indexCast v6410
  let c0_4105 : Index := 0#32
  ![0, v6430.toNat, 0]

def k0_off1760 (v6411 : BitVec 32) : Fin 3 → Nat :=
  let c0_4112 : Index := 0#32
  let v6439 : Index := Scalar.indexCast v6411
  let c0_4113 : Index := 0#32
  ![0, v6439.toNat, 0]

def k0_chk788 (i : grid0.Coords) (v6411 : BitVec 32) : Prop :=
  (∀ (k0_h2 : k0_cond2 i = 1#1), ∀ a, (k0_off1760 v6411) a + S1x1x1024.size a ≤ S1x2048x1024.size a)
theorem k0_off1760_inb : ∀ (i : grid0.Coords) (v6411 : BitVec 32) (k0_hw788 : k0_chk788 i v6411), ∀ (k0_h2 : k0_cond2 i = 1#1), ∀ a, (k0_off1760 v6411) a + S1x1x1024.size a ≤ S1x2048x1024.size a := fun i v6411 k0_hw788 k0_h2 => k0_hw788 k0_h2

def k0_off1761 (v6408 : BitVec 32) : Fin 3 → Nat :=
  let c0_4120 : Index := 0#32
  let v6448 : Index := Scalar.indexCast v6408
  let c0_4121 : Index := 0#32
  ![0, v6448.toNat, 0]

def k0_chk785 (i : grid0.Coords) (v6408 : BitVec 32) : Prop :=
  (∀ (k0_h2 : k0_cond2 i = 1#1), ∀ a, (k0_off1757 v6408) a + S1x1x1024.size a ≤ S1x2048x1024.size a) ∧
  (∀ (k0_h2 : k0_cond2 i = 1#1), ∀ a, (k0_off1761 v6408) a + S1x1x1024.size a ≤ S1x2048x1024.size a)
theorem k0_off1757_inb : ∀ (i : grid0.Coords) (v6408 : BitVec 32) (k0_hw785 : k0_chk785 i v6408), ∀ (k0_h2 : k0_cond2 i = 1#1), ∀ a, (k0_off1757 v6408) a + S1x1x1024.size a ≤ S1x2048x1024.size a := fun i v6408 k0_hw785 k0_h2 => k0_hw785.1 k0_h2
theorem k0_off1761_inb : ∀ (i : grid0.Coords) (v6408 : BitVec 32) (k0_hw785 : k0_chk785 i v6408), ∀ (k0_h2 : k0_cond2 i = 1#1), ∀ a, (k0_off1761 v6408) a + S1x1x1024.size a ≤ S1x2048x1024.size a := fun i v6408 k0_hw785 k0_h2 => k0_hw785.2 k0_h2

def k0_off1762 (v6409 : BitVec 32) : Fin 3 → Nat :=
  let c0_4122 : Index := 0#32
  let v6452 : Index := Scalar.indexCast v6409
  let c0_4123 : Index := 0#32
  ![0, v6452.toNat, 0]

def k0_chk786 (i : grid0.Coords) (v6409 : BitVec 32) : Prop :=
  (∀ (k0_h2 : k0_cond2 i = 1#1), ∀ a, (k0_off1758 v6409) a + S1x1x1024.size a ≤ S1x2048x1024.size a) ∧
  (∀ (k0_h2 : k0_cond2 i = 1#1), ∀ a, (k0_off1762 v6409) a + S1x1x1024.size a ≤ S1x2048x1024.size a)
theorem k0_off1758_inb : ∀ (i : grid0.Coords) (v6409 : BitVec 32) (k0_hw786 : k0_chk786 i v6409), ∀ (k0_h2 : k0_cond2 i = 1#1), ∀ a, (k0_off1758 v6409) a + S1x1x1024.size a ≤ S1x2048x1024.size a := fun i v6409 k0_hw786 k0_h2 => k0_hw786.1 k0_h2
theorem k0_off1762_inb : ∀ (i : grid0.Coords) (v6409 : BitVec 32) (k0_hw786 : k0_chk786 i v6409), ∀ (k0_h2 : k0_cond2 i = 1#1), ∀ a, (k0_off1762 v6409) a + S1x1x1024.size a ≤ S1x2048x1024.size a := fun i v6409 k0_hw786 k0_h2 => k0_hw786.2 k0_h2

def k0_off1763 (v6410 : BitVec 32) : Fin 3 → Nat :=
  let c0_4124 : Index := 0#32
  let v6456 : Index := Scalar.indexCast v6410
  let c0_4125 : Index := 0#32
  ![0, v6456.toNat, 0]

def k0_chk787 (i : grid0.Coords) (v6410 : BitVec 32) : Prop :=
  (∀ (k0_h2 : k0_cond2 i = 1#1), ∀ a, (k0_off1759 v6410) a + S1x1x1024.size a ≤ S1x2048x1024.size a) ∧
  (∀ (k0_h2 : k0_cond2 i = 1#1), ∀ a, (k0_off1763 v6410) a + S1x1x1024.size a ≤ S1x2048x1024.size a)
theorem k0_off1759_inb : ∀ (i : grid0.Coords) (v6410 : BitVec 32) (k0_hw787 : k0_chk787 i v6410), ∀ (k0_h2 : k0_cond2 i = 1#1), ∀ a, (k0_off1759 v6410) a + S1x1x1024.size a ≤ S1x2048x1024.size a := fun i v6410 k0_hw787 k0_h2 => k0_hw787.1 k0_h2
theorem k0_off1763_inb : ∀ (i : grid0.Coords) (v6410 : BitVec 32) (k0_hw787 : k0_chk787 i v6410), ∀ (k0_h2 : k0_cond2 i = 1#1), ∀ a, (k0_off1763 v6410) a + S1x1x1024.size a ≤ S1x2048x1024.size a := fun i v6410 k0_hw787 k0_h2 => k0_hw787.2 k0_h2

def k0_off1764 (v6464 : BitVec 32) : Fin 3 → Nat :=
  let c0_4140 : Index := 0#32
  let v6468 : Index := Scalar.indexCast v6464
  let c0_4141 : Index := 0#32
  ![0, v6468.toNat, 0]

def k0_off1765 (v6465 : BitVec 32) : Fin 3 → Nat :=
  let c0_4148 : Index := 0#32
  let v6477 : Index := Scalar.indexCast v6465
  let c0_4149 : Index := 0#32
  ![0, v6477.toNat, 0]

def k0_off1766 (v6466 : BitVec 32) : Fin 3 → Nat :=
  let c0_4156 : Index := 0#32
  let v6486 : Index := Scalar.indexCast v6466
  let c0_4157 : Index := 0#32
  ![0, v6486.toNat, 0]

def k0_off1767 (v6467 : BitVec 32) : Fin 3 → Nat :=
  let c0_4164 : Index := 0#32
  let v6495 : Index := Scalar.indexCast v6467
  let c0_4165 : Index := 0#32
  ![0, v6495.toNat, 0]

def k0_chk792 (i : grid0.Coords) (v6467 : BitVec 32) : Prop :=
  (∀ (k0_h2 : k0_cond2 i = 1#1), ∀ a, (k0_off1767 v6467) a + S1x1x1024.size a ≤ S1x2048x1024.size a)
theorem k0_off1767_inb : ∀ (i : grid0.Coords) (v6467 : BitVec 32) (k0_hw792 : k0_chk792 i v6467), ∀ (k0_h2 : k0_cond2 i = 1#1), ∀ a, (k0_off1767 v6467) a + S1x1x1024.size a ≤ S1x2048x1024.size a := fun i v6467 k0_hw792 k0_h2 => k0_hw792 k0_h2

def k0_off1768 (v6464 : BitVec 32) : Fin 3 → Nat :=
  let c0_4172 : Index := 0#32
  let v6504 : Index := Scalar.indexCast v6464
  let c0_4173 : Index := 0#32
  ![0, v6504.toNat, 0]

def k0_chk789 (i : grid0.Coords) (v6464 : BitVec 32) : Prop :=
  (∀ (k0_h2 : k0_cond2 i = 1#1), ∀ a, (k0_off1764 v6464) a + S1x1x1024.size a ≤ S1x2048x1024.size a) ∧
  (∀ (k0_h2 : k0_cond2 i = 1#1), ∀ a, (k0_off1768 v6464) a + S1x1x1024.size a ≤ S1x2048x1024.size a)
theorem k0_off1764_inb : ∀ (i : grid0.Coords) (v6464 : BitVec 32) (k0_hw789 : k0_chk789 i v6464), ∀ (k0_h2 : k0_cond2 i = 1#1), ∀ a, (k0_off1764 v6464) a + S1x1x1024.size a ≤ S1x2048x1024.size a := fun i v6464 k0_hw789 k0_h2 => k0_hw789.1 k0_h2
theorem k0_off1768_inb : ∀ (i : grid0.Coords) (v6464 : BitVec 32) (k0_hw789 : k0_chk789 i v6464), ∀ (k0_h2 : k0_cond2 i = 1#1), ∀ a, (k0_off1768 v6464) a + S1x1x1024.size a ≤ S1x2048x1024.size a := fun i v6464 k0_hw789 k0_h2 => k0_hw789.2 k0_h2

def k0_off1769 (v6465 : BitVec 32) : Fin 3 → Nat :=
  let c0_4174 : Index := 0#32
  let v6508 : Index := Scalar.indexCast v6465
  let c0_4175 : Index := 0#32
  ![0, v6508.toNat, 0]

def k0_chk790 (i : grid0.Coords) (v6465 : BitVec 32) : Prop :=
  (∀ (k0_h2 : k0_cond2 i = 1#1), ∀ a, (k0_off1765 v6465) a + S1x1x1024.size a ≤ S1x2048x1024.size a) ∧
  (∀ (k0_h2 : k0_cond2 i = 1#1), ∀ a, (k0_off1769 v6465) a + S1x1x1024.size a ≤ S1x2048x1024.size a)
theorem k0_off1765_inb : ∀ (i : grid0.Coords) (v6465 : BitVec 32) (k0_hw790 : k0_chk790 i v6465), ∀ (k0_h2 : k0_cond2 i = 1#1), ∀ a, (k0_off1765 v6465) a + S1x1x1024.size a ≤ S1x2048x1024.size a := fun i v6465 k0_hw790 k0_h2 => k0_hw790.1 k0_h2
theorem k0_off1769_inb : ∀ (i : grid0.Coords) (v6465 : BitVec 32) (k0_hw790 : k0_chk790 i v6465), ∀ (k0_h2 : k0_cond2 i = 1#1), ∀ a, (k0_off1769 v6465) a + S1x1x1024.size a ≤ S1x2048x1024.size a := fun i v6465 k0_hw790 k0_h2 => k0_hw790.2 k0_h2

def k0_off1770 (v6466 : BitVec 32) : Fin 3 → Nat :=
  let c0_4176 : Index := 0#32
  let v6512 : Index := Scalar.indexCast v6466
  let c0_4177 : Index := 0#32
  ![0, v6512.toNat, 0]

def k0_chk791 (i : grid0.Coords) (v6466 : BitVec 32) : Prop :=
  (∀ (k0_h2 : k0_cond2 i = 1#1), ∀ a, (k0_off1766 v6466) a + S1x1x1024.size a ≤ S1x2048x1024.size a) ∧
  (∀ (k0_h2 : k0_cond2 i = 1#1), ∀ a, (k0_off1770 v6466) a + S1x1x1024.size a ≤ S1x2048x1024.size a)
theorem k0_off1766_inb : ∀ (i : grid0.Coords) (v6466 : BitVec 32) (k0_hw791 : k0_chk791 i v6466), ∀ (k0_h2 : k0_cond2 i = 1#1), ∀ a, (k0_off1766 v6466) a + S1x1x1024.size a ≤ S1x2048x1024.size a := fun i v6466 k0_hw791 k0_h2 => k0_hw791.1 k0_h2
theorem k0_off1770_inb : ∀ (i : grid0.Coords) (v6466 : BitVec 32) (k0_hw791 : k0_chk791 i v6466), ∀ (k0_h2 : k0_cond2 i = 1#1), ∀ a, (k0_off1770 v6466) a + S1x1x1024.size a ≤ S1x2048x1024.size a := fun i v6466 k0_hw791 k0_h2 => k0_hw791.2 k0_h2

def k0_off1771 (v6520 : BitVec 32) : Fin 3 → Nat :=
  let c0_4192 : Index := 0#32
  let v6524 : Index := Scalar.indexCast v6520
  let c0_4193 : Index := 0#32
  ![0, v6524.toNat, 0]

def k0_off1772 (v6521 : BitVec 32) : Fin 3 → Nat :=
  let c0_4200 : Index := 0#32
  let v6533 : Index := Scalar.indexCast v6521
  let c0_4201 : Index := 0#32
  ![0, v6533.toNat, 0]

def k0_off1773 (v6522 : BitVec 32) : Fin 3 → Nat :=
  let c0_4208 : Index := 0#32
  let v6542 : Index := Scalar.indexCast v6522
  let c0_4209 : Index := 0#32
  ![0, v6542.toNat, 0]

def k0_off1774 (v6523 : BitVec 32) : Fin 3 → Nat :=
  let c0_4216 : Index := 0#32
  let v6551 : Index := Scalar.indexCast v6523
  let c0_4217 : Index := 0#32
  ![0, v6551.toNat, 0]

def k0_chk796 (i : grid0.Coords) (v6523 : BitVec 32) : Prop :=
  (∀ (k0_h2 : k0_cond2 i = 1#1), ∀ a, (k0_off1774 v6523) a + S1x1x1024.size a ≤ S1x2048x1024.size a)
theorem k0_off1774_inb : ∀ (i : grid0.Coords) (v6523 : BitVec 32) (k0_hw796 : k0_chk796 i v6523), ∀ (k0_h2 : k0_cond2 i = 1#1), ∀ a, (k0_off1774 v6523) a + S1x1x1024.size a ≤ S1x2048x1024.size a := fun i v6523 k0_hw796 k0_h2 => k0_hw796 k0_h2

def k0_off1775 (v6520 : BitVec 32) : Fin 3 → Nat :=
  let c0_4224 : Index := 0#32
  let v6560 : Index := Scalar.indexCast v6520
  let c0_4225 : Index := 0#32
  ![0, v6560.toNat, 0]

def k0_chk793 (i : grid0.Coords) (v6520 : BitVec 32) : Prop :=
  (∀ (k0_h2 : k0_cond2 i = 1#1), ∀ a, (k0_off1771 v6520) a + S1x1x1024.size a ≤ S1x2048x1024.size a) ∧
  (∀ (k0_h2 : k0_cond2 i = 1#1), ∀ a, (k0_off1775 v6520) a + S1x1x1024.size a ≤ S1x2048x1024.size a)
theorem k0_off1771_inb : ∀ (i : grid0.Coords) (v6520 : BitVec 32) (k0_hw793 : k0_chk793 i v6520), ∀ (k0_h2 : k0_cond2 i = 1#1), ∀ a, (k0_off1771 v6520) a + S1x1x1024.size a ≤ S1x2048x1024.size a := fun i v6520 k0_hw793 k0_h2 => k0_hw793.1 k0_h2
theorem k0_off1775_inb : ∀ (i : grid0.Coords) (v6520 : BitVec 32) (k0_hw793 : k0_chk793 i v6520), ∀ (k0_h2 : k0_cond2 i = 1#1), ∀ a, (k0_off1775 v6520) a + S1x1x1024.size a ≤ S1x2048x1024.size a := fun i v6520 k0_hw793 k0_h2 => k0_hw793.2 k0_h2

def k0_off1776 (v6521 : BitVec 32) : Fin 3 → Nat :=
  let c0_4226 : Index := 0#32
  let v6564 : Index := Scalar.indexCast v6521
  let c0_4227 : Index := 0#32
  ![0, v6564.toNat, 0]

def k0_chk794 (i : grid0.Coords) (v6521 : BitVec 32) : Prop :=
  (∀ (k0_h2 : k0_cond2 i = 1#1), ∀ a, (k0_off1772 v6521) a + S1x1x1024.size a ≤ S1x2048x1024.size a) ∧
  (∀ (k0_h2 : k0_cond2 i = 1#1), ∀ a, (k0_off1776 v6521) a + S1x1x1024.size a ≤ S1x2048x1024.size a)
theorem k0_off1772_inb : ∀ (i : grid0.Coords) (v6521 : BitVec 32) (k0_hw794 : k0_chk794 i v6521), ∀ (k0_h2 : k0_cond2 i = 1#1), ∀ a, (k0_off1772 v6521) a + S1x1x1024.size a ≤ S1x2048x1024.size a := fun i v6521 k0_hw794 k0_h2 => k0_hw794.1 k0_h2
theorem k0_off1776_inb : ∀ (i : grid0.Coords) (v6521 : BitVec 32) (k0_hw794 : k0_chk794 i v6521), ∀ (k0_h2 : k0_cond2 i = 1#1), ∀ a, (k0_off1776 v6521) a + S1x1x1024.size a ≤ S1x2048x1024.size a := fun i v6521 k0_hw794 k0_h2 => k0_hw794.2 k0_h2

def k0_off1777 (v6522 : BitVec 32) : Fin 3 → Nat :=
  let c0_4228 : Index := 0#32
  let v6568 : Index := Scalar.indexCast v6522
  let c0_4229 : Index := 0#32
  ![0, v6568.toNat, 0]

def k0_chk795 (i : grid0.Coords) (v6522 : BitVec 32) : Prop :=
  (∀ (k0_h2 : k0_cond2 i = 1#1), ∀ a, (k0_off1773 v6522) a + S1x1x1024.size a ≤ S1x2048x1024.size a) ∧
  (∀ (k0_h2 : k0_cond2 i = 1#1), ∀ a, (k0_off1777 v6522) a + S1x1x1024.size a ≤ S1x2048x1024.size a)
theorem k0_off1773_inb : ∀ (i : grid0.Coords) (v6522 : BitVec 32) (k0_hw795 : k0_chk795 i v6522), ∀ (k0_h2 : k0_cond2 i = 1#1), ∀ a, (k0_off1773 v6522) a + S1x1x1024.size a ≤ S1x2048x1024.size a := fun i v6522 k0_hw795 k0_h2 => k0_hw795.1 k0_h2
theorem k0_off1777_inb : ∀ (i : grid0.Coords) (v6522 : BitVec 32) (k0_hw795 : k0_chk795 i v6522), ∀ (k0_h2 : k0_cond2 i = 1#1), ∀ a, (k0_off1777 v6522) a + S1x1x1024.size a ≤ S1x2048x1024.size a := fun i v6522 k0_hw795 k0_h2 => k0_hw795.2 k0_h2

def k0_off1778 (v6576 : BitVec 32) : Fin 3 → Nat :=
  let c0_4244 : Index := 0#32
  let v6580 : Index := Scalar.indexCast v6576
  let c0_4245 : Index := 0#32
  ![0, v6580.toNat, 0]

def k0_off1779 (v6577 : BitVec 32) : Fin 3 → Nat :=
  let c0_4252 : Index := 0#32
  let v6589 : Index := Scalar.indexCast v6577
  let c0_4253 : Index := 0#32
  ![0, v6589.toNat, 0]

def k0_off1780 (v6578 : BitVec 32) : Fin 3 → Nat :=
  let c0_4260 : Index := 0#32
  let v6598 : Index := Scalar.indexCast v6578
  let c0_4261 : Index := 0#32
  ![0, v6598.toNat, 0]

def k0_off1781 (v6579 : BitVec 32) : Fin 3 → Nat :=
  let c0_4268 : Index := 0#32
  let v6607 : Index := Scalar.indexCast v6579
  let c0_4269 : Index := 0#32
  ![0, v6607.toNat, 0]

def k0_chk800 (i : grid0.Coords) (v6579 : BitVec 32) : Prop :=
  (∀ (k0_h2 : k0_cond2 i = 1#1), ∀ a, (k0_off1781 v6579) a + S1x1x1024.size a ≤ S1x2048x1024.size a)
theorem k0_off1781_inb : ∀ (i : grid0.Coords) (v6579 : BitVec 32) (k0_hw800 : k0_chk800 i v6579), ∀ (k0_h2 : k0_cond2 i = 1#1), ∀ a, (k0_off1781 v6579) a + S1x1x1024.size a ≤ S1x2048x1024.size a := fun i v6579 k0_hw800 k0_h2 => k0_hw800 k0_h2

def k0_off1782 (v6576 : BitVec 32) : Fin 3 → Nat :=
  let c0_4276 : Index := 0#32
  let v6616 : Index := Scalar.indexCast v6576
  let c0_4277 : Index := 0#32
  ![0, v6616.toNat, 0]

def k0_chk797 (i : grid0.Coords) (v6576 : BitVec 32) : Prop :=
  (∀ (k0_h2 : k0_cond2 i = 1#1), ∀ a, (k0_off1778 v6576) a + S1x1x1024.size a ≤ S1x2048x1024.size a) ∧
  (∀ (k0_h2 : k0_cond2 i = 1#1), ∀ a, (k0_off1782 v6576) a + S1x1x1024.size a ≤ S1x2048x1024.size a)
theorem k0_off1778_inb : ∀ (i : grid0.Coords) (v6576 : BitVec 32) (k0_hw797 : k0_chk797 i v6576), ∀ (k0_h2 : k0_cond2 i = 1#1), ∀ a, (k0_off1778 v6576) a + S1x1x1024.size a ≤ S1x2048x1024.size a := fun i v6576 k0_hw797 k0_h2 => k0_hw797.1 k0_h2
theorem k0_off1782_inb : ∀ (i : grid0.Coords) (v6576 : BitVec 32) (k0_hw797 : k0_chk797 i v6576), ∀ (k0_h2 : k0_cond2 i = 1#1), ∀ a, (k0_off1782 v6576) a + S1x1x1024.size a ≤ S1x2048x1024.size a := fun i v6576 k0_hw797 k0_h2 => k0_hw797.2 k0_h2

def k0_off1783 (v6577 : BitVec 32) : Fin 3 → Nat :=
  let c0_4278 : Index := 0#32
  let v6620 : Index := Scalar.indexCast v6577
  let c0_4279 : Index := 0#32
  ![0, v6620.toNat, 0]

def k0_chk798 (i : grid0.Coords) (v6577 : BitVec 32) : Prop :=
  (∀ (k0_h2 : k0_cond2 i = 1#1), ∀ a, (k0_off1779 v6577) a + S1x1x1024.size a ≤ S1x2048x1024.size a) ∧
  (∀ (k0_h2 : k0_cond2 i = 1#1), ∀ a, (k0_off1783 v6577) a + S1x1x1024.size a ≤ S1x2048x1024.size a)
theorem k0_off1779_inb : ∀ (i : grid0.Coords) (v6577 : BitVec 32) (k0_hw798 : k0_chk798 i v6577), ∀ (k0_h2 : k0_cond2 i = 1#1), ∀ a, (k0_off1779 v6577) a + S1x1x1024.size a ≤ S1x2048x1024.size a := fun i v6577 k0_hw798 k0_h2 => k0_hw798.1 k0_h2
theorem k0_off1783_inb : ∀ (i : grid0.Coords) (v6577 : BitVec 32) (k0_hw798 : k0_chk798 i v6577), ∀ (k0_h2 : k0_cond2 i = 1#1), ∀ a, (k0_off1783 v6577) a + S1x1x1024.size a ≤ S1x2048x1024.size a := fun i v6577 k0_hw798 k0_h2 => k0_hw798.2 k0_h2

def k0_off1784 (v6578 : BitVec 32) : Fin 3 → Nat :=
  let c0_4280 : Index := 0#32
  let v6624 : Index := Scalar.indexCast v6578
  let c0_4281 : Index := 0#32
  ![0, v6624.toNat, 0]

def k0_chk799 (i : grid0.Coords) (v6578 : BitVec 32) : Prop :=
  (∀ (k0_h2 : k0_cond2 i = 1#1), ∀ a, (k0_off1780 v6578) a + S1x1x1024.size a ≤ S1x2048x1024.size a) ∧
  (∀ (k0_h2 : k0_cond2 i = 1#1), ∀ a, (k0_off1784 v6578) a + S1x1x1024.size a ≤ S1x2048x1024.size a)
theorem k0_off1780_inb : ∀ (i : grid0.Coords) (v6578 : BitVec 32) (k0_hw799 : k0_chk799 i v6578), ∀ (k0_h2 : k0_cond2 i = 1#1), ∀ a, (k0_off1780 v6578) a + S1x1x1024.size a ≤ S1x2048x1024.size a := fun i v6578 k0_hw799 k0_h2 => k0_hw799.1 k0_h2
theorem k0_off1784_inb : ∀ (i : grid0.Coords) (v6578 : BitVec 32) (k0_hw799 : k0_chk799 i v6578), ∀ (k0_h2 : k0_cond2 i = 1#1), ∀ a, (k0_off1784 v6578) a + S1x1x1024.size a ≤ S1x2048x1024.size a := fun i v6578 k0_hw799 k0_h2 => k0_hw799.2 k0_h2

def k0_off1785 (v6632 : BitVec 32) : Fin 3 → Nat :=
  let c0_4296 : Index := 0#32
  let v6636 : Index := Scalar.indexCast v6632
  let c0_4297 : Index := 0#32
  ![0, v6636.toNat, 0]

def k0_off1786 (v6633 : BitVec 32) : Fin 3 → Nat :=
  let c0_4304 : Index := 0#32
  let v6645 : Index := Scalar.indexCast v6633
  let c0_4305 : Index := 0#32
  ![0, v6645.toNat, 0]

def k0_off1787 (v6634 : BitVec 32) : Fin 3 → Nat :=
  let c0_4312 : Index := 0#32
  let v6654 : Index := Scalar.indexCast v6634
  let c0_4313 : Index := 0#32
  ![0, v6654.toNat, 0]

def k0_off1788 (v6635 : BitVec 32) : Fin 3 → Nat :=
  let c0_4320 : Index := 0#32
  let v6663 : Index := Scalar.indexCast v6635
  let c0_4321 : Index := 0#32
  ![0, v6663.toNat, 0]

def k0_chk804 (i : grid0.Coords) (v6635 : BitVec 32) : Prop :=
  (∀ (k0_h2 : k0_cond2 i = 1#1), ∀ a, (k0_off1788 v6635) a + S1x1x1024.size a ≤ S1x2048x1024.size a)
theorem k0_off1788_inb : ∀ (i : grid0.Coords) (v6635 : BitVec 32) (k0_hw804 : k0_chk804 i v6635), ∀ (k0_h2 : k0_cond2 i = 1#1), ∀ a, (k0_off1788 v6635) a + S1x1x1024.size a ≤ S1x2048x1024.size a := fun i v6635 k0_hw804 k0_h2 => k0_hw804 k0_h2

def k0_off1789 (v6632 : BitVec 32) : Fin 3 → Nat :=
  let c0_4328 : Index := 0#32
  let v6672 : Index := Scalar.indexCast v6632
  let c0_4329 : Index := 0#32
  ![0, v6672.toNat, 0]

def k0_chk801 (i : grid0.Coords) (v6632 : BitVec 32) : Prop :=
  (∀ (k0_h2 : k0_cond2 i = 1#1), ∀ a, (k0_off1785 v6632) a + S1x1x1024.size a ≤ S1x2048x1024.size a) ∧
  (∀ (k0_h2 : k0_cond2 i = 1#1), ∀ a, (k0_off1789 v6632) a + S1x1x1024.size a ≤ S1x2048x1024.size a)
theorem k0_off1785_inb : ∀ (i : grid0.Coords) (v6632 : BitVec 32) (k0_hw801 : k0_chk801 i v6632), ∀ (k0_h2 : k0_cond2 i = 1#1), ∀ a, (k0_off1785 v6632) a + S1x1x1024.size a ≤ S1x2048x1024.size a := fun i v6632 k0_hw801 k0_h2 => k0_hw801.1 k0_h2
theorem k0_off1789_inb : ∀ (i : grid0.Coords) (v6632 : BitVec 32) (k0_hw801 : k0_chk801 i v6632), ∀ (k0_h2 : k0_cond2 i = 1#1), ∀ a, (k0_off1789 v6632) a + S1x1x1024.size a ≤ S1x2048x1024.size a := fun i v6632 k0_hw801 k0_h2 => k0_hw801.2 k0_h2

def k0_off1790 (v6633 : BitVec 32) : Fin 3 → Nat :=
  let c0_4330 : Index := 0#32
  let v6676 : Index := Scalar.indexCast v6633
  let c0_4331 : Index := 0#32
  ![0, v6676.toNat, 0]

def k0_chk802 (i : grid0.Coords) (v6633 : BitVec 32) : Prop :=
  (∀ (k0_h2 : k0_cond2 i = 1#1), ∀ a, (k0_off1786 v6633) a + S1x1x1024.size a ≤ S1x2048x1024.size a) ∧
  (∀ (k0_h2 : k0_cond2 i = 1#1), ∀ a, (k0_off1790 v6633) a + S1x1x1024.size a ≤ S1x2048x1024.size a)
theorem k0_off1786_inb : ∀ (i : grid0.Coords) (v6633 : BitVec 32) (k0_hw802 : k0_chk802 i v6633), ∀ (k0_h2 : k0_cond2 i = 1#1), ∀ a, (k0_off1786 v6633) a + S1x1x1024.size a ≤ S1x2048x1024.size a := fun i v6633 k0_hw802 k0_h2 => k0_hw802.1 k0_h2
theorem k0_off1790_inb : ∀ (i : grid0.Coords) (v6633 : BitVec 32) (k0_hw802 : k0_chk802 i v6633), ∀ (k0_h2 : k0_cond2 i = 1#1), ∀ a, (k0_off1790 v6633) a + S1x1x1024.size a ≤ S1x2048x1024.size a := fun i v6633 k0_hw802 k0_h2 => k0_hw802.2 k0_h2

def k0_off1791 (v6634 : BitVec 32) : Fin 3 → Nat :=
  let c0_4332 : Index := 0#32
  let v6680 : Index := Scalar.indexCast v6634
  let c0_4333 : Index := 0#32
  ![0, v6680.toNat, 0]

def k0_chk803 (i : grid0.Coords) (v6634 : BitVec 32) : Prop :=
  (∀ (k0_h2 : k0_cond2 i = 1#1), ∀ a, (k0_off1787 v6634) a + S1x1x1024.size a ≤ S1x2048x1024.size a) ∧
  (∀ (k0_h2 : k0_cond2 i = 1#1), ∀ a, (k0_off1791 v6634) a + S1x1x1024.size a ≤ S1x2048x1024.size a)
theorem k0_off1787_inb : ∀ (i : grid0.Coords) (v6634 : BitVec 32) (k0_hw803 : k0_chk803 i v6634), ∀ (k0_h2 : k0_cond2 i = 1#1), ∀ a, (k0_off1787 v6634) a + S1x1x1024.size a ≤ S1x2048x1024.size a := fun i v6634 k0_hw803 k0_h2 => k0_hw803.1 k0_h2
theorem k0_off1791_inb : ∀ (i : grid0.Coords) (v6634 : BitVec 32) (k0_hw803 : k0_chk803 i v6634), ∀ (k0_h2 : k0_cond2 i = 1#1), ∀ a, (k0_off1791 v6634) a + S1x1x1024.size a ≤ S1x2048x1024.size a := fun i v6634 k0_hw803 k0_h2 => k0_hw803.2 k0_h2

def k0_off1792 (v6688 : BitVec 32) : Fin 3 → Nat :=
  let c0_4348 : Index := 0#32
  let v6692 : Index := Scalar.indexCast v6688
  let c0_4349 : Index := 0#32
  ![0, v6692.toNat, 0]

def k0_off1793 (v6689 : BitVec 32) : Fin 3 → Nat :=
  let c0_4356 : Index := 0#32
  let v6701 : Index := Scalar.indexCast v6689
  let c0_4357 : Index := 0#32
  ![0, v6701.toNat, 0]

def k0_off1794 (v6690 : BitVec 32) : Fin 3 → Nat :=
  let c0_4364 : Index := 0#32
  let v6710 : Index := Scalar.indexCast v6690
  let c0_4365 : Index := 0#32
  ![0, v6710.toNat, 0]

def k0_off1795 (v6691 : BitVec 32) : Fin 3 → Nat :=
  let c0_4372 : Index := 0#32
  let v6719 : Index := Scalar.indexCast v6691
  let c0_4373 : Index := 0#32
  ![0, v6719.toNat, 0]

def k0_chk808 (i : grid0.Coords) (v6691 : BitVec 32) : Prop :=
  (∀ (k0_h2 : k0_cond2 i = 1#1), ∀ a, (k0_off1795 v6691) a + S1x1x1024.size a ≤ S1x2048x1024.size a)
theorem k0_off1795_inb : ∀ (i : grid0.Coords) (v6691 : BitVec 32) (k0_hw808 : k0_chk808 i v6691), ∀ (k0_h2 : k0_cond2 i = 1#1), ∀ a, (k0_off1795 v6691) a + S1x1x1024.size a ≤ S1x2048x1024.size a := fun i v6691 k0_hw808 k0_h2 => k0_hw808 k0_h2

def k0_off1796 (v6688 : BitVec 32) : Fin 3 → Nat :=
  let c0_4380 : Index := 0#32
  let v6728 : Index := Scalar.indexCast v6688
  let c0_4381 : Index := 0#32
  ![0, v6728.toNat, 0]

def k0_chk805 (i : grid0.Coords) (v6688 : BitVec 32) : Prop :=
  (∀ (k0_h2 : k0_cond2 i = 1#1), ∀ a, (k0_off1792 v6688) a + S1x1x1024.size a ≤ S1x2048x1024.size a) ∧
  (∀ (k0_h2 : k0_cond2 i = 1#1), ∀ a, (k0_off1796 v6688) a + S1x1x1024.size a ≤ S1x2048x1024.size a)
theorem k0_off1792_inb : ∀ (i : grid0.Coords) (v6688 : BitVec 32) (k0_hw805 : k0_chk805 i v6688), ∀ (k0_h2 : k0_cond2 i = 1#1), ∀ a, (k0_off1792 v6688) a + S1x1x1024.size a ≤ S1x2048x1024.size a := fun i v6688 k0_hw805 k0_h2 => k0_hw805.1 k0_h2
theorem k0_off1796_inb : ∀ (i : grid0.Coords) (v6688 : BitVec 32) (k0_hw805 : k0_chk805 i v6688), ∀ (k0_h2 : k0_cond2 i = 1#1), ∀ a, (k0_off1796 v6688) a + S1x1x1024.size a ≤ S1x2048x1024.size a := fun i v6688 k0_hw805 k0_h2 => k0_hw805.2 k0_h2

def k0_off1797 (v6689 : BitVec 32) : Fin 3 → Nat :=
  let c0_4382 : Index := 0#32
  let v6732 : Index := Scalar.indexCast v6689
  let c0_4383 : Index := 0#32
  ![0, v6732.toNat, 0]

def k0_chk806 (i : grid0.Coords) (v6689 : BitVec 32) : Prop :=
  (∀ (k0_h2 : k0_cond2 i = 1#1), ∀ a, (k0_off1793 v6689) a + S1x1x1024.size a ≤ S1x2048x1024.size a) ∧
  (∀ (k0_h2 : k0_cond2 i = 1#1), ∀ a, (k0_off1797 v6689) a + S1x1x1024.size a ≤ S1x2048x1024.size a)
theorem k0_off1793_inb : ∀ (i : grid0.Coords) (v6689 : BitVec 32) (k0_hw806 : k0_chk806 i v6689), ∀ (k0_h2 : k0_cond2 i = 1#1), ∀ a, (k0_off1793 v6689) a + S1x1x1024.size a ≤ S1x2048x1024.size a := fun i v6689 k0_hw806 k0_h2 => k0_hw806.1 k0_h2
theorem k0_off1797_inb : ∀ (i : grid0.Coords) (v6689 : BitVec 32) (k0_hw806 : k0_chk806 i v6689), ∀ (k0_h2 : k0_cond2 i = 1#1), ∀ a, (k0_off1797 v6689) a + S1x1x1024.size a ≤ S1x2048x1024.size a := fun i v6689 k0_hw806 k0_h2 => k0_hw806.2 k0_h2

def k0_off1798 (v6690 : BitVec 32) : Fin 3 → Nat :=
  let c0_4384 : Index := 0#32
  let v6736 : Index := Scalar.indexCast v6690
  let c0_4385 : Index := 0#32
  ![0, v6736.toNat, 0]

def k0_chk807 (i : grid0.Coords) (v6690 : BitVec 32) : Prop :=
  (∀ (k0_h2 : k0_cond2 i = 1#1), ∀ a, (k0_off1794 v6690) a + S1x1x1024.size a ≤ S1x2048x1024.size a) ∧
  (∀ (k0_h2 : k0_cond2 i = 1#1), ∀ a, (k0_off1798 v6690) a + S1x1x1024.size a ≤ S1x2048x1024.size a)
theorem k0_off1794_inb : ∀ (i : grid0.Coords) (v6690 : BitVec 32) (k0_hw807 : k0_chk807 i v6690), ∀ (k0_h2 : k0_cond2 i = 1#1), ∀ a, (k0_off1794 v6690) a + S1x1x1024.size a ≤ S1x2048x1024.size a := fun i v6690 k0_hw807 k0_h2 => k0_hw807.1 k0_h2
theorem k0_off1798_inb : ∀ (i : grid0.Coords) (v6690 : BitVec 32) (k0_hw807 : k0_chk807 i v6690), ∀ (k0_h2 : k0_cond2 i = 1#1), ∀ a, (k0_off1798 v6690) a + S1x1x1024.size a ≤ S1x2048x1024.size a := fun i v6690 k0_hw807 k0_h2 => k0_hw807.2 k0_h2

def k0_off1799 (v6744 : BitVec 32) : Fin 3 → Nat :=
  let c0_4400 : Index := 0#32
  let v6748 : Index := Scalar.indexCast v6744
  let c0_4401 : Index := 0#32
  ![0, v6748.toNat, 0]

def k0_off1800 (v6745 : BitVec 32) : Fin 3 → Nat :=
  let c0_4408 : Index := 0#32
  let v6757 : Index := Scalar.indexCast v6745
  let c0_4409 : Index := 0#32
  ![0, v6757.toNat, 0]

def k0_off1801 (v6746 : BitVec 32) : Fin 3 → Nat :=
  let c0_4416 : Index := 0#32
  let v6766 : Index := Scalar.indexCast v6746
  let c0_4417 : Index := 0#32
  ![0, v6766.toNat, 0]

def k0_off1802 (v6747 : BitVec 32) : Fin 3 → Nat :=
  let c0_4424 : Index := 0#32
  let v6775 : Index := Scalar.indexCast v6747
  let c0_4425 : Index := 0#32
  ![0, v6775.toNat, 0]

def k0_chk812 (i : grid0.Coords) (v6747 : BitVec 32) : Prop :=
  (∀ (k0_h2 : k0_cond2 i = 1#1), ∀ a, (k0_off1802 v6747) a + S1x1x1024.size a ≤ S1x2048x1024.size a)
theorem k0_off1802_inb : ∀ (i : grid0.Coords) (v6747 : BitVec 32) (k0_hw812 : k0_chk812 i v6747), ∀ (k0_h2 : k0_cond2 i = 1#1), ∀ a, (k0_off1802 v6747) a + S1x1x1024.size a ≤ S1x2048x1024.size a := fun i v6747 k0_hw812 k0_h2 => k0_hw812 k0_h2

def k0_off1803 (v6744 : BitVec 32) : Fin 3 → Nat :=
  let c0_4432 : Index := 0#32
  let v6784 : Index := Scalar.indexCast v6744
  let c0_4433 : Index := 0#32
  ![0, v6784.toNat, 0]

def k0_chk809 (i : grid0.Coords) (v6744 : BitVec 32) : Prop :=
  (∀ (k0_h2 : k0_cond2 i = 1#1), ∀ a, (k0_off1799 v6744) a + S1x1x1024.size a ≤ S1x2048x1024.size a) ∧
  (∀ (k0_h2 : k0_cond2 i = 1#1), ∀ a, (k0_off1803 v6744) a + S1x1x1024.size a ≤ S1x2048x1024.size a)
theorem k0_off1799_inb : ∀ (i : grid0.Coords) (v6744 : BitVec 32) (k0_hw809 : k0_chk809 i v6744), ∀ (k0_h2 : k0_cond2 i = 1#1), ∀ a, (k0_off1799 v6744) a + S1x1x1024.size a ≤ S1x2048x1024.size a := fun i v6744 k0_hw809 k0_h2 => k0_hw809.1 k0_h2
theorem k0_off1803_inb : ∀ (i : grid0.Coords) (v6744 : BitVec 32) (k0_hw809 : k0_chk809 i v6744), ∀ (k0_h2 : k0_cond2 i = 1#1), ∀ a, (k0_off1803 v6744) a + S1x1x1024.size a ≤ S1x2048x1024.size a := fun i v6744 k0_hw809 k0_h2 => k0_hw809.2 k0_h2

def k0_off1804 (v6745 : BitVec 32) : Fin 3 → Nat :=
  let c0_4434 : Index := 0#32
  let v6788 : Index := Scalar.indexCast v6745
  let c0_4435 : Index := 0#32
  ![0, v6788.toNat, 0]

def k0_chk810 (i : grid0.Coords) (v6745 : BitVec 32) : Prop :=
  (∀ (k0_h2 : k0_cond2 i = 1#1), ∀ a, (k0_off1800 v6745) a + S1x1x1024.size a ≤ S1x2048x1024.size a) ∧
  (∀ (k0_h2 : k0_cond2 i = 1#1), ∀ a, (k0_off1804 v6745) a + S1x1x1024.size a ≤ S1x2048x1024.size a)
theorem k0_off1800_inb : ∀ (i : grid0.Coords) (v6745 : BitVec 32) (k0_hw810 : k0_chk810 i v6745), ∀ (k0_h2 : k0_cond2 i = 1#1), ∀ a, (k0_off1800 v6745) a + S1x1x1024.size a ≤ S1x2048x1024.size a := fun i v6745 k0_hw810 k0_h2 => k0_hw810.1 k0_h2
theorem k0_off1804_inb : ∀ (i : grid0.Coords) (v6745 : BitVec 32) (k0_hw810 : k0_chk810 i v6745), ∀ (k0_h2 : k0_cond2 i = 1#1), ∀ a, (k0_off1804 v6745) a + S1x1x1024.size a ≤ S1x2048x1024.size a := fun i v6745 k0_hw810 k0_h2 => k0_hw810.2 k0_h2

def k0_off1805 (v6746 : BitVec 32) : Fin 3 → Nat :=
  let c0_4436 : Index := 0#32
  let v6792 : Index := Scalar.indexCast v6746
  let c0_4437 : Index := 0#32
  ![0, v6792.toNat, 0]

def k0_chk811 (i : grid0.Coords) (v6746 : BitVec 32) : Prop :=
  (∀ (k0_h2 : k0_cond2 i = 1#1), ∀ a, (k0_off1801 v6746) a + S1x1x1024.size a ≤ S1x2048x1024.size a) ∧
  (∀ (k0_h2 : k0_cond2 i = 1#1), ∀ a, (k0_off1805 v6746) a + S1x1x1024.size a ≤ S1x2048x1024.size a)
theorem k0_off1801_inb : ∀ (i : grid0.Coords) (v6746 : BitVec 32) (k0_hw811 : k0_chk811 i v6746), ∀ (k0_h2 : k0_cond2 i = 1#1), ∀ a, (k0_off1801 v6746) a + S1x1x1024.size a ≤ S1x2048x1024.size a := fun i v6746 k0_hw811 k0_h2 => k0_hw811.1 k0_h2
theorem k0_off1805_inb : ∀ (i : grid0.Coords) (v6746 : BitVec 32) (k0_hw811 : k0_chk811 i v6746), ∀ (k0_h2 : k0_cond2 i = 1#1), ∀ a, (k0_off1805 v6746) a + S1x1x1024.size a ≤ S1x2048x1024.size a := fun i v6746 k0_hw811 k0_h2 => k0_hw811.2 k0_h2

def k0_off1806 (v6800 : BitVec 32) : Fin 3 → Nat :=
  let c0_4452 : Index := 0#32
  let v6804 : Index := Scalar.indexCast v6800
  let c0_4453 : Index := 0#32
  ![0, v6804.toNat, 0]

def k0_off1807 (v6801 : BitVec 32) : Fin 3 → Nat :=
  let c0_4460 : Index := 0#32
  let v6813 : Index := Scalar.indexCast v6801
  let c0_4461 : Index := 0#32
  ![0, v6813.toNat, 0]

def k0_off1808 (v6802 : BitVec 32) : Fin 3 → Nat :=
  let c0_4468 : Index := 0#32
  let v6822 : Index := Scalar.indexCast v6802
  let c0_4469 : Index := 0#32
  ![0, v6822.toNat, 0]

def k0_off1809 (v6803 : BitVec 32) : Fin 3 → Nat :=
  let c0_4476 : Index := 0#32
  let v6831 : Index := Scalar.indexCast v6803
  let c0_4477 : Index := 0#32
  ![0, v6831.toNat, 0]

def k0_chk816 (i : grid0.Coords) (v6803 : BitVec 32) : Prop :=
  (∀ (k0_h2 : k0_cond2 i = 1#1), ∀ a, (k0_off1809 v6803) a + S1x1x1024.size a ≤ S1x2048x1024.size a)
theorem k0_off1809_inb : ∀ (i : grid0.Coords) (v6803 : BitVec 32) (k0_hw816 : k0_chk816 i v6803), ∀ (k0_h2 : k0_cond2 i = 1#1), ∀ a, (k0_off1809 v6803) a + S1x1x1024.size a ≤ S1x2048x1024.size a := fun i v6803 k0_hw816 k0_h2 => k0_hw816 k0_h2

def k0_off1810 (v6800 : BitVec 32) : Fin 3 → Nat :=
  let c0_4484 : Index := 0#32
  let v6840 : Index := Scalar.indexCast v6800
  let c0_4485 : Index := 0#32
  ![0, v6840.toNat, 0]

def k0_chk813 (i : grid0.Coords) (v6800 : BitVec 32) : Prop :=
  (∀ (k0_h2 : k0_cond2 i = 1#1), ∀ a, (k0_off1806 v6800) a + S1x1x1024.size a ≤ S1x2048x1024.size a) ∧
  (∀ (k0_h2 : k0_cond2 i = 1#1), ∀ a, (k0_off1810 v6800) a + S1x1x1024.size a ≤ S1x2048x1024.size a)
theorem k0_off1806_inb : ∀ (i : grid0.Coords) (v6800 : BitVec 32) (k0_hw813 : k0_chk813 i v6800), ∀ (k0_h2 : k0_cond2 i = 1#1), ∀ a, (k0_off1806 v6800) a + S1x1x1024.size a ≤ S1x2048x1024.size a := fun i v6800 k0_hw813 k0_h2 => k0_hw813.1 k0_h2
theorem k0_off1810_inb : ∀ (i : grid0.Coords) (v6800 : BitVec 32) (k0_hw813 : k0_chk813 i v6800), ∀ (k0_h2 : k0_cond2 i = 1#1), ∀ a, (k0_off1810 v6800) a + S1x1x1024.size a ≤ S1x2048x1024.size a := fun i v6800 k0_hw813 k0_h2 => k0_hw813.2 k0_h2

def k0_off1811 (v6801 : BitVec 32) : Fin 3 → Nat :=
  let c0_4486 : Index := 0#32
  let v6844 : Index := Scalar.indexCast v6801
  let c0_4487 : Index := 0#32
  ![0, v6844.toNat, 0]

def k0_chk814 (i : grid0.Coords) (v6801 : BitVec 32) : Prop :=
  (∀ (k0_h2 : k0_cond2 i = 1#1), ∀ a, (k0_off1807 v6801) a + S1x1x1024.size a ≤ S1x2048x1024.size a) ∧
  (∀ (k0_h2 : k0_cond2 i = 1#1), ∀ a, (k0_off1811 v6801) a + S1x1x1024.size a ≤ S1x2048x1024.size a)
theorem k0_off1807_inb : ∀ (i : grid0.Coords) (v6801 : BitVec 32) (k0_hw814 : k0_chk814 i v6801), ∀ (k0_h2 : k0_cond2 i = 1#1), ∀ a, (k0_off1807 v6801) a + S1x1x1024.size a ≤ S1x2048x1024.size a := fun i v6801 k0_hw814 k0_h2 => k0_hw814.1 k0_h2
theorem k0_off1811_inb : ∀ (i : grid0.Coords) (v6801 : BitVec 32) (k0_hw814 : k0_chk814 i v6801), ∀ (k0_h2 : k0_cond2 i = 1#1), ∀ a, (k0_off1811 v6801) a + S1x1x1024.size a ≤ S1x2048x1024.size a := fun i v6801 k0_hw814 k0_h2 => k0_hw814.2 k0_h2

def k0_off1812 (v6802 : BitVec 32) : Fin 3 → Nat :=
  let c0_4488 : Index := 0#32
  let v6848 : Index := Scalar.indexCast v6802
  let c0_4489 : Index := 0#32
  ![0, v6848.toNat, 0]

def k0_chk815 (i : grid0.Coords) (v6802 : BitVec 32) : Prop :=
  (∀ (k0_h2 : k0_cond2 i = 1#1), ∀ a, (k0_off1808 v6802) a + S1x1x1024.size a ≤ S1x2048x1024.size a) ∧
  (∀ (k0_h2 : k0_cond2 i = 1#1), ∀ a, (k0_off1812 v6802) a + S1x1x1024.size a ≤ S1x2048x1024.size a)
theorem k0_off1808_inb : ∀ (i : grid0.Coords) (v6802 : BitVec 32) (k0_hw815 : k0_chk815 i v6802), ∀ (k0_h2 : k0_cond2 i = 1#1), ∀ a, (k0_off1808 v6802) a + S1x1x1024.size a ≤ S1x2048x1024.size a := fun i v6802 k0_hw815 k0_h2 => k0_hw815.1 k0_h2
theorem k0_off1812_inb : ∀ (i : grid0.Coords) (v6802 : BitVec 32) (k0_hw815 : k0_chk815 i v6802), ∀ (k0_h2 : k0_cond2 i = 1#1), ∀ a, (k0_off1812 v6802) a + S1x1x1024.size a ≤ S1x2048x1024.size a := fun i v6802 k0_hw815 k0_h2 => k0_hw815.2 k0_h2

def k0_off1813 (v6856 : BitVec 32) : Fin 3 → Nat :=
  let c0_4504 : Index := 0#32
  let v6860 : Index := Scalar.indexCast v6856
  let c0_4505 : Index := 0#32
  ![0, v6860.toNat, 0]

def k0_off1814 (v6857 : BitVec 32) : Fin 3 → Nat :=
  let c0_4512 : Index := 0#32
  let v6869 : Index := Scalar.indexCast v6857
  let c0_4513 : Index := 0#32
  ![0, v6869.toNat, 0]

def k0_off1815 (v6858 : BitVec 32) : Fin 3 → Nat :=
  let c0_4520 : Index := 0#32
  let v6878 : Index := Scalar.indexCast v6858
  let c0_4521 : Index := 0#32
  ![0, v6878.toNat, 0]

def k0_off1816 (v6859 : BitVec 32) : Fin 3 → Nat :=
  let c0_4528 : Index := 0#32
  let v6887 : Index := Scalar.indexCast v6859
  let c0_4529 : Index := 0#32
  ![0, v6887.toNat, 0]

def k0_chk820 (i : grid0.Coords) (v6859 : BitVec 32) : Prop :=
  (∀ (k0_h2 : k0_cond2 i = 1#1), ∀ a, (k0_off1816 v6859) a + S1x1x1024.size a ≤ S1x2048x1024.size a)
theorem k0_off1816_inb : ∀ (i : grid0.Coords) (v6859 : BitVec 32) (k0_hw820 : k0_chk820 i v6859), ∀ (k0_h2 : k0_cond2 i = 1#1), ∀ a, (k0_off1816 v6859) a + S1x1x1024.size a ≤ S1x2048x1024.size a := fun i v6859 k0_hw820 k0_h2 => k0_hw820 k0_h2

def k0_off1817 (v6856 : BitVec 32) : Fin 3 → Nat :=
  let c0_4536 : Index := 0#32
  let v6896 : Index := Scalar.indexCast v6856
  let c0_4537 : Index := 0#32
  ![0, v6896.toNat, 0]

def k0_chk817 (i : grid0.Coords) (v6856 : BitVec 32) : Prop :=
  (∀ (k0_h2 : k0_cond2 i = 1#1), ∀ a, (k0_off1813 v6856) a + S1x1x1024.size a ≤ S1x2048x1024.size a) ∧
  (∀ (k0_h2 : k0_cond2 i = 1#1), ∀ a, (k0_off1817 v6856) a + S1x1x1024.size a ≤ S1x2048x1024.size a)
theorem k0_off1813_inb : ∀ (i : grid0.Coords) (v6856 : BitVec 32) (k0_hw817 : k0_chk817 i v6856), ∀ (k0_h2 : k0_cond2 i = 1#1), ∀ a, (k0_off1813 v6856) a + S1x1x1024.size a ≤ S1x2048x1024.size a := fun i v6856 k0_hw817 k0_h2 => k0_hw817.1 k0_h2
theorem k0_off1817_inb : ∀ (i : grid0.Coords) (v6856 : BitVec 32) (k0_hw817 : k0_chk817 i v6856), ∀ (k0_h2 : k0_cond2 i = 1#1), ∀ a, (k0_off1817 v6856) a + S1x1x1024.size a ≤ S1x2048x1024.size a := fun i v6856 k0_hw817 k0_h2 => k0_hw817.2 k0_h2

def k0_off1818 (v6857 : BitVec 32) : Fin 3 → Nat :=
  let c0_4538 : Index := 0#32
  let v6900 : Index := Scalar.indexCast v6857
  let c0_4539 : Index := 0#32
  ![0, v6900.toNat, 0]

def k0_chk818 (i : grid0.Coords) (v6857 : BitVec 32) : Prop :=
  (∀ (k0_h2 : k0_cond2 i = 1#1), ∀ a, (k0_off1814 v6857) a + S1x1x1024.size a ≤ S1x2048x1024.size a) ∧
  (∀ (k0_h2 : k0_cond2 i = 1#1), ∀ a, (k0_off1818 v6857) a + S1x1x1024.size a ≤ S1x2048x1024.size a)
theorem k0_off1814_inb : ∀ (i : grid0.Coords) (v6857 : BitVec 32) (k0_hw818 : k0_chk818 i v6857), ∀ (k0_h2 : k0_cond2 i = 1#1), ∀ a, (k0_off1814 v6857) a + S1x1x1024.size a ≤ S1x2048x1024.size a := fun i v6857 k0_hw818 k0_h2 => k0_hw818.1 k0_h2
theorem k0_off1818_inb : ∀ (i : grid0.Coords) (v6857 : BitVec 32) (k0_hw818 : k0_chk818 i v6857), ∀ (k0_h2 : k0_cond2 i = 1#1), ∀ a, (k0_off1818 v6857) a + S1x1x1024.size a ≤ S1x2048x1024.size a := fun i v6857 k0_hw818 k0_h2 => k0_hw818.2 k0_h2

def k0_off1819 (v6858 : BitVec 32) : Fin 3 → Nat :=
  let c0_4540 : Index := 0#32
  let v6904 : Index := Scalar.indexCast v6858
  let c0_4541 : Index := 0#32
  ![0, v6904.toNat, 0]

def k0_chk819 (i : grid0.Coords) (v6858 : BitVec 32) : Prop :=
  (∀ (k0_h2 : k0_cond2 i = 1#1), ∀ a, (k0_off1815 v6858) a + S1x1x1024.size a ≤ S1x2048x1024.size a) ∧
  (∀ (k0_h2 : k0_cond2 i = 1#1), ∀ a, (k0_off1819 v6858) a + S1x1x1024.size a ≤ S1x2048x1024.size a)
theorem k0_off1815_inb : ∀ (i : grid0.Coords) (v6858 : BitVec 32) (k0_hw819 : k0_chk819 i v6858), ∀ (k0_h2 : k0_cond2 i = 1#1), ∀ a, (k0_off1815 v6858) a + S1x1x1024.size a ≤ S1x2048x1024.size a := fun i v6858 k0_hw819 k0_h2 => k0_hw819.1 k0_h2
theorem k0_off1819_inb : ∀ (i : grid0.Coords) (v6858 : BitVec 32) (k0_hw819 : k0_chk819 i v6858), ∀ (k0_h2 : k0_cond2 i = 1#1), ∀ a, (k0_off1819 v6858) a + S1x1x1024.size a ≤ S1x2048x1024.size a := fun i v6858 k0_hw819 k0_h2 => k0_hw819.2 k0_h2

def k0_off1820 (v6912 : BitVec 32) : Fin 3 → Nat :=
  let c0_4556 : Index := 0#32
  let v6916 : Index := Scalar.indexCast v6912
  let c0_4557 : Index := 0#32
  ![0, v6916.toNat, 0]

def k0_off1821 (v6913 : BitVec 32) : Fin 3 → Nat :=
  let c0_4564 : Index := 0#32
  let v6925 : Index := Scalar.indexCast v6913
  let c0_4565 : Index := 0#32
  ![0, v6925.toNat, 0]

def k0_off1822 (v6914 : BitVec 32) : Fin 3 → Nat :=
  let c0_4572 : Index := 0#32
  let v6934 : Index := Scalar.indexCast v6914
  let c0_4573 : Index := 0#32
  ![0, v6934.toNat, 0]

def k0_off1823 (v6915 : BitVec 32) : Fin 3 → Nat :=
  let c0_4580 : Index := 0#32
  let v6943 : Index := Scalar.indexCast v6915
  let c0_4581 : Index := 0#32
  ![0, v6943.toNat, 0]

def k0_chk824 (i : grid0.Coords) (v6915 : BitVec 32) : Prop :=
  (∀ (k0_h2 : k0_cond2 i = 1#1), ∀ a, (k0_off1823 v6915) a + S1x1x1024.size a ≤ S1x2048x1024.size a)
theorem k0_off1823_inb : ∀ (i : grid0.Coords) (v6915 : BitVec 32) (k0_hw824 : k0_chk824 i v6915), ∀ (k0_h2 : k0_cond2 i = 1#1), ∀ a, (k0_off1823 v6915) a + S1x1x1024.size a ≤ S1x2048x1024.size a := fun i v6915 k0_hw824 k0_h2 => k0_hw824 k0_h2

def k0_off1824 (v6912 : BitVec 32) : Fin 3 → Nat :=
  let c0_4588 : Index := 0#32
  let v6952 : Index := Scalar.indexCast v6912
  let c0_4589 : Index := 0#32
  ![0, v6952.toNat, 0]

def k0_chk821 (i : grid0.Coords) (v6912 : BitVec 32) : Prop :=
  (∀ (k0_h2 : k0_cond2 i = 1#1), ∀ a, (k0_off1820 v6912) a + S1x1x1024.size a ≤ S1x2048x1024.size a) ∧
  (∀ (k0_h2 : k0_cond2 i = 1#1), ∀ a, (k0_off1824 v6912) a + S1x1x1024.size a ≤ S1x2048x1024.size a)
theorem k0_off1820_inb : ∀ (i : grid0.Coords) (v6912 : BitVec 32) (k0_hw821 : k0_chk821 i v6912), ∀ (k0_h2 : k0_cond2 i = 1#1), ∀ a, (k0_off1820 v6912) a + S1x1x1024.size a ≤ S1x2048x1024.size a := fun i v6912 k0_hw821 k0_h2 => k0_hw821.1 k0_h2
theorem k0_off1824_inb : ∀ (i : grid0.Coords) (v6912 : BitVec 32) (k0_hw821 : k0_chk821 i v6912), ∀ (k0_h2 : k0_cond2 i = 1#1), ∀ a, (k0_off1824 v6912) a + S1x1x1024.size a ≤ S1x2048x1024.size a := fun i v6912 k0_hw821 k0_h2 => k0_hw821.2 k0_h2

def k0_off1825 (v6913 : BitVec 32) : Fin 3 → Nat :=
  let c0_4590 : Index := 0#32
  let v6956 : Index := Scalar.indexCast v6913
  let c0_4591 : Index := 0#32
  ![0, v6956.toNat, 0]

def k0_chk822 (i : grid0.Coords) (v6913 : BitVec 32) : Prop :=
  (∀ (k0_h2 : k0_cond2 i = 1#1), ∀ a, (k0_off1821 v6913) a + S1x1x1024.size a ≤ S1x2048x1024.size a) ∧
  (∀ (k0_h2 : k0_cond2 i = 1#1), ∀ a, (k0_off1825 v6913) a + S1x1x1024.size a ≤ S1x2048x1024.size a)
theorem k0_off1821_inb : ∀ (i : grid0.Coords) (v6913 : BitVec 32) (k0_hw822 : k0_chk822 i v6913), ∀ (k0_h2 : k0_cond2 i = 1#1), ∀ a, (k0_off1821 v6913) a + S1x1x1024.size a ≤ S1x2048x1024.size a := fun i v6913 k0_hw822 k0_h2 => k0_hw822.1 k0_h2
theorem k0_off1825_inb : ∀ (i : grid0.Coords) (v6913 : BitVec 32) (k0_hw822 : k0_chk822 i v6913), ∀ (k0_h2 : k0_cond2 i = 1#1), ∀ a, (k0_off1825 v6913) a + S1x1x1024.size a ≤ S1x2048x1024.size a := fun i v6913 k0_hw822 k0_h2 => k0_hw822.2 k0_h2

def k0_off1826 (v6914 : BitVec 32) : Fin 3 → Nat :=
  let c0_4592 : Index := 0#32
  let v6960 : Index := Scalar.indexCast v6914
  let c0_4593 : Index := 0#32
  ![0, v6960.toNat, 0]

def k0_chk823 (i : grid0.Coords) (v6914 : BitVec 32) : Prop :=
  (∀ (k0_h2 : k0_cond2 i = 1#1), ∀ a, (k0_off1822 v6914) a + S1x1x1024.size a ≤ S1x2048x1024.size a) ∧
  (∀ (k0_h2 : k0_cond2 i = 1#1), ∀ a, (k0_off1826 v6914) a + S1x1x1024.size a ≤ S1x2048x1024.size a)
theorem k0_off1822_inb : ∀ (i : grid0.Coords) (v6914 : BitVec 32) (k0_hw823 : k0_chk823 i v6914), ∀ (k0_h2 : k0_cond2 i = 1#1), ∀ a, (k0_off1822 v6914) a + S1x1x1024.size a ≤ S1x2048x1024.size a := fun i v6914 k0_hw823 k0_h2 => k0_hw823.1 k0_h2
theorem k0_off1826_inb : ∀ (i : grid0.Coords) (v6914 : BitVec 32) (k0_hw823 : k0_chk823 i v6914), ∀ (k0_h2 : k0_cond2 i = 1#1), ∀ a, (k0_off1826 v6914) a + S1x1x1024.size a ≤ S1x2048x1024.size a := fun i v6914 k0_hw823 k0_h2 => k0_hw823.2 k0_h2

def k0_off1827 (v6968 : BitVec 32) : Fin 3 → Nat :=
  let c0_4608 : Index := 0#32
  let v6972 : Index := Scalar.indexCast v6968
  let c0_4609 : Index := 0#32
  ![0, v6972.toNat, 0]

def k0_off1828 (v6969 : BitVec 32) : Fin 3 → Nat :=
  let c0_4616 : Index := 0#32
  let v6981 : Index := Scalar.indexCast v6969
  let c0_4617 : Index := 0#32
  ![0, v6981.toNat, 0]

def k0_off1829 (v6970 : BitVec 32) : Fin 3 → Nat :=
  let c0_4624 : Index := 0#32
  let v6990 : Index := Scalar.indexCast v6970
  let c0_4625 : Index := 0#32
  ![0, v6990.toNat, 0]

def k0_off1830 (v6971 : BitVec 32) : Fin 3 → Nat :=
  let c0_4632 : Index := 0#32
  let v6999 : Index := Scalar.indexCast v6971
  let c0_4633 : Index := 0#32
  ![0, v6999.toNat, 0]

def k0_chk828 (i : grid0.Coords) (v6971 : BitVec 32) : Prop :=
  (∀ (k0_h2 : k0_cond2 i = 1#1), ∀ a, (k0_off1830 v6971) a + S1x1x1024.size a ≤ S1x2048x1024.size a)
theorem k0_off1830_inb : ∀ (i : grid0.Coords) (v6971 : BitVec 32) (k0_hw828 : k0_chk828 i v6971), ∀ (k0_h2 : k0_cond2 i = 1#1), ∀ a, (k0_off1830 v6971) a + S1x1x1024.size a ≤ S1x2048x1024.size a := fun i v6971 k0_hw828 k0_h2 => k0_hw828 k0_h2

def k0_off1831 (v6968 : BitVec 32) : Fin 3 → Nat :=
  let c0_4640 : Index := 0#32
  let v7008 : Index := Scalar.indexCast v6968
  let c0_4641 : Index := 0#32
  ![0, v7008.toNat, 0]

def k0_chk825 (i : grid0.Coords) (v6968 : BitVec 32) : Prop :=
  (∀ (k0_h2 : k0_cond2 i = 1#1), ∀ a, (k0_off1827 v6968) a + S1x1x1024.size a ≤ S1x2048x1024.size a) ∧
  (∀ (k0_h2 : k0_cond2 i = 1#1), ∀ a, (k0_off1831 v6968) a + S1x1x1024.size a ≤ S1x2048x1024.size a)
theorem k0_off1827_inb : ∀ (i : grid0.Coords) (v6968 : BitVec 32) (k0_hw825 : k0_chk825 i v6968), ∀ (k0_h2 : k0_cond2 i = 1#1), ∀ a, (k0_off1827 v6968) a + S1x1x1024.size a ≤ S1x2048x1024.size a := fun i v6968 k0_hw825 k0_h2 => k0_hw825.1 k0_h2
theorem k0_off1831_inb : ∀ (i : grid0.Coords) (v6968 : BitVec 32) (k0_hw825 : k0_chk825 i v6968), ∀ (k0_h2 : k0_cond2 i = 1#1), ∀ a, (k0_off1831 v6968) a + S1x1x1024.size a ≤ S1x2048x1024.size a := fun i v6968 k0_hw825 k0_h2 => k0_hw825.2 k0_h2

def k0_off1832 (v6969 : BitVec 32) : Fin 3 → Nat :=
  let c0_4642 : Index := 0#32
  let v7012 : Index := Scalar.indexCast v6969
  let c0_4643 : Index := 0#32
  ![0, v7012.toNat, 0]

def k0_chk826 (i : grid0.Coords) (v6969 : BitVec 32) : Prop :=
  (∀ (k0_h2 : k0_cond2 i = 1#1), ∀ a, (k0_off1828 v6969) a + S1x1x1024.size a ≤ S1x2048x1024.size a) ∧
  (∀ (k0_h2 : k0_cond2 i = 1#1), ∀ a, (k0_off1832 v6969) a + S1x1x1024.size a ≤ S1x2048x1024.size a)
theorem k0_off1828_inb : ∀ (i : grid0.Coords) (v6969 : BitVec 32) (k0_hw826 : k0_chk826 i v6969), ∀ (k0_h2 : k0_cond2 i = 1#1), ∀ a, (k0_off1828 v6969) a + S1x1x1024.size a ≤ S1x2048x1024.size a := fun i v6969 k0_hw826 k0_h2 => k0_hw826.1 k0_h2
theorem k0_off1832_inb : ∀ (i : grid0.Coords) (v6969 : BitVec 32) (k0_hw826 : k0_chk826 i v6969), ∀ (k0_h2 : k0_cond2 i = 1#1), ∀ a, (k0_off1832 v6969) a + S1x1x1024.size a ≤ S1x2048x1024.size a := fun i v6969 k0_hw826 k0_h2 => k0_hw826.2 k0_h2

def k0_off1833 (v6970 : BitVec 32) : Fin 3 → Nat :=
  let c0_4644 : Index := 0#32
  let v7016 : Index := Scalar.indexCast v6970
  let c0_4645 : Index := 0#32
  ![0, v7016.toNat, 0]

def k0_chk827 (i : grid0.Coords) (v6970 : BitVec 32) : Prop :=
  (∀ (k0_h2 : k0_cond2 i = 1#1), ∀ a, (k0_off1829 v6970) a + S1x1x1024.size a ≤ S1x2048x1024.size a) ∧
  (∀ (k0_h2 : k0_cond2 i = 1#1), ∀ a, (k0_off1833 v6970) a + S1x1x1024.size a ≤ S1x2048x1024.size a)
theorem k0_off1829_inb : ∀ (i : grid0.Coords) (v6970 : BitVec 32) (k0_hw827 : k0_chk827 i v6970), ∀ (k0_h2 : k0_cond2 i = 1#1), ∀ a, (k0_off1829 v6970) a + S1x1x1024.size a ≤ S1x2048x1024.size a := fun i v6970 k0_hw827 k0_h2 => k0_hw827.1 k0_h2
theorem k0_off1833_inb : ∀ (i : grid0.Coords) (v6970 : BitVec 32) (k0_hw827 : k0_chk827 i v6970), ∀ (k0_h2 : k0_cond2 i = 1#1), ∀ a, (k0_off1833 v6970) a + S1x1x1024.size a ≤ S1x2048x1024.size a := fun i v6970 k0_hw827 k0_h2 => k0_hw827.2 k0_h2

def k0_off1834 (v7024 : BitVec 32) : Fin 3 → Nat :=
  let c0_4660 : Index := 0#32
  let v7028 : Index := Scalar.indexCast v7024
  let c0_4661 : Index := 0#32
  ![0, v7028.toNat, 0]

def k0_off1835 (v7025 : BitVec 32) : Fin 3 → Nat :=
  let c0_4668 : Index := 0#32
  let v7037 : Index := Scalar.indexCast v7025
  let c0_4669 : Index := 0#32
  ![0, v7037.toNat, 0]

def k0_off1836 (v7026 : BitVec 32) : Fin 3 → Nat :=
  let c0_4676 : Index := 0#32
  let v7046 : Index := Scalar.indexCast v7026
  let c0_4677 : Index := 0#32
  ![0, v7046.toNat, 0]

def k0_off1837 (v7027 : BitVec 32) : Fin 3 → Nat :=
  let c0_4684 : Index := 0#32
  let v7055 : Index := Scalar.indexCast v7027
  let c0_4685 : Index := 0#32
  ![0, v7055.toNat, 0]

def k0_chk832 (i : grid0.Coords) (v7027 : BitVec 32) : Prop :=
  (∀ (k0_h2 : k0_cond2 i = 1#1), ∀ a, (k0_off1837 v7027) a + S1x1x1024.size a ≤ S1x2048x1024.size a)
theorem k0_off1837_inb : ∀ (i : grid0.Coords) (v7027 : BitVec 32) (k0_hw832 : k0_chk832 i v7027), ∀ (k0_h2 : k0_cond2 i = 1#1), ∀ a, (k0_off1837 v7027) a + S1x1x1024.size a ≤ S1x2048x1024.size a := fun i v7027 k0_hw832 k0_h2 => k0_hw832 k0_h2

def k0_off1838 (v7024 : BitVec 32) : Fin 3 → Nat :=
  let c0_4692 : Index := 0#32
  let v7064 : Index := Scalar.indexCast v7024
  let c0_4693 : Index := 0#32
  ![0, v7064.toNat, 0]

def k0_chk829 (i : grid0.Coords) (v7024 : BitVec 32) : Prop :=
  (∀ (k0_h2 : k0_cond2 i = 1#1), ∀ a, (k0_off1834 v7024) a + S1x1x1024.size a ≤ S1x2048x1024.size a) ∧
  (∀ (k0_h2 : k0_cond2 i = 1#1), ∀ a, (k0_off1838 v7024) a + S1x1x1024.size a ≤ S1x2048x1024.size a)
theorem k0_off1834_inb : ∀ (i : grid0.Coords) (v7024 : BitVec 32) (k0_hw829 : k0_chk829 i v7024), ∀ (k0_h2 : k0_cond2 i = 1#1), ∀ a, (k0_off1834 v7024) a + S1x1x1024.size a ≤ S1x2048x1024.size a := fun i v7024 k0_hw829 k0_h2 => k0_hw829.1 k0_h2
theorem k0_off1838_inb : ∀ (i : grid0.Coords) (v7024 : BitVec 32) (k0_hw829 : k0_chk829 i v7024), ∀ (k0_h2 : k0_cond2 i = 1#1), ∀ a, (k0_off1838 v7024) a + S1x1x1024.size a ≤ S1x2048x1024.size a := fun i v7024 k0_hw829 k0_h2 => k0_hw829.2 k0_h2

def k0_off1839 (v7025 : BitVec 32) : Fin 3 → Nat :=
  let c0_4694 : Index := 0#32
  let v7068 : Index := Scalar.indexCast v7025
  let c0_4695 : Index := 0#32
  ![0, v7068.toNat, 0]

def k0_chk830 (i : grid0.Coords) (v7025 : BitVec 32) : Prop :=
  (∀ (k0_h2 : k0_cond2 i = 1#1), ∀ a, (k0_off1835 v7025) a + S1x1x1024.size a ≤ S1x2048x1024.size a) ∧
  (∀ (k0_h2 : k0_cond2 i = 1#1), ∀ a, (k0_off1839 v7025) a + S1x1x1024.size a ≤ S1x2048x1024.size a)
theorem k0_off1835_inb : ∀ (i : grid0.Coords) (v7025 : BitVec 32) (k0_hw830 : k0_chk830 i v7025), ∀ (k0_h2 : k0_cond2 i = 1#1), ∀ a, (k0_off1835 v7025) a + S1x1x1024.size a ≤ S1x2048x1024.size a := fun i v7025 k0_hw830 k0_h2 => k0_hw830.1 k0_h2
theorem k0_off1839_inb : ∀ (i : grid0.Coords) (v7025 : BitVec 32) (k0_hw830 : k0_chk830 i v7025), ∀ (k0_h2 : k0_cond2 i = 1#1), ∀ a, (k0_off1839 v7025) a + S1x1x1024.size a ≤ S1x2048x1024.size a := fun i v7025 k0_hw830 k0_h2 => k0_hw830.2 k0_h2

def k0_off1840 (v7026 : BitVec 32) : Fin 3 → Nat :=
  let c0_4696 : Index := 0#32
  let v7072 : Index := Scalar.indexCast v7026
  let c0_4697 : Index := 0#32
  ![0, v7072.toNat, 0]

def k0_chk831 (i : grid0.Coords) (v7026 : BitVec 32) : Prop :=
  (∀ (k0_h2 : k0_cond2 i = 1#1), ∀ a, (k0_off1836 v7026) a + S1x1x1024.size a ≤ S1x2048x1024.size a) ∧
  (∀ (k0_h2 : k0_cond2 i = 1#1), ∀ a, (k0_off1840 v7026) a + S1x1x1024.size a ≤ S1x2048x1024.size a)
theorem k0_off1836_inb : ∀ (i : grid0.Coords) (v7026 : BitVec 32) (k0_hw831 : k0_chk831 i v7026), ∀ (k0_h2 : k0_cond2 i = 1#1), ∀ a, (k0_off1836 v7026) a + S1x1x1024.size a ≤ S1x2048x1024.size a := fun i v7026 k0_hw831 k0_h2 => k0_hw831.1 k0_h2
theorem k0_off1840_inb : ∀ (i : grid0.Coords) (v7026 : BitVec 32) (k0_hw831 : k0_chk831 i v7026), ∀ (k0_h2 : k0_cond2 i = 1#1), ∀ a, (k0_off1840 v7026) a + S1x1x1024.size a ≤ S1x2048x1024.size a := fun i v7026 k0_hw831 k0_h2 => k0_hw831.2 k0_h2

def k0_off1841 (v7080 : BitVec 32) : Fin 3 → Nat :=
  let c0_4712 : Index := 0#32
  let v7084 : Index := Scalar.indexCast v7080
  let c0_4713 : Index := 0#32
  ![0, v7084.toNat, 0]

def k0_off1842 (v7081 : BitVec 32) : Fin 3 → Nat :=
  let c0_4720 : Index := 0#32
  let v7093 : Index := Scalar.indexCast v7081
  let c0_4721 : Index := 0#32
  ![0, v7093.toNat, 0]

def k0_off1843 (v7082 : BitVec 32) : Fin 3 → Nat :=
  let c0_4728 : Index := 0#32
  let v7102 : Index := Scalar.indexCast v7082
  let c0_4729 : Index := 0#32
  ![0, v7102.toNat, 0]

def k0_off1844 (v7083 : BitVec 32) : Fin 3 → Nat :=
  let c0_4736 : Index := 0#32
  let v7111 : Index := Scalar.indexCast v7083
  let c0_4737 : Index := 0#32
  ![0, v7111.toNat, 0]

def k0_chk836 (i : grid0.Coords) (v7083 : BitVec 32) : Prop :=
  (∀ (k0_h2 : k0_cond2 i = 1#1), ∀ a, (k0_off1844 v7083) a + S1x1x1024.size a ≤ S1x2048x1024.size a)
theorem k0_off1844_inb : ∀ (i : grid0.Coords) (v7083 : BitVec 32) (k0_hw836 : k0_chk836 i v7083), ∀ (k0_h2 : k0_cond2 i = 1#1), ∀ a, (k0_off1844 v7083) a + S1x1x1024.size a ≤ S1x2048x1024.size a := fun i v7083 k0_hw836 k0_h2 => k0_hw836 k0_h2

def k0_off1845 (v7080 : BitVec 32) : Fin 3 → Nat :=
  let c0_4744 : Index := 0#32
  let v7120 : Index := Scalar.indexCast v7080
  let c0_4745 : Index := 0#32
  ![0, v7120.toNat, 0]

def k0_chk833 (i : grid0.Coords) (v7080 : BitVec 32) : Prop :=
  (∀ (k0_h2 : k0_cond2 i = 1#1), ∀ a, (k0_off1841 v7080) a + S1x1x1024.size a ≤ S1x2048x1024.size a) ∧
  (∀ (k0_h2 : k0_cond2 i = 1#1), ∀ a, (k0_off1845 v7080) a + S1x1x1024.size a ≤ S1x2048x1024.size a)
theorem k0_off1841_inb : ∀ (i : grid0.Coords) (v7080 : BitVec 32) (k0_hw833 : k0_chk833 i v7080), ∀ (k0_h2 : k0_cond2 i = 1#1), ∀ a, (k0_off1841 v7080) a + S1x1x1024.size a ≤ S1x2048x1024.size a := fun i v7080 k0_hw833 k0_h2 => k0_hw833.1 k0_h2
theorem k0_off1845_inb : ∀ (i : grid0.Coords) (v7080 : BitVec 32) (k0_hw833 : k0_chk833 i v7080), ∀ (k0_h2 : k0_cond2 i = 1#1), ∀ a, (k0_off1845 v7080) a + S1x1x1024.size a ≤ S1x2048x1024.size a := fun i v7080 k0_hw833 k0_h2 => k0_hw833.2 k0_h2

def k0_off1846 (v7081 : BitVec 32) : Fin 3 → Nat :=
  let c0_4746 : Index := 0#32
  let v7124 : Index := Scalar.indexCast v7081
  let c0_4747 : Index := 0#32
  ![0, v7124.toNat, 0]

def k0_chk834 (i : grid0.Coords) (v7081 : BitVec 32) : Prop :=
  (∀ (k0_h2 : k0_cond2 i = 1#1), ∀ a, (k0_off1842 v7081) a + S1x1x1024.size a ≤ S1x2048x1024.size a) ∧
  (∀ (k0_h2 : k0_cond2 i = 1#1), ∀ a, (k0_off1846 v7081) a + S1x1x1024.size a ≤ S1x2048x1024.size a)
theorem k0_off1842_inb : ∀ (i : grid0.Coords) (v7081 : BitVec 32) (k0_hw834 : k0_chk834 i v7081), ∀ (k0_h2 : k0_cond2 i = 1#1), ∀ a, (k0_off1842 v7081) a + S1x1x1024.size a ≤ S1x2048x1024.size a := fun i v7081 k0_hw834 k0_h2 => k0_hw834.1 k0_h2
theorem k0_off1846_inb : ∀ (i : grid0.Coords) (v7081 : BitVec 32) (k0_hw834 : k0_chk834 i v7081), ∀ (k0_h2 : k0_cond2 i = 1#1), ∀ a, (k0_off1846 v7081) a + S1x1x1024.size a ≤ S1x2048x1024.size a := fun i v7081 k0_hw834 k0_h2 => k0_hw834.2 k0_h2

def k0_off1847 (v7082 : BitVec 32) : Fin 3 → Nat :=
  let c0_4748 : Index := 0#32
  let v7128 : Index := Scalar.indexCast v7082
  let c0_4749 : Index := 0#32
  ![0, v7128.toNat, 0]

def k0_chk835 (i : grid0.Coords) (v7082 : BitVec 32) : Prop :=
  (∀ (k0_h2 : k0_cond2 i = 1#1), ∀ a, (k0_off1843 v7082) a + S1x1x1024.size a ≤ S1x2048x1024.size a) ∧
  (∀ (k0_h2 : k0_cond2 i = 1#1), ∀ a, (k0_off1847 v7082) a + S1x1x1024.size a ≤ S1x2048x1024.size a)
theorem k0_off1843_inb : ∀ (i : grid0.Coords) (v7082 : BitVec 32) (k0_hw835 : k0_chk835 i v7082), ∀ (k0_h2 : k0_cond2 i = 1#1), ∀ a, (k0_off1843 v7082) a + S1x1x1024.size a ≤ S1x2048x1024.size a := fun i v7082 k0_hw835 k0_h2 => k0_hw835.1 k0_h2
theorem k0_off1847_inb : ∀ (i : grid0.Coords) (v7082 : BitVec 32) (k0_hw835 : k0_chk835 i v7082), ∀ (k0_h2 : k0_cond2 i = 1#1), ∀ a, (k0_off1847 v7082) a + S1x1x1024.size a ≤ S1x2048x1024.size a := fun i v7082 k0_hw835 k0_h2 => k0_hw835.2 k0_h2

def k0_off1848 (v7136 : BitVec 32) : Fin 3 → Nat :=
  let c0_4764 : Index := 0#32
  let v7140 : Index := Scalar.indexCast v7136
  let c0_4765 : Index := 0#32
  ![0, v7140.toNat, 0]

def k0_off1849 (v7137 : BitVec 32) : Fin 3 → Nat :=
  let c0_4772 : Index := 0#32
  let v7149 : Index := Scalar.indexCast v7137
  let c0_4773 : Index := 0#32
  ![0, v7149.toNat, 0]

def k0_off1850 (v7138 : BitVec 32) : Fin 3 → Nat :=
  let c0_4780 : Index := 0#32
  let v7158 : Index := Scalar.indexCast v7138
  let c0_4781 : Index := 0#32
  ![0, v7158.toNat, 0]

def k0_off1851 (v7139 : BitVec 32) : Fin 3 → Nat :=
  let c0_4788 : Index := 0#32
  let v7167 : Index := Scalar.indexCast v7139
  let c0_4789 : Index := 0#32
  ![0, v7167.toNat, 0]

def k0_chk840 (i : grid0.Coords) (v7139 : BitVec 32) : Prop :=
  (∀ (k0_h2 : k0_cond2 i = 1#1), ∀ a, (k0_off1851 v7139) a + S1x1x1024.size a ≤ S1x2048x1024.size a)
theorem k0_off1851_inb : ∀ (i : grid0.Coords) (v7139 : BitVec 32) (k0_hw840 : k0_chk840 i v7139), ∀ (k0_h2 : k0_cond2 i = 1#1), ∀ a, (k0_off1851 v7139) a + S1x1x1024.size a ≤ S1x2048x1024.size a := fun i v7139 k0_hw840 k0_h2 => k0_hw840 k0_h2

def k0_off1852 (v7136 : BitVec 32) : Fin 3 → Nat :=
  let c0_4796 : Index := 0#32
  let v7176 : Index := Scalar.indexCast v7136
  let c0_4797 : Index := 0#32
  ![0, v7176.toNat, 0]

def k0_chk837 (i : grid0.Coords) (v7136 : BitVec 32) : Prop :=
  (∀ (k0_h2 : k0_cond2 i = 1#1), ∀ a, (k0_off1848 v7136) a + S1x1x1024.size a ≤ S1x2048x1024.size a) ∧
  (∀ (k0_h2 : k0_cond2 i = 1#1), ∀ a, (k0_off1852 v7136) a + S1x1x1024.size a ≤ S1x2048x1024.size a)
theorem k0_off1848_inb : ∀ (i : grid0.Coords) (v7136 : BitVec 32) (k0_hw837 : k0_chk837 i v7136), ∀ (k0_h2 : k0_cond2 i = 1#1), ∀ a, (k0_off1848 v7136) a + S1x1x1024.size a ≤ S1x2048x1024.size a := fun i v7136 k0_hw837 k0_h2 => k0_hw837.1 k0_h2
theorem k0_off1852_inb : ∀ (i : grid0.Coords) (v7136 : BitVec 32) (k0_hw837 : k0_chk837 i v7136), ∀ (k0_h2 : k0_cond2 i = 1#1), ∀ a, (k0_off1852 v7136) a + S1x1x1024.size a ≤ S1x2048x1024.size a := fun i v7136 k0_hw837 k0_h2 => k0_hw837.2 k0_h2

def k0_off1853 (v7137 : BitVec 32) : Fin 3 → Nat :=
  let c0_4798 : Index := 0#32
  let v7180 : Index := Scalar.indexCast v7137
  let c0_4799 : Index := 0#32
  ![0, v7180.toNat, 0]

def k0_chk838 (i : grid0.Coords) (v7137 : BitVec 32) : Prop :=
  (∀ (k0_h2 : k0_cond2 i = 1#1), ∀ a, (k0_off1849 v7137) a + S1x1x1024.size a ≤ S1x2048x1024.size a) ∧
  (∀ (k0_h2 : k0_cond2 i = 1#1), ∀ a, (k0_off1853 v7137) a + S1x1x1024.size a ≤ S1x2048x1024.size a)
theorem k0_off1849_inb : ∀ (i : grid0.Coords) (v7137 : BitVec 32) (k0_hw838 : k0_chk838 i v7137), ∀ (k0_h2 : k0_cond2 i = 1#1), ∀ a, (k0_off1849 v7137) a + S1x1x1024.size a ≤ S1x2048x1024.size a := fun i v7137 k0_hw838 k0_h2 => k0_hw838.1 k0_h2
theorem k0_off1853_inb : ∀ (i : grid0.Coords) (v7137 : BitVec 32) (k0_hw838 : k0_chk838 i v7137), ∀ (k0_h2 : k0_cond2 i = 1#1), ∀ a, (k0_off1853 v7137) a + S1x1x1024.size a ≤ S1x2048x1024.size a := fun i v7137 k0_hw838 k0_h2 => k0_hw838.2 k0_h2

def k0_off1854 (v7138 : BitVec 32) : Fin 3 → Nat :=
  let c0_4800 : Index := 0#32
  let v7184 : Index := Scalar.indexCast v7138
  let c0_4801 : Index := 0#32
  ![0, v7184.toNat, 0]

def k0_chk839 (i : grid0.Coords) (v7138 : BitVec 32) : Prop :=
  (∀ (k0_h2 : k0_cond2 i = 1#1), ∀ a, (k0_off1850 v7138) a + S1x1x1024.size a ≤ S1x2048x1024.size a) ∧
  (∀ (k0_h2 : k0_cond2 i = 1#1), ∀ a, (k0_off1854 v7138) a + S1x1x1024.size a ≤ S1x2048x1024.size a)
theorem k0_off1850_inb : ∀ (i : grid0.Coords) (v7138 : BitVec 32) (k0_hw839 : k0_chk839 i v7138), ∀ (k0_h2 : k0_cond2 i = 1#1), ∀ a, (k0_off1850 v7138) a + S1x1x1024.size a ≤ S1x2048x1024.size a := fun i v7138 k0_hw839 k0_h2 => k0_hw839.1 k0_h2
theorem k0_off1854_inb : ∀ (i : grid0.Coords) (v7138 : BitVec 32) (k0_hw839 : k0_chk839 i v7138), ∀ (k0_h2 : k0_cond2 i = 1#1), ∀ a, (k0_off1854 v7138) a + S1x1x1024.size a ≤ S1x2048x1024.size a := fun i v7138 k0_hw839 k0_h2 => k0_hw839.2 k0_h2

def k0_off1855 (v7192 : BitVec 32) : Fin 3 → Nat :=
  let c0_4816 : Index := 0#32
  let v7196 : Index := Scalar.indexCast v7192
  let c0_4817 : Index := 0#32
  ![0, v7196.toNat, 0]

def k0_off1856 (v7193 : BitVec 32) : Fin 3 → Nat :=
  let c0_4824 : Index := 0#32
  let v7205 : Index := Scalar.indexCast v7193
  let c0_4825 : Index := 0#32
  ![0, v7205.toNat, 0]

def k0_off1857 (v7194 : BitVec 32) : Fin 3 → Nat :=
  let c0_4832 : Index := 0#32
  let v7214 : Index := Scalar.indexCast v7194
  let c0_4833 : Index := 0#32
  ![0, v7214.toNat, 0]

def k0_off1858 (v7195 : BitVec 32) : Fin 3 → Nat :=
  let c0_4840 : Index := 0#32
  let v7223 : Index := Scalar.indexCast v7195
  let c0_4841 : Index := 0#32
  ![0, v7223.toNat, 0]

def k0_chk844 (i : grid0.Coords) (v7195 : BitVec 32) : Prop :=
  (∀ (k0_h2 : k0_cond2 i = 1#1), ∀ a, (k0_off1858 v7195) a + S1x1x1024.size a ≤ S1x2048x1024.size a)
theorem k0_off1858_inb : ∀ (i : grid0.Coords) (v7195 : BitVec 32) (k0_hw844 : k0_chk844 i v7195), ∀ (k0_h2 : k0_cond2 i = 1#1), ∀ a, (k0_off1858 v7195) a + S1x1x1024.size a ≤ S1x2048x1024.size a := fun i v7195 k0_hw844 k0_h2 => k0_hw844 k0_h2

def k0_off1859 (v7192 : BitVec 32) : Fin 3 → Nat :=
  let c0_4848 : Index := 0#32
  let v7232 : Index := Scalar.indexCast v7192
  let c0_4849 : Index := 0#32
  ![0, v7232.toNat, 0]

def k0_chk841 (i : grid0.Coords) (v7192 : BitVec 32) : Prop :=
  (∀ (k0_h2 : k0_cond2 i = 1#1), ∀ a, (k0_off1855 v7192) a + S1x1x1024.size a ≤ S1x2048x1024.size a) ∧
  (∀ (k0_h2 : k0_cond2 i = 1#1), ∀ a, (k0_off1859 v7192) a + S1x1x1024.size a ≤ S1x2048x1024.size a)
theorem k0_off1855_inb : ∀ (i : grid0.Coords) (v7192 : BitVec 32) (k0_hw841 : k0_chk841 i v7192), ∀ (k0_h2 : k0_cond2 i = 1#1), ∀ a, (k0_off1855 v7192) a + S1x1x1024.size a ≤ S1x2048x1024.size a := fun i v7192 k0_hw841 k0_h2 => k0_hw841.1 k0_h2
theorem k0_off1859_inb : ∀ (i : grid0.Coords) (v7192 : BitVec 32) (k0_hw841 : k0_chk841 i v7192), ∀ (k0_h2 : k0_cond2 i = 1#1), ∀ a, (k0_off1859 v7192) a + S1x1x1024.size a ≤ S1x2048x1024.size a := fun i v7192 k0_hw841 k0_h2 => k0_hw841.2 k0_h2

def k0_off1860 (v7193 : BitVec 32) : Fin 3 → Nat :=
  let c0_4850 : Index := 0#32
  let v7236 : Index := Scalar.indexCast v7193
  let c0_4851 : Index := 0#32
  ![0, v7236.toNat, 0]

def k0_chk842 (i : grid0.Coords) (v7193 : BitVec 32) : Prop :=
  (∀ (k0_h2 : k0_cond2 i = 1#1), ∀ a, (k0_off1856 v7193) a + S1x1x1024.size a ≤ S1x2048x1024.size a) ∧
  (∀ (k0_h2 : k0_cond2 i = 1#1), ∀ a, (k0_off1860 v7193) a + S1x1x1024.size a ≤ S1x2048x1024.size a)
theorem k0_off1856_inb : ∀ (i : grid0.Coords) (v7193 : BitVec 32) (k0_hw842 : k0_chk842 i v7193), ∀ (k0_h2 : k0_cond2 i = 1#1), ∀ a, (k0_off1856 v7193) a + S1x1x1024.size a ≤ S1x2048x1024.size a := fun i v7193 k0_hw842 k0_h2 => k0_hw842.1 k0_h2
theorem k0_off1860_inb : ∀ (i : grid0.Coords) (v7193 : BitVec 32) (k0_hw842 : k0_chk842 i v7193), ∀ (k0_h2 : k0_cond2 i = 1#1), ∀ a, (k0_off1860 v7193) a + S1x1x1024.size a ≤ S1x2048x1024.size a := fun i v7193 k0_hw842 k0_h2 => k0_hw842.2 k0_h2

def k0_off1861 (v7194 : BitVec 32) : Fin 3 → Nat :=
  let c0_4852 : Index := 0#32
  let v7240 : Index := Scalar.indexCast v7194
  let c0_4853 : Index := 0#32
  ![0, v7240.toNat, 0]

def k0_chk843 (i : grid0.Coords) (v7194 : BitVec 32) : Prop :=
  (∀ (k0_h2 : k0_cond2 i = 1#1), ∀ a, (k0_off1857 v7194) a + S1x1x1024.size a ≤ S1x2048x1024.size a) ∧
  (∀ (k0_h2 : k0_cond2 i = 1#1), ∀ a, (k0_off1861 v7194) a + S1x1x1024.size a ≤ S1x2048x1024.size a)
theorem k0_off1857_inb : ∀ (i : grid0.Coords) (v7194 : BitVec 32) (k0_hw843 : k0_chk843 i v7194), ∀ (k0_h2 : k0_cond2 i = 1#1), ∀ a, (k0_off1857 v7194) a + S1x1x1024.size a ≤ S1x2048x1024.size a := fun i v7194 k0_hw843 k0_h2 => k0_hw843.1 k0_h2
theorem k0_off1861_inb : ∀ (i : grid0.Coords) (v7194 : BitVec 32) (k0_hw843 : k0_chk843 i v7194), ∀ (k0_h2 : k0_cond2 i = 1#1), ∀ a, (k0_off1861 v7194) a + S1x1x1024.size a ≤ S1x2048x1024.size a := fun i v7194 k0_hw843 k0_h2 => k0_hw843.2 k0_h2

def k0_off1862 (v7248 : BitVec 32) : Fin 3 → Nat :=
  let c0_4868 : Index := 0#32
  let v7252 : Index := Scalar.indexCast v7248
  let c0_4869 : Index := 0#32
  ![0, v7252.toNat, 0]

def k0_off1863 (v7249 : BitVec 32) : Fin 3 → Nat :=
  let c0_4876 : Index := 0#32
  let v7261 : Index := Scalar.indexCast v7249
  let c0_4877 : Index := 0#32
  ![0, v7261.toNat, 0]

def k0_off1864 (v7250 : BitVec 32) : Fin 3 → Nat :=
  let c0_4884 : Index := 0#32
  let v7270 : Index := Scalar.indexCast v7250
  let c0_4885 : Index := 0#32
  ![0, v7270.toNat, 0]

def k0_off1865 (v7251 : BitVec 32) : Fin 3 → Nat :=
  let c0_4892 : Index := 0#32
  let v7279 : Index := Scalar.indexCast v7251
  let c0_4893 : Index := 0#32
  ![0, v7279.toNat, 0]

def k0_chk848 (i : grid0.Coords) (v7251 : BitVec 32) : Prop :=
  (∀ (k0_h2 : k0_cond2 i = 1#1), ∀ a, (k0_off1865 v7251) a + S1x1x1024.size a ≤ S1x2048x1024.size a)
theorem k0_off1865_inb : ∀ (i : grid0.Coords) (v7251 : BitVec 32) (k0_hw848 : k0_chk848 i v7251), ∀ (k0_h2 : k0_cond2 i = 1#1), ∀ a, (k0_off1865 v7251) a + S1x1x1024.size a ≤ S1x2048x1024.size a := fun i v7251 k0_hw848 k0_h2 => k0_hw848 k0_h2

def k0_off1866 (v7248 : BitVec 32) : Fin 3 → Nat :=
  let c0_4900 : Index := 0#32
  let v7288 : Index := Scalar.indexCast v7248
  let c0_4901 : Index := 0#32
  ![0, v7288.toNat, 0]

def k0_chk845 (i : grid0.Coords) (v7248 : BitVec 32) : Prop :=
  (∀ (k0_h2 : k0_cond2 i = 1#1), ∀ a, (k0_off1862 v7248) a + S1x1x1024.size a ≤ S1x2048x1024.size a) ∧
  (∀ (k0_h2 : k0_cond2 i = 1#1), ∀ a, (k0_off1866 v7248) a + S1x1x1024.size a ≤ S1x2048x1024.size a)
theorem k0_off1862_inb : ∀ (i : grid0.Coords) (v7248 : BitVec 32) (k0_hw845 : k0_chk845 i v7248), ∀ (k0_h2 : k0_cond2 i = 1#1), ∀ a, (k0_off1862 v7248) a + S1x1x1024.size a ≤ S1x2048x1024.size a := fun i v7248 k0_hw845 k0_h2 => k0_hw845.1 k0_h2
theorem k0_off1866_inb : ∀ (i : grid0.Coords) (v7248 : BitVec 32) (k0_hw845 : k0_chk845 i v7248), ∀ (k0_h2 : k0_cond2 i = 1#1), ∀ a, (k0_off1866 v7248) a + S1x1x1024.size a ≤ S1x2048x1024.size a := fun i v7248 k0_hw845 k0_h2 => k0_hw845.2 k0_h2

def k0_off1867 (v7249 : BitVec 32) : Fin 3 → Nat :=
  let c0_4902 : Index := 0#32
  let v7292 : Index := Scalar.indexCast v7249
  let c0_4903 : Index := 0#32
  ![0, v7292.toNat, 0]

def k0_chk846 (i : grid0.Coords) (v7249 : BitVec 32) : Prop :=
  (∀ (k0_h2 : k0_cond2 i = 1#1), ∀ a, (k0_off1863 v7249) a + S1x1x1024.size a ≤ S1x2048x1024.size a) ∧
  (∀ (k0_h2 : k0_cond2 i = 1#1), ∀ a, (k0_off1867 v7249) a + S1x1x1024.size a ≤ S1x2048x1024.size a)
theorem k0_off1863_inb : ∀ (i : grid0.Coords) (v7249 : BitVec 32) (k0_hw846 : k0_chk846 i v7249), ∀ (k0_h2 : k0_cond2 i = 1#1), ∀ a, (k0_off1863 v7249) a + S1x1x1024.size a ≤ S1x2048x1024.size a := fun i v7249 k0_hw846 k0_h2 => k0_hw846.1 k0_h2
theorem k0_off1867_inb : ∀ (i : grid0.Coords) (v7249 : BitVec 32) (k0_hw846 : k0_chk846 i v7249), ∀ (k0_h2 : k0_cond2 i = 1#1), ∀ a, (k0_off1867 v7249) a + S1x1x1024.size a ≤ S1x2048x1024.size a := fun i v7249 k0_hw846 k0_h2 => k0_hw846.2 k0_h2

def k0_off1868 (v7250 : BitVec 32) : Fin 3 → Nat :=
  let c0_4904 : Index := 0#32
  let v7296 : Index := Scalar.indexCast v7250
  let c0_4905 : Index := 0#32
  ![0, v7296.toNat, 0]

def k0_chk847 (i : grid0.Coords) (v7250 : BitVec 32) : Prop :=
  (∀ (k0_h2 : k0_cond2 i = 1#1), ∀ a, (k0_off1864 v7250) a + S1x1x1024.size a ≤ S1x2048x1024.size a) ∧
  (∀ (k0_h2 : k0_cond2 i = 1#1), ∀ a, (k0_off1868 v7250) a + S1x1x1024.size a ≤ S1x2048x1024.size a)
theorem k0_off1864_inb : ∀ (i : grid0.Coords) (v7250 : BitVec 32) (k0_hw847 : k0_chk847 i v7250), ∀ (k0_h2 : k0_cond2 i = 1#1), ∀ a, (k0_off1864 v7250) a + S1x1x1024.size a ≤ S1x2048x1024.size a := fun i v7250 k0_hw847 k0_h2 => k0_hw847.1 k0_h2
theorem k0_off1868_inb : ∀ (i : grid0.Coords) (v7250 : BitVec 32) (k0_hw847 : k0_chk847 i v7250), ∀ (k0_h2 : k0_cond2 i = 1#1), ∀ a, (k0_off1868 v7250) a + S1x1x1024.size a ≤ S1x2048x1024.size a := fun i v7250 k0_hw847 k0_h2 => k0_hw847.2 k0_h2

def k0_off1869 (v7304 : BitVec 32) : Fin 3 → Nat :=
  let c0_4920 : Index := 0#32
  let v7308 : Index := Scalar.indexCast v7304
  let c0_4921 : Index := 0#32
  ![0, v7308.toNat, 0]

def k0_off1870 (v7305 : BitVec 32) : Fin 3 → Nat :=
  let c0_4928 : Index := 0#32
  let v7317 : Index := Scalar.indexCast v7305
  let c0_4929 : Index := 0#32
  ![0, v7317.toNat, 0]

def k0_off1871 (v7306 : BitVec 32) : Fin 3 → Nat :=
  let c0_4936 : Index := 0#32
  let v7326 : Index := Scalar.indexCast v7306
  let c0_4937 : Index := 0#32
  ![0, v7326.toNat, 0]

def k0_off1872 (v7307 : BitVec 32) : Fin 3 → Nat :=
  let c0_4944 : Index := 0#32
  let v7335 : Index := Scalar.indexCast v7307
  let c0_4945 : Index := 0#32
  ![0, v7335.toNat, 0]

def k0_chk852 (i : grid0.Coords) (v7307 : BitVec 32) : Prop :=
  (∀ (k0_h2 : k0_cond2 i = 1#1), ∀ a, (k0_off1872 v7307) a + S1x1x1024.size a ≤ S1x2048x1024.size a)
theorem k0_off1872_inb : ∀ (i : grid0.Coords) (v7307 : BitVec 32) (k0_hw852 : k0_chk852 i v7307), ∀ (k0_h2 : k0_cond2 i = 1#1), ∀ a, (k0_off1872 v7307) a + S1x1x1024.size a ≤ S1x2048x1024.size a := fun i v7307 k0_hw852 k0_h2 => k0_hw852 k0_h2

def k0_off1873 (v7304 : BitVec 32) : Fin 3 → Nat :=
  let c0_4952 : Index := 0#32
  let v7344 : Index := Scalar.indexCast v7304
  let c0_4953 : Index := 0#32
  ![0, v7344.toNat, 0]

def k0_chk849 (i : grid0.Coords) (v7304 : BitVec 32) : Prop :=
  (∀ (k0_h2 : k0_cond2 i = 1#1), ∀ a, (k0_off1869 v7304) a + S1x1x1024.size a ≤ S1x2048x1024.size a) ∧
  (∀ (k0_h2 : k0_cond2 i = 1#1), ∀ a, (k0_off1873 v7304) a + S1x1x1024.size a ≤ S1x2048x1024.size a)
theorem k0_off1869_inb : ∀ (i : grid0.Coords) (v7304 : BitVec 32) (k0_hw849 : k0_chk849 i v7304), ∀ (k0_h2 : k0_cond2 i = 1#1), ∀ a, (k0_off1869 v7304) a + S1x1x1024.size a ≤ S1x2048x1024.size a := fun i v7304 k0_hw849 k0_h2 => k0_hw849.1 k0_h2
theorem k0_off1873_inb : ∀ (i : grid0.Coords) (v7304 : BitVec 32) (k0_hw849 : k0_chk849 i v7304), ∀ (k0_h2 : k0_cond2 i = 1#1), ∀ a, (k0_off1873 v7304) a + S1x1x1024.size a ≤ S1x2048x1024.size a := fun i v7304 k0_hw849 k0_h2 => k0_hw849.2 k0_h2

def k0_off1874 (v7305 : BitVec 32) : Fin 3 → Nat :=
  let c0_4954 : Index := 0#32
  let v7348 : Index := Scalar.indexCast v7305
  let c0_4955 : Index := 0#32
  ![0, v7348.toNat, 0]

def k0_chk850 (i : grid0.Coords) (v7305 : BitVec 32) : Prop :=
  (∀ (k0_h2 : k0_cond2 i = 1#1), ∀ a, (k0_off1870 v7305) a + S1x1x1024.size a ≤ S1x2048x1024.size a) ∧
  (∀ (k0_h2 : k0_cond2 i = 1#1), ∀ a, (k0_off1874 v7305) a + S1x1x1024.size a ≤ S1x2048x1024.size a)
theorem k0_off1870_inb : ∀ (i : grid0.Coords) (v7305 : BitVec 32) (k0_hw850 : k0_chk850 i v7305), ∀ (k0_h2 : k0_cond2 i = 1#1), ∀ a, (k0_off1870 v7305) a + S1x1x1024.size a ≤ S1x2048x1024.size a := fun i v7305 k0_hw850 k0_h2 => k0_hw850.1 k0_h2
theorem k0_off1874_inb : ∀ (i : grid0.Coords) (v7305 : BitVec 32) (k0_hw850 : k0_chk850 i v7305), ∀ (k0_h2 : k0_cond2 i = 1#1), ∀ a, (k0_off1874 v7305) a + S1x1x1024.size a ≤ S1x2048x1024.size a := fun i v7305 k0_hw850 k0_h2 => k0_hw850.2 k0_h2

def k0_off1875 (v7306 : BitVec 32) : Fin 3 → Nat :=
  let c0_4956 : Index := 0#32
  let v7352 : Index := Scalar.indexCast v7306
  let c0_4957 : Index := 0#32
  ![0, v7352.toNat, 0]

def k0_chk851 (i : grid0.Coords) (v7306 : BitVec 32) : Prop :=
  (∀ (k0_h2 : k0_cond2 i = 1#1), ∀ a, (k0_off1871 v7306) a + S1x1x1024.size a ≤ S1x2048x1024.size a) ∧
  (∀ (k0_h2 : k0_cond2 i = 1#1), ∀ a, (k0_off1875 v7306) a + S1x1x1024.size a ≤ S1x2048x1024.size a)
theorem k0_off1871_inb : ∀ (i : grid0.Coords) (v7306 : BitVec 32) (k0_hw851 : k0_chk851 i v7306), ∀ (k0_h2 : k0_cond2 i = 1#1), ∀ a, (k0_off1871 v7306) a + S1x1x1024.size a ≤ S1x2048x1024.size a := fun i v7306 k0_hw851 k0_h2 => k0_hw851.1 k0_h2
theorem k0_off1875_inb : ∀ (i : grid0.Coords) (v7306 : BitVec 32) (k0_hw851 : k0_chk851 i v7306), ∀ (k0_h2 : k0_cond2 i = 1#1), ∀ a, (k0_off1875 v7306) a + S1x1x1024.size a ≤ S1x2048x1024.size a := fun i v7306 k0_hw851 k0_h2 => k0_hw851.2 k0_h2

def k0_off1876 (v7360 : BitVec 32) : Fin 3 → Nat :=
  let c0_4972 : Index := 0#32
  let v7364 : Index := Scalar.indexCast v7360
  let c0_4973 : Index := 0#32
  ![0, v7364.toNat, 0]

def k0_off1877 (v7361 : BitVec 32) : Fin 3 → Nat :=
  let c0_4980 : Index := 0#32
  let v7373 : Index := Scalar.indexCast v7361
  let c0_4981 : Index := 0#32
  ![0, v7373.toNat, 0]

def k0_off1878 (v7362 : BitVec 32) : Fin 3 → Nat :=
  let c0_4988 : Index := 0#32
  let v7382 : Index := Scalar.indexCast v7362
  let c0_4989 : Index := 0#32
  ![0, v7382.toNat, 0]

def k0_off1879 (v7363 : BitVec 32) : Fin 3 → Nat :=
  let c0_4996 : Index := 0#32
  let v7391 : Index := Scalar.indexCast v7363
  let c0_4997 : Index := 0#32
  ![0, v7391.toNat, 0]

def k0_chk856 (i : grid0.Coords) (v7363 : BitVec 32) : Prop :=
  (∀ (k0_h2 : k0_cond2 i = 1#1), ∀ a, (k0_off1879 v7363) a + S1x1x1024.size a ≤ S1x2048x1024.size a)
theorem k0_off1879_inb : ∀ (i : grid0.Coords) (v7363 : BitVec 32) (k0_hw856 : k0_chk856 i v7363), ∀ (k0_h2 : k0_cond2 i = 1#1), ∀ a, (k0_off1879 v7363) a + S1x1x1024.size a ≤ S1x2048x1024.size a := fun i v7363 k0_hw856 k0_h2 => k0_hw856 k0_h2

def k0_off1880 (v7360 : BitVec 32) : Fin 3 → Nat :=
  let c0_5004 : Index := 0#32
  let v7400 : Index := Scalar.indexCast v7360
  let c0_5005 : Index := 0#32
  ![0, v7400.toNat, 0]

def k0_chk853 (i : grid0.Coords) (v7360 : BitVec 32) : Prop :=
  (∀ (k0_h2 : k0_cond2 i = 1#1), ∀ a, (k0_off1876 v7360) a + S1x1x1024.size a ≤ S1x2048x1024.size a) ∧
  (∀ (k0_h2 : k0_cond2 i = 1#1), ∀ a, (k0_off1880 v7360) a + S1x1x1024.size a ≤ S1x2048x1024.size a)
theorem k0_off1876_inb : ∀ (i : grid0.Coords) (v7360 : BitVec 32) (k0_hw853 : k0_chk853 i v7360), ∀ (k0_h2 : k0_cond2 i = 1#1), ∀ a, (k0_off1876 v7360) a + S1x1x1024.size a ≤ S1x2048x1024.size a := fun i v7360 k0_hw853 k0_h2 => k0_hw853.1 k0_h2
theorem k0_off1880_inb : ∀ (i : grid0.Coords) (v7360 : BitVec 32) (k0_hw853 : k0_chk853 i v7360), ∀ (k0_h2 : k0_cond2 i = 1#1), ∀ a, (k0_off1880 v7360) a + S1x1x1024.size a ≤ S1x2048x1024.size a := fun i v7360 k0_hw853 k0_h2 => k0_hw853.2 k0_h2

def k0_off1881 (v7361 : BitVec 32) : Fin 3 → Nat :=
  let c0_5006 : Index := 0#32
  let v7404 : Index := Scalar.indexCast v7361
  let c0_5007 : Index := 0#32
  ![0, v7404.toNat, 0]

def k0_chk854 (i : grid0.Coords) (v7361 : BitVec 32) : Prop :=
  (∀ (k0_h2 : k0_cond2 i = 1#1), ∀ a, (k0_off1877 v7361) a + S1x1x1024.size a ≤ S1x2048x1024.size a) ∧
  (∀ (k0_h2 : k0_cond2 i = 1#1), ∀ a, (k0_off1881 v7361) a + S1x1x1024.size a ≤ S1x2048x1024.size a)
theorem k0_off1877_inb : ∀ (i : grid0.Coords) (v7361 : BitVec 32) (k0_hw854 : k0_chk854 i v7361), ∀ (k0_h2 : k0_cond2 i = 1#1), ∀ a, (k0_off1877 v7361) a + S1x1x1024.size a ≤ S1x2048x1024.size a := fun i v7361 k0_hw854 k0_h2 => k0_hw854.1 k0_h2
theorem k0_off1881_inb : ∀ (i : grid0.Coords) (v7361 : BitVec 32) (k0_hw854 : k0_chk854 i v7361), ∀ (k0_h2 : k0_cond2 i = 1#1), ∀ a, (k0_off1881 v7361) a + S1x1x1024.size a ≤ S1x2048x1024.size a := fun i v7361 k0_hw854 k0_h2 => k0_hw854.2 k0_h2

def k0_off1882 (v7362 : BitVec 32) : Fin 3 → Nat :=
  let c0_5008 : Index := 0#32
  let v7408 : Index := Scalar.indexCast v7362
  let c0_5009 : Index := 0#32
  ![0, v7408.toNat, 0]

def k0_chk855 (i : grid0.Coords) (v7362 : BitVec 32) : Prop :=
  (∀ (k0_h2 : k0_cond2 i = 1#1), ∀ a, (k0_off1878 v7362) a + S1x1x1024.size a ≤ S1x2048x1024.size a) ∧
  (∀ (k0_h2 : k0_cond2 i = 1#1), ∀ a, (k0_off1882 v7362) a + S1x1x1024.size a ≤ S1x2048x1024.size a)
theorem k0_off1878_inb : ∀ (i : grid0.Coords) (v7362 : BitVec 32) (k0_hw855 : k0_chk855 i v7362), ∀ (k0_h2 : k0_cond2 i = 1#1), ∀ a, (k0_off1878 v7362) a + S1x1x1024.size a ≤ S1x2048x1024.size a := fun i v7362 k0_hw855 k0_h2 => k0_hw855.1 k0_h2
theorem k0_off1882_inb : ∀ (i : grid0.Coords) (v7362 : BitVec 32) (k0_hw855 : k0_chk855 i v7362), ∀ (k0_h2 : k0_cond2 i = 1#1), ∀ a, (k0_off1882 v7362) a + S1x1x1024.size a ≤ S1x2048x1024.size a := fun i v7362 k0_hw855 k0_h2 => k0_hw855.2 k0_h2

def k0_off1883 (v7416 : BitVec 32) : Fin 3 → Nat :=
  let c0_5024 : Index := 0#32
  let v7420 : Index := Scalar.indexCast v7416
  let c0_5025 : Index := 0#32
  ![0, v7420.toNat, 0]

def k0_off1884 (v7417 : BitVec 32) : Fin 3 → Nat :=
  let c0_5032 : Index := 0#32
  let v7429 : Index := Scalar.indexCast v7417
  let c0_5033 : Index := 0#32
  ![0, v7429.toNat, 0]

def k0_off1885 (v7418 : BitVec 32) : Fin 3 → Nat :=
  let c0_5040 : Index := 0#32
  let v7438 : Index := Scalar.indexCast v7418
  let c0_5041 : Index := 0#32
  ![0, v7438.toNat, 0]

def k0_off1886 (v7419 : BitVec 32) : Fin 3 → Nat :=
  let c0_5048 : Index := 0#32
  let v7447 : Index := Scalar.indexCast v7419
  let c0_5049 : Index := 0#32
  ![0, v7447.toNat, 0]

def k0_chk860 (i : grid0.Coords) (v7419 : BitVec 32) : Prop :=
  (∀ (k0_h2 : k0_cond2 i = 1#1), ∀ a, (k0_off1886 v7419) a + S1x1x1024.size a ≤ S1x2048x1024.size a)
theorem k0_off1886_inb : ∀ (i : grid0.Coords) (v7419 : BitVec 32) (k0_hw860 : k0_chk860 i v7419), ∀ (k0_h2 : k0_cond2 i = 1#1), ∀ a, (k0_off1886 v7419) a + S1x1x1024.size a ≤ S1x2048x1024.size a := fun i v7419 k0_hw860 k0_h2 => k0_hw860 k0_h2

def k0_off1887 (v7416 : BitVec 32) : Fin 3 → Nat :=
  let c0_5056 : Index := 0#32
  let v7456 : Index := Scalar.indexCast v7416
  let c0_5057 : Index := 0#32
  ![0, v7456.toNat, 0]

def k0_chk857 (i : grid0.Coords) (v7416 : BitVec 32) : Prop :=
  (∀ (k0_h2 : k0_cond2 i = 1#1), ∀ a, (k0_off1883 v7416) a + S1x1x1024.size a ≤ S1x2048x1024.size a) ∧
  (∀ (k0_h2 : k0_cond2 i = 1#1), ∀ a, (k0_off1887 v7416) a + S1x1x1024.size a ≤ S1x2048x1024.size a)
theorem k0_off1883_inb : ∀ (i : grid0.Coords) (v7416 : BitVec 32) (k0_hw857 : k0_chk857 i v7416), ∀ (k0_h2 : k0_cond2 i = 1#1), ∀ a, (k0_off1883 v7416) a + S1x1x1024.size a ≤ S1x2048x1024.size a := fun i v7416 k0_hw857 k0_h2 => k0_hw857.1 k0_h2
theorem k0_off1887_inb : ∀ (i : grid0.Coords) (v7416 : BitVec 32) (k0_hw857 : k0_chk857 i v7416), ∀ (k0_h2 : k0_cond2 i = 1#1), ∀ a, (k0_off1887 v7416) a + S1x1x1024.size a ≤ S1x2048x1024.size a := fun i v7416 k0_hw857 k0_h2 => k0_hw857.2 k0_h2

def k0_off1888 (v7417 : BitVec 32) : Fin 3 → Nat :=
  let c0_5058 : Index := 0#32
  let v7460 : Index := Scalar.indexCast v7417
  let c0_5059 : Index := 0#32
  ![0, v7460.toNat, 0]

def k0_chk858 (i : grid0.Coords) (v7417 : BitVec 32) : Prop :=
  (∀ (k0_h2 : k0_cond2 i = 1#1), ∀ a, (k0_off1884 v7417) a + S1x1x1024.size a ≤ S1x2048x1024.size a) ∧
  (∀ (k0_h2 : k0_cond2 i = 1#1), ∀ a, (k0_off1888 v7417) a + S1x1x1024.size a ≤ S1x2048x1024.size a)
theorem k0_off1884_inb : ∀ (i : grid0.Coords) (v7417 : BitVec 32) (k0_hw858 : k0_chk858 i v7417), ∀ (k0_h2 : k0_cond2 i = 1#1), ∀ a, (k0_off1884 v7417) a + S1x1x1024.size a ≤ S1x2048x1024.size a := fun i v7417 k0_hw858 k0_h2 => k0_hw858.1 k0_h2
theorem k0_off1888_inb : ∀ (i : grid0.Coords) (v7417 : BitVec 32) (k0_hw858 : k0_chk858 i v7417), ∀ (k0_h2 : k0_cond2 i = 1#1), ∀ a, (k0_off1888 v7417) a + S1x1x1024.size a ≤ S1x2048x1024.size a := fun i v7417 k0_hw858 k0_h2 => k0_hw858.2 k0_h2

def k0_off1889 (v7418 : BitVec 32) : Fin 3 → Nat :=
  let c0_5060 : Index := 0#32
  let v7464 : Index := Scalar.indexCast v7418
  let c0_5061 : Index := 0#32
  ![0, v7464.toNat, 0]

def k0_chk859 (i : grid0.Coords) (v7418 : BitVec 32) : Prop :=
  (∀ (k0_h2 : k0_cond2 i = 1#1), ∀ a, (k0_off1885 v7418) a + S1x1x1024.size a ≤ S1x2048x1024.size a) ∧
  (∀ (k0_h2 : k0_cond2 i = 1#1), ∀ a, (k0_off1889 v7418) a + S1x1x1024.size a ≤ S1x2048x1024.size a)
theorem k0_off1885_inb : ∀ (i : grid0.Coords) (v7418 : BitVec 32) (k0_hw859 : k0_chk859 i v7418), ∀ (k0_h2 : k0_cond2 i = 1#1), ∀ a, (k0_off1885 v7418) a + S1x1x1024.size a ≤ S1x2048x1024.size a := fun i v7418 k0_hw859 k0_h2 => k0_hw859.1 k0_h2
theorem k0_off1889_inb : ∀ (i : grid0.Coords) (v7418 : BitVec 32) (k0_hw859 : k0_chk859 i v7418), ∀ (k0_h2 : k0_cond2 i = 1#1), ∀ a, (k0_off1889 v7418) a + S1x1x1024.size a ≤ S1x2048x1024.size a := fun i v7418 k0_hw859 k0_h2 => k0_hw859.2 k0_h2

def k0_off1890 (v7472 : BitVec 32) : Fin 3 → Nat :=
  let c0_5076 : Index := 0#32
  let v7476 : Index := Scalar.indexCast v7472
  let c0_5077 : Index := 0#32
  ![0, v7476.toNat, 0]

def k0_off1891 (v7473 : BitVec 32) : Fin 3 → Nat :=
  let c0_5084 : Index := 0#32
  let v7485 : Index := Scalar.indexCast v7473
  let c0_5085 : Index := 0#32
  ![0, v7485.toNat, 0]

def k0_off1892 (v7474 : BitVec 32) : Fin 3 → Nat :=
  let c0_5092 : Index := 0#32
  let v7494 : Index := Scalar.indexCast v7474
  let c0_5093 : Index := 0#32
  ![0, v7494.toNat, 0]

def k0_off1893 (v7475 : BitVec 32) : Fin 3 → Nat :=
  let c0_5100 : Index := 0#32
  let v7503 : Index := Scalar.indexCast v7475
  let c0_5101 : Index := 0#32
  ![0, v7503.toNat, 0]

def k0_chk864 (i : grid0.Coords) (v7475 : BitVec 32) : Prop :=
  (∀ (k0_h2 : k0_cond2 i = 1#1), ∀ a, (k0_off1893 v7475) a + S1x1x1024.size a ≤ S1x2048x1024.size a)
theorem k0_off1893_inb : ∀ (i : grid0.Coords) (v7475 : BitVec 32) (k0_hw864 : k0_chk864 i v7475), ∀ (k0_h2 : k0_cond2 i = 1#1), ∀ a, (k0_off1893 v7475) a + S1x1x1024.size a ≤ S1x2048x1024.size a := fun i v7475 k0_hw864 k0_h2 => k0_hw864 k0_h2

def k0_off1894 (v7472 : BitVec 32) : Fin 3 → Nat :=
  let c0_5108 : Index := 0#32
  let v7512 : Index := Scalar.indexCast v7472
  let c0_5109 : Index := 0#32
  ![0, v7512.toNat, 0]

def k0_chk861 (i : grid0.Coords) (v7472 : BitVec 32) : Prop :=
  (∀ (k0_h2 : k0_cond2 i = 1#1), ∀ a, (k0_off1890 v7472) a + S1x1x1024.size a ≤ S1x2048x1024.size a) ∧
  (∀ (k0_h2 : k0_cond2 i = 1#1), ∀ a, (k0_off1894 v7472) a + S1x1x1024.size a ≤ S1x2048x1024.size a)
theorem k0_off1890_inb : ∀ (i : grid0.Coords) (v7472 : BitVec 32) (k0_hw861 : k0_chk861 i v7472), ∀ (k0_h2 : k0_cond2 i = 1#1), ∀ a, (k0_off1890 v7472) a + S1x1x1024.size a ≤ S1x2048x1024.size a := fun i v7472 k0_hw861 k0_h2 => k0_hw861.1 k0_h2
theorem k0_off1894_inb : ∀ (i : grid0.Coords) (v7472 : BitVec 32) (k0_hw861 : k0_chk861 i v7472), ∀ (k0_h2 : k0_cond2 i = 1#1), ∀ a, (k0_off1894 v7472) a + S1x1x1024.size a ≤ S1x2048x1024.size a := fun i v7472 k0_hw861 k0_h2 => k0_hw861.2 k0_h2

def k0_off1895 (v7473 : BitVec 32) : Fin 3 → Nat :=
  let c0_5110 : Index := 0#32
  let v7516 : Index := Scalar.indexCast v7473
  let c0_5111 : Index := 0#32
  ![0, v7516.toNat, 0]

def k0_chk862 (i : grid0.Coords) (v7473 : BitVec 32) : Prop :=
  (∀ (k0_h2 : k0_cond2 i = 1#1), ∀ a, (k0_off1891 v7473) a + S1x1x1024.size a ≤ S1x2048x1024.size a) ∧
  (∀ (k0_h2 : k0_cond2 i = 1#1), ∀ a, (k0_off1895 v7473) a + S1x1x1024.size a ≤ S1x2048x1024.size a)
theorem k0_off1891_inb : ∀ (i : grid0.Coords) (v7473 : BitVec 32) (k0_hw862 : k0_chk862 i v7473), ∀ (k0_h2 : k0_cond2 i = 1#1), ∀ a, (k0_off1891 v7473) a + S1x1x1024.size a ≤ S1x2048x1024.size a := fun i v7473 k0_hw862 k0_h2 => k0_hw862.1 k0_h2
theorem k0_off1895_inb : ∀ (i : grid0.Coords) (v7473 : BitVec 32) (k0_hw862 : k0_chk862 i v7473), ∀ (k0_h2 : k0_cond2 i = 1#1), ∀ a, (k0_off1895 v7473) a + S1x1x1024.size a ≤ S1x2048x1024.size a := fun i v7473 k0_hw862 k0_h2 => k0_hw862.2 k0_h2

def k0_off1896 (v7474 : BitVec 32) : Fin 3 → Nat :=
  let c0_5112 : Index := 0#32
  let v7520 : Index := Scalar.indexCast v7474
  let c0_5113 : Index := 0#32
  ![0, v7520.toNat, 0]

def k0_chk863 (i : grid0.Coords) (v7474 : BitVec 32) : Prop :=
  (∀ (k0_h2 : k0_cond2 i = 1#1), ∀ a, (k0_off1892 v7474) a + S1x1x1024.size a ≤ S1x2048x1024.size a) ∧
  (∀ (k0_h2 : k0_cond2 i = 1#1), ∀ a, (k0_off1896 v7474) a + S1x1x1024.size a ≤ S1x2048x1024.size a)
theorem k0_off1892_inb : ∀ (i : grid0.Coords) (v7474 : BitVec 32) (k0_hw863 : k0_chk863 i v7474), ∀ (k0_h2 : k0_cond2 i = 1#1), ∀ a, (k0_off1892 v7474) a + S1x1x1024.size a ≤ S1x2048x1024.size a := fun i v7474 k0_hw863 k0_h2 => k0_hw863.1 k0_h2
theorem k0_off1896_inb : ∀ (i : grid0.Coords) (v7474 : BitVec 32) (k0_hw863 : k0_chk863 i v7474), ∀ (k0_h2 : k0_cond2 i = 1#1), ∀ a, (k0_off1896 v7474) a + S1x1x1024.size a ≤ S1x2048x1024.size a := fun i v7474 k0_hw863 k0_h2 => k0_hw863.2 k0_h2

def k0_off1897 (v7528 : BitVec 32) : Fin 3 → Nat :=
  let c0_5128 : Index := 0#32
  let v7532 : Index := Scalar.indexCast v7528
  let c0_5129 : Index := 0#32
  ![0, v7532.toNat, 0]

def k0_off1898 (v7529 : BitVec 32) : Fin 3 → Nat :=
  let c0_5136 : Index := 0#32
  let v7541 : Index := Scalar.indexCast v7529
  let c0_5137 : Index := 0#32
  ![0, v7541.toNat, 0]

def k0_off1899 (v7530 : BitVec 32) : Fin 3 → Nat :=
  let c0_5144 : Index := 0#32
  let v7550 : Index := Scalar.indexCast v7530
  let c0_5145 : Index := 0#32
  ![0, v7550.toNat, 0]

def k0_off1900 (v7531 : BitVec 32) : Fin 3 → Nat :=
  let c0_5152 : Index := 0#32
  let v7559 : Index := Scalar.indexCast v7531
  let c0_5153 : Index := 0#32
  ![0, v7559.toNat, 0]

def k0_chk868 (i : grid0.Coords) (v7531 : BitVec 32) : Prop :=
  (∀ (k0_h2 : k0_cond2 i = 1#1), ∀ a, (k0_off1900 v7531) a + S1x1x1024.size a ≤ S1x2048x1024.size a)
theorem k0_off1900_inb : ∀ (i : grid0.Coords) (v7531 : BitVec 32) (k0_hw868 : k0_chk868 i v7531), ∀ (k0_h2 : k0_cond2 i = 1#1), ∀ a, (k0_off1900 v7531) a + S1x1x1024.size a ≤ S1x2048x1024.size a := fun i v7531 k0_hw868 k0_h2 => k0_hw868 k0_h2

def k0_off1901 (v7528 : BitVec 32) : Fin 3 → Nat :=
  let c0_5160 : Index := 0#32
  let v7568 : Index := Scalar.indexCast v7528
  let c0_5161 : Index := 0#32
  ![0, v7568.toNat, 0]

def k0_chk865 (i : grid0.Coords) (v7528 : BitVec 32) : Prop :=
  (∀ (k0_h2 : k0_cond2 i = 1#1), ∀ a, (k0_off1897 v7528) a + S1x1x1024.size a ≤ S1x2048x1024.size a) ∧
  (∀ (k0_h2 : k0_cond2 i = 1#1), ∀ a, (k0_off1901 v7528) a + S1x1x1024.size a ≤ S1x2048x1024.size a)
theorem k0_off1897_inb : ∀ (i : grid0.Coords) (v7528 : BitVec 32) (k0_hw865 : k0_chk865 i v7528), ∀ (k0_h2 : k0_cond2 i = 1#1), ∀ a, (k0_off1897 v7528) a + S1x1x1024.size a ≤ S1x2048x1024.size a := fun i v7528 k0_hw865 k0_h2 => k0_hw865.1 k0_h2
theorem k0_off1901_inb : ∀ (i : grid0.Coords) (v7528 : BitVec 32) (k0_hw865 : k0_chk865 i v7528), ∀ (k0_h2 : k0_cond2 i = 1#1), ∀ a, (k0_off1901 v7528) a + S1x1x1024.size a ≤ S1x2048x1024.size a := fun i v7528 k0_hw865 k0_h2 => k0_hw865.2 k0_h2

def k0_off1902 (v7529 : BitVec 32) : Fin 3 → Nat :=
  let c0_5162 : Index := 0#32
  let v7572 : Index := Scalar.indexCast v7529
  let c0_5163 : Index := 0#32
  ![0, v7572.toNat, 0]

def k0_chk866 (i : grid0.Coords) (v7529 : BitVec 32) : Prop :=
  (∀ (k0_h2 : k0_cond2 i = 1#1), ∀ a, (k0_off1898 v7529) a + S1x1x1024.size a ≤ S1x2048x1024.size a) ∧
  (∀ (k0_h2 : k0_cond2 i = 1#1), ∀ a, (k0_off1902 v7529) a + S1x1x1024.size a ≤ S1x2048x1024.size a)
theorem k0_off1898_inb : ∀ (i : grid0.Coords) (v7529 : BitVec 32) (k0_hw866 : k0_chk866 i v7529), ∀ (k0_h2 : k0_cond2 i = 1#1), ∀ a, (k0_off1898 v7529) a + S1x1x1024.size a ≤ S1x2048x1024.size a := fun i v7529 k0_hw866 k0_h2 => k0_hw866.1 k0_h2
theorem k0_off1902_inb : ∀ (i : grid0.Coords) (v7529 : BitVec 32) (k0_hw866 : k0_chk866 i v7529), ∀ (k0_h2 : k0_cond2 i = 1#1), ∀ a, (k0_off1902 v7529) a + S1x1x1024.size a ≤ S1x2048x1024.size a := fun i v7529 k0_hw866 k0_h2 => k0_hw866.2 k0_h2

def k0_off1903 (v7530 : BitVec 32) : Fin 3 → Nat :=
  let c0_5164 : Index := 0#32
  let v7576 : Index := Scalar.indexCast v7530
  let c0_5165 : Index := 0#32
  ![0, v7576.toNat, 0]

def k0_chk867 (i : grid0.Coords) (v7530 : BitVec 32) : Prop :=
  (∀ (k0_h2 : k0_cond2 i = 1#1), ∀ a, (k0_off1899 v7530) a + S1x1x1024.size a ≤ S1x2048x1024.size a) ∧
  (∀ (k0_h2 : k0_cond2 i = 1#1), ∀ a, (k0_off1903 v7530) a + S1x1x1024.size a ≤ S1x2048x1024.size a)
theorem k0_off1899_inb : ∀ (i : grid0.Coords) (v7530 : BitVec 32) (k0_hw867 : k0_chk867 i v7530), ∀ (k0_h2 : k0_cond2 i = 1#1), ∀ a, (k0_off1899 v7530) a + S1x1x1024.size a ≤ S1x2048x1024.size a := fun i v7530 k0_hw867 k0_h2 => k0_hw867.1 k0_h2
theorem k0_off1903_inb : ∀ (i : grid0.Coords) (v7530 : BitVec 32) (k0_hw867 : k0_chk867 i v7530), ∀ (k0_h2 : k0_cond2 i = 1#1), ∀ a, (k0_off1903 v7530) a + S1x1x1024.size a ≤ S1x2048x1024.size a := fun i v7530 k0_hw867 k0_h2 => k0_hw867.2 k0_h2

def k0_off1904 (v7584 : BitVec 32) : Fin 3 → Nat :=
  let c0_5180 : Index := 0#32
  let v7588 : Index := Scalar.indexCast v7584
  let c0_5181 : Index := 0#32
  ![0, v7588.toNat, 0]

def k0_off1905 (v7585 : BitVec 32) : Fin 3 → Nat :=
  let c0_5188 : Index := 0#32
  let v7597 : Index := Scalar.indexCast v7585
  let c0_5189 : Index := 0#32
  ![0, v7597.toNat, 0]

def k0_off1906 (v7586 : BitVec 32) : Fin 3 → Nat :=
  let c0_5196 : Index := 0#32
  let v7606 : Index := Scalar.indexCast v7586
  let c0_5197 : Index := 0#32
  ![0, v7606.toNat, 0]

def k0_off1907 (v7587 : BitVec 32) : Fin 3 → Nat :=
  let c0_5204 : Index := 0#32
  let v7615 : Index := Scalar.indexCast v7587
  let c0_5205 : Index := 0#32
  ![0, v7615.toNat, 0]

def k0_chk872 (i : grid0.Coords) (v7587 : BitVec 32) : Prop :=
  (∀ (k0_h2 : k0_cond2 i = 1#1), ∀ a, (k0_off1907 v7587) a + S1x1x1024.size a ≤ S1x2048x1024.size a)
theorem k0_off1907_inb : ∀ (i : grid0.Coords) (v7587 : BitVec 32) (k0_hw872 : k0_chk872 i v7587), ∀ (k0_h2 : k0_cond2 i = 1#1), ∀ a, (k0_off1907 v7587) a + S1x1x1024.size a ≤ S1x2048x1024.size a := fun i v7587 k0_hw872 k0_h2 => k0_hw872 k0_h2

def k0_off1908 (v7584 : BitVec 32) : Fin 3 → Nat :=
  let c0_5212 : Index := 0#32
  let v7624 : Index := Scalar.indexCast v7584
  let c0_5213 : Index := 0#32
  ![0, v7624.toNat, 0]

def k0_chk869 (i : grid0.Coords) (v7584 : BitVec 32) : Prop :=
  (∀ (k0_h2 : k0_cond2 i = 1#1), ∀ a, (k0_off1904 v7584) a + S1x1x1024.size a ≤ S1x2048x1024.size a) ∧
  (∀ (k0_h2 : k0_cond2 i = 1#1), ∀ a, (k0_off1908 v7584) a + S1x1x1024.size a ≤ S1x2048x1024.size a)
theorem k0_off1904_inb : ∀ (i : grid0.Coords) (v7584 : BitVec 32) (k0_hw869 : k0_chk869 i v7584), ∀ (k0_h2 : k0_cond2 i = 1#1), ∀ a, (k0_off1904 v7584) a + S1x1x1024.size a ≤ S1x2048x1024.size a := fun i v7584 k0_hw869 k0_h2 => k0_hw869.1 k0_h2
theorem k0_off1908_inb : ∀ (i : grid0.Coords) (v7584 : BitVec 32) (k0_hw869 : k0_chk869 i v7584), ∀ (k0_h2 : k0_cond2 i = 1#1), ∀ a, (k0_off1908 v7584) a + S1x1x1024.size a ≤ S1x2048x1024.size a := fun i v7584 k0_hw869 k0_h2 => k0_hw869.2 k0_h2

def k0_off1909 (v7585 : BitVec 32) : Fin 3 → Nat :=
  let c0_5214 : Index := 0#32
  let v7628 : Index := Scalar.indexCast v7585
  let c0_5215 : Index := 0#32
  ![0, v7628.toNat, 0]

def k0_chk870 (i : grid0.Coords) (v7585 : BitVec 32) : Prop :=
  (∀ (k0_h2 : k0_cond2 i = 1#1), ∀ a, (k0_off1905 v7585) a + S1x1x1024.size a ≤ S1x2048x1024.size a) ∧
  (∀ (k0_h2 : k0_cond2 i = 1#1), ∀ a, (k0_off1909 v7585) a + S1x1x1024.size a ≤ S1x2048x1024.size a)
theorem k0_off1905_inb : ∀ (i : grid0.Coords) (v7585 : BitVec 32) (k0_hw870 : k0_chk870 i v7585), ∀ (k0_h2 : k0_cond2 i = 1#1), ∀ a, (k0_off1905 v7585) a + S1x1x1024.size a ≤ S1x2048x1024.size a := fun i v7585 k0_hw870 k0_h2 => k0_hw870.1 k0_h2
theorem k0_off1909_inb : ∀ (i : grid0.Coords) (v7585 : BitVec 32) (k0_hw870 : k0_chk870 i v7585), ∀ (k0_h2 : k0_cond2 i = 1#1), ∀ a, (k0_off1909 v7585) a + S1x1x1024.size a ≤ S1x2048x1024.size a := fun i v7585 k0_hw870 k0_h2 => k0_hw870.2 k0_h2

def k0_off1910 (v7586 : BitVec 32) : Fin 3 → Nat :=
  let c0_5216 : Index := 0#32
  let v7632 : Index := Scalar.indexCast v7586
  let c0_5217 : Index := 0#32
  ![0, v7632.toNat, 0]

def k0_chk871 (i : grid0.Coords) (v7586 : BitVec 32) : Prop :=
  (∀ (k0_h2 : k0_cond2 i = 1#1), ∀ a, (k0_off1906 v7586) a + S1x1x1024.size a ≤ S1x2048x1024.size a) ∧
  (∀ (k0_h2 : k0_cond2 i = 1#1), ∀ a, (k0_off1910 v7586) a + S1x1x1024.size a ≤ S1x2048x1024.size a)
theorem k0_off1906_inb : ∀ (i : grid0.Coords) (v7586 : BitVec 32) (k0_hw871 : k0_chk871 i v7586), ∀ (k0_h2 : k0_cond2 i = 1#1), ∀ a, (k0_off1906 v7586) a + S1x1x1024.size a ≤ S1x2048x1024.size a := fun i v7586 k0_hw871 k0_h2 => k0_hw871.1 k0_h2
theorem k0_off1910_inb : ∀ (i : grid0.Coords) (v7586 : BitVec 32) (k0_hw871 : k0_chk871 i v7586), ∀ (k0_h2 : k0_cond2 i = 1#1), ∀ a, (k0_off1910 v7586) a + S1x1x1024.size a ≤ S1x2048x1024.size a := fun i v7586 k0_hw871 k0_h2 => k0_hw871.2 k0_h2

def k0_off1911 (v7640 : BitVec 32) : Fin 3 → Nat :=
  let c0_5232 : Index := 0#32
  let v7644 : Index := Scalar.indexCast v7640
  let c0_5233 : Index := 0#32
  ![0, v7644.toNat, 0]

def k0_off1912 (v7641 : BitVec 32) : Fin 3 → Nat :=
  let c0_5240 : Index := 0#32
  let v7653 : Index := Scalar.indexCast v7641
  let c0_5241 : Index := 0#32
  ![0, v7653.toNat, 0]

def k0_off1913 (v7642 : BitVec 32) : Fin 3 → Nat :=
  let c0_5248 : Index := 0#32
  let v7662 : Index := Scalar.indexCast v7642
  let c0_5249 : Index := 0#32
  ![0, v7662.toNat, 0]

def k0_off1914 (v7643 : BitVec 32) : Fin 3 → Nat :=
  let c0_5256 : Index := 0#32
  let v7671 : Index := Scalar.indexCast v7643
  let c0_5257 : Index := 0#32
  ![0, v7671.toNat, 0]

def k0_chk876 (i : grid0.Coords) (v7643 : BitVec 32) : Prop :=
  (∀ (k0_h2 : k0_cond2 i = 1#1), ∀ a, (k0_off1914 v7643) a + S1x1x1024.size a ≤ S1x2048x1024.size a)
theorem k0_off1914_inb : ∀ (i : grid0.Coords) (v7643 : BitVec 32) (k0_hw876 : k0_chk876 i v7643), ∀ (k0_h2 : k0_cond2 i = 1#1), ∀ a, (k0_off1914 v7643) a + S1x1x1024.size a ≤ S1x2048x1024.size a := fun i v7643 k0_hw876 k0_h2 => k0_hw876 k0_h2

def k0_off1915 (v7640 : BitVec 32) : Fin 3 → Nat :=
  let c0_5264 : Index := 0#32
  let v7680 : Index := Scalar.indexCast v7640
  let c0_5265 : Index := 0#32
  ![0, v7680.toNat, 0]

def k0_chk873 (i : grid0.Coords) (v7640 : BitVec 32) : Prop :=
  (∀ (k0_h2 : k0_cond2 i = 1#1), ∀ a, (k0_off1911 v7640) a + S1x1x1024.size a ≤ S1x2048x1024.size a) ∧
  (∀ (k0_h2 : k0_cond2 i = 1#1), ∀ a, (k0_off1915 v7640) a + S1x1x1024.size a ≤ S1x2048x1024.size a)
theorem k0_off1911_inb : ∀ (i : grid0.Coords) (v7640 : BitVec 32) (k0_hw873 : k0_chk873 i v7640), ∀ (k0_h2 : k0_cond2 i = 1#1), ∀ a, (k0_off1911 v7640) a + S1x1x1024.size a ≤ S1x2048x1024.size a := fun i v7640 k0_hw873 k0_h2 => k0_hw873.1 k0_h2
theorem k0_off1915_inb : ∀ (i : grid0.Coords) (v7640 : BitVec 32) (k0_hw873 : k0_chk873 i v7640), ∀ (k0_h2 : k0_cond2 i = 1#1), ∀ a, (k0_off1915 v7640) a + S1x1x1024.size a ≤ S1x2048x1024.size a := fun i v7640 k0_hw873 k0_h2 => k0_hw873.2 k0_h2

def k0_off1916 (v7641 : BitVec 32) : Fin 3 → Nat :=
  let c0_5266 : Index := 0#32
  let v7684 : Index := Scalar.indexCast v7641
  let c0_5267 : Index := 0#32
  ![0, v7684.toNat, 0]

def k0_chk874 (i : grid0.Coords) (v7641 : BitVec 32) : Prop :=
  (∀ (k0_h2 : k0_cond2 i = 1#1), ∀ a, (k0_off1912 v7641) a + S1x1x1024.size a ≤ S1x2048x1024.size a) ∧
  (∀ (k0_h2 : k0_cond2 i = 1#1), ∀ a, (k0_off1916 v7641) a + S1x1x1024.size a ≤ S1x2048x1024.size a)
theorem k0_off1912_inb : ∀ (i : grid0.Coords) (v7641 : BitVec 32) (k0_hw874 : k0_chk874 i v7641), ∀ (k0_h2 : k0_cond2 i = 1#1), ∀ a, (k0_off1912 v7641) a + S1x1x1024.size a ≤ S1x2048x1024.size a := fun i v7641 k0_hw874 k0_h2 => k0_hw874.1 k0_h2
theorem k0_off1916_inb : ∀ (i : grid0.Coords) (v7641 : BitVec 32) (k0_hw874 : k0_chk874 i v7641), ∀ (k0_h2 : k0_cond2 i = 1#1), ∀ a, (k0_off1916 v7641) a + S1x1x1024.size a ≤ S1x2048x1024.size a := fun i v7641 k0_hw874 k0_h2 => k0_hw874.2 k0_h2

def k0_off1917 (v7642 : BitVec 32) : Fin 3 → Nat :=
  let c0_5268 : Index := 0#32
  let v7688 : Index := Scalar.indexCast v7642
  let c0_5269 : Index := 0#32
  ![0, v7688.toNat, 0]

def k0_chk875 (i : grid0.Coords) (v7642 : BitVec 32) : Prop :=
  (∀ (k0_h2 : k0_cond2 i = 1#1), ∀ a, (k0_off1913 v7642) a + S1x1x1024.size a ≤ S1x2048x1024.size a) ∧
  (∀ (k0_h2 : k0_cond2 i = 1#1), ∀ a, (k0_off1917 v7642) a + S1x1x1024.size a ≤ S1x2048x1024.size a)
theorem k0_off1913_inb : ∀ (i : grid0.Coords) (v7642 : BitVec 32) (k0_hw875 : k0_chk875 i v7642), ∀ (k0_h2 : k0_cond2 i = 1#1), ∀ a, (k0_off1913 v7642) a + S1x1x1024.size a ≤ S1x2048x1024.size a := fun i v7642 k0_hw875 k0_h2 => k0_hw875.1 k0_h2
theorem k0_off1917_inb : ∀ (i : grid0.Coords) (v7642 : BitVec 32) (k0_hw875 : k0_chk875 i v7642), ∀ (k0_h2 : k0_cond2 i = 1#1), ∀ a, (k0_off1917 v7642) a + S1x1x1024.size a ≤ S1x2048x1024.size a := fun i v7642 k0_hw875 k0_h2 => k0_hw875.2 k0_h2

def k0_off1918 (v7696 : BitVec 32) : Fin 3 → Nat :=
  let c0_5284 : Index := 0#32
  let v7700 : Index := Scalar.indexCast v7696
  let c0_5285 : Index := 0#32
  ![0, v7700.toNat, 0]

def k0_off1919 (v7697 : BitVec 32) : Fin 3 → Nat :=
  let c0_5292 : Index := 0#32
  let v7709 : Index := Scalar.indexCast v7697
  let c0_5293 : Index := 0#32
  ![0, v7709.toNat, 0]

def k0_off1920 (v7698 : BitVec 32) : Fin 3 → Nat :=
  let c0_5300 : Index := 0#32
  let v7718 : Index := Scalar.indexCast v7698
  let c0_5301 : Index := 0#32
  ![0, v7718.toNat, 0]

def k0_off1921 (v7699 : BitVec 32) : Fin 3 → Nat :=
  let c0_5308 : Index := 0#32
  let v7727 : Index := Scalar.indexCast v7699
  let c0_5309 : Index := 0#32
  ![0, v7727.toNat, 0]

def k0_chk880 (i : grid0.Coords) (v7699 : BitVec 32) : Prop :=
  (∀ (k0_h2 : k0_cond2 i = 1#1), ∀ a, (k0_off1921 v7699) a + S1x1x1024.size a ≤ S1x2048x1024.size a)
theorem k0_off1921_inb : ∀ (i : grid0.Coords) (v7699 : BitVec 32) (k0_hw880 : k0_chk880 i v7699), ∀ (k0_h2 : k0_cond2 i = 1#1), ∀ a, (k0_off1921 v7699) a + S1x1x1024.size a ≤ S1x2048x1024.size a := fun i v7699 k0_hw880 k0_h2 => k0_hw880 k0_h2

def k0_off1922 (v7696 : BitVec 32) : Fin 3 → Nat :=
  let c0_5316 : Index := 0#32
  let v7736 : Index := Scalar.indexCast v7696
  let c0_5317 : Index := 0#32
  ![0, v7736.toNat, 0]

def k0_chk877 (i : grid0.Coords) (v7696 : BitVec 32) : Prop :=
  (∀ (k0_h2 : k0_cond2 i = 1#1), ∀ a, (k0_off1918 v7696) a + S1x1x1024.size a ≤ S1x2048x1024.size a) ∧
  (∀ (k0_h2 : k0_cond2 i = 1#1), ∀ a, (k0_off1922 v7696) a + S1x1x1024.size a ≤ S1x2048x1024.size a)
theorem k0_off1918_inb : ∀ (i : grid0.Coords) (v7696 : BitVec 32) (k0_hw877 : k0_chk877 i v7696), ∀ (k0_h2 : k0_cond2 i = 1#1), ∀ a, (k0_off1918 v7696) a + S1x1x1024.size a ≤ S1x2048x1024.size a := fun i v7696 k0_hw877 k0_h2 => k0_hw877.1 k0_h2
theorem k0_off1922_inb : ∀ (i : grid0.Coords) (v7696 : BitVec 32) (k0_hw877 : k0_chk877 i v7696), ∀ (k0_h2 : k0_cond2 i = 1#1), ∀ a, (k0_off1922 v7696) a + S1x1x1024.size a ≤ S1x2048x1024.size a := fun i v7696 k0_hw877 k0_h2 => k0_hw877.2 k0_h2

def k0_off1923 (v7697 : BitVec 32) : Fin 3 → Nat :=
  let c0_5318 : Index := 0#32
  let v7740 : Index := Scalar.indexCast v7697
  let c0_5319 : Index := 0#32
  ![0, v7740.toNat, 0]

def k0_chk878 (i : grid0.Coords) (v7697 : BitVec 32) : Prop :=
  (∀ (k0_h2 : k0_cond2 i = 1#1), ∀ a, (k0_off1919 v7697) a + S1x1x1024.size a ≤ S1x2048x1024.size a) ∧
  (∀ (k0_h2 : k0_cond2 i = 1#1), ∀ a, (k0_off1923 v7697) a + S1x1x1024.size a ≤ S1x2048x1024.size a)
theorem k0_off1919_inb : ∀ (i : grid0.Coords) (v7697 : BitVec 32) (k0_hw878 : k0_chk878 i v7697), ∀ (k0_h2 : k0_cond2 i = 1#1), ∀ a, (k0_off1919 v7697) a + S1x1x1024.size a ≤ S1x2048x1024.size a := fun i v7697 k0_hw878 k0_h2 => k0_hw878.1 k0_h2
theorem k0_off1923_inb : ∀ (i : grid0.Coords) (v7697 : BitVec 32) (k0_hw878 : k0_chk878 i v7697), ∀ (k0_h2 : k0_cond2 i = 1#1), ∀ a, (k0_off1923 v7697) a + S1x1x1024.size a ≤ S1x2048x1024.size a := fun i v7697 k0_hw878 k0_h2 => k0_hw878.2 k0_h2

def k0_off1924 (v7698 : BitVec 32) : Fin 3 → Nat :=
  let c0_5320 : Index := 0#32
  let v7744 : Index := Scalar.indexCast v7698
  let c0_5321 : Index := 0#32
  ![0, v7744.toNat, 0]

def k0_chk879 (i : grid0.Coords) (v7698 : BitVec 32) : Prop :=
  (∀ (k0_h2 : k0_cond2 i = 1#1), ∀ a, (k0_off1920 v7698) a + S1x1x1024.size a ≤ S1x2048x1024.size a) ∧
  (∀ (k0_h2 : k0_cond2 i = 1#1), ∀ a, (k0_off1924 v7698) a + S1x1x1024.size a ≤ S1x2048x1024.size a)
theorem k0_off1920_inb : ∀ (i : grid0.Coords) (v7698 : BitVec 32) (k0_hw879 : k0_chk879 i v7698), ∀ (k0_h2 : k0_cond2 i = 1#1), ∀ a, (k0_off1920 v7698) a + S1x1x1024.size a ≤ S1x2048x1024.size a := fun i v7698 k0_hw879 k0_h2 => k0_hw879.1 k0_h2
theorem k0_off1924_inb : ∀ (i : grid0.Coords) (v7698 : BitVec 32) (k0_hw879 : k0_chk879 i v7698), ∀ (k0_h2 : k0_cond2 i = 1#1), ∀ a, (k0_off1924 v7698) a + S1x1x1024.size a ≤ S1x2048x1024.size a := fun i v7698 k0_hw879 k0_h2 => k0_hw879.2 k0_h2

def k0_off1925 (v7752 : BitVec 32) : Fin 3 → Nat :=
  let c0_5336 : Index := 0#32
  let v7756 : Index := Scalar.indexCast v7752
  let c0_5337 : Index := 0#32
  ![0, v7756.toNat, 0]

def k0_off1926 (v7753 : BitVec 32) : Fin 3 → Nat :=
  let c0_5344 : Index := 0#32
  let v7765 : Index := Scalar.indexCast v7753
  let c0_5345 : Index := 0#32
  ![0, v7765.toNat, 0]

def k0_off1927 (v7754 : BitVec 32) : Fin 3 → Nat :=
  let c0_5352 : Index := 0#32
  let v7774 : Index := Scalar.indexCast v7754
  let c0_5353 : Index := 0#32
  ![0, v7774.toNat, 0]

def k0_off1928 (v7755 : BitVec 32) : Fin 3 → Nat :=
  let c0_5360 : Index := 0#32
  let v7783 : Index := Scalar.indexCast v7755
  let c0_5361 : Index := 0#32
  ![0, v7783.toNat, 0]

def k0_chk884 (i : grid0.Coords) (v7755 : BitVec 32) : Prop :=
  (∀ (k0_h2 : k0_cond2 i = 1#1), ∀ a, (k0_off1928 v7755) a + S1x1x1024.size a ≤ S1x2048x1024.size a)
theorem k0_off1928_inb : ∀ (i : grid0.Coords) (v7755 : BitVec 32) (k0_hw884 : k0_chk884 i v7755), ∀ (k0_h2 : k0_cond2 i = 1#1), ∀ a, (k0_off1928 v7755) a + S1x1x1024.size a ≤ S1x2048x1024.size a := fun i v7755 k0_hw884 k0_h2 => k0_hw884 k0_h2

def k0_off1929 (v7752 : BitVec 32) : Fin 3 → Nat :=
  let c0_5368 : Index := 0#32
  let v7792 : Index := Scalar.indexCast v7752
  let c0_5369 : Index := 0#32
  ![0, v7792.toNat, 0]

def k0_chk881 (i : grid0.Coords) (v7752 : BitVec 32) : Prop :=
  (∀ (k0_h2 : k0_cond2 i = 1#1), ∀ a, (k0_off1925 v7752) a + S1x1x1024.size a ≤ S1x2048x1024.size a) ∧
  (∀ (k0_h2 : k0_cond2 i = 1#1), ∀ a, (k0_off1929 v7752) a + S1x1x1024.size a ≤ S1x2048x1024.size a)
theorem k0_off1925_inb : ∀ (i : grid0.Coords) (v7752 : BitVec 32) (k0_hw881 : k0_chk881 i v7752), ∀ (k0_h2 : k0_cond2 i = 1#1), ∀ a, (k0_off1925 v7752) a + S1x1x1024.size a ≤ S1x2048x1024.size a := fun i v7752 k0_hw881 k0_h2 => k0_hw881.1 k0_h2
theorem k0_off1929_inb : ∀ (i : grid0.Coords) (v7752 : BitVec 32) (k0_hw881 : k0_chk881 i v7752), ∀ (k0_h2 : k0_cond2 i = 1#1), ∀ a, (k0_off1929 v7752) a + S1x1x1024.size a ≤ S1x2048x1024.size a := fun i v7752 k0_hw881 k0_h2 => k0_hw881.2 k0_h2

def k0_off1930 (v7753 : BitVec 32) : Fin 3 → Nat :=
  let c0_5370 : Index := 0#32
  let v7796 : Index := Scalar.indexCast v7753
  let c0_5371 : Index := 0#32
  ![0, v7796.toNat, 0]

def k0_chk882 (i : grid0.Coords) (v7753 : BitVec 32) : Prop :=
  (∀ (k0_h2 : k0_cond2 i = 1#1), ∀ a, (k0_off1926 v7753) a + S1x1x1024.size a ≤ S1x2048x1024.size a) ∧
  (∀ (k0_h2 : k0_cond2 i = 1#1), ∀ a, (k0_off1930 v7753) a + S1x1x1024.size a ≤ S1x2048x1024.size a)
theorem k0_off1926_inb : ∀ (i : grid0.Coords) (v7753 : BitVec 32) (k0_hw882 : k0_chk882 i v7753), ∀ (k0_h2 : k0_cond2 i = 1#1), ∀ a, (k0_off1926 v7753) a + S1x1x1024.size a ≤ S1x2048x1024.size a := fun i v7753 k0_hw882 k0_h2 => k0_hw882.1 k0_h2
theorem k0_off1930_inb : ∀ (i : grid0.Coords) (v7753 : BitVec 32) (k0_hw882 : k0_chk882 i v7753), ∀ (k0_h2 : k0_cond2 i = 1#1), ∀ a, (k0_off1930 v7753) a + S1x1x1024.size a ≤ S1x2048x1024.size a := fun i v7753 k0_hw882 k0_h2 => k0_hw882.2 k0_h2

def k0_off1931 (v7754 : BitVec 32) : Fin 3 → Nat :=
  let c0_5372 : Index := 0#32
  let v7800 : Index := Scalar.indexCast v7754
  let c0_5373 : Index := 0#32
  ![0, v7800.toNat, 0]

def k0_chk883 (i : grid0.Coords) (v7754 : BitVec 32) : Prop :=
  (∀ (k0_h2 : k0_cond2 i = 1#1), ∀ a, (k0_off1927 v7754) a + S1x1x1024.size a ≤ S1x2048x1024.size a) ∧
  (∀ (k0_h2 : k0_cond2 i = 1#1), ∀ a, (k0_off1931 v7754) a + S1x1x1024.size a ≤ S1x2048x1024.size a)
theorem k0_off1927_inb : ∀ (i : grid0.Coords) (v7754 : BitVec 32) (k0_hw883 : k0_chk883 i v7754), ∀ (k0_h2 : k0_cond2 i = 1#1), ∀ a, (k0_off1927 v7754) a + S1x1x1024.size a ≤ S1x2048x1024.size a := fun i v7754 k0_hw883 k0_h2 => k0_hw883.1 k0_h2
theorem k0_off1931_inb : ∀ (i : grid0.Coords) (v7754 : BitVec 32) (k0_hw883 : k0_chk883 i v7754), ∀ (k0_h2 : k0_cond2 i = 1#1), ∀ a, (k0_off1931 v7754) a + S1x1x1024.size a ≤ S1x2048x1024.size a := fun i v7754 k0_hw883 k0_h2 => k0_hw883.2 k0_h2

def k0_off1932 (v7808 : BitVec 32) : Fin 3 → Nat :=
  let c0_5388 : Index := 0#32
  let v7812 : Index := Scalar.indexCast v7808
  let c0_5389 : Index := 0#32
  ![0, v7812.toNat, 0]

def k0_off1933 (v7809 : BitVec 32) : Fin 3 → Nat :=
  let c0_5396 : Index := 0#32
  let v7821 : Index := Scalar.indexCast v7809
  let c0_5397 : Index := 0#32
  ![0, v7821.toNat, 0]

def k0_off1934 (v7810 : BitVec 32) : Fin 3 → Nat :=
  let c0_5404 : Index := 0#32
  let v7830 : Index := Scalar.indexCast v7810
  let c0_5405 : Index := 0#32
  ![0, v7830.toNat, 0]

def k0_off1935 (v7811 : BitVec 32) : Fin 3 → Nat :=
  let c0_5412 : Index := 0#32
  let v7839 : Index := Scalar.indexCast v7811
  let c0_5413 : Index := 0#32
  ![0, v7839.toNat, 0]

def k0_chk888 (i : grid0.Coords) (v7811 : BitVec 32) : Prop :=
  (∀ (k0_h2 : k0_cond2 i = 1#1), ∀ a, (k0_off1935 v7811) a + S1x1x1024.size a ≤ S1x2048x1024.size a)
theorem k0_off1935_inb : ∀ (i : grid0.Coords) (v7811 : BitVec 32) (k0_hw888 : k0_chk888 i v7811), ∀ (k0_h2 : k0_cond2 i = 1#1), ∀ a, (k0_off1935 v7811) a + S1x1x1024.size a ≤ S1x2048x1024.size a := fun i v7811 k0_hw888 k0_h2 => k0_hw888 k0_h2

def k0_off1936 (v7808 : BitVec 32) : Fin 3 → Nat :=
  let c0_5420 : Index := 0#32
  let v7848 : Index := Scalar.indexCast v7808
  let c0_5421 : Index := 0#32
  ![0, v7848.toNat, 0]

def k0_chk885 (i : grid0.Coords) (v7808 : BitVec 32) : Prop :=
  (∀ (k0_h2 : k0_cond2 i = 1#1), ∀ a, (k0_off1932 v7808) a + S1x1x1024.size a ≤ S1x2048x1024.size a) ∧
  (∀ (k0_h2 : k0_cond2 i = 1#1), ∀ a, (k0_off1936 v7808) a + S1x1x1024.size a ≤ S1x2048x1024.size a)
theorem k0_off1932_inb : ∀ (i : grid0.Coords) (v7808 : BitVec 32) (k0_hw885 : k0_chk885 i v7808), ∀ (k0_h2 : k0_cond2 i = 1#1), ∀ a, (k0_off1932 v7808) a + S1x1x1024.size a ≤ S1x2048x1024.size a := fun i v7808 k0_hw885 k0_h2 => k0_hw885.1 k0_h2
theorem k0_off1936_inb : ∀ (i : grid0.Coords) (v7808 : BitVec 32) (k0_hw885 : k0_chk885 i v7808), ∀ (k0_h2 : k0_cond2 i = 1#1), ∀ a, (k0_off1936 v7808) a + S1x1x1024.size a ≤ S1x2048x1024.size a := fun i v7808 k0_hw885 k0_h2 => k0_hw885.2 k0_h2

def k0_off1937 (v7809 : BitVec 32) : Fin 3 → Nat :=
  let c0_5422 : Index := 0#32
  let v7852 : Index := Scalar.indexCast v7809
  let c0_5423 : Index := 0#32
  ![0, v7852.toNat, 0]

def k0_chk886 (i : grid0.Coords) (v7809 : BitVec 32) : Prop :=
  (∀ (k0_h2 : k0_cond2 i = 1#1), ∀ a, (k0_off1933 v7809) a + S1x1x1024.size a ≤ S1x2048x1024.size a) ∧
  (∀ (k0_h2 : k0_cond2 i = 1#1), ∀ a, (k0_off1937 v7809) a + S1x1x1024.size a ≤ S1x2048x1024.size a)
theorem k0_off1933_inb : ∀ (i : grid0.Coords) (v7809 : BitVec 32) (k0_hw886 : k0_chk886 i v7809), ∀ (k0_h2 : k0_cond2 i = 1#1), ∀ a, (k0_off1933 v7809) a + S1x1x1024.size a ≤ S1x2048x1024.size a := fun i v7809 k0_hw886 k0_h2 => k0_hw886.1 k0_h2
theorem k0_off1937_inb : ∀ (i : grid0.Coords) (v7809 : BitVec 32) (k0_hw886 : k0_chk886 i v7809), ∀ (k0_h2 : k0_cond2 i = 1#1), ∀ a, (k0_off1937 v7809) a + S1x1x1024.size a ≤ S1x2048x1024.size a := fun i v7809 k0_hw886 k0_h2 => k0_hw886.2 k0_h2

def k0_off1938 (v7810 : BitVec 32) : Fin 3 → Nat :=
  let c0_5424 : Index := 0#32
  let v7856 : Index := Scalar.indexCast v7810
  let c0_5425 : Index := 0#32
  ![0, v7856.toNat, 0]

def k0_chk887 (i : grid0.Coords) (v7810 : BitVec 32) : Prop :=
  (∀ (k0_h2 : k0_cond2 i = 1#1), ∀ a, (k0_off1934 v7810) a + S1x1x1024.size a ≤ S1x2048x1024.size a) ∧
  (∀ (k0_h2 : k0_cond2 i = 1#1), ∀ a, (k0_off1938 v7810) a + S1x1x1024.size a ≤ S1x2048x1024.size a)
theorem k0_off1934_inb : ∀ (i : grid0.Coords) (v7810 : BitVec 32) (k0_hw887 : k0_chk887 i v7810), ∀ (k0_h2 : k0_cond2 i = 1#1), ∀ a, (k0_off1934 v7810) a + S1x1x1024.size a ≤ S1x2048x1024.size a := fun i v7810 k0_hw887 k0_h2 => k0_hw887.1 k0_h2
theorem k0_off1938_inb : ∀ (i : grid0.Coords) (v7810 : BitVec 32) (k0_hw887 : k0_chk887 i v7810), ∀ (k0_h2 : k0_cond2 i = 1#1), ∀ a, (k0_off1938 v7810) a + S1x1x1024.size a ≤ S1x2048x1024.size a := fun i v7810 k0_hw887 k0_h2 => k0_hw887.2 k0_h2

def k0_off1939 (v7864 : BitVec 32) : Fin 3 → Nat :=
  let c0_5440 : Index := 0#32
  let v7868 : Index := Scalar.indexCast v7864
  let c0_5441 : Index := 0#32
  ![0, v7868.toNat, 0]

def k0_off1940 (v7865 : BitVec 32) : Fin 3 → Nat :=
  let c0_5448 : Index := 0#32
  let v7877 : Index := Scalar.indexCast v7865
  let c0_5449 : Index := 0#32
  ![0, v7877.toNat, 0]

def k0_off1941 (v7866 : BitVec 32) : Fin 3 → Nat :=
  let c0_5456 : Index := 0#32
  let v7886 : Index := Scalar.indexCast v7866
  let c0_5457 : Index := 0#32
  ![0, v7886.toNat, 0]

def k0_off1942 (v7867 : BitVec 32) : Fin 3 → Nat :=
  let c0_5464 : Index := 0#32
  let v7895 : Index := Scalar.indexCast v7867
  let c0_5465 : Index := 0#32
  ![0, v7895.toNat, 0]

def k0_chk892 (i : grid0.Coords) (v7867 : BitVec 32) : Prop :=
  (∀ (k0_h2 : k0_cond2 i = 1#1), ∀ a, (k0_off1942 v7867) a + S1x1x1024.size a ≤ S1x2048x1024.size a)
theorem k0_off1942_inb : ∀ (i : grid0.Coords) (v7867 : BitVec 32) (k0_hw892 : k0_chk892 i v7867), ∀ (k0_h2 : k0_cond2 i = 1#1), ∀ a, (k0_off1942 v7867) a + S1x1x1024.size a ≤ S1x2048x1024.size a := fun i v7867 k0_hw892 k0_h2 => k0_hw892 k0_h2

def k0_off1943 (v7864 : BitVec 32) : Fin 3 → Nat :=
  let c0_5472 : Index := 0#32
  let v7904 : Index := Scalar.indexCast v7864
  let c0_5473 : Index := 0#32
  ![0, v7904.toNat, 0]

def k0_chk889 (i : grid0.Coords) (v7864 : BitVec 32) : Prop :=
  (∀ (k0_h2 : k0_cond2 i = 1#1), ∀ a, (k0_off1939 v7864) a + S1x1x1024.size a ≤ S1x2048x1024.size a) ∧
  (∀ (k0_h2 : k0_cond2 i = 1#1), ∀ a, (k0_off1943 v7864) a + S1x1x1024.size a ≤ S1x2048x1024.size a)
theorem k0_off1939_inb : ∀ (i : grid0.Coords) (v7864 : BitVec 32) (k0_hw889 : k0_chk889 i v7864), ∀ (k0_h2 : k0_cond2 i = 1#1), ∀ a, (k0_off1939 v7864) a + S1x1x1024.size a ≤ S1x2048x1024.size a := fun i v7864 k0_hw889 k0_h2 => k0_hw889.1 k0_h2
theorem k0_off1943_inb : ∀ (i : grid0.Coords) (v7864 : BitVec 32) (k0_hw889 : k0_chk889 i v7864), ∀ (k0_h2 : k0_cond2 i = 1#1), ∀ a, (k0_off1943 v7864) a + S1x1x1024.size a ≤ S1x2048x1024.size a := fun i v7864 k0_hw889 k0_h2 => k0_hw889.2 k0_h2

def k0_off1944 (v7865 : BitVec 32) : Fin 3 → Nat :=
  let c0_5474 : Index := 0#32
  let v7908 : Index := Scalar.indexCast v7865
  let c0_5475 : Index := 0#32
  ![0, v7908.toNat, 0]

def k0_chk890 (i : grid0.Coords) (v7865 : BitVec 32) : Prop :=
  (∀ (k0_h2 : k0_cond2 i = 1#1), ∀ a, (k0_off1940 v7865) a + S1x1x1024.size a ≤ S1x2048x1024.size a) ∧
  (∀ (k0_h2 : k0_cond2 i = 1#1), ∀ a, (k0_off1944 v7865) a + S1x1x1024.size a ≤ S1x2048x1024.size a)
theorem k0_off1940_inb : ∀ (i : grid0.Coords) (v7865 : BitVec 32) (k0_hw890 : k0_chk890 i v7865), ∀ (k0_h2 : k0_cond2 i = 1#1), ∀ a, (k0_off1940 v7865) a + S1x1x1024.size a ≤ S1x2048x1024.size a := fun i v7865 k0_hw890 k0_h2 => k0_hw890.1 k0_h2
theorem k0_off1944_inb : ∀ (i : grid0.Coords) (v7865 : BitVec 32) (k0_hw890 : k0_chk890 i v7865), ∀ (k0_h2 : k0_cond2 i = 1#1), ∀ a, (k0_off1944 v7865) a + S1x1x1024.size a ≤ S1x2048x1024.size a := fun i v7865 k0_hw890 k0_h2 => k0_hw890.2 k0_h2

def k0_off1945 (v7866 : BitVec 32) : Fin 3 → Nat :=
  let c0_5476 : Index := 0#32
  let v7912 : Index := Scalar.indexCast v7866
  let c0_5477 : Index := 0#32
  ![0, v7912.toNat, 0]

def k0_chk891 (i : grid0.Coords) (v7866 : BitVec 32) : Prop :=
  (∀ (k0_h2 : k0_cond2 i = 1#1), ∀ a, (k0_off1941 v7866) a + S1x1x1024.size a ≤ S1x2048x1024.size a) ∧
  (∀ (k0_h2 : k0_cond2 i = 1#1), ∀ a, (k0_off1945 v7866) a + S1x1x1024.size a ≤ S1x2048x1024.size a)
theorem k0_off1941_inb : ∀ (i : grid0.Coords) (v7866 : BitVec 32) (k0_hw891 : k0_chk891 i v7866), ∀ (k0_h2 : k0_cond2 i = 1#1), ∀ a, (k0_off1941 v7866) a + S1x1x1024.size a ≤ S1x2048x1024.size a := fun i v7866 k0_hw891 k0_h2 => k0_hw891.1 k0_h2
theorem k0_off1945_inb : ∀ (i : grid0.Coords) (v7866 : BitVec 32) (k0_hw891 : k0_chk891 i v7866), ∀ (k0_h2 : k0_cond2 i = 1#1), ∀ a, (k0_off1945 v7866) a + S1x1x1024.size a ≤ S1x2048x1024.size a := fun i v7866 k0_hw891 k0_h2 => k0_hw891.2 k0_h2

def k0_off1946 (v7920 : BitVec 32) : Fin 3 → Nat :=
  let c0_5492 : Index := 0#32
  let v7924 : Index := Scalar.indexCast v7920
  let c0_5493 : Index := 0#32
  ![0, v7924.toNat, 0]

def k0_off1947 (v7921 : BitVec 32) : Fin 3 → Nat :=
  let c0_5500 : Index := 0#32
  let v7933 : Index := Scalar.indexCast v7921
  let c0_5501 : Index := 0#32
  ![0, v7933.toNat, 0]

def k0_off1948 (v7922 : BitVec 32) : Fin 3 → Nat :=
  let c0_5508 : Index := 0#32
  let v7942 : Index := Scalar.indexCast v7922
  let c0_5509 : Index := 0#32
  ![0, v7942.toNat, 0]

def k0_off1949 (v7923 : BitVec 32) : Fin 3 → Nat :=
  let c0_5516 : Index := 0#32
  let v7951 : Index := Scalar.indexCast v7923
  let c0_5517 : Index := 0#32
  ![0, v7951.toNat, 0]

def k0_chk896 (i : grid0.Coords) (v7923 : BitVec 32) : Prop :=
  (∀ (k0_h2 : k0_cond2 i = 1#1), ∀ a, (k0_off1949 v7923) a + S1x1x1024.size a ≤ S1x2048x1024.size a)
theorem k0_off1949_inb : ∀ (i : grid0.Coords) (v7923 : BitVec 32) (k0_hw896 : k0_chk896 i v7923), ∀ (k0_h2 : k0_cond2 i = 1#1), ∀ a, (k0_off1949 v7923) a + S1x1x1024.size a ≤ S1x2048x1024.size a := fun i v7923 k0_hw896 k0_h2 => k0_hw896 k0_h2

def k0_off1950 (v7920 : BitVec 32) : Fin 3 → Nat :=
  let c0_5524 : Index := 0#32
  let v7960 : Index := Scalar.indexCast v7920
  let c0_5525 : Index := 0#32
  ![0, v7960.toNat, 0]

def k0_chk893 (i : grid0.Coords) (v7920 : BitVec 32) : Prop :=
  (∀ (k0_h2 : k0_cond2 i = 1#1), ∀ a, (k0_off1946 v7920) a + S1x1x1024.size a ≤ S1x2048x1024.size a) ∧
  (∀ (k0_h2 : k0_cond2 i = 1#1), ∀ a, (k0_off1950 v7920) a + S1x1x1024.size a ≤ S1x2048x1024.size a)
theorem k0_off1946_inb : ∀ (i : grid0.Coords) (v7920 : BitVec 32) (k0_hw893 : k0_chk893 i v7920), ∀ (k0_h2 : k0_cond2 i = 1#1), ∀ a, (k0_off1946 v7920) a + S1x1x1024.size a ≤ S1x2048x1024.size a := fun i v7920 k0_hw893 k0_h2 => k0_hw893.1 k0_h2
theorem k0_off1950_inb : ∀ (i : grid0.Coords) (v7920 : BitVec 32) (k0_hw893 : k0_chk893 i v7920), ∀ (k0_h2 : k0_cond2 i = 1#1), ∀ a, (k0_off1950 v7920) a + S1x1x1024.size a ≤ S1x2048x1024.size a := fun i v7920 k0_hw893 k0_h2 => k0_hw893.2 k0_h2

def k0_off1951 (v7921 : BitVec 32) : Fin 3 → Nat :=
  let c0_5526 : Index := 0#32
  let v7964 : Index := Scalar.indexCast v7921
  let c0_5527 : Index := 0#32
  ![0, v7964.toNat, 0]

def k0_chk894 (i : grid0.Coords) (v7921 : BitVec 32) : Prop :=
  (∀ (k0_h2 : k0_cond2 i = 1#1), ∀ a, (k0_off1947 v7921) a + S1x1x1024.size a ≤ S1x2048x1024.size a) ∧
  (∀ (k0_h2 : k0_cond2 i = 1#1), ∀ a, (k0_off1951 v7921) a + S1x1x1024.size a ≤ S1x2048x1024.size a)
theorem k0_off1947_inb : ∀ (i : grid0.Coords) (v7921 : BitVec 32) (k0_hw894 : k0_chk894 i v7921), ∀ (k0_h2 : k0_cond2 i = 1#1), ∀ a, (k0_off1947 v7921) a + S1x1x1024.size a ≤ S1x2048x1024.size a := fun i v7921 k0_hw894 k0_h2 => k0_hw894.1 k0_h2
theorem k0_off1951_inb : ∀ (i : grid0.Coords) (v7921 : BitVec 32) (k0_hw894 : k0_chk894 i v7921), ∀ (k0_h2 : k0_cond2 i = 1#1), ∀ a, (k0_off1951 v7921) a + S1x1x1024.size a ≤ S1x2048x1024.size a := fun i v7921 k0_hw894 k0_h2 => k0_hw894.2 k0_h2

def k0_off1952 (v7922 : BitVec 32) : Fin 3 → Nat :=
  let c0_5528 : Index := 0#32
  let v7968 : Index := Scalar.indexCast v7922
  let c0_5529 : Index := 0#32
  ![0, v7968.toNat, 0]

def k0_chk895 (i : grid0.Coords) (v7922 : BitVec 32) : Prop :=
  (∀ (k0_h2 : k0_cond2 i = 1#1), ∀ a, (k0_off1948 v7922) a + S1x1x1024.size a ≤ S1x2048x1024.size a) ∧
  (∀ (k0_h2 : k0_cond2 i = 1#1), ∀ a, (k0_off1952 v7922) a + S1x1x1024.size a ≤ S1x2048x1024.size a)
theorem k0_off1948_inb : ∀ (i : grid0.Coords) (v7922 : BitVec 32) (k0_hw895 : k0_chk895 i v7922), ∀ (k0_h2 : k0_cond2 i = 1#1), ∀ a, (k0_off1948 v7922) a + S1x1x1024.size a ≤ S1x2048x1024.size a := fun i v7922 k0_hw895 k0_h2 => k0_hw895.1 k0_h2
theorem k0_off1952_inb : ∀ (i : grid0.Coords) (v7922 : BitVec 32) (k0_hw895 : k0_chk895 i v7922), ∀ (k0_h2 : k0_cond2 i = 1#1), ∀ a, (k0_off1952 v7922) a + S1x1x1024.size a ≤ S1x2048x1024.size a := fun i v7922 k0_hw895 k0_h2 => k0_hw895.2 k0_h2

def k0_off1953 (v7976 : BitVec 32) : Fin 3 → Nat :=
  let c0_5544 : Index := 0#32
  let v7980 : Index := Scalar.indexCast v7976
  let c0_5545 : Index := 0#32
  ![0, v7980.toNat, 0]

def k0_off1954 (v7977 : BitVec 32) : Fin 3 → Nat :=
  let c0_5552 : Index := 0#32
  let v7989 : Index := Scalar.indexCast v7977
  let c0_5553 : Index := 0#32
  ![0, v7989.toNat, 0]

def k0_off1955 (v7978 : BitVec 32) : Fin 3 → Nat :=
  let c0_5560 : Index := 0#32
  let v7998 : Index := Scalar.indexCast v7978
  let c0_5561 : Index := 0#32
  ![0, v7998.toNat, 0]

def k0_off1956 (v7979 : BitVec 32) : Fin 3 → Nat :=
  let c0_5568 : Index := 0#32
  let v8007 : Index := Scalar.indexCast v7979
  let c0_5569 : Index := 0#32
  ![0, v8007.toNat, 0]

def k0_chk900 (i : grid0.Coords) (v7979 : BitVec 32) : Prop :=
  (∀ (k0_h2 : k0_cond2 i = 1#1), ∀ a, (k0_off1956 v7979) a + S1x1x1024.size a ≤ S1x2048x1024.size a)
theorem k0_off1956_inb : ∀ (i : grid0.Coords) (v7979 : BitVec 32) (k0_hw900 : k0_chk900 i v7979), ∀ (k0_h2 : k0_cond2 i = 1#1), ∀ a, (k0_off1956 v7979) a + S1x1x1024.size a ≤ S1x2048x1024.size a := fun i v7979 k0_hw900 k0_h2 => k0_hw900 k0_h2

def k0_off1957 (v7976 : BitVec 32) : Fin 3 → Nat :=
  let c0_5576 : Index := 0#32
  let v8016 : Index := Scalar.indexCast v7976
  let c0_5577 : Index := 0#32
  ![0, v8016.toNat, 0]

def k0_chk897 (i : grid0.Coords) (v7976 : BitVec 32) : Prop :=
  (∀ (k0_h2 : k0_cond2 i = 1#1), ∀ a, (k0_off1953 v7976) a + S1x1x1024.size a ≤ S1x2048x1024.size a) ∧
  (∀ (k0_h2 : k0_cond2 i = 1#1), ∀ a, (k0_off1957 v7976) a + S1x1x1024.size a ≤ S1x2048x1024.size a)
theorem k0_off1953_inb : ∀ (i : grid0.Coords) (v7976 : BitVec 32) (k0_hw897 : k0_chk897 i v7976), ∀ (k0_h2 : k0_cond2 i = 1#1), ∀ a, (k0_off1953 v7976) a + S1x1x1024.size a ≤ S1x2048x1024.size a := fun i v7976 k0_hw897 k0_h2 => k0_hw897.1 k0_h2
theorem k0_off1957_inb : ∀ (i : grid0.Coords) (v7976 : BitVec 32) (k0_hw897 : k0_chk897 i v7976), ∀ (k0_h2 : k0_cond2 i = 1#1), ∀ a, (k0_off1957 v7976) a + S1x1x1024.size a ≤ S1x2048x1024.size a := fun i v7976 k0_hw897 k0_h2 => k0_hw897.2 k0_h2

def k0_off1958 (v7977 : BitVec 32) : Fin 3 → Nat :=
  let c0_5578 : Index := 0#32
  let v8020 : Index := Scalar.indexCast v7977
  let c0_5579 : Index := 0#32
  ![0, v8020.toNat, 0]

def k0_chk898 (i : grid0.Coords) (v7977 : BitVec 32) : Prop :=
  (∀ (k0_h2 : k0_cond2 i = 1#1), ∀ a, (k0_off1954 v7977) a + S1x1x1024.size a ≤ S1x2048x1024.size a) ∧
  (∀ (k0_h2 : k0_cond2 i = 1#1), ∀ a, (k0_off1958 v7977) a + S1x1x1024.size a ≤ S1x2048x1024.size a)
theorem k0_off1954_inb : ∀ (i : grid0.Coords) (v7977 : BitVec 32) (k0_hw898 : k0_chk898 i v7977), ∀ (k0_h2 : k0_cond2 i = 1#1), ∀ a, (k0_off1954 v7977) a + S1x1x1024.size a ≤ S1x2048x1024.size a := fun i v7977 k0_hw898 k0_h2 => k0_hw898.1 k0_h2
theorem k0_off1958_inb : ∀ (i : grid0.Coords) (v7977 : BitVec 32) (k0_hw898 : k0_chk898 i v7977), ∀ (k0_h2 : k0_cond2 i = 1#1), ∀ a, (k0_off1958 v7977) a + S1x1x1024.size a ≤ S1x2048x1024.size a := fun i v7977 k0_hw898 k0_h2 => k0_hw898.2 k0_h2

def k0_off1959 (v7978 : BitVec 32) : Fin 3 → Nat :=
  let c0_5580 : Index := 0#32
  let v8024 : Index := Scalar.indexCast v7978
  let c0_5581 : Index := 0#32
  ![0, v8024.toNat, 0]

def k0_chk899 (i : grid0.Coords) (v7978 : BitVec 32) : Prop :=
  (∀ (k0_h2 : k0_cond2 i = 1#1), ∀ a, (k0_off1955 v7978) a + S1x1x1024.size a ≤ S1x2048x1024.size a) ∧
  (∀ (k0_h2 : k0_cond2 i = 1#1), ∀ a, (k0_off1959 v7978) a + S1x1x1024.size a ≤ S1x2048x1024.size a)
theorem k0_off1955_inb : ∀ (i : grid0.Coords) (v7978 : BitVec 32) (k0_hw899 : k0_chk899 i v7978), ∀ (k0_h2 : k0_cond2 i = 1#1), ∀ a, (k0_off1955 v7978) a + S1x1x1024.size a ≤ S1x2048x1024.size a := fun i v7978 k0_hw899 k0_h2 => k0_hw899.1 k0_h2
theorem k0_off1959_inb : ∀ (i : grid0.Coords) (v7978 : BitVec 32) (k0_hw899 : k0_chk899 i v7978), ∀ (k0_h2 : k0_cond2 i = 1#1), ∀ a, (k0_off1959 v7978) a + S1x1x1024.size a ≤ S1x2048x1024.size a := fun i v7978 k0_hw899 k0_h2 => k0_hw899.2 k0_h2

def k0_off1960 (v8032 : BitVec 32) : Fin 3 → Nat :=
  let c0_5596 : Index := 0#32
  let v8036 : Index := Scalar.indexCast v8032
  let c0_5597 : Index := 0#32
  ![0, v8036.toNat, 0]

def k0_off1961 (v8033 : BitVec 32) : Fin 3 → Nat :=
  let c0_5604 : Index := 0#32
  let v8045 : Index := Scalar.indexCast v8033
  let c0_5605 : Index := 0#32
  ![0, v8045.toNat, 0]

def k0_off1962 (v8034 : BitVec 32) : Fin 3 → Nat :=
  let c0_5612 : Index := 0#32
  let v8054 : Index := Scalar.indexCast v8034
  let c0_5613 : Index := 0#32
  ![0, v8054.toNat, 0]

def k0_off1963 (v8035 : BitVec 32) : Fin 3 → Nat :=
  let c0_5620 : Index := 0#32
  let v8063 : Index := Scalar.indexCast v8035
  let c0_5621 : Index := 0#32
  ![0, v8063.toNat, 0]

def k0_chk904 (i : grid0.Coords) (v8035 : BitVec 32) : Prop :=
  (∀ (k0_h2 : k0_cond2 i = 1#1), ∀ a, (k0_off1963 v8035) a + S1x1x1024.size a ≤ S1x2048x1024.size a)
theorem k0_off1963_inb : ∀ (i : grid0.Coords) (v8035 : BitVec 32) (k0_hw904 : k0_chk904 i v8035), ∀ (k0_h2 : k0_cond2 i = 1#1), ∀ a, (k0_off1963 v8035) a + S1x1x1024.size a ≤ S1x2048x1024.size a := fun i v8035 k0_hw904 k0_h2 => k0_hw904 k0_h2

def k0_off1964 (v8032 : BitVec 32) : Fin 3 → Nat :=
  let c0_5628 : Index := 0#32
  let v8072 : Index := Scalar.indexCast v8032
  let c0_5629 : Index := 0#32
  ![0, v8072.toNat, 0]

def k0_chk901 (i : grid0.Coords) (v8032 : BitVec 32) : Prop :=
  (∀ (k0_h2 : k0_cond2 i = 1#1), ∀ a, (k0_off1960 v8032) a + S1x1x1024.size a ≤ S1x2048x1024.size a) ∧
  (∀ (k0_h2 : k0_cond2 i = 1#1), ∀ a, (k0_off1964 v8032) a + S1x1x1024.size a ≤ S1x2048x1024.size a)
theorem k0_off1960_inb : ∀ (i : grid0.Coords) (v8032 : BitVec 32) (k0_hw901 : k0_chk901 i v8032), ∀ (k0_h2 : k0_cond2 i = 1#1), ∀ a, (k0_off1960 v8032) a + S1x1x1024.size a ≤ S1x2048x1024.size a := fun i v8032 k0_hw901 k0_h2 => k0_hw901.1 k0_h2
theorem k0_off1964_inb : ∀ (i : grid0.Coords) (v8032 : BitVec 32) (k0_hw901 : k0_chk901 i v8032), ∀ (k0_h2 : k0_cond2 i = 1#1), ∀ a, (k0_off1964 v8032) a + S1x1x1024.size a ≤ S1x2048x1024.size a := fun i v8032 k0_hw901 k0_h2 => k0_hw901.2 k0_h2

def k0_off1965 (v8033 : BitVec 32) : Fin 3 → Nat :=
  let c0_5630 : Index := 0#32
  let v8076 : Index := Scalar.indexCast v8033
  let c0_5631 : Index := 0#32
  ![0, v8076.toNat, 0]

def k0_chk902 (i : grid0.Coords) (v8033 : BitVec 32) : Prop :=
  (∀ (k0_h2 : k0_cond2 i = 1#1), ∀ a, (k0_off1961 v8033) a + S1x1x1024.size a ≤ S1x2048x1024.size a) ∧
  (∀ (k0_h2 : k0_cond2 i = 1#1), ∀ a, (k0_off1965 v8033) a + S1x1x1024.size a ≤ S1x2048x1024.size a)
theorem k0_off1961_inb : ∀ (i : grid0.Coords) (v8033 : BitVec 32) (k0_hw902 : k0_chk902 i v8033), ∀ (k0_h2 : k0_cond2 i = 1#1), ∀ a, (k0_off1961 v8033) a + S1x1x1024.size a ≤ S1x2048x1024.size a := fun i v8033 k0_hw902 k0_h2 => k0_hw902.1 k0_h2
theorem k0_off1965_inb : ∀ (i : grid0.Coords) (v8033 : BitVec 32) (k0_hw902 : k0_chk902 i v8033), ∀ (k0_h2 : k0_cond2 i = 1#1), ∀ a, (k0_off1965 v8033) a + S1x1x1024.size a ≤ S1x2048x1024.size a := fun i v8033 k0_hw902 k0_h2 => k0_hw902.2 k0_h2

def k0_off1966 (v8034 : BitVec 32) : Fin 3 → Nat :=
  let c0_5632 : Index := 0#32
  let v8080 : Index := Scalar.indexCast v8034
  let c0_5633 : Index := 0#32
  ![0, v8080.toNat, 0]

def k0_chk903 (i : grid0.Coords) (v8034 : BitVec 32) : Prop :=
  (∀ (k0_h2 : k0_cond2 i = 1#1), ∀ a, (k0_off1962 v8034) a + S1x1x1024.size a ≤ S1x2048x1024.size a) ∧
  (∀ (k0_h2 : k0_cond2 i = 1#1), ∀ a, (k0_off1966 v8034) a + S1x1x1024.size a ≤ S1x2048x1024.size a)
theorem k0_off1962_inb : ∀ (i : grid0.Coords) (v8034 : BitVec 32) (k0_hw903 : k0_chk903 i v8034), ∀ (k0_h2 : k0_cond2 i = 1#1), ∀ a, (k0_off1962 v8034) a + S1x1x1024.size a ≤ S1x2048x1024.size a := fun i v8034 k0_hw903 k0_h2 => k0_hw903.1 k0_h2
theorem k0_off1966_inb : ∀ (i : grid0.Coords) (v8034 : BitVec 32) (k0_hw903 : k0_chk903 i v8034), ∀ (k0_h2 : k0_cond2 i = 1#1), ∀ a, (k0_off1966 v8034) a + S1x1x1024.size a ≤ S1x2048x1024.size a := fun i v8034 k0_hw903 k0_h2 => k0_hw903.2 k0_h2

def k0_off1967 (v8088 : BitVec 32) : Fin 3 → Nat :=
  let c0_5648 : Index := 0#32
  let v8092 : Index := Scalar.indexCast v8088
  let c0_5649 : Index := 0#32
  ![0, v8092.toNat, 0]

def k0_off1968 (v8089 : BitVec 32) : Fin 3 → Nat :=
  let c0_5656 : Index := 0#32
  let v8101 : Index := Scalar.indexCast v8089
  let c0_5657 : Index := 0#32
  ![0, v8101.toNat, 0]

def k0_off1969 (v8090 : BitVec 32) : Fin 3 → Nat :=
  let c0_5664 : Index := 0#32
  let v8110 : Index := Scalar.indexCast v8090
  let c0_5665 : Index := 0#32
  ![0, v8110.toNat, 0]

def k0_off1970 (v8091 : BitVec 32) : Fin 3 → Nat :=
  let c0_5672 : Index := 0#32
  let v8119 : Index := Scalar.indexCast v8091
  let c0_5673 : Index := 0#32
  ![0, v8119.toNat, 0]

def k0_chk908 (i : grid0.Coords) (v8091 : BitVec 32) : Prop :=
  (∀ (k0_h2 : k0_cond2 i = 1#1), ∀ a, (k0_off1970 v8091) a + S1x1x1024.size a ≤ S1x2048x1024.size a)
theorem k0_off1970_inb : ∀ (i : grid0.Coords) (v8091 : BitVec 32) (k0_hw908 : k0_chk908 i v8091), ∀ (k0_h2 : k0_cond2 i = 1#1), ∀ a, (k0_off1970 v8091) a + S1x1x1024.size a ≤ S1x2048x1024.size a := fun i v8091 k0_hw908 k0_h2 => k0_hw908 k0_h2

def k0_off1971 (v8088 : BitVec 32) : Fin 3 → Nat :=
  let c0_5680 : Index := 0#32
  let v8128 : Index := Scalar.indexCast v8088
  let c0_5681 : Index := 0#32
  ![0, v8128.toNat, 0]

def k0_chk905 (i : grid0.Coords) (v8088 : BitVec 32) : Prop :=
  (∀ (k0_h2 : k0_cond2 i = 1#1), ∀ a, (k0_off1967 v8088) a + S1x1x1024.size a ≤ S1x2048x1024.size a) ∧
  (∀ (k0_h2 : k0_cond2 i = 1#1), ∀ a, (k0_off1971 v8088) a + S1x1x1024.size a ≤ S1x2048x1024.size a)
theorem k0_off1967_inb : ∀ (i : grid0.Coords) (v8088 : BitVec 32) (k0_hw905 : k0_chk905 i v8088), ∀ (k0_h2 : k0_cond2 i = 1#1), ∀ a, (k0_off1967 v8088) a + S1x1x1024.size a ≤ S1x2048x1024.size a := fun i v8088 k0_hw905 k0_h2 => k0_hw905.1 k0_h2
theorem k0_off1971_inb : ∀ (i : grid0.Coords) (v8088 : BitVec 32) (k0_hw905 : k0_chk905 i v8088), ∀ (k0_h2 : k0_cond2 i = 1#1), ∀ a, (k0_off1971 v8088) a + S1x1x1024.size a ≤ S1x2048x1024.size a := fun i v8088 k0_hw905 k0_h2 => k0_hw905.2 k0_h2

def k0_off1972 (v8089 : BitVec 32) : Fin 3 → Nat :=
  let c0_5682 : Index := 0#32
  let v8132 : Index := Scalar.indexCast v8089
  let c0_5683 : Index := 0#32
  ![0, v8132.toNat, 0]

def k0_chk906 (i : grid0.Coords) (v8089 : BitVec 32) : Prop :=
  (∀ (k0_h2 : k0_cond2 i = 1#1), ∀ a, (k0_off1968 v8089) a + S1x1x1024.size a ≤ S1x2048x1024.size a) ∧
  (∀ (k0_h2 : k0_cond2 i = 1#1), ∀ a, (k0_off1972 v8089) a + S1x1x1024.size a ≤ S1x2048x1024.size a)
theorem k0_off1968_inb : ∀ (i : grid0.Coords) (v8089 : BitVec 32) (k0_hw906 : k0_chk906 i v8089), ∀ (k0_h2 : k0_cond2 i = 1#1), ∀ a, (k0_off1968 v8089) a + S1x1x1024.size a ≤ S1x2048x1024.size a := fun i v8089 k0_hw906 k0_h2 => k0_hw906.1 k0_h2
theorem k0_off1972_inb : ∀ (i : grid0.Coords) (v8089 : BitVec 32) (k0_hw906 : k0_chk906 i v8089), ∀ (k0_h2 : k0_cond2 i = 1#1), ∀ a, (k0_off1972 v8089) a + S1x1x1024.size a ≤ S1x2048x1024.size a := fun i v8089 k0_hw906 k0_h2 => k0_hw906.2 k0_h2

def k0_off1973 (v8090 : BitVec 32) : Fin 3 → Nat :=
  let c0_5684 : Index := 0#32
  let v8136 : Index := Scalar.indexCast v8090
  let c0_5685 : Index := 0#32
  ![0, v8136.toNat, 0]

def k0_chk907 (i : grid0.Coords) (v8090 : BitVec 32) : Prop :=
  (∀ (k0_h2 : k0_cond2 i = 1#1), ∀ a, (k0_off1969 v8090) a + S1x1x1024.size a ≤ S1x2048x1024.size a) ∧
  (∀ (k0_h2 : k0_cond2 i = 1#1), ∀ a, (k0_off1973 v8090) a + S1x1x1024.size a ≤ S1x2048x1024.size a)
theorem k0_off1969_inb : ∀ (i : grid0.Coords) (v8090 : BitVec 32) (k0_hw907 : k0_chk907 i v8090), ∀ (k0_h2 : k0_cond2 i = 1#1), ∀ a, (k0_off1969 v8090) a + S1x1x1024.size a ≤ S1x2048x1024.size a := fun i v8090 k0_hw907 k0_h2 => k0_hw907.1 k0_h2
theorem k0_off1973_inb : ∀ (i : grid0.Coords) (v8090 : BitVec 32) (k0_hw907 : k0_chk907 i v8090), ∀ (k0_h2 : k0_cond2 i = 1#1), ∀ a, (k0_off1973 v8090) a + S1x1x1024.size a ≤ S1x2048x1024.size a := fun i v8090 k0_hw907 k0_h2 => k0_hw907.2 k0_h2

def k0_off1974 (v8144 : BitVec 32) : Fin 3 → Nat :=
  let c0_5700 : Index := 0#32
  let v8148 : Index := Scalar.indexCast v8144
  let c0_5701 : Index := 0#32
  ![0, v8148.toNat, 0]

def k0_off1975 (v8145 : BitVec 32) : Fin 3 → Nat :=
  let c0_5708 : Index := 0#32
  let v8157 : Index := Scalar.indexCast v8145
  let c0_5709 : Index := 0#32
  ![0, v8157.toNat, 0]

def k0_off1976 (v8146 : BitVec 32) : Fin 3 → Nat :=
  let c0_5716 : Index := 0#32
  let v8166 : Index := Scalar.indexCast v8146
  let c0_5717 : Index := 0#32
  ![0, v8166.toNat, 0]

def k0_off1977 (v8147 : BitVec 32) : Fin 3 → Nat :=
  let c0_5724 : Index := 0#32
  let v8175 : Index := Scalar.indexCast v8147
  let c0_5725 : Index := 0#32
  ![0, v8175.toNat, 0]

def k0_chk912 (i : grid0.Coords) (v8147 : BitVec 32) : Prop :=
  (∀ (k0_h2 : k0_cond2 i = 1#1), ∀ a, (k0_off1977 v8147) a + S1x1x1024.size a ≤ S1x2048x1024.size a)
theorem k0_off1977_inb : ∀ (i : grid0.Coords) (v8147 : BitVec 32) (k0_hw912 : k0_chk912 i v8147), ∀ (k0_h2 : k0_cond2 i = 1#1), ∀ a, (k0_off1977 v8147) a + S1x1x1024.size a ≤ S1x2048x1024.size a := fun i v8147 k0_hw912 k0_h2 => k0_hw912 k0_h2

def k0_off1978 (v8144 : BitVec 32) : Fin 3 → Nat :=
  let c0_5732 : Index := 0#32
  let v8184 : Index := Scalar.indexCast v8144
  let c0_5733 : Index := 0#32
  ![0, v8184.toNat, 0]

def k0_chk909 (i : grid0.Coords) (v8144 : BitVec 32) : Prop :=
  (∀ (k0_h2 : k0_cond2 i = 1#1), ∀ a, (k0_off1974 v8144) a + S1x1x1024.size a ≤ S1x2048x1024.size a) ∧
  (∀ (k0_h2 : k0_cond2 i = 1#1), ∀ a, (k0_off1978 v8144) a + S1x1x1024.size a ≤ S1x2048x1024.size a)
theorem k0_off1974_inb : ∀ (i : grid0.Coords) (v8144 : BitVec 32) (k0_hw909 : k0_chk909 i v8144), ∀ (k0_h2 : k0_cond2 i = 1#1), ∀ a, (k0_off1974 v8144) a + S1x1x1024.size a ≤ S1x2048x1024.size a := fun i v8144 k0_hw909 k0_h2 => k0_hw909.1 k0_h2
theorem k0_off1978_inb : ∀ (i : grid0.Coords) (v8144 : BitVec 32) (k0_hw909 : k0_chk909 i v8144), ∀ (k0_h2 : k0_cond2 i = 1#1), ∀ a, (k0_off1978 v8144) a + S1x1x1024.size a ≤ S1x2048x1024.size a := fun i v8144 k0_hw909 k0_h2 => k0_hw909.2 k0_h2

def k0_off1979 (v8145 : BitVec 32) : Fin 3 → Nat :=
  let c0_5734 : Index := 0#32
  let v8188 : Index := Scalar.indexCast v8145
  let c0_5735 : Index := 0#32
  ![0, v8188.toNat, 0]

def k0_chk910 (i : grid0.Coords) (v8145 : BitVec 32) : Prop :=
  (∀ (k0_h2 : k0_cond2 i = 1#1), ∀ a, (k0_off1975 v8145) a + S1x1x1024.size a ≤ S1x2048x1024.size a) ∧
  (∀ (k0_h2 : k0_cond2 i = 1#1), ∀ a, (k0_off1979 v8145) a + S1x1x1024.size a ≤ S1x2048x1024.size a)
theorem k0_off1975_inb : ∀ (i : grid0.Coords) (v8145 : BitVec 32) (k0_hw910 : k0_chk910 i v8145), ∀ (k0_h2 : k0_cond2 i = 1#1), ∀ a, (k0_off1975 v8145) a + S1x1x1024.size a ≤ S1x2048x1024.size a := fun i v8145 k0_hw910 k0_h2 => k0_hw910.1 k0_h2
theorem k0_off1979_inb : ∀ (i : grid0.Coords) (v8145 : BitVec 32) (k0_hw910 : k0_chk910 i v8145), ∀ (k0_h2 : k0_cond2 i = 1#1), ∀ a, (k0_off1979 v8145) a + S1x1x1024.size a ≤ S1x2048x1024.size a := fun i v8145 k0_hw910 k0_h2 => k0_hw910.2 k0_h2

def k0_off1980 (v8146 : BitVec 32) : Fin 3 → Nat :=
  let c0_5736 : Index := 0#32
  let v8192 : Index := Scalar.indexCast v8146
  let c0_5737 : Index := 0#32
  ![0, v8192.toNat, 0]

def k0_chk911 (i : grid0.Coords) (v8146 : BitVec 32) : Prop :=
  (∀ (k0_h2 : k0_cond2 i = 1#1), ∀ a, (k0_off1976 v8146) a + S1x1x1024.size a ≤ S1x2048x1024.size a) ∧
  (∀ (k0_h2 : k0_cond2 i = 1#1), ∀ a, (k0_off1980 v8146) a + S1x1x1024.size a ≤ S1x2048x1024.size a)
theorem k0_off1976_inb : ∀ (i : grid0.Coords) (v8146 : BitVec 32) (k0_hw911 : k0_chk911 i v8146), ∀ (k0_h2 : k0_cond2 i = 1#1), ∀ a, (k0_off1976 v8146) a + S1x1x1024.size a ≤ S1x2048x1024.size a := fun i v8146 k0_hw911 k0_h2 => k0_hw911.1 k0_h2
theorem k0_off1980_inb : ∀ (i : grid0.Coords) (v8146 : BitVec 32) (k0_hw911 : k0_chk911 i v8146), ∀ (k0_h2 : k0_cond2 i = 1#1), ∀ a, (k0_off1980 v8146) a + S1x1x1024.size a ≤ S1x2048x1024.size a := fun i v8146 k0_hw911 k0_h2 => k0_hw911.2 k0_h2

def k0_off1981 (v8200 : BitVec 32) : Fin 3 → Nat :=
  let c0_5752 : Index := 0#32
  let v8204 : Index := Scalar.indexCast v8200
  let c0_5753 : Index := 0#32
  ![0, v8204.toNat, 0]

def k0_off1982 (v8201 : BitVec 32) : Fin 3 → Nat :=
  let c0_5760 : Index := 0#32
  let v8213 : Index := Scalar.indexCast v8201
  let c0_5761 : Index := 0#32
  ![0, v8213.toNat, 0]

def k0_off1983 (v8202 : BitVec 32) : Fin 3 → Nat :=
  let c0_5768 : Index := 0#32
  let v8222 : Index := Scalar.indexCast v8202
  let c0_5769 : Index := 0#32
  ![0, v8222.toNat, 0]

def k0_off1984 (v8203 : BitVec 32) : Fin 3 → Nat :=
  let c0_5776 : Index := 0#32
  let v8231 : Index := Scalar.indexCast v8203
  let c0_5777 : Index := 0#32
  ![0, v8231.toNat, 0]

def k0_chk916 (i : grid0.Coords) (v8203 : BitVec 32) : Prop :=
  (∀ (k0_h2 : k0_cond2 i = 1#1), ∀ a, (k0_off1984 v8203) a + S1x1x1024.size a ≤ S1x2048x1024.size a)
theorem k0_off1984_inb : ∀ (i : grid0.Coords) (v8203 : BitVec 32) (k0_hw916 : k0_chk916 i v8203), ∀ (k0_h2 : k0_cond2 i = 1#1), ∀ a, (k0_off1984 v8203) a + S1x1x1024.size a ≤ S1x2048x1024.size a := fun i v8203 k0_hw916 k0_h2 => k0_hw916 k0_h2

def k0_off1985 (v8200 : BitVec 32) : Fin 3 → Nat :=
  let c0_5784 : Index := 0#32
  let v8240 : Index := Scalar.indexCast v8200
  let c0_5785 : Index := 0#32
  ![0, v8240.toNat, 0]

def k0_chk913 (i : grid0.Coords) (v8200 : BitVec 32) : Prop :=
  (∀ (k0_h2 : k0_cond2 i = 1#1), ∀ a, (k0_off1981 v8200) a + S1x1x1024.size a ≤ S1x2048x1024.size a) ∧
  (∀ (k0_h2 : k0_cond2 i = 1#1), ∀ a, (k0_off1985 v8200) a + S1x1x1024.size a ≤ S1x2048x1024.size a)
theorem k0_off1981_inb : ∀ (i : grid0.Coords) (v8200 : BitVec 32) (k0_hw913 : k0_chk913 i v8200), ∀ (k0_h2 : k0_cond2 i = 1#1), ∀ a, (k0_off1981 v8200) a + S1x1x1024.size a ≤ S1x2048x1024.size a := fun i v8200 k0_hw913 k0_h2 => k0_hw913.1 k0_h2
theorem k0_off1985_inb : ∀ (i : grid0.Coords) (v8200 : BitVec 32) (k0_hw913 : k0_chk913 i v8200), ∀ (k0_h2 : k0_cond2 i = 1#1), ∀ a, (k0_off1985 v8200) a + S1x1x1024.size a ≤ S1x2048x1024.size a := fun i v8200 k0_hw913 k0_h2 => k0_hw913.2 k0_h2

def k0_off1986 (v8201 : BitVec 32) : Fin 3 → Nat :=
  let c0_5786 : Index := 0#32
  let v8244 : Index := Scalar.indexCast v8201
  let c0_5787 : Index := 0#32
  ![0, v8244.toNat, 0]

def k0_chk914 (i : grid0.Coords) (v8201 : BitVec 32) : Prop :=
  (∀ (k0_h2 : k0_cond2 i = 1#1), ∀ a, (k0_off1982 v8201) a + S1x1x1024.size a ≤ S1x2048x1024.size a) ∧
  (∀ (k0_h2 : k0_cond2 i = 1#1), ∀ a, (k0_off1986 v8201) a + S1x1x1024.size a ≤ S1x2048x1024.size a)
theorem k0_off1982_inb : ∀ (i : grid0.Coords) (v8201 : BitVec 32) (k0_hw914 : k0_chk914 i v8201), ∀ (k0_h2 : k0_cond2 i = 1#1), ∀ a, (k0_off1982 v8201) a + S1x1x1024.size a ≤ S1x2048x1024.size a := fun i v8201 k0_hw914 k0_h2 => k0_hw914.1 k0_h2
theorem k0_off1986_inb : ∀ (i : grid0.Coords) (v8201 : BitVec 32) (k0_hw914 : k0_chk914 i v8201), ∀ (k0_h2 : k0_cond2 i = 1#1), ∀ a, (k0_off1986 v8201) a + S1x1x1024.size a ≤ S1x2048x1024.size a := fun i v8201 k0_hw914 k0_h2 => k0_hw914.2 k0_h2

def k0_off1987 (v8202 : BitVec 32) : Fin 3 → Nat :=
  let c0_5788 : Index := 0#32
  let v8248 : Index := Scalar.indexCast v8202
  let c0_5789 : Index := 0#32
  ![0, v8248.toNat, 0]

def k0_chk915 (i : grid0.Coords) (v8202 : BitVec 32) : Prop :=
  (∀ (k0_h2 : k0_cond2 i = 1#1), ∀ a, (k0_off1983 v8202) a + S1x1x1024.size a ≤ S1x2048x1024.size a) ∧
  (∀ (k0_h2 : k0_cond2 i = 1#1), ∀ a, (k0_off1987 v8202) a + S1x1x1024.size a ≤ S1x2048x1024.size a)
theorem k0_off1983_inb : ∀ (i : grid0.Coords) (v8202 : BitVec 32) (k0_hw915 : k0_chk915 i v8202), ∀ (k0_h2 : k0_cond2 i = 1#1), ∀ a, (k0_off1983 v8202) a + S1x1x1024.size a ≤ S1x2048x1024.size a := fun i v8202 k0_hw915 k0_h2 => k0_hw915.1 k0_h2
theorem k0_off1987_inb : ∀ (i : grid0.Coords) (v8202 : BitVec 32) (k0_hw915 : k0_chk915 i v8202), ∀ (k0_h2 : k0_cond2 i = 1#1), ∀ a, (k0_off1987 v8202) a + S1x1x1024.size a ≤ S1x2048x1024.size a := fun i v8202 k0_hw915 k0_h2 => k0_hw915.2 k0_h2

def k0_off1988 (v8256 : BitVec 32) : Fin 3 → Nat :=
  let c0_5804 : Index := 0#32
  let v8260 : Index := Scalar.indexCast v8256
  let c0_5805 : Index := 0#32
  ![0, v8260.toNat, 0]

def k0_off1989 (v8257 : BitVec 32) : Fin 3 → Nat :=
  let c0_5812 : Index := 0#32
  let v8269 : Index := Scalar.indexCast v8257
  let c0_5813 : Index := 0#32
  ![0, v8269.toNat, 0]

def k0_off1990 (v8258 : BitVec 32) : Fin 3 → Nat :=
  let c0_5820 : Index := 0#32
  let v8278 : Index := Scalar.indexCast v8258
  let c0_5821 : Index := 0#32
  ![0, v8278.toNat, 0]

def k0_off1991 (v8259 : BitVec 32) : Fin 3 → Nat :=
  let c0_5828 : Index := 0#32
  let v8287 : Index := Scalar.indexCast v8259
  let c0_5829 : Index := 0#32
  ![0, v8287.toNat, 0]

def k0_chk920 (i : grid0.Coords) (v8259 : BitVec 32) : Prop :=
  (∀ (k0_h2 : k0_cond2 i = 1#1), ∀ a, (k0_off1991 v8259) a + S1x1x1024.size a ≤ S1x2048x1024.size a)
theorem k0_off1991_inb : ∀ (i : grid0.Coords) (v8259 : BitVec 32) (k0_hw920 : k0_chk920 i v8259), ∀ (k0_h2 : k0_cond2 i = 1#1), ∀ a, (k0_off1991 v8259) a + S1x1x1024.size a ≤ S1x2048x1024.size a := fun i v8259 k0_hw920 k0_h2 => k0_hw920 k0_h2

def k0_off1992 (v8256 : BitVec 32) : Fin 3 → Nat :=
  let c0_5836 : Index := 0#32
  let v8296 : Index := Scalar.indexCast v8256
  let c0_5837 : Index := 0#32
  ![0, v8296.toNat, 0]

def k0_chk917 (i : grid0.Coords) (v8256 : BitVec 32) : Prop :=
  (∀ (k0_h2 : k0_cond2 i = 1#1), ∀ a, (k0_off1988 v8256) a + S1x1x1024.size a ≤ S1x2048x1024.size a) ∧
  (∀ (k0_h2 : k0_cond2 i = 1#1), ∀ a, (k0_off1992 v8256) a + S1x1x1024.size a ≤ S1x2048x1024.size a)
theorem k0_off1988_inb : ∀ (i : grid0.Coords) (v8256 : BitVec 32) (k0_hw917 : k0_chk917 i v8256), ∀ (k0_h2 : k0_cond2 i = 1#1), ∀ a, (k0_off1988 v8256) a + S1x1x1024.size a ≤ S1x2048x1024.size a := fun i v8256 k0_hw917 k0_h2 => k0_hw917.1 k0_h2
theorem k0_off1992_inb : ∀ (i : grid0.Coords) (v8256 : BitVec 32) (k0_hw917 : k0_chk917 i v8256), ∀ (k0_h2 : k0_cond2 i = 1#1), ∀ a, (k0_off1992 v8256) a + S1x1x1024.size a ≤ S1x2048x1024.size a := fun i v8256 k0_hw917 k0_h2 => k0_hw917.2 k0_h2

def k0_off1993 (v8257 : BitVec 32) : Fin 3 → Nat :=
  let c0_5838 : Index := 0#32
  let v8300 : Index := Scalar.indexCast v8257
  let c0_5839 : Index := 0#32
  ![0, v8300.toNat, 0]

def k0_chk918 (i : grid0.Coords) (v8257 : BitVec 32) : Prop :=
  (∀ (k0_h2 : k0_cond2 i = 1#1), ∀ a, (k0_off1989 v8257) a + S1x1x1024.size a ≤ S1x2048x1024.size a) ∧
  (∀ (k0_h2 : k0_cond2 i = 1#1), ∀ a, (k0_off1993 v8257) a + S1x1x1024.size a ≤ S1x2048x1024.size a)
theorem k0_off1989_inb : ∀ (i : grid0.Coords) (v8257 : BitVec 32) (k0_hw918 : k0_chk918 i v8257), ∀ (k0_h2 : k0_cond2 i = 1#1), ∀ a, (k0_off1989 v8257) a + S1x1x1024.size a ≤ S1x2048x1024.size a := fun i v8257 k0_hw918 k0_h2 => k0_hw918.1 k0_h2
theorem k0_off1993_inb : ∀ (i : grid0.Coords) (v8257 : BitVec 32) (k0_hw918 : k0_chk918 i v8257), ∀ (k0_h2 : k0_cond2 i = 1#1), ∀ a, (k0_off1993 v8257) a + S1x1x1024.size a ≤ S1x2048x1024.size a := fun i v8257 k0_hw918 k0_h2 => k0_hw918.2 k0_h2

def k0_off1994 (v8258 : BitVec 32) : Fin 3 → Nat :=
  let c0_5840 : Index := 0#32
  let v8304 : Index := Scalar.indexCast v8258
  let c0_5841 : Index := 0#32
  ![0, v8304.toNat, 0]

def k0_chk919 (i : grid0.Coords) (v8258 : BitVec 32) : Prop :=
  (∀ (k0_h2 : k0_cond2 i = 1#1), ∀ a, (k0_off1990 v8258) a + S1x1x1024.size a ≤ S1x2048x1024.size a) ∧
  (∀ (k0_h2 : k0_cond2 i = 1#1), ∀ a, (k0_off1994 v8258) a + S1x1x1024.size a ≤ S1x2048x1024.size a)
theorem k0_off1990_inb : ∀ (i : grid0.Coords) (v8258 : BitVec 32) (k0_hw919 : k0_chk919 i v8258), ∀ (k0_h2 : k0_cond2 i = 1#1), ∀ a, (k0_off1990 v8258) a + S1x1x1024.size a ≤ S1x2048x1024.size a := fun i v8258 k0_hw919 k0_h2 => k0_hw919.1 k0_h2
theorem k0_off1994_inb : ∀ (i : grid0.Coords) (v8258 : BitVec 32) (k0_hw919 : k0_chk919 i v8258), ∀ (k0_h2 : k0_cond2 i = 1#1), ∀ a, (k0_off1994 v8258) a + S1x1x1024.size a ≤ S1x2048x1024.size a := fun i v8258 k0_hw919 k0_h2 => k0_hw919.2 k0_h2

def k0_off1995 (v8312 : BitVec 32) : Fin 3 → Nat :=
  let c0_5856 : Index := 0#32
  let v8316 : Index := Scalar.indexCast v8312
  let c0_5857 : Index := 0#32
  ![0, v8316.toNat, 0]

def k0_off1996 (v8313 : BitVec 32) : Fin 3 → Nat :=
  let c0_5864 : Index := 0#32
  let v8325 : Index := Scalar.indexCast v8313
  let c0_5865 : Index := 0#32
  ![0, v8325.toNat, 0]

def k0_off1997 (v8314 : BitVec 32) : Fin 3 → Nat :=
  let c0_5872 : Index := 0#32
  let v8334 : Index := Scalar.indexCast v8314
  let c0_5873 : Index := 0#32
  ![0, v8334.toNat, 0]

def k0_off1998 (v8315 : BitVec 32) : Fin 3 → Nat :=
  let c0_5880 : Index := 0#32
  let v8343 : Index := Scalar.indexCast v8315
  let c0_5881 : Index := 0#32
  ![0, v8343.toNat, 0]

def k0_chk924 (i : grid0.Coords) (v8315 : BitVec 32) : Prop :=
  (∀ (k0_h2 : k0_cond2 i = 1#1), ∀ a, (k0_off1998 v8315) a + S1x1x1024.size a ≤ S1x2048x1024.size a)
theorem k0_off1998_inb : ∀ (i : grid0.Coords) (v8315 : BitVec 32) (k0_hw924 : k0_chk924 i v8315), ∀ (k0_h2 : k0_cond2 i = 1#1), ∀ a, (k0_off1998 v8315) a + S1x1x1024.size a ≤ S1x2048x1024.size a := fun i v8315 k0_hw924 k0_h2 => k0_hw924 k0_h2

def k0_off1999 (v8312 : BitVec 32) : Fin 3 → Nat :=
  let c0_5888 : Index := 0#32
  let v8352 : Index := Scalar.indexCast v8312
  let c0_5889 : Index := 0#32
  ![0, v8352.toNat, 0]

def k0_chk921 (i : grid0.Coords) (v8312 : BitVec 32) : Prop :=
  (∀ (k0_h2 : k0_cond2 i = 1#1), ∀ a, (k0_off1995 v8312) a + S1x1x1024.size a ≤ S1x2048x1024.size a) ∧
  (∀ (k0_h2 : k0_cond2 i = 1#1), ∀ a, (k0_off1999 v8312) a + S1x1x1024.size a ≤ S1x2048x1024.size a)
theorem k0_off1995_inb : ∀ (i : grid0.Coords) (v8312 : BitVec 32) (k0_hw921 : k0_chk921 i v8312), ∀ (k0_h2 : k0_cond2 i = 1#1), ∀ a, (k0_off1995 v8312) a + S1x1x1024.size a ≤ S1x2048x1024.size a := fun i v8312 k0_hw921 k0_h2 => k0_hw921.1 k0_h2
theorem k0_off1999_inb : ∀ (i : grid0.Coords) (v8312 : BitVec 32) (k0_hw921 : k0_chk921 i v8312), ∀ (k0_h2 : k0_cond2 i = 1#1), ∀ a, (k0_off1999 v8312) a + S1x1x1024.size a ≤ S1x2048x1024.size a := fun i v8312 k0_hw921 k0_h2 => k0_hw921.2 k0_h2

def k0_off2000 (v8313 : BitVec 32) : Fin 3 → Nat :=
  let c0_5890 : Index := 0#32
  let v8356 : Index := Scalar.indexCast v8313
  let c0_5891 : Index := 0#32
  ![0, v8356.toNat, 0]

def k0_chk922 (i : grid0.Coords) (v8313 : BitVec 32) : Prop :=
  (∀ (k0_h2 : k0_cond2 i = 1#1), ∀ a, (k0_off1996 v8313) a + S1x1x1024.size a ≤ S1x2048x1024.size a) ∧
  (∀ (k0_h2 : k0_cond2 i = 1#1), ∀ a, (k0_off2000 v8313) a + S1x1x1024.size a ≤ S1x2048x1024.size a)
theorem k0_off1996_inb : ∀ (i : grid0.Coords) (v8313 : BitVec 32) (k0_hw922 : k0_chk922 i v8313), ∀ (k0_h2 : k0_cond2 i = 1#1), ∀ a, (k0_off1996 v8313) a + S1x1x1024.size a ≤ S1x2048x1024.size a := fun i v8313 k0_hw922 k0_h2 => k0_hw922.1 k0_h2
theorem k0_off2000_inb : ∀ (i : grid0.Coords) (v8313 : BitVec 32) (k0_hw922 : k0_chk922 i v8313), ∀ (k0_h2 : k0_cond2 i = 1#1), ∀ a, (k0_off2000 v8313) a + S1x1x1024.size a ≤ S1x2048x1024.size a := fun i v8313 k0_hw922 k0_h2 => k0_hw922.2 k0_h2

def k0_off2001 (v8314 : BitVec 32) : Fin 3 → Nat :=
  let c0_5892 : Index := 0#32
  let v8360 : Index := Scalar.indexCast v8314
  let c0_5893 : Index := 0#32
  ![0, v8360.toNat, 0]

def k0_chk923 (i : grid0.Coords) (v8314 : BitVec 32) : Prop :=
  (∀ (k0_h2 : k0_cond2 i = 1#1), ∀ a, (k0_off1997 v8314) a + S1x1x1024.size a ≤ S1x2048x1024.size a) ∧
  (∀ (k0_h2 : k0_cond2 i = 1#1), ∀ a, (k0_off2001 v8314) a + S1x1x1024.size a ≤ S1x2048x1024.size a)
theorem k0_off1997_inb : ∀ (i : grid0.Coords) (v8314 : BitVec 32) (k0_hw923 : k0_chk923 i v8314), ∀ (k0_h2 : k0_cond2 i = 1#1), ∀ a, (k0_off1997 v8314) a + S1x1x1024.size a ≤ S1x2048x1024.size a := fun i v8314 k0_hw923 k0_h2 => k0_hw923.1 k0_h2
theorem k0_off2001_inb : ∀ (i : grid0.Coords) (v8314 : BitVec 32) (k0_hw923 : k0_chk923 i v8314), ∀ (k0_h2 : k0_cond2 i = 1#1), ∀ a, (k0_off2001 v8314) a + S1x1x1024.size a ≤ S1x2048x1024.size a := fun i v8314 k0_hw923 k0_h2 => k0_hw923.2 k0_h2

def k0_off2002 (v8368 : BitVec 32) : Fin 3 → Nat :=
  let c0_5908 : Index := 0#32
  let v8372 : Index := Scalar.indexCast v8368
  let c0_5909 : Index := 0#32
  ![0, v8372.toNat, 0]

def k0_off2003 (v8369 : BitVec 32) : Fin 3 → Nat :=
  let c0_5916 : Index := 0#32
  let v8381 : Index := Scalar.indexCast v8369
  let c0_5917 : Index := 0#32
  ![0, v8381.toNat, 0]

def k0_off2004 (v8370 : BitVec 32) : Fin 3 → Nat :=
  let c0_5924 : Index := 0#32
  let v8390 : Index := Scalar.indexCast v8370
  let c0_5925 : Index := 0#32
  ![0, v8390.toNat, 0]

def k0_off2005 (v8371 : BitVec 32) : Fin 3 → Nat :=
  let c0_5932 : Index := 0#32
  let v8399 : Index := Scalar.indexCast v8371
  let c0_5933 : Index := 0#32
  ![0, v8399.toNat, 0]

def k0_chk928 (i : grid0.Coords) (v8371 : BitVec 32) : Prop :=
  (∀ (k0_h2 : k0_cond2 i = 1#1), ∀ a, (k0_off2005 v8371) a + S1x1x1024.size a ≤ S1x2048x1024.size a)
theorem k0_off2005_inb : ∀ (i : grid0.Coords) (v8371 : BitVec 32) (k0_hw928 : k0_chk928 i v8371), ∀ (k0_h2 : k0_cond2 i = 1#1), ∀ a, (k0_off2005 v8371) a + S1x1x1024.size a ≤ S1x2048x1024.size a := fun i v8371 k0_hw928 k0_h2 => k0_hw928 k0_h2

def k0_off2006 (v8368 : BitVec 32) : Fin 3 → Nat :=
  let c0_5940 : Index := 0#32
  let v8408 : Index := Scalar.indexCast v8368
  let c0_5941 : Index := 0#32
  ![0, v8408.toNat, 0]

def k0_chk925 (i : grid0.Coords) (v8368 : BitVec 32) : Prop :=
  (∀ (k0_h2 : k0_cond2 i = 1#1), ∀ a, (k0_off2002 v8368) a + S1x1x1024.size a ≤ S1x2048x1024.size a) ∧
  (∀ (k0_h2 : k0_cond2 i = 1#1), ∀ a, (k0_off2006 v8368) a + S1x1x1024.size a ≤ S1x2048x1024.size a)
theorem k0_off2002_inb : ∀ (i : grid0.Coords) (v8368 : BitVec 32) (k0_hw925 : k0_chk925 i v8368), ∀ (k0_h2 : k0_cond2 i = 1#1), ∀ a, (k0_off2002 v8368) a + S1x1x1024.size a ≤ S1x2048x1024.size a := fun i v8368 k0_hw925 k0_h2 => k0_hw925.1 k0_h2
theorem k0_off2006_inb : ∀ (i : grid0.Coords) (v8368 : BitVec 32) (k0_hw925 : k0_chk925 i v8368), ∀ (k0_h2 : k0_cond2 i = 1#1), ∀ a, (k0_off2006 v8368) a + S1x1x1024.size a ≤ S1x2048x1024.size a := fun i v8368 k0_hw925 k0_h2 => k0_hw925.2 k0_h2

def k0_off2007 (v8369 : BitVec 32) : Fin 3 → Nat :=
  let c0_5942 : Index := 0#32
  let v8412 : Index := Scalar.indexCast v8369
  let c0_5943 : Index := 0#32
  ![0, v8412.toNat, 0]

def k0_chk926 (i : grid0.Coords) (v8369 : BitVec 32) : Prop :=
  (∀ (k0_h2 : k0_cond2 i = 1#1), ∀ a, (k0_off2003 v8369) a + S1x1x1024.size a ≤ S1x2048x1024.size a) ∧
  (∀ (k0_h2 : k0_cond2 i = 1#1), ∀ a, (k0_off2007 v8369) a + S1x1x1024.size a ≤ S1x2048x1024.size a)
theorem k0_off2003_inb : ∀ (i : grid0.Coords) (v8369 : BitVec 32) (k0_hw926 : k0_chk926 i v8369), ∀ (k0_h2 : k0_cond2 i = 1#1), ∀ a, (k0_off2003 v8369) a + S1x1x1024.size a ≤ S1x2048x1024.size a := fun i v8369 k0_hw926 k0_h2 => k0_hw926.1 k0_h2
theorem k0_off2007_inb : ∀ (i : grid0.Coords) (v8369 : BitVec 32) (k0_hw926 : k0_chk926 i v8369), ∀ (k0_h2 : k0_cond2 i = 1#1), ∀ a, (k0_off2007 v8369) a + S1x1x1024.size a ≤ S1x2048x1024.size a := fun i v8369 k0_hw926 k0_h2 => k0_hw926.2 k0_h2

def k0_off2008 (v8370 : BitVec 32) : Fin 3 → Nat :=
  let c0_5944 : Index := 0#32
  let v8416 : Index := Scalar.indexCast v8370
  let c0_5945 : Index := 0#32
  ![0, v8416.toNat, 0]

def k0_chk927 (i : grid0.Coords) (v8370 : BitVec 32) : Prop :=
  (∀ (k0_h2 : k0_cond2 i = 1#1), ∀ a, (k0_off2004 v8370) a + S1x1x1024.size a ≤ S1x2048x1024.size a) ∧
  (∀ (k0_h2 : k0_cond2 i = 1#1), ∀ a, (k0_off2008 v8370) a + S1x1x1024.size a ≤ S1x2048x1024.size a)
theorem k0_off2004_inb : ∀ (i : grid0.Coords) (v8370 : BitVec 32) (k0_hw927 : k0_chk927 i v8370), ∀ (k0_h2 : k0_cond2 i = 1#1), ∀ a, (k0_off2004 v8370) a + S1x1x1024.size a ≤ S1x2048x1024.size a := fun i v8370 k0_hw927 k0_h2 => k0_hw927.1 k0_h2
theorem k0_off2008_inb : ∀ (i : grid0.Coords) (v8370 : BitVec 32) (k0_hw927 : k0_chk927 i v8370), ∀ (k0_h2 : k0_cond2 i = 1#1), ∀ a, (k0_off2008 v8370) a + S1x1x1024.size a ≤ S1x2048x1024.size a := fun i v8370 k0_hw927 k0_h2 => k0_hw927.2 k0_h2

def k0_off2009 (v8424 : BitVec 32) : Fin 3 → Nat :=
  let c0_5960 : Index := 0#32
  let v8428 : Index := Scalar.indexCast v8424
  let c0_5961 : Index := 0#32
  ![0, v8428.toNat, 0]

def k0_off2010 (v8425 : BitVec 32) : Fin 3 → Nat :=
  let c0_5968 : Index := 0#32
  let v8437 : Index := Scalar.indexCast v8425
  let c0_5969 : Index := 0#32
  ![0, v8437.toNat, 0]

def k0_off2011 (v8426 : BitVec 32) : Fin 3 → Nat :=
  let c0_5976 : Index := 0#32
  let v8446 : Index := Scalar.indexCast v8426
  let c0_5977 : Index := 0#32
  ![0, v8446.toNat, 0]

def k0_off2012 (v8427 : BitVec 32) : Fin 3 → Nat :=
  let c0_5984 : Index := 0#32
  let v8455 : Index := Scalar.indexCast v8427
  let c0_5985 : Index := 0#32
  ![0, v8455.toNat, 0]

def k0_chk932 (i : grid0.Coords) (v8427 : BitVec 32) : Prop :=
  (∀ (k0_h2 : k0_cond2 i = 1#1), ∀ a, (k0_off2012 v8427) a + S1x1x1024.size a ≤ S1x2048x1024.size a)
theorem k0_off2012_inb : ∀ (i : grid0.Coords) (v8427 : BitVec 32) (k0_hw932 : k0_chk932 i v8427), ∀ (k0_h2 : k0_cond2 i = 1#1), ∀ a, (k0_off2012 v8427) a + S1x1x1024.size a ≤ S1x2048x1024.size a := fun i v8427 k0_hw932 k0_h2 => k0_hw932 k0_h2

def k0_off2013 (v8424 : BitVec 32) : Fin 3 → Nat :=
  let c0_5992 : Index := 0#32
  let v8464 : Index := Scalar.indexCast v8424
  let c0_5993 : Index := 0#32
  ![0, v8464.toNat, 0]

def k0_chk929 (i : grid0.Coords) (v8424 : BitVec 32) : Prop :=
  (∀ (k0_h2 : k0_cond2 i = 1#1), ∀ a, (k0_off2009 v8424) a + S1x1x1024.size a ≤ S1x2048x1024.size a) ∧
  (∀ (k0_h2 : k0_cond2 i = 1#1), ∀ a, (k0_off2013 v8424) a + S1x1x1024.size a ≤ S1x2048x1024.size a)
theorem k0_off2009_inb : ∀ (i : grid0.Coords) (v8424 : BitVec 32) (k0_hw929 : k0_chk929 i v8424), ∀ (k0_h2 : k0_cond2 i = 1#1), ∀ a, (k0_off2009 v8424) a + S1x1x1024.size a ≤ S1x2048x1024.size a := fun i v8424 k0_hw929 k0_h2 => k0_hw929.1 k0_h2
theorem k0_off2013_inb : ∀ (i : grid0.Coords) (v8424 : BitVec 32) (k0_hw929 : k0_chk929 i v8424), ∀ (k0_h2 : k0_cond2 i = 1#1), ∀ a, (k0_off2013 v8424) a + S1x1x1024.size a ≤ S1x2048x1024.size a := fun i v8424 k0_hw929 k0_h2 => k0_hw929.2 k0_h2

def k0_off2014 (v8425 : BitVec 32) : Fin 3 → Nat :=
  let c0_5994 : Index := 0#32
  let v8468 : Index := Scalar.indexCast v8425
  let c0_5995 : Index := 0#32
  ![0, v8468.toNat, 0]

def k0_chk930 (i : grid0.Coords) (v8425 : BitVec 32) : Prop :=
  (∀ (k0_h2 : k0_cond2 i = 1#1), ∀ a, (k0_off2010 v8425) a + S1x1x1024.size a ≤ S1x2048x1024.size a) ∧
  (∀ (k0_h2 : k0_cond2 i = 1#1), ∀ a, (k0_off2014 v8425) a + S1x1x1024.size a ≤ S1x2048x1024.size a)
theorem k0_off2010_inb : ∀ (i : grid0.Coords) (v8425 : BitVec 32) (k0_hw930 : k0_chk930 i v8425), ∀ (k0_h2 : k0_cond2 i = 1#1), ∀ a, (k0_off2010 v8425) a + S1x1x1024.size a ≤ S1x2048x1024.size a := fun i v8425 k0_hw930 k0_h2 => k0_hw930.1 k0_h2
theorem k0_off2014_inb : ∀ (i : grid0.Coords) (v8425 : BitVec 32) (k0_hw930 : k0_chk930 i v8425), ∀ (k0_h2 : k0_cond2 i = 1#1), ∀ a, (k0_off2014 v8425) a + S1x1x1024.size a ≤ S1x2048x1024.size a := fun i v8425 k0_hw930 k0_h2 => k0_hw930.2 k0_h2

def k0_off2015 (v8426 : BitVec 32) : Fin 3 → Nat :=
  let c0_5996 : Index := 0#32
  let v8472 : Index := Scalar.indexCast v8426
  let c0_5997 : Index := 0#32
  ![0, v8472.toNat, 0]

def k0_chk931 (i : grid0.Coords) (v8426 : BitVec 32) : Prop :=
  (∀ (k0_h2 : k0_cond2 i = 1#1), ∀ a, (k0_off2011 v8426) a + S1x1x1024.size a ≤ S1x2048x1024.size a) ∧
  (∀ (k0_h2 : k0_cond2 i = 1#1), ∀ a, (k0_off2015 v8426) a + S1x1x1024.size a ≤ S1x2048x1024.size a)
theorem k0_off2011_inb : ∀ (i : grid0.Coords) (v8426 : BitVec 32) (k0_hw931 : k0_chk931 i v8426), ∀ (k0_h2 : k0_cond2 i = 1#1), ∀ a, (k0_off2011 v8426) a + S1x1x1024.size a ≤ S1x2048x1024.size a := fun i v8426 k0_hw931 k0_h2 => k0_hw931.1 k0_h2
theorem k0_off2015_inb : ∀ (i : grid0.Coords) (v8426 : BitVec 32) (k0_hw931 : k0_chk931 i v8426), ∀ (k0_h2 : k0_cond2 i = 1#1), ∀ a, (k0_off2015 v8426) a + S1x1x1024.size a ≤ S1x2048x1024.size a := fun i v8426 k0_hw931 k0_h2 => k0_hw931.2 k0_h2

def k0_off2016 (v8480 : BitVec 32) : Fin 3 → Nat :=
  let c0_6012 : Index := 0#32
  let v8484 : Index := Scalar.indexCast v8480
  let c0_6013 : Index := 0#32
  ![0, v8484.toNat, 0]

def k0_off2017 (v8481 : BitVec 32) : Fin 3 → Nat :=
  let c0_6020 : Index := 0#32
  let v8493 : Index := Scalar.indexCast v8481
  let c0_6021 : Index := 0#32
  ![0, v8493.toNat, 0]

def k0_off2018 (v8482 : BitVec 32) : Fin 3 → Nat :=
  let c0_6028 : Index := 0#32
  let v8502 : Index := Scalar.indexCast v8482
  let c0_6029 : Index := 0#32
  ![0, v8502.toNat, 0]

def k0_off2019 (v8483 : BitVec 32) : Fin 3 → Nat :=
  let c0_6036 : Index := 0#32
  let v8511 : Index := Scalar.indexCast v8483
  let c0_6037 : Index := 0#32
  ![0, v8511.toNat, 0]

def k0_chk936 (i : grid0.Coords) (v8483 : BitVec 32) : Prop :=
  (∀ (k0_h2 : k0_cond2 i = 1#1), ∀ a, (k0_off2019 v8483) a + S1x1x1024.size a ≤ S1x2048x1024.size a)
theorem k0_off2019_inb : ∀ (i : grid0.Coords) (v8483 : BitVec 32) (k0_hw936 : k0_chk936 i v8483), ∀ (k0_h2 : k0_cond2 i = 1#1), ∀ a, (k0_off2019 v8483) a + S1x1x1024.size a ≤ S1x2048x1024.size a := fun i v8483 k0_hw936 k0_h2 => k0_hw936 k0_h2

def k0_off2020 (v8480 : BitVec 32) : Fin 3 → Nat :=
  let c0_6044 : Index := 0#32
  let v8520 : Index := Scalar.indexCast v8480
  let c0_6045 : Index := 0#32
  ![0, v8520.toNat, 0]

def k0_chk933 (i : grid0.Coords) (v8480 : BitVec 32) : Prop :=
  (∀ (k0_h2 : k0_cond2 i = 1#1), ∀ a, (k0_off2016 v8480) a + S1x1x1024.size a ≤ S1x2048x1024.size a) ∧
  (∀ (k0_h2 : k0_cond2 i = 1#1), ∀ a, (k0_off2020 v8480) a + S1x1x1024.size a ≤ S1x2048x1024.size a)
theorem k0_off2016_inb : ∀ (i : grid0.Coords) (v8480 : BitVec 32) (k0_hw933 : k0_chk933 i v8480), ∀ (k0_h2 : k0_cond2 i = 1#1), ∀ a, (k0_off2016 v8480) a + S1x1x1024.size a ≤ S1x2048x1024.size a := fun i v8480 k0_hw933 k0_h2 => k0_hw933.1 k0_h2
theorem k0_off2020_inb : ∀ (i : grid0.Coords) (v8480 : BitVec 32) (k0_hw933 : k0_chk933 i v8480), ∀ (k0_h2 : k0_cond2 i = 1#1), ∀ a, (k0_off2020 v8480) a + S1x1x1024.size a ≤ S1x2048x1024.size a := fun i v8480 k0_hw933 k0_h2 => k0_hw933.2 k0_h2

def k0_off2021 (v8481 : BitVec 32) : Fin 3 → Nat :=
  let c0_6046 : Index := 0#32
  let v8524 : Index := Scalar.indexCast v8481
  let c0_6047 : Index := 0#32
  ![0, v8524.toNat, 0]

def k0_chk934 (i : grid0.Coords) (v8481 : BitVec 32) : Prop :=
  (∀ (k0_h2 : k0_cond2 i = 1#1), ∀ a, (k0_off2017 v8481) a + S1x1x1024.size a ≤ S1x2048x1024.size a) ∧
  (∀ (k0_h2 : k0_cond2 i = 1#1), ∀ a, (k0_off2021 v8481) a + S1x1x1024.size a ≤ S1x2048x1024.size a)
theorem k0_off2017_inb : ∀ (i : grid0.Coords) (v8481 : BitVec 32) (k0_hw934 : k0_chk934 i v8481), ∀ (k0_h2 : k0_cond2 i = 1#1), ∀ a, (k0_off2017 v8481) a + S1x1x1024.size a ≤ S1x2048x1024.size a := fun i v8481 k0_hw934 k0_h2 => k0_hw934.1 k0_h2
theorem k0_off2021_inb : ∀ (i : grid0.Coords) (v8481 : BitVec 32) (k0_hw934 : k0_chk934 i v8481), ∀ (k0_h2 : k0_cond2 i = 1#1), ∀ a, (k0_off2021 v8481) a + S1x1x1024.size a ≤ S1x2048x1024.size a := fun i v8481 k0_hw934 k0_h2 => k0_hw934.2 k0_h2

def k0_off2022 (v8482 : BitVec 32) : Fin 3 → Nat :=
  let c0_6048 : Index := 0#32
  let v8528 : Index := Scalar.indexCast v8482
  let c0_6049 : Index := 0#32
  ![0, v8528.toNat, 0]

def k0_chk935 (i : grid0.Coords) (v8482 : BitVec 32) : Prop :=
  (∀ (k0_h2 : k0_cond2 i = 1#1), ∀ a, (k0_off2018 v8482) a + S1x1x1024.size a ≤ S1x2048x1024.size a) ∧
  (∀ (k0_h2 : k0_cond2 i = 1#1), ∀ a, (k0_off2022 v8482) a + S1x1x1024.size a ≤ S1x2048x1024.size a)
theorem k0_off2018_inb : ∀ (i : grid0.Coords) (v8482 : BitVec 32) (k0_hw935 : k0_chk935 i v8482), ∀ (k0_h2 : k0_cond2 i = 1#1), ∀ a, (k0_off2018 v8482) a + S1x1x1024.size a ≤ S1x2048x1024.size a := fun i v8482 k0_hw935 k0_h2 => k0_hw935.1 k0_h2
theorem k0_off2022_inb : ∀ (i : grid0.Coords) (v8482 : BitVec 32) (k0_hw935 : k0_chk935 i v8482), ∀ (k0_h2 : k0_cond2 i = 1#1), ∀ a, (k0_off2022 v8482) a + S1x1x1024.size a ≤ S1x2048x1024.size a := fun i v8482 k0_hw935 k0_h2 => k0_hw935.2 k0_h2

def k0_off2023 (v8536 : BitVec 32) : Fin 3 → Nat :=
  let c0_6064 : Index := 0#32
  let v8540 : Index := Scalar.indexCast v8536
  let c0_6065 : Index := 0#32
  ![0, v8540.toNat, 0]

def k0_off2024 (v8537 : BitVec 32) : Fin 3 → Nat :=
  let c0_6072 : Index := 0#32
  let v8549 : Index := Scalar.indexCast v8537
  let c0_6073 : Index := 0#32
  ![0, v8549.toNat, 0]

def k0_off2025 (v8538 : BitVec 32) : Fin 3 → Nat :=
  let c0_6080 : Index := 0#32
  let v8558 : Index := Scalar.indexCast v8538
  let c0_6081 : Index := 0#32
  ![0, v8558.toNat, 0]

def k0_off2026 (v8539 : BitVec 32) : Fin 3 → Nat :=
  let c0_6088 : Index := 0#32
  let v8567 : Index := Scalar.indexCast v8539
  let c0_6089 : Index := 0#32
  ![0, v8567.toNat, 0]

def k0_chk940 (i : grid0.Coords) (v8539 : BitVec 32) : Prop :=
  (∀ (k0_h2 : k0_cond2 i = 1#1), ∀ a, (k0_off2026 v8539) a + S1x1x1024.size a ≤ S1x2048x1024.size a)
theorem k0_off2026_inb : ∀ (i : grid0.Coords) (v8539 : BitVec 32) (k0_hw940 : k0_chk940 i v8539), ∀ (k0_h2 : k0_cond2 i = 1#1), ∀ a, (k0_off2026 v8539) a + S1x1x1024.size a ≤ S1x2048x1024.size a := fun i v8539 k0_hw940 k0_h2 => k0_hw940 k0_h2

def k0_off2027 (v8536 : BitVec 32) : Fin 3 → Nat :=
  let c0_6096 : Index := 0#32
  let v8576 : Index := Scalar.indexCast v8536
  let c0_6097 : Index := 0#32
  ![0, v8576.toNat, 0]

def k0_chk937 (i : grid0.Coords) (v8536 : BitVec 32) : Prop :=
  (∀ (k0_h2 : k0_cond2 i = 1#1), ∀ a, (k0_off2023 v8536) a + S1x1x1024.size a ≤ S1x2048x1024.size a) ∧
  (∀ (k0_h2 : k0_cond2 i = 1#1), ∀ a, (k0_off2027 v8536) a + S1x1x1024.size a ≤ S1x2048x1024.size a)
theorem k0_off2023_inb : ∀ (i : grid0.Coords) (v8536 : BitVec 32) (k0_hw937 : k0_chk937 i v8536), ∀ (k0_h2 : k0_cond2 i = 1#1), ∀ a, (k0_off2023 v8536) a + S1x1x1024.size a ≤ S1x2048x1024.size a := fun i v8536 k0_hw937 k0_h2 => k0_hw937.1 k0_h2
theorem k0_off2027_inb : ∀ (i : grid0.Coords) (v8536 : BitVec 32) (k0_hw937 : k0_chk937 i v8536), ∀ (k0_h2 : k0_cond2 i = 1#1), ∀ a, (k0_off2027 v8536) a + S1x1x1024.size a ≤ S1x2048x1024.size a := fun i v8536 k0_hw937 k0_h2 => k0_hw937.2 k0_h2

def k0_off2028 (v8537 : BitVec 32) : Fin 3 → Nat :=
  let c0_6098 : Index := 0#32
  let v8580 : Index := Scalar.indexCast v8537
  let c0_6099 : Index := 0#32
  ![0, v8580.toNat, 0]

def k0_chk938 (i : grid0.Coords) (v8537 : BitVec 32) : Prop :=
  (∀ (k0_h2 : k0_cond2 i = 1#1), ∀ a, (k0_off2024 v8537) a + S1x1x1024.size a ≤ S1x2048x1024.size a) ∧
  (∀ (k0_h2 : k0_cond2 i = 1#1), ∀ a, (k0_off2028 v8537) a + S1x1x1024.size a ≤ S1x2048x1024.size a)
theorem k0_off2024_inb : ∀ (i : grid0.Coords) (v8537 : BitVec 32) (k0_hw938 : k0_chk938 i v8537), ∀ (k0_h2 : k0_cond2 i = 1#1), ∀ a, (k0_off2024 v8537) a + S1x1x1024.size a ≤ S1x2048x1024.size a := fun i v8537 k0_hw938 k0_h2 => k0_hw938.1 k0_h2
theorem k0_off2028_inb : ∀ (i : grid0.Coords) (v8537 : BitVec 32) (k0_hw938 : k0_chk938 i v8537), ∀ (k0_h2 : k0_cond2 i = 1#1), ∀ a, (k0_off2028 v8537) a + S1x1x1024.size a ≤ S1x2048x1024.size a := fun i v8537 k0_hw938 k0_h2 => k0_hw938.2 k0_h2

def k0_off2029 (v8538 : BitVec 32) : Fin 3 → Nat :=
  let c0_6100 : Index := 0#32
  let v8584 : Index := Scalar.indexCast v8538
  let c0_6101 : Index := 0#32
  ![0, v8584.toNat, 0]

def k0_chk939 (i : grid0.Coords) (v8538 : BitVec 32) : Prop :=
  (∀ (k0_h2 : k0_cond2 i = 1#1), ∀ a, (k0_off2025 v8538) a + S1x1x1024.size a ≤ S1x2048x1024.size a) ∧
  (∀ (k0_h2 : k0_cond2 i = 1#1), ∀ a, (k0_off2029 v8538) a + S1x1x1024.size a ≤ S1x2048x1024.size a)
theorem k0_off2025_inb : ∀ (i : grid0.Coords) (v8538 : BitVec 32) (k0_hw939 : k0_chk939 i v8538), ∀ (k0_h2 : k0_cond2 i = 1#1), ∀ a, (k0_off2025 v8538) a + S1x1x1024.size a ≤ S1x2048x1024.size a := fun i v8538 k0_hw939 k0_h2 => k0_hw939.1 k0_h2
theorem k0_off2029_inb : ∀ (i : grid0.Coords) (v8538 : BitVec 32) (k0_hw939 : k0_chk939 i v8538), ∀ (k0_h2 : k0_cond2 i = 1#1), ∀ a, (k0_off2029 v8538) a + S1x1x1024.size a ≤ S1x2048x1024.size a := fun i v8538 k0_hw939 k0_h2 => k0_hw939.2 k0_h2

def k0_off2030 (v8592 : BitVec 32) : Fin 3 → Nat :=
  let c0_6116 : Index := 0#32
  let v8596 : Index := Scalar.indexCast v8592
  let c0_6117 : Index := 0#32
  ![0, v8596.toNat, 0]

def k0_off2031 (v8593 : BitVec 32) : Fin 3 → Nat :=
  let c0_6124 : Index := 0#32
  let v8605 : Index := Scalar.indexCast v8593
  let c0_6125 : Index := 0#32
  ![0, v8605.toNat, 0]

def k0_off2032 (v8594 : BitVec 32) : Fin 3 → Nat :=
  let c0_6132 : Index := 0#32
  let v8614 : Index := Scalar.indexCast v8594
  let c0_6133 : Index := 0#32
  ![0, v8614.toNat, 0]

def k0_off2033 (v8595 : BitVec 32) : Fin 3 → Nat :=
  let c0_6140 : Index := 0#32
  let v8623 : Index := Scalar.indexCast v8595
  let c0_6141 : Index := 0#32
  ![0, v8623.toNat, 0]

def k0_chk944 (i : grid0.Coords) (v8595 : BitVec 32) : Prop :=
  (∀ (k0_h2 : k0_cond2 i = 1#1), ∀ a, (k0_off2033 v8595) a + S1x1x1024.size a ≤ S1x2048x1024.size a)
theorem k0_off2033_inb : ∀ (i : grid0.Coords) (v8595 : BitVec 32) (k0_hw944 : k0_chk944 i v8595), ∀ (k0_h2 : k0_cond2 i = 1#1), ∀ a, (k0_off2033 v8595) a + S1x1x1024.size a ≤ S1x2048x1024.size a := fun i v8595 k0_hw944 k0_h2 => k0_hw944 k0_h2

def k0_off2034 (v8592 : BitVec 32) : Fin 3 → Nat :=
  let c0_6148 : Index := 0#32
  let v8632 : Index := Scalar.indexCast v8592
  let c0_6149 : Index := 0#32
  ![0, v8632.toNat, 0]

def k0_chk941 (i : grid0.Coords) (v8592 : BitVec 32) : Prop :=
  (∀ (k0_h2 : k0_cond2 i = 1#1), ∀ a, (k0_off2030 v8592) a + S1x1x1024.size a ≤ S1x2048x1024.size a) ∧
  (∀ (k0_h2 : k0_cond2 i = 1#1), ∀ a, (k0_off2034 v8592) a + S1x1x1024.size a ≤ S1x2048x1024.size a)
theorem k0_off2030_inb : ∀ (i : grid0.Coords) (v8592 : BitVec 32) (k0_hw941 : k0_chk941 i v8592), ∀ (k0_h2 : k0_cond2 i = 1#1), ∀ a, (k0_off2030 v8592) a + S1x1x1024.size a ≤ S1x2048x1024.size a := fun i v8592 k0_hw941 k0_h2 => k0_hw941.1 k0_h2
theorem k0_off2034_inb : ∀ (i : grid0.Coords) (v8592 : BitVec 32) (k0_hw941 : k0_chk941 i v8592), ∀ (k0_h2 : k0_cond2 i = 1#1), ∀ a, (k0_off2034 v8592) a + S1x1x1024.size a ≤ S1x2048x1024.size a := fun i v8592 k0_hw941 k0_h2 => k0_hw941.2 k0_h2

def k0_off2035 (v8593 : BitVec 32) : Fin 3 → Nat :=
  let c0_6150 : Index := 0#32
  let v8636 : Index := Scalar.indexCast v8593
  let c0_6151 : Index := 0#32
  ![0, v8636.toNat, 0]

def k0_chk942 (i : grid0.Coords) (v8593 : BitVec 32) : Prop :=
  (∀ (k0_h2 : k0_cond2 i = 1#1), ∀ a, (k0_off2031 v8593) a + S1x1x1024.size a ≤ S1x2048x1024.size a) ∧
  (∀ (k0_h2 : k0_cond2 i = 1#1), ∀ a, (k0_off2035 v8593) a + S1x1x1024.size a ≤ S1x2048x1024.size a)
theorem k0_off2031_inb : ∀ (i : grid0.Coords) (v8593 : BitVec 32) (k0_hw942 : k0_chk942 i v8593), ∀ (k0_h2 : k0_cond2 i = 1#1), ∀ a, (k0_off2031 v8593) a + S1x1x1024.size a ≤ S1x2048x1024.size a := fun i v8593 k0_hw942 k0_h2 => k0_hw942.1 k0_h2
theorem k0_off2035_inb : ∀ (i : grid0.Coords) (v8593 : BitVec 32) (k0_hw942 : k0_chk942 i v8593), ∀ (k0_h2 : k0_cond2 i = 1#1), ∀ a, (k0_off2035 v8593) a + S1x1x1024.size a ≤ S1x2048x1024.size a := fun i v8593 k0_hw942 k0_h2 => k0_hw942.2 k0_h2

def k0_off2036 (v8594 : BitVec 32) : Fin 3 → Nat :=
  let c0_6152 : Index := 0#32
  let v8640 : Index := Scalar.indexCast v8594
  let c0_6153 : Index := 0#32
  ![0, v8640.toNat, 0]

def k0_chk943 (i : grid0.Coords) (v8594 : BitVec 32) : Prop :=
  (∀ (k0_h2 : k0_cond2 i = 1#1), ∀ a, (k0_off2032 v8594) a + S1x1x1024.size a ≤ S1x2048x1024.size a) ∧
  (∀ (k0_h2 : k0_cond2 i = 1#1), ∀ a, (k0_off2036 v8594) a + S1x1x1024.size a ≤ S1x2048x1024.size a)
theorem k0_off2032_inb : ∀ (i : grid0.Coords) (v8594 : BitVec 32) (k0_hw943 : k0_chk943 i v8594), ∀ (k0_h2 : k0_cond2 i = 1#1), ∀ a, (k0_off2032 v8594) a + S1x1x1024.size a ≤ S1x2048x1024.size a := fun i v8594 k0_hw943 k0_h2 => k0_hw943.1 k0_h2
theorem k0_off2036_inb : ∀ (i : grid0.Coords) (v8594 : BitVec 32) (k0_hw943 : k0_chk943 i v8594), ∀ (k0_h2 : k0_cond2 i = 1#1), ∀ a, (k0_off2036 v8594) a + S1x1x1024.size a ≤ S1x2048x1024.size a := fun i v8594 k0_hw943 k0_h2 => k0_hw943.2 k0_h2

def k0_off2037 (v8648 : BitVec 32) : Fin 3 → Nat :=
  let c0_6168 : Index := 0#32
  let v8652 : Index := Scalar.indexCast v8648
  let c0_6169 : Index := 0#32
  ![0, v8652.toNat, 0]

def k0_off2038 (v8649 : BitVec 32) : Fin 3 → Nat :=
  let c0_6176 : Index := 0#32
  let v8661 : Index := Scalar.indexCast v8649
  let c0_6177 : Index := 0#32
  ![0, v8661.toNat, 0]

def k0_off2039 (v8650 : BitVec 32) : Fin 3 → Nat :=
  let c0_6184 : Index := 0#32
  let v8670 : Index := Scalar.indexCast v8650
  let c0_6185 : Index := 0#32
  ![0, v8670.toNat, 0]

def k0_off2040 (v8651 : BitVec 32) : Fin 3 → Nat :=
  let c0_6192 : Index := 0#32
  let v8679 : Index := Scalar.indexCast v8651
  let c0_6193 : Index := 0#32
  ![0, v8679.toNat, 0]

def k0_chk948 (i : grid0.Coords) (v8651 : BitVec 32) : Prop :=
  (∀ (k0_h2 : k0_cond2 i = 1#1), ∀ a, (k0_off2040 v8651) a + S1x1x1024.size a ≤ S1x2048x1024.size a)
theorem k0_off2040_inb : ∀ (i : grid0.Coords) (v8651 : BitVec 32) (k0_hw948 : k0_chk948 i v8651), ∀ (k0_h2 : k0_cond2 i = 1#1), ∀ a, (k0_off2040 v8651) a + S1x1x1024.size a ≤ S1x2048x1024.size a := fun i v8651 k0_hw948 k0_h2 => k0_hw948 k0_h2

def k0_off2041 (v8648 : BitVec 32) : Fin 3 → Nat :=
  let c0_6200 : Index := 0#32
  let v8688 : Index := Scalar.indexCast v8648
  let c0_6201 : Index := 0#32
  ![0, v8688.toNat, 0]

def k0_chk945 (i : grid0.Coords) (v8648 : BitVec 32) : Prop :=
  (∀ (k0_h2 : k0_cond2 i = 1#1), ∀ a, (k0_off2037 v8648) a + S1x1x1024.size a ≤ S1x2048x1024.size a) ∧
  (∀ (k0_h2 : k0_cond2 i = 1#1), ∀ a, (k0_off2041 v8648) a + S1x1x1024.size a ≤ S1x2048x1024.size a)
theorem k0_off2037_inb : ∀ (i : grid0.Coords) (v8648 : BitVec 32) (k0_hw945 : k0_chk945 i v8648), ∀ (k0_h2 : k0_cond2 i = 1#1), ∀ a, (k0_off2037 v8648) a + S1x1x1024.size a ≤ S1x2048x1024.size a := fun i v8648 k0_hw945 k0_h2 => k0_hw945.1 k0_h2
theorem k0_off2041_inb : ∀ (i : grid0.Coords) (v8648 : BitVec 32) (k0_hw945 : k0_chk945 i v8648), ∀ (k0_h2 : k0_cond2 i = 1#1), ∀ a, (k0_off2041 v8648) a + S1x1x1024.size a ≤ S1x2048x1024.size a := fun i v8648 k0_hw945 k0_h2 => k0_hw945.2 k0_h2

def k0_off2042 (v8649 : BitVec 32) : Fin 3 → Nat :=
  let c0_6202 : Index := 0#32
  let v8692 : Index := Scalar.indexCast v8649
  let c0_6203 : Index := 0#32
  ![0, v8692.toNat, 0]

def k0_chk946 (i : grid0.Coords) (v8649 : BitVec 32) : Prop :=
  (∀ (k0_h2 : k0_cond2 i = 1#1), ∀ a, (k0_off2038 v8649) a + S1x1x1024.size a ≤ S1x2048x1024.size a) ∧
  (∀ (k0_h2 : k0_cond2 i = 1#1), ∀ a, (k0_off2042 v8649) a + S1x1x1024.size a ≤ S1x2048x1024.size a)
theorem k0_off2038_inb : ∀ (i : grid0.Coords) (v8649 : BitVec 32) (k0_hw946 : k0_chk946 i v8649), ∀ (k0_h2 : k0_cond2 i = 1#1), ∀ a, (k0_off2038 v8649) a + S1x1x1024.size a ≤ S1x2048x1024.size a := fun i v8649 k0_hw946 k0_h2 => k0_hw946.1 k0_h2
theorem k0_off2042_inb : ∀ (i : grid0.Coords) (v8649 : BitVec 32) (k0_hw946 : k0_chk946 i v8649), ∀ (k0_h2 : k0_cond2 i = 1#1), ∀ a, (k0_off2042 v8649) a + S1x1x1024.size a ≤ S1x2048x1024.size a := fun i v8649 k0_hw946 k0_h2 => k0_hw946.2 k0_h2

def k0_off2043 (v8650 : BitVec 32) : Fin 3 → Nat :=
  let c0_6204 : Index := 0#32
  let v8696 : Index := Scalar.indexCast v8650
  let c0_6205 : Index := 0#32
  ![0, v8696.toNat, 0]

def k0_chk947 (i : grid0.Coords) (v8650 : BitVec 32) : Prop :=
  (∀ (k0_h2 : k0_cond2 i = 1#1), ∀ a, (k0_off2039 v8650) a + S1x1x1024.size a ≤ S1x2048x1024.size a) ∧
  (∀ (k0_h2 : k0_cond2 i = 1#1), ∀ a, (k0_off2043 v8650) a + S1x1x1024.size a ≤ S1x2048x1024.size a)
theorem k0_off2039_inb : ∀ (i : grid0.Coords) (v8650 : BitVec 32) (k0_hw947 : k0_chk947 i v8650), ∀ (k0_h2 : k0_cond2 i = 1#1), ∀ a, (k0_off2039 v8650) a + S1x1x1024.size a ≤ S1x2048x1024.size a := fun i v8650 k0_hw947 k0_h2 => k0_hw947.1 k0_h2
theorem k0_off2043_inb : ∀ (i : grid0.Coords) (v8650 : BitVec 32) (k0_hw947 : k0_chk947 i v8650), ∀ (k0_h2 : k0_cond2 i = 1#1), ∀ a, (k0_off2043 v8650) a + S1x1x1024.size a ≤ S1x2048x1024.size a := fun i v8650 k0_hw947 k0_h2 => k0_hw947.2 k0_h2

def k0_off2044 (v8704 : BitVec 32) : Fin 3 → Nat :=
  let c0_6220 : Index := 0#32
  let v8708 : Index := Scalar.indexCast v8704
  let c0_6221 : Index := 0#32
  ![0, v8708.toNat, 0]

def k0_off2045 (v8705 : BitVec 32) : Fin 3 → Nat :=
  let c0_6228 : Index := 0#32
  let v8717 : Index := Scalar.indexCast v8705
  let c0_6229 : Index := 0#32
  ![0, v8717.toNat, 0]

def k0_off2046 (v8706 : BitVec 32) : Fin 3 → Nat :=
  let c0_6236 : Index := 0#32
  let v8726 : Index := Scalar.indexCast v8706
  let c0_6237 : Index := 0#32
  ![0, v8726.toNat, 0]

def k0_off2047 (v8707 : BitVec 32) : Fin 3 → Nat :=
  let c0_6244 : Index := 0#32
  let v8735 : Index := Scalar.indexCast v8707
  let c0_6245 : Index := 0#32
  ![0, v8735.toNat, 0]

def k0_chk952 (i : grid0.Coords) (v8707 : BitVec 32) : Prop :=
  (∀ (k0_h2 : k0_cond2 i = 1#1), ∀ a, (k0_off2047 v8707) a + S1x1x1024.size a ≤ S1x2048x1024.size a)
theorem k0_off2047_inb : ∀ (i : grid0.Coords) (v8707 : BitVec 32) (k0_hw952 : k0_chk952 i v8707), ∀ (k0_h2 : k0_cond2 i = 1#1), ∀ a, (k0_off2047 v8707) a + S1x1x1024.size a ≤ S1x2048x1024.size a := fun i v8707 k0_hw952 k0_h2 => k0_hw952 k0_h2

def k0_off2048 (v8704 : BitVec 32) : Fin 3 → Nat :=
  let c0_6252 : Index := 0#32
  let v8744 : Index := Scalar.indexCast v8704
  let c0_6253 : Index := 0#32
  ![0, v8744.toNat, 0]

def k0_chk949 (i : grid0.Coords) (v8704 : BitVec 32) : Prop :=
  (∀ (k0_h2 : k0_cond2 i = 1#1), ∀ a, (k0_off2044 v8704) a + S1x1x1024.size a ≤ S1x2048x1024.size a) ∧
  (∀ (k0_h2 : k0_cond2 i = 1#1), ∀ a, (k0_off2048 v8704) a + S1x1x1024.size a ≤ S1x2048x1024.size a)
theorem k0_off2044_inb : ∀ (i : grid0.Coords) (v8704 : BitVec 32) (k0_hw949 : k0_chk949 i v8704), ∀ (k0_h2 : k0_cond2 i = 1#1), ∀ a, (k0_off2044 v8704) a + S1x1x1024.size a ≤ S1x2048x1024.size a := fun i v8704 k0_hw949 k0_h2 => k0_hw949.1 k0_h2
theorem k0_off2048_inb : ∀ (i : grid0.Coords) (v8704 : BitVec 32) (k0_hw949 : k0_chk949 i v8704), ∀ (k0_h2 : k0_cond2 i = 1#1), ∀ a, (k0_off2048 v8704) a + S1x1x1024.size a ≤ S1x2048x1024.size a := fun i v8704 k0_hw949 k0_h2 => k0_hw949.2 k0_h2

def k0_off2049 (v8705 : BitVec 32) : Fin 3 → Nat :=
  let c0_6254 : Index := 0#32
  let v8748 : Index := Scalar.indexCast v8705
  let c0_6255 : Index := 0#32
  ![0, v8748.toNat, 0]

def k0_chk950 (i : grid0.Coords) (v8705 : BitVec 32) : Prop :=
  (∀ (k0_h2 : k0_cond2 i = 1#1), ∀ a, (k0_off2045 v8705) a + S1x1x1024.size a ≤ S1x2048x1024.size a) ∧
  (∀ (k0_h2 : k0_cond2 i = 1#1), ∀ a, (k0_off2049 v8705) a + S1x1x1024.size a ≤ S1x2048x1024.size a)
theorem k0_off2045_inb : ∀ (i : grid0.Coords) (v8705 : BitVec 32) (k0_hw950 : k0_chk950 i v8705), ∀ (k0_h2 : k0_cond2 i = 1#1), ∀ a, (k0_off2045 v8705) a + S1x1x1024.size a ≤ S1x2048x1024.size a := fun i v8705 k0_hw950 k0_h2 => k0_hw950.1 k0_h2
theorem k0_off2049_inb : ∀ (i : grid0.Coords) (v8705 : BitVec 32) (k0_hw950 : k0_chk950 i v8705), ∀ (k0_h2 : k0_cond2 i = 1#1), ∀ a, (k0_off2049 v8705) a + S1x1x1024.size a ≤ S1x2048x1024.size a := fun i v8705 k0_hw950 k0_h2 => k0_hw950.2 k0_h2

def k0_off2050 (v8706 : BitVec 32) : Fin 3 → Nat :=
  let c0_6256 : Index := 0#32
  let v8752 : Index := Scalar.indexCast v8706
  let c0_6257 : Index := 0#32
  ![0, v8752.toNat, 0]

def k0_chk951 (i : grid0.Coords) (v8706 : BitVec 32) : Prop :=
  (∀ (k0_h2 : k0_cond2 i = 1#1), ∀ a, (k0_off2046 v8706) a + S1x1x1024.size a ≤ S1x2048x1024.size a) ∧
  (∀ (k0_h2 : k0_cond2 i = 1#1), ∀ a, (k0_off2050 v8706) a + S1x1x1024.size a ≤ S1x2048x1024.size a)
theorem k0_off2046_inb : ∀ (i : grid0.Coords) (v8706 : BitVec 32) (k0_hw951 : k0_chk951 i v8706), ∀ (k0_h2 : k0_cond2 i = 1#1), ∀ a, (k0_off2046 v8706) a + S1x1x1024.size a ≤ S1x2048x1024.size a := fun i v8706 k0_hw951 k0_h2 => k0_hw951.1 k0_h2
theorem k0_off2050_inb : ∀ (i : grid0.Coords) (v8706 : BitVec 32) (k0_hw951 : k0_chk951 i v8706), ∀ (k0_h2 : k0_cond2 i = 1#1), ∀ a, (k0_off2050 v8706) a + S1x1x1024.size a ≤ S1x2048x1024.size a := fun i v8706 k0_hw951 k0_h2 => k0_hw951.2 k0_h2

def k0_off2051 (v8760 : BitVec 32) : Fin 3 → Nat :=
  let c0_6272 : Index := 0#32
  let v8764 : Index := Scalar.indexCast v8760
  let c0_6273 : Index := 0#32
  ![0, v8764.toNat, 0]

def k0_off2052 (v8761 : BitVec 32) : Fin 3 → Nat :=
  let c0_6280 : Index := 0#32
  let v8773 : Index := Scalar.indexCast v8761
  let c0_6281 : Index := 0#32
  ![0, v8773.toNat, 0]

def k0_off2053 (v8762 : BitVec 32) : Fin 3 → Nat :=
  let c0_6288 : Index := 0#32
  let v8782 : Index := Scalar.indexCast v8762
  let c0_6289 : Index := 0#32
  ![0, v8782.toNat, 0]

def k0_off2054 (v8763 : BitVec 32) : Fin 3 → Nat :=
  let c0_6296 : Index := 0#32
  let v8791 : Index := Scalar.indexCast v8763
  let c0_6297 : Index := 0#32
  ![0, v8791.toNat, 0]

def k0_chk956 (i : grid0.Coords) (v8763 : BitVec 32) : Prop :=
  (∀ (k0_h2 : k0_cond2 i = 1#1), ∀ a, (k0_off2054 v8763) a + S1x1x1024.size a ≤ S1x2048x1024.size a)
theorem k0_off2054_inb : ∀ (i : grid0.Coords) (v8763 : BitVec 32) (k0_hw956 : k0_chk956 i v8763), ∀ (k0_h2 : k0_cond2 i = 1#1), ∀ a, (k0_off2054 v8763) a + S1x1x1024.size a ≤ S1x2048x1024.size a := fun i v8763 k0_hw956 k0_h2 => k0_hw956 k0_h2

def k0_off2055 (v8760 : BitVec 32) : Fin 3 → Nat :=
  let c0_6304 : Index := 0#32
  let v8800 : Index := Scalar.indexCast v8760
  let c0_6305 : Index := 0#32
  ![0, v8800.toNat, 0]

def k0_chk953 (i : grid0.Coords) (v8760 : BitVec 32) : Prop :=
  (∀ (k0_h2 : k0_cond2 i = 1#1), ∀ a, (k0_off2051 v8760) a + S1x1x1024.size a ≤ S1x2048x1024.size a) ∧
  (∀ (k0_h2 : k0_cond2 i = 1#1), ∀ a, (k0_off2055 v8760) a + S1x1x1024.size a ≤ S1x2048x1024.size a)
theorem k0_off2051_inb : ∀ (i : grid0.Coords) (v8760 : BitVec 32) (k0_hw953 : k0_chk953 i v8760), ∀ (k0_h2 : k0_cond2 i = 1#1), ∀ a, (k0_off2051 v8760) a + S1x1x1024.size a ≤ S1x2048x1024.size a := fun i v8760 k0_hw953 k0_h2 => k0_hw953.1 k0_h2
theorem k0_off2055_inb : ∀ (i : grid0.Coords) (v8760 : BitVec 32) (k0_hw953 : k0_chk953 i v8760), ∀ (k0_h2 : k0_cond2 i = 1#1), ∀ a, (k0_off2055 v8760) a + S1x1x1024.size a ≤ S1x2048x1024.size a := fun i v8760 k0_hw953 k0_h2 => k0_hw953.2 k0_h2

def k0_off2056 (v8761 : BitVec 32) : Fin 3 → Nat :=
  let c0_6306 : Index := 0#32
  let v8804 : Index := Scalar.indexCast v8761
  let c0_6307 : Index := 0#32
  ![0, v8804.toNat, 0]

def k0_chk954 (i : grid0.Coords) (v8761 : BitVec 32) : Prop :=
  (∀ (k0_h2 : k0_cond2 i = 1#1), ∀ a, (k0_off2052 v8761) a + S1x1x1024.size a ≤ S1x2048x1024.size a) ∧
  (∀ (k0_h2 : k0_cond2 i = 1#1), ∀ a, (k0_off2056 v8761) a + S1x1x1024.size a ≤ S1x2048x1024.size a)
theorem k0_off2052_inb : ∀ (i : grid0.Coords) (v8761 : BitVec 32) (k0_hw954 : k0_chk954 i v8761), ∀ (k0_h2 : k0_cond2 i = 1#1), ∀ a, (k0_off2052 v8761) a + S1x1x1024.size a ≤ S1x2048x1024.size a := fun i v8761 k0_hw954 k0_h2 => k0_hw954.1 k0_h2
theorem k0_off2056_inb : ∀ (i : grid0.Coords) (v8761 : BitVec 32) (k0_hw954 : k0_chk954 i v8761), ∀ (k0_h2 : k0_cond2 i = 1#1), ∀ a, (k0_off2056 v8761) a + S1x1x1024.size a ≤ S1x2048x1024.size a := fun i v8761 k0_hw954 k0_h2 => k0_hw954.2 k0_h2

def k0_off2057 (v8762 : BitVec 32) : Fin 3 → Nat :=
  let c0_6308 : Index := 0#32
  let v8808 : Index := Scalar.indexCast v8762
  let c0_6309 : Index := 0#32
  ![0, v8808.toNat, 0]

def k0_chk955 (i : grid0.Coords) (v8762 : BitVec 32) : Prop :=
  (∀ (k0_h2 : k0_cond2 i = 1#1), ∀ a, (k0_off2053 v8762) a + S1x1x1024.size a ≤ S1x2048x1024.size a) ∧
  (∀ (k0_h2 : k0_cond2 i = 1#1), ∀ a, (k0_off2057 v8762) a + S1x1x1024.size a ≤ S1x2048x1024.size a)
theorem k0_off2053_inb : ∀ (i : grid0.Coords) (v8762 : BitVec 32) (k0_hw955 : k0_chk955 i v8762), ∀ (k0_h2 : k0_cond2 i = 1#1), ∀ a, (k0_off2053 v8762) a + S1x1x1024.size a ≤ S1x2048x1024.size a := fun i v8762 k0_hw955 k0_h2 => k0_hw955.1 k0_h2
theorem k0_off2057_inb : ∀ (i : grid0.Coords) (v8762 : BitVec 32) (k0_hw955 : k0_chk955 i v8762), ∀ (k0_h2 : k0_cond2 i = 1#1), ∀ a, (k0_off2057 v8762) a + S1x1x1024.size a ≤ S1x2048x1024.size a := fun i v8762 k0_hw955 k0_h2 => k0_hw955.2 k0_h2

def k0_off2058 (v8816 : BitVec 32) : Fin 3 → Nat :=
  let c0_6324 : Index := 0#32
  let v8820 : Index := Scalar.indexCast v8816
  let c0_6325 : Index := 0#32
  ![0, v8820.toNat, 0]

def k0_off2059 (v8817 : BitVec 32) : Fin 3 → Nat :=
  let c0_6332 : Index := 0#32
  let v8829 : Index := Scalar.indexCast v8817
  let c0_6333 : Index := 0#32
  ![0, v8829.toNat, 0]

def k0_off2060 (v8818 : BitVec 32) : Fin 3 → Nat :=
  let c0_6340 : Index := 0#32
  let v8838 : Index := Scalar.indexCast v8818
  let c0_6341 : Index := 0#32
  ![0, v8838.toNat, 0]

def k0_off2061 (v8819 : BitVec 32) : Fin 3 → Nat :=
  let c0_6348 : Index := 0#32
  let v8847 : Index := Scalar.indexCast v8819
  let c0_6349 : Index := 0#32
  ![0, v8847.toNat, 0]

def k0_chk960 (i : grid0.Coords) (v8819 : BitVec 32) : Prop :=
  (∀ (k0_h2 : k0_cond2 i = 1#1), ∀ a, (k0_off2061 v8819) a + S1x1x1024.size a ≤ S1x2048x1024.size a)
theorem k0_off2061_inb : ∀ (i : grid0.Coords) (v8819 : BitVec 32) (k0_hw960 : k0_chk960 i v8819), ∀ (k0_h2 : k0_cond2 i = 1#1), ∀ a, (k0_off2061 v8819) a + S1x1x1024.size a ≤ S1x2048x1024.size a := fun i v8819 k0_hw960 k0_h2 => k0_hw960 k0_h2

def k0_off2062 (v8816 : BitVec 32) : Fin 3 → Nat :=
  let c0_6356 : Index := 0#32
  let v8856 : Index := Scalar.indexCast v8816
  let c0_6357 : Index := 0#32
  ![0, v8856.toNat, 0]

def k0_chk957 (i : grid0.Coords) (v8816 : BitVec 32) : Prop :=
  (∀ (k0_h2 : k0_cond2 i = 1#1), ∀ a, (k0_off2058 v8816) a + S1x1x1024.size a ≤ S1x2048x1024.size a) ∧
  (∀ (k0_h2 : k0_cond2 i = 1#1), ∀ a, (k0_off2062 v8816) a + S1x1x1024.size a ≤ S1x2048x1024.size a)
theorem k0_off2058_inb : ∀ (i : grid0.Coords) (v8816 : BitVec 32) (k0_hw957 : k0_chk957 i v8816), ∀ (k0_h2 : k0_cond2 i = 1#1), ∀ a, (k0_off2058 v8816) a + S1x1x1024.size a ≤ S1x2048x1024.size a := fun i v8816 k0_hw957 k0_h2 => k0_hw957.1 k0_h2
theorem k0_off2062_inb : ∀ (i : grid0.Coords) (v8816 : BitVec 32) (k0_hw957 : k0_chk957 i v8816), ∀ (k0_h2 : k0_cond2 i = 1#1), ∀ a, (k0_off2062 v8816) a + S1x1x1024.size a ≤ S1x2048x1024.size a := fun i v8816 k0_hw957 k0_h2 => k0_hw957.2 k0_h2

def k0_off2063 (v8817 : BitVec 32) : Fin 3 → Nat :=
  let c0_6358 : Index := 0#32
  let v8860 : Index := Scalar.indexCast v8817
  let c0_6359 : Index := 0#32
  ![0, v8860.toNat, 0]

def k0_chk958 (i : grid0.Coords) (v8817 : BitVec 32) : Prop :=
  (∀ (k0_h2 : k0_cond2 i = 1#1), ∀ a, (k0_off2059 v8817) a + S1x1x1024.size a ≤ S1x2048x1024.size a) ∧
  (∀ (k0_h2 : k0_cond2 i = 1#1), ∀ a, (k0_off2063 v8817) a + S1x1x1024.size a ≤ S1x2048x1024.size a)
theorem k0_off2059_inb : ∀ (i : grid0.Coords) (v8817 : BitVec 32) (k0_hw958 : k0_chk958 i v8817), ∀ (k0_h2 : k0_cond2 i = 1#1), ∀ a, (k0_off2059 v8817) a + S1x1x1024.size a ≤ S1x2048x1024.size a := fun i v8817 k0_hw958 k0_h2 => k0_hw958.1 k0_h2
theorem k0_off2063_inb : ∀ (i : grid0.Coords) (v8817 : BitVec 32) (k0_hw958 : k0_chk958 i v8817), ∀ (k0_h2 : k0_cond2 i = 1#1), ∀ a, (k0_off2063 v8817) a + S1x1x1024.size a ≤ S1x2048x1024.size a := fun i v8817 k0_hw958 k0_h2 => k0_hw958.2 k0_h2

def k0_off2064 (v8818 : BitVec 32) : Fin 3 → Nat :=
  let c0_6360 : Index := 0#32
  let v8864 : Index := Scalar.indexCast v8818
  let c0_6361 : Index := 0#32
  ![0, v8864.toNat, 0]

def k0_chk959 (i : grid0.Coords) (v8818 : BitVec 32) : Prop :=
  (∀ (k0_h2 : k0_cond2 i = 1#1), ∀ a, (k0_off2060 v8818) a + S1x1x1024.size a ≤ S1x2048x1024.size a) ∧
  (∀ (k0_h2 : k0_cond2 i = 1#1), ∀ a, (k0_off2064 v8818) a + S1x1x1024.size a ≤ S1x2048x1024.size a)
theorem k0_off2060_inb : ∀ (i : grid0.Coords) (v8818 : BitVec 32) (k0_hw959 : k0_chk959 i v8818), ∀ (k0_h2 : k0_cond2 i = 1#1), ∀ a, (k0_off2060 v8818) a + S1x1x1024.size a ≤ S1x2048x1024.size a := fun i v8818 k0_hw959 k0_h2 => k0_hw959.1 k0_h2
theorem k0_off2064_inb : ∀ (i : grid0.Coords) (v8818 : BitVec 32) (k0_hw959 : k0_chk959 i v8818), ∀ (k0_h2 : k0_cond2 i = 1#1), ∀ a, (k0_off2064 v8818) a + S1x1x1024.size a ≤ S1x2048x1024.size a := fun i v8818 k0_hw959 k0_h2 => k0_hw959.2 k0_h2

def k0_off2065 (v8872 : BitVec 32) : Fin 3 → Nat :=
  let c0_6376 : Index := 0#32
  let v8876 : Index := Scalar.indexCast v8872
  let c0_6377 : Index := 0#32
  ![0, v8876.toNat, 0]

def k0_off2066 (v8873 : BitVec 32) : Fin 3 → Nat :=
  let c0_6384 : Index := 0#32
  let v8885 : Index := Scalar.indexCast v8873
  let c0_6385 : Index := 0#32
  ![0, v8885.toNat, 0]

def k0_off2067 (v8874 : BitVec 32) : Fin 3 → Nat :=
  let c0_6392 : Index := 0#32
  let v8894 : Index := Scalar.indexCast v8874
  let c0_6393 : Index := 0#32
  ![0, v8894.toNat, 0]

def k0_off2068 (v8875 : BitVec 32) : Fin 3 → Nat :=
  let c0_6400 : Index := 0#32
  let v8903 : Index := Scalar.indexCast v8875
  let c0_6401 : Index := 0#32
  ![0, v8903.toNat, 0]

def k0_chk964 (i : grid0.Coords) (v8875 : BitVec 32) : Prop :=
  (∀ (k0_h2 : k0_cond2 i = 1#1), ∀ a, (k0_off2068 v8875) a + S1x1x1024.size a ≤ S1x2048x1024.size a)
theorem k0_off2068_inb : ∀ (i : grid0.Coords) (v8875 : BitVec 32) (k0_hw964 : k0_chk964 i v8875), ∀ (k0_h2 : k0_cond2 i = 1#1), ∀ a, (k0_off2068 v8875) a + S1x1x1024.size a ≤ S1x2048x1024.size a := fun i v8875 k0_hw964 k0_h2 => k0_hw964 k0_h2

def k0_off2069 (v8872 : BitVec 32) : Fin 3 → Nat :=
  let c0_6408 : Index := 0#32
  let v8912 : Index := Scalar.indexCast v8872
  let c0_6409 : Index := 0#32
  ![0, v8912.toNat, 0]

def k0_chk961 (i : grid0.Coords) (v8872 : BitVec 32) : Prop :=
  (∀ (k0_h2 : k0_cond2 i = 1#1), ∀ a, (k0_off2065 v8872) a + S1x1x1024.size a ≤ S1x2048x1024.size a) ∧
  (∀ (k0_h2 : k0_cond2 i = 1#1), ∀ a, (k0_off2069 v8872) a + S1x1x1024.size a ≤ S1x2048x1024.size a)
theorem k0_off2065_inb : ∀ (i : grid0.Coords) (v8872 : BitVec 32) (k0_hw961 : k0_chk961 i v8872), ∀ (k0_h2 : k0_cond2 i = 1#1), ∀ a, (k0_off2065 v8872) a + S1x1x1024.size a ≤ S1x2048x1024.size a := fun i v8872 k0_hw961 k0_h2 => k0_hw961.1 k0_h2
theorem k0_off2069_inb : ∀ (i : grid0.Coords) (v8872 : BitVec 32) (k0_hw961 : k0_chk961 i v8872), ∀ (k0_h2 : k0_cond2 i = 1#1), ∀ a, (k0_off2069 v8872) a + S1x1x1024.size a ≤ S1x2048x1024.size a := fun i v8872 k0_hw961 k0_h2 => k0_hw961.2 k0_h2

def k0_off2070 (v8873 : BitVec 32) : Fin 3 → Nat :=
  let c0_6410 : Index := 0#32
  let v8916 : Index := Scalar.indexCast v8873
  let c0_6411 : Index := 0#32
  ![0, v8916.toNat, 0]

def k0_chk962 (i : grid0.Coords) (v8873 : BitVec 32) : Prop :=
  (∀ (k0_h2 : k0_cond2 i = 1#1), ∀ a, (k0_off2066 v8873) a + S1x1x1024.size a ≤ S1x2048x1024.size a) ∧
  (∀ (k0_h2 : k0_cond2 i = 1#1), ∀ a, (k0_off2070 v8873) a + S1x1x1024.size a ≤ S1x2048x1024.size a)
theorem k0_off2066_inb : ∀ (i : grid0.Coords) (v8873 : BitVec 32) (k0_hw962 : k0_chk962 i v8873), ∀ (k0_h2 : k0_cond2 i = 1#1), ∀ a, (k0_off2066 v8873) a + S1x1x1024.size a ≤ S1x2048x1024.size a := fun i v8873 k0_hw962 k0_h2 => k0_hw962.1 k0_h2
theorem k0_off2070_inb : ∀ (i : grid0.Coords) (v8873 : BitVec 32) (k0_hw962 : k0_chk962 i v8873), ∀ (k0_h2 : k0_cond2 i = 1#1), ∀ a, (k0_off2070 v8873) a + S1x1x1024.size a ≤ S1x2048x1024.size a := fun i v8873 k0_hw962 k0_h2 => k0_hw962.2 k0_h2

def k0_off2071 (v8874 : BitVec 32) : Fin 3 → Nat :=
  let c0_6412 : Index := 0#32
  let v8920 : Index := Scalar.indexCast v8874
  let c0_6413 : Index := 0#32
  ![0, v8920.toNat, 0]

def k0_chk963 (i : grid0.Coords) (v8874 : BitVec 32) : Prop :=
  (∀ (k0_h2 : k0_cond2 i = 1#1), ∀ a, (k0_off2067 v8874) a + S1x1x1024.size a ≤ S1x2048x1024.size a) ∧
  (∀ (k0_h2 : k0_cond2 i = 1#1), ∀ a, (k0_off2071 v8874) a + S1x1x1024.size a ≤ S1x2048x1024.size a)
theorem k0_off2067_inb : ∀ (i : grid0.Coords) (v8874 : BitVec 32) (k0_hw963 : k0_chk963 i v8874), ∀ (k0_h2 : k0_cond2 i = 1#1), ∀ a, (k0_off2067 v8874) a + S1x1x1024.size a ≤ S1x2048x1024.size a := fun i v8874 k0_hw963 k0_h2 => k0_hw963.1 k0_h2
theorem k0_off2071_inb : ∀ (i : grid0.Coords) (v8874 : BitVec 32) (k0_hw963 : k0_chk963 i v8874), ∀ (k0_h2 : k0_cond2 i = 1#1), ∀ a, (k0_off2071 v8874) a + S1x1x1024.size a ≤ S1x2048x1024.size a := fun i v8874 k0_hw963 k0_h2 => k0_hw963.2 k0_h2

def k0_off2072 (v8928 : BitVec 32) : Fin 3 → Nat :=
  let c0_6428 : Index := 0#32
  let v8932 : Index := Scalar.indexCast v8928
  let c0_6429 : Index := 0#32
  ![0, v8932.toNat, 0]

def k0_off2073 (v8929 : BitVec 32) : Fin 3 → Nat :=
  let c0_6436 : Index := 0#32
  let v8941 : Index := Scalar.indexCast v8929
  let c0_6437 : Index := 0#32
  ![0, v8941.toNat, 0]

def k0_off2074 (v8930 : BitVec 32) : Fin 3 → Nat :=
  let c0_6444 : Index := 0#32
  let v8950 : Index := Scalar.indexCast v8930
  let c0_6445 : Index := 0#32
  ![0, v8950.toNat, 0]

def k0_off2075 (v8931 : BitVec 32) : Fin 3 → Nat :=
  let c0_6452 : Index := 0#32
  let v8959 : Index := Scalar.indexCast v8931
  let c0_6453 : Index := 0#32
  ![0, v8959.toNat, 0]

def k0_chk968 (i : grid0.Coords) (v8931 : BitVec 32) : Prop :=
  (∀ (k0_h2 : k0_cond2 i = 1#1), ∀ a, (k0_off2075 v8931) a + S1x1x1024.size a ≤ S1x2048x1024.size a)
theorem k0_off2075_inb : ∀ (i : grid0.Coords) (v8931 : BitVec 32) (k0_hw968 : k0_chk968 i v8931), ∀ (k0_h2 : k0_cond2 i = 1#1), ∀ a, (k0_off2075 v8931) a + S1x1x1024.size a ≤ S1x2048x1024.size a := fun i v8931 k0_hw968 k0_h2 => k0_hw968 k0_h2

def k0_off2076 (v8928 : BitVec 32) : Fin 3 → Nat :=
  let c0_6460 : Index := 0#32
  let v8968 : Index := Scalar.indexCast v8928
  let c0_6461 : Index := 0#32
  ![0, v8968.toNat, 0]

def k0_chk965 (i : grid0.Coords) (v8928 : BitVec 32) : Prop :=
  (∀ (k0_h2 : k0_cond2 i = 1#1), ∀ a, (k0_off2072 v8928) a + S1x1x1024.size a ≤ S1x2048x1024.size a) ∧
  (∀ (k0_h2 : k0_cond2 i = 1#1), ∀ a, (k0_off2076 v8928) a + S1x1x1024.size a ≤ S1x2048x1024.size a)
theorem k0_off2072_inb : ∀ (i : grid0.Coords) (v8928 : BitVec 32) (k0_hw965 : k0_chk965 i v8928), ∀ (k0_h2 : k0_cond2 i = 1#1), ∀ a, (k0_off2072 v8928) a + S1x1x1024.size a ≤ S1x2048x1024.size a := fun i v8928 k0_hw965 k0_h2 => k0_hw965.1 k0_h2
theorem k0_off2076_inb : ∀ (i : grid0.Coords) (v8928 : BitVec 32) (k0_hw965 : k0_chk965 i v8928), ∀ (k0_h2 : k0_cond2 i = 1#1), ∀ a, (k0_off2076 v8928) a + S1x1x1024.size a ≤ S1x2048x1024.size a := fun i v8928 k0_hw965 k0_h2 => k0_hw965.2 k0_h2

def k0_off2077 (v8929 : BitVec 32) : Fin 3 → Nat :=
  let c0_6462 : Index := 0#32
  let v8972 : Index := Scalar.indexCast v8929
  let c0_6463 : Index := 0#32
  ![0, v8972.toNat, 0]

def k0_chk966 (i : grid0.Coords) (v8929 : BitVec 32) : Prop :=
  (∀ (k0_h2 : k0_cond2 i = 1#1), ∀ a, (k0_off2073 v8929) a + S1x1x1024.size a ≤ S1x2048x1024.size a) ∧
  (∀ (k0_h2 : k0_cond2 i = 1#1), ∀ a, (k0_off2077 v8929) a + S1x1x1024.size a ≤ S1x2048x1024.size a)
theorem k0_off2073_inb : ∀ (i : grid0.Coords) (v8929 : BitVec 32) (k0_hw966 : k0_chk966 i v8929), ∀ (k0_h2 : k0_cond2 i = 1#1), ∀ a, (k0_off2073 v8929) a + S1x1x1024.size a ≤ S1x2048x1024.size a := fun i v8929 k0_hw966 k0_h2 => k0_hw966.1 k0_h2
theorem k0_off2077_inb : ∀ (i : grid0.Coords) (v8929 : BitVec 32) (k0_hw966 : k0_chk966 i v8929), ∀ (k0_h2 : k0_cond2 i = 1#1), ∀ a, (k0_off2077 v8929) a + S1x1x1024.size a ≤ S1x2048x1024.size a := fun i v8929 k0_hw966 k0_h2 => k0_hw966.2 k0_h2

def k0_off2078 (v8930 : BitVec 32) : Fin 3 → Nat :=
  let c0_6464 : Index := 0#32
  let v8976 : Index := Scalar.indexCast v8930
  let c0_6465 : Index := 0#32
  ![0, v8976.toNat, 0]

def k0_chk967 (i : grid0.Coords) (v8930 : BitVec 32) : Prop :=
  (∀ (k0_h2 : k0_cond2 i = 1#1), ∀ a, (k0_off2074 v8930) a + S1x1x1024.size a ≤ S1x2048x1024.size a) ∧
  (∀ (k0_h2 : k0_cond2 i = 1#1), ∀ a, (k0_off2078 v8930) a + S1x1x1024.size a ≤ S1x2048x1024.size a)
theorem k0_off2074_inb : ∀ (i : grid0.Coords) (v8930 : BitVec 32) (k0_hw967 : k0_chk967 i v8930), ∀ (k0_h2 : k0_cond2 i = 1#1), ∀ a, (k0_off2074 v8930) a + S1x1x1024.size a ≤ S1x2048x1024.size a := fun i v8930 k0_hw967 k0_h2 => k0_hw967.1 k0_h2
theorem k0_off2078_inb : ∀ (i : grid0.Coords) (v8930 : BitVec 32) (k0_hw967 : k0_chk967 i v8930), ∀ (k0_h2 : k0_cond2 i = 1#1), ∀ a, (k0_off2078 v8930) a + S1x1x1024.size a ≤ S1x2048x1024.size a := fun i v8930 k0_hw967 k0_h2 => k0_hw967.2 k0_h2

def k0_off2079 (v8984 : BitVec 32) : Fin 3 → Nat :=
  let c0_6480 : Index := 0#32
  let v8988 : Index := Scalar.indexCast v8984
  let c0_6481 : Index := 0#32
  ![0, v8988.toNat, 0]

def k0_off2080 (v8985 : BitVec 32) : Fin 3 → Nat :=
  let c0_6488 : Index := 0#32
  let v8997 : Index := Scalar.indexCast v8985
  let c0_6489 : Index := 0#32
  ![0, v8997.toNat, 0]

def k0_off2081 (v8986 : BitVec 32) : Fin 3 → Nat :=
  let c0_6496 : Index := 0#32
  let v9006 : Index := Scalar.indexCast v8986
  let c0_6497 : Index := 0#32
  ![0, v9006.toNat, 0]

def k0_off2082 (v8987 : BitVec 32) : Fin 3 → Nat :=
  let c0_6504 : Index := 0#32
  let v9015 : Index := Scalar.indexCast v8987
  let c0_6505 : Index := 0#32
  ![0, v9015.toNat, 0]

def k0_chk972 (i : grid0.Coords) (v8987 : BitVec 32) : Prop :=
  (∀ (k0_h2 : k0_cond2 i = 1#1), ∀ a, (k0_off2082 v8987) a + S1x1x1024.size a ≤ S1x2048x1024.size a)
theorem k0_off2082_inb : ∀ (i : grid0.Coords) (v8987 : BitVec 32) (k0_hw972 : k0_chk972 i v8987), ∀ (k0_h2 : k0_cond2 i = 1#1), ∀ a, (k0_off2082 v8987) a + S1x1x1024.size a ≤ S1x2048x1024.size a := fun i v8987 k0_hw972 k0_h2 => k0_hw972 k0_h2

def k0_off2083 (v8984 : BitVec 32) : Fin 3 → Nat :=
  let c0_6512 : Index := 0#32
  let v9024 : Index := Scalar.indexCast v8984
  let c0_6513 : Index := 0#32
  ![0, v9024.toNat, 0]

def k0_chk969 (i : grid0.Coords) (v8984 : BitVec 32) : Prop :=
  (∀ (k0_h2 : k0_cond2 i = 1#1), ∀ a, (k0_off2079 v8984) a + S1x1x1024.size a ≤ S1x2048x1024.size a) ∧
  (∀ (k0_h2 : k0_cond2 i = 1#1), ∀ a, (k0_off2083 v8984) a + S1x1x1024.size a ≤ S1x2048x1024.size a)
theorem k0_off2079_inb : ∀ (i : grid0.Coords) (v8984 : BitVec 32) (k0_hw969 : k0_chk969 i v8984), ∀ (k0_h2 : k0_cond2 i = 1#1), ∀ a, (k0_off2079 v8984) a + S1x1x1024.size a ≤ S1x2048x1024.size a := fun i v8984 k0_hw969 k0_h2 => k0_hw969.1 k0_h2
theorem k0_off2083_inb : ∀ (i : grid0.Coords) (v8984 : BitVec 32) (k0_hw969 : k0_chk969 i v8984), ∀ (k0_h2 : k0_cond2 i = 1#1), ∀ a, (k0_off2083 v8984) a + S1x1x1024.size a ≤ S1x2048x1024.size a := fun i v8984 k0_hw969 k0_h2 => k0_hw969.2 k0_h2

def k0_off2084 (v8985 : BitVec 32) : Fin 3 → Nat :=
  let c0_6514 : Index := 0#32
  let v9028 : Index := Scalar.indexCast v8985
  let c0_6515 : Index := 0#32
  ![0, v9028.toNat, 0]

def k0_chk970 (i : grid0.Coords) (v8985 : BitVec 32) : Prop :=
  (∀ (k0_h2 : k0_cond2 i = 1#1), ∀ a, (k0_off2080 v8985) a + S1x1x1024.size a ≤ S1x2048x1024.size a) ∧
  (∀ (k0_h2 : k0_cond2 i = 1#1), ∀ a, (k0_off2084 v8985) a + S1x1x1024.size a ≤ S1x2048x1024.size a)
theorem k0_off2080_inb : ∀ (i : grid0.Coords) (v8985 : BitVec 32) (k0_hw970 : k0_chk970 i v8985), ∀ (k0_h2 : k0_cond2 i = 1#1), ∀ a, (k0_off2080 v8985) a + S1x1x1024.size a ≤ S1x2048x1024.size a := fun i v8985 k0_hw970 k0_h2 => k0_hw970.1 k0_h2
theorem k0_off2084_inb : ∀ (i : grid0.Coords) (v8985 : BitVec 32) (k0_hw970 : k0_chk970 i v8985), ∀ (k0_h2 : k0_cond2 i = 1#1), ∀ a, (k0_off2084 v8985) a + S1x1x1024.size a ≤ S1x2048x1024.size a := fun i v8985 k0_hw970 k0_h2 => k0_hw970.2 k0_h2

def k0_off2085 (v8986 : BitVec 32) : Fin 3 → Nat :=
  let c0_6516 : Index := 0#32
  let v9032 : Index := Scalar.indexCast v8986
  let c0_6517 : Index := 0#32
  ![0, v9032.toNat, 0]

def k0_chk971 (i : grid0.Coords) (v8986 : BitVec 32) : Prop :=
  (∀ (k0_h2 : k0_cond2 i = 1#1), ∀ a, (k0_off2081 v8986) a + S1x1x1024.size a ≤ S1x2048x1024.size a) ∧
  (∀ (k0_h2 : k0_cond2 i = 1#1), ∀ a, (k0_off2085 v8986) a + S1x1x1024.size a ≤ S1x2048x1024.size a)
theorem k0_off2081_inb : ∀ (i : grid0.Coords) (v8986 : BitVec 32) (k0_hw971 : k0_chk971 i v8986), ∀ (k0_h2 : k0_cond2 i = 1#1), ∀ a, (k0_off2081 v8986) a + S1x1x1024.size a ≤ S1x2048x1024.size a := fun i v8986 k0_hw971 k0_h2 => k0_hw971.1 k0_h2
theorem k0_off2085_inb : ∀ (i : grid0.Coords) (v8986 : BitVec 32) (k0_hw971 : k0_chk971 i v8986), ∀ (k0_h2 : k0_cond2 i = 1#1), ∀ a, (k0_off2085 v8986) a + S1x1x1024.size a ≤ S1x2048x1024.size a := fun i v8986 k0_hw971 k0_h2 => k0_hw971.2 k0_h2

def k0_off2086 (v9040 : BitVec 32) : Fin 3 → Nat :=
  let c0_6532 : Index := 0#32
  let v9044 : Index := Scalar.indexCast v9040
  let c0_6533 : Index := 0#32
  ![0, v9044.toNat, 0]

def k0_off2087 (v9041 : BitVec 32) : Fin 3 → Nat :=
  let c0_6540 : Index := 0#32
  let v9053 : Index := Scalar.indexCast v9041
  let c0_6541 : Index := 0#32
  ![0, v9053.toNat, 0]

def k0_off2088 (v9042 : BitVec 32) : Fin 3 → Nat :=
  let c0_6548 : Index := 0#32
  let v9062 : Index := Scalar.indexCast v9042
  let c0_6549 : Index := 0#32
  ![0, v9062.toNat, 0]

def k0_off2089 (v9043 : BitVec 32) : Fin 3 → Nat :=
  let c0_6556 : Index := 0#32
  let v9071 : Index := Scalar.indexCast v9043
  let c0_6557 : Index := 0#32
  ![0, v9071.toNat, 0]

def k0_chk976 (i : grid0.Coords) (v9043 : BitVec 32) : Prop :=
  (∀ (k0_h2 : k0_cond2 i = 1#1), ∀ a, (k0_off2089 v9043) a + S1x1x1024.size a ≤ S1x2048x1024.size a)
theorem k0_off2089_inb : ∀ (i : grid0.Coords) (v9043 : BitVec 32) (k0_hw976 : k0_chk976 i v9043), ∀ (k0_h2 : k0_cond2 i = 1#1), ∀ a, (k0_off2089 v9043) a + S1x1x1024.size a ≤ S1x2048x1024.size a := fun i v9043 k0_hw976 k0_h2 => k0_hw976 k0_h2

def k0_off2090 (v9040 : BitVec 32) : Fin 3 → Nat :=
  let c0_6564 : Index := 0#32
  let v9080 : Index := Scalar.indexCast v9040
  let c0_6565 : Index := 0#32
  ![0, v9080.toNat, 0]

def k0_chk973 (i : grid0.Coords) (v9040 : BitVec 32) : Prop :=
  (∀ (k0_h2 : k0_cond2 i = 1#1), ∀ a, (k0_off2086 v9040) a + S1x1x1024.size a ≤ S1x2048x1024.size a) ∧
  (∀ (k0_h2 : k0_cond2 i = 1#1), ∀ a, (k0_off2090 v9040) a + S1x1x1024.size a ≤ S1x2048x1024.size a)
theorem k0_off2086_inb : ∀ (i : grid0.Coords) (v9040 : BitVec 32) (k0_hw973 : k0_chk973 i v9040), ∀ (k0_h2 : k0_cond2 i = 1#1), ∀ a, (k0_off2086 v9040) a + S1x1x1024.size a ≤ S1x2048x1024.size a := fun i v9040 k0_hw973 k0_h2 => k0_hw973.1 k0_h2
theorem k0_off2090_inb : ∀ (i : grid0.Coords) (v9040 : BitVec 32) (k0_hw973 : k0_chk973 i v9040), ∀ (k0_h2 : k0_cond2 i = 1#1), ∀ a, (k0_off2090 v9040) a + S1x1x1024.size a ≤ S1x2048x1024.size a := fun i v9040 k0_hw973 k0_h2 => k0_hw973.2 k0_h2

def k0_off2091 (v9041 : BitVec 32) : Fin 3 → Nat :=
  let c0_6566 : Index := 0#32
  let v9084 : Index := Scalar.indexCast v9041
  let c0_6567 : Index := 0#32
  ![0, v9084.toNat, 0]

def k0_chk974 (i : grid0.Coords) (v9041 : BitVec 32) : Prop :=
  (∀ (k0_h2 : k0_cond2 i = 1#1), ∀ a, (k0_off2087 v9041) a + S1x1x1024.size a ≤ S1x2048x1024.size a) ∧
  (∀ (k0_h2 : k0_cond2 i = 1#1), ∀ a, (k0_off2091 v9041) a + S1x1x1024.size a ≤ S1x2048x1024.size a)
theorem k0_off2087_inb : ∀ (i : grid0.Coords) (v9041 : BitVec 32) (k0_hw974 : k0_chk974 i v9041), ∀ (k0_h2 : k0_cond2 i = 1#1), ∀ a, (k0_off2087 v9041) a + S1x1x1024.size a ≤ S1x2048x1024.size a := fun i v9041 k0_hw974 k0_h2 => k0_hw974.1 k0_h2
theorem k0_off2091_inb : ∀ (i : grid0.Coords) (v9041 : BitVec 32) (k0_hw974 : k0_chk974 i v9041), ∀ (k0_h2 : k0_cond2 i = 1#1), ∀ a, (k0_off2091 v9041) a + S1x1x1024.size a ≤ S1x2048x1024.size a := fun i v9041 k0_hw974 k0_h2 => k0_hw974.2 k0_h2

def k0_off2092 (v9042 : BitVec 32) : Fin 3 → Nat :=
  let c0_6568 : Index := 0#32
  let v9088 : Index := Scalar.indexCast v9042
  let c0_6569 : Index := 0#32
  ![0, v9088.toNat, 0]

def k0_chk975 (i : grid0.Coords) (v9042 : BitVec 32) : Prop :=
  (∀ (k0_h2 : k0_cond2 i = 1#1), ∀ a, (k0_off2088 v9042) a + S1x1x1024.size a ≤ S1x2048x1024.size a) ∧
  (∀ (k0_h2 : k0_cond2 i = 1#1), ∀ a, (k0_off2092 v9042) a + S1x1x1024.size a ≤ S1x2048x1024.size a)
theorem k0_off2088_inb : ∀ (i : grid0.Coords) (v9042 : BitVec 32) (k0_hw975 : k0_chk975 i v9042), ∀ (k0_h2 : k0_cond2 i = 1#1), ∀ a, (k0_off2088 v9042) a + S1x1x1024.size a ≤ S1x2048x1024.size a := fun i v9042 k0_hw975 k0_h2 => k0_hw975.1 k0_h2
theorem k0_off2092_inb : ∀ (i : grid0.Coords) (v9042 : BitVec 32) (k0_hw975 : k0_chk975 i v9042), ∀ (k0_h2 : k0_cond2 i = 1#1), ∀ a, (k0_off2092 v9042) a + S1x1x1024.size a ≤ S1x2048x1024.size a := fun i v9042 k0_hw975 k0_h2 => k0_hw975.2 k0_h2

def k0_off2093 (v9096 : BitVec 32) : Fin 3 → Nat :=
  let c0_6584 : Index := 0#32
  let v9100 : Index := Scalar.indexCast v9096
  let c0_6585 : Index := 0#32
  ![0, v9100.toNat, 0]

def k0_off2094 (v9097 : BitVec 32) : Fin 3 → Nat :=
  let c0_6592 : Index := 0#32
  let v9109 : Index := Scalar.indexCast v9097
  let c0_6593 : Index := 0#32
  ![0, v9109.toNat, 0]

def k0_off2095 (v9098 : BitVec 32) : Fin 3 → Nat :=
  let c0_6600 : Index := 0#32
  let v9118 : Index := Scalar.indexCast v9098
  let c0_6601 : Index := 0#32
  ![0, v9118.toNat, 0]

def k0_off2096 (v9099 : BitVec 32) : Fin 3 → Nat :=
  let c0_6608 : Index := 0#32
  let v9127 : Index := Scalar.indexCast v9099
  let c0_6609 : Index := 0#32
  ![0, v9127.toNat, 0]

def k0_chk980 (i : grid0.Coords) (v9099 : BitVec 32) : Prop :=
  (∀ (k0_h2 : k0_cond2 i = 1#1), ∀ a, (k0_off2096 v9099) a + S1x1x1024.size a ≤ S1x2048x1024.size a)
theorem k0_off2096_inb : ∀ (i : grid0.Coords) (v9099 : BitVec 32) (k0_hw980 : k0_chk980 i v9099), ∀ (k0_h2 : k0_cond2 i = 1#1), ∀ a, (k0_off2096 v9099) a + S1x1x1024.size a ≤ S1x2048x1024.size a := fun i v9099 k0_hw980 k0_h2 => k0_hw980 k0_h2

def k0_off2097 (v9096 : BitVec 32) : Fin 3 → Nat :=
  let c0_6616 : Index := 0#32
  let v9136 : Index := Scalar.indexCast v9096
  let c0_6617 : Index := 0#32
  ![0, v9136.toNat, 0]

def k0_chk977 (i : grid0.Coords) (v9096 : BitVec 32) : Prop :=
  (∀ (k0_h2 : k0_cond2 i = 1#1), ∀ a, (k0_off2093 v9096) a + S1x1x1024.size a ≤ S1x2048x1024.size a) ∧
  (∀ (k0_h2 : k0_cond2 i = 1#1), ∀ a, (k0_off2097 v9096) a + S1x1x1024.size a ≤ S1x2048x1024.size a)
theorem k0_off2093_inb : ∀ (i : grid0.Coords) (v9096 : BitVec 32) (k0_hw977 : k0_chk977 i v9096), ∀ (k0_h2 : k0_cond2 i = 1#1), ∀ a, (k0_off2093 v9096) a + S1x1x1024.size a ≤ S1x2048x1024.size a := fun i v9096 k0_hw977 k0_h2 => k0_hw977.1 k0_h2
theorem k0_off2097_inb : ∀ (i : grid0.Coords) (v9096 : BitVec 32) (k0_hw977 : k0_chk977 i v9096), ∀ (k0_h2 : k0_cond2 i = 1#1), ∀ a, (k0_off2097 v9096) a + S1x1x1024.size a ≤ S1x2048x1024.size a := fun i v9096 k0_hw977 k0_h2 => k0_hw977.2 k0_h2

def k0_off2098 (v9097 : BitVec 32) : Fin 3 → Nat :=
  let c0_6618 : Index := 0#32
  let v9140 : Index := Scalar.indexCast v9097
  let c0_6619 : Index := 0#32
  ![0, v9140.toNat, 0]

def k0_chk978 (i : grid0.Coords) (v9097 : BitVec 32) : Prop :=
  (∀ (k0_h2 : k0_cond2 i = 1#1), ∀ a, (k0_off2094 v9097) a + S1x1x1024.size a ≤ S1x2048x1024.size a) ∧
  (∀ (k0_h2 : k0_cond2 i = 1#1), ∀ a, (k0_off2098 v9097) a + S1x1x1024.size a ≤ S1x2048x1024.size a)
theorem k0_off2094_inb : ∀ (i : grid0.Coords) (v9097 : BitVec 32) (k0_hw978 : k0_chk978 i v9097), ∀ (k0_h2 : k0_cond2 i = 1#1), ∀ a, (k0_off2094 v9097) a + S1x1x1024.size a ≤ S1x2048x1024.size a := fun i v9097 k0_hw978 k0_h2 => k0_hw978.1 k0_h2
theorem k0_off2098_inb : ∀ (i : grid0.Coords) (v9097 : BitVec 32) (k0_hw978 : k0_chk978 i v9097), ∀ (k0_h2 : k0_cond2 i = 1#1), ∀ a, (k0_off2098 v9097) a + S1x1x1024.size a ≤ S1x2048x1024.size a := fun i v9097 k0_hw978 k0_h2 => k0_hw978.2 k0_h2

def k0_off2099 (v9098 : BitVec 32) : Fin 3 → Nat :=
  let c0_6620 : Index := 0#32
  let v9144 : Index := Scalar.indexCast v9098
  let c0_6621 : Index := 0#32
  ![0, v9144.toNat, 0]

variable {F : FTy → Type} [FloatOps F]

def k0_chk979 (i : grid0.Coords) (v9098 : BitVec 32) : Prop :=
  (∀ (k0_h2 : k0_cond2 i = 1#1), ∀ a, (k0_off2095 v9098) a + S1x1x1024.size a ≤ S1x2048x1024.size a) ∧
  (∀ (k0_h2 : k0_cond2 i = 1#1), ∀ a, (k0_off2099 v9098) a + S1x1x1024.size a ≤ S1x2048x1024.size a)
theorem k0_off2095_inb : ∀ (i : grid0.Coords) (v9098 : BitVec 32) (k0_hw979 : k0_chk979 i v9098), ∀ (k0_h2 : k0_cond2 i = 1#1), ∀ a, (k0_off2095 v9098) a + S1x1x1024.size a ≤ S1x2048x1024.size a := fun i v9098 k0_hw979 k0_h2 => k0_hw979.1 k0_h2
theorem k0_off2099_inb : ∀ (i : grid0.Coords) (v9098 : BitVec 32) (k0_hw979 : k0_chk979 i v9098), ∀ (k0_h2 : k0_cond2 i = 1#1), ∀ a, (k0_off2099 v9098) a + S1x1x1024.size a ≤ S1x2048x1024.size a := fun i v9098 k0_hw979 k0_h2 => k0_hw979.2 k0_h2

def k0_off2100 (v9152 : BitVec 32) : Fin 3 → Nat :=
  let c0_6636 : Index := 0#32
  let v9156 : Index := Scalar.indexCast v9152
  let c0_6637 : Index := 0#32
  ![0, v9156.toNat, 0]

def k0_off2101 (v9153 : BitVec 32) : Fin 3 → Nat :=
  let c0_6644 : Index := 0#32
  let v9165 : Index := Scalar.indexCast v9153
  let c0_6645 : Index := 0#32
  ![0, v9165.toNat, 0]

def k0_off2102 (v9154 : BitVec 32) : Fin 3 → Nat :=
  let c0_6652 : Index := 0#32
  let v9174 : Index := Scalar.indexCast v9154
  let c0_6653 : Index := 0#32
  ![0, v9174.toNat, 0]

def k0_off2103 (v9155 : BitVec 32) : Fin 3 → Nat :=
  let c0_6660 : Index := 0#32
  let v9183 : Index := Scalar.indexCast v9155
  let c0_6661 : Index := 0#32
  ![0, v9183.toNat, 0]

def k0_chk984 (i : grid0.Coords) (v9155 : BitVec 32) : Prop :=
  (∀ (k0_h2 : k0_cond2 i = 1#1), ∀ a, (k0_off2103 v9155) a + S1x1x1024.size a ≤ S1x2048x1024.size a)
theorem k0_off2103_inb : ∀ (i : grid0.Coords) (v9155 : BitVec 32) (k0_hw984 : k0_chk984 i v9155), ∀ (k0_h2 : k0_cond2 i = 1#1), ∀ a, (k0_off2103 v9155) a + S1x1x1024.size a ≤ S1x2048x1024.size a := fun i v9155 k0_hw984 k0_h2 => k0_hw984 k0_h2

def k0_off2104 (v9152 : BitVec 32) : Fin 3 → Nat :=
  let c0_6668 : Index := 0#32
  let v9192 : Index := Scalar.indexCast v9152
  let c0_6669 : Index := 0#32
  ![0, v9192.toNat, 0]

def k0_chk981 (i : grid0.Coords) (v9152 : BitVec 32) : Prop :=
  (∀ (k0_h2 : k0_cond2 i = 1#1), ∀ a, (k0_off2100 v9152) a + S1x1x1024.size a ≤ S1x2048x1024.size a) ∧
  (∀ (k0_h2 : k0_cond2 i = 1#1), ∀ a, (k0_off2104 v9152) a + S1x1x1024.size a ≤ S1x2048x1024.size a)
theorem k0_off2100_inb : ∀ (i : grid0.Coords) (v9152 : BitVec 32) (k0_hw981 : k0_chk981 i v9152), ∀ (k0_h2 : k0_cond2 i = 1#1), ∀ a, (k0_off2100 v9152) a + S1x1x1024.size a ≤ S1x2048x1024.size a := fun i v9152 k0_hw981 k0_h2 => k0_hw981.1 k0_h2
theorem k0_off2104_inb : ∀ (i : grid0.Coords) (v9152 : BitVec 32) (k0_hw981 : k0_chk981 i v9152), ∀ (k0_h2 : k0_cond2 i = 1#1), ∀ a, (k0_off2104 v9152) a + S1x1x1024.size a ≤ S1x2048x1024.size a := fun i v9152 k0_hw981 k0_h2 => k0_hw981.2 k0_h2

def k0_off2105 (v9153 : BitVec 32) : Fin 3 → Nat :=
  let c0_6670 : Index := 0#32
  let v9196 : Index := Scalar.indexCast v9153
  let c0_6671 : Index := 0#32
  ![0, v9196.toNat, 0]

def k0_chk982 (i : grid0.Coords) (v9153 : BitVec 32) : Prop :=
  (∀ (k0_h2 : k0_cond2 i = 1#1), ∀ a, (k0_off2101 v9153) a + S1x1x1024.size a ≤ S1x2048x1024.size a) ∧
  (∀ (k0_h2 : k0_cond2 i = 1#1), ∀ a, (k0_off2105 v9153) a + S1x1x1024.size a ≤ S1x2048x1024.size a)
theorem k0_off2101_inb : ∀ (i : grid0.Coords) (v9153 : BitVec 32) (k0_hw982 : k0_chk982 i v9153), ∀ (k0_h2 : k0_cond2 i = 1#1), ∀ a, (k0_off2101 v9153) a + S1x1x1024.size a ≤ S1x2048x1024.size a := fun i v9153 k0_hw982 k0_h2 => k0_hw982.1 k0_h2
theorem k0_off2105_inb : ∀ (i : grid0.Coords) (v9153 : BitVec 32) (k0_hw982 : k0_chk982 i v9153), ∀ (k0_h2 : k0_cond2 i = 1#1), ∀ a, (k0_off2105 v9153) a + S1x1x1024.size a ≤ S1x2048x1024.size a := fun i v9153 k0_hw982 k0_h2 => k0_hw982.2 k0_h2

def k0_off2106 (v9154 : BitVec 32) : Fin 3 → Nat :=
  let c0_6672 : Index := 0#32
  let v9200 : Index := Scalar.indexCast v9154
  let c0_6673 : Index := 0#32
  ![0, v9200.toNat, 0]

def k0_chk983 (i : grid0.Coords) (v9154 : BitVec 32) : Prop :=
  (∀ (k0_h2 : k0_cond2 i = 1#1), ∀ a, (k0_off2102 v9154) a + S1x1x1024.size a ≤ S1x2048x1024.size a) ∧
  (∀ (k0_h2 : k0_cond2 i = 1#1), ∀ a, (k0_off2106 v9154) a + S1x1x1024.size a ≤ S1x2048x1024.size a)
theorem k0_off2102_inb : ∀ (i : grid0.Coords) (v9154 : BitVec 32) (k0_hw983 : k0_chk983 i v9154), ∀ (k0_h2 : k0_cond2 i = 1#1), ∀ a, (k0_off2102 v9154) a + S1x1x1024.size a ≤ S1x2048x1024.size a := fun i v9154 k0_hw983 k0_h2 => k0_hw983.1 k0_h2
theorem k0_off2106_inb : ∀ (i : grid0.Coords) (v9154 : BitVec 32) (k0_hw983 : k0_chk983 i v9154), ∀ (k0_h2 : k0_cond2 i = 1#1), ∀ a, (k0_off2106 v9154) a + S1x1x1024.size a ≤ S1x2048x1024.size a := fun i v9154 k0_hw983 k0_h2 => k0_hw983.2 k0_h2

def k0_off2107 (v9208 : BitVec 32) : Fin 3 → Nat :=
  let c0_6688 : Index := 0#32
  let v9212 : Index := Scalar.indexCast v9208
  let c0_6689 : Index := 0#32
  ![0, v9212.toNat, 0]

def k0_off2108 (v9209 : BitVec 32) : Fin 3 → Nat :=
  let c0_6696 : Index := 0#32
  let v9221 : Index := Scalar.indexCast v9209
  let c0_6697 : Index := 0#32
  ![0, v9221.toNat, 0]

def k0_off2109 (v9210 : BitVec 32) : Fin 3 → Nat :=
  let c0_6704 : Index := 0#32
  let v9230 : Index := Scalar.indexCast v9210
  let c0_6705 : Index := 0#32
  ![0, v9230.toNat, 0]

def k0_off2110 (v9211 : BitVec 32) : Fin 3 → Nat :=
  let c0_6712 : Index := 0#32
  let v9239 : Index := Scalar.indexCast v9211
  let c0_6713 : Index := 0#32
  ![0, v9239.toNat, 0]

def k0_chk988 (i : grid0.Coords) (v9211 : BitVec 32) : Prop :=
  (∀ (k0_h2 : k0_cond2 i = 1#1), ∀ a, (k0_off2110 v9211) a + S1x1x1024.size a ≤ S1x2048x1024.size a)
theorem k0_off2110_inb : ∀ (i : grid0.Coords) (v9211 : BitVec 32) (k0_hw988 : k0_chk988 i v9211), ∀ (k0_h2 : k0_cond2 i = 1#1), ∀ a, (k0_off2110 v9211) a + S1x1x1024.size a ≤ S1x2048x1024.size a := fun i v9211 k0_hw988 k0_h2 => k0_hw988 k0_h2

def k0_off2111 (v9208 : BitVec 32) : Fin 3 → Nat :=
  let c0_6720 : Index := 0#32
  let v9248 : Index := Scalar.indexCast v9208
  let c0_6721 : Index := 0#32
  ![0, v9248.toNat, 0]

def k0_chk985 (i : grid0.Coords) (v9208 : BitVec 32) : Prop :=
  (∀ (k0_h2 : k0_cond2 i = 1#1), ∀ a, (k0_off2107 v9208) a + S1x1x1024.size a ≤ S1x2048x1024.size a) ∧
  (∀ (k0_h2 : k0_cond2 i = 1#1), ∀ a, (k0_off2111 v9208) a + S1x1x1024.size a ≤ S1x2048x1024.size a)
theorem k0_off2107_inb : ∀ (i : grid0.Coords) (v9208 : BitVec 32) (k0_hw985 : k0_chk985 i v9208), ∀ (k0_h2 : k0_cond2 i = 1#1), ∀ a, (k0_off2107 v9208) a + S1x1x1024.size a ≤ S1x2048x1024.size a := fun i v9208 k0_hw985 k0_h2 => k0_hw985.1 k0_h2
theorem k0_off2111_inb : ∀ (i : grid0.Coords) (v9208 : BitVec 32) (k0_hw985 : k0_chk985 i v9208), ∀ (k0_h2 : k0_cond2 i = 1#1), ∀ a, (k0_off2111 v9208) a + S1x1x1024.size a ≤ S1x2048x1024.size a := fun i v9208 k0_hw985 k0_h2 => k0_hw985.2 k0_h2

def k0_off2112 (v9209 : BitVec 32) : Fin 3 → Nat :=
  let c0_6722 : Index := 0#32
  let v9252 : Index := Scalar.indexCast v9209
  let c0_6723 : Index := 0#32
  ![0, v9252.toNat, 0]

def k0_chk986 (i : grid0.Coords) (v9209 : BitVec 32) : Prop :=
  (∀ (k0_h2 : k0_cond2 i = 1#1), ∀ a, (k0_off2108 v9209) a + S1x1x1024.size a ≤ S1x2048x1024.size a) ∧
  (∀ (k0_h2 : k0_cond2 i = 1#1), ∀ a, (k0_off2112 v9209) a + S1x1x1024.size a ≤ S1x2048x1024.size a)
theorem k0_off2108_inb : ∀ (i : grid0.Coords) (v9209 : BitVec 32) (k0_hw986 : k0_chk986 i v9209), ∀ (k0_h2 : k0_cond2 i = 1#1), ∀ a, (k0_off2108 v9209) a + S1x1x1024.size a ≤ S1x2048x1024.size a := fun i v9209 k0_hw986 k0_h2 => k0_hw986.1 k0_h2
theorem k0_off2112_inb : ∀ (i : grid0.Coords) (v9209 : BitVec 32) (k0_hw986 : k0_chk986 i v9209), ∀ (k0_h2 : k0_cond2 i = 1#1), ∀ a, (k0_off2112 v9209) a + S1x1x1024.size a ≤ S1x2048x1024.size a := fun i v9209 k0_hw986 k0_h2 => k0_hw986.2 k0_h2

def k0_off2113 (v9210 : BitVec 32) : Fin 3 → Nat :=
  let c0_6724 : Index := 0#32
  let v9256 : Index := Scalar.indexCast v9210
  let c0_6725 : Index := 0#32
  ![0, v9256.toNat, 0]

def k0_chk987 (i : grid0.Coords) (v9210 : BitVec 32) : Prop :=
  (∀ (k0_h2 : k0_cond2 i = 1#1), ∀ a, (k0_off2109 v9210) a + S1x1x1024.size a ≤ S1x2048x1024.size a) ∧
  (∀ (k0_h2 : k0_cond2 i = 1#1), ∀ a, (k0_off2113 v9210) a + S1x1x1024.size a ≤ S1x2048x1024.size a)
theorem k0_off2109_inb : ∀ (i : grid0.Coords) (v9210 : BitVec 32) (k0_hw987 : k0_chk987 i v9210), ∀ (k0_h2 : k0_cond2 i = 1#1), ∀ a, (k0_off2109 v9210) a + S1x1x1024.size a ≤ S1x2048x1024.size a := fun i v9210 k0_hw987 k0_h2 => k0_hw987.1 k0_h2
theorem k0_off2113_inb : ∀ (i : grid0.Coords) (v9210 : BitVec 32) (k0_hw987 : k0_chk987 i v9210), ∀ (k0_h2 : k0_cond2 i = 1#1), ∀ a, (k0_off2113 v9210) a + S1x1x1024.size a ≤ S1x2048x1024.size a := fun i v9210 k0_hw987 k0_h2 => k0_hw987.2 k0_h2

def k0_off2114 (v9264 : BitVec 32) : Fin 3 → Nat :=
  let c0_6740 : Index := 0#32
  let v9268 : Index := Scalar.indexCast v9264
  let c0_6741 : Index := 0#32
  ![0, v9268.toNat, 0]

def k0_off2115 (v9265 : BitVec 32) : Fin 3 → Nat :=
  let c0_6748 : Index := 0#32
  let v9277 : Index := Scalar.indexCast v9265
  let c0_6749 : Index := 0#32
  ![0, v9277.toNat, 0]

def k0_off2116 (v9266 : BitVec 32) : Fin 3 → Nat :=
  let c0_6756 : Index := 0#32
  let v9286 : Index := Scalar.indexCast v9266
  let c0_6757 : Index := 0#32
  ![0, v9286.toNat, 0]

def k0_off2117 (v9267 : BitVec 32) : Fin 3 → Nat :=
  let c0_6764 : Index := 0#32
  let v9295 : Index := Scalar.indexCast v9267
  let c0_6765 : Index := 0#32
  ![0, v9295.toNat, 0]

def k0_chk992 (i : grid0.Coords) (v9267 : BitVec 32) : Prop :=
  (∀ (k0_h2 : k0_cond2 i = 1#1), ∀ a, (k0_off2117 v9267) a + S1x1x1024.size a ≤ S1x2048x1024.size a)
theorem k0_off2117_inb : ∀ (i : grid0.Coords) (v9267 : BitVec 32) (k0_hw992 : k0_chk992 i v9267), ∀ (k0_h2 : k0_cond2 i = 1#1), ∀ a, (k0_off2117 v9267) a + S1x1x1024.size a ≤ S1x2048x1024.size a := fun i v9267 k0_hw992 k0_h2 => k0_hw992 k0_h2

def k0_off2118 (v9264 : BitVec 32) : Fin 3 → Nat :=
  let c0_6772 : Index := 0#32
  let v9304 : Index := Scalar.indexCast v9264
  let c0_6773 : Index := 0#32
  ![0, v9304.toNat, 0]

def k0_chk989 (i : grid0.Coords) (v9264 : BitVec 32) : Prop :=
  (∀ (k0_h2 : k0_cond2 i = 1#1), ∀ a, (k0_off2114 v9264) a + S1x1x1024.size a ≤ S1x2048x1024.size a) ∧
  (∀ (k0_h2 : k0_cond2 i = 1#1), ∀ a, (k0_off2118 v9264) a + S1x1x1024.size a ≤ S1x2048x1024.size a)
theorem k0_off2114_inb : ∀ (i : grid0.Coords) (v9264 : BitVec 32) (k0_hw989 : k0_chk989 i v9264), ∀ (k0_h2 : k0_cond2 i = 1#1), ∀ a, (k0_off2114 v9264) a + S1x1x1024.size a ≤ S1x2048x1024.size a := fun i v9264 k0_hw989 k0_h2 => k0_hw989.1 k0_h2
theorem k0_off2118_inb : ∀ (i : grid0.Coords) (v9264 : BitVec 32) (k0_hw989 : k0_chk989 i v9264), ∀ (k0_h2 : k0_cond2 i = 1#1), ∀ a, (k0_off2118 v9264) a + S1x1x1024.size a ≤ S1x2048x1024.size a := fun i v9264 k0_hw989 k0_h2 => k0_hw989.2 k0_h2

def k0_off2119 (v9265 : BitVec 32) : Fin 3 → Nat :=
  let c0_6774 : Index := 0#32
  let v9308 : Index := Scalar.indexCast v9265
  let c0_6775 : Index := 0#32
  ![0, v9308.toNat, 0]

def k0_chk990 (i : grid0.Coords) (v9265 : BitVec 32) : Prop :=
  (∀ (k0_h2 : k0_cond2 i = 1#1), ∀ a, (k0_off2115 v9265) a + S1x1x1024.size a ≤ S1x2048x1024.size a) ∧
  (∀ (k0_h2 : k0_cond2 i = 1#1), ∀ a, (k0_off2119 v9265) a + S1x1x1024.size a ≤ S1x2048x1024.size a)
theorem k0_off2115_inb : ∀ (i : grid0.Coords) (v9265 : BitVec 32) (k0_hw990 : k0_chk990 i v9265), ∀ (k0_h2 : k0_cond2 i = 1#1), ∀ a, (k0_off2115 v9265) a + S1x1x1024.size a ≤ S1x2048x1024.size a := fun i v9265 k0_hw990 k0_h2 => k0_hw990.1 k0_h2
theorem k0_off2119_inb : ∀ (i : grid0.Coords) (v9265 : BitVec 32) (k0_hw990 : k0_chk990 i v9265), ∀ (k0_h2 : k0_cond2 i = 1#1), ∀ a, (k0_off2119 v9265) a + S1x1x1024.size a ≤ S1x2048x1024.size a := fun i v9265 k0_hw990 k0_h2 => k0_hw990.2 k0_h2

def k0_off2120 (v9266 : BitVec 32) : Fin 3 → Nat :=
  let c0_6776 : Index := 0#32
  let v9312 : Index := Scalar.indexCast v9266
  let c0_6777 : Index := 0#32
  ![0, v9312.toNat, 0]

def k0_chk991 (i : grid0.Coords) (v9266 : BitVec 32) : Prop :=
  (∀ (k0_h2 : k0_cond2 i = 1#1), ∀ a, (k0_off2116 v9266) a + S1x1x1024.size a ≤ S1x2048x1024.size a) ∧
  (∀ (k0_h2 : k0_cond2 i = 1#1), ∀ a, (k0_off2120 v9266) a + S1x1x1024.size a ≤ S1x2048x1024.size a)
theorem k0_off2116_inb : ∀ (i : grid0.Coords) (v9266 : BitVec 32) (k0_hw991 : k0_chk991 i v9266), ∀ (k0_h2 : k0_cond2 i = 1#1), ∀ a, (k0_off2116 v9266) a + S1x1x1024.size a ≤ S1x2048x1024.size a := fun i v9266 k0_hw991 k0_h2 => k0_hw991.1 k0_h2
theorem k0_off2120_inb : ∀ (i : grid0.Coords) (v9266 : BitVec 32) (k0_hw991 : k0_chk991 i v9266), ∀ (k0_h2 : k0_cond2 i = 1#1), ∀ a, (k0_off2120 v9266) a + S1x1x1024.size a ≤ S1x2048x1024.size a := fun i v9266 k0_hw991 k0_h2 => k0_hw991.2 k0_h2

def k0_off2121 (v9320 : BitVec 32) : Fin 3 → Nat :=
  let c0_6792 : Index := 0#32
  let v9324 : Index := Scalar.indexCast v9320
  let c0_6793 : Index := 0#32
  ![0, v9324.toNat, 0]

def k0_off2122 (v9321 : BitVec 32) : Fin 3 → Nat :=
  let c0_6800 : Index := 0#32
  let v9333 : Index := Scalar.indexCast v9321
  let c0_6801 : Index := 0#32
  ![0, v9333.toNat, 0]

def k0_off2123 (v9322 : BitVec 32) : Fin 3 → Nat :=
  let c0_6808 : Index := 0#32
  let v9342 : Index := Scalar.indexCast v9322
  let c0_6809 : Index := 0#32
  ![0, v9342.toNat, 0]

def k0_off2124 (v9323 : BitVec 32) : Fin 3 → Nat :=
  let c0_6816 : Index := 0#32
  let v9351 : Index := Scalar.indexCast v9323
  let c0_6817 : Index := 0#32
  ![0, v9351.toNat, 0]

def k0_chk996 (i : grid0.Coords) (v9323 : BitVec 32) : Prop :=
  (∀ (k0_h2 : k0_cond2 i = 1#1), ∀ a, (k0_off2124 v9323) a + S1x1x1024.size a ≤ S1x2048x1024.size a)
theorem k0_off2124_inb : ∀ (i : grid0.Coords) (v9323 : BitVec 32) (k0_hw996 : k0_chk996 i v9323), ∀ (k0_h2 : k0_cond2 i = 1#1), ∀ a, (k0_off2124 v9323) a + S1x1x1024.size a ≤ S1x2048x1024.size a := fun i v9323 k0_hw996 k0_h2 => k0_hw996 k0_h2

def k0_off2125 (v9320 : BitVec 32) : Fin 3 → Nat :=
  let c0_6824 : Index := 0#32
  let v9360 : Index := Scalar.indexCast v9320
  let c0_6825 : Index := 0#32
  ![0, v9360.toNat, 0]

def k0_chk993 (i : grid0.Coords) (v9320 : BitVec 32) : Prop :=
  (∀ (k0_h2 : k0_cond2 i = 1#1), ∀ a, (k0_off2121 v9320) a + S1x1x1024.size a ≤ S1x2048x1024.size a) ∧
  (∀ (k0_h2 : k0_cond2 i = 1#1), ∀ a, (k0_off2125 v9320) a + S1x1x1024.size a ≤ S1x2048x1024.size a)
theorem k0_off2121_inb : ∀ (i : grid0.Coords) (v9320 : BitVec 32) (k0_hw993 : k0_chk993 i v9320), ∀ (k0_h2 : k0_cond2 i = 1#1), ∀ a, (k0_off2121 v9320) a + S1x1x1024.size a ≤ S1x2048x1024.size a := fun i v9320 k0_hw993 k0_h2 => k0_hw993.1 k0_h2
theorem k0_off2125_inb : ∀ (i : grid0.Coords) (v9320 : BitVec 32) (k0_hw993 : k0_chk993 i v9320), ∀ (k0_h2 : k0_cond2 i = 1#1), ∀ a, (k0_off2125 v9320) a + S1x1x1024.size a ≤ S1x2048x1024.size a := fun i v9320 k0_hw993 k0_h2 => k0_hw993.2 k0_h2

def k0_off2126 (v9321 : BitVec 32) : Fin 3 → Nat :=
  let c0_6826 : Index := 0#32
  let v9364 : Index := Scalar.indexCast v9321
  let c0_6827 : Index := 0#32
  ![0, v9364.toNat, 0]

def k0_chk994 (i : grid0.Coords) (v9321 : BitVec 32) : Prop :=
  (∀ (k0_h2 : k0_cond2 i = 1#1), ∀ a, (k0_off2122 v9321) a + S1x1x1024.size a ≤ S1x2048x1024.size a) ∧
  (∀ (k0_h2 : k0_cond2 i = 1#1), ∀ a, (k0_off2126 v9321) a + S1x1x1024.size a ≤ S1x2048x1024.size a)
theorem k0_off2122_inb : ∀ (i : grid0.Coords) (v9321 : BitVec 32) (k0_hw994 : k0_chk994 i v9321), ∀ (k0_h2 : k0_cond2 i = 1#1), ∀ a, (k0_off2122 v9321) a + S1x1x1024.size a ≤ S1x2048x1024.size a := fun i v9321 k0_hw994 k0_h2 => k0_hw994.1 k0_h2
theorem k0_off2126_inb : ∀ (i : grid0.Coords) (v9321 : BitVec 32) (k0_hw994 : k0_chk994 i v9321), ∀ (k0_h2 : k0_cond2 i = 1#1), ∀ a, (k0_off2126 v9321) a + S1x1x1024.size a ≤ S1x2048x1024.size a := fun i v9321 k0_hw994 k0_h2 => k0_hw994.2 k0_h2

def k0_off2127 (v9322 : BitVec 32) : Fin 3 → Nat :=
  let c0_6828 : Index := 0#32
  let v9368 : Index := Scalar.indexCast v9322
  let c0_6829 : Index := 0#32
  ![0, v9368.toNat, 0]

def k0_chk995 (i : grid0.Coords) (v9322 : BitVec 32) : Prop :=
  (∀ (k0_h2 : k0_cond2 i = 1#1), ∀ a, (k0_off2123 v9322) a + S1x1x1024.size a ≤ S1x2048x1024.size a) ∧
  (∀ (k0_h2 : k0_cond2 i = 1#1), ∀ a, (k0_off2127 v9322) a + S1x1x1024.size a ≤ S1x2048x1024.size a)
theorem k0_off2123_inb : ∀ (i : grid0.Coords) (v9322 : BitVec 32) (k0_hw995 : k0_chk995 i v9322), ∀ (k0_h2 : k0_cond2 i = 1#1), ∀ a, (k0_off2123 v9322) a + S1x1x1024.size a ≤ S1x2048x1024.size a := fun i v9322 k0_hw995 k0_h2 => k0_hw995.1 k0_h2
theorem k0_off2127_inb : ∀ (i : grid0.Coords) (v9322 : BitVec 32) (k0_hw995 : k0_chk995 i v9322), ∀ (k0_h2 : k0_cond2 i = 1#1), ∀ a, (k0_off2127 v9322) a + S1x1x1024.size a ≤ S1x2048x1024.size a := fun i v9322 k0_hw995 k0_h2 => k0_hw995.2 k0_h2

def k0_off2128 (v9376 : BitVec 32) : Fin 3 → Nat :=
  let c0_6844 : Index := 0#32
  let v9380 : Index := Scalar.indexCast v9376
  let c0_6845 : Index := 0#32
  ![0, v9380.toNat, 0]

def k0_off2129 (v9377 : BitVec 32) : Fin 3 → Nat :=
  let c0_6852 : Index := 0#32
  let v9389 : Index := Scalar.indexCast v9377
  let c0_6853 : Index := 0#32
  ![0, v9389.toNat, 0]

def k0_off2130 (v9378 : BitVec 32) : Fin 3 → Nat :=
  let c0_6860 : Index := 0#32
  let v9398 : Index := Scalar.indexCast v9378
  let c0_6861 : Index := 0#32
  ![0, v9398.toNat, 0]

def k0_off2131 (v9379 : BitVec 32) : Fin 3 → Nat :=
  let c0_6868 : Index := 0#32
  let v9407 : Index := Scalar.indexCast v9379
  let c0_6869 : Index := 0#32
  ![0, v9407.toNat, 0]

def k0_chk1000 (i : grid0.Coords) (v9379 : BitVec 32) : Prop :=
  (∀ (k0_h2 : k0_cond2 i = 1#1), ∀ a, (k0_off2131 v9379) a + S1x1x1024.size a ≤ S1x2048x1024.size a)
theorem k0_off2131_inb : ∀ (i : grid0.Coords) (v9379 : BitVec 32) (k0_hw1000 : k0_chk1000 i v9379), ∀ (k0_h2 : k0_cond2 i = 1#1), ∀ a, (k0_off2131 v9379) a + S1x1x1024.size a ≤ S1x2048x1024.size a := fun i v9379 k0_hw1000 k0_h2 => k0_hw1000 k0_h2

def k0_off2132 (v9376 : BitVec 32) : Fin 3 → Nat :=
  let c0_6876 : Index := 0#32
  let v9416 : Index := Scalar.indexCast v9376
  let c0_6877 : Index := 0#32
  ![0, v9416.toNat, 0]

def k0_chk997 (i : grid0.Coords) (v9376 : BitVec 32) : Prop :=
  (∀ (k0_h2 : k0_cond2 i = 1#1), ∀ a, (k0_off2128 v9376) a + S1x1x1024.size a ≤ S1x2048x1024.size a) ∧
  (∀ (k0_h2 : k0_cond2 i = 1#1), ∀ a, (k0_off2132 v9376) a + S1x1x1024.size a ≤ S1x2048x1024.size a)
theorem k0_off2128_inb : ∀ (i : grid0.Coords) (v9376 : BitVec 32) (k0_hw997 : k0_chk997 i v9376), ∀ (k0_h2 : k0_cond2 i = 1#1), ∀ a, (k0_off2128 v9376) a + S1x1x1024.size a ≤ S1x2048x1024.size a := fun i v9376 k0_hw997 k0_h2 => k0_hw997.1 k0_h2
theorem k0_off2132_inb : ∀ (i : grid0.Coords) (v9376 : BitVec 32) (k0_hw997 : k0_chk997 i v9376), ∀ (k0_h2 : k0_cond2 i = 1#1), ∀ a, (k0_off2132 v9376) a + S1x1x1024.size a ≤ S1x2048x1024.size a := fun i v9376 k0_hw997 k0_h2 => k0_hw997.2 k0_h2

def k0_off2133 (v9377 : BitVec 32) : Fin 3 → Nat :=
  let c0_6878 : Index := 0#32
  let v9420 : Index := Scalar.indexCast v9377
  let c0_6879 : Index := 0#32
  ![0, v9420.toNat, 0]

def k0_chk998 (i : grid0.Coords) (v9377 : BitVec 32) : Prop :=
  (∀ (k0_h2 : k0_cond2 i = 1#1), ∀ a, (k0_off2129 v9377) a + S1x1x1024.size a ≤ S1x2048x1024.size a) ∧
  (∀ (k0_h2 : k0_cond2 i = 1#1), ∀ a, (k0_off2133 v9377) a + S1x1x1024.size a ≤ S1x2048x1024.size a)
theorem k0_off2129_inb : ∀ (i : grid0.Coords) (v9377 : BitVec 32) (k0_hw998 : k0_chk998 i v9377), ∀ (k0_h2 : k0_cond2 i = 1#1), ∀ a, (k0_off2129 v9377) a + S1x1x1024.size a ≤ S1x2048x1024.size a := fun i v9377 k0_hw998 k0_h2 => k0_hw998.1 k0_h2
theorem k0_off2133_inb : ∀ (i : grid0.Coords) (v9377 : BitVec 32) (k0_hw998 : k0_chk998 i v9377), ∀ (k0_h2 : k0_cond2 i = 1#1), ∀ a, (k0_off2133 v9377) a + S1x1x1024.size a ≤ S1x2048x1024.size a := fun i v9377 k0_hw998 k0_h2 => k0_hw998.2 k0_h2

def k0_off2134 (v9378 : BitVec 32) : Fin 3 → Nat :=
  let c0_6880 : Index := 0#32
  let v9424 : Index := Scalar.indexCast v9378
  let c0_6881 : Index := 0#32
  ![0, v9424.toNat, 0]

def k0_chk999 (i : grid0.Coords) (v9378 : BitVec 32) : Prop :=
  (∀ (k0_h2 : k0_cond2 i = 1#1), ∀ a, (k0_off2130 v9378) a + S1x1x1024.size a ≤ S1x2048x1024.size a) ∧
  (∀ (k0_h2 : k0_cond2 i = 1#1), ∀ a, (k0_off2134 v9378) a + S1x1x1024.size a ≤ S1x2048x1024.size a)
theorem k0_off2130_inb : ∀ (i : grid0.Coords) (v9378 : BitVec 32) (k0_hw999 : k0_chk999 i v9378), ∀ (k0_h2 : k0_cond2 i = 1#1), ∀ a, (k0_off2130 v9378) a + S1x1x1024.size a ≤ S1x2048x1024.size a := fun i v9378 k0_hw999 k0_h2 => k0_hw999.1 k0_h2
theorem k0_off2134_inb : ∀ (i : grid0.Coords) (v9378 : BitVec 32) (k0_hw999 : k0_chk999 i v9378), ∀ (k0_h2 : k0_cond2 i = 1#1), ∀ a, (k0_off2134 v9378) a + S1x1x1024.size a ≤ S1x2048x1024.size a := fun i v9378 k0_hw999 k0_h2 => k0_hw999.2 k0_h2

def k0_off2135 (v9432 : BitVec 32) : Fin 3 → Nat :=
  let c0_6896 : Index := 0#32
  let v9436 : Index := Scalar.indexCast v9432
  let c0_6897 : Index := 0#32
  ![0, v9436.toNat, 0]

def k0_off2136 (v9433 : BitVec 32) : Fin 3 → Nat :=
  let c0_6904 : Index := 0#32
  let v9445 : Index := Scalar.indexCast v9433
  let c0_6905 : Index := 0#32
  ![0, v9445.toNat, 0]

def k0_off2137 (v9434 : BitVec 32) : Fin 3 → Nat :=
  let c0_6912 : Index := 0#32
  let v9454 : Index := Scalar.indexCast v9434
  let c0_6913 : Index := 0#32
  ![0, v9454.toNat, 0]

def k0_off2138 (v9435 : BitVec 32) : Fin 3 → Nat :=
  let c0_6920 : Index := 0#32
  let v9463 : Index := Scalar.indexCast v9435
  let c0_6921 : Index := 0#32
  ![0, v9463.toNat, 0]

def k0_chk1004 (i : grid0.Coords) (v9435 : BitVec 32) : Prop :=
  (∀ (k0_h2 : k0_cond2 i = 1#1), ∀ a, (k0_off2138 v9435) a + S1x1x1024.size a ≤ S1x2048x1024.size a)
theorem k0_off2138_inb : ∀ (i : grid0.Coords) (v9435 : BitVec 32) (k0_hw1004 : k0_chk1004 i v9435), ∀ (k0_h2 : k0_cond2 i = 1#1), ∀ a, (k0_off2138 v9435) a + S1x1x1024.size a ≤ S1x2048x1024.size a := fun i v9435 k0_hw1004 k0_h2 => k0_hw1004 k0_h2

def k0_off2139 (v9432 : BitVec 32) : Fin 3 → Nat :=
  let c0_6928 : Index := 0#32
  let v9472 : Index := Scalar.indexCast v9432
  let c0_6929 : Index := 0#32
  ![0, v9472.toNat, 0]

def k0_chk1001 (i : grid0.Coords) (v9432 : BitVec 32) : Prop :=
  (∀ (k0_h2 : k0_cond2 i = 1#1), ∀ a, (k0_off2135 v9432) a + S1x1x1024.size a ≤ S1x2048x1024.size a) ∧
  (∀ (k0_h2 : k0_cond2 i = 1#1), ∀ a, (k0_off2139 v9432) a + S1x1x1024.size a ≤ S1x2048x1024.size a)
theorem k0_off2135_inb : ∀ (i : grid0.Coords) (v9432 : BitVec 32) (k0_hw1001 : k0_chk1001 i v9432), ∀ (k0_h2 : k0_cond2 i = 1#1), ∀ a, (k0_off2135 v9432) a + S1x1x1024.size a ≤ S1x2048x1024.size a := fun i v9432 k0_hw1001 k0_h2 => k0_hw1001.1 k0_h2
theorem k0_off2139_inb : ∀ (i : grid0.Coords) (v9432 : BitVec 32) (k0_hw1001 : k0_chk1001 i v9432), ∀ (k0_h2 : k0_cond2 i = 1#1), ∀ a, (k0_off2139 v9432) a + S1x1x1024.size a ≤ S1x2048x1024.size a := fun i v9432 k0_hw1001 k0_h2 => k0_hw1001.2 k0_h2

def k0_off2140 (v9433 : BitVec 32) : Fin 3 → Nat :=
  let c0_6930 : Index := 0#32
  let v9476 : Index := Scalar.indexCast v9433
  let c0_6931 : Index := 0#32
  ![0, v9476.toNat, 0]

def k0_chk1002 (i : grid0.Coords) (v9433 : BitVec 32) : Prop :=
  (∀ (k0_h2 : k0_cond2 i = 1#1), ∀ a, (k0_off2136 v9433) a + S1x1x1024.size a ≤ S1x2048x1024.size a) ∧
  (∀ (k0_h2 : k0_cond2 i = 1#1), ∀ a, (k0_off2140 v9433) a + S1x1x1024.size a ≤ S1x2048x1024.size a)
theorem k0_off2136_inb : ∀ (i : grid0.Coords) (v9433 : BitVec 32) (k0_hw1002 : k0_chk1002 i v9433), ∀ (k0_h2 : k0_cond2 i = 1#1), ∀ a, (k0_off2136 v9433) a + S1x1x1024.size a ≤ S1x2048x1024.size a := fun i v9433 k0_hw1002 k0_h2 => k0_hw1002.1 k0_h2
theorem k0_off2140_inb : ∀ (i : grid0.Coords) (v9433 : BitVec 32) (k0_hw1002 : k0_chk1002 i v9433), ∀ (k0_h2 : k0_cond2 i = 1#1), ∀ a, (k0_off2140 v9433) a + S1x1x1024.size a ≤ S1x2048x1024.size a := fun i v9433 k0_hw1002 k0_h2 => k0_hw1002.2 k0_h2

def k0_off2141 (v9434 : BitVec 32) : Fin 3 → Nat :=
  let c0_6932 : Index := 0#32
  let v9480 : Index := Scalar.indexCast v9434
  let c0_6933 : Index := 0#32
  ![0, v9480.toNat, 0]

def k0_chk1003 (i : grid0.Coords) (v9434 : BitVec 32) : Prop :=
  (∀ (k0_h2 : k0_cond2 i = 1#1), ∀ a, (k0_off2137 v9434) a + S1x1x1024.size a ≤ S1x2048x1024.size a) ∧
  (∀ (k0_h2 : k0_cond2 i = 1#1), ∀ a, (k0_off2141 v9434) a + S1x1x1024.size a ≤ S1x2048x1024.size a)
theorem k0_off2137_inb : ∀ (i : grid0.Coords) (v9434 : BitVec 32) (k0_hw1003 : k0_chk1003 i v9434), ∀ (k0_h2 : k0_cond2 i = 1#1), ∀ a, (k0_off2137 v9434) a + S1x1x1024.size a ≤ S1x2048x1024.size a := fun i v9434 k0_hw1003 k0_h2 => k0_hw1003.1 k0_h2
theorem k0_off2141_inb : ∀ (i : grid0.Coords) (v9434 : BitVec 32) (k0_hw1003 : k0_chk1003 i v9434), ∀ (k0_h2 : k0_cond2 i = 1#1), ∀ a, (k0_off2141 v9434) a + S1x1x1024.size a ≤ S1x2048x1024.size a := fun i v9434 k0_hw1003 k0_h2 => k0_hw1003.2 k0_h2

def k0_off2142 (v9488 : BitVec 32) : Fin 3 → Nat :=
  let c0_6948 : Index := 0#32
  let v9492 : Index := Scalar.indexCast v9488
  let c0_6949 : Index := 0#32
  ![0, v9492.toNat, 0]

def k0_off2143 (v9489 : BitVec 32) : Fin 3 → Nat :=
  let c0_6956 : Index := 0#32
  let v9501 : Index := Scalar.indexCast v9489
  let c0_6957 : Index := 0#32
  ![0, v9501.toNat, 0]

def k0_off2144 (v9490 : BitVec 32) : Fin 3 → Nat :=
  let c0_6964 : Index := 0#32
  let v9510 : Index := Scalar.indexCast v9490
  let c0_6965 : Index := 0#32
  ![0, v9510.toNat, 0]

def k0_off2145 (v9491 : BitVec 32) : Fin 3 → Nat :=
  let c0_6972 : Index := 0#32
  let v9519 : Index := Scalar.indexCast v9491
  let c0_6973 : Index := 0#32
  ![0, v9519.toNat, 0]

def k0_chk1008 (i : grid0.Coords) (v9491 : BitVec 32) : Prop :=
  (∀ (k0_h2 : k0_cond2 i = 1#1), ∀ a, (k0_off2145 v9491) a + S1x1x1024.size a ≤ S1x2048x1024.size a)
theorem k0_off2145_inb : ∀ (i : grid0.Coords) (v9491 : BitVec 32) (k0_hw1008 : k0_chk1008 i v9491), ∀ (k0_h2 : k0_cond2 i = 1#1), ∀ a, (k0_off2145 v9491) a + S1x1x1024.size a ≤ S1x2048x1024.size a := fun i v9491 k0_hw1008 k0_h2 => k0_hw1008 k0_h2

def k0_off2146 (v9488 : BitVec 32) : Fin 3 → Nat :=
  let c0_6980 : Index := 0#32
  let v9528 : Index := Scalar.indexCast v9488
  let c0_6981 : Index := 0#32
  ![0, v9528.toNat, 0]

def k0_chk1005 (i : grid0.Coords) (v9488 : BitVec 32) : Prop :=
  (∀ (k0_h2 : k0_cond2 i = 1#1), ∀ a, (k0_off2142 v9488) a + S1x1x1024.size a ≤ S1x2048x1024.size a) ∧
  (∀ (k0_h2 : k0_cond2 i = 1#1), ∀ a, (k0_off2146 v9488) a + S1x1x1024.size a ≤ S1x2048x1024.size a)
theorem k0_off2142_inb : ∀ (i : grid0.Coords) (v9488 : BitVec 32) (k0_hw1005 : k0_chk1005 i v9488), ∀ (k0_h2 : k0_cond2 i = 1#1), ∀ a, (k0_off2142 v9488) a + S1x1x1024.size a ≤ S1x2048x1024.size a := fun i v9488 k0_hw1005 k0_h2 => k0_hw1005.1 k0_h2
theorem k0_off2146_inb : ∀ (i : grid0.Coords) (v9488 : BitVec 32) (k0_hw1005 : k0_chk1005 i v9488), ∀ (k0_h2 : k0_cond2 i = 1#1), ∀ a, (k0_off2146 v9488) a + S1x1x1024.size a ≤ S1x2048x1024.size a := fun i v9488 k0_hw1005 k0_h2 => k0_hw1005.2 k0_h2

def k0_off2147 (v9489 : BitVec 32) : Fin 3 → Nat :=
  let c0_6982 : Index := 0#32
  let v9532 : Index := Scalar.indexCast v9489
  let c0_6983 : Index := 0#32
  ![0, v9532.toNat, 0]

def k0_chk1006 (i : grid0.Coords) (v9489 : BitVec 32) : Prop :=
  (∀ (k0_h2 : k0_cond2 i = 1#1), ∀ a, (k0_off2143 v9489) a + S1x1x1024.size a ≤ S1x2048x1024.size a) ∧
  (∀ (k0_h2 : k0_cond2 i = 1#1), ∀ a, (k0_off2147 v9489) a + S1x1x1024.size a ≤ S1x2048x1024.size a)
theorem k0_off2143_inb : ∀ (i : grid0.Coords) (v9489 : BitVec 32) (k0_hw1006 : k0_chk1006 i v9489), ∀ (k0_h2 : k0_cond2 i = 1#1), ∀ a, (k0_off2143 v9489) a + S1x1x1024.size a ≤ S1x2048x1024.size a := fun i v9489 k0_hw1006 k0_h2 => k0_hw1006.1 k0_h2
theorem k0_off2147_inb : ∀ (i : grid0.Coords) (v9489 : BitVec 32) (k0_hw1006 : k0_chk1006 i v9489), ∀ (k0_h2 : k0_cond2 i = 1#1), ∀ a, (k0_off2147 v9489) a + S1x1x1024.size a ≤ S1x2048x1024.size a := fun i v9489 k0_hw1006 k0_h2 => k0_hw1006.2 k0_h2

def k0_off2148 (v9490 : BitVec 32) : Fin 3 → Nat :=
  let c0_6984 : Index := 0#32
  let v9536 : Index := Scalar.indexCast v9490
  let c0_6985 : Index := 0#32
  ![0, v9536.toNat, 0]

def k0_chk1007 (i : grid0.Coords) (v9490 : BitVec 32) : Prop :=
  (∀ (k0_h2 : k0_cond2 i = 1#1), ∀ a, (k0_off2144 v9490) a + S1x1x1024.size a ≤ S1x2048x1024.size a) ∧
  (∀ (k0_h2 : k0_cond2 i = 1#1), ∀ a, (k0_off2148 v9490) a + S1x1x1024.size a ≤ S1x2048x1024.size a)
theorem k0_off2144_inb : ∀ (i : grid0.Coords) (v9490 : BitVec 32) (k0_hw1007 : k0_chk1007 i v9490), ∀ (k0_h2 : k0_cond2 i = 1#1), ∀ a, (k0_off2144 v9490) a + S1x1x1024.size a ≤ S1x2048x1024.size a := fun i v9490 k0_hw1007 k0_h2 => k0_hw1007.1 k0_h2
theorem k0_off2148_inb : ∀ (i : grid0.Coords) (v9490 : BitVec 32) (k0_hw1007 : k0_chk1007 i v9490), ∀ (k0_h2 : k0_cond2 i = 1#1), ∀ a, (k0_off2148 v9490) a + S1x1x1024.size a ≤ S1x2048x1024.size a := fun i v9490 k0_hw1007 k0_h2 => k0_hw1007.2 k0_h2

def k0_off2149 (v9544 : BitVec 32) : Fin 3 → Nat :=
  let c0_7000 : Index := 0#32
  let v9548 : Index := Scalar.indexCast v9544
  let c0_7001 : Index := 0#32
  ![0, v9548.toNat, 0]

def k0_off2150 (v9545 : BitVec 32) : Fin 3 → Nat :=
  let c0_7008 : Index := 0#32
  let v9557 : Index := Scalar.indexCast v9545
  let c0_7009 : Index := 0#32
  ![0, v9557.toNat, 0]

def k0_off2151 (v9546 : BitVec 32) : Fin 3 → Nat :=
  let c0_7016 : Index := 0#32
  let v9566 : Index := Scalar.indexCast v9546
  let c0_7017 : Index := 0#32
  ![0, v9566.toNat, 0]

def k0_off2152 (v9547 : BitVec 32) : Fin 3 → Nat :=
  let c0_7024 : Index := 0#32
  let v9575 : Index := Scalar.indexCast v9547
  let c0_7025 : Index := 0#32
  ![0, v9575.toNat, 0]

def k0_chk1012 (i : grid0.Coords) (v9547 : BitVec 32) : Prop :=
  (∀ (k0_h2 : k0_cond2 i = 1#1), ∀ a, (k0_off2152 v9547) a + S1x1x1024.size a ≤ S1x2048x1024.size a)
theorem k0_off2152_inb : ∀ (i : grid0.Coords) (v9547 : BitVec 32) (k0_hw1012 : k0_chk1012 i v9547), ∀ (k0_h2 : k0_cond2 i = 1#1), ∀ a, (k0_off2152 v9547) a + S1x1x1024.size a ≤ S1x2048x1024.size a := fun i v9547 k0_hw1012 k0_h2 => k0_hw1012 k0_h2

def k0_off2153 (v9544 : BitVec 32) : Fin 3 → Nat :=
  let c0_7032 : Index := 0#32
  let v9584 : Index := Scalar.indexCast v9544
  let c0_7033 : Index := 0#32
  ![0, v9584.toNat, 0]

def k0_chk1009 (i : grid0.Coords) (v9544 : BitVec 32) : Prop :=
  (∀ (k0_h2 : k0_cond2 i = 1#1), ∀ a, (k0_off2149 v9544) a + S1x1x1024.size a ≤ S1x2048x1024.size a) ∧
  (∀ (k0_h2 : k0_cond2 i = 1#1), ∀ a, (k0_off2153 v9544) a + S1x1x1024.size a ≤ S1x2048x1024.size a)
theorem k0_off2149_inb : ∀ (i : grid0.Coords) (v9544 : BitVec 32) (k0_hw1009 : k0_chk1009 i v9544), ∀ (k0_h2 : k0_cond2 i = 1#1), ∀ a, (k0_off2149 v9544) a + S1x1x1024.size a ≤ S1x2048x1024.size a := fun i v9544 k0_hw1009 k0_h2 => k0_hw1009.1 k0_h2
theorem k0_off2153_inb : ∀ (i : grid0.Coords) (v9544 : BitVec 32) (k0_hw1009 : k0_chk1009 i v9544), ∀ (k0_h2 : k0_cond2 i = 1#1), ∀ a, (k0_off2153 v9544) a + S1x1x1024.size a ≤ S1x2048x1024.size a := fun i v9544 k0_hw1009 k0_h2 => k0_hw1009.2 k0_h2

def k0_off2154 (v9545 : BitVec 32) : Fin 3 → Nat :=
  let c0_7034 : Index := 0#32
  let v9588 : Index := Scalar.indexCast v9545
  let c0_7035 : Index := 0#32
  ![0, v9588.toNat, 0]

def k0_chk1010 (i : grid0.Coords) (v9545 : BitVec 32) : Prop :=
  (∀ (k0_h2 : k0_cond2 i = 1#1), ∀ a, (k0_off2150 v9545) a + S1x1x1024.size a ≤ S1x2048x1024.size a) ∧
  (∀ (k0_h2 : k0_cond2 i = 1#1), ∀ a, (k0_off2154 v9545) a + S1x1x1024.size a ≤ S1x2048x1024.size a)
theorem k0_off2150_inb : ∀ (i : grid0.Coords) (v9545 : BitVec 32) (k0_hw1010 : k0_chk1010 i v9545), ∀ (k0_h2 : k0_cond2 i = 1#1), ∀ a, (k0_off2150 v9545) a + S1x1x1024.size a ≤ S1x2048x1024.size a := fun i v9545 k0_hw1010 k0_h2 => k0_hw1010.1 k0_h2
theorem k0_off2154_inb : ∀ (i : grid0.Coords) (v9545 : BitVec 32) (k0_hw1010 : k0_chk1010 i v9545), ∀ (k0_h2 : k0_cond2 i = 1#1), ∀ a, (k0_off2154 v9545) a + S1x1x1024.size a ≤ S1x2048x1024.size a := fun i v9545 k0_hw1010 k0_h2 => k0_hw1010.2 k0_h2

def k0_off2155 (v9546 : BitVec 32) : Fin 3 → Nat :=
  let c0_7036 : Index := 0#32
  let v9592 : Index := Scalar.indexCast v9546
  let c0_7037 : Index := 0#32
  ![0, v9592.toNat, 0]

def k0_chk1011 (i : grid0.Coords) (v9546 : BitVec 32) : Prop :=
  (∀ (k0_h2 : k0_cond2 i = 1#1), ∀ a, (k0_off2151 v9546) a + S1x1x1024.size a ≤ S1x2048x1024.size a) ∧
  (∀ (k0_h2 : k0_cond2 i = 1#1), ∀ a, (k0_off2155 v9546) a + S1x1x1024.size a ≤ S1x2048x1024.size a)
theorem k0_off2151_inb : ∀ (i : grid0.Coords) (v9546 : BitVec 32) (k0_hw1011 : k0_chk1011 i v9546), ∀ (k0_h2 : k0_cond2 i = 1#1), ∀ a, (k0_off2151 v9546) a + S1x1x1024.size a ≤ S1x2048x1024.size a := fun i v9546 k0_hw1011 k0_h2 => k0_hw1011.1 k0_h2
theorem k0_off2155_inb : ∀ (i : grid0.Coords) (v9546 : BitVec 32) (k0_hw1011 : k0_chk1011 i v9546), ∀ (k0_h2 : k0_cond2 i = 1#1), ∀ a, (k0_off2155 v9546) a + S1x1x1024.size a ≤ S1x2048x1024.size a := fun i v9546 k0_hw1011 k0_h2 => k0_hw1011.2 k0_h2

def k0_off2156 (v9600 : BitVec 32) : Fin 3 → Nat :=
  let c0_7052 : Index := 0#32
  let v9604 : Index := Scalar.indexCast v9600
  let c0_7053 : Index := 0#32
  ![0, v9604.toNat, 0]

def k0_off2157 (v9601 : BitVec 32) : Fin 3 → Nat :=
  let c0_7060 : Index := 0#32
  let v9613 : Index := Scalar.indexCast v9601
  let c0_7061 : Index := 0#32
  ![0, v9613.toNat, 0]

def k0_off2158 (v9602 : BitVec 32) : Fin 3 → Nat :=
  let c0_7068 : Index := 0#32
  let v9622 : Index := Scalar.indexCast v9602
  let c0_7069 : Index := 0#32
  ![0, v9622.toNat, 0]

def k0_off2159 (v9603 : BitVec 32) : Fin 3 → Nat :=
  let c0_7076 : Index := 0#32
  let v9631 : Index := Scalar.indexCast v9603
  let c0_7077 : Index := 0#32
  ![0, v9631.toNat, 0]

def k0_chk1016 (i : grid0.Coords) (v9603 : BitVec 32) : Prop :=
  (∀ (k0_h2 : k0_cond2 i = 1#1), ∀ a, (k0_off2159 v9603) a + S1x1x1024.size a ≤ S1x2048x1024.size a)
theorem k0_off2159_inb : ∀ (i : grid0.Coords) (v9603 : BitVec 32) (k0_hw1016 : k0_chk1016 i v9603), ∀ (k0_h2 : k0_cond2 i = 1#1), ∀ a, (k0_off2159 v9603) a + S1x1x1024.size a ≤ S1x2048x1024.size a := fun i v9603 k0_hw1016 k0_h2 => k0_hw1016 k0_h2

def k0_off2160 (v9600 : BitVec 32) : Fin 3 → Nat :=
  let c0_7084 : Index := 0#32
  let v9640 : Index := Scalar.indexCast v9600
  let c0_7085 : Index := 0#32
  ![0, v9640.toNat, 0]

def k0_chk1013 (i : grid0.Coords) (v9600 : BitVec 32) : Prop :=
  (∀ (k0_h2 : k0_cond2 i = 1#1), ∀ a, (k0_off2156 v9600) a + S1x1x1024.size a ≤ S1x2048x1024.size a) ∧
  (∀ (k0_h2 : k0_cond2 i = 1#1), ∀ a, (k0_off2160 v9600) a + S1x1x1024.size a ≤ S1x2048x1024.size a)
theorem k0_off2156_inb : ∀ (i : grid0.Coords) (v9600 : BitVec 32) (k0_hw1013 : k0_chk1013 i v9600), ∀ (k0_h2 : k0_cond2 i = 1#1), ∀ a, (k0_off2156 v9600) a + S1x1x1024.size a ≤ S1x2048x1024.size a := fun i v9600 k0_hw1013 k0_h2 => k0_hw1013.1 k0_h2
theorem k0_off2160_inb : ∀ (i : grid0.Coords) (v9600 : BitVec 32) (k0_hw1013 : k0_chk1013 i v9600), ∀ (k0_h2 : k0_cond2 i = 1#1), ∀ a, (k0_off2160 v9600) a + S1x1x1024.size a ≤ S1x2048x1024.size a := fun i v9600 k0_hw1013 k0_h2 => k0_hw1013.2 k0_h2

def k0_off2161 (v9601 : BitVec 32) : Fin 3 → Nat :=
  let c0_7086 : Index := 0#32
  let v9644 : Index := Scalar.indexCast v9601
  let c0_7087 : Index := 0#32
  ![0, v9644.toNat, 0]

def k0_chk1014 (i : grid0.Coords) (v9601 : BitVec 32) : Prop :=
  (∀ (k0_h2 : k0_cond2 i = 1#1), ∀ a, (k0_off2157 v9601) a + S1x1x1024.size a ≤ S1x2048x1024.size a) ∧
  (∀ (k0_h2 : k0_cond2 i = 1#1), ∀ a, (k0_off2161 v9601) a + S1x1x1024.size a ≤ S1x2048x1024.size a)
theorem k0_off2157_inb : ∀ (i : grid0.Coords) (v9601 : BitVec 32) (k0_hw1014 : k0_chk1014 i v9601), ∀ (k0_h2 : k0_cond2 i = 1#1), ∀ a, (k0_off2157 v9601) a + S1x1x1024.size a ≤ S1x2048x1024.size a := fun i v9601 k0_hw1014 k0_h2 => k0_hw1014.1 k0_h2
theorem k0_off2161_inb : ∀ (i : grid0.Coords) (v9601 : BitVec 32) (k0_hw1014 : k0_chk1014 i v9601), ∀ (k0_h2 : k0_cond2 i = 1#1), ∀ a, (k0_off2161 v9601) a + S1x1x1024.size a ≤ S1x2048x1024.size a := fun i v9601 k0_hw1014 k0_h2 => k0_hw1014.2 k0_h2

def k0_off2162 (v9602 : BitVec 32) : Fin 3 → Nat :=
  let c0_7088 : Index := 0#32
  let v9648 : Index := Scalar.indexCast v9602
  let c0_7089 : Index := 0#32
  ![0, v9648.toNat, 0]

def k0_chk1015 (i : grid0.Coords) (v9602 : BitVec 32) : Prop :=
  (∀ (k0_h2 : k0_cond2 i = 1#1), ∀ a, (k0_off2158 v9602) a + S1x1x1024.size a ≤ S1x2048x1024.size a) ∧
  (∀ (k0_h2 : k0_cond2 i = 1#1), ∀ a, (k0_off2162 v9602) a + S1x1x1024.size a ≤ S1x2048x1024.size a)
theorem k0_off2158_inb : ∀ (i : grid0.Coords) (v9602 : BitVec 32) (k0_hw1015 : k0_chk1015 i v9602), ∀ (k0_h2 : k0_cond2 i = 1#1), ∀ a, (k0_off2158 v9602) a + S1x1x1024.size a ≤ S1x2048x1024.size a := fun i v9602 k0_hw1015 k0_h2 => k0_hw1015.1 k0_h2
theorem k0_off2162_inb : ∀ (i : grid0.Coords) (v9602 : BitVec 32) (k0_hw1015 : k0_chk1015 i v9602), ∀ (k0_h2 : k0_cond2 i = 1#1), ∀ a, (k0_off2162 v9602) a + S1x1x1024.size a ≤ S1x2048x1024.size a := fun i v9602 k0_hw1015 k0_h2 => k0_hw1015.2 k0_h2

def k0_off2163 (v9656 : BitVec 32) : Fin 3 → Nat :=
  let c0_7104 : Index := 0#32
  let v9660 : Index := Scalar.indexCast v9656
  let c0_7105 : Index := 0#32
  ![0, v9660.toNat, 0]

def k0_off2164 (v9657 : BitVec 32) : Fin 3 → Nat :=
  let c0_7112 : Index := 0#32
  let v9669 : Index := Scalar.indexCast v9657
  let c0_7113 : Index := 0#32
  ![0, v9669.toNat, 0]

def k0_off2165 (v9658 : BitVec 32) : Fin 3 → Nat :=
  let c0_7120 : Index := 0#32
  let v9678 : Index := Scalar.indexCast v9658
  let c0_7121 : Index := 0#32
  ![0, v9678.toNat, 0]

def k0_off2166 (v9659 : BitVec 32) : Fin 3 → Nat :=
  let c0_7128 : Index := 0#32
  let v9687 : Index := Scalar.indexCast v9659
  let c0_7129 : Index := 0#32
  ![0, v9687.toNat, 0]

def k0_chk1020 (i : grid0.Coords) (v9659 : BitVec 32) : Prop :=
  (∀ (k0_h2 : k0_cond2 i = 1#1), ∀ a, (k0_off2166 v9659) a + S1x1x1024.size a ≤ S1x2048x1024.size a)
theorem k0_off2166_inb : ∀ (i : grid0.Coords) (v9659 : BitVec 32) (k0_hw1020 : k0_chk1020 i v9659), ∀ (k0_h2 : k0_cond2 i = 1#1), ∀ a, (k0_off2166 v9659) a + S1x1x1024.size a ≤ S1x2048x1024.size a := fun i v9659 k0_hw1020 k0_h2 => k0_hw1020 k0_h2

def k0_off2167 (v9656 : BitVec 32) : Fin 3 → Nat :=
  let c0_7136 : Index := 0#32
  let v9696 : Index := Scalar.indexCast v9656
  let c0_7137 : Index := 0#32
  ![0, v9696.toNat, 0]

def k0_chk1017 (i : grid0.Coords) (v9656 : BitVec 32) : Prop :=
  (∀ (k0_h2 : k0_cond2 i = 1#1), ∀ a, (k0_off2163 v9656) a + S1x1x1024.size a ≤ S1x2048x1024.size a) ∧
  (∀ (k0_h2 : k0_cond2 i = 1#1), ∀ a, (k0_off2167 v9656) a + S1x1x1024.size a ≤ S1x2048x1024.size a)
theorem k0_off2163_inb : ∀ (i : grid0.Coords) (v9656 : BitVec 32) (k0_hw1017 : k0_chk1017 i v9656), ∀ (k0_h2 : k0_cond2 i = 1#1), ∀ a, (k0_off2163 v9656) a + S1x1x1024.size a ≤ S1x2048x1024.size a := fun i v9656 k0_hw1017 k0_h2 => k0_hw1017.1 k0_h2
theorem k0_off2167_inb : ∀ (i : grid0.Coords) (v9656 : BitVec 32) (k0_hw1017 : k0_chk1017 i v9656), ∀ (k0_h2 : k0_cond2 i = 1#1), ∀ a, (k0_off2167 v9656) a + S1x1x1024.size a ≤ S1x2048x1024.size a := fun i v9656 k0_hw1017 k0_h2 => k0_hw1017.2 k0_h2

def k0_off2168 (v9657 : BitVec 32) : Fin 3 → Nat :=
  let c0_7138 : Index := 0#32
  let v9700 : Index := Scalar.indexCast v9657
  let c0_7139 : Index := 0#32
  ![0, v9700.toNat, 0]

def k0_chk1018 (i : grid0.Coords) (v9657 : BitVec 32) : Prop :=
  (∀ (k0_h2 : k0_cond2 i = 1#1), ∀ a, (k0_off2164 v9657) a + S1x1x1024.size a ≤ S1x2048x1024.size a) ∧
  (∀ (k0_h2 : k0_cond2 i = 1#1), ∀ a, (k0_off2168 v9657) a + S1x1x1024.size a ≤ S1x2048x1024.size a)
theorem k0_off2164_inb : ∀ (i : grid0.Coords) (v9657 : BitVec 32) (k0_hw1018 : k0_chk1018 i v9657), ∀ (k0_h2 : k0_cond2 i = 1#1), ∀ a, (k0_off2164 v9657) a + S1x1x1024.size a ≤ S1x2048x1024.size a := fun i v9657 k0_hw1018 k0_h2 => k0_hw1018.1 k0_h2
theorem k0_off2168_inb : ∀ (i : grid0.Coords) (v9657 : BitVec 32) (k0_hw1018 : k0_chk1018 i v9657), ∀ (k0_h2 : k0_cond2 i = 1#1), ∀ a, (k0_off2168 v9657) a + S1x1x1024.size a ≤ S1x2048x1024.size a := fun i v9657 k0_hw1018 k0_h2 => k0_hw1018.2 k0_h2

def k0_off2169 (v9658 : BitVec 32) : Fin 3 → Nat :=
  let c0_7140 : Index := 0#32
  let v9704 : Index := Scalar.indexCast v9658
  let c0_7141 : Index := 0#32
  ![0, v9704.toNat, 0]

def k0_chk1019 (i : grid0.Coords) (v9658 : BitVec 32) : Prop :=
  (∀ (k0_h2 : k0_cond2 i = 1#1), ∀ a, (k0_off2165 v9658) a + S1x1x1024.size a ≤ S1x2048x1024.size a) ∧
  (∀ (k0_h2 : k0_cond2 i = 1#1), ∀ a, (k0_off2169 v9658) a + S1x1x1024.size a ≤ S1x2048x1024.size a)
theorem k0_off2165_inb : ∀ (i : grid0.Coords) (v9658 : BitVec 32) (k0_hw1019 : k0_chk1019 i v9658), ∀ (k0_h2 : k0_cond2 i = 1#1), ∀ a, (k0_off2165 v9658) a + S1x1x1024.size a ≤ S1x2048x1024.size a := fun i v9658 k0_hw1019 k0_h2 => k0_hw1019.1 k0_h2
theorem k0_off2169_inb : ∀ (i : grid0.Coords) (v9658 : BitVec 32) (k0_hw1019 : k0_chk1019 i v9658), ∀ (k0_h2 : k0_cond2 i = 1#1), ∀ a, (k0_off2169 v9658) a + S1x1x1024.size a ≤ S1x2048x1024.size a := fun i v9658 k0_hw1019 k0_h2 => k0_hw1019.2 k0_h2

def k0_off2170 (v9712 : BitVec 32) : Fin 3 → Nat :=
  let c0_7156 : Index := 0#32
  let v9716 : Index := Scalar.indexCast v9712
  let c0_7157 : Index := 0#32
  ![0, v9716.toNat, 0]

def k0_off2171 (v9713 : BitVec 32) : Fin 3 → Nat :=
  let c0_7164 : Index := 0#32
  let v9725 : Index := Scalar.indexCast v9713
  let c0_7165 : Index := 0#32
  ![0, v9725.toNat, 0]

def k0_off2172 (v9714 : BitVec 32) : Fin 3 → Nat :=
  let c0_7172 : Index := 0#32
  let v9734 : Index := Scalar.indexCast v9714
  let c0_7173 : Index := 0#32
  ![0, v9734.toNat, 0]

def k0_off2173 (v9715 : BitVec 32) : Fin 3 → Nat :=
  let c0_7180 : Index := 0#32
  let v9743 : Index := Scalar.indexCast v9715
  let c0_7181 : Index := 0#32
  ![0, v9743.toNat, 0]

def k0_chk1024 (i : grid0.Coords) (v9715 : BitVec 32) : Prop :=
  (∀ (k0_h2 : k0_cond2 i = 1#1), ∀ a, (k0_off2173 v9715) a + S1x1x1024.size a ≤ S1x2048x1024.size a)
theorem k0_off2173_inb : ∀ (i : grid0.Coords) (v9715 : BitVec 32) (k0_hw1024 : k0_chk1024 i v9715), ∀ (k0_h2 : k0_cond2 i = 1#1), ∀ a, (k0_off2173 v9715) a + S1x1x1024.size a ≤ S1x2048x1024.size a := fun i v9715 k0_hw1024 k0_h2 => k0_hw1024 k0_h2

def k0_off2174 (v9712 : BitVec 32) : Fin 3 → Nat :=
  let c0_7188 : Index := 0#32
  let v9752 : Index := Scalar.indexCast v9712
  let c0_7189 : Index := 0#32
  ![0, v9752.toNat, 0]

def k0_chk1021 (i : grid0.Coords) (v9712 : BitVec 32) : Prop :=
  (∀ (k0_h2 : k0_cond2 i = 1#1), ∀ a, (k0_off2170 v9712) a + S1x1x1024.size a ≤ S1x2048x1024.size a) ∧
  (∀ (k0_h2 : k0_cond2 i = 1#1), ∀ a, (k0_off2174 v9712) a + S1x1x1024.size a ≤ S1x2048x1024.size a)
theorem k0_off2170_inb : ∀ (i : grid0.Coords) (v9712 : BitVec 32) (k0_hw1021 : k0_chk1021 i v9712), ∀ (k0_h2 : k0_cond2 i = 1#1), ∀ a, (k0_off2170 v9712) a + S1x1x1024.size a ≤ S1x2048x1024.size a := fun i v9712 k0_hw1021 k0_h2 => k0_hw1021.1 k0_h2
theorem k0_off2174_inb : ∀ (i : grid0.Coords) (v9712 : BitVec 32) (k0_hw1021 : k0_chk1021 i v9712), ∀ (k0_h2 : k0_cond2 i = 1#1), ∀ a, (k0_off2174 v9712) a + S1x1x1024.size a ≤ S1x2048x1024.size a := fun i v9712 k0_hw1021 k0_h2 => k0_hw1021.2 k0_h2

def k0_off2175 (v9713 : BitVec 32) : Fin 3 → Nat :=
  let c0_7190 : Index := 0#32
  let v9756 : Index := Scalar.indexCast v9713
  let c0_7191 : Index := 0#32
  ![0, v9756.toNat, 0]

def k0_chk1022 (i : grid0.Coords) (v9713 : BitVec 32) : Prop :=
  (∀ (k0_h2 : k0_cond2 i = 1#1), ∀ a, (k0_off2171 v9713) a + S1x1x1024.size a ≤ S1x2048x1024.size a) ∧
  (∀ (k0_h2 : k0_cond2 i = 1#1), ∀ a, (k0_off2175 v9713) a + S1x1x1024.size a ≤ S1x2048x1024.size a)
theorem k0_off2171_inb : ∀ (i : grid0.Coords) (v9713 : BitVec 32) (k0_hw1022 : k0_chk1022 i v9713), ∀ (k0_h2 : k0_cond2 i = 1#1), ∀ a, (k0_off2171 v9713) a + S1x1x1024.size a ≤ S1x2048x1024.size a := fun i v9713 k0_hw1022 k0_h2 => k0_hw1022.1 k0_h2
theorem k0_off2175_inb : ∀ (i : grid0.Coords) (v9713 : BitVec 32) (k0_hw1022 : k0_chk1022 i v9713), ∀ (k0_h2 : k0_cond2 i = 1#1), ∀ a, (k0_off2175 v9713) a + S1x1x1024.size a ≤ S1x2048x1024.size a := fun i v9713 k0_hw1022 k0_h2 => k0_hw1022.2 k0_h2

def k0_off2176 (v9714 : BitVec 32) : Fin 3 → Nat :=
  let c0_7192 : Index := 0#32
  let v9760 : Index := Scalar.indexCast v9714
  let c0_7193 : Index := 0#32
  ![0, v9760.toNat, 0]

def k0_chk1023 (i : grid0.Coords) (v9714 : BitVec 32) : Prop :=
  (∀ (k0_h2 : k0_cond2 i = 1#1), ∀ a, (k0_off2172 v9714) a + S1x1x1024.size a ≤ S1x2048x1024.size a) ∧
  (∀ (k0_h2 : k0_cond2 i = 1#1), ∀ a, (k0_off2176 v9714) a + S1x1x1024.size a ≤ S1x2048x1024.size a)
theorem k0_off2172_inb : ∀ (i : grid0.Coords) (v9714 : BitVec 32) (k0_hw1023 : k0_chk1023 i v9714), ∀ (k0_h2 : k0_cond2 i = 1#1), ∀ a, (k0_off2172 v9714) a + S1x1x1024.size a ≤ S1x2048x1024.size a := fun i v9714 k0_hw1023 k0_h2 => k0_hw1023.1 k0_h2
theorem k0_off2176_inb : ∀ (i : grid0.Coords) (v9714 : BitVec 32) (k0_hw1023 : k0_chk1023 i v9714), ∀ (k0_h2 : k0_cond2 i = 1#1), ∀ a, (k0_off2176 v9714) a + S1x1x1024.size a ≤ S1x2048x1024.size a := fun i v9714 k0_hw1023 k0_h2 => k0_hw1023.2 k0_h2

def k0_cond3 (i : grid0.Coords) : BitVec 1 :=
  let arg1 : BitVec 32 := BitVec.ofNat 32 (i 1).val
  let c15_i32_3866 : BitVec 32 := 15#32
  let v6181 : BitVec 1 := Scalar.cmpi .eq arg1 c15_i32_3866
  let v6182 : BitVec 32 := Scalar.extui v6181
  let c0_i32_3867 : BitVec 32 := 0#32
  let v6183 : BitVec 1 := Scalar.cmpi .ne v6182 c0_i32_3867
  v6183

@[reducible] def k0_t1_loop : Scf.Loop 32 :=
  let c0_i32_3868 : BitVec 32 := 0#32
  let c4_i32 : BitVec 32 := 4#32
  let v6184 : BitVec 32 := Scalar.addi c0_i32_3868 c4_i32
  let c1_i32_3869 : BitVec 32 := 1#32
  ⟨c0_i32_3868, v6184, c1_i32_3869⟩
def k0_mult1 (k0_t1 : Fin k0_t1_loop.trips) : BitVec 32 :=
  let c0_i32_3868 : BitVec 32 := 0#32
  let c1_i32_3869 : BitVec 32 := 1#32
  let arg14 : BitVec 32 := Scf.iv c0_i32_3868 c1_i32_3869 k0_t1
  let c512_i32 : BitVec 32 := 512#32
  let v6185 : BitVec 32 := Scalar.muli arg14 c512_i32
  v6185
def k0_off2177 (k0_t1 : Fin k0_t1_loop.trips) : Fin 3 → Nat :=
  let c0_3871 : Index := 0#32
  let c0_i32_3868 : BitVec 32 := 0#32
  let c1_i32_3869 : BitVec 32 := 1#32
  let arg14 : BitVec 32 := Scf.iv c0_i32_3868 c1_i32_3869 k0_t1
  let c512_i32 : BitVec 32 := 512#32
  let v6185 : BitVec 32 := Scalar.muli arg14 c512_i32
  let v6186 : BitVec 32 := v6185
  let v6187 : Index := Scalar.indexCast v6186
  let c0_3872 : Index := 0#32
  ![0, v6187.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S1024 : Shape := ⟨1, ![1024]⟩
abbrev S_ : Shape := ⟨0, ![]⟩
abbrev S24x6x1x1024 : Shape := ⟨4, ![24, 6, 1, 1024]⟩
abbrev S16x1x1x1024 : Shape := ⟨4, ![16, 1, 1, 1024]⟩
abbrev S16x1x1024 : Shape := ⟨3, ![16, 1, 1024]⟩
abbrev S16 : Shape := ⟨1, ![16]⟩
abbrev S16x1x1 : Shape := ⟨3, ![16, 1, 1]⟩
abbrev S16x16x256x1 : Shape := ⟨4, ![16, 16, 256, 1]⟩
abbrev S16x16x256x2 : Shape := ⟨4, ![16, 16, 256, 2]⟩
abbrev S16x16x256x1024 : Shape := ⟨4, ![16, 16, 256, 1024]⟩
abbrev S16x1024x16x256 : Shape := ⟨4, ![16, 1024, 16, 256]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x512, .i32⟩
  | .hbm, ⟨1, _⟩ => ⟨S16x16x256, .i32⟩
  | .hbm, ⟨2, _⟩ => ⟨S16x16x256, .f32⟩
  | .hbm, ⟨3, _⟩ => ⟨S16x2048x1024, .f32⟩
  | .hbm, ⟨4, _⟩ => ⟨S144x1x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S1024, .f32⟩
  | .hbm, ⟨9, _⟩ => ⟨S_, .i32⟩
  | .hbm, ⟨10, _⟩ => ⟨S16x2048x512, .i32⟩
  | .hbm, ⟨11, _⟩ => ⟨S16x2048x512, .i32⟩
  | .hbm, ⟨12, _⟩ => ⟨S16x2048x512, .f32⟩
  | .hbm, ⟨13, _⟩ => ⟨S_, .i32⟩
  | .hbm, ⟨14, _⟩ => ⟨S16x2048x512, .i32⟩
  | .hbm, ⟨15, _⟩ => ⟨S16x2048x512, .i32⟩
  | .hbm, ⟨16, _⟩ => ⟨S16x2048x512, .f32⟩
  | .hbm, ⟨17, _⟩ => ⟨S16x2048x1024, .f32⟩
  | .hbm, ⟨18, _⟩ => ⟨S24x6x1x1024, .f32⟩
  | .hbm, ⟨19, _⟩ => ⟨S16x1x1x1024, .f32⟩
  | .hbm, ⟨20, _⟩ => ⟨S16x1x1024, .f32⟩
  | .hbm, ⟨21, _⟩ => ⟨S16, .i32⟩
  | .hbm, ⟨22, _⟩ => ⟨S16x1x1, .i32⟩
  | .hbm, ⟨23, _⟩ => ⟨S_, .i32⟩
  | .hbm, ⟨24, _⟩ => ⟨S16x1x1, .i32⟩
  | .hbm, ⟨25, _⟩ => ⟨S16x1x1, .i1⟩
  | .hbm, ⟨26, _⟩ => ⟨S_, .i32⟩
  | .hbm, ⟨27, _⟩ => ⟨S16x1x1, .i32⟩
  | .hbm, ⟨28, _⟩ => ⟨S16x1x1, .i32⟩
  | .hbm, ⟨29, _⟩ => ⟨S16x1x1, .i32⟩
  | .hbm, ⟨30, _⟩ => ⟨S_, .i32⟩
  | .hbm, ⟨31, _⟩ => ⟨S16x16x256, .i32⟩
  | .hbm, ⟨32, _⟩ => ⟨S16x16x256, .i1⟩
  | .hbm, ⟨33, _⟩ => ⟨S_, .i32⟩
  | .hbm, ⟨34, _⟩ => ⟨S16x16x256, .i32⟩
  | .hbm, ⟨35, _⟩ => ⟨S16x16x256, .i32⟩
  | .hbm, ⟨36, _⟩ => ⟨S16x16x256, .i32⟩
  | .hbm, ⟨37, _⟩ => ⟨S16x16x256, .i32⟩
  | .hbm, ⟨38, _⟩ => ⟨S16x16x256x1, .i32⟩
  | .hbm, ⟨39, _⟩ => ⟨S16x16x256x1, .i32⟩
  | .hbm, ⟨40, _⟩ => ⟨S16x16x256x2, .i32⟩
  | .hbm, ⟨41, _⟩ => ⟨S16x16x256x1024, .f32⟩
  | .hbm, ⟨42, _⟩ => ⟨S16x1024x1024, .f32⟩
  | .hbm, ⟨43, _⟩ => ⟨S16x1024x16x256, .f32⟩
  | .hbm, ⟨44, _⟩ => ⟨S16x16x256x1024, .f32⟩
  | .hbm, ⟨45, _⟩ => ⟨S16x1024x1024, .f32⟩
  | .hbm, ⟨46, _⟩ => ⟨S16x1024x16x256, .f32⟩
  | .hbm, ⟨47, _⟩ => ⟨S16x16x256x1024, .f32⟩
  | .hbm, ⟨48, _⟩ => ⟨S16x16x256x1024, .f32⟩
  | .hbm, ⟨49, _⟩ => ⟨S16x16x256x1024, .f32⟩
  | .hbm, ⟨50, _⟩ => ⟨S_, .f32⟩
  | .hbm, ⟨51, _⟩ => ⟨S16x16x256x1024, .f32⟩
  | .hbm, ⟨52, _⟩ => ⟨S16x16x256x1024, .f32⟩
  | .hbm, ⟨53, _⟩ => ⟨S_, .f32⟩
  | .hbm, ⟨54, _⟩ => ⟨S16x16x256x1024, .f32⟩
  | .hbm, ⟨55, _⟩ => ⟨S16x16x256x1024, .f32⟩
  | .hbm, ⟨56, _⟩ => ⟨S16x16x256x1024, .f32⟩
  | .hbm, ⟨57, _⟩ => ⟨S16x16x256x1024, .f32⟩
  | .hbm, ⟨58, _⟩ => ⟨S16x1024x1024, .f32⟩
  | .hbm, ⟨59, _⟩ => ⟨S16x1024x16x256, .f32⟩
  | .hbm, ⟨60, _⟩ => ⟨S16x16x256x1024, .f32⟩
  | .hbm, ⟨61, _⟩ => ⟨S16x16x256x1, .f32⟩
  | .hbm, ⟨62, _⟩ => ⟨S16x16x256x1024, .f32⟩
  | .hbm, ⟨63, _⟩ => ⟨S16x16x256x1024, .f32⟩
  | .hbm, ⟨64, _⟩ => ⟨S_, .f32⟩
  | .hbm, ⟨65, _⟩ => ⟨S16x2048x1024, .f32⟩
  | .hbm, ⟨66, _⟩ => ⟨S_, .i32⟩
  | .hbm, ⟨67, _⟩ => ⟨S16x1x1, .i32⟩
  | .hbm, ⟨68, _⟩ => ⟨S16x1x1, .i1⟩
  | .hbm, ⟨69, _⟩ => ⟨S_, .i32⟩
  | .hbm, ⟨70, _⟩ => ⟨S16x1x1, .i32⟩
  | .hbm, ⟨71, _⟩ => ⟨S16x1x1, .i32⟩
  | .hbm, ⟨72, _⟩ => ⟨S16x1x1, .i32⟩
  | .hbm, ⟨73, _⟩ => ⟨S_, .i32⟩
  | .hbm, ⟨74, _⟩ => ⟨S16x16x256, .i32⟩
  | .hbm, ⟨75, _⟩ => ⟨S16x16x256, .i1⟩
  | .hbm, ⟨76, _⟩ => ⟨S_, .i32⟩
  | .hbm, ⟨77, _⟩ => ⟨S16x16x256, .i32⟩
  | .hbm, ⟨78, _⟩ => ⟨S16x16x256, .i32⟩
  | .hbm, ⟨79, _⟩ => ⟨S16x16x256, .i32⟩
  | .hbm, ⟨80, _⟩ => ⟨S16x16x256, .i32⟩
  | .hbm, ⟨81, _⟩ => ⟨S16x16x256x1, .i32⟩
  | .hbm, ⟨82, _⟩ => ⟨S16x16x256x1, .i32⟩
  | .hbm, ⟨83, _⟩ => ⟨S16x16x256x2, .i32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S_, .f32⟩
  | .hbm, ⟨90, _⟩ => ⟨S16x2048, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S_, .f32⟩
  | .hbm, ⟨96, _⟩ => ⟨S16x2048x1, .f32⟩
  | .hbm, ⟨97, _⟩ => ⟨S16x2048x1, .f32⟩
  | .hbm, ⟨98, _⟩ => ⟨S16x2048x1, .f32⟩
  | .hbm, ⟨99, _⟩ => ⟨S16x2048x1024, .f32⟩
  | .hbm, ⟨100, _⟩ => ⟨S16x2048x1024, .f32⟩
  | .hbm, ⟨101, _⟩ => ⟨S1x1x1024, .f32⟩
  | .hbm, ⟨102, _⟩ => ⟨S16x2048x1024, .f32⟩
  | .hbm, ⟨103, _⟩ => ⟨S16x2048x1024, .f32⟩
  | _, _ => ⟨S16x2048x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S1024 : Shape := ⟨1, ![1024]⟩
abbrev S144x1x1024 : Shape := ⟨3, ![144, 1, 1024]⟩
abbrev S1024x16 : Shape := ⟨2, ![1024, 16]⟩
abbrev S16x1024 : Shape := ⟨2, ![16, 1024]⟩
abbrev S1x1024 : Shape := ⟨2, ![1, 1024]⟩
abbrev S32x1024 : Shape := ⟨2, ![32, 1024]⟩
abbrev S16x2048x512 : Shape := ⟨3, ![16, 2048, 512]⟩
abbrev S16x16x2048 : Shape := ⟨3, ![16, 16, 2048]⟩
abbrev S1x512x1024 : Shape := ⟨3, ![1, 512, 1024]⟩
abbrev S1x1x1024 : Shape := ⟨3, ![1, 1, 1024]⟩
abbrev S1x512x512 : Shape := ⟨3, ![1, 512, 512]⟩
abbrev S1x16x512 : Shape := ⟨3, ![1, 16, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S32x512 : Shape := ⟨2, ![32, 512]⟩
abbrev S16x512 : Shape := ⟨2, ![16, 512]⟩

abbrev nBuf : Space → Nat
  | .hbm => 19
  | .vmem => 20
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S1024, .f32⟩
  | .hbm, ⟨3, _⟩ => ⟨S16x2048x1024, .f32⟩
  | .hbm, ⟨4, _⟩ => ⟨S144x1x1024, .f32⟩
  | .hbm, ⟨5, _⟩ => ⟨S1024, .f32⟩
  | .hbm, ⟨6, _⟩ => ⟨S1024x16, .f32⟩
  | .hbm, ⟨7, _⟩ => ⟨S1024x1024, .bf16⟩
  | .hbm, ⟨8, _⟩ => ⟨S16x1024, .f32⟩
  | .hbm, ⟨9, _⟩ => ⟨S16x1024, .bf16⟩
  | .hbm, ⟨10, _⟩ => ⟨S16x1024, .f32⟩
  | .hbm, ⟨11, _⟩ => ⟨S16x1024, .f32⟩
  | .hbm, ⟨12, _⟩ => ⟨S16x1024, .bf16⟩
  | .hbm, ⟨13, _⟩ => ⟨S1x1024, .f32⟩
  | .hbm, ⟨14, _⟩ => ⟨S32x1024, .bf16⟩
  | .hbm, ⟨15, _⟩ => ⟨S1x1024, .f32⟩
  | .hbm, ⟨16, _⟩ => ⟨S16x2048x1024, .f32⟩
  | .hbm, ⟨17, _⟩ => ⟨S16x2048x512, .i32⟩
  | .hbm, ⟨18, _⟩ => ⟨S16x16x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S32x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x512, .i32⟩
  | .local _ .vmem, ⟨17, _⟩ => ⟨S1x512x512, .i32⟩
  | .local _ .vmem, ⟨18, _⟩ => ⟨S1x16x512, .f32⟩
  | .local _ .vmem, ⟨19, _⟩ => ⟨S1x16x512, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S1x16x256 : Shape := ⟨3, ![1, 16, 256]⟩
abbrev S1x2048x512 : Shape := ⟨3, ![1, 2048, 512]⟩
abbrev S1x2048x1024 : Shape := ⟨3, ![1, 2048, 1024]⟩
abbrev S1x1x1024 : Shape := ⟨3, ![1, 1, 1024]⟩
abbrev S1x1024x1024 : Shape := ⟨3, ![1, 1024, 1024]⟩
abbrev S256x512 : Shape := ⟨2, ![256, 512]⟩
abbrev S256x1024 : Shape := ⟨2, ![256, 1024]⟩
abbrev S2048x1024 : Shape := ⟨2, ![2048, 1024]⟩
abbrev S1x1x1 : Shape := ⟨3, ![1, 1, 1]⟩
abbrev S1x1x512 : Shape := ⟨3, ![1, 1, 512]⟩
abbrev S1x512 : Shape := ⟨2, ![1, 512]⟩
abbrev S1x1024 : Shape := ⟨2, ![1, 1024]⟩
abbrev S1024x1024 : Shape := ⟨2, ![1024, 1024]⟩

abbrev nBuf : Space → Nat
  | .hbm => 9
  | .vmem => 16
  | .smem => 4
  | _ => 0

abbrev bufTy : (tb : Table) → Fin (tcTables nBuf tb) → BufTy
  | .hbm, ⟨0, _⟩ => ⟨S16x2048x512, .i32⟩
  | .hbm, ⟨1, _⟩ => ⟨S16x16x256, .i32⟩
  | .hbm, ⟨2, _⟩ => ⟨S16x16x256, .f32⟩
  | .hbm, ⟨3, _⟩ => ⟨S16x2048x1024, .f32⟩
  | .hbm, ⟨4, _⟩ => ⟨S144x1x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S16x2048x1024, .f32⟩
  | .local _ .vmem, ⟨0, _⟩ => ⟨S1x2048x512, .i32⟩
  | .local _ .vmem, ⟨1, _⟩ => ⟨S1x2048x512, .i32⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x2048x1024, .f32⟩
  | .local _ .vmem, ⟨13, _⟩ => ⟨S1x2048x1024, .f32⟩
  | .local _ .vmem, ⟨14, _⟩ => ⟨S256x512, .i32⟩
  | .local _ .vmem, ⟨15, _⟩ => ⟨S256x1024, .f32⟩
  | .local _ .smem, ⟨0, _⟩ => ⟨S1x16x256, .i32⟩
  | .local _ .smem, ⟨1, _⟩ => ⟨S1x16x256, .i32⟩
  | .local _ .smem, ⟨2, _⟩ => ⟨S1x16x256, .f32⟩
  | .local _ .smem, ⟨3, _⟩ => ⟨S1x16x256, .f32⟩
  | _, _ => ⟨S16x2048x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (v6190 : BitVec 32) : Fin 3 → Nat :=
  let c0_3878 : Index := 0#32
  let v6191 : Index := Scalar.indexCast v6190
  let c0_3879 : Index := 0#32
  ![0, v6191.toNat, 0]

def k0_chk1 (i : grid0.Coords) (v6190 : BitVec 32) : Prop :=
  (∀ (k0_h1 : k0_cond1 i = 1#1), ∀ a, (k0_off1 v6190) a + S1x1x512.size a ≤ S1x2048x512.size a)
theorem k0_off1_inb : ∀ (i : grid0.Coords) (v6190 : BitVec 32) (k0_hw1 : k0_chk1 i v6190), ∀ (k0_h1 : k0_cond1 i = 1#1), ∀ a, (k0_off1 v6190) a + S1x1x512.size a ≤ S1x2048x512.size a := fun i v6190 k0_hw1 k0_h1 => k0_hw1 k0_h1

def k0_off2 (v6197 : BitVec 32) : Fin 3 → Nat :=
  let c0_3885 : Index := 0#32
  let v6198 : Index := Scalar.indexCast v6197
  let c0_3886 : Index := 0#32
  ![0, v6198.toNat, 0]

def k0_chk2 (i : grid0.Coords) (v6197 : BitVec 32) : Prop :=
  (∀ (k0_h1 : k0_cond1 i = 1#1), ∀ a, (k0_off2 v6197) a + S1x1x512.size a ≤ S1x2048x512.size a)
theorem k0_off2_inb : ∀ (i : grid0.Coords) (v6197 : BitVec 32) (k0_hw2 : k0_chk2 i v6197), ∀ (k0_h1 : k0_cond1 i = 1#1), ∀ a, (k0_off2 v6197) a + S1x1x512.size a ≤ S1x2048x512.size a := fun i v6197 k0_hw2 k0_h1 => k0_hw2 k0_h1

def k0_off3 (v6204 : BitVec 32) : Fin 3 → Nat :=
  let c0_3892 : Index := 0#32
  let v6205 : Index := Scalar.indexCast v6204
  let c0_3893 : Index := 0#32
  ![0, v6205.toNat, 0]

def k0_chk3 (i : grid0.Coords) (v6204 : BitVec 32) : Prop :=
  (∀ (k0_h1 : k0_cond1 i = 1#1), ∀ a, (k0_off3 v6204) a + S1x1x512.size a ≤ S1x2048x512.size a)
theorem k0_off3_inb : ∀ (i : grid0.Coords) (v6204 : BitVec 32) (k0_hw3 : k0_chk3 i v6204), ∀ (k0_h1 : k0_cond1 i = 1#1), ∀ a, (k0_off3 v6204) a + S1x1x512.size a ≤ S1x2048x512.size a := fun i v6204 k0_hw3 k0_h1 => k0_hw3 k0_h1

def k0_off4 (v6211 : BitVec 32) : Fin 3 → Nat :=
  let c0_3899 : Index := 0#32
  let v6212 : Index := Scalar.indexCast v6211
  let c0_3900 : Index := 0#32
  ![0, v6212.toNat, 0]

def k0_chk4 (i : grid0.Coords) (v6211 : BitVec 32) : Prop :=
  (∀ (k0_h1 : k0_cond1 i = 1#1), ∀ a, (k0_off4 v6211) a + S1x1x512.size a ≤ S1x2048x512.size a)
theorem k0_off4_inb : ∀ (i : grid0.Coords) (v6211 : BitVec 32) (k0_hw4 : k0_chk4 i v6211), ∀ (k0_h1 : k0_cond1 i = 1#1), ∀ a, (k0_off4 v6211) a + S1x1x512.size a ≤ S1x2048x512.size a := fun i v6211 k0_hw4 k0_h1 => k0_hw4 k0_h1

def k0_off5 (v6218 : BitVec 32) : Fin 3 → Nat :=
  let c0_3906 : Index := 0#32
  let v6219 : Index := Scalar.indexCast v6218
  let c0_3907 : Index := 0#32
  ![0, v6219.toNat, 0]

def k0_chk5 (i : grid0.Coords) (v6218 : BitVec 32) : Prop :=
  (∀ (k0_h1 : k0_cond1 i = 1#1), ∀ a, (k0_off5 v6218) a + S1x1x512.size a ≤ S1x2048x512.size a)
theorem k0_off5_inb : ∀ (i : grid0.Coords) (v6218 : BitVec 32) (k0_hw5 : k0_chk5 i v6218), ∀ (k0_h1 : k0_cond1 i = 1#1), ∀ a, (k0_off5 v6218) a + S1x1x512.size a ≤ S1x2048x512.size a := fun i v6218 k0_hw5 k0_h1 => k0_hw5 k0_h1

def k0_off6 (v6225 : BitVec 32) : Fin 3 → Nat :=
  let c0_3913 : Index := 0#32
  let v6226 : Index := Scalar.indexCast v6225
  let c0_3914 : Index := 0#32
  ![0, v6226.toNat, 0]

def k0_chk6 (i : grid0.Coords) (v6225 : BitVec 32) : Prop :=
  (∀ (k0_h1 : k0_cond1 i = 1#1), ∀ a, (k0_off6 v6225) a + S1x1x512.size a ≤ S1x2048x512.size a)
theorem k0_off6_inb : ∀ (i : grid0.Coords) (v6225 : BitVec 32) (k0_hw6 : k0_chk6 i v6225), ∀ (k0_h1 : k0_cond1 i = 1#1), ∀ a, (k0_off6 v6225) a + S1x1x512.size a ≤ S1x2048x512.size a := fun i v6225 k0_hw6 k0_h1 => k0_hw6 k0_h1

def k0_off7 (v6232 : BitVec 32) : Fin 3 → Nat :=
  let c0_3920 : Index := 0#32
  let v6233 : Index := Scalar.indexCast v6232
  let c0_3921 : Index := 0#32
  ![0, v6233.toNat, 0]

def k0_chk7 (i : grid0.Coords) (v6232 : BitVec 32) : Prop :=
  (∀ (k0_h1 : k0_cond1 i = 1#1), ∀ a, (k0_off7 v6232) a + S1x1x512.size a ≤ S1x2048x512.size a)
theorem k0_off7_inb : ∀ (i : grid0.Coords) (v6232 : BitVec 32) (k0_hw7 : k0_chk7 i v6232), ∀ (k0_h1 : k0_cond1 i = 1#1), ∀ a, (k0_off7 v6232) a + S1x1x512.size a ≤ S1x2048x512.size a := fun i v6232 k0_hw7 k0_h1 => k0_hw7 k0_h1

def k0_off8 (v6239 : BitVec 32) : Fin 3 → Nat :=
  let c0_3927 : Index := 0#32
  let v6240 : Index := Scalar.indexCast v6239
  let c0_3928 : Index := 0#32
  ![0, v6240.toNat, 0]

def k0_chk8 (i : grid0.Coords) (v6239 : BitVec 32) : Prop :=
  (∀ (k0_h1 : k0_cond1 i = 1#1), ∀ a, (k0_off8 v6239) a + S1x1x512.size a ≤ S1x2048x512.size a)
theorem k0_off8_inb : ∀ (i : grid0.Coords) (v6239 : BitVec 32) (k0_hw8 : k0_chk8 i v6239), ∀ (k0_h1 : k0_cond1 i = 1#1), ∀ a, (k0_off8 v6239) a + S1x1x512.size a ≤ S1x2048x512.size a := fun i v6239 k0_hw8 k0_h1 => k0_hw8 k0_h1

def k0_off9 (v6246 : BitVec 32) : Fin 3 → Nat :=
  let c0_3934 : Index := 0#32
  let v6247 : Index := Scalar.indexCast v6246
  let c0_3935 : Index := 0#32
  ![0, v6247.toNat, 0]

def k0_chk9 (i : grid0.Coords) (v6246 : BitVec 32) : Prop :=
  (∀ (k0_h1 : k0_cond1 i = 1#1), ∀ a, (k0_off9 v6246) a + S1x1x512.size a ≤ S1x2048x512.size a)
theorem k0_off9_inb : ∀ (i : grid0.Coords) (v6246 : BitVec 32) (k0_hw9 : k0_chk9 i v6246), ∀ (k0_h1 : k0_cond1 i = 1#1), ∀ a, (k0_off9 v6246) a + S1x1x512.size a ≤ S1x2048x512.size a := fun i v6246 k0_hw9 k0_h1 => k0_hw9 k0_h1

def k0_off10 (v6253 : BitVec 32) : Fin 3 → Nat :=
  let c0_3941 : Index := 0#32
  let v6254 : Index := Scalar.indexCast v6253
  let c0_3942 : Index := 0#32
  ![0, v6254.toNat, 0]

def k0_chk10 (i : grid0.Coords) (v6253 : BitVec 32) : Prop :=
  (∀ (k0_h1 : k0_cond1 i = 1#1), ∀ a, (k0_off10 v6253) a + S1x1x512.size a ≤ S1x2048x512.size a)
theorem k0_off10_inb : ∀ (i : grid0.Coords) (v6253 : BitVec 32) (k0_hw10 : k0_chk10 i v6253), ∀ (k0_h1 : k0_cond1 i = 1#1), ∀ a, (k0_off10 v6253) a + S1x1x512.size a ≤ S1x2048x512.size a := fun i v6253 k0_hw10 k0_h1 => k0_hw10 k0_h1

def k0_off11 (v6260 : BitVec 32) : Fin 3 → Nat :=
  let c0_3948 : Index := 0#32
  let v6261 : Index := Scalar.indexCast v6260
  let c0_3949 : Index := 0#32
  ![0, v6261.toNat, 0]

def k0_chk11 (i : grid0.Coords) (v6260 : BitVec 32) : Prop :=
  (∀ (k0_h1 : k0_cond1 i = 1#1), ∀ a, (k0_off11 v6260) a + S1x1x512.size a ≤ S1x2048x512.size a)
theorem k0_off11_inb : ∀ (i : grid0.Coords) (v6260 : BitVec 32) (k0_hw11 : k0_chk11 i v6260), ∀ (k0_h1 : k0_cond1 i = 1#1), ∀ a, (k0_off11 v6260) a + S1x1x512.size a ≤ S1x2048x512.size a := fun i v6260 k0_hw11 k0_h1 => k0_hw11 k0_h1

def k0_off12 (v6267 : BitVec 32) : Fin 3 → Nat :=
  let c0_3955 : Index := 0#32
  let v6268 : Index := Scalar.indexCast v6267
  let c0_3956 : Index := 0#32
  ![0, v6268.toNat, 0]

def k0_chk12 (i : grid0.Coords) (v6267 : BitVec 32) : Prop :=
  (∀ (k0_h1 : k0_cond1 i = 1#1), ∀ a, (k0_off12 v6267) a + S1x1x512.size a ≤ S1x2048x512.size a)
theorem k0_off12_inb : ∀ (i : grid0.Coords) (v6267 : BitVec 32) (k0_hw12 : k0_chk12 i v6267), ∀ (k0_h1 : k0_cond1 i = 1#1), ∀ a, (k0_off12 v6267) a + S1x1x512.size a ≤ S1x2048x512.size a := fun i v6267 k0_hw12 k0_h1 => k0_hw12 k0_h1

def k0_off13 (v6274 : BitVec 32) : Fin 3 → Nat :=
  let c0_3962 : Index := 0#32
  let v6275 : Index := Scalar.indexCast v6274
  let c0_3963 : Index := 0#32
  ![0, v6275.toNat, 0]

def k0_chk13 (i : grid0.Coords) (v6274 : BitVec 32) : Prop :=
  (∀ (k0_h1 : k0_cond1 i = 1#1), ∀ a, (k0_off13 v6274) a + S1x1x512.size a ≤ S1x2048x512.size a)
theorem k0_off13_inb : ∀ (i : grid0.Coords) (v6274 : BitVec 32) (k0_hw13 : k0_chk13 i v6274), ∀ (k0_h1 : k0_cond1 i = 1#1), ∀ a, (k0_off13 v6274) a + S1x1x512.size a ≤ S1x2048x512.size a := fun i v6274 k0_hw13 k0_h1 => k0_hw13 k0_h1

def k0_off14 (v6281 : BitVec 32) : Fin 3 → Nat :=
  let c0_3969 : Index := 0#32
  let v6282 : Index := Scalar.indexCast v6281
  let c0_3970 : Index := 0#32
  ![0, v6282.toNat, 0]

def k0_chk14 (i : grid0.Coords) (v6281 : BitVec 32) : Prop :=
  (∀ (k0_h1 : k0_cond1 i = 1#1), ∀ a, (k0_off14 v6281) a + S1x1x512.size a ≤ S1x2048x512.size a)
theorem k0_off14_inb : ∀ (i : grid0.Coords) (v6281 : BitVec 32) (k0_hw14 : k0_chk14 i v6281), ∀ (k0_h1 : k0_cond1 i = 1#1), ∀ a, (k0_off14 v6281) a + S1x1x512.size a ≤ S1x2048x512.size a := fun i v6281 k0_hw14 k0_h1 => k0_hw14 k0_h1

def k0_off15 (v6288 : BitVec 32) : Fin 3 → Nat :=
  let c0_3976 : Index := 0#32
  let v6289 : Index := Scalar.indexCast v6288
  let c0_3977 : Index := 0#32
  ![0, v6289.toNat, 0]

def k0_chk15 (i : grid0.Coords) (v6288 : BitVec 32) : Prop :=
  (∀ (k0_h1 : k0_cond1 i = 1#1), ∀ a, (k0_off15 v6288) a + S1x1x512.size a ≤ S1x2048x512.size a)
theorem k0_off15_inb : ∀ (i : grid0.Coords) (v6288 : BitVec 32) (k0_hw15 : k0_chk15 i v6288), ∀ (k0_h1 : k0_cond1 i = 1#1), ∀ a, (k0_off15 v6288) a + S1x1x512.size a ≤ S1x2048x512.size a := fun i v6288 k0_hw15 k0_h1 => k0_hw15 k0_h1

def k0_off16 (v6295 : BitVec 32) : Fin 3 → Nat :=
  let c0_3983 : Index := 0#32
  let v6296 : Index := Scalar.indexCast v6295
  let c0_3984 : Index := 0#32
  ![0, v6296.toNat, 0]

def k0_chk16 (i : grid0.Coords) (v6295 : BitVec 32) : Prop :=
  (∀ (k0_h1 : k0_cond1 i = 1#1), ∀ a, (k0_off16 v6295) a + S1x1x512.size a ≤ S1x2048x512.size a)
theorem k0_off16_inb : ∀ (i : grid0.Coords) (v6295 : BitVec 32) (k0_hw16 : k0_chk16 i v6295), ∀ (k0_h1 : k0_cond1 i = 1#1), ∀ a, (k0_off16 v6295) a + S1x1x512.size a ≤ S1x2048x512.size a := fun i v6295 k0_hw16 k0_h1 => k0_hw16 k0_h1

def k0_off17 (v6302 : BitVec 32) : Fin 3 → Nat :=
  let c0_3990 : Index := 0#32
  let v6303 : Index := Scalar.indexCast v6302
  let c0_3991 : Index := 0#32
  ![0, v6303.toNat, 0]

def k0_chk17 (i : grid0.Coords) (v6302 : BitVec 32) : Prop :=
  (∀ (k0_h1 : k0_cond1 i = 1#1), ∀ a, (k0_off17 v6302) a + S1x1x512.size a ≤ S1x2048x512.size a)
theorem k0_off17_inb : ∀ (i : grid0.Coords) (v6302 : BitVec 32) (k0_hw17 : k0_chk17 i v6302), ∀ (k0_h1 : k0_cond1 i = 1#1), ∀ a, (k0_off17 v6302) a + S1x1x512.size a ≤ S1x2048x512.size a := fun i v6302 k0_hw17 k0_h1 => k0_hw17 k0_h1

def k0_off18 (v6309 : BitVec 32) : Fin 3 → Nat :=
  let c0_3997 : Index := 0#32
  let v6310 : Index := Scalar.indexCast v6309
  let c0_3998 : Index := 0#32
  ![0, v6310.toNat, 0]

def k0_chk18 (i : grid0.Coords) (v6309 : BitVec 32) : Prop :=
  (∀ (k0_h1 : k0_cond1 i = 1#1), ∀ a, (k0_off18 v6309) a + S1x1x512.size a ≤ S1x2048x512.size a)
theorem k0_off18_inb : ∀ (i : grid0.Coords) (v6309 : BitVec 32) (k0_hw18 : k0_chk18 i v6309), ∀ (k0_h1 : k0_cond1 i = 1#1), ∀ a, (k0_off18 v6309) a + S1x1x512.size a ≤ S1x2048x512.size a := fun i v6309 k0_hw18 k0_h1 => k0_hw18 k0_h1

def k0_off19 (v6316 : BitVec 32) : Fin 3 → Nat :=
  let c0_4004 : Index := 0#32
  let v6317 : Index := Scalar.indexCast v6316
  let c0_4005 : Index := 0#32
  ![0, v6317.toNat, 0]

def k0_chk19 (i : grid0.Coords) (v6316 : BitVec 32) : Prop :=
  (∀ (k0_h1 : k0_cond1 i = 1#1), ∀ a, (k0_off19 v6316) a + S1x1x512.size a ≤ S1x2048x512.size a)
theorem k0_off19_inb : ∀ (i : grid0.Coords) (v6316 : BitVec 32) (k0_hw19 : k0_chk19 i v6316), ∀ (k0_h1 : k0_cond1 i = 1#1), ∀ a, (k0_off19 v6316) a + S1x1x512.size a ≤ S1x2048x512.size a := fun i v6316 k0_hw19 k0_h1 => k0_hw19 k0_h1

def k0_off20 (v6323 : BitVec 32) : Fin 3 → Nat :=
  let c0_4011 : Index := 0#32
  let v6324 : Index := Scalar.indexCast v6323
  let c0_4012 : Index := 0#32
  ![0, v6324.toNat, 0]

def k0_chk20 (i : grid0.Coords) (v6323 : BitVec 32) : Prop :=
  (∀ (k0_h1 : k0_cond1 i = 1#1), ∀ a, (k0_off20 v6323) a + S1x1x512.size a ≤ S1x2048x512.size a)
theorem k0_off20_inb : ∀ (i : grid0.Coords) (v6323 : BitVec 32) (k0_hw20 : k0_chk20 i v6323), ∀ (k0_h1 : k0_cond1 i = 1#1), ∀ a, (k0_off20 v6323) a + S1x1x512.size a ≤ S1x2048x512.size a := fun i v6323 k0_hw20 k0_h1 => k0_hw20 k0_h1

def k0_off21 (v6330 : BitVec 32) : Fin 3 → Nat :=
  let c0_4018 : Index := 0#32
  let v6331 : Index := Scalar.indexCast v6330
  let c0_4019 : Index := 0#32
  ![0, v6331.toNat, 0]

def k0_chk21 (i : grid0.Coords) (v6330 : BitVec 32) : Prop :=
  (∀ (k0_h1 : k0_cond1 i = 1#1), ∀ a, (k0_off21 v6330) a + S1x1x512.size a ≤ S1x2048x512.size a)
theorem k0_off21_inb : ∀ (i : grid0.Coords) (v6330 : BitVec 32) (k0_hw21 : k0_chk21 i v6330), ∀ (k0_h1 : k0_cond1 i = 1#1), ∀ a, (k0_off21 v6330) a + S1x1x512.size a ≤ S1x2048x512.size a := fun i v6330 k0_hw21 k0_h1 => k0_hw21 k0_h1

def k0_off22 (v6337 : BitVec 32) : Fin 3 → Nat :=
  let c0_4025 : Index := 0#32
  let v6338 : Index := Scalar.indexCast v6337
  let c0_4026 : Index := 0#32
  ![0, v6338.toNat, 0]

def k0_chk22 (i : grid0.Coords) (v6337 : BitVec 32) : Prop :=
  (∀ (k0_h1 : k0_cond1 i = 1#1), ∀ a, (k0_off22 v6337) a + S1x1x512.size a ≤ S1x2048x512.size a)
theorem k0_off22_inb : ∀ (i : grid0.Coords) (v6337 : BitVec 32) (k0_hw22 : k0_chk22 i v6337), ∀ (k0_h1 : k0_cond1 i = 1#1), ∀ a, (k0_off22 v6337) a + S1x1x512.size a ≤ S1x2048x512.size a := fun i v6337 k0_hw22 k0_h1 => k0_hw22 k0_h1

def k0_off23 (v6344 : BitVec 32) : Fin 3 → Nat :=
  let c0_4032 : Index := 0#32
  let v6345 : Index := Scalar.indexCast v6344
  let c0_4033 : Index := 0#32
  ![0, v6345.toNat, 0]

def k0_chk23 (i : grid0.Coords) (v6344 : BitVec 32) : Prop :=
  (∀ (k0_h1 : k0_cond1 i = 1#1), ∀ a, (k0_off23 v6344) a + S1x1x512.size a ≤ S1x2048x512.size a)
theorem k0_off23_inb : ∀ (i : grid0.Coords) (v6344 : BitVec 32) (k0_hw23 : k0_chk23 i v6344), ∀ (k0_h1 : k0_cond1 i = 1#1), ∀ a, (k0_off23 v6344) a + S1x1x512.size a ≤ S1x2048x512.size a := fun i v6344 k0_hw23 k0_h1 => k0_hw23 k0_h1

def k0_off24 (v6351 : BitVec 32) : Fin 3 → Nat :=
  let c0_4039 : Index := 0#32
  let v6352 : Index := Scalar.indexCast v6351
  let c0_4040 : Index := 0#32
  ![0, v6352.toNat, 0]

def k0_chk24 (i : grid0.Coords) (v6351 : BitVec 32) : Prop :=
  (∀ (k0_h1 : k0_cond1 i = 1#1), ∀ a, (k0_off24 v6351) a + S1x1x512.size a ≤ S1x2048x512.size a)
theorem k0_off24_inb : ∀ (i : grid0.Coords) (v6351 : BitVec 32) (k0_hw24 : k0_chk24 i v6351), ∀ (k0_h1 : k0_cond1 i = 1#1), ∀ a, (k0_off24 v6351) a + S1x1x512.size a ≤ S1x2048x512.size a := fun i v6351 k0_hw24 k0_h1 => k0_hw24 k0_h1

def k0_off25 (v6358 : BitVec 32) : Fin 3 → Nat :=
  let c0_4046 : Index := 0#32
  let v6359 : Index := Scalar.indexCast v6358
  let c0_4047 : Index := 0#32
  ![0, v6359.toNat, 0]

def k0_chk25 (i : grid0.Coords) (v6358 : BitVec 32) : Prop :=
  (∀ (k0_h1 : k0_cond1 i = 1#1), ∀ a, (k0_off25 v6358) a + S1x1x512.size a ≤ S1x2048x512.size a)
theorem k0_off25_inb : ∀ (i : grid0.Coords) (v6358 : BitVec 32) (k0_hw25 : k0_chk25 i v6358), ∀ (k0_h1 : k0_cond1 i = 1#1), ∀ a, (k0_off25 v6358) a + S1x1x512.size a ≤ S1x2048x512.size a := fun i v6358 k0_hw25 k0_h1 => k0_hw25 k0_h1

def k0_off26 (v6365 : BitVec 32) : Fin 3 → Nat :=
  let c0_4053 : Index := 0#32
  let v6366 : Index := Scalar.indexCast v6365
  let c0_4054 : Index := 0#32
  ![0, v6366.toNat, 0]

def k0_chk26 (i : grid0.Coords) (v6365 : BitVec 32) : Prop :=
  (∀ (k0_h1 : k0_cond1 i = 1#1), ∀ a, (k0_off26 v6365) a + S1x1x512.size a ≤ S1x2048x512.size a)
theorem k0_off26_inb : ∀ (i : grid0.Coords) (v6365 : BitVec 32) (k0_hw26 : k0_chk26 i v6365), ∀ (k0_h1 : k0_cond1 i = 1#1), ∀ a, (k0_off26 v6365) a + S1x1x512.size a ≤ S1x2048x512.size a := fun i v6365 k0_hw26 k0_h1 => k0_hw26 k0_h1

def k0_off27 (v6372 : BitVec 32) : Fin 3 → Nat :=
  let c0_4060 : Index := 0#32
  let v6373 : Index := Scalar.indexCast v6372
  let c0_4061 : Index := 0#32
  ![0, v6373.toNat, 0]

def k0_chk27 (i : grid0.Coords) (v6372 : BitVec 32) : Prop :=
  (∀ (k0_h1 : k0_cond1 i = 1#1), ∀ a, (k0_off27 v6372) a + S1x1x512.size a ≤ S1x2048x512.size a)
theorem k0_off27_inb : ∀ (i : grid0.Coords) (v6372 : BitVec 32) (k0_hw27 : k0_chk27 i v6372), ∀ (k0_h1 : k0_cond1 i = 1#1), ∀ a, (k0_off27 v6372) a + S1x1x512.size a ≤ S1x2048x512.size a := fun i v6372 k0_hw27 k0_h1 => k0_hw27 k0_h1

def k0_off28 (v6379 : BitVec 32) : Fin 3 → Nat :=
  let c0_4067 : Index := 0#32
  let v6380 : Index := Scalar.indexCast v6379
  let c0_4068 : Index := 0#32
  ![0, v6380.toNat, 0]

def k0_chk28 (i : grid0.Coords) (v6379 : BitVec 32) : Prop :=
  (∀ (k0_h1 : k0_cond1 i = 1#1), ∀ a, (k0_off28 v6379) a + S1x1x512.size a ≤ S1x2048x512.size a)
theorem k0_off28_inb : ∀ (i : grid0.Coords) (v6379 : BitVec 32) (k0_hw28 : k0_chk28 i v6379), ∀ (k0_h1 : k0_cond1 i = 1#1), ∀ a, (k0_off28 v6379) a + S1x1x512.size a ≤ S1x2048x512.size a := fun i v6379 k0_hw28 k0_h1 => k0_hw28 k0_h1

def k0_off29 (v6386 : BitVec 32) : Fin 3 → Nat :=
  let c0_4074 : Index := 0#32
  let v6387 : Index := Scalar.indexCast v6386
  let c0_4075 : Index := 0#32
  ![0, v6387.toNat, 0]

def k0_chk29 (i : grid0.Coords) (v6386 : BitVec 32) : Prop :=
  (∀ (k0_h1 : k0_cond1 i = 1#1), ∀ a, (k0_off29 v6386) a + S1x1x512.size a ≤ S1x2048x512.size a)
theorem k0_off29_inb : ∀ (i : grid0.Coords) (v6386 : BitVec 32) (k0_hw29 : k0_chk29 i v6386), ∀ (k0_h1 : k0_cond1 i = 1#1), ∀ a, (k0_off29 v6386) a + S1x1x512.size a ≤ S1x2048x512.size a := fun i v6386 k0_hw29 k0_h1 => k0_hw29 k0_h1

def k0_off30 (v6393 : BitVec 32) : Fin 3 → Nat :=
  let c0_4081 : Index := 0#32
  let v6394 : Index := Scalar.indexCast v6393
  let c0_4082 : Index := 0#32
  ![0, v6394.toNat, 0]

def k0_chk30 (i : grid0.Coords) (v6393 : BitVec 32) : Prop :=
  (∀ (k0_h1 : k0_cond1 i = 1#1), ∀ a, (k0_off30 v6393) a + S1x1x512.size a ≤ S1x2048x512.size a)
theorem k0_off30_inb : ∀ (i : grid0.Coords) (v6393 : BitVec 32) (k0_hw30 : k0_chk30 i v6393), ∀ (k0_h1 : k0_cond1 i = 1#1), ∀ a, (k0_off30 v6393) a + S1x1x512.size a ≤ S1x2048x512.size a := fun i v6393 k0_hw30 k0_h1 => k0_hw30 k0_h1

def k0_off31 (v6400 : BitVec 32) : Fin 3 → Nat :=
  let c0_4088 : Index := 0#32
  let v6401 : Index := Scalar.indexCast v6400
  let c0_4089 : Index := 0#32
  ![0, v6401.toNat, 0]

def k0_chk31 (i : grid0.Coords) (v6400 : BitVec 32) : Prop :=
  (∀ (k0_h1 : k0_cond1 i = 1#1), ∀ a, (k0_off31 v6400) a + S1x1x512.size a ≤ S1x2048x512.size a)
theorem k0_off31_inb : ∀ (i : grid0.Coords) (v6400 : BitVec 32) (k0_hw31 : k0_chk31 i v6400), ∀ (k0_h1 : k0_cond1 i = 1#1), ∀ a, (k0_off31 v6400) a + S1x1x512.size a ≤ S1x2048x512.size a := fun i v6400 k0_hw31 k0_h1 => k0_hw31 k0_h1

def k0_off32 (v6407 : BitVec 32) : Fin 3 → Nat :=
  let c0_4095 : Index := 0#32
  let v6408 : Index := Scalar.indexCast v6407
  let c0_4096 : Index := 0#32
  ![0, v6408.toNat, 0]

def k0_chk32 (i : grid0.Coords) (v6407 : BitVec 32) : Prop :=
  (∀ (k0_h1 : k0_cond1 i = 1#1), ∀ a, (k0_off32 v6407) a + S1x1x512.size a ≤ S1x2048x512.size a)
theorem k0_off32_inb : ∀ (i : grid0.Coords) (v6407 : BitVec 32) (k0_hw32 : k0_chk32 i v6407), ∀ (k0_h1 : k0_cond1 i = 1#1), ∀ a, (k0_off32 v6407) a + S1x1x512.size a ≤ S1x2048x512.size a := fun i v6407 k0_hw32 k0_h1 => k0_hw32 k0_h1

def k0_off33 (v6414 : BitVec 32) : Fin 3 → Nat :=
  let c0_4102 : Index := 0#32
  let v6415 : Index := Scalar.indexCast v6414
  let c0_4103 : Index := 0#32
  ![0, v6415.toNat, 0]

def k0_chk33 (i : grid0.Coords) (v6414 : BitVec 32) : Prop :=
  (∀ (k0_h1 : k0_cond1 i = 1#1), ∀ a, (k0_off33 v6414) a + S1x1x512.size a ≤ S1x2048x512.size a)
theorem k0_off33_inb : ∀ (i : grid0.Coords) (v6414 : BitVec 32) (k0_hw33 : k0_chk33 i v6414), ∀ (k0_h1 : k0_cond1 i = 1#1), ∀ a, (k0_off33 v6414) a + S1x1x512.size a ≤ S1x2048x512.size a := fun i v6414 k0_hw33 k0_h1 => k0_hw33 k0_h1

def k0_off34 (v6421 : BitVec 32) : Fin 3 → Nat :=
  let c0_4109 : Index := 0#32
  let v6422 : Index := Scalar.indexCast v6421
  let c0_4110 : Index := 0#32
  ![0, v6422.toNat, 0]

def k0_chk34 (i : grid0.Coords) (v6421 : BitVec 32) : Prop :=
  (∀ (k0_h1 : k0_cond1 i = 1#1), ∀ a, (k0_off34 v6421) a + S1x1x512.size a ≤ S1x2048x512.size a)
theorem k0_off34_inb : ∀ (i : grid0.Coords) (v6421 : BitVec 32) (k0_hw34 : k0_chk34 i v6421), ∀ (k0_h1 : k0_cond1 i = 1#1), ∀ a, (k0_off34 v6421) a + S1x1x512.size a ≤ S1x2048x512.size a := fun i v6421 k0_hw34 k0_h1 => k0_hw34 k0_h1

def k0_off35 (v6428 : BitVec 32) : Fin 3 → Nat :=
  let c0_4116 : Index := 0#32
  let v6429 : Index := Scalar.indexCast v6428
  let c0_4117 : Index := 0#32
  ![0, v6429.toNat, 0]

def k0_chk35 (i : grid0.Coords) (v6428 : BitVec 32) : Prop :=
  (∀ (k0_h1 : k0_cond1 i = 1#1), ∀ a, (k0_off35 v6428) a + S1x1x512.size a ≤ S1x2048x512.size a)
theorem k0_off35_inb : ∀ (i : grid0.Coords) (v6428 : BitVec 32) (k0_hw35 : k0_chk35 i v6428), ∀ (k0_h1 : k0_cond1 i = 1#1), ∀ a, (k0_off35 v6428) a + S1x1x512.size a ≤ S1x2048x512.size a := fun i v6428 k0_hw35 k0_h1 => k0_hw35 k0_h1

def k0_off36 (v6435 : BitVec 32) : Fin 3 → Nat :=
  let c0_4123 : Index := 0#32
  let v6436 : Index := Scalar.indexCast v6435
  let c0_4124 : Index := 0#32
  ![0, v6436.toNat, 0]

def k0_chk36 (i : grid0.Coords) (v6435 : BitVec 32) : Prop :=
  (∀ (k0_h1 : k0_cond1 i = 1#1), ∀ a, (k0_off36 v6435) a + S1x1x512.size a ≤ S1x2048x512.size a)
theorem k0_off36_inb : ∀ (i : grid0.Coords) (v6435 : BitVec 32) (k0_hw36 : k0_chk36 i v6435), ∀ (k0_h1 : k0_cond1 i = 1#1), ∀ a, (k0_off36 v6435) a + S1x1x512.size a ≤ S1x2048x512.size a := fun i v6435 k0_hw36 k0_h1 => k0_hw36 k0_h1

def k0_off37 (v6442 : BitVec 32) : Fin 3 → Nat :=
  let c0_4130 : Index := 0#32
  let v6443 : Index := Scalar.indexCast v6442
  let c0_4131 : Index := 0#32
  ![0, v6443.toNat, 0]

def k0_chk37 (i : grid0.Coords) (v6442 : BitVec 32) : Prop :=
  (∀ (k0_h1 : k0_cond1 i = 1#1), ∀ a, (k0_off37 v6442) a + S1x1x512.size a ≤ S1x2048x512.size a)
theorem k0_off37_inb : ∀ (i : grid0.Coords) (v6442 : BitVec 32) (k0_hw37 : k0_chk37 i v6442), ∀ (k0_h1 : k0_cond1 i = 1#1), ∀ a, (k0_off37 v6442) a + S1x1x512.size a ≤ S1x2048x512.size a := fun i v6442 k0_hw37 k0_h1 => k0_hw37 k0_h1

def k0_off38 (v6449 : BitVec 32) : Fin 3 → Nat :=
  let c0_4137 : Index := 0#32
  let v6450 : Index := Scalar.indexCast v6449
  let c0_4138 : Index := 0#32
  ![0, v6450.toNat, 0]

def k0_chk38 (i : grid0.Coords) (v6449 : BitVec 32) : Prop :=
  (∀ (k0_h1 : k0_cond1 i = 1#1), ∀ a, (k0_off38 v6449) a + S1x1x512.size a ≤ S1x2048x512.size a)
theorem k0_off38_inb : ∀ (i : grid0.Coords) (v6449 : BitVec 32) (k0_hw38 : k0_chk38 i v6449), ∀ (k0_h1 : k0_cond1 i = 1#1), ∀ a, (k0_off38 v6449) a + S1x1x512.size a ≤ S1x2048x512.size a := fun i v6449 k0_hw38 k0_h1 => k0_hw38 k0_h1

def k0_off39 (v6456 : BitVec 32) : Fin 3 → Nat :=
  let c0_4144 : Index := 0#32
  let v6457 : Index := Scalar.indexCast v6456
  let c0_4145 : Index := 0#32
  ![0, v6457.toNat, 0]

def k0_chk39 (i : grid0.Coords) (v6456 : BitVec 32) : Prop :=
  (∀ (k0_h1 : k0_cond1 i = 1#1), ∀ a, (k0_off39 v6456) a + S1x1x512.size a ≤ S1x2048x512.size a)
theorem k0_off39_inb : ∀ (i : grid0.Coords) (v6456 : BitVec 32) (k0_hw39 : k0_chk39 i v6456), ∀ (k0_h1 : k0_cond1 i = 1#1), ∀ a, (k0_off39 v6456) a + S1x1x512.size a ≤ S1x2048x512.size a := fun i v6456 k0_hw39 k0_h1 => k0_hw39 k0_h1

def k0_off40 (v6463 : BitVec 32) : Fin 3 → Nat :=
  let c0_4151 : Index := 0#32
  let v6464 : Index := Scalar.indexCast v6463
  let c0_4152 : Index := 0#32
  ![0, v6464.toNat, 0]

def k0_chk40 (i : grid0.Coords) (v6463 : BitVec 32) : Prop :=
  (∀ (k0_h1 : k0_cond1 i = 1#1), ∀ a, (k0_off40 v6463) a + S1x1x512.size a ≤ S1x2048x512.size a)
theorem k0_off40_inb : ∀ (i : grid0.Coords) (v6463 : BitVec 32) (k0_hw40 : k0_chk40 i v6463), ∀ (k0_h1 : k0_cond1 i = 1#1), ∀ a, (k0_off40 v6463) a + S1x1x512.size a ≤ S1x2048x512.size a := fun i v6463 k0_hw40 k0_h1 => k0_hw40 k0_h1

def k0_off41 (v6470 : BitVec 32) : Fin 3 → Nat :=
  let c0_4158 : Index := 0#32
  let v6471 : Index := Scalar.indexCast v6470
  let c0_4159 : Index := 0#32
  ![0, v6471.toNat, 0]

def k0_chk41 (i : grid0.Coords) (v6470 : BitVec 32) : Prop :=
  (∀ (k0_h1 : k0_cond1 i = 1#1), ∀ a, (k0_off41 v6470) a + S1x1x512.size a ≤ S1x2048x512.size a)
theorem k0_off41_inb : ∀ (i : grid0.Coords) (v6470 : BitVec 32) (k0_hw41 : k0_chk41 i v6470), ∀ (k0_h1 : k0_cond1 i = 1#1), ∀ a, (k0_off41 v6470) a + S1x1x512.size a ≤ S1x2048x512.size a := fun i v6470 k0_hw41 k0_h1 => k0_hw41 k0_h1

def k0_off42 (v6477 : BitVec 32) : Fin 3 → Nat :=
  let c0_4165 : Index := 0#32
  let v6478 : Index := Scalar.indexCast v6477
  let c0_4166 : Index := 0#32
  ![0, v6478.toNat, 0]

def k0_chk42 (i : grid0.Coords) (v6477 : BitVec 32) : Prop :=
  (∀ (k0_h1 : k0_cond1 i = 1#1), ∀ a, (k0_off42 v6477) a + S1x1x512.size a ≤ S1x2048x512.size a)
theorem k0_off42_inb : ∀ (i : grid0.Coords) (v6477 : BitVec 32) (k0_hw42 : k0_chk42 i v6477), ∀ (k0_h1 : k0_cond1 i = 1#1), ∀ a, (k0_off42 v6477) a + S1x1x512.size a ≤ S1x2048x512.size a := fun i v6477 k0_hw42 k0_h1 => k0_hw42 k0_h1

def k0_off43 (v6484 : BitVec 32) : Fin 3 → Nat :=
  let c0_4172 : Index := 0#32
  let v6485 : Index := Scalar.indexCast v6484
  let c0_4173 : Index := 0#32
  ![0, v6485.toNat, 0]

def k0_chk43 (i : grid0.Coords) (v6484 : BitVec 32) : Prop :=
  (∀ (k0_h1 : k0_cond1 i = 1#1), ∀ a, (k0_off43 v6484) a + S1x1x512.size a ≤ S1x2048x512.size a)
theorem k0_off43_inb : ∀ (i : grid0.Coords) (v6484 : BitVec 32) (k0_hw43 : k0_chk43 i v6484), ∀ (k0_h1 : k0_cond1 i = 1#1), ∀ a, (k0_off43 v6484) a + S1x1x512.size a ≤ S1x2048x512.size a := fun i v6484 k0_hw43 k0_h1 => k0_hw43 k0_h1

def k0_off44 (v6491 : BitVec 32) : Fin 3 → Nat :=
  let c0_4179 : Index := 0#32
  let v6492 : Index := Scalar.indexCast v6491
  let c0_4180 : Index := 0#32
  ![0, v6492.toNat, 0]

def k0_chk44 (i : grid0.Coords) (v6491 : BitVec 32) : Prop :=
  (∀ (k0_h1 : k0_cond1 i = 1#1), ∀ a, (k0_off44 v6491) a + S1x1x512.size a ≤ S1x2048x512.size a)
theorem k0_off44_inb : ∀ (i : grid0.Coords) (v6491 : BitVec 32) (k0_hw44 : k0_chk44 i v6491), ∀ (k0_h1 : k0_cond1 i = 1#1), ∀ a, (k0_off44 v6491) a + S1x1x512.size a ≤ S1x2048x512.size a := fun i v6491 k0_hw44 k0_h1 => k0_hw44 k0_h1

def k0_off45 (v6498 : BitVec 32) : Fin 3 → Nat :=
  let c0_4186 : Index := 0#32
  let v6499 : Index := Scalar.indexCast v6498
  let c0_4187 : Index := 0#32
  ![0, v6499.toNat, 0]

def k0_chk45 (i : grid0.Coords) (v6498 : BitVec 32) : Prop :=
  (∀ (k0_h1 : k0_cond1 i = 1#1), ∀ a, (k0_off45 v6498) a + S1x1x512.size a ≤ S1x2048x512.size a)
theorem k0_off45_inb : ∀ (i : grid0.Coords) (v6498 : BitVec 32) (k0_hw45 : k0_chk45 i v6498), ∀ (k0_h1 : k0_cond1 i = 1#1), ∀ a, (k0_off45 v6498) a + S1x1x512.size a ≤ S1x2048x512.size a := fun i v6498 k0_hw45 k0_h1 => k0_hw45 k0_h1

def k0_off46 (v6505 : BitVec 32) : Fin 3 → Nat :=
  let c0_4193 : Index := 0#32
  let v6506 : Index := Scalar.indexCast v6505
  let c0_4194 : Index := 0#32
  ![0, v6506.toNat, 0]

def k0_chk46 (i : grid0.Coords) (v6505 : BitVec 32) : Prop :=
  (∀ (k0_h1 : k0_cond1 i = 1#1), ∀ a, (k0_off46 v6505) a + S1x1x512.size a ≤ S1x2048x512.size a)
theorem k0_off46_inb : ∀ (i : grid0.Coords) (v6505 : BitVec 32) (k0_hw46 : k0_chk46 i v6505), ∀ (k0_h1 : k0_cond1 i = 1#1), ∀ a, (k0_off46 v6505) a + S1x1x512.size a ≤ S1x2048x512.size a := fun i v6505 k0_hw46 k0_h1 => k0_hw46 k0_h1

def k0_off47 (v6512 : BitVec 32) : Fin 3 → Nat :=
  let c0_4200 : Index := 0#32
  let v6513 : Index := Scalar.indexCast v6512
  let c0_4201 : Index := 0#32
  ![0, v6513.toNat, 0]

def k0_chk47 (i : grid0.Coords) (v6512 : BitVec 32) : Prop :=
  (∀ (k0_h1 : k0_cond1 i = 1#1), ∀ a, (k0_off47 v6512) a + S1x1x512.size a ≤ S1x2048x512.size a)
theorem k0_off47_inb : ∀ (i : grid0.Coords) (v6512 : BitVec 32) (k0_hw47 : k0_chk47 i v6512), ∀ (k0_h1 : k0_cond1 i = 1#1), ∀ a, (k0_off47 v6512) a + S1x1x512.size a ≤ S1x2048x512.size a := fun i v6512 k0_hw47 k0_h1 => k0_hw47 k0_h1

def k0_off48 (v6519 : BitVec 32) : Fin 3 → Nat :=
  let c0_4207 : Index := 0#32
  let v6520 : Index := Scalar.indexCast v6519
  let c0_4208 : Index := 0#32
  ![0, v6520.toNat, 0]

def k0_chk48 (i : grid0.Coords) (v6519 : BitVec 32) : Prop :=
  (∀ (k0_h1 : k0_cond1 i = 1#1), ∀ a, (k0_off48 v6519) a + S1x1x512.size a ≤ S1x2048x512.size a)
theorem k0_off48_inb : ∀ (i : grid0.Coords) (v6519 : BitVec 32) (k0_hw48 : k0_chk48 i v6519), ∀ (k0_h1 : k0_cond1 i = 1#1), ∀ a, (k0_off48 v6519) a + S1x1x512.size a ≤ S1x2048x512.size a := fun i v6519 k0_hw48 k0_h1 => k0_hw48 k0_h1

def k0_off49 (v6526 : BitVec 32) : Fin 3 → Nat :=
  let c0_4214 : Index := 0#32
  let v6527 : Index := Scalar.indexCast v6526
  let c0_4215 : Index := 0#32
  ![0, v6527.toNat, 0]

def k0_chk49 (i : grid0.Coords) (v6526 : BitVec 32) : Prop :=
  (∀ (k0_h1 : k0_cond1 i = 1#1), ∀ a, (k0_off49 v6526) a + S1x1x512.size a ≤ S1x2048x512.size a)
theorem k0_off49_inb : ∀ (i : grid0.Coords) (v6526 : BitVec 32) (k0_hw49 : k0_chk49 i v6526), ∀ (k0_h1 : k0_cond1 i = 1#1), ∀ a, (k0_off49 v6526) a + S1x1x512.size a ≤ S1x2048x512.size a := fun i v6526 k0_hw49 k0_h1 => k0_hw49 k0_h1

def k0_off50 (v6533 : BitVec 32) : Fin 3 → Nat :=
  let c0_4221 : Index := 0#32
  let v6534 : Index := Scalar.indexCast v6533
  let c0_4222 : Index := 0#32
  ![0, v6534.toNat, 0]

def k0_chk50 (i : grid0.Coords) (v6533 : BitVec 32) : Prop :=
  (∀ (k0_h1 : k0_cond1 i = 1#1), ∀ a, (k0_off50 v6533) a + S1x1x512.size a ≤ S1x2048x512.size a)
theorem k0_off50_inb : ∀ (i : grid0.Coords) (v6533 : BitVec 32) (k0_hw50 : k0_chk50 i v6533), ∀ (k0_h1 : k0_cond1 i = 1#1), ∀ a, (k0_off50 v6533) a + S1x1x512.size a ≤ S1x2048x512.size a := fun i v6533 k0_hw50 k0_h1 => k0_hw50 k0_h1

def k0_off51 (v6540 : BitVec 32) : Fin 3 → Nat :=
  let c0_4228 : Index := 0#32
  let v6541 : Index := Scalar.indexCast v6540
  let c0_4229 : Index := 0#32
  ![0, v6541.toNat, 0]

def k0_chk51 (i : grid0.Coords) (v6540 : BitVec 32) : Prop :=
  (∀ (k0_h1 : k0_cond1 i = 1#1), ∀ a, (k0_off51 v6540) a + S1x1x512.size a ≤ S1x2048x512.size a)
theorem k0_off51_inb : ∀ (i : grid0.Coords) (v6540 : BitVec 32) (k0_hw51 : k0_chk51 i v6540), ∀ (k0_h1 : k0_cond1 i = 1#1), ∀ a, (k0_off51 v6540) a + S1x1x512.size a ≤ S1x2048x512.size a := fun i v6540 k0_hw51 k0_h1 => k0_hw51 k0_h1

def k0_off52 (v6547 : BitVec 32) : Fin 3 → Nat :=
  let c0_4235 : Index := 0#32
  let v6548 : Index := Scalar.indexCast v6547
  let c0_4236 : Index := 0#32
  ![0, v6548.toNat, 0]

def k0_chk52 (i : grid0.Coords) (v6547 : BitVec 32) : Prop :=
  (∀ (k0_h1 : k0_cond1 i = 1#1), ∀ a, (k0_off52 v6547) a + S1x1x512.size a ≤ S1x2048x512.size a)
theorem k0_off52_inb : ∀ (i : grid0.Coords) (v6547 : BitVec 32) (k0_hw52 : k0_chk52 i v6547), ∀ (k0_h1 : k0_cond1 i = 1#1), ∀ a, (k0_off52 v6547) a + S1x1x512.size a ≤ S1x2048x512.size a := fun i v6547 k0_hw52 k0_h1 => k0_hw52 k0_h1

def k0_off53 (v6554 : BitVec 32) : Fin 3 → Nat :=
  let c0_4242 : Index := 0#32
  let v6555 : Index := Scalar.indexCast v6554
  let c0_4243 : Index := 0#32
  ![0, v6555.toNat, 0]

def k0_chk53 (i : grid0.Coords) (v6554 : BitVec 32) : Prop :=
  (∀ (k0_h1 : k0_cond1 i = 1#1), ∀ a, (k0_off53 v6554) a + S1x1x512.size a ≤ S1x2048x512.size a)
theorem k0_off53_inb : ∀ (i : grid0.Coords) (v6554 : BitVec 32) (k0_hw53 : k0_chk53 i v6554), ∀ (k0_h1 : k0_cond1 i = 1#1), ∀ a, (k0_off53 v6554) a + S1x1x512.size a ≤ S1x2048x512.size a := fun i v6554 k0_hw53 k0_h1 => k0_hw53 k0_h1

def k0_off54 (v6561 : BitVec 32) : Fin 3 → Nat :=
  let c0_4249 : Index := 0#32
  let v6562 : Index := Scalar.indexCast v6561
  let c0_4250 : Index := 0#32
  ![0, v6562.toNat, 0]

def k0_chk54 (i : grid0.Coords) (v6561 : BitVec 32) : Prop :=
  (∀ (k0_h1 : k0_cond1 i = 1#1), ∀ a, (k0_off54 v6561) a + S1x1x512.size a ≤ S1x2048x512.size a)
theorem k0_off54_inb : ∀ (i : grid0.Coords) (v6561 : BitVec 32) (k0_hw54 : k0_chk54 i v6561), ∀ (k0_h1 : k0_cond1 i = 1#1), ∀ a, (k0_off54 v6561) a + S1x1x512.size a ≤ S1x2048x512.size a := fun i v6561 k0_hw54 k0_h1 => k0_hw54 k0_h1

def k0_off55 (v6568 : BitVec 32) : Fin 3 → Nat :=
  let c0_4256 : Index := 0#32
  let v6569 : Index := Scalar.indexCast v6568
  let c0_4257 : Index := 0#32
  ![0, v6569.toNat, 0]

def k0_chk55 (i : grid0.Coords) (v6568 : BitVec 32) : Prop :=
  (∀ (k0_h1 : k0_cond1 i = 1#1), ∀ a, (k0_off55 v6568) a + S1x1x512.size a ≤ S1x2048x512.size a)
theorem k0_off55_inb : ∀ (i : grid0.Coords) (v6568 : BitVec 32) (k0_hw55 : k0_chk55 i v6568), ∀ (k0_h1 : k0_cond1 i = 1#1), ∀ a, (k0_off55 v6568) a + S1x1x512.size a ≤ S1x2048x512.size a := fun i v6568 k0_hw55 k0_h1 => k0_hw55 k0_h1

def k0_off56 (v6575 : BitVec 32) : Fin 3 → Nat :=
  let c0_4263 : Index := 0#32
  let v6576 : Index := Scalar.indexCast v6575
  let c0_4264 : Index := 0#32
  ![0, v6576.toNat, 0]

def k0_chk56 (i : grid0.Coords) (v6575 : BitVec 32) : Prop :=
  (∀ (k0_h1 : k0_cond1 i = 1#1), ∀ a, (k0_off56 v6575) a + S1x1x512.size a ≤ S1x2048x512.size a)
theorem k0_off56_inb : ∀ (i : grid0.Coords) (v6575 : BitVec 32) (k0_hw56 : k0_chk56 i v6575), ∀ (k0_h1 : k0_cond1 i = 1#1), ∀ a, (k0_off56 v6575) a + S1x1x512.size a ≤ S1x2048x512.size a := fun i v6575 k0_hw56 k0_h1 => k0_hw56 k0_h1

def k0_off57 (v6582 : BitVec 32) : Fin 3 → Nat :=
  let c0_4270 : Index := 0#32
  let v6583 : Index := Scalar.indexCast v6582
  let c0_4271 : Index := 0#32
  ![0, v6583.toNat, 0]

def k0_chk57 (i : grid0.Coords) (v6582 : BitVec 32) : Prop :=
  (∀ (k0_h1 : k0_cond1 i = 1#1), ∀ a, (k0_off57 v6582) a + S1x1x512.size a ≤ S1x2048x512.size a)
theorem k0_off57_inb : ∀ (i : grid0.Coords) (v6582 : BitVec 32) (k0_hw57 : k0_chk57 i v6582), ∀ (k0_h1 : k0_cond1 i = 1#1), ∀ a, (k0_off57 v6582) a + S1x1x512.size a ≤ S1x2048x512.size a := fun i v6582 k0_hw57 k0_h1 => k0_hw57 k0_h1

def k0_off58 (v6589 : BitVec 32) : Fin 3 → Nat :=
  let c0_4277 : Index := 0#32
  let v6590 : Index := Scalar.indexCast v6589
  let c0_4278 : Index := 0#32
  ![0, v6590.toNat, 0]

def k0_chk58 (i : grid0.Coords) (v6589 : BitVec 32) : Prop :=
  (∀ (k0_h1 : k0_cond1 i = 1#1), ∀ a, (k0_off58 v6589) a + S1x1x512.size a ≤ S1x2048x512.size a)
theorem k0_off58_inb : ∀ (i : grid0.Coords) (v6589 : BitVec 32) (k0_hw58 : k0_chk58 i v6589), ∀ (k0_h1 : k0_cond1 i = 1#1), ∀ a, (k0_off58 v6589) a + S1x1x512.size a ≤ S1x2048x512.size a := fun i v6589 k0_hw58 k0_h1 => k0_hw58 k0_h1

def k0_off59 (v6596 : BitVec 32) : Fin 3 → Nat :=
  let c0_4284 : Index := 0#32
  let v6597 : Index := Scalar.indexCast v6596
  let c0_4285 : Index := 0#32
  ![0, v6597.toNat, 0]

def k0_chk59 (i : grid0.Coords) (v6596 : BitVec 32) : Prop :=
  (∀ (k0_h1 : k0_cond1 i = 1#1), ∀ a, (k0_off59 v6596) a + S1x1x512.size a ≤ S1x2048x512.size a)
theorem k0_off59_inb : ∀ (i : grid0.Coords) (v6596 : BitVec 32) (k0_hw59 : k0_chk59 i v6596), ∀ (k0_h1 : k0_cond1 i = 1#1), ∀ a, (k0_off59 v6596) a + S1x1x512.size a ≤ S1x2048x512.size a := fun i v6596 k0_hw59 k0_h1 => k0_hw59 k0_h1

def k0_off60 (v6603 : BitVec 32) : Fin 3 → Nat :=
  let c0_4291 : Index := 0#32
  let v6604 : Index := Scalar.indexCast v6603
  let c0_4292 : Index := 0#32
  ![0, v6604.toNat, 0]

def k0_chk60 (i : grid0.Coords) (v6603 : BitVec 32) : Prop :=
  (∀ (k0_h1 : k0_cond1 i = 1#1), ∀ a, (k0_off60 v6603) a + S1x1x512.size a ≤ S1x2048x512.size a)
theorem k0_off60_inb : ∀ (i : grid0.Coords) (v6603 : BitVec 32) (k0_hw60 : k0_chk60 i v6603), ∀ (k0_h1 : k0_cond1 i = 1#1), ∀ a, (k0_off60 v6603) a + S1x1x512.size a ≤ S1x2048x512.size a := fun i v6603 k0_hw60 k0_h1 => k0_hw60 k0_h1

def k0_off61 (v6610 : BitVec 32) : Fin 3 → Nat :=
  let c0_4298 : Index := 0#32
  let v6611 : Index := Scalar.indexCast v6610
  let c0_4299 : Index := 0#32
  ![0, v6611.toNat, 0]

def k0_chk61 (i : grid0.Coords) (v6610 : BitVec 32) : Prop :=
  (∀ (k0_h1 : k0_cond1 i = 1#1), ∀ a, (k0_off61 v6610) a + S1x1x512.size a ≤ S1x2048x512.size a)
theorem k0_off61_inb : ∀ (i : grid0.Coords) (v6610 : BitVec 32) (k0_hw61 : k0_chk61 i v6610), ∀ (k0_h1 : k0_cond1 i = 1#1), ∀ a, (k0_off61 v6610) a + S1x1x512.size a ≤ S1x2048x512.size a := fun i v6610 k0_hw61 k0_h1 => k0_hw61 k0_h1

def k0_off62 (v6617 : BitVec 32) : Fin 3 → Nat :=
  let c0_4305 : Index := 0#32
  let v6618 : Index := Scalar.indexCast v6617
  let c0_4306 : Index := 0#32
  ![0, v6618.toNat, 0]

def k0_chk62 (i : grid0.Coords) (v6617 : BitVec 32) : Prop :=
  (∀ (k0_h1 : k0_cond1 i = 1#1), ∀ a, (k0_off62 v6617) a + S1x1x512.size a ≤ S1x2048x512.size a)
theorem k0_off62_inb : ∀ (i : grid0.Coords) (v6617 : BitVec 32) (k0_hw62 : k0_chk62 i v6617), ∀ (k0_h1 : k0_cond1 i = 1#1), ∀ a, (k0_off62 v6617) a + S1x1x512.size a ≤ S1x2048x512.size a := fun i v6617 k0_hw62 k0_h1 => k0_hw62 k0_h1

def k0_off63 (v6624 : BitVec 32) : Fin 3 → Nat :=
  let c0_4312 : Index := 0#32
  let v6625 : Index := Scalar.indexCast v6624
  let c0_4313 : Index := 0#32
  ![0, v6625.toNat, 0]

def k0_chk63 (i : grid0.Coords) (v6624 : BitVec 32) : Prop :=
  (∀ (k0_h1 : k0_cond1 i = 1#1), ∀ a, (k0_off63 v6624) a + S1x1x512.size a ≤ S1x2048x512.size a)
theorem k0_off63_inb : ∀ (i : grid0.Coords) (v6624 : BitVec 32) (k0_hw63 : k0_chk63 i v6624), ∀ (k0_h1 : k0_cond1 i = 1#1), ∀ a, (k0_off63 v6624) a + S1x1x512.size a ≤ S1x2048x512.size a := fun i v6624 k0_hw63 k0_h1 => k0_hw63 k0_h1

def k0_off64 (v6631 : BitVec 32) : Fin 3 → Nat :=
  let c0_4319 : Index := 0#32
  let v6632 : Index := Scalar.indexCast v6631
  let c0_4320 : Index := 0#32
  ![0, v6632.toNat, 0]

def k0_chk64 (i : grid0.Coords) (v6631 : BitVec 32) : Prop :=
  (∀ (k0_h1 : k0_cond1 i = 1#1), ∀ a, (k0_off64 v6631) a + S1x1x512.size a ≤ S1x2048x512.size a)
theorem k0_off64_inb : ∀ (i : grid0.Coords) (v6631 : BitVec 32) (k0_hw64 : k0_chk64 i v6631), ∀ (k0_h1 : k0_cond1 i = 1#1), ∀ a, (k0_off64 v6631) a + S1x1x512.size a ≤ S1x2048x512.size a := fun i v6631 k0_hw64 k0_h1 => k0_hw64 k0_h1

def k0_off65 (v6638 : BitVec 32) : Fin 3 → Nat :=
  let c0_4326 : Index := 0#32
  let v6639 : Index := Scalar.indexCast v6638
  let c0_4327 : Index := 0#32
  ![0, v6639.toNat, 0]

def k0_chk65 (i : grid0.Coords) (v6638 : BitVec 32) : Prop :=
  (∀ (k0_h1 : k0_cond1 i = 1#1), ∀ a, (k0_off65 v6638) a + S1x1x512.size a ≤ S1x2048x512.size a)
theorem k0_off65_inb : ∀ (i : grid0.Coords) (v6638 : BitVec 32) (k0_hw65 : k0_chk65 i v6638), ∀ (k0_h1 : k0_cond1 i = 1#1), ∀ a, (k0_off65 v6638) a + S1x1x512.size a ≤ S1x2048x512.size a := fun i v6638 k0_hw65 k0_h1 => k0_hw65 k0_h1

def k0_off66 (v6645 : BitVec 32) : Fin 3 → Nat :=
  let c0_4333 : Index := 0#32
  let v6646 : Index := Scalar.indexCast v6645
  let c0_4334 : Index := 0#32
  ![0, v6646.toNat, 0]

def k0_chk66 (i : grid0.Coords) (v6645 : BitVec 32) : Prop :=
  (∀ (k0_h1 : k0_cond1 i = 1#1), ∀ a, (k0_off66 v6645) a + S1x1x512.size a ≤ S1x2048x512.size a)
theorem k0_off66_inb : ∀ (i : grid0.Coords) (v6645 : BitVec 32) (k0_hw66 : k0_chk66 i v6645), ∀ (k0_h1 : k0_cond1 i = 1#1), ∀ a, (k0_off66 v6645) a + S1x1x512.size a ≤ S1x2048x512.size a := fun i v6645 k0_hw66 k0_h1 => k0_hw66 k0_h1

def k0_off67 (v6652 : BitVec 32) : Fin 3 → Nat :=
  let c0_4340 : Index := 0#32
  let v6653 : Index := Scalar.indexCast v6652
  let c0_4341 : Index := 0#32
  ![0, v6653.toNat, 0]

def k0_chk67 (i : grid0.Coords) (v6652 : BitVec 32) : Prop :=
  (∀ (k0_h1 : k0_cond1 i = 1#1), ∀ a, (k0_off67 v6652) a + S1x1x512.size a ≤ S1x2048x512.size a)
theorem k0_off67_inb : ∀ (i : grid0.Coords) (v6652 : BitVec 32) (k0_hw67 : k0_chk67 i v6652), ∀ (k0_h1 : k0_cond1 i = 1#1), ∀ a, (k0_off67 v6652) a + S1x1x512.size a ≤ S1x2048x512.size a := fun i v6652 k0_hw67 k0_h1 => k0_hw67 k0_h1

def k0_off68 (v6659 : BitVec 32) : Fin 3 → Nat :=
  let c0_4347 : Index := 0#32
  let v6660 : Index := Scalar.indexCast v6659
  let c0_4348 : Index := 0#32
  ![0, v6660.toNat, 0]

def k0_chk68 (i : grid0.Coords) (v6659 : BitVec 32) : Prop :=
  (∀ (k0_h1 : k0_cond1 i = 1#1), ∀ a, (k0_off68 v6659) a + S1x1x512.size a ≤ S1x2048x512.size a)
theorem k0_off68_inb : ∀ (i : grid0.Coords) (v6659 : BitVec 32) (k0_hw68 : k0_chk68 i v6659), ∀ (k0_h1 : k0_cond1 i = 1#1), ∀ a, (k0_off68 v6659) a + S1x1x512.size a ≤ S1x2048x512.size a := fun i v6659 k0_hw68 k0_h1 => k0_hw68 k0_h1

def k0_off69 (v6666 : BitVec 32) : Fin 3 → Nat :=
  let c0_4354 : Index := 0#32
  let v6667 : Index := Scalar.indexCast v6666
  let c0_4355 : Index := 0#32
  ![0, v6667.toNat, 0]

def k0_chk69 (i : grid0.Coords) (v6666 : BitVec 32) : Prop :=
  (∀ (k0_h1 : k0_cond1 i = 1#1), ∀ a, (k0_off69 v6666) a + S1x1x512.size a ≤ S1x2048x512.size a)
theorem k0_off69_inb : ∀ (i : grid0.Coords) (v6666 : BitVec 32) (k0_hw69 : k0_chk69 i v6666), ∀ (k0_h1 : k0_cond1 i = 1#1), ∀ a, (k0_off69 v6666) a + S1x1x512.size a ≤ S1x2048x512.size a := fun i v6666 k0_hw69 k0_h1 => k0_hw69 k0_h1

def k0_off70 (v6673 : BitVec 32) : Fin 3 → Nat :=
  let c0_4361 : Index := 0#32
  let v6674 : Index := Scalar.indexCast v6673
  let c0_4362 : Index := 0#32
  ![0, v6674.toNat, 0]

def k0_chk70 (i : grid0.Coords) (v6673 : BitVec 32) : Prop :=
  (∀ (k0_h1 : k0_cond1 i = 1#1), ∀ a, (k0_off70 v6673) a + S1x1x512.size a ≤ S1x2048x512.size a)
theorem k0_off70_inb : ∀ (i : grid0.Coords) (v6673 : BitVec 32) (k0_hw70 : k0_chk70 i v6673), ∀ (k0_h1 : k0_cond1 i = 1#1), ∀ a, (k0_off70 v6673) a + S1x1x512.size a ≤ S1x2048x512.size a := fun i v6673 k0_hw70 k0_h1 => k0_hw70 k0_h1

def k0_off71 (v6680 : BitVec 32) : Fin 3 → Nat :=
  let c0_4368 : Index := 0#32
  let v6681 : Index := Scalar.indexCast v6680
  let c0_4369 : Index := 0#32
  ![0, v6681.toNat, 0]

def k0_chk71 (i : grid0.Coords) (v6680 : BitVec 32) : Prop :=
  (∀ (k0_h1 : k0_cond1 i = 1#1), ∀ a, (k0_off71 v6680) a + S1x1x512.size a ≤ S1x2048x512.size a)
theorem k0_off71_inb : ∀ (i : grid0.Coords) (v6680 : BitVec 32) (k0_hw71 : k0_chk71 i v6680), ∀ (k0_h1 : k0_cond1 i = 1#1), ∀ a, (k0_off71 v6680) a + S1x1x512.size a ≤ S1x2048x512.size a := fun i v6680 k0_hw71 k0_h1 => k0_hw71 k0_h1

def k0_off72 (v6687 : BitVec 32) : Fin 3 → Nat :=
  let c0_4375 : Index := 0#32
  let v6688 : Index := Scalar.indexCast v6687
  let c0_4376 : Index := 0#32
  ![0, v6688.toNat, 0]

def k0_chk72 (i : grid0.Coords) (v6687 : BitVec 32) : Prop :=
  (∀ (k0_h1 : k0_cond1 i = 1#1), ∀ a, (k0_off72 v6687) a + S1x1x512.size a ≤ S1x2048x512.size a)
theorem k0_off72_inb : ∀ (i : grid0.Coords) (v6687 : BitVec 32) (k0_hw72 : k0_chk72 i v6687), ∀ (k0_h1 : k0_cond1 i = 1#1), ∀ a, (k0_off72 v6687) a + S1x1x512.size a ≤ S1x2048x512.size a := fun i v6687 k0_hw72 k0_h1 => k0_hw72 k0_h1

def k0_off73 (v6694 : BitVec 32) : Fin 3 → Nat :=
  let c0_4382 : Index := 0#32
  let v6695 : Index := Scalar.indexCast v6694
  let c0_4383 : Index := 0#32
  ![0, v6695.toNat, 0]

def k0_chk73 (i : grid0.Coords) (v6694 : BitVec 32) : Prop :=
  (∀ (k0_h1 : k0_cond1 i = 1#1), ∀ a, (k0_off73 v6694) a + S1x1x512.size a ≤ S1x2048x512.size a)
theorem k0_off73_inb : ∀ (i : grid0.Coords) (v6694 : BitVec 32) (k0_hw73 : k0_chk73 i v6694), ∀ (k0_h1 : k0_cond1 i = 1#1), ∀ a, (k0_off73 v6694) a + S1x1x512.size a ≤ S1x2048x512.size a := fun i v6694 k0_hw73 k0_h1 => k0_hw73 k0_h1

def k0_off74 (v6701 : BitVec 32) : Fin 3 → Nat :=
  let c0_4389 : Index := 0#32
  let v6702 : Index := Scalar.indexCast v6701
  let c0_4390 : Index := 0#32
  ![0, v6702.toNat, 0]

def k0_chk74 (i : grid0.Coords) (v6701 : BitVec 32) : Prop :=
  (∀ (k0_h1 : k0_cond1 i = 1#1), ∀ a, (k0_off74 v6701) a + S1x1x512.size a ≤ S1x2048x512.size a)
theorem k0_off74_inb : ∀ (i : grid0.Coords) (v6701 : BitVec 32) (k0_hw74 : k0_chk74 i v6701), ∀ (k0_h1 : k0_cond1 i = 1#1), ∀ a, (k0_off74 v6701) a + S1x1x512.size a ≤ S1x2048x512.size a := fun i v6701 k0_hw74 k0_h1 => k0_hw74 k0_h1

def k0_off75 (v6708 : BitVec 32) : Fin 3 → Nat :=
  let c0_4396 : Index := 0#32
  let v6709 : Index := Scalar.indexCast v6708
  let c0_4397 : Index := 0#32
  ![0, v6709.toNat, 0]

def k0_chk75 (i : grid0.Coords) (v6708 : BitVec 32) : Prop :=
  (∀ (k0_h1 : k0_cond1 i = 1#1), ∀ a, (k0_off75 v6708) a + S1x1x512.size a ≤ S1x2048x512.size a)
theorem k0_off75_inb : ∀ (i : grid0.Coords) (v6708 : BitVec 32) (k0_hw75 : k0_chk75 i v6708), ∀ (k0_h1 : k0_cond1 i = 1#1), ∀ a, (k0_off75 v6708) a + S1x1x512.size a ≤ S1x2048x512.size a := fun i v6708 k0_hw75 k0_h1 => k0_hw75 k0_h1

def k0_off76 (v6715 : BitVec 32) : Fin 3 → Nat :=
  let c0_4403 : Index := 0#32
  let v6716 : Index := Scalar.indexCast v6715
  let c0_4404 : Index := 0#32
  ![0, v6716.toNat, 0]

def k0_chk76 (i : grid0.Coords) (v6715 : BitVec 32) : Prop :=
  (∀ (k0_h1 : k0_cond1 i = 1#1), ∀ a, (k0_off76 v6715) a + S1x1x512.size a ≤ S1x2048x512.size a)
theorem k0_off76_inb : ∀ (i : grid0.Coords) (v6715 : BitVec 32) (k0_hw76 : k0_chk76 i v6715), ∀ (k0_h1 : k0_cond1 i = 1#1), ∀ a, (k0_off76 v6715) a + S1x1x512.size a ≤ S1x2048x512.size a := fun i v6715 k0_hw76 k0_h1 => k0_hw76 k0_h1

def k0_off77 (v6722 : BitVec 32) : Fin 3 → Nat :=
  let c0_4410 : Index := 0#32
  let v6723 : Index := Scalar.indexCast v6722
  let c0_4411 : Index := 0#32
  ![0, v6723.toNat, 0]

def k0_chk77 (i : grid0.Coords) (v6722 : BitVec 32) : Prop :=
  (∀ (k0_h1 : k0_cond1 i = 1#1), ∀ a, (k0_off77 v6722) a + S1x1x512.size a ≤ S1x2048x512.size a)
theorem k0_off77_inb : ∀ (i : grid0.Coords) (v6722 : BitVec 32) (k0_hw77 : k0_chk77 i v6722), ∀ (k0_h1 : k0_cond1 i = 1#1), ∀ a, (k0_off77 v6722) a + S1x1x512.size a ≤ S1x2048x512.size a := fun i v6722 k0_hw77 k0_h1 => k0_hw77 k0_h1

def k0_off78 (v6729 : BitVec 32) : Fin 3 → Nat :=
  let c0_4417 : Index := 0#32
  let v6730 : Index := Scalar.indexCast v6729
  let c0_4418 : Index := 0#32
  ![0, v6730.toNat, 0]

def k0_chk78 (i : grid0.Coords) (v6729 : BitVec 32) : Prop :=
  (∀ (k0_h1 : k0_cond1 i = 1#1), ∀ a, (k0_off78 v6729) a + S1x1x512.size a ≤ S1x2048x512.size a)
theorem k0_off78_inb : ∀ (i : grid0.Coords) (v6729 : BitVec 32) (k0_hw78 : k0_chk78 i v6729), ∀ (k0_h1 : k0_cond1 i = 1#1), ∀ a, (k0_off78 v6729) a + S1x1x512.size a ≤ S1x2048x512.size a := fun i v6729 k0_hw78 k0_h1 => k0_hw78 k0_h1

def k0_off79 (v6736 : BitVec 32) : Fin 3 → Nat :=
  let c0_4424 : Index := 0#32
  let v6737 : Index := Scalar.indexCast v6736
  let c0_4425 : Index := 0#32
  ![0, v6737.toNat, 0]

def k0_chk79 (i : grid0.Coords) (v6736 : BitVec 32) : Prop :=
  (∀ (k0_h1 : k0_cond1 i = 1#1), ∀ a, (k0_off79 v6736) a + S1x1x512.size a ≤ S1x2048x512.size a)
theorem k0_off79_inb : ∀ (i : grid0.Coords) (v6736 : BitVec 32) (k0_hw79 : k0_chk79 i v6736), ∀ (k0_h1 : k0_cond1 i = 1#1), ∀ a, (k0_off79 v6736) a + S1x1x512.size a ≤ S1x2048x512.size a := fun i v6736 k0_hw79 k0_h1 => k0_hw79 k0_h1

def k0_off80 (v6743 : BitVec 32) : Fin 3 → Nat :=
  let c0_4431 : Index := 0#32
  let v6744 : Index := Scalar.indexCast v6743
  let c0_4432 : Index := 0#32
  ![0, v6744.toNat, 0]

def k0_chk80 (i : grid0.Coords) (v6743 : BitVec 32) : Prop :=
  (∀ (k0_h1 : k0_cond1 i = 1#1), ∀ a, (k0_off80 v6743) a + S1x1x512.size a ≤ S1x2048x512.size a)
theorem k0_off80_inb : ∀ (i : grid0.Coords) (v6743 : BitVec 32) (k0_hw80 : k0_chk80 i v6743), ∀ (k0_h1 : k0_cond1 i = 1#1), ∀ a, (k0_off80 v6743) a + S1x1x512.size a ≤ S1x2048x512.size a := fun i v6743 k0_hw80 k0_h1 => k0_hw80 k0_h1

def k0_off81 (v6750 : BitVec 32) : Fin 3 → Nat :=
  let c0_4438 : Index := 0#32
  let v6751 : Index := Scalar.indexCast v6750
  let c0_4439 : Index := 0#32
  ![0, v6751.toNat, 0]

def k0_chk81 (i : grid0.Coords) (v6750 : BitVec 32) : Prop :=
  (∀ (k0_h1 : k0_cond1 i = 1#1), ∀ a, (k0_off81 v6750) a + S1x1x512.size a ≤ S1x2048x512.size a)
theorem k0_off81_inb : ∀ (i : grid0.Coords) (v6750 : BitVec 32) (k0_hw81 : k0_chk81 i v6750), ∀ (k0_h1 : k0_cond1 i = 1#1), ∀ a, (k0_off81 v6750) a + S1x1x512.size a ≤ S1x2048x512.size a := fun i v6750 k0_hw81 k0_h1 => k0_hw81 k0_h1

def k0_off82 (v6757 : BitVec 32) : Fin 3 → Nat :=
  let c0_4445 : Index := 0#32
  let v6758 : Index := Scalar.indexCast v6757
  let c0_4446 : Index := 0#32
  ![0, v6758.toNat, 0]

def k0_chk82 (i : grid0.Coords) (v6757 : BitVec 32) : Prop :=
  (∀ (k0_h1 : k0_cond1 i = 1#1), ∀ a, (k0_off82 v6757) a + S1x1x512.size a ≤ S1x2048x512.size a)
theorem k0_off82_inb : ∀ (i : grid0.Coords) (v6757 : BitVec 32) (k0_hw82 : k0_chk82 i v6757), ∀ (k0_h1 : k0_cond1 i = 1#1), ∀ a, (k0_off82 v6757) a + S1x1x512.size a ≤ S1x2048x512.size a := fun i v6757 k0_hw82 k0_h1 => k0_hw82 k0_h1

def k0_off83 (v6764 : BitVec 32) : Fin 3 → Nat :=
  let c0_4452 : Index := 0#32
  let v6765 : Index := Scalar.indexCast v6764
  let c0_4453 : Index := 0#32
  ![0, v6765.toNat, 0]

def k0_chk83 (i : grid0.Coords) (v6764 : BitVec 32) : Prop :=
  (∀ (k0_h1 : k0_cond1 i = 1#1), ∀ a, (k0_off83 v6764) a + S1x1x512.size a ≤ S1x2048x512.size a)
theorem k0_off83_inb : ∀ (i : grid0.Coords) (v6764 : BitVec 32) (k0_hw83 : k0_chk83 i v6764), ∀ (k0_h1 : k0_cond1 i = 1#1), ∀ a, (k0_off83 v6764) a + S1x1x512.size a ≤ S1x2048x512.size a := fun i v6764 k0_hw83 k0_h1 => k0_hw83 k0_h1

def k0_off84 (v6771 : BitVec 32) : Fin 3 → Nat :=
  let c0_4459 : Index := 0#32
  let v6772 : Index := Scalar.indexCast v6771
  let c0_4460 : Index := 0#32
  ![0, v6772.toNat, 0]

def k0_chk84 (i : grid0.Coords) (v6771 : BitVec 32) : Prop :=
  (∀ (k0_h1 : k0_cond1 i = 1#1), ∀ a, (k0_off84 v6771) a + S1x1x512.size a ≤ S1x2048x512.size a)
theorem k0_off84_inb : ∀ (i : grid0.Coords) (v6771 : BitVec 32) (k0_hw84 : k0_chk84 i v6771), ∀ (k0_h1 : k0_cond1 i = 1#1), ∀ a, (k0_off84 v6771) a + S1x1x512.size a ≤ S1x2048x512.size a := fun i v6771 k0_hw84 k0_h1 => k0_hw84 k0_h1

def k0_off85 (v6778 : BitVec 32) : Fin 3 → Nat :=
  let c0_4466 : Index := 0#32
  let v6779 : Index := Scalar.indexCast v6778
  let c0_4467 : Index := 0#32
  ![0, v6779.toNat, 0]

def k0_chk85 (i : grid0.Coords) (v6778 : BitVec 32) : Prop :=
  (∀ (k0_h1 : k0_cond1 i = 1#1), ∀ a, (k0_off85 v6778) a + S1x1x512.size a ≤ S1x2048x512.size a)
theorem k0_off85_inb : ∀ (i : grid0.Coords) (v6778 : BitVec 32) (k0_hw85 : k0_chk85 i v6778), ∀ (k0_h1 : k0_cond1 i = 1#1), ∀ a, (k0_off85 v6778) a + S1x1x512.size a ≤ S1x2048x512.size a := fun i v6778 k0_hw85 k0_h1 => k0_hw85 k0_h1

def k0_off86 (v6785 : BitVec 32) : Fin 3 → Nat :=
  let c0_4473 : Index := 0#32
  let v6786 : Index := Scalar.indexCast v6785
  let c0_4474 : Index := 0#32
  ![0, v6786.toNat, 0]

def k0_chk86 (i : grid0.Coords) (v6785 : BitVec 32) : Prop :=
  (∀ (k0_h1 : k0_cond1 i = 1#1), ∀ a, (k0_off86 v6785) a + S1x1x512.size a ≤ S1x2048x512.size a)
theorem k0_off86_inb : ∀ (i : grid0.Coords) (v6785 : BitVec 32) (k0_hw86 : k0_chk86 i v6785), ∀ (k0_h1 : k0_cond1 i = 1#1), ∀ a, (k0_off86 v6785) a + S1x1x512.size a ≤ S1x2048x512.size a := fun i v6785 k0_hw86 k0_h1 => k0_hw86 k0_h1

def k0_off87 (v6792 : BitVec 32) : Fin 3 → Nat :=
  let c0_4480 : Index := 0#32
  let v6793 : Index := Scalar.indexCast v6792
  let c0_4481 : Index := 0#32
  ![0, v6793.toNat, 0]

def k0_chk87 (i : grid0.Coords) (v6792 : BitVec 32) : Prop :=
  (∀ (k0_h1 : k0_cond1 i = 1#1), ∀ a, (k0_off87 v6792) a + S1x1x512.size a ≤ S1x2048x512.size a)
theorem k0_off87_inb : ∀ (i : grid0.Coords) (v6792 : BitVec 32) (k0_hw87 : k0_chk87 i v6792), ∀ (k0_h1 : k0_cond1 i = 1#1), ∀ a, (k0_off87 v6792) a + S1x1x512.size a ≤ S1x2048x512.size a := fun i v6792 k0_hw87 k0_h1 => k0_hw87 k0_h1

def k0_off88 (v6799 : BitVec 32) : Fin 3 → Nat :=
  let c0_4487 : Index := 0#32
  let v6800 : Index := Scalar.indexCast v6799
  let c0_4488 : Index := 0#32
  ![0, v6800.toNat, 0]

def k0_chk88 (i : grid0.Coords) (v6799 : BitVec 32) : Prop :=
  (∀ (k0_h1 : k0_cond1 i = 1#1), ∀ a, (k0_off88 v6799) a + S1x1x512.size a ≤ S1x2048x512.size a)
theorem k0_off88_inb : ∀ (i : grid0.Coords) (v6799 : BitVec 32) (k0_hw88 : k0_chk88 i v6799), ∀ (k0_h1 : k0_cond1 i = 1#1), ∀ a, (k0_off88 v6799) a + S1x1x512.size a ≤ S1x2048x512.size a := fun i v6799 k0_hw88 k0_h1 => k0_hw88 k0_h1

def k0_off89 (v6806 : BitVec 32) : Fin 3 → Nat :=
  let c0_4494 : Index := 0#32
  let v6807 : Index := Scalar.indexCast v6806
  let c0_4495 : Index := 0#32
  ![0, v6807.toNat, 0]

def k0_chk89 (i : grid0.Coords) (v6806 : BitVec 32) : Prop :=
  (∀ (k0_h1 : k0_cond1 i = 1#1), ∀ a, (k0_off89 v6806) a + S1x1x512.size a ≤ S1x2048x512.size a)
theorem k0_off89_inb : ∀ (i : grid0.Coords) (v6806 : BitVec 32) (k0_hw89 : k0_chk89 i v6806), ∀ (k0_h1 : k0_cond1 i = 1#1), ∀ a, (k0_off89 v6806) a + S1x1x512.size a ≤ S1x2048x512.size a := fun i v6806 k0_hw89 k0_h1 => k0_hw89 k0_h1

def k0_off90 (v6813 : BitVec 32) : Fin 3 → Nat :=
  let c0_4501 : Index := 0#32
  let v6814 : Index := Scalar.indexCast v6813
  let c0_4502 : Index := 0#32
  ![0, v6814.toNat, 0]

def k0_chk90 (i : grid0.Coords) (v6813 : BitVec 32) : Prop :=
  (∀ (k0_h1 : k0_cond1 i = 1#1), ∀ a, (k0_off90 v6813) a + S1x1x512.size a ≤ S1x2048x512.size a)
theorem k0_off90_inb : ∀ (i : grid0.Coords) (v6813 : BitVec 32) (k0_hw90 : k0_chk90 i v6813), ∀ (k0_h1 : k0_cond1 i = 1#1), ∀ a, (k0_off90 v6813) a + S1x1x512.size a ≤ S1x2048x512.size a := fun i v6813 k0_hw90 k0_h1 => k0_hw90 k0_h1

def k0_off91 (v6820 : BitVec 32) : Fin 3 → Nat :=
  let c0_4508 : Index := 0#32
  let v6821 : Index := Scalar.indexCast v6820
  let c0_4509 : Index := 0#32
  ![0, v6821.toNat, 0]

def k0_chk91 (i : grid0.Coords) (v6820 : BitVec 32) : Prop :=
  (∀ (k0_h1 : k0_cond1 i = 1#1), ∀ a, (k0_off91 v6820) a + S1x1x512.size a ≤ S1x2048x512.size a)
theorem k0_off91_inb : ∀ (i : grid0.Coords) (v6820 : BitVec 32) (k0_hw91 : k0_chk91 i v6820), ∀ (k0_h1 : k0_cond1 i = 1#1), ∀ a, (k0_off91 v6820) a + S1x1x512.size a ≤ S1x2048x512.size a := fun i v6820 k0_hw91 k0_h1 => k0_hw91 k0_h1

def k0_off92 (v6827 : BitVec 32) : Fin 3 → Nat :=
  let c0_4515 : Index := 0#32
  let v6828 : Index := Scalar.indexCast v6827
  let c0_4516 : Index := 0#32
  ![0, v6828.toNat, 0]

def k0_chk92 (i : grid0.Coords) (v6827 : BitVec 32) : Prop :=
  (∀ (k0_h1 : k0_cond1 i = 1#1), ∀ a, (k0_off92 v6827) a + S1x1x512.size a ≤ S1x2048x512.size a)
theorem k0_off92_inb : ∀ (i : grid0.Coords) (v6827 : BitVec 32) (k0_hw92 : k0_chk92 i v6827), ∀ (k0_h1 : k0_cond1 i = 1#1), ∀ a, (k0_off92 v6827) a + S1x1x512.size a ≤ S1x2048x512.size a := fun i v6827 k0_hw92 k0_h1 => k0_hw92 k0_h1

def k0_off93 (v6834 : BitVec 32) : Fin 3 → Nat :=
  let c0_4522 : Index := 0#32
  let v6835 : Index := Scalar.indexCast v6834
  let c0_4523 : Index := 0#32
  ![0, v6835.toNat, 0]

def k0_chk93 (i : grid0.Coords) (v6834 : BitVec 32) : Prop :=
  (∀ (k0_h1 : k0_cond1 i = 1#1), ∀ a, (k0_off93 v6834) a + S1x1x512.size a ≤ S1x2048x512.size a)
theorem k0_off93_inb : ∀ (i : grid0.Coords) (v6834 : BitVec 32) (k0_hw93 : k0_chk93 i v6834), ∀ (k0_h1 : k0_cond1 i = 1#1), ∀ a, (k0_off93 v6834) a + S1x1x512.size a ≤ S1x2048x512.size a := fun i v6834 k0_hw93 k0_h1 => k0_hw93 k0_h1

def k0_off94 (v6841 : BitVec 32) : Fin 3 → Nat :=
  let c0_4529 : Index := 0#32
  let v6842 : Index := Scalar.indexCast v6841
  let c0_4530 : Index := 0#32
  ![0, v6842.toNat, 0]

def k0_chk94 (i : grid0.Coords) (v6841 : BitVec 32) : Prop :=
  (∀ (k0_h1 : k0_cond1 i = 1#1), ∀ a, (k0_off94 v6841) a + S1x1x512.size a ≤ S1x2048x512.size a)
theorem k0_off94_inb : ∀ (i : grid0.Coords) (v6841 : BitVec 32) (k0_hw94 : k0_chk94 i v6841), ∀ (k0_h1 : k0_cond1 i = 1#1), ∀ a, (k0_off94 v6841) a + S1x1x512.size a ≤ S1x2048x512.size a := fun i v6841 k0_hw94 k0_h1 => k0_hw94 k0_h1

def k0_off95 (v6848 : BitVec 32) : Fin 3 → Nat :=
  let c0_4536 : Index := 0#32
  let v6849 : Index := Scalar.indexCast v6848
  let c0_4537 : Index := 0#32
  ![0, v6849.toNat, 0]

def k0_chk95 (i : grid0.Coords) (v6848 : BitVec 32) : Prop :=
  (∀ (k0_h1 : k0_cond1 i = 1#1), ∀ a, (k0_off95 v6848) a + S1x1x512.size a ≤ S1x2048x512.size a)
theorem k0_off95_inb : ∀ (i : grid0.Coords) (v6848 : BitVec 32) (k0_hw95 : k0_chk95 i v6848), ∀ (k0_h1 : k0_cond1 i = 1#1), ∀ a, (k0_off95 v6848) a + S1x1x512.size a ≤ S1x2048x512.size a := fun i v6848 k0_hw95 k0_h1 => k0_hw95 k0_h1

def k0_off96 (v6855 : BitVec 32) : Fin 3 → Nat :=
  let c0_4543 : Index := 0#32
  let v6856 : Index := Scalar.indexCast v6855
  let c0_4544 : Index := 0#32
  ![0, v6856.toNat, 0]

def k0_chk96 (i : grid0.Coords) (v6855 : BitVec 32) : Prop :=
  (∀ (k0_h1 : k0_cond1 i = 1#1), ∀ a, (k0_off96 v6855) a + S1x1x512.size a ≤ S1x2048x512.size a)
theorem k0_off96_inb : ∀ (i : grid0.Coords) (v6855 : BitVec 32) (k0_hw96 : k0_chk96 i v6855), ∀ (k0_h1 : k0_cond1 i = 1#1), ∀ a, (k0_off96 v6855) a + S1x1x512.size a ≤ S1x2048x512.size a := fun i v6855 k0_hw96 k0_h1 => k0_hw96 k0_h1

def k0_off97 (v6862 : BitVec 32) : Fin 3 → Nat :=
  let c0_4550 : Index := 0#32
  let v6863 : Index := Scalar.indexCast v6862
  let c0_4551 : Index := 0#32
  ![0, v6863.toNat, 0]

def k0_chk97 (i : grid0.Coords) (v6862 : BitVec 32) : Prop :=
  (∀ (k0_h1 : k0_cond1 i = 1#1), ∀ a, (k0_off97 v6862) a + S1x1x512.size a ≤ S1x2048x512.size a)
theorem k0_off97_inb : ∀ (i : grid0.Coords) (v6862 : BitVec 32) (k0_hw97 : k0_chk97 i v6862), ∀ (k0_h1 : k0_cond1 i = 1#1), ∀ a, (k0_off97 v6862) a + S1x1x512.size a ≤ S1x2048x512.size a := fun i v6862 k0_hw97 k0_h1 => k0_hw97 k0_h1

def k0_off98 (v6869 : BitVec 32) : Fin 3 → Nat :=
  let c0_4557 : Index := 0#32
  let v6870 : Index := Scalar.indexCast v6869
  let c0_4558 : Index := 0#32
  ![0, v6870.toNat, 0]

def k0_chk98 (i : grid0.Coords) (v6869 : BitVec 32) : Prop :=
  (∀ (k0_h1 : k0_cond1 i = 1#1), ∀ a, (k0_off98 v6869) a + S1x1x512.size a ≤ S1x2048x512.size a)
theorem k0_off98_inb : ∀ (i : grid0.Coords) (v6869 : BitVec 32) (k0_hw98 : k0_chk98 i v6869), ∀ (k0_h1 : k0_cond1 i = 1#1), ∀ a, (k0_off98 v6869) a + S1x1x512.size a ≤ S1x2048x512.size a := fun i v6869 k0_hw98 k0_h1 => k0_hw98 k0_h1

def k0_off99 (v6876 : BitVec 32) : Fin 3 → Nat :=
  let c0_4564 : Index := 0#32
  let v6877 : Index := Scalar.indexCast v6876
  let c0_4565 : Index := 0#32
  ![0, v6877.toNat, 0]

def k0_chk99 (i : grid0.Coords) (v6876 : BitVec 32) : Prop :=
  (∀ (k0_h1 : k0_cond1 i = 1#1), ∀ a, (k0_off99 v6876) a + S1x1x512.size a ≤ S1x2048x512.size a)
theorem k0_off99_inb : ∀ (i : grid0.Coords) (v6876 : BitVec 32) (k0_hw99 : k0_chk99 i v6876), ∀ (k0_h1 : k0_cond1 i = 1#1), ∀ a, (k0_off99 v6876) a + S1x1x512.size a ≤ S1x2048x512.size a := fun i v6876 k0_hw99 k0_h1 => k0_hw99 k0_h1

def k0_off100 (v6883 : BitVec 32) : Fin 3 → Nat :=
  let c0_4571 : Index := 0#32
  let v6884 : Index := Scalar.indexCast v6883
  let c0_4572 : Index := 0#32
  ![0, v6884.toNat, 0]

def k0_chk100 (i : grid0.Coords) (v6883 : BitVec 32) : Prop :=
  (∀ (k0_h1 : k0_cond1 i = 1#1), ∀ a, (k0_off100 v6883) a + S1x1x512.size a ≤ S1x2048x512.size a)
theorem k0_off100_inb : ∀ (i : grid0.Coords) (v6883 : BitVec 32) (k0_hw100 : k0_chk100 i v6883), ∀ (k0_h1 : k0_cond1 i = 1#1), ∀ a, (k0_off100 v6883) a + S1x1x512.size a ≤ S1x2048x512.size a := fun i v6883 k0_hw100 k0_h1 => k0_hw100 k0_h1

def k0_off101 (v6890 : BitVec 32) : Fin 3 → Nat :=
  let c0_4578 : Index := 0#32
  let v6891 : Index := Scalar.indexCast v6890
  let c0_4579 : Index := 0#32
  ![0, v6891.toNat, 0]

def k0_chk101 (i : grid0.Coords) (v6890 : BitVec 32) : Prop :=
  (∀ (k0_h1 : k0_cond1 i = 1#1), ∀ a, (k0_off101 v6890) a + S1x1x512.size a ≤ S1x2048x512.size a)
theorem k0_off101_inb : ∀ (i : grid0.Coords) (v6890 : BitVec 32) (k0_hw101 : k0_chk101 i v6890), ∀ (k0_h1 : k0_cond1 i = 1#1), ∀ a, (k0_off101 v6890) a + S1x1x512.size a ≤ S1x2048x512.size a := fun i v6890 k0_hw101 k0_h1 => k0_hw101 k0_h1

def k0_off102 (v6897 : BitVec 32) : Fin 3 → Nat :=
  let c0_4585 : Index := 0#32
  let v6898 : Index := Scalar.indexCast v6897
  let c0_4586 : Index := 0#32
  ![0, v6898.toNat, 0]

def k0_chk102 (i : grid0.Coords) (v6897 : BitVec 32) : Prop :=
  (∀ (k0_h1 : k0_cond1 i = 1#1), ∀ a, (k0_off102 v6897) a + S1x1x512.size a ≤ S1x2048x512.size a)
theorem k0_off102_inb : ∀ (i : grid0.Coords) (v6897 : BitVec 32) (k0_hw102 : k0_chk102 i v6897), ∀ (k0_h1 : k0_cond1 i = 1#1), ∀ a, (k0_off102 v6897) a + S1x1x512.size a ≤ S1x2048x512.size a := fun i v6897 k0_hw102 k0_h1 => k0_hw102 k0_h1

def k0_off103 (v6904 : BitVec 32) : Fin 3 → Nat :=
  let c0_4592 : Index := 0#32
  let v6905 : Index := Scalar.indexCast v6904
  let c0_4593 : Index := 0#32
  ![0, v6905.toNat, 0]

def k0_chk103 (i : grid0.Coords) (v6904 : BitVec 32) : Prop :=
  (∀ (k0_h1 : k0_cond1 i = 1#1), ∀ a, (k0_off103 v6904) a + S1x1x512.size a ≤ S1x2048x512.size a)
theorem k0_off103_inb : ∀ (i : grid0.Coords) (v6904 : BitVec 32) (k0_hw103 : k0_chk103 i v6904), ∀ (k0_h1 : k0_cond1 i = 1#1), ∀ a, (k0_off103 v6904) a + S1x1x512.size a ≤ S1x2048x512.size a := fun i v6904 k0_hw103 k0_h1 => k0_hw103 k0_h1

def k0_off104 (v6911 : BitVec 32) : Fin 3 → Nat :=
  let c0_4599 : Index := 0#32
  let v6912 : Index := Scalar.indexCast v6911
  let c0_4600 : Index := 0#32
  ![0, v6912.toNat, 0]

def k0_chk104 (i : grid0.Coords) (v6911 : BitVec 32) : Prop :=
  (∀ (k0_h1 : k0_cond1 i = 1#1), ∀ a, (k0_off104 v6911) a + S1x1x512.size a ≤ S1x2048x512.size a)
theorem k0_off104_inb : ∀ (i : grid0.Coords) (v6911 : BitVec 32) (k0_hw104 : k0_chk104 i v6911), ∀ (k0_h1 : k0_cond1 i = 1#1), ∀ a, (k0_off104 v6911) a + S1x1x512.size a ≤ S1x2048x512.size a := fun i v6911 k0_hw104 k0_h1 => k0_hw104 k0_h1

def k0_off105 (v6918 : BitVec 32) : Fin 3 → Nat :=
  let c0_4606 : Index := 0#32
  let v6919 : Index := Scalar.indexCast v6918
  let c0_4607 : Index := 0#32
  ![0, v6919.toNat, 0]

def k0_chk105 (i : grid0.Coords) (v6918 : BitVec 32) : Prop :=
  (∀ (k0_h1 : k0_cond1 i = 1#1), ∀ a, (k0_off105 v6918) a + S1x1x512.size a ≤ S1x2048x512.size a)
theorem k0_off105_inb : ∀ (i : grid0.Coords) (v6918 : BitVec 32) (k0_hw105 : k0_chk105 i v6918), ∀ (k0_h1 : k0_cond1 i = 1#1), ∀ a, (k0_off105 v6918) a + S1x1x512.size a ≤ S1x2048x512.size a := fun i v6918 k0_hw105 k0_h1 => k0_hw105 k0_h1

def k0_off106 (v6925 : BitVec 32) : Fin 3 → Nat :=
  let c0_4613 : Index := 0#32
  let v6926 : Index := Scalar.indexCast v6925
  let c0_4614 : Index := 0#32
  ![0, v6926.toNat, 0]

def k0_chk106 (i : grid0.Coords) (v6925 : BitVec 32) : Prop :=
  (∀ (k0_h1 : k0_cond1 i = 1#1), ∀ a, (k0_off106 v6925) a + S1x1x512.size a ≤ S1x2048x512.size a)
theorem k0_off106_inb : ∀ (i : grid0.Coords) (v6925 : BitVec 32) (k0_hw106 : k0_chk106 i v6925), ∀ (k0_h1 : k0_cond1 i = 1#1), ∀ a, (k0_off106 v6925) a + S1x1x512.size a ≤ S1x2048x512.size a := fun i v6925 k0_hw106 k0_h1 => k0_hw106 k0_h1

def k0_off107 (v6932 : BitVec 32) : Fin 3 → Nat :=
  let c0_4620 : Index := 0#32
  let v6933 : Index := Scalar.indexCast v6932
  let c0_4621 : Index := 0#32
  ![0, v6933.toNat, 0]

def k0_chk107 (i : grid0.Coords) (v6932 : BitVec 32) : Prop :=
  (∀ (k0_h1 : k0_cond1 i = 1#1), ∀ a, (k0_off107 v6932) a + S1x1x512.size a ≤ S1x2048x512.size a)
theorem k0_off107_inb : ∀ (i : grid0.Coords) (v6932 : BitVec 32) (k0_hw107 : k0_chk107 i v6932), ∀ (k0_h1 : k0_cond1 i = 1#1), ∀ a, (k0_off107 v6932) a + S1x1x512.size a ≤ S1x2048x512.size a := fun i v6932 k0_hw107 k0_h1 => k0_hw107 k0_h1

def k0_off108 (v6939 : BitVec 32) : Fin 3 → Nat :=
  let c0_4627 : Index := 0#32
  let v6940 : Index := Scalar.indexCast v6939
  let c0_4628 : Index := 0#32
  ![0, v6940.toNat, 0]

def k0_chk108 (i : grid0.Coords) (v6939 : BitVec 32) : Prop :=
  (∀ (k0_h1 : k0_cond1 i = 1#1), ∀ a, (k0_off108 v6939) a + S1x1x512.size a ≤ S1x2048x512.size a)
theorem k0_off108_inb : ∀ (i : grid0.Coords) (v6939 : BitVec 32) (k0_hw108 : k0_chk108 i v6939), ∀ (k0_h1 : k0_cond1 i = 1#1), ∀ a, (k0_off108 v6939) a + S1x1x512.size a ≤ S1x2048x512.size a := fun i v6939 k0_hw108 k0_h1 => k0_hw108 k0_h1

def k0_off109 (v6946 : BitVec 32) : Fin 3 → Nat :=
  let c0_4634 : Index := 0#32
  let v6947 : Index := Scalar.indexCast v6946
  let c0_4635 : Index := 0#32
  ![0, v6947.toNat, 0]

def k0_chk109 (i : grid0.Coords) (v6946 : BitVec 32) : Prop :=
  (∀ (k0_h1 : k0_cond1 i = 1#1), ∀ a, (k0_off109 v6946) a + S1x1x512.size a ≤ S1x2048x512.size a)
theorem k0_off109_inb : ∀ (i : grid0.Coords) (v6946 : BitVec 32) (k0_hw109 : k0_chk109 i v6946), ∀ (k0_h1 : k0_cond1 i = 1#1), ∀ a, (k0_off109 v6946) a + S1x1x512.size a ≤ S1x2048x512.size a := fun i v6946 k0_hw109 k0_h1 => k0_hw109 k0_h1

def k0_off110 (v6953 : BitVec 32) : Fin 3 → Nat :=
  let c0_4641 : Index := 0#32
  let v6954 : Index := Scalar.indexCast v6953
  let c0_4642 : Index := 0#32
  ![0, v6954.toNat, 0]

def k0_chk110 (i : grid0.Coords) (v6953 : BitVec 32) : Prop :=
  (∀ (k0_h1 : k0_cond1 i = 1#1), ∀ a, (k0_off110 v6953) a + S1x1x512.size a ≤ S1x2048x512.size a)
theorem k0_off110_inb : ∀ (i : grid0.Coords) (v6953 : BitVec 32) (k0_hw110 : k0_chk110 i v6953), ∀ (k0_h1 : k0_cond1 i = 1#1), ∀ a, (k0_off110 v6953) a + S1x1x512.size a ≤ S1x2048x512.size a := fun i v6953 k0_hw110 k0_h1 => k0_hw110 k0_h1

def k0_off111 (v6960 : BitVec 32) : Fin 3 → Nat :=
  let c0_4648 : Index := 0#32
  let v6961 : Index := Scalar.indexCast v6960
  let c0_4649 : Index := 0#32
  ![0, v6961.toNat, 0]

def k0_chk111 (i : grid0.Coords) (v6960 : BitVec 32) : Prop :=
  (∀ (k0_h1 : k0_cond1 i = 1#1), ∀ a, (k0_off111 v6960) a + S1x1x512.size a ≤ S1x2048x512.size a)
theorem k0_off111_inb : ∀ (i : grid0.Coords) (v6960 : BitVec 32) (k0_hw111 : k0_chk111 i v6960), ∀ (k0_h1 : k0_cond1 i = 1#1), ∀ a, (k0_off111 v6960) a + S1x1x512.size a ≤ S1x2048x512.size a := fun i v6960 k0_hw111 k0_h1 => k0_hw111 k0_h1

def k0_off112 (v6967 : BitVec 32) : Fin 3 → Nat :=
  let c0_4655 : Index := 0#32
  let v6968 : Index := Scalar.indexCast v6967
  let c0_4656 : Index := 0#32
  ![0, v6968.toNat, 0]

def k0_chk112 (i : grid0.Coords) (v6967 : BitVec 32) : Prop :=
  (∀ (k0_h1 : k0_cond1 i = 1#1), ∀ a, (k0_off112 v6967) a + S1x1x512.size a ≤ S1x2048x512.size a)
theorem k0_off112_inb : ∀ (i : grid0.Coords) (v6967 : BitVec 32) (k0_hw112 : k0_chk112 i v6967), ∀ (k0_h1 : k0_cond1 i = 1#1), ∀ a, (k0_off112 v6967) a + S1x1x512.size a ≤ S1x2048x512.size a := fun i v6967 k0_hw112 k0_h1 => k0_hw112 k0_h1

def k0_off113 (v6974 : BitVec 32) : Fin 3 → Nat :=
  let c0_4662 : Index := 0#32
  let v6975 : Index := Scalar.indexCast v6974
  let c0_4663 : Index := 0#32
  ![0, v6975.toNat, 0]

def k0_chk113 (i : grid0.Coords) (v6974 : BitVec 32) : Prop :=
  (∀ (k0_h1 : k0_cond1 i = 1#1), ∀ a, (k0_off113 v6974) a + S1x1x512.size a ≤ S1x2048x512.size a)
theorem k0_off113_inb : ∀ (i : grid0.Coords) (v6974 : BitVec 32) (k0_hw113 : k0_chk113 i v6974), ∀ (k0_h1 : k0_cond1 i = 1#1), ∀ a, (k0_off113 v6974) a + S1x1x512.size a ≤ S1x2048x512.size a := fun i v6974 k0_hw113 k0_h1 => k0_hw113 k0_h1

def k0_off114 (v6981 : BitVec 32) : Fin 3 → Nat :=
  let c0_4669 : Index := 0#32
  let v6982 : Index := Scalar.indexCast v6981
  let c0_4670 : Index := 0#32
  ![0, v6982.toNat, 0]

def k0_chk114 (i : grid0.Coords) (v6981 : BitVec 32) : Prop :=
  (∀ (k0_h1 : k0_cond1 i = 1#1), ∀ a, (k0_off114 v6981) a + S1x1x512.size a ≤ S1x2048x512.size a)
theorem k0_off114_inb : ∀ (i : grid0.Coords) (v6981 : BitVec 32) (k0_hw114 : k0_chk114 i v6981), ∀ (k0_h1 : k0_cond1 i = 1#1), ∀ a, (k0_off114 v6981) a + S1x1x512.size a ≤ S1x2048x512.size a := fun i v6981 k0_hw114 k0_h1 => k0_hw114 k0_h1

def k0_off115 (v6988 : BitVec 32) : Fin 3 → Nat :=
  let c0_4676 : Index := 0#32
  let v6989 : Index := Scalar.indexCast v6988
  let c0_4677 : Index := 0#32
  ![0, v6989.toNat, 0]

def k0_chk115 (i : grid0.Coords) (v6988 : BitVec 32) : Prop :=
  (∀ (k0_h1 : k0_cond1 i = 1#1), ∀ a, (k0_off115 v6988) a + S1x1x512.size a ≤ S1x2048x512.size a)
theorem k0_off115_inb : ∀ (i : grid0.Coords) (v6988 : BitVec 32) (k0_hw115 : k0_chk115 i v6988), ∀ (k0_h1 : k0_cond1 i = 1#1), ∀ a, (k0_off115 v6988) a + S1x1x512.size a ≤ S1x2048x512.size a := fun i v6988 k0_hw115 k0_h1 => k0_hw115 k0_h1

def k0_off116 (v6995 : BitVec 32) : Fin 3 → Nat :=
  let c0_4683 : Index := 0#32
  let v6996 : Index := Scalar.indexCast v6995
  let c0_4684 : Index := 0#32
  ![0, v6996.toNat, 0]

def k0_chk116 (i : grid0.Coords) (v6995 : BitVec 32) : Prop :=
  (∀ (k0_h1 : k0_cond1 i = 1#1), ∀ a, (k0_off116 v6995) a + S1x1x512.size a ≤ S1x2048x512.size a)
theorem k0_off116_inb : ∀ (i : grid0.Coords) (v6995 : BitVec 32) (k0_hw116 : k0_chk116 i v6995), ∀ (k0_h1 : k0_cond1 i = 1#1), ∀ a, (k0_off116 v6995) a + S1x1x512.size a ≤ S1x2048x512.size a := fun i v6995 k0_hw116 k0_h1 => k0_hw116 k0_h1

def k0_off117 (v7002 : BitVec 32) : Fin 3 → Nat :=
  let c0_4690 : Index := 0#32
  let v7003 : Index := Scalar.indexCast v7002
  let c0_4691 : Index := 0#32
  ![0, v7003.toNat, 0]

def k0_chk117 (i : grid0.Coords) (v7002 : BitVec 32) : Prop :=
  (∀ (k0_h1 : k0_cond1 i = 1#1), ∀ a, (k0_off117 v7002) a + S1x1x512.size a ≤ S1x2048x512.size a)
theorem k0_off117_inb : ∀ (i : grid0.Coords) (v7002 : BitVec 32) (k0_hw117 : k0_chk117 i v7002), ∀ (k0_h1 : k0_cond1 i = 1#1), ∀ a, (k0_off117 v7002) a + S1x1x512.size a ≤ S1x2048x512.size a := fun i v7002 k0_hw117 k0_h1 => k0_hw117 k0_h1

def k0_off118 (v7009 : BitVec 32) : Fin 3 → Nat :=
  let c0_4697 : Index := 0#32
  let v7010 : Index := Scalar.indexCast v7009
  let c0_4698 : Index := 0#32
  ![0, v7010.toNat, 0]

def k0_chk118 (i : grid0.Coords) (v7009 : BitVec 32) : Prop :=
  (∀ (k0_h1 : k0_cond1 i = 1#1), ∀ a, (k0_off118 v7009) a + S1x1x512.size a ≤ S1x2048x512.size a)
theorem k0_off118_inb : ∀ (i : grid0.Coords) (v7009 : BitVec 32) (k0_hw118 : k0_chk118 i v7009), ∀ (k0_h1 : k0_cond1 i = 1#1), ∀ a, (k0_off118 v7009) a + S1x1x512.size a ≤ S1x2048x512.size a := fun i v7009 k0_hw118 k0_h1 => k0_hw118 k0_h1

def k0_off119 (v7016 : BitVec 32) : Fin 3 → Nat :=
  let c0_4704 : Index := 0#32
  let v7017 : Index := Scalar.indexCast v7016
  let c0_4705 : Index := 0#32
  ![0, v7017.toNat, 0]

def k0_chk119 (i : grid0.Coords) (v7016 : BitVec 32) : Prop :=
  (∀ (k0_h1 : k0_cond1 i = 1#1), ∀ a, (k0_off119 v7016) a + S1x1x512.size a ≤ S1x2048x512.size a)
theorem k0_off119_inb : ∀ (i : grid0.Coords) (v7016 : BitVec 32) (k0_hw119 : k0_chk119 i v7016), ∀ (k0_h1 : k0_cond1 i = 1#1), ∀ a, (k0_off119 v7016) a + S1x1x512.size a ≤ S1x2048x512.size a := fun i v7016 k0_hw119 k0_h1 => k0_hw119 k0_h1

def k0_off120 (v7023 : BitVec 32) : Fin 3 → Nat :=
  let c0_4711 : Index := 0#32
  let v7024 : Index := Scalar.indexCast v7023
  let c0_4712 : Index := 0#32
  ![0, v7024.toNat, 0]

def k0_chk120 (i : grid0.Coords) (v7023 : BitVec 32) : Prop :=
  (∀ (k0_h1 : k0_cond1 i = 1#1), ∀ a, (k0_off120 v7023) a + S1x1x512.size a ≤ S1x2048x512.size a)
theorem k0_off120_inb : ∀ (i : grid0.Coords) (v7023 : BitVec 32) (k0_hw120 : k0_chk120 i v7023), ∀ (k0_h1 : k0_cond1 i = 1#1), ∀ a, (k0_off120 v7023) a + S1x1x512.size a ≤ S1x2048x512.size a := fun i v7023 k0_hw120 k0_h1 => k0_hw120 k0_h1

def k0_off121 (v7030 : BitVec 32) : Fin 3 → Nat :=
  let c0_4718 : Index := 0#32
  let v7031 : Index := Scalar.indexCast v7030
  let c0_4719 : Index := 0#32
  ![0, v7031.toNat, 0]

def k0_chk121 (i : grid0.Coords) (v7030 : BitVec 32) : Prop :=
  (∀ (k0_h1 : k0_cond1 i = 1#1), ∀ a, (k0_off121 v7030) a + S1x1x512.size a ≤ S1x2048x512.size a)
theorem k0_off121_inb : ∀ (i : grid0.Coords) (v7030 : BitVec 32) (k0_hw121 : k0_chk121 i v7030), ∀ (k0_h1 : k0_cond1 i = 1#1), ∀ a, (k0_off121 v7030) a + S1x1x512.size a ≤ S1x2048x512.size a := fun i v7030 k0_hw121 k0_h1 => k0_hw121 k0_h1

def k0_off122 (v7037 : BitVec 32) : Fin 3 → Nat :=
  let c0_4725 : Index := 0#32
  let v7038 : Index := Scalar.indexCast v7037
  let c0_4726 : Index := 0#32
  ![0, v7038.toNat, 0]

def k0_chk122 (i : grid0.Coords) (v7037 : BitVec 32) : Prop :=
  (∀ (k0_h1 : k0_cond1 i = 1#1), ∀ a, (k0_off122 v7037) a + S1x1x512.size a ≤ S1x2048x512.size a)
theorem k0_off122_inb : ∀ (i : grid0.Coords) (v7037 : BitVec 32) (k0_hw122 : k0_chk122 i v7037), ∀ (k0_h1 : k0_cond1 i = 1#1), ∀ a, (k0_off122 v7037) a + S1x1x512.size a ≤ S1x2048x512.size a := fun i v7037 k0_hw122 k0_h1 => k0_hw122 k0_h1

def k0_off123 (v7044 : BitVec 32) : Fin 3 → Nat :=
  let c0_4732 : Index := 0#32
  let v7045 : Index := Scalar.indexCast v7044
  let c0_4733 : Index := 0#32
  ![0, v7045.toNat, 0]

def k0_chk123 (i : grid0.Coords) (v7044 : BitVec 32) : Prop :=
  (∀ (k0_h1 : k0_cond1 i = 1#1), ∀ a, (k0_off123 v7044) a + S1x1x512.size a ≤ S1x2048x512.size a)
theorem k0_off123_inb : ∀ (i : grid0.Coords) (v7044 : BitVec 32) (k0_hw123 : k0_chk123 i v7044), ∀ (k0_h1 : k0_cond1 i = 1#1), ∀ a, (k0_off123 v7044) a + S1x1x512.size a ≤ S1x2048x512.size a := fun i v7044 k0_hw123 k0_h1 => k0_hw123 k0_h1

def k0_off124 (v7051 : BitVec 32) : Fin 3 → Nat :=
  let c0_4739 : Index := 0#32
  let v7052 : Index := Scalar.indexCast v7051
  let c0_4740 : Index := 0#32
  ![0, v7052.toNat, 0]

def k0_chk124 (i : grid0.Coords) (v7051 : BitVec 32) : Prop :=
  (∀ (k0_h1 : k0_cond1 i = 1#1), ∀ a, (k0_off124 v7051) a + S1x1x512.size a ≤ S1x2048x512.size a)
theorem k0_off124_inb : ∀ (i : grid0.Coords) (v7051 : BitVec 32) (k0_hw124 : k0_chk124 i v7051), ∀ (k0_h1 : k0_cond1 i = 1#1), ∀ a, (k0_off124 v7051) a + S1x1x512.size a ≤ S1x2048x512.size a := fun i v7051 k0_hw124 k0_h1 => k0_hw124 k0_h1

def k0_off125 (v7058 : BitVec 32) : Fin 3 → Nat :=
  let c0_4746 : Index := 0#32
  let v7059 : Index := Scalar.indexCast v7058
  let c0_4747 : Index := 0#32
  ![0, v7059.toNat, 0]

def k0_chk125 (i : grid0.Coords) (v7058 : BitVec 32) : Prop :=
  (∀ (k0_h1 : k0_cond1 i = 1#1), ∀ a, (k0_off125 v7058) a + S1x1x512.size a ≤ S1x2048x512.size a)
theorem k0_off125_inb : ∀ (i : grid0.Coords) (v7058 : BitVec 32) (k0_hw125 : k0_chk125 i v7058), ∀ (k0_h1 : k0_cond1 i = 1#1), ∀ a, (k0_off125 v7058) a + S1x1x512.size a ≤ S1x2048x512.size a := fun i v7058 k0_hw125 k0_h1 => k0_hw125 k0_h1

def k0_off126 (v7065 : BitVec 32) : Fin 3 → Nat :=
  let c0_4753 : Index := 0#32
  let v7066 : Index := Scalar.indexCast v7065
  let c0_4754 : Index := 0#32
  ![0, v7066.toNat, 0]

def k0_chk126 (i : grid0.Coords) (v7065 : BitVec 32) : Prop :=
  (∀ (k0_h1 : k0_cond1 i = 1#1), ∀ a, (k0_off126 v7065) a + S1x1x512.size a ≤ S1x2048x512.size a)
theorem k0_off126_inb : ∀ (i : grid0.Coords) (v7065 : BitVec 32) (k0_hw126 : k0_chk126 i v7065), ∀ (k0_h1 : k0_cond1 i = 1#1), ∀ a, (k0_off126 v7065) a + S1x1x512.size a ≤ S1x2048x512.size a := fun i v7065 k0_hw126 k0_h1 => k0_hw126 k0_h1

def k0_off127 (v7072 : BitVec 32) : Fin 3 → Nat :=
  let c0_4760 : Index := 0#32
  let v7073 : Index := Scalar.indexCast v7072
  let c0_4761 : Index := 0#32
  ![0, v7073.toNat, 0]

def k0_chk127 (i : grid0.Coords) (v7072 : BitVec 32) : Prop :=
  (∀ (k0_h1 : k0_cond1 i = 1#1), ∀ a, (k0_off127 v7072) a + S1x1x512.size a ≤ S1x2048x512.size a)
theorem k0_off127_inb : ∀ (i : grid0.Coords) (v7072 : BitVec 32) (k0_hw127 : k0_chk127 i v7072), ∀ (k0_h1 : k0_cond1 i = 1#1), ∀ a, (k0_off127 v7072) a + S1x1x512.size a ≤ S1x2048x512.size a := fun i v7072 k0_hw127 k0_h1 => k0_hw127 k0_h1

def k0_off128 (v7079 : BitVec 32) : Fin 3 → Nat :=
  let c0_4767 : Index := 0#32
  let v7080 : Index := Scalar.indexCast v7079
  let c0_4768 : Index := 0#32
  ![0, v7080.toNat, 0]

def k0_chk128 (i : grid0.Coords) (v7079 : BitVec 32) : Prop :=
  (∀ (k0_h1 : k0_cond1 i = 1#1), ∀ a, (k0_off128 v7079) a + S1x1x512.size a ≤ S1x2048x512.size a)
theorem k0_off128_inb : ∀ (i : grid0.Coords) (v7079 : BitVec 32) (k0_hw128 : k0_chk128 i v7079), ∀ (k0_h1 : k0_cond1 i = 1#1), ∀ a, (k0_off128 v7079) a + S1x1x512.size a ≤ S1x2048x512.size a := fun i v7079 k0_hw128 k0_h1 => k0_hw128 k0_h1

def k0_off129 (v7086 : BitVec 32) : Fin 3 → Nat :=
  let c0_4774 : Index := 0#32
  let v7087 : Index := Scalar.indexCast v7086
  let c0_4775 : Index := 0#32
  ![0, v7087.toNat, 0]

def k0_chk129 (i : grid0.Coords) (v7086 : BitVec 32) : Prop :=
  (∀ (k0_h1 : k0_cond1 i = 1#1), ∀ a, (k0_off129 v7086) a + S1x1x512.size a ≤ S1x2048x512.size a)
theorem k0_off129_inb : ∀ (i : grid0.Coords) (v7086 : BitVec 32) (k0_hw129 : k0_chk129 i v7086), ∀ (k0_h1 : k0_cond1 i = 1#1), ∀ a, (k0_off129 v7086) a + S1x1x512.size a ≤ S1x2048x512.size a := fun i v7086 k0_hw129 k0_h1 => k0_hw129 k0_h1

def k0_off130 (v7093 : BitVec 32) : Fin 3 → Nat :=
  let c0_4781 : Index := 0#32
  let v7094 : Index := Scalar.indexCast v7093
  let c0_4782 : Index := 0#32
  ![0, v7094.toNat, 0]

def k0_chk130 (i : grid0.Coords) (v7093 : BitVec 32) : Prop :=
  (∀ (k0_h1 : k0_cond1 i = 1#1), ∀ a, (k0_off130 v7093) a + S1x1x512.size a ≤ S1x2048x512.size a)
theorem k0_off130_inb : ∀ (i : grid0.Coords) (v7093 : BitVec 32) (k0_hw130 : k0_chk130 i v7093), ∀ (k0_h1 : k0_cond1 i = 1#1), ∀ a, (k0_off130 v7093) a + S1x1x512.size a ≤ S1x2048x512.size a := fun i v7093 k0_hw130 k0_h1 => k0_hw130 k0_h1

def k0_off131 (v7100 : BitVec 32) : Fin 3 → Nat :=
  let c0_4788 : Index := 0#32
  let v7101 : Index := Scalar.indexCast v7100
  let c0_4789 : Index := 0#32
  ![0, v7101.toNat, 0]

def k0_chk131 (i : grid0.Coords) (v7100 : BitVec 32) : Prop :=
  (∀ (k0_h1 : k0_cond1 i = 1#1), ∀ a, (k0_off131 v7100) a + S1x1x512.size a ≤ S1x2048x512.size a)
theorem k0_off131_inb : ∀ (i : grid0.Coords) (v7100 : BitVec 32) (k0_hw131 : k0_chk131 i v7100), ∀ (k0_h1 : k0_cond1 i = 1#1), ∀ a, (k0_off131 v7100) a + S1x1x512.size a ≤ S1x2048x512.size a := fun i v7100 k0_hw131 k0_h1 => k0_hw131 k0_h1

def k0_off132 (v7107 : BitVec 32) : Fin 3 → Nat :=
  let c0_4795 : Index := 0#32
  let v7108 : Index := Scalar.indexCast v7107
  let c0_4796 : Index := 0#32
  ![0, v7108.toNat, 0]

def k0_chk132 (i : grid0.Coords) (v7107 : BitVec 32) : Prop :=
  (∀ (k0_h1 : k0_cond1 i = 1#1), ∀ a, (k0_off132 v7107) a + S1x1x512.size a ≤ S1x2048x512.size a)
theorem k0_off132_inb : ∀ (i : grid0.Coords) (v7107 : BitVec 32) (k0_hw132 : k0_chk132 i v7107), ∀ (k0_h1 : k0_cond1 i = 1#1), ∀ a, (k0_off132 v7107) a + S1x1x512.size a ≤ S1x2048x512.size a := fun i v7107 k0_hw132 k0_h1 => k0_hw132 k0_h1

def k0_off133 (v7114 : BitVec 32) : Fin 3 → Nat :=
  let c0_4802 : Index := 0#32
  let v7115 : Index := Scalar.indexCast v7114
  let c0_4803 : Index := 0#32
  ![0, v7115.toNat, 0]

def k0_chk133 (i : grid0.Coords) (v7114 : BitVec 32) : Prop :=
  (∀ (k0_h1 : k0_cond1 i = 1#1), ∀ a, (k0_off133 v7114) a + S1x1x512.size a ≤ S1x2048x512.size a)
theorem k0_off133_inb : ∀ (i : grid0.Coords) (v7114 : BitVec 32) (k0_hw133 : k0_chk133 i v7114), ∀ (k0_h1 : k0_cond1 i = 1#1), ∀ a, (k0_off133 v7114) a + S1x1x512.size a ≤ S1x2048x512.size a := fun i v7114 k0_hw133 k0_h1 => k0_hw133 k0_h1

def k0_off134 (v7121 : BitVec 32) : Fin 3 → Nat :=
  let c0_4809 : Index := 0#32
  let v7122 : Index := Scalar.indexCast v7121
  let c0_4810 : Index := 0#32
  ![0, v7122.toNat, 0]

def k0_chk134 (i : grid0.Coords) (v7121 : BitVec 32) : Prop :=
  (∀ (k0_h1 : k0_cond1 i = 1#1), ∀ a, (k0_off134 v7121) a + S1x1x512.size a ≤ S1x2048x512.size a)
theorem k0_off134_inb : ∀ (i : grid0.Coords) (v7121 : BitVec 32) (k0_hw134 : k0_chk134 i v7121), ∀ (k0_h1 : k0_cond1 i = 1#1), ∀ a, (k0_off134 v7121) a + S1x1x512.size a ≤ S1x2048x512.size a := fun i v7121 k0_hw134 k0_h1 => k0_hw134 k0_h1

def k0_off135 (v7128 : BitVec 32) : Fin 3 → Nat :=
  let c0_4816 : Index := 0#32
  let v7129 : Index := Scalar.indexCast v7128
  let c0_4817 : Index := 0#32
  ![0, v7129.toNat, 0]

def k0_chk135 (i : grid0.Coords) (v7128 : BitVec 32) : Prop :=
  (∀ (k0_h1 : k0_cond1 i = 1#1), ∀ a, (k0_off135 v7128) a + S1x1x512.size a ≤ S1x2048x512.size a)
theorem k0_off135_inb : ∀ (i : grid0.Coords) (v7128 : BitVec 32) (k0_hw135 : k0_chk135 i v7128), ∀ (k0_h1 : k0_cond1 i = 1#1), ∀ a, (k0_off135 v7128) a + S1x1x512.size a ≤ S1x2048x512.size a := fun i v7128 k0_hw135 k0_h1 => k0_hw135 k0_h1

def k0_off136 (v7135 : BitVec 32) : Fin 3 → Nat :=
  let c0_4823 : Index := 0#32
  let v7136 : Index := Scalar.indexCast v7135
  let c0_4824 : Index := 0#32
  ![0, v7136.toNat, 0]

def k0_chk136 (i : grid0.Coords) (v7135 : BitVec 32) : Prop :=
  (∀ (k0_h1 : k0_cond1 i = 1#1), ∀ a, (k0_off136 v7135) a + S1x1x512.size a ≤ S1x2048x512.size a)
theorem k0_off136_inb : ∀ (i : grid0.Coords) (v7135 : BitVec 32) (k0_hw136 : k0_chk136 i v7135), ∀ (k0_h1 : k0_cond1 i = 1#1), ∀ a, (k0_off136 v7135) a + S1x1x512.size a ≤ S1x2048x512.size a := fun i v7135 k0_hw136 k0_h1 => k0_hw136 k0_h1

def k0_off137 (v7142 : BitVec 32) : Fin 3 → Nat :=
  let c0_4830 : Index := 0#32
  let v7143 : Index := Scalar.indexCast v7142
  let c0_4831 : Index := 0#32
  ![0, v7143.toNat, 0]

def k0_chk137 (i : grid0.Coords) (v7142 : BitVec 32) : Prop :=
  (∀ (k0_h1 : k0_cond1 i = 1#1), ∀ a, (k0_off137 v7142) a + S1x1x512.size a ≤ S1x2048x512.size a)
theorem k0_off137_inb : ∀ (i : grid0.Coords) (v7142 : BitVec 32) (k0_hw137 : k0_chk137 i v7142), ∀ (k0_h1 : k0_cond1 i = 1#1), ∀ a, (k0_off137 v7142) a + S1x1x512.size a ≤ S1x2048x512.size a := fun i v7142 k0_hw137 k0_h1 => k0_hw137 k0_h1

def k0_off138 (v7149 : BitVec 32) : Fin 3 → Nat :=
  let c0_4837 : Index := 0#32
  let v7150 : Index := Scalar.indexCast v7149
  let c0_4838 : Index := 0#32
  ![0, v7150.toNat, 0]

def k0_chk138 (i : grid0.Coords) (v7149 : BitVec 32) : Prop :=
  (∀ (k0_h1 : k0_cond1 i = 1#1), ∀ a, (k0_off138 v7149) a + S1x1x512.size a ≤ S1x2048x512.size a)
theorem k0_off138_inb : ∀ (i : grid0.Coords) (v7149 : BitVec 32) (k0_hw138 : k0_chk138 i v7149), ∀ (k0_h1 : k0_cond1 i = 1#1), ∀ a, (k0_off138 v7149) a + S1x1x512.size a ≤ S1x2048x512.size a := fun i v7149 k0_hw138 k0_h1 => k0_hw138 k0_h1

def k0_off139 (v7156 : BitVec 32) : Fin 3 → Nat :=
  let c0_4844 : Index := 0#32
  let v7157 : Index := Scalar.indexCast v7156
  let c0_4845 : Index := 0#32
  ![0, v7157.toNat, 0]

def k0_chk139 (i : grid0.Coords) (v7156 : BitVec 32) : Prop :=
  (∀ (k0_h1 : k0_cond1 i = 1#1), ∀ a, (k0_off139 v7156) a + S1x1x512.size a ≤ S1x2048x512.size a)
theorem k0_off139_inb : ∀ (i : grid0.Coords) (v7156 : BitVec 32) (k0_hw139 : k0_chk139 i v7156), ∀ (k0_h1 : k0_cond1 i = 1#1), ∀ a, (k0_off139 v7156) a + S1x1x512.size a ≤ S1x2048x512.size a := fun i v7156 k0_hw139 k0_h1 => k0_hw139 k0_h1

def k0_off140 (v7163 : BitVec 32) : Fin 3 → Nat :=
  let c0_4851 : Index := 0#32
  let v7164 : Index := Scalar.indexCast v7163
  let c0_4852 : Index := 0#32
  ![0, v7164.toNat, 0]

def k0_chk140 (i : grid0.Coords) (v7163 : BitVec 32) : Prop :=
  (∀ (k0_h1 : k0_cond1 i = 1#1), ∀ a, (k0_off140 v7163) a + S1x1x512.size a ≤ S1x2048x512.size a)
theorem k0_off140_inb : ∀ (i : grid0.Coords) (v7163 : BitVec 32) (k0_hw140 : k0_chk140 i v7163), ∀ (k0_h1 : k0_cond1 i = 1#1), ∀ a, (k0_off140 v7163) a + S1x1x512.size a ≤ S1x2048x512.size a := fun i v7163 k0_hw140 k0_h1 => k0_hw140 k0_h1

def k0_off141 (v7170 : BitVec 32) : Fin 3 → Nat :=
  let c0_4858 : Index := 0#32
  let v7171 : Index := Scalar.indexCast v7170
  let c0_4859 : Index := 0#32
  ![0, v7171.toNat, 0]

def k0_chk141 (i : grid0.Coords) (v7170 : BitVec 32) : Prop :=
  (∀ (k0_h1 : k0_cond1 i = 1#1), ∀ a, (k0_off141 v7170) a + S1x1x512.size a ≤ S1x2048x512.size a)
theorem k0_off141_inb : ∀ (i : grid0.Coords) (v7170 : BitVec 32) (k0_hw141 : k0_chk141 i v7170), ∀ (k0_h1 : k0_cond1 i = 1#1), ∀ a, (k0_off141 v7170) a + S1x1x512.size a ≤ S1x2048x512.size a := fun i v7170 k0_hw141 k0_h1 => k0_hw141 k0_h1

def k0_off142 (v7177 : BitVec 32) : Fin 3 → Nat :=
  let c0_4865 : Index := 0#32
  let v7178 : Index := Scalar.indexCast v7177
  let c0_4866 : Index := 0#32
  ![0, v7178.toNat, 0]

def k0_chk142 (i : grid0.Coords) (v7177 : BitVec 32) : Prop :=
  (∀ (k0_h1 : k0_cond1 i = 1#1), ∀ a, (k0_off142 v7177) a + S1x1x512.size a ≤ S1x2048x512.size a)
theorem k0_off142_inb : ∀ (i : grid0.Coords) (v7177 : BitVec 32) (k0_hw142 : k0_chk142 i v7177), ∀ (k0_h1 : k0_cond1 i = 1#1), ∀ a, (k0_off142 v7177) a + S1x1x512.size a ≤ S1x2048x512.size a := fun i v7177 k0_hw142 k0_h1 => k0_hw142 k0_h1

def k0_off143 (v7184 : BitVec 32) : Fin 3 → Nat :=
  let c0_4872 : Index := 0#32
  let v7185 : Index := Scalar.indexCast v7184
  let c0_4873 : Index := 0#32
  ![0, v7185.toNat, 0]

def k0_chk143 (i : grid0.Coords) (v7184 : BitVec 32) : Prop :=
  (∀ (k0_h1 : k0_cond1 i = 1#1), ∀ a, (k0_off143 v7184) a + S1x1x512.size a ≤ S1x2048x512.size a)
theorem k0_off143_inb : ∀ (i : grid0.Coords) (v7184 : BitVec 32) (k0_hw143 : k0_chk143 i v7184), ∀ (k0_h1 : k0_cond1 i = 1#1), ∀ a, (k0_off143 v7184) a + S1x1x512.size a ≤ S1x2048x512.size a := fun i v7184 k0_hw143 k0_h1 => k0_hw143 k0_h1

def k0_off144 (v7191 : BitVec 32) : Fin 3 → Nat :=
  let c0_4879 : Index := 0#32
  let v7192 : Index := Scalar.indexCast v7191
  let c0_4880 : Index := 0#32
  ![0, v7192.toNat, 0]

def k0_chk144 (i : grid0.Coords) (v7191 : BitVec 32) : Prop :=
  (∀ (k0_h1 : k0_cond1 i = 1#1), ∀ a, (k0_off144 v7191) a + S1x1x512.size a ≤ S1x2048x512.size a)
theorem k0_off144_inb : ∀ (i : grid0.Coords) (v7191 : BitVec 32) (k0_hw144 : k0_chk144 i v7191), ∀ (k0_h1 : k0_cond1 i = 1#1), ∀ a, (k0_off144 v7191) a + S1x1x512.size a ≤ S1x2048x512.size a := fun i v7191 k0_hw144 k0_h1 => k0_hw144 k0_h1

def k0_off145 (v7198 : BitVec 32) : Fin 3 → Nat :=
  let c0_4886 : Index := 0#32
  let v7199 : Index := Scalar.indexCast v7198
  let c0_4887 : Index := 0#32
  ![0, v7199.toNat, 0]

def k0_chk145 (i : grid0.Coords) (v7198 : BitVec 32) : Prop :=
  (∀ (k0_h1 : k0_cond1 i = 1#1), ∀ a, (k0_off145 v7198) a + S1x1x512.size a ≤ S1x2048x512.size a)
theorem k0_off145_inb : ∀ (i : grid0.Coords) (v7198 : BitVec 32) (k0_hw145 : k0_chk145 i v7198), ∀ (k0_h1 : k0_cond1 i = 1#1), ∀ a, (k0_off145 v7198) a + S1x1x512.size a ≤ S1x2048x512.size a := fun i v7198 k0_hw145 k0_h1 => k0_hw145 k0_h1

def k0_off146 (v7205 : BitVec 32) : Fin 3 → Nat :=
  let c0_4893 : Index := 0#32
  let v7206 : Index := Scalar.indexCast v7205
  let c0_4894 : Index := 0#32
  ![0, v7206.toNat, 0]

def k0_chk146 (i : grid0.Coords) (v7205 : BitVec 32) : Prop :=
  (∀ (k0_h1 : k0_cond1 i = 1#1), ∀ a, (k0_off146 v7205) a + S1x1x512.size a ≤ S1x2048x512.size a)
theorem k0_off146_inb : ∀ (i : grid0.Coords) (v7205 : BitVec 32) (k0_hw146 : k0_chk146 i v7205), ∀ (k0_h1 : k0_cond1 i = 1#1), ∀ a, (k0_off146 v7205) a + S1x1x512.size a ≤ S1x2048x512.size a := fun i v7205 k0_hw146 k0_h1 => k0_hw146 k0_h1

def k0_off147 (v7212 : BitVec 32) : Fin 3 → Nat :=
  let c0_4900 : Index := 0#32
  let v7213 : Index := Scalar.indexCast v7212
  let c0_4901 : Index := 0#32
  ![0, v7213.toNat, 0]

def k0_chk147 (i : grid0.Coords) (v7212 : BitVec 32) : Prop :=
  (∀ (k0_h1 : k0_cond1 i = 1#1), ∀ a, (k0_off147 v7212) a + S1x1x512.size a ≤ S1x2048x512.size a)
theorem k0_off147_inb : ∀ (i : grid0.Coords) (v7212 : BitVec 32) (k0_hw147 : k0_chk147 i v7212), ∀ (k0_h1 : k0_cond1 i = 1#1), ∀ a, (k0_off147 v7212) a + S1x1x512.size a ≤ S1x2048x512.size a := fun i v7212 k0_hw147 k0_h1 => k0_hw147 k0_h1

def k0_off148 (v7219 : BitVec 32) : Fin 3 → Nat :=
  let c0_4907 : Index := 0#32
  let v7220 : Index := Scalar.indexCast v7219
  let c0_4908 : Index := 0#32
  ![0, v7220.toNat, 0]

def k0_chk148 (i : grid0.Coords) (v7219 : BitVec 32) : Prop :=
  (∀ (k0_h1 : k0_cond1 i = 1#1), ∀ a, (k0_off148 v7219) a + S1x1x512.size a ≤ S1x2048x512.size a)
theorem k0_off148_inb : ∀ (i : grid0.Coords) (v7219 : BitVec 32) (k0_hw148 : k0_chk148 i v7219), ∀ (k0_h1 : k0_cond1 i = 1#1), ∀ a, (k0_off148 v7219) a + S1x1x512.size a ≤ S1x2048x512.size a := fun i v7219 k0_hw148 k0_h1 => k0_hw148 k0_h1

def k0_off149 (v7226 : BitVec 32) : Fin 3 → Nat :=
  let c0_4914 : Index := 0#32
  let v7227 : Index := Scalar.indexCast v7226
  let c0_4915 : Index := 0#32
  ![0, v7227.toNat, 0]

def k0_chk149 (i : grid0.Coords) (v7226 : BitVec 32) : Prop :=
  (∀ (k0_h1 : k0_cond1 i = 1#1), ∀ a, (k0_off149 v7226) a + S1x1x512.size a ≤ S1x2048x512.size a)
theorem k0_off149_inb : ∀ (i : grid0.Coords) (v7226 : BitVec 32) (k0_hw149 : k0_chk149 i v7226), ∀ (k0_h1 : k0_cond1 i = 1#1), ∀ a, (k0_off149 v7226) a + S1x1x512.size a ≤ S1x2048x512.size a := fun i v7226 k0_hw149 k0_h1 => k0_hw149 k0_h1

def k0_off150 (v7233 : BitVec 32) : Fin 3 → Nat :=
  let c0_4921 : Index := 0#32
  let v7234 : Index := Scalar.indexCast v7233
  let c0_4922 : Index := 0#32
  ![0, v7234.toNat, 0]

def k0_chk150 (i : grid0.Coords) (v7233 : BitVec 32) : Prop :=
  (∀ (k0_h1 : k0_cond1 i = 1#1), ∀ a, (k0_off150 v7233) a + S1x1x512.size a ≤ S1x2048x512.size a)
theorem k0_off150_inb : ∀ (i : grid0.Coords) (v7233 : BitVec 32) (k0_hw150 : k0_chk150 i v7233), ∀ (k0_h1 : k0_cond1 i = 1#1), ∀ a, (k0_off150 v7233) a + S1x1x512.size a ≤ S1x2048x512.size a := fun i v7233 k0_hw150 k0_h1 => k0_hw150 k0_h1

def k0_off151 (v7240 : BitVec 32) : Fin 3 → Nat :=
  let c0_4928 : Index := 0#32
  let v7241 : Index := Scalar.indexCast v7240
  let c0_4929 : Index := 0#32
  ![0, v7241.toNat, 0]

def k0_chk151 (i : grid0.Coords) (v7240 : BitVec 32) : Prop :=
  (∀ (k0_h1 : k0_cond1 i = 1#1), ∀ a, (k0_off151 v7240) a + S1x1x512.size a ≤ S1x2048x512.size a)
theorem k0_off151_inb : ∀ (i : grid0.Coords) (v7240 : BitVec 32) (k0_hw151 : k0_chk151 i v7240), ∀ (k0_h1 : k0_cond1 i = 1#1), ∀ a, (k0_off151 v7240) a + S1x1x512.size a ≤ S1x2048x512.size a := fun i v7240 k0_hw151 k0_h1 => k0_hw151 k0_h1

def k0_off152 (v7247 : BitVec 32) : Fin 3 → Nat :=
  let c0_4935 : Index := 0#32
  let v7248 : Index := Scalar.indexCast v7247
  let c0_4936 : Index := 0#32
  ![0, v7248.toNat, 0]

def k0_chk152 (i : grid0.Coords) (v7247 : BitVec 32) : Prop :=
  (∀ (k0_h1 : k0_cond1 i = 1#1), ∀ a, (k0_off152 v7247) a + S1x1x512.size a ≤ S1x2048x512.size a)
theorem k0_off152_inb : ∀ (i : grid0.Coords) (v7247 : BitVec 32) (k0_hw152 : k0_chk152 i v7247), ∀ (k0_h1 : k0_cond1 i = 1#1), ∀ a, (k0_off152 v7247) a + S1x1x512.size a ≤ S1x2048x512.size a := fun i v7247 k0_hw152 k0_h1 => k0_hw152 k0_h1

def k0_off153 (v7254 : BitVec 32) : Fin 3 → Nat :=
  let c0_4942 : Index := 0#32
  let v7255 : Index := Scalar.indexCast v7254
  let c0_4943 : Index := 0#32
  ![0, v7255.toNat, 0]

def k0_chk153 (i : grid0.Coords) (v7254 : BitVec 32) : Prop :=
  (∀ (k0_h1 : k0_cond1 i = 1#1), ∀ a, (k0_off153 v7254) a + S1x1x512.size a ≤ S1x2048x512.size a)
theorem k0_off153_inb : ∀ (i : grid0.Coords) (v7254 : BitVec 32) (k0_hw153 : k0_chk153 i v7254), ∀ (k0_h1 : k0_cond1 i = 1#1), ∀ a, (k0_off153 v7254) a + S1x1x512.size a ≤ S1x2048x512.size a := fun i v7254 k0_hw153 k0_h1 => k0_hw153 k0_h1

def k0_off154 (v7261 : BitVec 32) : Fin 3 → Nat :=
  let c0_4949 : Index := 0#32
  let v7262 : Index := Scalar.indexCast v7261
  let c0_4950 : Index := 0#32
  ![0, v7262.toNat, 0]

def k0_chk154 (i : grid0.Coords) (v7261 : BitVec 32) : Prop :=
  (∀ (k0_h1 : k0_cond1 i = 1#1), ∀ a, (k0_off154 v7261) a + S1x1x512.size a ≤ S1x2048x512.size a)
theorem k0_off154_inb : ∀ (i : grid0.Coords) (v7261 : BitVec 32) (k0_hw154 : k0_chk154 i v7261), ∀ (k0_h1 : k0_cond1 i = 1#1), ∀ a, (k0_off154 v7261) a + S1x1x512.size a ≤ S1x2048x512.size a := fun i v7261 k0_hw154 k0_h1 => k0_hw154 k0_h1

def k0_off155 (v7268 : BitVec 32) : Fin 3 → Nat :=
  let c0_4956 : Index := 0#32
  let v7269 : Index := Scalar.indexCast v7268
  let c0_4957 : Index := 0#32
  ![0, v7269.toNat, 0]

def k0_chk155 (i : grid0.Coords) (v7268 : BitVec 32) : Prop :=
  (∀ (k0_h1 : k0_cond1 i = 1#1), ∀ a, (k0_off155 v7268) a + S1x1x512.size a ≤ S1x2048x512.size a)
theorem k0_off155_inb : ∀ (i : grid0.Coords) (v7268 : BitVec 32) (k0_hw155 : k0_chk155 i v7268), ∀ (k0_h1 : k0_cond1 i = 1#1), ∀ a, (k0_off155 v7268) a + S1x1x512.size a ≤ S1x2048x512.size a := fun i v7268 k0_hw155 k0_h1 => k0_hw155 k0_h1

def k0_off156 (v7275 : BitVec 32) : Fin 3 → Nat :=
  let c0_4963 : Index := 0#32
  let v7276 : Index := Scalar.indexCast v7275
  let c0_4964 : Index := 0#32
  ![0, v7276.toNat, 0]

def k0_chk156 (i : grid0.Coords) (v7275 : BitVec 32) : Prop :=
  (∀ (k0_h1 : k0_cond1 i = 1#1), ∀ a, (k0_off156 v7275) a + S1x1x512.size a ≤ S1x2048x512.size a)
theorem k0_off156_inb : ∀ (i : grid0.Coords) (v7275 : BitVec 32) (k0_hw156 : k0_chk156 i v7275), ∀ (k0_h1 : k0_cond1 i = 1#1), ∀ a, (k0_off156 v7275) a + S1x1x512.size a ≤ S1x2048x512.size a := fun i v7275 k0_hw156 k0_h1 => k0_hw156 k0_h1

def k0_off157 (v7282 : BitVec 32) : Fin 3 → Nat :=
  let c0_4970 : Index := 0#32
  let v7283 : Index := Scalar.indexCast v7282
  let c0_4971 : Index := 0#32
  ![0, v7283.toNat, 0]

def k0_chk157 (i : grid0.Coords) (v7282 : BitVec 32) : Prop :=
  (∀ (k0_h1 : k0_cond1 i = 1#1), ∀ a, (k0_off157 v7282) a + S1x1x512.size a ≤ S1x2048x512.size a)
theorem k0_off157_inb : ∀ (i : grid0.Coords) (v7282 : BitVec 32) (k0_hw157 : k0_chk157 i v7282), ∀ (k0_h1 : k0_cond1 i = 1#1), ∀ a, (k0_off157 v7282) a + S1x1x512.size a ≤ S1x2048x512.size a := fun i v7282 k0_hw157 k0_h1 => k0_hw157 k0_h1

def k0_off158 (v7289 : BitVec 32) : Fin 3 → Nat :=
  let c0_4977 : Index := 0#32
  let v7290 : Index := Scalar.indexCast v7289
  let c0_4978 : Index := 0#32
  ![0, v7290.toNat, 0]

def k0_chk158 (i : grid0.Coords) (v7289 : BitVec 32) : Prop :=
  (∀ (k0_h1 : k0_cond1 i = 1#1), ∀ a, (k0_off158 v7289) a + S1x1x512.size a ≤ S1x2048x512.size a)
theorem k0_off158_inb : ∀ (i : grid0.Coords) (v7289 : BitVec 32) (k0_hw158 : k0_chk158 i v7289), ∀ (k0_h1 : k0_cond1 i = 1#1), ∀ a, (k0_off158 v7289) a + S1x1x512.size a ≤ S1x2048x512.size a := fun i v7289 k0_hw158 k0_h1 => k0_hw158 k0_h1

def k0_off159 (v7296 : BitVec 32) : Fin 3 → Nat :=
  let c0_4984 : Index := 0#32
  let v7297 : Index := Scalar.indexCast v7296
  let c0_4985 : Index := 0#32
  ![0, v7297.toNat, 0]

def k0_chk159 (i : grid0.Coords) (v7296 : BitVec 32) : Prop :=
  (∀ (k0_h1 : k0_cond1 i = 1#1), ∀ a, (k0_off159 v7296) a + S1x1x512.size a ≤ S1x2048x512.size a)
theorem k0_off159_inb : ∀ (i : grid0.Coords) (v7296 : BitVec 32) (k0_hw159 : k0_chk159 i v7296), ∀ (k0_h1 : k0_cond1 i = 1#1), ∀ a, (k0_off159 v7296) a + S1x1x512.size a ≤ S1x2048x512.size a := fun i v7296 k0_hw159 k0_h1 => k0_hw159 k0_h1

def k0_off160 (v7303 : BitVec 32) : Fin 3 → Nat :=
  let c0_4991 : Index := 0#32
  let v7304 : Index := Scalar.indexCast v7303
  let c0_4992 : Index := 0#32
  ![0, v7304.toNat, 0]

def k0_chk160 (i : grid0.Coords) (v7303 : BitVec 32) : Prop :=
  (∀ (k0_h1 : k0_cond1 i = 1#1), ∀ a, (k0_off160 v7303) a + S1x1x512.size a ≤ S1x2048x512.size a)
theorem k0_off160_inb : ∀ (i : grid0.Coords) (v7303 : BitVec 32) (k0_hw160 : k0_chk160 i v7303), ∀ (k0_h1 : k0_cond1 i = 1#1), ∀ a, (k0_off160 v7303) a + S1x1x512.size a ≤ S1x2048x512.size a := fun i v7303 k0_hw160 k0_h1 => k0_hw160 k0_h1

def k0_off161 (v7310 : BitVec 32) : Fin 3 → Nat :=
  let c0_4998 : Index := 0#32
  let v7311 : Index := Scalar.indexCast v7310
  let c0_4999 : Index := 0#32
  ![0, v7311.toNat, 0]

def k0_chk161 (i : grid0.Coords) (v7310 : BitVec 32) : Prop :=
  (∀ (k0_h1 : k0_cond1 i = 1#1), ∀ a, (k0_off161 v7310) a + S1x1x512.size a ≤ S1x2048x512.size a)
theorem k0_off161_inb : ∀ (i : grid0.Coords) (v7310 : BitVec 32) (k0_hw161 : k0_chk161 i v7310), ∀ (k0_h1 : k0_cond1 i = 1#1), ∀ a, (k0_off161 v7310) a + S1x1x512.size a ≤ S1x2048x512.size a := fun i v7310 k0_hw161 k0_h1 => k0_hw161 k0_h1

def k0_off162 (v7317 : BitVec 32) : Fin 3 → Nat :=
  let c0_5005 : Index := 0#32
  let v7318 : Index := Scalar.indexCast v7317
  let c0_5006 : Index := 0#32
  ![0, v7318.toNat, 0]

def k0_chk162 (i : grid0.Coords) (v7317 : BitVec 32) : Prop :=
  (∀ (k0_h1 : k0_cond1 i = 1#1), ∀ a, (k0_off162 v7317) a + S1x1x512.size a ≤ S1x2048x512.size a)
theorem k0_off162_inb : ∀ (i : grid0.Coords) (v7317 : BitVec 32) (k0_hw162 : k0_chk162 i v7317), ∀ (k0_h1 : k0_cond1 i = 1#1), ∀ a, (k0_off162 v7317) a + S1x1x512.size a ≤ S1x2048x512.size a := fun i v7317 k0_hw162 k0_h1 => k0_hw162 k0_h1

def k0_off163 (v7324 : BitVec 32) : Fin 3 → Nat :=
  let c0_5012 : Index := 0#32
  let v7325 : Index := Scalar.indexCast v7324
  let c0_5013 : Index := 0#32
  ![0, v7325.toNat, 0]

def k0_chk163 (i : grid0.Coords) (v7324 : BitVec 32) : Prop :=
  (∀ (k0_h1 : k0_cond1 i = 1#1), ∀ a, (k0_off163 v7324) a + S1x1x512.size a ≤ S1x2048x512.size a)
theorem k0_off163_inb : ∀ (i : grid0.Coords) (v7324 : BitVec 32) (k0_hw163 : k0_chk163 i v7324), ∀ (k0_h1 : k0_cond1 i = 1#1), ∀ a, (k0_off163 v7324) a + S1x1x512.size a ≤ S1x2048x512.size a := fun i v7324 k0_hw163 k0_h1 => k0_hw163 k0_h1

def k0_off164 (v7331 : BitVec 32) : Fin 3 → Nat :=
  let c0_5019 : Index := 0#32
  let v7332 : Index := Scalar.indexCast v7331
  let c0_5020 : Index := 0#32
  ![0, v7332.toNat, 0]

def k0_chk164 (i : grid0.Coords) (v7331 : BitVec 32) : Prop :=
  (∀ (k0_h1 : k0_cond1 i = 1#1), ∀ a, (k0_off164 v7331) a + S1x1x512.size a ≤ S1x2048x512.size a)
theorem k0_off164_inb : ∀ (i : grid0.Coords) (v7331 : BitVec 32) (k0_hw164 : k0_chk164 i v7331), ∀ (k0_h1 : k0_cond1 i = 1#1), ∀ a, (k0_off164 v7331) a + S1x1x512.size a ≤ S1x2048x512.size a := fun i v7331 k0_hw164 k0_h1 => k0_hw164 k0_h1

def k0_off165 (v7338 : BitVec 32) : Fin 3 → Nat :=
  let c0_5026 : Index := 0#32
  let v7339 : Index := Scalar.indexCast v7338
  let c0_5027 : Index := 0#32
  ![0, v7339.toNat, 0]

def k0_chk165 (i : grid0.Coords) (v7338 : BitVec 32) : Prop :=
  (∀ (k0_h1 : k0_cond1 i = 1#1), ∀ a, (k0_off165 v7338) a + S1x1x512.size a ≤ S1x2048x512.size a)
theorem k0_off165_inb : ∀ (i : grid0.Coords) (v7338 : BitVec 32) (k0_hw165 : k0_chk165 i v7338), ∀ (k0_h1 : k0_cond1 i = 1#1), ∀ a, (k0_off165 v7338) a + S1x1x512.size a ≤ S1x2048x512.size a := fun i v7338 k0_hw165 k0_h1 => k0_hw165 k0_h1

def k0_off166 (v7345 : BitVec 32) : Fin 3 → Nat :=
  let c0_5033 : Index := 0#32
  let v7346 : Index := Scalar.indexCast v7345
  let c0_5034 : Index := 0#32
  ![0, v7346.toNat, 0]

def k0_chk166 (i : grid0.Coords) (v7345 : BitVec 32) : Prop :=
  (∀ (k0_h1 : k0_cond1 i = 1#1), ∀ a, (k0_off166 v7345) a + S1x1x512.size a ≤ S1x2048x512.size a)
theorem k0_off166_inb : ∀ (i : grid0.Coords) (v7345 : BitVec 32) (k0_hw166 : k0_chk166 i v7345), ∀ (k0_h1 : k0_cond1 i = 1#1), ∀ a, (k0_off166 v7345) a + S1x1x512.size a ≤ S1x2048x512.size a := fun i v7345 k0_hw166 k0_h1 => k0_hw166 k0_h1

def k0_off167 (v7352 : BitVec 32) : Fin 3 → Nat :=
  let c0_5040 : Index := 0#32
  let v7353 : Index := Scalar.indexCast v7352
  let c0_5041 : Index := 0#32
  ![0, v7353.toNat, 0]

def k0_chk167 (i : grid0.Coords) (v7352 : BitVec 32) : Prop :=
  (∀ (k0_h1 : k0_cond1 i = 1#1), ∀ a, (k0_off167 v7352) a + S1x1x512.size a ≤ S1x2048x512.size a)
theorem k0_off167_inb : ∀ (i : grid0.Coords) (v7352 : BitVec 32) (k0_hw167 : k0_chk167 i v7352), ∀ (k0_h1 : k0_cond1 i = 1#1), ∀ a, (k0_off167 v7352) a + S1x1x512.size a ≤ S1x2048x512.size a := fun i v7352 k0_hw167 k0_h1 => k0_hw167 k0_h1

def k0_off168 (v7359 : BitVec 32) : Fin 3 → Nat :=
  let c0_5047 : Index := 0#32
  let v7360 : Index := Scalar.indexCast v7359
  let c0_5048 : Index := 0#32
  ![0, v7360.toNat, 0]

def k0_chk168 (i : grid0.Coords) (v7359 : BitVec 32) : Prop :=
  (∀ (k0_h1 : k0_cond1 i = 1#1), ∀ a, (k0_off168 v7359) a + S1x1x512.size a ≤ S1x2048x512.size a)
theorem k0_off168_inb : ∀ (i : grid0.Coords) (v7359 : BitVec 32) (k0_hw168 : k0_chk168 i v7359), ∀ (k0_h1 : k0_cond1 i = 1#1), ∀ a, (k0_off168 v7359) a + S1x1x512.size a ≤ S1x2048x512.size a := fun i v7359 k0_hw168 k0_h1 => k0_hw168 k0_h1

def k0_off169 (v7366 : BitVec 32) : Fin 3 → Nat :=
  let c0_5054 : Index := 0#32
  let v7367 : Index := Scalar.indexCast v7366
  let c0_5055 : Index := 0#32
  ![0, v7367.toNat, 0]

def k0_chk169 (i : grid0.Coords) (v7366 : BitVec 32) : Prop :=
  (∀ (k0_h1 : k0_cond1 i = 1#1), ∀ a, (k0_off169 v7366) a + S1x1x512.size a ≤ S1x2048x512.size a)
theorem k0_off169_inb : ∀ (i : grid0.Coords) (v7366 : BitVec 32) (k0_hw169 : k0_chk169 i v7366), ∀ (k0_h1 : k0_cond1 i = 1#1), ∀ a, (k0_off169 v7366) a + S1x1x512.size a ≤ S1x2048x512.size a := fun i v7366 k0_hw169 k0_h1 => k0_hw169 k0_h1

def k0_off170 (v7373 : BitVec 32) : Fin 3 → Nat :=
  let c0_5061 : Index := 0#32
  let v7374 : Index := Scalar.indexCast v7373
  let c0_5062 : Index := 0#32
  ![0, v7374.toNat, 0]

def k0_chk170 (i : grid0.Coords) (v7373 : BitVec 32) : Prop :=
  (∀ (k0_h1 : k0_cond1 i = 1#1), ∀ a, (k0_off170 v7373) a + S1x1x512.size a ≤ S1x2048x512.size a)
theorem k0_off170_inb : ∀ (i : grid0.Coords) (v7373 : BitVec 32) (k0_hw170 : k0_chk170 i v7373), ∀ (k0_h1 : k0_cond1 i = 1#1), ∀ a, (k0_off170 v7373) a + S1x1x512.size a ≤ S1x2048x512.size a := fun i v7373 k0_hw170 k0_h1 => k0_hw170 k0_h1

def k0_off171 (v7380 : BitVec 32) : Fin 3 → Nat :=
  let c0_5068 : Index := 0#32
  let v7381 : Index := Scalar.indexCast v7380
  let c0_5069 : Index := 0#32
  ![0, v7381.toNat, 0]

def k0_chk171 (i : grid0.Coords) (v7380 : BitVec 32) : Prop :=
  (∀ (k0_h1 : k0_cond1 i = 1#1), ∀ a, (k0_off171 v7380) a + S1x1x512.size a ≤ S1x2048x512.size a)
theorem k0_off171_inb : ∀ (i : grid0.Coords) (v7380 : BitVec 32) (k0_hw171 : k0_chk171 i v7380), ∀ (k0_h1 : k0_cond1 i = 1#1), ∀ a, (k0_off171 v7380) a + S1x1x512.size a ≤ S1x2048x512.size a := fun i v7380 k0_hw171 k0_h1 => k0_hw171 k0_h1

def k0_off172 (v7387 : BitVec 32) : Fin 3 → Nat :=
  let c0_5075 : Index := 0#32
  let v7388 : Index := Scalar.indexCast v7387
  let c0_5076 : Index := 0#32
  ![0, v7388.toNat, 0]

def k0_chk172 (i : grid0.Coords) (v7387 : BitVec 32) : Prop :=
  (∀ (k0_h1 : k0_cond1 i = 1#1), ∀ a, (k0_off172 v7387) a + S1x1x512.size a ≤ S1x2048x512.size a)
theorem k0_off172_inb : ∀ (i : grid0.Coords) (v7387 : BitVec 32) (k0_hw172 : k0_chk172 i v7387), ∀ (k0_h1 : k0_cond1 i = 1#1), ∀ a, (k0_off172 v7387) a + S1x1x512.size a ≤ S1x2048x512.size a := fun i v7387 k0_hw172 k0_h1 => k0_hw172 k0_h1

def k0_off173 (v7394 : BitVec 32) : Fin 3 → Nat :=
  let c0_5082 : Index := 0#32
  let v7395 : Index := Scalar.indexCast v7394
  let c0_5083 : Index := 0#32
  ![0, v7395.toNat, 0]

def k0_chk173 (i : grid0.Coords) (v7394 : BitVec 32) : Prop :=
  (∀ (k0_h1 : k0_cond1 i = 1#1), ∀ a, (k0_off173 v7394) a + S1x1x512.size a ≤ S1x2048x512.size a)
theorem k0_off173_inb : ∀ (i : grid0.Coords) (v7394 : BitVec 32) (k0_hw173 : k0_chk173 i v7394), ∀ (k0_h1 : k0_cond1 i = 1#1), ∀ a, (k0_off173 v7394) a + S1x1x512.size a ≤ S1x2048x512.size a := fun i v7394 k0_hw173 k0_h1 => k0_hw173 k0_h1

def k0_off174 (v7401 : BitVec 32) : Fin 3 → Nat :=
  let c0_5089 : Index := 0#32
  let v7402 : Index := Scalar.indexCast v7401
  let c0_5090 : Index := 0#32
  ![0, v7402.toNat, 0]

def k0_chk174 (i : grid0.Coords) (v7401 : BitVec 32) : Prop :=
  (∀ (k0_h1 : k0_cond1 i = 1#1), ∀ a, (k0_off174 v7401) a + S1x1x512.size a ≤ S1x2048x512.size a)
theorem k0_off174_inb : ∀ (i : grid0.Coords) (v7401 : BitVec 32) (k0_hw174 : k0_chk174 i v7401), ∀ (k0_h1 : k0_cond1 i = 1#1), ∀ a, (k0_off174 v7401) a + S1x1x512.size a ≤ S1x2048x512.size a := fun i v7401 k0_hw174 k0_h1 => k0_hw174 k0_h1

def k0_off175 (v7408 : BitVec 32) : Fin 3 → Nat :=
  let c0_5096 : Index := 0#32
  let v7409 : Index := Scalar.indexCast v7408
  let c0_5097 : Index := 0#32
  ![0, v7409.toNat, 0]

def k0_chk175 (i : grid0.Coords) (v7408 : BitVec 32) : Prop :=
  (∀ (k0_h1 : k0_cond1 i = 1#1), ∀ a, (k0_off175 v7408) a + S1x1x512.size a ≤ S1x2048x512.size a)
theorem k0_off175_inb : ∀ (i : grid0.Coords) (v7408 : BitVec 32) (k0_hw175 : k0_chk175 i v7408), ∀ (k0_h1 : k0_cond1 i = 1#1), ∀ a, (k0_off175 v7408) a + S1x1x512.size a ≤ S1x2048x512.size a := fun i v7408 k0_hw175 k0_h1 => k0_hw175 k0_h1

def k0_off176 (v7415 : BitVec 32) : Fin 3 → Nat :=
  let c0_5103 : Index := 0#32
  let v7416 : Index := Scalar.indexCast v7415
  let c0_5104 : Index := 0#32
  ![0, v7416.toNat, 0]

def k0_chk176 (i : grid0.Coords) (v7415 : BitVec 32) : Prop :=
  (∀ (k0_h1 : k0_cond1 i = 1#1), ∀ a, (k0_off176 v7415) a + S1x1x512.size a ≤ S1x2048x512.size a)
theorem k0_off176_inb : ∀ (i : grid0.Coords) (v7415 : BitVec 32) (k0_hw176 : k0_chk176 i v7415), ∀ (k0_h1 : k0_cond1 i = 1#1), ∀ a, (k0_off176 v7415) a + S1x1x512.size a ≤ S1x2048x512.size a := fun i v7415 k0_hw176 k0_h1 => k0_hw176 k0_h1

def k0_off177 (v7422 : BitVec 32) : Fin 3 → Nat :=
  let c0_5110 : Index := 0#32
  let v7423 : Index := Scalar.indexCast v7422
  let c0_5111 : Index := 0#32
  ![0, v7423.toNat, 0]

def k0_chk177 (i : grid0.Coords) (v7422 : BitVec 32) : Prop :=
  (∀ (k0_h1 : k0_cond1 i = 1#1), ∀ a, (k0_off177 v7422) a + S1x1x512.size a ≤ S1x2048x512.size a)
theorem k0_off177_inb : ∀ (i : grid0.Coords) (v7422 : BitVec 32) (k0_hw177 : k0_chk177 i v7422), ∀ (k0_h1 : k0_cond1 i = 1#1), ∀ a, (k0_off177 v7422) a + S1x1x512.size a ≤ S1x2048x512.size a := fun i v7422 k0_hw177 k0_h1 => k0_hw177 k0_h1

def k0_off178 (v7429 : BitVec 32) : Fin 3 → Nat :=
  let c0_5117 : Index := 0#32
  let v7430 : Index := Scalar.indexCast v7429
  let c0_5118 : Index := 0#32
  ![0, v7430.toNat, 0]

def k0_chk178 (i : grid0.Coords) (v7429 : BitVec 32) : Prop :=
  (∀ (k0_h1 : k0_cond1 i = 1#1), ∀ a, (k0_off178 v7429) a + S1x1x512.size a ≤ S1x2048x512.size a)
theorem k0_off178_inb : ∀ (i : grid0.Coords) (v7429 : BitVec 32) (k0_hw178 : k0_chk178 i v7429), ∀ (k0_h1 : k0_cond1 i = 1#1), ∀ a, (k0_off178 v7429) a + S1x1x512.size a ≤ S1x2048x512.size a := fun i v7429 k0_hw178 k0_h1 => k0_hw178 k0_h1

def k0_off179 (v7436 : BitVec 32) : Fin 3 → Nat :=
  let c0_5124 : Index := 0#32
  let v7437 : Index := Scalar.indexCast v7436
  let c0_5125 : Index := 0#32
  ![0, v7437.toNat, 0]

def k0_chk179 (i : grid0.Coords) (v7436 : BitVec 32) : Prop :=
  (∀ (k0_h1 : k0_cond1 i = 1#1), ∀ a, (k0_off179 v7436) a + S1x1x512.size a ≤ S1x2048x512.size a)
theorem k0_off179_inb : ∀ (i : grid0.Coords) (v7436 : BitVec 32) (k0_hw179 : k0_chk179 i v7436), ∀ (k0_h1 : k0_cond1 i = 1#1), ∀ a, (k0_off179 v7436) a + S1x1x512.size a ≤ S1x2048x512.size a := fun i v7436 k0_hw179 k0_h1 => k0_hw179 k0_h1

def k0_off180 (v7443 : BitVec 32) : Fin 3 → Nat :=
  let c0_5131 : Index := 0#32
  let v7444 : Index := Scalar.indexCast v7443
  let c0_5132 : Index := 0#32
  ![0, v7444.toNat, 0]

def k0_chk180 (i : grid0.Coords) (v7443 : BitVec 32) : Prop :=
  (∀ (k0_h1 : k0_cond1 i = 1#1), ∀ a, (k0_off180 v7443) a + S1x1x512.size a ≤ S1x2048x512.size a)
theorem k0_off180_inb : ∀ (i : grid0.Coords) (v7443 : BitVec 32) (k0_hw180 : k0_chk180 i v7443), ∀ (k0_h1 : k0_cond1 i = 1#1), ∀ a, (k0_off180 v7443) a + S1x1x512.size a ≤ S1x2048x512.size a := fun i v7443 k0_hw180 k0_h1 => k0_hw180 k0_h1

def k0_off181 (v7450 : BitVec 32) : Fin 3 → Nat :=
  let c0_5138 : Index := 0#32
  let v7451 : Index := Scalar.indexCast v7450
  let c0_5139 : Index := 0#32
  ![0, v7451.toNat, 0]

def k0_chk181 (i : grid0.Coords) (v7450 : BitVec 32) : Prop :=
  (∀ (k0_h1 : k0_cond1 i = 1#1), ∀ a, (k0_off181 v7450) a + S1x1x512.size a ≤ S1x2048x512.size a)
theorem k0_off181_inb : ∀ (i : grid0.Coords) (v7450 : BitVec 32) (k0_hw181 : k0_chk181 i v7450), ∀ (k0_h1 : k0_cond1 i = 1#1), ∀ a, (k0_off181 v7450) a + S1x1x512.size a ≤ S1x2048x512.size a := fun i v7450 k0_hw181 k0_h1 => k0_hw181 k0_h1

def k0_off182 (v7457 : BitVec 32) : Fin 3 → Nat :=
  let c0_5145 : Index := 0#32
  let v7458 : Index := Scalar.indexCast v7457
  let c0_5146 : Index := 0#32
  ![0, v7458.toNat, 0]

def k0_chk182 (i : grid0.Coords) (v7457 : BitVec 32) : Prop :=
  (∀ (k0_h1 : k0_cond1 i = 1#1), ∀ a, (k0_off182 v7457) a + S1x1x512.size a ≤ S1x2048x512.size a)
theorem k0_off182_inb : ∀ (i : grid0.Coords) (v7457 : BitVec 32) (k0_hw182 : k0_chk182 i v7457), ∀ (k0_h1 : k0_cond1 i = 1#1), ∀ a, (k0_off182 v7457) a + S1x1x512.size a ≤ S1x2048x512.size a := fun i v7457 k0_hw182 k0_h1 => k0_hw182 k0_h1

def k0_off183 (v7464 : BitVec 32) : Fin 3 → Nat :=
  let c0_5152 : Index := 0#32
  let v7465 : Index := Scalar.indexCast v7464
  let c0_5153 : Index := 0#32
  ![0, v7465.toNat, 0]

def k0_chk183 (i : grid0.Coords) (v7464 : BitVec 32) : Prop :=
  (∀ (k0_h1 : k0_cond1 i = 1#1), ∀ a, (k0_off183 v7464) a + S1x1x512.size a ≤ S1x2048x512.size a)
theorem k0_off183_inb : ∀ (i : grid0.Coords) (v7464 : BitVec 32) (k0_hw183 : k0_chk183 i v7464), ∀ (k0_h1 : k0_cond1 i = 1#1), ∀ a, (k0_off183 v7464) a + S1x1x512.size a ≤ S1x2048x512.size a := fun i v7464 k0_hw183 k0_h1 => k0_hw183 k0_h1

def k0_off184 (v7471 : BitVec 32) : Fin 3 → Nat :=
  let c0_5159 : Index := 0#32
  let v7472 : Index := Scalar.indexCast v7471
  let c0_5160 : Index := 0#32
  ![0, v7472.toNat, 0]

def k0_chk184 (i : grid0.Coords) (v7471 : BitVec 32) : Prop :=
  (∀ (k0_h1 : k0_cond1 i = 1#1), ∀ a, (k0_off184 v7471) a + S1x1x512.size a ≤ S1x2048x512.size a)
theorem k0_off184_inb : ∀ (i : grid0.Coords) (v7471 : BitVec 32) (k0_hw184 : k0_chk184 i v7471), ∀ (k0_h1 : k0_cond1 i = 1#1), ∀ a, (k0_off184 v7471) a + S1x1x512.size a ≤ S1x2048x512.size a := fun i v7471 k0_hw184 k0_h1 => k0_hw184 k0_h1

def k0_off185 (v7478 : BitVec 32) : Fin 3 → Nat :=
  let c0_5166 : Index := 0#32
  let v7479 : Index := Scalar.indexCast v7478
  let c0_5167 : Index := 0#32
  ![0, v7479.toNat, 0]

def k0_chk185 (i : grid0.Coords) (v7478 : BitVec 32) : Prop :=
  (∀ (k0_h1 : k0_cond1 i = 1#1), ∀ a, (k0_off185 v7478) a + S1x1x512.size a ≤ S1x2048x512.size a)
theorem k0_off185_inb : ∀ (i : grid0.Coords) (v7478 : BitVec 32) (k0_hw185 : k0_chk185 i v7478), ∀ (k0_h1 : k0_cond1 i = 1#1), ∀ a, (k0_off185 v7478) a + S1x1x512.size a ≤ S1x2048x512.size a := fun i v7478 k0_hw185 k0_h1 => k0_hw185 k0_h1

def k0_off186 (v7485 : BitVec 32) : Fin 3 → Nat :=
  let c0_5173 : Index := 0#32
  let v7486 : Index := Scalar.indexCast v7485
  let c0_5174 : Index := 0#32
  ![0, v7486.toNat, 0]

def k0_chk186 (i : grid0.Coords) (v7485 : BitVec 32) : Prop :=
  (∀ (k0_h1 : k0_cond1 i = 1#1), ∀ a, (k0_off186 v7485) a + S1x1x512.size a ≤ S1x2048x512.size a)
theorem k0_off186_inb : ∀ (i : grid0.Coords) (v7485 : BitVec 32) (k0_hw186 : k0_chk186 i v7485), ∀ (k0_h1 : k0_cond1 i = 1#1), ∀ a, (k0_off186 v7485) a + S1x1x512.size a ≤ S1x2048x512.size a := fun i v7485 k0_hw186 k0_h1 => k0_hw186 k0_h1

def k0_off187 (v7492 : BitVec 32) : Fin 3 → Nat :=
  let c0_5180 : Index := 0#32
  let v7493 : Index := Scalar.indexCast v7492
  let c0_5181 : Index := 0#32
  ![0, v7493.toNat, 0]

def k0_chk187 (i : grid0.Coords) (v7492 : BitVec 32) : Prop :=
  (∀ (k0_h1 : k0_cond1 i = 1#1), ∀ a, (k0_off187 v7492) a + S1x1x512.size a ≤ S1x2048x512.size a)
theorem k0_off187_inb : ∀ (i : grid0.Coords) (v7492 : BitVec 32) (k0_hw187 : k0_chk187 i v7492), ∀ (k0_h1 : k0_cond1 i = 1#1), ∀ a, (k0_off187 v7492) a + S1x1x512.size a ≤ S1x2048x512.size a := fun i v7492 k0_hw187 k0_h1 => k0_hw187 k0_h1

def k0_off188 (v7499 : BitVec 32) : Fin 3 → Nat :=
  let c0_5187 : Index := 0#32
  let v7500 : Index := Scalar.indexCast v7499
  let c0_5188 : Index := 0#32
  ![0, v7500.toNat, 0]

def k0_chk188 (i : grid0.Coords) (v7499 : BitVec 32) : Prop :=
  (∀ (k0_h1 : k0_cond1 i = 1#1), ∀ a, (k0_off188 v7499) a + S1x1x512.size a ≤ S1x2048x512.size a)
theorem k0_off188_inb : ∀ (i : grid0.Coords) (v7499 : BitVec 32) (k0_hw188 : k0_chk188 i v7499), ∀ (k0_h1 : k0_cond1 i = 1#1), ∀ a, (k0_off188 v7499) a + S1x1x512.size a ≤ S1x2048x512.size a := fun i v7499 k0_hw188 k0_h1 => k0_hw188 k0_h1

def k0_off189 (v7506 : BitVec 32) : Fin 3 → Nat :=
  let c0_5194 : Index := 0#32
  let v7507 : Index := Scalar.indexCast v7506
  let c0_5195 : Index := 0#32
  ![0, v7507.toNat, 0]

def k0_chk189 (i : grid0.Coords) (v7506 : BitVec 32) : Prop :=
  (∀ (k0_h1 : k0_cond1 i = 1#1), ∀ a, (k0_off189 v7506) a + S1x1x512.size a ≤ S1x2048x512.size a)
theorem k0_off189_inb : ∀ (i : grid0.Coords) (v7506 : BitVec 32) (k0_hw189 : k0_chk189 i v7506), ∀ (k0_h1 : k0_cond1 i = 1#1), ∀ a, (k0_off189 v7506) a + S1x1x512.size a ≤ S1x2048x512.size a := fun i v7506 k0_hw189 k0_h1 => k0_hw189 k0_h1

def k0_off190 (v7513 : BitVec 32) : Fin 3 → Nat :=
  let c0_5201 : Index := 0#32
  let v7514 : Index := Scalar.indexCast v7513
  let c0_5202 : Index := 0#32
  ![0, v7514.toNat, 0]

def k0_chk190 (i : grid0.Coords) (v7513 : BitVec 32) : Prop :=
  (∀ (k0_h1 : k0_cond1 i = 1#1), ∀ a, (k0_off190 v7513) a + S1x1x512.size a ≤ S1x2048x512.size a)
theorem k0_off190_inb : ∀ (i : grid0.Coords) (v7513 : BitVec 32) (k0_hw190 : k0_chk190 i v7513), ∀ (k0_h1 : k0_cond1 i = 1#1), ∀ a, (k0_off190 v7513) a + S1x1x512.size a ≤ S1x2048x512.size a := fun i v7513 k0_hw190 k0_h1 => k0_hw190 k0_h1

def k0_off191 (v7520 : BitVec 32) : Fin 3 → Nat :=
  let c0_5208 : Index := 0#32
  let v7521 : Index := Scalar.indexCast v7520
  let c0_5209 : Index := 0#32
  ![0, v7521.toNat, 0]

def k0_chk191 (i : grid0.Coords) (v7520 : BitVec 32) : Prop :=
  (∀ (k0_h1 : k0_cond1 i = 1#1), ∀ a, (k0_off191 v7520) a + S1x1x512.size a ≤ S1x2048x512.size a)
theorem k0_off191_inb : ∀ (i : grid0.Coords) (v7520 : BitVec 32) (k0_hw191 : k0_chk191 i v7520), ∀ (k0_h1 : k0_cond1 i = 1#1), ∀ a, (k0_off191 v7520) a + S1x1x512.size a ≤ S1x2048x512.size a := fun i v7520 k0_hw191 k0_h1 => k0_hw191 k0_h1

def k0_off192 (v7527 : BitVec 32) : Fin 3 → Nat :=
  let c0_5215 : Index := 0#32
  let v7528 : Index := Scalar.indexCast v7527
  let c0_5216 : Index := 0#32
  ![0, v7528.toNat, 0]

def k0_chk192 (i : grid0.Coords) (v7527 : BitVec 32) : Prop :=
  (∀ (k0_h1 : k0_cond1 i = 1#1), ∀ a, (k0_off192 v7527) a + S1x1x512.size a ≤ S1x2048x512.size a)
theorem k0_off192_inb : ∀ (i : grid0.Coords) (v7527 : BitVec 32) (k0_hw192 : k0_chk192 i v7527), ∀ (k0_h1 : k0_cond1 i = 1#1), ∀ a, (k0_off192 v7527) a + S1x1x512.size a ≤ S1x2048x512.size a := fun i v7527 k0_hw192 k0_h1 => k0_hw192 k0_h1

def k0_off193 (v7534 : BitVec 32) : Fin 3 → Nat :=
  let c0_5222 : Index := 0#32
  let v7535 : Index := Scalar.indexCast v7534
  let c0_5223 : Index := 0#32
  ![0, v7535.toNat, 0]

def k0_chk193 (i : grid0.Coords) (v7534 : BitVec 32) : Prop :=
  (∀ (k0_h1 : k0_cond1 i = 1#1), ∀ a, (k0_off193 v7534) a + S1x1x512.size a ≤ S1x2048x512.size a)
theorem k0_off193_inb : ∀ (i : grid0.Coords) (v7534 : BitVec 32) (k0_hw193 : k0_chk193 i v7534), ∀ (k0_h1 : k0_cond1 i = 1#1), ∀ a, (k0_off193 v7534) a + S1x1x512.size a ≤ S1x2048x512.size a := fun i v7534 k0_hw193 k0_h1 => k0_hw193 k0_h1

def k0_off194 (v7541 : BitVec 32) : Fin 3 → Nat :=
  let c0_5229 : Index := 0#32
  let v7542 : Index := Scalar.indexCast v7541
  let c0_5230 : Index := 0#32
  ![0, v7542.toNat, 0]

def k0_chk194 (i : grid0.Coords) (v7541 : BitVec 32) : Prop :=
  (∀ (k0_h1 : k0_cond1 i = 1#1), ∀ a, (k0_off194 v7541) a + S1x1x512.size a ≤ S1x2048x512.size a)
theorem k0_off194_inb : ∀ (i : grid0.Coords) (v7541 : BitVec 32) (k0_hw194 : k0_chk194 i v7541), ∀ (k0_h1 : k0_cond1 i = 1#1), ∀ a, (k0_off194 v7541) a + S1x1x512.size a ≤ S1x2048x512.size a := fun i v7541 k0_hw194 k0_h1 => k0_hw194 k0_h1

def k0_off195 (v7548 : BitVec 32) : Fin 3 → Nat :=
  let c0_5236 : Index := 0#32
  let v7549 : Index := Scalar.indexCast v7548
  let c0_5237 : Index := 0#32
  ![0, v7549.toNat, 0]

def k0_chk195 (i : grid0.Coords) (v7548 : BitVec 32) : Prop :=
  (∀ (k0_h1 : k0_cond1 i = 1#1), ∀ a, (k0_off195 v7548) a + S1x1x512.size a ≤ S1x2048x512.size a)
theorem k0_off195_inb : ∀ (i : grid0.Coords) (v7548 : BitVec 32) (k0_hw195 : k0_chk195 i v7548), ∀ (k0_h1 : k0_cond1 i = 1#1), ∀ a, (k0_off195 v7548) a + S1x1x512.size a ≤ S1x2048x512.size a := fun i v7548 k0_hw195 k0_h1 => k0_hw195 k0_h1

def k0_off196 (v7555 : BitVec 32) : Fin 3 → Nat :=
  let c0_5243 : Index := 0#32
  let v7556 : Index := Scalar.indexCast v7555
  let c0_5244 : Index := 0#32
  ![0, v7556.toNat, 0]

def k0_chk196 (i : grid0.Coords) (v7555 : BitVec 32) : Prop :=
  (∀ (k0_h1 : k0_cond1 i = 1#1), ∀ a, (k0_off196 v7555) a + S1x1x512.size a ≤ S1x2048x512.size a)
theorem k0_off196_inb : ∀ (i : grid0.Coords) (v7555 : BitVec 32) (k0_hw196 : k0_chk196 i v7555), ∀ (k0_h1 : k0_cond1 i = 1#1), ∀ a, (k0_off196 v7555) a + S1x1x512.size a ≤ S1x2048x512.size a := fun i v7555 k0_hw196 k0_h1 => k0_hw196 k0_h1

def k0_off197 (v7562 : BitVec 32) : Fin 3 → Nat :=
  let c0_5250 : Index := 0#32
  let v7563 : Index := Scalar.indexCast v7562
  let c0_5251 : Index := 0#32
  ![0, v7563.toNat, 0]

def k0_chk197 (i : grid0.Coords) (v7562 : BitVec 32) : Prop :=
  (∀ (k0_h1 : k0_cond1 i = 1#1), ∀ a, (k0_off197 v7562) a + S1x1x512.size a ≤ S1x2048x512.size a)
theorem k0_off197_inb : ∀ (i : grid0.Coords) (v7562 : BitVec 32) (k0_hw197 : k0_chk197 i v7562), ∀ (k0_h1 : k0_cond1 i = 1#1), ∀ a, (k0_off197 v7562) a + S1x1x512.size a ≤ S1x2048x512.size a := fun i v7562 k0_hw197 k0_h1 => k0_hw197 k0_h1

def k0_off198 (v7569 : BitVec 32) : Fin 3 → Nat :=
  let c0_5257 : Index := 0#32
  let v7570 : Index := Scalar.indexCast v7569
  let c0_5258 : Index := 0#32
  ![0, v7570.toNat, 0]

def k0_chk198 (i : grid0.Coords) (v7569 : BitVec 32) : Prop :=
  (∀ (k0_h1 : k0_cond1 i = 1#1), ∀ a, (k0_off198 v7569) a + S1x1x512.size a ≤ S1x2048x512.size a)
theorem k0_off198_inb : ∀ (i : grid0.Coords) (v7569 : BitVec 32) (k0_hw198 : k0_chk198 i v7569), ∀ (k0_h1 : k0_cond1 i = 1#1), ∀ a, (k0_off198 v7569) a + S1x1x512.size a ≤ S1x2048x512.size a := fun i v7569 k0_hw198 k0_h1 => k0_hw198 k0_h1

def k0_off199 (v7576 : BitVec 32) : Fin 3 → Nat :=
  let c0_5264 : Index := 0#32
  let v7577 : Index := Scalar.indexCast v7576
  let c0_5265 : Index := 0#32
  ![0, v7577.toNat, 0]

def k0_chk199 (i : grid0.Coords) (v7576 : BitVec 32) : Prop :=
  (∀ (k0_h1 : k0_cond1 i = 1#1), ∀ a, (k0_off199 v7576) a + S1x1x512.size a ≤ S1x2048x512.size a)
theorem k0_off199_inb : ∀ (i : grid0.Coords) (v7576 : BitVec 32) (k0_hw199 : k0_chk199 i v7576), ∀ (k0_h1 : k0_cond1 i = 1#1), ∀ a, (k0_off199 v7576) a + S1x1x512.size a ≤ S1x2048x512.size a := fun i v7576 k0_hw199 k0_h1 => k0_hw199 k0_h1

def k0_off200 (v7583 : BitVec 32) : Fin 3 → Nat :=
  let c0_5271 : Index := 0#32
  let v7584 : Index := Scalar.indexCast v7583
  let c0_5272 : Index := 0#32
  ![0, v7584.toNat, 0]

def k0_chk200 (i : grid0.Coords) (v7583 : BitVec 32) : Prop :=
  (∀ (k0_h1 : k0_cond1 i = 1#1), ∀ a, (k0_off200 v7583) a + S1x1x512.size a ≤ S1x2048x512.size a)
theorem k0_off200_inb : ∀ (i : grid0.Coords) (v7583 : BitVec 32) (k0_hw200 : k0_chk200 i v7583), ∀ (k0_h1 : k0_cond1 i = 1#1), ∀ a, (k0_off200 v7583) a + S1x1x512.size a ≤ S1x2048x512.size a := fun i v7583 k0_hw200 k0_h1 => k0_hw200 k0_h1

def k0_off201 (v7590 : BitVec 32) : Fin 3 → Nat :=
  let c0_5278 : Index := 0#32
  let v7591 : Index := Scalar.indexCast v7590
  let c0_5279 : Index := 0#32
  ![0, v7591.toNat, 0]

def k0_chk201 (i : grid0.Coords) (v7590 : BitVec 32) : Prop :=
  (∀ (k0_h1 : k0_cond1 i = 1#1), ∀ a, (k0_off201 v7590) a + S1x1x512.size a ≤ S1x2048x512.size a)
theorem k0_off201_inb : ∀ (i : grid0.Coords) (v7590 : BitVec 32) (k0_hw201 : k0_chk201 i v7590), ∀ (k0_h1 : k0_cond1 i = 1#1), ∀ a, (k0_off201 v7590) a + S1x1x512.size a ≤ S1x2048x512.size a := fun i v7590 k0_hw201 k0_h1 => k0_hw201 k0_h1

def k0_off202 (v7597 : BitVec 32) : Fin 3 → Nat :=
  let c0_5285 : Index := 0#32
  let v7598 : Index := Scalar.indexCast v7597
  let c0_5286 : Index := 0#32
  ![0, v7598.toNat, 0]

def k0_chk202 (i : grid0.Coords) (v7597 : BitVec 32) : Prop :=
  (∀ (k0_h1 : k0_cond1 i = 1#1), ∀ a, (k0_off202 v7597) a + S1x1x512.size a ≤ S1x2048x512.size a)
theorem k0_off202_inb : ∀ (i : grid0.Coords) (v7597 : BitVec 32) (k0_hw202 : k0_chk202 i v7597), ∀ (k0_h1 : k0_cond1 i = 1#1), ∀ a, (k0_off202 v7597) a + S1x1x512.size a ≤ S1x2048x512.size a := fun i v7597 k0_hw202 k0_h1 => k0_hw202 k0_h1

def k0_off203 (v7604 : BitVec 32) : Fin 3 → Nat :=
  let c0_5292 : Index := 0#32
  let v7605 : Index := Scalar.indexCast v7604
  let c0_5293 : Index := 0#32
  ![0, v7605.toNat, 0]

def k0_chk203 (i : grid0.Coords) (v7604 : BitVec 32) : Prop :=
  (∀ (k0_h1 : k0_cond1 i = 1#1), ∀ a, (k0_off203 v7604) a + S1x1x512.size a ≤ S1x2048x512.size a)
theorem k0_off203_inb : ∀ (i : grid0.Coords) (v7604 : BitVec 32) (k0_hw203 : k0_chk203 i v7604), ∀ (k0_h1 : k0_cond1 i = 1#1), ∀ a, (k0_off203 v7604) a + S1x1x512.size a ≤ S1x2048x512.size a := fun i v7604 k0_hw203 k0_h1 => k0_hw203 k0_h1

def k0_off204 (v7611 : BitVec 32) : Fin 3 → Nat :=
  let c0_5299 : Index := 0#32
  let v7612 : Index := Scalar.indexCast v7611
  let c0_5300 : Index := 0#32
  ![0, v7612.toNat, 0]

def k0_chk204 (i : grid0.Coords) (v7611 : BitVec 32) : Prop :=
  (∀ (k0_h1 : k0_cond1 i = 1#1), ∀ a, (k0_off204 v7611) a + S1x1x512.size a ≤ S1x2048x512.size a)
theorem k0_off204_inb : ∀ (i : grid0.Coords) (v7611 : BitVec 32) (k0_hw204 : k0_chk204 i v7611), ∀ (k0_h1 : k0_cond1 i = 1#1), ∀ a, (k0_off204 v7611) a + S1x1x512.size a ≤ S1x2048x512.size a := fun i v7611 k0_hw204 k0_h1 => k0_hw204 k0_h1

def k0_off205 (v7618 : BitVec 32) : Fin 3 → Nat :=
  let c0_5306 : Index := 0#32
  let v7619 : Index := Scalar.indexCast v7618
  let c0_5307 : Index := 0#32
  ![0, v7619.toNat, 0]

def k0_chk205 (i : grid0.Coords) (v7618 : BitVec 32) : Prop :=
  (∀ (k0_h1 : k0_cond1 i = 1#1), ∀ a, (k0_off205 v7618) a + S1x1x512.size a ≤ S1x2048x512.size a)
theorem k0_off205_inb : ∀ (i : grid0.Coords) (v7618 : BitVec 32) (k0_hw205 : k0_chk205 i v7618), ∀ (k0_h1 : k0_cond1 i = 1#1), ∀ a, (k0_off205 v7618) a + S1x1x512.size a ≤ S1x2048x512.size a := fun i v7618 k0_hw205 k0_h1 => k0_hw205 k0_h1

def k0_off206 (v7625 : BitVec 32) : Fin 3 → Nat :=
  let c0_5313 : Index := 0#32
  let v7626 : Index := Scalar.indexCast v7625
  let c0_5314 : Index := 0#32
  ![0, v7626.toNat, 0]

def k0_chk206 (i : grid0.Coords) (v7625 : BitVec 32) : Prop :=
  (∀ (k0_h1 : k0_cond1 i = 1#1), ∀ a, (k0_off206 v7625) a + S1x1x512.size a ≤ S1x2048x512.size a)
theorem k0_off206_inb : ∀ (i : grid0.Coords) (v7625 : BitVec 32) (k0_hw206 : k0_chk206 i v7625), ∀ (k0_h1 : k0_cond1 i = 1#1), ∀ a, (k0_off206 v7625) a + S1x1x512.size a ≤ S1x2048x512.size a := fun i v7625 k0_hw206 k0_h1 => k0_hw206 k0_h1

def k0_off207 (v7632 : BitVec 32) : Fin 3 → Nat :=
  let c0_5320 : Index := 0#32
  let v7633 : Index := Scalar.indexCast v7632
  let c0_5321 : Index := 0#32
  ![0, v7633.toNat, 0]

def k0_chk207 (i : grid0.Coords) (v7632 : BitVec 32) : Prop :=
  (∀ (k0_h1 : k0_cond1 i = 1#1), ∀ a, (k0_off207 v7632) a + S1x1x512.size a ≤ S1x2048x512.size a)
theorem k0_off207_inb : ∀ (i : grid0.Coords) (v7632 : BitVec 32) (k0_hw207 : k0_chk207 i v7632), ∀ (k0_h1 : k0_cond1 i = 1#1), ∀ a, (k0_off207 v7632) a + S1x1x512.size a ≤ S1x2048x512.size a := fun i v7632 k0_hw207 k0_h1 => k0_hw207 k0_h1

def k0_off208 (v7639 : BitVec 32) : Fin 3 → Nat :=
  let c0_5327 : Index := 0#32
  let v7640 : Index := Scalar.indexCast v7639
  let c0_5328 : Index := 0#32
  ![0, v7640.toNat, 0]

def k0_chk208 (i : grid0.Coords) (v7639 : BitVec 32) : Prop :=
  (∀ (k0_h1 : k0_cond1 i = 1#1), ∀ a, (k0_off208 v7639) a + S1x1x512.size a ≤ S1x2048x512.size a)
theorem k0_off208_inb : ∀ (i : grid0.Coords) (v7639 : BitVec 32) (k0_hw208 : k0_chk208 i v7639), ∀ (k0_h1 : k0_cond1 i = 1#1), ∀ a, (k0_off208 v7639) a + S1x1x512.size a ≤ S1x2048x512.size a := fun i v7639 k0_hw208 k0_h1 => k0_hw208 k0_h1

def k0_off209 (v7646 : BitVec 32) : Fin 3 → Nat :=
  let c0_5334 : Index := 0#32
  let v7647 : Index := Scalar.indexCast v7646
  let c0_5335 : Index := 0#32
  ![0, v7647.toNat, 0]

def k0_chk209 (i : grid0.Coords) (v7646 : BitVec 32) : Prop :=
  (∀ (k0_h1 : k0_cond1 i = 1#1), ∀ a, (k0_off209 v7646) a + S1x1x512.size a ≤ S1x2048x512.size a)
theorem k0_off209_inb : ∀ (i : grid0.Coords) (v7646 : BitVec 32) (k0_hw209 : k0_chk209 i v7646), ∀ (k0_h1 : k0_cond1 i = 1#1), ∀ a, (k0_off209 v7646) a + S1x1x512.size a ≤ S1x2048x512.size a := fun i v7646 k0_hw209 k0_h1 => k0_hw209 k0_h1

def k0_off210 (v7653 : BitVec 32) : Fin 3 → Nat :=
  let c0_5341 : Index := 0#32
  let v7654 : Index := Scalar.indexCast v7653
  let c0_5342 : Index := 0#32
  ![0, v7654.toNat, 0]

def k0_chk210 (i : grid0.Coords) (v7653 : BitVec 32) : Prop :=
  (∀ (k0_h1 : k0_cond1 i = 1#1), ∀ a, (k0_off210 v7653) a + S1x1x512.size a ≤ S1x2048x512.size a)
theorem k0_off210_inb : ∀ (i : grid0.Coords) (v7653 : BitVec 32) (k0_hw210 : k0_chk210 i v7653), ∀ (k0_h1 : k0_cond1 i = 1#1), ∀ a, (k0_off210 v7653) a + S1x1x512.size a ≤ S1x2048x512.size a := fun i v7653 k0_hw210 k0_h1 => k0_hw210 k0_h1

def k0_off211 (v7660 : BitVec 32) : Fin 3 → Nat :=
  let c0_5348 : Index := 0#32
  let v7661 : Index := Scalar.indexCast v7660
  let c0_5349 : Index := 0#32
  ![0, v7661.toNat, 0]

def k0_chk211 (i : grid0.Coords) (v7660 : BitVec 32) : Prop :=
  (∀ (k0_h1 : k0_cond1 i = 1#1), ∀ a, (k0_off211 v7660) a + S1x1x512.size a ≤ S1x2048x512.size a)
theorem k0_off211_inb : ∀ (i : grid0.Coords) (v7660 : BitVec 32) (k0_hw211 : k0_chk211 i v7660), ∀ (k0_h1 : k0_cond1 i = 1#1), ∀ a, (k0_off211 v7660) a + S1x1x512.size a ≤ S1x2048x512.size a := fun i v7660 k0_hw211 k0_h1 => k0_hw211 k0_h1

def k0_off212 (v7667 : BitVec 32) : Fin 3 → Nat :=
  let c0_5355 : Index := 0#32
  let v7668 : Index := Scalar.indexCast v7667
  let c0_5356 : Index := 0#32
  ![0, v7668.toNat, 0]

def k0_chk212 (i : grid0.Coords) (v7667 : BitVec 32) : Prop :=
  (∀ (k0_h1 : k0_cond1 i = 1#1), ∀ a, (k0_off212 v7667) a + S1x1x512.size a ≤ S1x2048x512.size a)
theorem k0_off212_inb : ∀ (i : grid0.Coords) (v7667 : BitVec 32) (k0_hw212 : k0_chk212 i v7667), ∀ (k0_h1 : k0_cond1 i = 1#1), ∀ a, (k0_off212 v7667) a + S1x1x512.size a ≤ S1x2048x512.size a := fun i v7667 k0_hw212 k0_h1 => k0_hw212 k0_h1

def k0_off213 (v7674 : BitVec 32) : Fin 3 → Nat :=
  let c0_5362 : Index := 0#32
  let v7675 : Index := Scalar.indexCast v7674
  let c0_5363 : Index := 0#32
  ![0, v7675.toNat, 0]

def k0_chk213 (i : grid0.Coords) (v7674 : BitVec 32) : Prop :=
  (∀ (k0_h1 : k0_cond1 i = 1#1), ∀ a, (k0_off213 v7674) a + S1x1x512.size a ≤ S1x2048x512.size a)
theorem k0_off213_inb : ∀ (i : grid0.Coords) (v7674 : BitVec 32) (k0_hw213 : k0_chk213 i v7674), ∀ (k0_h1 : k0_cond1 i = 1#1), ∀ a, (k0_off213 v7674) a + S1x1x512.size a ≤ S1x2048x512.size a := fun i v7674 k0_hw213 k0_h1 => k0_hw213 k0_h1

def k0_off214 (v7681 : BitVec 32) : Fin 3 → Nat :=
  let c0_5369 : Index := 0#32
  let v7682 : Index := Scalar.indexCast v7681
  let c0_5370 : Index := 0#32
  ![0, v7682.toNat, 0]

def k0_chk214 (i : grid0.Coords) (v7681 : BitVec 32) : Prop :=
  (∀ (k0_h1 : k0_cond1 i = 1#1), ∀ a, (k0_off214 v7681) a + S1x1x512.size a ≤ S1x2048x512.size a)
theorem k0_off214_inb : ∀ (i : grid0.Coords) (v7681 : BitVec 32) (k0_hw214 : k0_chk214 i v7681), ∀ (k0_h1 : k0_cond1 i = 1#1), ∀ a, (k0_off214 v7681) a + S1x1x512.size a ≤ S1x2048x512.size a := fun i v7681 k0_hw214 k0_h1 => k0_hw214 k0_h1

def k0_off215 (v7688 : BitVec 32) : Fin 3 → Nat :=
  let c0_5376 : Index := 0#32
  let v7689 : Index := Scalar.indexCast v7688
  let c0_5377 : Index := 0#32
  ![0, v7689.toNat, 0]

def k0_chk215 (i : grid0.Coords) (v7688 : BitVec 32) : Prop :=
  (∀ (k0_h1 : k0_cond1 i = 1#1), ∀ a, (k0_off215 v7688) a + S1x1x512.size a ≤ S1x2048x512.size a)
theorem k0_off215_inb : ∀ (i : grid0.Coords) (v7688 : BitVec 32) (k0_hw215 : k0_chk215 i v7688), ∀ (k0_h1 : k0_cond1 i = 1#1), ∀ a, (k0_off215 v7688) a + S1x1x512.size a ≤ S1x2048x512.size a := fun i v7688 k0_hw215 k0_h1 => k0_hw215 k0_h1

def k0_off216 (v7695 : BitVec 32) : Fin 3 → Nat :=
  let c0_5383 : Index := 0#32
  let v7696 : Index := Scalar.indexCast v7695
  let c0_5384 : Index := 0#32
  ![0, v7696.toNat, 0]

def k0_chk216 (i : grid0.Coords) (v7695 : BitVec 32) : Prop :=
  (∀ (k0_h1 : k0_cond1 i = 1#1), ∀ a, (k0_off216 v7695) a + S1x1x512.size a ≤ S1x2048x512.size a)
theorem k0_off216_inb : ∀ (i : grid0.Coords) (v7695 : BitVec 32) (k0_hw216 : k0_chk216 i v7695), ∀ (k0_h1 : k0_cond1 i = 1#1), ∀ a, (k0_off216 v7695) a + S1x1x512.size a ≤ S1x2048x512.size a := fun i v7695 k0_hw216 k0_h1 => k0_hw216 k0_h1

def k0_off217 (v7702 : BitVec 32) : Fin 3 → Nat :=
  let c0_5390 : Index := 0#32
  let v7703 : Index := Scalar.indexCast v7702
  let c0_5391 : Index := 0#32
  ![0, v7703.toNat, 0]

def k0_chk217 (i : grid0.Coords) (v7702 : BitVec 32) : Prop :=
  (∀ (k0_h1 : k0_cond1 i = 1#1), ∀ a, (k0_off217 v7702) a + S1x1x512.size a ≤ S1x2048x512.size a)
theorem k0_off217_inb : ∀ (i : grid0.Coords) (v7702 : BitVec 32) (k0_hw217 : k0_chk217 i v7702), ∀ (k0_h1 : k0_cond1 i = 1#1), ∀ a, (k0_off217 v7702) a + S1x1x512.size a ≤ S1x2048x512.size a := fun i v7702 k0_hw217 k0_h1 => k0_hw217 k0_h1

def k0_off218 (v7709 : BitVec 32) : Fin 3 → Nat :=
  let c0_5397 : Index := 0#32
  let v7710 : Index := Scalar.indexCast v7709
  let c0_5398 : Index := 0#32
  ![0, v7710.toNat, 0]

def k0_chk218 (i : grid0.Coords) (v7709 : BitVec 32) : Prop :=
  (∀ (k0_h1 : k0_cond1 i = 1#1), ∀ a, (k0_off218 v7709) a + S1x1x512.size a ≤ S1x2048x512.size a)
theorem k0_off218_inb : ∀ (i : grid0.Coords) (v7709 : BitVec 32) (k0_hw218 : k0_chk218 i v7709), ∀ (k0_h1 : k0_cond1 i = 1#1), ∀ a, (k0_off218 v7709) a + S1x1x512.size a ≤ S1x2048x512.size a := fun i v7709 k0_hw218 k0_h1 => k0_hw218 k0_h1

def k0_off219 (v7716 : BitVec 32) : Fin 3 → Nat :=
  let c0_5404 : Index := 0#32
  let v7717 : Index := Scalar.indexCast v7716
  let c0_5405 : Index := 0#32
  ![0, v7717.toNat, 0]

def k0_chk219 (i : grid0.Coords) (v7716 : BitVec 32) : Prop :=
  (∀ (k0_h1 : k0_cond1 i = 1#1), ∀ a, (k0_off219 v7716) a + S1x1x512.size a ≤ S1x2048x512.size a)
theorem k0_off219_inb : ∀ (i : grid0.Coords) (v7716 : BitVec 32) (k0_hw219 : k0_chk219 i v7716), ∀ (k0_h1 : k0_cond1 i = 1#1), ∀ a, (k0_off219 v7716) a + S1x1x512.size a ≤ S1x2048x512.size a := fun i v7716 k0_hw219 k0_h1 => k0_hw219 k0_h1

def k0_off220 (v7723 : BitVec 32) : Fin 3 → Nat :=
  let c0_5411 : Index := 0#32
  let v7724 : Index := Scalar.indexCast v7723
  let c0_5412 : Index := 0#32
  ![0, v7724.toNat, 0]

def k0_chk220 (i : grid0.Coords) (v7723 : BitVec 32) : Prop :=
  (∀ (k0_h1 : k0_cond1 i = 1#1), ∀ a, (k0_off220 v7723) a + S1x1x512.size a ≤ S1x2048x512.size a)
theorem k0_off220_inb : ∀ (i : grid0.Coords) (v7723 : BitVec 32) (k0_hw220 : k0_chk220 i v7723), ∀ (k0_h1 : k0_cond1 i = 1#1), ∀ a, (k0_off220 v7723) a + S1x1x512.size a ≤ S1x2048x512.size a := fun i v7723 k0_hw220 k0_h1 => k0_hw220 k0_h1

def k0_off221 (v7730 : BitVec 32) : Fin 3 → Nat :=
  let c0_5418 : Index := 0#32
  let v7731 : Index := Scalar.indexCast v7730
  let c0_5419 : Index := 0#32
  ![0, v7731.toNat, 0]

def k0_chk221 (i : grid0.Coords) (v7730 : BitVec 32) : Prop :=
  (∀ (k0_h1 : k0_cond1 i = 1#1), ∀ a, (k0_off221 v7730) a + S1x1x512.size a ≤ S1x2048x512.size a)
theorem k0_off221_inb : ∀ (i : grid0.Coords) (v7730 : BitVec 32) (k0_hw221 : k0_chk221 i v7730), ∀ (k0_h1 : k0_cond1 i = 1#1), ∀ a, (k0_off221 v7730) a + S1x1x512.size a ≤ S1x2048x512.size a := fun i v7730 k0_hw221 k0_h1 => k0_hw221 k0_h1

def k0_off222 (v7737 : BitVec 32) : Fin 3 → Nat :=
  let c0_5425 : Index := 0#32
  let v7738 : Index := Scalar.indexCast v7737
  let c0_5426 : Index := 0#32
  ![0, v7738.toNat, 0]

def k0_chk222 (i : grid0.Coords) (v7737 : BitVec 32) : Prop :=
  (∀ (k0_h1 : k0_cond1 i = 1#1), ∀ a, (k0_off222 v7737) a + S1x1x512.size a ≤ S1x2048x512.size a)
theorem k0_off222_inb : ∀ (i : grid0.Coords) (v7737 : BitVec 32) (k0_hw222 : k0_chk222 i v7737), ∀ (k0_h1 : k0_cond1 i = 1#1), ∀ a, (k0_off222 v7737) a + S1x1x512.size a ≤ S1x2048x512.size a := fun i v7737 k0_hw222 k0_h1 => k0_hw222 k0_h1

def k0_off223 (v7744 : BitVec 32) : Fin 3 → Nat :=
  let c0_5432 : Index := 0#32
  let v7745 : Index := Scalar.indexCast v7744
  let c0_5433 : Index := 0#32
  ![0, v7745.toNat, 0]

def k0_chk223 (i : grid0.Coords) (v7744 : BitVec 32) : Prop :=
  (∀ (k0_h1 : k0_cond1 i = 1#1), ∀ a, (k0_off223 v7744) a + S1x1x512.size a ≤ S1x2048x512.size a)
theorem k0_off223_inb : ∀ (i : grid0.Coords) (v7744 : BitVec 32) (k0_hw223 : k0_chk223 i v7744), ∀ (k0_h1 : k0_cond1 i = 1#1), ∀ a, (k0_off223 v7744) a + S1x1x512.size a ≤ S1x2048x512.size a := fun i v7744 k0_hw223 k0_h1 => k0_hw223 k0_h1

def k0_off224 (v7751 : BitVec 32) : Fin 3 → Nat :=
  let c0_5439 : Index := 0#32
  let v7752 : Index := Scalar.indexCast v7751
  let c0_5440 : Index := 0#32
  ![0, v7752.toNat, 0]

def k0_chk224 (i : grid0.Coords) (v7751 : BitVec 32) : Prop :=
  (∀ (k0_h1 : k0_cond1 i = 1#1), ∀ a, (k0_off224 v7751) a + S1x1x512.size a ≤ S1x2048x512.size a)
theorem k0_off224_inb : ∀ (i : grid0.Coords) (v7751 : BitVec 32) (k0_hw224 : k0_chk224 i v7751), ∀ (k0_h1 : k0_cond1 i = 1#1), ∀ a, (k0_off224 v7751) a + S1x1x512.size a ≤ S1x2048x512.size a := fun i v7751 k0_hw224 k0_h1 => k0_hw224 k0_h1

def k0_off225 (v7758 : BitVec 32) : Fin 3 → Nat :=
  let c0_5446 : Index := 0#32
  let v7759 : Index := Scalar.indexCast v7758
  let c0_5447 : Index := 0#32
  ![0, v7759.toNat, 0]

def k0_chk225 (i : grid0.Coords) (v7758 : BitVec 32) : Prop :=
  (∀ (k0_h1 : k0_cond1 i = 1#1), ∀ a, (k0_off225 v7758) a + S1x1x512.size a ≤ S1x2048x512.size a)
theorem k0_off225_inb : ∀ (i : grid0.Coords) (v7758 : BitVec 32) (k0_hw225 : k0_chk225 i v7758), ∀ (k0_h1 : k0_cond1 i = 1#1), ∀ a, (k0_off225 v7758) a + S1x1x512.size a ≤ S1x2048x512.size a := fun i v7758 k0_hw225 k0_h1 => k0_hw225 k0_h1

def k0_off226 (v7765 : BitVec 32) : Fin 3 → Nat :=
  let c0_5453 : Index := 0#32
  let v7766 : Index := Scalar.indexCast v7765
  let c0_5454 : Index := 0#32
  ![0, v7766.toNat, 0]

def k0_chk226 (i : grid0.Coords) (v7765 : BitVec 32) : Prop :=
  (∀ (k0_h1 : k0_cond1 i = 1#1), ∀ a, (k0_off226 v7765) a + S1x1x512.size a ≤ S1x2048x512.size a)
theorem k0_off226_inb : ∀ (i : grid0.Coords) (v7765 : BitVec 32) (k0_hw226 : k0_chk226 i v7765), ∀ (k0_h1 : k0_cond1 i = 1#1), ∀ a, (k0_off226 v7765) a + S1x1x512.size a ≤ S1x2048x512.size a := fun i v7765 k0_hw226 k0_h1 => k0_hw226 k0_h1

def k0_off227 (v7772 : BitVec 32) : Fin 3 → Nat :=
  let c0_5460 : Index := 0#32
  let v7773 : Index := Scalar.indexCast v7772
  let c0_5461 : Index := 0#32
  ![0, v7773.toNat, 0]

def k0_chk227 (i : grid0.Coords) (v7772 : BitVec 32) : Prop :=
  (∀ (k0_h1 : k0_cond1 i = 1#1), ∀ a, (k0_off227 v7772) a + S1x1x512.size a ≤ S1x2048x512.size a)
theorem k0_off227_inb : ∀ (i : grid0.Coords) (v7772 : BitVec 32) (k0_hw227 : k0_chk227 i v7772), ∀ (k0_h1 : k0_cond1 i = 1#1), ∀ a, (k0_off227 v7772) a + S1x1x512.size a ≤ S1x2048x512.size a := fun i v7772 k0_hw227 k0_h1 => k0_hw227 k0_h1

def k0_off228 (v7779 : BitVec 32) : Fin 3 → Nat :=
  let c0_5467 : Index := 0#32
  let v7780 : Index := Scalar.indexCast v7779
  let c0_5468 : Index := 0#32
  ![0, v7780.toNat, 0]

def k0_chk228 (i : grid0.Coords) (v7779 : BitVec 32) : Prop :=
  (∀ (k0_h1 : k0_cond1 i = 1#1), ∀ a, (k0_off228 v7779) a + S1x1x512.size a ≤ S1x2048x512.size a)
theorem k0_off228_inb : ∀ (i : grid0.Coords) (v7779 : BitVec 32) (k0_hw228 : k0_chk228 i v7779), ∀ (k0_h1 : k0_cond1 i = 1#1), ∀ a, (k0_off228 v7779) a + S1x1x512.size a ≤ S1x2048x512.size a := fun i v7779 k0_hw228 k0_h1 => k0_hw228 k0_h1

def k0_off229 (v7786 : BitVec 32) : Fin 3 → Nat :=
  let c0_5474 : Index := 0#32
  let v7787 : Index := Scalar.indexCast v7786
  let c0_5475 : Index := 0#32
  ![0, v7787.toNat, 0]

def k0_chk229 (i : grid0.Coords) (v7786 : BitVec 32) : Prop :=
  (∀ (k0_h1 : k0_cond1 i = 1#1), ∀ a, (k0_off229 v7786) a + S1x1x512.size a ≤ S1x2048x512.size a)
theorem k0_off229_inb : ∀ (i : grid0.Coords) (v7786 : BitVec 32) (k0_hw229 : k0_chk229 i v7786), ∀ (k0_h1 : k0_cond1 i = 1#1), ∀ a, (k0_off229 v7786) a + S1x1x512.size a ≤ S1x2048x512.size a := fun i v7786 k0_hw229 k0_h1 => k0_hw229 k0_h1

def k0_off230 (v7793 : BitVec 32) : Fin 3 → Nat :=
  let c0_5481 : Index := 0#32
  let v7794 : Index := Scalar.indexCast v7793
  let c0_5482 : Index := 0#32
  ![0, v7794.toNat, 0]

def k0_chk230 (i : grid0.Coords) (v7793 : BitVec 32) : Prop :=
  (∀ (k0_h1 : k0_cond1 i = 1#1), ∀ a, (k0_off230 v7793) a + S1x1x512.size a ≤ S1x2048x512.size a)
theorem k0_off230_inb : ∀ (i : grid0.Coords) (v7793 : BitVec 32) (k0_hw230 : k0_chk230 i v7793), ∀ (k0_h1 : k0_cond1 i = 1#1), ∀ a, (k0_off230 v7793) a + S1x1x512.size a ≤ S1x2048x512.size a := fun i v7793 k0_hw230 k0_h1 => k0_hw230 k0_h1

def k0_off231 (v7800 : BitVec 32) : Fin 3 → Nat :=
  let c0_5488 : Index := 0#32
  let v7801 : Index := Scalar.indexCast v7800
  let c0_5489 : Index := 0#32
  ![0, v7801.toNat, 0]

def k0_chk231 (i : grid0.Coords) (v7800 : BitVec 32) : Prop :=
  (∀ (k0_h1 : k0_cond1 i = 1#1), ∀ a, (k0_off231 v7800) a + S1x1x512.size a ≤ S1x2048x512.size a)
theorem k0_off231_inb : ∀ (i : grid0.Coords) (v7800 : BitVec 32) (k0_hw231 : k0_chk231 i v7800), ∀ (k0_h1 : k0_cond1 i = 1#1), ∀ a, (k0_off231 v7800) a + S1x1x512.size a ≤ S1x2048x512.size a := fun i v7800 k0_hw231 k0_h1 => k0_hw231 k0_h1

def k0_off232 (v7807 : BitVec 32) : Fin 3 → Nat :=
  let c0_5495 : Index := 0#32
  let v7808 : Index := Scalar.indexCast v7807
  let c0_5496 : Index := 0#32
  ![0, v7808.toNat, 0]

def k0_chk232 (i : grid0.Coords) (v7807 : BitVec 32) : Prop :=
  (∀ (k0_h1 : k0_cond1 i = 1#1), ∀ a, (k0_off232 v7807) a + S1x1x512.size a ≤ S1x2048x512.size a)
theorem k0_off232_inb : ∀ (i : grid0.Coords) (v7807 : BitVec 32) (k0_hw232 : k0_chk232 i v7807), ∀ (k0_h1 : k0_cond1 i = 1#1), ∀ a, (k0_off232 v7807) a + S1x1x512.size a ≤ S1x2048x512.size a := fun i v7807 k0_hw232 k0_h1 => k0_hw232 k0_h1

def k0_off233 (v7814 : BitVec 32) : Fin 3 → Nat :=
  let c0_5502 : Index := 0#32
  let v7815 : Index := Scalar.indexCast v7814
  let c0_5503 : Index := 0#32
  ![0, v7815.toNat, 0]

def k0_chk233 (i : grid0.Coords) (v7814 : BitVec 32) : Prop :=
  (∀ (k0_h1 : k0_cond1 i = 1#1), ∀ a, (k0_off233 v7814) a + S1x1x512.size a ≤ S1x2048x512.size a)
theorem k0_off233_inb : ∀ (i : grid0.Coords) (v7814 : BitVec 32) (k0_hw233 : k0_chk233 i v7814), ∀ (k0_h1 : k0_cond1 i = 1#1), ∀ a, (k0_off233 v7814) a + S1x1x512.size a ≤ S1x2048x512.size a := fun i v7814 k0_hw233 k0_h1 => k0_hw233 k0_h1

def k0_off234 (v7821 : BitVec 32) : Fin 3 → Nat :=
  let c0_5509 : Index := 0#32
  let v7822 : Index := Scalar.indexCast v7821
  let c0_5510 : Index := 0#32
  ![0, v7822.toNat, 0]

def k0_chk234 (i : grid0.Coords) (v7821 : BitVec 32) : Prop :=
  (∀ (k0_h1 : k0_cond1 i = 1#1), ∀ a, (k0_off234 v7821) a + S1x1x512.size a ≤ S1x2048x512.size a)
theorem k0_off234_inb : ∀ (i : grid0.Coords) (v7821 : BitVec 32) (k0_hw234 : k0_chk234 i v7821), ∀ (k0_h1 : k0_cond1 i = 1#1), ∀ a, (k0_off234 v7821) a + S1x1x512.size a ≤ S1x2048x512.size a := fun i v7821 k0_hw234 k0_h1 => k0_hw234 k0_h1

def k0_off235 (v7828 : BitVec 32) : Fin 3 → Nat :=
  let c0_5516 : Index := 0#32
  let v7829 : Index := Scalar.indexCast v7828
  let c0_5517 : Index := 0#32
  ![0, v7829.toNat, 0]

def k0_chk235 (i : grid0.Coords) (v7828 : BitVec 32) : Prop :=
  (∀ (k0_h1 : k0_cond1 i = 1#1), ∀ a, (k0_off235 v7828) a + S1x1x512.size a ≤ S1x2048x512.size a)
theorem k0_off235_inb : ∀ (i : grid0.Coords) (v7828 : BitVec 32) (k0_hw235 : k0_chk235 i v7828), ∀ (k0_h1 : k0_cond1 i = 1#1), ∀ a, (k0_off235 v7828) a + S1x1x512.size a ≤ S1x2048x512.size a := fun i v7828 k0_hw235 k0_h1 => k0_hw235 k0_h1

def k0_off236 (v7835 : BitVec 32) : Fin 3 → Nat :=
  let c0_5523 : Index := 0#32
  let v7836 : Index := Scalar.indexCast v7835
  let c0_5524 : Index := 0#32
  ![0, v7836.toNat, 0]

def k0_chk236 (i : grid0.Coords) (v7835 : BitVec 32) : Prop :=
  (∀ (k0_h1 : k0_cond1 i = 1#1), ∀ a, (k0_off236 v7835) a + S1x1x512.size a ≤ S1x2048x512.size a)
theorem k0_off236_inb : ∀ (i : grid0.Coords) (v7835 : BitVec 32) (k0_hw236 : k0_chk236 i v7835), ∀ (k0_h1 : k0_cond1 i = 1#1), ∀ a, (k0_off236 v7835) a + S1x1x512.size a ≤ S1x2048x512.size a := fun i v7835 k0_hw236 k0_h1 => k0_hw236 k0_h1

def k0_off237 (v7842 : BitVec 32) : Fin 3 → Nat :=
  let c0_5530 : Index := 0#32
  let v7843 : Index := Scalar.indexCast v7842
  let c0_5531 : Index := 0#32
  ![0, v7843.toNat, 0]

def k0_chk237 (i : grid0.Coords) (v7842 : BitVec 32) : Prop :=
  (∀ (k0_h1 : k0_cond1 i = 1#1), ∀ a, (k0_off237 v7842) a + S1x1x512.size a ≤ S1x2048x512.size a)
theorem k0_off237_inb : ∀ (i : grid0.Coords) (v7842 : BitVec 32) (k0_hw237 : k0_chk237 i v7842), ∀ (k0_h1 : k0_cond1 i = 1#1), ∀ a, (k0_off237 v7842) a + S1x1x512.size a ≤ S1x2048x512.size a := fun i v7842 k0_hw237 k0_h1 => k0_hw237 k0_h1

def k0_off238 (v7849 : BitVec 32) : Fin 3 → Nat :=
  let c0_5537 : Index := 0#32
  let v7850 : Index := Scalar.indexCast v7849
  let c0_5538 : Index := 0#32
  ![0, v7850.toNat, 0]

def k0_chk238 (i : grid0.Coords) (v7849 : BitVec 32) : Prop :=
  (∀ (k0_h1 : k0_cond1 i = 1#1), ∀ a, (k0_off238 v7849) a + S1x1x512.size a ≤ S1x2048x512.size a)
theorem k0_off238_inb : ∀ (i : grid0.Coords) (v7849 : BitVec 32) (k0_hw238 : k0_chk238 i v7849), ∀ (k0_h1 : k0_cond1 i = 1#1), ∀ a, (k0_off238 v7849) a + S1x1x512.size a ≤ S1x2048x512.size a := fun i v7849 k0_hw238 k0_h1 => k0_hw238 k0_h1

def k0_off239 (v7856 : BitVec 32) : Fin 3 → Nat :=
  let c0_5544 : Index := 0#32
  let v7857 : Index := Scalar.indexCast v7856
  let c0_5545 : Index := 0#32
  ![0, v7857.toNat, 0]

def k0_chk239 (i : grid0.Coords) (v7856 : BitVec 32) : Prop :=
  (∀ (k0_h1 : k0_cond1 i = 1#1), ∀ a, (k0_off239 v7856) a + S1x1x512.size a ≤ S1x2048x512.size a)
theorem k0_off239_inb : ∀ (i : grid0.Coords) (v7856 : BitVec 32) (k0_hw239 : k0_chk239 i v7856), ∀ (k0_h1 : k0_cond1 i = 1#1), ∀ a, (k0_off239 v7856) a + S1x1x512.size a ≤ S1x2048x512.size a := fun i v7856 k0_hw239 k0_h1 => k0_hw239 k0_h1

def k0_off240 (v7863 : BitVec 32) : Fin 3 → Nat :=
  let c0_5551 : Index := 0#32
  let v7864 : Index := Scalar.indexCast v7863
  let c0_5552 : Index := 0#32
  ![0, v7864.toNat, 0]

def k0_chk240 (i : grid0.Coords) (v7863 : BitVec 32) : Prop :=
  (∀ (k0_h1 : k0_cond1 i = 1#1), ∀ a, (k0_off240 v7863) a + S1x1x512.size a ≤ S1x2048x512.size a)
theorem k0_off240_inb : ∀ (i : grid0.Coords) (v7863 : BitVec 32) (k0_hw240 : k0_chk240 i v7863), ∀ (k0_h1 : k0_cond1 i = 1#1), ∀ a, (k0_off240 v7863) a + S1x1x512.size a ≤ S1x2048x512.size a := fun i v7863 k0_hw240 k0_h1 => k0_hw240 k0_h1

def k0_off241 (v7870 : BitVec 32) : Fin 3 → Nat :=
  let c0_5558 : Index := 0#32
  let v7871 : Index := Scalar.indexCast v7870
  let c0_5559 : Index := 0#32
  ![0, v7871.toNat, 0]

def k0_chk241 (i : grid0.Coords) (v7870 : BitVec 32) : Prop :=
  (∀ (k0_h1 : k0_cond1 i = 1#1), ∀ a, (k0_off241 v7870) a + S1x1x512.size a ≤ S1x2048x512.size a)
theorem k0_off241_inb : ∀ (i : grid0.Coords) (v7870 : BitVec 32) (k0_hw241 : k0_chk241 i v7870), ∀ (k0_h1 : k0_cond1 i = 1#1), ∀ a, (k0_off241 v7870) a + S1x1x512.size a ≤ S1x2048x512.size a := fun i v7870 k0_hw241 k0_h1 => k0_hw241 k0_h1

def k0_off242 (v7877 : BitVec 32) : Fin 3 → Nat :=
  let c0_5565 : Index := 0#32
  let v7878 : Index := Scalar.indexCast v7877
  let c0_5566 : Index := 0#32
  ![0, v7878.toNat, 0]

def k0_chk242 (i : grid0.Coords) (v7877 : BitVec 32) : Prop :=
  (∀ (k0_h1 : k0_cond1 i = 1#1), ∀ a, (k0_off242 v7877) a + S1x1x512.size a ≤ S1x2048x512.size a)
theorem k0_off242_inb : ∀ (i : grid0.Coords) (v7877 : BitVec 32) (k0_hw242 : k0_chk242 i v7877), ∀ (k0_h1 : k0_cond1 i = 1#1), ∀ a, (k0_off242 v7877) a + S1x1x512.size a ≤ S1x2048x512.size a := fun i v7877 k0_hw242 k0_h1 => k0_hw242 k0_h1

def k0_off243 (v7884 : BitVec 32) : Fin 3 → Nat :=
  let c0_5572 : Index := 0#32
  let v7885 : Index := Scalar.indexCast v7884
  let c0_5573 : Index := 0#32
  ![0, v7885.toNat, 0]

def k0_chk243 (i : grid0.Coords) (v7884 : BitVec 32) : Prop :=
  (∀ (k0_h1 : k0_cond1 i = 1#1), ∀ a, (k0_off243 v7884) a + S1x1x512.size a ≤ S1x2048x512.size a)
theorem k0_off243_inb : ∀ (i : grid0.Coords) (v7884 : BitVec 32) (k0_hw243 : k0_chk243 i v7884), ∀ (k0_h1 : k0_cond1 i = 1#1), ∀ a, (k0_off243 v7884) a + S1x1x512.size a ≤ S1x2048x512.size a := fun i v7884 k0_hw243 k0_h1 => k0_hw243 k0_h1

def k0_off244 (v7891 : BitVec 32) : Fin 3 → Nat :=
  let c0_5579 : Index := 0#32
  let v7892 : Index := Scalar.indexCast v7891
  let c0_5580 : Index := 0#32
  ![0, v7892.toNat, 0]

def k0_chk244 (i : grid0.Coords) (v7891 : BitVec 32) : Prop :=
  (∀ (k0_h1 : k0_cond1 i = 1#1), ∀ a, (k0_off244 v7891) a + S1x1x512.size a ≤ S1x2048x512.size a)
theorem k0_off244_inb : ∀ (i : grid0.Coords) (v7891 : BitVec 32) (k0_hw244 : k0_chk244 i v7891), ∀ (k0_h1 : k0_cond1 i = 1#1), ∀ a, (k0_off244 v7891) a + S1x1x512.size a ≤ S1x2048x512.size a := fun i v7891 k0_hw244 k0_h1 => k0_hw244 k0_h1

def k0_off245 (v7898 : BitVec 32) : Fin 3 → Nat :=
  let c0_5586 : Index := 0#32
  let v7899 : Index := Scalar.indexCast v7898
  let c0_5587 : Index := 0#32
  ![0, v7899.toNat, 0]

def k0_chk245 (i : grid0.Coords) (v7898 : BitVec 32) : Prop :=
  (∀ (k0_h1 : k0_cond1 i = 1#1), ∀ a, (k0_off245 v7898) a + S1x1x512.size a ≤ S1x2048x512.size a)
theorem k0_off245_inb : ∀ (i : grid0.Coords) (v7898 : BitVec 32) (k0_hw245 : k0_chk245 i v7898), ∀ (k0_h1 : k0_cond1 i = 1#1), ∀ a, (k0_off245 v7898) a + S1x1x512.size a ≤ S1x2048x512.size a := fun i v7898 k0_hw245 k0_h1 => k0_hw245 k0_h1

def k0_off246 (v7905 : BitVec 32) : Fin 3 → Nat :=
  let c0_5593 : Index := 0#32
  let v7906 : Index := Scalar.indexCast v7905
  let c0_5594 : Index := 0#32
  ![0, v7906.toNat, 0]

def k0_chk246 (i : grid0.Coords) (v7905 : BitVec 32) : Prop :=
  (∀ (k0_h1 : k0_cond1 i = 1#1), ∀ a, (k0_off246 v7905) a + S1x1x512.size a ≤ S1x2048x512.size a)
theorem k0_off246_inb : ∀ (i : grid0.Coords) (v7905 : BitVec 32) (k0_hw246 : k0_chk246 i v7905), ∀ (k0_h1 : k0_cond1 i = 1#1), ∀ a, (k0_off246 v7905) a + S1x1x512.size a ≤ S1x2048x512.size a := fun i v7905 k0_hw246 k0_h1 => k0_hw246 k0_h1

def k0_off247 (v7912 : BitVec 32) : Fin 3 → Nat :=
  let c0_5600 : Index := 0#32
  let v7913 : Index := Scalar.indexCast v7912
  let c0_5601 : Index := 0#32
  ![0, v7913.toNat, 0]

def k0_chk247 (i : grid0.Coords) (v7912 : BitVec 32) : Prop :=
  (∀ (k0_h1 : k0_cond1 i = 1#1), ∀ a, (k0_off247 v7912) a + S1x1x512.size a ≤ S1x2048x512.size a)
theorem k0_off247_inb : ∀ (i : grid0.Coords) (v7912 : BitVec 32) (k0_hw247 : k0_chk247 i v7912), ∀ (k0_h1 : k0_cond1 i = 1#1), ∀ a, (k0_off247 v7912) a + S1x1x512.size a ≤ S1x2048x512.size a := fun i v7912 k0_hw247 k0_h1 => k0_hw247 k0_h1

def k0_off248 (v7919 : BitVec 32) : Fin 3 → Nat :=
  let c0_5607 : Index := 0#32
  let v7920 : Index := Scalar.indexCast v7919
  let c0_5608 : Index := 0#32
  ![0, v7920.toNat, 0]

def k0_chk248 (i : grid0.Coords) (v7919 : BitVec 32) : Prop :=
  (∀ (k0_h1 : k0_cond1 i = 1#1), ∀ a, (k0_off248 v7919) a + S1x1x512.size a ≤ S1x2048x512.size a)
theorem k0_off248_inb : ∀ (i : grid0.Coords) (v7919 : BitVec 32) (k0_hw248 : k0_chk248 i v7919), ∀ (k0_h1 : k0_cond1 i = 1#1), ∀ a, (k0_off248 v7919) a + S1x1x512.size a ≤ S1x2048x512.size a := fun i v7919 k0_hw248 k0_h1 => k0_hw248 k0_h1

def k0_off249 (v7926 : BitVec 32) : Fin 3 → Nat :=
  let c0_5614 : Index := 0#32
  let v7927 : Index := Scalar.indexCast v7926
  let c0_5615 : Index := 0#32
  ![0, v7927.toNat, 0]

def k0_chk249 (i : grid0.Coords) (v7926 : BitVec 32) : Prop :=
  (∀ (k0_h1 : k0_cond1 i = 1#1), ∀ a, (k0_off249 v7926) a + S1x1x512.size a ≤ S1x2048x512.size a)
theorem k0_off249_inb : ∀ (i : grid0.Coords) (v7926 : BitVec 32) (k0_hw249 : k0_chk249 i v7926), ∀ (k0_h1 : k0_cond1 i = 1#1), ∀ a, (k0_off249 v7926) a + S1x1x512.size a ≤ S1x2048x512.size a := fun i v7926 k0_hw249 k0_h1 => k0_hw249 k0_h1

def k0_off250 (v7933 : BitVec 32) : Fin 3 → Nat :=
  let c0_5621 : Index := 0#32
  let v7934 : Index := Scalar.indexCast v7933
  let c0_5622 : Index := 0#32
  ![0, v7934.toNat, 0]

def k0_chk250 (i : grid0.Coords) (v7933 : BitVec 32) : Prop :=
  (∀ (k0_h1 : k0_cond1 i = 1#1), ∀ a, (k0_off250 v7933) a + S1x1x512.size a ≤ S1x2048x512.size a)
theorem k0_off250_inb : ∀ (i : grid0.Coords) (v7933 : BitVec 32) (k0_hw250 : k0_chk250 i v7933), ∀ (k0_h1 : k0_cond1 i = 1#1), ∀ a, (k0_off250 v7933) a + S1x1x512.size a ≤ S1x2048x512.size a := fun i v7933 k0_hw250 k0_h1 => k0_hw250 k0_h1

def k0_off251 (v7940 : BitVec 32) : Fin 3 → Nat :=
  let c0_5628 : Index := 0#32
  let v7941 : Index := Scalar.indexCast v7940
  let c0_5629 : Index := 0#32
  ![0, v7941.toNat, 0]

def k0_chk251 (i : grid0.Coords) (v7940 : BitVec 32) : Prop :=
  (∀ (k0_h1 : k0_cond1 i = 1#1), ∀ a, (k0_off251 v7940) a + S1x1x512.size a ≤ S1x2048x512.size a)
theorem k0_off251_inb : ∀ (i : grid0.Coords) (v7940 : BitVec 32) (k0_hw251 : k0_chk251 i v7940), ∀ (k0_h1 : k0_cond1 i = 1#1), ∀ a, (k0_off251 v7940) a + S1x1x512.size a ≤ S1x2048x512.size a := fun i v7940 k0_hw251 k0_h1 => k0_hw251 k0_h1

def k0_off252 (v7947 : BitVec 32) : Fin 3 → Nat :=
  let c0_5635 : Index := 0#32
  let v7948 : Index := Scalar.indexCast v7947
  let c0_5636 : Index := 0#32
  ![0, v7948.toNat, 0]

def k0_chk252 (i : grid0.Coords) (v7947 : BitVec 32) : Prop :=
  (∀ (k0_h1 : k0_cond1 i = 1#1), ∀ a, (k0_off252 v7947) a + S1x1x512.size a ≤ S1x2048x512.size a)
theorem k0_off252_inb : ∀ (i : grid0.Coords) (v7947 : BitVec 32) (k0_hw252 : k0_chk252 i v7947), ∀ (k0_h1 : k0_cond1 i = 1#1), ∀ a, (k0_off252 v7947) a + S1x1x512.size a ≤ S1x2048x512.size a := fun i v7947 k0_hw252 k0_h1 => k0_hw252 k0_h1

def k0_off253 (v7954 : BitVec 32) : Fin 3 → Nat :=
  let c0_5642 : Index := 0#32
  let v7955 : Index := Scalar.indexCast v7954
  let c0_5643 : Index := 0#32
  ![0, v7955.toNat, 0]

def k0_chk253 (i : grid0.Coords) (v7954 : BitVec 32) : Prop :=
  (∀ (k0_h1 : k0_cond1 i = 1#1), ∀ a, (k0_off253 v7954) a + S1x1x512.size a ≤ S1x2048x512.size a)
theorem k0_off253_inb : ∀ (i : grid0.Coords) (v7954 : BitVec 32) (k0_hw253 : k0_chk253 i v7954), ∀ (k0_h1 : k0_cond1 i = 1#1), ∀ a, (k0_off253 v7954) a + S1x1x512.size a ≤ S1x2048x512.size a := fun i v7954 k0_hw253 k0_h1 => k0_hw253 k0_h1

def k0_off254 (v7961 : BitVec 32) : Fin 3 → Nat :=
  let c0_5649 : Index := 0#32
  let v7962 : Index := Scalar.indexCast v7961
  let c0_5650 : Index := 0#32
  ![0, v7962.toNat, 0]

def k0_chk254 (i : grid0.Coords) (v7961 : BitVec 32) : Prop :=
  (∀ (k0_h1 : k0_cond1 i = 1#1), ∀ a, (k0_off254 v7961) a + S1x1x512.size a ≤ S1x2048x512.size a)
theorem k0_off254_inb : ∀ (i : grid0.Coords) (v7961 : BitVec 32) (k0_hw254 : k0_chk254 i v7961), ∀ (k0_h1 : k0_cond1 i = 1#1), ∀ a, (k0_off254 v7961) a + S1x1x512.size a ≤ S1x2048x512.size a := fun i v7961 k0_hw254 k0_h1 => k0_hw254 k0_h1

def k0_off255 (v7968 : BitVec 32) : Fin 3 → Nat :=
  let c0_5656 : Index := 0#32
  let v7969 : Index := Scalar.indexCast v7968
  let c0_5657 : Index := 0#32
  ![0, v7969.toNat, 0]

def k0_chk255 (i : grid0.Coords) (v7968 : BitVec 32) : Prop :=
  (∀ (k0_h1 : k0_cond1 i = 1#1), ∀ a, (k0_off255 v7968) a + S1x1x512.size a ≤ S1x2048x512.size a)
theorem k0_off255_inb : ∀ (i : grid0.Coords) (v7968 : BitVec 32) (k0_hw255 : k0_chk255 i v7968), ∀ (k0_h1 : k0_cond1 i = 1#1), ∀ a, (k0_off255 v7968) a + S1x1x512.size a ≤ S1x2048x512.size a := fun i v7968 k0_hw255 k0_h1 => k0_hw255 k0_h1

def k0_off256 (v7975 : BitVec 32) : Fin 3 → Nat :=
  let c0_5663 : Index := 0#32
  let v7976 : Index := Scalar.indexCast v7975
  let c0_5664 : Index := 0#32
  ![0, v7976.toNat, 0]

def k0_chk256 (i : grid0.Coords) (v7975 : BitVec 32) : Prop :=
  (∀ (k0_h1 : k0_cond1 i = 1#1), ∀ a, (k0_off256 v7975) a + S1x1x512.size a ≤ S1x2048x512.size a)
theorem k0_off256_inb : ∀ (i : grid0.Coords) (v7975 : BitVec 32) (k0_hw256 : k0_chk256 i v7975), ∀ (k0_h1 : k0_cond1 i = 1#1), ∀ a, (k0_off256 v7975) a + S1x1x512.size a ≤ S1x2048x512.size a := fun i v7975 k0_hw256 k0_h1 => k0_hw256 k0_h1

def k0_off257 (i : grid0.Coords) : Fin 3 → Nat :=
  let c0_2 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v10 : Index := Scalar.indexCast v9
  let c0_3 : Index := 0#32
  ![0, v10.toNat, 0]
def k0_off258 (v11 : BitVec 32) : Fin 3 → Nat :=
  let c0_4 : Index := 0#32
  let v12 : Index := Scalar.indexCast v11
  let c0_5 : Index := 0#32
  ![0, v12.toNat, 0]

def k0_chk257 (v11 : BitVec 32) : Prop :=
  (∀ a, (k0_off258 v11) a + S1x1x512.size a ≤ S1x2048x512.size a)
theorem k0_off258_inb : ∀ (v11 : BitVec 32) (k0_hw257 : k0_chk257 v11), ∀ a, (k0_off258 v11) a + S1x1x512.size a ≤ S1x2048x512.size a := fun v11 k0_hw257 => k0_hw257

def k0_off259 (i : grid0.Coords) : Fin 3 → Nat :=
  let c0_8 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v18 : Index := Scalar.indexCast v9
  let c1 : Index := 1#32
  ![0, v18.toNat, 1]
def k0_off260 (v19 : BitVec 32) : Fin 3 → Nat :=
  let c0_9 : Index := 0#32
  let v20 : Index := Scalar.indexCast v19
  let c0_10 : Index := 0#32
  ![0, v20.toNat, 0]

def k0_chk258 (v19 : BitVec 32) : Prop :=
  (∀ a, (k0_off260 v19) a + S1x1x512.size a ≤ S1x2048x512.size a)
theorem k0_off260_inb : ∀ (v19 : BitVec 32) (k0_hw258 : k0_chk258 v19), ∀ a, (k0_off260 v19) a + S1x1x512.size a ≤ S1x2048x512.size a := fun v19 k0_hw258 => k0_hw258

def k0_off261 (i : grid0.Coords) : Fin 3 → Nat :=
  let c0_13 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v26 : Index := Scalar.indexCast v9
  let c2 : Index := 2#32
  ![0, v26.toNat, 2]
def k0_off262 (v27 : BitVec 32) : Fin 3 → Nat :=
  let c0_14 : Index := 0#32
  let v28 : Index := Scalar.indexCast v27
  let c0_15 : Index := 0#32
  ![0, v28.toNat, 0]

def k0_chk259 (v27 : BitVec 32) : Prop :=
  (∀ a, (k0_off262 v27) a + S1x1x512.size a ≤ S1x2048x512.size a)
theorem k0_off262_inb : ∀ (v27 : BitVec 32) (k0_hw259 : k0_chk259 v27), ∀ a, (k0_off262 v27) a + S1x1x512.size a ≤ S1x2048x512.size a := fun v27 k0_hw259 => k0_hw259

def k0_off263 (i : grid0.Coords) : Fin 3 → Nat :=
  let c0_18 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v34 : Index := Scalar.indexCast v9
  let c3 : Index := 3#32
  ![0, v34.toNat, 3]
def k0_off264 (v35 : BitVec 32) : Fin 3 → Nat :=
  let c0_19 : Index := 0#32
  let v36 : Index := Scalar.indexCast v35
  let c0_20 : Index := 0#32
  ![0, v36.toNat, 0]

def k0_chk260 (v35 : BitVec 32) : Prop :=
  (∀ a, (k0_off264 v35) a + S1x1x512.size a ≤ S1x2048x512.size a)
theorem k0_off264_inb : ∀ (v35 : BitVec 32) (k0_hw260 : k0_chk260 v35), ∀ a, (k0_off264 v35) a + S1x1x512.size a ≤ S1x2048x512.size a := fun v35 k0_hw260 => k0_hw260

def k0_off265 (i : grid0.Coords) : Fin 3 → Nat :=
  let c0_23 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v42 : Index := Scalar.indexCast v9
  let c4 : Index := 4#32
  ![0, v42.toNat, 4]
def k0_off266 (v43 : BitVec 32) : Fin 3 → Nat :=
  let c0_24 : Index := 0#32
  let v44 : Index := Scalar.indexCast v43
  let c0_25 : Index := 0#32
  ![0, v44.toNat, 0]

def k0_chk261 (v43 : BitVec 32) : Prop :=
  (∀ a, (k0_off266 v43) a + S1x1x512.size a ≤ S1x2048x512.size a)
theorem k0_off266_inb : ∀ (v43 : BitVec 32) (k0_hw261 : k0_chk261 v43), ∀ a, (k0_off266 v43) a + S1x1x512.size a ≤ S1x2048x512.size a := fun v43 k0_hw261 => k0_hw261

def k0_off267 (i : grid0.Coords) : Fin 3 → Nat :=
  let c0_28 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v50 : Index := Scalar.indexCast v9
  let c5 : Index := 5#32
  ![0, v50.toNat, 5]
def k0_off268 (v51 : BitVec 32) : Fin 3 → Nat :=
  let c0_29 : Index := 0#32
  let v52 : Index := Scalar.indexCast v51
  let c0_30 : Index := 0#32
  ![0, v52.toNat, 0]

def k0_chk262 (v51 : BitVec 32) : Prop :=
  (∀ a, (k0_off268 v51) a + S1x1x512.size a ≤ S1x2048x512.size a)
theorem k0_off268_inb : ∀ (v51 : BitVec 32) (k0_hw262 : k0_chk262 v51), ∀ a, (k0_off268 v51) a + S1x1x512.size a ≤ S1x2048x512.size a := fun v51 k0_hw262 => k0_hw262

def k0_off269 (i : grid0.Coords) : Fin 3 → Nat :=
  let c0_33 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v58 : Index := Scalar.indexCast v9
  let c6 : Index := 6#32
  ![0, v58.toNat, 6]
def k0_off270 (v59 : BitVec 32) : Fin 3 → Nat :=
  let c0_34 : Index := 0#32
  let v60 : Index := Scalar.indexCast v59
  let c0_35 : Index := 0#32
  ![0, v60.toNat, 0]

def k0_chk263 (v59 : BitVec 32) : Prop :=
  (∀ a, (k0_off270 v59) a + S1x1x512.size a ≤ S1x2048x512.size a)
theorem k0_off270_inb : ∀ (v59 : BitVec 32) (k0_hw263 : k0_chk263 v59), ∀ a, (k0_off270 v59) a + S1x1x512.size a ≤ S1x2048x512.size a := fun v59 k0_hw263 => k0_hw263

def k0_off271 (i : grid0.Coords) : Fin 3 → Nat :=
  let c0_38 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v66 : Index := Scalar.indexCast v9
  let c7 : Index := 7#32
  ![0, v66.toNat, 7]
def k0_off272 (v67 : BitVec 32) : Fin 3 → Nat :=
  let c0_39 : Index := 0#32
  let v68 : Index := Scalar.indexCast v67
  let c0_40 : Index := 0#32
  ![0, v68.toNat, 0]

def k0_chk264 (v67 : BitVec 32) : Prop :=
  (∀ a, (k0_off272 v67) a + S1x1x512.size a ≤ S1x2048x512.size a)
theorem k0_off272_inb : ∀ (v67 : BitVec 32) (k0_hw264 : k0_chk264 v67), ∀ a, (k0_off272 v67) a + S1x1x512.size a ≤ S1x2048x512.size a := fun v67 k0_hw264 => k0_hw264

def k0_off273 (i : grid0.Coords) : Fin 3 → Nat :=
  let c0_43 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v74 : Index := Scalar.indexCast v9
  let c8 : Index := 8#32
  ![0, v74.toNat, 8]
def k0_off274 (v75 : BitVec 32) : Fin 3 → Nat :=
  let c0_44 : Index := 0#32
  let v76 : Index := Scalar.indexCast v75
  let c0_45 : Index := 0#32
  ![0, v76.toNat, 0]

def k0_chk265 (v75 : BitVec 32) : Prop :=
  (∀ a, (k0_off274 v75) a + S1x1x512.size a ≤ S1x2048x512.size a)
theorem k0_off274_inb : ∀ (v75 : BitVec 32) (k0_hw265 : k0_chk265 v75), ∀ a, (k0_off274 v75) a + S1x1x512.size a ≤ S1x2048x512.size a := fun v75 k0_hw265 => k0_hw265

def k0_off275 (i : grid0.Coords) : Fin 3 → Nat :=
  let c0_48 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v82 : Index := Scalar.indexCast v9
  let c9 : Index := 9#32
  ![0, v82.toNat, 9]
def k0_off276 (v83 : BitVec 32) : Fin 3 → Nat :=
  let c0_49 : Index := 0#32
  let v84 : Index := Scalar.indexCast v83
  let c0_50 : Index := 0#32
  ![0, v84.toNat, 0]

def k0_chk266 (v83 : BitVec 32) : Prop :=
  (∀ a, (k0_off276 v83) a + S1x1x512.size a ≤ S1x2048x512.size a)
theorem k0_off276_inb : ∀ (v83 : BitVec 32) (k0_hw266 : k0_chk266 v83), ∀ a, (k0_off276 v83) a + S1x1x512.size a ≤ S1x2048x512.size a := fun v83 k0_hw266 => k0_hw266

def k0_off277 (i : grid0.Coords) : Fin 3 → Nat :=
  let c0_53 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v90 : Index := Scalar.indexCast v9
  let c10 : Index := 10#32
  ![0, v90.toNat, 10]
def k0_off278 (v91 : BitVec 32) : Fin 3 → Nat :=
  let c0_54 : Index := 0#32
  let v92 : Index := Scalar.indexCast v91
  let c0_55 : Index := 0#32
  ![0, v92.toNat, 0]

def k0_chk267 (v91 : BitVec 32) : Prop :=
  (∀ a, (k0_off278 v91) a + S1x1x512.size a ≤ S1x2048x512.size a)
theorem k0_off278_inb : ∀ (v91 : BitVec 32) (k0_hw267 : k0_chk267 v91), ∀ a, (k0_off278 v91) a + S1x1x512.size a ≤ S1x2048x512.size a := fun v91 k0_hw267 => k0_hw267

def k0_off279 (i : grid0.Coords) : Fin 3 → Nat :=
  let c0_58 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v98 : Index := Scalar.indexCast v9
  let c11 : Index := 11#32
  ![0, v98.toNat, 11]
def k0_off280 (v99 : BitVec 32) : Fin 3 → Nat :=
  let c0_59 : Index := 0#32
  let v100 : Index := Scalar.indexCast v99
  let c0_60 : Index := 0#32
  ![0, v100.toNat, 0]

def k0_chk268 (v99 : BitVec 32) : Prop :=
  (∀ a, (k0_off280 v99) a + S1x1x512.size a ≤ S1x2048x512.size a)
theorem k0_off280_inb : ∀ (v99 : BitVec 32) (k0_hw268 : k0_chk268 v99), ∀ a, (k0_off280 v99) a + S1x1x512.size a ≤ S1x2048x512.size a := fun v99 k0_hw268 => k0_hw268

def k0_off281 (i : grid0.Coords) : Fin 3 → Nat :=
  let c0_63 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v106 : Index := Scalar.indexCast v9
  let c12 : Index := 12#32
  ![0, v106.toNat, 12]
def k0_off282 (v107 : BitVec 32) : Fin 3 → Nat :=
  let c0_64 : Index := 0#32
  let v108 : Index := Scalar.indexCast v107
  let c0_65 : Index := 0#32
  ![0, v108.toNat, 0]

def k0_chk269 (v107 : BitVec 32) : Prop :=
  (∀ a, (k0_off282 v107) a + S1x1x512.size a ≤ S1x2048x512.size a)
theorem k0_off282_inb : ∀ (v107 : BitVec 32) (k0_hw269 : k0_chk269 v107), ∀ a, (k0_off282 v107) a + S1x1x512.size a ≤ S1x2048x512.size a := fun v107 k0_hw269 => k0_hw269

def k0_off283 (i : grid0.Coords) : Fin 3 → Nat :=
  let c0_68 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v114 : Index := Scalar.indexCast v9
  let c13 : Index := 13#32
  ![0, v114.toNat, 13]
def k0_off284 (v115 : BitVec 32) : Fin 3 → Nat :=
  let c0_69 : Index := 0#32
  let v116 : Index := Scalar.indexCast v115
  let c0_70 : Index := 0#32
  ![0, v116.toNat, 0]

def k0_chk270 (v115 : BitVec 32) : Prop :=
  (∀ a, (k0_off284 v115) a + S1x1x512.size a ≤ S1x2048x512.size a)
theorem k0_off284_inb : ∀ (v115 : BitVec 32) (k0_hw270 : k0_chk270 v115), ∀ a, (k0_off284 v115) a + S1x1x512.size a ≤ S1x2048x512.size a := fun v115 k0_hw270 => k0_hw270

def k0_off285 (i : grid0.Coords) : Fin 3 → Nat :=
  let c0_73 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v122 : Index := Scalar.indexCast v9
  let c14 : Index := 14#32
  ![0, v122.toNat, 14]
def k0_off286 (v123 : BitVec 32) : Fin 3 → Nat :=
  let c0_74 : Index := 0#32
  let v124 : Index := Scalar.indexCast v123
  let c0_75 : Index := 0#32
  ![0, v124.toNat, 0]

def k0_chk271 (v123 : BitVec 32) : Prop :=
  (∀ a, (k0_off286 v123) a + S1x1x512.size a ≤ S1x2048x512.size a)
theorem k0_off286_inb : ∀ (v123 : BitVec 32) (k0_hw271 : k0_chk271 v123), ∀ a, (k0_off286 v123) a + S1x1x512.size a ≤ S1x2048x512.size a := fun v123 k0_hw271 => k0_hw271

def k0_off287 (i : grid0.Coords) : Fin 3 → Nat :=
  let c0_78 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v130 : Index := Scalar.indexCast v9
  let c15 : Index := 15#32
  ![0, v130.toNat, 15]
def k0_off288 (v131 : BitVec 32) : Fin 3 → Nat :=
  let c0_79 : Index := 0#32
  let v132 : Index := Scalar.indexCast v131
  let c0_80 : Index := 0#32
  ![0, v132.toNat, 0]

def k0_chk272 (v131 : BitVec 32) : Prop :=
  (∀ a, (k0_off288 v131) a + S1x1x512.size a ≤ S1x2048x512.size a)
theorem k0_off288_inb : ∀ (v131 : BitVec 32) (k0_hw272 : k0_chk272 v131), ∀ a, (k0_off288 v131) a + S1x1x512.size a ≤ S1x2048x512.size a := fun v131 k0_hw272 => k0_hw272

def k0_off289 (i : grid0.Coords) : Fin 3 → Nat :=
  let c0_83 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v138 : Index := Scalar.indexCast v9
  let c16 : Index := 16#32
  ![0, v138.toNat, 16]
def k0_off290 (v139 : BitVec 32) : Fin 3 → Nat :=
  let c0_84 : Index := 0#32
  let v140 : Index := Scalar.indexCast v139
  let c0_85 : Index := 0#32
  ![0, v140.toNat, 0]

def k0_chk273 (v139 : BitVec 32) : Prop :=
  (∀ a, (k0_off290 v139) a + S1x1x512.size a ≤ S1x2048x512.size a)
theorem k0_off290_inb : ∀ (v139 : BitVec 32) (k0_hw273 : k0_chk273 v139), ∀ a, (k0_off290 v139) a + S1x1x512.size a ≤ S1x2048x512.size a := fun v139 k0_hw273 => k0_hw273

def k0_off291 (i : grid0.Coords) : Fin 3 → Nat :=
  let c0_88 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v146 : Index := Scalar.indexCast v9
  let c17 : Index := 17#32
  ![0, v146.toNat, 17]
def k0_off292 (v147 : BitVec 32) : Fin 3 → Nat :=
  let c0_89 : Index := 0#32
  let v148 : Index := Scalar.indexCast v147
  let c0_90 : Index := 0#32
  ![0, v148.toNat, 0]

def k0_chk274 (v147 : BitVec 32) : Prop :=
  (∀ a, (k0_off292 v147) a + S1x1x512.size a ≤ S1x2048x512.size a)
theorem k0_off292_inb : ∀ (v147 : BitVec 32) (k0_hw274 : k0_chk274 v147), ∀ a, (k0_off292 v147) a + S1x1x512.size a ≤ S1x2048x512.size a := fun v147 k0_hw274 => k0_hw274

def k0_off293 (i : grid0.Coords) : Fin 3 → Nat :=
  let c0_93 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v154 : Index := Scalar.indexCast v9
  let c18 : Index := 18#32
  ![0, v154.toNat, 18]
def k0_off294 (v155 : BitVec 32) : Fin 3 → Nat :=
  let c0_94 : Index := 0#32
  let v156 : Index := Scalar.indexCast v155
  let c0_95 : Index := 0#32
  ![0, v156.toNat, 0]

def k0_chk275 (v155 : BitVec 32) : Prop :=
  (∀ a, (k0_off294 v155) a + S1x1x512.size a ≤ S1x2048x512.size a)
theorem k0_off294_inb : ∀ (v155 : BitVec 32) (k0_hw275 : k0_chk275 v155), ∀ a, (k0_off294 v155) a + S1x1x512.size a ≤ S1x2048x512.size a := fun v155 k0_hw275 => k0_hw275

def k0_off295 (i : grid0.Coords) : Fin 3 → Nat :=
  let c0_98 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v162 : Index := Scalar.indexCast v9
  let c19 : Index := 19#32
  ![0, v162.toNat, 19]
def k0_off296 (v163 : BitVec 32) : Fin 3 → Nat :=
  let c0_99 : Index := 0#32
  let v164 : Index := Scalar.indexCast v163
  let c0_100 : Index := 0#32
  ![0, v164.toNat, 0]

def k0_chk276 (v163 : BitVec 32) : Prop :=
  (∀ a, (k0_off296 v163) a + S1x1x512.size a ≤ S1x2048x512.size a)
theorem k0_off296_inb : ∀ (v163 : BitVec 32) (k0_hw276 : k0_chk276 v163), ∀ a, (k0_off296 v163) a + S1x1x512.size a ≤ S1x2048x512.size a := fun v163 k0_hw276 => k0_hw276

def k0_off297 (i : grid0.Coords) : Fin 3 → Nat :=
  let c0_103 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v170 : Index := Scalar.indexCast v9
  let c20 : Index := 20#32
  ![0, v170.toNat, 20]
def k0_off298 (v171 : BitVec 32) : Fin 3 → Nat :=
  let c0_104 : Index := 0#32
  let v172 : Index := Scalar.indexCast v171
  let c0_105 : Index := 0#32
  ![0, v172.toNat, 0]

def k0_chk277 (v171 : BitVec 32) : Prop :=
  (∀ a, (k0_off298 v171) a + S1x1x512.size a ≤ S1x2048x512.size a)
theorem k0_off298_inb : ∀ (v171 : BitVec 32) (k0_hw277 : k0_chk277 v171), ∀ a, (k0_off298 v171) a + S1x1x512.size a ≤ S1x2048x512.size a := fun v171 k0_hw277 => k0_hw277

def k0_off299 (i : grid0.Coords) : Fin 3 → Nat :=
  let c0_108 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v178 : Index := Scalar.indexCast v9
  let c21 : Index := 21#32
  ![0, v178.toNat, 21]
def k0_off300 (v179 : BitVec 32) : Fin 3 → Nat :=
  let c0_109 : Index := 0#32
  let v180 : Index := Scalar.indexCast v179
  let c0_110 : Index := 0#32
  ![0, v180.toNat, 0]

def k0_chk278 (v179 : BitVec 32) : Prop :=
  (∀ a, (k0_off300 v179) a + S1x1x512.size a ≤ S1x2048x512.size a)
theorem k0_off300_inb : ∀ (v179 : BitVec 32) (k0_hw278 : k0_chk278 v179), ∀ a, (k0_off300 v179) a + S1x1x512.size a ≤ S1x2048x512.size a := fun v179 k0_hw278 => k0_hw278

def k0_off301 (i : grid0.Coords) : Fin 3 → Nat :=
  let c0_113 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v186 : Index := Scalar.indexCast v9
  let c22 : Index := 22#32
  ![0, v186.toNat, 22]
def k0_off302 (v187 : BitVec 32) : Fin 3 → Nat :=
  let c0_114 : Index := 0#32
  let v188 : Index := Scalar.indexCast v187
  let c0_115 : Index := 0#32
  ![0, v188.toNat, 0]

def k0_chk279 (v187 : BitVec 32) : Prop :=
  (∀ a, (k0_off302 v187) a + S1x1x512.size a ≤ S1x2048x512.size a)
theorem k0_off302_inb : ∀ (v187 : BitVec 32) (k0_hw279 : k0_chk279 v187), ∀ a, (k0_off302 v187) a + S1x1x512.size a ≤ S1x2048x512.size a := fun v187 k0_hw279 => k0_hw279

def k0_off303 (i : grid0.Coords) : Fin 3 → Nat :=
  let c0_118 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v194 : Index := Scalar.indexCast v9
  let c23 : Index := 23#32
  ![0, v194.toNat, 23]
def k0_off304 (v195 : BitVec 32) : Fin 3 → Nat :=
  let c0_119 : Index := 0#32
  let v196 : Index := Scalar.indexCast v195
  let c0_120 : Index := 0#32
  ![0, v196.toNat, 0]

def k0_chk280 (v195 : BitVec 32) : Prop :=
  (∀ a, (k0_off304 v195) a + S1x1x512.size a ≤ S1x2048x512.size a)
theorem k0_off304_inb : ∀ (v195 : BitVec 32) (k0_hw280 : k0_chk280 v195), ∀ a, (k0_off304 v195) a + S1x1x512.size a ≤ S1x2048x512.size a := fun v195 k0_hw280 => k0_hw280

def k0_off305 (i : grid0.Coords) : Fin 3 → Nat :=
  let c0_123 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v202 : Index := Scalar.indexCast v9
  let c24 : Index := 24#32
  ![0, v202.toNat, 24]
def k0_off306 (v203 : BitVec 32) : Fin 3 → Nat :=
  let c0_124 : Index := 0#32
  let v204 : Index := Scalar.indexCast v203
  let c0_125 : Index := 0#32
  ![0, v204.toNat, 0]

def k0_chk281 (v203 : BitVec 32) : Prop :=
  (∀ a, (k0_off306 v203) a + S1x1x512.size a ≤ S1x2048x512.size a)
theorem k0_off306_inb : ∀ (v203 : BitVec 32) (k0_hw281 : k0_chk281 v203), ∀ a, (k0_off306 v203) a + S1x1x512.size a ≤ S1x2048x512.size a := fun v203 k0_hw281 => k0_hw281

def k0_off307 (i : grid0.Coords) : Fin 3 → Nat :=
  let c0_128 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v210 : Index := Scalar.indexCast v9
  let c25 : Index := 25#32
  ![0, v210.toNat, 25]
def k0_off308 (v211 : BitVec 32) : Fin 3 → Nat :=
  let c0_129 : Index := 0#32
  let v212 : Index := Scalar.indexCast v211
  let c0_130 : Index := 0#32
  ![0, v212.toNat, 0]

def k0_chk282 (v211 : BitVec 32) : Prop :=
  (∀ a, (k0_off308 v211) a + S1x1x512.size a ≤ S1x2048x512.size a)
theorem k0_off308_inb : ∀ (v211 : BitVec 32) (k0_hw282 : k0_chk282 v211), ∀ a, (k0_off308 v211) a + S1x1x512.size a ≤ S1x2048x512.size a := fun v211 k0_hw282 => k0_hw282

def k0_off309 (i : grid0.Coords) : Fin 3 → Nat :=
  let c0_133 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v218 : Index := Scalar.indexCast v9
  let c26 : Index := 26#32
  ![0, v218.toNat, 26]
def k0_off310 (v219 : BitVec 32) : Fin 3 → Nat :=
  let c0_134 : Index := 0#32
  let v220 : Index := Scalar.indexCast v219
  let c0_135 : Index := 0#32
  ![0, v220.toNat, 0]

def k0_chk283 (v219 : BitVec 32) : Prop :=
  (∀ a, (k0_off310 v219) a + S1x1x512.size a ≤ S1x2048x512.size a)
theorem k0_off310_inb : ∀ (v219 : BitVec 32) (k0_hw283 : k0_chk283 v219), ∀ a, (k0_off310 v219) a + S1x1x512.size a ≤ S1x2048x512.size a := fun v219 k0_hw283 => k0_hw283

def k0_off311 (i : grid0.Coords) : Fin 3 → Nat :=
  let c0_138 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v226 : Index := Scalar.indexCast v9
  let c27 : Index := 27#32
  ![0, v226.toNat, 27]
def k0_off312 (v227 : BitVec 32) : Fin 3 → Nat :=
  let c0_139 : Index := 0#32
  let v228 : Index := Scalar.indexCast v227
  let c0_140 : Index := 0#32
  ![0, v228.toNat, 0]

def k0_chk284 (v227 : BitVec 32) : Prop :=
  (∀ a, (k0_off312 v227) a + S1x1x512.size a ≤ S1x2048x512.size a)
theorem k0_off312_inb : ∀ (v227 : BitVec 32) (k0_hw284 : k0_chk284 v227), ∀ a, (k0_off312 v227) a + S1x1x512.size a ≤ S1x2048x512.size a := fun v227 k0_hw284 => k0_hw284

def k0_off313 (i : grid0.Coords) : Fin 3 → Nat :=
  let c0_143 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v234 : Index := Scalar.indexCast v9
  let c28 : Index := 28#32
  ![0, v234.toNat, 28]
def k0_off314 (v235 : BitVec 32) : Fin 3 → Nat :=
  let c0_144 : Index := 0#32
  let v236 : Index := Scalar.indexCast v235
  let c0_145 : Index := 0#32
  ![0, v236.toNat, 0]

def k0_chk285 (v235 : BitVec 32) : Prop :=
  (∀ a, (k0_off314 v235) a + S1x1x512.size a ≤ S1x2048x512.size a)
theorem k0_off314_inb : ∀ (v235 : BitVec 32) (k0_hw285 : k0_chk285 v235), ∀ a, (k0_off314 v235) a + S1x1x512.size a ≤ S1x2048x512.size a := fun v235 k0_hw285 => k0_hw285

def k0_off315 (i : grid0.Coords) : Fin 3 → Nat :=
  let c0_148 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v242 : Index := Scalar.indexCast v9
  let c29 : Index := 29#32
  ![0, v242.toNat, 29]
def k0_off316 (v243 : BitVec 32) : Fin 3 → Nat :=
  let c0_149 : Index := 0#32
  let v244 : Index := Scalar.indexCast v243
  let c0_150 : Index := 0#32
  ![0, v244.toNat, 0]

def k0_chk286 (v243 : BitVec 32) : Prop :=
  (∀ a, (k0_off316 v243) a + S1x1x512.size a ≤ S1x2048x512.size a)
theorem k0_off316_inb : ∀ (v243 : BitVec 32) (k0_hw286 : k0_chk286 v243), ∀ a, (k0_off316 v243) a + S1x1x512.size a ≤ S1x2048x512.size a := fun v243 k0_hw286 => k0_hw286

def k0_off317 (i : grid0.Coords) : Fin 3 → Nat :=
  let c0_153 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v250 : Index := Scalar.indexCast v9
  let c30 : Index := 30#32
  ![0, v250.toNat, 30]
def k0_off318 (v251 : BitVec 32) : Fin 3 → Nat :=
  let c0_154 : Index := 0#32
  let v252 : Index := Scalar.indexCast v251
  let c0_155 : Index := 0#32
  ![0, v252.toNat, 0]

def k0_chk287 (v251 : BitVec 32) : Prop :=
  (∀ a, (k0_off318 v251) a + S1x1x512.size a ≤ S1x2048x512.size a)
theorem k0_off318_inb : ∀ (v251 : BitVec 32) (k0_hw287 : k0_chk287 v251), ∀ a, (k0_off318 v251) a + S1x1x512.size a ≤ S1x2048x512.size a := fun v251 k0_hw287 => k0_hw287

def k0_off319 (i : grid0.Coords) : Fin 3 → Nat :=
  let c0_158 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v258 : Index := Scalar.indexCast v9
  let c31 : Index := 31#32
  ![0, v258.toNat, 31]
def k0_off320 (v259 : BitVec 32) : Fin 3 → Nat :=
  let c0_159 : Index := 0#32
  let v260 : Index := Scalar.indexCast v259
  let c0_160 : Index := 0#32
  ![0, v260.toNat, 0]

def k0_chk288 (v259 : BitVec 32) : Prop :=
  (∀ a, (k0_off320 v259) a + S1x1x512.size a ≤ S1x2048x512.size a)
theorem k0_off320_inb : ∀ (v259 : BitVec 32) (k0_hw288 : k0_chk288 v259), ∀ a, (k0_off320 v259) a + S1x1x512.size a ≤ S1x2048x512.size a := fun v259 k0_hw288 => k0_hw288

def k0_off321 (i : grid0.Coords) : Fin 3 → Nat :=
  let c0_163 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v266 : Index := Scalar.indexCast v9
  let c32 : Index := 32#32
  ![0, v266.toNat, 32]
def k0_off322 (v267 : BitVec 32) : Fin 3 → Nat :=
  let c0_164 : Index := 0#32
  let v268 : Index := Scalar.indexCast v267
  let c0_165 : Index := 0#32
  ![0, v268.toNat, 0]

def k0_chk289 (v267 : BitVec 32) : Prop :=
  (∀ a, (k0_off322 v267) a + S1x1x512.size a ≤ S1x2048x512.size a)
theorem k0_off322_inb : ∀ (v267 : BitVec 32) (k0_hw289 : k0_chk289 v267), ∀ a, (k0_off322 v267) a + S1x1x512.size a ≤ S1x2048x512.size a := fun v267 k0_hw289 => k0_hw289

def k0_off323 (i : grid0.Coords) : Fin 3 → Nat :=
  let c0_168 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v274 : Index := Scalar.indexCast v9
  let c33 : Index := 33#32
  ![0, v274.toNat, 33]
def k0_off324 (v275 : BitVec 32) : Fin 3 → Nat :=
  let c0_169 : Index := 0#32
  let v276 : Index := Scalar.indexCast v275
  let c0_170 : Index := 0#32
  ![0, v276.toNat, 0]

def k0_chk290 (v275 : BitVec 32) : Prop :=
  (∀ a, (k0_off324 v275) a + S1x1x512.size a ≤ S1x2048x512.size a)
theorem k0_off324_inb : ∀ (v275 : BitVec 32) (k0_hw290 : k0_chk290 v275), ∀ a, (k0_off324 v275) a + S1x1x512.size a ≤ S1x2048x512.size a := fun v275 k0_hw290 => k0_hw290

def k0_off325 (i : grid0.Coords) : Fin 3 → Nat :=
  let c0_173 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v282 : Index := Scalar.indexCast v9
  let c34 : Index := 34#32
  ![0, v282.toNat, 34]
def k0_off326 (v283 : BitVec 32) : Fin 3 → Nat :=
  let c0_174 : Index := 0#32
  let v284 : Index := Scalar.indexCast v283
  let c0_175 : Index := 0#32
  ![0, v284.toNat, 0]

def k0_chk291 (v283 : BitVec 32) : Prop :=
  (∀ a, (k0_off326 v283) a + S1x1x512.size a ≤ S1x2048x512.size a)
theorem k0_off326_inb : ∀ (v283 : BitVec 32) (k0_hw291 : k0_chk291 v283), ∀ a, (k0_off326 v283) a + S1x1x512.size a ≤ S1x2048x512.size a := fun v283 k0_hw291 => k0_hw291

def k0_off327 (i : grid0.Coords) : Fin 3 → Nat :=
  let c0_178 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v290 : Index := Scalar.indexCast v9
  let c35 : Index := 35#32
  ![0, v290.toNat, 35]
def k0_off328 (v291 : BitVec 32) : Fin 3 → Nat :=
  let c0_179 : Index := 0#32
  let v292 : Index := Scalar.indexCast v291
  let c0_180 : Index := 0#32
  ![0, v292.toNat, 0]

def k0_chk292 (v291 : BitVec 32) : Prop :=
  (∀ a, (k0_off328 v291) a + S1x1x512.size a ≤ S1x2048x512.size a)
theorem k0_off328_inb : ∀ (v291 : BitVec 32) (k0_hw292 : k0_chk292 v291), ∀ a, (k0_off328 v291) a + S1x1x512.size a ≤ S1x2048x512.size a := fun v291 k0_hw292 => k0_hw292

def k0_off329 (i : grid0.Coords) : Fin 3 → Nat :=
  let c0_183 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v298 : Index := Scalar.indexCast v9
  let c36 : Index := 36#32
  ![0, v298.toNat, 36]
def k0_off330 (v299 : BitVec 32) : Fin 3 → Nat :=
  let c0_184 : Index := 0#32
  let v300 : Index := Scalar.indexCast v299
  let c0_185 : Index := 0#32
  ![0, v300.toNat, 0]

def k0_chk293 (v299 : BitVec 32) : Prop :=
  (∀ a, (k0_off330 v299) a + S1x1x512.size a ≤ S1x2048x512.size a)
theorem k0_off330_inb : ∀ (v299 : BitVec 32) (k0_hw293 : k0_chk293 v299), ∀ a, (k0_off330 v299) a + S1x1x512.size a ≤ S1x2048x512.size a := fun v299 k0_hw293 => k0_hw293

def k0_off331 (i : grid0.Coords) : Fin 3 → Nat :=
  let c0_188 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v306 : Index := Scalar.indexCast v9
  let c37 : Index := 37#32
  ![0, v306.toNat, 37]
def k0_off332 (v307 : BitVec 32) : Fin 3 → Nat :=
  let c0_189 : Index := 0#32
  let v308 : Index := Scalar.indexCast v307
  let c0_190 : Index := 0#32
  ![0, v308.toNat, 0]

def k0_chk294 (v307 : BitVec 32) : Prop :=
  (∀ a, (k0_off332 v307) a + S1x1x512.size a ≤ S1x2048x512.size a)
theorem k0_off332_inb : ∀ (v307 : BitVec 32) (k0_hw294 : k0_chk294 v307), ∀ a, (k0_off332 v307) a + S1x1x512.size a ≤ S1x2048x512.size a := fun v307 k0_hw294 => k0_hw294

def k0_off333 (i : grid0.Coords) : Fin 3 → Nat :=
  let c0_193 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v314 : Index := Scalar.indexCast v9
  let c38 : Index := 38#32
  ![0, v314.toNat, 38]
def k0_off334 (v315 : BitVec 32) : Fin 3 → Nat :=
  let c0_194 : Index := 0#32
  let v316 : Index := Scalar.indexCast v315
  let c0_195 : Index := 0#32
  ![0, v316.toNat, 0]

def k0_chk295 (v315 : BitVec 32) : Prop :=
  (∀ a, (k0_off334 v315) a + S1x1x512.size a ≤ S1x2048x512.size a)
theorem k0_off334_inb : ∀ (v315 : BitVec 32) (k0_hw295 : k0_chk295 v315), ∀ a, (k0_off334 v315) a + S1x1x512.size a ≤ S1x2048x512.size a := fun v315 k0_hw295 => k0_hw295

def k0_off335 (i : grid0.Coords) : Fin 3 → Nat :=
  let c0_198 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v322 : Index := Scalar.indexCast v9
  let c39 : Index := 39#32
  ![0, v322.toNat, 39]
def k0_off336 (v323 : BitVec 32) : Fin 3 → Nat :=
  let c0_199 : Index := 0#32
  let v324 : Index := Scalar.indexCast v323
  let c0_200 : Index := 0#32
  ![0, v324.toNat, 0]

def k0_chk296 (v323 : BitVec 32) : Prop :=
  (∀ a, (k0_off336 v323) a + S1x1x512.size a ≤ S1x2048x512.size a)
theorem k0_off336_inb : ∀ (v323 : BitVec 32) (k0_hw296 : k0_chk296 v323), ∀ a, (k0_off336 v323) a + S1x1x512.size a ≤ S1x2048x512.size a := fun v323 k0_hw296 => k0_hw296

def k0_off337 (i : grid0.Coords) : Fin 3 → Nat :=
  let c0_203 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v330 : Index := Scalar.indexCast v9
  let c40 : Index := 40#32
  ![0, v330.toNat, 40]
def k0_off338 (v331 : BitVec 32) : Fin 3 → Nat :=
  let c0_204 : Index := 0#32
  let v332 : Index := Scalar.indexCast v331
  let c0_205 : Index := 0#32
  ![0, v332.toNat, 0]

def k0_chk297 (v331 : BitVec 32) : Prop :=
  (∀ a, (k0_off338 v331) a + S1x1x512.size a ≤ S1x2048x512.size a)
theorem k0_off338_inb : ∀ (v331 : BitVec 32) (k0_hw297 : k0_chk297 v331), ∀ a, (k0_off338 v331) a + S1x1x512.size a ≤ S1x2048x512.size a := fun v331 k0_hw297 => k0_hw297

def k0_off339 (i : grid0.Coords) : Fin 3 → Nat :=
  let c0_208 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v338 : Index := Scalar.indexCast v9
  let c41 : Index := 41#32
  ![0, v338.toNat, 41]
def k0_off340 (v339 : BitVec 32) : Fin 3 → Nat :=
  let c0_209 : Index := 0#32
  let v340 : Index := Scalar.indexCast v339
  let c0_210 : Index := 0#32
  ![0, v340.toNat, 0]

def k0_chk298 (v339 : BitVec 32) : Prop :=
  (∀ a, (k0_off340 v339) a + S1x1x512.size a ≤ S1x2048x512.size a)
theorem k0_off340_inb : ∀ (v339 : BitVec 32) (k0_hw298 : k0_chk298 v339), ∀ a, (k0_off340 v339) a + S1x1x512.size a ≤ S1x2048x512.size a := fun v339 k0_hw298 => k0_hw298

def k0_off341 (i : grid0.Coords) : Fin 3 → Nat :=
  let c0_213 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v346 : Index := Scalar.indexCast v9
  let c42 : Index := 42#32
  ![0, v346.toNat, 42]
def k0_off342 (v347 : BitVec 32) : Fin 3 → Nat :=
  let c0_214 : Index := 0#32
  let v348 : Index := Scalar.indexCast v347
  let c0_215 : Index := 0#32
  ![0, v348.toNat, 0]

def k0_chk299 (v347 : BitVec 32) : Prop :=
  (∀ a, (k0_off342 v347) a + S1x1x512.size a ≤ S1x2048x512.size a)
theorem k0_off342_inb : ∀ (v347 : BitVec 32) (k0_hw299 : k0_chk299 v347), ∀ a, (k0_off342 v347) a + S1x1x512.size a ≤ S1x2048x512.size a := fun v347 k0_hw299 => k0_hw299

def k0_off343 (i : grid0.Coords) : Fin 3 → Nat :=
  let c0_218 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v354 : Index := Scalar.indexCast v9
  let c43 : Index := 43#32
  ![0, v354.toNat, 43]
def k0_off344 (v355 : BitVec 32) : Fin 3 → Nat :=
  let c0_219 : Index := 0#32
  let v356 : Index := Scalar.indexCast v355
  let c0_220 : Index := 0#32
  ![0, v356.toNat, 0]

def k0_chk300 (v355 : BitVec 32) : Prop :=
  (∀ a, (k0_off344 v355) a + S1x1x512.size a ≤ S1x2048x512.size a)
theorem k0_off344_inb : ∀ (v355 : BitVec 32) (k0_hw300 : k0_chk300 v355), ∀ a, (k0_off344 v355) a + S1x1x512.size a ≤ S1x2048x512.size a := fun v355 k0_hw300 => k0_hw300

def k0_off345 (i : grid0.Coords) : Fin 3 → Nat :=
  let c0_223 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v362 : Index := Scalar.indexCast v9
  let c44 : Index := 44#32
  ![0, v362.toNat, 44]
def k0_off346 (v363 : BitVec 32) : Fin 3 → Nat :=
  let c0_224 : Index := 0#32
  let v364 : Index := Scalar.indexCast v363
  let c0_225 : Index := 0#32
  ![0, v364.toNat, 0]

def k0_chk301 (v363 : BitVec 32) : Prop :=
  (∀ a, (k0_off346 v363) a + S1x1x512.size a ≤ S1x2048x512.size a)
theorem k0_off346_inb : ∀ (v363 : BitVec 32) (k0_hw301 : k0_chk301 v363), ∀ a, (k0_off346 v363) a + S1x1x512.size a ≤ S1x2048x512.size a := fun v363 k0_hw301 => k0_hw301

def k0_off347 (i : grid0.Coords) : Fin 3 → Nat :=
  let c0_228 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v370 : Index := Scalar.indexCast v9
  let c45 : Index := 45#32
  ![0, v370.toNat, 45]
def k0_off348 (v371 : BitVec 32) : Fin 3 → Nat :=
  let c0_229 : Index := 0#32
  let v372 : Index := Scalar.indexCast v371
  let c0_230 : Index := 0#32
  ![0, v372.toNat, 0]

def k0_chk302 (v371 : BitVec 32) : Prop :=
  (∀ a, (k0_off348 v371) a + S1x1x512.size a ≤ S1x2048x512.size a)
theorem k0_off348_inb : ∀ (v371 : BitVec 32) (k0_hw302 : k0_chk302 v371), ∀ a, (k0_off348 v371) a + S1x1x512.size a ≤ S1x2048x512.size a := fun v371 k0_hw302 => k0_hw302

def k0_off349 (i : grid0.Coords) : Fin 3 → Nat :=
  let c0_233 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v378 : Index := Scalar.indexCast v9
  let c46 : Index := 46#32
  ![0, v378.toNat, 46]
def k0_off350 (v379 : BitVec 32) : Fin 3 → Nat :=
  let c0_234 : Index := 0#32
  let v380 : Index := Scalar.indexCast v379
  let c0_235 : Index := 0#32
  ![0, v380.toNat, 0]

def k0_chk303 (v379 : BitVec 32) : Prop :=
  (∀ a, (k0_off350 v379) a + S1x1x512.size a ≤ S1x2048x512.size a)
theorem k0_off350_inb : ∀ (v379 : BitVec 32) (k0_hw303 : k0_chk303 v379), ∀ a, (k0_off350 v379) a + S1x1x512.size a ≤ S1x2048x512.size a := fun v379 k0_hw303 => k0_hw303

def k0_off351 (i : grid0.Coords) : Fin 3 → Nat :=
  let c0_238 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v386 : Index := Scalar.indexCast v9
  let c47 : Index := 47#32
  ![0, v386.toNat, 47]
def k0_off352 (v387 : BitVec 32) : Fin 3 → Nat :=
  let c0_239 : Index := 0#32
  let v388 : Index := Scalar.indexCast v387
  let c0_240 : Index := 0#32
  ![0, v388.toNat, 0]

def k0_chk304 (v387 : BitVec 32) : Prop :=
  (∀ a, (k0_off352 v387) a + S1x1x512.size a ≤ S1x2048x512.size a)
theorem k0_off352_inb : ∀ (v387 : BitVec 32) (k0_hw304 : k0_chk304 v387), ∀ a, (k0_off352 v387) a + S1x1x512.size a ≤ S1x2048x512.size a := fun v387 k0_hw304 => k0_hw304

def k0_off353 (i : grid0.Coords) : Fin 3 → Nat :=
  let c0_243 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v394 : Index := Scalar.indexCast v9
  let c48 : Index := 48#32
  ![0, v394.toNat, 48]
def k0_off354 (v395 : BitVec 32) : Fin 3 → Nat :=
  let c0_244 : Index := 0#32
  let v396 : Index := Scalar.indexCast v395
  let c0_245 : Index := 0#32
  ![0, v396.toNat, 0]

def k0_chk305 (v395 : BitVec 32) : Prop :=
  (∀ a, (k0_off354 v395) a + S1x1x512.size a ≤ S1x2048x512.size a)
theorem k0_off354_inb : ∀ (v395 : BitVec 32) (k0_hw305 : k0_chk305 v395), ∀ a, (k0_off354 v395) a + S1x1x512.size a ≤ S1x2048x512.size a := fun v395 k0_hw305 => k0_hw305

def k0_off355 (i : grid0.Coords) : Fin 3 → Nat :=
  let c0_248 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v402 : Index := Scalar.indexCast v9
  let c49 : Index := 49#32
  ![0, v402.toNat, 49]
def k0_off356 (v403 : BitVec 32) : Fin 3 → Nat :=
  let c0_249 : Index := 0#32
  let v404 : Index := Scalar.indexCast v403
  let c0_250 : Index := 0#32
  ![0, v404.toNat, 0]

def k0_chk306 (v403 : BitVec 32) : Prop :=
  (∀ a, (k0_off356 v403) a + S1x1x512.size a ≤ S1x2048x512.size a)
theorem k0_off356_inb : ∀ (v403 : BitVec 32) (k0_hw306 : k0_chk306 v403), ∀ a, (k0_off356 v403) a + S1x1x512.size a ≤ S1x2048x512.size a := fun v403 k0_hw306 => k0_hw306

def k0_off357 (i : grid0.Coords) : Fin 3 → Nat :=
  let c0_253 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v410 : Index := Scalar.indexCast v9
  let c50 : Index := 50#32
  ![0, v410.toNat, 50]
def k0_off358 (v411 : BitVec 32) : Fin 3 → Nat :=
  let c0_254 : Index := 0#32
  let v412 : Index := Scalar.indexCast v411
  let c0_255 : Index := 0#32
  ![0, v412.toNat, 0]

def k0_chk307 (v411 : BitVec 32) : Prop :=
  (∀ a, (k0_off358 v411) a + S1x1x512.size a ≤ S1x2048x512.size a)
theorem k0_off358_inb : ∀ (v411 : BitVec 32) (k0_hw307 : k0_chk307 v411), ∀ a, (k0_off358 v411) a + S1x1x512.size a ≤ S1x2048x512.size a := fun v411 k0_hw307 => k0_hw307

def k0_off359 (i : grid0.Coords) : Fin 3 → Nat :=
  let c0_258 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v418 : Index := Scalar.indexCast v9
  let c51 : Index := 51#32
  ![0, v418.toNat, 51]
def k0_off360 (v419 : BitVec 32) : Fin 3 → Nat :=
  let c0_259 : Index := 0#32
  let v420 : Index := Scalar.indexCast v419
  let c0_260 : Index := 0#32
  ![0, v420.toNat, 0]

def k0_chk308 (v419 : BitVec 32) : Prop :=
  (∀ a, (k0_off360 v419) a + S1x1x512.size a ≤ S1x2048x512.size a)
theorem k0_off360_inb : ∀ (v419 : BitVec 32) (k0_hw308 : k0_chk308 v419), ∀ a, (k0_off360 v419) a + S1x1x512.size a ≤ S1x2048x512.size a := fun v419 k0_hw308 => k0_hw308

def k0_off361 (i : grid0.Coords) : Fin 3 → Nat :=
  let c0_263 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v426 : Index := Scalar.indexCast v9
  let c52 : Index := 52#32
  ![0, v426.toNat, 52]
def k0_off362 (v427 : BitVec 32) : Fin 3 → Nat :=
  let c0_264 : Index := 0#32
  let v428 : Index := Scalar.indexCast v427
  let c0_265 : Index := 0#32
  ![0, v428.toNat, 0]

def k0_chk309 (v427 : BitVec 32) : Prop :=
  (∀ a, (k0_off362 v427) a + S1x1x512.size a ≤ S1x2048x512.size a)
theorem k0_off362_inb : ∀ (v427 : BitVec 32) (k0_hw309 : k0_chk309 v427), ∀ a, (k0_off362 v427) a + S1x1x512.size a ≤ S1x2048x512.size a := fun v427 k0_hw309 => k0_hw309

def k0_off363 (i : grid0.Coords) : Fin 3 → Nat :=
  let c0_268 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v434 : Index := Scalar.indexCast v9
  let c53 : Index := 53#32
  ![0, v434.toNat, 53]
def k0_off364 (v435 : BitVec 32) : Fin 3 → Nat :=
  let c0_269 : Index := 0#32
  let v436 : Index := Scalar.indexCast v435
  let c0_270 : Index := 0#32
  ![0, v436.toNat, 0]

def k0_chk310 (v435 : BitVec 32) : Prop :=
  (∀ a, (k0_off364 v435) a + S1x1x512.size a ≤ S1x2048x512.size a)
theorem k0_off364_inb : ∀ (v435 : BitVec 32) (k0_hw310 : k0_chk310 v435), ∀ a, (k0_off364 v435) a + S1x1x512.size a ≤ S1x2048x512.size a := fun v435 k0_hw310 => k0_hw310

def k0_off365 (i : grid0.Coords) : Fin 3 → Nat :=
  let c0_273 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v442 : Index := Scalar.indexCast v9
  let c54 : Index := 54#32
  ![0, v442.toNat, 54]
def k0_off366 (v443 : BitVec 32) : Fin 3 → Nat :=
  let c0_274 : Index := 0#32
  let v444 : Index := Scalar.indexCast v443
  let c0_275 : Index := 0#32
  ![0, v444.toNat, 0]

def k0_chk311 (v443 : BitVec 32) : Prop :=
  (∀ a, (k0_off366 v443) a + S1x1x512.size a ≤ S1x2048x512.size a)
theorem k0_off366_inb : ∀ (v443 : BitVec 32) (k0_hw311 : k0_chk311 v443), ∀ a, (k0_off366 v443) a + S1x1x512.size a ≤ S1x2048x512.size a := fun v443 k0_hw311 => k0_hw311

def k0_off367 (i : grid0.Coords) : Fin 3 → Nat :=
  let c0_278 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v450 : Index := Scalar.indexCast v9
  let c55 : Index := 55#32
  ![0, v450.toNat, 55]
def k0_off368 (v451 : BitVec 32) : Fin 3 → Nat :=
  let c0_279 : Index := 0#32
  let v452 : Index := Scalar.indexCast v451
  let c0_280 : Index := 0#32
  ![0, v452.toNat, 0]

def k0_chk312 (v451 : BitVec 32) : Prop :=
  (∀ a, (k0_off368 v451) a + S1x1x512.size a ≤ S1x2048x512.size a)
theorem k0_off368_inb : ∀ (v451 : BitVec 32) (k0_hw312 : k0_chk312 v451), ∀ a, (k0_off368 v451) a + S1x1x512.size a ≤ S1x2048x512.size a := fun v451 k0_hw312 => k0_hw312

def k0_off369 (i : grid0.Coords) : Fin 3 → Nat :=
  let c0_283 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v458 : Index := Scalar.indexCast v9
  let c56 : Index := 56#32
  ![0, v458.toNat, 56]
def k0_off370 (v459 : BitVec 32) : Fin 3 → Nat :=
  let c0_284 : Index := 0#32
  let v460 : Index := Scalar.indexCast v459
  let c0_285 : Index := 0#32
  ![0, v460.toNat, 0]

def k0_chk313 (v459 : BitVec 32) : Prop :=
  (∀ a, (k0_off370 v459) a + S1x1x512.size a ≤ S1x2048x512.size a)
theorem k0_off370_inb : ∀ (v459 : BitVec 32) (k0_hw313 : k0_chk313 v459), ∀ a, (k0_off370 v459) a + S1x1x512.size a ≤ S1x2048x512.size a := fun v459 k0_hw313 => k0_hw313

def k0_off371 (i : grid0.Coords) : Fin 3 → Nat :=
  let c0_288 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v466 : Index := Scalar.indexCast v9
  let c57 : Index := 57#32
  ![0, v466.toNat, 57]
def k0_off372 (v467 : BitVec 32) : Fin 3 → Nat :=
  let c0_289 : Index := 0#32
  let v468 : Index := Scalar.indexCast v467
  let c0_290 : Index := 0#32
  ![0, v468.toNat, 0]

def k0_chk314 (v467 : BitVec 32) : Prop :=
  (∀ a, (k0_off372 v467) a + S1x1x512.size a ≤ S1x2048x512.size a)
theorem k0_off372_inb : ∀ (v467 : BitVec 32) (k0_hw314 : k0_chk314 v467), ∀ a, (k0_off372 v467) a + S1x1x512.size a ≤ S1x2048x512.size a := fun v467 k0_hw314 => k0_hw314

def k0_off373 (i : grid0.Coords) : Fin 3 → Nat :=
  let c0_293 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v474 : Index := Scalar.indexCast v9
  let c58 : Index := 58#32
  ![0, v474.toNat, 58]
def k0_off374 (v475 : BitVec 32) : Fin 3 → Nat :=
  let c0_294 : Index := 0#32
  let v476 : Index := Scalar.indexCast v475
  let c0_295 : Index := 0#32
  ![0, v476.toNat, 0]

def k0_chk315 (v475 : BitVec 32) : Prop :=
  (∀ a, (k0_off374 v475) a + S1x1x512.size a ≤ S1x2048x512.size a)
theorem k0_off374_inb : ∀ (v475 : BitVec 32) (k0_hw315 : k0_chk315 v475), ∀ a, (k0_off374 v475) a + S1x1x512.size a ≤ S1x2048x512.size a := fun v475 k0_hw315 => k0_hw315

def k0_off375 (i : grid0.Coords) : Fin 3 → Nat :=
  let c0_298 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v482 : Index := Scalar.indexCast v9
  let c59 : Index := 59#32
  ![0, v482.toNat, 59]
def k0_off376 (v483 : BitVec 32) : Fin 3 → Nat :=
  let c0_299 : Index := 0#32
  let v484 : Index := Scalar.indexCast v483
  let c0_300 : Index := 0#32
  ![0, v484.toNat, 0]

def k0_chk316 (v483 : BitVec 32) : Prop :=
  (∀ a, (k0_off376 v483) a + S1x1x512.size a ≤ S1x2048x512.size a)
theorem k0_off376_inb : ∀ (v483 : BitVec 32) (k0_hw316 : k0_chk316 v483), ∀ a, (k0_off376 v483) a + S1x1x512.size a ≤ S1x2048x512.size a := fun v483 k0_hw316 => k0_hw316

def k0_off377 (i : grid0.Coords) : Fin 3 → Nat :=
  let c0_303 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v490 : Index := Scalar.indexCast v9
  let c60 : Index := 60#32
  ![0, v490.toNat, 60]
def k0_off378 (v491 : BitVec 32) : Fin 3 → Nat :=
  let c0_304 : Index := 0#32
  let v492 : Index := Scalar.indexCast v491
  let c0_305 : Index := 0#32
  ![0, v492.toNat, 0]

def k0_chk317 (v491 : BitVec 32) : Prop :=
  (∀ a, (k0_off378 v491) a + S1x1x512.size a ≤ S1x2048x512.size a)
theorem k0_off378_inb : ∀ (v491 : BitVec 32) (k0_hw317 : k0_chk317 v491), ∀ a, (k0_off378 v491) a + S1x1x512.size a ≤ S1x2048x512.size a := fun v491 k0_hw317 => k0_hw317

def k0_off379 (i : grid0.Coords) : Fin 3 → Nat :=
  let c0_308 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v498 : Index := Scalar.indexCast v9
  let c61 : Index := 61#32
  ![0, v498.toNat, 61]
def k0_off380 (v499 : BitVec 32) : Fin 3 → Nat :=
  let c0_309 : Index := 0#32
  let v500 : Index := Scalar.indexCast v499
  let c0_310 : Index := 0#32
  ![0, v500.toNat, 0]

def k0_chk318 (v499 : BitVec 32) : Prop :=
  (∀ a, (k0_off380 v499) a + S1x1x512.size a ≤ S1x2048x512.size a)
theorem k0_off380_inb : ∀ (v499 : BitVec 32) (k0_hw318 : k0_chk318 v499), ∀ a, (k0_off380 v499) a + S1x1x512.size a ≤ S1x2048x512.size a := fun v499 k0_hw318 => k0_hw318

def k0_off381 (i : grid0.Coords) : Fin 3 → Nat :=
  let c0_313 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v506 : Index := Scalar.indexCast v9
  let c62 : Index := 62#32
  ![0, v506.toNat, 62]
def k0_off382 (v507 : BitVec 32) : Fin 3 → Nat :=
  let c0_314 : Index := 0#32
  let v508 : Index := Scalar.indexCast v507
  let c0_315 : Index := 0#32
  ![0, v508.toNat, 0]

def k0_chk319 (v507 : BitVec 32) : Prop :=
  (∀ a, (k0_off382 v507) a + S1x1x512.size a ≤ S1x2048x512.size a)
theorem k0_off382_inb : ∀ (v507 : BitVec 32) (k0_hw319 : k0_chk319 v507), ∀ a, (k0_off382 v507) a + S1x1x512.size a ≤ S1x2048x512.size a := fun v507 k0_hw319 => k0_hw319

def k0_off383 (i : grid0.Coords) : Fin 3 → Nat :=
  let c0_318 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v514 : Index := Scalar.indexCast v9
  let c63 : Index := 63#32
  ![0, v514.toNat, 63]
def k0_off384 (v515 : BitVec 32) : Fin 3 → Nat :=
  let c0_319 : Index := 0#32
  let v516 : Index := Scalar.indexCast v515
  let c0_320 : Index := 0#32
  ![0, v516.toNat, 0]

def k0_chk320 (v515 : BitVec 32) : Prop :=
  (∀ a, (k0_off384 v515) a + S1x1x512.size a ≤ S1x2048x512.size a)
theorem k0_off384_inb : ∀ (v515 : BitVec 32) (k0_hw320 : k0_chk320 v515), ∀ a, (k0_off384 v515) a + S1x1x512.size a ≤ S1x2048x512.size a := fun v515 k0_hw320 => k0_hw320

def k0_off385 (i : grid0.Coords) : Fin 3 → Nat :=
  let c0_323 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v522 : Index := Scalar.indexCast v9
  let c64 : Index := 64#32
  ![0, v522.toNat, 64]
def k0_off386 (v523 : BitVec 32) : Fin 3 → Nat :=
  let c0_324 : Index := 0#32
  let v524 : Index := Scalar.indexCast v523
  let c0_325 : Index := 0#32
  ![0, v524.toNat, 0]

def k0_chk321 (v523 : BitVec 32) : Prop :=
  (∀ a, (k0_off386 v523) a + S1x1x512.size a ≤ S1x2048x512.size a)
theorem k0_off386_inb : ∀ (v523 : BitVec 32) (k0_hw321 : k0_chk321 v523), ∀ a, (k0_off386 v523) a + S1x1x512.size a ≤ S1x2048x512.size a := fun v523 k0_hw321 => k0_hw321

def k0_off387 (i : grid0.Coords) : Fin 3 → Nat :=
  let c0_328 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v530 : Index := Scalar.indexCast v9
  let c65 : Index := 65#32
  ![0, v530.toNat, 65]
def k0_off388 (v531 : BitVec 32) : Fin 3 → Nat :=
  let c0_329 : Index := 0#32
  let v532 : Index := Scalar.indexCast v531
  let c0_330 : Index := 0#32
  ![0, v532.toNat, 0]

def k0_chk322 (v531 : BitVec 32) : Prop :=
  (∀ a, (k0_off388 v531) a + S1x1x512.size a ≤ S1x2048x512.size a)
theorem k0_off388_inb : ∀ (v531 : BitVec 32) (k0_hw322 : k0_chk322 v531), ∀ a, (k0_off388 v531) a + S1x1x512.size a ≤ S1x2048x512.size a := fun v531 k0_hw322 => k0_hw322

def k0_off389 (i : grid0.Coords) : Fin 3 → Nat :=
  let c0_333 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v538 : Index := Scalar.indexCast v9
  let c66 : Index := 66#32
  ![0, v538.toNat, 66]
def k0_off390 (v539 : BitVec 32) : Fin 3 → Nat :=
  let c0_334 : Index := 0#32
  let v540 : Index := Scalar.indexCast v539
  let c0_335 : Index := 0#32
  ![0, v540.toNat, 0]

def k0_chk323 (v539 : BitVec 32) : Prop :=
  (∀ a, (k0_off390 v539) a + S1x1x512.size a ≤ S1x2048x512.size a)
theorem k0_off390_inb : ∀ (v539 : BitVec 32) (k0_hw323 : k0_chk323 v539), ∀ a, (k0_off390 v539) a + S1x1x512.size a ≤ S1x2048x512.size a := fun v539 k0_hw323 => k0_hw323

def k0_off391 (i : grid0.Coords) : Fin 3 → Nat :=
  let c0_338 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v546 : Index := Scalar.indexCast v9
  let c67 : Index := 67#32
  ![0, v546.toNat, 67]
def k0_off392 (v547 : BitVec 32) : Fin 3 → Nat :=
  let c0_339 : Index := 0#32
  let v548 : Index := Scalar.indexCast v547
  let c0_340 : Index := 0#32
  ![0, v548.toNat, 0]

def k0_chk324 (v547 : BitVec 32) : Prop :=
  (∀ a, (k0_off392 v547) a + S1x1x512.size a ≤ S1x2048x512.size a)
theorem k0_off392_inb : ∀ (v547 : BitVec 32) (k0_hw324 : k0_chk324 v547), ∀ a, (k0_off392 v547) a + S1x1x512.size a ≤ S1x2048x512.size a := fun v547 k0_hw324 => k0_hw324

def k0_off393 (i : grid0.Coords) : Fin 3 → Nat :=
  let c0_343 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v554 : Index := Scalar.indexCast v9
  let c68 : Index := 68#32
  ![0, v554.toNat, 68]
def k0_off394 (v555 : BitVec 32) : Fin 3 → Nat :=
  let c0_344 : Index := 0#32
  let v556 : Index := Scalar.indexCast v555
  let c0_345 : Index := 0#32
  ![0, v556.toNat, 0]

def k0_chk325 (v555 : BitVec 32) : Prop :=
  (∀ a, (k0_off394 v555) a + S1x1x512.size a ≤ S1x2048x512.size a)
theorem k0_off394_inb : ∀ (v555 : BitVec 32) (k0_hw325 : k0_chk325 v555), ∀ a, (k0_off394 v555) a + S1x1x512.size a ≤ S1x2048x512.size a := fun v555 k0_hw325 => k0_hw325

def k0_off395 (i : grid0.Coords) : Fin 3 → Nat :=
  let c0_348 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v562 : Index := Scalar.indexCast v9
  let c69 : Index := 69#32
  ![0, v562.toNat, 69]
def k0_off396 (v563 : BitVec 32) : Fin 3 → Nat :=
  let c0_349 : Index := 0#32
  let v564 : Index := Scalar.indexCast v563
  let c0_350 : Index := 0#32
  ![0, v564.toNat, 0]

def k0_chk326 (v563 : BitVec 32) : Prop :=
  (∀ a, (k0_off396 v563) a + S1x1x512.size a ≤ S1x2048x512.size a)
theorem k0_off396_inb : ∀ (v563 : BitVec 32) (k0_hw326 : k0_chk326 v563), ∀ a, (k0_off396 v563) a + S1x1x512.size a ≤ S1x2048x512.size a := fun v563 k0_hw326 => k0_hw326

def k0_off397 (i : grid0.Coords) : Fin 3 → Nat :=
  let c0_353 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v570 : Index := Scalar.indexCast v9
  let c70 : Index := 70#32
  ![0, v570.toNat, 70]
def k0_off398 (v571 : BitVec 32) : Fin 3 → Nat :=
  let c0_354 : Index := 0#32
  let v572 : Index := Scalar.indexCast v571
  let c0_355 : Index := 0#32
  ![0, v572.toNat, 0]

def k0_chk327 (v571 : BitVec 32) : Prop :=
  (∀ a, (k0_off398 v571) a + S1x1x512.size a ≤ S1x2048x512.size a)
theorem k0_off398_inb : ∀ (v571 : BitVec 32) (k0_hw327 : k0_chk327 v571), ∀ a, (k0_off398 v571) a + S1x1x512.size a ≤ S1x2048x512.size a := fun v571 k0_hw327 => k0_hw327

def k0_off399 (i : grid0.Coords) : Fin 3 → Nat :=
  let c0_358 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v578 : Index := Scalar.indexCast v9
  let c71 : Index := 71#32
  ![0, v578.toNat, 71]
def k0_off400 (v579 : BitVec 32) : Fin 3 → Nat :=
  let c0_359 : Index := 0#32
  let v580 : Index := Scalar.indexCast v579
  let c0_360 : Index := 0#32
  ![0, v580.toNat, 0]

def k0_chk328 (v579 : BitVec 32) : Prop :=
  (∀ a, (k0_off400 v579) a + S1x1x512.size a ≤ S1x2048x512.size a)
theorem k0_off400_inb : ∀ (v579 : BitVec 32) (k0_hw328 : k0_chk328 v579), ∀ a, (k0_off400 v579) a + S1x1x512.size a ≤ S1x2048x512.size a := fun v579 k0_hw328 => k0_hw328

def k0_off401 (i : grid0.Coords) : Fin 3 → Nat :=
  let c0_363 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v586 : Index := Scalar.indexCast v9
  let c72 : Index := 72#32
  ![0, v586.toNat, 72]
def k0_off402 (v587 : BitVec 32) : Fin 3 → Nat :=
  let c0_364 : Index := 0#32
  let v588 : Index := Scalar.indexCast v587
  let c0_365 : Index := 0#32
  ![0, v588.toNat, 0]

def k0_chk329 (v587 : BitVec 32) : Prop :=
  (∀ a, (k0_off402 v587) a + S1x1x512.size a ≤ S1x2048x512.size a)
theorem k0_off402_inb : ∀ (v587 : BitVec 32) (k0_hw329 : k0_chk329 v587), ∀ a, (k0_off402 v587) a + S1x1x512.size a ≤ S1x2048x512.size a := fun v587 k0_hw329 => k0_hw329

def k0_off403 (i : grid0.Coords) : Fin 3 → Nat :=
  let c0_368 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v594 : Index := Scalar.indexCast v9
  let c73 : Index := 73#32
  ![0, v594.toNat, 73]
def k0_off404 (v595 : BitVec 32) : Fin 3 → Nat :=
  let c0_369 : Index := 0#32
  let v596 : Index := Scalar.indexCast v595
  let c0_370 : Index := 0#32
  ![0, v596.toNat, 0]

def k0_chk330 (v595 : BitVec 32) : Prop :=
  (∀ a, (k0_off404 v595) a + S1x1x512.size a ≤ S1x2048x512.size a)
theorem k0_off404_inb : ∀ (v595 : BitVec 32) (k0_hw330 : k0_chk330 v595), ∀ a, (k0_off404 v595) a + S1x1x512.size a ≤ S1x2048x512.size a := fun v595 k0_hw330 => k0_hw330

def k0_off405 (i : grid0.Coords) : Fin 3 → Nat :=
  let c0_373 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v602 : Index := Scalar.indexCast v9
  let c74 : Index := 74#32
  ![0, v602.toNat, 74]
def k0_off406 (v603 : BitVec 32) : Fin 3 → Nat :=
  let c0_374 : Index := 0#32
  let v604 : Index := Scalar.indexCast v603
  let c0_375 : Index := 0#32
  ![0, v604.toNat, 0]

def k0_chk331 (v603 : BitVec 32) : Prop :=
  (∀ a, (k0_off406 v603) a + S1x1x512.size a ≤ S1x2048x512.size a)
theorem k0_off406_inb : ∀ (v603 : BitVec 32) (k0_hw331 : k0_chk331 v603), ∀ a, (k0_off406 v603) a + S1x1x512.size a ≤ S1x2048x512.size a := fun v603 k0_hw331 => k0_hw331

def k0_off407 (i : grid0.Coords) : Fin 3 → Nat :=
  let c0_378 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v610 : Index := Scalar.indexCast v9
  let c75 : Index := 75#32
  ![0, v610.toNat, 75]
def k0_off408 (v611 : BitVec 32) : Fin 3 → Nat :=
  let c0_379 : Index := 0#32
  let v612 : Index := Scalar.indexCast v611
  let c0_380 : Index := 0#32
  ![0, v612.toNat, 0]

def k0_chk332 (v611 : BitVec 32) : Prop :=
  (∀ a, (k0_off408 v611) a + S1x1x512.size a ≤ S1x2048x512.size a)
theorem k0_off408_inb : ∀ (v611 : BitVec 32) (k0_hw332 : k0_chk332 v611), ∀ a, (k0_off408 v611) a + S1x1x512.size a ≤ S1x2048x512.size a := fun v611 k0_hw332 => k0_hw332

def k0_off409 (i : grid0.Coords) : Fin 3 → Nat :=
  let c0_383 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v618 : Index := Scalar.indexCast v9
  let c76 : Index := 76#32
  ![0, v618.toNat, 76]
def k0_off410 (v619 : BitVec 32) : Fin 3 → Nat :=
  let c0_384 : Index := 0#32
  let v620 : Index := Scalar.indexCast v619
  let c0_385 : Index := 0#32
  ![0, v620.toNat, 0]

def k0_chk333 (v619 : BitVec 32) : Prop :=
  (∀ a, (k0_off410 v619) a + S1x1x512.size a ≤ S1x2048x512.size a)
theorem k0_off410_inb : ∀ (v619 : BitVec 32) (k0_hw333 : k0_chk333 v619), ∀ a, (k0_off410 v619) a + S1x1x512.size a ≤ S1x2048x512.size a := fun v619 k0_hw333 => k0_hw333

def k0_off411 (i : grid0.Coords) : Fin 3 → Nat :=
  let c0_388 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v626 : Index := Scalar.indexCast v9
  let c77 : Index := 77#32
  ![0, v626.toNat, 77]
def k0_off412 (v627 : BitVec 32) : Fin 3 → Nat :=
  let c0_389 : Index := 0#32
  let v628 : Index := Scalar.indexCast v627
  let c0_390 : Index := 0#32
  ![0, v628.toNat, 0]

def k0_chk334 (v627 : BitVec 32) : Prop :=
  (∀ a, (k0_off412 v627) a + S1x1x512.size a ≤ S1x2048x512.size a)
theorem k0_off412_inb : ∀ (v627 : BitVec 32) (k0_hw334 : k0_chk334 v627), ∀ a, (k0_off412 v627) a + S1x1x512.size a ≤ S1x2048x512.size a := fun v627 k0_hw334 => k0_hw334

def k0_off413 (i : grid0.Coords) : Fin 3 → Nat :=
  let c0_393 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v634 : Index := Scalar.indexCast v9
  let c78 : Index := 78#32
  ![0, v634.toNat, 78]
def k0_off414 (v635 : BitVec 32) : Fin 3 → Nat :=
  let c0_394 : Index := 0#32
  let v636 : Index := Scalar.indexCast v635
  let c0_395 : Index := 0#32
  ![0, v636.toNat, 0]

def k0_chk335 (v635 : BitVec 32) : Prop :=
  (∀ a, (k0_off414 v635) a + S1x1x512.size a ≤ S1x2048x512.size a)
theorem k0_off414_inb : ∀ (v635 : BitVec 32) (k0_hw335 : k0_chk335 v635), ∀ a, (k0_off414 v635) a + S1x1x512.size a ≤ S1x2048x512.size a := fun v635 k0_hw335 => k0_hw335

def k0_off415 (i : grid0.Coords) : Fin 3 → Nat :=
  let c0_398 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v642 : Index := Scalar.indexCast v9
  let c79 : Index := 79#32
  ![0, v642.toNat, 79]
def k0_off416 (v643 : BitVec 32) : Fin 3 → Nat :=
  let c0_399 : Index := 0#32
  let v644 : Index := Scalar.indexCast v643
  let c0_400 : Index := 0#32
  ![0, v644.toNat, 0]

def k0_chk336 (v643 : BitVec 32) : Prop :=
  (∀ a, (k0_off416 v643) a + S1x1x512.size a ≤ S1x2048x512.size a)
theorem k0_off416_inb : ∀ (v643 : BitVec 32) (k0_hw336 : k0_chk336 v643), ∀ a, (k0_off416 v643) a + S1x1x512.size a ≤ S1x2048x512.size a := fun v643 k0_hw336 => k0_hw336

def k0_off417 (i : grid0.Coords) : Fin 3 → Nat :=
  let c0_403 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v650 : Index := Scalar.indexCast v9
  let c80 : Index := 80#32
  ![0, v650.toNat, 80]
def k0_off418 (v651 : BitVec 32) : Fin 3 → Nat :=
  let c0_404 : Index := 0#32
  let v652 : Index := Scalar.indexCast v651
  let c0_405 : Index := 0#32
  ![0, v652.toNat, 0]

def k0_chk337 (v651 : BitVec 32) : Prop :=
  (∀ a, (k0_off418 v651) a + S1x1x512.size a ≤ S1x2048x512.size a)
theorem k0_off418_inb : ∀ (v651 : BitVec 32) (k0_hw337 : k0_chk337 v651), ∀ a, (k0_off418 v651) a + S1x1x512.size a ≤ S1x2048x512.size a := fun v651 k0_hw337 => k0_hw337

def k0_off419 (i : grid0.Coords) : Fin 3 → Nat :=
  let c0_408 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v658 : Index := Scalar.indexCast v9
  let c81 : Index := 81#32
  ![0, v658.toNat, 81]
def k0_off420 (v659 : BitVec 32) : Fin 3 → Nat :=
  let c0_409 : Index := 0#32
  let v660 : Index := Scalar.indexCast v659
  let c0_410 : Index := 0#32
  ![0, v660.toNat, 0]

def k0_chk338 (v659 : BitVec 32) : Prop :=
  (∀ a, (k0_off420 v659) a + S1x1x512.size a ≤ S1x2048x512.size a)
theorem k0_off420_inb : ∀ (v659 : BitVec 32) (k0_hw338 : k0_chk338 v659), ∀ a, (k0_off420 v659) a + S1x1x512.size a ≤ S1x2048x512.size a := fun v659 k0_hw338 => k0_hw338

def k0_off421 (i : grid0.Coords) : Fin 3 → Nat :=
  let c0_413 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v666 : Index := Scalar.indexCast v9
  let c82 : Index := 82#32
  ![0, v666.toNat, 82]
def k0_off422 (v667 : BitVec 32) : Fin 3 → Nat :=
  let c0_414 : Index := 0#32
  let v668 : Index := Scalar.indexCast v667
  let c0_415 : Index := 0#32
  ![0, v668.toNat, 0]

def k0_chk339 (v667 : BitVec 32) : Prop :=
  (∀ a, (k0_off422 v667) a + S1x1x512.size a ≤ S1x2048x512.size a)
theorem k0_off422_inb : ∀ (v667 : BitVec 32) (k0_hw339 : k0_chk339 v667), ∀ a, (k0_off422 v667) a + S1x1x512.size a ≤ S1x2048x512.size a := fun v667 k0_hw339 => k0_hw339

def k0_off423 (i : grid0.Coords) : Fin 3 → Nat :=
  let c0_418 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v674 : Index := Scalar.indexCast v9
  let c83 : Index := 83#32
  ![0, v674.toNat, 83]
def k0_off424 (v675 : BitVec 32) : Fin 3 → Nat :=
  let c0_419 : Index := 0#32
  let v676 : Index := Scalar.indexCast v675
  let c0_420 : Index := 0#32
  ![0, v676.toNat, 0]

def k0_chk340 (v675 : BitVec 32) : Prop :=
  (∀ a, (k0_off424 v675) a + S1x1x512.size a ≤ S1x2048x512.size a)
theorem k0_off424_inb : ∀ (v675 : BitVec 32) (k0_hw340 : k0_chk340 v675), ∀ a, (k0_off424 v675) a + S1x1x512.size a ≤ S1x2048x512.size a := fun v675 k0_hw340 => k0_hw340

def k0_off425 (i : grid0.Coords) : Fin 3 → Nat :=
  let c0_423 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v682 : Index := Scalar.indexCast v9
  let c84 : Index := 84#32
  ![0, v682.toNat, 84]
def k0_off426 (v683 : BitVec 32) : Fin 3 → Nat :=
  let c0_424 : Index := 0#32
  let v684 : Index := Scalar.indexCast v683
  let c0_425 : Index := 0#32
  ![0, v684.toNat, 0]

def k0_chk341 (v683 : BitVec 32) : Prop :=
  (∀ a, (k0_off426 v683) a + S1x1x512.size a ≤ S1x2048x512.size a)
theorem k0_off426_inb : ∀ (v683 : BitVec 32) (k0_hw341 : k0_chk341 v683), ∀ a, (k0_off426 v683) a + S1x1x512.size a ≤ S1x2048x512.size a := fun v683 k0_hw341 => k0_hw341

def k0_off427 (i : grid0.Coords) : Fin 3 → Nat :=
  let c0_428 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v690 : Index := Scalar.indexCast v9
  let c85 : Index := 85#32
  ![0, v690.toNat, 85]
def k0_off428 (v691 : BitVec 32) : Fin 3 → Nat :=
  let c0_429 : Index := 0#32
  let v692 : Index := Scalar.indexCast v691
  let c0_430 : Index := 0#32
  ![0, v692.toNat, 0]

def k0_chk342 (v691 : BitVec 32) : Prop :=
  (∀ a, (k0_off428 v691) a + S1x1x512.size a ≤ S1x2048x512.size a)
theorem k0_off428_inb : ∀ (v691 : BitVec 32) (k0_hw342 : k0_chk342 v691), ∀ a, (k0_off428 v691) a + S1x1x512.size a ≤ S1x2048x512.size a := fun v691 k0_hw342 => k0_hw342

def k0_off429 (i : grid0.Coords) : Fin 3 → Nat :=
  let c0_433 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v698 : Index := Scalar.indexCast v9
  let c86 : Index := 86#32
  ![0, v698.toNat, 86]
def k0_off430 (v699 : BitVec 32) : Fin 3 → Nat :=
  let c0_434 : Index := 0#32
  let v700 : Index := Scalar.indexCast v699
  let c0_435 : Index := 0#32
  ![0, v700.toNat, 0]

def k0_chk343 (v699 : BitVec 32) : Prop :=
  (∀ a, (k0_off430 v699) a + S1x1x512.size a ≤ S1x2048x512.size a)
theorem k0_off430_inb : ∀ (v699 : BitVec 32) (k0_hw343 : k0_chk343 v699), ∀ a, (k0_off430 v699) a + S1x1x512.size a ≤ S1x2048x512.size a := fun v699 k0_hw343 => k0_hw343

def k0_off431 (i : grid0.Coords) : Fin 3 → Nat :=
  let c0_438 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v706 : Index := Scalar.indexCast v9
  let c87 : Index := 87#32
  ![0, v706.toNat, 87]
def k0_off432 (v707 : BitVec 32) : Fin 3 → Nat :=
  let c0_439 : Index := 0#32
  let v708 : Index := Scalar.indexCast v707
  let c0_440 : Index := 0#32
  ![0, v708.toNat, 0]

def k0_chk344 (v707 : BitVec 32) : Prop :=
  (∀ a, (k0_off432 v707) a + S1x1x512.size a ≤ S1x2048x512.size a)
theorem k0_off432_inb : ∀ (v707 : BitVec 32) (k0_hw344 : k0_chk344 v707), ∀ a, (k0_off432 v707) a + S1x1x512.size a ≤ S1x2048x512.size a := fun v707 k0_hw344 => k0_hw344

def k0_off433 (i : grid0.Coords) : Fin 3 → Nat :=
  let c0_443 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v714 : Index := Scalar.indexCast v9
  let c88 : Index := 88#32
  ![0, v714.toNat, 88]
def k0_off434 (v715 : BitVec 32) : Fin 3 → Nat :=
  let c0_444 : Index := 0#32
  let v716 : Index := Scalar.indexCast v715
  let c0_445 : Index := 0#32
  ![0, v716.toNat, 0]

def k0_chk345 (v715 : BitVec 32) : Prop :=
  (∀ a, (k0_off434 v715) a + S1x1x512.size a ≤ S1x2048x512.size a)
theorem k0_off434_inb : ∀ (v715 : BitVec 32) (k0_hw345 : k0_chk345 v715), ∀ a, (k0_off434 v715) a + S1x1x512.size a ≤ S1x2048x512.size a := fun v715 k0_hw345 => k0_hw345

def k0_off435 (i : grid0.Coords) : Fin 3 → Nat :=
  let c0_448 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v722 : Index := Scalar.indexCast v9
  let c89 : Index := 89#32
  ![0, v722.toNat, 89]
def k0_off436 (v723 : BitVec 32) : Fin 3 → Nat :=
  let c0_449 : Index := 0#32
  let v724 : Index := Scalar.indexCast v723
  let c0_450 : Index := 0#32
  ![0, v724.toNat, 0]

def k0_chk346 (v723 : BitVec 32) : Prop :=
  (∀ a, (k0_off436 v723) a + S1x1x512.size a ≤ S1x2048x512.size a)
theorem k0_off436_inb : ∀ (v723 : BitVec 32) (k0_hw346 : k0_chk346 v723), ∀ a, (k0_off436 v723) a + S1x1x512.size a ≤ S1x2048x512.size a := fun v723 k0_hw346 => k0_hw346

def k0_off437 (i : grid0.Coords) : Fin 3 → Nat :=
  let c0_453 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v730 : Index := Scalar.indexCast v9
  let c90 : Index := 90#32
  ![0, v730.toNat, 90]
def k0_off438 (v731 : BitVec 32) : Fin 3 → Nat :=
  let c0_454 : Index := 0#32
  let v732 : Index := Scalar.indexCast v731
  let c0_455 : Index := 0#32
  ![0, v732.toNat, 0]

def k0_chk347 (v731 : BitVec 32) : Prop :=
  (∀ a, (k0_off438 v731) a + S1x1x512.size a ≤ S1x2048x512.size a)
theorem k0_off438_inb : ∀ (v731 : BitVec 32) (k0_hw347 : k0_chk347 v731), ∀ a, (k0_off438 v731) a + S1x1x512.size a ≤ S1x2048x512.size a := fun v731 k0_hw347 => k0_hw347

def k0_off439 (i : grid0.Coords) : Fin 3 → Nat :=
  let c0_458 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v738 : Index := Scalar.indexCast v9
  let c91 : Index := 91#32
  ![0, v738.toNat, 91]
def k0_off440 (v739 : BitVec 32) : Fin 3 → Nat :=
  let c0_459 : Index := 0#32
  let v740 : Index := Scalar.indexCast v739
  let c0_460 : Index := 0#32
  ![0, v740.toNat, 0]

def k0_chk348 (v739 : BitVec 32) : Prop :=
  (∀ a, (k0_off440 v739) a + S1x1x512.size a ≤ S1x2048x512.size a)
theorem k0_off440_inb : ∀ (v739 : BitVec 32) (k0_hw348 : k0_chk348 v739), ∀ a, (k0_off440 v739) a + S1x1x512.size a ≤ S1x2048x512.size a := fun v739 k0_hw348 => k0_hw348

def k0_off441 (i : grid0.Coords) : Fin 3 → Nat :=
  let c0_463 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v746 : Index := Scalar.indexCast v9
  let c92 : Index := 92#32
  ![0, v746.toNat, 92]
def k0_off442 (v747 : BitVec 32) : Fin 3 → Nat :=
  let c0_464 : Index := 0#32
  let v748 : Index := Scalar.indexCast v747
  let c0_465 : Index := 0#32
  ![0, v748.toNat, 0]

def k0_chk349 (v747 : BitVec 32) : Prop :=
  (∀ a, (k0_off442 v747) a + S1x1x512.size a ≤ S1x2048x512.size a)
theorem k0_off442_inb : ∀ (v747 : BitVec 32) (k0_hw349 : k0_chk349 v747), ∀ a, (k0_off442 v747) a + S1x1x512.size a ≤ S1x2048x512.size a := fun v747 k0_hw349 => k0_hw349

def k0_off443 (i : grid0.Coords) : Fin 3 → Nat :=
  let c0_468 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v754 : Index := Scalar.indexCast v9
  let c93 : Index := 93#32
  ![0, v754.toNat, 93]
def k0_off444 (v755 : BitVec 32) : Fin 3 → Nat :=
  let c0_469 : Index := 0#32
  let v756 : Index := Scalar.indexCast v755
  let c0_470 : Index := 0#32
  ![0, v756.toNat, 0]

def k0_chk350 (v755 : BitVec 32) : Prop :=
  (∀ a, (k0_off444 v755) a + S1x1x512.size a ≤ S1x2048x512.size a)
theorem k0_off444_inb : ∀ (v755 : BitVec 32) (k0_hw350 : k0_chk350 v755), ∀ a, (k0_off444 v755) a + S1x1x512.size a ≤ S1x2048x512.size a := fun v755 k0_hw350 => k0_hw350

def k0_off445 (i : grid0.Coords) : Fin 3 → Nat :=
  let c0_473 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v762 : Index := Scalar.indexCast v9
  let c94 : Index := 94#32
  ![0, v762.toNat, 94]
def k0_off446 (v763 : BitVec 32) : Fin 3 → Nat :=
  let c0_474 : Index := 0#32
  let v764 : Index := Scalar.indexCast v763
  let c0_475 : Index := 0#32
  ![0, v764.toNat, 0]

def k0_chk351 (v763 : BitVec 32) : Prop :=
  (∀ a, (k0_off446 v763) a + S1x1x512.size a ≤ S1x2048x512.size a)
theorem k0_off446_inb : ∀ (v763 : BitVec 32) (k0_hw351 : k0_chk351 v763), ∀ a, (k0_off446 v763) a + S1x1x512.size a ≤ S1x2048x512.size a := fun v763 k0_hw351 => k0_hw351

def k0_off447 (i : grid0.Coords) : Fin 3 → Nat :=
  let c0_478 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v770 : Index := Scalar.indexCast v9
  let c95 : Index := 95#32
  ![0, v770.toNat, 95]
def k0_off448 (v771 : BitVec 32) : Fin 3 → Nat :=
  let c0_479 : Index := 0#32
  let v772 : Index := Scalar.indexCast v771
  let c0_480 : Index := 0#32
  ![0, v772.toNat, 0]

def k0_chk352 (v771 : BitVec 32) : Prop :=
  (∀ a, (k0_off448 v771) a + S1x1x512.size a ≤ S1x2048x512.size a)
theorem k0_off448_inb : ∀ (v771 : BitVec 32) (k0_hw352 : k0_chk352 v771), ∀ a, (k0_off448 v771) a + S1x1x512.size a ≤ S1x2048x512.size a := fun v771 k0_hw352 => k0_hw352

def k0_off449 (i : grid0.Coords) : Fin 3 → Nat :=
  let c0_483 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v778 : Index := Scalar.indexCast v9
  let c96 : Index := 96#32
  ![0, v778.toNat, 96]
def k0_off450 (v779 : BitVec 32) : Fin 3 → Nat :=
  let c0_484 : Index := 0#32
  let v780 : Index := Scalar.indexCast v779
  let c0_485 : Index := 0#32
  ![0, v780.toNat, 0]

def k0_chk353 (v779 : BitVec 32) : Prop :=
  (∀ a, (k0_off450 v779) a + S1x1x512.size a ≤ S1x2048x512.size a)
theorem k0_off450_inb : ∀ (v779 : BitVec 32) (k0_hw353 : k0_chk353 v779), ∀ a, (k0_off450 v779) a + S1x1x512.size a ≤ S1x2048x512.size a := fun v779 k0_hw353 => k0_hw353

def k0_off451 (i : grid0.Coords) : Fin 3 → Nat :=
  let c0_488 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v786 : Index := Scalar.indexCast v9
  let c97 : Index := 97#32
  ![0, v786.toNat, 97]
def k0_off452 (v787 : BitVec 32) : Fin 3 → Nat :=
  let c0_489 : Index := 0#32
  let v788 : Index := Scalar.indexCast v787
  let c0_490 : Index := 0#32
  ![0, v788.toNat, 0]

def k0_chk354 (v787 : BitVec 32) : Prop :=
  (∀ a, (k0_off452 v787) a + S1x1x512.size a ≤ S1x2048x512.size a)
theorem k0_off452_inb : ∀ (v787 : BitVec 32) (k0_hw354 : k0_chk354 v787), ∀ a, (k0_off452 v787) a + S1x1x512.size a ≤ S1x2048x512.size a := fun v787 k0_hw354 => k0_hw354

def k0_off453 (i : grid0.Coords) : Fin 3 → Nat :=
  let c0_493 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v794 : Index := Scalar.indexCast v9
  let c98 : Index := 98#32
  ![0, v794.toNat, 98]
def k0_off454 (v795 : BitVec 32) : Fin 3 → Nat :=
  let c0_494 : Index := 0#32
  let v796 : Index := Scalar.indexCast v795
  let c0_495 : Index := 0#32
  ![0, v796.toNat, 0]

def k0_chk355 (v795 : BitVec 32) : Prop :=
  (∀ a, (k0_off454 v795) a + S1x1x512.size a ≤ S1x2048x512.size a)
theorem k0_off454_inb : ∀ (v795 : BitVec 32) (k0_hw355 : k0_chk355 v795), ∀ a, (k0_off454 v795) a + S1x1x512.size a ≤ S1x2048x512.size a := fun v795 k0_hw355 => k0_hw355

def k0_off455 (i : grid0.Coords) : Fin 3 → Nat :=
  let c0_498 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v802 : Index := Scalar.indexCast v9
  let c99 : Index := 99#32
  ![0, v802.toNat, 99]
def k0_off456 (v803 : BitVec 32) : Fin 3 → Nat :=
  let c0_499 : Index := 0#32
  let v804 : Index := Scalar.indexCast v803
  let c0_500 : Index := 0#32
  ![0, v804.toNat, 0]

def k0_chk356 (v803 : BitVec 32) : Prop :=
  (∀ a, (k0_off456 v803) a + S1x1x512.size a ≤ S1x2048x512.size a)
theorem k0_off456_inb : ∀ (v803 : BitVec 32) (k0_hw356 : k0_chk356 v803), ∀ a, (k0_off456 v803) a + S1x1x512.size a ≤ S1x2048x512.size a := fun v803 k0_hw356 => k0_hw356

def k0_off457 (i : grid0.Coords) : Fin 3 → Nat :=
  let c0_503 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v810 : Index := Scalar.indexCast v9
  let c100 : Index := 100#32
  ![0, v810.toNat, 100]
def k0_off458 (v811 : BitVec 32) : Fin 3 → Nat :=
  let c0_504 : Index := 0#32
  let v812 : Index := Scalar.indexCast v811
  let c0_505 : Index := 0#32
  ![0, v812.toNat, 0]

def k0_chk357 (v811 : BitVec 32) : Prop :=
  (∀ a, (k0_off458 v811) a + S1x1x512.size a ≤ S1x2048x512.size a)
theorem k0_off458_inb : ∀ (v811 : BitVec 32) (k0_hw357 : k0_chk357 v811), ∀ a, (k0_off458 v811) a + S1x1x512.size a ≤ S1x2048x512.size a := fun v811 k0_hw357 => k0_hw357

def k0_off459 (i : grid0.Coords) : Fin 3 → Nat :=
  let c0_508 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v818 : Index := Scalar.indexCast v9
  let c101 : Index := 101#32
  ![0, v818.toNat, 101]
def k0_off460 (v819 : BitVec 32) : Fin 3 → Nat :=
  let c0_509 : Index := 0#32
  let v820 : Index := Scalar.indexCast v819
  let c0_510 : Index := 0#32
  ![0, v820.toNat, 0]

def k0_chk358 (v819 : BitVec 32) : Prop :=
  (∀ a, (k0_off460 v819) a + S1x1x512.size a ≤ S1x2048x512.size a)
theorem k0_off460_inb : ∀ (v819 : BitVec 32) (k0_hw358 : k0_chk358 v819), ∀ a, (k0_off460 v819) a + S1x1x512.size a ≤ S1x2048x512.size a := fun v819 k0_hw358 => k0_hw358

def k0_off461 (i : grid0.Coords) : Fin 3 → Nat :=
  let c0_513 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v826 : Index := Scalar.indexCast v9
  let c102 : Index := 102#32
  ![0, v826.toNat, 102]
def k0_off462 (v827 : BitVec 32) : Fin 3 → Nat :=
  let c0_514 : Index := 0#32
  let v828 : Index := Scalar.indexCast v827
  let c0_515 : Index := 0#32
  ![0, v828.toNat, 0]

def k0_chk359 (v827 : BitVec 32) : Prop :=
  (∀ a, (k0_off462 v827) a + S1x1x512.size a ≤ S1x2048x512.size a)
theorem k0_off462_inb : ∀ (v827 : BitVec 32) (k0_hw359 : k0_chk359 v827), ∀ a, (k0_off462 v827) a + S1x1x512.size a ≤ S1x2048x512.size a := fun v827 k0_hw359 => k0_hw359

def k0_off463 (i : grid0.Coords) : Fin 3 → Nat :=
  let c0_518 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v834 : Index := Scalar.indexCast v9
  let c103 : Index := 103#32
  ![0, v834.toNat, 103]
def k0_off464 (v835 : BitVec 32) : Fin 3 → Nat :=
  let c0_519 : Index := 0#32
  let v836 : Index := Scalar.indexCast v835
  let c0_520 : Index := 0#32
  ![0, v836.toNat, 0]

def k0_chk360 (v835 : BitVec 32) : Prop :=
  (∀ a, (k0_off464 v835) a + S1x1x512.size a ≤ S1x2048x512.size a)
theorem k0_off464_inb : ∀ (v835 : BitVec 32) (k0_hw360 : k0_chk360 v835), ∀ a, (k0_off464 v835) a + S1x1x512.size a ≤ S1x2048x512.size a := fun v835 k0_hw360 => k0_hw360

def k0_off465 (i : grid0.Coords) : Fin 3 → Nat :=
  let c0_523 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v842 : Index := Scalar.indexCast v9
  let c104 : Index := 104#32
  ![0, v842.toNat, 104]
def k0_off466 (v843 : BitVec 32) : Fin 3 → Nat :=
  let c0_524 : Index := 0#32
  let v844 : Index := Scalar.indexCast v843
  let c0_525 : Index := 0#32
  ![0, v844.toNat, 0]

def k0_chk361 (v843 : BitVec 32) : Prop :=
  (∀ a, (k0_off466 v843) a + S1x1x512.size a ≤ S1x2048x512.size a)
theorem k0_off466_inb : ∀ (v843 : BitVec 32) (k0_hw361 : k0_chk361 v843), ∀ a, (k0_off466 v843) a + S1x1x512.size a ≤ S1x2048x512.size a := fun v843 k0_hw361 => k0_hw361

def k0_off467 (i : grid0.Coords) : Fin 3 → Nat :=
  let c0_528 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v850 : Index := Scalar.indexCast v9
  let c105 : Index := 105#32
  ![0, v850.toNat, 105]
def k0_off468 (v851 : BitVec 32) : Fin 3 → Nat :=
  let c0_529 : Index := 0#32
  let v852 : Index := Scalar.indexCast v851
  let c0_530 : Index := 0#32
  ![0, v852.toNat, 0]

def k0_chk362 (v851 : BitVec 32) : Prop :=
  (∀ a, (k0_off468 v851) a + S1x1x512.size a ≤ S1x2048x512.size a)
theorem k0_off468_inb : ∀ (v851 : BitVec 32) (k0_hw362 : k0_chk362 v851), ∀ a, (k0_off468 v851) a + S1x1x512.size a ≤ S1x2048x512.size a := fun v851 k0_hw362 => k0_hw362

def k0_off469 (i : grid0.Coords) : Fin 3 → Nat :=
  let c0_533 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v858 : Index := Scalar.indexCast v9
  let c106 : Index := 106#32
  ![0, v858.toNat, 106]
def k0_off470 (v859 : BitVec 32) : Fin 3 → Nat :=
  let c0_534 : Index := 0#32
  let v860 : Index := Scalar.indexCast v859
  let c0_535 : Index := 0#32
  ![0, v860.toNat, 0]

def k0_chk363 (v859 : BitVec 32) : Prop :=
  (∀ a, (k0_off470 v859) a + S1x1x512.size a ≤ S1x2048x512.size a)
theorem k0_off470_inb : ∀ (v859 : BitVec 32) (k0_hw363 : k0_chk363 v859), ∀ a, (k0_off470 v859) a + S1x1x512.size a ≤ S1x2048x512.size a := fun v859 k0_hw363 => k0_hw363

def k0_off471 (i : grid0.Coords) : Fin 3 → Nat :=
  let c0_538 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v866 : Index := Scalar.indexCast v9
  let c107 : Index := 107#32
  ![0, v866.toNat, 107]
def k0_off472 (v867 : BitVec 32) : Fin 3 → Nat :=
  let c0_539 : Index := 0#32
  let v868 : Index := Scalar.indexCast v867
  let c0_540 : Index := 0#32
  ![0, v868.toNat, 0]

def k0_chk364 (v867 : BitVec 32) : Prop :=
  (∀ a, (k0_off472 v867) a + S1x1x512.size a ≤ S1x2048x512.size a)
theorem k0_off472_inb : ∀ (v867 : BitVec 32) (k0_hw364 : k0_chk364 v867), ∀ a, (k0_off472 v867) a + S1x1x512.size a ≤ S1x2048x512.size a := fun v867 k0_hw364 => k0_hw364

def k0_off473 (i : grid0.Coords) : Fin 3 → Nat :=
  let c0_543 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v874 : Index := Scalar.indexCast v9
  let c108 : Index := 108#32
  ![0, v874.toNat, 108]
def k0_off474 (v875 : BitVec 32) : Fin 3 → Nat :=
  let c0_544 : Index := 0#32
  let v876 : Index := Scalar.indexCast v875
  let c0_545 : Index := 0#32
  ![0, v876.toNat, 0]

def k0_chk365 (v875 : BitVec 32) : Prop :=
  (∀ a, (k0_off474 v875) a + S1x1x512.size a ≤ S1x2048x512.size a)
theorem k0_off474_inb : ∀ (v875 : BitVec 32) (k0_hw365 : k0_chk365 v875), ∀ a, (k0_off474 v875) a + S1x1x512.size a ≤ S1x2048x512.size a := fun v875 k0_hw365 => k0_hw365

def k0_off475 (i : grid0.Coords) : Fin 3 → Nat :=
  let c0_548 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v882 : Index := Scalar.indexCast v9
  let c109 : Index := 109#32
  ![0, v882.toNat, 109]
def k0_off476 (v883 : BitVec 32) : Fin 3 → Nat :=
  let c0_549 : Index := 0#32
  let v884 : Index := Scalar.indexCast v883
  let c0_550 : Index := 0#32
  ![0, v884.toNat, 0]

def k0_chk366 (v883 : BitVec 32) : Prop :=
  (∀ a, (k0_off476 v883) a + S1x1x512.size a ≤ S1x2048x512.size a)
theorem k0_off476_inb : ∀ (v883 : BitVec 32) (k0_hw366 : k0_chk366 v883), ∀ a, (k0_off476 v883) a + S1x1x512.size a ≤ S1x2048x512.size a := fun v883 k0_hw366 => k0_hw366

def k0_off477 (i : grid0.Coords) : Fin 3 → Nat :=
  let c0_553 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v890 : Index := Scalar.indexCast v9
  let c110 : Index := 110#32
  ![0, v890.toNat, 110]
def k0_off478 (v891 : BitVec 32) : Fin 3 → Nat :=
  let c0_554 : Index := 0#32
  let v892 : Index := Scalar.indexCast v891
  let c0_555 : Index := 0#32
  ![0, v892.toNat, 0]

def k0_chk367 (v891 : BitVec 32) : Prop :=
  (∀ a, (k0_off478 v891) a + S1x1x512.size a ≤ S1x2048x512.size a)
theorem k0_off478_inb : ∀ (v891 : BitVec 32) (k0_hw367 : k0_chk367 v891), ∀ a, (k0_off478 v891) a + S1x1x512.size a ≤ S1x2048x512.size a := fun v891 k0_hw367 => k0_hw367

def k0_off479 (i : grid0.Coords) : Fin 3 → Nat :=
  let c0_558 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v898 : Index := Scalar.indexCast v9
  let c111 : Index := 111#32
  ![0, v898.toNat, 111]
def k0_off480 (v899 : BitVec 32) : Fin 3 → Nat :=
  let c0_559 : Index := 0#32
  let v900 : Index := Scalar.indexCast v899
  let c0_560 : Index := 0#32
  ![0, v900.toNat, 0]

def k0_chk368 (v899 : BitVec 32) : Prop :=
  (∀ a, (k0_off480 v899) a + S1x1x512.size a ≤ S1x2048x512.size a)
theorem k0_off480_inb : ∀ (v899 : BitVec 32) (k0_hw368 : k0_chk368 v899), ∀ a, (k0_off480 v899) a + S1x1x512.size a ≤ S1x2048x512.size a := fun v899 k0_hw368 => k0_hw368

def k0_off481 (i : grid0.Coords) : Fin 3 → Nat :=
  let c0_563 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v906 : Index := Scalar.indexCast v9
  let c112 : Index := 112#32
  ![0, v906.toNat, 112]
def k0_off482 (v907 : BitVec 32) : Fin 3 → Nat :=
  let c0_564 : Index := 0#32
  let v908 : Index := Scalar.indexCast v907
  let c0_565 : Index := 0#32
  ![0, v908.toNat, 0]

def k0_chk369 (v907 : BitVec 32) : Prop :=
  (∀ a, (k0_off482 v907) a + S1x1x512.size a ≤ S1x2048x512.size a)
theorem k0_off482_inb : ∀ (v907 : BitVec 32) (k0_hw369 : k0_chk369 v907), ∀ a, (k0_off482 v907) a + S1x1x512.size a ≤ S1x2048x512.size a := fun v907 k0_hw369 => k0_hw369

def k0_off483 (i : grid0.Coords) : Fin 3 → Nat :=
  let c0_568 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v914 : Index := Scalar.indexCast v9
  let c113 : Index := 113#32
  ![0, v914.toNat, 113]
def k0_off484 (v915 : BitVec 32) : Fin 3 → Nat :=
  let c0_569 : Index := 0#32
  let v916 : Index := Scalar.indexCast v915
  let c0_570 : Index := 0#32
  ![0, v916.toNat, 0]

def k0_chk370 (v915 : BitVec 32) : Prop :=
  (∀ a, (k0_off484 v915) a + S1x1x512.size a ≤ S1x2048x512.size a)
theorem k0_off484_inb : ∀ (v915 : BitVec 32) (k0_hw370 : k0_chk370 v915), ∀ a, (k0_off484 v915) a + S1x1x512.size a ≤ S1x2048x512.size a := fun v915 k0_hw370 => k0_hw370

def k0_off485 (i : grid0.Coords) : Fin 3 → Nat :=
  let c0_573 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v922 : Index := Scalar.indexCast v9
  let c114 : Index := 114#32
  ![0, v922.toNat, 114]
def k0_off486 (v923 : BitVec 32) : Fin 3 → Nat :=
  let c0_574 : Index := 0#32
  let v924 : Index := Scalar.indexCast v923
  let c0_575 : Index := 0#32
  ![0, v924.toNat, 0]

def k0_chk371 (v923 : BitVec 32) : Prop :=
  (∀ a, (k0_off486 v923) a + S1x1x512.size a ≤ S1x2048x512.size a)
theorem k0_off486_inb : ∀ (v923 : BitVec 32) (k0_hw371 : k0_chk371 v923), ∀ a, (k0_off486 v923) a + S1x1x512.size a ≤ S1x2048x512.size a := fun v923 k0_hw371 => k0_hw371

def k0_off487 (i : grid0.Coords) : Fin 3 → Nat :=
  let c0_578 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v930 : Index := Scalar.indexCast v9
  let c115 : Index := 115#32
  ![0, v930.toNat, 115]
def k0_off488 (v931 : BitVec 32) : Fin 3 → Nat :=
  let c0_579 : Index := 0#32
  let v932 : Index := Scalar.indexCast v931
  let c0_580 : Index := 0#32
  ![0, v932.toNat, 0]

def k0_chk372 (v931 : BitVec 32) : Prop :=
  (∀ a, (k0_off488 v931) a + S1x1x512.size a ≤ S1x2048x512.size a)
theorem k0_off488_inb : ∀ (v931 : BitVec 32) (k0_hw372 : k0_chk372 v931), ∀ a, (k0_off488 v931) a + S1x1x512.size a ≤ S1x2048x512.size a := fun v931 k0_hw372 => k0_hw372

def k0_off489 (i : grid0.Coords) : Fin 3 → Nat :=
  let c0_583 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v938 : Index := Scalar.indexCast v9
  let c116 : Index := 116#32
  ![0, v938.toNat, 116]
def k0_off490 (v939 : BitVec 32) : Fin 3 → Nat :=
  let c0_584 : Index := 0#32
  let v940 : Index := Scalar.indexCast v939
  let c0_585 : Index := 0#32
  ![0, v940.toNat, 0]

def k0_chk373 (v939 : BitVec 32) : Prop :=
  (∀ a, (k0_off490 v939) a + S1x1x512.size a ≤ S1x2048x512.size a)
theorem k0_off490_inb : ∀ (v939 : BitVec 32) (k0_hw373 : k0_chk373 v939), ∀ a, (k0_off490 v939) a + S1x1x512.size a ≤ S1x2048x512.size a := fun v939 k0_hw373 => k0_hw373

def k0_off491 (i : grid0.Coords) : Fin 3 → Nat :=
  let c0_588 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v946 : Index := Scalar.indexCast v9
  let c117 : Index := 117#32
  ![0, v946.toNat, 117]
def k0_off492 (v947 : BitVec 32) : Fin 3 → Nat :=
  let c0_589 : Index := 0#32
  let v948 : Index := Scalar.indexCast v947
  let c0_590 : Index := 0#32
  ![0, v948.toNat, 0]

def k0_chk374 (v947 : BitVec 32) : Prop :=
  (∀ a, (k0_off492 v947) a + S1x1x512.size a ≤ S1x2048x512.size a)
theorem k0_off492_inb : ∀ (v947 : BitVec 32) (k0_hw374 : k0_chk374 v947), ∀ a, (k0_off492 v947) a + S1x1x512.size a ≤ S1x2048x512.size a := fun v947 k0_hw374 => k0_hw374

def k0_off493 (i : grid0.Coords) : Fin 3 → Nat :=
  let c0_593 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v954 : Index := Scalar.indexCast v9
  let c118 : Index := 118#32
  ![0, v954.toNat, 118]
def k0_off494 (v955 : BitVec 32) : Fin 3 → Nat :=
  let c0_594 : Index := 0#32
  let v956 : Index := Scalar.indexCast v955
  let c0_595 : Index := 0#32
  ![0, v956.toNat, 0]

def k0_chk375 (v955 : BitVec 32) : Prop :=
  (∀ a, (k0_off494 v955) a + S1x1x512.size a ≤ S1x2048x512.size a)
theorem k0_off494_inb : ∀ (v955 : BitVec 32) (k0_hw375 : k0_chk375 v955), ∀ a, (k0_off494 v955) a + S1x1x512.size a ≤ S1x2048x512.size a := fun v955 k0_hw375 => k0_hw375

def k0_off495 (i : grid0.Coords) : Fin 3 → Nat :=
  let c0_598 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v962 : Index := Scalar.indexCast v9
  let c119 : Index := 119#32
  ![0, v962.toNat, 119]
def k0_off496 (v963 : BitVec 32) : Fin 3 → Nat :=
  let c0_599 : Index := 0#32
  let v964 : Index := Scalar.indexCast v963
  let c0_600 : Index := 0#32
  ![0, v964.toNat, 0]

def k0_chk376 (v963 : BitVec 32) : Prop :=
  (∀ a, (k0_off496 v963) a + S1x1x512.size a ≤ S1x2048x512.size a)
theorem k0_off496_inb : ∀ (v963 : BitVec 32) (k0_hw376 : k0_chk376 v963), ∀ a, (k0_off496 v963) a + S1x1x512.size a ≤ S1x2048x512.size a := fun v963 k0_hw376 => k0_hw376

def k0_off497 (i : grid0.Coords) : Fin 3 → Nat :=
  let c0_603 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v970 : Index := Scalar.indexCast v9
  let c120 : Index := 120#32
  ![0, v970.toNat, 120]
def k0_off498 (v971 : BitVec 32) : Fin 3 → Nat :=
  let c0_604 : Index := 0#32
  let v972 : Index := Scalar.indexCast v971
  let c0_605 : Index := 0#32
  ![0, v972.toNat, 0]

def k0_chk377 (v971 : BitVec 32) : Prop :=
  (∀ a, (k0_off498 v971) a + S1x1x512.size a ≤ S1x2048x512.size a)
theorem k0_off498_inb : ∀ (v971 : BitVec 32) (k0_hw377 : k0_chk377 v971), ∀ a, (k0_off498 v971) a + S1x1x512.size a ≤ S1x2048x512.size a := fun v971 k0_hw377 => k0_hw377

def k0_off499 (i : grid0.Coords) : Fin 3 → Nat :=
  let c0_608 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v978 : Index := Scalar.indexCast v9
  let c121 : Index := 121#32
  ![0, v978.toNat, 121]
def k0_off500 (v979 : BitVec 32) : Fin 3 → Nat :=
  let c0_609 : Index := 0#32
  let v980 : Index := Scalar.indexCast v979
  let c0_610 : Index := 0#32
  ![0, v980.toNat, 0]

def k0_chk378 (v979 : BitVec 32) : Prop :=
  (∀ a, (k0_off500 v979) a + S1x1x512.size a ≤ S1x2048x512.size a)
theorem k0_off500_inb : ∀ (v979 : BitVec 32) (k0_hw378 : k0_chk378 v979), ∀ a, (k0_off500 v979) a + S1x1x512.size a ≤ S1x2048x512.size a := fun v979 k0_hw378 => k0_hw378

def k0_off501 (i : grid0.Coords) : Fin 3 → Nat :=
  let c0_613 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v986 : Index := Scalar.indexCast v9
  let c122 : Index := 122#32
  ![0, v986.toNat, 122]
def k0_off502 (v987 : BitVec 32) : Fin 3 → Nat :=
  let c0_614 : Index := 0#32
  let v988 : Index := Scalar.indexCast v987
  let c0_615 : Index := 0#32
  ![0, v988.toNat, 0]

def k0_chk379 (v987 : BitVec 32) : Prop :=
  (∀ a, (k0_off502 v987) a + S1x1x512.size a ≤ S1x2048x512.size a)
theorem k0_off502_inb : ∀ (v987 : BitVec 32) (k0_hw379 : k0_chk379 v987), ∀ a, (k0_off502 v987) a + S1x1x512.size a ≤ S1x2048x512.size a := fun v987 k0_hw379 => k0_hw379

def k0_off503 (i : grid0.Coords) : Fin 3 → Nat :=
  let c0_618 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v994 : Index := Scalar.indexCast v9
  let c123 : Index := 123#32
  ![0, v994.toNat, 123]
def k0_off504 (v995 : BitVec 32) : Fin 3 → Nat :=
  let c0_619 : Index := 0#32
  let v996 : Index := Scalar.indexCast v995
  let c0_620 : Index := 0#32
  ![0, v996.toNat, 0]

def k0_chk380 (v995 : BitVec 32) : Prop :=
  (∀ a, (k0_off504 v995) a + S1x1x512.size a ≤ S1x2048x512.size a)
theorem k0_off504_inb : ∀ (v995 : BitVec 32) (k0_hw380 : k0_chk380 v995), ∀ a, (k0_off504 v995) a + S1x1x512.size a ≤ S1x2048x512.size a := fun v995 k0_hw380 => k0_hw380

def k0_off505 (i : grid0.Coords) : Fin 3 → Nat :=
  let c0_623 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1002 : Index := Scalar.indexCast v9
  let c124 : Index := 124#32
  ![0, v1002.toNat, 124]
def k0_off506 (v1003 : BitVec 32) : Fin 3 → Nat :=
  let c0_624 : Index := 0#32
  let v1004 : Index := Scalar.indexCast v1003
  let c0_625 : Index := 0#32
  ![0, v1004.toNat, 0]

def k0_chk381 (v1003 : BitVec 32) : Prop :=
  (∀ a, (k0_off506 v1003) a + S1x1x512.size a ≤ S1x2048x512.size a)
theorem k0_off506_inb : ∀ (v1003 : BitVec 32) (k0_hw381 : k0_chk381 v1003), ∀ a, (k0_off506 v1003) a + S1x1x512.size a ≤ S1x2048x512.size a := fun v1003 k0_hw381 => k0_hw381

def k0_off507 (i : grid0.Coords) : Fin 3 → Nat :=
  let c0_628 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1010 : Index := Scalar.indexCast v9
  let c125 : Index := 125#32
  ![0, v1010.toNat, 125]
def k0_off508 (v1011 : BitVec 32) : Fin 3 → Nat :=
  let c0_629 : Index := 0#32
  let v1012 : Index := Scalar.indexCast v1011
  let c0_630 : Index := 0#32
  ![0, v1012.toNat, 0]

def k0_chk382 (v1011 : BitVec 32) : Prop :=
  (∀ a, (k0_off508 v1011) a + S1x1x512.size a ≤ S1x2048x512.size a)
theorem k0_off508_inb : ∀ (v1011 : BitVec 32) (k0_hw382 : k0_chk382 v1011), ∀ a, (k0_off508 v1011) a + S1x1x512.size a ≤ S1x2048x512.size a := fun v1011 k0_hw382 => k0_hw382

def k0_off509 (i : grid0.Coords) : Fin 3 → Nat :=
  let c0_633 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1018 : Index := Scalar.indexCast v9
  let c126 : Index := 126#32
  ![0, v1018.toNat, 126]
def k0_off510 (v1019 : BitVec 32) : Fin 3 → Nat :=
  let c0_634 : Index := 0#32
  let v1020 : Index := Scalar.indexCast v1019
  let c0_635 : Index := 0#32
  ![0, v1020.toNat, 0]

def k0_chk383 (v1019 : BitVec 32) : Prop :=
  (∀ a, (k0_off510 v1019) a + S1x1x512.size a ≤ S1x2048x512.size a)
theorem k0_off510_inb : ∀ (v1019 : BitVec 32) (k0_hw383 : k0_chk383 v1019), ∀ a, (k0_off510 v1019) a + S1x1x512.size a ≤ S1x2048x512.size a := fun v1019 k0_hw383 => k0_hw383

def k0_off511 (i : grid0.Coords) : Fin 3 → Nat :=
  let c0_638 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1026 : Index := Scalar.indexCast v9
  let c127 : Index := 127#32
  ![0, v1026.toNat, 127]
def k0_off512 (v1027 : BitVec 32) : Fin 3 → Nat :=
  let c0_639 : Index := 0#32
  let v1028 : Index := Scalar.indexCast v1027
  let c0_640 : Index := 0#32
  ![0, v1028.toNat, 0]

def k0_chk384 (v1027 : BitVec 32) : Prop :=
  (∀ a, (k0_off512 v1027) a + S1x1x512.size a ≤ S1x2048x512.size a)
theorem k0_off512_inb : ∀ (v1027 : BitVec 32) (k0_hw384 : k0_chk384 v1027), ∀ a, (k0_off512 v1027) a + S1x1x512.size a ≤ S1x2048x512.size a := fun v1027 k0_hw384 => k0_hw384

def k0_off513 (i : grid0.Coords) : Fin 3 → Nat :=
  let c0_643 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1034 : Index := Scalar.indexCast v9
  let c128 : Index := 128#32
  ![0, v1034.toNat, 128]
def k0_off514 (v1035 : BitVec 32) : Fin 3 → Nat :=
  let c0_644 : Index := 0#32
  let v1036 : Index := Scalar.indexCast v1035
  let c0_645 : Index := 0#32
  ![0, v1036.toNat, 0]

def k0_chk385 (v1035 : BitVec 32) : Prop :=
  (∀ a, (k0_off514 v1035) a + S1x1x512.size a ≤ S1x2048x512.size a)
theorem k0_off514_inb : ∀ (v1035 : BitVec 32) (k0_hw385 : k0_chk385 v1035), ∀ a, (k0_off514 v1035) a + S1x1x512.size a ≤ S1x2048x512.size a := fun v1035 k0_hw385 => k0_hw385

def k0_off515 (i : grid0.Coords) : Fin 3 → Nat :=
  let c0_648 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1042 : Index := Scalar.indexCast v9
  let c129 : Index := 129#32
  ![0, v1042.toNat, 129]
def k0_off516 (v1043 : BitVec 32) : Fin 3 → Nat :=
  let c0_649 : Index := 0#32
  let v1044 : Index := Scalar.indexCast v1043
  let c0_650 : Index := 0#32
  ![0, v1044.toNat, 0]

def k0_chk386 (v1043 : BitVec 32) : Prop :=
  (∀ a, (k0_off516 v1043) a + S1x1x512.size a ≤ S1x2048x512.size a)
theorem k0_off516_inb : ∀ (v1043 : BitVec 32) (k0_hw386 : k0_chk386 v1043), ∀ a, (k0_off516 v1043) a + S1x1x512.size a ≤ S1x2048x512.size a := fun v1043 k0_hw386 => k0_hw386

def k0_off517 (i : grid0.Coords) : Fin 3 → Nat :=
  let c0_653 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1050 : Index := Scalar.indexCast v9
  let c130 : Index := 130#32
  ![0, v1050.toNat, 130]
def k0_off518 (v1051 : BitVec 32) : Fin 3 → Nat :=
  let c0_654 : Index := 0#32
  let v1052 : Index := Scalar.indexCast v1051
  let c0_655 : Index := 0#32
  ![0, v1052.toNat, 0]

def k0_chk387 (v1051 : BitVec 32) : Prop :=
  (∀ a, (k0_off518 v1051) a + S1x1x512.size a ≤ S1x2048x512.size a)
theorem k0_off518_inb : ∀ (v1051 : BitVec 32) (k0_hw387 : k0_chk387 v1051), ∀ a, (k0_off518 v1051) a + S1x1x512.size a ≤ S1x2048x512.size a := fun v1051 k0_hw387 => k0_hw387

def k0_off519 (i : grid0.Coords) : Fin 3 → Nat :=
  let c0_658 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1058 : Index := Scalar.indexCast v9
  let c131 : Index := 131#32
  ![0, v1058.toNat, 131]
def k0_off520 (v1059 : BitVec 32) : Fin 3 → Nat :=
  let c0_659 : Index := 0#32
  let v1060 : Index := Scalar.indexCast v1059
  let c0_660 : Index := 0#32
  ![0, v1060.toNat, 0]

def k0_chk388 (v1059 : BitVec 32) : Prop :=
  (∀ a, (k0_off520 v1059) a + S1x1x512.size a ≤ S1x2048x512.size a)
theorem k0_off520_inb : ∀ (v1059 : BitVec 32) (k0_hw388 : k0_chk388 v1059), ∀ a, (k0_off520 v1059) a + S1x1x512.size a ≤ S1x2048x512.size a := fun v1059 k0_hw388 => k0_hw388

def k0_off521 (i : grid0.Coords) : Fin 3 → Nat :=
  let c0_663 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1066 : Index := Scalar.indexCast v9
  let c132 : Index := 132#32
  ![0, v1066.toNat, 132]
def k0_off522 (v1067 : BitVec 32) : Fin 3 → Nat :=
  let c0_664 : Index := 0#32
  let v1068 : Index := Scalar.indexCast v1067
  let c0_665 : Index := 0#32
  ![0, v1068.toNat, 0]

def k0_chk389 (v1067 : BitVec 32) : Prop :=
  (∀ a, (k0_off522 v1067) a + S1x1x512.size a ≤ S1x2048x512.size a)
theorem k0_off522_inb : ∀ (v1067 : BitVec 32) (k0_hw389 : k0_chk389 v1067), ∀ a, (k0_off522 v1067) a + S1x1x512.size a ≤ S1x2048x512.size a := fun v1067 k0_hw389 => k0_hw389

def k0_off523 (i : grid0.Coords) : Fin 3 → Nat :=
  let c0_668 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1074 : Index := Scalar.indexCast v9
  let c133 : Index := 133#32
  ![0, v1074.toNat, 133]
def k0_off524 (v1075 : BitVec 32) : Fin 3 → Nat :=
  let c0_669 : Index := 0#32
  let v1076 : Index := Scalar.indexCast v1075
  let c0_670 : Index := 0#32
  ![0, v1076.toNat, 0]

def k0_chk390 (v1075 : BitVec 32) : Prop :=
  (∀ a, (k0_off524 v1075) a + S1x1x512.size a ≤ S1x2048x512.size a)
theorem k0_off524_inb : ∀ (v1075 : BitVec 32) (k0_hw390 : k0_chk390 v1075), ∀ a, (k0_off524 v1075) a + S1x1x512.size a ≤ S1x2048x512.size a := fun v1075 k0_hw390 => k0_hw390

def k0_off525 (i : grid0.Coords) : Fin 3 → Nat :=
  let c0_673 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1082 : Index := Scalar.indexCast v9
  let c134 : Index := 134#32
  ![0, v1082.toNat, 134]
def k0_off526 (v1083 : BitVec 32) : Fin 3 → Nat :=
  let c0_674 : Index := 0#32
  let v1084 : Index := Scalar.indexCast v1083
  let c0_675 : Index := 0#32
  ![0, v1084.toNat, 0]

def k0_chk391 (v1083 : BitVec 32) : Prop :=
  (∀ a, (k0_off526 v1083) a + S1x1x512.size a ≤ S1x2048x512.size a)
theorem k0_off526_inb : ∀ (v1083 : BitVec 32) (k0_hw391 : k0_chk391 v1083), ∀ a, (k0_off526 v1083) a + S1x1x512.size a ≤ S1x2048x512.size a := fun v1083 k0_hw391 => k0_hw391

def k0_off527 (i : grid0.Coords) : Fin 3 → Nat :=
  let c0_678 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1090 : Index := Scalar.indexCast v9
  let c135 : Index := 135#32
  ![0, v1090.toNat, 135]
def k0_off528 (v1091 : BitVec 32) : Fin 3 → Nat :=
  let c0_679 : Index := 0#32
  let v1092 : Index := Scalar.indexCast v1091
  let c0_680 : Index := 0#32
  ![0, v1092.toNat, 0]

def k0_chk392 (v1091 : BitVec 32) : Prop :=
  (∀ a, (k0_off528 v1091) a + S1x1x512.size a ≤ S1x2048x512.size a)
theorem k0_off528_inb : ∀ (v1091 : BitVec 32) (k0_hw392 : k0_chk392 v1091), ∀ a, (k0_off528 v1091) a + S1x1x512.size a ≤ S1x2048x512.size a := fun v1091 k0_hw392 => k0_hw392

def k0_off529 (i : grid0.Coords) : Fin 3 → Nat :=
  let c0_683 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1098 : Index := Scalar.indexCast v9
  let c136 : Index := 136#32
  ![0, v1098.toNat, 136]
def k0_off530 (v1099 : BitVec 32) : Fin 3 → Nat :=
  let c0_684 : Index := 0#32
  let v1100 : Index := Scalar.indexCast v1099
  let c0_685 : Index := 0#32
  ![0, v1100.toNat, 0]

def k0_chk393 (v1099 : BitVec 32) : Prop :=
  (∀ a, (k0_off530 v1099) a + S1x1x512.size a ≤ S1x2048x512.size a)
theorem k0_off530_inb : ∀ (v1099 : BitVec 32) (k0_hw393 : k0_chk393 v1099), ∀ a, (k0_off530 v1099) a + S1x1x512.size a ≤ S1x2048x512.size a := fun v1099 k0_hw393 => k0_hw393

def k0_off531 (i : grid0.Coords) : Fin 3 → Nat :=
  let c0_688 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1106 : Index := Scalar.indexCast v9
  let c137 : Index := 137#32
  ![0, v1106.toNat, 137]
def k0_off532 (v1107 : BitVec 32) : Fin 3 → Nat :=
  let c0_689 : Index := 0#32
  let v1108 : Index := Scalar.indexCast v1107
  let c0_690 : Index := 0#32
  ![0, v1108.toNat, 0]

def k0_chk394 (v1107 : BitVec 32) : Prop :=
  (∀ a, (k0_off532 v1107) a + S1x1x512.size a ≤ S1x2048x512.size a)
theorem k0_off532_inb : ∀ (v1107 : BitVec 32) (k0_hw394 : k0_chk394 v1107), ∀ a, (k0_off532 v1107) a + S1x1x512.size a ≤ S1x2048x512.size a := fun v1107 k0_hw394 => k0_hw394

def k0_off533 (i : grid0.Coords) : Fin 3 → Nat :=
  let c0_693 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1114 : Index := Scalar.indexCast v9
  let c138 : Index := 138#32
  ![0, v1114.toNat, 138]
def k0_off534 (v1115 : BitVec 32) : Fin 3 → Nat :=
  let c0_694 : Index := 0#32
  let v1116 : Index := Scalar.indexCast v1115
  let c0_695 : Index := 0#32
  ![0, v1116.toNat, 0]

def k0_chk395 (v1115 : BitVec 32) : Prop :=
  (∀ a, (k0_off534 v1115) a + S1x1x512.size a ≤ S1x2048x512.size a)
theorem k0_off534_inb : ∀ (v1115 : BitVec 32) (k0_hw395 : k0_chk395 v1115), ∀ a, (k0_off534 v1115) a + S1x1x512.size a ≤ S1x2048x512.size a := fun v1115 k0_hw395 => k0_hw395

def k0_off535 (i : grid0.Coords) : Fin 3 → Nat :=
  let c0_698 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1122 : Index := Scalar.indexCast v9
  let c139 : Index := 139#32
  ![0, v1122.toNat, 139]
def k0_off536 (v1123 : BitVec 32) : Fin 3 → Nat :=
  let c0_699 : Index := 0#32
  let v1124 : Index := Scalar.indexCast v1123
  let c0_700 : Index := 0#32
  ![0, v1124.toNat, 0]

def k0_chk396 (v1123 : BitVec 32) : Prop :=
  (∀ a, (k0_off536 v1123) a + S1x1x512.size a ≤ S1x2048x512.size a)
theorem k0_off536_inb : ∀ (v1123 : BitVec 32) (k0_hw396 : k0_chk396 v1123), ∀ a, (k0_off536 v1123) a + S1x1x512.size a ≤ S1x2048x512.size a := fun v1123 k0_hw396 => k0_hw396

def k0_off537 (i : grid0.Coords) : Fin 3 → Nat :=
  let c0_703 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1130 : Index := Scalar.indexCast v9
  let c140 : Index := 140#32
  ![0, v1130.toNat, 140]
def k0_off538 (v1131 : BitVec 32) : Fin 3 → Nat :=
  let c0_704 : Index := 0#32
  let v1132 : Index := Scalar.indexCast v1131
  let c0_705 : Index := 0#32
  ![0, v1132.toNat, 0]

def k0_chk397 (v1131 : BitVec 32) : Prop :=
  (∀ a, (k0_off538 v1131) a + S1x1x512.size a ≤ S1x2048x512.size a)
theorem k0_off538_inb : ∀ (v1131 : BitVec 32) (k0_hw397 : k0_chk397 v1131), ∀ a, (k0_off538 v1131) a + S1x1x512.size a ≤ S1x2048x512.size a := fun v1131 k0_hw397 => k0_hw397

def k0_off539 (i : grid0.Coords) : Fin 3 → Nat :=
  let c0_708 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1138 : Index := Scalar.indexCast v9
  let c141 : Index := 141#32
  ![0, v1138.toNat, 141]
def k0_off540 (v1139 : BitVec 32) : Fin 3 → Nat :=
  let c0_709 : Index := 0#32
  let v1140 : Index := Scalar.indexCast v1139
  let c0_710 : Index := 0#32
  ![0, v1140.toNat, 0]

def k0_chk398 (v1139 : BitVec 32) : Prop :=
  (∀ a, (k0_off540 v1139) a + S1x1x512.size a ≤ S1x2048x512.size a)
theorem k0_off540_inb : ∀ (v1139 : BitVec 32) (k0_hw398 : k0_chk398 v1139), ∀ a, (k0_off540 v1139) a + S1x1x512.size a ≤ S1x2048x512.size a := fun v1139 k0_hw398 => k0_hw398

def k0_off541 (i : grid0.Coords) : Fin 3 → Nat :=
  let c0_713 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1146 : Index := Scalar.indexCast v9
  let c142 : Index := 142#32
  ![0, v1146.toNat, 142]
def k0_off542 (v1147 : BitVec 32) : Fin 3 → Nat :=
  let c0_714 : Index := 0#32
  let v1148 : Index := Scalar.indexCast v1147
  let c0_715 : Index := 0#32
  ![0, v1148.toNat, 0]

def k0_chk399 (v1147 : BitVec 32) : Prop :=
  (∀ a, (k0_off542 v1147) a + S1x1x512.size a ≤ S1x2048x512.size a)
theorem k0_off542_inb : ∀ (v1147 : BitVec 32) (k0_hw399 : k0_chk399 v1147), ∀ a, (k0_off542 v1147) a + S1x1x512.size a ≤ S1x2048x512.size a := fun v1147 k0_hw399 => k0_hw399

def k0_off543 (i : grid0.Coords) : Fin 3 → Nat :=
  let c0_718 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1154 : Index := Scalar.indexCast v9
  let c143 : Index := 143#32
  ![0, v1154.toNat, 143]
def k0_off544 (v1155 : BitVec 32) : Fin 3 → Nat :=
  let c0_719 : Index := 0#32
  let v1156 : Index := Scalar.indexCast v1155
  let c0_720 : Index := 0#32
  ![0, v1156.toNat, 0]

def k0_chk400 (v1155 : BitVec 32) : Prop :=
  (∀ a, (k0_off544 v1155) a + S1x1x512.size a ≤ S1x2048x512.size a)
theorem k0_off544_inb : ∀ (v1155 : BitVec 32) (k0_hw400 : k0_chk400 v1155), ∀ a, (k0_off544 v1155) a + S1x1x512.size a ≤ S1x2048x512.size a := fun v1155 k0_hw400 => k0_hw400

def k0_off545 (i : grid0.Coords) : Fin 3 → Nat :=
  let c0_723 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1162 : Index := Scalar.indexCast v9
  let c144 : Index := 144#32
  ![0, v1162.toNat, 144]
def k0_off546 (v1163 : BitVec 32) : Fin 3 → Nat :=
  let c0_724 : Index := 0#32
  let v1164 : Index := Scalar.indexCast v1163
  let c0_725 : Index := 0#32
  ![0, v1164.toNat, 0]

def k0_chk401 (v1163 : BitVec 32) : Prop :=
  (∀ a, (k0_off546 v1163) a + S1x1x512.size a ≤ S1x2048x512.size a)
theorem k0_off546_inb : ∀ (v1163 : BitVec 32) (k0_hw401 : k0_chk401 v1163), ∀ a, (k0_off546 v1163) a + S1x1x512.size a ≤ S1x2048x512.size a := fun v1163 k0_hw401 => k0_hw401

def k0_off547 (i : grid0.Coords) : Fin 3 → Nat :=
  let c0_728 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1170 : Index := Scalar.indexCast v9
  let c145 : Index := 145#32
  ![0, v1170.toNat, 145]
def k0_off548 (v1171 : BitVec 32) : Fin 3 → Nat :=
  let c0_729 : Index := 0#32
  let v1172 : Index := Scalar.indexCast v1171
  let c0_730 : Index := 0#32
  ![0, v1172.toNat, 0]

def k0_chk402 (v1171 : BitVec 32) : Prop :=
  (∀ a, (k0_off548 v1171) a + S1x1x512.size a ≤ S1x2048x512.size a)
theorem k0_off548_inb : ∀ (v1171 : BitVec 32) (k0_hw402 : k0_chk402 v1171), ∀ a, (k0_off548 v1171) a + S1x1x512.size a ≤ S1x2048x512.size a := fun v1171 k0_hw402 => k0_hw402

def k0_off549 (i : grid0.Coords) : Fin 3 → Nat :=
  let c0_733 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1178 : Index := Scalar.indexCast v9
  let c146 : Index := 146#32
  ![0, v1178.toNat, 146]
def k0_off550 (v1179 : BitVec 32) : Fin 3 → Nat :=
  let c0_734 : Index := 0#32
  let v1180 : Index := Scalar.indexCast v1179
  let c0_735 : Index := 0#32
  ![0, v1180.toNat, 0]

def k0_chk403 (v1179 : BitVec 32) : Prop :=
  (∀ a, (k0_off550 v1179) a + S1x1x512.size a ≤ S1x2048x512.size a)
theorem k0_off550_inb : ∀ (v1179 : BitVec 32) (k0_hw403 : k0_chk403 v1179), ∀ a, (k0_off550 v1179) a + S1x1x512.size a ≤ S1x2048x512.size a := fun v1179 k0_hw403 => k0_hw403

def k0_off551 (i : grid0.Coords) : Fin 3 → Nat :=
  let c0_738 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1186 : Index := Scalar.indexCast v9
  let c147 : Index := 147#32
  ![0, v1186.toNat, 147]
def k0_off552 (v1187 : BitVec 32) : Fin 3 → Nat :=
  let c0_739 : Index := 0#32
  let v1188 : Index := Scalar.indexCast v1187
  let c0_740 : Index := 0#32
  ![0, v1188.toNat, 0]

def k0_chk404 (v1187 : BitVec 32) : Prop :=
  (∀ a, (k0_off552 v1187) a + S1x1x512.size a ≤ S1x2048x512.size a)
theorem k0_off552_inb : ∀ (v1187 : BitVec 32) (k0_hw404 : k0_chk404 v1187), ∀ a, (k0_off552 v1187) a + S1x1x512.size a ≤ S1x2048x512.size a := fun v1187 k0_hw404 => k0_hw404

def k0_off553 (i : grid0.Coords) : Fin 3 → Nat :=
  let c0_743 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1194 : Index := Scalar.indexCast v9
  let c148 : Index := 148#32
  ![0, v1194.toNat, 148]
def k0_off554 (v1195 : BitVec 32) : Fin 3 → Nat :=
  let c0_744 : Index := 0#32
  let v1196 : Index := Scalar.indexCast v1195
  let c0_745 : Index := 0#32
  ![0, v1196.toNat, 0]

def k0_chk405 (v1195 : BitVec 32) : Prop :=
  (∀ a, (k0_off554 v1195) a + S1x1x512.size a ≤ S1x2048x512.size a)
theorem k0_off554_inb : ∀ (v1195 : BitVec 32) (k0_hw405 : k0_chk405 v1195), ∀ a, (k0_off554 v1195) a + S1x1x512.size a ≤ S1x2048x512.size a := fun v1195 k0_hw405 => k0_hw405

def k0_off555 (i : grid0.Coords) : Fin 3 → Nat :=
  let c0_748 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1202 : Index := Scalar.indexCast v9
  let c149 : Index := 149#32
  ![0, v1202.toNat, 149]
def k0_off556 (v1203 : BitVec 32) : Fin 3 → Nat :=
  let c0_749 : Index := 0#32
  let v1204 : Index := Scalar.indexCast v1203
  let c0_750 : Index := 0#32
  ![0, v1204.toNat, 0]

def k0_chk406 (v1203 : BitVec 32) : Prop :=
  (∀ a, (k0_off556 v1203) a + S1x1x512.size a ≤ S1x2048x512.size a)
theorem k0_off556_inb : ∀ (v1203 : BitVec 32) (k0_hw406 : k0_chk406 v1203), ∀ a, (k0_off556 v1203) a + S1x1x512.size a ≤ S1x2048x512.size a := fun v1203 k0_hw406 => k0_hw406

def k0_off557 (i : grid0.Coords) : Fin 3 → Nat :=
  let c0_753 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1210 : Index := Scalar.indexCast v9
  let c150 : Index := 150#32
  ![0, v1210.toNat, 150]
def k0_off558 (v1211 : BitVec 32) : Fin 3 → Nat :=
  let c0_754 : Index := 0#32
  let v1212 : Index := Scalar.indexCast v1211
  let c0_755 : Index := 0#32
  ![0, v1212.toNat, 0]

def k0_chk407 (v1211 : BitVec 32) : Prop :=
  (∀ a, (k0_off558 v1211) a + S1x1x512.size a ≤ S1x2048x512.size a)
theorem k0_off558_inb : ∀ (v1211 : BitVec 32) (k0_hw407 : k0_chk407 v1211), ∀ a, (k0_off558 v1211) a + S1x1x512.size a ≤ S1x2048x512.size a := fun v1211 k0_hw407 => k0_hw407

def k0_off559 (i : grid0.Coords) : Fin 3 → Nat :=
  let c0_758 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1218 : Index := Scalar.indexCast v9
  let c151 : Index := 151#32
  ![0, v1218.toNat, 151]
def k0_off560 (v1219 : BitVec 32) : Fin 3 → Nat :=
  let c0_759 : Index := 0#32
  let v1220 : Index := Scalar.indexCast v1219
  let c0_760 : Index := 0#32
  ![0, v1220.toNat, 0]

def k0_chk408 (v1219 : BitVec 32) : Prop :=
  (∀ a, (k0_off560 v1219) a + S1x1x512.size a ≤ S1x2048x512.size a)
theorem k0_off560_inb : ∀ (v1219 : BitVec 32) (k0_hw408 : k0_chk408 v1219), ∀ a, (k0_off560 v1219) a + S1x1x512.size a ≤ S1x2048x512.size a := fun v1219 k0_hw408 => k0_hw408

def k0_off561 (i : grid0.Coords) : Fin 3 → Nat :=
  let c0_763 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1226 : Index := Scalar.indexCast v9
  let c152 : Index := 152#32
  ![0, v1226.toNat, 152]
def k0_off562 (v1227 : BitVec 32) : Fin 3 → Nat :=
  let c0_764 : Index := 0#32
  let v1228 : Index := Scalar.indexCast v1227
  let c0_765 : Index := 0#32
  ![0, v1228.toNat, 0]

def k0_chk409 (v1227 : BitVec 32) : Prop :=
  (∀ a, (k0_off562 v1227) a + S1x1x512.size a ≤ S1x2048x512.size a)
theorem k0_off562_inb : ∀ (v1227 : BitVec 32) (k0_hw409 : k0_chk409 v1227), ∀ a, (k0_off562 v1227) a + S1x1x512.size a ≤ S1x2048x512.size a := fun v1227 k0_hw409 => k0_hw409

def k0_off563 (i : grid0.Coords) : Fin 3 → Nat :=
  let c0_768 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1234 : Index := Scalar.indexCast v9
  let c153 : Index := 153#32
  ![0, v1234.toNat, 153]
def k0_off564 (v1235 : BitVec 32) : Fin 3 → Nat :=
  let c0_769 : Index := 0#32
  let v1236 : Index := Scalar.indexCast v1235
  let c0_770 : Index := 0#32
  ![0, v1236.toNat, 0]

def k0_chk410 (v1235 : BitVec 32) : Prop :=
  (∀ a, (k0_off564 v1235) a + S1x1x512.size a ≤ S1x2048x512.size a)
theorem k0_off564_inb : ∀ (v1235 : BitVec 32) (k0_hw410 : k0_chk410 v1235), ∀ a, (k0_off564 v1235) a + S1x1x512.size a ≤ S1x2048x512.size a := fun v1235 k0_hw410 => k0_hw410

def k0_off565 (i : grid0.Coords) : Fin 3 → Nat :=
  let c0_773 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1242 : Index := Scalar.indexCast v9
  let c154 : Index := 154#32
  ![0, v1242.toNat, 154]
def k0_off566 (v1243 : BitVec 32) : Fin 3 → Nat :=
  let c0_774 : Index := 0#32
  let v1244 : Index := Scalar.indexCast v1243
  let c0_775 : Index := 0#32
  ![0, v1244.toNat, 0]

def k0_chk411 (v1243 : BitVec 32) : Prop :=
  (∀ a, (k0_off566 v1243) a + S1x1x512.size a ≤ S1x2048x512.size a)
theorem k0_off566_inb : ∀ (v1243 : BitVec 32) (k0_hw411 : k0_chk411 v1243), ∀ a, (k0_off566 v1243) a + S1x1x512.size a ≤ S1x2048x512.size a := fun v1243 k0_hw411 => k0_hw411

def k0_off567 (i : grid0.Coords) : Fin 3 → Nat :=
  let c0_778 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1250 : Index := Scalar.indexCast v9
  let c155 : Index := 155#32
  ![0, v1250.toNat, 155]
def k0_off568 (v1251 : BitVec 32) : Fin 3 → Nat :=
  let c0_779 : Index := 0#32
  let v1252 : Index := Scalar.indexCast v1251
  let c0_780 : Index := 0#32
  ![0, v1252.toNat, 0]

def k0_chk412 (v1251 : BitVec 32) : Prop :=
  (∀ a, (k0_off568 v1251) a + S1x1x512.size a ≤ S1x2048x512.size a)
theorem k0_off568_inb : ∀ (v1251 : BitVec 32) (k0_hw412 : k0_chk412 v1251), ∀ a, (k0_off568 v1251) a + S1x1x512.size a ≤ S1x2048x512.size a := fun v1251 k0_hw412 => k0_hw412

def k0_off569 (i : grid0.Coords) : Fin 3 → Nat :=
  let c0_783 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1258 : Index := Scalar.indexCast v9
  let c156 : Index := 156#32
  ![0, v1258.toNat, 156]
def k0_off570 (v1259 : BitVec 32) : Fin 3 → Nat :=
  let c0_784 : Index := 0#32
  let v1260 : Index := Scalar.indexCast v1259
  let c0_785 : Index := 0#32
  ![0, v1260.toNat, 0]

def k0_chk413 (v1259 : BitVec 32) : Prop :=
  (∀ a, (k0_off570 v1259) a + S1x1x512.size a ≤ S1x2048x512.size a)
theorem k0_off570_inb : ∀ (v1259 : BitVec 32) (k0_hw413 : k0_chk413 v1259), ∀ a, (k0_off570 v1259) a + S1x1x512.size a ≤ S1x2048x512.size a := fun v1259 k0_hw413 => k0_hw413

def k0_off571 (i : grid0.Coords) : Fin 3 → Nat :=
  let c0_788 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1266 : Index := Scalar.indexCast v9
  let c157 : Index := 157#32
  ![0, v1266.toNat, 157]
def k0_off572 (v1267 : BitVec 32) : Fin 3 → Nat :=
  let c0_789 : Index := 0#32
  let v1268 : Index := Scalar.indexCast v1267
  let c0_790 : Index := 0#32
  ![0, v1268.toNat, 0]

def k0_chk414 (v1267 : BitVec 32) : Prop :=
  (∀ a, (k0_off572 v1267) a + S1x1x512.size a ≤ S1x2048x512.size a)
theorem k0_off572_inb : ∀ (v1267 : BitVec 32) (k0_hw414 : k0_chk414 v1267), ∀ a, (k0_off572 v1267) a + S1x1x512.size a ≤ S1x2048x512.size a := fun v1267 k0_hw414 => k0_hw414

def k0_off573 (i : grid0.Coords) : Fin 3 → Nat :=
  let c0_793 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1274 : Index := Scalar.indexCast v9
  let c158 : Index := 158#32
  ![0, v1274.toNat, 158]
def k0_off574 (v1275 : BitVec 32) : Fin 3 → Nat :=
  let c0_794 : Index := 0#32
  let v1276 : Index := Scalar.indexCast v1275
  let c0_795 : Index := 0#32
  ![0, v1276.toNat, 0]

def k0_chk415 (v1275 : BitVec 32) : Prop :=
  (∀ a, (k0_off574 v1275) a + S1x1x512.size a ≤ S1x2048x512.size a)
theorem k0_off574_inb : ∀ (v1275 : BitVec 32) (k0_hw415 : k0_chk415 v1275), ∀ a, (k0_off574 v1275) a + S1x1x512.size a ≤ S1x2048x512.size a := fun v1275 k0_hw415 => k0_hw415

def k0_off575 (i : grid0.Coords) : Fin 3 → Nat :=
  let c0_798 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1282 : Index := Scalar.indexCast v9
  let c159 : Index := 159#32
  ![0, v1282.toNat, 159]
def k0_off576 (v1283 : BitVec 32) : Fin 3 → Nat :=
  let c0_799 : Index := 0#32
  let v1284 : Index := Scalar.indexCast v1283
  let c0_800 : Index := 0#32
  ![0, v1284.toNat, 0]

def k0_chk416 (v1283 : BitVec 32) : Prop :=
  (∀ a, (k0_off576 v1283) a + S1x1x512.size a ≤ S1x2048x512.size a)
theorem k0_off576_inb : ∀ (v1283 : BitVec 32) (k0_hw416 : k0_chk416 v1283), ∀ a, (k0_off576 v1283) a + S1x1x512.size a ≤ S1x2048x512.size a := fun v1283 k0_hw416 => k0_hw416

def k0_off577 (i : grid0.Coords) : Fin 3 → Nat :=
  let c0_803 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1290 : Index := Scalar.indexCast v9
  let c160 : Index := 160#32
  ![0, v1290.toNat, 160]
def k0_off578 (v1291 : BitVec 32) : Fin 3 → Nat :=
  let c0_804 : Index := 0#32
  let v1292 : Index := Scalar.indexCast v1291
  let c0_805 : Index := 0#32
  ![0, v1292.toNat, 0]

def k0_chk417 (v1291 : BitVec 32) : Prop :=
  (∀ a, (k0_off578 v1291) a + S1x1x512.size a ≤ S1x2048x512.size a)
theorem k0_off578_inb : ∀ (v1291 : BitVec 32) (k0_hw417 : k0_chk417 v1291), ∀ a, (k0_off578 v1291) a + S1x1x512.size a ≤ S1x2048x512.size a := fun v1291 k0_hw417 => k0_hw417

def k0_off579 (i : grid0.Coords) : Fin 3 → Nat :=
  let c0_808 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1298 : Index := Scalar.indexCast v9
  let c161 : Index := 161#32
  ![0, v1298.toNat, 161]
def k0_off580 (v1299 : BitVec 32) : Fin 3 → Nat :=
  let c0_809 : Index := 0#32
  let v1300 : Index := Scalar.indexCast v1299
  let c0_810 : Index := 0#32
  ![0, v1300.toNat, 0]

def k0_chk418 (v1299 : BitVec 32) : Prop :=
  (∀ a, (k0_off580 v1299) a + S1x1x512.size a ≤ S1x2048x512.size a)
theorem k0_off580_inb : ∀ (v1299 : BitVec 32) (k0_hw418 : k0_chk418 v1299), ∀ a, (k0_off580 v1299) a + S1x1x512.size a ≤ S1x2048x512.size a := fun v1299 k0_hw418 => k0_hw418

def k0_off581 (i : grid0.Coords) : Fin 3 → Nat :=
  let c0_813 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1306 : Index := Scalar.indexCast v9
  let c162 : Index := 162#32
  ![0, v1306.toNat, 162]
def k0_off582 (v1307 : BitVec 32) : Fin 3 → Nat :=
  let c0_814 : Index := 0#32
  let v1308 : Index := Scalar.indexCast v1307
  let c0_815 : Index := 0#32
  ![0, v1308.toNat, 0]

def k0_chk419 (v1307 : BitVec 32) : Prop :=
  (∀ a, (k0_off582 v1307) a + S1x1x512.size a ≤ S1x2048x512.size a)
theorem k0_off582_inb : ∀ (v1307 : BitVec 32) (k0_hw419 : k0_chk419 v1307), ∀ a, (k0_off582 v1307) a + S1x1x512.size a ≤ S1x2048x512.size a := fun v1307 k0_hw419 => k0_hw419

def k0_off583 (i : grid0.Coords) : Fin 3 → Nat :=
  let c0_818 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1314 : Index := Scalar.indexCast v9
  let c163 : Index := 163#32
  ![0, v1314.toNat, 163]
def k0_off584 (v1315 : BitVec 32) : Fin 3 → Nat :=
  let c0_819 : Index := 0#32
  let v1316 : Index := Scalar.indexCast v1315
  let c0_820 : Index := 0#32
  ![0, v1316.toNat, 0]

def k0_chk420 (v1315 : BitVec 32) : Prop :=
  (∀ a, (k0_off584 v1315) a + S1x1x512.size a ≤ S1x2048x512.size a)
theorem k0_off584_inb : ∀ (v1315 : BitVec 32) (k0_hw420 : k0_chk420 v1315), ∀ a, (k0_off584 v1315) a + S1x1x512.size a ≤ S1x2048x512.size a := fun v1315 k0_hw420 => k0_hw420

def k0_off585 (i : grid0.Coords) : Fin 3 → Nat :=
  let c0_823 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1322 : Index := Scalar.indexCast v9
  let c164 : Index := 164#32
  ![0, v1322.toNat, 164]
def k0_off586 (v1323 : BitVec 32) : Fin 3 → Nat :=
  let c0_824 : Index := 0#32
  let v1324 : Index := Scalar.indexCast v1323
  let c0_825 : Index := 0#32
  ![0, v1324.toNat, 0]

def k0_chk421 (v1323 : BitVec 32) : Prop :=
  (∀ a, (k0_off586 v1323) a + S1x1x512.size a ≤ S1x2048x512.size a)
theorem k0_off586_inb : ∀ (v1323 : BitVec 32) (k0_hw421 : k0_chk421 v1323), ∀ a, (k0_off586 v1323) a + S1x1x512.size a ≤ S1x2048x512.size a := fun v1323 k0_hw421 => k0_hw421

def k0_off587 (i : grid0.Coords) : Fin 3 → Nat :=
  let c0_828 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1330 : Index := Scalar.indexCast v9
  let c165 : Index := 165#32
  ![0, v1330.toNat, 165]
def k0_off588 (v1331 : BitVec 32) : Fin 3 → Nat :=
  let c0_829 : Index := 0#32
  let v1332 : Index := Scalar.indexCast v1331
  let c0_830 : Index := 0#32
  ![0, v1332.toNat, 0]

def k0_chk422 (v1331 : BitVec 32) : Prop :=
  (∀ a, (k0_off588 v1331) a + S1x1x512.size a ≤ S1x2048x512.size a)
theorem k0_off588_inb : ∀ (v1331 : BitVec 32) (k0_hw422 : k0_chk422 v1331), ∀ a, (k0_off588 v1331) a + S1x1x512.size a ≤ S1x2048x512.size a := fun v1331 k0_hw422 => k0_hw422

def k0_off589 (i : grid0.Coords) : Fin 3 → Nat :=
  let c0_833 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1338 : Index := Scalar.indexCast v9
  let c166 : Index := 166#32
  ![0, v1338.toNat, 166]
def k0_off590 (v1339 : BitVec 32) : Fin 3 → Nat :=
  let c0_834 : Index := 0#32
  let v1340 : Index := Scalar.indexCast v1339
  let c0_835 : Index := 0#32
  ![0, v1340.toNat, 0]

def k0_chk423 (v1339 : BitVec 32) : Prop :=
  (∀ a, (k0_off590 v1339) a + S1x1x512.size a ≤ S1x2048x512.size a)
theorem k0_off590_inb : ∀ (v1339 : BitVec 32) (k0_hw423 : k0_chk423 v1339), ∀ a, (k0_off590 v1339) a + S1x1x512.size a ≤ S1x2048x512.size a := fun v1339 k0_hw423 => k0_hw423

def k0_off591 (i : grid0.Coords) : Fin 3 → Nat :=
  let c0_838 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1346 : Index := Scalar.indexCast v9
  let c167 : Index := 167#32
  ![0, v1346.toNat, 167]
def k0_off592 (v1347 : BitVec 32) : Fin 3 → Nat :=
  let c0_839 : Index := 0#32
  let v1348 : Index := Scalar.indexCast v1347
  let c0_840 : Index := 0#32
  ![0, v1348.toNat, 0]

def k0_chk424 (v1347 : BitVec 32) : Prop :=
  (∀ a, (k0_off592 v1347) a + S1x1x512.size a ≤ S1x2048x512.size a)
theorem k0_off592_inb : ∀ (v1347 : BitVec 32) (k0_hw424 : k0_chk424 v1347), ∀ a, (k0_off592 v1347) a + S1x1x512.size a ≤ S1x2048x512.size a := fun v1347 k0_hw424 => k0_hw424

def k0_off593 (i : grid0.Coords) : Fin 3 → Nat :=
  let c0_843 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1354 : Index := Scalar.indexCast v9
  let c168 : Index := 168#32
  ![0, v1354.toNat, 168]
def k0_off594 (v1355 : BitVec 32) : Fin 3 → Nat :=
  let c0_844 : Index := 0#32
  let v1356 : Index := Scalar.indexCast v1355
  let c0_845 : Index := 0#32
  ![0, v1356.toNat, 0]

def k0_chk425 (v1355 : BitVec 32) : Prop :=
  (∀ a, (k0_off594 v1355) a + S1x1x512.size a ≤ S1x2048x512.size a)
theorem k0_off594_inb : ∀ (v1355 : BitVec 32) (k0_hw425 : k0_chk425 v1355), ∀ a, (k0_off594 v1355) a + S1x1x512.size a ≤ S1x2048x512.size a := fun v1355 k0_hw425 => k0_hw425

def k0_off595 (i : grid0.Coords) : Fin 3 → Nat :=
  let c0_848 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1362 : Index := Scalar.indexCast v9
  let c169 : Index := 169#32
  ![0, v1362.toNat, 169]
def k0_off596 (v1363 : BitVec 32) : Fin 3 → Nat :=
  let c0_849 : Index := 0#32
  let v1364 : Index := Scalar.indexCast v1363
  let c0_850 : Index := 0#32
  ![0, v1364.toNat, 0]

def k0_chk426 (v1363 : BitVec 32) : Prop :=
  (∀ a, (k0_off596 v1363) a + S1x1x512.size a ≤ S1x2048x512.size a)
theorem k0_off596_inb : ∀ (v1363 : BitVec 32) (k0_hw426 : k0_chk426 v1363), ∀ a, (k0_off596 v1363) a + S1x1x512.size a ≤ S1x2048x512.size a := fun v1363 k0_hw426 => k0_hw426

def k0_off597 (i : grid0.Coords) : Fin 3 → Nat :=
  let c0_853 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1370 : Index := Scalar.indexCast v9
  let c170 : Index := 170#32
  ![0, v1370.toNat, 170]
def k0_off598 (v1371 : BitVec 32) : Fin 3 → Nat :=
  let c0_854 : Index := 0#32
  let v1372 : Index := Scalar.indexCast v1371
  let c0_855 : Index := 0#32
  ![0, v1372.toNat, 0]

def k0_chk427 (v1371 : BitVec 32) : Prop :=
  (∀ a, (k0_off598 v1371) a + S1x1x512.size a ≤ S1x2048x512.size a)
theorem k0_off598_inb : ∀ (v1371 : BitVec 32) (k0_hw427 : k0_chk427 v1371), ∀ a, (k0_off598 v1371) a + S1x1x512.size a ≤ S1x2048x512.size a := fun v1371 k0_hw427 => k0_hw427

def k0_off599 (i : grid0.Coords) : Fin 3 → Nat :=
  let c0_858 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1378 : Index := Scalar.indexCast v9
  let c171 : Index := 171#32
  ![0, v1378.toNat, 171]
def k0_off600 (v1379 : BitVec 32) : Fin 3 → Nat :=
  let c0_859 : Index := 0#32
  let v1380 : Index := Scalar.indexCast v1379
  let c0_860 : Index := 0#32
  ![0, v1380.toNat, 0]

def k0_chk428 (v1379 : BitVec 32) : Prop :=
  (∀ a, (k0_off600 v1379) a + S1x1x512.size a ≤ S1x2048x512.size a)
theorem k0_off600_inb : ∀ (v1379 : BitVec 32) (k0_hw428 : k0_chk428 v1379), ∀ a, (k0_off600 v1379) a + S1x1x512.size a ≤ S1x2048x512.size a := fun v1379 k0_hw428 => k0_hw428

def k0_off601 (i : grid0.Coords) : Fin 3 → Nat :=
  let c0_863 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1386 : Index := Scalar.indexCast v9
  let c172 : Index := 172#32
  ![0, v1386.toNat, 172]
def k0_off602 (v1387 : BitVec 32) : Fin 3 → Nat :=
  let c0_864 : Index := 0#32
  let v1388 : Index := Scalar.indexCast v1387
  let c0_865 : Index := 0#32
  ![0, v1388.toNat, 0]

def k0_chk429 (v1387 : BitVec 32) : Prop :=
  (∀ a, (k0_off602 v1387) a + S1x1x512.size a ≤ S1x2048x512.size a)
theorem k0_off602_inb : ∀ (v1387 : BitVec 32) (k0_hw429 : k0_chk429 v1387), ∀ a, (k0_off602 v1387) a + S1x1x512.size a ≤ S1x2048x512.size a := fun v1387 k0_hw429 => k0_hw429

def k0_off603 (i : grid0.Coords) : Fin 3 → Nat :=
  let c0_868 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1394 : Index := Scalar.indexCast v9
  let c173 : Index := 173#32
  ![0, v1394.toNat, 173]
def k0_off604 (v1395 : BitVec 32) : Fin 3 → Nat :=
  let c0_869 : Index := 0#32
  let v1396 : Index := Scalar.indexCast v1395
  let c0_870 : Index := 0#32
  ![0, v1396.toNat, 0]

def k0_chk430 (v1395 : BitVec 32) : Prop :=
  (∀ a, (k0_off604 v1395) a + S1x1x512.size a ≤ S1x2048x512.size a)
theorem k0_off604_inb : ∀ (v1395 : BitVec 32) (k0_hw430 : k0_chk430 v1395), ∀ a, (k0_off604 v1395) a + S1x1x512.size a ≤ S1x2048x512.size a := fun v1395 k0_hw430 => k0_hw430

def k0_off605 (i : grid0.Coords) : Fin 3 → Nat :=
  let c0_873 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1402 : Index := Scalar.indexCast v9
  let c174 : Index := 174#32
  ![0, v1402.toNat, 174]
def k0_off606 (v1403 : BitVec 32) : Fin 3 → Nat :=
  let c0_874 : Index := 0#32
  let v1404 : Index := Scalar.indexCast v1403
  let c0_875 : Index := 0#32
  ![0, v1404.toNat, 0]

def k0_chk431 (v1403 : BitVec 32) : Prop :=
  (∀ a, (k0_off606 v1403) a + S1x1x512.size a ≤ S1x2048x512.size a)
theorem k0_off606_inb : ∀ (v1403 : BitVec 32) (k0_hw431 : k0_chk431 v1403), ∀ a, (k0_off606 v1403) a + S1x1x512.size a ≤ S1x2048x512.size a := fun v1403 k0_hw431 => k0_hw431

def k0_off607 (i : grid0.Coords) : Fin 3 → Nat :=
  let c0_878 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1410 : Index := Scalar.indexCast v9
  let c175 : Index := 175#32
  ![0, v1410.toNat, 175]
def k0_off608 (v1411 : BitVec 32) : Fin 3 → Nat :=
  let c0_879 : Index := 0#32
  let v1412 : Index := Scalar.indexCast v1411
  let c0_880 : Index := 0#32
  ![0, v1412.toNat, 0]

def k0_chk432 (v1411 : BitVec 32) : Prop :=
  (∀ a, (k0_off608 v1411) a + S1x1x512.size a ≤ S1x2048x512.size a)
theorem k0_off608_inb : ∀ (v1411 : BitVec 32) (k0_hw432 : k0_chk432 v1411), ∀ a, (k0_off608 v1411) a + S1x1x512.size a ≤ S1x2048x512.size a := fun v1411 k0_hw432 => k0_hw432

def k0_off609 (i : grid0.Coords) : Fin 3 → Nat :=
  let c0_883 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1418 : Index := Scalar.indexCast v9
  let c176 : Index := 176#32
  ![0, v1418.toNat, 176]
def k0_off610 (v1419 : BitVec 32) : Fin 3 → Nat :=
  let c0_884 : Index := 0#32
  let v1420 : Index := Scalar.indexCast v1419
  let c0_885 : Index := 0#32
  ![0, v1420.toNat, 0]

def k0_chk433 (v1419 : BitVec 32) : Prop :=
  (∀ a, (k0_off610 v1419) a + S1x1x512.size a ≤ S1x2048x512.size a)
theorem k0_off610_inb : ∀ (v1419 : BitVec 32) (k0_hw433 : k0_chk433 v1419), ∀ a, (k0_off610 v1419) a + S1x1x512.size a ≤ S1x2048x512.size a := fun v1419 k0_hw433 => k0_hw433

def k0_off611 (i : grid0.Coords) : Fin 3 → Nat :=
  let c0_888 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1426 : Index := Scalar.indexCast v9
  let c177 : Index := 177#32
  ![0, v1426.toNat, 177]
def k0_off612 (v1427 : BitVec 32) : Fin 3 → Nat :=
  let c0_889 : Index := 0#32
  let v1428 : Index := Scalar.indexCast v1427
  let c0_890 : Index := 0#32
  ![0, v1428.toNat, 0]

def k0_chk434 (v1427 : BitVec 32) : Prop :=
  (∀ a, (k0_off612 v1427) a + S1x1x512.size a ≤ S1x2048x512.size a)
theorem k0_off612_inb : ∀ (v1427 : BitVec 32) (k0_hw434 : k0_chk434 v1427), ∀ a, (k0_off612 v1427) a + S1x1x512.size a ≤ S1x2048x512.size a := fun v1427 k0_hw434 => k0_hw434

def k0_off613 (i : grid0.Coords) : Fin 3 → Nat :=
  let c0_893 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1434 : Index := Scalar.indexCast v9
  let c178 : Index := 178#32
  ![0, v1434.toNat, 178]
def k0_off614 (v1435 : BitVec 32) : Fin 3 → Nat :=
  let c0_894 : Index := 0#32
  let v1436 : Index := Scalar.indexCast v1435
  let c0_895 : Index := 0#32
  ![0, v1436.toNat, 0]

def k0_chk435 (v1435 : BitVec 32) : Prop :=
  (∀ a, (k0_off614 v1435) a + S1x1x512.size a ≤ S1x2048x512.size a)
theorem k0_off614_inb : ∀ (v1435 : BitVec 32) (k0_hw435 : k0_chk435 v1435), ∀ a, (k0_off614 v1435) a + S1x1x512.size a ≤ S1x2048x512.size a := fun v1435 k0_hw435 => k0_hw435

def k0_off615 (i : grid0.Coords) : Fin 3 → Nat :=
  let c0_898 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1442 : Index := Scalar.indexCast v9
  let c179 : Index := 179#32
  ![0, v1442.toNat, 179]
def k0_off616 (v1443 : BitVec 32) : Fin 3 → Nat :=
  let c0_899 : Index := 0#32
  let v1444 : Index := Scalar.indexCast v1443
  let c0_900 : Index := 0#32
  ![0, v1444.toNat, 0]

def k0_chk436 (v1443 : BitVec 32) : Prop :=
  (∀ a, (k0_off616 v1443) a + S1x1x512.size a ≤ S1x2048x512.size a)
theorem k0_off616_inb : ∀ (v1443 : BitVec 32) (k0_hw436 : k0_chk436 v1443), ∀ a, (k0_off616 v1443) a + S1x1x512.size a ≤ S1x2048x512.size a := fun v1443 k0_hw436 => k0_hw436

def k0_off617 (i : grid0.Coords) : Fin 3 → Nat :=
  let c0_903 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1450 : Index := Scalar.indexCast v9
  let c180 : Index := 180#32
  ![0, v1450.toNat, 180]
def k0_off618 (v1451 : BitVec 32) : Fin 3 → Nat :=
  let c0_904 : Index := 0#32
  let v1452 : Index := Scalar.indexCast v1451
  let c0_905 : Index := 0#32
  ![0, v1452.toNat, 0]

def k0_chk437 (v1451 : BitVec 32) : Prop :=
  (∀ a, (k0_off618 v1451) a + S1x1x512.size a ≤ S1x2048x512.size a)
theorem k0_off618_inb : ∀ (v1451 : BitVec 32) (k0_hw437 : k0_chk437 v1451), ∀ a, (k0_off618 v1451) a + S1x1x512.size a ≤ S1x2048x512.size a := fun v1451 k0_hw437 => k0_hw437

def k0_off619 (i : grid0.Coords) : Fin 3 → Nat :=
  let c0_908 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1458 : Index := Scalar.indexCast v9
  let c181 : Index := 181#32
  ![0, v1458.toNat, 181]
def k0_off620 (v1459 : BitVec 32) : Fin 3 → Nat :=
  let c0_909 : Index := 0#32
  let v1460 : Index := Scalar.indexCast v1459
  let c0_910 : Index := 0#32
  ![0, v1460.toNat, 0]

def k0_chk438 (v1459 : BitVec 32) : Prop :=
  (∀ a, (k0_off620 v1459) a + S1x1x512.size a ≤ S1x2048x512.size a)
theorem k0_off620_inb : ∀ (v1459 : BitVec 32) (k0_hw438 : k0_chk438 v1459), ∀ a, (k0_off620 v1459) a + S1x1x512.size a ≤ S1x2048x512.size a := fun v1459 k0_hw438 => k0_hw438

def k0_off621 (i : grid0.Coords) : Fin 3 → Nat :=
  let c0_913 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1466 : Index := Scalar.indexCast v9
  let c182 : Index := 182#32
  ![0, v1466.toNat, 182]
def k0_off622 (v1467 : BitVec 32) : Fin 3 → Nat :=
  let c0_914 : Index := 0#32
  let v1468 : Index := Scalar.indexCast v1467
  let c0_915 : Index := 0#32
  ![0, v1468.toNat, 0]

def k0_chk439 (v1467 : BitVec 32) : Prop :=
  (∀ a, (k0_off622 v1467) a + S1x1x512.size a ≤ S1x2048x512.size a)
theorem k0_off622_inb : ∀ (v1467 : BitVec 32) (k0_hw439 : k0_chk439 v1467), ∀ a, (k0_off622 v1467) a + S1x1x512.size a ≤ S1x2048x512.size a := fun v1467 k0_hw439 => k0_hw439

def k0_off623 (i : grid0.Coords) : Fin 3 → Nat :=
  let c0_918 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1474 : Index := Scalar.indexCast v9
  let c183 : Index := 183#32
  ![0, v1474.toNat, 183]
def k0_off624 (v1475 : BitVec 32) : Fin 3 → Nat :=
  let c0_919 : Index := 0#32
  let v1476 : Index := Scalar.indexCast v1475
  let c0_920 : Index := 0#32
  ![0, v1476.toNat, 0]

def k0_chk440 (v1475 : BitVec 32) : Prop :=
  (∀ a, (k0_off624 v1475) a + S1x1x512.size a ≤ S1x2048x512.size a)
theorem k0_off624_inb : ∀ (v1475 : BitVec 32) (k0_hw440 : k0_chk440 v1475), ∀ a, (k0_off624 v1475) a + S1x1x512.size a ≤ S1x2048x512.size a := fun v1475 k0_hw440 => k0_hw440

def k0_off625 (i : grid0.Coords) : Fin 3 → Nat :=
  let c0_923 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1482 : Index := Scalar.indexCast v9
  let c184 : Index := 184#32
  ![0, v1482.toNat, 184]
def k0_off626 (v1483 : BitVec 32) : Fin 3 → Nat :=
  let c0_924 : Index := 0#32
  let v1484 : Index := Scalar.indexCast v1483
  let c0_925 : Index := 0#32
  ![0, v1484.toNat, 0]

def k0_chk441 (v1483 : BitVec 32) : Prop :=
  (∀ a, (k0_off626 v1483) a + S1x1x512.size a ≤ S1x2048x512.size a)
theorem k0_off626_inb : ∀ (v1483 : BitVec 32) (k0_hw441 : k0_chk441 v1483), ∀ a, (k0_off626 v1483) a + S1x1x512.size a ≤ S1x2048x512.size a := fun v1483 k0_hw441 => k0_hw441

def k0_off627 (i : grid0.Coords) : Fin 3 → Nat :=
  let c0_928 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1490 : Index := Scalar.indexCast v9
  let c185 : Index := 185#32
  ![0, v1490.toNat, 185]
def k0_off628 (v1491 : BitVec 32) : Fin 3 → Nat :=
  let c0_929 : Index := 0#32
  let v1492 : Index := Scalar.indexCast v1491
  let c0_930 : Index := 0#32
  ![0, v1492.toNat, 0]

def k0_chk442 (v1491 : BitVec 32) : Prop :=
  (∀ a, (k0_off628 v1491) a + S1x1x512.size a ≤ S1x2048x512.size a)
theorem k0_off628_inb : ∀ (v1491 : BitVec 32) (k0_hw442 : k0_chk442 v1491), ∀ a, (k0_off628 v1491) a + S1x1x512.size a ≤ S1x2048x512.size a := fun v1491 k0_hw442 => k0_hw442

def k0_off629 (i : grid0.Coords) : Fin 3 → Nat :=
  let c0_933 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1498 : Index := Scalar.indexCast v9
  let c186 : Index := 186#32
  ![0, v1498.toNat, 186]
def k0_off630 (v1499 : BitVec 32) : Fin 3 → Nat :=
  let c0_934 : Index := 0#32
  let v1500 : Index := Scalar.indexCast v1499
  let c0_935 : Index := 0#32
  ![0, v1500.toNat, 0]

def k0_chk443 (v1499 : BitVec 32) : Prop :=
  (∀ a, (k0_off630 v1499) a + S1x1x512.size a ≤ S1x2048x512.size a)
theorem k0_off630_inb : ∀ (v1499 : BitVec 32) (k0_hw443 : k0_chk443 v1499), ∀ a, (k0_off630 v1499) a + S1x1x512.size a ≤ S1x2048x512.size a := fun v1499 k0_hw443 => k0_hw443

def k0_off631 (i : grid0.Coords) : Fin 3 → Nat :=
  let c0_938 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1506 : Index := Scalar.indexCast v9
  let c187 : Index := 187#32
  ![0, v1506.toNat, 187]
def k0_off632 (v1507 : BitVec 32) : Fin 3 → Nat :=
  let c0_939 : Index := 0#32
  let v1508 : Index := Scalar.indexCast v1507
  let c0_940 : Index := 0#32
  ![0, v1508.toNat, 0]

def k0_chk444 (v1507 : BitVec 32) : Prop :=
  (∀ a, (k0_off632 v1507) a + S1x1x512.size a ≤ S1x2048x512.size a)
theorem k0_off632_inb : ∀ (v1507 : BitVec 32) (k0_hw444 : k0_chk444 v1507), ∀ a, (k0_off632 v1507) a + S1x1x512.size a ≤ S1x2048x512.size a := fun v1507 k0_hw444 => k0_hw444

def k0_off633 (i : grid0.Coords) : Fin 3 → Nat :=
  let c0_943 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1514 : Index := Scalar.indexCast v9
  let c188 : Index := 188#32
  ![0, v1514.toNat, 188]
def k0_off634 (v1515 : BitVec 32) : Fin 3 → Nat :=
  let c0_944 : Index := 0#32
  let v1516 : Index := Scalar.indexCast v1515
  let c0_945 : Index := 0#32
  ![0, v1516.toNat, 0]

def k0_chk445 (v1515 : BitVec 32) : Prop :=
  (∀ a, (k0_off634 v1515) a + S1x1x512.size a ≤ S1x2048x512.size a)
theorem k0_off634_inb : ∀ (v1515 : BitVec 32) (k0_hw445 : k0_chk445 v1515), ∀ a, (k0_off634 v1515) a + S1x1x512.size a ≤ S1x2048x512.size a := fun v1515 k0_hw445 => k0_hw445

def k0_off635 (i : grid0.Coords) : Fin 3 → Nat :=
  let c0_948 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1522 : Index := Scalar.indexCast v9
  let c189 : Index := 189#32
  ![0, v1522.toNat, 189]
def k0_off636 (v1523 : BitVec 32) : Fin 3 → Nat :=
  let c0_949 : Index := 0#32
  let v1524 : Index := Scalar.indexCast v1523
  let c0_950 : Index := 0#32
  ![0, v1524.toNat, 0]

def k0_chk446 (v1523 : BitVec 32) : Prop :=
  (∀ a, (k0_off636 v1523) a + S1x1x512.size a ≤ S1x2048x512.size a)
theorem k0_off636_inb : ∀ (v1523 : BitVec 32) (k0_hw446 : k0_chk446 v1523), ∀ a, (k0_off636 v1523) a + S1x1x512.size a ≤ S1x2048x512.size a := fun v1523 k0_hw446 => k0_hw446

def k0_off637 (i : grid0.Coords) : Fin 3 → Nat :=
  let c0_953 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1530 : Index := Scalar.indexCast v9
  let c190 : Index := 190#32
  ![0, v1530.toNat, 190]
def k0_off638 (v1531 : BitVec 32) : Fin 3 → Nat :=
  let c0_954 : Index := 0#32
  let v1532 : Index := Scalar.indexCast v1531
  let c0_955 : Index := 0#32
  ![0, v1532.toNat, 0]

def k0_chk447 (v1531 : BitVec 32) : Prop :=
  (∀ a, (k0_off638 v1531) a + S1x1x512.size a ≤ S1x2048x512.size a)
theorem k0_off638_inb : ∀ (v1531 : BitVec 32) (k0_hw447 : k0_chk447 v1531), ∀ a, (k0_off638 v1531) a + S1x1x512.size a ≤ S1x2048x512.size a := fun v1531 k0_hw447 => k0_hw447

def k0_off639 (i : grid0.Coords) : Fin 3 → Nat :=
  let c0_958 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1538 : Index := Scalar.indexCast v9
  let c191 : Index := 191#32
  ![0, v1538.toNat, 191]
def k0_off640 (v1539 : BitVec 32) : Fin 3 → Nat :=
  let c0_959 : Index := 0#32
  let v1540 : Index := Scalar.indexCast v1539
  let c0_960 : Index := 0#32
  ![0, v1540.toNat, 0]

def k0_chk448 (v1539 : BitVec 32) : Prop :=
  (∀ a, (k0_off640 v1539) a + S1x1x512.size a ≤ S1x2048x512.size a)
theorem k0_off640_inb : ∀ (v1539 : BitVec 32) (k0_hw448 : k0_chk448 v1539), ∀ a, (k0_off640 v1539) a + S1x1x512.size a ≤ S1x2048x512.size a := fun v1539 k0_hw448 => k0_hw448

def k0_off641 (i : grid0.Coords) : Fin 3 → Nat :=
  let c0_963 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1546 : Index := Scalar.indexCast v9
  let c192 : Index := 192#32
  ![0, v1546.toNat, 192]
def k0_off642 (v1547 : BitVec 32) : Fin 3 → Nat :=
  let c0_964 : Index := 0#32
  let v1548 : Index := Scalar.indexCast v1547
  let c0_965 : Index := 0#32
  ![0, v1548.toNat, 0]

def k0_chk449 (v1547 : BitVec 32) : Prop :=
  (∀ a, (k0_off642 v1547) a + S1x1x512.size a ≤ S1x2048x512.size a)
theorem k0_off642_inb : ∀ (v1547 : BitVec 32) (k0_hw449 : k0_chk449 v1547), ∀ a, (k0_off642 v1547) a + S1x1x512.size a ≤ S1x2048x512.size a := fun v1547 k0_hw449 => k0_hw449

def k0_off643 (i : grid0.Coords) : Fin 3 → Nat :=
  let c0_968 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1554 : Index := Scalar.indexCast v9
  let c193 : Index := 193#32
  ![0, v1554.toNat, 193]
def k0_off644 (v1555 : BitVec 32) : Fin 3 → Nat :=
  let c0_969 : Index := 0#32
  let v1556 : Index := Scalar.indexCast v1555
  let c0_970 : Index := 0#32
  ![0, v1556.toNat, 0]

def k0_chk450 (v1555 : BitVec 32) : Prop :=
  (∀ a, (k0_off644 v1555) a + S1x1x512.size a ≤ S1x2048x512.size a)
theorem k0_off644_inb : ∀ (v1555 : BitVec 32) (k0_hw450 : k0_chk450 v1555), ∀ a, (k0_off644 v1555) a + S1x1x512.size a ≤ S1x2048x512.size a := fun v1555 k0_hw450 => k0_hw450

def k0_off645 (i : grid0.Coords) : Fin 3 → Nat :=
  let c0_973 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1562 : Index := Scalar.indexCast v9
  let c194 : Index := 194#32
  ![0, v1562.toNat, 194]
def k0_off646 (v1563 : BitVec 32) : Fin 3 → Nat :=
  let c0_974 : Index := 0#32
  let v1564 : Index := Scalar.indexCast v1563
  let c0_975 : Index := 0#32
  ![0, v1564.toNat, 0]

def k0_chk451 (v1563 : BitVec 32) : Prop :=
  (∀ a, (k0_off646 v1563) a + S1x1x512.size a ≤ S1x2048x512.size a)
theorem k0_off646_inb : ∀ (v1563 : BitVec 32) (k0_hw451 : k0_chk451 v1563), ∀ a, (k0_off646 v1563) a + S1x1x512.size a ≤ S1x2048x512.size a := fun v1563 k0_hw451 => k0_hw451

def k0_off647 (i : grid0.Coords) : Fin 3 → Nat :=
  let c0_978 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1570 : Index := Scalar.indexCast v9
  let c195 : Index := 195#32
  ![0, v1570.toNat, 195]
def k0_off648 (v1571 : BitVec 32) : Fin 3 → Nat :=
  let c0_979 : Index := 0#32
  let v1572 : Index := Scalar.indexCast v1571
  let c0_980 : Index := 0#32
  ![0, v1572.toNat, 0]

def k0_chk452 (v1571 : BitVec 32) : Prop :=
  (∀ a, (k0_off648 v1571) a + S1x1x512.size a ≤ S1x2048x512.size a)
theorem k0_off648_inb : ∀ (v1571 : BitVec 32) (k0_hw452 : k0_chk452 v1571), ∀ a, (k0_off648 v1571) a + S1x1x512.size a ≤ S1x2048x512.size a := fun v1571 k0_hw452 => k0_hw452

def k0_off649 (i : grid0.Coords) : Fin 3 → Nat :=
  let c0_983 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1578 : Index := Scalar.indexCast v9
  let c196 : Index := 196#32
  ![0, v1578.toNat, 196]
def k0_off650 (v1579 : BitVec 32) : Fin 3 → Nat :=
  let c0_984 : Index := 0#32
  let v1580 : Index := Scalar.indexCast v1579
  let c0_985 : Index := 0#32
  ![0, v1580.toNat, 0]

def k0_chk453 (v1579 : BitVec 32) : Prop :=
  (∀ a, (k0_off650 v1579) a + S1x1x512.size a ≤ S1x2048x512.size a)
theorem k0_off650_inb : ∀ (v1579 : BitVec 32) (k0_hw453 : k0_chk453 v1579), ∀ a, (k0_off650 v1579) a + S1x1x512.size a ≤ S1x2048x512.size a := fun v1579 k0_hw453 => k0_hw453

def k0_off651 (i : grid0.Coords) : Fin 3 → Nat :=
  let c0_988 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1586 : Index := Scalar.indexCast v9
  let c197 : Index := 197#32
  ![0, v1586.toNat, 197]
def k0_off652 (v1587 : BitVec 32) : Fin 3 → Nat :=
  let c0_989 : Index := 0#32
  let v1588 : Index := Scalar.indexCast v1587
  let c0_990 : Index := 0#32
  ![0, v1588.toNat, 0]

def k0_chk454 (v1587 : BitVec 32) : Prop :=
  (∀ a, (k0_off652 v1587) a + S1x1x512.size a ≤ S1x2048x512.size a)
theorem k0_off652_inb : ∀ (v1587 : BitVec 32) (k0_hw454 : k0_chk454 v1587), ∀ a, (k0_off652 v1587) a + S1x1x512.size a ≤ S1x2048x512.size a := fun v1587 k0_hw454 => k0_hw454

def k0_off653 (i : grid0.Coords) : Fin 3 → Nat :=
  let c0_993 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1594 : Index := Scalar.indexCast v9
  let c198 : Index := 198#32
  ![0, v1594.toNat, 198]
def k0_off654 (v1595 : BitVec 32) : Fin 3 → Nat :=
  let c0_994 : Index := 0#32
  let v1596 : Index := Scalar.indexCast v1595
  let c0_995 : Index := 0#32
  ![0, v1596.toNat, 0]

def k0_chk455 (v1595 : BitVec 32) : Prop :=
  (∀ a, (k0_off654 v1595) a + S1x1x512.size a ≤ S1x2048x512.size a)
theorem k0_off654_inb : ∀ (v1595 : BitVec 32) (k0_hw455 : k0_chk455 v1595), ∀ a, (k0_off654 v1595) a + S1x1x512.size a ≤ S1x2048x512.size a := fun v1595 k0_hw455 => k0_hw455

def k0_off655 (i : grid0.Coords) : Fin 3 → Nat :=
  let c0_998 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1602 : Index := Scalar.indexCast v9
  let c199 : Index := 199#32
  ![0, v1602.toNat, 199]
def k0_off656 (v1603 : BitVec 32) : Fin 3 → Nat :=
  let c0_999 : Index := 0#32
  let v1604 : Index := Scalar.indexCast v1603
  let c0_1000 : Index := 0#32
  ![0, v1604.toNat, 0]

def k0_chk456 (v1603 : BitVec 32) : Prop :=
  (∀ a, (k0_off656 v1603) a + S1x1x512.size a ≤ S1x2048x512.size a)
theorem k0_off656_inb : ∀ (v1603 : BitVec 32) (k0_hw456 : k0_chk456 v1603), ∀ a, (k0_off656 v1603) a + S1x1x512.size a ≤ S1x2048x512.size a := fun v1603 k0_hw456 => k0_hw456

def k0_off657 (i : grid0.Coords) : Fin 3 → Nat :=
  let c0_1003 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1610 : Index := Scalar.indexCast v9
  let c200 : Index := 200#32
  ![0, v1610.toNat, 200]
def k0_off658 (v1611 : BitVec 32) : Fin 3 → Nat :=
  let c0_1004 : Index := 0#32
  let v1612 : Index := Scalar.indexCast v1611
  let c0_1005 : Index := 0#32
  ![0, v1612.toNat, 0]

def k0_chk457 (v1611 : BitVec 32) : Prop :=
  (∀ a, (k0_off658 v1611) a + S1x1x512.size a ≤ S1x2048x512.size a)
theorem k0_off658_inb : ∀ (v1611 : BitVec 32) (k0_hw457 : k0_chk457 v1611), ∀ a, (k0_off658 v1611) a + S1x1x512.size a ≤ S1x2048x512.size a := fun v1611 k0_hw457 => k0_hw457

def k0_off659 (i : grid0.Coords) : Fin 3 → Nat :=
  let c0_1008 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1618 : Index := Scalar.indexCast v9
  let c201 : Index := 201#32
  ![0, v1618.toNat, 201]
def k0_off660 (v1619 : BitVec 32) : Fin 3 → Nat :=
  let c0_1009 : Index := 0#32
  let v1620 : Index := Scalar.indexCast v1619
  let c0_1010 : Index := 0#32
  ![0, v1620.toNat, 0]

def k0_chk458 (v1619 : BitVec 32) : Prop :=
  (∀ a, (k0_off660 v1619) a + S1x1x512.size a ≤ S1x2048x512.size a)
theorem k0_off660_inb : ∀ (v1619 : BitVec 32) (k0_hw458 : k0_chk458 v1619), ∀ a, (k0_off660 v1619) a + S1x1x512.size a ≤ S1x2048x512.size a := fun v1619 k0_hw458 => k0_hw458

def k0_off661 (i : grid0.Coords) : Fin 3 → Nat :=
  let c0_1013 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1626 : Index := Scalar.indexCast v9
  let c202 : Index := 202#32
  ![0, v1626.toNat, 202]
def k0_off662 (v1627 : BitVec 32) : Fin 3 → Nat :=
  let c0_1014 : Index := 0#32
  let v1628 : Index := Scalar.indexCast v1627
  let c0_1015 : Index := 0#32
  ![0, v1628.toNat, 0]

def k0_chk459 (v1627 : BitVec 32) : Prop :=
  (∀ a, (k0_off662 v1627) a + S1x1x512.size a ≤ S1x2048x512.size a)
theorem k0_off662_inb : ∀ (v1627 : BitVec 32) (k0_hw459 : k0_chk459 v1627), ∀ a, (k0_off662 v1627) a + S1x1x512.size a ≤ S1x2048x512.size a := fun v1627 k0_hw459 => k0_hw459

def k0_off663 (i : grid0.Coords) : Fin 3 → Nat :=
  let c0_1018 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1634 : Index := Scalar.indexCast v9
  let c203 : Index := 203#32
  ![0, v1634.toNat, 203]
def k0_off664 (v1635 : BitVec 32) : Fin 3 → Nat :=
  let c0_1019 : Index := 0#32
  let v1636 : Index := Scalar.indexCast v1635
  let c0_1020 : Index := 0#32
  ![0, v1636.toNat, 0]

def k0_chk460 (v1635 : BitVec 32) : Prop :=
  (∀ a, (k0_off664 v1635) a + S1x1x512.size a ≤ S1x2048x512.size a)
theorem k0_off664_inb : ∀ (v1635 : BitVec 32) (k0_hw460 : k0_chk460 v1635), ∀ a, (k0_off664 v1635) a + S1x1x512.size a ≤ S1x2048x512.size a := fun v1635 k0_hw460 => k0_hw460

def k0_off665 (i : grid0.Coords) : Fin 3 → Nat :=
  let c0_1023 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1642 : Index := Scalar.indexCast v9
  let c204 : Index := 204#32
  ![0, v1642.toNat, 204]
def k0_off666 (v1643 : BitVec 32) : Fin 3 → Nat :=
  let c0_1024 : Index := 0#32
  let v1644 : Index := Scalar.indexCast v1643
  let c0_1025 : Index := 0#32
  ![0, v1644.toNat, 0]

def k0_chk461 (v1643 : BitVec 32) : Prop :=
  (∀ a, (k0_off666 v1643) a + S1x1x512.size a ≤ S1x2048x512.size a)
theorem k0_off666_inb : ∀ (v1643 : BitVec 32) (k0_hw461 : k0_chk461 v1643), ∀ a, (k0_off666 v1643) a + S1x1x512.size a ≤ S1x2048x512.size a := fun v1643 k0_hw461 => k0_hw461

def k0_off667 (i : grid0.Coords) : Fin 3 → Nat :=
  let c0_1028 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1650 : Index := Scalar.indexCast v9
  let c205 : Index := 205#32
  ![0, v1650.toNat, 205]
def k0_off668 (v1651 : BitVec 32) : Fin 3 → Nat :=
  let c0_1029 : Index := 0#32
  let v1652 : Index := Scalar.indexCast v1651
  let c0_1030 : Index := 0#32
  ![0, v1652.toNat, 0]

def k0_chk462 (v1651 : BitVec 32) : Prop :=
  (∀ a, (k0_off668 v1651) a + S1x1x512.size a ≤ S1x2048x512.size a)
theorem k0_off668_inb : ∀ (v1651 : BitVec 32) (k0_hw462 : k0_chk462 v1651), ∀ a, (k0_off668 v1651) a + S1x1x512.size a ≤ S1x2048x512.size a := fun v1651 k0_hw462 => k0_hw462

def k0_off669 (i : grid0.Coords) : Fin 3 → Nat :=
  let c0_1033 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1658 : Index := Scalar.indexCast v9
  let c206 : Index := 206#32
  ![0, v1658.toNat, 206]
def k0_off670 (v1659 : BitVec 32) : Fin 3 → Nat :=
  let c0_1034 : Index := 0#32
  let v1660 : Index := Scalar.indexCast v1659
  let c0_1035 : Index := 0#32
  ![0, v1660.toNat, 0]

def k0_chk463 (v1659 : BitVec 32) : Prop :=
  (∀ a, (k0_off670 v1659) a + S1x1x512.size a ≤ S1x2048x512.size a)
theorem k0_off670_inb : ∀ (v1659 : BitVec 32) (k0_hw463 : k0_chk463 v1659), ∀ a, (k0_off670 v1659) a + S1x1x512.size a ≤ S1x2048x512.size a := fun v1659 k0_hw463 => k0_hw463

def k0_off671 (i : grid0.Coords) : Fin 3 → Nat :=
  let c0_1038 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1666 : Index := Scalar.indexCast v9
  let c207 : Index := 207#32
  ![0, v1666.toNat, 207]
def k0_off672 (v1667 : BitVec 32) : Fin 3 → Nat :=
  let c0_1039 : Index := 0#32
  let v1668 : Index := Scalar.indexCast v1667
  let c0_1040 : Index := 0#32
  ![0, v1668.toNat, 0]

def k0_chk464 (v1667 : BitVec 32) : Prop :=
  (∀ a, (k0_off672 v1667) a + S1x1x512.size a ≤ S1x2048x512.size a)
theorem k0_off672_inb : ∀ (v1667 : BitVec 32) (k0_hw464 : k0_chk464 v1667), ∀ a, (k0_off672 v1667) a + S1x1x512.size a ≤ S1x2048x512.size a := fun v1667 k0_hw464 => k0_hw464

def k0_off673 (i : grid0.Coords) : Fin 3 → Nat :=
  let c0_1043 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1674 : Index := Scalar.indexCast v9
  let c208 : Index := 208#32
  ![0, v1674.toNat, 208]
def k0_off674 (v1675 : BitVec 32) : Fin 3 → Nat :=
  let c0_1044 : Index := 0#32
  let v1676 : Index := Scalar.indexCast v1675
  let c0_1045 : Index := 0#32
  ![0, v1676.toNat, 0]

def k0_chk465 (v1675 : BitVec 32) : Prop :=
  (∀ a, (k0_off674 v1675) a + S1x1x512.size a ≤ S1x2048x512.size a)
theorem k0_off674_inb : ∀ (v1675 : BitVec 32) (k0_hw465 : k0_chk465 v1675), ∀ a, (k0_off674 v1675) a + S1x1x512.size a ≤ S1x2048x512.size a := fun v1675 k0_hw465 => k0_hw465

def k0_off675 (i : grid0.Coords) : Fin 3 → Nat :=
  let c0_1048 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1682 : Index := Scalar.indexCast v9
  let c209 : Index := 209#32
  ![0, v1682.toNat, 209]
def k0_off676 (v1683 : BitVec 32) : Fin 3 → Nat :=
  let c0_1049 : Index := 0#32
  let v1684 : Index := Scalar.indexCast v1683
  let c0_1050 : Index := 0#32
  ![0, v1684.toNat, 0]

def k0_chk466 (v1683 : BitVec 32) : Prop :=
  (∀ a, (k0_off676 v1683) a + S1x1x512.size a ≤ S1x2048x512.size a)
theorem k0_off676_inb : ∀ (v1683 : BitVec 32) (k0_hw466 : k0_chk466 v1683), ∀ a, (k0_off676 v1683) a + S1x1x512.size a ≤ S1x2048x512.size a := fun v1683 k0_hw466 => k0_hw466

def k0_off677 (i : grid0.Coords) : Fin 3 → Nat :=
  let c0_1053 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1690 : Index := Scalar.indexCast v9
  let c210 : Index := 210#32
  ![0, v1690.toNat, 210]
def k0_off678 (v1691 : BitVec 32) : Fin 3 → Nat :=
  let c0_1054 : Index := 0#32
  let v1692 : Index := Scalar.indexCast v1691
  let c0_1055 : Index := 0#32
  ![0, v1692.toNat, 0]

def k0_chk467 (v1691 : BitVec 32) : Prop :=
  (∀ a, (k0_off678 v1691) a + S1x1x512.size a ≤ S1x2048x512.size a)
theorem k0_off678_inb : ∀ (v1691 : BitVec 32) (k0_hw467 : k0_chk467 v1691), ∀ a, (k0_off678 v1691) a + S1x1x512.size a ≤ S1x2048x512.size a := fun v1691 k0_hw467 => k0_hw467

def k0_off679 (i : grid0.Coords) : Fin 3 → Nat :=
  let c0_1058 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1698 : Index := Scalar.indexCast v9
  let c211 : Index := 211#32
  ![0, v1698.toNat, 211]
def k0_off680 (v1699 : BitVec 32) : Fin 3 → Nat :=
  let c0_1059 : Index := 0#32
  let v1700 : Index := Scalar.indexCast v1699
  let c0_1060 : Index := 0#32
  ![0, v1700.toNat, 0]

def k0_chk468 (v1699 : BitVec 32) : Prop :=
  (∀ a, (k0_off680 v1699) a + S1x1x512.size a ≤ S1x2048x512.size a)
theorem k0_off680_inb : ∀ (v1699 : BitVec 32) (k0_hw468 : k0_chk468 v1699), ∀ a, (k0_off680 v1699) a + S1x1x512.size a ≤ S1x2048x512.size a := fun v1699 k0_hw468 => k0_hw468

def k0_off681 (i : grid0.Coords) : Fin 3 → Nat :=
  let c0_1063 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1706 : Index := Scalar.indexCast v9
  let c212 : Index := 212#32
  ![0, v1706.toNat, 212]
def k0_off682 (v1707 : BitVec 32) : Fin 3 → Nat :=
  let c0_1064 : Index := 0#32
  let v1708 : Index := Scalar.indexCast v1707
  let c0_1065 : Index := 0#32
  ![0, v1708.toNat, 0]

def k0_chk469 (v1707 : BitVec 32) : Prop :=
  (∀ a, (k0_off682 v1707) a + S1x1x512.size a ≤ S1x2048x512.size a)
theorem k0_off682_inb : ∀ (v1707 : BitVec 32) (k0_hw469 : k0_chk469 v1707), ∀ a, (k0_off682 v1707) a + S1x1x512.size a ≤ S1x2048x512.size a := fun v1707 k0_hw469 => k0_hw469

def k0_off683 (i : grid0.Coords) : Fin 3 → Nat :=
  let c0_1068 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1714 : Index := Scalar.indexCast v9
  let c213 : Index := 213#32
  ![0, v1714.toNat, 213]
def k0_off684 (v1715 : BitVec 32) : Fin 3 → Nat :=
  let c0_1069 : Index := 0#32
  let v1716 : Index := Scalar.indexCast v1715
  let c0_1070 : Index := 0#32
  ![0, v1716.toNat, 0]

def k0_chk470 (v1715 : BitVec 32) : Prop :=
  (∀ a, (k0_off684 v1715) a + S1x1x512.size a ≤ S1x2048x512.size a)
theorem k0_off684_inb : ∀ (v1715 : BitVec 32) (k0_hw470 : k0_chk470 v1715), ∀ a, (k0_off684 v1715) a + S1x1x512.size a ≤ S1x2048x512.size a := fun v1715 k0_hw470 => k0_hw470

def k0_off685 (i : grid0.Coords) : Fin 3 → Nat :=
  let c0_1073 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1722 : Index := Scalar.indexCast v9
  let c214 : Index := 214#32
  ![0, v1722.toNat, 214]
def k0_off686 (v1723 : BitVec 32) : Fin 3 → Nat :=
  let c0_1074 : Index := 0#32
  let v1724 : Index := Scalar.indexCast v1723
  let c0_1075 : Index := 0#32
  ![0, v1724.toNat, 0]

def k0_chk471 (v1723 : BitVec 32) : Prop :=
  (∀ a, (k0_off686 v1723) a + S1x1x512.size a ≤ S1x2048x512.size a)
theorem k0_off686_inb : ∀ (v1723 : BitVec 32) (k0_hw471 : k0_chk471 v1723), ∀ a, (k0_off686 v1723) a + S1x1x512.size a ≤ S1x2048x512.size a := fun v1723 k0_hw471 => k0_hw471

def k0_off687 (i : grid0.Coords) : Fin 3 → Nat :=
  let c0_1078 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1730 : Index := Scalar.indexCast v9
  let c215 : Index := 215#32
  ![0, v1730.toNat, 215]
def k0_off688 (v1731 : BitVec 32) : Fin 3 → Nat :=
  let c0_1079 : Index := 0#32
  let v1732 : Index := Scalar.indexCast v1731
  let c0_1080 : Index := 0#32
  ![0, v1732.toNat, 0]

def k0_chk472 (v1731 : BitVec 32) : Prop :=
  (∀ a, (k0_off688 v1731) a + S1x1x512.size a ≤ S1x2048x512.size a)
theorem k0_off688_inb : ∀ (v1731 : BitVec 32) (k0_hw472 : k0_chk472 v1731), ∀ a, (k0_off688 v1731) a + S1x1x512.size a ≤ S1x2048x512.size a := fun v1731 k0_hw472 => k0_hw472

def k0_off689 (i : grid0.Coords) : Fin 3 → Nat :=
  let c0_1083 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1738 : Index := Scalar.indexCast v9
  let c216 : Index := 216#32
  ![0, v1738.toNat, 216]
def k0_off690 (v1739 : BitVec 32) : Fin 3 → Nat :=
  let c0_1084 : Index := 0#32
  let v1740 : Index := Scalar.indexCast v1739
  let c0_1085 : Index := 0#32
  ![0, v1740.toNat, 0]

def k0_chk473 (v1739 : BitVec 32) : Prop :=
  (∀ a, (k0_off690 v1739) a + S1x1x512.size a ≤ S1x2048x512.size a)
theorem k0_off690_inb : ∀ (v1739 : BitVec 32) (k0_hw473 : k0_chk473 v1739), ∀ a, (k0_off690 v1739) a + S1x1x512.size a ≤ S1x2048x512.size a := fun v1739 k0_hw473 => k0_hw473

def k0_off691 (i : grid0.Coords) : Fin 3 → Nat :=
  let c0_1088 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1746 : Index := Scalar.indexCast v9
  let c217 : Index := 217#32
  ![0, v1746.toNat, 217]
def k0_off692 (v1747 : BitVec 32) : Fin 3 → Nat :=
  let c0_1089 : Index := 0#32
  let v1748 : Index := Scalar.indexCast v1747
  let c0_1090 : Index := 0#32
  ![0, v1748.toNat, 0]

def k0_chk474 (v1747 : BitVec 32) : Prop :=
  (∀ a, (k0_off692 v1747) a + S1x1x512.size a ≤ S1x2048x512.size a)
theorem k0_off692_inb : ∀ (v1747 : BitVec 32) (k0_hw474 : k0_chk474 v1747), ∀ a, (k0_off692 v1747) a + S1x1x512.size a ≤ S1x2048x512.size a := fun v1747 k0_hw474 => k0_hw474

def k0_off693 (i : grid0.Coords) : Fin 3 → Nat :=
  let c0_1093 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1754 : Index := Scalar.indexCast v9
  let c218 : Index := 218#32
  ![0, v1754.toNat, 218]
def k0_off694 (v1755 : BitVec 32) : Fin 3 → Nat :=
  let c0_1094 : Index := 0#32
  let v1756 : Index := Scalar.indexCast v1755
  let c0_1095 : Index := 0#32
  ![0, v1756.toNat, 0]

def k0_chk475 (v1755 : BitVec 32) : Prop :=
  (∀ a, (k0_off694 v1755) a + S1x1x512.size a ≤ S1x2048x512.size a)
theorem k0_off694_inb : ∀ (v1755 : BitVec 32) (k0_hw475 : k0_chk475 v1755), ∀ a, (k0_off694 v1755) a + S1x1x512.size a ≤ S1x2048x512.size a := fun v1755 k0_hw475 => k0_hw475

def k0_off695 (i : grid0.Coords) : Fin 3 → Nat :=
  let c0_1098 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1762 : Index := Scalar.indexCast v9
  let c219 : Index := 219#32
  ![0, v1762.toNat, 219]
def k0_off696 (v1763 : BitVec 32) : Fin 3 → Nat :=
  let c0_1099 : Index := 0#32
  let v1764 : Index := Scalar.indexCast v1763
  let c0_1100 : Index := 0#32
  ![0, v1764.toNat, 0]

def k0_chk476 (v1763 : BitVec 32) : Prop :=
  (∀ a, (k0_off696 v1763) a + S1x1x512.size a ≤ S1x2048x512.size a)
theorem k0_off696_inb : ∀ (v1763 : BitVec 32) (k0_hw476 : k0_chk476 v1763), ∀ a, (k0_off696 v1763) a + S1x1x512.size a ≤ S1x2048x512.size a := fun v1763 k0_hw476 => k0_hw476

def k0_off697 (i : grid0.Coords) : Fin 3 → Nat :=
  let c0_1103 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1770 : Index := Scalar.indexCast v9
  let c220 : Index := 220#32
  ![0, v1770.toNat, 220]
def k0_off698 (v1771 : BitVec 32) : Fin 3 → Nat :=
  let c0_1104 : Index := 0#32
  let v1772 : Index := Scalar.indexCast v1771
  let c0_1105 : Index := 0#32
  ![0, v1772.toNat, 0]

def k0_chk477 (v1771 : BitVec 32) : Prop :=
  (∀ a, (k0_off698 v1771) a + S1x1x512.size a ≤ S1x2048x512.size a)
theorem k0_off698_inb : ∀ (v1771 : BitVec 32) (k0_hw477 : k0_chk477 v1771), ∀ a, (k0_off698 v1771) a + S1x1x512.size a ≤ S1x2048x512.size a := fun v1771 k0_hw477 => k0_hw477

def k0_off699 (i : grid0.Coords) : Fin 3 → Nat :=
  let c0_1108 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1778 : Index := Scalar.indexCast v9
  let c221 : Index := 221#32
  ![0, v1778.toNat, 221]
def k0_off700 (v1779 : BitVec 32) : Fin 3 → Nat :=
  let c0_1109 : Index := 0#32
  let v1780 : Index := Scalar.indexCast v1779
  let c0_1110 : Index := 0#32
  ![0, v1780.toNat, 0]

def k0_chk478 (v1779 : BitVec 32) : Prop :=
  (∀ a, (k0_off700 v1779) a + S1x1x512.size a ≤ S1x2048x512.size a)
theorem k0_off700_inb : ∀ (v1779 : BitVec 32) (k0_hw478 : k0_chk478 v1779), ∀ a, (k0_off700 v1779) a + S1x1x512.size a ≤ S1x2048x512.size a := fun v1779 k0_hw478 => k0_hw478

def k0_off701 (i : grid0.Coords) : Fin 3 → Nat :=
  let c0_1113 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1786 : Index := Scalar.indexCast v9
  let c222 : Index := 222#32
  ![0, v1786.toNat, 222]
def k0_off702 (v1787 : BitVec 32) : Fin 3 → Nat :=
  let c0_1114 : Index := 0#32
  let v1788 : Index := Scalar.indexCast v1787
  let c0_1115 : Index := 0#32
  ![0, v1788.toNat, 0]

def k0_chk479 (v1787 : BitVec 32) : Prop :=
  (∀ a, (k0_off702 v1787) a + S1x1x512.size a ≤ S1x2048x512.size a)
theorem k0_off702_inb : ∀ (v1787 : BitVec 32) (k0_hw479 : k0_chk479 v1787), ∀ a, (k0_off702 v1787) a + S1x1x512.size a ≤ S1x2048x512.size a := fun v1787 k0_hw479 => k0_hw479

def k0_off703 (i : grid0.Coords) : Fin 3 → Nat :=
  let c0_1118 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1794 : Index := Scalar.indexCast v9
  let c223 : Index := 223#32
  ![0, v1794.toNat, 223]
def k0_off704 (v1795 : BitVec 32) : Fin 3 → Nat :=
  let c0_1119 : Index := 0#32
  let v1796 : Index := Scalar.indexCast v1795
  let c0_1120 : Index := 0#32
  ![0, v1796.toNat, 0]

def k0_chk480 (v1795 : BitVec 32) : Prop :=
  (∀ a, (k0_off704 v1795) a + S1x1x512.size a ≤ S1x2048x512.size a)
theorem k0_off704_inb : ∀ (v1795 : BitVec 32) (k0_hw480 : k0_chk480 v1795), ∀ a, (k0_off704 v1795) a + S1x1x512.size a ≤ S1x2048x512.size a := fun v1795 k0_hw480 => k0_hw480

def k0_off705 (i : grid0.Coords) : Fin 3 → Nat :=
  let c0_1123 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1802 : Index := Scalar.indexCast v9
  let c224 : Index := 224#32
  ![0, v1802.toNat, 224]
def k0_off706 (v1803 : BitVec 32) : Fin 3 → Nat :=
  let c0_1124 : Index := 0#32
  let v1804 : Index := Scalar.indexCast v1803
  let c0_1125 : Index := 0#32
  ![0, v1804.toNat, 0]

def k0_chk481 (v1803 : BitVec 32) : Prop :=
  (∀ a, (k0_off706 v1803) a + S1x1x512.size a ≤ S1x2048x512.size a)
theorem k0_off706_inb : ∀ (v1803 : BitVec 32) (k0_hw481 : k0_chk481 v1803), ∀ a, (k0_off706 v1803) a + S1x1x512.size a ≤ S1x2048x512.size a := fun v1803 k0_hw481 => k0_hw481

def k0_off707 (i : grid0.Coords) : Fin 3 → Nat :=
  let c0_1128 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1810 : Index := Scalar.indexCast v9
  let c225 : Index := 225#32
  ![0, v1810.toNat, 225]
def k0_off708 (v1811 : BitVec 32) : Fin 3 → Nat :=
  let c0_1129 : Index := 0#32
  let v1812 : Index := Scalar.indexCast v1811
  let c0_1130 : Index := 0#32
  ![0, v1812.toNat, 0]

def k0_chk482 (v1811 : BitVec 32) : Prop :=
  (∀ a, (k0_off708 v1811) a + S1x1x512.size a ≤ S1x2048x512.size a)
theorem k0_off708_inb : ∀ (v1811 : BitVec 32) (k0_hw482 : k0_chk482 v1811), ∀ a, (k0_off708 v1811) a + S1x1x512.size a ≤ S1x2048x512.size a := fun v1811 k0_hw482 => k0_hw482

def k0_off709 (i : grid0.Coords) : Fin 3 → Nat :=
  let c0_1133 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1818 : Index := Scalar.indexCast v9
  let c226 : Index := 226#32
  ![0, v1818.toNat, 226]
def k0_off710 (v1819 : BitVec 32) : Fin 3 → Nat :=
  let c0_1134 : Index := 0#32
  let v1820 : Index := Scalar.indexCast v1819
  let c0_1135 : Index := 0#32
  ![0, v1820.toNat, 0]

def k0_chk483 (v1819 : BitVec 32) : Prop :=
  (∀ a, (k0_off710 v1819) a + S1x1x512.size a ≤ S1x2048x512.size a)
theorem k0_off710_inb : ∀ (v1819 : BitVec 32) (k0_hw483 : k0_chk483 v1819), ∀ a, (k0_off710 v1819) a + S1x1x512.size a ≤ S1x2048x512.size a := fun v1819 k0_hw483 => k0_hw483

def k0_off711 (i : grid0.Coords) : Fin 3 → Nat :=
  let c0_1138 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1826 : Index := Scalar.indexCast v9
  let c227 : Index := 227#32
  ![0, v1826.toNat, 227]
def k0_off712 (v1827 : BitVec 32) : Fin 3 → Nat :=
  let c0_1139 : Index := 0#32
  let v1828 : Index := Scalar.indexCast v1827
  let c0_1140 : Index := 0#32
  ![0, v1828.toNat, 0]

def k0_chk484 (v1827 : BitVec 32) : Prop :=
  (∀ a, (k0_off712 v1827) a + S1x1x512.size a ≤ S1x2048x512.size a)
theorem k0_off712_inb : ∀ (v1827 : BitVec 32) (k0_hw484 : k0_chk484 v1827), ∀ a, (k0_off712 v1827) a + S1x1x512.size a ≤ S1x2048x512.size a := fun v1827 k0_hw484 => k0_hw484

def k0_off713 (i : grid0.Coords) : Fin 3 → Nat :=
  let c0_1143 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1834 : Index := Scalar.indexCast v9
  let c228 : Index := 228#32
  ![0, v1834.toNat, 228]
def k0_off714 (v1835 : BitVec 32) : Fin 3 → Nat :=
  let c0_1144 : Index := 0#32
  let v1836 : Index := Scalar.indexCast v1835
  let c0_1145 : Index := 0#32
  ![0, v1836.toNat, 0]

def k0_chk485 (v1835 : BitVec 32) : Prop :=
  (∀ a, (k0_off714 v1835) a + S1x1x512.size a ≤ S1x2048x512.size a)
theorem k0_off714_inb : ∀ (v1835 : BitVec 32) (k0_hw485 : k0_chk485 v1835), ∀ a, (k0_off714 v1835) a + S1x1x512.size a ≤ S1x2048x512.size a := fun v1835 k0_hw485 => k0_hw485

def k0_off715 (i : grid0.Coords) : Fin 3 → Nat :=
  let c0_1148 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1842 : Index := Scalar.indexCast v9
  let c229 : Index := 229#32
  ![0, v1842.toNat, 229]
def k0_off716 (v1843 : BitVec 32) : Fin 3 → Nat :=
  let c0_1149 : Index := 0#32
  let v1844 : Index := Scalar.indexCast v1843
  let c0_1150 : Index := 0#32
  ![0, v1844.toNat, 0]

def k0_chk486 (v1843 : BitVec 32) : Prop :=
  (∀ a, (k0_off716 v1843) a + S1x1x512.size a ≤ S1x2048x512.size a)
theorem k0_off716_inb : ∀ (v1843 : BitVec 32) (k0_hw486 : k0_chk486 v1843), ∀ a, (k0_off716 v1843) a + S1x1x512.size a ≤ S1x2048x512.size a := fun v1843 k0_hw486 => k0_hw486

def k0_off717 (i : grid0.Coords) : Fin 3 → Nat :=
  let c0_1153 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1850 : Index := Scalar.indexCast v9
  let c230 : Index := 230#32
  ![0, v1850.toNat, 230]
def k0_off718 (v1851 : BitVec 32) : Fin 3 → Nat :=
  let c0_1154 : Index := 0#32
  let v1852 : Index := Scalar.indexCast v1851
  let c0_1155 : Index := 0#32
  ![0, v1852.toNat, 0]

def k0_chk487 (v1851 : BitVec 32) : Prop :=
  (∀ a, (k0_off718 v1851) a + S1x1x512.size a ≤ S1x2048x512.size a)
theorem k0_off718_inb : ∀ (v1851 : BitVec 32) (k0_hw487 : k0_chk487 v1851), ∀ a, (k0_off718 v1851) a + S1x1x512.size a ≤ S1x2048x512.size a := fun v1851 k0_hw487 => k0_hw487

def k0_off719 (i : grid0.Coords) : Fin 3 → Nat :=
  let c0_1158 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1858 : Index := Scalar.indexCast v9
  let c231 : Index := 231#32
  ![0, v1858.toNat, 231]
def k0_off720 (v1859 : BitVec 32) : Fin 3 → Nat :=
  let c0_1159 : Index := 0#32
  let v1860 : Index := Scalar.indexCast v1859
  let c0_1160 : Index := 0#32
  ![0, v1860.toNat, 0]

def k0_chk488 (v1859 : BitVec 32) : Prop :=
  (∀ a, (k0_off720 v1859) a + S1x1x512.size a ≤ S1x2048x512.size a)
theorem k0_off720_inb : ∀ (v1859 : BitVec 32) (k0_hw488 : k0_chk488 v1859), ∀ a, (k0_off720 v1859) a + S1x1x512.size a ≤ S1x2048x512.size a := fun v1859 k0_hw488 => k0_hw488

def k0_off721 (i : grid0.Coords) : Fin 3 → Nat :=
  let c0_1163 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1866 : Index := Scalar.indexCast v9
  let c232 : Index := 232#32
  ![0, v1866.toNat, 232]
def k0_off722 (v1867 : BitVec 32) : Fin 3 → Nat :=
  let c0_1164 : Index := 0#32
  let v1868 : Index := Scalar.indexCast v1867
  let c0_1165 : Index := 0#32
  ![0, v1868.toNat, 0]

def k0_chk489 (v1867 : BitVec 32) : Prop :=
  (∀ a, (k0_off722 v1867) a + S1x1x512.size a ≤ S1x2048x512.size a)
theorem k0_off722_inb : ∀ (v1867 : BitVec 32) (k0_hw489 : k0_chk489 v1867), ∀ a, (k0_off722 v1867) a + S1x1x512.size a ≤ S1x2048x512.size a := fun v1867 k0_hw489 => k0_hw489

def k0_off723 (i : grid0.Coords) : Fin 3 → Nat :=
  let c0_1168 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1874 : Index := Scalar.indexCast v9
  let c233 : Index := 233#32
  ![0, v1874.toNat, 233]
def k0_off724 (v1875 : BitVec 32) : Fin 3 → Nat :=
  let c0_1169 : Index := 0#32
  let v1876 : Index := Scalar.indexCast v1875
  let c0_1170 : Index := 0#32
  ![0, v1876.toNat, 0]

def k0_chk490 (v1875 : BitVec 32) : Prop :=
  (∀ a, (k0_off724 v1875) a + S1x1x512.size a ≤ S1x2048x512.size a)
theorem k0_off724_inb : ∀ (v1875 : BitVec 32) (k0_hw490 : k0_chk490 v1875), ∀ a, (k0_off724 v1875) a + S1x1x512.size a ≤ S1x2048x512.size a := fun v1875 k0_hw490 => k0_hw490

def k0_off725 (i : grid0.Coords) : Fin 3 → Nat :=
  let c0_1173 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1882 : Index := Scalar.indexCast v9
  let c234 : Index := 234#32
  ![0, v1882.toNat, 234]
def k0_off726 (v1883 : BitVec 32) : Fin 3 → Nat :=
  let c0_1174 : Index := 0#32
  let v1884 : Index := Scalar.indexCast v1883
  let c0_1175 : Index := 0#32
  ![0, v1884.toNat, 0]

def k0_chk491 (v1883 : BitVec 32) : Prop :=
  (∀ a, (k0_off726 v1883) a + S1x1x512.size a ≤ S1x2048x512.size a)
theorem k0_off726_inb : ∀ (v1883 : BitVec 32) (k0_hw491 : k0_chk491 v1883), ∀ a, (k0_off726 v1883) a + S1x1x512.size a ≤ S1x2048x512.size a := fun v1883 k0_hw491 => k0_hw491

def k0_off727 (i : grid0.Coords) : Fin 3 → Nat :=
  let c0_1178 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1890 : Index := Scalar.indexCast v9
  let c235 : Index := 235#32
  ![0, v1890.toNat, 235]
def k0_off728 (v1891 : BitVec 32) : Fin 3 → Nat :=
  let c0_1179 : Index := 0#32
  let v1892 : Index := Scalar.indexCast v1891
  let c0_1180 : Index := 0#32
  ![0, v1892.toNat, 0]

def k0_chk492 (v1891 : BitVec 32) : Prop :=
  (∀ a, (k0_off728 v1891) a + S1x1x512.size a ≤ S1x2048x512.size a)
theorem k0_off728_inb : ∀ (v1891 : BitVec 32) (k0_hw492 : k0_chk492 v1891), ∀ a, (k0_off728 v1891) a + S1x1x512.size a ≤ S1x2048x512.size a := fun v1891 k0_hw492 => k0_hw492

def k0_off729 (i : grid0.Coords) : Fin 3 → Nat :=
  let c0_1183 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1898 : Index := Scalar.indexCast v9
  let c236 : Index := 236#32
  ![0, v1898.toNat, 236]
def k0_off730 (v1899 : BitVec 32) : Fin 3 → Nat :=
  let c0_1184 : Index := 0#32
  let v1900 : Index := Scalar.indexCast v1899
  let c0_1185 : Index := 0#32
  ![0, v1900.toNat, 0]

def k0_chk493 (v1899 : BitVec 32) : Prop :=
  (∀ a, (k0_off730 v1899) a + S1x1x512.size a ≤ S1x2048x512.size a)
theorem k0_off730_inb : ∀ (v1899 : BitVec 32) (k0_hw493 : k0_chk493 v1899), ∀ a, (k0_off730 v1899) a + S1x1x512.size a ≤ S1x2048x512.size a := fun v1899 k0_hw493 => k0_hw493

def k0_off731 (i : grid0.Coords) : Fin 3 → Nat :=
  let c0_1188 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1906 : Index := Scalar.indexCast v9
  let c237 : Index := 237#32
  ![0, v1906.toNat, 237]
def k0_off732 (v1907 : BitVec 32) : Fin 3 → Nat :=
  let c0_1189 : Index := 0#32
  let v1908 : Index := Scalar.indexCast v1907
  let c0_1190 : Index := 0#32
  ![0, v1908.toNat, 0]

def k0_chk494 (v1907 : BitVec 32) : Prop :=
  (∀ a, (k0_off732 v1907) a + S1x1x512.size a ≤ S1x2048x512.size a)
theorem k0_off732_inb : ∀ (v1907 : BitVec 32) (k0_hw494 : k0_chk494 v1907), ∀ a, (k0_off732 v1907) a + S1x1x512.size a ≤ S1x2048x512.size a := fun v1907 k0_hw494 => k0_hw494

def k0_off733 (i : grid0.Coords) : Fin 3 → Nat :=
  let c0_1193 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1914 : Index := Scalar.indexCast v9
  let c238 : Index := 238#32
  ![0, v1914.toNat, 238]
def k0_off734 (v1915 : BitVec 32) : Fin 3 → Nat :=
  let c0_1194 : Index := 0#32
  let v1916 : Index := Scalar.indexCast v1915
  let c0_1195 : Index := 0#32
  ![0, v1916.toNat, 0]

def k0_chk495 (v1915 : BitVec 32) : Prop :=
  (∀ a, (k0_off734 v1915) a + S1x1x512.size a ≤ S1x2048x512.size a)
theorem k0_off734_inb : ∀ (v1915 : BitVec 32) (k0_hw495 : k0_chk495 v1915), ∀ a, (k0_off734 v1915) a + S1x1x512.size a ≤ S1x2048x512.size a := fun v1915 k0_hw495 => k0_hw495

def k0_off735 (i : grid0.Coords) : Fin 3 → Nat :=
  let c0_1198 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1922 : Index := Scalar.indexCast v9
  let c239 : Index := 239#32
  ![0, v1922.toNat, 239]
def k0_off736 (v1923 : BitVec 32) : Fin 3 → Nat :=
  let c0_1199 : Index := 0#32
  let v1924 : Index := Scalar.indexCast v1923
  let c0_1200 : Index := 0#32
  ![0, v1924.toNat, 0]

def k0_chk496 (v1923 : BitVec 32) : Prop :=
  (∀ a, (k0_off736 v1923) a + S1x1x512.size a ≤ S1x2048x512.size a)
theorem k0_off736_inb : ∀ (v1923 : BitVec 32) (k0_hw496 : k0_chk496 v1923), ∀ a, (k0_off736 v1923) a + S1x1x512.size a ≤ S1x2048x512.size a := fun v1923 k0_hw496 => k0_hw496

def k0_off737 (i : grid0.Coords) : Fin 3 → Nat :=
  let c0_1203 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1930 : Index := Scalar.indexCast v9
  let c240 : Index := 240#32
  ![0, v1930.toNat, 240]
def k0_off738 (v1931 : BitVec 32) : Fin 3 → Nat :=
  let c0_1204 : Index := 0#32
  let v1932 : Index := Scalar.indexCast v1931
  let c0_1205 : Index := 0#32
  ![0, v1932.toNat, 0]

def k0_chk497 (v1931 : BitVec 32) : Prop :=
  (∀ a, (k0_off738 v1931) a + S1x1x512.size a ≤ S1x2048x512.size a)
theorem k0_off738_inb : ∀ (v1931 : BitVec 32) (k0_hw497 : k0_chk497 v1931), ∀ a, (k0_off738 v1931) a + S1x1x512.size a ≤ S1x2048x512.size a := fun v1931 k0_hw497 => k0_hw497

def k0_off739 (i : grid0.Coords) : Fin 3 → Nat :=
  let c0_1208 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1938 : Index := Scalar.indexCast v9
  let c241 : Index := 241#32
  ![0, v1938.toNat, 241]
def k0_off740 (v1939 : BitVec 32) : Fin 3 → Nat :=
  let c0_1209 : Index := 0#32
  let v1940 : Index := Scalar.indexCast v1939
  let c0_1210 : Index := 0#32
  ![0, v1940.toNat, 0]

def k0_chk498 (v1939 : BitVec 32) : Prop :=
  (∀ a, (k0_off740 v1939) a + S1x1x512.size a ≤ S1x2048x512.size a)
theorem k0_off740_inb : ∀ (v1939 : BitVec 32) (k0_hw498 : k0_chk498 v1939), ∀ a, (k0_off740 v1939) a + S1x1x512.size a ≤ S1x2048x512.size a := fun v1939 k0_hw498 => k0_hw498

def k0_off741 (i : grid0.Coords) : Fin 3 → Nat :=
  let c0_1213 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1946 : Index := Scalar.indexCast v9
  let c242 : Index := 242#32
  ![0, v1946.toNat, 242]
def k0_off742 (v1947 : BitVec 32) : Fin 3 → Nat :=
  let c0_1214 : Index := 0#32
  let v1948 : Index := Scalar.indexCast v1947
  let c0_1215 : Index := 0#32
  ![0, v1948.toNat, 0]

def k0_chk499 (v1947 : BitVec 32) : Prop :=
  (∀ a, (k0_off742 v1947) a + S1x1x512.size a ≤ S1x2048x512.size a)
theorem k0_off742_inb : ∀ (v1947 : BitVec 32) (k0_hw499 : k0_chk499 v1947), ∀ a, (k0_off742 v1947) a + S1x1x512.size a ≤ S1x2048x512.size a := fun v1947 k0_hw499 => k0_hw499

def k0_off743 (i : grid0.Coords) : Fin 3 → Nat :=
  let c0_1218 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1954 : Index := Scalar.indexCast v9
  let c243 : Index := 243#32
  ![0, v1954.toNat, 243]
def k0_off744 (v1955 : BitVec 32) : Fin 3 → Nat :=
  let c0_1219 : Index := 0#32
  let v1956 : Index := Scalar.indexCast v1955
  let c0_1220 : Index := 0#32
  ![0, v1956.toNat, 0]

def k0_chk500 (v1955 : BitVec 32) : Prop :=
  (∀ a, (k0_off744 v1955) a + S1x1x512.size a ≤ S1x2048x512.size a)
theorem k0_off744_inb : ∀ (v1955 : BitVec 32) (k0_hw500 : k0_chk500 v1955), ∀ a, (k0_off744 v1955) a + S1x1x512.size a ≤ S1x2048x512.size a := fun v1955 k0_hw500 => k0_hw500

def k0_off745 (i : grid0.Coords) : Fin 3 → Nat :=
  let c0_1223 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1962 : Index := Scalar.indexCast v9
  let c244 : Index := 244#32
  ![0, v1962.toNat, 244]
def k0_off746 (v1963 : BitVec 32) : Fin 3 → Nat :=
  let c0_1224 : Index := 0#32
  let v1964 : Index := Scalar.indexCast v1963
  let c0_1225 : Index := 0#32
  ![0, v1964.toNat, 0]

def k0_chk501 (v1963 : BitVec 32) : Prop :=
  (∀ a, (k0_off746 v1963) a + S1x1x512.size a ≤ S1x2048x512.size a)
theorem k0_off746_inb : ∀ (v1963 : BitVec 32) (k0_hw501 : k0_chk501 v1963), ∀ a, (k0_off746 v1963) a + S1x1x512.size a ≤ S1x2048x512.size a := fun v1963 k0_hw501 => k0_hw501

def k0_off747 (i : grid0.Coords) : Fin 3 → Nat :=
  let c0_1228 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1970 : Index := Scalar.indexCast v9
  let c245 : Index := 245#32
  ![0, v1970.toNat, 245]
def k0_off748 (v1971 : BitVec 32) : Fin 3 → Nat :=
  let c0_1229 : Index := 0#32
  let v1972 : Index := Scalar.indexCast v1971
  let c0_1230 : Index := 0#32
  ![0, v1972.toNat, 0]

def k0_chk502 (v1971 : BitVec 32) : Prop :=
  (∀ a, (k0_off748 v1971) a + S1x1x512.size a ≤ S1x2048x512.size a)
theorem k0_off748_inb : ∀ (v1971 : BitVec 32) (k0_hw502 : k0_chk502 v1971), ∀ a, (k0_off748 v1971) a + S1x1x512.size a ≤ S1x2048x512.size a := fun v1971 k0_hw502 => k0_hw502

def k0_off749 (i : grid0.Coords) : Fin 3 → Nat :=
  let c0_1233 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1978 : Index := Scalar.indexCast v9
  let c246 : Index := 246#32
  ![0, v1978.toNat, 246]
def k0_off750 (v1979 : BitVec 32) : Fin 3 → Nat :=
  let c0_1234 : Index := 0#32
  let v1980 : Index := Scalar.indexCast v1979
  let c0_1235 : Index := 0#32
  ![0, v1980.toNat, 0]

def k0_chk503 (v1979 : BitVec 32) : Prop :=
  (∀ a, (k0_off750 v1979) a + S1x1x512.size a ≤ S1x2048x512.size a)
theorem k0_off750_inb : ∀ (v1979 : BitVec 32) (k0_hw503 : k0_chk503 v1979), ∀ a, (k0_off750 v1979) a + S1x1x512.size a ≤ S1x2048x512.size a := fun v1979 k0_hw503 => k0_hw503

def k0_off751 (i : grid0.Coords) : Fin 3 → Nat :=
  let c0_1238 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1986 : Index := Scalar.indexCast v9
  let c247 : Index := 247#32
  ![0, v1986.toNat, 247]
def k0_off752 (v1987 : BitVec 32) : Fin 3 → Nat :=
  let c0_1239 : Index := 0#32
  let v1988 : Index := Scalar.indexCast v1987
  let c0_1240 : Index := 0#32
  ![0, v1988.toNat, 0]

def k0_chk504 (v1987 : BitVec 32) : Prop :=
  (∀ a, (k0_off752 v1987) a + S1x1x512.size a ≤ S1x2048x512.size a)
theorem k0_off752_inb : ∀ (v1987 : BitVec 32) (k0_hw504 : k0_chk504 v1987), ∀ a, (k0_off752 v1987) a + S1x1x512.size a ≤ S1x2048x512.size a := fun v1987 k0_hw504 => k0_hw504

def k0_off753 (i : grid0.Coords) : Fin 3 → Nat :=
  let c0_1243 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v1994 : Index := Scalar.indexCast v9
  let c248 : Index := 248#32
  ![0, v1994.toNat, 248]
def k0_off754 (v1995 : BitVec 32) : Fin 3 → Nat :=
  let c0_1244 : Index := 0#32
  let v1996 : Index := Scalar.indexCast v1995
  let c0_1245 : Index := 0#32
  ![0, v1996.toNat, 0]

def k0_chk505 (v1995 : BitVec 32) : Prop :=
  (∀ a, (k0_off754 v1995) a + S1x1x512.size a ≤ S1x2048x512.size a)
theorem k0_off754_inb : ∀ (v1995 : BitVec 32) (k0_hw505 : k0_chk505 v1995), ∀ a, (k0_off754 v1995) a + S1x1x512.size a ≤ S1x2048x512.size a := fun v1995 k0_hw505 => k0_hw505

def k0_off755 (i : grid0.Coords) : Fin 3 → Nat :=
  let c0_1248 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2002 : Index := Scalar.indexCast v9
  let c249 : Index := 249#32
  ![0, v2002.toNat, 249]
def k0_off756 (v2003 : BitVec 32) : Fin 3 → Nat :=
  let c0_1249 : Index := 0#32
  let v2004 : Index := Scalar.indexCast v2003
  let c0_1250 : Index := 0#32
  ![0, v2004.toNat, 0]

def k0_chk506 (v2003 : BitVec 32) : Prop :=
  (∀ a, (k0_off756 v2003) a + S1x1x512.size a ≤ S1x2048x512.size a)
theorem k0_off756_inb : ∀ (v2003 : BitVec 32) (k0_hw506 : k0_chk506 v2003), ∀ a, (k0_off756 v2003) a + S1x1x512.size a ≤ S1x2048x512.size a := fun v2003 k0_hw506 => k0_hw506

def k0_off757 (i : grid0.Coords) : Fin 3 → Nat :=
  let c0_1253 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2010 : Index := Scalar.indexCast v9
  let c250 : Index := 250#32
  ![0, v2010.toNat, 250]
def k0_off758 (v2011 : BitVec 32) : Fin 3 → Nat :=
  let c0_1254 : Index := 0#32
  let v2012 : Index := Scalar.indexCast v2011
  let c0_1255 : Index := 0#32
  ![0, v2012.toNat, 0]

def k0_chk507 (v2011 : BitVec 32) : Prop :=
  (∀ a, (k0_off758 v2011) a + S1x1x512.size a ≤ S1x2048x512.size a)
theorem k0_off758_inb : ∀ (v2011 : BitVec 32) (k0_hw507 : k0_chk507 v2011), ∀ a, (k0_off758 v2011) a + S1x1x512.size a ≤ S1x2048x512.size a := fun v2011 k0_hw507 => k0_hw507

def k0_off759 (i : grid0.Coords) : Fin 3 → Nat :=
  let c0_1258 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2018 : Index := Scalar.indexCast v9
  let c251 : Index := 251#32
  ![0, v2018.toNat, 251]
def k0_off760 (v2019 : BitVec 32) : Fin 3 → Nat :=
  let c0_1259 : Index := 0#32
  let v2020 : Index := Scalar.indexCast v2019
  let c0_1260 : Index := 0#32
  ![0, v2020.toNat, 0]

def k0_chk508 (v2019 : BitVec 32) : Prop :=
  (∀ a, (k0_off760 v2019) a + S1x1x512.size a ≤ S1x2048x512.size a)
theorem k0_off760_inb : ∀ (v2019 : BitVec 32) (k0_hw508 : k0_chk508 v2019), ∀ a, (k0_off760 v2019) a + S1x1x512.size a ≤ S1x2048x512.size a := fun v2019 k0_hw508 => k0_hw508

def k0_off761 (i : grid0.Coords) : Fin 3 → Nat :=
  let c0_1263 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2026 : Index := Scalar.indexCast v9
  let c252 : Index := 252#32
  ![0, v2026.toNat, 252]
def k0_off762 (v2027 : BitVec 32) : Fin 3 → Nat :=
  let c0_1264 : Index := 0#32
  let v2028 : Index := Scalar.indexCast v2027
  let c0_1265 : Index := 0#32
  ![0, v2028.toNat, 0]

def k0_chk509 (v2027 : BitVec 32) : Prop :=
  (∀ a, (k0_off762 v2027) a + S1x1x512.size a ≤ S1x2048x512.size a)
theorem k0_off762_inb : ∀ (v2027 : BitVec 32) (k0_hw509 : k0_chk509 v2027), ∀ a, (k0_off762 v2027) a + S1x1x512.size a ≤ S1x2048x512.size a := fun v2027 k0_hw509 => k0_hw509

def k0_off763 (i : grid0.Coords) : Fin 3 → Nat :=
  let c0_1268 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2034 : Index := Scalar.indexCast v9
  let c253 : Index := 253#32
  ![0, v2034.toNat, 253]
def k0_off764 (v2035 : BitVec 32) : Fin 3 → Nat :=
  let c0_1269 : Index := 0#32
  let v2036 : Index := Scalar.indexCast v2035
  let c0_1270 : Index := 0#32
  ![0, v2036.toNat, 0]

def k0_chk510 (v2035 : BitVec 32) : Prop :=
  (∀ a, (k0_off764 v2035) a + S1x1x512.size a ≤ S1x2048x512.size a)
theorem k0_off764_inb : ∀ (v2035 : BitVec 32) (k0_hw510 : k0_chk510 v2035), ∀ a, (k0_off764 v2035) a + S1x1x512.size a ≤ S1x2048x512.size a := fun v2035 k0_hw510 => k0_hw510

def k0_off765 (i : grid0.Coords) : Fin 3 → Nat :=
  let c0_1273 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2042 : Index := Scalar.indexCast v9
  let c254 : Index := 254#32
  ![0, v2042.toNat, 254]
def k0_off766 (v2043 : BitVec 32) : Fin 3 → Nat :=
  let c0_1274 : Index := 0#32
  let v2044 : Index := Scalar.indexCast v2043
  let c0_1275 : Index := 0#32
  ![0, v2044.toNat, 0]

def k0_chk511 (v2043 : BitVec 32) : Prop :=
  (∀ a, (k0_off766 v2043) a + S1x1x512.size a ≤ S1x2048x512.size a)
theorem k0_off766_inb : ∀ (v2043 : BitVec 32) (k0_hw511 : k0_chk511 v2043), ∀ a, (k0_off766 v2043) a + S1x1x512.size a ≤ S1x2048x512.size a := fun v2043 k0_hw511 => k0_hw511

def k0_off767 (i : grid0.Coords) : Fin 3 → Nat :=
  let c0_1278 : Index := 0#32
  let arg1 : BitVec 32 := BitVec.ofNat 32 (i 1).val
  let c1_i32 : BitVec 32 := 1#32
  let v8 : BitVec 32 := Scalar.addi arg1 c1_i32
  let c15_i32 : BitVec 32 := 15#32
  let v9 : BitVec 32 := Scalar.minsi v8 c15_i32
  let v2050 : Index := Scalar.indexCast v9
  let c255 : Index := 255#32
  ![0, v2050.toNat, 255]
def k0_off768 (v2051 : BitVec 32) : Fin 3 → Nat :=
  let c0_1279 : Index := 0#32
  let v2052 : Index := Scalar.indexCast v2051
  let c0_1280 : Index := 0#32
  ![0, v2052.toNat, 0]

def k0_chk512 (v2051 : BitVec 32) : Prop :=
  (∀ a, (k0_off768 v2051) a + S1x1x512.size a ≤ S1x2048x512.size a)
theorem k0_off768_inb : ∀ (v2051 : BitVec 32) (k0_hw512 : k0_chk512 v2051), ∀ a, (k0_off768 v2051) a + S1x1x512.size a ≤ S1x2048x512.size a := fun v2051 k0_hw512 => k0_hw512

def k0_off769 (i : grid0.Coords) : Fin 3 → Nat :=
  let c0_1287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2062 : Index := Scalar.indexCast v2059
  let c0_1288 : Index := 0#32
  ![0, v2062.toNat, 0]
def k0_off770 (i : grid0.Coords) : Fin 3 → Nat :=
  let c0_1289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2064 : Index := Scalar.indexCast v2059
  let c1_1290 : Index := 1#32
  ![0, v2064.toNat, 1]
def k0_off771 (i : grid0.Coords) : Fin 3 → Nat :=
  let c0_1291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2066 : Index := Scalar.indexCast v2059
  let c2_1292 : Index := 2#32
  ![0, v2066.toNat, 2]
def k0_off772 (i : grid0.Coords) : Fin 3 → Nat :=
  let c0_1293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2068 : Index := Scalar.indexCast v2059
  let c3_1294 : Index := 3#32
  ![0, v2068.toNat, 3]
def k0_off773 (v2063 : BitVec 32) : Fin 3 → Nat :=
  let c0_1295 : Index := 0#32
  let v2070 : Index := Scalar.indexCast v2063
  let c0_1296 : Index := 0#32
  ![0, v2070.toNat, 0]

def k0_off774 (i : grid0.Coords) : Fin 3 → Nat :=
  let c0_1297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2073 : Index := Scalar.indexCast v2059
  let c0_1298 : Index := 0#32
  ![0, v2073.toNat, 0]
def k0_off775 (v2065 : BitVec 32) : Fin 3 → Nat :=
  let c0_1301 : Index := 0#32
  let v2080 : Index := Scalar.indexCast v2065
  let c0_1302 : Index := 0#32
  ![0, v2080.toNat, 0]

def k0_off776 (i : grid0.Coords) : Fin 3 → Nat :=
  let c0_1303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2083 : Index := Scalar.indexCast v2059
  let c1_1304 : Index := 1#32
  ![0, v2083.toNat, 1]
def k0_off777 (v2067 : BitVec 32) : Fin 3 → Nat :=
  let c0_1307 : Index := 0#32
  let v2090 : Index := Scalar.indexCast v2067
  let c0_1308 : Index := 0#32
  ![0, v2090.toNat, 0]

def k0_off778 (i : grid0.Coords) : Fin 3 → Nat :=
  let c0_1309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2093 : Index := Scalar.indexCast v2059
  let c2_1310 : Index := 2#32
  ![0, v2093.toNat, 2]
def k0_off779 (v2069 : BitVec 32) : Fin 3 → Nat :=
  let c0_1313 : Index := 0#32
  let v2100 : Index := Scalar.indexCast v2069
  let c0_1314 : Index := 0#32
  ![0, v2100.toNat, 0]

def k0_chk516 (v2069 : BitVec 32) : Prop :=
  (∀ a, (k0_off779 v2069) a + S1x1x1024.size a ≤ S1x2048x1024.size a)
theorem k0_off779_inb : ∀ (v2069 : BitVec 32) (k0_hw516 : k0_chk516 v2069), ∀ a, (k0_off779 v2069) a + S1x1x1024.size a ≤ S1x2048x1024.size a := fun v2069 k0_hw516 => k0_hw516

def k0_off780 (i : grid0.Coords) : Fin 3 → Nat :=
  let c0_1315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2103 : Index := Scalar.indexCast v2059
  let c3_1316 : Index := 3#32
  ![0, v2103.toNat, 3]
def k0_off781 (v2063 : BitVec 32) : Fin 3 → Nat :=
  let c0_1319 : Index := 0#32
  let v2110 : Index := Scalar.indexCast v2063
  let c0_1320 : Index := 0#32
  ![0, v2110.toNat, 0]

def k0_chk513 (v2063 : BitVec 32) : Prop :=
  (∀ a, (k0_off773 v2063) a + S1x1x1024.size a ≤ S1x2048x1024.size a) ∧
  (∀ a, (k0_off781 v2063) a + S1x1x1024.size a ≤ S1x2048x1024.size a)
theorem k0_off773_inb : ∀ (v2063 : BitVec 32) (k0_hw513 : k0_chk513 v2063), ∀ a, (k0_off773 v2063) a + S1x1x1024.size a ≤ S1x2048x1024.size a := fun v2063 k0_hw513 => k0_hw513.1
theorem k0_off781_inb : ∀ (v2063 : BitVec 32) (k0_hw513 : k0_chk513 v2063), ∀ a, (k0_off781 v2063) a + S1x1x1024.size a ≤ S1x2048x1024.size a := fun v2063 k0_hw513 => k0_hw513.2

def k0_off782 (v2065 : BitVec 32) : Fin 3 → Nat :=
  let c0_1321 : Index := 0#32
  let v2114 : Index := Scalar.indexCast v2065
  let c0_1322 : Index := 0#32
  ![0, v2114.toNat, 0]

def k0_chk514 (v2065 : BitVec 32) : Prop :=
  (∀ a, (k0_off775 v2065) a + S1x1x1024.size a ≤ S1x2048x1024.size a) ∧
  (∀ a, (k0_off782 v2065) a + S1x1x1024.size a ≤ S1x2048x1024.size a)
theorem k0_off775_inb : ∀ (v2065 : BitVec 32) (k0_hw514 : k0_chk514 v2065), ∀ a, (k0_off775 v2065) a + S1x1x1024.size a ≤ S1x2048x1024.size a := fun v2065 k0_hw514 => k0_hw514.1
theorem k0_off782_inb : ∀ (v2065 : BitVec 32) (k0_hw514 : k0_chk514 v2065), ∀ a, (k0_off782 v2065) a + S1x1x1024.size a ≤ S1x2048x1024.size a := fun v2065 k0_hw514 => k0_hw514.2

def k0_off783 (v2067 : BitVec 32) : Fin 3 → Nat :=
  let c0_1323 : Index := 0#32
  let v2118 : Index := Scalar.indexCast v2067
  let c0_1324 : Index := 0#32
  ![0, v2118.toNat, 0]

def k0_chk515 (v2067 : BitVec 32) : Prop :=
  (∀ a, (k0_off777 v2067) a + S1x1x1024.size a ≤ S1x2048x1024.size a) ∧
  (∀ a, (k0_off783 v2067) a + S1x1x1024.size a ≤ S1x2048x1024.size a)
theorem k0_off777_inb : ∀ (v2067 : BitVec 32) (k0_hw515 : k0_chk515 v2067), ∀ a, (k0_off777 v2067) a + S1x1x1024.size a ≤ S1x2048x1024.size a := fun v2067 k0_hw515 => k0_hw515.1
theorem k0_off783_inb : ∀ (v2067 : BitVec 32) (k0_hw515 : k0_chk515 v2067), ∀ a, (k0_off783 v2067) a + S1x1x1024.size a ≤ S1x2048x1024.size a := fun v2067 k0_hw515 => k0_hw515.2

def k0_off784 (i : grid0.Coords) : Fin 3 → Nat :=
  let c0_1327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2126 : Index := Scalar.indexCast v2059
  let c4_1328 : Index := 4#32
  ![0, v2126.toNat, 4]
def k0_off785 (i : grid0.Coords) : Fin 3 → Nat :=
  let c0_1329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2128 : Index := Scalar.indexCast v2059
  let c5_1330 : Index := 5#32
  ![0, v2128.toNat, 5]
def k0_off786 (i : grid0.Coords) : Fin 3 → Nat :=
  let c0_1331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2130 : Index := Scalar.indexCast v2059
  let c6_1332 : Index := 6#32
  ![0, v2130.toNat, 6]
def k0_off787 (i : grid0.Coords) : Fin 3 → Nat :=
  let c0_1333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2132 : Index := Scalar.indexCast v2059
  let c7_1334 : Index := 7#32
  ![0, v2132.toNat, 7]
def k0_off788 (v2127 : BitVec 32) : Fin 3 → Nat :=
  let c0_1335 : Index := 0#32
  let v2134 : Index := Scalar.indexCast v2127
  let c0_1336 : Index := 0#32
  ![0, v2134.toNat, 0]

def k0_off789 (i : grid0.Coords) : Fin 3 → Nat :=
  let c0_1337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2137 : Index := Scalar.indexCast v2059
  let c4_1338 : Index := 4#32
  ![0, v2137.toNat, 4]
def k0_off790 (v2129 : BitVec 32) : Fin 3 → Nat :=
  let c0_1341 : Index := 0#32
  let v2144 : Index := Scalar.indexCast v2129
  let c0_1342 : Index := 0#32
  ![0, v2144.toNat, 0]

def k0_off791 (i : grid0.Coords) : Fin 3 → Nat :=
  let c0_1343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2147 : Index := Scalar.indexCast v2059
  let c5_1344 : Index := 5#32
  ![0, v2147.toNat, 5]
def k0_off792 (v2131 : BitVec 32) : Fin 3 → Nat :=
  let c0_1347 : Index := 0#32
  let v2154 : Index := Scalar.indexCast v2131
  let c0_1348 : Index := 0#32
  ![0, v2154.toNat, 0]

def k0_off793 (i : grid0.Coords) : Fin 3 → Nat :=
  let c0_1349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2157 : Index := Scalar.indexCast v2059
  let c6_1350 : Index := 6#32
  ![0, v2157.toNat, 6]
def k0_off794 (v2133 : BitVec 32) : Fin 3 → Nat :=
  let c0_1353 : Index := 0#32
  let v2164 : Index := Scalar.indexCast v2133
  let c0_1354 : Index := 0#32
  ![0, v2164.toNat, 0]

def k0_chk520 (v2133 : BitVec 32) : Prop :=
  (∀ a, (k0_off794 v2133) a + S1x1x1024.size a ≤ S1x2048x1024.size a)
theorem k0_off794_inb : ∀ (v2133 : BitVec 32) (k0_hw520 : k0_chk520 v2133), ∀ a, (k0_off794 v2133) a + S1x1x1024.size a ≤ S1x2048x1024.size a := fun v2133 k0_hw520 => k0_hw520

def k0_off795 (i : grid0.Coords) : Fin 3 → Nat :=
  let c0_1355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2167 : Index := Scalar.indexCast v2059
  let c7_1356 : Index := 7#32
  ![0, v2167.toNat, 7]
def k0_off796 (v2127 : BitVec 32) : Fin 3 → Nat :=
  let c0_1359 : Index := 0#32
  let v2174 : Index := Scalar.indexCast v2127
  let c0_1360 : Index := 0#32
  ![0, v2174.toNat, 0]

def k0_chk517 (v2127 : BitVec 32) : Prop :=
  (∀ a, (k0_off788 v2127) a + S1x1x1024.size a ≤ S1x2048x1024.size a) ∧
  (∀ a, (k0_off796 v2127) a + S1x1x1024.size a ≤ S1x2048x1024.size a)
theorem k0_off788_inb : ∀ (v2127 : BitVec 32) (k0_hw517 : k0_chk517 v2127), ∀ a, (k0_off788 v2127) a + S1x1x1024.size a ≤ S1x2048x1024.size a := fun v2127 k0_hw517 => k0_hw517.1
theorem k0_off796_inb : ∀ (v2127 : BitVec 32) (k0_hw517 : k0_chk517 v2127), ∀ a, (k0_off796 v2127) a + S1x1x1024.size a ≤ S1x2048x1024.size a := fun v2127 k0_hw517 => k0_hw517.2

def k0_off797 (v2129 : BitVec 32) : Fin 3 → Nat :=
  let c0_1361 : Index := 0#32
  let v2178 : Index := Scalar.indexCast v2129
  let c0_1362 : Index := 0#32
  ![0, v2178.toNat, 0]

def k0_chk518 (v2129 : BitVec 32) : Prop :=
  (∀ a, (k0_off790 v2129) a + S1x1x1024.size a ≤ S1x2048x1024.size a) ∧
  (∀ a, (k0_off797 v2129) a + S1x1x1024.size a ≤ S1x2048x1024.size a)
theorem k0_off790_inb : ∀ (v2129 : BitVec 32) (k0_hw518 : k0_chk518 v2129), ∀ a, (k0_off790 v2129) a + S1x1x1024.size a ≤ S1x2048x1024.size a := fun v2129 k0_hw518 => k0_hw518.1
theorem k0_off797_inb : ∀ (v2129 : BitVec 32) (k0_hw518 : k0_chk518 v2129), ∀ a, (k0_off797 v2129) a + S1x1x1024.size a ≤ S1x2048x1024.size a := fun v2129 k0_hw518 => k0_hw518.2

def k0_off798 (v2131 : BitVec 32) : Fin 3 → Nat :=
  let c0_1363 : Index := 0#32
  let v2182 : Index := Scalar.indexCast v2131
  let c0_1364 : Index := 0#32
  ![0, v2182.toNat, 0]

def k0_chk519 (v2131 : BitVec 32) : Prop :=
  (∀ a, (k0_off792 v2131) a + S1x1x1024.size a ≤ S1x2048x1024.size a) ∧
  (∀ a, (k0_off798 v2131) a + S1x1x1024.size a ≤ S1x2048x1024.size a)
theorem k0_off792_inb : ∀ (v2131 : BitVec 32) (k0_hw519 : k0_chk519 v2131), ∀ a, (k0_off792 v2131) a + S1x1x1024.size a ≤ S1x2048x1024.size a := fun v2131 k0_hw519 => k0_hw519.1
theorem k0_off798_inb : ∀ (v2131 : BitVec 32) (k0_hw519 : k0_chk519 v2131), ∀ a, (k0_off798 v2131) a + S1x1x1024.size a ≤ S1x2048x1024.size a := fun v2131 k0_hw519 => k0_hw519.2

def k0_off799 (i : grid0.Coords) : Fin 3 → Nat :=
  let c0_1367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2190 : Index := Scalar.indexCast v2059
  let c8_1368 : Index := 8#32
  ![0, v2190.toNat, 8]
def k0_off800 (i : grid0.Coords) : Fin 3 → Nat :=
  let c0_1369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2192 : Index := Scalar.indexCast v2059
  let c9_1370 : Index := 9#32
  ![0, v2192.toNat, 9]
def k0_off801 (i : grid0.Coords) : Fin 3 → Nat :=
  let c0_1371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2194 : Index := Scalar.indexCast v2059
  let c10_1372 : Index := 10#32
  ![0, v2194.toNat, 10]
def k0_off802 (i : grid0.Coords) : Fin 3 → Nat :=
  let c0_1373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2196 : Index := Scalar.indexCast v2059
  let c11_1374 : Index := 11#32
  ![0, v2196.toNat, 11]
def k0_off803 (v2191 : BitVec 32) : Fin 3 → Nat :=
  let c0_1375 : Index := 0#32
  let v2198 : Index := Scalar.indexCast v2191
  let c0_1376 : Index := 0#32
  ![0, v2198.toNat, 0]

def k0_off804 (i : grid0.Coords) : Fin 3 → Nat :=
  let c0_1377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2201 : Index := Scalar.indexCast v2059
  let c8_1378 : Index := 8#32
  ![0, v2201.toNat, 8]
def k0_off805 (v2193 : BitVec 32) : Fin 3 → Nat :=
  let c0_1381 : Index := 0#32
  let v2208 : Index := Scalar.indexCast v2193
  let c0_1382 : Index := 0#32
  ![0, v2208.toNat, 0]

def k0_off806 (i : grid0.Coords) : Fin 3 → Nat :=
  let c0_1383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2211 : Index := Scalar.indexCast v2059
  let c9_1384 : Index := 9#32
  ![0, v2211.toNat, 9]
def k0_off807 (v2195 : BitVec 32) : Fin 3 → Nat :=
  let c0_1387 : Index := 0#32
  let v2218 : Index := Scalar.indexCast v2195
  let c0_1388 : Index := 0#32
  ![0, v2218.toNat, 0]

def k0_off808 (i : grid0.Coords) : Fin 3 → Nat :=
  let c0_1389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2221 : Index := Scalar.indexCast v2059
  let c10_1390 : Index := 10#32
  ![0, v2221.toNat, 10]
def k0_off809 (v2197 : BitVec 32) : Fin 3 → Nat :=
  let c0_1393 : Index := 0#32
  let v2228 : Index := Scalar.indexCast v2197
  let c0_1394 : Index := 0#32
  ![0, v2228.toNat, 0]

def k0_chk524 (v2197 : BitVec 32) : Prop :=
  (∀ a, (k0_off809 v2197) a + S1x1x1024.size a ≤ S1x2048x1024.size a)
theorem k0_off809_inb : ∀ (v2197 : BitVec 32) (k0_hw524 : k0_chk524 v2197), ∀ a, (k0_off809 v2197) a + S1x1x1024.size a ≤ S1x2048x1024.size a := fun v2197 k0_hw524 => k0_hw524

def k0_off810 (i : grid0.Coords) : Fin 3 → Nat :=
  let c0_1395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2231 : Index := Scalar.indexCast v2059
  let c11_1396 : Index := 11#32
  ![0, v2231.toNat, 11]
def k0_off811 (v2191 : BitVec 32) : Fin 3 → Nat :=
  let c0_1399 : Index := 0#32
  let v2238 : Index := Scalar.indexCast v2191
  let c0_1400 : Index := 0#32
  ![0, v2238.toNat, 0]

def k0_chk521 (v2191 : BitVec 32) : Prop :=
  (∀ a, (k0_off803 v2191) a + S1x1x1024.size a ≤ S1x2048x1024.size a) ∧
  (∀ a, (k0_off811 v2191) a + S1x1x1024.size a ≤ S1x2048x1024.size a)
theorem k0_off803_inb : ∀ (v2191 : BitVec 32) (k0_hw521 : k0_chk521 v2191), ∀ a, (k0_off803 v2191) a + S1x1x1024.size a ≤ S1x2048x1024.size a := fun v2191 k0_hw521 => k0_hw521.1
theorem k0_off811_inb : ∀ (v2191 : BitVec 32) (k0_hw521 : k0_chk521 v2191), ∀ a, (k0_off811 v2191) a + S1x1x1024.size a ≤ S1x2048x1024.size a := fun v2191 k0_hw521 => k0_hw521.2

def k0_off812 (v2193 : BitVec 32) : Fin 3 → Nat :=
  let c0_1401 : Index := 0#32
  let v2242 : Index := Scalar.indexCast v2193
  let c0_1402 : Index := 0#32
  ![0, v2242.toNat, 0]

def k0_chk522 (v2193 : BitVec 32) : Prop :=
  (∀ a, (k0_off805 v2193) a + S1x1x1024.size a ≤ S1x2048x1024.size a) ∧
  (∀ a, (k0_off812 v2193) a + S1x1x1024.size a ≤ S1x2048x1024.size a)
theorem k0_off805_inb : ∀ (v2193 : BitVec 32) (k0_hw522 : k0_chk522 v2193), ∀ a, (k0_off805 v2193) a + S1x1x1024.size a ≤ S1x2048x1024.size a := fun v2193 k0_hw522 => k0_hw522.1
theorem k0_off812_inb : ∀ (v2193 : BitVec 32) (k0_hw522 : k0_chk522 v2193), ∀ a, (k0_off812 v2193) a + S1x1x1024.size a ≤ S1x2048x1024.size a := fun v2193 k0_hw522 => k0_hw522.2

def k0_off813 (v2195 : BitVec 32) : Fin 3 → Nat :=
  let c0_1403 : Index := 0#32
  let v2246 : Index := Scalar.indexCast v2195
  let c0_1404 : Index := 0#32
  ![0, v2246.toNat, 0]

def k0_chk523 (v2195 : BitVec 32) : Prop :=
  (∀ a, (k0_off807 v2195) a + S1x1x1024.size a ≤ S1x2048x1024.size a) ∧
  (∀ a, (k0_off813 v2195) a + S1x1x1024.size a ≤ S1x2048x1024.size a)
theorem k0_off807_inb : ∀ (v2195 : BitVec 32) (k0_hw523 : k0_chk523 v2195), ∀ a, (k0_off807 v2195) a + S1x1x1024.size a ≤ S1x2048x1024.size a := fun v2195 k0_hw523 => k0_hw523.1
theorem k0_off813_inb : ∀ (v2195 : BitVec 32) (k0_hw523 : k0_chk523 v2195), ∀ a, (k0_off813 v2195) a + S1x1x1024.size a ≤ S1x2048x1024.size a := fun v2195 k0_hw523 => k0_hw523.2

def k0_off814 (i : grid0.Coords) : Fin 3 → Nat :=
  let c0_1407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2254 : Index := Scalar.indexCast v2059
  let c12_1408 : Index := 12#32
  ![0, v2254.toNat, 12]
def k0_off815 (i : grid0.Coords) : Fin 3 → Nat :=
  let c0_1409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2256 : Index := Scalar.indexCast v2059
  let c13_1410 : Index := 13#32
  ![0, v2256.toNat, 13]
def k0_off816 (i : grid0.Coords) : Fin 3 → Nat :=
  let c0_1411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2258 : Index := Scalar.indexCast v2059
  let c14_1412 : Index := 14#32
  ![0, v2258.toNat, 14]
def k0_off817 (i : grid0.Coords) : Fin 3 → Nat :=
  let c0_1413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2260 : Index := Scalar.indexCast v2059
  let c15_1414 : Index := 15#32
  ![0, v2260.toNat, 15]
def k0_off818 (v2255 : BitVec 32) : Fin 3 → Nat :=
  let c0_1415 : Index := 0#32
  let v2262 : Index := Scalar.indexCast v2255
  let c0_1416 : Index := 0#32
  ![0, v2262.toNat, 0]

def k0_off819 (i : grid0.Coords) : Fin 3 → Nat :=
  let c0_1417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2265 : Index := Scalar.indexCast v2059
  let c12_1418 : Index := 12#32
  ![0, v2265.toNat, 12]
def k0_off820 (v2257 : BitVec 32) : Fin 3 → Nat :=
  let c0_1421 : Index := 0#32
  let v2272 : Index := Scalar.indexCast v2257
  let c0_1422 : Index := 0#32
  ![0, v2272.toNat, 0]

def k0_off821 (i : grid0.Coords) : Fin 3 → Nat :=
  let c0_1423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2275 : Index := Scalar.indexCast v2059
  let c13_1424 : Index := 13#32
  ![0, v2275.toNat, 13]
def k0_off822 (v2259 : BitVec 32) : Fin 3 → Nat :=
  let c0_1427 : Index := 0#32
  let v2282 : Index := Scalar.indexCast v2259
  let c0_1428 : Index := 0#32
  ![0, v2282.toNat, 0]

def k0_off823 (i : grid0.Coords) : Fin 3 → Nat :=
  let c0_1429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2285 : Index := Scalar.indexCast v2059
  let c14_1430 : Index := 14#32
  ![0, v2285.toNat, 14]
def k0_off824 (v2261 : BitVec 32) : Fin 3 → Nat :=
  let c0_1433 : Index := 0#32
  let v2292 : Index := Scalar.indexCast v2261
  let c0_1434 : Index := 0#32
  ![0, v2292.toNat, 0]

def k0_chk528 (v2261 : BitVec 32) : Prop :=
  (∀ a, (k0_off824 v2261) a + S1x1x1024.size a ≤ S1x2048x1024.size a)
theorem k0_off824_inb : ∀ (v2261 : BitVec 32) (k0_hw528 : k0_chk528 v2261), ∀ a, (k0_off824 v2261) a + S1x1x1024.size a ≤ S1x2048x1024.size a := fun v2261 k0_hw528 => k0_hw528

def k0_off825 (i : grid0.Coords) : Fin 3 → Nat :=
  let c0_1435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2295 : Index := Scalar.indexCast v2059
  let c15_1436 : Index := 15#32
  ![0, v2295.toNat, 15]
def k0_off826 (v2255 : BitVec 32) : Fin 3 → Nat :=
  let c0_1439 : Index := 0#32
  let v2302 : Index := Scalar.indexCast v2255
  let c0_1440 : Index := 0#32
  ![0, v2302.toNat, 0]

def k0_chk525 (v2255 : BitVec 32) : Prop :=
  (∀ a, (k0_off818 v2255) a + S1x1x1024.size a ≤ S1x2048x1024.size a) ∧
  (∀ a, (k0_off826 v2255) a + S1x1x1024.size a ≤ S1x2048x1024.size a)
theorem k0_off818_inb : ∀ (v2255 : BitVec 32) (k0_hw525 : k0_chk525 v2255), ∀ a, (k0_off818 v2255) a + S1x1x1024.size a ≤ S1x2048x1024.size a := fun v2255 k0_hw525 => k0_hw525.1
theorem k0_off826_inb : ∀ (v2255 : BitVec 32) (k0_hw525 : k0_chk525 v2255), ∀ a, (k0_off826 v2255) a + S1x1x1024.size a ≤ S1x2048x1024.size a := fun v2255 k0_hw525 => k0_hw525.2

def k0_off827 (v2257 : BitVec 32) : Fin 3 → Nat :=
  let c0_1441 : Index := 0#32
  let v2306 : Index := Scalar.indexCast v2257
  let c0_1442 : Index := 0#32
  ![0, v2306.toNat, 0]

def k0_chk526 (v2257 : BitVec 32) : Prop :=
  (∀ a, (k0_off820 v2257) a + S1x1x1024.size a ≤ S1x2048x1024.size a) ∧
  (∀ a, (k0_off827 v2257) a + S1x1x1024.size a ≤ S1x2048x1024.size a)
theorem k0_off820_inb : ∀ (v2257 : BitVec 32) (k0_hw526 : k0_chk526 v2257), ∀ a, (k0_off820 v2257) a + S1x1x1024.size a ≤ S1x2048x1024.size a := fun v2257 k0_hw526 => k0_hw526.1
theorem k0_off827_inb : ∀ (v2257 : BitVec 32) (k0_hw526 : k0_chk526 v2257), ∀ a, (k0_off827 v2257) a + S1x1x1024.size a ≤ S1x2048x1024.size a := fun v2257 k0_hw526 => k0_hw526.2

def k0_off828 (v2259 : BitVec 32) : Fin 3 → Nat :=
  let c0_1443 : Index := 0#32
  let v2310 : Index := Scalar.indexCast v2259
  let c0_1444 : Index := 0#32
  ![0, v2310.toNat, 0]

def k0_chk527 (v2259 : BitVec 32) : Prop :=
  (∀ a, (k0_off822 v2259) a + S1x1x1024.size a ≤ S1x2048x1024.size a) ∧
  (∀ a, (k0_off828 v2259) a + S1x1x1024.size a ≤ S1x2048x1024.size a)
theorem k0_off822_inb : ∀ (v2259 : BitVec 32) (k0_hw527 : k0_chk527 v2259), ∀ a, (k0_off822 v2259) a + S1x1x1024.size a ≤ S1x2048x1024.size a := fun v2259 k0_hw527 => k0_hw527.1
theorem k0_off828_inb : ∀ (v2259 : BitVec 32) (k0_hw527 : k0_chk527 v2259), ∀ a, (k0_off828 v2259) a + S1x1x1024.size a ≤ S1x2048x1024.size a := fun v2259 k0_hw527 => k0_hw527.2

def k0_off829 (i : grid0.Coords) : Fin 3 → Nat :=
  let c0_1447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2318 : Index := Scalar.indexCast v2059
  let c16_1448 : Index := 16#32
  ![0, v2318.toNat, 16]
def k0_off830 (i : grid0.Coords) : Fin 3 → Nat :=
  let c0_1449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2320 : Index := Scalar.indexCast v2059
  let c17_1450 : Index := 17#32
  ![0, v2320.toNat, 17]
def k0_off831 (i : grid0.Coords) : Fin 3 → Nat :=
  let c0_1451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2322 : Index := Scalar.indexCast v2059
  let c18_1452 : Index := 18#32
  ![0, v2322.toNat, 18]
def k0_off832 (i : grid0.Coords) : Fin 3 → Nat :=
  let c0_1453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2324 : Index := Scalar.indexCast v2059
  let c19_1454 : Index := 19#32
  ![0, v2324.toNat, 19]
def k0_off833 (v2319 : BitVec 32) : Fin 3 → Nat :=
  let c0_1455 : Index := 0#32
  let v2326 : Index := Scalar.indexCast v2319
  let c0_1456 : Index := 0#32
  ![0, v2326.toNat, 0]

def k0_off834 (i : grid0.Coords) : Fin 3 → Nat :=
  let c0_1457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2329 : Index := Scalar.indexCast v2059
  let c16_1458 : Index := 16#32
  ![0, v2329.toNat, 16]
def k0_off835 (v2321 : BitVec 32) : Fin 3 → Nat :=
  let c0_1461 : Index := 0#32
  let v2336 : Index := Scalar.indexCast v2321
  let c0_1462 : Index := 0#32
  ![0, v2336.toNat, 0]

def k0_off836 (i : grid0.Coords) : Fin 3 → Nat :=
  let c0_1463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2339 : Index := Scalar.indexCast v2059
  let c17_1464 : Index := 17#32
  ![0, v2339.toNat, 17]
def k0_off837 (v2323 : BitVec 32) : Fin 3 → Nat :=
  let c0_1467 : Index := 0#32
  let v2346 : Index := Scalar.indexCast v2323
  let c0_1468 : Index := 0#32
  ![0, v2346.toNat, 0]

def k0_off838 (i : grid0.Coords) : Fin 3 → Nat :=
  let c0_1469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2349 : Index := Scalar.indexCast v2059
  let c18_1470 : Index := 18#32
  ![0, v2349.toNat, 18]
def k0_off839 (v2325 : BitVec 32) : Fin 3 → Nat :=
  let c0_1473 : Index := 0#32
  let v2356 : Index := Scalar.indexCast v2325
  let c0_1474 : Index := 0#32
  ![0, v2356.toNat, 0]

def k0_chk532 (v2325 : BitVec 32) : Prop :=
  (∀ a, (k0_off839 v2325) a + S1x1x1024.size a ≤ S1x2048x1024.size a)
theorem k0_off839_inb : ∀ (v2325 : BitVec 32) (k0_hw532 : k0_chk532 v2325), ∀ a, (k0_off839 v2325) a + S1x1x1024.size a ≤ S1x2048x1024.size a := fun v2325 k0_hw532 => k0_hw532

def k0_off840 (i : grid0.Coords) : Fin 3 → Nat :=
  let c0_1475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2359 : Index := Scalar.indexCast v2059
  let c19_1476 : Index := 19#32
  ![0, v2359.toNat, 19]
def k0_off841 (v2319 : BitVec 32) : Fin 3 → Nat :=
  let c0_1479 : Index := 0#32
  let v2366 : Index := Scalar.indexCast v2319
  let c0_1480 : Index := 0#32
  ![0, v2366.toNat, 0]

def k0_chk529 (v2319 : BitVec 32) : Prop :=
  (∀ a, (k0_off833 v2319) a + S1x1x1024.size a ≤ S1x2048x1024.size a) ∧
  (∀ a, (k0_off841 v2319) a + S1x1x1024.size a ≤ S1x2048x1024.size a)
theorem k0_off833_inb : ∀ (v2319 : BitVec 32) (k0_hw529 : k0_chk529 v2319), ∀ a, (k0_off833 v2319) a + S1x1x1024.size a ≤ S1x2048x1024.size a := fun v2319 k0_hw529 => k0_hw529.1
theorem k0_off841_inb : ∀ (v2319 : BitVec 32) (k0_hw529 : k0_chk529 v2319), ∀ a, (k0_off841 v2319) a + S1x1x1024.size a ≤ S1x2048x1024.size a := fun v2319 k0_hw529 => k0_hw529.2

def k0_off842 (v2321 : BitVec 32) : Fin 3 → Nat :=
  let c0_1481 : Index := 0#32
  let v2370 : Index := Scalar.indexCast v2321
  let c0_1482 : Index := 0#32
  ![0, v2370.toNat, 0]

def k0_chk530 (v2321 : BitVec 32) : Prop :=
  (∀ a, (k0_off835 v2321) a + S1x1x1024.size a ≤ S1x2048x1024.size a) ∧
  (∀ a, (k0_off842 v2321) a + S1x1x1024.size a ≤ S1x2048x1024.size a)
theorem k0_off835_inb : ∀ (v2321 : BitVec 32) (k0_hw530 : k0_chk530 v2321), ∀ a, (k0_off835 v2321) a + S1x1x1024.size a ≤ S1x2048x1024.size a := fun v2321 k0_hw530 => k0_hw530.1
theorem k0_off842_inb : ∀ (v2321 : BitVec 32) (k0_hw530 : k0_chk530 v2321), ∀ a, (k0_off842 v2321) a + S1x1x1024.size a ≤ S1x2048x1024.size a := fun v2321 k0_hw530 => k0_hw530.2

def k0_off843 (v2323 : BitVec 32) : Fin 3 → Nat :=
  let c0_1483 : Index := 0#32
  let v2374 : Index := Scalar.indexCast v2323
  let c0_1484 : Index := 0#32
  ![0, v2374.toNat, 0]

def k0_chk531 (v2323 : BitVec 32) : Prop :=
  (∀ a, (k0_off837 v2323) a + S1x1x1024.size a ≤ S1x2048x1024.size a) ∧
  (∀ a, (k0_off843 v2323) a + S1x1x1024.size a ≤ S1x2048x1024.size a)
theorem k0_off837_inb : ∀ (v2323 : BitVec 32) (k0_hw531 : k0_chk531 v2323), ∀ a, (k0_off837 v2323) a + S1x1x1024.size a ≤ S1x2048x1024.size a := fun v2323 k0_hw531 => k0_hw531.1
theorem k0_off843_inb : ∀ (v2323 : BitVec 32) (k0_hw531 : k0_chk531 v2323), ∀ a, (k0_off843 v2323) a + S1x1x1024.size a ≤ S1x2048x1024.size a := fun v2323 k0_hw531 => k0_hw531.2

def k0_off844 (i : grid0.Coords) : Fin 3 → Nat :=
  let c0_1487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2382 : Index := Scalar.indexCast v2059
  let c20_1488 : Index := 20#32
  ![0, v2382.toNat, 20]
def k0_off845 (i : grid0.Coords) : Fin 3 → Nat :=
  let c0_1489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2384 : Index := Scalar.indexCast v2059
  let c21_1490 : Index := 21#32
  ![0, v2384.toNat, 21]
def k0_off846 (i : grid0.Coords) : Fin 3 → Nat :=
  let c0_1491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2386 : Index := Scalar.indexCast v2059
  let c22_1492 : Index := 22#32
  ![0, v2386.toNat, 22]
def k0_off847 (i : grid0.Coords) : Fin 3 → Nat :=
  let c0_1493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2388 : Index := Scalar.indexCast v2059
  let c23_1494 : Index := 23#32
  ![0, v2388.toNat, 23]
def k0_off848 (v2383 : BitVec 32) : Fin 3 → Nat :=
  let c0_1495 : Index := 0#32
  let v2390 : Index := Scalar.indexCast v2383
  let c0_1496 : Index := 0#32
  ![0, v2390.toNat, 0]

def k0_off849 (i : grid0.Coords) : Fin 3 → Nat :=
  let c0_1497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2393 : Index := Scalar.indexCast v2059
  let c20_1498 : Index := 20#32
  ![0, v2393.toNat, 20]
def k0_off850 (v2385 : BitVec 32) : Fin 3 → Nat :=
  let c0_1501 : Index := 0#32
  let v2400 : Index := Scalar.indexCast v2385
  let c0_1502 : Index := 0#32
  ![0, v2400.toNat, 0]

def k0_off851 (i : grid0.Coords) : Fin 3 → Nat :=
  let c0_1503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2403 : Index := Scalar.indexCast v2059
  let c21_1504 : Index := 21#32
  ![0, v2403.toNat, 21]
def k0_off852 (v2387 : BitVec 32) : Fin 3 → Nat :=
  let c0_1507 : Index := 0#32
  let v2410 : Index := Scalar.indexCast v2387
  let c0_1508 : Index := 0#32
  ![0, v2410.toNat, 0]

def k0_off853 (i : grid0.Coords) : Fin 3 → Nat :=
  let c0_1509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2413 : Index := Scalar.indexCast v2059
  let c22_1510 : Index := 22#32
  ![0, v2413.toNat, 22]
def k0_off854 (v2389 : BitVec 32) : Fin 3 → Nat :=
  let c0_1513 : Index := 0#32
  let v2420 : Index := Scalar.indexCast v2389
  let c0_1514 : Index := 0#32
  ![0, v2420.toNat, 0]

def k0_chk536 (v2389 : BitVec 32) : Prop :=
  (∀ a, (k0_off854 v2389) a + S1x1x1024.size a ≤ S1x2048x1024.size a)
theorem k0_off854_inb : ∀ (v2389 : BitVec 32) (k0_hw536 : k0_chk536 v2389), ∀ a, (k0_off854 v2389) a + S1x1x1024.size a ≤ S1x2048x1024.size a := fun v2389 k0_hw536 => k0_hw536

def k0_off855 (i : grid0.Coords) : Fin 3 → Nat :=
  let c0_1515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2423 : Index := Scalar.indexCast v2059
  let c23_1516 : Index := 23#32
  ![0, v2423.toNat, 23]
def k0_off856 (v2383 : BitVec 32) : Fin 3 → Nat :=
  let c0_1519 : Index := 0#32
  let v2430 : Index := Scalar.indexCast v2383
  let c0_1520 : Index := 0#32
  ![0, v2430.toNat, 0]

def k0_chk533 (v2383 : BitVec 32) : Prop :=
  (∀ a, (k0_off848 v2383) a + S1x1x1024.size a ≤ S1x2048x1024.size a) ∧
  (∀ a, (k0_off856 v2383) a + S1x1x1024.size a ≤ S1x2048x1024.size a)
theorem k0_off848_inb : ∀ (v2383 : BitVec 32) (k0_hw533 : k0_chk533 v2383), ∀ a, (k0_off848 v2383) a + S1x1x1024.size a ≤ S1x2048x1024.size a := fun v2383 k0_hw533 => k0_hw533.1
theorem k0_off856_inb : ∀ (v2383 : BitVec 32) (k0_hw533 : k0_chk533 v2383), ∀ a, (k0_off856 v2383) a + S1x1x1024.size a ≤ S1x2048x1024.size a := fun v2383 k0_hw533 => k0_hw533.2

def k0_off857 (v2385 : BitVec 32) : Fin 3 → Nat :=
  let c0_1521 : Index := 0#32
  let v2434 : Index := Scalar.indexCast v2385
  let c0_1522 : Index := 0#32
  ![0, v2434.toNat, 0]

def k0_chk534 (v2385 : BitVec 32) : Prop :=
  (∀ a, (k0_off850 v2385) a + S1x1x1024.size a ≤ S1x2048x1024.size a) ∧
  (∀ a, (k0_off857 v2385) a + S1x1x1024.size a ≤ S1x2048x1024.size a)
theorem k0_off850_inb : ∀ (v2385 : BitVec 32) (k0_hw534 : k0_chk534 v2385), ∀ a, (k0_off850 v2385) a + S1x1x1024.size a ≤ S1x2048x1024.size a := fun v2385 k0_hw534 => k0_hw534.1
theorem k0_off857_inb : ∀ (v2385 : BitVec 32) (k0_hw534 : k0_chk534 v2385), ∀ a, (k0_off857 v2385) a + S1x1x1024.size a ≤ S1x2048x1024.size a := fun v2385 k0_hw534 => k0_hw534.2

def k0_off858 (v2387 : BitVec 32) : Fin 3 → Nat :=
  let c0_1523 : Index := 0#32
  let v2438 : Index := Scalar.indexCast v2387
  let c0_1524 : Index := 0#32
  ![0, v2438.toNat, 0]

def k0_chk535 (v2387 : BitVec 32) : Prop :=
  (∀ a, (k0_off852 v2387) a + S1x1x1024.size a ≤ S1x2048x1024.size a) ∧
  (∀ a, (k0_off858 v2387) a + S1x1x1024.size a ≤ S1x2048x1024.size a)
theorem k0_off852_inb : ∀ (v2387 : BitVec 32) (k0_hw535 : k0_chk535 v2387), ∀ a, (k0_off852 v2387) a + S1x1x1024.size a ≤ S1x2048x1024.size a := fun v2387 k0_hw535 => k0_hw535.1
theorem k0_off858_inb : ∀ (v2387 : BitVec 32) (k0_hw535 : k0_chk535 v2387), ∀ a, (k0_off858 v2387) a + S1x1x1024.size a ≤ S1x2048x1024.size a := fun v2387 k0_hw535 => k0_hw535.2

def k0_off859 (i : grid0.Coords) : Fin 3 → Nat :=
  let c0_1527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2446 : Index := Scalar.indexCast v2059
  let c24_1528 : Index := 24#32
  ![0, v2446.toNat, 24]
def k0_off860 (i : grid0.Coords) : Fin 3 → Nat :=
  let c0_1529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2448 : Index := Scalar.indexCast v2059
  let c25_1530 : Index := 25#32
  ![0, v2448.toNat, 25]
def k0_off861 (i : grid0.Coords) : Fin 3 → Nat :=
  let c0_1531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2450 : Index := Scalar.indexCast v2059
  let c26_1532 : Index := 26#32
  ![0, v2450.toNat, 26]
def k0_off862 (i : grid0.Coords) : Fin 3 → Nat :=
  let c0_1533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2452 : Index := Scalar.indexCast v2059
  let c27_1534 : Index := 27#32
  ![0, v2452.toNat, 27]
def k0_off863 (v2447 : BitVec 32) : Fin 3 → Nat :=
  let c0_1535 : Index := 0#32
  let v2454 : Index := Scalar.indexCast v2447
  let c0_1536 : Index := 0#32
  ![0, v2454.toNat, 0]

def k0_off864 (i : grid0.Coords) : Fin 3 → Nat :=
  let c0_1537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2457 : Index := Scalar.indexCast v2059
  let c24_1538 : Index := 24#32
  ![0, v2457.toNat, 24]
def k0_off865 (v2449 : BitVec 32) : Fin 3 → Nat :=
  let c0_1541 : Index := 0#32
  let v2464 : Index := Scalar.indexCast v2449
  let c0_1542 : Index := 0#32
  ![0, v2464.toNat, 0]

def k0_off866 (i : grid0.Coords) : Fin 3 → Nat :=
  let c0_1543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2467 : Index := Scalar.indexCast v2059
  let c25_1544 : Index := 25#32
  ![0, v2467.toNat, 25]
def k0_off867 (v2451 : BitVec 32) : Fin 3 → Nat :=
  let c0_1547 : Index := 0#32
  let v2474 : Index := Scalar.indexCast v2451
  let c0_1548 : Index := 0#32
  ![0, v2474.toNat, 0]

def k0_off868 (i : grid0.Coords) : Fin 3 → Nat :=
  let c0_1549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2477 : Index := Scalar.indexCast v2059
  let c26_1550 : Index := 26#32
  ![0, v2477.toNat, 26]
def k0_off869 (v2453 : BitVec 32) : Fin 3 → Nat :=
  let c0_1553 : Index := 0#32
  let v2484 : Index := Scalar.indexCast v2453
  let c0_1554 : Index := 0#32
  ![0, v2484.toNat, 0]

def k0_chk540 (v2453 : BitVec 32) : Prop :=
  (∀ a, (k0_off869 v2453) a + S1x1x1024.size a ≤ S1x2048x1024.size a)
theorem k0_off869_inb : ∀ (v2453 : BitVec 32) (k0_hw540 : k0_chk540 v2453), ∀ a, (k0_off869 v2453) a + S1x1x1024.size a ≤ S1x2048x1024.size a := fun v2453 k0_hw540 => k0_hw540

def k0_off870 (i : grid0.Coords) : Fin 3 → Nat :=
  let c0_1555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2487 : Index := Scalar.indexCast v2059
  let c27_1556 : Index := 27#32
  ![0, v2487.toNat, 27]
def k0_off871 (v2447 : BitVec 32) : Fin 3 → Nat :=
  let c0_1559 : Index := 0#32
  let v2494 : Index := Scalar.indexCast v2447
  let c0_1560 : Index := 0#32
  ![0, v2494.toNat, 0]

def k0_chk537 (v2447 : BitVec 32) : Prop :=
  (∀ a, (k0_off863 v2447) a + S1x1x1024.size a ≤ S1x2048x1024.size a) ∧
  (∀ a, (k0_off871 v2447) a + S1x1x1024.size a ≤ S1x2048x1024.size a)
theorem k0_off863_inb : ∀ (v2447 : BitVec 32) (k0_hw537 : k0_chk537 v2447), ∀ a, (k0_off863 v2447) a + S1x1x1024.size a ≤ S1x2048x1024.size a := fun v2447 k0_hw537 => k0_hw537.1
theorem k0_off871_inb : ∀ (v2447 : BitVec 32) (k0_hw537 : k0_chk537 v2447), ∀ a, (k0_off871 v2447) a + S1x1x1024.size a ≤ S1x2048x1024.size a := fun v2447 k0_hw537 => k0_hw537.2

def k0_off872 (v2449 : BitVec 32) : Fin 3 → Nat :=
  let c0_1561 : Index := 0#32
  let v2498 : Index := Scalar.indexCast v2449
  let c0_1562 : Index := 0#32
  ![0, v2498.toNat, 0]

def k0_chk538 (v2449 : BitVec 32) : Prop :=
  (∀ a, (k0_off865 v2449) a + S1x1x1024.size a ≤ S1x2048x1024.size a) ∧
  (∀ a, (k0_off872 v2449) a + S1x1x1024.size a ≤ S1x2048x1024.size a)
theorem k0_off865_inb : ∀ (v2449 : BitVec 32) (k0_hw538 : k0_chk538 v2449), ∀ a, (k0_off865 v2449) a + S1x1x1024.size a ≤ S1x2048x1024.size a := fun v2449 k0_hw538 => k0_hw538.1
theorem k0_off872_inb : ∀ (v2449 : BitVec 32) (k0_hw538 : k0_chk538 v2449), ∀ a, (k0_off872 v2449) a + S1x1x1024.size a ≤ S1x2048x1024.size a := fun v2449 k0_hw538 => k0_hw538.2

def k0_off873 (v2451 : BitVec 32) : Fin 3 → Nat :=
  let c0_1563 : Index := 0#32
  let v2502 : Index := Scalar.indexCast v2451
  let c0_1564 : Index := 0#32
  ![0, v2502.toNat, 0]

def k0_chk539 (v2451 : BitVec 32) : Prop :=
  (∀ a, (k0_off867 v2451) a + S1x1x1024.size a ≤ S1x2048x1024.size a) ∧
  (∀ a, (k0_off873 v2451) a + S1x1x1024.size a ≤ S1x2048x1024.size a)
theorem k0_off867_inb : ∀ (v2451 : BitVec 32) (k0_hw539 : k0_chk539 v2451), ∀ a, (k0_off867 v2451) a + S1x1x1024.size a ≤ S1x2048x1024.size a := fun v2451 k0_hw539 => k0_hw539.1
theorem k0_off873_inb : ∀ (v2451 : BitVec 32) (k0_hw539 : k0_chk539 v2451), ∀ a, (k0_off873 v2451) a + S1x1x1024.size a ≤ S1x2048x1024.size a := fun v2451 k0_hw539 => k0_hw539.2

def k0_off874 (i : grid0.Coords) : Fin 3 → Nat :=
  let c0_1567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2510 : Index := Scalar.indexCast v2059
  let c28_1568 : Index := 28#32
  ![0, v2510.toNat, 28]
def k0_off875 (i : grid0.Coords) : Fin 3 → Nat :=
  let c0_1569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2512 : Index := Scalar.indexCast v2059
  let c29_1570 : Index := 29#32
  ![0, v2512.toNat, 29]
def k0_off876 (i : grid0.Coords) : Fin 3 → Nat :=
  let c0_1571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2514 : Index := Scalar.indexCast v2059
  let c30_1572 : Index := 30#32
  ![0, v2514.toNat, 30]
def k0_off877 (i : grid0.Coords) : Fin 3 → Nat :=
  let c0_1573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2516 : Index := Scalar.indexCast v2059
  let c31_1574 : Index := 31#32
  ![0, v2516.toNat, 31]
def k0_off878 (v2511 : BitVec 32) : Fin 3 → Nat :=
  let c0_1575 : Index := 0#32
  let v2518 : Index := Scalar.indexCast v2511
  let c0_1576 : Index := 0#32
  ![0, v2518.toNat, 0]

def k0_off879 (i : grid0.Coords) : Fin 3 → Nat :=
  let c0_1577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2521 : Index := Scalar.indexCast v2059
  let c28_1578 : Index := 28#32
  ![0, v2521.toNat, 28]
def k0_off880 (v2513 : BitVec 32) : Fin 3 → Nat :=
  let c0_1581 : Index := 0#32
  let v2528 : Index := Scalar.indexCast v2513
  let c0_1582 : Index := 0#32
  ![0, v2528.toNat, 0]

def k0_off881 (i : grid0.Coords) : Fin 3 → Nat :=
  let c0_1583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2531 : Index := Scalar.indexCast v2059
  let c29_1584 : Index := 29#32
  ![0, v2531.toNat, 29]
def k0_off882 (v2515 : BitVec 32) : Fin 3 → Nat :=
  let c0_1587 : Index := 0#32
  let v2538 : Index := Scalar.indexCast v2515
  let c0_1588 : Index := 0#32
  ![0, v2538.toNat, 0]

def k0_off883 (i : grid0.Coords) : Fin 3 → Nat :=
  let c0_1589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2541 : Index := Scalar.indexCast v2059
  let c30_1590 : Index := 30#32
  ![0, v2541.toNat, 30]
def k0_off884 (v2517 : BitVec 32) : Fin 3 → Nat :=
  let c0_1593 : Index := 0#32
  let v2548 : Index := Scalar.indexCast v2517
  let c0_1594 : Index := 0#32
  ![0, v2548.toNat, 0]

def k0_chk544 (v2517 : BitVec 32) : Prop :=
  (∀ a, (k0_off884 v2517) a + S1x1x1024.size a ≤ S1x2048x1024.size a)
theorem k0_off884_inb : ∀ (v2517 : BitVec 32) (k0_hw544 : k0_chk544 v2517), ∀ a, (k0_off884 v2517) a + S1x1x1024.size a ≤ S1x2048x1024.size a := fun v2517 k0_hw544 => k0_hw544

def k0_off885 (i : grid0.Coords) : Fin 3 → Nat :=
  let c0_1595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2551 : Index := Scalar.indexCast v2059
  let c31_1596 : Index := 31#32
  ![0, v2551.toNat, 31]
def k0_off886 (v2511 : BitVec 32) : Fin 3 → Nat :=
  let c0_1599 : Index := 0#32
  let v2558 : Index := Scalar.indexCast v2511
  let c0_1600 : Index := 0#32
  ![0, v2558.toNat, 0]

def k0_chk541 (v2511 : BitVec 32) : Prop :=
  (∀ a, (k0_off878 v2511) a + S1x1x1024.size a ≤ S1x2048x1024.size a) ∧
  (∀ a, (k0_off886 v2511) a + S1x1x1024.size a ≤ S1x2048x1024.size a)
theorem k0_off878_inb : ∀ (v2511 : BitVec 32) (k0_hw541 : k0_chk541 v2511), ∀ a, (k0_off878 v2511) a + S1x1x1024.size a ≤ S1x2048x1024.size a := fun v2511 k0_hw541 => k0_hw541.1
theorem k0_off886_inb : ∀ (v2511 : BitVec 32) (k0_hw541 : k0_chk541 v2511), ∀ a, (k0_off886 v2511) a + S1x1x1024.size a ≤ S1x2048x1024.size a := fun v2511 k0_hw541 => k0_hw541.2

def k0_off887 (v2513 : BitVec 32) : Fin 3 → Nat :=
  let c0_1601 : Index := 0#32
  let v2562 : Index := Scalar.indexCast v2513
  let c0_1602 : Index := 0#32
  ![0, v2562.toNat, 0]

def k0_chk542 (v2513 : BitVec 32) : Prop :=
  (∀ a, (k0_off880 v2513) a + S1x1x1024.size a ≤ S1x2048x1024.size a) ∧
  (∀ a, (k0_off887 v2513) a + S1x1x1024.size a ≤ S1x2048x1024.size a)
theorem k0_off880_inb : ∀ (v2513 : BitVec 32) (k0_hw542 : k0_chk542 v2513), ∀ a, (k0_off880 v2513) a + S1x1x1024.size a ≤ S1x2048x1024.size a := fun v2513 k0_hw542 => k0_hw542.1
theorem k0_off887_inb : ∀ (v2513 : BitVec 32) (k0_hw542 : k0_chk542 v2513), ∀ a, (k0_off887 v2513) a + S1x1x1024.size a ≤ S1x2048x1024.size a := fun v2513 k0_hw542 => k0_hw542.2

def k0_off888 (v2515 : BitVec 32) : Fin 3 → Nat :=
  let c0_1603 : Index := 0#32
  let v2566 : Index := Scalar.indexCast v2515
  let c0_1604 : Index := 0#32
  ![0, v2566.toNat, 0]

def k0_chk543 (v2515 : BitVec 32) : Prop :=
  (∀ a, (k0_off882 v2515) a + S1x1x1024.size a ≤ S1x2048x1024.size a) ∧
  (∀ a, (k0_off888 v2515) a + S1x1x1024.size a ≤ S1x2048x1024.size a)
theorem k0_off882_inb : ∀ (v2515 : BitVec 32) (k0_hw543 : k0_chk543 v2515), ∀ a, (k0_off882 v2515) a + S1x1x1024.size a ≤ S1x2048x1024.size a := fun v2515 k0_hw543 => k0_hw543.1
theorem k0_off888_inb : ∀ (v2515 : BitVec 32) (k0_hw543 : k0_chk543 v2515), ∀ a, (k0_off888 v2515) a + S1x1x1024.size a ≤ S1x2048x1024.size a := fun v2515 k0_hw543 => k0_hw543.2

def k0_off889 (i : grid0.Coords) : Fin 3 → Nat :=
  let c0_1607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2574 : Index := Scalar.indexCast v2059
  let c32_1608 : Index := 32#32
  ![0, v2574.toNat, 32]
def k0_off890 (i : grid0.Coords) : Fin 3 → Nat :=
  let c0_1609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2576 : Index := Scalar.indexCast v2059
  let c33_1610 : Index := 33#32
  ![0, v2576.toNat, 33]
def k0_off891 (i : grid0.Coords) : Fin 3 → Nat :=
  let c0_1611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2578 : Index := Scalar.indexCast v2059
  let c34_1612 : Index := 34#32
  ![0, v2578.toNat, 34]
def k0_off892 (i : grid0.Coords) : Fin 3 → Nat :=
  let c0_1613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2580 : Index := Scalar.indexCast v2059
  let c35_1614 : Index := 35#32
  ![0, v2580.toNat, 35]
def k0_off893 (v2575 : BitVec 32) : Fin 3 → Nat :=
  let c0_1615 : Index := 0#32
  let v2582 : Index := Scalar.indexCast v2575
  let c0_1616 : Index := 0#32
  ![0, v2582.toNat, 0]

def k0_off894 (i : grid0.Coords) : Fin 3 → Nat :=
  let c0_1617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2585 : Index := Scalar.indexCast v2059
  let c32_1618 : Index := 32#32
  ![0, v2585.toNat, 32]
def k0_off895 (v2577 : BitVec 32) : Fin 3 → Nat :=
  let c0_1621 : Index := 0#32
  let v2592 : Index := Scalar.indexCast v2577
  let c0_1622 : Index := 0#32
  ![0, v2592.toNat, 0]

def k0_off896 (i : grid0.Coords) : Fin 3 → Nat :=
  let c0_1623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2595 : Index := Scalar.indexCast v2059
  let c33_1624 : Index := 33#32
  ![0, v2595.toNat, 33]
def k0_off897 (v2579 : BitVec 32) : Fin 3 → Nat :=
  let c0_1627 : Index := 0#32
  let v2602 : Index := Scalar.indexCast v2579
  let c0_1628 : Index := 0#32
  ![0, v2602.toNat, 0]

def k0_off898 (i : grid0.Coords) : Fin 3 → Nat :=
  let c0_1629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2605 : Index := Scalar.indexCast v2059
  let c34_1630 : Index := 34#32
  ![0, v2605.toNat, 34]
def k0_off899 (v2581 : BitVec 32) : Fin 3 → Nat :=
  let c0_1633 : Index := 0#32
  let v2612 : Index := Scalar.indexCast v2581
  let c0_1634 : Index := 0#32
  ![0, v2612.toNat, 0]

def k0_chk548 (v2581 : BitVec 32) : Prop :=
  (∀ a, (k0_off899 v2581) a + S1x1x1024.size a ≤ S1x2048x1024.size a)
theorem k0_off899_inb : ∀ (v2581 : BitVec 32) (k0_hw548 : k0_chk548 v2581), ∀ a, (k0_off899 v2581) a + S1x1x1024.size a ≤ S1x2048x1024.size a := fun v2581 k0_hw548 => k0_hw548

def k0_off900 (i : grid0.Coords) : Fin 3 → Nat :=
  let c0_1635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2615 : Index := Scalar.indexCast v2059
  let c35_1636 : Index := 35#32
  ![0, v2615.toNat, 35]
def k0_off901 (v2575 : BitVec 32) : Fin 3 → Nat :=
  let c0_1639 : Index := 0#32
  let v2622 : Index := Scalar.indexCast v2575
  let c0_1640 : Index := 0#32
  ![0, v2622.toNat, 0]

def k0_chk545 (v2575 : BitVec 32) : Prop :=
  (∀ a, (k0_off893 v2575) a + S1x1x1024.size a ≤ S1x2048x1024.size a) ∧
  (∀ a, (k0_off901 v2575) a + S1x1x1024.size a ≤ S1x2048x1024.size a)
theorem k0_off893_inb : ∀ (v2575 : BitVec 32) (k0_hw545 : k0_chk545 v2575), ∀ a, (k0_off893 v2575) a + S1x1x1024.size a ≤ S1x2048x1024.size a := fun v2575 k0_hw545 => k0_hw545.1
theorem k0_off901_inb : ∀ (v2575 : BitVec 32) (k0_hw545 : k0_chk545 v2575), ∀ a, (k0_off901 v2575) a + S1x1x1024.size a ≤ S1x2048x1024.size a := fun v2575 k0_hw545 => k0_hw545.2

def k0_off902 (v2577 : BitVec 32) : Fin 3 → Nat :=
  let c0_1641 : Index := 0#32
  let v2626 : Index := Scalar.indexCast v2577
  let c0_1642 : Index := 0#32
  ![0, v2626.toNat, 0]

def k0_chk546 (v2577 : BitVec 32) : Prop :=
  (∀ a, (k0_off895 v2577) a + S1x1x1024.size a ≤ S1x2048x1024.size a) ∧
  (∀ a, (k0_off902 v2577) a + S1x1x1024.size a ≤ S1x2048x1024.size a)
theorem k0_off895_inb : ∀ (v2577 : BitVec 32) (k0_hw546 : k0_chk546 v2577), ∀ a, (k0_off895 v2577) a + S1x1x1024.size a ≤ S1x2048x1024.size a := fun v2577 k0_hw546 => k0_hw546.1
theorem k0_off902_inb : ∀ (v2577 : BitVec 32) (k0_hw546 : k0_chk546 v2577), ∀ a, (k0_off902 v2577) a + S1x1x1024.size a ≤ S1x2048x1024.size a := fun v2577 k0_hw546 => k0_hw546.2

def k0_off903 (v2579 : BitVec 32) : Fin 3 → Nat :=
  let c0_1643 : Index := 0#32
  let v2630 : Index := Scalar.indexCast v2579
  let c0_1644 : Index := 0#32
  ![0, v2630.toNat, 0]

def k0_chk547 (v2579 : BitVec 32) : Prop :=
  (∀ a, (k0_off897 v2579) a + S1x1x1024.size a ≤ S1x2048x1024.size a) ∧
  (∀ a, (k0_off903 v2579) a + S1x1x1024.size a ≤ S1x2048x1024.size a)
theorem k0_off897_inb : ∀ (v2579 : BitVec 32) (k0_hw547 : k0_chk547 v2579), ∀ a, (k0_off897 v2579) a + S1x1x1024.size a ≤ S1x2048x1024.size a := fun v2579 k0_hw547 => k0_hw547.1
theorem k0_off903_inb : ∀ (v2579 : BitVec 32) (k0_hw547 : k0_chk547 v2579), ∀ a, (k0_off903 v2579) a + S1x1x1024.size a ≤ S1x2048x1024.size a := fun v2579 k0_hw547 => k0_hw547.2

def k0_off904 (i : grid0.Coords) : Fin 3 → Nat :=
  let c0_1647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2638 : Index := Scalar.indexCast v2059
  let c36_1648 : Index := 36#32
  ![0, v2638.toNat, 36]
def k0_off905 (i : grid0.Coords) : Fin 3 → Nat :=
  let c0_1649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2640 : Index := Scalar.indexCast v2059
  let c37_1650 : Index := 37#32
  ![0, v2640.toNat, 37]
def k0_off906 (i : grid0.Coords) : Fin 3 → Nat :=
  let c0_1651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2642 : Index := Scalar.indexCast v2059
  let c38_1652 : Index := 38#32
  ![0, v2642.toNat, 38]
def k0_off907 (i : grid0.Coords) : Fin 3 → Nat :=
  let c0_1653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2644 : Index := Scalar.indexCast v2059
  let c39_1654 : Index := 39#32
  ![0, v2644.toNat, 39]
def k0_off908 (v2639 : BitVec 32) : Fin 3 → Nat :=
  let c0_1655 : Index := 0#32
  let v2646 : Index := Scalar.indexCast v2639
  let c0_1656 : Index := 0#32
  ![0, v2646.toNat, 0]

def k0_off909 (i : grid0.Coords) : Fin 3 → Nat :=
  let c0_1657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2649 : Index := Scalar.indexCast v2059
  let c36_1658 : Index := 36#32
  ![0, v2649.toNat, 36]
def k0_off910 (v2641 : BitVec 32) : Fin 3 → Nat :=
  let c0_1661 : Index := 0#32
  let v2656 : Index := Scalar.indexCast v2641
  let c0_1662 : Index := 0#32
  ![0, v2656.toNat, 0]

def k0_off911 (i : grid0.Coords) : Fin 3 → Nat :=
  let c0_1663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2659 : Index := Scalar.indexCast v2059
  let c37_1664 : Index := 37#32
  ![0, v2659.toNat, 37]
def k0_off912 (v2643 : BitVec 32) : Fin 3 → Nat :=
  let c0_1667 : Index := 0#32
  let v2666 : Index := Scalar.indexCast v2643
  let c0_1668 : Index := 0#32
  ![0, v2666.toNat, 0]

def k0_off913 (i : grid0.Coords) : Fin 3 → Nat :=
  let c0_1669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2669 : Index := Scalar.indexCast v2059
  let c38_1670 : Index := 38#32
  ![0, v2669.toNat, 38]
def k0_off914 (v2645 : BitVec 32) : Fin 3 → Nat :=
  let c0_1673 : Index := 0#32
  let v2676 : Index := Scalar.indexCast v2645
  let c0_1674 : Index := 0#32
  ![0, v2676.toNat, 0]

def k0_chk552 (v2645 : BitVec 32) : Prop :=
  (∀ a, (k0_off914 v2645) a + S1x1x1024.size a ≤ S1x2048x1024.size a)
theorem k0_off914_inb : ∀ (v2645 : BitVec 32) (k0_hw552 : k0_chk552 v2645), ∀ a, (k0_off914 v2645) a + S1x1x1024.size a ≤ S1x2048x1024.size a := fun v2645 k0_hw552 => k0_hw552

def k0_off915 (i : grid0.Coords) : Fin 3 → Nat :=
  let c0_1675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2679 : Index := Scalar.indexCast v2059
  let c39_1676 : Index := 39#32
  ![0, v2679.toNat, 39]
def k0_off916 (v2639 : BitVec 32) : Fin 3 → Nat :=
  let c0_1679 : Index := 0#32
  let v2686 : Index := Scalar.indexCast v2639
  let c0_1680 : Index := 0#32
  ![0, v2686.toNat, 0]

def k0_chk549 (v2639 : BitVec 32) : Prop :=
  (∀ a, (k0_off908 v2639) a + S1x1x1024.size a ≤ S1x2048x1024.size a) ∧
  (∀ a, (k0_off916 v2639) a + S1x1x1024.size a ≤ S1x2048x1024.size a)
theorem k0_off908_inb : ∀ (v2639 : BitVec 32) (k0_hw549 : k0_chk549 v2639), ∀ a, (k0_off908 v2639) a + S1x1x1024.size a ≤ S1x2048x1024.size a := fun v2639 k0_hw549 => k0_hw549.1
theorem k0_off916_inb : ∀ (v2639 : BitVec 32) (k0_hw549 : k0_chk549 v2639), ∀ a, (k0_off916 v2639) a + S1x1x1024.size a ≤ S1x2048x1024.size a := fun v2639 k0_hw549 => k0_hw549.2

def k0_off917 (v2641 : BitVec 32) : Fin 3 → Nat :=
  let c0_1681 : Index := 0#32
  let v2690 : Index := Scalar.indexCast v2641
  let c0_1682 : Index := 0#32
  ![0, v2690.toNat, 0]

def k0_chk550 (v2641 : BitVec 32) : Prop :=
  (∀ a, (k0_off910 v2641) a + S1x1x1024.size a ≤ S1x2048x1024.size a) ∧
  (∀ a, (k0_off917 v2641) a + S1x1x1024.size a ≤ S1x2048x1024.size a)
theorem k0_off910_inb : ∀ (v2641 : BitVec 32) (k0_hw550 : k0_chk550 v2641), ∀ a, (k0_off910 v2641) a + S1x1x1024.size a ≤ S1x2048x1024.size a := fun v2641 k0_hw550 => k0_hw550.1
theorem k0_off917_inb : ∀ (v2641 : BitVec 32) (k0_hw550 : k0_chk550 v2641), ∀ a, (k0_off917 v2641) a + S1x1x1024.size a ≤ S1x2048x1024.size a := fun v2641 k0_hw550 => k0_hw550.2

def k0_off918 (v2643 : BitVec 32) : Fin 3 → Nat :=
  let c0_1683 : Index := 0#32
  let v2694 : Index := Scalar.indexCast v2643
  let c0_1684 : Index := 0#32
  ![0, v2694.toNat, 0]

def k0_chk551 (v2643 : BitVec 32) : Prop :=
  (∀ a, (k0_off912 v2643) a + S1x1x1024.size a ≤ S1x2048x1024.size a) ∧
  (∀ a, (k0_off918 v2643) a + S1x1x1024.size a ≤ S1x2048x1024.size a)
theorem k0_off912_inb : ∀ (v2643 : BitVec 32) (k0_hw551 : k0_chk551 v2643), ∀ a, (k0_off912 v2643) a + S1x1x1024.size a ≤ S1x2048x1024.size a := fun v2643 k0_hw551 => k0_hw551.1
theorem k0_off918_inb : ∀ (v2643 : BitVec 32) (k0_hw551 : k0_chk551 v2643), ∀ a, (k0_off918 v2643) a + S1x1x1024.size a ≤ S1x2048x1024.size a := fun v2643 k0_hw551 => k0_hw551.2

def k0_off919 (i : grid0.Coords) : Fin 3 → Nat :=
  let c0_1687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2702 : Index := Scalar.indexCast v2059
  let c40_1688 : Index := 40#32
  ![0, v2702.toNat, 40]
def k0_off920 (i : grid0.Coords) : Fin 3 → Nat :=
  let c0_1689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2704 : Index := Scalar.indexCast v2059
  let c41_1690 : Index := 41#32
  ![0, v2704.toNat, 41]
def k0_off921 (i : grid0.Coords) : Fin 3 → Nat :=
  let c0_1691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2706 : Index := Scalar.indexCast v2059
  let c42_1692 : Index := 42#32
  ![0, v2706.toNat, 42]
def k0_off922 (i : grid0.Coords) : Fin 3 → Nat :=
  let c0_1693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2708 : Index := Scalar.indexCast v2059
  let c43_1694 : Index := 43#32
  ![0, v2708.toNat, 43]
def k0_off923 (v2703 : BitVec 32) : Fin 3 → Nat :=
  let c0_1695 : Index := 0#32
  let v2710 : Index := Scalar.indexCast v2703
  let c0_1696 : Index := 0#32
  ![0, v2710.toNat, 0]

def k0_off924 (i : grid0.Coords) : Fin 3 → Nat :=
  let c0_1697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2713 : Index := Scalar.indexCast v2059
  let c40_1698 : Index := 40#32
  ![0, v2713.toNat, 40]
def k0_off925 (v2705 : BitVec 32) : Fin 3 → Nat :=
  let c0_1701 : Index := 0#32
  let v2720 : Index := Scalar.indexCast v2705
  let c0_1702 : Index := 0#32
  ![0, v2720.toNat, 0]

def k0_off926 (i : grid0.Coords) : Fin 3 → Nat :=
  let c0_1703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2723 : Index := Scalar.indexCast v2059
  let c41_1704 : Index := 41#32
  ![0, v2723.toNat, 41]
def k0_off927 (v2707 : BitVec 32) : Fin 3 → Nat :=
  let c0_1707 : Index := 0#32
  let v2730 : Index := Scalar.indexCast v2707
  let c0_1708 : Index := 0#32
  ![0, v2730.toNat, 0]

def k0_off928 (i : grid0.Coords) : Fin 3 → Nat :=
  let c0_1709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2733 : Index := Scalar.indexCast v2059
  let c42_1710 : Index := 42#32
  ![0, v2733.toNat, 42]
def k0_off929 (v2709 : BitVec 32) : Fin 3 → Nat :=
  let c0_1713 : Index := 0#32
  let v2740 : Index := Scalar.indexCast v2709
  let c0_1714 : Index := 0#32
  ![0, v2740.toNat, 0]

def k0_chk556 (v2709 : BitVec 32) : Prop :=
  (∀ a, (k0_off929 v2709) a + S1x1x1024.size a ≤ S1x2048x1024.size a)
theorem k0_off929_inb : ∀ (v2709 : BitVec 32) (k0_hw556 : k0_chk556 v2709), ∀ a, (k0_off929 v2709) a + S1x1x1024.size a ≤ S1x2048x1024.size a := fun v2709 k0_hw556 => k0_hw556

def k0_off930 (i : grid0.Coords) : Fin 3 → Nat :=
  let c0_1715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2743 : Index := Scalar.indexCast v2059
  let c43_1716 : Index := 43#32
  ![0, v2743.toNat, 43]
def k0_off931 (v2703 : BitVec 32) : Fin 3 → Nat :=
  let c0_1719 : Index := 0#32
  let v2750 : Index := Scalar.indexCast v2703
  let c0_1720 : Index := 0#32
  ![0, v2750.toNat, 0]

def k0_chk553 (v2703 : BitVec 32) : Prop :=
  (∀ a, (k0_off923 v2703) a + S1x1x1024.size a ≤ S1x2048x1024.size a) ∧
  (∀ a, (k0_off931 v2703) a + S1x1x1024.size a ≤ S1x2048x1024.size a)
theorem k0_off923_inb : ∀ (v2703 : BitVec 32) (k0_hw553 : k0_chk553 v2703), ∀ a, (k0_off923 v2703) a + S1x1x1024.size a ≤ S1x2048x1024.size a := fun v2703 k0_hw553 => k0_hw553.1
theorem k0_off931_inb : ∀ (v2703 : BitVec 32) (k0_hw553 : k0_chk553 v2703), ∀ a, (k0_off931 v2703) a + S1x1x1024.size a ≤ S1x2048x1024.size a := fun v2703 k0_hw553 => k0_hw553.2

def k0_off932 (v2705 : BitVec 32) : Fin 3 → Nat :=
  let c0_1721 : Index := 0#32
  let v2754 : Index := Scalar.indexCast v2705
  let c0_1722 : Index := 0#32
  ![0, v2754.toNat, 0]

def k0_chk554 (v2705 : BitVec 32) : Prop :=
  (∀ a, (k0_off925 v2705) a + S1x1x1024.size a ≤ S1x2048x1024.size a) ∧
  (∀ a, (k0_off932 v2705) a + S1x1x1024.size a ≤ S1x2048x1024.size a)
theorem k0_off925_inb : ∀ (v2705 : BitVec 32) (k0_hw554 : k0_chk554 v2705), ∀ a, (k0_off925 v2705) a + S1x1x1024.size a ≤ S1x2048x1024.size a := fun v2705 k0_hw554 => k0_hw554.1
theorem k0_off932_inb : ∀ (v2705 : BitVec 32) (k0_hw554 : k0_chk554 v2705), ∀ a, (k0_off932 v2705) a + S1x1x1024.size a ≤ S1x2048x1024.size a := fun v2705 k0_hw554 => k0_hw554.2

def k0_off933 (v2707 : BitVec 32) : Fin 3 → Nat :=
  let c0_1723 : Index := 0#32
  let v2758 : Index := Scalar.indexCast v2707
  let c0_1724 : Index := 0#32
  ![0, v2758.toNat, 0]

def k0_chk555 (v2707 : BitVec 32) : Prop :=
  (∀ a, (k0_off927 v2707) a + S1x1x1024.size a ≤ S1x2048x1024.size a) ∧
  (∀ a, (k0_off933 v2707) a + S1x1x1024.size a ≤ S1x2048x1024.size a)
theorem k0_off927_inb : ∀ (v2707 : BitVec 32) (k0_hw555 : k0_chk555 v2707), ∀ a, (k0_off927 v2707) a + S1x1x1024.size a ≤ S1x2048x1024.size a := fun v2707 k0_hw555 => k0_hw555.1
theorem k0_off933_inb : ∀ (v2707 : BitVec 32) (k0_hw555 : k0_chk555 v2707), ∀ a, (k0_off933 v2707) a + S1x1x1024.size a ≤ S1x2048x1024.size a := fun v2707 k0_hw555 => k0_hw555.2

def k0_off934 (i : grid0.Coords) : Fin 3 → Nat :=
  let c0_1727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2766 : Index := Scalar.indexCast v2059
  let c44_1728 : Index := 44#32
  ![0, v2766.toNat, 44]
def k0_off935 (i : grid0.Coords) : Fin 3 → Nat :=
  let c0_1729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2768 : Index := Scalar.indexCast v2059
  let c45_1730 : Index := 45#32
  ![0, v2768.toNat, 45]
def k0_off936 (i : grid0.Coords) : Fin 3 → Nat :=
  let c0_1731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2770 : Index := Scalar.indexCast v2059
  let c46_1732 : Index := 46#32
  ![0, v2770.toNat, 46]
def k0_off937 (i : grid0.Coords) : Fin 3 → Nat :=
  let c0_1733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2772 : Index := Scalar.indexCast v2059
  let c47_1734 : Index := 47#32
  ![0, v2772.toNat, 47]
def k0_off938 (v2767 : BitVec 32) : Fin 3 → Nat :=
  let c0_1735 : Index := 0#32
  let v2774 : Index := Scalar.indexCast v2767
  let c0_1736 : Index := 0#32
  ![0, v2774.toNat, 0]

def k0_off939 (i : grid0.Coords) : Fin 3 → Nat :=
  let c0_1737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2777 : Index := Scalar.indexCast v2059
  let c44_1738 : Index := 44#32
  ![0, v2777.toNat, 44]
def k0_off940 (v2769 : BitVec 32) : Fin 3 → Nat :=
  let c0_1741 : Index := 0#32
  let v2784 : Index := Scalar.indexCast v2769
  let c0_1742 : Index := 0#32
  ![0, v2784.toNat, 0]

def k0_off941 (i : grid0.Coords) : Fin 3 → Nat :=
  let c0_1743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2787 : Index := Scalar.indexCast v2059
  let c45_1744 : Index := 45#32
  ![0, v2787.toNat, 45]
def k0_off942 (v2771 : BitVec 32) : Fin 3 → Nat :=
  let c0_1747 : Index := 0#32
  let v2794 : Index := Scalar.indexCast v2771
  let c0_1748 : Index := 0#32
  ![0, v2794.toNat, 0]

def k0_off943 (i : grid0.Coords) : Fin 3 → Nat :=
  let c0_1749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2797 : Index := Scalar.indexCast v2059
  let c46_1750 : Index := 46#32
  ![0, v2797.toNat, 46]
def k0_off944 (v2773 : BitVec 32) : Fin 3 → Nat :=
  let c0_1753 : Index := 0#32
  let v2804 : Index := Scalar.indexCast v2773
  let c0_1754 : Index := 0#32
  ![0, v2804.toNat, 0]

def k0_chk560 (v2773 : BitVec 32) : Prop :=
  (∀ a, (k0_off944 v2773) a + S1x1x1024.size a ≤ S1x2048x1024.size a)
theorem k0_off944_inb : ∀ (v2773 : BitVec 32) (k0_hw560 : k0_chk560 v2773), ∀ a, (k0_off944 v2773) a + S1x1x1024.size a ≤ S1x2048x1024.size a := fun v2773 k0_hw560 => k0_hw560

def k0_off945 (i : grid0.Coords) : Fin 3 → Nat :=
  let c0_1755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2807 : Index := Scalar.indexCast v2059
  let c47_1756 : Index := 47#32
  ![0, v2807.toNat, 47]
def k0_off946 (v2767 : BitVec 32) : Fin 3 → Nat :=
  let c0_1759 : Index := 0#32
  let v2814 : Index := Scalar.indexCast v2767
  let c0_1760 : Index := 0#32
  ![0, v2814.toNat, 0]

def k0_chk557 (v2767 : BitVec 32) : Prop :=
  (∀ a, (k0_off938 v2767) a + S1x1x1024.size a ≤ S1x2048x1024.size a) ∧
  (∀ a, (k0_off946 v2767) a + S1x1x1024.size a ≤ S1x2048x1024.size a)
theorem k0_off938_inb : ∀ (v2767 : BitVec 32) (k0_hw557 : k0_chk557 v2767), ∀ a, (k0_off938 v2767) a + S1x1x1024.size a ≤ S1x2048x1024.size a := fun v2767 k0_hw557 => k0_hw557.1
theorem k0_off946_inb : ∀ (v2767 : BitVec 32) (k0_hw557 : k0_chk557 v2767), ∀ a, (k0_off946 v2767) a + S1x1x1024.size a ≤ S1x2048x1024.size a := fun v2767 k0_hw557 => k0_hw557.2

def k0_off947 (v2769 : BitVec 32) : Fin 3 → Nat :=
  let c0_1761 : Index := 0#32
  let v2818 : Index := Scalar.indexCast v2769
  let c0_1762 : Index := 0#32
  ![0, v2818.toNat, 0]

def k0_chk558 (v2769 : BitVec 32) : Prop :=
  (∀ a, (k0_off940 v2769) a + S1x1x1024.size a ≤ S1x2048x1024.size a) ∧
  (∀ a, (k0_off947 v2769) a + S1x1x1024.size a ≤ S1x2048x1024.size a)
theorem k0_off940_inb : ∀ (v2769 : BitVec 32) (k0_hw558 : k0_chk558 v2769), ∀ a, (k0_off940 v2769) a + S1x1x1024.size a ≤ S1x2048x1024.size a := fun v2769 k0_hw558 => k0_hw558.1
theorem k0_off947_inb : ∀ (v2769 : BitVec 32) (k0_hw558 : k0_chk558 v2769), ∀ a, (k0_off947 v2769) a + S1x1x1024.size a ≤ S1x2048x1024.size a := fun v2769 k0_hw558 => k0_hw558.2

def k0_off948 (v2771 : BitVec 32) : Fin 3 → Nat :=
  let c0_1763 : Index := 0#32
  let v2822 : Index := Scalar.indexCast v2771
  let c0_1764 : Index := 0#32
  ![0, v2822.toNat, 0]

def k0_chk559 (v2771 : BitVec 32) : Prop :=
  (∀ a, (k0_off942 v2771) a + S1x1x1024.size a ≤ S1x2048x1024.size a) ∧
  (∀ a, (k0_off948 v2771) a + S1x1x1024.size a ≤ S1x2048x1024.size a)
theorem k0_off942_inb : ∀ (v2771 : BitVec 32) (k0_hw559 : k0_chk559 v2771), ∀ a, (k0_off942 v2771) a + S1x1x1024.size a ≤ S1x2048x1024.size a := fun v2771 k0_hw559 => k0_hw559.1
theorem k0_off948_inb : ∀ (v2771 : BitVec 32) (k0_hw559 : k0_chk559 v2771), ∀ a, (k0_off948 v2771) a + S1x1x1024.size a ≤ S1x2048x1024.size a := fun v2771 k0_hw559 => k0_hw559.2

def k0_off949 (i : grid0.Coords) : Fin 3 → Nat :=
  let c0_1767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2830 : Index := Scalar.indexCast v2059
  let c48_1768 : Index := 48#32
  ![0, v2830.toNat, 48]
def k0_off950 (i : grid0.Coords) : Fin 3 → Nat :=
  let c0_1769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2832 : Index := Scalar.indexCast v2059
  let c49_1770 : Index := 49#32
  ![0, v2832.toNat, 49]
def k0_off951 (i : grid0.Coords) : Fin 3 → Nat :=
  let c0_1771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2834 : Index := Scalar.indexCast v2059
  let c50_1772 : Index := 50#32
  ![0, v2834.toNat, 50]
def k0_off952 (i : grid0.Coords) : Fin 3 → Nat :=
  let c0_1773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2836 : Index := Scalar.indexCast v2059
  let c51_1774 : Index := 51#32
  ![0, v2836.toNat, 51]
def k0_off953 (v2831 : BitVec 32) : Fin 3 → Nat :=
  let c0_1775 : Index := 0#32
  let v2838 : Index := Scalar.indexCast v2831
  let c0_1776 : Index := 0#32
  ![0, v2838.toNat, 0]

def k0_off954 (i : grid0.Coords) : Fin 3 → Nat :=
  let c0_1777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2841 : Index := Scalar.indexCast v2059
  let c48_1778 : Index := 48#32
  ![0, v2841.toNat, 48]
def k0_off955 (v2833 : BitVec 32) : Fin 3 → Nat :=
  let c0_1781 : Index := 0#32
  let v2848 : Index := Scalar.indexCast v2833
  let c0_1782 : Index := 0#32
  ![0, v2848.toNat, 0]

def k0_off956 (i : grid0.Coords) : Fin 3 → Nat :=
  let c0_1783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2851 : Index := Scalar.indexCast v2059
  let c49_1784 : Index := 49#32
  ![0, v2851.toNat, 49]
def k0_off957 (v2835 : BitVec 32) : Fin 3 → Nat :=
  let c0_1787 : Index := 0#32
  let v2858 : Index := Scalar.indexCast v2835
  let c0_1788 : Index := 0#32
  ![0, v2858.toNat, 0]

def k0_off958 (i : grid0.Coords) : Fin 3 → Nat :=
  let c0_1789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2861 : Index := Scalar.indexCast v2059
  let c50_1790 : Index := 50#32
  ![0, v2861.toNat, 50]
def k0_off959 (v2837 : BitVec 32) : Fin 3 → Nat :=
  let c0_1793 : Index := 0#32
  let v2868 : Index := Scalar.indexCast v2837
  let c0_1794 : Index := 0#32
  ![0, v2868.toNat, 0]

def k0_chk564 (v2837 : BitVec 32) : Prop :=
  (∀ a, (k0_off959 v2837) a + S1x1x1024.size a ≤ S1x2048x1024.size a)
theorem k0_off959_inb : ∀ (v2837 : BitVec 32) (k0_hw564 : k0_chk564 v2837), ∀ a, (k0_off959 v2837) a + S1x1x1024.size a ≤ S1x2048x1024.size a := fun v2837 k0_hw564 => k0_hw564

def k0_off960 (i : grid0.Coords) : Fin 3 → Nat :=
  let c0_1795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2871 : Index := Scalar.indexCast v2059
  let c51_1796 : Index := 51#32
  ![0, v2871.toNat, 51]
def k0_off961 (v2831 : BitVec 32) : Fin 3 → Nat :=
  let c0_1799 : Index := 0#32
  let v2878 : Index := Scalar.indexCast v2831
  let c0_1800 : Index := 0#32
  ![0, v2878.toNat, 0]

def k0_chk561 (v2831 : BitVec 32) : Prop :=
  (∀ a, (k0_off953 v2831) a + S1x1x1024.size a ≤ S1x2048x1024.size a) ∧
  (∀ a, (k0_off961 v2831) a + S1x1x1024.size a ≤ S1x2048x1024.size a)
theorem k0_off953_inb : ∀ (v2831 : BitVec 32) (k0_hw561 : k0_chk561 v2831), ∀ a, (k0_off953 v2831) a + S1x1x1024.size a ≤ S1x2048x1024.size a := fun v2831 k0_hw561 => k0_hw561.1
theorem k0_off961_inb : ∀ (v2831 : BitVec 32) (k0_hw561 : k0_chk561 v2831), ∀ a, (k0_off961 v2831) a + S1x1x1024.size a ≤ S1x2048x1024.size a := fun v2831 k0_hw561 => k0_hw561.2

def k0_off962 (v2833 : BitVec 32) : Fin 3 → Nat :=
  let c0_1801 : Index := 0#32
  let v2882 : Index := Scalar.indexCast v2833
  let c0_1802 : Index := 0#32
  ![0, v2882.toNat, 0]

def k0_chk562 (v2833 : BitVec 32) : Prop :=
  (∀ a, (k0_off955 v2833) a + S1x1x1024.size a ≤ S1x2048x1024.size a) ∧
  (∀ a, (k0_off962 v2833) a + S1x1x1024.size a ≤ S1x2048x1024.size a)
theorem k0_off955_inb : ∀ (v2833 : BitVec 32) (k0_hw562 : k0_chk562 v2833), ∀ a, (k0_off955 v2833) a + S1x1x1024.size a ≤ S1x2048x1024.size a := fun v2833 k0_hw562 => k0_hw562.1
theorem k0_off962_inb : ∀ (v2833 : BitVec 32) (k0_hw562 : k0_chk562 v2833), ∀ a, (k0_off962 v2833) a + S1x1x1024.size a ≤ S1x2048x1024.size a := fun v2833 k0_hw562 => k0_hw562.2

def k0_off963 (v2835 : BitVec 32) : Fin 3 → Nat :=
  let c0_1803 : Index := 0#32
  let v2886 : Index := Scalar.indexCast v2835
  let c0_1804 : Index := 0#32
  ![0, v2886.toNat, 0]

def k0_chk563 (v2835 : BitVec 32) : Prop :=
  (∀ a, (k0_off957 v2835) a + S1x1x1024.size a ≤ S1x2048x1024.size a) ∧
  (∀ a, (k0_off963 v2835) a + S1x1x1024.size a ≤ S1x2048x1024.size a)
theorem k0_off957_inb : ∀ (v2835 : BitVec 32) (k0_hw563 : k0_chk563 v2835), ∀ a, (k0_off957 v2835) a + S1x1x1024.size a ≤ S1x2048x1024.size a := fun v2835 k0_hw563 => k0_hw563.1
theorem k0_off963_inb : ∀ (v2835 : BitVec 32) (k0_hw563 : k0_chk563 v2835), ∀ a, (k0_off963 v2835) a + S1x1x1024.size a ≤ S1x2048x1024.size a := fun v2835 k0_hw563 => k0_hw563.2

def k0_off964 (i : grid0.Coords) : Fin 3 → Nat :=
  let c0_1807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2894 : Index := Scalar.indexCast v2059
  let c52_1808 : Index := 52#32
  ![0, v2894.toNat, 52]
def k0_off965 (i : grid0.Coords) : Fin 3 → Nat :=
  let c0_1809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2896 : Index := Scalar.indexCast v2059
  let c53_1810 : Index := 53#32
  ![0, v2896.toNat, 53]
def k0_off966 (i : grid0.Coords) : Fin 3 → Nat :=
  let c0_1811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2898 : Index := Scalar.indexCast v2059
  let c54_1812 : Index := 54#32
  ![0, v2898.toNat, 54]
def k0_off967 (i : grid0.Coords) : Fin 3 → Nat :=
  let c0_1813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2900 : Index := Scalar.indexCast v2059
  let c55_1814 : Index := 55#32
  ![0, v2900.toNat, 55]
def k0_off968 (v2895 : BitVec 32) : Fin 3 → Nat :=
  let c0_1815 : Index := 0#32
  let v2902 : Index := Scalar.indexCast v2895
  let c0_1816 : Index := 0#32
  ![0, v2902.toNat, 0]

def k0_off969 (i : grid0.Coords) : Fin 3 → Nat :=
  let c0_1817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2905 : Index := Scalar.indexCast v2059
  let c52_1818 : Index := 52#32
  ![0, v2905.toNat, 52]
def k0_off970 (v2897 : BitVec 32) : Fin 3 → Nat :=
  let c0_1821 : Index := 0#32
  let v2912 : Index := Scalar.indexCast v2897
  let c0_1822 : Index := 0#32
  ![0, v2912.toNat, 0]

def k0_off971 (i : grid0.Coords) : Fin 3 → Nat :=
  let c0_1823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2915 : Index := Scalar.indexCast v2059
  let c53_1824 : Index := 53#32
  ![0, v2915.toNat, 53]
def k0_off972 (v2899 : BitVec 32) : Fin 3 → Nat :=
  let c0_1827 : Index := 0#32
  let v2922 : Index := Scalar.indexCast v2899
  let c0_1828 : Index := 0#32
  ![0, v2922.toNat, 0]

def k0_off973 (i : grid0.Coords) : Fin 3 → Nat :=
  let c0_1829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2925 : Index := Scalar.indexCast v2059
  let c54_1830 : Index := 54#32
  ![0, v2925.toNat, 54]
def k0_off974 (v2901 : BitVec 32) : Fin 3 → Nat :=
  let c0_1833 : Index := 0#32
  let v2932 : Index := Scalar.indexCast v2901
  let c0_1834 : Index := 0#32
  ![0, v2932.toNat, 0]

def k0_chk568 (v2901 : BitVec 32) : Prop :=
  (∀ a, (k0_off974 v2901) a + S1x1x1024.size a ≤ S1x2048x1024.size a)
theorem k0_off974_inb : ∀ (v2901 : BitVec 32) (k0_hw568 : k0_chk568 v2901), ∀ a, (k0_off974 v2901) a + S1x1x1024.size a ≤ S1x2048x1024.size a := fun v2901 k0_hw568 => k0_hw568

def k0_off975 (i : grid0.Coords) : Fin 3 → Nat :=
  let c0_1835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2935 : Index := Scalar.indexCast v2059
  let c55_1836 : Index := 55#32
  ![0, v2935.toNat, 55]
def k0_off976 (v2895 : BitVec 32) : Fin 3 → Nat :=
  let c0_1839 : Index := 0#32
  let v2942 : Index := Scalar.indexCast v2895
  let c0_1840 : Index := 0#32
  ![0, v2942.toNat, 0]

def k0_chk565 (v2895 : BitVec 32) : Prop :=
  (∀ a, (k0_off968 v2895) a + S1x1x1024.size a ≤ S1x2048x1024.size a) ∧
  (∀ a, (k0_off976 v2895) a + S1x1x1024.size a ≤ S1x2048x1024.size a)
theorem k0_off968_inb : ∀ (v2895 : BitVec 32) (k0_hw565 : k0_chk565 v2895), ∀ a, (k0_off968 v2895) a + S1x1x1024.size a ≤ S1x2048x1024.size a := fun v2895 k0_hw565 => k0_hw565.1
theorem k0_off976_inb : ∀ (v2895 : BitVec 32) (k0_hw565 : k0_chk565 v2895), ∀ a, (k0_off976 v2895) a + S1x1x1024.size a ≤ S1x2048x1024.size a := fun v2895 k0_hw565 => k0_hw565.2

def k0_off977 (v2897 : BitVec 32) : Fin 3 → Nat :=
  let c0_1841 : Index := 0#32
  let v2946 : Index := Scalar.indexCast v2897
  let c0_1842 : Index := 0#32
  ![0, v2946.toNat, 0]

def k0_chk566 (v2897 : BitVec 32) : Prop :=
  (∀ a, (k0_off970 v2897) a + S1x1x1024.size a ≤ S1x2048x1024.size a) ∧
  (∀ a, (k0_off977 v2897) a + S1x1x1024.size a ≤ S1x2048x1024.size a)
theorem k0_off970_inb : ∀ (v2897 : BitVec 32) (k0_hw566 : k0_chk566 v2897), ∀ a, (k0_off970 v2897) a + S1x1x1024.size a ≤ S1x2048x1024.size a := fun v2897 k0_hw566 => k0_hw566.1
theorem k0_off977_inb : ∀ (v2897 : BitVec 32) (k0_hw566 : k0_chk566 v2897), ∀ a, (k0_off977 v2897) a + S1x1x1024.size a ≤ S1x2048x1024.size a := fun v2897 k0_hw566 => k0_hw566.2

def k0_off978 (v2899 : BitVec 32) : Fin 3 → Nat :=
  let c0_1843 : Index := 0#32
  let v2950 : Index := Scalar.indexCast v2899
  let c0_1844 : Index := 0#32
  ![0, v2950.toNat, 0]

def k0_chk567 (v2899 : BitVec 32) : Prop :=
  (∀ a, (k0_off972 v2899) a + S1x1x1024.size a ≤ S1x2048x1024.size a) ∧
  (∀ a, (k0_off978 v2899) a + S1x1x1024.size a ≤ S1x2048x1024.size a)
theorem k0_off972_inb : ∀ (v2899 : BitVec 32) (k0_hw567 : k0_chk567 v2899), ∀ a, (k0_off972 v2899) a + S1x1x1024.size a ≤ S1x2048x1024.size a := fun v2899 k0_hw567 => k0_hw567.1
theorem k0_off978_inb : ∀ (v2899 : BitVec 32) (k0_hw567 : k0_chk567 v2899), ∀ a, (k0_off978 v2899) a + S1x1x1024.size a ≤ S1x2048x1024.size a := fun v2899 k0_hw567 => k0_hw567.2

def k0_off979 (i : grid0.Coords) : Fin 3 → Nat :=
  let c0_1847 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2958 : Index := Scalar.indexCast v2059
  let c56_1848 : Index := 56#32
  ![0, v2958.toNat, 56]
def k0_off980 (i : grid0.Coords) : Fin 3 → Nat :=
  let c0_1849 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2960 : Index := Scalar.indexCast v2059
  let c57_1850 : Index := 57#32
  ![0, v2960.toNat, 57]
def k0_off981 (i : grid0.Coords) : Fin 3 → Nat :=
  let c0_1851 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2962 : Index := Scalar.indexCast v2059
  let c58_1852 : Index := 58#32
  ![0, v2962.toNat, 58]
def k0_off982 (i : grid0.Coords) : Fin 3 → Nat :=
  let c0_1853 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2964 : Index := Scalar.indexCast v2059
  let c59_1854 : Index := 59#32
  ![0, v2964.toNat, 59]
def k0_off983 (v2959 : BitVec 32) : Fin 3 → Nat :=
  let c0_1855 : Index := 0#32
  let v2966 : Index := Scalar.indexCast v2959
  let c0_1856 : Index := 0#32
  ![0, v2966.toNat, 0]

def k0_off984 (i : grid0.Coords) : Fin 3 → Nat :=
  let c0_1857 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2969 : Index := Scalar.indexCast v2059
  let c56_1858 : Index := 56#32
  ![0, v2969.toNat, 56]
def k0_off985 (v2961 : BitVec 32) : Fin 3 → Nat :=
  let c0_1861 : Index := 0#32
  let v2976 : Index := Scalar.indexCast v2961
  let c0_1862 : Index := 0#32
  ![0, v2976.toNat, 0]

def k0_off986 (i : grid0.Coords) : Fin 3 → Nat :=
  let c0_1863 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2979 : Index := Scalar.indexCast v2059
  let c57_1864 : Index := 57#32
  ![0, v2979.toNat, 57]
def k0_off987 (v2963 : BitVec 32) : Fin 3 → Nat :=
  let c0_1867 : Index := 0#32
  let v2986 : Index := Scalar.indexCast v2963
  let c0_1868 : Index := 0#32
  ![0, v2986.toNat, 0]

def k0_off988 (i : grid0.Coords) : Fin 3 → Nat :=
  let c0_1869 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2989 : Index := Scalar.indexCast v2059
  let c58_1870 : Index := 58#32
  ![0, v2989.toNat, 58]
def k0_off989 (v2965 : BitVec 32) : Fin 3 → Nat :=
  let c0_1873 : Index := 0#32
  let v2996 : Index := Scalar.indexCast v2965
  let c0_1874 : Index := 0#32
  ![0, v2996.toNat, 0]

def k0_chk572 (v2965 : BitVec 32) : Prop :=
  (∀ a, (k0_off989 v2965) a + S1x1x1024.size a ≤ S1x2048x1024.size a)
theorem k0_off989_inb : ∀ (v2965 : BitVec 32) (k0_hw572 : k0_chk572 v2965), ∀ a, (k0_off989 v2965) a + S1x1x1024.size a ≤ S1x2048x1024.size a := fun v2965 k0_hw572 => k0_hw572

def k0_off990 (i : grid0.Coords) : Fin 3 → Nat :=
  let c0_1875 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v2999 : Index := Scalar.indexCast v2059
  let c59_1876 : Index := 59#32
  ![0, v2999.toNat, 59]
def k0_off991 (v2959 : BitVec 32) : Fin 3 → Nat :=
  let c0_1879 : Index := 0#32
  let v3006 : Index := Scalar.indexCast v2959
  let c0_1880 : Index := 0#32
  ![0, v3006.toNat, 0]

def k0_chk569 (v2959 : BitVec 32) : Prop :=
  (∀ a, (k0_off983 v2959) a + S1x1x1024.size a ≤ S1x2048x1024.size a) ∧
  (∀ a, (k0_off991 v2959) a + S1x1x1024.size a ≤ S1x2048x1024.size a)
theorem k0_off983_inb : ∀ (v2959 : BitVec 32) (k0_hw569 : k0_chk569 v2959), ∀ a, (k0_off983 v2959) a + S1x1x1024.size a ≤ S1x2048x1024.size a := fun v2959 k0_hw569 => k0_hw569.1
theorem k0_off991_inb : ∀ (v2959 : BitVec 32) (k0_hw569 : k0_chk569 v2959), ∀ a, (k0_off991 v2959) a + S1x1x1024.size a ≤ S1x2048x1024.size a := fun v2959 k0_hw569 => k0_hw569.2

def k0_off992 (v2961 : BitVec 32) : Fin 3 → Nat :=
  let c0_1881 : Index := 0#32
  let v3010 : Index := Scalar.indexCast v2961
  let c0_1882 : Index := 0#32
  ![0, v3010.toNat, 0]

def k0_chk570 (v2961 : BitVec 32) : Prop :=
  (∀ a, (k0_off985 v2961) a + S1x1x1024.size a ≤ S1x2048x1024.size a) ∧
  (∀ a, (k0_off992 v2961) a + S1x1x1024.size a ≤ S1x2048x1024.size a)
theorem k0_off985_inb : ∀ (v2961 : BitVec 32) (k0_hw570 : k0_chk570 v2961), ∀ a, (k0_off985 v2961) a + S1x1x1024.size a ≤ S1x2048x1024.size a := fun v2961 k0_hw570 => k0_hw570.1
theorem k0_off992_inb : ∀ (v2961 : BitVec 32) (k0_hw570 : k0_chk570 v2961), ∀ a, (k0_off992 v2961) a + S1x1x1024.size a ≤ S1x2048x1024.size a := fun v2961 k0_hw570 => k0_hw570.2

def k0_off993 (v2963 : BitVec 32) : Fin 3 → Nat :=
  let c0_1883 : Index := 0#32
  let v3014 : Index := Scalar.indexCast v2963
  let c0_1884 : Index := 0#32
  ![0, v3014.toNat, 0]

def k0_chk571 (v2963 : BitVec 32) : Prop :=
  (∀ a, (k0_off987 v2963) a + S1x1x1024.size a ≤ S1x2048x1024.size a) ∧
  (∀ a, (k0_off993 v2963) a + S1x1x1024.size a ≤ S1x2048x1024.size a)
theorem k0_off987_inb : ∀ (v2963 : BitVec 32) (k0_hw571 : k0_chk571 v2963), ∀ a, (k0_off987 v2963) a + S1x1x1024.size a ≤ S1x2048x1024.size a := fun v2963 k0_hw571 => k0_hw571.1
theorem k0_off993_inb : ∀ (v2963 : BitVec 32) (k0_hw571 : k0_chk571 v2963), ∀ a, (k0_off993 v2963) a + S1x1x1024.size a ≤ S1x2048x1024.size a := fun v2963 k0_hw571 => k0_hw571.2

def k0_off994 (i : grid0.Coords) : Fin 3 → Nat :=
  let c0_1887 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3022 : Index := Scalar.indexCast v2059
  let c60_1888 : Index := 60#32
  ![0, v3022.toNat, 60]
def k0_off995 (i : grid0.Coords) : Fin 3 → Nat :=
  let c0_1889 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3024 : Index := Scalar.indexCast v2059
  let c61_1890 : Index := 61#32
  ![0, v3024.toNat, 61]
def k0_off996 (i : grid0.Coords) : Fin 3 → Nat :=
  let c0_1891 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3026 : Index := Scalar.indexCast v2059
  let c62_1892 : Index := 62#32
  ![0, v3026.toNat, 62]
def k0_off997 (i : grid0.Coords) : Fin 3 → Nat :=
  let c0_1893 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3028 : Index := Scalar.indexCast v2059
  let c63_1894 : Index := 63#32
  ![0, v3028.toNat, 63]
def k0_off998 (v3023 : BitVec 32) : Fin 3 → Nat :=
  let c0_1895 : Index := 0#32
  let v3030 : Index := Scalar.indexCast v3023
  let c0_1896 : Index := 0#32
  ![0, v3030.toNat, 0]

def k0_off999 (i : grid0.Coords) : Fin 3 → Nat :=
  let c0_1897 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3033 : Index := Scalar.indexCast v2059
  let c60_1898 : Index := 60#32
  ![0, v3033.toNat, 60]
def k0_off1000 (v3025 : BitVec 32) : Fin 3 → Nat :=
  let c0_1901 : Index := 0#32
  let v3040 : Index := Scalar.indexCast v3025
  let c0_1902 : Index := 0#32
  ![0, v3040.toNat, 0]

def k0_off1001 (i : grid0.Coords) : Fin 3 → Nat :=
  let c0_1903 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3043 : Index := Scalar.indexCast v2059
  let c61_1904 : Index := 61#32
  ![0, v3043.toNat, 61]
def k0_off1002 (v3027 : BitVec 32) : Fin 3 → Nat :=
  let c0_1907 : Index := 0#32
  let v3050 : Index := Scalar.indexCast v3027
  let c0_1908 : Index := 0#32
  ![0, v3050.toNat, 0]

def k0_off1003 (i : grid0.Coords) : Fin 3 → Nat :=
  let c0_1909 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3053 : Index := Scalar.indexCast v2059
  let c62_1910 : Index := 62#32
  ![0, v3053.toNat, 62]
def k0_off1004 (v3029 : BitVec 32) : Fin 3 → Nat :=
  let c0_1913 : Index := 0#32
  let v3060 : Index := Scalar.indexCast v3029
  let c0_1914 : Index := 0#32
  ![0, v3060.toNat, 0]

def k0_chk576 (v3029 : BitVec 32) : Prop :=
  (∀ a, (k0_off1004 v3029) a + S1x1x1024.size a ≤ S1x2048x1024.size a)
theorem k0_off1004_inb : ∀ (v3029 : BitVec 32) (k0_hw576 : k0_chk576 v3029), ∀ a, (k0_off1004 v3029) a + S1x1x1024.size a ≤ S1x2048x1024.size a := fun v3029 k0_hw576 => k0_hw576

def k0_off1005 (i : grid0.Coords) : Fin 3 → Nat :=
  let c0_1915 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3063 : Index := Scalar.indexCast v2059
  let c63_1916 : Index := 63#32
  ![0, v3063.toNat, 63]
def k0_off1006 (v3023 : BitVec 32) : Fin 3 → Nat :=
  let c0_1919 : Index := 0#32
  let v3070 : Index := Scalar.indexCast v3023
  let c0_1920 : Index := 0#32
  ![0, v3070.toNat, 0]

def k0_chk573 (v3023 : BitVec 32) : Prop :=
  (∀ a, (k0_off998 v3023) a + S1x1x1024.size a ≤ S1x2048x1024.size a) ∧
  (∀ a, (k0_off1006 v3023) a + S1x1x1024.size a ≤ S1x2048x1024.size a)
theorem k0_off998_inb : ∀ (v3023 : BitVec 32) (k0_hw573 : k0_chk573 v3023), ∀ a, (k0_off998 v3023) a + S1x1x1024.size a ≤ S1x2048x1024.size a := fun v3023 k0_hw573 => k0_hw573.1
theorem k0_off1006_inb : ∀ (v3023 : BitVec 32) (k0_hw573 : k0_chk573 v3023), ∀ a, (k0_off1006 v3023) a + S1x1x1024.size a ≤ S1x2048x1024.size a := fun v3023 k0_hw573 => k0_hw573.2

def k0_off1007 (v3025 : BitVec 32) : Fin 3 → Nat :=
  let c0_1921 : Index := 0#32
  let v3074 : Index := Scalar.indexCast v3025
  let c0_1922 : Index := 0#32
  ![0, v3074.toNat, 0]

def k0_chk574 (v3025 : BitVec 32) : Prop :=
  (∀ a, (k0_off1000 v3025) a + S1x1x1024.size a ≤ S1x2048x1024.size a) ∧
  (∀ a, (k0_off1007 v3025) a + S1x1x1024.size a ≤ S1x2048x1024.size a)
theorem k0_off1000_inb : ∀ (v3025 : BitVec 32) (k0_hw574 : k0_chk574 v3025), ∀ a, (k0_off1000 v3025) a + S1x1x1024.size a ≤ S1x2048x1024.size a := fun v3025 k0_hw574 => k0_hw574.1
theorem k0_off1007_inb : ∀ (v3025 : BitVec 32) (k0_hw574 : k0_chk574 v3025), ∀ a, (k0_off1007 v3025) a + S1x1x1024.size a ≤ S1x2048x1024.size a := fun v3025 k0_hw574 => k0_hw574.2

def k0_off1008 (v3027 : BitVec 32) : Fin 3 → Nat :=
  let c0_1923 : Index := 0#32
  let v3078 : Index := Scalar.indexCast v3027
  let c0_1924 : Index := 0#32
  ![0, v3078.toNat, 0]

def k0_chk575 (v3027 : BitVec 32) : Prop :=
  (∀ a, (k0_off1002 v3027) a + S1x1x1024.size a ≤ S1x2048x1024.size a) ∧
  (∀ a, (k0_off1008 v3027) a + S1x1x1024.size a ≤ S1x2048x1024.size a)
theorem k0_off1002_inb : ∀ (v3027 : BitVec 32) (k0_hw575 : k0_chk575 v3027), ∀ a, (k0_off1002 v3027) a + S1x1x1024.size a ≤ S1x2048x1024.size a := fun v3027 k0_hw575 => k0_hw575.1
theorem k0_off1008_inb : ∀ (v3027 : BitVec 32) (k0_hw575 : k0_chk575 v3027), ∀ a, (k0_off1008 v3027) a + S1x1x1024.size a ≤ S1x2048x1024.size a := fun v3027 k0_hw575 => k0_hw575.2

def k0_off1009 (i : grid0.Coords) : Fin 3 → Nat :=
  let c0_1927 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3086 : Index := Scalar.indexCast v2059
  let c64_1928 : Index := 64#32
  ![0, v3086.toNat, 64]
def k0_off1010 (i : grid0.Coords) : Fin 3 → Nat :=
  let c0_1929 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3088 : Index := Scalar.indexCast v2059
  let c65_1930 : Index := 65#32
  ![0, v3088.toNat, 65]
def k0_off1011 (i : grid0.Coords) : Fin 3 → Nat :=
  let c0_1931 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3090 : Index := Scalar.indexCast v2059
  let c66_1932 : Index := 66#32
  ![0, v3090.toNat, 66]
def k0_off1012 (i : grid0.Coords) : Fin 3 → Nat :=
  let c0_1933 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3092 : Index := Scalar.indexCast v2059
  let c67_1934 : Index := 67#32
  ![0, v3092.toNat, 67]
def k0_off1013 (v3087 : BitVec 32) : Fin 3 → Nat :=
  let c0_1935 : Index := 0#32
  let v3094 : Index := Scalar.indexCast v3087
  let c0_1936 : Index := 0#32
  ![0, v3094.toNat, 0]

def k0_off1014 (i : grid0.Coords) : Fin 3 → Nat :=
  let c0_1937 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3097 : Index := Scalar.indexCast v2059
  let c64_1938 : Index := 64#32
  ![0, v3097.toNat, 64]
def k0_off1015 (v3089 : BitVec 32) : Fin 3 → Nat :=
  let c0_1941 : Index := 0#32
  let v3104 : Index := Scalar.indexCast v3089
  let c0_1942 : Index := 0#32
  ![0, v3104.toNat, 0]

def k0_off1016 (i : grid0.Coords) : Fin 3 → Nat :=
  let c0_1943 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3107 : Index := Scalar.indexCast v2059
  let c65_1944 : Index := 65#32
  ![0, v3107.toNat, 65]
def k0_off1017 (v3091 : BitVec 32) : Fin 3 → Nat :=
  let c0_1947 : Index := 0#32
  let v3114 : Index := Scalar.indexCast v3091
  let c0_1948 : Index := 0#32
  ![0, v3114.toNat, 0]

def k0_off1018 (i : grid0.Coords) : Fin 3 → Nat :=
  let c0_1949 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3117 : Index := Scalar.indexCast v2059
  let c66_1950 : Index := 66#32
  ![0, v3117.toNat, 66]
def k0_off1019 (v3093 : BitVec 32) : Fin 3 → Nat :=
  let c0_1953 : Index := 0#32
  let v3124 : Index := Scalar.indexCast v3093
  let c0_1954 : Index := 0#32
  ![0, v3124.toNat, 0]

def k0_chk580 (v3093 : BitVec 32) : Prop :=
  (∀ a, (k0_off1019 v3093) a + S1x1x1024.size a ≤ S1x2048x1024.size a)
theorem k0_off1019_inb : ∀ (v3093 : BitVec 32) (k0_hw580 : k0_chk580 v3093), ∀ a, (k0_off1019 v3093) a + S1x1x1024.size a ≤ S1x2048x1024.size a := fun v3093 k0_hw580 => k0_hw580

def k0_off1020 (i : grid0.Coords) : Fin 3 → Nat :=
  let c0_1955 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3127 : Index := Scalar.indexCast v2059
  let c67_1956 : Index := 67#32
  ![0, v3127.toNat, 67]
def k0_off1021 (v3087 : BitVec 32) : Fin 3 → Nat :=
  let c0_1959 : Index := 0#32
  let v3134 : Index := Scalar.indexCast v3087
  let c0_1960 : Index := 0#32
  ![0, v3134.toNat, 0]

def k0_chk577 (v3087 : BitVec 32) : Prop :=
  (∀ a, (k0_off1013 v3087) a + S1x1x1024.size a ≤ S1x2048x1024.size a) ∧
  (∀ a, (k0_off1021 v3087) a + S1x1x1024.size a ≤ S1x2048x1024.size a)
theorem k0_off1013_inb : ∀ (v3087 : BitVec 32) (k0_hw577 : k0_chk577 v3087), ∀ a, (k0_off1013 v3087) a + S1x1x1024.size a ≤ S1x2048x1024.size a := fun v3087 k0_hw577 => k0_hw577.1
theorem k0_off1021_inb : ∀ (v3087 : BitVec 32) (k0_hw577 : k0_chk577 v3087), ∀ a, (k0_off1021 v3087) a + S1x1x1024.size a ≤ S1x2048x1024.size a := fun v3087 k0_hw577 => k0_hw577.2

def k0_off1022 (v3089 : BitVec 32) : Fin 3 → Nat :=
  let c0_1961 : Index := 0#32
  let v3138 : Index := Scalar.indexCast v3089
  let c0_1962 : Index := 0#32
  ![0, v3138.toNat, 0]

def k0_chk578 (v3089 : BitVec 32) : Prop :=
  (∀ a, (k0_off1015 v3089) a + S1x1x1024.size a ≤ S1x2048x1024.size a) ∧
  (∀ a, (k0_off1022 v3089) a + S1x1x1024.size a ≤ S1x2048x1024.size a)
theorem k0_off1015_inb : ∀ (v3089 : BitVec 32) (k0_hw578 : k0_chk578 v3089), ∀ a, (k0_off1015 v3089) a + S1x1x1024.size a ≤ S1x2048x1024.size a := fun v3089 k0_hw578 => k0_hw578.1
theorem k0_off1022_inb : ∀ (v3089 : BitVec 32) (k0_hw578 : k0_chk578 v3089), ∀ a, (k0_off1022 v3089) a + S1x1x1024.size a ≤ S1x2048x1024.size a := fun v3089 k0_hw578 => k0_hw578.2

def k0_off1023 (v3091 : BitVec 32) : Fin 3 → Nat :=
  let c0_1963 : Index := 0#32
  let v3142 : Index := Scalar.indexCast v3091
  let c0_1964 : Index := 0#32
  ![0, v3142.toNat, 0]

def k0_chk579 (v3091 : BitVec 32) : Prop :=
  (∀ a, (k0_off1017 v3091) a + S1x1x1024.size a ≤ S1x2048x1024.size a) ∧
  (∀ a, (k0_off1023 v3091) a + S1x1x1024.size a ≤ S1x2048x1024.size a)
theorem k0_off1017_inb : ∀ (v3091 : BitVec 32) (k0_hw579 : k0_chk579 v3091), ∀ a, (k0_off1017 v3091) a + S1x1x1024.size a ≤ S1x2048x1024.size a := fun v3091 k0_hw579 => k0_hw579.1
theorem k0_off1023_inb : ∀ (v3091 : BitVec 32) (k0_hw579 : k0_chk579 v3091), ∀ a, (k0_off1023 v3091) a + S1x1x1024.size a ≤ S1x2048x1024.size a := fun v3091 k0_hw579 => k0_hw579.2

def k0_off1024 (i : grid0.Coords) : Fin 3 → Nat :=
  let c0_1967 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3150 : Index := Scalar.indexCast v2059
  let c68_1968 : Index := 68#32
  ![0, v3150.toNat, 68]
def k0_off1025 (i : grid0.Coords) : Fin 3 → Nat :=
  let c0_1969 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3152 : Index := Scalar.indexCast v2059
  let c69_1970 : Index := 69#32
  ![0, v3152.toNat, 69]
def k0_off1026 (i : grid0.Coords) : Fin 3 → Nat :=
  let c0_1971 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3154 : Index := Scalar.indexCast v2059
  let c70_1972 : Index := 70#32
  ![0, v3154.toNat, 70]
def k0_off1027 (i : grid0.Coords) : Fin 3 → Nat :=
  let c0_1973 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3156 : Index := Scalar.indexCast v2059
  let c71_1974 : Index := 71#32
  ![0, v3156.toNat, 71]
def k0_off1028 (v3151 : BitVec 32) : Fin 3 → Nat :=
  let c0_1975 : Index := 0#32
  let v3158 : Index := Scalar.indexCast v3151
  let c0_1976 : Index := 0#32
  ![0, v3158.toNat, 0]

def k0_off1029 (i : grid0.Coords) : Fin 3 → Nat :=
  let c0_1977 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3161 : Index := Scalar.indexCast v2059
  let c68_1978 : Index := 68#32
  ![0, v3161.toNat, 68]
def k0_off1030 (v3153 : BitVec 32) : Fin 3 → Nat :=
  let c0_1981 : Index := 0#32
  let v3168 : Index := Scalar.indexCast v3153
  let c0_1982 : Index := 0#32
  ![0, v3168.toNat, 0]

def k0_off1031 (i : grid0.Coords) : Fin 3 → Nat :=
  let c0_1983 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3171 : Index := Scalar.indexCast v2059
  let c69_1984 : Index := 69#32
  ![0, v3171.toNat, 69]
def k0_off1032 (v3155 : BitVec 32) : Fin 3 → Nat :=
  let c0_1987 : Index := 0#32
  let v3178 : Index := Scalar.indexCast v3155
  let c0_1988 : Index := 0#32
  ![0, v3178.toNat, 0]

def k0_off1033 (i : grid0.Coords) : Fin 3 → Nat :=
  let c0_1989 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3181 : Index := Scalar.indexCast v2059
  let c70_1990 : Index := 70#32
  ![0, v3181.toNat, 70]
def k0_off1034 (v3157 : BitVec 32) : Fin 3 → Nat :=
  let c0_1993 : Index := 0#32
  let v3188 : Index := Scalar.indexCast v3157
  let c0_1994 : Index := 0#32
  ![0, v3188.toNat, 0]

def k0_chk584 (v3157 : BitVec 32) : Prop :=
  (∀ a, (k0_off1034 v3157) a + S1x1x1024.size a ≤ S1x2048x1024.size a)
theorem k0_off1034_inb : ∀ (v3157 : BitVec 32) (k0_hw584 : k0_chk584 v3157), ∀ a, (k0_off1034 v3157) a + S1x1x1024.size a ≤ S1x2048x1024.size a := fun v3157 k0_hw584 => k0_hw584

def k0_off1035 (i : grid0.Coords) : Fin 3 → Nat :=
  let c0_1995 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3191 : Index := Scalar.indexCast v2059
  let c71_1996 : Index := 71#32
  ![0, v3191.toNat, 71]
def k0_off1036 (v3151 : BitVec 32) : Fin 3 → Nat :=
  let c0_1999 : Index := 0#32
  let v3198 : Index := Scalar.indexCast v3151
  let c0_2000 : Index := 0#32
  ![0, v3198.toNat, 0]

def k0_chk581 (v3151 : BitVec 32) : Prop :=
  (∀ a, (k0_off1028 v3151) a + S1x1x1024.size a ≤ S1x2048x1024.size a) ∧
  (∀ a, (k0_off1036 v3151) a + S1x1x1024.size a ≤ S1x2048x1024.size a)
theorem k0_off1028_inb : ∀ (v3151 : BitVec 32) (k0_hw581 : k0_chk581 v3151), ∀ a, (k0_off1028 v3151) a + S1x1x1024.size a ≤ S1x2048x1024.size a := fun v3151 k0_hw581 => k0_hw581.1
theorem k0_off1036_inb : ∀ (v3151 : BitVec 32) (k0_hw581 : k0_chk581 v3151), ∀ a, (k0_off1036 v3151) a + S1x1x1024.size a ≤ S1x2048x1024.size a := fun v3151 k0_hw581 => k0_hw581.2

def k0_off1037 (v3153 : BitVec 32) : Fin 3 → Nat :=
  let c0_2001 : Index := 0#32
  let v3202 : Index := Scalar.indexCast v3153
  let c0_2002 : Index := 0#32
  ![0, v3202.toNat, 0]

def k0_chk582 (v3153 : BitVec 32) : Prop :=
  (∀ a, (k0_off1030 v3153) a + S1x1x1024.size a ≤ S1x2048x1024.size a) ∧
  (∀ a, (k0_off1037 v3153) a + S1x1x1024.size a ≤ S1x2048x1024.size a)
theorem k0_off1030_inb : ∀ (v3153 : BitVec 32) (k0_hw582 : k0_chk582 v3153), ∀ a, (k0_off1030 v3153) a + S1x1x1024.size a ≤ S1x2048x1024.size a := fun v3153 k0_hw582 => k0_hw582.1
theorem k0_off1037_inb : ∀ (v3153 : BitVec 32) (k0_hw582 : k0_chk582 v3153), ∀ a, (k0_off1037 v3153) a + S1x1x1024.size a ≤ S1x2048x1024.size a := fun v3153 k0_hw582 => k0_hw582.2

def k0_off1038 (v3155 : BitVec 32) : Fin 3 → Nat :=
  let c0_2003 : Index := 0#32
  let v3206 : Index := Scalar.indexCast v3155
  let c0_2004 : Index := 0#32
  ![0, v3206.toNat, 0]

def k0_chk583 (v3155 : BitVec 32) : Prop :=
  (∀ a, (k0_off1032 v3155) a + S1x1x1024.size a ≤ S1x2048x1024.size a) ∧
  (∀ a, (k0_off1038 v3155) a + S1x1x1024.size a ≤ S1x2048x1024.size a)
theorem k0_off1032_inb : ∀ (v3155 : BitVec 32) (k0_hw583 : k0_chk583 v3155), ∀ a, (k0_off1032 v3155) a + S1x1x1024.size a ≤ S1x2048x1024.size a := fun v3155 k0_hw583 => k0_hw583.1
theorem k0_off1038_inb : ∀ (v3155 : BitVec 32) (k0_hw583 : k0_chk583 v3155), ∀ a, (k0_off1038 v3155) a + S1x1x1024.size a ≤ S1x2048x1024.size a := fun v3155 k0_hw583 => k0_hw583.2

def k0_off1039 (i : grid0.Coords) : Fin 3 → Nat :=
  let c0_2007 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3214 : Index := Scalar.indexCast v2059
  let c72_2008 : Index := 72#32
  ![0, v3214.toNat, 72]
def k0_off1040 (i : grid0.Coords) : Fin 3 → Nat :=
  let c0_2009 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3216 : Index := Scalar.indexCast v2059
  let c73_2010 : Index := 73#32
  ![0, v3216.toNat, 73]
def k0_off1041 (i : grid0.Coords) : Fin 3 → Nat :=
  let c0_2011 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3218 : Index := Scalar.indexCast v2059
  let c74_2012 : Index := 74#32
  ![0, v3218.toNat, 74]
def k0_off1042 (i : grid0.Coords) : Fin 3 → Nat :=
  let c0_2013 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3220 : Index := Scalar.indexCast v2059
  let c75_2014 : Index := 75#32
  ![0, v3220.toNat, 75]
def k0_off1043 (v3215 : BitVec 32) : Fin 3 → Nat :=
  let c0_2015 : Index := 0#32
  let v3222 : Index := Scalar.indexCast v3215
  let c0_2016 : Index := 0#32
  ![0, v3222.toNat, 0]

def k0_off1044 (i : grid0.Coords) : Fin 3 → Nat :=
  let c0_2017 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3225 : Index := Scalar.indexCast v2059
  let c72_2018 : Index := 72#32
  ![0, v3225.toNat, 72]
def k0_off1045 (v3217 : BitVec 32) : Fin 3 → Nat :=
  let c0_2021 : Index := 0#32
  let v3232 : Index := Scalar.indexCast v3217
  let c0_2022 : Index := 0#32
  ![0, v3232.toNat, 0]

def k0_off1046 (i : grid0.Coords) : Fin 3 → Nat :=
  let c0_2023 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3235 : Index := Scalar.indexCast v2059
  let c73_2024 : Index := 73#32
  ![0, v3235.toNat, 73]
def k0_off1047 (v3219 : BitVec 32) : Fin 3 → Nat :=
  let c0_2027 : Index := 0#32
  let v3242 : Index := Scalar.indexCast v3219
  let c0_2028 : Index := 0#32
  ![0, v3242.toNat, 0]

def k0_off1048 (i : grid0.Coords) : Fin 3 → Nat :=
  let c0_2029 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3245 : Index := Scalar.indexCast v2059
  let c74_2030 : Index := 74#32
  ![0, v3245.toNat, 74]
def k0_off1049 (v3221 : BitVec 32) : Fin 3 → Nat :=
  let c0_2033 : Index := 0#32
  let v3252 : Index := Scalar.indexCast v3221
  let c0_2034 : Index := 0#32
  ![0, v3252.toNat, 0]

def k0_chk588 (v3221 : BitVec 32) : Prop :=
  (∀ a, (k0_off1049 v3221) a + S1x1x1024.size a ≤ S1x2048x1024.size a)
theorem k0_off1049_inb : ∀ (v3221 : BitVec 32) (k0_hw588 : k0_chk588 v3221), ∀ a, (k0_off1049 v3221) a + S1x1x1024.size a ≤ S1x2048x1024.size a := fun v3221 k0_hw588 => k0_hw588

def k0_off1050 (i : grid0.Coords) : Fin 3 → Nat :=
  let c0_2035 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3255 : Index := Scalar.indexCast v2059
  let c75_2036 : Index := 75#32
  ![0, v3255.toNat, 75]
def k0_off1051 (v3215 : BitVec 32) : Fin 3 → Nat :=
  let c0_2039 : Index := 0#32
  let v3262 : Index := Scalar.indexCast v3215
  let c0_2040 : Index := 0#32
  ![0, v3262.toNat, 0]

def k0_chk585 (v3215 : BitVec 32) : Prop :=
  (∀ a, (k0_off1043 v3215) a + S1x1x1024.size a ≤ S1x2048x1024.size a) ∧
  (∀ a, (k0_off1051 v3215) a + S1x1x1024.size a ≤ S1x2048x1024.size a)
theorem k0_off1043_inb : ∀ (v3215 : BitVec 32) (k0_hw585 : k0_chk585 v3215), ∀ a, (k0_off1043 v3215) a + S1x1x1024.size a ≤ S1x2048x1024.size a := fun v3215 k0_hw585 => k0_hw585.1
theorem k0_off1051_inb : ∀ (v3215 : BitVec 32) (k0_hw585 : k0_chk585 v3215), ∀ a, (k0_off1051 v3215) a + S1x1x1024.size a ≤ S1x2048x1024.size a := fun v3215 k0_hw585 => k0_hw585.2

def k0_off1052 (v3217 : BitVec 32) : Fin 3 → Nat :=
  let c0_2041 : Index := 0#32
  let v3266 : Index := Scalar.indexCast v3217
  let c0_2042 : Index := 0#32
  ![0, v3266.toNat, 0]

def k0_chk586 (v3217 : BitVec 32) : Prop :=
  (∀ a, (k0_off1045 v3217) a + S1x1x1024.size a ≤ S1x2048x1024.size a) ∧
  (∀ a, (k0_off1052 v3217) a + S1x1x1024.size a ≤ S1x2048x1024.size a)
theorem k0_off1045_inb : ∀ (v3217 : BitVec 32) (k0_hw586 : k0_chk586 v3217), ∀ a, (k0_off1045 v3217) a + S1x1x1024.size a ≤ S1x2048x1024.size a := fun v3217 k0_hw586 => k0_hw586.1
theorem k0_off1052_inb : ∀ (v3217 : BitVec 32) (k0_hw586 : k0_chk586 v3217), ∀ a, (k0_off1052 v3217) a + S1x1x1024.size a ≤ S1x2048x1024.size a := fun v3217 k0_hw586 => k0_hw586.2

def k0_off1053 (v3219 : BitVec 32) : Fin 3 → Nat :=
  let c0_2043 : Index := 0#32
  let v3270 : Index := Scalar.indexCast v3219
  let c0_2044 : Index := 0#32
  ![0, v3270.toNat, 0]

def k0_chk587 (v3219 : BitVec 32) : Prop :=
  (∀ a, (k0_off1047 v3219) a + S1x1x1024.size a ≤ S1x2048x1024.size a) ∧
  (∀ a, (k0_off1053 v3219) a + S1x1x1024.size a ≤ S1x2048x1024.size a)
theorem k0_off1047_inb : ∀ (v3219 : BitVec 32) (k0_hw587 : k0_chk587 v3219), ∀ a, (k0_off1047 v3219) a + S1x1x1024.size a ≤ S1x2048x1024.size a := fun v3219 k0_hw587 => k0_hw587.1
theorem k0_off1053_inb : ∀ (v3219 : BitVec 32) (k0_hw587 : k0_chk587 v3219), ∀ a, (k0_off1053 v3219) a + S1x1x1024.size a ≤ S1x2048x1024.size a := fun v3219 k0_hw587 => k0_hw587.2

def k0_off1054 (i : grid0.Coords) : Fin 3 → Nat :=
  let c0_2047 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3278 : Index := Scalar.indexCast v2059
  let c76_2048 : Index := 76#32
  ![0, v3278.toNat, 76]
def k0_off1055 (i : grid0.Coords) : Fin 3 → Nat :=
  let c0_2049 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3280 : Index := Scalar.indexCast v2059
  let c77_2050 : Index := 77#32
  ![0, v3280.toNat, 77]
def k0_off1056 (i : grid0.Coords) : Fin 3 → Nat :=
  let c0_2051 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3282 : Index := Scalar.indexCast v2059
  let c78_2052 : Index := 78#32
  ![0, v3282.toNat, 78]
def k0_off1057 (i : grid0.Coords) : Fin 3 → Nat :=
  let c0_2053 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3284 : Index := Scalar.indexCast v2059
  let c79_2054 : Index := 79#32
  ![0, v3284.toNat, 79]
def k0_off1058 (v3279 : BitVec 32) : Fin 3 → Nat :=
  let c0_2055 : Index := 0#32
  let v3286 : Index := Scalar.indexCast v3279
  let c0_2056 : Index := 0#32
  ![0, v3286.toNat, 0]

def k0_off1059 (i : grid0.Coords) : Fin 3 → Nat :=
  let c0_2057 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3289 : Index := Scalar.indexCast v2059
  let c76_2058 : Index := 76#32
  ![0, v3289.toNat, 76]
def k0_off1060 (v3281 : BitVec 32) : Fin 3 → Nat :=
  let c0_2061 : Index := 0#32
  let v3296 : Index := Scalar.indexCast v3281
  let c0_2062 : Index := 0#32
  ![0, v3296.toNat, 0]

def k0_off1061 (i : grid0.Coords) : Fin 3 → Nat :=
  let c0_2063 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3299 : Index := Scalar.indexCast v2059
  let c77_2064 : Index := 77#32
  ![0, v3299.toNat, 77]
def k0_off1062 (v3283 : BitVec 32) : Fin 3 → Nat :=
  let c0_2067 : Index := 0#32
  let v3306 : Index := Scalar.indexCast v3283
  let c0_2068 : Index := 0#32
  ![0, v3306.toNat, 0]

def k0_off1063 (i : grid0.Coords) : Fin 3 → Nat :=
  let c0_2069 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3309 : Index := Scalar.indexCast v2059
  let c78_2070 : Index := 78#32
  ![0, v3309.toNat, 78]
def k0_off1064 (v3285 : BitVec 32) : Fin 3 → Nat :=
  let c0_2073 : Index := 0#32
  let v3316 : Index := Scalar.indexCast v3285
  let c0_2074 : Index := 0#32
  ![0, v3316.toNat, 0]

def k0_chk592 (v3285 : BitVec 32) : Prop :=
  (∀ a, (k0_off1064 v3285) a + S1x1x1024.size a ≤ S1x2048x1024.size a)
theorem k0_off1064_inb : ∀ (v3285 : BitVec 32) (k0_hw592 : k0_chk592 v3285), ∀ a, (k0_off1064 v3285) a + S1x1x1024.size a ≤ S1x2048x1024.size a := fun v3285 k0_hw592 => k0_hw592

def k0_off1065 (i : grid0.Coords) : Fin 3 → Nat :=
  let c0_2075 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3319 : Index := Scalar.indexCast v2059
  let c79_2076 : Index := 79#32
  ![0, v3319.toNat, 79]
def k0_off1066 (v3279 : BitVec 32) : Fin 3 → Nat :=
  let c0_2079 : Index := 0#32
  let v3326 : Index := Scalar.indexCast v3279
  let c0_2080 : Index := 0#32
  ![0, v3326.toNat, 0]

def k0_chk589 (v3279 : BitVec 32) : Prop :=
  (∀ a, (k0_off1058 v3279) a + S1x1x1024.size a ≤ S1x2048x1024.size a) ∧
  (∀ a, (k0_off1066 v3279) a + S1x1x1024.size a ≤ S1x2048x1024.size a)
theorem k0_off1058_inb : ∀ (v3279 : BitVec 32) (k0_hw589 : k0_chk589 v3279), ∀ a, (k0_off1058 v3279) a + S1x1x1024.size a ≤ S1x2048x1024.size a := fun v3279 k0_hw589 => k0_hw589.1
theorem k0_off1066_inb : ∀ (v3279 : BitVec 32) (k0_hw589 : k0_chk589 v3279), ∀ a, (k0_off1066 v3279) a + S1x1x1024.size a ≤ S1x2048x1024.size a := fun v3279 k0_hw589 => k0_hw589.2

def k0_off1067 (v3281 : BitVec 32) : Fin 3 → Nat :=
  let c0_2081 : Index := 0#32
  let v3330 : Index := Scalar.indexCast v3281
  let c0_2082 : Index := 0#32
  ![0, v3330.toNat, 0]

def k0_chk590 (v3281 : BitVec 32) : Prop :=
  (∀ a, (k0_off1060 v3281) a + S1x1x1024.size a ≤ S1x2048x1024.size a) ∧
  (∀ a, (k0_off1067 v3281) a + S1x1x1024.size a ≤ S1x2048x1024.size a)
theorem k0_off1060_inb : ∀ (v3281 : BitVec 32) (k0_hw590 : k0_chk590 v3281), ∀ a, (k0_off1060 v3281) a + S1x1x1024.size a ≤ S1x2048x1024.size a := fun v3281 k0_hw590 => k0_hw590.1
theorem k0_off1067_inb : ∀ (v3281 : BitVec 32) (k0_hw590 : k0_chk590 v3281), ∀ a, (k0_off1067 v3281) a + S1x1x1024.size a ≤ S1x2048x1024.size a := fun v3281 k0_hw590 => k0_hw590.2

def k0_off1068 (v3283 : BitVec 32) : Fin 3 → Nat :=
  let c0_2083 : Index := 0#32
  let v3334 : Index := Scalar.indexCast v3283
  let c0_2084 : Index := 0#32
  ![0, v3334.toNat, 0]

def k0_chk591 (v3283 : BitVec 32) : Prop :=
  (∀ a, (k0_off1062 v3283) a + S1x1x1024.size a ≤ S1x2048x1024.size a) ∧
  (∀ a, (k0_off1068 v3283) a + S1x1x1024.size a ≤ S1x2048x1024.size a)
theorem k0_off1062_inb : ∀ (v3283 : BitVec 32) (k0_hw591 : k0_chk591 v3283), ∀ a, (k0_off1062 v3283) a + S1x1x1024.size a ≤ S1x2048x1024.size a := fun v3283 k0_hw591 => k0_hw591.1
theorem k0_off1068_inb : ∀ (v3283 : BitVec 32) (k0_hw591 : k0_chk591 v3283), ∀ a, (k0_off1068 v3283) a + S1x1x1024.size a ≤ S1x2048x1024.size a := fun v3283 k0_hw591 => k0_hw591.2

def k0_off1069 (i : grid0.Coords) : Fin 3 → Nat :=
  let c0_2087 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3342 : Index := Scalar.indexCast v2059
  let c80_2088 : Index := 80#32
  ![0, v3342.toNat, 80]
def k0_off1070 (i : grid0.Coords) : Fin 3 → Nat :=
  let c0_2089 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3344 : Index := Scalar.indexCast v2059
  let c81_2090 : Index := 81#32
  ![0, v3344.toNat, 81]
def k0_off1071 (i : grid0.Coords) : Fin 3 → Nat :=
  let c0_2091 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3346 : Index := Scalar.indexCast v2059
  let c82_2092 : Index := 82#32
  ![0, v3346.toNat, 82]
def k0_off1072 (i : grid0.Coords) : Fin 3 → Nat :=
  let c0_2093 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3348 : Index := Scalar.indexCast v2059
  let c83_2094 : Index := 83#32
  ![0, v3348.toNat, 83]
def k0_off1073 (v3343 : BitVec 32) : Fin 3 → Nat :=
  let c0_2095 : Index := 0#32
  let v3350 : Index := Scalar.indexCast v3343
  let c0_2096 : Index := 0#32
  ![0, v3350.toNat, 0]

def k0_off1074 (i : grid0.Coords) : Fin 3 → Nat :=
  let c0_2097 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3353 : Index := Scalar.indexCast v2059
  let c80_2098 : Index := 80#32
  ![0, v3353.toNat, 80]
def k0_off1075 (v3345 : BitVec 32) : Fin 3 → Nat :=
  let c0_2101 : Index := 0#32
  let v3360 : Index := Scalar.indexCast v3345
  let c0_2102 : Index := 0#32
  ![0, v3360.toNat, 0]

def k0_off1076 (i : grid0.Coords) : Fin 3 → Nat :=
  let c0_2103 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3363 : Index := Scalar.indexCast v2059
  let c81_2104 : Index := 81#32
  ![0, v3363.toNat, 81]
def k0_off1077 (v3347 : BitVec 32) : Fin 3 → Nat :=
  let c0_2107 : Index := 0#32
  let v3370 : Index := Scalar.indexCast v3347
  let c0_2108 : Index := 0#32
  ![0, v3370.toNat, 0]

def k0_off1078 (i : grid0.Coords) : Fin 3 → Nat :=
  let c0_2109 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3373 : Index := Scalar.indexCast v2059
  let c82_2110 : Index := 82#32
  ![0, v3373.toNat, 82]
def k0_off1079 (v3349 : BitVec 32) : Fin 3 → Nat :=
  let c0_2113 : Index := 0#32
  let v3380 : Index := Scalar.indexCast v3349
  let c0_2114 : Index := 0#32
  ![0, v3380.toNat, 0]

def k0_chk596 (v3349 : BitVec 32) : Prop :=
  (∀ a, (k0_off1079 v3349) a + S1x1x1024.size a ≤ S1x2048x1024.size a)
theorem k0_off1079_inb : ∀ (v3349 : BitVec 32) (k0_hw596 : k0_chk596 v3349), ∀ a, (k0_off1079 v3349) a + S1x1x1024.size a ≤ S1x2048x1024.size a := fun v3349 k0_hw596 => k0_hw596

def k0_off1080 (i : grid0.Coords) : Fin 3 → Nat :=
  let c0_2115 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3383 : Index := Scalar.indexCast v2059
  let c83_2116 : Index := 83#32
  ![0, v3383.toNat, 83]
def k0_off1081 (v3343 : BitVec 32) : Fin 3 → Nat :=
  let c0_2119 : Index := 0#32
  let v3390 : Index := Scalar.indexCast v3343
  let c0_2120 : Index := 0#32
  ![0, v3390.toNat, 0]

def k0_chk593 (v3343 : BitVec 32) : Prop :=
  (∀ a, (k0_off1073 v3343) a + S1x1x1024.size a ≤ S1x2048x1024.size a) ∧
  (∀ a, (k0_off1081 v3343) a + S1x1x1024.size a ≤ S1x2048x1024.size a)
theorem k0_off1073_inb : ∀ (v3343 : BitVec 32) (k0_hw593 : k0_chk593 v3343), ∀ a, (k0_off1073 v3343) a + S1x1x1024.size a ≤ S1x2048x1024.size a := fun v3343 k0_hw593 => k0_hw593.1
theorem k0_off1081_inb : ∀ (v3343 : BitVec 32) (k0_hw593 : k0_chk593 v3343), ∀ a, (k0_off1081 v3343) a + S1x1x1024.size a ≤ S1x2048x1024.size a := fun v3343 k0_hw593 => k0_hw593.2

def k0_off1082 (v3345 : BitVec 32) : Fin 3 → Nat :=
  let c0_2121 : Index := 0#32
  let v3394 : Index := Scalar.indexCast v3345
  let c0_2122 : Index := 0#32
  ![0, v3394.toNat, 0]

def k0_chk594 (v3345 : BitVec 32) : Prop :=
  (∀ a, (k0_off1075 v3345) a + S1x1x1024.size a ≤ S1x2048x1024.size a) ∧
  (∀ a, (k0_off1082 v3345) a + S1x1x1024.size a ≤ S1x2048x1024.size a)
theorem k0_off1075_inb : ∀ (v3345 : BitVec 32) (k0_hw594 : k0_chk594 v3345), ∀ a, (k0_off1075 v3345) a + S1x1x1024.size a ≤ S1x2048x1024.size a := fun v3345 k0_hw594 => k0_hw594.1
theorem k0_off1082_inb : ∀ (v3345 : BitVec 32) (k0_hw594 : k0_chk594 v3345), ∀ a, (k0_off1082 v3345) a + S1x1x1024.size a ≤ S1x2048x1024.size a := fun v3345 k0_hw594 => k0_hw594.2

def k0_off1083 (v3347 : BitVec 32) : Fin 3 → Nat :=
  let c0_2123 : Index := 0#32
  let v3398 : Index := Scalar.indexCast v3347
  let c0_2124 : Index := 0#32
  ![0, v3398.toNat, 0]

def k0_chk595 (v3347 : BitVec 32) : Prop :=
  (∀ a, (k0_off1077 v3347) a + S1x1x1024.size a ≤ S1x2048x1024.size a) ∧
  (∀ a, (k0_off1083 v3347) a + S1x1x1024.size a ≤ S1x2048x1024.size a)
theorem k0_off1077_inb : ∀ (v3347 : BitVec 32) (k0_hw595 : k0_chk595 v3347), ∀ a, (k0_off1077 v3347) a + S1x1x1024.size a ≤ S1x2048x1024.size a := fun v3347 k0_hw595 => k0_hw595.1
theorem k0_off1083_inb : ∀ (v3347 : BitVec 32) (k0_hw595 : k0_chk595 v3347), ∀ a, (k0_off1083 v3347) a + S1x1x1024.size a ≤ S1x2048x1024.size a := fun v3347 k0_hw595 => k0_hw595.2

def k0_off1084 (i : grid0.Coords) : Fin 3 → Nat :=
  let c0_2127 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3406 : Index := Scalar.indexCast v2059
  let c84_2128 : Index := 84#32
  ![0, v3406.toNat, 84]
def k0_off1085 (i : grid0.Coords) : Fin 3 → Nat :=
  let c0_2129 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3408 : Index := Scalar.indexCast v2059
  let c85_2130 : Index := 85#32
  ![0, v3408.toNat, 85]
def k0_off1086 (i : grid0.Coords) : Fin 3 → Nat :=
  let c0_2131 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3410 : Index := Scalar.indexCast v2059
  let c86_2132 : Index := 86#32
  ![0, v3410.toNat, 86]
def k0_off1087 (i : grid0.Coords) : Fin 3 → Nat :=
  let c0_2133 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3412 : Index := Scalar.indexCast v2059
  let c87_2134 : Index := 87#32
  ![0, v3412.toNat, 87]
def k0_off1088 (v3407 : BitVec 32) : Fin 3 → Nat :=
  let c0_2135 : Index := 0#32
  let v3414 : Index := Scalar.indexCast v3407
  let c0_2136 : Index := 0#32
  ![0, v3414.toNat, 0]

def k0_off1089 (i : grid0.Coords) : Fin 3 → Nat :=
  let c0_2137 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3417 : Index := Scalar.indexCast v2059
  let c84_2138 : Index := 84#32
  ![0, v3417.toNat, 84]
def k0_off1090 (v3409 : BitVec 32) : Fin 3 → Nat :=
  let c0_2141 : Index := 0#32
  let v3424 : Index := Scalar.indexCast v3409
  let c0_2142 : Index := 0#32
  ![0, v3424.toNat, 0]

def k0_off1091 (i : grid0.Coords) : Fin 3 → Nat :=
  let c0_2143 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3427 : Index := Scalar.indexCast v2059
  let c85_2144 : Index := 85#32
  ![0, v3427.toNat, 85]
def k0_off1092 (v3411 : BitVec 32) : Fin 3 → Nat :=
  let c0_2147 : Index := 0#32
  let v3434 : Index := Scalar.indexCast v3411
  let c0_2148 : Index := 0#32
  ![0, v3434.toNat, 0]

def k0_off1093 (i : grid0.Coords) : Fin 3 → Nat :=
  let c0_2149 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3437 : Index := Scalar.indexCast v2059
  let c86_2150 : Index := 86#32
  ![0, v3437.toNat, 86]
def k0_off1094 (v3413 : BitVec 32) : Fin 3 → Nat :=
  let c0_2153 : Index := 0#32
  let v3444 : Index := Scalar.indexCast v3413
  let c0_2154 : Index := 0#32
  ![0, v3444.toNat, 0]

def k0_chk600 (v3413 : BitVec 32) : Prop :=
  (∀ a, (k0_off1094 v3413) a + S1x1x1024.size a ≤ S1x2048x1024.size a)
theorem k0_off1094_inb : ∀ (v3413 : BitVec 32) (k0_hw600 : k0_chk600 v3413), ∀ a, (k0_off1094 v3413) a + S1x1x1024.size a ≤ S1x2048x1024.size a := fun v3413 k0_hw600 => k0_hw600

def k0_off1095 (i : grid0.Coords) : Fin 3 → Nat :=
  let c0_2155 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3447 : Index := Scalar.indexCast v2059
  let c87_2156 : Index := 87#32
  ![0, v3447.toNat, 87]
def k0_off1096 (v3407 : BitVec 32) : Fin 3 → Nat :=
  let c0_2159 : Index := 0#32
  let v3454 : Index := Scalar.indexCast v3407
  let c0_2160 : Index := 0#32
  ![0, v3454.toNat, 0]

def k0_chk597 (v3407 : BitVec 32) : Prop :=
  (∀ a, (k0_off1088 v3407) a + S1x1x1024.size a ≤ S1x2048x1024.size a) ∧
  (∀ a, (k0_off1096 v3407) a + S1x1x1024.size a ≤ S1x2048x1024.size a)
theorem k0_off1088_inb : ∀ (v3407 : BitVec 32) (k0_hw597 : k0_chk597 v3407), ∀ a, (k0_off1088 v3407) a + S1x1x1024.size a ≤ S1x2048x1024.size a := fun v3407 k0_hw597 => k0_hw597.1
theorem k0_off1096_inb : ∀ (v3407 : BitVec 32) (k0_hw597 : k0_chk597 v3407), ∀ a, (k0_off1096 v3407) a + S1x1x1024.size a ≤ S1x2048x1024.size a := fun v3407 k0_hw597 => k0_hw597.2

def k0_off1097 (v3409 : BitVec 32) : Fin 3 → Nat :=
  let c0_2161 : Index := 0#32
  let v3458 : Index := Scalar.indexCast v3409
  let c0_2162 : Index := 0#32
  ![0, v3458.toNat, 0]

def k0_chk598 (v3409 : BitVec 32) : Prop :=
  (∀ a, (k0_off1090 v3409) a + S1x1x1024.size a ≤ S1x2048x1024.size a) ∧
  (∀ a, (k0_off1097 v3409) a + S1x1x1024.size a ≤ S1x2048x1024.size a)
theorem k0_off1090_inb : ∀ (v3409 : BitVec 32) (k0_hw598 : k0_chk598 v3409), ∀ a, (k0_off1090 v3409) a + S1x1x1024.size a ≤ S1x2048x1024.size a := fun v3409 k0_hw598 => k0_hw598.1
theorem k0_off1097_inb : ∀ (v3409 : BitVec 32) (k0_hw598 : k0_chk598 v3409), ∀ a, (k0_off1097 v3409) a + S1x1x1024.size a ≤ S1x2048x1024.size a := fun v3409 k0_hw598 => k0_hw598.2

def k0_off1098 (v3411 : BitVec 32) : Fin 3 → Nat :=
  let c0_2163 : Index := 0#32
  let v3462 : Index := Scalar.indexCast v3411
  let c0_2164 : Index := 0#32
  ![0, v3462.toNat, 0]

def k0_chk599 (v3411 : BitVec 32) : Prop :=
  (∀ a, (k0_off1092 v3411) a + S1x1x1024.size a ≤ S1x2048x1024.size a) ∧
  (∀ a, (k0_off1098 v3411) a + S1x1x1024.size a ≤ S1x2048x1024.size a)
theorem k0_off1092_inb : ∀ (v3411 : BitVec 32) (k0_hw599 : k0_chk599 v3411), ∀ a, (k0_off1092 v3411) a + S1x1x1024.size a ≤ S1x2048x1024.size a := fun v3411 k0_hw599 => k0_hw599.1
theorem k0_off1098_inb : ∀ (v3411 : BitVec 32) (k0_hw599 : k0_chk599 v3411), ∀ a, (k0_off1098 v3411) a + S1x1x1024.size a ≤ S1x2048x1024.size a := fun v3411 k0_hw599 => k0_hw599.2

def k0_off1099 (i : grid0.Coords) : Fin 3 → Nat :=
  let c0_2167 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3470 : Index := Scalar.indexCast v2059
  let c88_2168 : Index := 88#32
  ![0, v3470.toNat, 88]
def k0_off1100 (i : grid0.Coords) : Fin 3 → Nat :=
  let c0_2169 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3472 : Index := Scalar.indexCast v2059
  let c89_2170 : Index := 89#32
  ![0, v3472.toNat, 89]
def k0_off1101 (i : grid0.Coords) : Fin 3 → Nat :=
  let c0_2171 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3474 : Index := Scalar.indexCast v2059
  let c90_2172 : Index := 90#32
  ![0, v3474.toNat, 90]
def k0_off1102 (i : grid0.Coords) : Fin 3 → Nat :=
  let c0_2173 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3476 : Index := Scalar.indexCast v2059
  let c91_2174 : Index := 91#32
  ![0, v3476.toNat, 91]
def k0_off1103 (v3471 : BitVec 32) : Fin 3 → Nat :=
  let c0_2175 : Index := 0#32
  let v3478 : Index := Scalar.indexCast v3471
  let c0_2176 : Index := 0#32
  ![0, v3478.toNat, 0]

def k0_off1104 (i : grid0.Coords) : Fin 3 → Nat :=
  let c0_2177 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3481 : Index := Scalar.indexCast v2059
  let c88_2178 : Index := 88#32
  ![0, v3481.toNat, 88]
def k0_off1105 (v3473 : BitVec 32) : Fin 3 → Nat :=
  let c0_2181 : Index := 0#32
  let v3488 : Index := Scalar.indexCast v3473
  let c0_2182 : Index := 0#32
  ![0, v3488.toNat, 0]

def k0_off1106 (i : grid0.Coords) : Fin 3 → Nat :=
  let c0_2183 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3491 : Index := Scalar.indexCast v2059
  let c89_2184 : Index := 89#32
  ![0, v3491.toNat, 89]
def k0_off1107 (v3475 : BitVec 32) : Fin 3 → Nat :=
  let c0_2187 : Index := 0#32
  let v3498 : Index := Scalar.indexCast v3475
  let c0_2188 : Index := 0#32
  ![0, v3498.toNat, 0]

def k0_off1108 (i : grid0.Coords) : Fin 3 → Nat :=
  let c0_2189 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3501 : Index := Scalar.indexCast v2059
  let c90_2190 : Index := 90#32
  ![0, v3501.toNat, 90]
def k0_off1109 (v3477 : BitVec 32) : Fin 3 → Nat :=
  let c0_2193 : Index := 0#32
  let v3508 : Index := Scalar.indexCast v3477
  let c0_2194 : Index := 0#32
  ![0, v3508.toNat, 0]

def k0_chk604 (v3477 : BitVec 32) : Prop :=
  (∀ a, (k0_off1109 v3477) a + S1x1x1024.size a ≤ S1x2048x1024.size a)
theorem k0_off1109_inb : ∀ (v3477 : BitVec 32) (k0_hw604 : k0_chk604 v3477), ∀ a, (k0_off1109 v3477) a + S1x1x1024.size a ≤ S1x2048x1024.size a := fun v3477 k0_hw604 => k0_hw604

def k0_off1110 (i : grid0.Coords) : Fin 3 → Nat :=
  let c0_2195 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3511 : Index := Scalar.indexCast v2059
  let c91_2196 : Index := 91#32
  ![0, v3511.toNat, 91]
def k0_off1111 (v3471 : BitVec 32) : Fin 3 → Nat :=
  let c0_2199 : Index := 0#32
  let v3518 : Index := Scalar.indexCast v3471
  let c0_2200 : Index := 0#32
  ![0, v3518.toNat, 0]

def k0_chk601 (v3471 : BitVec 32) : Prop :=
  (∀ a, (k0_off1103 v3471) a + S1x1x1024.size a ≤ S1x2048x1024.size a) ∧
  (∀ a, (k0_off1111 v3471) a + S1x1x1024.size a ≤ S1x2048x1024.size a)
theorem k0_off1103_inb : ∀ (v3471 : BitVec 32) (k0_hw601 : k0_chk601 v3471), ∀ a, (k0_off1103 v3471) a + S1x1x1024.size a ≤ S1x2048x1024.size a := fun v3471 k0_hw601 => k0_hw601.1
theorem k0_off1111_inb : ∀ (v3471 : BitVec 32) (k0_hw601 : k0_chk601 v3471), ∀ a, (k0_off1111 v3471) a + S1x1x1024.size a ≤ S1x2048x1024.size a := fun v3471 k0_hw601 => k0_hw601.2

def k0_off1112 (v3473 : BitVec 32) : Fin 3 → Nat :=
  let c0_2201 : Index := 0#32
  let v3522 : Index := Scalar.indexCast v3473
  let c0_2202 : Index := 0#32
  ![0, v3522.toNat, 0]

def k0_chk602 (v3473 : BitVec 32) : Prop :=
  (∀ a, (k0_off1105 v3473) a + S1x1x1024.size a ≤ S1x2048x1024.size a) ∧
  (∀ a, (k0_off1112 v3473) a + S1x1x1024.size a ≤ S1x2048x1024.size a)
theorem k0_off1105_inb : ∀ (v3473 : BitVec 32) (k0_hw602 : k0_chk602 v3473), ∀ a, (k0_off1105 v3473) a + S1x1x1024.size a ≤ S1x2048x1024.size a := fun v3473 k0_hw602 => k0_hw602.1
theorem k0_off1112_inb : ∀ (v3473 : BitVec 32) (k0_hw602 : k0_chk602 v3473), ∀ a, (k0_off1112 v3473) a + S1x1x1024.size a ≤ S1x2048x1024.size a := fun v3473 k0_hw602 => k0_hw602.2

def k0_off1113 (v3475 : BitVec 32) : Fin 3 → Nat :=
  let c0_2203 : Index := 0#32
  let v3526 : Index := Scalar.indexCast v3475
  let c0_2204 : Index := 0#32
  ![0, v3526.toNat, 0]

def k0_chk603 (v3475 : BitVec 32) : Prop :=
  (∀ a, (k0_off1107 v3475) a + S1x1x1024.size a ≤ S1x2048x1024.size a) ∧
  (∀ a, (k0_off1113 v3475) a + S1x1x1024.size a ≤ S1x2048x1024.size a)
theorem k0_off1107_inb : ∀ (v3475 : BitVec 32) (k0_hw603 : k0_chk603 v3475), ∀ a, (k0_off1107 v3475) a + S1x1x1024.size a ≤ S1x2048x1024.size a := fun v3475 k0_hw603 => k0_hw603.1
theorem k0_off1113_inb : ∀ (v3475 : BitVec 32) (k0_hw603 : k0_chk603 v3475), ∀ a, (k0_off1113 v3475) a + S1x1x1024.size a ≤ S1x2048x1024.size a := fun v3475 k0_hw603 => k0_hw603.2

def k0_off1114 (i : grid0.Coords) : Fin 3 → Nat :=
  let c0_2207 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3534 : Index := Scalar.indexCast v2059
  let c92_2208 : Index := 92#32
  ![0, v3534.toNat, 92]
def k0_off1115 (i : grid0.Coords) : Fin 3 → Nat :=
  let c0_2209 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3536 : Index := Scalar.indexCast v2059
  let c93_2210 : Index := 93#32
  ![0, v3536.toNat, 93]
def k0_off1116 (i : grid0.Coords) : Fin 3 → Nat :=
  let c0_2211 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3538 : Index := Scalar.indexCast v2059
  let c94_2212 : Index := 94#32
  ![0, v3538.toNat, 94]
def k0_off1117 (i : grid0.Coords) : Fin 3 → Nat :=
  let c0_2213 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3540 : Index := Scalar.indexCast v2059
  let c95_2214 : Index := 95#32
  ![0, v3540.toNat, 95]
def k0_off1118 (v3535 : BitVec 32) : Fin 3 → Nat :=
  let c0_2215 : Index := 0#32
  let v3542 : Index := Scalar.indexCast v3535
  let c0_2216 : Index := 0#32
  ![0, v3542.toNat, 0]

def k0_off1119 (i : grid0.Coords) : Fin 3 → Nat :=
  let c0_2217 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3545 : Index := Scalar.indexCast v2059
  let c92_2218 : Index := 92#32
  ![0, v3545.toNat, 92]
def k0_off1120 (v3537 : BitVec 32) : Fin 3 → Nat :=
  let c0_2221 : Index := 0#32
  let v3552 : Index := Scalar.indexCast v3537
  let c0_2222 : Index := 0#32
  ![0, v3552.toNat, 0]

def k0_off1121 (i : grid0.Coords) : Fin 3 → Nat :=
  let c0_2223 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3555 : Index := Scalar.indexCast v2059
  let c93_2224 : Index := 93#32
  ![0, v3555.toNat, 93]
def k0_off1122 (v3539 : BitVec 32) : Fin 3 → Nat :=
  let c0_2227 : Index := 0#32
  let v3562 : Index := Scalar.indexCast v3539
  let c0_2228 : Index := 0#32
  ![0, v3562.toNat, 0]

def k0_off1123 (i : grid0.Coords) : Fin 3 → Nat :=
  let c0_2229 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3565 : Index := Scalar.indexCast v2059
  let c94_2230 : Index := 94#32
  ![0, v3565.toNat, 94]
def k0_off1124 (v3541 : BitVec 32) : Fin 3 → Nat :=
  let c0_2233 : Index := 0#32
  let v3572 : Index := Scalar.indexCast v3541
  let c0_2234 : Index := 0#32
  ![0, v3572.toNat, 0]

def k0_chk608 (v3541 : BitVec 32) : Prop :=
  (∀ a, (k0_off1124 v3541) a + S1x1x1024.size a ≤ S1x2048x1024.size a)
theorem k0_off1124_inb : ∀ (v3541 : BitVec 32) (k0_hw608 : k0_chk608 v3541), ∀ a, (k0_off1124 v3541) a + S1x1x1024.size a ≤ S1x2048x1024.size a := fun v3541 k0_hw608 => k0_hw608

def k0_off1125 (i : grid0.Coords) : Fin 3 → Nat :=
  let c0_2235 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3575 : Index := Scalar.indexCast v2059
  let c95_2236 : Index := 95#32
  ![0, v3575.toNat, 95]
def k0_off1126 (v3535 : BitVec 32) : Fin 3 → Nat :=
  let c0_2239 : Index := 0#32
  let v3582 : Index := Scalar.indexCast v3535
  let c0_2240 : Index := 0#32
  ![0, v3582.toNat, 0]

def k0_chk605 (v3535 : BitVec 32) : Prop :=
  (∀ a, (k0_off1118 v3535) a + S1x1x1024.size a ≤ S1x2048x1024.size a) ∧
  (∀ a, (k0_off1126 v3535) a + S1x1x1024.size a ≤ S1x2048x1024.size a)
theorem k0_off1118_inb : ∀ (v3535 : BitVec 32) (k0_hw605 : k0_chk605 v3535), ∀ a, (k0_off1118 v3535) a + S1x1x1024.size a ≤ S1x2048x1024.size a := fun v3535 k0_hw605 => k0_hw605.1
theorem k0_off1126_inb : ∀ (v3535 : BitVec 32) (k0_hw605 : k0_chk605 v3535), ∀ a, (k0_off1126 v3535) a + S1x1x1024.size a ≤ S1x2048x1024.size a := fun v3535 k0_hw605 => k0_hw605.2

def k0_off1127 (v3537 : BitVec 32) : Fin 3 → Nat :=
  let c0_2241 : Index := 0#32
  let v3586 : Index := Scalar.indexCast v3537
  let c0_2242 : Index := 0#32
  ![0, v3586.toNat, 0]

def k0_chk606 (v3537 : BitVec 32) : Prop :=
  (∀ a, (k0_off1120 v3537) a + S1x1x1024.size a ≤ S1x2048x1024.size a) ∧
  (∀ a, (k0_off1127 v3537) a + S1x1x1024.size a ≤ S1x2048x1024.size a)
theorem k0_off1120_inb : ∀ (v3537 : BitVec 32) (k0_hw606 : k0_chk606 v3537), ∀ a, (k0_off1120 v3537) a + S1x1x1024.size a ≤ S1x2048x1024.size a := fun v3537 k0_hw606 => k0_hw606.1
theorem k0_off1127_inb : ∀ (v3537 : BitVec 32) (k0_hw606 : k0_chk606 v3537), ∀ a, (k0_off1127 v3537) a + S1x1x1024.size a ≤ S1x2048x1024.size a := fun v3537 k0_hw606 => k0_hw606.2

def k0_off1128 (v3539 : BitVec 32) : Fin 3 → Nat :=
  let c0_2243 : Index := 0#32
  let v3590 : Index := Scalar.indexCast v3539
  let c0_2244 : Index := 0#32
  ![0, v3590.toNat, 0]

def k0_chk607 (v3539 : BitVec 32) : Prop :=
  (∀ a, (k0_off1122 v3539) a + S1x1x1024.size a ≤ S1x2048x1024.size a) ∧
  (∀ a, (k0_off1128 v3539) a + S1x1x1024.size a ≤ S1x2048x1024.size a)
theorem k0_off1122_inb : ∀ (v3539 : BitVec 32) (k0_hw607 : k0_chk607 v3539), ∀ a, (k0_off1122 v3539) a + S1x1x1024.size a ≤ S1x2048x1024.size a := fun v3539 k0_hw607 => k0_hw607.1
theorem k0_off1128_inb : ∀ (v3539 : BitVec 32) (k0_hw607 : k0_chk607 v3539), ∀ a, (k0_off1128 v3539) a + S1x1x1024.size a ≤ S1x2048x1024.size a := fun v3539 k0_hw607 => k0_hw607.2

def k0_off1129 (i : grid0.Coords) : Fin 3 → Nat :=
  let c0_2247 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3598 : Index := Scalar.indexCast v2059
  let c96_2248 : Index := 96#32
  ![0, v3598.toNat, 96]
def k0_off1130 (i : grid0.Coords) : Fin 3 → Nat :=
  let c0_2249 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3600 : Index := Scalar.indexCast v2059
  let c97_2250 : Index := 97#32
  ![0, v3600.toNat, 97]
def k0_off1131 (i : grid0.Coords) : Fin 3 → Nat :=
  let c0_2251 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3602 : Index := Scalar.indexCast v2059
  let c98_2252 : Index := 98#32
  ![0, v3602.toNat, 98]
def k0_off1132 (i : grid0.Coords) : Fin 3 → Nat :=
  let c0_2253 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3604 : Index := Scalar.indexCast v2059
  let c99_2254 : Index := 99#32
  ![0, v3604.toNat, 99]
def k0_off1133 (v3599 : BitVec 32) : Fin 3 → Nat :=
  let c0_2255 : Index := 0#32
  let v3606 : Index := Scalar.indexCast v3599
  let c0_2256 : Index := 0#32
  ![0, v3606.toNat, 0]

def k0_off1134 (i : grid0.Coords) : Fin 3 → Nat :=
  let c0_2257 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3609 : Index := Scalar.indexCast v2059
  let c96_2258 : Index := 96#32
  ![0, v3609.toNat, 96]
def k0_off1135 (v3601 : BitVec 32) : Fin 3 → Nat :=
  let c0_2261 : Index := 0#32
  let v3616 : Index := Scalar.indexCast v3601
  let c0_2262 : Index := 0#32
  ![0, v3616.toNat, 0]

def k0_off1136 (i : grid0.Coords) : Fin 3 → Nat :=
  let c0_2263 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3619 : Index := Scalar.indexCast v2059
  let c97_2264 : Index := 97#32
  ![0, v3619.toNat, 97]
def k0_off1137 (v3603 : BitVec 32) : Fin 3 → Nat :=
  let c0_2267 : Index := 0#32
  let v3626 : Index := Scalar.indexCast v3603
  let c0_2268 : Index := 0#32
  ![0, v3626.toNat, 0]

def k0_off1138 (i : grid0.Coords) : Fin 3 → Nat :=
  let c0_2269 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3629 : Index := Scalar.indexCast v2059
  let c98_2270 : Index := 98#32
  ![0, v3629.toNat, 98]
def k0_off1139 (v3605 : BitVec 32) : Fin 3 → Nat :=
  let c0_2273 : Index := 0#32
  let v3636 : Index := Scalar.indexCast v3605
  let c0_2274 : Index := 0#32
  ![0, v3636.toNat, 0]

def k0_chk612 (v3605 : BitVec 32) : Prop :=
  (∀ a, (k0_off1139 v3605) a + S1x1x1024.size a ≤ S1x2048x1024.size a)
theorem k0_off1139_inb : ∀ (v3605 : BitVec 32) (k0_hw612 : k0_chk612 v3605), ∀ a, (k0_off1139 v3605) a + S1x1x1024.size a ≤ S1x2048x1024.size a := fun v3605 k0_hw612 => k0_hw612

def k0_off1140 (i : grid0.Coords) : Fin 3 → Nat :=
  let c0_2275 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3639 : Index := Scalar.indexCast v2059
  let c99_2276 : Index := 99#32
  ![0, v3639.toNat, 99]
def k0_off1141 (v3599 : BitVec 32) : Fin 3 → Nat :=
  let c0_2279 : Index := 0#32
  let v3646 : Index := Scalar.indexCast v3599
  let c0_2280 : Index := 0#32
  ![0, v3646.toNat, 0]

def k0_chk609 (v3599 : BitVec 32) : Prop :=
  (∀ a, (k0_off1133 v3599) a + S1x1x1024.size a ≤ S1x2048x1024.size a) ∧
  (∀ a, (k0_off1141 v3599) a + S1x1x1024.size a ≤ S1x2048x1024.size a)
theorem k0_off1133_inb : ∀ (v3599 : BitVec 32) (k0_hw609 : k0_chk609 v3599), ∀ a, (k0_off1133 v3599) a + S1x1x1024.size a ≤ S1x2048x1024.size a := fun v3599 k0_hw609 => k0_hw609.1
theorem k0_off1141_inb : ∀ (v3599 : BitVec 32) (k0_hw609 : k0_chk609 v3599), ∀ a, (k0_off1141 v3599) a + S1x1x1024.size a ≤ S1x2048x1024.size a := fun v3599 k0_hw609 => k0_hw609.2

def k0_off1142 (v3601 : BitVec 32) : Fin 3 → Nat :=
  let c0_2281 : Index := 0#32
  let v3650 : Index := Scalar.indexCast v3601
  let c0_2282 : Index := 0#32
  ![0, v3650.toNat, 0]

def k0_chk610 (v3601 : BitVec 32) : Prop :=
  (∀ a, (k0_off1135 v3601) a + S1x1x1024.size a ≤ S1x2048x1024.size a) ∧
  (∀ a, (k0_off1142 v3601) a + S1x1x1024.size a ≤ S1x2048x1024.size a)
theorem k0_off1135_inb : ∀ (v3601 : BitVec 32) (k0_hw610 : k0_chk610 v3601), ∀ a, (k0_off1135 v3601) a + S1x1x1024.size a ≤ S1x2048x1024.size a := fun v3601 k0_hw610 => k0_hw610.1
theorem k0_off1142_inb : ∀ (v3601 : BitVec 32) (k0_hw610 : k0_chk610 v3601), ∀ a, (k0_off1142 v3601) a + S1x1x1024.size a ≤ S1x2048x1024.size a := fun v3601 k0_hw610 => k0_hw610.2

def k0_off1143 (v3603 : BitVec 32) : Fin 3 → Nat :=
  let c0_2283 : Index := 0#32
  let v3654 : Index := Scalar.indexCast v3603
  let c0_2284 : Index := 0#32
  ![0, v3654.toNat, 0]

def k0_chk611 (v3603 : BitVec 32) : Prop :=
  (∀ a, (k0_off1137 v3603) a + S1x1x1024.size a ≤ S1x2048x1024.size a) ∧
  (∀ a, (k0_off1143 v3603) a + S1x1x1024.size a ≤ S1x2048x1024.size a)
theorem k0_off1137_inb : ∀ (v3603 : BitVec 32) (k0_hw611 : k0_chk611 v3603), ∀ a, (k0_off1137 v3603) a + S1x1x1024.size a ≤ S1x2048x1024.size a := fun v3603 k0_hw611 => k0_hw611.1
theorem k0_off1143_inb : ∀ (v3603 : BitVec 32) (k0_hw611 : k0_chk611 v3603), ∀ a, (k0_off1143 v3603) a + S1x1x1024.size a ≤ S1x2048x1024.size a := fun v3603 k0_hw611 => k0_hw611.2

def k0_off1144 (i : grid0.Coords) : Fin 3 → Nat :=
  let c0_2287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3662 : Index := Scalar.indexCast v2059
  let c100_2288 : Index := 100#32
  ![0, v3662.toNat, 100]
def k0_off1145 (i : grid0.Coords) : Fin 3 → Nat :=
  let c0_2289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3664 : Index := Scalar.indexCast v2059
  let c101_2290 : Index := 101#32
  ![0, v3664.toNat, 101]
def k0_off1146 (i : grid0.Coords) : Fin 3 → Nat :=
  let c0_2291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3666 : Index := Scalar.indexCast v2059
  let c102_2292 : Index := 102#32
  ![0, v3666.toNat, 102]
def k0_off1147 (i : grid0.Coords) : Fin 3 → Nat :=
  let c0_2293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3668 : Index := Scalar.indexCast v2059
  let c103_2294 : Index := 103#32
  ![0, v3668.toNat, 103]
def k0_off1148 (v3663 : BitVec 32) : Fin 3 → Nat :=
  let c0_2295 : Index := 0#32
  let v3670 : Index := Scalar.indexCast v3663
  let c0_2296 : Index := 0#32
  ![0, v3670.toNat, 0]

def k0_off1149 (i : grid0.Coords) : Fin 3 → Nat :=
  let c0_2297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3673 : Index := Scalar.indexCast v2059
  let c100_2298 : Index := 100#32
  ![0, v3673.toNat, 100]
def k0_off1150 (v3665 : BitVec 32) : Fin 3 → Nat :=
  let c0_2301 : Index := 0#32
  let v3680 : Index := Scalar.indexCast v3665
  let c0_2302 : Index := 0#32
  ![0, v3680.toNat, 0]

def k0_off1151 (i : grid0.Coords) : Fin 3 → Nat :=
  let c0_2303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3683 : Index := Scalar.indexCast v2059
  let c101_2304 : Index := 101#32
  ![0, v3683.toNat, 101]
def k0_off1152 (v3667 : BitVec 32) : Fin 3 → Nat :=
  let c0_2307 : Index := 0#32
  let v3690 : Index := Scalar.indexCast v3667
  let c0_2308 : Index := 0#32
  ![0, v3690.toNat, 0]

def k0_off1153 (i : grid0.Coords) : Fin 3 → Nat :=
  let c0_2309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3693 : Index := Scalar.indexCast v2059
  let c102_2310 : Index := 102#32
  ![0, v3693.toNat, 102]
def k0_off1154 (v3669 : BitVec 32) : Fin 3 → Nat :=
  let c0_2313 : Index := 0#32
  let v3700 : Index := Scalar.indexCast v3669
  let c0_2314 : Index := 0#32
  ![0, v3700.toNat, 0]

def k0_chk616 (v3669 : BitVec 32) : Prop :=
  (∀ a, (k0_off1154 v3669) a + S1x1x1024.size a ≤ S1x2048x1024.size a)
theorem k0_off1154_inb : ∀ (v3669 : BitVec 32) (k0_hw616 : k0_chk616 v3669), ∀ a, (k0_off1154 v3669) a + S1x1x1024.size a ≤ S1x2048x1024.size a := fun v3669 k0_hw616 => k0_hw616

def k0_off1155 (i : grid0.Coords) : Fin 3 → Nat :=
  let c0_2315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3703 : Index := Scalar.indexCast v2059
  let c103_2316 : Index := 103#32
  ![0, v3703.toNat, 103]
def k0_off1156 (v3663 : BitVec 32) : Fin 3 → Nat :=
  let c0_2319 : Index := 0#32
  let v3710 : Index := Scalar.indexCast v3663
  let c0_2320 : Index := 0#32
  ![0, v3710.toNat, 0]

def k0_chk613 (v3663 : BitVec 32) : Prop :=
  (∀ a, (k0_off1148 v3663) a + S1x1x1024.size a ≤ S1x2048x1024.size a) ∧
  (∀ a, (k0_off1156 v3663) a + S1x1x1024.size a ≤ S1x2048x1024.size a)
theorem k0_off1148_inb : ∀ (v3663 : BitVec 32) (k0_hw613 : k0_chk613 v3663), ∀ a, (k0_off1148 v3663) a + S1x1x1024.size a ≤ S1x2048x1024.size a := fun v3663 k0_hw613 => k0_hw613.1
theorem k0_off1156_inb : ∀ (v3663 : BitVec 32) (k0_hw613 : k0_chk613 v3663), ∀ a, (k0_off1156 v3663) a + S1x1x1024.size a ≤ S1x2048x1024.size a := fun v3663 k0_hw613 => k0_hw613.2

def k0_off1157 (v3665 : BitVec 32) : Fin 3 → Nat :=
  let c0_2321 : Index := 0#32
  let v3714 : Index := Scalar.indexCast v3665
  let c0_2322 : Index := 0#32
  ![0, v3714.toNat, 0]

def k0_chk614 (v3665 : BitVec 32) : Prop :=
  (∀ a, (k0_off1150 v3665) a + S1x1x1024.size a ≤ S1x2048x1024.size a) ∧
  (∀ a, (k0_off1157 v3665) a + S1x1x1024.size a ≤ S1x2048x1024.size a)
theorem k0_off1150_inb : ∀ (v3665 : BitVec 32) (k0_hw614 : k0_chk614 v3665), ∀ a, (k0_off1150 v3665) a + S1x1x1024.size a ≤ S1x2048x1024.size a := fun v3665 k0_hw614 => k0_hw614.1
theorem k0_off1157_inb : ∀ (v3665 : BitVec 32) (k0_hw614 : k0_chk614 v3665), ∀ a, (k0_off1157 v3665) a + S1x1x1024.size a ≤ S1x2048x1024.size a := fun v3665 k0_hw614 => k0_hw614.2

def k0_off1158 (v3667 : BitVec 32) : Fin 3 → Nat :=
  let c0_2323 : Index := 0#32
  let v3718 : Index := Scalar.indexCast v3667
  let c0_2324 : Index := 0#32
  ![0, v3718.toNat, 0]

def k0_chk615 (v3667 : BitVec 32) : Prop :=
  (∀ a, (k0_off1152 v3667) a + S1x1x1024.size a ≤ S1x2048x1024.size a) ∧
  (∀ a, (k0_off1158 v3667) a + S1x1x1024.size a ≤ S1x2048x1024.size a)
theorem k0_off1152_inb : ∀ (v3667 : BitVec 32) (k0_hw615 : k0_chk615 v3667), ∀ a, (k0_off1152 v3667) a + S1x1x1024.size a ≤ S1x2048x1024.size a := fun v3667 k0_hw615 => k0_hw615.1
theorem k0_off1158_inb : ∀ (v3667 : BitVec 32) (k0_hw615 : k0_chk615 v3667), ∀ a, (k0_off1158 v3667) a + S1x1x1024.size a ≤ S1x2048x1024.size a := fun v3667 k0_hw615 => k0_hw615.2

def k0_off1159 (i : grid0.Coords) : Fin 3 → Nat :=
  let c0_2327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3726 : Index := Scalar.indexCast v2059
  let c104_2328 : Index := 104#32
  ![0, v3726.toNat, 104]
def k0_off1160 (i : grid0.Coords) : Fin 3 → Nat :=
  let c0_2329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3728 : Index := Scalar.indexCast v2059
  let c105_2330 : Index := 105#32
  ![0, v3728.toNat, 105]
def k0_off1161 (i : grid0.Coords) : Fin 3 → Nat :=
  let c0_2331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3730 : Index := Scalar.indexCast v2059
  let c106_2332 : Index := 106#32
  ![0, v3730.toNat, 106]
def k0_off1162 (i : grid0.Coords) : Fin 3 → Nat :=
  let c0_2333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3732 : Index := Scalar.indexCast v2059
  let c107_2334 : Index := 107#32
  ![0, v3732.toNat, 107]
def k0_off1163 (v3727 : BitVec 32) : Fin 3 → Nat :=
  let c0_2335 : Index := 0#32
  let v3734 : Index := Scalar.indexCast v3727
  let c0_2336 : Index := 0#32
  ![0, v3734.toNat, 0]

def k0_off1164 (i : grid0.Coords) : Fin 3 → Nat :=
  let c0_2337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3737 : Index := Scalar.indexCast v2059
  let c104_2338 : Index := 104#32
  ![0, v3737.toNat, 104]
def k0_off1165 (v3729 : BitVec 32) : Fin 3 → Nat :=
  let c0_2341 : Index := 0#32
  let v3744 : Index := Scalar.indexCast v3729
  let c0_2342 : Index := 0#32
  ![0, v3744.toNat, 0]

def k0_off1166 (i : grid0.Coords) : Fin 3 → Nat :=
  let c0_2343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3747 : Index := Scalar.indexCast v2059
  let c105_2344 : Index := 105#32
  ![0, v3747.toNat, 105]
def k0_off1167 (v3731 : BitVec 32) : Fin 3 → Nat :=
  let c0_2347 : Index := 0#32
  let v3754 : Index := Scalar.indexCast v3731
  let c0_2348 : Index := 0#32
  ![0, v3754.toNat, 0]

def k0_off1168 (i : grid0.Coords) : Fin 3 → Nat :=
  let c0_2349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3757 : Index := Scalar.indexCast v2059
  let c106_2350 : Index := 106#32
  ![0, v3757.toNat, 106]
def k0_off1169 (v3733 : BitVec 32) : Fin 3 → Nat :=
  let c0_2353 : Index := 0#32
  let v3764 : Index := Scalar.indexCast v3733
  let c0_2354 : Index := 0#32
  ![0, v3764.toNat, 0]

def k0_chk620 (v3733 : BitVec 32) : Prop :=
  (∀ a, (k0_off1169 v3733) a + S1x1x1024.size a ≤ S1x2048x1024.size a)
theorem k0_off1169_inb : ∀ (v3733 : BitVec 32) (k0_hw620 : k0_chk620 v3733), ∀ a, (k0_off1169 v3733) a + S1x1x1024.size a ≤ S1x2048x1024.size a := fun v3733 k0_hw620 => k0_hw620

def k0_off1170 (i : grid0.Coords) : Fin 3 → Nat :=
  let c0_2355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3767 : Index := Scalar.indexCast v2059
  let c107_2356 : Index := 107#32
  ![0, v3767.toNat, 107]
def k0_off1171 (v3727 : BitVec 32) : Fin 3 → Nat :=
  let c0_2359 : Index := 0#32
  let v3774 : Index := Scalar.indexCast v3727
  let c0_2360 : Index := 0#32
  ![0, v3774.toNat, 0]

def k0_chk617 (v3727 : BitVec 32) : Prop :=
  (∀ a, (k0_off1163 v3727) a + S1x1x1024.size a ≤ S1x2048x1024.size a) ∧
  (∀ a, (k0_off1171 v3727) a + S1x1x1024.size a ≤ S1x2048x1024.size a)
theorem k0_off1163_inb : ∀ (v3727 : BitVec 32) (k0_hw617 : k0_chk617 v3727), ∀ a, (k0_off1163 v3727) a + S1x1x1024.size a ≤ S1x2048x1024.size a := fun v3727 k0_hw617 => k0_hw617.1
theorem k0_off1171_inb : ∀ (v3727 : BitVec 32) (k0_hw617 : k0_chk617 v3727), ∀ a, (k0_off1171 v3727) a + S1x1x1024.size a ≤ S1x2048x1024.size a := fun v3727 k0_hw617 => k0_hw617.2

def k0_off1172 (v3729 : BitVec 32) : Fin 3 → Nat :=
  let c0_2361 : Index := 0#32
  let v3778 : Index := Scalar.indexCast v3729
  let c0_2362 : Index := 0#32
  ![0, v3778.toNat, 0]

def k0_chk618 (v3729 : BitVec 32) : Prop :=
  (∀ a, (k0_off1165 v3729) a + S1x1x1024.size a ≤ S1x2048x1024.size a) ∧
  (∀ a, (k0_off1172 v3729) a + S1x1x1024.size a ≤ S1x2048x1024.size a)
theorem k0_off1165_inb : ∀ (v3729 : BitVec 32) (k0_hw618 : k0_chk618 v3729), ∀ a, (k0_off1165 v3729) a + S1x1x1024.size a ≤ S1x2048x1024.size a := fun v3729 k0_hw618 => k0_hw618.1
theorem k0_off1172_inb : ∀ (v3729 : BitVec 32) (k0_hw618 : k0_chk618 v3729), ∀ a, (k0_off1172 v3729) a + S1x1x1024.size a ≤ S1x2048x1024.size a := fun v3729 k0_hw618 => k0_hw618.2

def k0_off1173 (v3731 : BitVec 32) : Fin 3 → Nat :=
  let c0_2363 : Index := 0#32
  let v3782 : Index := Scalar.indexCast v3731
  let c0_2364 : Index := 0#32
  ![0, v3782.toNat, 0]

def k0_chk619 (v3731 : BitVec 32) : Prop :=
  (∀ a, (k0_off1167 v3731) a + S1x1x1024.size a ≤ S1x2048x1024.size a) ∧
  (∀ a, (k0_off1173 v3731) a + S1x1x1024.size a ≤ S1x2048x1024.size a)
theorem k0_off1167_inb : ∀ (v3731 : BitVec 32) (k0_hw619 : k0_chk619 v3731), ∀ a, (k0_off1167 v3731) a + S1x1x1024.size a ≤ S1x2048x1024.size a := fun v3731 k0_hw619 => k0_hw619.1
theorem k0_off1173_inb : ∀ (v3731 : BitVec 32) (k0_hw619 : k0_chk619 v3731), ∀ a, (k0_off1173 v3731) a + S1x1x1024.size a ≤ S1x2048x1024.size a := fun v3731 k0_hw619 => k0_hw619.2

def k0_off1174 (i : grid0.Coords) : Fin 3 → Nat :=
  let c0_2367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3790 : Index := Scalar.indexCast v2059
  let c108_2368 : Index := 108#32
  ![0, v3790.toNat, 108]
def k0_off1175 (i : grid0.Coords) : Fin 3 → Nat :=
  let c0_2369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3792 : Index := Scalar.indexCast v2059
  let c109_2370 : Index := 109#32
  ![0, v3792.toNat, 109]
def k0_off1176 (i : grid0.Coords) : Fin 3 → Nat :=
  let c0_2371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3794 : Index := Scalar.indexCast v2059
  let c110_2372 : Index := 110#32
  ![0, v3794.toNat, 110]
def k0_off1177 (i : grid0.Coords) : Fin 3 → Nat :=
  let c0_2373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3796 : Index := Scalar.indexCast v2059
  let c111_2374 : Index := 111#32
  ![0, v3796.toNat, 111]
def k0_off1178 (v3791 : BitVec 32) : Fin 3 → Nat :=
  let c0_2375 : Index := 0#32
  let v3798 : Index := Scalar.indexCast v3791
  let c0_2376 : Index := 0#32
  ![0, v3798.toNat, 0]

def k0_off1179 (i : grid0.Coords) : Fin 3 → Nat :=
  let c0_2377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3801 : Index := Scalar.indexCast v2059
  let c108_2378 : Index := 108#32
  ![0, v3801.toNat, 108]
def k0_off1180 (v3793 : BitVec 32) : Fin 3 → Nat :=
  let c0_2381 : Index := 0#32
  let v3808 : Index := Scalar.indexCast v3793
  let c0_2382 : Index := 0#32
  ![0, v3808.toNat, 0]

def k0_off1181 (i : grid0.Coords) : Fin 3 → Nat :=
  let c0_2383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3811 : Index := Scalar.indexCast v2059
  let c109_2384 : Index := 109#32
  ![0, v3811.toNat, 109]
def k0_off1182 (v3795 : BitVec 32) : Fin 3 → Nat :=
  let c0_2387 : Index := 0#32
  let v3818 : Index := Scalar.indexCast v3795
  let c0_2388 : Index := 0#32
  ![0, v3818.toNat, 0]

def k0_off1183 (i : grid0.Coords) : Fin 3 → Nat :=
  let c0_2389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3821 : Index := Scalar.indexCast v2059
  let c110_2390 : Index := 110#32
  ![0, v3821.toNat, 110]
def k0_off1184 (v3797 : BitVec 32) : Fin 3 → Nat :=
  let c0_2393 : Index := 0#32
  let v3828 : Index := Scalar.indexCast v3797
  let c0_2394 : Index := 0#32
  ![0, v3828.toNat, 0]

def k0_chk624 (v3797 : BitVec 32) : Prop :=
  (∀ a, (k0_off1184 v3797) a + S1x1x1024.size a ≤ S1x2048x1024.size a)
theorem k0_off1184_inb : ∀ (v3797 : BitVec 32) (k0_hw624 : k0_chk624 v3797), ∀ a, (k0_off1184 v3797) a + S1x1x1024.size a ≤ S1x2048x1024.size a := fun v3797 k0_hw624 => k0_hw624

def k0_off1185 (i : grid0.Coords) : Fin 3 → Nat :=
  let c0_2395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3831 : Index := Scalar.indexCast v2059
  let c111_2396 : Index := 111#32
  ![0, v3831.toNat, 111]
def k0_off1186 (v3791 : BitVec 32) : Fin 3 → Nat :=
  let c0_2399 : Index := 0#32
  let v3838 : Index := Scalar.indexCast v3791
  let c0_2400 : Index := 0#32
  ![0, v3838.toNat, 0]

def k0_chk621 (v3791 : BitVec 32) : Prop :=
  (∀ a, (k0_off1178 v3791) a + S1x1x1024.size a ≤ S1x2048x1024.size a) ∧
  (∀ a, (k0_off1186 v3791) a + S1x1x1024.size a ≤ S1x2048x1024.size a)
theorem k0_off1178_inb : ∀ (v3791 : BitVec 32) (k0_hw621 : k0_chk621 v3791), ∀ a, (k0_off1178 v3791) a + S1x1x1024.size a ≤ S1x2048x1024.size a := fun v3791 k0_hw621 => k0_hw621.1
theorem k0_off1186_inb : ∀ (v3791 : BitVec 32) (k0_hw621 : k0_chk621 v3791), ∀ a, (k0_off1186 v3791) a + S1x1x1024.size a ≤ S1x2048x1024.size a := fun v3791 k0_hw621 => k0_hw621.2

def k0_off1187 (v3793 : BitVec 32) : Fin 3 → Nat :=
  let c0_2401 : Index := 0#32
  let v3842 : Index := Scalar.indexCast v3793
  let c0_2402 : Index := 0#32
  ![0, v3842.toNat, 0]

def k0_chk622 (v3793 : BitVec 32) : Prop :=
  (∀ a, (k0_off1180 v3793) a + S1x1x1024.size a ≤ S1x2048x1024.size a) ∧
  (∀ a, (k0_off1187 v3793) a + S1x1x1024.size a ≤ S1x2048x1024.size a)
theorem k0_off1180_inb : ∀ (v3793 : BitVec 32) (k0_hw622 : k0_chk622 v3793), ∀ a, (k0_off1180 v3793) a + S1x1x1024.size a ≤ S1x2048x1024.size a := fun v3793 k0_hw622 => k0_hw622.1
theorem k0_off1187_inb : ∀ (v3793 : BitVec 32) (k0_hw622 : k0_chk622 v3793), ∀ a, (k0_off1187 v3793) a + S1x1x1024.size a ≤ S1x2048x1024.size a := fun v3793 k0_hw622 => k0_hw622.2

def k0_off1188 (v3795 : BitVec 32) : Fin 3 → Nat :=
  let c0_2403 : Index := 0#32
  let v3846 : Index := Scalar.indexCast v3795
  let c0_2404 : Index := 0#32
  ![0, v3846.toNat, 0]

def k0_chk623 (v3795 : BitVec 32) : Prop :=
  (∀ a, (k0_off1182 v3795) a + S1x1x1024.size a ≤ S1x2048x1024.size a) ∧
  (∀ a, (k0_off1188 v3795) a + S1x1x1024.size a ≤ S1x2048x1024.size a)
theorem k0_off1182_inb : ∀ (v3795 : BitVec 32) (k0_hw623 : k0_chk623 v3795), ∀ a, (k0_off1182 v3795) a + S1x1x1024.size a ≤ S1x2048x1024.size a := fun v3795 k0_hw623 => k0_hw623.1
theorem k0_off1188_inb : ∀ (v3795 : BitVec 32) (k0_hw623 : k0_chk623 v3795), ∀ a, (k0_off1188 v3795) a + S1x1x1024.size a ≤ S1x2048x1024.size a := fun v3795 k0_hw623 => k0_hw623.2

def k0_off1189 (i : grid0.Coords) : Fin 3 → Nat :=
  let c0_2407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3854 : Index := Scalar.indexCast v2059
  let c112_2408 : Index := 112#32
  ![0, v3854.toNat, 112]
def k0_off1190 (i : grid0.Coords) : Fin 3 → Nat :=
  let c0_2409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3856 : Index := Scalar.indexCast v2059
  let c113_2410 : Index := 113#32
  ![0, v3856.toNat, 113]
def k0_off1191 (i : grid0.Coords) : Fin 3 → Nat :=
  let c0_2411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3858 : Index := Scalar.indexCast v2059
  let c114_2412 : Index := 114#32
  ![0, v3858.toNat, 114]
def k0_off1192 (i : grid0.Coords) : Fin 3 → Nat :=
  let c0_2413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3860 : Index := Scalar.indexCast v2059
  let c115_2414 : Index := 115#32
  ![0, v3860.toNat, 115]
def k0_off1193 (v3855 : BitVec 32) : Fin 3 → Nat :=
  let c0_2415 : Index := 0#32
  let v3862 : Index := Scalar.indexCast v3855
  let c0_2416 : Index := 0#32
  ![0, v3862.toNat, 0]

def k0_off1194 (i : grid0.Coords) : Fin 3 → Nat :=
  let c0_2417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3865 : Index := Scalar.indexCast v2059
  let c112_2418 : Index := 112#32
  ![0, v3865.toNat, 112]
def k0_off1195 (v3857 : BitVec 32) : Fin 3 → Nat :=
  let c0_2421 : Index := 0#32
  let v3872 : Index := Scalar.indexCast v3857
  let c0_2422 : Index := 0#32
  ![0, v3872.toNat, 0]

def k0_off1196 (i : grid0.Coords) : Fin 3 → Nat :=
  let c0_2423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3875 : Index := Scalar.indexCast v2059
  let c113_2424 : Index := 113#32
  ![0, v3875.toNat, 113]
def k0_off1197 (v3859 : BitVec 32) : Fin 3 → Nat :=
  let c0_2427 : Index := 0#32
  let v3882 : Index := Scalar.indexCast v3859
  let c0_2428 : Index := 0#32
  ![0, v3882.toNat, 0]

def k0_off1198 (i : grid0.Coords) : Fin 3 → Nat :=
  let c0_2429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3885 : Index := Scalar.indexCast v2059
  let c114_2430 : Index := 114#32
  ![0, v3885.toNat, 114]
def k0_off1199 (v3861 : BitVec 32) : Fin 3 → Nat :=
  let c0_2433 : Index := 0#32
  let v3892 : Index := Scalar.indexCast v3861
  let c0_2434 : Index := 0#32
  ![0, v3892.toNat, 0]

def k0_chk628 (v3861 : BitVec 32) : Prop :=
  (∀ a, (k0_off1199 v3861) a + S1x1x1024.size a ≤ S1x2048x1024.size a)
theorem k0_off1199_inb : ∀ (v3861 : BitVec 32) (k0_hw628 : k0_chk628 v3861), ∀ a, (k0_off1199 v3861) a + S1x1x1024.size a ≤ S1x2048x1024.size a := fun v3861 k0_hw628 => k0_hw628

def k0_off1200 (i : grid0.Coords) : Fin 3 → Nat :=
  let c0_2435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3895 : Index := Scalar.indexCast v2059
  let c115_2436 : Index := 115#32
  ![0, v3895.toNat, 115]
def k0_off1201 (v3855 : BitVec 32) : Fin 3 → Nat :=
  let c0_2439 : Index := 0#32
  let v3902 : Index := Scalar.indexCast v3855
  let c0_2440 : Index := 0#32
  ![0, v3902.toNat, 0]

def k0_chk625 (v3855 : BitVec 32) : Prop :=
  (∀ a, (k0_off1193 v3855) a + S1x1x1024.size a ≤ S1x2048x1024.size a) ∧
  (∀ a, (k0_off1201 v3855) a + S1x1x1024.size a ≤ S1x2048x1024.size a)
theorem k0_off1193_inb : ∀ (v3855 : BitVec 32) (k0_hw625 : k0_chk625 v3855), ∀ a, (k0_off1193 v3855) a + S1x1x1024.size a ≤ S1x2048x1024.size a := fun v3855 k0_hw625 => k0_hw625.1
theorem k0_off1201_inb : ∀ (v3855 : BitVec 32) (k0_hw625 : k0_chk625 v3855), ∀ a, (k0_off1201 v3855) a + S1x1x1024.size a ≤ S1x2048x1024.size a := fun v3855 k0_hw625 => k0_hw625.2

def k0_off1202 (v3857 : BitVec 32) : Fin 3 → Nat :=
  let c0_2441 : Index := 0#32
  let v3906 : Index := Scalar.indexCast v3857
  let c0_2442 : Index := 0#32
  ![0, v3906.toNat, 0]

def k0_chk626 (v3857 : BitVec 32) : Prop :=
  (∀ a, (k0_off1195 v3857) a + S1x1x1024.size a ≤ S1x2048x1024.size a) ∧
  (∀ a, (k0_off1202 v3857) a + S1x1x1024.size a ≤ S1x2048x1024.size a)
theorem k0_off1195_inb : ∀ (v3857 : BitVec 32) (k0_hw626 : k0_chk626 v3857), ∀ a, (k0_off1195 v3857) a + S1x1x1024.size a ≤ S1x2048x1024.size a := fun v3857 k0_hw626 => k0_hw626.1
theorem k0_off1202_inb : ∀ (v3857 : BitVec 32) (k0_hw626 : k0_chk626 v3857), ∀ a, (k0_off1202 v3857) a + S1x1x1024.size a ≤ S1x2048x1024.size a := fun v3857 k0_hw626 => k0_hw626.2

def k0_off1203 (v3859 : BitVec 32) : Fin 3 → Nat :=
  let c0_2443 : Index := 0#32
  let v3910 : Index := Scalar.indexCast v3859
  let c0_2444 : Index := 0#32
  ![0, v3910.toNat, 0]

def k0_chk627 (v3859 : BitVec 32) : Prop :=
  (∀ a, (k0_off1197 v3859) a + S1x1x1024.size a ≤ S1x2048x1024.size a) ∧
  (∀ a, (k0_off1203 v3859) a + S1x1x1024.size a ≤ S1x2048x1024.size a)
theorem k0_off1197_inb : ∀ (v3859 : BitVec 32) (k0_hw627 : k0_chk627 v3859), ∀ a, (k0_off1197 v3859) a + S1x1x1024.size a ≤ S1x2048x1024.size a := fun v3859 k0_hw627 => k0_hw627.1
theorem k0_off1203_inb : ∀ (v3859 : BitVec 32) (k0_hw627 : k0_chk627 v3859), ∀ a, (k0_off1203 v3859) a + S1x1x1024.size a ≤ S1x2048x1024.size a := fun v3859 k0_hw627 => k0_hw627.2

def k0_off1204 (i : grid0.Coords) : Fin 3 → Nat :=
  let c0_2447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3918 : Index := Scalar.indexCast v2059
  let c116_2448 : Index := 116#32
  ![0, v3918.toNat, 116]
def k0_off1205 (i : grid0.Coords) : Fin 3 → Nat :=
  let c0_2449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3920 : Index := Scalar.indexCast v2059
  let c117_2450 : Index := 117#32
  ![0, v3920.toNat, 117]
def k0_off1206 (i : grid0.Coords) : Fin 3 → Nat :=
  let c0_2451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3922 : Index := Scalar.indexCast v2059
  let c118_2452 : Index := 118#32
  ![0, v3922.toNat, 118]
def k0_off1207 (i : grid0.Coords) : Fin 3 → Nat :=
  let c0_2453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3924 : Index := Scalar.indexCast v2059
  let c119_2454 : Index := 119#32
  ![0, v3924.toNat, 119]
def k0_off1208 (v3919 : BitVec 32) : Fin 3 → Nat :=
  let c0_2455 : Index := 0#32
  let v3926 : Index := Scalar.indexCast v3919
  let c0_2456 : Index := 0#32
  ![0, v3926.toNat, 0]

def k0_off1209 (i : grid0.Coords) : Fin 3 → Nat :=
  let c0_2457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3929 : Index := Scalar.indexCast v2059
  let c116_2458 : Index := 116#32
  ![0, v3929.toNat, 116]
def k0_off1210 (v3921 : BitVec 32) : Fin 3 → Nat :=
  let c0_2461 : Index := 0#32
  let v3936 : Index := Scalar.indexCast v3921
  let c0_2462 : Index := 0#32
  ![0, v3936.toNat, 0]

def k0_off1211 (i : grid0.Coords) : Fin 3 → Nat :=
  let c0_2463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3939 : Index := Scalar.indexCast v2059
  let c117_2464 : Index := 117#32
  ![0, v3939.toNat, 117]
def k0_off1212 (v3923 : BitVec 32) : Fin 3 → Nat :=
  let c0_2467 : Index := 0#32
  let v3946 : Index := Scalar.indexCast v3923
  let c0_2468 : Index := 0#32
  ![0, v3946.toNat, 0]

def k0_off1213 (i : grid0.Coords) : Fin 3 → Nat :=
  let c0_2469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3949 : Index := Scalar.indexCast v2059
  let c118_2470 : Index := 118#32
  ![0, v3949.toNat, 118]
def k0_off1214 (v3925 : BitVec 32) : Fin 3 → Nat :=
  let c0_2473 : Index := 0#32
  let v3956 : Index := Scalar.indexCast v3925
  let c0_2474 : Index := 0#32
  ![0, v3956.toNat, 0]

def k0_chk632 (v3925 : BitVec 32) : Prop :=
  (∀ a, (k0_off1214 v3925) a + S1x1x1024.size a ≤ S1x2048x1024.size a)
theorem k0_off1214_inb : ∀ (v3925 : BitVec 32) (k0_hw632 : k0_chk632 v3925), ∀ a, (k0_off1214 v3925) a + S1x1x1024.size a ≤ S1x2048x1024.size a := fun v3925 k0_hw632 => k0_hw632

def k0_off1215 (i : grid0.Coords) : Fin 3 → Nat :=
  let c0_2475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3959 : Index := Scalar.indexCast v2059
  let c119_2476 : Index := 119#32
  ![0, v3959.toNat, 119]
def k0_off1216 (v3919 : BitVec 32) : Fin 3 → Nat :=
  let c0_2479 : Index := 0#32
  let v3966 : Index := Scalar.indexCast v3919
  let c0_2480 : Index := 0#32
  ![0, v3966.toNat, 0]

def k0_chk629 (v3919 : BitVec 32) : Prop :=
  (∀ a, (k0_off1208 v3919) a + S1x1x1024.size a ≤ S1x2048x1024.size a) ∧
  (∀ a, (k0_off1216 v3919) a + S1x1x1024.size a ≤ S1x2048x1024.size a)
theorem k0_off1208_inb : ∀ (v3919 : BitVec 32) (k0_hw629 : k0_chk629 v3919), ∀ a, (k0_off1208 v3919) a + S1x1x1024.size a ≤ S1x2048x1024.size a := fun v3919 k0_hw629 => k0_hw629.1
theorem k0_off1216_inb : ∀ (v3919 : BitVec 32) (k0_hw629 : k0_chk629 v3919), ∀ a, (k0_off1216 v3919) a + S1x1x1024.size a ≤ S1x2048x1024.size a := fun v3919 k0_hw629 => k0_hw629.2

def k0_off1217 (v3921 : BitVec 32) : Fin 3 → Nat :=
  let c0_2481 : Index := 0#32
  let v3970 : Index := Scalar.indexCast v3921
  let c0_2482 : Index := 0#32
  ![0, v3970.toNat, 0]

def k0_chk630 (v3921 : BitVec 32) : Prop :=
  (∀ a, (k0_off1210 v3921) a + S1x1x1024.size a ≤ S1x2048x1024.size a) ∧
  (∀ a, (k0_off1217 v3921) a + S1x1x1024.size a ≤ S1x2048x1024.size a)
theorem k0_off1210_inb : ∀ (v3921 : BitVec 32) (k0_hw630 : k0_chk630 v3921), ∀ a, (k0_off1210 v3921) a + S1x1x1024.size a ≤ S1x2048x1024.size a := fun v3921 k0_hw630 => k0_hw630.1
theorem k0_off1217_inb : ∀ (v3921 : BitVec 32) (k0_hw630 : k0_chk630 v3921), ∀ a, (k0_off1217 v3921) a + S1x1x1024.size a ≤ S1x2048x1024.size a := fun v3921 k0_hw630 => k0_hw630.2

def k0_off1218 (v3923 : BitVec 32) : Fin 3 → Nat :=
  let c0_2483 : Index := 0#32
  let v3974 : Index := Scalar.indexCast v3923
  let c0_2484 : Index := 0#32
  ![0, v3974.toNat, 0]

def k0_chk631 (v3923 : BitVec 32) : Prop :=
  (∀ a, (k0_off1212 v3923) a + S1x1x1024.size a ≤ S1x2048x1024.size a) ∧
  (∀ a, (k0_off1218 v3923) a + S1x1x1024.size a ≤ S1x2048x1024.size a)
theorem k0_off1212_inb : ∀ (v3923 : BitVec 32) (k0_hw631 : k0_chk631 v3923), ∀ a, (k0_off1212 v3923) a + S1x1x1024.size a ≤ S1x2048x1024.size a := fun v3923 k0_hw631 => k0_hw631.1
theorem k0_off1218_inb : ∀ (v3923 : BitVec 32) (k0_hw631 : k0_chk631 v3923), ∀ a, (k0_off1218 v3923) a + S1x1x1024.size a ≤ S1x2048x1024.size a := fun v3923 k0_hw631 => k0_hw631.2

def k0_off1219 (i : grid0.Coords) : Fin 3 → Nat :=
  let c0_2487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3982 : Index := Scalar.indexCast v2059
  let c120_2488 : Index := 120#32
  ![0, v3982.toNat, 120]
def k0_off1220 (i : grid0.Coords) : Fin 3 → Nat :=
  let c0_2489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3984 : Index := Scalar.indexCast v2059
  let c121_2490 : Index := 121#32
  ![0, v3984.toNat, 121]
def k0_off1221 (i : grid0.Coords) : Fin 3 → Nat :=
  let c0_2491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3986 : Index := Scalar.indexCast v2059
  let c122_2492 : Index := 122#32
  ![0, v3986.toNat, 122]
def k0_off1222 (i : grid0.Coords) : Fin 3 → Nat :=
  let c0_2493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3988 : Index := Scalar.indexCast v2059
  let c123_2494 : Index := 123#32
  ![0, v3988.toNat, 123]
def k0_off1223 (v3983 : BitVec 32) : Fin 3 → Nat :=
  let c0_2495 : Index := 0#32
  let v3990 : Index := Scalar.indexCast v3983
  let c0_2496 : Index := 0#32
  ![0, v3990.toNat, 0]

def k0_off1224 (i : grid0.Coords) : Fin 3 → Nat :=
  let c0_2497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v3993 : Index := Scalar.indexCast v2059
  let c120_2498 : Index := 120#32
  ![0, v3993.toNat, 120]
def k0_off1225 (v3985 : BitVec 32) : Fin 3 → Nat :=
  let c0_2501 : Index := 0#32
  let v4000 : Index := Scalar.indexCast v3985
  let c0_2502 : Index := 0#32
  ![0, v4000.toNat, 0]

def k0_off1226 (i : grid0.Coords) : Fin 3 → Nat :=
  let c0_2503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4003 : Index := Scalar.indexCast v2059
  let c121_2504 : Index := 121#32
  ![0, v4003.toNat, 121]
def k0_off1227 (v3987 : BitVec 32) : Fin 3 → Nat :=
  let c0_2507 : Index := 0#32
  let v4010 : Index := Scalar.indexCast v3987
  let c0_2508 : Index := 0#32
  ![0, v4010.toNat, 0]

def k0_off1228 (i : grid0.Coords) : Fin 3 → Nat :=
  let c0_2509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4013 : Index := Scalar.indexCast v2059
  let c122_2510 : Index := 122#32
  ![0, v4013.toNat, 122]
def k0_off1229 (v3989 : BitVec 32) : Fin 3 → Nat :=
  let c0_2513 : Index := 0#32
  let v4020 : Index := Scalar.indexCast v3989
  let c0_2514 : Index := 0#32
  ![0, v4020.toNat, 0]

def k0_chk636 (v3989 : BitVec 32) : Prop :=
  (∀ a, (k0_off1229 v3989) a + S1x1x1024.size a ≤ S1x2048x1024.size a)
theorem k0_off1229_inb : ∀ (v3989 : BitVec 32) (k0_hw636 : k0_chk636 v3989), ∀ a, (k0_off1229 v3989) a + S1x1x1024.size a ≤ S1x2048x1024.size a := fun v3989 k0_hw636 => k0_hw636

def k0_off1230 (i : grid0.Coords) : Fin 3 → Nat :=
  let c0_2515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4023 : Index := Scalar.indexCast v2059
  let c123_2516 : Index := 123#32
  ![0, v4023.toNat, 123]
def k0_off1231 (v3983 : BitVec 32) : Fin 3 → Nat :=
  let c0_2519 : Index := 0#32
  let v4030 : Index := Scalar.indexCast v3983
  let c0_2520 : Index := 0#32
  ![0, v4030.toNat, 0]

def k0_chk633 (v3983 : BitVec 32) : Prop :=
  (∀ a, (k0_off1223 v3983) a + S1x1x1024.size a ≤ S1x2048x1024.size a) ∧
  (∀ a, (k0_off1231 v3983) a + S1x1x1024.size a ≤ S1x2048x1024.size a)
theorem k0_off1223_inb : ∀ (v3983 : BitVec 32) (k0_hw633 : k0_chk633 v3983), ∀ a, (k0_off1223 v3983) a + S1x1x1024.size a ≤ S1x2048x1024.size a := fun v3983 k0_hw633 => k0_hw633.1
theorem k0_off1231_inb : ∀ (v3983 : BitVec 32) (k0_hw633 : k0_chk633 v3983), ∀ a, (k0_off1231 v3983) a + S1x1x1024.size a ≤ S1x2048x1024.size a := fun v3983 k0_hw633 => k0_hw633.2

def k0_off1232 (v3985 : BitVec 32) : Fin 3 → Nat :=
  let c0_2521 : Index := 0#32
  let v4034 : Index := Scalar.indexCast v3985
  let c0_2522 : Index := 0#32
  ![0, v4034.toNat, 0]

def k0_chk634 (v3985 : BitVec 32) : Prop :=
  (∀ a, (k0_off1225 v3985) a + S1x1x1024.size a ≤ S1x2048x1024.size a) ∧
  (∀ a, (k0_off1232 v3985) a + S1x1x1024.size a ≤ S1x2048x1024.size a)
theorem k0_off1225_inb : ∀ (v3985 : BitVec 32) (k0_hw634 : k0_chk634 v3985), ∀ a, (k0_off1225 v3985) a + S1x1x1024.size a ≤ S1x2048x1024.size a := fun v3985 k0_hw634 => k0_hw634.1
theorem k0_off1232_inb : ∀ (v3985 : BitVec 32) (k0_hw634 : k0_chk634 v3985), ∀ a, (k0_off1232 v3985) a + S1x1x1024.size a ≤ S1x2048x1024.size a := fun v3985 k0_hw634 => k0_hw634.2

def k0_off1233 (v3987 : BitVec 32) : Fin 3 → Nat :=
  let c0_2523 : Index := 0#32
  let v4038 : Index := Scalar.indexCast v3987
  let c0_2524 : Index := 0#32
  ![0, v4038.toNat, 0]

def k0_chk635 (v3987 : BitVec 32) : Prop :=
  (∀ a, (k0_off1227 v3987) a + S1x1x1024.size a ≤ S1x2048x1024.size a) ∧
  (∀ a, (k0_off1233 v3987) a + S1x1x1024.size a ≤ S1x2048x1024.size a)
theorem k0_off1227_inb : ∀ (v3987 : BitVec 32) (k0_hw635 : k0_chk635 v3987), ∀ a, (k0_off1227 v3987) a + S1x1x1024.size a ≤ S1x2048x1024.size a := fun v3987 k0_hw635 => k0_hw635.1
theorem k0_off1233_inb : ∀ (v3987 : BitVec 32) (k0_hw635 : k0_chk635 v3987), ∀ a, (k0_off1233 v3987) a + S1x1x1024.size a ≤ S1x2048x1024.size a := fun v3987 k0_hw635 => k0_hw635.2

def k0_off1234 (i : grid0.Coords) : Fin 3 → Nat :=
  let c0_2527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4046 : Index := Scalar.indexCast v2059
  let c124_2528 : Index := 124#32
  ![0, v4046.toNat, 124]
def k0_off1235 (i : grid0.Coords) : Fin 3 → Nat :=
  let c0_2529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4048 : Index := Scalar.indexCast v2059
  let c125_2530 : Index := 125#32
  ![0, v4048.toNat, 125]
def k0_off1236 (i : grid0.Coords) : Fin 3 → Nat :=
  let c0_2531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4050 : Index := Scalar.indexCast v2059
  let c126_2532 : Index := 126#32
  ![0, v4050.toNat, 126]
def k0_off1237 (i : grid0.Coords) : Fin 3 → Nat :=
  let c0_2533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4052 : Index := Scalar.indexCast v2059
  let c127_2534 : Index := 127#32
  ![0, v4052.toNat, 127]
def k0_off1238 (v4047 : BitVec 32) : Fin 3 → Nat :=
  let c0_2535 : Index := 0#32
  let v4054 : Index := Scalar.indexCast v4047
  let c0_2536 : Index := 0#32
  ![0, v4054.toNat, 0]

def k0_off1239 (i : grid0.Coords) : Fin 3 → Nat :=
  let c0_2537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4057 : Index := Scalar.indexCast v2059
  let c124_2538 : Index := 124#32
  ![0, v4057.toNat, 124]
def k0_off1240 (v4049 : BitVec 32) : Fin 3 → Nat :=
  let c0_2541 : Index := 0#32
  let v4064 : Index := Scalar.indexCast v4049
  let c0_2542 : Index := 0#32
  ![0, v4064.toNat, 0]

def k0_off1241 (i : grid0.Coords) : Fin 3 → Nat :=
  let c0_2543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4067 : Index := Scalar.indexCast v2059
  let c125_2544 : Index := 125#32
  ![0, v4067.toNat, 125]
def k0_off1242 (v4051 : BitVec 32) : Fin 3 → Nat :=
  let c0_2547 : Index := 0#32
  let v4074 : Index := Scalar.indexCast v4051
  let c0_2548 : Index := 0#32
  ![0, v4074.toNat, 0]

def k0_off1243 (i : grid0.Coords) : Fin 3 → Nat :=
  let c0_2549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4077 : Index := Scalar.indexCast v2059
  let c126_2550 : Index := 126#32
  ![0, v4077.toNat, 126]
def k0_off1244 (v4053 : BitVec 32) : Fin 3 → Nat :=
  let c0_2553 : Index := 0#32
  let v4084 : Index := Scalar.indexCast v4053
  let c0_2554 : Index := 0#32
  ![0, v4084.toNat, 0]

def k0_chk640 (v4053 : BitVec 32) : Prop :=
  (∀ a, (k0_off1244 v4053) a + S1x1x1024.size a ≤ S1x2048x1024.size a)
theorem k0_off1244_inb : ∀ (v4053 : BitVec 32) (k0_hw640 : k0_chk640 v4053), ∀ a, (k0_off1244 v4053) a + S1x1x1024.size a ≤ S1x2048x1024.size a := fun v4053 k0_hw640 => k0_hw640

def k0_off1245 (i : grid0.Coords) : Fin 3 → Nat :=
  let c0_2555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4087 : Index := Scalar.indexCast v2059
  let c127_2556 : Index := 127#32
  ![0, v4087.toNat, 127]
def k0_off1246 (v4047 : BitVec 32) : Fin 3 → Nat :=
  let c0_2559 : Index := 0#32
  let v4094 : Index := Scalar.indexCast v4047
  let c0_2560 : Index := 0#32
  ![0, v4094.toNat, 0]

def k0_chk637 (v4047 : BitVec 32) : Prop :=
  (∀ a, (k0_off1238 v4047) a + S1x1x1024.size a ≤ S1x2048x1024.size a) ∧
  (∀ a, (k0_off1246 v4047) a + S1x1x1024.size a ≤ S1x2048x1024.size a)
theorem k0_off1238_inb : ∀ (v4047 : BitVec 32) (k0_hw637 : k0_chk637 v4047), ∀ a, (k0_off1238 v4047) a + S1x1x1024.size a ≤ S1x2048x1024.size a := fun v4047 k0_hw637 => k0_hw637.1
theorem k0_off1246_inb : ∀ (v4047 : BitVec 32) (k0_hw637 : k0_chk637 v4047), ∀ a, (k0_off1246 v4047) a + S1x1x1024.size a ≤ S1x2048x1024.size a := fun v4047 k0_hw637 => k0_hw637.2

def k0_off1247 (v4049 : BitVec 32) : Fin 3 → Nat :=
  let c0_2561 : Index := 0#32
  let v4098 : Index := Scalar.indexCast v4049
  let c0_2562 : Index := 0#32
  ![0, v4098.toNat, 0]

def k0_chk638 (v4049 : BitVec 32) : Prop :=
  (∀ a, (k0_off1240 v4049) a + S1x1x1024.size a ≤ S1x2048x1024.size a) ∧
  (∀ a, (k0_off1247 v4049) a + S1x1x1024.size a ≤ S1x2048x1024.size a)
theorem k0_off1240_inb : ∀ (v4049 : BitVec 32) (k0_hw638 : k0_chk638 v4049), ∀ a, (k0_off1240 v4049) a + S1x1x1024.size a ≤ S1x2048x1024.size a := fun v4049 k0_hw638 => k0_hw638.1
theorem k0_off1247_inb : ∀ (v4049 : BitVec 32) (k0_hw638 : k0_chk638 v4049), ∀ a, (k0_off1247 v4049) a + S1x1x1024.size a ≤ S1x2048x1024.size a := fun v4049 k0_hw638 => k0_hw638.2

def k0_off1248 (v4051 : BitVec 32) : Fin 3 → Nat :=
  let c0_2563 : Index := 0#32
  let v4102 : Index := Scalar.indexCast v4051
  let c0_2564 : Index := 0#32
  ![0, v4102.toNat, 0]

def k0_chk639 (v4051 : BitVec 32) : Prop :=
  (∀ a, (k0_off1242 v4051) a + S1x1x1024.size a ≤ S1x2048x1024.size a) ∧
  (∀ a, (k0_off1248 v4051) a + S1x1x1024.size a ≤ S1x2048x1024.size a)
theorem k0_off1242_inb : ∀ (v4051 : BitVec 32) (k0_hw639 : k0_chk639 v4051), ∀ a, (k0_off1242 v4051) a + S1x1x1024.size a ≤ S1x2048x1024.size a := fun v4051 k0_hw639 => k0_hw639.1
theorem k0_off1248_inb : ∀ (v4051 : BitVec 32) (k0_hw639 : k0_chk639 v4051), ∀ a, (k0_off1248 v4051) a + S1x1x1024.size a ≤ S1x2048x1024.size a := fun v4051 k0_hw639 => k0_hw639.2

def k0_off1249 (i : grid0.Coords) : Fin 3 → Nat :=
  let c0_2567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4110 : Index := Scalar.indexCast v2059
  let c128_2568 : Index := 128#32
  ![0, v4110.toNat, 128]
def k0_off1250 (i : grid0.Coords) : Fin 3 → Nat :=
  let c0_2569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4112 : Index := Scalar.indexCast v2059
  let c129_2570 : Index := 129#32
  ![0, v4112.toNat, 129]
def k0_off1251 (i : grid0.Coords) : Fin 3 → Nat :=
  let c0_2571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4114 : Index := Scalar.indexCast v2059
  let c130_2572 : Index := 130#32
  ![0, v4114.toNat, 130]
def k0_off1252 (i : grid0.Coords) : Fin 3 → Nat :=
  let c0_2573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4116 : Index := Scalar.indexCast v2059
  let c131_2574 : Index := 131#32
  ![0, v4116.toNat, 131]
def k0_off1253 (v4111 : BitVec 32) : Fin 3 → Nat :=
  let c0_2575 : Index := 0#32
  let v4118 : Index := Scalar.indexCast v4111
  let c0_2576 : Index := 0#32
  ![0, v4118.toNat, 0]

def k0_off1254 (i : grid0.Coords) : Fin 3 → Nat :=
  let c0_2577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4121 : Index := Scalar.indexCast v2059
  let c128_2578 : Index := 128#32
  ![0, v4121.toNat, 128]
def k0_off1255 (v4113 : BitVec 32) : Fin 3 → Nat :=
  let c0_2581 : Index := 0#32
  let v4128 : Index := Scalar.indexCast v4113
  let c0_2582 : Index := 0#32
  ![0, v4128.toNat, 0]

def k0_off1256 (i : grid0.Coords) : Fin 3 → Nat :=
  let c0_2583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4131 : Index := Scalar.indexCast v2059
  let c129_2584 : Index := 129#32
  ![0, v4131.toNat, 129]
def k0_off1257 (v4115 : BitVec 32) : Fin 3 → Nat :=
  let c0_2587 : Index := 0#32
  let v4138 : Index := Scalar.indexCast v4115
  let c0_2588 : Index := 0#32
  ![0, v4138.toNat, 0]

def k0_off1258 (i : grid0.Coords) : Fin 3 → Nat :=
  let c0_2589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4141 : Index := Scalar.indexCast v2059
  let c130_2590 : Index := 130#32
  ![0, v4141.toNat, 130]
def k0_off1259 (v4117 : BitVec 32) : Fin 3 → Nat :=
  let c0_2593 : Index := 0#32
  let v4148 : Index := Scalar.indexCast v4117
  let c0_2594 : Index := 0#32
  ![0, v4148.toNat, 0]

def k0_chk644 (v4117 : BitVec 32) : Prop :=
  (∀ a, (k0_off1259 v4117) a + S1x1x1024.size a ≤ S1x2048x1024.size a)
theorem k0_off1259_inb : ∀ (v4117 : BitVec 32) (k0_hw644 : k0_chk644 v4117), ∀ a, (k0_off1259 v4117) a + S1x1x1024.size a ≤ S1x2048x1024.size a := fun v4117 k0_hw644 => k0_hw644

def k0_off1260 (i : grid0.Coords) : Fin 3 → Nat :=
  let c0_2595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4151 : Index := Scalar.indexCast v2059
  let c131_2596 : Index := 131#32
  ![0, v4151.toNat, 131]
def k0_off1261 (v4111 : BitVec 32) : Fin 3 → Nat :=
  let c0_2599 : Index := 0#32
  let v4158 : Index := Scalar.indexCast v4111
  let c0_2600 : Index := 0#32
  ![0, v4158.toNat, 0]

def k0_chk641 (v4111 : BitVec 32) : Prop :=
  (∀ a, (k0_off1253 v4111) a + S1x1x1024.size a ≤ S1x2048x1024.size a) ∧
  (∀ a, (k0_off1261 v4111) a + S1x1x1024.size a ≤ S1x2048x1024.size a)
theorem k0_off1253_inb : ∀ (v4111 : BitVec 32) (k0_hw641 : k0_chk641 v4111), ∀ a, (k0_off1253 v4111) a + S1x1x1024.size a ≤ S1x2048x1024.size a := fun v4111 k0_hw641 => k0_hw641.1
theorem k0_off1261_inb : ∀ (v4111 : BitVec 32) (k0_hw641 : k0_chk641 v4111), ∀ a, (k0_off1261 v4111) a + S1x1x1024.size a ≤ S1x2048x1024.size a := fun v4111 k0_hw641 => k0_hw641.2

def k0_off1262 (v4113 : BitVec 32) : Fin 3 → Nat :=
  let c0_2601 : Index := 0#32
  let v4162 : Index := Scalar.indexCast v4113
  let c0_2602 : Index := 0#32
  ![0, v4162.toNat, 0]

def k0_chk642 (v4113 : BitVec 32) : Prop :=
  (∀ a, (k0_off1255 v4113) a + S1x1x1024.size a ≤ S1x2048x1024.size a) ∧
  (∀ a, (k0_off1262 v4113) a + S1x1x1024.size a ≤ S1x2048x1024.size a)
theorem k0_off1255_inb : ∀ (v4113 : BitVec 32) (k0_hw642 : k0_chk642 v4113), ∀ a, (k0_off1255 v4113) a + S1x1x1024.size a ≤ S1x2048x1024.size a := fun v4113 k0_hw642 => k0_hw642.1
theorem k0_off1262_inb : ∀ (v4113 : BitVec 32) (k0_hw642 : k0_chk642 v4113), ∀ a, (k0_off1262 v4113) a + S1x1x1024.size a ≤ S1x2048x1024.size a := fun v4113 k0_hw642 => k0_hw642.2

def k0_off1263 (v4115 : BitVec 32) : Fin 3 → Nat :=
  let c0_2603 : Index := 0#32
  let v4166 : Index := Scalar.indexCast v4115
  let c0_2604 : Index := 0#32
  ![0, v4166.toNat, 0]

def k0_chk643 (v4115 : BitVec 32) : Prop :=
  (∀ a, (k0_off1257 v4115) a + S1x1x1024.size a ≤ S1x2048x1024.size a) ∧
  (∀ a, (k0_off1263 v4115) a + S1x1x1024.size a ≤ S1x2048x1024.size a)
theorem k0_off1257_inb : ∀ (v4115 : BitVec 32) (k0_hw643 : k0_chk643 v4115), ∀ a, (k0_off1257 v4115) a + S1x1x1024.size a ≤ S1x2048x1024.size a := fun v4115 k0_hw643 => k0_hw643.1
theorem k0_off1263_inb : ∀ (v4115 : BitVec 32) (k0_hw643 : k0_chk643 v4115), ∀ a, (k0_off1263 v4115) a + S1x1x1024.size a ≤ S1x2048x1024.size a := fun v4115 k0_hw643 => k0_hw643.2

def k0_off1264 (i : grid0.Coords) : Fin 3 → Nat :=
  let c0_2607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4174 : Index := Scalar.indexCast v2059
  let c132_2608 : Index := 132#32
  ![0, v4174.toNat, 132]
def k0_off1265 (i : grid0.Coords) : Fin 3 → Nat :=
  let c0_2609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4176 : Index := Scalar.indexCast v2059
  let c133_2610 : Index := 133#32
  ![0, v4176.toNat, 133]
def k0_off1266 (i : grid0.Coords) : Fin 3 → Nat :=
  let c0_2611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4178 : Index := Scalar.indexCast v2059
  let c134_2612 : Index := 134#32
  ![0, v4178.toNat, 134]
def k0_off1267 (i : grid0.Coords) : Fin 3 → Nat :=
  let c0_2613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4180 : Index := Scalar.indexCast v2059
  let c135_2614 : Index := 135#32
  ![0, v4180.toNat, 135]
def k0_off1268 (v4175 : BitVec 32) : Fin 3 → Nat :=
  let c0_2615 : Index := 0#32
  let v4182 : Index := Scalar.indexCast v4175
  let c0_2616 : Index := 0#32
  ![0, v4182.toNat, 0]

def k0_off1269 (i : grid0.Coords) : Fin 3 → Nat :=
  let c0_2617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4185 : Index := Scalar.indexCast v2059
  let c132_2618 : Index := 132#32
  ![0, v4185.toNat, 132]
def k0_off1270 (v4177 : BitVec 32) : Fin 3 → Nat :=
  let c0_2621 : Index := 0#32
  let v4192 : Index := Scalar.indexCast v4177
  let c0_2622 : Index := 0#32
  ![0, v4192.toNat, 0]

def k0_off1271 (i : grid0.Coords) : Fin 3 → Nat :=
  let c0_2623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4195 : Index := Scalar.indexCast v2059
  let c133_2624 : Index := 133#32
  ![0, v4195.toNat, 133]
def k0_off1272 (v4179 : BitVec 32) : Fin 3 → Nat :=
  let c0_2627 : Index := 0#32
  let v4202 : Index := Scalar.indexCast v4179
  let c0_2628 : Index := 0#32
  ![0, v4202.toNat, 0]

def k0_off1273 (i : grid0.Coords) : Fin 3 → Nat :=
  let c0_2629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4205 : Index := Scalar.indexCast v2059
  let c134_2630 : Index := 134#32
  ![0, v4205.toNat, 134]
def k0_off1274 (v4181 : BitVec 32) : Fin 3 → Nat :=
  let c0_2633 : Index := 0#32
  let v4212 : Index := Scalar.indexCast v4181
  let c0_2634 : Index := 0#32
  ![0, v4212.toNat, 0]

def k0_chk648 (v4181 : BitVec 32) : Prop :=
  (∀ a, (k0_off1274 v4181) a + S1x1x1024.size a ≤ S1x2048x1024.size a)
theorem k0_off1274_inb : ∀ (v4181 : BitVec 32) (k0_hw648 : k0_chk648 v4181), ∀ a, (k0_off1274 v4181) a + S1x1x1024.size a ≤ S1x2048x1024.size a := fun v4181 k0_hw648 => k0_hw648

def k0_off1275 (i : grid0.Coords) : Fin 3 → Nat :=
  let c0_2635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4215 : Index := Scalar.indexCast v2059
  let c135_2636 : Index := 135#32
  ![0, v4215.toNat, 135]
def k0_off1276 (v4175 : BitVec 32) : Fin 3 → Nat :=
  let c0_2639 : Index := 0#32
  let v4222 : Index := Scalar.indexCast v4175
  let c0_2640 : Index := 0#32
  ![0, v4222.toNat, 0]

def k0_chk645 (v4175 : BitVec 32) : Prop :=
  (∀ a, (k0_off1268 v4175) a + S1x1x1024.size a ≤ S1x2048x1024.size a) ∧
  (∀ a, (k0_off1276 v4175) a + S1x1x1024.size a ≤ S1x2048x1024.size a)
theorem k0_off1268_inb : ∀ (v4175 : BitVec 32) (k0_hw645 : k0_chk645 v4175), ∀ a, (k0_off1268 v4175) a + S1x1x1024.size a ≤ S1x2048x1024.size a := fun v4175 k0_hw645 => k0_hw645.1
theorem k0_off1276_inb : ∀ (v4175 : BitVec 32) (k0_hw645 : k0_chk645 v4175), ∀ a, (k0_off1276 v4175) a + S1x1x1024.size a ≤ S1x2048x1024.size a := fun v4175 k0_hw645 => k0_hw645.2

def k0_off1277 (v4177 : BitVec 32) : Fin 3 → Nat :=
  let c0_2641 : Index := 0#32
  let v4226 : Index := Scalar.indexCast v4177
  let c0_2642 : Index := 0#32
  ![0, v4226.toNat, 0]

def k0_chk646 (v4177 : BitVec 32) : Prop :=
  (∀ a, (k0_off1270 v4177) a + S1x1x1024.size a ≤ S1x2048x1024.size a) ∧
  (∀ a, (k0_off1277 v4177) a + S1x1x1024.size a ≤ S1x2048x1024.size a)
theorem k0_off1270_inb : ∀ (v4177 : BitVec 32) (k0_hw646 : k0_chk646 v4177), ∀ a, (k0_off1270 v4177) a + S1x1x1024.size a ≤ S1x2048x1024.size a := fun v4177 k0_hw646 => k0_hw646.1
theorem k0_off1277_inb : ∀ (v4177 : BitVec 32) (k0_hw646 : k0_chk646 v4177), ∀ a, (k0_off1277 v4177) a + S1x1x1024.size a ≤ S1x2048x1024.size a := fun v4177 k0_hw646 => k0_hw646.2

def k0_off1278 (v4179 : BitVec 32) : Fin 3 → Nat :=
  let c0_2643 : Index := 0#32
  let v4230 : Index := Scalar.indexCast v4179
  let c0_2644 : Index := 0#32
  ![0, v4230.toNat, 0]

def k0_chk647 (v4179 : BitVec 32) : Prop :=
  (∀ a, (k0_off1272 v4179) a + S1x1x1024.size a ≤ S1x2048x1024.size a) ∧
  (∀ a, (k0_off1278 v4179) a + S1x1x1024.size a ≤ S1x2048x1024.size a)
theorem k0_off1272_inb : ∀ (v4179 : BitVec 32) (k0_hw647 : k0_chk647 v4179), ∀ a, (k0_off1272 v4179) a + S1x1x1024.size a ≤ S1x2048x1024.size a := fun v4179 k0_hw647 => k0_hw647.1
theorem k0_off1278_inb : ∀ (v4179 : BitVec 32) (k0_hw647 : k0_chk647 v4179), ∀ a, (k0_off1278 v4179) a + S1x1x1024.size a ≤ S1x2048x1024.size a := fun v4179 k0_hw647 => k0_hw647.2

def k0_off1279 (i : grid0.Coords) : Fin 3 → Nat :=
  let c0_2647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4238 : Index := Scalar.indexCast v2059
  let c136_2648 : Index := 136#32
  ![0, v4238.toNat, 136]
def k0_off1280 (i : grid0.Coords) : Fin 3 → Nat :=
  let c0_2649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4240 : Index := Scalar.indexCast v2059
  let c137_2650 : Index := 137#32
  ![0, v4240.toNat, 137]
def k0_off1281 (i : grid0.Coords) : Fin 3 → Nat :=
  let c0_2651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4242 : Index := Scalar.indexCast v2059
  let c138_2652 : Index := 138#32
  ![0, v4242.toNat, 138]
def k0_off1282 (i : grid0.Coords) : Fin 3 → Nat :=
  let c0_2653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4244 : Index := Scalar.indexCast v2059
  let c139_2654 : Index := 139#32
  ![0, v4244.toNat, 139]
def k0_off1283 (v4239 : BitVec 32) : Fin 3 → Nat :=
  let c0_2655 : Index := 0#32
  let v4246 : Index := Scalar.indexCast v4239
  let c0_2656 : Index := 0#32
  ![0, v4246.toNat, 0]

def k0_off1284 (i : grid0.Coords) : Fin 3 → Nat :=
  let c0_2657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4249 : Index := Scalar.indexCast v2059
  let c136_2658 : Index := 136#32
  ![0, v4249.toNat, 136]
def k0_off1285 (v4241 : BitVec 32) : Fin 3 → Nat :=
  let c0_2661 : Index := 0#32
  let v4256 : Index := Scalar.indexCast v4241
  let c0_2662 : Index := 0#32
  ![0, v4256.toNat, 0]

def k0_off1286 (i : grid0.Coords) : Fin 3 → Nat :=
  let c0_2663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4259 : Index := Scalar.indexCast v2059
  let c137_2664 : Index := 137#32
  ![0, v4259.toNat, 137]
def k0_off1287 (v4243 : BitVec 32) : Fin 3 → Nat :=
  let c0_2667 : Index := 0#32
  let v4266 : Index := Scalar.indexCast v4243
  let c0_2668 : Index := 0#32
  ![0, v4266.toNat, 0]

def k0_off1288 (i : grid0.Coords) : Fin 3 → Nat :=
  let c0_2669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4269 : Index := Scalar.indexCast v2059
  let c138_2670 : Index := 138#32
  ![0, v4269.toNat, 138]
def k0_off1289 (v4245 : BitVec 32) : Fin 3 → Nat :=
  let c0_2673 : Index := 0#32
  let v4276 : Index := Scalar.indexCast v4245
  let c0_2674 : Index := 0#32
  ![0, v4276.toNat, 0]

def k0_chk652 (v4245 : BitVec 32) : Prop :=
  (∀ a, (k0_off1289 v4245) a + S1x1x1024.size a ≤ S1x2048x1024.size a)
theorem k0_off1289_inb : ∀ (v4245 : BitVec 32) (k0_hw652 : k0_chk652 v4245), ∀ a, (k0_off1289 v4245) a + S1x1x1024.size a ≤ S1x2048x1024.size a := fun v4245 k0_hw652 => k0_hw652

def k0_off1290 (i : grid0.Coords) : Fin 3 → Nat :=
  let c0_2675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4279 : Index := Scalar.indexCast v2059
  let c139_2676 : Index := 139#32
  ![0, v4279.toNat, 139]
def k0_off1291 (v4239 : BitVec 32) : Fin 3 → Nat :=
  let c0_2679 : Index := 0#32
  let v4286 : Index := Scalar.indexCast v4239
  let c0_2680 : Index := 0#32
  ![0, v4286.toNat, 0]

def k0_chk649 (v4239 : BitVec 32) : Prop :=
  (∀ a, (k0_off1283 v4239) a + S1x1x1024.size a ≤ S1x2048x1024.size a) ∧
  (∀ a, (k0_off1291 v4239) a + S1x1x1024.size a ≤ S1x2048x1024.size a)
theorem k0_off1283_inb : ∀ (v4239 : BitVec 32) (k0_hw649 : k0_chk649 v4239), ∀ a, (k0_off1283 v4239) a + S1x1x1024.size a ≤ S1x2048x1024.size a := fun v4239 k0_hw649 => k0_hw649.1
theorem k0_off1291_inb : ∀ (v4239 : BitVec 32) (k0_hw649 : k0_chk649 v4239), ∀ a, (k0_off1291 v4239) a + S1x1x1024.size a ≤ S1x2048x1024.size a := fun v4239 k0_hw649 => k0_hw649.2

def k0_off1292 (v4241 : BitVec 32) : Fin 3 → Nat :=
  let c0_2681 : Index := 0#32
  let v4290 : Index := Scalar.indexCast v4241
  let c0_2682 : Index := 0#32
  ![0, v4290.toNat, 0]

def k0_chk650 (v4241 : BitVec 32) : Prop :=
  (∀ a, (k0_off1285 v4241) a + S1x1x1024.size a ≤ S1x2048x1024.size a) ∧
  (∀ a, (k0_off1292 v4241) a + S1x1x1024.size a ≤ S1x2048x1024.size a)
theorem k0_off1285_inb : ∀ (v4241 : BitVec 32) (k0_hw650 : k0_chk650 v4241), ∀ a, (k0_off1285 v4241) a + S1x1x1024.size a ≤ S1x2048x1024.size a := fun v4241 k0_hw650 => k0_hw650.1
theorem k0_off1292_inb : ∀ (v4241 : BitVec 32) (k0_hw650 : k0_chk650 v4241), ∀ a, (k0_off1292 v4241) a + S1x1x1024.size a ≤ S1x2048x1024.size a := fun v4241 k0_hw650 => k0_hw650.2

def k0_off1293 (v4243 : BitVec 32) : Fin 3 → Nat :=
  let c0_2683 : Index := 0#32
  let v4294 : Index := Scalar.indexCast v4243
  let c0_2684 : Index := 0#32
  ![0, v4294.toNat, 0]

def k0_chk651 (v4243 : BitVec 32) : Prop :=
  (∀ a, (k0_off1287 v4243) a + S1x1x1024.size a ≤ S1x2048x1024.size a) ∧
  (∀ a, (k0_off1293 v4243) a + S1x1x1024.size a ≤ S1x2048x1024.size a)
theorem k0_off1287_inb : ∀ (v4243 : BitVec 32) (k0_hw651 : k0_chk651 v4243), ∀ a, (k0_off1287 v4243) a + S1x1x1024.size a ≤ S1x2048x1024.size a := fun v4243 k0_hw651 => k0_hw651.1
theorem k0_off1293_inb : ∀ (v4243 : BitVec 32) (k0_hw651 : k0_chk651 v4243), ∀ a, (k0_off1293 v4243) a + S1x1x1024.size a ≤ S1x2048x1024.size a := fun v4243 k0_hw651 => k0_hw651.2

def k0_off1294 (i : grid0.Coords) : Fin 3 → Nat :=
  let c0_2687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4302 : Index := Scalar.indexCast v2059
  let c140_2688 : Index := 140#32
  ![0, v4302.toNat, 140]
def k0_off1295 (i : grid0.Coords) : Fin 3 → Nat :=
  let c0_2689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4304 : Index := Scalar.indexCast v2059
  let c141_2690 : Index := 141#32
  ![0, v4304.toNat, 141]
def k0_off1296 (i : grid0.Coords) : Fin 3 → Nat :=
  let c0_2691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4306 : Index := Scalar.indexCast v2059
  let c142_2692 : Index := 142#32
  ![0, v4306.toNat, 142]
def k0_off1297 (i : grid0.Coords) : Fin 3 → Nat :=
  let c0_2693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4308 : Index := Scalar.indexCast v2059
  let c143_2694 : Index := 143#32
  ![0, v4308.toNat, 143]
def k0_off1298 (v4303 : BitVec 32) : Fin 3 → Nat :=
  let c0_2695 : Index := 0#32
  let v4310 : Index := Scalar.indexCast v4303
  let c0_2696 : Index := 0#32
  ![0, v4310.toNat, 0]

def k0_off1299 (i : grid0.Coords) : Fin 3 → Nat :=
  let c0_2697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4313 : Index := Scalar.indexCast v2059
  let c140_2698 : Index := 140#32
  ![0, v4313.toNat, 140]
def k0_off1300 (v4305 : BitVec 32) : Fin 3 → Nat :=
  let c0_2701 : Index := 0#32
  let v4320 : Index := Scalar.indexCast v4305
  let c0_2702 : Index := 0#32
  ![0, v4320.toNat, 0]

def k0_off1301 (i : grid0.Coords) : Fin 3 → Nat :=
  let c0_2703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4323 : Index := Scalar.indexCast v2059
  let c141_2704 : Index := 141#32
  ![0, v4323.toNat, 141]
def k0_off1302 (v4307 : BitVec 32) : Fin 3 → Nat :=
  let c0_2707 : Index := 0#32
  let v4330 : Index := Scalar.indexCast v4307
  let c0_2708 : Index := 0#32
  ![0, v4330.toNat, 0]

def k0_off1303 (i : grid0.Coords) : Fin 3 → Nat :=
  let c0_2709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4333 : Index := Scalar.indexCast v2059
  let c142_2710 : Index := 142#32
  ![0, v4333.toNat, 142]
def k0_off1304 (v4309 : BitVec 32) : Fin 3 → Nat :=
  let c0_2713 : Index := 0#32
  let v4340 : Index := Scalar.indexCast v4309
  let c0_2714 : Index := 0#32
  ![0, v4340.toNat, 0]

def k0_chk656 (v4309 : BitVec 32) : Prop :=
  (∀ a, (k0_off1304 v4309) a + S1x1x1024.size a ≤ S1x2048x1024.size a)
theorem k0_off1304_inb : ∀ (v4309 : BitVec 32) (k0_hw656 : k0_chk656 v4309), ∀ a, (k0_off1304 v4309) a + S1x1x1024.size a ≤ S1x2048x1024.size a := fun v4309 k0_hw656 => k0_hw656

def k0_off1305 (i : grid0.Coords) : Fin 3 → Nat :=
  let c0_2715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4343 : Index := Scalar.indexCast v2059
  let c143_2716 : Index := 143#32
  ![0, v4343.toNat, 143]
def k0_off1306 (v4303 : BitVec 32) : Fin 3 → Nat :=
  let c0_2719 : Index := 0#32
  let v4350 : Index := Scalar.indexCast v4303
  let c0_2720 : Index := 0#32
  ![0, v4350.toNat, 0]

def k0_chk653 (v4303 : BitVec 32) : Prop :=
  (∀ a, (k0_off1298 v4303) a + S1x1x1024.size a ≤ S1x2048x1024.size a) ∧
  (∀ a, (k0_off1306 v4303) a + S1x1x1024.size a ≤ S1x2048x1024.size a)
theorem k0_off1298_inb : ∀ (v4303 : BitVec 32) (k0_hw653 : k0_chk653 v4303), ∀ a, (k0_off1298 v4303) a + S1x1x1024.size a ≤ S1x2048x1024.size a := fun v4303 k0_hw653 => k0_hw653.1
theorem k0_off1306_inb : ∀ (v4303 : BitVec 32) (k0_hw653 : k0_chk653 v4303), ∀ a, (k0_off1306 v4303) a + S1x1x1024.size a ≤ S1x2048x1024.size a := fun v4303 k0_hw653 => k0_hw653.2

def k0_off1307 (v4305 : BitVec 32) : Fin 3 → Nat :=
  let c0_2721 : Index := 0#32
  let v4354 : Index := Scalar.indexCast v4305
  let c0_2722 : Index := 0#32
  ![0, v4354.toNat, 0]

def k0_chk654 (v4305 : BitVec 32) : Prop :=
  (∀ a, (k0_off1300 v4305) a + S1x1x1024.size a ≤ S1x2048x1024.size a) ∧
  (∀ a, (k0_off1307 v4305) a + S1x1x1024.size a ≤ S1x2048x1024.size a)
theorem k0_off1300_inb : ∀ (v4305 : BitVec 32) (k0_hw654 : k0_chk654 v4305), ∀ a, (k0_off1300 v4305) a + S1x1x1024.size a ≤ S1x2048x1024.size a := fun v4305 k0_hw654 => k0_hw654.1
theorem k0_off1307_inb : ∀ (v4305 : BitVec 32) (k0_hw654 : k0_chk654 v4305), ∀ a, (k0_off1307 v4305) a + S1x1x1024.size a ≤ S1x2048x1024.size a := fun v4305 k0_hw654 => k0_hw654.2

def k0_off1308 (v4307 : BitVec 32) : Fin 3 → Nat :=
  let c0_2723 : Index := 0#32
  let v4358 : Index := Scalar.indexCast v4307
  let c0_2724 : Index := 0#32
  ![0, v4358.toNat, 0]

def k0_chk655 (v4307 : BitVec 32) : Prop :=
  (∀ a, (k0_off1302 v4307) a + S1x1x1024.size a ≤ S1x2048x1024.size a) ∧
  (∀ a, (k0_off1308 v4307) a + S1x1x1024.size a ≤ S1x2048x1024.size a)
theorem k0_off1302_inb : ∀ (v4307 : BitVec 32) (k0_hw655 : k0_chk655 v4307), ∀ a, (k0_off1302 v4307) a + S1x1x1024.size a ≤ S1x2048x1024.size a := fun v4307 k0_hw655 => k0_hw655.1
theorem k0_off1308_inb : ∀ (v4307 : BitVec 32) (k0_hw655 : k0_chk655 v4307), ∀ a, (k0_off1308 v4307) a + S1x1x1024.size a ≤ S1x2048x1024.size a := fun v4307 k0_hw655 => k0_hw655.2

def k0_off1309 (i : grid0.Coords) : Fin 3 → Nat :=
  let c0_2727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4366 : Index := Scalar.indexCast v2059
  let c144_2728 : Index := 144#32
  ![0, v4366.toNat, 144]
def k0_off1310 (i : grid0.Coords) : Fin 3 → Nat :=
  let c0_2729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4368 : Index := Scalar.indexCast v2059
  let c145_2730 : Index := 145#32
  ![0, v4368.toNat, 145]
def k0_off1311 (i : grid0.Coords) : Fin 3 → Nat :=
  let c0_2731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4370 : Index := Scalar.indexCast v2059
  let c146_2732 : Index := 146#32
  ![0, v4370.toNat, 146]
def k0_off1312 (i : grid0.Coords) : Fin 3 → Nat :=
  let c0_2733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4372 : Index := Scalar.indexCast v2059
  let c147_2734 : Index := 147#32
  ![0, v4372.toNat, 147]
def k0_off1313 (v4367 : BitVec 32) : Fin 3 → Nat :=
  let c0_2735 : Index := 0#32
  let v4374 : Index := Scalar.indexCast v4367
  let c0_2736 : Index := 0#32
  ![0, v4374.toNat, 0]

def k0_off1314 (i : grid0.Coords) : Fin 3 → Nat :=
  let c0_2737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4377 : Index := Scalar.indexCast v2059
  let c144_2738 : Index := 144#32
  ![0, v4377.toNat, 144]
def k0_off1315 (v4369 : BitVec 32) : Fin 3 → Nat :=
  let c0_2741 : Index := 0#32
  let v4384 : Index := Scalar.indexCast v4369
  let c0_2742 : Index := 0#32
  ![0, v4384.toNat, 0]

def k0_off1316 (i : grid0.Coords) : Fin 3 → Nat :=
  let c0_2743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4387 : Index := Scalar.indexCast v2059
  let c145_2744 : Index := 145#32
  ![0, v4387.toNat, 145]
def k0_off1317 (v4371 : BitVec 32) : Fin 3 → Nat :=
  let c0_2747 : Index := 0#32
  let v4394 : Index := Scalar.indexCast v4371
  let c0_2748 : Index := 0#32
  ![0, v4394.toNat, 0]

def k0_off1318 (i : grid0.Coords) : Fin 3 → Nat :=
  let c0_2749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4397 : Index := Scalar.indexCast v2059
  let c146_2750 : Index := 146#32
  ![0, v4397.toNat, 146]
def k0_off1319 (v4373 : BitVec 32) : Fin 3 → Nat :=
  let c0_2753 : Index := 0#32
  let v4404 : Index := Scalar.indexCast v4373
  let c0_2754 : Index := 0#32
  ![0, v4404.toNat, 0]

def k0_chk660 (v4373 : BitVec 32) : Prop :=
  (∀ a, (k0_off1319 v4373) a + S1x1x1024.size a ≤ S1x2048x1024.size a)
theorem k0_off1319_inb : ∀ (v4373 : BitVec 32) (k0_hw660 : k0_chk660 v4373), ∀ a, (k0_off1319 v4373) a + S1x1x1024.size a ≤ S1x2048x1024.size a := fun v4373 k0_hw660 => k0_hw660

def k0_off1320 (i : grid0.Coords) : Fin 3 → Nat :=
  let c0_2755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4407 : Index := Scalar.indexCast v2059
  let c147_2756 : Index := 147#32
  ![0, v4407.toNat, 147]
def k0_off1321 (v4367 : BitVec 32) : Fin 3 → Nat :=
  let c0_2759 : Index := 0#32
  let v4414 : Index := Scalar.indexCast v4367
  let c0_2760 : Index := 0#32
  ![0, v4414.toNat, 0]

def k0_chk657 (v4367 : BitVec 32) : Prop :=
  (∀ a, (k0_off1313 v4367) a + S1x1x1024.size a ≤ S1x2048x1024.size a) ∧
  (∀ a, (k0_off1321 v4367) a + S1x1x1024.size a ≤ S1x2048x1024.size a)
theorem k0_off1313_inb : ∀ (v4367 : BitVec 32) (k0_hw657 : k0_chk657 v4367), ∀ a, (k0_off1313 v4367) a + S1x1x1024.size a ≤ S1x2048x1024.size a := fun v4367 k0_hw657 => k0_hw657.1
theorem k0_off1321_inb : ∀ (v4367 : BitVec 32) (k0_hw657 : k0_chk657 v4367), ∀ a, (k0_off1321 v4367) a + S1x1x1024.size a ≤ S1x2048x1024.size a := fun v4367 k0_hw657 => k0_hw657.2

def k0_off1322 (v4369 : BitVec 32) : Fin 3 → Nat :=
  let c0_2761 : Index := 0#32
  let v4418 : Index := Scalar.indexCast v4369
  let c0_2762 : Index := 0#32
  ![0, v4418.toNat, 0]

def k0_chk658 (v4369 : BitVec 32) : Prop :=
  (∀ a, (k0_off1315 v4369) a + S1x1x1024.size a ≤ S1x2048x1024.size a) ∧
  (∀ a, (k0_off1322 v4369) a + S1x1x1024.size a ≤ S1x2048x1024.size a)
theorem k0_off1315_inb : ∀ (v4369 : BitVec 32) (k0_hw658 : k0_chk658 v4369), ∀ a, (k0_off1315 v4369) a + S1x1x1024.size a ≤ S1x2048x1024.size a := fun v4369 k0_hw658 => k0_hw658.1
theorem k0_off1322_inb : ∀ (v4369 : BitVec 32) (k0_hw658 : k0_chk658 v4369), ∀ a, (k0_off1322 v4369) a + S1x1x1024.size a ≤ S1x2048x1024.size a := fun v4369 k0_hw658 => k0_hw658.2

def k0_off1323 (v4371 : BitVec 32) : Fin 3 → Nat :=
  let c0_2763 : Index := 0#32
  let v4422 : Index := Scalar.indexCast v4371
  let c0_2764 : Index := 0#32
  ![0, v4422.toNat, 0]

def k0_chk659 (v4371 : BitVec 32) : Prop :=
  (∀ a, (k0_off1317 v4371) a + S1x1x1024.size a ≤ S1x2048x1024.size a) ∧
  (∀ a, (k0_off1323 v4371) a + S1x1x1024.size a ≤ S1x2048x1024.size a)
theorem k0_off1317_inb : ∀ (v4371 : BitVec 32) (k0_hw659 : k0_chk659 v4371), ∀ a, (k0_off1317 v4371) a + S1x1x1024.size a ≤ S1x2048x1024.size a := fun v4371 k0_hw659 => k0_hw659.1
theorem k0_off1323_inb : ∀ (v4371 : BitVec 32) (k0_hw659 : k0_chk659 v4371), ∀ a, (k0_off1323 v4371) a + S1x1x1024.size a ≤ S1x2048x1024.size a := fun v4371 k0_hw659 => k0_hw659.2

def k0_off1324 (i : grid0.Coords) : Fin 3 → Nat :=
  let c0_2767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4430 : Index := Scalar.indexCast v2059
  let c148_2768 : Index := 148#32
  ![0, v4430.toNat, 148]
def k0_off1325 (i : grid0.Coords) : Fin 3 → Nat :=
  let c0_2769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4432 : Index := Scalar.indexCast v2059
  let c149_2770 : Index := 149#32
  ![0, v4432.toNat, 149]
def k0_off1326 (i : grid0.Coords) : Fin 3 → Nat :=
  let c0_2771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4434 : Index := Scalar.indexCast v2059
  let c150_2772 : Index := 150#32
  ![0, v4434.toNat, 150]
def k0_off1327 (i : grid0.Coords) : Fin 3 → Nat :=
  let c0_2773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4436 : Index := Scalar.indexCast v2059
  let c151_2774 : Index := 151#32
  ![0, v4436.toNat, 151]
def k0_off1328 (v4431 : BitVec 32) : Fin 3 → Nat :=
  let c0_2775 : Index := 0#32
  let v4438 : Index := Scalar.indexCast v4431
  let c0_2776 : Index := 0#32
  ![0, v4438.toNat, 0]

def k0_off1329 (i : grid0.Coords) : Fin 3 → Nat :=
  let c0_2777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4441 : Index := Scalar.indexCast v2059
  let c148_2778 : Index := 148#32
  ![0, v4441.toNat, 148]
def k0_off1330 (v4433 : BitVec 32) : Fin 3 → Nat :=
  let c0_2781 : Index := 0#32
  let v4448 : Index := Scalar.indexCast v4433
  let c0_2782 : Index := 0#32
  ![0, v4448.toNat, 0]

def k0_off1331 (i : grid0.Coords) : Fin 3 → Nat :=
  let c0_2783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4451 : Index := Scalar.indexCast v2059
  let c149_2784 : Index := 149#32
  ![0, v4451.toNat, 149]
def k0_off1332 (v4435 : BitVec 32) : Fin 3 → Nat :=
  let c0_2787 : Index := 0#32
  let v4458 : Index := Scalar.indexCast v4435
  let c0_2788 : Index := 0#32
  ![0, v4458.toNat, 0]

def k0_off1333 (i : grid0.Coords) : Fin 3 → Nat :=
  let c0_2789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4461 : Index := Scalar.indexCast v2059
  let c150_2790 : Index := 150#32
  ![0, v4461.toNat, 150]
def k0_off1334 (v4437 : BitVec 32) : Fin 3 → Nat :=
  let c0_2793 : Index := 0#32
  let v4468 : Index := Scalar.indexCast v4437
  let c0_2794 : Index := 0#32
  ![0, v4468.toNat, 0]

def k0_chk664 (v4437 : BitVec 32) : Prop :=
  (∀ a, (k0_off1334 v4437) a + S1x1x1024.size a ≤ S1x2048x1024.size a)
theorem k0_off1334_inb : ∀ (v4437 : BitVec 32) (k0_hw664 : k0_chk664 v4437), ∀ a, (k0_off1334 v4437) a + S1x1x1024.size a ≤ S1x2048x1024.size a := fun v4437 k0_hw664 => k0_hw664

def k0_off1335 (i : grid0.Coords) : Fin 3 → Nat :=
  let c0_2795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4471 : Index := Scalar.indexCast v2059
  let c151_2796 : Index := 151#32
  ![0, v4471.toNat, 151]
def k0_off1336 (v4431 : BitVec 32) : Fin 3 → Nat :=
  let c0_2799 : Index := 0#32
  let v4478 : Index := Scalar.indexCast v4431
  let c0_2800 : Index := 0#32
  ![0, v4478.toNat, 0]

def k0_chk661 (v4431 : BitVec 32) : Prop :=
  (∀ a, (k0_off1328 v4431) a + S1x1x1024.size a ≤ S1x2048x1024.size a) ∧
  (∀ a, (k0_off1336 v4431) a + S1x1x1024.size a ≤ S1x2048x1024.size a)
theorem k0_off1328_inb : ∀ (v4431 : BitVec 32) (k0_hw661 : k0_chk661 v4431), ∀ a, (k0_off1328 v4431) a + S1x1x1024.size a ≤ S1x2048x1024.size a := fun v4431 k0_hw661 => k0_hw661.1
theorem k0_off1336_inb : ∀ (v4431 : BitVec 32) (k0_hw661 : k0_chk661 v4431), ∀ a, (k0_off1336 v4431) a + S1x1x1024.size a ≤ S1x2048x1024.size a := fun v4431 k0_hw661 => k0_hw661.2

def k0_off1337 (v4433 : BitVec 32) : Fin 3 → Nat :=
  let c0_2801 : Index := 0#32
  let v4482 : Index := Scalar.indexCast v4433
  let c0_2802 : Index := 0#32
  ![0, v4482.toNat, 0]

def k0_chk662 (v4433 : BitVec 32) : Prop :=
  (∀ a, (k0_off1330 v4433) a + S1x1x1024.size a ≤ S1x2048x1024.size a) ∧
  (∀ a, (k0_off1337 v4433) a + S1x1x1024.size a ≤ S1x2048x1024.size a)
theorem k0_off1330_inb : ∀ (v4433 : BitVec 32) (k0_hw662 : k0_chk662 v4433), ∀ a, (k0_off1330 v4433) a + S1x1x1024.size a ≤ S1x2048x1024.size a := fun v4433 k0_hw662 => k0_hw662.1
theorem k0_off1337_inb : ∀ (v4433 : BitVec 32) (k0_hw662 : k0_chk662 v4433), ∀ a, (k0_off1337 v4433) a + S1x1x1024.size a ≤ S1x2048x1024.size a := fun v4433 k0_hw662 => k0_hw662.2

def k0_off1338 (v4435 : BitVec 32) : Fin 3 → Nat :=
  let c0_2803 : Index := 0#32
  let v4486 : Index := Scalar.indexCast v4435
  let c0_2804 : Index := 0#32
  ![0, v4486.toNat, 0]

def k0_chk663 (v4435 : BitVec 32) : Prop :=
  (∀ a, (k0_off1332 v4435) a + S1x1x1024.size a ≤ S1x2048x1024.size a) ∧
  (∀ a, (k0_off1338 v4435) a + S1x1x1024.size a ≤ S1x2048x1024.size a)
theorem k0_off1332_inb : ∀ (v4435 : BitVec 32) (k0_hw663 : k0_chk663 v4435), ∀ a, (k0_off1332 v4435) a + S1x1x1024.size a ≤ S1x2048x1024.size a := fun v4435 k0_hw663 => k0_hw663.1
theorem k0_off1338_inb : ∀ (v4435 : BitVec 32) (k0_hw663 : k0_chk663 v4435), ∀ a, (k0_off1338 v4435) a + S1x1x1024.size a ≤ S1x2048x1024.size a := fun v4435 k0_hw663 => k0_hw663.2

def k0_off1339 (i : grid0.Coords) : Fin 3 → Nat :=
  let c0_2807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4494 : Index := Scalar.indexCast v2059
  let c152_2808 : Index := 152#32
  ![0, v4494.toNat, 152]
def k0_off1340 (i : grid0.Coords) : Fin 3 → Nat :=
  let c0_2809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4496 : Index := Scalar.indexCast v2059
  let c153_2810 : Index := 153#32
  ![0, v4496.toNat, 153]
def k0_off1341 (i : grid0.Coords) : Fin 3 → Nat :=
  let c0_2811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4498 : Index := Scalar.indexCast v2059
  let c154_2812 : Index := 154#32
  ![0, v4498.toNat, 154]
def k0_off1342 (i : grid0.Coords) : Fin 3 → Nat :=
  let c0_2813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4500 : Index := Scalar.indexCast v2059
  let c155_2814 : Index := 155#32
  ![0, v4500.toNat, 155]
def k0_off1343 (v4495 : BitVec 32) : Fin 3 → Nat :=
  let c0_2815 : Index := 0#32
  let v4502 : Index := Scalar.indexCast v4495
  let c0_2816 : Index := 0#32
  ![0, v4502.toNat, 0]

def k0_off1344 (i : grid0.Coords) : Fin 3 → Nat :=
  let c0_2817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4505 : Index := Scalar.indexCast v2059
  let c152_2818 : Index := 152#32
  ![0, v4505.toNat, 152]
def k0_off1345 (v4497 : BitVec 32) : Fin 3 → Nat :=
  let c0_2821 : Index := 0#32
  let v4512 : Index := Scalar.indexCast v4497
  let c0_2822 : Index := 0#32
  ![0, v4512.toNat, 0]

def k0_off1346 (i : grid0.Coords) : Fin 3 → Nat :=
  let c0_2823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4515 : Index := Scalar.indexCast v2059
  let c153_2824 : Index := 153#32
  ![0, v4515.toNat, 153]
def k0_off1347 (v4499 : BitVec 32) : Fin 3 → Nat :=
  let c0_2827 : Index := 0#32
  let v4522 : Index := Scalar.indexCast v4499
  let c0_2828 : Index := 0#32
  ![0, v4522.toNat, 0]

def k0_off1348 (i : grid0.Coords) : Fin 3 → Nat :=
  let c0_2829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4525 : Index := Scalar.indexCast v2059
  let c154_2830 : Index := 154#32
  ![0, v4525.toNat, 154]
def k0_off1349 (v4501 : BitVec 32) : Fin 3 → Nat :=
  let c0_2833 : Index := 0#32
  let v4532 : Index := Scalar.indexCast v4501
  let c0_2834 : Index := 0#32
  ![0, v4532.toNat, 0]

def k0_chk668 (v4501 : BitVec 32) : Prop :=
  (∀ a, (k0_off1349 v4501) a + S1x1x1024.size a ≤ S1x2048x1024.size a)
theorem k0_off1349_inb : ∀ (v4501 : BitVec 32) (k0_hw668 : k0_chk668 v4501), ∀ a, (k0_off1349 v4501) a + S1x1x1024.size a ≤ S1x2048x1024.size a := fun v4501 k0_hw668 => k0_hw668

def k0_off1350 (i : grid0.Coords) : Fin 3 → Nat :=
  let c0_2835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4535 : Index := Scalar.indexCast v2059
  let c155_2836 : Index := 155#32
  ![0, v4535.toNat, 155]
def k0_off1351 (v4495 : BitVec 32) : Fin 3 → Nat :=
  let c0_2839 : Index := 0#32
  let v4542 : Index := Scalar.indexCast v4495
  let c0_2840 : Index := 0#32
  ![0, v4542.toNat, 0]

def k0_chk665 (v4495 : BitVec 32) : Prop :=
  (∀ a, (k0_off1343 v4495) a + S1x1x1024.size a ≤ S1x2048x1024.size a) ∧
  (∀ a, (k0_off1351 v4495) a + S1x1x1024.size a ≤ S1x2048x1024.size a)
theorem k0_off1343_inb : ∀ (v4495 : BitVec 32) (k0_hw665 : k0_chk665 v4495), ∀ a, (k0_off1343 v4495) a + S1x1x1024.size a ≤ S1x2048x1024.size a := fun v4495 k0_hw665 => k0_hw665.1
theorem k0_off1351_inb : ∀ (v4495 : BitVec 32) (k0_hw665 : k0_chk665 v4495), ∀ a, (k0_off1351 v4495) a + S1x1x1024.size a ≤ S1x2048x1024.size a := fun v4495 k0_hw665 => k0_hw665.2

def k0_off1352 (v4497 : BitVec 32) : Fin 3 → Nat :=
  let c0_2841 : Index := 0#32
  let v4546 : Index := Scalar.indexCast v4497
  let c0_2842 : Index := 0#32
  ![0, v4546.toNat, 0]

def k0_chk666 (v4497 : BitVec 32) : Prop :=
  (∀ a, (k0_off1345 v4497) a + S1x1x1024.size a ≤ S1x2048x1024.size a) ∧
  (∀ a, (k0_off1352 v4497) a + S1x1x1024.size a ≤ S1x2048x1024.size a)
theorem k0_off1345_inb : ∀ (v4497 : BitVec 32) (k0_hw666 : k0_chk666 v4497), ∀ a, (k0_off1345 v4497) a + S1x1x1024.size a ≤ S1x2048x1024.size a := fun v4497 k0_hw666 => k0_hw666.1
theorem k0_off1352_inb : ∀ (v4497 : BitVec 32) (k0_hw666 : k0_chk666 v4497), ∀ a, (k0_off1352 v4497) a + S1x1x1024.size a ≤ S1x2048x1024.size a := fun v4497 k0_hw666 => k0_hw666.2

def k0_off1353 (v4499 : BitVec 32) : Fin 3 → Nat :=
  let c0_2843 : Index := 0#32
  let v4550 : Index := Scalar.indexCast v4499
  let c0_2844 : Index := 0#32
  ![0, v4550.toNat, 0]

def k0_chk667 (v4499 : BitVec 32) : Prop :=
  (∀ a, (k0_off1347 v4499) a + S1x1x1024.size a ≤ S1x2048x1024.size a) ∧
  (∀ a, (k0_off1353 v4499) a + S1x1x1024.size a ≤ S1x2048x1024.size a)
theorem k0_off1347_inb : ∀ (v4499 : BitVec 32) (k0_hw667 : k0_chk667 v4499), ∀ a, (k0_off1347 v4499) a + S1x1x1024.size a ≤ S1x2048x1024.size a := fun v4499 k0_hw667 => k0_hw667.1
theorem k0_off1353_inb : ∀ (v4499 : BitVec 32) (k0_hw667 : k0_chk667 v4499), ∀ a, (k0_off1353 v4499) a + S1x1x1024.size a ≤ S1x2048x1024.size a := fun v4499 k0_hw667 => k0_hw667.2

def k0_off1354 (i : grid0.Coords) : Fin 3 → Nat :=
  let c0_2847 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4558 : Index := Scalar.indexCast v2059
  let c156_2848 : Index := 156#32
  ![0, v4558.toNat, 156]
def k0_off1355 (i : grid0.Coords) : Fin 3 → Nat :=
  let c0_2849 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4560 : Index := Scalar.indexCast v2059
  let c157_2850 : Index := 157#32
  ![0, v4560.toNat, 157]
def k0_off1356 (i : grid0.Coords) : Fin 3 → Nat :=
  let c0_2851 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4562 : Index := Scalar.indexCast v2059
  let c158_2852 : Index := 158#32
  ![0, v4562.toNat, 158]
def k0_off1357 (i : grid0.Coords) : Fin 3 → Nat :=
  let c0_2853 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4564 : Index := Scalar.indexCast v2059
  let c159_2854 : Index := 159#32
  ![0, v4564.toNat, 159]
def k0_off1358 (v4559 : BitVec 32) : Fin 3 → Nat :=
  let c0_2855 : Index := 0#32
  let v4566 : Index := Scalar.indexCast v4559
  let c0_2856 : Index := 0#32
  ![0, v4566.toNat, 0]

def k0_off1359 (i : grid0.Coords) : Fin 3 → Nat :=
  let c0_2857 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4569 : Index := Scalar.indexCast v2059
  let c156_2858 : Index := 156#32
  ![0, v4569.toNat, 156]
def k0_off1360 (v4561 : BitVec 32) : Fin 3 → Nat :=
  let c0_2861 : Index := 0#32
  let v4576 : Index := Scalar.indexCast v4561
  let c0_2862 : Index := 0#32
  ![0, v4576.toNat, 0]

def k0_off1361 (i : grid0.Coords) : Fin 3 → Nat :=
  let c0_2863 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4579 : Index := Scalar.indexCast v2059
  let c157_2864 : Index := 157#32
  ![0, v4579.toNat, 157]
def k0_off1362 (v4563 : BitVec 32) : Fin 3 → Nat :=
  let c0_2867 : Index := 0#32
  let v4586 : Index := Scalar.indexCast v4563
  let c0_2868 : Index := 0#32
  ![0, v4586.toNat, 0]

def k0_off1363 (i : grid0.Coords) : Fin 3 → Nat :=
  let c0_2869 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4589 : Index := Scalar.indexCast v2059
  let c158_2870 : Index := 158#32
  ![0, v4589.toNat, 158]
def k0_off1364 (v4565 : BitVec 32) : Fin 3 → Nat :=
  let c0_2873 : Index := 0#32
  let v4596 : Index := Scalar.indexCast v4565
  let c0_2874 : Index := 0#32
  ![0, v4596.toNat, 0]

def k0_chk672 (v4565 : BitVec 32) : Prop :=
  (∀ a, (k0_off1364 v4565) a + S1x1x1024.size a ≤ S1x2048x1024.size a)
theorem k0_off1364_inb : ∀ (v4565 : BitVec 32) (k0_hw672 : k0_chk672 v4565), ∀ a, (k0_off1364 v4565) a + S1x1x1024.size a ≤ S1x2048x1024.size a := fun v4565 k0_hw672 => k0_hw672

def k0_off1365 (i : grid0.Coords) : Fin 3 → Nat :=
  let c0_2875 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4599 : Index := Scalar.indexCast v2059
  let c159_2876 : Index := 159#32
  ![0, v4599.toNat, 159]
def k0_off1366 (v4559 : BitVec 32) : Fin 3 → Nat :=
  let c0_2879 : Index := 0#32
  let v4606 : Index := Scalar.indexCast v4559
  let c0_2880 : Index := 0#32
  ![0, v4606.toNat, 0]

def k0_chk669 (v4559 : BitVec 32) : Prop :=
  (∀ a, (k0_off1358 v4559) a + S1x1x1024.size a ≤ S1x2048x1024.size a) ∧
  (∀ a, (k0_off1366 v4559) a + S1x1x1024.size a ≤ S1x2048x1024.size a)
theorem k0_off1358_inb : ∀ (v4559 : BitVec 32) (k0_hw669 : k0_chk669 v4559), ∀ a, (k0_off1358 v4559) a + S1x1x1024.size a ≤ S1x2048x1024.size a := fun v4559 k0_hw669 => k0_hw669.1
theorem k0_off1366_inb : ∀ (v4559 : BitVec 32) (k0_hw669 : k0_chk669 v4559), ∀ a, (k0_off1366 v4559) a + S1x1x1024.size a ≤ S1x2048x1024.size a := fun v4559 k0_hw669 => k0_hw669.2

def k0_off1367 (v4561 : BitVec 32) : Fin 3 → Nat :=
  let c0_2881 : Index := 0#32
  let v4610 : Index := Scalar.indexCast v4561
  let c0_2882 : Index := 0#32
  ![0, v4610.toNat, 0]

def k0_chk670 (v4561 : BitVec 32) : Prop :=
  (∀ a, (k0_off1360 v4561) a + S1x1x1024.size a ≤ S1x2048x1024.size a) ∧
  (∀ a, (k0_off1367 v4561) a + S1x1x1024.size a ≤ S1x2048x1024.size a)
theorem k0_off1360_inb : ∀ (v4561 : BitVec 32) (k0_hw670 : k0_chk670 v4561), ∀ a, (k0_off1360 v4561) a + S1x1x1024.size a ≤ S1x2048x1024.size a := fun v4561 k0_hw670 => k0_hw670.1
theorem k0_off1367_inb : ∀ (v4561 : BitVec 32) (k0_hw670 : k0_chk670 v4561), ∀ a, (k0_off1367 v4561) a + S1x1x1024.size a ≤ S1x2048x1024.size a := fun v4561 k0_hw670 => k0_hw670.2

def k0_off1368 (v4563 : BitVec 32) : Fin 3 → Nat :=
  let c0_2883 : Index := 0#32
  let v4614 : Index := Scalar.indexCast v4563
  let c0_2884 : Index := 0#32
  ![0, v4614.toNat, 0]

def k0_chk671 (v4563 : BitVec 32) : Prop :=
  (∀ a, (k0_off1362 v4563) a + S1x1x1024.size a ≤ S1x2048x1024.size a) ∧
  (∀ a, (k0_off1368 v4563) a + S1x1x1024.size a ≤ S1x2048x1024.size a)
theorem k0_off1362_inb : ∀ (v4563 : BitVec 32) (k0_hw671 : k0_chk671 v4563), ∀ a, (k0_off1362 v4563) a + S1x1x1024.size a ≤ S1x2048x1024.size a := fun v4563 k0_hw671 => k0_hw671.1
theorem k0_off1368_inb : ∀ (v4563 : BitVec 32) (k0_hw671 : k0_chk671 v4563), ∀ a, (k0_off1368 v4563) a + S1x1x1024.size a ≤ S1x2048x1024.size a := fun v4563 k0_hw671 => k0_hw671.2

def k0_off1369 (i : grid0.Coords) : Fin 3 → Nat :=
  let c0_2887 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4622 : Index := Scalar.indexCast v2059
  let c160_2888 : Index := 160#32
  ![0, v4622.toNat, 160]
def k0_off1370 (i : grid0.Coords) : Fin 3 → Nat :=
  let c0_2889 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4624 : Index := Scalar.indexCast v2059
  let c161_2890 : Index := 161#32
  ![0, v4624.toNat, 161]
def k0_off1371 (i : grid0.Coords) : Fin 3 → Nat :=
  let c0_2891 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4626 : Index := Scalar.indexCast v2059
  let c162_2892 : Index := 162#32
  ![0, v4626.toNat, 162]
def k0_off1372 (i : grid0.Coords) : Fin 3 → Nat :=
  let c0_2893 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4628 : Index := Scalar.indexCast v2059
  let c163_2894 : Index := 163#32
  ![0, v4628.toNat, 163]
def k0_off1373 (v4623 : BitVec 32) : Fin 3 → Nat :=
  let c0_2895 : Index := 0#32
  let v4630 : Index := Scalar.indexCast v4623
  let c0_2896 : Index := 0#32
  ![0, v4630.toNat, 0]

def k0_off1374 (i : grid0.Coords) : Fin 3 → Nat :=
  let c0_2897 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4633 : Index := Scalar.indexCast v2059
  let c160_2898 : Index := 160#32
  ![0, v4633.toNat, 160]
def k0_off1375 (v4625 : BitVec 32) : Fin 3 → Nat :=
  let c0_2901 : Index := 0#32
  let v4640 : Index := Scalar.indexCast v4625
  let c0_2902 : Index := 0#32
  ![0, v4640.toNat, 0]

def k0_off1376 (i : grid0.Coords) : Fin 3 → Nat :=
  let c0_2903 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4643 : Index := Scalar.indexCast v2059
  let c161_2904 : Index := 161#32
  ![0, v4643.toNat, 161]
def k0_off1377 (v4627 : BitVec 32) : Fin 3 → Nat :=
  let c0_2907 : Index := 0#32
  let v4650 : Index := Scalar.indexCast v4627
  let c0_2908 : Index := 0#32
  ![0, v4650.toNat, 0]

def k0_off1378 (i : grid0.Coords) : Fin 3 → Nat :=
  let c0_2909 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4653 : Index := Scalar.indexCast v2059
  let c162_2910 : Index := 162#32
  ![0, v4653.toNat, 162]
def k0_off1379 (v4629 : BitVec 32) : Fin 3 → Nat :=
  let c0_2913 : Index := 0#32
  let v4660 : Index := Scalar.indexCast v4629
  let c0_2914 : Index := 0#32
  ![0, v4660.toNat, 0]

def k0_chk676 (v4629 : BitVec 32) : Prop :=
  (∀ a, (k0_off1379 v4629) a + S1x1x1024.size a ≤ S1x2048x1024.size a)
theorem k0_off1379_inb : ∀ (v4629 : BitVec 32) (k0_hw676 : k0_chk676 v4629), ∀ a, (k0_off1379 v4629) a + S1x1x1024.size a ≤ S1x2048x1024.size a := fun v4629 k0_hw676 => k0_hw676

def k0_off1380 (i : grid0.Coords) : Fin 3 → Nat :=
  let c0_2915 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4663 : Index := Scalar.indexCast v2059
  let c163_2916 : Index := 163#32
  ![0, v4663.toNat, 163]
def k0_off1381 (v4623 : BitVec 32) : Fin 3 → Nat :=
  let c0_2919 : Index := 0#32
  let v4670 : Index := Scalar.indexCast v4623
  let c0_2920 : Index := 0#32
  ![0, v4670.toNat, 0]

def k0_chk673 (v4623 : BitVec 32) : Prop :=
  (∀ a, (k0_off1373 v4623) a + S1x1x1024.size a ≤ S1x2048x1024.size a) ∧
  (∀ a, (k0_off1381 v4623) a + S1x1x1024.size a ≤ S1x2048x1024.size a)
theorem k0_off1373_inb : ∀ (v4623 : BitVec 32) (k0_hw673 : k0_chk673 v4623), ∀ a, (k0_off1373 v4623) a + S1x1x1024.size a ≤ S1x2048x1024.size a := fun v4623 k0_hw673 => k0_hw673.1
theorem k0_off1381_inb : ∀ (v4623 : BitVec 32) (k0_hw673 : k0_chk673 v4623), ∀ a, (k0_off1381 v4623) a + S1x1x1024.size a ≤ S1x2048x1024.size a := fun v4623 k0_hw673 => k0_hw673.2

def k0_off1382 (v4625 : BitVec 32) : Fin 3 → Nat :=
  let c0_2921 : Index := 0#32
  let v4674 : Index := Scalar.indexCast v4625
  let c0_2922 : Index := 0#32
  ![0, v4674.toNat, 0]

def k0_chk674 (v4625 : BitVec 32) : Prop :=
  (∀ a, (k0_off1375 v4625) a + S1x1x1024.size a ≤ S1x2048x1024.size a) ∧
  (∀ a, (k0_off1382 v4625) a + S1x1x1024.size a ≤ S1x2048x1024.size a)
theorem k0_off1375_inb : ∀ (v4625 : BitVec 32) (k0_hw674 : k0_chk674 v4625), ∀ a, (k0_off1375 v4625) a + S1x1x1024.size a ≤ S1x2048x1024.size a := fun v4625 k0_hw674 => k0_hw674.1
theorem k0_off1382_inb : ∀ (v4625 : BitVec 32) (k0_hw674 : k0_chk674 v4625), ∀ a, (k0_off1382 v4625) a + S1x1x1024.size a ≤ S1x2048x1024.size a := fun v4625 k0_hw674 => k0_hw674.2

def k0_off1383 (v4627 : BitVec 32) : Fin 3 → Nat :=
  let c0_2923 : Index := 0#32
  let v4678 : Index := Scalar.indexCast v4627
  let c0_2924 : Index := 0#32
  ![0, v4678.toNat, 0]

def k0_chk675 (v4627 : BitVec 32) : Prop :=
  (∀ a, (k0_off1377 v4627) a + S1x1x1024.size a ≤ S1x2048x1024.size a) ∧
  (∀ a, (k0_off1383 v4627) a + S1x1x1024.size a ≤ S1x2048x1024.size a)
theorem k0_off1377_inb : ∀ (v4627 : BitVec 32) (k0_hw675 : k0_chk675 v4627), ∀ a, (k0_off1377 v4627) a + S1x1x1024.size a ≤ S1x2048x1024.size a := fun v4627 k0_hw675 => k0_hw675.1
theorem k0_off1383_inb : ∀ (v4627 : BitVec 32) (k0_hw675 : k0_chk675 v4627), ∀ a, (k0_off1383 v4627) a + S1x1x1024.size a ≤ S1x2048x1024.size a := fun v4627 k0_hw675 => k0_hw675.2

def k0_off1384 (i : grid0.Coords) : Fin 3 → Nat :=
  let c0_2927 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4686 : Index := Scalar.indexCast v2059
  let c164_2928 : Index := 164#32
  ![0, v4686.toNat, 164]
def k0_off1385 (i : grid0.Coords) : Fin 3 → Nat :=
  let c0_2929 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4688 : Index := Scalar.indexCast v2059
  let c165_2930 : Index := 165#32
  ![0, v4688.toNat, 165]
def k0_off1386 (i : grid0.Coords) : Fin 3 → Nat :=
  let c0_2931 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4690 : Index := Scalar.indexCast v2059
  let c166_2932 : Index := 166#32
  ![0, v4690.toNat, 166]
def k0_off1387 (i : grid0.Coords) : Fin 3 → Nat :=
  let c0_2933 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4692 : Index := Scalar.indexCast v2059
  let c167_2934 : Index := 167#32
  ![0, v4692.toNat, 167]
def k0_off1388 (v4687 : BitVec 32) : Fin 3 → Nat :=
  let c0_2935 : Index := 0#32
  let v4694 : Index := Scalar.indexCast v4687
  let c0_2936 : Index := 0#32
  ![0, v4694.toNat, 0]

def k0_off1389 (i : grid0.Coords) : Fin 3 → Nat :=
  let c0_2937 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4697 : Index := Scalar.indexCast v2059
  let c164_2938 : Index := 164#32
  ![0, v4697.toNat, 164]
def k0_off1390 (v4689 : BitVec 32) : Fin 3 → Nat :=
  let c0_2941 : Index := 0#32
  let v4704 : Index := Scalar.indexCast v4689
  let c0_2942 : Index := 0#32
  ![0, v4704.toNat, 0]

def k0_off1391 (i : grid0.Coords) : Fin 3 → Nat :=
  let c0_2943 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4707 : Index := Scalar.indexCast v2059
  let c165_2944 : Index := 165#32
  ![0, v4707.toNat, 165]
def k0_off1392 (v4691 : BitVec 32) : Fin 3 → Nat :=
  let c0_2947 : Index := 0#32
  let v4714 : Index := Scalar.indexCast v4691
  let c0_2948 : Index := 0#32
  ![0, v4714.toNat, 0]

def k0_off1393 (i : grid0.Coords) : Fin 3 → Nat :=
  let c0_2949 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4717 : Index := Scalar.indexCast v2059
  let c166_2950 : Index := 166#32
  ![0, v4717.toNat, 166]
def k0_off1394 (v4693 : BitVec 32) : Fin 3 → Nat :=
  let c0_2953 : Index := 0#32
  let v4724 : Index := Scalar.indexCast v4693
  let c0_2954 : Index := 0#32
  ![0, v4724.toNat, 0]

def k0_chk680 (v4693 : BitVec 32) : Prop :=
  (∀ a, (k0_off1394 v4693) a + S1x1x1024.size a ≤ S1x2048x1024.size a)
theorem k0_off1394_inb : ∀ (v4693 : BitVec 32) (k0_hw680 : k0_chk680 v4693), ∀ a, (k0_off1394 v4693) a + S1x1x1024.size a ≤ S1x2048x1024.size a := fun v4693 k0_hw680 => k0_hw680

def k0_off1395 (i : grid0.Coords) : Fin 3 → Nat :=
  let c0_2955 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4727 : Index := Scalar.indexCast v2059
  let c167_2956 : Index := 167#32
  ![0, v4727.toNat, 167]
def k0_off1396 (v4687 : BitVec 32) : Fin 3 → Nat :=
  let c0_2959 : Index := 0#32
  let v4734 : Index := Scalar.indexCast v4687
  let c0_2960 : Index := 0#32
  ![0, v4734.toNat, 0]

def k0_chk677 (v4687 : BitVec 32) : Prop :=
  (∀ a, (k0_off1388 v4687) a + S1x1x1024.size a ≤ S1x2048x1024.size a) ∧
  (∀ a, (k0_off1396 v4687) a + S1x1x1024.size a ≤ S1x2048x1024.size a)
theorem k0_off1388_inb : ∀ (v4687 : BitVec 32) (k0_hw677 : k0_chk677 v4687), ∀ a, (k0_off1388 v4687) a + S1x1x1024.size a ≤ S1x2048x1024.size a := fun v4687 k0_hw677 => k0_hw677.1
theorem k0_off1396_inb : ∀ (v4687 : BitVec 32) (k0_hw677 : k0_chk677 v4687), ∀ a, (k0_off1396 v4687) a + S1x1x1024.size a ≤ S1x2048x1024.size a := fun v4687 k0_hw677 => k0_hw677.2

def k0_off1397 (v4689 : BitVec 32) : Fin 3 → Nat :=
  let c0_2961 : Index := 0#32
  let v4738 : Index := Scalar.indexCast v4689
  let c0_2962 : Index := 0#32
  ![0, v4738.toNat, 0]

def k0_chk678 (v4689 : BitVec 32) : Prop :=
  (∀ a, (k0_off1390 v4689) a + S1x1x1024.size a ≤ S1x2048x1024.size a) ∧
  (∀ a, (k0_off1397 v4689) a + S1x1x1024.size a ≤ S1x2048x1024.size a)
theorem k0_off1390_inb : ∀ (v4689 : BitVec 32) (k0_hw678 : k0_chk678 v4689), ∀ a, (k0_off1390 v4689) a + S1x1x1024.size a ≤ S1x2048x1024.size a := fun v4689 k0_hw678 => k0_hw678.1
theorem k0_off1397_inb : ∀ (v4689 : BitVec 32) (k0_hw678 : k0_chk678 v4689), ∀ a, (k0_off1397 v4689) a + S1x1x1024.size a ≤ S1x2048x1024.size a := fun v4689 k0_hw678 => k0_hw678.2

def k0_off1398 (v4691 : BitVec 32) : Fin 3 → Nat :=
  let c0_2963 : Index := 0#32
  let v4742 : Index := Scalar.indexCast v4691
  let c0_2964 : Index := 0#32
  ![0, v4742.toNat, 0]

def k0_chk679 (v4691 : BitVec 32) : Prop :=
  (∀ a, (k0_off1392 v4691) a + S1x1x1024.size a ≤ S1x2048x1024.size a) ∧
  (∀ a, (k0_off1398 v4691) a + S1x1x1024.size a ≤ S1x2048x1024.size a)
theorem k0_off1392_inb : ∀ (v4691 : BitVec 32) (k0_hw679 : k0_chk679 v4691), ∀ a, (k0_off1392 v4691) a + S1x1x1024.size a ≤ S1x2048x1024.size a := fun v4691 k0_hw679 => k0_hw679.1
theorem k0_off1398_inb : ∀ (v4691 : BitVec 32) (k0_hw679 : k0_chk679 v4691), ∀ a, (k0_off1398 v4691) a + S1x1x1024.size a ≤ S1x2048x1024.size a := fun v4691 k0_hw679 => k0_hw679.2

def k0_off1399 (i : grid0.Coords) : Fin 3 → Nat :=
  let c0_2967 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4750 : Index := Scalar.indexCast v2059
  let c168_2968 : Index := 168#32
  ![0, v4750.toNat, 168]
def k0_off1400 (i : grid0.Coords) : Fin 3 → Nat :=
  let c0_2969 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4752 : Index := Scalar.indexCast v2059
  let c169_2970 : Index := 169#32
  ![0, v4752.toNat, 169]
def k0_off1401 (i : grid0.Coords) : Fin 3 → Nat :=
  let c0_2971 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4754 : Index := Scalar.indexCast v2059
  let c170_2972 : Index := 170#32
  ![0, v4754.toNat, 170]
def k0_off1402 (i : grid0.Coords) : Fin 3 → Nat :=
  let c0_2973 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4756 : Index := Scalar.indexCast v2059
  let c171_2974 : Index := 171#32
  ![0, v4756.toNat, 171]
def k0_off1403 (v4751 : BitVec 32) : Fin 3 → Nat :=
  let c0_2975 : Index := 0#32
  let v4758 : Index := Scalar.indexCast v4751
  let c0_2976 : Index := 0#32
  ![0, v4758.toNat, 0]

def k0_off1404 (i : grid0.Coords) : Fin 3 → Nat :=
  let c0_2977 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4761 : Index := Scalar.indexCast v2059
  let c168_2978 : Index := 168#32
  ![0, v4761.toNat, 168]
def k0_off1405 (v4753 : BitVec 32) : Fin 3 → Nat :=
  let c0_2981 : Index := 0#32
  let v4768 : Index := Scalar.indexCast v4753
  let c0_2982 : Index := 0#32
  ![0, v4768.toNat, 0]

def k0_off1406 (i : grid0.Coords) : Fin 3 → Nat :=
  let c0_2983 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4771 : Index := Scalar.indexCast v2059
  let c169_2984 : Index := 169#32
  ![0, v4771.toNat, 169]
def k0_off1407 (v4755 : BitVec 32) : Fin 3 → Nat :=
  let c0_2987 : Index := 0#32
  let v4778 : Index := Scalar.indexCast v4755
  let c0_2988 : Index := 0#32
  ![0, v4778.toNat, 0]

def k0_off1408 (i : grid0.Coords) : Fin 3 → Nat :=
  let c0_2989 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4781 : Index := Scalar.indexCast v2059
  let c170_2990 : Index := 170#32
  ![0, v4781.toNat, 170]
def k0_off1409 (v4757 : BitVec 32) : Fin 3 → Nat :=
  let c0_2993 : Index := 0#32
  let v4788 : Index := Scalar.indexCast v4757
  let c0_2994 : Index := 0#32
  ![0, v4788.toNat, 0]

def k0_chk684 (v4757 : BitVec 32) : Prop :=
  (∀ a, (k0_off1409 v4757) a + S1x1x1024.size a ≤ S1x2048x1024.size a)
theorem k0_off1409_inb : ∀ (v4757 : BitVec 32) (k0_hw684 : k0_chk684 v4757), ∀ a, (k0_off1409 v4757) a + S1x1x1024.size a ≤ S1x2048x1024.size a := fun v4757 k0_hw684 => k0_hw684

def k0_off1410 (i : grid0.Coords) : Fin 3 → Nat :=
  let c0_2995 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4791 : Index := Scalar.indexCast v2059
  let c171_2996 : Index := 171#32
  ![0, v4791.toNat, 171]
def k0_off1411 (v4751 : BitVec 32) : Fin 3 → Nat :=
  let c0_2999 : Index := 0#32
  let v4798 : Index := Scalar.indexCast v4751
  let c0_3000 : Index := 0#32
  ![0, v4798.toNat, 0]

def k0_chk681 (v4751 : BitVec 32) : Prop :=
  (∀ a, (k0_off1403 v4751) a + S1x1x1024.size a ≤ S1x2048x1024.size a) ∧
  (∀ a, (k0_off1411 v4751) a + S1x1x1024.size a ≤ S1x2048x1024.size a)
theorem k0_off1403_inb : ∀ (v4751 : BitVec 32) (k0_hw681 : k0_chk681 v4751), ∀ a, (k0_off1403 v4751) a + S1x1x1024.size a ≤ S1x2048x1024.size a := fun v4751 k0_hw681 => k0_hw681.1
theorem k0_off1411_inb : ∀ (v4751 : BitVec 32) (k0_hw681 : k0_chk681 v4751), ∀ a, (k0_off1411 v4751) a + S1x1x1024.size a ≤ S1x2048x1024.size a := fun v4751 k0_hw681 => k0_hw681.2

def k0_off1412 (v4753 : BitVec 32) : Fin 3 → Nat :=
  let c0_3001 : Index := 0#32
  let v4802 : Index := Scalar.indexCast v4753
  let c0_3002 : Index := 0#32
  ![0, v4802.toNat, 0]

def k0_chk682 (v4753 : BitVec 32) : Prop :=
  (∀ a, (k0_off1405 v4753) a + S1x1x1024.size a ≤ S1x2048x1024.size a) ∧
  (∀ a, (k0_off1412 v4753) a + S1x1x1024.size a ≤ S1x2048x1024.size a)
theorem k0_off1405_inb : ∀ (v4753 : BitVec 32) (k0_hw682 : k0_chk682 v4753), ∀ a, (k0_off1405 v4753) a + S1x1x1024.size a ≤ S1x2048x1024.size a := fun v4753 k0_hw682 => k0_hw682.1
theorem k0_off1412_inb : ∀ (v4753 : BitVec 32) (k0_hw682 : k0_chk682 v4753), ∀ a, (k0_off1412 v4753) a + S1x1x1024.size a ≤ S1x2048x1024.size a := fun v4753 k0_hw682 => k0_hw682.2

def k0_off1413 (v4755 : BitVec 32) : Fin 3 → Nat :=
  let c0_3003 : Index := 0#32
  let v4806 : Index := Scalar.indexCast v4755
  let c0_3004 : Index := 0#32
  ![0, v4806.toNat, 0]

def k0_chk683 (v4755 : BitVec 32) : Prop :=
  (∀ a, (k0_off1407 v4755) a + S1x1x1024.size a ≤ S1x2048x1024.size a) ∧
  (∀ a, (k0_off1413 v4755) a + S1x1x1024.size a ≤ S1x2048x1024.size a)
theorem k0_off1407_inb : ∀ (v4755 : BitVec 32) (k0_hw683 : k0_chk683 v4755), ∀ a, (k0_off1407 v4755) a + S1x1x1024.size a ≤ S1x2048x1024.size a := fun v4755 k0_hw683 => k0_hw683.1
theorem k0_off1413_inb : ∀ (v4755 : BitVec 32) (k0_hw683 : k0_chk683 v4755), ∀ a, (k0_off1413 v4755) a + S1x1x1024.size a ≤ S1x2048x1024.size a := fun v4755 k0_hw683 => k0_hw683.2

def k0_off1414 (i : grid0.Coords) : Fin 3 → Nat :=
  let c0_3007 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4814 : Index := Scalar.indexCast v2059
  let c172_3008 : Index := 172#32
  ![0, v4814.toNat, 172]
def k0_off1415 (i : grid0.Coords) : Fin 3 → Nat :=
  let c0_3009 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4816 : Index := Scalar.indexCast v2059
  let c173_3010 : Index := 173#32
  ![0, v4816.toNat, 173]
def k0_off1416 (i : grid0.Coords) : Fin 3 → Nat :=
  let c0_3011 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4818 : Index := Scalar.indexCast v2059
  let c174_3012 : Index := 174#32
  ![0, v4818.toNat, 174]
def k0_off1417 (i : grid0.Coords) : Fin 3 → Nat :=
  let c0_3013 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4820 : Index := Scalar.indexCast v2059
  let c175_3014 : Index := 175#32
  ![0, v4820.toNat, 175]
def k0_off1418 (v4815 : BitVec 32) : Fin 3 → Nat :=
  let c0_3015 : Index := 0#32
  let v4822 : Index := Scalar.indexCast v4815
  let c0_3016 : Index := 0#32
  ![0, v4822.toNat, 0]

def k0_off1419 (i : grid0.Coords) : Fin 3 → Nat :=
  let c0_3017 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4825 : Index := Scalar.indexCast v2059
  let c172_3018 : Index := 172#32
  ![0, v4825.toNat, 172]
def k0_off1420 (v4817 : BitVec 32) : Fin 3 → Nat :=
  let c0_3021 : Index := 0#32
  let v4832 : Index := Scalar.indexCast v4817
  let c0_3022 : Index := 0#32
  ![0, v4832.toNat, 0]

def k0_off1421 (i : grid0.Coords) : Fin 3 → Nat :=
  let c0_3023 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4835 : Index := Scalar.indexCast v2059
  let c173_3024 : Index := 173#32
  ![0, v4835.toNat, 173]
def k0_off1422 (v4819 : BitVec 32) : Fin 3 → Nat :=
  let c0_3027 : Index := 0#32
  let v4842 : Index := Scalar.indexCast v4819
  let c0_3028 : Index := 0#32
  ![0, v4842.toNat, 0]

def k0_off1423 (i : grid0.Coords) : Fin 3 → Nat :=
  let c0_3029 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4845 : Index := Scalar.indexCast v2059
  let c174_3030 : Index := 174#32
  ![0, v4845.toNat, 174]
def k0_off1424 (v4821 : BitVec 32) : Fin 3 → Nat :=
  let c0_3033 : Index := 0#32
  let v4852 : Index := Scalar.indexCast v4821
  let c0_3034 : Index := 0#32
  ![0, v4852.toNat, 0]

def k0_chk688 (v4821 : BitVec 32) : Prop :=
  (∀ a, (k0_off1424 v4821) a + S1x1x1024.size a ≤ S1x2048x1024.size a)
theorem k0_off1424_inb : ∀ (v4821 : BitVec 32) (k0_hw688 : k0_chk688 v4821), ∀ a, (k0_off1424 v4821) a + S1x1x1024.size a ≤ S1x2048x1024.size a := fun v4821 k0_hw688 => k0_hw688

def k0_off1425 (i : grid0.Coords) : Fin 3 → Nat :=
  let c0_3035 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4855 : Index := Scalar.indexCast v2059
  let c175_3036 : Index := 175#32
  ![0, v4855.toNat, 175]
def k0_off1426 (v4815 : BitVec 32) : Fin 3 → Nat :=
  let c0_3039 : Index := 0#32
  let v4862 : Index := Scalar.indexCast v4815
  let c0_3040 : Index := 0#32
  ![0, v4862.toNat, 0]

def k0_chk685 (v4815 : BitVec 32) : Prop :=
  (∀ a, (k0_off1418 v4815) a + S1x1x1024.size a ≤ S1x2048x1024.size a) ∧
  (∀ a, (k0_off1426 v4815) a + S1x1x1024.size a ≤ S1x2048x1024.size a)
theorem k0_off1418_inb : ∀ (v4815 : BitVec 32) (k0_hw685 : k0_chk685 v4815), ∀ a, (k0_off1418 v4815) a + S1x1x1024.size a ≤ S1x2048x1024.size a := fun v4815 k0_hw685 => k0_hw685.1
theorem k0_off1426_inb : ∀ (v4815 : BitVec 32) (k0_hw685 : k0_chk685 v4815), ∀ a, (k0_off1426 v4815) a + S1x1x1024.size a ≤ S1x2048x1024.size a := fun v4815 k0_hw685 => k0_hw685.2

def k0_off1427 (v4817 : BitVec 32) : Fin 3 → Nat :=
  let c0_3041 : Index := 0#32
  let v4866 : Index := Scalar.indexCast v4817
  let c0_3042 : Index := 0#32
  ![0, v4866.toNat, 0]

def k0_chk686 (v4817 : BitVec 32) : Prop :=
  (∀ a, (k0_off1420 v4817) a + S1x1x1024.size a ≤ S1x2048x1024.size a) ∧
  (∀ a, (k0_off1427 v4817) a + S1x1x1024.size a ≤ S1x2048x1024.size a)
theorem k0_off1420_inb : ∀ (v4817 : BitVec 32) (k0_hw686 : k0_chk686 v4817), ∀ a, (k0_off1420 v4817) a + S1x1x1024.size a ≤ S1x2048x1024.size a := fun v4817 k0_hw686 => k0_hw686.1
theorem k0_off1427_inb : ∀ (v4817 : BitVec 32) (k0_hw686 : k0_chk686 v4817), ∀ a, (k0_off1427 v4817) a + S1x1x1024.size a ≤ S1x2048x1024.size a := fun v4817 k0_hw686 => k0_hw686.2

def k0_off1428 (v4819 : BitVec 32) : Fin 3 → Nat :=
  let c0_3043 : Index := 0#32
  let v4870 : Index := Scalar.indexCast v4819
  let c0_3044 : Index := 0#32
  ![0, v4870.toNat, 0]

def k0_chk687 (v4819 : BitVec 32) : Prop :=
  (∀ a, (k0_off1422 v4819) a + S1x1x1024.size a ≤ S1x2048x1024.size a) ∧
  (∀ a, (k0_off1428 v4819) a + S1x1x1024.size a ≤ S1x2048x1024.size a)
theorem k0_off1422_inb : ∀ (v4819 : BitVec 32) (k0_hw687 : k0_chk687 v4819), ∀ a, (k0_off1422 v4819) a + S1x1x1024.size a ≤ S1x2048x1024.size a := fun v4819 k0_hw687 => k0_hw687.1
theorem k0_off1428_inb : ∀ (v4819 : BitVec 32) (k0_hw687 : k0_chk687 v4819), ∀ a, (k0_off1428 v4819) a + S1x1x1024.size a ≤ S1x2048x1024.size a := fun v4819 k0_hw687 => k0_hw687.2

def k0_off1429 (i : grid0.Coords) : Fin 3 → Nat :=
  let c0_3047 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4878 : Index := Scalar.indexCast v2059
  let c176_3048 : Index := 176#32
  ![0, v4878.toNat, 176]
def k0_off1430 (i : grid0.Coords) : Fin 3 → Nat :=
  let c0_3049 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4880 : Index := Scalar.indexCast v2059
  let c177_3050 : Index := 177#32
  ![0, v4880.toNat, 177]
def k0_off1431 (i : grid0.Coords) : Fin 3 → Nat :=
  let c0_3051 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4882 : Index := Scalar.indexCast v2059
  let c178_3052 : Index := 178#32
  ![0, v4882.toNat, 178]
def k0_off1432 (i : grid0.Coords) : Fin 3 → Nat :=
  let c0_3053 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4884 : Index := Scalar.indexCast v2059
  let c179_3054 : Index := 179#32
  ![0, v4884.toNat, 179]
def k0_off1433 (v4879 : BitVec 32) : Fin 3 → Nat :=
  let c0_3055 : Index := 0#32
  let v4886 : Index := Scalar.indexCast v4879
  let c0_3056 : Index := 0#32
  ![0, v4886.toNat, 0]

def k0_off1434 (i : grid0.Coords) : Fin 3 → Nat :=
  let c0_3057 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4889 : Index := Scalar.indexCast v2059
  let c176_3058 : Index := 176#32
  ![0, v4889.toNat, 176]
def k0_off1435 (v4881 : BitVec 32) : Fin 3 → Nat :=
  let c0_3061 : Index := 0#32
  let v4896 : Index := Scalar.indexCast v4881
  let c0_3062 : Index := 0#32
  ![0, v4896.toNat, 0]

def k0_off1436 (i : grid0.Coords) : Fin 3 → Nat :=
  let c0_3063 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4899 : Index := Scalar.indexCast v2059
  let c177_3064 : Index := 177#32
  ![0, v4899.toNat, 177]
def k0_off1437 (v4883 : BitVec 32) : Fin 3 → Nat :=
  let c0_3067 : Index := 0#32
  let v4906 : Index := Scalar.indexCast v4883
  let c0_3068 : Index := 0#32
  ![0, v4906.toNat, 0]

def k0_off1438 (i : grid0.Coords) : Fin 3 → Nat :=
  let c0_3069 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4909 : Index := Scalar.indexCast v2059
  let c178_3070 : Index := 178#32
  ![0, v4909.toNat, 178]
def k0_off1439 (v4885 : BitVec 32) : Fin 3 → Nat :=
  let c0_3073 : Index := 0#32
  let v4916 : Index := Scalar.indexCast v4885
  let c0_3074 : Index := 0#32
  ![0, v4916.toNat, 0]

def k0_chk692 (v4885 : BitVec 32) : Prop :=
  (∀ a, (k0_off1439 v4885) a + S1x1x1024.size a ≤ S1x2048x1024.size a)
theorem k0_off1439_inb : ∀ (v4885 : BitVec 32) (k0_hw692 : k0_chk692 v4885), ∀ a, (k0_off1439 v4885) a + S1x1x1024.size a ≤ S1x2048x1024.size a := fun v4885 k0_hw692 => k0_hw692

def k0_off1440 (i : grid0.Coords) : Fin 3 → Nat :=
  let c0_3075 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4919 : Index := Scalar.indexCast v2059
  let c179_3076 : Index := 179#32
  ![0, v4919.toNat, 179]
def k0_off1441 (v4879 : BitVec 32) : Fin 3 → Nat :=
  let c0_3079 : Index := 0#32
  let v4926 : Index := Scalar.indexCast v4879
  let c0_3080 : Index := 0#32
  ![0, v4926.toNat, 0]

def k0_chk689 (v4879 : BitVec 32) : Prop :=
  (∀ a, (k0_off1433 v4879) a + S1x1x1024.size a ≤ S1x2048x1024.size a) ∧
  (∀ a, (k0_off1441 v4879) a + S1x1x1024.size a ≤ S1x2048x1024.size a)
theorem k0_off1433_inb : ∀ (v4879 : BitVec 32) (k0_hw689 : k0_chk689 v4879), ∀ a, (k0_off1433 v4879) a + S1x1x1024.size a ≤ S1x2048x1024.size a := fun v4879 k0_hw689 => k0_hw689.1
theorem k0_off1441_inb : ∀ (v4879 : BitVec 32) (k0_hw689 : k0_chk689 v4879), ∀ a, (k0_off1441 v4879) a + S1x1x1024.size a ≤ S1x2048x1024.size a := fun v4879 k0_hw689 => k0_hw689.2

def k0_off1442 (v4881 : BitVec 32) : Fin 3 → Nat :=
  let c0_3081 : Index := 0#32
  let v4930 : Index := Scalar.indexCast v4881
  let c0_3082 : Index := 0#32
  ![0, v4930.toNat, 0]

def k0_chk690 (v4881 : BitVec 32) : Prop :=
  (∀ a, (k0_off1435 v4881) a + S1x1x1024.size a ≤ S1x2048x1024.size a) ∧
  (∀ a, (k0_off1442 v4881) a + S1x1x1024.size a ≤ S1x2048x1024.size a)
theorem k0_off1435_inb : ∀ (v4881 : BitVec 32) (k0_hw690 : k0_chk690 v4881), ∀ a, (k0_off1435 v4881) a + S1x1x1024.size a ≤ S1x2048x1024.size a := fun v4881 k0_hw690 => k0_hw690.1
theorem k0_off1442_inb : ∀ (v4881 : BitVec 32) (k0_hw690 : k0_chk690 v4881), ∀ a, (k0_off1442 v4881) a + S1x1x1024.size a ≤ S1x2048x1024.size a := fun v4881 k0_hw690 => k0_hw690.2

def k0_off1443 (v4883 : BitVec 32) : Fin 3 → Nat :=
  let c0_3083 : Index := 0#32
  let v4934 : Index := Scalar.indexCast v4883
  let c0_3084 : Index := 0#32
  ![0, v4934.toNat, 0]

def k0_chk691 (v4883 : BitVec 32) : Prop :=
  (∀ a, (k0_off1437 v4883) a + S1x1x1024.size a ≤ S1x2048x1024.size a) ∧
  (∀ a, (k0_off1443 v4883) a + S1x1x1024.size a ≤ S1x2048x1024.size a)
theorem k0_off1437_inb : ∀ (v4883 : BitVec 32) (k0_hw691 : k0_chk691 v4883), ∀ a, (k0_off1437 v4883) a + S1x1x1024.size a ≤ S1x2048x1024.size a := fun v4883 k0_hw691 => k0_hw691.1
theorem k0_off1443_inb : ∀ (v4883 : BitVec 32) (k0_hw691 : k0_chk691 v4883), ∀ a, (k0_off1443 v4883) a + S1x1x1024.size a ≤ S1x2048x1024.size a := fun v4883 k0_hw691 => k0_hw691.2

def k0_off1444 (i : grid0.Coords) : Fin 3 → Nat :=
  let c0_3087 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4942 : Index := Scalar.indexCast v2059
  let c180_3088 : Index := 180#32
  ![0, v4942.toNat, 180]
def k0_off1445 (i : grid0.Coords) : Fin 3 → Nat :=
  let c0_3089 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4944 : Index := Scalar.indexCast v2059
  let c181_3090 : Index := 181#32
  ![0, v4944.toNat, 181]
def k0_off1446 (i : grid0.Coords) : Fin 3 → Nat :=
  let c0_3091 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4946 : Index := Scalar.indexCast v2059
  let c182_3092 : Index := 182#32
  ![0, v4946.toNat, 182]
def k0_off1447 (i : grid0.Coords) : Fin 3 → Nat :=
  let c0_3093 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4948 : Index := Scalar.indexCast v2059
  let c183_3094 : Index := 183#32
  ![0, v4948.toNat, 183]
def k0_off1448 (v4943 : BitVec 32) : Fin 3 → Nat :=
  let c0_3095 : Index := 0#32
  let v4950 : Index := Scalar.indexCast v4943
  let c0_3096 : Index := 0#32
  ![0, v4950.toNat, 0]

def k0_off1449 (i : grid0.Coords) : Fin 3 → Nat :=
  let c0_3097 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4953 : Index := Scalar.indexCast v2059
  let c180_3098 : Index := 180#32
  ![0, v4953.toNat, 180]
def k0_off1450 (v4945 : BitVec 32) : Fin 3 → Nat :=
  let c0_3101 : Index := 0#32
  let v4960 : Index := Scalar.indexCast v4945
  let c0_3102 : Index := 0#32
  ![0, v4960.toNat, 0]

def k0_off1451 (i : grid0.Coords) : Fin 3 → Nat :=
  let c0_3103 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4963 : Index := Scalar.indexCast v2059
  let c181_3104 : Index := 181#32
  ![0, v4963.toNat, 181]
def k0_off1452 (v4947 : BitVec 32) : Fin 3 → Nat :=
  let c0_3107 : Index := 0#32
  let v4970 : Index := Scalar.indexCast v4947
  let c0_3108 : Index := 0#32
  ![0, v4970.toNat, 0]

def k0_off1453 (i : grid0.Coords) : Fin 3 → Nat :=
  let c0_3109 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4973 : Index := Scalar.indexCast v2059
  let c182_3110 : Index := 182#32
  ![0, v4973.toNat, 182]
def k0_off1454 (v4949 : BitVec 32) : Fin 3 → Nat :=
  let c0_3113 : Index := 0#32
  let v4980 : Index := Scalar.indexCast v4949
  let c0_3114 : Index := 0#32
  ![0, v4980.toNat, 0]

def k0_chk696 (v4949 : BitVec 32) : Prop :=
  (∀ a, (k0_off1454 v4949) a + S1x1x1024.size a ≤ S1x2048x1024.size a)
theorem k0_off1454_inb : ∀ (v4949 : BitVec 32) (k0_hw696 : k0_chk696 v4949), ∀ a, (k0_off1454 v4949) a + S1x1x1024.size a ≤ S1x2048x1024.size a := fun v4949 k0_hw696 => k0_hw696

def k0_off1455 (i : grid0.Coords) : Fin 3 → Nat :=
  let c0_3115 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v4983 : Index := Scalar.indexCast v2059
  let c183_3116 : Index := 183#32
  ![0, v4983.toNat, 183]
def k0_off1456 (v4943 : BitVec 32) : Fin 3 → Nat :=
  let c0_3119 : Index := 0#32
  let v4990 : Index := Scalar.indexCast v4943
  let c0_3120 : Index := 0#32
  ![0, v4990.toNat, 0]

def k0_chk693 (v4943 : BitVec 32) : Prop :=
  (∀ a, (k0_off1448 v4943) a + S1x1x1024.size a ≤ S1x2048x1024.size a) ∧
  (∀ a, (k0_off1456 v4943) a + S1x1x1024.size a ≤ S1x2048x1024.size a)
theorem k0_off1448_inb : ∀ (v4943 : BitVec 32) (k0_hw693 : k0_chk693 v4943), ∀ a, (k0_off1448 v4943) a + S1x1x1024.size a ≤ S1x2048x1024.size a := fun v4943 k0_hw693 => k0_hw693.1
theorem k0_off1456_inb : ∀ (v4943 : BitVec 32) (k0_hw693 : k0_chk693 v4943), ∀ a, (k0_off1456 v4943) a + S1x1x1024.size a ≤ S1x2048x1024.size a := fun v4943 k0_hw693 => k0_hw693.2

def k0_off1457 (v4945 : BitVec 32) : Fin 3 → Nat :=
  let c0_3121 : Index := 0#32
  let v4994 : Index := Scalar.indexCast v4945
  let c0_3122 : Index := 0#32
  ![0, v4994.toNat, 0]

def k0_chk694 (v4945 : BitVec 32) : Prop :=
  (∀ a, (k0_off1450 v4945) a + S1x1x1024.size a ≤ S1x2048x1024.size a) ∧
  (∀ a, (k0_off1457 v4945) a + S1x1x1024.size a ≤ S1x2048x1024.size a)
theorem k0_off1450_inb : ∀ (v4945 : BitVec 32) (k0_hw694 : k0_chk694 v4945), ∀ a, (k0_off1450 v4945) a + S1x1x1024.size a ≤ S1x2048x1024.size a := fun v4945 k0_hw694 => k0_hw694.1
theorem k0_off1457_inb : ∀ (v4945 : BitVec 32) (k0_hw694 : k0_chk694 v4945), ∀ a, (k0_off1457 v4945) a + S1x1x1024.size a ≤ S1x2048x1024.size a := fun v4945 k0_hw694 => k0_hw694.2

def k0_off1458 (v4947 : BitVec 32) : Fin 3 → Nat :=
  let c0_3123 : Index := 0#32
  let v4998 : Index := Scalar.indexCast v4947
  let c0_3124 : Index := 0#32
  ![0, v4998.toNat, 0]

def k0_chk695 (v4947 : BitVec 32) : Prop :=
  (∀ a, (k0_off1452 v4947) a + S1x1x1024.size a ≤ S1x2048x1024.size a) ∧
  (∀ a, (k0_off1458 v4947) a + S1x1x1024.size a ≤ S1x2048x1024.size a)
theorem k0_off1452_inb : ∀ (v4947 : BitVec 32) (k0_hw695 : k0_chk695 v4947), ∀ a, (k0_off1452 v4947) a + S1x1x1024.size a ≤ S1x2048x1024.size a := fun v4947 k0_hw695 => k0_hw695.1
theorem k0_off1458_inb : ∀ (v4947 : BitVec 32) (k0_hw695 : k0_chk695 v4947), ∀ a, (k0_off1458 v4947) a + S1x1x1024.size a ≤ S1x2048x1024.size a := fun v4947 k0_hw695 => k0_hw695.2

def k0_off1459 (i : grid0.Coords) : Fin 3 → Nat :=
  let c0_3127 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5006 : Index := Scalar.indexCast v2059
  let c184_3128 : Index := 184#32
  ![0, v5006.toNat, 184]
def k0_off1460 (i : grid0.Coords) : Fin 3 → Nat :=
  let c0_3129 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5008 : Index := Scalar.indexCast v2059
  let c185_3130 : Index := 185#32
  ![0, v5008.toNat, 185]
def k0_off1461 (i : grid0.Coords) : Fin 3 → Nat :=
  let c0_3131 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5010 : Index := Scalar.indexCast v2059
  let c186_3132 : Index := 186#32
  ![0, v5010.toNat, 186]
def k0_off1462 (i : grid0.Coords) : Fin 3 → Nat :=
  let c0_3133 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5012 : Index := Scalar.indexCast v2059
  let c187_3134 : Index := 187#32
  ![0, v5012.toNat, 187]
def k0_off1463 (v5007 : BitVec 32) : Fin 3 → Nat :=
  let c0_3135 : Index := 0#32
  let v5014 : Index := Scalar.indexCast v5007
  let c0_3136 : Index := 0#32
  ![0, v5014.toNat, 0]

def k0_off1464 (i : grid0.Coords) : Fin 3 → Nat :=
  let c0_3137 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5017 : Index := Scalar.indexCast v2059
  let c184_3138 : Index := 184#32
  ![0, v5017.toNat, 184]
def k0_off1465 (v5009 : BitVec 32) : Fin 3 → Nat :=
  let c0_3141 : Index := 0#32
  let v5024 : Index := Scalar.indexCast v5009
  let c0_3142 : Index := 0#32
  ![0, v5024.toNat, 0]

def k0_off1466 (i : grid0.Coords) : Fin 3 → Nat :=
  let c0_3143 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5027 : Index := Scalar.indexCast v2059
  let c185_3144 : Index := 185#32
  ![0, v5027.toNat, 185]
def k0_off1467 (v5011 : BitVec 32) : Fin 3 → Nat :=
  let c0_3147 : Index := 0#32
  let v5034 : Index := Scalar.indexCast v5011
  let c0_3148 : Index := 0#32
  ![0, v5034.toNat, 0]

def k0_off1468 (i : grid0.Coords) : Fin 3 → Nat :=
  let c0_3149 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5037 : Index := Scalar.indexCast v2059
  let c186_3150 : Index := 186#32
  ![0, v5037.toNat, 186]
def k0_off1469 (v5013 : BitVec 32) : Fin 3 → Nat :=
  let c0_3153 : Index := 0#32
  let v5044 : Index := Scalar.indexCast v5013
  let c0_3154 : Index := 0#32
  ![0, v5044.toNat, 0]

def k0_chk700 (v5013 : BitVec 32) : Prop :=
  (∀ a, (k0_off1469 v5013) a + S1x1x1024.size a ≤ S1x2048x1024.size a)
theorem k0_off1469_inb : ∀ (v5013 : BitVec 32) (k0_hw700 : k0_chk700 v5013), ∀ a, (k0_off1469 v5013) a + S1x1x1024.size a ≤ S1x2048x1024.size a := fun v5013 k0_hw700 => k0_hw700

def k0_off1470 (i : grid0.Coords) : Fin 3 → Nat :=
  let c0_3155 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5047 : Index := Scalar.indexCast v2059
  let c187_3156 : Index := 187#32
  ![0, v5047.toNat, 187]
def k0_off1471 (v5007 : BitVec 32) : Fin 3 → Nat :=
  let c0_3159 : Index := 0#32
  let v5054 : Index := Scalar.indexCast v5007
  let c0_3160 : Index := 0#32
  ![0, v5054.toNat, 0]

def k0_chk697 (v5007 : BitVec 32) : Prop :=
  (∀ a, (k0_off1463 v5007) a + S1x1x1024.size a ≤ S1x2048x1024.size a) ∧
  (∀ a, (k0_off1471 v5007) a + S1x1x1024.size a ≤ S1x2048x1024.size a)
theorem k0_off1463_inb : ∀ (v5007 : BitVec 32) (k0_hw697 : k0_chk697 v5007), ∀ a, (k0_off1463 v5007) a + S1x1x1024.size a ≤ S1x2048x1024.size a := fun v5007 k0_hw697 => k0_hw697.1
theorem k0_off1471_inb : ∀ (v5007 : BitVec 32) (k0_hw697 : k0_chk697 v5007), ∀ a, (k0_off1471 v5007) a + S1x1x1024.size a ≤ S1x2048x1024.size a := fun v5007 k0_hw697 => k0_hw697.2

def k0_off1472 (v5009 : BitVec 32) : Fin 3 → Nat :=
  let c0_3161 : Index := 0#32
  let v5058 : Index := Scalar.indexCast v5009
  let c0_3162 : Index := 0#32
  ![0, v5058.toNat, 0]

def k0_chk698 (v5009 : BitVec 32) : Prop :=
  (∀ a, (k0_off1465 v5009) a + S1x1x1024.size a ≤ S1x2048x1024.size a) ∧
  (∀ a, (k0_off1472 v5009) a + S1x1x1024.size a ≤ S1x2048x1024.size a)
theorem k0_off1465_inb : ∀ (v5009 : BitVec 32) (k0_hw698 : k0_chk698 v5009), ∀ a, (k0_off1465 v5009) a + S1x1x1024.size a ≤ S1x2048x1024.size a := fun v5009 k0_hw698 => k0_hw698.1
theorem k0_off1472_inb : ∀ (v5009 : BitVec 32) (k0_hw698 : k0_chk698 v5009), ∀ a, (k0_off1472 v5009) a + S1x1x1024.size a ≤ S1x2048x1024.size a := fun v5009 k0_hw698 => k0_hw698.2

def k0_off1473 (v5011 : BitVec 32) : Fin 3 → Nat :=
  let c0_3163 : Index := 0#32
  let v5062 : Index := Scalar.indexCast v5011
  let c0_3164 : Index := 0#32
  ![0, v5062.toNat, 0]

def k0_chk699 (v5011 : BitVec 32) : Prop :=
  (∀ a, (k0_off1467 v5011) a + S1x1x1024.size a ≤ S1x2048x1024.size a) ∧
  (∀ a, (k0_off1473 v5011) a + S1x1x1024.size a ≤ S1x2048x1024.size a)
theorem k0_off1467_inb : ∀ (v5011 : BitVec 32) (k0_hw699 : k0_chk699 v5011), ∀ a, (k0_off1467 v5011) a + S1x1x1024.size a ≤ S1x2048x1024.size a := fun v5011 k0_hw699 => k0_hw699.1
theorem k0_off1473_inb : ∀ (v5011 : BitVec 32) (k0_hw699 : k0_chk699 v5011), ∀ a, (k0_off1473 v5011) a + S1x1x1024.size a ≤ S1x2048x1024.size a := fun v5011 k0_hw699 => k0_hw699.2

def k0_off1474 (i : grid0.Coords) : Fin 3 → Nat :=
  let c0_3167 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5070 : Index := Scalar.indexCast v2059
  let c188_3168 : Index := 188#32
  ![0, v5070.toNat, 188]
def k0_off1475 (i : grid0.Coords) : Fin 3 → Nat :=
  let c0_3169 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5072 : Index := Scalar.indexCast v2059
  let c189_3170 : Index := 189#32
  ![0, v5072.toNat, 189]
def k0_off1476 (i : grid0.Coords) : Fin 3 → Nat :=
  let c0_3171 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5074 : Index := Scalar.indexCast v2059
  let c190_3172 : Index := 190#32
  ![0, v5074.toNat, 190]
def k0_off1477 (i : grid0.Coords) : Fin 3 → Nat :=
  let c0_3173 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5076 : Index := Scalar.indexCast v2059
  let c191_3174 : Index := 191#32
  ![0, v5076.toNat, 191]
def k0_off1478 (v5071 : BitVec 32) : Fin 3 → Nat :=
  let c0_3175 : Index := 0#32
  let v5078 : Index := Scalar.indexCast v5071
  let c0_3176 : Index := 0#32
  ![0, v5078.toNat, 0]

def k0_off1479 (i : grid0.Coords) : Fin 3 → Nat :=
  let c0_3177 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5081 : Index := Scalar.indexCast v2059
  let c188_3178 : Index := 188#32
  ![0, v5081.toNat, 188]
def k0_off1480 (v5073 : BitVec 32) : Fin 3 → Nat :=
  let c0_3181 : Index := 0#32
  let v5088 : Index := Scalar.indexCast v5073
  let c0_3182 : Index := 0#32
  ![0, v5088.toNat, 0]

def k0_off1481 (i : grid0.Coords) : Fin 3 → Nat :=
  let c0_3183 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5091 : Index := Scalar.indexCast v2059
  let c189_3184 : Index := 189#32
  ![0, v5091.toNat, 189]
def k0_off1482 (v5075 : BitVec 32) : Fin 3 → Nat :=
  let c0_3187 : Index := 0#32
  let v5098 : Index := Scalar.indexCast v5075
  let c0_3188 : Index := 0#32
  ![0, v5098.toNat, 0]

def k0_off1483 (i : grid0.Coords) : Fin 3 → Nat :=
  let c0_3189 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5101 : Index := Scalar.indexCast v2059
  let c190_3190 : Index := 190#32
  ![0, v5101.toNat, 190]
def k0_off1484 (v5077 : BitVec 32) : Fin 3 → Nat :=
  let c0_3193 : Index := 0#32
  let v5108 : Index := Scalar.indexCast v5077
  let c0_3194 : Index := 0#32
  ![0, v5108.toNat, 0]

def k0_chk704 (v5077 : BitVec 32) : Prop :=
  (∀ a, (k0_off1484 v5077) a + S1x1x1024.size a ≤ S1x2048x1024.size a)
theorem k0_off1484_inb : ∀ (v5077 : BitVec 32) (k0_hw704 : k0_chk704 v5077), ∀ a, (k0_off1484 v5077) a + S1x1x1024.size a ≤ S1x2048x1024.size a := fun v5077 k0_hw704 => k0_hw704

def k0_off1485 (i : grid0.Coords) : Fin 3 → Nat :=
  let c0_3195 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5111 : Index := Scalar.indexCast v2059
  let c191_3196 : Index := 191#32
  ![0, v5111.toNat, 191]
def k0_off1486 (v5071 : BitVec 32) : Fin 3 → Nat :=
  let c0_3199 : Index := 0#32
  let v5118 : Index := Scalar.indexCast v5071
  let c0_3200 : Index := 0#32
  ![0, v5118.toNat, 0]

def k0_chk701 (v5071 : BitVec 32) : Prop :=
  (∀ a, (k0_off1478 v5071) a + S1x1x1024.size a ≤ S1x2048x1024.size a) ∧
  (∀ a, (k0_off1486 v5071) a + S1x1x1024.size a ≤ S1x2048x1024.size a)
theorem k0_off1478_inb : ∀ (v5071 : BitVec 32) (k0_hw701 : k0_chk701 v5071), ∀ a, (k0_off1478 v5071) a + S1x1x1024.size a ≤ S1x2048x1024.size a := fun v5071 k0_hw701 => k0_hw701.1
theorem k0_off1486_inb : ∀ (v5071 : BitVec 32) (k0_hw701 : k0_chk701 v5071), ∀ a, (k0_off1486 v5071) a + S1x1x1024.size a ≤ S1x2048x1024.size a := fun v5071 k0_hw701 => k0_hw701.2

def k0_off1487 (v5073 : BitVec 32) : Fin 3 → Nat :=
  let c0_3201 : Index := 0#32
  let v5122 : Index := Scalar.indexCast v5073
  let c0_3202 : Index := 0#32
  ![0, v5122.toNat, 0]

def k0_chk702 (v5073 : BitVec 32) : Prop :=
  (∀ a, (k0_off1480 v5073) a + S1x1x1024.size a ≤ S1x2048x1024.size a) ∧
  (∀ a, (k0_off1487 v5073) a + S1x1x1024.size a ≤ S1x2048x1024.size a)
theorem k0_off1480_inb : ∀ (v5073 : BitVec 32) (k0_hw702 : k0_chk702 v5073), ∀ a, (k0_off1480 v5073) a + S1x1x1024.size a ≤ S1x2048x1024.size a := fun v5073 k0_hw702 => k0_hw702.1
theorem k0_off1487_inb : ∀ (v5073 : BitVec 32) (k0_hw702 : k0_chk702 v5073), ∀ a, (k0_off1487 v5073) a + S1x1x1024.size a ≤ S1x2048x1024.size a := fun v5073 k0_hw702 => k0_hw702.2

def k0_off1488 (v5075 : BitVec 32) : Fin 3 → Nat :=
  let c0_3203 : Index := 0#32
  let v5126 : Index := Scalar.indexCast v5075
  let c0_3204 : Index := 0#32
  ![0, v5126.toNat, 0]

def k0_chk703 (v5075 : BitVec 32) : Prop :=
  (∀ a, (k0_off1482 v5075) a + S1x1x1024.size a ≤ S1x2048x1024.size a) ∧
  (∀ a, (k0_off1488 v5075) a + S1x1x1024.size a ≤ S1x2048x1024.size a)
theorem k0_off1482_inb : ∀ (v5075 : BitVec 32) (k0_hw703 : k0_chk703 v5075), ∀ a, (k0_off1482 v5075) a + S1x1x1024.size a ≤ S1x2048x1024.size a := fun v5075 k0_hw703 => k0_hw703.1
theorem k0_off1488_inb : ∀ (v5075 : BitVec 32) (k0_hw703 : k0_chk703 v5075), ∀ a, (k0_off1488 v5075) a + S1x1x1024.size a ≤ S1x2048x1024.size a := fun v5075 k0_hw703 => k0_hw703.2

def k0_off1489 (i : grid0.Coords) : Fin 3 → Nat :=
  let c0_3207 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5134 : Index := Scalar.indexCast v2059
  let c192_3208 : Index := 192#32
  ![0, v5134.toNat, 192]
def k0_off1490 (i : grid0.Coords) : Fin 3 → Nat :=
  let c0_3209 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5136 : Index := Scalar.indexCast v2059
  let c193_3210 : Index := 193#32
  ![0, v5136.toNat, 193]
def k0_off1491 (i : grid0.Coords) : Fin 3 → Nat :=
  let c0_3211 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5138 : Index := Scalar.indexCast v2059
  let c194_3212 : Index := 194#32
  ![0, v5138.toNat, 194]
def k0_off1492 (i : grid0.Coords) : Fin 3 → Nat :=
  let c0_3213 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5140 : Index := Scalar.indexCast v2059
  let c195_3214 : Index := 195#32
  ![0, v5140.toNat, 195]
def k0_off1493 (v5135 : BitVec 32) : Fin 3 → Nat :=
  let c0_3215 : Index := 0#32
  let v5142 : Index := Scalar.indexCast v5135
  let c0_3216 : Index := 0#32
  ![0, v5142.toNat, 0]

def k0_off1494 (i : grid0.Coords) : Fin 3 → Nat :=
  let c0_3217 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5145 : Index := Scalar.indexCast v2059
  let c192_3218 : Index := 192#32
  ![0, v5145.toNat, 192]
def k0_off1495 (v5137 : BitVec 32) : Fin 3 → Nat :=
  let c0_3221 : Index := 0#32
  let v5152 : Index := Scalar.indexCast v5137
  let c0_3222 : Index := 0#32
  ![0, v5152.toNat, 0]

def k0_off1496 (i : grid0.Coords) : Fin 3 → Nat :=
  let c0_3223 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5155 : Index := Scalar.indexCast v2059
  let c193_3224 : Index := 193#32
  ![0, v5155.toNat, 193]
def k0_off1497 (v5139 : BitVec 32) : Fin 3 → Nat :=
  let c0_3227 : Index := 0#32
  let v5162 : Index := Scalar.indexCast v5139
  let c0_3228 : Index := 0#32
  ![0, v5162.toNat, 0]

def k0_off1498 (i : grid0.Coords) : Fin 3 → Nat :=
  let c0_3229 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5165 : Index := Scalar.indexCast v2059
  let c194_3230 : Index := 194#32
  ![0, v5165.toNat, 194]
def k0_off1499 (v5141 : BitVec 32) : Fin 3 → Nat :=
  let c0_3233 : Index := 0#32
  let v5172 : Index := Scalar.indexCast v5141
  let c0_3234 : Index := 0#32
  ![0, v5172.toNat, 0]

def k0_chk708 (v5141 : BitVec 32) : Prop :=
  (∀ a, (k0_off1499 v5141) a + S1x1x1024.size a ≤ S1x2048x1024.size a)
theorem k0_off1499_inb : ∀ (v5141 : BitVec 32) (k0_hw708 : k0_chk708 v5141), ∀ a, (k0_off1499 v5141) a + S1x1x1024.size a ≤ S1x2048x1024.size a := fun v5141 k0_hw708 => k0_hw708

def k0_off1500 (i : grid0.Coords) : Fin 3 → Nat :=
  let c0_3235 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5175 : Index := Scalar.indexCast v2059
  let c195_3236 : Index := 195#32
  ![0, v5175.toNat, 195]
def k0_off1501 (v5135 : BitVec 32) : Fin 3 → Nat :=
  let c0_3239 : Index := 0#32
  let v5182 : Index := Scalar.indexCast v5135
  let c0_3240 : Index := 0#32
  ![0, v5182.toNat, 0]

def k0_chk705 (v5135 : BitVec 32) : Prop :=
  (∀ a, (k0_off1493 v5135) a + S1x1x1024.size a ≤ S1x2048x1024.size a) ∧
  (∀ a, (k0_off1501 v5135) a + S1x1x1024.size a ≤ S1x2048x1024.size a)
theorem k0_off1493_inb : ∀ (v5135 : BitVec 32) (k0_hw705 : k0_chk705 v5135), ∀ a, (k0_off1493 v5135) a + S1x1x1024.size a ≤ S1x2048x1024.size a := fun v5135 k0_hw705 => k0_hw705.1
theorem k0_off1501_inb : ∀ (v5135 : BitVec 32) (k0_hw705 : k0_chk705 v5135), ∀ a, (k0_off1501 v5135) a + S1x1x1024.size a ≤ S1x2048x1024.size a := fun v5135 k0_hw705 => k0_hw705.2

def k0_off1502 (v5137 : BitVec 32) : Fin 3 → Nat :=
  let c0_3241 : Index := 0#32
  let v5186 : Index := Scalar.indexCast v5137
  let c0_3242 : Index := 0#32
  ![0, v5186.toNat, 0]

def k0_chk706 (v5137 : BitVec 32) : Prop :=
  (∀ a, (k0_off1495 v5137) a + S1x1x1024.size a ≤ S1x2048x1024.size a) ∧
  (∀ a, (k0_off1502 v5137) a + S1x1x1024.size a ≤ S1x2048x1024.size a)
theorem k0_off1495_inb : ∀ (v5137 : BitVec 32) (k0_hw706 : k0_chk706 v5137), ∀ a, (k0_off1495 v5137) a + S1x1x1024.size a ≤ S1x2048x1024.size a := fun v5137 k0_hw706 => k0_hw706.1
theorem k0_off1502_inb : ∀ (v5137 : BitVec 32) (k0_hw706 : k0_chk706 v5137), ∀ a, (k0_off1502 v5137) a + S1x1x1024.size a ≤ S1x2048x1024.size a := fun v5137 k0_hw706 => k0_hw706.2

def k0_off1503 (v5139 : BitVec 32) : Fin 3 → Nat :=
  let c0_3243 : Index := 0#32
  let v5190 : Index := Scalar.indexCast v5139
  let c0_3244 : Index := 0#32
  ![0, v5190.toNat, 0]

def k0_chk707 (v5139 : BitVec 32) : Prop :=
  (∀ a, (k0_off1497 v5139) a + S1x1x1024.size a ≤ S1x2048x1024.size a) ∧
  (∀ a, (k0_off1503 v5139) a + S1x1x1024.size a ≤ S1x2048x1024.size a)
theorem k0_off1497_inb : ∀ (v5139 : BitVec 32) (k0_hw707 : k0_chk707 v5139), ∀ a, (k0_off1497 v5139) a + S1x1x1024.size a ≤ S1x2048x1024.size a := fun v5139 k0_hw707 => k0_hw707.1
theorem k0_off1503_inb : ∀ (v5139 : BitVec 32) (k0_hw707 : k0_chk707 v5139), ∀ a, (k0_off1503 v5139) a + S1x1x1024.size a ≤ S1x2048x1024.size a := fun v5139 k0_hw707 => k0_hw707.2

def k0_off1504 (i : grid0.Coords) : Fin 3 → Nat :=
  let c0_3247 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5198 : Index := Scalar.indexCast v2059
  let c196_3248 : Index := 196#32
  ![0, v5198.toNat, 196]
def k0_off1505 (i : grid0.Coords) : Fin 3 → Nat :=
  let c0_3249 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5200 : Index := Scalar.indexCast v2059
  let c197_3250 : Index := 197#32
  ![0, v5200.toNat, 197]
def k0_off1506 (i : grid0.Coords) : Fin 3 → Nat :=
  let c0_3251 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5202 : Index := Scalar.indexCast v2059
  let c198_3252 : Index := 198#32
  ![0, v5202.toNat, 198]
def k0_off1507 (i : grid0.Coords) : Fin 3 → Nat :=
  let c0_3253 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5204 : Index := Scalar.indexCast v2059
  let c199_3254 : Index := 199#32
  ![0, v5204.toNat, 199]
def k0_off1508 (v5199 : BitVec 32) : Fin 3 → Nat :=
  let c0_3255 : Index := 0#32
  let v5206 : Index := Scalar.indexCast v5199
  let c0_3256 : Index := 0#32
  ![0, v5206.toNat, 0]

def k0_off1509 (i : grid0.Coords) : Fin 3 → Nat :=
  let c0_3257 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5209 : Index := Scalar.indexCast v2059
  let c196_3258 : Index := 196#32
  ![0, v5209.toNat, 196]
def k0_off1510 (v5201 : BitVec 32) : Fin 3 → Nat :=
  let c0_3261 : Index := 0#32
  let v5216 : Index := Scalar.indexCast v5201
  let c0_3262 : Index := 0#32
  ![0, v5216.toNat, 0]

def k0_off1511 (i : grid0.Coords) : Fin 3 → Nat :=
  let c0_3263 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5219 : Index := Scalar.indexCast v2059
  let c197_3264 : Index := 197#32
  ![0, v5219.toNat, 197]
def k0_off1512 (v5203 : BitVec 32) : Fin 3 → Nat :=
  let c0_3267 : Index := 0#32
  let v5226 : Index := Scalar.indexCast v5203
  let c0_3268 : Index := 0#32
  ![0, v5226.toNat, 0]

def k0_off1513 (i : grid0.Coords) : Fin 3 → Nat :=
  let c0_3269 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5229 : Index := Scalar.indexCast v2059
  let c198_3270 : Index := 198#32
  ![0, v5229.toNat, 198]
def k0_off1514 (v5205 : BitVec 32) : Fin 3 → Nat :=
  let c0_3273 : Index := 0#32
  let v5236 : Index := Scalar.indexCast v5205
  let c0_3274 : Index := 0#32
  ![0, v5236.toNat, 0]

def k0_chk712 (v5205 : BitVec 32) : Prop :=
  (∀ a, (k0_off1514 v5205) a + S1x1x1024.size a ≤ S1x2048x1024.size a)
theorem k0_off1514_inb : ∀ (v5205 : BitVec 32) (k0_hw712 : k0_chk712 v5205), ∀ a, (k0_off1514 v5205) a + S1x1x1024.size a ≤ S1x2048x1024.size a := fun v5205 k0_hw712 => k0_hw712

def k0_off1515 (i : grid0.Coords) : Fin 3 → Nat :=
  let c0_3275 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5239 : Index := Scalar.indexCast v2059
  let c199_3276 : Index := 199#32
  ![0, v5239.toNat, 199]
def k0_off1516 (v5199 : BitVec 32) : Fin 3 → Nat :=
  let c0_3279 : Index := 0#32
  let v5246 : Index := Scalar.indexCast v5199
  let c0_3280 : Index := 0#32
  ![0, v5246.toNat, 0]

def k0_chk709 (v5199 : BitVec 32) : Prop :=
  (∀ a, (k0_off1508 v5199) a + S1x1x1024.size a ≤ S1x2048x1024.size a) ∧
  (∀ a, (k0_off1516 v5199) a + S1x1x1024.size a ≤ S1x2048x1024.size a)
theorem k0_off1508_inb : ∀ (v5199 : BitVec 32) (k0_hw709 : k0_chk709 v5199), ∀ a, (k0_off1508 v5199) a + S1x1x1024.size a ≤ S1x2048x1024.size a := fun v5199 k0_hw709 => k0_hw709.1
theorem k0_off1516_inb : ∀ (v5199 : BitVec 32) (k0_hw709 : k0_chk709 v5199), ∀ a, (k0_off1516 v5199) a + S1x1x1024.size a ≤ S1x2048x1024.size a := fun v5199 k0_hw709 => k0_hw709.2

def k0_off1517 (v5201 : BitVec 32) : Fin 3 → Nat :=
  let c0_3281 : Index := 0#32
  let v5250 : Index := Scalar.indexCast v5201
  let c0_3282 : Index := 0#32
  ![0, v5250.toNat, 0]

def k0_chk710 (v5201 : BitVec 32) : Prop :=
  (∀ a, (k0_off1510 v5201) a + S1x1x1024.size a ≤ S1x2048x1024.size a) ∧
  (∀ a, (k0_off1517 v5201) a + S1x1x1024.size a ≤ S1x2048x1024.size a)
theorem k0_off1510_inb : ∀ (v5201 : BitVec 32) (k0_hw710 : k0_chk710 v5201), ∀ a, (k0_off1510 v5201) a + S1x1x1024.size a ≤ S1x2048x1024.size a := fun v5201 k0_hw710 => k0_hw710.1
theorem k0_off1517_inb : ∀ (v5201 : BitVec 32) (k0_hw710 : k0_chk710 v5201), ∀ a, (k0_off1517 v5201) a + S1x1x1024.size a ≤ S1x2048x1024.size a := fun v5201 k0_hw710 => k0_hw710.2

def k0_off1518 (v5203 : BitVec 32) : Fin 3 → Nat :=
  let c0_3283 : Index := 0#32
  let v5254 : Index := Scalar.indexCast v5203
  let c0_3284 : Index := 0#32
  ![0, v5254.toNat, 0]

def k0_chk711 (v5203 : BitVec 32) : Prop :=
  (∀ a, (k0_off1512 v5203) a + S1x1x1024.size a ≤ S1x2048x1024.size a) ∧
  (∀ a, (k0_off1518 v5203) a + S1x1x1024.size a ≤ S1x2048x1024.size a)
theorem k0_off1512_inb : ∀ (v5203 : BitVec 32) (k0_hw711 : k0_chk711 v5203), ∀ a, (k0_off1512 v5203) a + S1x1x1024.size a ≤ S1x2048x1024.size a := fun v5203 k0_hw711 => k0_hw711.1
theorem k0_off1518_inb : ∀ (v5203 : BitVec 32) (k0_hw711 : k0_chk711 v5203), ∀ a, (k0_off1518 v5203) a + S1x1x1024.size a ≤ S1x2048x1024.size a := fun v5203 k0_hw711 => k0_hw711.2

def k0_off1519 (i : grid0.Coords) : Fin 3 → Nat :=
  let c0_3287 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5262 : Index := Scalar.indexCast v2059
  let c200_3288 : Index := 200#32
  ![0, v5262.toNat, 200]
def k0_off1520 (i : grid0.Coords) : Fin 3 → Nat :=
  let c0_3289 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5264 : Index := Scalar.indexCast v2059
  let c201_3290 : Index := 201#32
  ![0, v5264.toNat, 201]
def k0_off1521 (i : grid0.Coords) : Fin 3 → Nat :=
  let c0_3291 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5266 : Index := Scalar.indexCast v2059
  let c202_3292 : Index := 202#32
  ![0, v5266.toNat, 202]
def k0_off1522 (i : grid0.Coords) : Fin 3 → Nat :=
  let c0_3293 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5268 : Index := Scalar.indexCast v2059
  let c203_3294 : Index := 203#32
  ![0, v5268.toNat, 203]
def k0_off1523 (v5263 : BitVec 32) : Fin 3 → Nat :=
  let c0_3295 : Index := 0#32
  let v5270 : Index := Scalar.indexCast v5263
  let c0_3296 : Index := 0#32
  ![0, v5270.toNat, 0]

def k0_off1524 (i : grid0.Coords) : Fin 3 → Nat :=
  let c0_3297 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5273 : Index := Scalar.indexCast v2059
  let c200_3298 : Index := 200#32
  ![0, v5273.toNat, 200]
def k0_off1525 (v5265 : BitVec 32) : Fin 3 → Nat :=
  let c0_3301 : Index := 0#32
  let v5280 : Index := Scalar.indexCast v5265
  let c0_3302 : Index := 0#32
  ![0, v5280.toNat, 0]

def k0_off1526 (i : grid0.Coords) : Fin 3 → Nat :=
  let c0_3303 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5283 : Index := Scalar.indexCast v2059
  let c201_3304 : Index := 201#32
  ![0, v5283.toNat, 201]
def k0_off1527 (v5267 : BitVec 32) : Fin 3 → Nat :=
  let c0_3307 : Index := 0#32
  let v5290 : Index := Scalar.indexCast v5267
  let c0_3308 : Index := 0#32
  ![0, v5290.toNat, 0]

def k0_off1528 (i : grid0.Coords) : Fin 3 → Nat :=
  let c0_3309 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5293 : Index := Scalar.indexCast v2059
  let c202_3310 : Index := 202#32
  ![0, v5293.toNat, 202]
def k0_off1529 (v5269 : BitVec 32) : Fin 3 → Nat :=
  let c0_3313 : Index := 0#32
  let v5300 : Index := Scalar.indexCast v5269
  let c0_3314 : Index := 0#32
  ![0, v5300.toNat, 0]

def k0_chk716 (v5269 : BitVec 32) : Prop :=
  (∀ a, (k0_off1529 v5269) a + S1x1x1024.size a ≤ S1x2048x1024.size a)
theorem k0_off1529_inb : ∀ (v5269 : BitVec 32) (k0_hw716 : k0_chk716 v5269), ∀ a, (k0_off1529 v5269) a + S1x1x1024.size a ≤ S1x2048x1024.size a := fun v5269 k0_hw716 => k0_hw716

def k0_off1530 (i : grid0.Coords) : Fin 3 → Nat :=
  let c0_3315 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5303 : Index := Scalar.indexCast v2059
  let c203_3316 : Index := 203#32
  ![0, v5303.toNat, 203]
def k0_off1531 (v5263 : BitVec 32) : Fin 3 → Nat :=
  let c0_3319 : Index := 0#32
  let v5310 : Index := Scalar.indexCast v5263
  let c0_3320 : Index := 0#32
  ![0, v5310.toNat, 0]

def k0_chk713 (v5263 : BitVec 32) : Prop :=
  (∀ a, (k0_off1523 v5263) a + S1x1x1024.size a ≤ S1x2048x1024.size a) ∧
  (∀ a, (k0_off1531 v5263) a + S1x1x1024.size a ≤ S1x2048x1024.size a)
theorem k0_off1523_inb : ∀ (v5263 : BitVec 32) (k0_hw713 : k0_chk713 v5263), ∀ a, (k0_off1523 v5263) a + S1x1x1024.size a ≤ S1x2048x1024.size a := fun v5263 k0_hw713 => k0_hw713.1
theorem k0_off1531_inb : ∀ (v5263 : BitVec 32) (k0_hw713 : k0_chk713 v5263), ∀ a, (k0_off1531 v5263) a + S1x1x1024.size a ≤ S1x2048x1024.size a := fun v5263 k0_hw713 => k0_hw713.2

def k0_off1532 (v5265 : BitVec 32) : Fin 3 → Nat :=
  let c0_3321 : Index := 0#32
  let v5314 : Index := Scalar.indexCast v5265
  let c0_3322 : Index := 0#32
  ![0, v5314.toNat, 0]

def k0_chk714 (v5265 : BitVec 32) : Prop :=
  (∀ a, (k0_off1525 v5265) a + S1x1x1024.size a ≤ S1x2048x1024.size a) ∧
  (∀ a, (k0_off1532 v5265) a + S1x1x1024.size a ≤ S1x2048x1024.size a)
theorem k0_off1525_inb : ∀ (v5265 : BitVec 32) (k0_hw714 : k0_chk714 v5265), ∀ a, (k0_off1525 v5265) a + S1x1x1024.size a ≤ S1x2048x1024.size a := fun v5265 k0_hw714 => k0_hw714.1
theorem k0_off1532_inb : ∀ (v5265 : BitVec 32) (k0_hw714 : k0_chk714 v5265), ∀ a, (k0_off1532 v5265) a + S1x1x1024.size a ≤ S1x2048x1024.size a := fun v5265 k0_hw714 => k0_hw714.2

def k0_off1533 (v5267 : BitVec 32) : Fin 3 → Nat :=
  let c0_3323 : Index := 0#32
  let v5318 : Index := Scalar.indexCast v5267
  let c0_3324 : Index := 0#32
  ![0, v5318.toNat, 0]

def k0_chk715 (v5267 : BitVec 32) : Prop :=
  (∀ a, (k0_off1527 v5267) a + S1x1x1024.size a ≤ S1x2048x1024.size a) ∧
  (∀ a, (k0_off1533 v5267) a + S1x1x1024.size a ≤ S1x2048x1024.size a)
theorem k0_off1527_inb : ∀ (v5267 : BitVec 32) (k0_hw715 : k0_chk715 v5267), ∀ a, (k0_off1527 v5267) a + S1x1x1024.size a ≤ S1x2048x1024.size a := fun v5267 k0_hw715 => k0_hw715.1
theorem k0_off1533_inb : ∀ (v5267 : BitVec 32) (k0_hw715 : k0_chk715 v5267), ∀ a, (k0_off1533 v5267) a + S1x1x1024.size a ≤ S1x2048x1024.size a := fun v5267 k0_hw715 => k0_hw715.2

def k0_off1534 (i : grid0.Coords) : Fin 3 → Nat :=
  let c0_3327 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5326 : Index := Scalar.indexCast v2059
  let c204_3328 : Index := 204#32
  ![0, v5326.toNat, 204]
def k0_off1535 (i : grid0.Coords) : Fin 3 → Nat :=
  let c0_3329 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5328 : Index := Scalar.indexCast v2059
  let c205_3330 : Index := 205#32
  ![0, v5328.toNat, 205]
def k0_off1536 (i : grid0.Coords) : Fin 3 → Nat :=
  let c0_3331 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5330 : Index := Scalar.indexCast v2059
  let c206_3332 : Index := 206#32
  ![0, v5330.toNat, 206]
def k0_off1537 (i : grid0.Coords) : Fin 3 → Nat :=
  let c0_3333 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5332 : Index := Scalar.indexCast v2059
  let c207_3334 : Index := 207#32
  ![0, v5332.toNat, 207]
def k0_off1538 (v5327 : BitVec 32) : Fin 3 → Nat :=
  let c0_3335 : Index := 0#32
  let v5334 : Index := Scalar.indexCast v5327
  let c0_3336 : Index := 0#32
  ![0, v5334.toNat, 0]

def k0_off1539 (i : grid0.Coords) : Fin 3 → Nat :=
  let c0_3337 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5337 : Index := Scalar.indexCast v2059
  let c204_3338 : Index := 204#32
  ![0, v5337.toNat, 204]
def k0_off1540 (v5329 : BitVec 32) : Fin 3 → Nat :=
  let c0_3341 : Index := 0#32
  let v5344 : Index := Scalar.indexCast v5329
  let c0_3342 : Index := 0#32
  ![0, v5344.toNat, 0]

def k0_off1541 (i : grid0.Coords) : Fin 3 → Nat :=
  let c0_3343 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5347 : Index := Scalar.indexCast v2059
  let c205_3344 : Index := 205#32
  ![0, v5347.toNat, 205]
def k0_off1542 (v5331 : BitVec 32) : Fin 3 → Nat :=
  let c0_3347 : Index := 0#32
  let v5354 : Index := Scalar.indexCast v5331
  let c0_3348 : Index := 0#32
  ![0, v5354.toNat, 0]

def k0_off1543 (i : grid0.Coords) : Fin 3 → Nat :=
  let c0_3349 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5357 : Index := Scalar.indexCast v2059
  let c206_3350 : Index := 206#32
  ![0, v5357.toNat, 206]
def k0_off1544 (v5333 : BitVec 32) : Fin 3 → Nat :=
  let c0_3353 : Index := 0#32
  let v5364 : Index := Scalar.indexCast v5333
  let c0_3354 : Index := 0#32
  ![0, v5364.toNat, 0]

def k0_chk720 (v5333 : BitVec 32) : Prop :=
  (∀ a, (k0_off1544 v5333) a + S1x1x1024.size a ≤ S1x2048x1024.size a)
theorem k0_off1544_inb : ∀ (v5333 : BitVec 32) (k0_hw720 : k0_chk720 v5333), ∀ a, (k0_off1544 v5333) a + S1x1x1024.size a ≤ S1x2048x1024.size a := fun v5333 k0_hw720 => k0_hw720

def k0_off1545 (i : grid0.Coords) : Fin 3 → Nat :=
  let c0_3355 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5367 : Index := Scalar.indexCast v2059
  let c207_3356 : Index := 207#32
  ![0, v5367.toNat, 207]
def k0_off1546 (v5327 : BitVec 32) : Fin 3 → Nat :=
  let c0_3359 : Index := 0#32
  let v5374 : Index := Scalar.indexCast v5327
  let c0_3360 : Index := 0#32
  ![0, v5374.toNat, 0]

def k0_chk717 (v5327 : BitVec 32) : Prop :=
  (∀ a, (k0_off1538 v5327) a + S1x1x1024.size a ≤ S1x2048x1024.size a) ∧
  (∀ a, (k0_off1546 v5327) a + S1x1x1024.size a ≤ S1x2048x1024.size a)
theorem k0_off1538_inb : ∀ (v5327 : BitVec 32) (k0_hw717 : k0_chk717 v5327), ∀ a, (k0_off1538 v5327) a + S1x1x1024.size a ≤ S1x2048x1024.size a := fun v5327 k0_hw717 => k0_hw717.1
theorem k0_off1546_inb : ∀ (v5327 : BitVec 32) (k0_hw717 : k0_chk717 v5327), ∀ a, (k0_off1546 v5327) a + S1x1x1024.size a ≤ S1x2048x1024.size a := fun v5327 k0_hw717 => k0_hw717.2

def k0_off1547 (v5329 : BitVec 32) : Fin 3 → Nat :=
  let c0_3361 : Index := 0#32
  let v5378 : Index := Scalar.indexCast v5329
  let c0_3362 : Index := 0#32
  ![0, v5378.toNat, 0]

def k0_chk718 (v5329 : BitVec 32) : Prop :=
  (∀ a, (k0_off1540 v5329) a + S1x1x1024.size a ≤ S1x2048x1024.size a) ∧
  (∀ a, (k0_off1547 v5329) a + S1x1x1024.size a ≤ S1x2048x1024.size a)
theorem k0_off1540_inb : ∀ (v5329 : BitVec 32) (k0_hw718 : k0_chk718 v5329), ∀ a, (k0_off1540 v5329) a + S1x1x1024.size a ≤ S1x2048x1024.size a := fun v5329 k0_hw718 => k0_hw718.1
theorem k0_off1547_inb : ∀ (v5329 : BitVec 32) (k0_hw718 : k0_chk718 v5329), ∀ a, (k0_off1547 v5329) a + S1x1x1024.size a ≤ S1x2048x1024.size a := fun v5329 k0_hw718 => k0_hw718.2

def k0_off1548 (v5331 : BitVec 32) : Fin 3 → Nat :=
  let c0_3363 : Index := 0#32
  let v5382 : Index := Scalar.indexCast v5331
  let c0_3364 : Index := 0#32
  ![0, v5382.toNat, 0]

def k0_chk719 (v5331 : BitVec 32) : Prop :=
  (∀ a, (k0_off1542 v5331) a + S1x1x1024.size a ≤ S1x2048x1024.size a) ∧
  (∀ a, (k0_off1548 v5331) a + S1x1x1024.size a ≤ S1x2048x1024.size a)
theorem k0_off1542_inb : ∀ (v5331 : BitVec 32) (k0_hw719 : k0_chk719 v5331), ∀ a, (k0_off1542 v5331) a + S1x1x1024.size a ≤ S1x2048x1024.size a := fun v5331 k0_hw719 => k0_hw719.1
theorem k0_off1548_inb : ∀ (v5331 : BitVec 32) (k0_hw719 : k0_chk719 v5331), ∀ a, (k0_off1548 v5331) a + S1x1x1024.size a ≤ S1x2048x1024.size a := fun v5331 k0_hw719 => k0_hw719.2

def k0_off1549 (i : grid0.Coords) : Fin 3 → Nat :=
  let c0_3367 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5390 : Index := Scalar.indexCast v2059
  let c208_3368 : Index := 208#32
  ![0, v5390.toNat, 208]
def k0_off1550 (i : grid0.Coords) : Fin 3 → Nat :=
  let c0_3369 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5392 : Index := Scalar.indexCast v2059
  let c209_3370 : Index := 209#32
  ![0, v5392.toNat, 209]
def k0_off1551 (i : grid0.Coords) : Fin 3 → Nat :=
  let c0_3371 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5394 : Index := Scalar.indexCast v2059
  let c210_3372 : Index := 210#32
  ![0, v5394.toNat, 210]
def k0_off1552 (i : grid0.Coords) : Fin 3 → Nat :=
  let c0_3373 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5396 : Index := Scalar.indexCast v2059
  let c211_3374 : Index := 211#32
  ![0, v5396.toNat, 211]
def k0_off1553 (v5391 : BitVec 32) : Fin 3 → Nat :=
  let c0_3375 : Index := 0#32
  let v5398 : Index := Scalar.indexCast v5391
  let c0_3376 : Index := 0#32
  ![0, v5398.toNat, 0]

def k0_off1554 (i : grid0.Coords) : Fin 3 → Nat :=
  let c0_3377 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5401 : Index := Scalar.indexCast v2059
  let c208_3378 : Index := 208#32
  ![0, v5401.toNat, 208]
def k0_off1555 (v5393 : BitVec 32) : Fin 3 → Nat :=
  let c0_3381 : Index := 0#32
  let v5408 : Index := Scalar.indexCast v5393
  let c0_3382 : Index := 0#32
  ![0, v5408.toNat, 0]

def k0_off1556 (i : grid0.Coords) : Fin 3 → Nat :=
  let c0_3383 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5411 : Index := Scalar.indexCast v2059
  let c209_3384 : Index := 209#32
  ![0, v5411.toNat, 209]
def k0_off1557 (v5395 : BitVec 32) : Fin 3 → Nat :=
  let c0_3387 : Index := 0#32
  let v5418 : Index := Scalar.indexCast v5395
  let c0_3388 : Index := 0#32
  ![0, v5418.toNat, 0]

def k0_off1558 (i : grid0.Coords) : Fin 3 → Nat :=
  let c0_3389 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5421 : Index := Scalar.indexCast v2059
  let c210_3390 : Index := 210#32
  ![0, v5421.toNat, 210]
def k0_off1559 (v5397 : BitVec 32) : Fin 3 → Nat :=
  let c0_3393 : Index := 0#32
  let v5428 : Index := Scalar.indexCast v5397
  let c0_3394 : Index := 0#32
  ![0, v5428.toNat, 0]

def k0_chk724 (v5397 : BitVec 32) : Prop :=
  (∀ a, (k0_off1559 v5397) a + S1x1x1024.size a ≤ S1x2048x1024.size a)
theorem k0_off1559_inb : ∀ (v5397 : BitVec 32) (k0_hw724 : k0_chk724 v5397), ∀ a, (k0_off1559 v5397) a + S1x1x1024.size a ≤ S1x2048x1024.size a := fun v5397 k0_hw724 => k0_hw724

def k0_off1560 (i : grid0.Coords) : Fin 3 → Nat :=
  let c0_3395 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5431 : Index := Scalar.indexCast v2059
  let c211_3396 : Index := 211#32
  ![0, v5431.toNat, 211]
def k0_off1561 (v5391 : BitVec 32) : Fin 3 → Nat :=
  let c0_3399 : Index := 0#32
  let v5438 : Index := Scalar.indexCast v5391
  let c0_3400 : Index := 0#32
  ![0, v5438.toNat, 0]

def k0_chk721 (v5391 : BitVec 32) : Prop :=
  (∀ a, (k0_off1553 v5391) a + S1x1x1024.size a ≤ S1x2048x1024.size a) ∧
  (∀ a, (k0_off1561 v5391) a + S1x1x1024.size a ≤ S1x2048x1024.size a)
theorem k0_off1553_inb : ∀ (v5391 : BitVec 32) (k0_hw721 : k0_chk721 v5391), ∀ a, (k0_off1553 v5391) a + S1x1x1024.size a ≤ S1x2048x1024.size a := fun v5391 k0_hw721 => k0_hw721.1
theorem k0_off1561_inb : ∀ (v5391 : BitVec 32) (k0_hw721 : k0_chk721 v5391), ∀ a, (k0_off1561 v5391) a + S1x1x1024.size a ≤ S1x2048x1024.size a := fun v5391 k0_hw721 => k0_hw721.2

def k0_off1562 (v5393 : BitVec 32) : Fin 3 → Nat :=
  let c0_3401 : Index := 0#32
  let v5442 : Index := Scalar.indexCast v5393
  let c0_3402 : Index := 0#32
  ![0, v5442.toNat, 0]

def k0_chk722 (v5393 : BitVec 32) : Prop :=
  (∀ a, (k0_off1555 v5393) a + S1x1x1024.size a ≤ S1x2048x1024.size a) ∧
  (∀ a, (k0_off1562 v5393) a + S1x1x1024.size a ≤ S1x2048x1024.size a)
theorem k0_off1555_inb : ∀ (v5393 : BitVec 32) (k0_hw722 : k0_chk722 v5393), ∀ a, (k0_off1555 v5393) a + S1x1x1024.size a ≤ S1x2048x1024.size a := fun v5393 k0_hw722 => k0_hw722.1
theorem k0_off1562_inb : ∀ (v5393 : BitVec 32) (k0_hw722 : k0_chk722 v5393), ∀ a, (k0_off1562 v5393) a + S1x1x1024.size a ≤ S1x2048x1024.size a := fun v5393 k0_hw722 => k0_hw722.2

def k0_off1563 (v5395 : BitVec 32) : Fin 3 → Nat :=
  let c0_3403 : Index := 0#32
  let v5446 : Index := Scalar.indexCast v5395
  let c0_3404 : Index := 0#32
  ![0, v5446.toNat, 0]

def k0_chk723 (v5395 : BitVec 32) : Prop :=
  (∀ a, (k0_off1557 v5395) a + S1x1x1024.size a ≤ S1x2048x1024.size a) ∧
  (∀ a, (k0_off1563 v5395) a + S1x1x1024.size a ≤ S1x2048x1024.size a)
theorem k0_off1557_inb : ∀ (v5395 : BitVec 32) (k0_hw723 : k0_chk723 v5395), ∀ a, (k0_off1557 v5395) a + S1x1x1024.size a ≤ S1x2048x1024.size a := fun v5395 k0_hw723 => k0_hw723.1
theorem k0_off1563_inb : ∀ (v5395 : BitVec 32) (k0_hw723 : k0_chk723 v5395), ∀ a, (k0_off1563 v5395) a + S1x1x1024.size a ≤ S1x2048x1024.size a := fun v5395 k0_hw723 => k0_hw723.2

def k0_off1564 (i : grid0.Coords) : Fin 3 → Nat :=
  let c0_3407 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5454 : Index := Scalar.indexCast v2059
  let c212_3408 : Index := 212#32
  ![0, v5454.toNat, 212]
def k0_off1565 (i : grid0.Coords) : Fin 3 → Nat :=
  let c0_3409 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5456 : Index := Scalar.indexCast v2059
  let c213_3410 : Index := 213#32
  ![0, v5456.toNat, 213]
def k0_off1566 (i : grid0.Coords) : Fin 3 → Nat :=
  let c0_3411 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5458 : Index := Scalar.indexCast v2059
  let c214_3412 : Index := 214#32
  ![0, v5458.toNat, 214]
def k0_off1567 (i : grid0.Coords) : Fin 3 → Nat :=
  let c0_3413 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5460 : Index := Scalar.indexCast v2059
  let c215_3414 : Index := 215#32
  ![0, v5460.toNat, 215]
def k0_off1568 (v5455 : BitVec 32) : Fin 3 → Nat :=
  let c0_3415 : Index := 0#32
  let v5462 : Index := Scalar.indexCast v5455
  let c0_3416 : Index := 0#32
  ![0, v5462.toNat, 0]

def k0_off1569 (i : grid0.Coords) : Fin 3 → Nat :=
  let c0_3417 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5465 : Index := Scalar.indexCast v2059
  let c212_3418 : Index := 212#32
  ![0, v5465.toNat, 212]
def k0_off1570 (v5457 : BitVec 32) : Fin 3 → Nat :=
  let c0_3421 : Index := 0#32
  let v5472 : Index := Scalar.indexCast v5457
  let c0_3422 : Index := 0#32
  ![0, v5472.toNat, 0]

def k0_off1571 (i : grid0.Coords) : Fin 3 → Nat :=
  let c0_3423 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5475 : Index := Scalar.indexCast v2059
  let c213_3424 : Index := 213#32
  ![0, v5475.toNat, 213]
def k0_off1572 (v5459 : BitVec 32) : Fin 3 → Nat :=
  let c0_3427 : Index := 0#32
  let v5482 : Index := Scalar.indexCast v5459
  let c0_3428 : Index := 0#32
  ![0, v5482.toNat, 0]

def k0_off1573 (i : grid0.Coords) : Fin 3 → Nat :=
  let c0_3429 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5485 : Index := Scalar.indexCast v2059
  let c214_3430 : Index := 214#32
  ![0, v5485.toNat, 214]
def k0_off1574 (v5461 : BitVec 32) : Fin 3 → Nat :=
  let c0_3433 : Index := 0#32
  let v5492 : Index := Scalar.indexCast v5461
  let c0_3434 : Index := 0#32
  ![0, v5492.toNat, 0]

def k0_chk728 (v5461 : BitVec 32) : Prop :=
  (∀ a, (k0_off1574 v5461) a + S1x1x1024.size a ≤ S1x2048x1024.size a)
theorem k0_off1574_inb : ∀ (v5461 : BitVec 32) (k0_hw728 : k0_chk728 v5461), ∀ a, (k0_off1574 v5461) a + S1x1x1024.size a ≤ S1x2048x1024.size a := fun v5461 k0_hw728 => k0_hw728

def k0_off1575 (i : grid0.Coords) : Fin 3 → Nat :=
  let c0_3435 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5495 : Index := Scalar.indexCast v2059
  let c215_3436 : Index := 215#32
  ![0, v5495.toNat, 215]
def k0_off1576 (v5455 : BitVec 32) : Fin 3 → Nat :=
  let c0_3439 : Index := 0#32
  let v5502 : Index := Scalar.indexCast v5455
  let c0_3440 : Index := 0#32
  ![0, v5502.toNat, 0]

def k0_chk725 (v5455 : BitVec 32) : Prop :=
  (∀ a, (k0_off1568 v5455) a + S1x1x1024.size a ≤ S1x2048x1024.size a) ∧
  (∀ a, (k0_off1576 v5455) a + S1x1x1024.size a ≤ S1x2048x1024.size a)
theorem k0_off1568_inb : ∀ (v5455 : BitVec 32) (k0_hw725 : k0_chk725 v5455), ∀ a, (k0_off1568 v5455) a + S1x1x1024.size a ≤ S1x2048x1024.size a := fun v5455 k0_hw725 => k0_hw725.1
theorem k0_off1576_inb : ∀ (v5455 : BitVec 32) (k0_hw725 : k0_chk725 v5455), ∀ a, (k0_off1576 v5455) a + S1x1x1024.size a ≤ S1x2048x1024.size a := fun v5455 k0_hw725 => k0_hw725.2

def k0_off1577 (v5457 : BitVec 32) : Fin 3 → Nat :=
  let c0_3441 : Index := 0#32
  let v5506 : Index := Scalar.indexCast v5457
  let c0_3442 : Index := 0#32
  ![0, v5506.toNat, 0]

def k0_chk726 (v5457 : BitVec 32) : Prop :=
  (∀ a, (k0_off1570 v5457) a + S1x1x1024.size a ≤ S1x2048x1024.size a) ∧
  (∀ a, (k0_off1577 v5457) a + S1x1x1024.size a ≤ S1x2048x1024.size a)
theorem k0_off1570_inb : ∀ (v5457 : BitVec 32) (k0_hw726 : k0_chk726 v5457), ∀ a, (k0_off1570 v5457) a + S1x1x1024.size a ≤ S1x2048x1024.size a := fun v5457 k0_hw726 => k0_hw726.1
theorem k0_off1577_inb : ∀ (v5457 : BitVec 32) (k0_hw726 : k0_chk726 v5457), ∀ a, (k0_off1577 v5457) a + S1x1x1024.size a ≤ S1x2048x1024.size a := fun v5457 k0_hw726 => k0_hw726.2

def k0_off1578 (v5459 : BitVec 32) : Fin 3 → Nat :=
  let c0_3443 : Index := 0#32
  let v5510 : Index := Scalar.indexCast v5459
  let c0_3444 : Index := 0#32
  ![0, v5510.toNat, 0]

def k0_chk727 (v5459 : BitVec 32) : Prop :=
  (∀ a, (k0_off1572 v5459) a + S1x1x1024.size a ≤ S1x2048x1024.size a) ∧
  (∀ a, (k0_off1578 v5459) a + S1x1x1024.size a ≤ S1x2048x1024.size a)
theorem k0_off1572_inb : ∀ (v5459 : BitVec 32) (k0_hw727 : k0_chk727 v5459), ∀ a, (k0_off1572 v5459) a + S1x1x1024.size a ≤ S1x2048x1024.size a := fun v5459 k0_hw727 => k0_hw727.1
theorem k0_off1578_inb : ∀ (v5459 : BitVec 32) (k0_hw727 : k0_chk727 v5459), ∀ a, (k0_off1578 v5459) a + S1x1x1024.size a ≤ S1x2048x1024.size a := fun v5459 k0_hw727 => k0_hw727.2

def k0_off1579 (i : grid0.Coords) : Fin 3 → Nat :=
  let c0_3447 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5518 : Index := Scalar.indexCast v2059
  let c216_3448 : Index := 216#32
  ![0, v5518.toNat, 216]
def k0_off1580 (i : grid0.Coords) : Fin 3 → Nat :=
  let c0_3449 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5520 : Index := Scalar.indexCast v2059
  let c217_3450 : Index := 217#32
  ![0, v5520.toNat, 217]
def k0_off1581 (i : grid0.Coords) : Fin 3 → Nat :=
  let c0_3451 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5522 : Index := Scalar.indexCast v2059
  let c218_3452 : Index := 218#32
  ![0, v5522.toNat, 218]
def k0_off1582 (i : grid0.Coords) : Fin 3 → Nat :=
  let c0_3453 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5524 : Index := Scalar.indexCast v2059
  let c219_3454 : Index := 219#32
  ![0, v5524.toNat, 219]
def k0_off1583 (v5519 : BitVec 32) : Fin 3 → Nat :=
  let c0_3455 : Index := 0#32
  let v5526 : Index := Scalar.indexCast v5519
  let c0_3456 : Index := 0#32
  ![0, v5526.toNat, 0]

def k0_off1584 (i : grid0.Coords) : Fin 3 → Nat :=
  let c0_3457 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5529 : Index := Scalar.indexCast v2059
  let c216_3458 : Index := 216#32
  ![0, v5529.toNat, 216]
def k0_off1585 (v5521 : BitVec 32) : Fin 3 → Nat :=
  let c0_3461 : Index := 0#32
  let v5536 : Index := Scalar.indexCast v5521
  let c0_3462 : Index := 0#32
  ![0, v5536.toNat, 0]

def k0_off1586 (i : grid0.Coords) : Fin 3 → Nat :=
  let c0_3463 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5539 : Index := Scalar.indexCast v2059
  let c217_3464 : Index := 217#32
  ![0, v5539.toNat, 217]
def k0_off1587 (v5523 : BitVec 32) : Fin 3 → Nat :=
  let c0_3467 : Index := 0#32
  let v5546 : Index := Scalar.indexCast v5523
  let c0_3468 : Index := 0#32
  ![0, v5546.toNat, 0]

def k0_off1588 (i : grid0.Coords) : Fin 3 → Nat :=
  let c0_3469 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5549 : Index := Scalar.indexCast v2059
  let c218_3470 : Index := 218#32
  ![0, v5549.toNat, 218]
def k0_off1589 (v5525 : BitVec 32) : Fin 3 → Nat :=
  let c0_3473 : Index := 0#32
  let v5556 : Index := Scalar.indexCast v5525
  let c0_3474 : Index := 0#32
  ![0, v5556.toNat, 0]

def k0_chk732 (v5525 : BitVec 32) : Prop :=
  (∀ a, (k0_off1589 v5525) a + S1x1x1024.size a ≤ S1x2048x1024.size a)
theorem k0_off1589_inb : ∀ (v5525 : BitVec 32) (k0_hw732 : k0_chk732 v5525), ∀ a, (k0_off1589 v5525) a + S1x1x1024.size a ≤ S1x2048x1024.size a := fun v5525 k0_hw732 => k0_hw732

def k0_off1590 (i : grid0.Coords) : Fin 3 → Nat :=
  let c0_3475 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5559 : Index := Scalar.indexCast v2059
  let c219_3476 : Index := 219#32
  ![0, v5559.toNat, 219]
def k0_off1591 (v5519 : BitVec 32) : Fin 3 → Nat :=
  let c0_3479 : Index := 0#32
  let v5566 : Index := Scalar.indexCast v5519
  let c0_3480 : Index := 0#32
  ![0, v5566.toNat, 0]

def k0_chk729 (v5519 : BitVec 32) : Prop :=
  (∀ a, (k0_off1583 v5519) a + S1x1x1024.size a ≤ S1x2048x1024.size a) ∧
  (∀ a, (k0_off1591 v5519) a + S1x1x1024.size a ≤ S1x2048x1024.size a)
theorem k0_off1583_inb : ∀ (v5519 : BitVec 32) (k0_hw729 : k0_chk729 v5519), ∀ a, (k0_off1583 v5519) a + S1x1x1024.size a ≤ S1x2048x1024.size a := fun v5519 k0_hw729 => k0_hw729.1
theorem k0_off1591_inb : ∀ (v5519 : BitVec 32) (k0_hw729 : k0_chk729 v5519), ∀ a, (k0_off1591 v5519) a + S1x1x1024.size a ≤ S1x2048x1024.size a := fun v5519 k0_hw729 => k0_hw729.2

def k0_off1592 (v5521 : BitVec 32) : Fin 3 → Nat :=
  let c0_3481 : Index := 0#32
  let v5570 : Index := Scalar.indexCast v5521
  let c0_3482 : Index := 0#32
  ![0, v5570.toNat, 0]

def k0_chk730 (v5521 : BitVec 32) : Prop :=
  (∀ a, (k0_off1585 v5521) a + S1x1x1024.size a ≤ S1x2048x1024.size a) ∧
  (∀ a, (k0_off1592 v5521) a + S1x1x1024.size a ≤ S1x2048x1024.size a)
theorem k0_off1585_inb : ∀ (v5521 : BitVec 32) (k0_hw730 : k0_chk730 v5521), ∀ a, (k0_off1585 v5521) a + S1x1x1024.size a ≤ S1x2048x1024.size a := fun v5521 k0_hw730 => k0_hw730.1
theorem k0_off1592_inb : ∀ (v5521 : BitVec 32) (k0_hw730 : k0_chk730 v5521), ∀ a, (k0_off1592 v5521) a + S1x1x1024.size a ≤ S1x2048x1024.size a := fun v5521 k0_hw730 => k0_hw730.2

def k0_off1593 (v5523 : BitVec 32) : Fin 3 → Nat :=
  let c0_3483 : Index := 0#32
  let v5574 : Index := Scalar.indexCast v5523
  let c0_3484 : Index := 0#32
  ![0, v5574.toNat, 0]

def k0_chk731 (v5523 : BitVec 32) : Prop :=
  (∀ a, (k0_off1587 v5523) a + S1x1x1024.size a ≤ S1x2048x1024.size a) ∧
  (∀ a, (k0_off1593 v5523) a + S1x1x1024.size a ≤ S1x2048x1024.size a)
theorem k0_off1587_inb : ∀ (v5523 : BitVec 32) (k0_hw731 : k0_chk731 v5523), ∀ a, (k0_off1587 v5523) a + S1x1x1024.size a ≤ S1x2048x1024.size a := fun v5523 k0_hw731 => k0_hw731.1
theorem k0_off1593_inb : ∀ (v5523 : BitVec 32) (k0_hw731 : k0_chk731 v5523), ∀ a, (k0_off1593 v5523) a + S1x1x1024.size a ≤ S1x2048x1024.size a := fun v5523 k0_hw731 => k0_hw731.2

def k0_off1594 (i : grid0.Coords) : Fin 3 → Nat :=
  let c0_3487 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5582 : Index := Scalar.indexCast v2059
  let c220_3488 : Index := 220#32
  ![0, v5582.toNat, 220]
def k0_off1595 (i : grid0.Coords) : Fin 3 → Nat :=
  let c0_3489 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5584 : Index := Scalar.indexCast v2059
  let c221_3490 : Index := 221#32
  ![0, v5584.toNat, 221]
def k0_off1596 (i : grid0.Coords) : Fin 3 → Nat :=
  let c0_3491 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5586 : Index := Scalar.indexCast v2059
  let c222_3492 : Index := 222#32
  ![0, v5586.toNat, 222]
def k0_off1597 (i : grid0.Coords) : Fin 3 → Nat :=
  let c0_3493 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5588 : Index := Scalar.indexCast v2059
  let c223_3494 : Index := 223#32
  ![0, v5588.toNat, 223]
def k0_off1598 (v5583 : BitVec 32) : Fin 3 → Nat :=
  let c0_3495 : Index := 0#32
  let v5590 : Index := Scalar.indexCast v5583
  let c0_3496 : Index := 0#32
  ![0, v5590.toNat, 0]

def k0_off1599 (i : grid0.Coords) : Fin 3 → Nat :=
  let c0_3497 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5593 : Index := Scalar.indexCast v2059
  let c220_3498 : Index := 220#32
  ![0, v5593.toNat, 220]
def k0_off1600 (v5585 : BitVec 32) : Fin 3 → Nat :=
  let c0_3501 : Index := 0#32
  let v5600 : Index := Scalar.indexCast v5585
  let c0_3502 : Index := 0#32
  ![0, v5600.toNat, 0]

def k0_off1601 (i : grid0.Coords) : Fin 3 → Nat :=
  let c0_3503 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5603 : Index := Scalar.indexCast v2059
  let c221_3504 : Index := 221#32
  ![0, v5603.toNat, 221]
def k0_off1602 (v5587 : BitVec 32) : Fin 3 → Nat :=
  let c0_3507 : Index := 0#32
  let v5610 : Index := Scalar.indexCast v5587
  let c0_3508 : Index := 0#32
  ![0, v5610.toNat, 0]

def k0_off1603 (i : grid0.Coords) : Fin 3 → Nat :=
  let c0_3509 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5613 : Index := Scalar.indexCast v2059
  let c222_3510 : Index := 222#32
  ![0, v5613.toNat, 222]
def k0_off1604 (v5589 : BitVec 32) : Fin 3 → Nat :=
  let c0_3513 : Index := 0#32
  let v5620 : Index := Scalar.indexCast v5589
  let c0_3514 : Index := 0#32
  ![0, v5620.toNat, 0]

def k0_chk736 (v5589 : BitVec 32) : Prop :=
  (∀ a, (k0_off1604 v5589) a + S1x1x1024.size a ≤ S1x2048x1024.size a)
theorem k0_off1604_inb : ∀ (v5589 : BitVec 32) (k0_hw736 : k0_chk736 v5589), ∀ a, (k0_off1604 v5589) a + S1x1x1024.size a ≤ S1x2048x1024.size a := fun v5589 k0_hw736 => k0_hw736

def k0_off1605 (i : grid0.Coords) : Fin 3 → Nat :=
  let c0_3515 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5623 : Index := Scalar.indexCast v2059
  let c223_3516 : Index := 223#32
  ![0, v5623.toNat, 223]
def k0_off1606 (v5583 : BitVec 32) : Fin 3 → Nat :=
  let c0_3519 : Index := 0#32
  let v5630 : Index := Scalar.indexCast v5583
  let c0_3520 : Index := 0#32
  ![0, v5630.toNat, 0]

def k0_chk733 (v5583 : BitVec 32) : Prop :=
  (∀ a, (k0_off1598 v5583) a + S1x1x1024.size a ≤ S1x2048x1024.size a) ∧
  (∀ a, (k0_off1606 v5583) a + S1x1x1024.size a ≤ S1x2048x1024.size a)
theorem k0_off1598_inb : ∀ (v5583 : BitVec 32) (k0_hw733 : k0_chk733 v5583), ∀ a, (k0_off1598 v5583) a + S1x1x1024.size a ≤ S1x2048x1024.size a := fun v5583 k0_hw733 => k0_hw733.1
theorem k0_off1606_inb : ∀ (v5583 : BitVec 32) (k0_hw733 : k0_chk733 v5583), ∀ a, (k0_off1606 v5583) a + S1x1x1024.size a ≤ S1x2048x1024.size a := fun v5583 k0_hw733 => k0_hw733.2

def k0_off1607 (v5585 : BitVec 32) : Fin 3 → Nat :=
  let c0_3521 : Index := 0#32
  let v5634 : Index := Scalar.indexCast v5585
  let c0_3522 : Index := 0#32
  ![0, v5634.toNat, 0]

def k0_chk734 (v5585 : BitVec 32) : Prop :=
  (∀ a, (k0_off1600 v5585) a + S1x1x1024.size a ≤ S1x2048x1024.size a) ∧
  (∀ a, (k0_off1607 v5585) a + S1x1x1024.size a ≤ S1x2048x1024.size a)
theorem k0_off1600_inb : ∀ (v5585 : BitVec 32) (k0_hw734 : k0_chk734 v5585), ∀ a, (k0_off1600 v5585) a + S1x1x1024.size a ≤ S1x2048x1024.size a := fun v5585 k0_hw734 => k0_hw734.1
theorem k0_off1607_inb : ∀ (v5585 : BitVec 32) (k0_hw734 : k0_chk734 v5585), ∀ a, (k0_off1607 v5585) a + S1x1x1024.size a ≤ S1x2048x1024.size a := fun v5585 k0_hw734 => k0_hw734.2

def k0_off1608 (v5587 : BitVec 32) : Fin 3 → Nat :=
  let c0_3523 : Index := 0#32
  let v5638 : Index := Scalar.indexCast v5587
  let c0_3524 : Index := 0#32
  ![0, v5638.toNat, 0]

def k0_chk735 (v5587 : BitVec 32) : Prop :=
  (∀ a, (k0_off1602 v5587) a + S1x1x1024.size a ≤ S1x2048x1024.size a) ∧
  (∀ a, (k0_off1608 v5587) a + S1x1x1024.size a ≤ S1x2048x1024.size a)
theorem k0_off1602_inb : ∀ (v5587 : BitVec 32) (k0_hw735 : k0_chk735 v5587), ∀ a, (k0_off1602 v5587) a + S1x1x1024.size a ≤ S1x2048x1024.size a := fun v5587 k0_hw735 => k0_hw735.1
theorem k0_off1608_inb : ∀ (v5587 : BitVec 32) (k0_hw735 : k0_chk735 v5587), ∀ a, (k0_off1608 v5587) a + S1x1x1024.size a ≤ S1x2048x1024.size a := fun v5587 k0_hw735 => k0_hw735.2

def k0_off1609 (i : grid0.Coords) : Fin 3 → Nat :=
  let c0_3527 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5646 : Index := Scalar.indexCast v2059
  let c224_3528 : Index := 224#32
  ![0, v5646.toNat, 224]
def k0_off1610 (i : grid0.Coords) : Fin 3 → Nat :=
  let c0_3529 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5648 : Index := Scalar.indexCast v2059
  let c225_3530 : Index := 225#32
  ![0, v5648.toNat, 225]
def k0_off1611 (i : grid0.Coords) : Fin 3 → Nat :=
  let c0_3531 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5650 : Index := Scalar.indexCast v2059
  let c226_3532 : Index := 226#32
  ![0, v5650.toNat, 226]
def k0_off1612 (i : grid0.Coords) : Fin 3 → Nat :=
  let c0_3533 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5652 : Index := Scalar.indexCast v2059
  let c227_3534 : Index := 227#32
  ![0, v5652.toNat, 227]
def k0_off1613 (v5647 : BitVec 32) : Fin 3 → Nat :=
  let c0_3535 : Index := 0#32
  let v5654 : Index := Scalar.indexCast v5647
  let c0_3536 : Index := 0#32
  ![0, v5654.toNat, 0]

def k0_off1614 (i : grid0.Coords) : Fin 3 → Nat :=
  let c0_3537 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5657 : Index := Scalar.indexCast v2059
  let c224_3538 : Index := 224#32
  ![0, v5657.toNat, 224]
def k0_off1615 (v5649 : BitVec 32) : Fin 3 → Nat :=
  let c0_3541 : Index := 0#32
  let v5664 : Index := Scalar.indexCast v5649
  let c0_3542 : Index := 0#32
  ![0, v5664.toNat, 0]

def k0_off1616 (i : grid0.Coords) : Fin 3 → Nat :=
  let c0_3543 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5667 : Index := Scalar.indexCast v2059
  let c225_3544 : Index := 225#32
  ![0, v5667.toNat, 225]
def k0_off1617 (v5651 : BitVec 32) : Fin 3 → Nat :=
  let c0_3547 : Index := 0#32
  let v5674 : Index := Scalar.indexCast v5651
  let c0_3548 : Index := 0#32
  ![0, v5674.toNat, 0]

def k0_off1618 (i : grid0.Coords) : Fin 3 → Nat :=
  let c0_3549 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5677 : Index := Scalar.indexCast v2059
  let c226_3550 : Index := 226#32
  ![0, v5677.toNat, 226]
def k0_off1619 (v5653 : BitVec 32) : Fin 3 → Nat :=
  let c0_3553 : Index := 0#32
  let v5684 : Index := Scalar.indexCast v5653
  let c0_3554 : Index := 0#32
  ![0, v5684.toNat, 0]

def k0_chk740 (v5653 : BitVec 32) : Prop :=
  (∀ a, (k0_off1619 v5653) a + S1x1x1024.size a ≤ S1x2048x1024.size a)
theorem k0_off1619_inb : ∀ (v5653 : BitVec 32) (k0_hw740 : k0_chk740 v5653), ∀ a, (k0_off1619 v5653) a + S1x1x1024.size a ≤ S1x2048x1024.size a := fun v5653 k0_hw740 => k0_hw740

def k0_off1620 (i : grid0.Coords) : Fin 3 → Nat :=
  let c0_3555 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5687 : Index := Scalar.indexCast v2059
  let c227_3556 : Index := 227#32
  ![0, v5687.toNat, 227]
def k0_off1621 (v5647 : BitVec 32) : Fin 3 → Nat :=
  let c0_3559 : Index := 0#32
  let v5694 : Index := Scalar.indexCast v5647
  let c0_3560 : Index := 0#32
  ![0, v5694.toNat, 0]

def k0_chk737 (v5647 : BitVec 32) : Prop :=
  (∀ a, (k0_off1613 v5647) a + S1x1x1024.size a ≤ S1x2048x1024.size a) ∧
  (∀ a, (k0_off1621 v5647) a + S1x1x1024.size a ≤ S1x2048x1024.size a)
theorem k0_off1613_inb : ∀ (v5647 : BitVec 32) (k0_hw737 : k0_chk737 v5647), ∀ a, (k0_off1613 v5647) a + S1x1x1024.size a ≤ S1x2048x1024.size a := fun v5647 k0_hw737 => k0_hw737.1
theorem k0_off1621_inb : ∀ (v5647 : BitVec 32) (k0_hw737 : k0_chk737 v5647), ∀ a, (k0_off1621 v5647) a + S1x1x1024.size a ≤ S1x2048x1024.size a := fun v5647 k0_hw737 => k0_hw737.2

def k0_off1622 (v5649 : BitVec 32) : Fin 3 → Nat :=
  let c0_3561 : Index := 0#32
  let v5698 : Index := Scalar.indexCast v5649
  let c0_3562 : Index := 0#32
  ![0, v5698.toNat, 0]

def k0_chk738 (v5649 : BitVec 32) : Prop :=
  (∀ a, (k0_off1615 v5649) a + S1x1x1024.size a ≤ S1x2048x1024.size a) ∧
  (∀ a, (k0_off1622 v5649) a + S1x1x1024.size a ≤ S1x2048x1024.size a)
theorem k0_off1615_inb : ∀ (v5649 : BitVec 32) (k0_hw738 : k0_chk738 v5649), ∀ a, (k0_off1615 v5649) a + S1x1x1024.size a ≤ S1x2048x1024.size a := fun v5649 k0_hw738 => k0_hw738.1
theorem k0_off1622_inb : ∀ (v5649 : BitVec 32) (k0_hw738 : k0_chk738 v5649), ∀ a, (k0_off1622 v5649) a + S1x1x1024.size a ≤ S1x2048x1024.size a := fun v5649 k0_hw738 => k0_hw738.2

def k0_off1623 (v5651 : BitVec 32) : Fin 3 → Nat :=
  let c0_3563 : Index := 0#32
  let v5702 : Index := Scalar.indexCast v5651
  let c0_3564 : Index := 0#32
  ![0, v5702.toNat, 0]

def k0_chk739 (v5651 : BitVec 32) : Prop :=
  (∀ a, (k0_off1617 v5651) a + S1x1x1024.size a ≤ S1x2048x1024.size a) ∧
  (∀ a, (k0_off1623 v5651) a + S1x1x1024.size a ≤ S1x2048x1024.size a)
theorem k0_off1617_inb : ∀ (v5651 : BitVec 32) (k0_hw739 : k0_chk739 v5651), ∀ a, (k0_off1617 v5651) a + S1x1x1024.size a ≤ S1x2048x1024.size a := fun v5651 k0_hw739 => k0_hw739.1
theorem k0_off1623_inb : ∀ (v5651 : BitVec 32) (k0_hw739 : k0_chk739 v5651), ∀ a, (k0_off1623 v5651) a + S1x1x1024.size a ≤ S1x2048x1024.size a := fun v5651 k0_hw739 => k0_hw739.2

def k0_off1624 (i : grid0.Coords) : Fin 3 → Nat :=
  let c0_3567 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5710 : Index := Scalar.indexCast v2059
  let c228_3568 : Index := 228#32
  ![0, v5710.toNat, 228]
def k0_off1625 (i : grid0.Coords) : Fin 3 → Nat :=
  let c0_3569 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5712 : Index := Scalar.indexCast v2059
  let c229_3570 : Index := 229#32
  ![0, v5712.toNat, 229]
def k0_off1626 (i : grid0.Coords) : Fin 3 → Nat :=
  let c0_3571 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5714 : Index := Scalar.indexCast v2059
  let c230_3572 : Index := 230#32
  ![0, v5714.toNat, 230]
def k0_off1627 (i : grid0.Coords) : Fin 3 → Nat :=
  let c0_3573 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5716 : Index := Scalar.indexCast v2059
  let c231_3574 : Index := 231#32
  ![0, v5716.toNat, 231]
def k0_off1628 (v5711 : BitVec 32) : Fin 3 → Nat :=
  let c0_3575 : Index := 0#32
  let v5718 : Index := Scalar.indexCast v5711
  let c0_3576 : Index := 0#32
  ![0, v5718.toNat, 0]

def k0_off1629 (i : grid0.Coords) : Fin 3 → Nat :=
  let c0_3577 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5721 : Index := Scalar.indexCast v2059
  let c228_3578 : Index := 228#32
  ![0, v5721.toNat, 228]
def k0_off1630 (v5713 : BitVec 32) : Fin 3 → Nat :=
  let c0_3581 : Index := 0#32
  let v5728 : Index := Scalar.indexCast v5713
  let c0_3582 : Index := 0#32
  ![0, v5728.toNat, 0]

def k0_off1631 (i : grid0.Coords) : Fin 3 → Nat :=
  let c0_3583 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5731 : Index := Scalar.indexCast v2059
  let c229_3584 : Index := 229#32
  ![0, v5731.toNat, 229]
def k0_off1632 (v5715 : BitVec 32) : Fin 3 → Nat :=
  let c0_3587 : Index := 0#32
  let v5738 : Index := Scalar.indexCast v5715
  let c0_3588 : Index := 0#32
  ![0, v5738.toNat, 0]

def k0_off1633 (i : grid0.Coords) : Fin 3 → Nat :=
  let c0_3589 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5741 : Index := Scalar.indexCast v2059
  let c230_3590 : Index := 230#32
  ![0, v5741.toNat, 230]
def k0_off1634 (v5717 : BitVec 32) : Fin 3 → Nat :=
  let c0_3593 : Index := 0#32
  let v5748 : Index := Scalar.indexCast v5717
  let c0_3594 : Index := 0#32
  ![0, v5748.toNat, 0]

def k0_chk744 (v5717 : BitVec 32) : Prop :=
  (∀ a, (k0_off1634 v5717) a + S1x1x1024.size a ≤ S1x2048x1024.size a)
theorem k0_off1634_inb : ∀ (v5717 : BitVec 32) (k0_hw744 : k0_chk744 v5717), ∀ a, (k0_off1634 v5717) a + S1x1x1024.size a ≤ S1x2048x1024.size a := fun v5717 k0_hw744 => k0_hw744

def k0_off1635 (i : grid0.Coords) : Fin 3 → Nat :=
  let c0_3595 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5751 : Index := Scalar.indexCast v2059
  let c231_3596 : Index := 231#32
  ![0, v5751.toNat, 231]
def k0_off1636 (v5711 : BitVec 32) : Fin 3 → Nat :=
  let c0_3599 : Index := 0#32
  let v5758 : Index := Scalar.indexCast v5711
  let c0_3600 : Index := 0#32
  ![0, v5758.toNat, 0]

def k0_chk741 (v5711 : BitVec 32) : Prop :=
  (∀ a, (k0_off1628 v5711) a + S1x1x1024.size a ≤ S1x2048x1024.size a) ∧
  (∀ a, (k0_off1636 v5711) a + S1x1x1024.size a ≤ S1x2048x1024.size a)
theorem k0_off1628_inb : ∀ (v5711 : BitVec 32) (k0_hw741 : k0_chk741 v5711), ∀ a, (k0_off1628 v5711) a + S1x1x1024.size a ≤ S1x2048x1024.size a := fun v5711 k0_hw741 => k0_hw741.1
theorem k0_off1636_inb : ∀ (v5711 : BitVec 32) (k0_hw741 : k0_chk741 v5711), ∀ a, (k0_off1636 v5711) a + S1x1x1024.size a ≤ S1x2048x1024.size a := fun v5711 k0_hw741 => k0_hw741.2

def k0_off1637 (v5713 : BitVec 32) : Fin 3 → Nat :=
  let c0_3601 : Index := 0#32
  let v5762 : Index := Scalar.indexCast v5713
  let c0_3602 : Index := 0#32
  ![0, v5762.toNat, 0]

def k0_chk742 (v5713 : BitVec 32) : Prop :=
  (∀ a, (k0_off1630 v5713) a + S1x1x1024.size a ≤ S1x2048x1024.size a) ∧
  (∀ a, (k0_off1637 v5713) a + S1x1x1024.size a ≤ S1x2048x1024.size a)
theorem k0_off1630_inb : ∀ (v5713 : BitVec 32) (k0_hw742 : k0_chk742 v5713), ∀ a, (k0_off1630 v5713) a + S1x1x1024.size a ≤ S1x2048x1024.size a := fun v5713 k0_hw742 => k0_hw742.1
theorem k0_off1637_inb : ∀ (v5713 : BitVec 32) (k0_hw742 : k0_chk742 v5713), ∀ a, (k0_off1637 v5713) a + S1x1x1024.size a ≤ S1x2048x1024.size a := fun v5713 k0_hw742 => k0_hw742.2

def k0_off1638 (v5715 : BitVec 32) : Fin 3 → Nat :=
  let c0_3603 : Index := 0#32
  let v5766 : Index := Scalar.indexCast v5715
  let c0_3604 : Index := 0#32
  ![0, v5766.toNat, 0]

def k0_chk743 (v5715 : BitVec 32) : Prop :=
  (∀ a, (k0_off1632 v5715) a + S1x1x1024.size a ≤ S1x2048x1024.size a) ∧
  (∀ a, (k0_off1638 v5715) a + S1x1x1024.size a ≤ S1x2048x1024.size a)
theorem k0_off1632_inb : ∀ (v5715 : BitVec 32) (k0_hw743 : k0_chk743 v5715), ∀ a, (k0_off1632 v5715) a + S1x1x1024.size a ≤ S1x2048x1024.size a := fun v5715 k0_hw743 => k0_hw743.1
theorem k0_off1638_inb : ∀ (v5715 : BitVec 32) (k0_hw743 : k0_chk743 v5715), ∀ a, (k0_off1638 v5715) a + S1x1x1024.size a ≤ S1x2048x1024.size a := fun v5715 k0_hw743 => k0_hw743.2

def k0_off1639 (i : grid0.Coords) : Fin 3 → Nat :=
  let c0_3607 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5774 : Index := Scalar.indexCast v2059
  let c232_3608 : Index := 232#32
  ![0, v5774.toNat, 232]
def k0_off1640 (i : grid0.Coords) : Fin 3 → Nat :=
  let c0_3609 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5776 : Index := Scalar.indexCast v2059
  let c233_3610 : Index := 233#32
  ![0, v5776.toNat, 233]
def k0_off1641 (i : grid0.Coords) : Fin 3 → Nat :=
  let c0_3611 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5778 : Index := Scalar.indexCast v2059
  let c234_3612 : Index := 234#32
  ![0, v5778.toNat, 234]
def k0_off1642 (i : grid0.Coords) : Fin 3 → Nat :=
  let c0_3613 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5780 : Index := Scalar.indexCast v2059
  let c235_3614 : Index := 235#32
  ![0, v5780.toNat, 235]
def k0_off1643 (v5775 : BitVec 32) : Fin 3 → Nat :=
  let c0_3615 : Index := 0#32
  let v5782 : Index := Scalar.indexCast v5775
  let c0_3616 : Index := 0#32
  ![0, v5782.toNat, 0]

def k0_off1644 (i : grid0.Coords) : Fin 3 → Nat :=
  let c0_3617 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5785 : Index := Scalar.indexCast v2059
  let c232_3618 : Index := 232#32
  ![0, v5785.toNat, 232]
def k0_off1645 (v5777 : BitVec 32) : Fin 3 → Nat :=
  let c0_3621 : Index := 0#32
  let v5792 : Index := Scalar.indexCast v5777
  let c0_3622 : Index := 0#32
  ![0, v5792.toNat, 0]

def k0_off1646 (i : grid0.Coords) : Fin 3 → Nat :=
  let c0_3623 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5795 : Index := Scalar.indexCast v2059
  let c233_3624 : Index := 233#32
  ![0, v5795.toNat, 233]
def k0_off1647 (v5779 : BitVec 32) : Fin 3 → Nat :=
  let c0_3627 : Index := 0#32
  let v5802 : Index := Scalar.indexCast v5779
  let c0_3628 : Index := 0#32
  ![0, v5802.toNat, 0]

def k0_off1648 (i : grid0.Coords) : Fin 3 → Nat :=
  let c0_3629 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5805 : Index := Scalar.indexCast v2059
  let c234_3630 : Index := 234#32
  ![0, v5805.toNat, 234]
def k0_off1649 (v5781 : BitVec 32) : Fin 3 → Nat :=
  let c0_3633 : Index := 0#32
  let v5812 : Index := Scalar.indexCast v5781
  let c0_3634 : Index := 0#32
  ![0, v5812.toNat, 0]

def k0_chk748 (v5781 : BitVec 32) : Prop :=
  (∀ a, (k0_off1649 v5781) a + S1x1x1024.size a ≤ S1x2048x1024.size a)
theorem k0_off1649_inb : ∀ (v5781 : BitVec 32) (k0_hw748 : k0_chk748 v5781), ∀ a, (k0_off1649 v5781) a + S1x1x1024.size a ≤ S1x2048x1024.size a := fun v5781 k0_hw748 => k0_hw748

def k0_off1650 (i : grid0.Coords) : Fin 3 → Nat :=
  let c0_3635 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5815 : Index := Scalar.indexCast v2059
  let c235_3636 : Index := 235#32
  ![0, v5815.toNat, 235]
def k0_off1651 (v5775 : BitVec 32) : Fin 3 → Nat :=
  let c0_3639 : Index := 0#32
  let v5822 : Index := Scalar.indexCast v5775
  let c0_3640 : Index := 0#32
  ![0, v5822.toNat, 0]

def k0_chk745 (v5775 : BitVec 32) : Prop :=
  (∀ a, (k0_off1643 v5775) a + S1x1x1024.size a ≤ S1x2048x1024.size a) ∧
  (∀ a, (k0_off1651 v5775) a + S1x1x1024.size a ≤ S1x2048x1024.size a)
theorem k0_off1643_inb : ∀ (v5775 : BitVec 32) (k0_hw745 : k0_chk745 v5775), ∀ a, (k0_off1643 v5775) a + S1x1x1024.size a ≤ S1x2048x1024.size a := fun v5775 k0_hw745 => k0_hw745.1
theorem k0_off1651_inb : ∀ (v5775 : BitVec 32) (k0_hw745 : k0_chk745 v5775), ∀ a, (k0_off1651 v5775) a + S1x1x1024.size a ≤ S1x2048x1024.size a := fun v5775 k0_hw745 => k0_hw745.2

def k0_off1652 (v5777 : BitVec 32) : Fin 3 → Nat :=
  let c0_3641 : Index := 0#32
  let v5826 : Index := Scalar.indexCast v5777
  let c0_3642 : Index := 0#32
  ![0, v5826.toNat, 0]

def k0_chk746 (v5777 : BitVec 32) : Prop :=
  (∀ a, (k0_off1645 v5777) a + S1x1x1024.size a ≤ S1x2048x1024.size a) ∧
  (∀ a, (k0_off1652 v5777) a + S1x1x1024.size a ≤ S1x2048x1024.size a)
theorem k0_off1645_inb : ∀ (v5777 : BitVec 32) (k0_hw746 : k0_chk746 v5777), ∀ a, (k0_off1645 v5777) a + S1x1x1024.size a ≤ S1x2048x1024.size a := fun v5777 k0_hw746 => k0_hw746.1
theorem k0_off1652_inb : ∀ (v5777 : BitVec 32) (k0_hw746 : k0_chk746 v5777), ∀ a, (k0_off1652 v5777) a + S1x1x1024.size a ≤ S1x2048x1024.size a := fun v5777 k0_hw746 => k0_hw746.2

def k0_off1653 (v5779 : BitVec 32) : Fin 3 → Nat :=
  let c0_3643 : Index := 0#32
  let v5830 : Index := Scalar.indexCast v5779
  let c0_3644 : Index := 0#32
  ![0, v5830.toNat, 0]

def k0_chk747 (v5779 : BitVec 32) : Prop :=
  (∀ a, (k0_off1647 v5779) a + S1x1x1024.size a ≤ S1x2048x1024.size a) ∧
  (∀ a, (k0_off1653 v5779) a + S1x1x1024.size a ≤ S1x2048x1024.size a)
theorem k0_off1647_inb : ∀ (v5779 : BitVec 32) (k0_hw747 : k0_chk747 v5779), ∀ a, (k0_off1647 v5779) a + S1x1x1024.size a ≤ S1x2048x1024.size a := fun v5779 k0_hw747 => k0_hw747.1
theorem k0_off1653_inb : ∀ (v5779 : BitVec 32) (k0_hw747 : k0_chk747 v5779), ∀ a, (k0_off1653 v5779) a + S1x1x1024.size a ≤ S1x2048x1024.size a := fun v5779 k0_hw747 => k0_hw747.2

def k0_off1654 (i : grid0.Coords) : Fin 3 → Nat :=
  let c0_3647 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5838 : Index := Scalar.indexCast v2059
  let c236_3648 : Index := 236#32
  ![0, v5838.toNat, 236]
def k0_off1655 (i : grid0.Coords) : Fin 3 → Nat :=
  let c0_3649 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5840 : Index := Scalar.indexCast v2059
  let c237_3650 : Index := 237#32
  ![0, v5840.toNat, 237]
def k0_off1656 (i : grid0.Coords) : Fin 3 → Nat :=
  let c0_3651 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5842 : Index := Scalar.indexCast v2059
  let c238_3652 : Index := 238#32
  ![0, v5842.toNat, 238]
def k0_off1657 (i : grid0.Coords) : Fin 3 → Nat :=
  let c0_3653 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5844 : Index := Scalar.indexCast v2059
  let c239_3654 : Index := 239#32
  ![0, v5844.toNat, 239]
def k0_off1658 (v5839 : BitVec 32) : Fin 3 → Nat :=
  let c0_3655 : Index := 0#32
  let v5846 : Index := Scalar.indexCast v5839
  let c0_3656 : Index := 0#32
  ![0, v5846.toNat, 0]

def k0_off1659 (i : grid0.Coords) : Fin 3 → Nat :=
  let c0_3657 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5849 : Index := Scalar.indexCast v2059
  let c236_3658 : Index := 236#32
  ![0, v5849.toNat, 236]
def k0_off1660 (v5841 : BitVec 32) : Fin 3 → Nat :=
  let c0_3661 : Index := 0#32
  let v5856 : Index := Scalar.indexCast v5841
  let c0_3662 : Index := 0#32
  ![0, v5856.toNat, 0]

def k0_off1661 (i : grid0.Coords) : Fin 3 → Nat :=
  let c0_3663 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5859 : Index := Scalar.indexCast v2059
  let c237_3664 : Index := 237#32
  ![0, v5859.toNat, 237]
def k0_off1662 (v5843 : BitVec 32) : Fin 3 → Nat :=
  let c0_3667 : Index := 0#32
  let v5866 : Index := Scalar.indexCast v5843
  let c0_3668 : Index := 0#32
  ![0, v5866.toNat, 0]

def k0_off1663 (i : grid0.Coords) : Fin 3 → Nat :=
  let c0_3669 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5869 : Index := Scalar.indexCast v2059
  let c238_3670 : Index := 238#32
  ![0, v5869.toNat, 238]
def k0_off1664 (v5845 : BitVec 32) : Fin 3 → Nat :=
  let c0_3673 : Index := 0#32
  let v5876 : Index := Scalar.indexCast v5845
  let c0_3674 : Index := 0#32
  ![0, v5876.toNat, 0]

def k0_chk752 (v5845 : BitVec 32) : Prop :=
  (∀ a, (k0_off1664 v5845) a + S1x1x1024.size a ≤ S1x2048x1024.size a)
theorem k0_off1664_inb : ∀ (v5845 : BitVec 32) (k0_hw752 : k0_chk752 v5845), ∀ a, (k0_off1664 v5845) a + S1x1x1024.size a ≤ S1x2048x1024.size a := fun v5845 k0_hw752 => k0_hw752

def k0_off1665 (i : grid0.Coords) : Fin 3 → Nat :=
  let c0_3675 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5879 : Index := Scalar.indexCast v2059
  let c239_3676 : Index := 239#32
  ![0, v5879.toNat, 239]
def k0_off1666 (v5839 : BitVec 32) : Fin 3 → Nat :=
  let c0_3679 : Index := 0#32
  let v5886 : Index := Scalar.indexCast v5839
  let c0_3680 : Index := 0#32
  ![0, v5886.toNat, 0]

def k0_chk749 (v5839 : BitVec 32) : Prop :=
  (∀ a, (k0_off1658 v5839) a + S1x1x1024.size a ≤ S1x2048x1024.size a) ∧
  (∀ a, (k0_off1666 v5839) a + S1x1x1024.size a ≤ S1x2048x1024.size a)
theorem k0_off1658_inb : ∀ (v5839 : BitVec 32) (k0_hw749 : k0_chk749 v5839), ∀ a, (k0_off1658 v5839) a + S1x1x1024.size a ≤ S1x2048x1024.size a := fun v5839 k0_hw749 => k0_hw749.1
theorem k0_off1666_inb : ∀ (v5839 : BitVec 32) (k0_hw749 : k0_chk749 v5839), ∀ a, (k0_off1666 v5839) a + S1x1x1024.size a ≤ S1x2048x1024.size a := fun v5839 k0_hw749 => k0_hw749.2

def k0_off1667 (v5841 : BitVec 32) : Fin 3 → Nat :=
  let c0_3681 : Index := 0#32
  let v5890 : Index := Scalar.indexCast v5841
  let c0_3682 : Index := 0#32
  ![0, v5890.toNat, 0]

def k0_chk750 (v5841 : BitVec 32) : Prop :=
  (∀ a, (k0_off1660 v5841) a + S1x1x1024.size a ≤ S1x2048x1024.size a) ∧
  (∀ a, (k0_off1667 v5841) a + S1x1x1024.size a ≤ S1x2048x1024.size a)
theorem k0_off1660_inb : ∀ (v5841 : BitVec 32) (k0_hw750 : k0_chk750 v5841), ∀ a, (k0_off1660 v5841) a + S1x1x1024.size a ≤ S1x2048x1024.size a := fun v5841 k0_hw750 => k0_hw750.1
theorem k0_off1667_inb : ∀ (v5841 : BitVec 32) (k0_hw750 : k0_chk750 v5841), ∀ a, (k0_off1667 v5841) a + S1x1x1024.size a ≤ S1x2048x1024.size a := fun v5841 k0_hw750 => k0_hw750.2

def k0_off1668 (v5843 : BitVec 32) : Fin 3 → Nat :=
  let c0_3683 : Index := 0#32
  let v5894 : Index := Scalar.indexCast v5843
  let c0_3684 : Index := 0#32
  ![0, v5894.toNat, 0]

def k0_chk751 (v5843 : BitVec 32) : Prop :=
  (∀ a, (k0_off1662 v5843) a + S1x1x1024.size a ≤ S1x2048x1024.size a) ∧
  (∀ a, (k0_off1668 v5843) a + S1x1x1024.size a ≤ S1x2048x1024.size a)
theorem k0_off1662_inb : ∀ (v5843 : BitVec 32) (k0_hw751 : k0_chk751 v5843), ∀ a, (k0_off1662 v5843) a + S1x1x1024.size a ≤ S1x2048x1024.size a := fun v5843 k0_hw751 => k0_hw751.1
theorem k0_off1668_inb : ∀ (v5843 : BitVec 32) (k0_hw751 : k0_chk751 v5843), ∀ a, (k0_off1668 v5843) a + S1x1x1024.size a ≤ S1x2048x1024.size a := fun v5843 k0_hw751 => k0_hw751.2

def k0_off1669 (i : grid0.Coords) : Fin 3 → Nat :=
  let c0_3687 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5902 : Index := Scalar.indexCast v2059
  let c240_3688 : Index := 240#32
  ![0, v5902.toNat, 240]
def k0_off1670 (i : grid0.Coords) : Fin 3 → Nat :=
  let c0_3689 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5904 : Index := Scalar.indexCast v2059
  let c241_3690 : Index := 241#32
  ![0, v5904.toNat, 241]
def k0_off1671 (i : grid0.Coords) : Fin 3 → Nat :=
  let c0_3691 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5906 : Index := Scalar.indexCast v2059
  let c242_3692 : Index := 242#32
  ![0, v5906.toNat, 242]
def k0_off1672 (i : grid0.Coords) : Fin 3 → Nat :=
  let c0_3693 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5908 : Index := Scalar.indexCast v2059
  let c243_3694 : Index := 243#32
  ![0, v5908.toNat, 243]
def k0_off1673 (v5903 : BitVec 32) : Fin 3 → Nat :=
  let c0_3695 : Index := 0#32
  let v5910 : Index := Scalar.indexCast v5903
  let c0_3696 : Index := 0#32
  ![0, v5910.toNat, 0]

def k0_off1674 (i : grid0.Coords) : Fin 3 → Nat :=
  let c0_3697 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5913 : Index := Scalar.indexCast v2059
  let c240_3698 : Index := 240#32
  ![0, v5913.toNat, 240]
def k0_off1675 (v5905 : BitVec 32) : Fin 3 → Nat :=
  let c0_3701 : Index := 0#32
  let v5920 : Index := Scalar.indexCast v5905
  let c0_3702 : Index := 0#32
  ![0, v5920.toNat, 0]

def k0_off1676 (i : grid0.Coords) : Fin 3 → Nat :=
  let c0_3703 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5923 : Index := Scalar.indexCast v2059
  let c241_3704 : Index := 241#32
  ![0, v5923.toNat, 241]
def k0_off1677 (v5907 : BitVec 32) : Fin 3 → Nat :=
  let c0_3707 : Index := 0#32
  let v5930 : Index := Scalar.indexCast v5907
  let c0_3708 : Index := 0#32
  ![0, v5930.toNat, 0]

def k0_off1678 (i : grid0.Coords) : Fin 3 → Nat :=
  let c0_3709 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5933 : Index := Scalar.indexCast v2059
  let c242_3710 : Index := 242#32
  ![0, v5933.toNat, 242]
def k0_off1679 (v5909 : BitVec 32) : Fin 3 → Nat :=
  let c0_3713 : Index := 0#32
  let v5940 : Index := Scalar.indexCast v5909
  let c0_3714 : Index := 0#32
  ![0, v5940.toNat, 0]

def k0_chk756 (v5909 : BitVec 32) : Prop :=
  (∀ a, (k0_off1679 v5909) a + S1x1x1024.size a ≤ S1x2048x1024.size a)
theorem k0_off1679_inb : ∀ (v5909 : BitVec 32) (k0_hw756 : k0_chk756 v5909), ∀ a, (k0_off1679 v5909) a + S1x1x1024.size a ≤ S1x2048x1024.size a := fun v5909 k0_hw756 => k0_hw756

def k0_off1680 (i : grid0.Coords) : Fin 3 → Nat :=
  let c0_3715 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5943 : Index := Scalar.indexCast v2059
  let c243_3716 : Index := 243#32
  ![0, v5943.toNat, 243]
def k0_off1681 (v5903 : BitVec 32) : Fin 3 → Nat :=
  let c0_3719 : Index := 0#32
  let v5950 : Index := Scalar.indexCast v5903
  let c0_3720 : Index := 0#32
  ![0, v5950.toNat, 0]

def k0_chk753 (v5903 : BitVec 32) : Prop :=
  (∀ a, (k0_off1673 v5903) a + S1x1x1024.size a ≤ S1x2048x1024.size a) ∧
  (∀ a, (k0_off1681 v5903) a + S1x1x1024.size a ≤ S1x2048x1024.size a)
theorem k0_off1673_inb : ∀ (v5903 : BitVec 32) (k0_hw753 : k0_chk753 v5903), ∀ a, (k0_off1673 v5903) a + S1x1x1024.size a ≤ S1x2048x1024.size a := fun v5903 k0_hw753 => k0_hw753.1
theorem k0_off1681_inb : ∀ (v5903 : BitVec 32) (k0_hw753 : k0_chk753 v5903), ∀ a, (k0_off1681 v5903) a + S1x1x1024.size a ≤ S1x2048x1024.size a := fun v5903 k0_hw753 => k0_hw753.2

def k0_off1682 (v5905 : BitVec 32) : Fin 3 → Nat :=
  let c0_3721 : Index := 0#32
  let v5954 : Index := Scalar.indexCast v5905
  let c0_3722 : Index := 0#32
  ![0, v5954.toNat, 0]

def k0_chk754 (v5905 : BitVec 32) : Prop :=
  (∀ a, (k0_off1675 v5905) a + S1x1x1024.size a ≤ S1x2048x1024.size a) ∧
  (∀ a, (k0_off1682 v5905) a + S1x1x1024.size a ≤ S1x2048x1024.size a)
theorem k0_off1675_inb : ∀ (v5905 : BitVec 32) (k0_hw754 : k0_chk754 v5905), ∀ a, (k0_off1675 v5905) a + S1x1x1024.size a ≤ S1x2048x1024.size a := fun v5905 k0_hw754 => k0_hw754.1
theorem k0_off1682_inb : ∀ (v5905 : BitVec 32) (k0_hw754 : k0_chk754 v5905), ∀ a, (k0_off1682 v5905) a + S1x1x1024.size a ≤ S1x2048x1024.size a := fun v5905 k0_hw754 => k0_hw754.2

def k0_off1683 (v5907 : BitVec 32) : Fin 3 → Nat :=
  let c0_3723 : Index := 0#32
  let v5958 : Index := Scalar.indexCast v5907
  let c0_3724 : Index := 0#32
  ![0, v5958.toNat, 0]

def k0_chk755 (v5907 : BitVec 32) : Prop :=
  (∀ a, (k0_off1677 v5907) a + S1x1x1024.size a ≤ S1x2048x1024.size a) ∧
  (∀ a, (k0_off1683 v5907) a + S1x1x1024.size a ≤ S1x2048x1024.size a)
theorem k0_off1677_inb : ∀ (v5907 : BitVec 32) (k0_hw755 : k0_chk755 v5907), ∀ a, (k0_off1677 v5907) a + S1x1x1024.size a ≤ S1x2048x1024.size a := fun v5907 k0_hw755 => k0_hw755.1
theorem k0_off1683_inb : ∀ (v5907 : BitVec 32) (k0_hw755 : k0_chk755 v5907), ∀ a, (k0_off1683 v5907) a + S1x1x1024.size a ≤ S1x2048x1024.size a := fun v5907 k0_hw755 => k0_hw755.2

def k0_off1684 (i : grid0.Coords) : Fin 3 → Nat :=
  let c0_3727 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5966 : Index := Scalar.indexCast v2059
  let c244_3728 : Index := 244#32
  ![0, v5966.toNat, 244]
def k0_off1685 (i : grid0.Coords) : Fin 3 → Nat :=
  let c0_3729 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5968 : Index := Scalar.indexCast v2059
  let c245_3730 : Index := 245#32
  ![0, v5968.toNat, 245]
def k0_off1686 (i : grid0.Coords) : Fin 3 → Nat :=
  let c0_3731 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5970 : Index := Scalar.indexCast v2059
  let c246_3732 : Index := 246#32
  ![0, v5970.toNat, 246]
def k0_off1687 (i : grid0.Coords) : Fin 3 → Nat :=
  let c0_3733 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5972 : Index := Scalar.indexCast v2059
  let c247_3734 : Index := 247#32
  ![0, v5972.toNat, 247]
def k0_off1688 (v5967 : BitVec 32) : Fin 3 → Nat :=
  let c0_3735 : Index := 0#32
  let v5974 : Index := Scalar.indexCast v5967
  let c0_3736 : Index := 0#32
  ![0, v5974.toNat, 0]

def k0_off1689 (i : grid0.Coords) : Fin 3 → Nat :=
  let c0_3737 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5977 : Index := Scalar.indexCast v2059
  let c244_3738 : Index := 244#32
  ![0, v5977.toNat, 244]
def k0_off1690 (v5969 : BitVec 32) : Fin 3 → Nat :=
  let c0_3741 : Index := 0#32
  let v5984 : Index := Scalar.indexCast v5969
  let c0_3742 : Index := 0#32
  ![0, v5984.toNat, 0]

def k0_off1691 (i : grid0.Coords) : Fin 3 → Nat :=
  let c0_3743 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5987 : Index := Scalar.indexCast v2059
  let c245_3744 : Index := 245#32
  ![0, v5987.toNat, 245]
def k0_off1692 (v5971 : BitVec 32) : Fin 3 → Nat :=
  let c0_3747 : Index := 0#32
  let v5994 : Index := Scalar.indexCast v5971
  let c0_3748 : Index := 0#32
  ![0, v5994.toNat, 0]

def k0_off1693 (i : grid0.Coords) : Fin 3 → Nat :=
  let c0_3749 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v5997 : Index := Scalar.indexCast v2059
  let c246_3750 : Index := 246#32
  ![0, v5997.toNat, 246]
def k0_off1694 (v5973 : BitVec 32) : Fin 3 → Nat :=
  let c0_3753 : Index := 0#32
  let v6004 : Index := Scalar.indexCast v5973
  let c0_3754 : Index := 0#32
  ![0, v6004.toNat, 0]

def k0_chk760 (v5973 : BitVec 32) : Prop :=
  (∀ a, (k0_off1694 v5973) a + S1x1x1024.size a ≤ S1x2048x1024.size a)
theorem k0_off1694_inb : ∀ (v5973 : BitVec 32) (k0_hw760 : k0_chk760 v5973), ∀ a, (k0_off1694 v5973) a + S1x1x1024.size a ≤ S1x2048x1024.size a := fun v5973 k0_hw760 => k0_hw760

def k0_off1695 (i : grid0.Coords) : Fin 3 → Nat :=
  let c0_3755 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6007 : Index := Scalar.indexCast v2059
  let c247_3756 : Index := 247#32
  ![0, v6007.toNat, 247]
def k0_off1696 (v5967 : BitVec 32) : Fin 3 → Nat :=
  let c0_3759 : Index := 0#32
  let v6014 : Index := Scalar.indexCast v5967
  let c0_3760 : Index := 0#32
  ![0, v6014.toNat, 0]

def k0_chk757 (v5967 : BitVec 32) : Prop :=
  (∀ a, (k0_off1688 v5967) a + S1x1x1024.size a ≤ S1x2048x1024.size a) ∧
  (∀ a, (k0_off1696 v5967) a + S1x1x1024.size a ≤ S1x2048x1024.size a)
theorem k0_off1688_inb : ∀ (v5967 : BitVec 32) (k0_hw757 : k0_chk757 v5967), ∀ a, (k0_off1688 v5967) a + S1x1x1024.size a ≤ S1x2048x1024.size a := fun v5967 k0_hw757 => k0_hw757.1
theorem k0_off1696_inb : ∀ (v5967 : BitVec 32) (k0_hw757 : k0_chk757 v5967), ∀ a, (k0_off1696 v5967) a + S1x1x1024.size a ≤ S1x2048x1024.size a := fun v5967 k0_hw757 => k0_hw757.2

def k0_off1697 (v5969 : BitVec 32) : Fin 3 → Nat :=
  let c0_3761 : Index := 0#32
  let v6018 : Index := Scalar.indexCast v5969
  let c0_3762 : Index := 0#32
  ![0, v6018.toNat, 0]

def k0_chk758 (v5969 : BitVec 32) : Prop :=
  (∀ a, (k0_off1690 v5969) a + S1x1x1024.size a ≤ S1x2048x1024.size a) ∧
  (∀ a, (k0_off1697 v5969) a + S1x1x1024.size a ≤ S1x2048x1024.size a)
theorem k0_off1690_inb : ∀ (v5969 : BitVec 32) (k0_hw758 : k0_chk758 v5969), ∀ a, (k0_off1690 v5969) a + S1x1x1024.size a ≤ S1x2048x1024.size a := fun v5969 k0_hw758 => k0_hw758.1
theorem k0_off1697_inb : ∀ (v5969 : BitVec 32) (k0_hw758 : k0_chk758 v5969), ∀ a, (k0_off1697 v5969) a + S1x1x1024.size a ≤ S1x2048x1024.size a := fun v5969 k0_hw758 => k0_hw758.2

def k0_off1698 (v5971 : BitVec 32) : Fin 3 → Nat :=
  let c0_3763 : Index := 0#32
  let v6022 : Index := Scalar.indexCast v5971
  let c0_3764 : Index := 0#32
  ![0, v6022.toNat, 0]

def k0_chk759 (v5971 : BitVec 32) : Prop :=
  (∀ a, (k0_off1692 v5971) a + S1x1x1024.size a ≤ S1x2048x1024.size a) ∧
  (∀ a, (k0_off1698 v5971) a + S1x1x1024.size a ≤ S1x2048x1024.size a)
theorem k0_off1692_inb : ∀ (v5971 : BitVec 32) (k0_hw759 : k0_chk759 v5971), ∀ a, (k0_off1692 v5971) a + S1x1x1024.size a ≤ S1x2048x1024.size a := fun v5971 k0_hw759 => k0_hw759.1
theorem k0_off1698_inb : ∀ (v5971 : BitVec 32) (k0_hw759 : k0_chk759 v5971), ∀ a, (k0_off1698 v5971) a + S1x1x1024.size a ≤ S1x2048x1024.size a := fun v5971 k0_hw759 => k0_hw759.2

def k0_off1699 (i : grid0.Coords) : Fin 3 → Nat :=
  let c0_3767 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6030 : Index := Scalar.indexCast v2059
  let c248_3768 : Index := 248#32
  ![0, v6030.toNat, 248]
def k0_off1700 (i : grid0.Coords) : Fin 3 → Nat :=
  let c0_3769 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6032 : Index := Scalar.indexCast v2059
  let c249_3770 : Index := 249#32
  ![0, v6032.toNat, 249]
def k0_off1701 (i : grid0.Coords) : Fin 3 → Nat :=
  let c0_3771 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6034 : Index := Scalar.indexCast v2059
  let c250_3772 : Index := 250#32
  ![0, v6034.toNat, 250]
def k0_off1702 (i : grid0.Coords) : Fin 3 → Nat :=
  let c0_3773 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6036 : Index := Scalar.indexCast v2059
  let c251_3774 : Index := 251#32
  ![0, v6036.toNat, 251]
def k0_off1703 (v6031 : BitVec 32) : Fin 3 → Nat :=
  let c0_3775 : Index := 0#32
  let v6038 : Index := Scalar.indexCast v6031
  let c0_3776 : Index := 0#32
  ![0, v6038.toNat, 0]

def k0_off1704 (i : grid0.Coords) : Fin 3 → Nat :=
  let c0_3777 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6041 : Index := Scalar.indexCast v2059
  let c248_3778 : Index := 248#32
  ![0, v6041.toNat, 248]
def k0_off1705 (v6033 : BitVec 32) : Fin 3 → Nat :=
  let c0_3781 : Index := 0#32
  let v6048 : Index := Scalar.indexCast v6033
  let c0_3782 : Index := 0#32
  ![0, v6048.toNat, 0]

def k0_off1706 (i : grid0.Coords) : Fin 3 → Nat :=
  let c0_3783 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6051 : Index := Scalar.indexCast v2059
  let c249_3784 : Index := 249#32
  ![0, v6051.toNat, 249]
def k0_off1707 (v6035 : BitVec 32) : Fin 3 → Nat :=
  let c0_3787 : Index := 0#32
  let v6058 : Index := Scalar.indexCast v6035
  let c0_3788 : Index := 0#32
  ![0, v6058.toNat, 0]

def k0_off1708 (i : grid0.Coords) : Fin 3 → Nat :=
  let c0_3789 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6061 : Index := Scalar.indexCast v2059
  let c250_3790 : Index := 250#32
  ![0, v6061.toNat, 250]
def k0_off1709 (v6037 : BitVec 32) : Fin 3 → Nat :=
  let c0_3793 : Index := 0#32
  let v6068 : Index := Scalar.indexCast v6037
  let c0_3794 : Index := 0#32
  ![0, v6068.toNat, 0]

def k0_chk764 (v6037 : BitVec 32) : Prop :=
  (∀ a, (k0_off1709 v6037) a + S1x1x1024.size a ≤ S1x2048x1024.size a)
theorem k0_off1709_inb : ∀ (v6037 : BitVec 32) (k0_hw764 : k0_chk764 v6037), ∀ a, (k0_off1709 v6037) a + S1x1x1024.size a ≤ S1x2048x1024.size a := fun v6037 k0_hw764 => k0_hw764

def k0_off1710 (i : grid0.Coords) : Fin 3 → Nat :=
  let c0_3795 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6071 : Index := Scalar.indexCast v2059
  let c251_3796 : Index := 251#32
  ![0, v6071.toNat, 251]
def k0_off1711 (v6031 : BitVec 32) : Fin 3 → Nat :=
  let c0_3799 : Index := 0#32
  let v6078 : Index := Scalar.indexCast v6031
  let c0_3800 : Index := 0#32
  ![0, v6078.toNat, 0]

def k0_chk761 (v6031 : BitVec 32) : Prop :=
  (∀ a, (k0_off1703 v6031) a + S1x1x1024.size a ≤ S1x2048x1024.size a) ∧
  (∀ a, (k0_off1711 v6031) a + S1x1x1024.size a ≤ S1x2048x1024.size a)
theorem k0_off1703_inb : ∀ (v6031 : BitVec 32) (k0_hw761 : k0_chk761 v6031), ∀ a, (k0_off1703 v6031) a + S1x1x1024.size a ≤ S1x2048x1024.size a := fun v6031 k0_hw761 => k0_hw761.1
theorem k0_off1711_inb : ∀ (v6031 : BitVec 32) (k0_hw761 : k0_chk761 v6031), ∀ a, (k0_off1711 v6031) a + S1x1x1024.size a ≤ S1x2048x1024.size a := fun v6031 k0_hw761 => k0_hw761.2

def k0_off1712 (v6033 : BitVec 32) : Fin 3 → Nat :=
  let c0_3801 : Index := 0#32
  let v6082 : Index := Scalar.indexCast v6033
  let c0_3802 : Index := 0#32
  ![0, v6082.toNat, 0]

def k0_chk762 (v6033 : BitVec 32) : Prop :=
  (∀ a, (k0_off1705 v6033) a + S1x1x1024.size a ≤ S1x2048x1024.size a) ∧
  (∀ a, (k0_off1712 v6033) a + S1x1x1024.size a ≤ S1x2048x1024.size a)
theorem k0_off1705_inb : ∀ (v6033 : BitVec 32) (k0_hw762 : k0_chk762 v6033), ∀ a, (k0_off1705 v6033) a + S1x1x1024.size a ≤ S1x2048x1024.size a := fun v6033 k0_hw762 => k0_hw762.1
theorem k0_off1712_inb : ∀ (v6033 : BitVec 32) (k0_hw762 : k0_chk762 v6033), ∀ a, (k0_off1712 v6033) a + S1x1x1024.size a ≤ S1x2048x1024.size a := fun v6033 k0_hw762 => k0_hw762.2

def k0_off1713 (v6035 : BitVec 32) : Fin 3 → Nat :=
  let c0_3803 : Index := 0#32
  let v6086 : Index := Scalar.indexCast v6035
  let c0_3804 : Index := 0#32
  ![0, v6086.toNat, 0]

def k0_chk763 (v6035 : BitVec 32) : Prop :=
  (∀ a, (k0_off1707 v6035) a + S1x1x1024.size a ≤ S1x2048x1024.size a) ∧
  (∀ a, (k0_off1713 v6035) a + S1x1x1024.size a ≤ S1x2048x1024.size a)
theorem k0_off1707_inb : ∀ (v6035 : BitVec 32) (k0_hw763 : k0_chk763 v6035), ∀ a, (k0_off1707 v6035) a + S1x1x1024.size a ≤ S1x2048x1024.size a := fun v6035 k0_hw763 => k0_hw763.1
theorem k0_off1713_inb : ∀ (v6035 : BitVec 32) (k0_hw763 : k0_chk763 v6035), ∀ a, (k0_off1713 v6035) a + S1x1x1024.size a ≤ S1x2048x1024.size a := fun v6035 k0_hw763 => k0_hw763.2

def k0_off1714 (i : grid0.Coords) : Fin 3 → Nat :=
  let c0_3807 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6094 : Index := Scalar.indexCast v2059
  let c252_3808 : Index := 252#32
  ![0, v6094.toNat, 252]
def k0_off1715 (i : grid0.Coords) : Fin 3 → Nat :=
  let c0_3809 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6096 : Index := Scalar.indexCast v2059
  let c253_3810 : Index := 253#32
  ![0, v6096.toNat, 253]
def k0_off1716 (i : grid0.Coords) : Fin 3 → Nat :=
  let c0_3811 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6098 : Index := Scalar.indexCast v2059
  let c254_3812 : Index := 254#32
  ![0, v6098.toNat, 254]
def k0_off1717 (i : grid0.Coords) : Fin 3 → Nat :=
  let c0_3813 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6100 : Index := Scalar.indexCast v2059
  let c255_3814 : Index := 255#32
  ![0, v6100.toNat, 255]
def k0_off1718 (v6095 : BitVec 32) : Fin 3 → Nat :=
  let c0_3815 : Index := 0#32
  let v6102 : Index := Scalar.indexCast v6095
  let c0_3816 : Index := 0#32
  ![0, v6102.toNat, 0]

def k0_off1719 (i : grid0.Coords) : Fin 3 → Nat :=
  let c0_3817 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6105 : Index := Scalar.indexCast v2059
  let c252_3818 : Index := 252#32
  ![0, v6105.toNat, 252]
def k0_off1720 (v6097 : BitVec 32) : Fin 3 → Nat :=
  let c0_3821 : Index := 0#32
  let v6112 : Index := Scalar.indexCast v6097
  let c0_3822 : Index := 0#32
  ![0, v6112.toNat, 0]

def k0_off1721 (i : grid0.Coords) : Fin 3 → Nat :=
  let c0_3823 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6115 : Index := Scalar.indexCast v2059
  let c253_3824 : Index := 253#32
  ![0, v6115.toNat, 253]
def k0_off1722 (v6099 : BitVec 32) : Fin 3 → Nat :=
  let c0_3827 : Index := 0#32
  let v6122 : Index := Scalar.indexCast v6099
  let c0_3828 : Index := 0#32
  ![0, v6122.toNat, 0]

def k0_off1723 (i : grid0.Coords) : Fin 3 → Nat :=
  let c0_3829 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6125 : Index := Scalar.indexCast v2059
  let c254_3830 : Index := 254#32
  ![0, v6125.toNat, 254]
def k0_off1724 (v6101 : BitVec 32) : Fin 3 → Nat :=
  let c0_3833 : Index := 0#32
  let v6132 : Index := Scalar.indexCast v6101
  let c0_3834 : Index := 0#32
  ![0, v6132.toNat, 0]

def k0_chk768 (v6101 : BitVec 32) : Prop :=
  (∀ a, (k0_off1724 v6101) a + S1x1x1024.size a ≤ S1x2048x1024.size a)
theorem k0_off1724_inb : ∀ (v6101 : BitVec 32) (k0_hw768 : k0_chk768 v6101), ∀ a, (k0_off1724 v6101) a + S1x1x1024.size a ≤ S1x2048x1024.size a := fun v6101 k0_hw768 => k0_hw768

def k0_off1725 (i : grid0.Coords) : Fin 3 → Nat :=
  let c0_3835 : Index := 0#32
  let arg1 : BitVec 32 := BitVec.ofNat 32 (i 1).val
  let c1_i32_1283 : BitVec 32 := 1#32
  let v2058 : BitVec 32 := Scalar.subi arg1 c1_i32_1283
  let c0_i32_1284 : BitVec 32 := 0#32
  let v2059 : BitVec 32 := Scalar.maxsi v2058 c0_i32_1284
  let v6135 : Index := Scalar.indexCast v2059
  let c255_3836 : Index := 255#32
  ![0, v6135.toNat, 255]
def k0_off1726 (v6095 : BitVec 32) : Fin 3 → Nat :=
  let c0_3839 : Index := 0#32
  let v6142 : Index := Scalar.indexCast v6095
  let c0_3840 : Index := 0#32
  ![0, v6142.toNat, 0]

def k0_chk765 (v6095 : BitVec 32) : Prop :=
  (∀ a, (k0_off1718 v6095) a + S1x1x1024.size a ≤ S1x2048x1024.size a) ∧
  (∀ a, (k0_off1726 v6095) a + S1x1x1024.size a ≤ S1x2048x1024.size a)
theorem k0_off1718_inb : ∀ (v6095 : BitVec 32) (k0_hw765 : k0_chk765 v6095), ∀ a, (k0_off1718 v6095) a + S1x1x1024.size a ≤ S1x2048x1024.size a := fun v6095 k0_hw765 => k0_hw765.1
theorem k0_off1726_inb : ∀ (v6095 : BitVec 32) (k0_hw765 : k0_chk765 v6095), ∀ a, (k0_off1726 v6095) a + S1x1x1024.size a ≤ S1x2048x1024.size a := fun v6095 k0_hw765 => k0_hw765.2

def k0_off1727 (v6097 : BitVec 32) : Fin 3 → Nat :=
  let c0_3841 : Index := 0#32
  let v6146 : Index := Scalar.indexCast v6097
  let c0_3842 : Index := 0#32
  ![0, v6146.toNat, 0]

def k0_chk766 (v6097 : BitVec 32) : Prop :=
  (∀ a, (k0_off1720 v6097) a + S1x1x1024.size a ≤ S1x2048x1024.size a) ∧
  (∀ a, (k0_off1727 v6097) a + S1x1x1024.size a ≤ S1x2048x1024.size a)
theorem k0_off1720_inb : ∀ (v6097 : BitVec 32) (k0_hw766 : k0_chk766 v6097), ∀ a, (k0_off1720 v6097) a + S1x1x1024.size a ≤ S1x2048x1024.size a := fun v6097 k0_hw766 => k0_hw766.1
theorem k0_off1727_inb : ∀ (v6097 : BitVec 32) (k0_hw766 : k0_chk766 v6097), ∀ a, (k0_off1727 v6097) a + S1x1x1024.size a ≤ S1x2048x1024.size a := fun v6097 k0_hw766 => k0_hw766.2

def k0_off1728 (v6099 : BitVec 32) : Fin 3 → Nat :=
  let c0_3843 : Index := 0#32
  let v6150 : Index := Scalar.indexCast v6099
  let c0_3844 : Index := 0#32
  ![0, v6150.toNat, 0]

def k0_chk767 (v6099 : BitVec 32) : Prop :=
  (∀ a, (k0_off1722 v6099) a + S1x1x1024.size a ≤ S1x2048x1024.size a) ∧
  (∀ a, (k0_off1728 v6099) a + S1x1x1024.size a ≤ S1x2048x1024.size a)
theorem k0_off1722_inb : ∀ (v6099 : BitVec 32) (k0_hw767 : k0_chk767 v6099), ∀ a, (k0_off1722 v6099) a + S1x1x1024.size a ≤ S1x2048x1024.size a := fun v6099 k0_hw767 => k0_hw767.1
theorem k0_off1728_inb : ∀ (v6099 : BitVec 32) (k0_hw767 : k0_chk767 v6099), ∀ a, (k0_off1728 v6099) a + S1x1x1024.size a ≤ S1x2048x1024.size a := fun v6099 k0_hw767 => k0_hw767.2

def k0_cond2 (i : grid0.Coords) : BitVec 1 :=
  let arg1 : BitVec 32 := BitVec.ofNat 32 (i 1).val
  let c15_i32_3864 : BitVec 32 := 15#32
  let v6178 : BitVec 1 := Scalar.cmpi .eq arg1 c15_i32_3864
  let v6179 : BitVec 32 := Scalar.extui v6178
  let c0_i32_3865 : BitVec 32 := 0#32
  let v6180 : BitVec 1 := Scalar.cmpi .ne v6179 c0_i32_3865
  v6180

def k0_off1729 (v6181 : BitVec 32) : Fin 3 → Nat :=
  let c0_3878 : Index := 0#32
  let v6185 : Index := Scalar.indexCast v6181
  let c0_3879 : Index := 0#32
  ![0, v6185.toNat, 0]

def k0_off1730 (v6182 : BitVec 32) : Fin 3 → Nat :=
  let c0_3886 : Index := 0#32
  let v6194 : Index := Scalar.indexCast v6182
  let c0_3887 : Index := 0#32
  ![0, v6194.toNat, 0]

def k0_off1731 (v6183 : BitVec 32) : Fin 3 → Nat :=
  let c0_3894 : Index := 0#32
  let v6203 : Index := Scalar.indexCast v6183
  let c0_3895 : Index := 0#32
  ![0, v6203.toNat, 0]

def k0_off1732 (v6184 : BitVec 32) : Fin 3 → Nat :=
  let c0_3902 : Index := 0#32
  let v6212 : Index := Scalar.indexCast v6184
  let c0_3903 : Index := 0#32
  ![0, v6212.toNat, 0]

def k0_chk772 (i : grid0.Coords) (v6184 : BitVec 32) : Prop :=
  (∀ (k0_h2 : k0_cond2 i = 1#1), ∀ a, (k0_off1732 v6184) a + S1x1x1024.size a ≤ S1x2048x1024.size a)
theorem k0_off1732_inb : ∀ (i : grid0.Coords) (v6184 : BitVec 32) (k0_hw772 : k0_chk772 i v6184), ∀ (k0_h2 : k0_cond2 i = 1#1), ∀ a, (k0_off1732 v6184) a + S1x1x1024.size a ≤ S1x2048x1024.size a := fun i v6184 k0_hw772 k0_h2 => k0_hw772 k0_h2

def k0_off1733 (v6181 : BitVec 32) : Fin 3 → Nat :=
  let c0_3910 : Index := 0#32
  let v6221 : Index := Scalar.indexCast v6181
  let c0_3911 : Index := 0#32
  ![0, v6221.toNat, 0]

def k0_chk769 (i : grid0.Coords) (v6181 : BitVec 32) : Prop :=
  (∀ (k0_h2 : k0_cond2 i = 1#1), ∀ a, (k0_off1729 v6181) a + S1x1x1024.size a ≤ S1x2048x1024.size a) ∧
  (∀ (k0_h2 : k0_cond2 i = 1#1), ∀ a, (k0_off1733 v6181) a + S1x1x1024.size a ≤ S1x2048x1024.size a)
theorem k0_off1729_inb : ∀ (i : grid0.Coords) (v6181 : BitVec 32) (k0_hw769 : k0_chk769 i v6181), ∀ (k0_h2 : k0_cond2 i = 1#1), ∀ a, (k0_off1729 v6181) a + S1x1x1024.size a ≤ S1x2048x1024.size a := fun i v6181 k0_hw769 k0_h2 => k0_hw769.1 k0_h2
theorem k0_off1733_inb : ∀ (i : grid0.Coords) (v6181 : BitVec 32) (k0_hw769 : k0_chk769 i v6181), ∀ (k0_h2 : k0_cond2 i = 1#1), ∀ a, (k0_off1733 v6181) a + S1x1x1024.size a ≤ S1x2048x1024.size a := fun i v6181 k0_hw769 k0_h2 => k0_hw769.2 k0_h2

def k0_off1734 (v6182 : BitVec 32) : Fin 3 → Nat :=
  let c0_3912 : Index := 0#32
  let v6225 : Index := Scalar.indexCast v6182
  let c0_3913 : Index := 0#32
  ![0, v6225.toNat, 0]

def k0_chk770 (i : grid0.Coords) (v6182 : BitVec 32) : Prop :=
  (∀ (k0_h2 : k0_cond2 i = 1#1), ∀ a, (k0_off1730 v6182) a + S1x1x1024.size a ≤ S1x2048x1024.size a) ∧
  (∀ (k0_h2 : k0_cond2 i = 1#1), ∀ a, (k0_off1734 v6182) a + S1x1x1024.size a ≤ S1x2048x1024.size a)
theorem k0_off1730_inb : ∀ (i : grid0.Coords) (v6182 : BitVec 32) (k0_hw770 : k0_chk770 i v6182), ∀ (k0_h2 : k0_cond2 i = 1#1), ∀ a, (k0_off1730 v6182) a + S1x1x1024.size a ≤ S1x2048x1024.size a := fun i v6182 k0_hw770 k0_h2 => k0_hw770.1 k0_h2
theorem k0_off1734_inb : ∀ (i : grid0.Coords) (v6182 : BitVec 32) (k0_hw770 : k0_chk770 i v6182), ∀ (k0_h2 : k0_cond2 i = 1#1), ∀ a, (k0_off1734 v6182) a + S1x1x1024.size a ≤ S1x2048x1024.size a := fun i v6182 k0_hw770 k0_h2 => k0_hw770.2 k0_h2

def k0_off1735 (v6183 : BitVec 32) : Fin 3 → Nat :=
  let c0_3914 : Index := 0#32
  let v6229 : Index := Scalar.indexCast v6183
  let c0_3915 : Index := 0#32
  ![0, v6229.toNat, 0]

def k0_chk771 (i : grid0.Coords) (v6183 : BitVec 32) : Prop :=
  (∀ (k0_h2 : k0_cond2 i = 1#1), ∀ a, (k0_off1731 v6183) a + S1x1x1024.size a ≤ S1x2048x1024.size a) ∧
  (∀ (k0_h2 : k0_cond2 i = 1#1), ∀ a, (k0_off1735 v6183) a + S1x1x1024.size a ≤ S1x2048x1024.size a)
theorem k0_off1731_inb : ∀ (i : grid0.Coords) (v6183 : BitVec 32) (k0_hw771 : k0_chk771 i v6183), ∀ (k0_h2 : k0_cond2 i = 1#1), ∀ a, (k0_off1731 v6183) a + S1x1x1024.size a ≤ S1x2048x1024.size a := fun i v6183 k0_hw771 k0_h2 => k0_hw771.1 k0_h2
theorem k0_off1735_inb : ∀ (i : grid0.Coords) (v6183 : BitVec 32) (k0_hw771 : k0_chk771 i v6183), ∀ (k0_h2 : k0_cond2 i = 1#1), ∀ a, (k0_off1735 v6183) a + S1x1x1024.size a ≤ S1x2048x1024.size a := fun i v6183 k0_hw771 k0_h2 => k0_hw771.2 k0_h2

def k0_off1736 (v6237 : BitVec 32) : Fin 3 → Nat :=
  let c0_3930 : Index := 0#32
  let v6241 : Index := Scalar.indexCast v6237
  let c0_3931 : Index := 0#32
  ![0, v6241.toNat, 0]

def k0_off1737 (v6238 : BitVec 32) : Fin 3 → Nat :=
  let c0_3938 : Index := 0#32
  let v6250 : Index := Scalar.indexCast v6238
  let c0_3939 : Index := 0#32
  ![0, v6250.toNat, 0]

def k0_off1738 (v6239 : BitVec 32) : Fin 3 → Nat :=
  let c0_3946 : Index := 0#32
  let v6259 : Index := Scalar.indexCast v6239
  let c0_3947 : Index := 0#32
  ![0, v6259.toNat, 0]

def k0_off1739 (v6240 : BitVec 32) : Fin 3 → Nat :=
  let c0_3954 : Index := 0#32
  let v6268 : Index := Scalar.indexCast v6240
  let c0_3955 : Index := 0#32
  ![0, v6268.toNat, 0]

def k0_chk776 (i : grid0.Coords) (v6240 : BitVec 32) : Prop :=
  (∀ (k0_h2 : k0_cond2 i = 1#1), ∀ a, (k0_off1739 v6240) a + S1x1x1024.size a ≤ S1x2048x1024.size a)
theorem k0_off1739_inb : ∀ (i : grid0.Coords) (v6240 : BitVec 32) (k0_hw776 : k0_chk776 i v6240), ∀ (k0_h2 : k0_cond2 i = 1#1), ∀ a, (k0_off1739 v6240) a + S1x1x1024.size a ≤ S1x2048x1024.size a := fun i v6240 k0_hw776 k0_h2 => k0_hw776 k0_h2

def k0_off1740 (v6237 : BitVec 32) : Fin 3 → Nat :=
  let c0_3962 : Index := 0#32
  let v6277 : Index := Scalar.indexCast v6237
  let c0_3963 : Index := 0#32
  ![0, v6277.toNat, 0]

def k0_chk773 (i : grid0.Coords) (v6237 : BitVec 32) : Prop :=
  (∀ (k0_h2 : k0_cond2 i = 1#1), ∀ a, (k0_off1736 v6237) a + S1x1x1024.size a ≤ S1x2048x1024.size a) ∧
  (∀ (k0_h2 : k0_cond2 i = 1#1), ∀ a, (k0_off1740 v6237) a + S1x1x1024.size a ≤ S1x2048x1024.size a)
theorem k0_off1736_inb : ∀ (i : grid0.Coords) (v6237 : BitVec 32) (k0_hw773 : k0_chk773 i v6237), ∀ (k0_h2 : k0_cond2 i = 1#1), ∀ a, (k0_off1736 v6237) a + S1x1x1024.size a ≤ S1x2048x1024.size a := fun i v6237 k0_hw773 k0_h2 => k0_hw773.1 k0_h2
theorem k0_off1740_inb : ∀ (i : grid0.Coords) (v6237 : BitVec 32) (k0_hw773 : k0_chk773 i v6237), ∀ (k0_h2 : k0_cond2 i = 1#1), ∀ a, (k0_off1740 v6237) a + S1x1x1024.size a ≤ S1x2048x1024.size a := fun i v6237 k0_hw773 k0_h2 => k0_hw773.2 k0_h2

def k0_off1741 (v6238 : BitVec 32) : Fin 3 → Nat :=
  let c0_3964 : Index := 0#32
  let v6281 : Index := Scalar.indexCast v6238
  let c0_3965 : Index := 0#32
  ![0, v6281.toNat, 0]

def k0_chk774 (i : grid0.Coords) (v6238 : BitVec 32) : Prop :=
  (∀ (k0_h2 : k0_cond2 i = 1#1), ∀ a, (k0_off1737 v6238) a + S1x1x1024.size a ≤ S1x2048x1024.size a) ∧
  (∀ (k0_h2 : k0_cond2 i = 1#1), ∀ a, (k0_off1741 v6238) a + S1x1x1024.size a ≤ S1x2048x1024.size a)
theorem k0_off1737_inb : ∀ (i : grid0.Coords) (v6238 : BitVec 32) (k0_hw774 : k0_chk774 i v6238), ∀ (k0_h2 : k0_cond2 i = 1#1), ∀ a, (k0_off1737 v6238) a + S1x1x1024.size a ≤ S1x2048x1024.size a := fun i v6238 k0_hw774 k0_h2 => k0_hw774.1 k0_h2
theorem k0_off1741_inb : ∀ (i : grid0.Coords) (v6238 : BitVec 32) (k0_hw774 : k0_chk774 i v6238), ∀ (k0_h2 : k0_cond2 i = 1#1), ∀ a, (k0_off1741 v6238) a + S1x1x1024.size a ≤ S1x2048x1024.size a := fun i v6238 k0_hw774 k0_h2 => k0_hw774.2 k0_h2

def k0_off1742 (v6239 : BitVec 32) : Fin 3 → Nat :=
  let c0_3966 : Index := 0#32
  let v6285 : Index := Scalar.indexCast v6239
  let c0_3967 : Index := 0#32
  ![0, v6285.toNat, 0]

def k0_chk775 (i : grid0.Coords) (v6239 : BitVec 32) : Prop :=
  (∀ (k0_h2 : k0_cond2 i = 1#1), ∀ a, (k0_off1738 v6239) a + S1x1x1024.size a ≤ S1x2048x1024.size a) ∧
  (∀ (k0_h2 : k0_cond2 i = 1#1), ∀ a, (k0_off1742 v6239) a + S1x1x1024.size a ≤ S1x2048x1024.size a)
theorem k0_off1738_inb : ∀ (i : grid0.Coords) (v6239 : BitVec 32) (k0_hw775 : k0_chk775 i v6239), ∀ (k0_h2 : k0_cond2 i = 1#1), ∀ a, (k0_off1738 v6239) a + S1x1x1024.size a ≤ S1x2048x1024.size a := fun i v6239 k0_hw775 k0_h2 => k0_hw775.1 k0_h2
theorem k0_off1742_inb : ∀ (i : grid0.Coords) (v6239 : BitVec 32) (k0_hw775 : k0_chk775 i v6239), ∀ (k0_h2 : k0_cond2 i = 1#1), ∀ a, (k0_off1742 v6239) a + S1x1x1024.size a ≤ S1x2048x1024.size a := fun i v6239 k0_hw775 k0_h2 => k0_hw775.2 k0_h2

def k0_off1743 (v6293 : BitVec 32) : Fin 3 → Nat :=
  let c0_3982 : Index := 0#32
  let v6297 : Index := Scalar.indexCast v6293
  let c0_3983 : Index := 0#32
  ![0, v6297.toNat, 0]

def k0_off1744 (v6294 : BitVec 32) : Fin 3 → Nat :=
  let c0_3990 : Index := 0#32
  let v6306 : Index := Scalar.indexCast v6294
  let c0_3991 : Index := 0#32
  ![0, v6306.toNat, 0]

def k0_off1745 (v6295 : BitVec 32) : Fin 3 → Nat :=
  let c0_3998 : Index := 0#32
  let v6315 : Index := Scalar.indexCast v6295
  let c0_3999 : Index := 0#32
  ![0, v6315.toNat, 0]

def k0_off1746 (v6296 : BitVec 32) : Fin 3 → Nat :=
  let c0_4006 : Index := 0#32
  let v6324 : Index := Scalar.indexCast v6296
  let c0_4007 : Index := 0#32
  ![0, v6324.toNat, 0]

def k0_chk780 (i : grid0.Coords) (v6296 : BitVec 32) : Prop :=
  (∀ (k0_h2 : k0_cond2 i = 1#1), ∀ a, (k0_off1746 v6296) a + S1x1x1024.size a ≤ S1x2048x1024.size a)
theorem k0_off1746_inb : ∀ (i : grid0.Coords) (v6296 : BitVec 32) (k0_hw780 : k0_chk780 i v6296), ∀ (k0_h2 : k0_cond2 i = 1#1), ∀ a, (k0_off1746 v6296) a + S1x1x1024.size a ≤ S1x2048x1024.size a := fun i v6296 k0_hw780 k0_h2 => k0_hw780 k0_h2

def k0_off1747 (v6293 : BitVec 32) : Fin 3 → Nat :=
  let c0_4014 : Index := 0#32
  let v6333 : Index := Scalar.indexCast v6293
  let c0_4015 : Index := 0#32
  ![0, v6333.toNat, 0]

def k0_chk777 (i : grid0.Coords) (v6293 : BitVec 32) : Prop :=
  (∀ (k0_h2 : k0_cond2 i = 1#1), ∀ a, (k0_off1743 v6293) a + S1x1x1024.size a ≤ S1x2048x1024.size a) ∧
  (∀ (k0_h2 : k0_cond2 i = 1#1), ∀ a, (k0_off1747 v6293) a + S1x1x1024.size a ≤ S1x2048x1024.size a)
theorem k0_off1743_inb : ∀ (i : grid0.Coords) (v6293 : BitVec 32) (k0_hw777 : k0_chk777 i v6293), ∀ (k0_h2 : k0_cond2 i = 1#1), ∀ a, (k0_off1743 v6293) a + S1x1x1024.size a ≤ S1x2048x1024.size a := fun i v6293 k0_hw777 k0_h2 => k0_hw777.1 k0_h2
theorem k0_off1747_inb : ∀ (i : grid0.Coords) (v6293 : BitVec 32) (k0_hw777 : k0_chk777 i v6293), ∀ (k0_h2 : k0_cond2 i = 1#1), ∀ a, (k0_off1747 v6293) a + S1x1x1024.size a ≤ S1x2048x1024.size a := fun i v6293 k0_hw777 k0_h2 => k0_hw777.2 k0_h2

def k0_off1748 (v6294 : BitVec 32) : Fin 3 → Nat :=
  let c0_4016 : Index := 0#32
  let v6337 : Index := Scalar.indexCast v6294
  let c0_4017 : Index := 0#32
  ![0, v6337.toNat, 0]

def k0_chk778 (i : grid0.Coords) (v6294 : BitVec 32) : Prop :=
  (∀ (k0_h2 : k0_cond2 i = 1#1), ∀ a, (k0_off1744 v6294) a + S1x1x1024.size a ≤ S1x2048x1024.size a) ∧
  (∀ (k0_h2 : k0_cond2 i = 1#1), ∀ a, (k0_off1748 v6294) a + S1x1x1024.size a ≤ S1x2048x1024.size a)
theorem k0_off1744_inb : ∀ (i : grid0.Coords) (v6294 : BitVec 32) (k0_hw778 : k0_chk778 i v6294), ∀ (k0_h2 : k0_cond2 i = 1#1), ∀ a, (k0_off1744 v6294) a + S1x1x1024.size a ≤ S1x2048x1024.size a := fun i v6294 k0_hw778 k0_h2 => k0_hw778.1 k0_h2
theorem k0_off1748_inb : ∀ (i : grid0.Coords) (v6294 : BitVec 32) (k0_hw778 : k0_chk778 i v6294), ∀ (k0_h2 : k0_cond2 i = 1#1), ∀ a, (k0_off1748 v6294) a + S1x1x1024.size a ≤ S1x2048x1024.size a := fun i v6294 k0_hw778 k0_h2 => k0_hw778.2 k0_h2

def k0_off1749 (v6295 : BitVec 32) : Fin 3 → Nat :=
  let c0_4018 : Index := 0#32
  let v6341 : Index := Scalar.indexCast v6295
  let c0_4019 : Index := 0#32
  ![0, v6341.toNat, 0]

def k0_chk779 (i : grid0.Coords) (v6295 : BitVec 32) : Prop :=
  (∀ (k0_h2 : k0_cond2 i = 1#1), ∀ a, (k0_off1745 v6295) a + S1x1x1024.size a ≤ S1x2048x1024.size a) ∧
  (∀ (k0_h2 : k0_cond2 i = 1#1), ∀ a, (k0_off1749 v6295) a + S1x1x1024.size a ≤ S1x2048x1024.size a)
theorem k0_off1745_inb : ∀ (i : grid0.Coords) (v6295 : BitVec 32) (k0_hw779 : k0_chk779 i v6295), ∀ (k0_h2 : k0_cond2 i = 1#1), ∀ a, (k0_off1745 v6295) a + S1x1x1024.size a ≤ S1x2048x1024.size a := fun i v6295 k0_hw779 k0_h2 => k0_hw779.1 k0_h2
theorem k0_off1749_inb : ∀ (i : grid0.Coords) (v6295 : BitVec 32) (k0_hw779 : k0_chk779 i v6295), ∀ (k0_h2 : k0_cond2 i = 1#1), ∀ a, (k0_off1749 v6295) a + S1x1x1024.size a ≤ S1x2048x1024.size a := fun i v6295 k0_hw779 k0_h2 => k0_hw779.2 k0_h2

def k0_off1750 (v6349 : BitVec 32) : Fin 3 → Nat :=
  let c0_4034 : Index := 0#32
  let v6353 : Index := Scalar.indexCast v6349
  let c0_4035 : Index := 0#32
  ![0, v6353.toNat, 0]

def k0_off1751 (v6350 : BitVec 32) : Fin 3 → Nat :=
  let c0_4042 : Index := 0#32
  let v6362 : Index := Scalar.indexCast v6350
  let c0_4043 : Index := 0#32
  ![0, v6362.toNat, 0]

def k0_off1752 (v6351 : BitVec 32) : Fin 3 → Nat :=
  let c0_4050 : Index := 0#32
  let v6371 : Index := Scalar.indexCast v6351
  let c0_4051 : Index := 0#32
  ![0, v6371.toNat, 0]

def k0_off1753 (v6352 : BitVec 32) : Fin 3 → Nat :=
  let c0_4058 : Index := 0#32
  let v6380 : Index := Scalar.indexCast v6352
  let c0_4059 : Index := 0#32
  ![0, v6380.toNat, 0]

def k0_chk784 (i : grid0.Coords) (v6352 : BitVec 32) : Prop :=
  (∀ (k0_h2 : k0_cond2 i = 1#1), ∀ a, (k0_off1753 v6352) a + S1x1x1024.size a ≤ S1x2048x1024.size a)
theorem k0_off1753_inb : ∀ (i : grid0.Coords) (v6352 : BitVec 32) (k0_hw784 : k0_chk784 i v6352), ∀ (k0_h2 : k0_cond2 i = 1#1), ∀ a, (k0_off1753 v6352) a + S1x1x1024.size a ≤ S1x2048x1024.size a := fun i v6352 k0_hw784 k0_h2 => k0_hw784 k0_h2

def k0_off1754 (v6349 : BitVec 32) : Fin 3 → Nat :=
  let c0_4066 : Index := 0#32
  let v6389 : Index := Scalar.indexCast v6349
  let c0_4067 : Index := 0#32
  ![0, v6389.toNat, 0]

def k0_chk781 (i : grid0.Coords) (v6349 : BitVec 32) : Prop :=
  (∀ (k0_h2 : k0_cond2 i = 1#1), ∀ a, (k0_off1750 v6349) a + S1x1x1024.size a ≤ S1x2048x1024.size a) ∧
  (∀ (k0_h2 : k0_cond2 i = 1#1), ∀ a, (k0_off1754 v6349) a + S1x1x1024.size a ≤ S1x2048x1024.size a)
theorem k0_off1750_inb : ∀ (i : grid0.Coords) (v6349 : BitVec 32) (k0_hw781 : k0_chk781 i v6349), ∀ (k0_h2 : k0_cond2 i = 1#1), ∀ a, (k0_off1750 v6349) a + S1x1x1024.size a ≤ S1x2048x1024.size a := fun i v6349 k0_hw781 k0_h2 => k0_hw781.1 k0_h2
theorem k0_off1754_inb : ∀ (i : grid0.Coords) (v6349 : BitVec 32) (k0_hw781 : k0_chk781 i v6349), ∀ (k0_h2 : k0_cond2 i = 1#1), ∀ a, (k0_off1754 v6349) a + S1x1x1024.size a ≤ S1x2048x1024.size a := fun i v6349 k0_hw781 k0_h2 => k0_hw781.2 k0_h2

def k0_off1755 (v6350 : BitVec 32) : Fin 3 → Nat :=
  let c0_4068 : Index := 0#32
  let v6393 : Index := Scalar.indexCast v6350
  let c0_4069 : Index := 0#32
  ![0, v6393.toNat, 0]

def k0_chk782 (i : grid0.Coords) (v6350 : BitVec 32) : Prop :=
  (∀ (k0_h2 : k0_cond2 i = 1#1), ∀ a, (k0_off1751 v6350) a + S1x1x1024.size a ≤ S1x2048x1024.size a) ∧
  (∀ (k0_h2 : k0_cond2 i = 1#1), ∀ a, (k0_off1755 v6350) a + S1x1x1024.size a ≤ S1x2048x1024.size a)
theorem k0_off1751_inb : ∀ (i : grid0.Coords) (v6350 : BitVec 32) (k0_hw782 : k0_chk782 i v6350), ∀ (k0_h2 : k0_cond2 i = 1#1), ∀ a, (k0_off1751 v6350) a + S1x1x1024.size a ≤ S1x2048x1024.size a := fun i v6350 k0_hw782 k0_h2 => k0_hw782.1 k0_h2
theorem k0_off1755_inb : ∀ (i : grid0.Coords) (v6350 : BitVec 32) (k0_hw782 : k0_chk782 i v6350), ∀ (k0_h2 : k0_cond2 i = 1#1), ∀ a, (k0_off1755 v6350) a + S1x1x1024.size a ≤ S1x2048x1024.size a := fun i v6350 k0_hw782 k0_h2 => k0_hw782.2 k0_h2

def k0_off1756 (v6351 : BitVec 32) : Fin 3 → Nat :=
  let c0_4070 : Index := 0#32
  let v6397 : Index := Scalar.indexCast v6351
  let c0_4071 : Index := 0#32
  ![0, v6397.toNat, 0]

def k0_chk783 (i : grid0.Coords) (v6351 : BitVec 32) : Prop :=
  (∀ (k0_h2 : k0_cond2 i = 1#1), ∀ a, (k0_off1752 v6351) a + S1x1x1024.size a ≤ S1x2048x1024.size a) ∧
  (∀ (k0_h2 : k0_cond2 i = 1#1), ∀ a, (k0_off1756 v6351) a + S1x1x1024.size a ≤ S1x2048x1024.size a)
theorem k0_off1752_inb : ∀ (i : grid0.Coords) (v6351 : BitVec 32) (k0_hw783 : k0_chk783 i v6351), ∀ (k0_h2 : k0_cond2 i = 1#1), ∀ a, (k0_off1752 v6351) a + S1x1x1024.size a ≤ S1x2048x1024.size a := fun i v6351 k0_hw783 k0_h2 => k0_hw783.1 k0_h2
theorem k0_off1756_inb : ∀ (i : grid0.Coords) (v6351 : BitVec 32) (k0_hw783 : k0_chk783 i v6351), ∀ (k0_h2 : k0_cond2 i = 1#1), ∀ a, (k0_off1756 v6351) a + S1x1x1024.size a ≤ S1x2048x1024.size a := fun i v6351 k0_hw783 k0_h2 => k0_hw783.2 k0_h2

def k0_off1757 (v6405 : BitVec 32) : Fin 3 → Nat :=
  let c0_4086 : Index := 0#32
  let v6409 : Index := Scalar.indexCast v6405
  let c0_4087 : Index := 0#32
  ![0, v6409.toNat, 0]

def k0_off1758 (v6406 : BitVec 32) : Fin 3 → Nat :=
  let c0_4094 : Index := 0#32
  let v6418 : Index := Scalar.indexCast v6406
  let c0_4095 : Index := 0#32
  ![0, v6418.toNat, 0]

def k0_off1759 (v6407 : BitVec 32) : Fin 3 → Nat :=
  let c0_4102 : Index := 0#32
  let v6427 : Index := Scalar.indexCast v6407
  let c0_4103 : Index := 0#32
  ![0, v6427.toNat, 0]

def k0_off1760 (v6408 : BitVec 32) : Fin 3 → Nat :=
  let c0_4110 : Index := 0#32
  let v6436 : Index := Scalar.indexCast v6408
  let c0_4111 : Index := 0#32
  ![0, v6436.toNat, 0]

def k0_chk788 (i : grid0.Coords) (v6408 : BitVec 32) : Prop :=
  (∀ (k0_h2 : k0_cond2 i = 1#1), ∀ a, (k0_off1760 v6408) a + S1x1x1024.size a ≤ S1x2048x1024.size a)
theorem k0_off1760_inb : ∀ (i : grid0.Coords) (v6408 : BitVec 32) (k0_hw788 : k0_chk788 i v6408), ∀ (k0_h2 : k0_cond2 i = 1#1), ∀ a, (k0_off1760 v6408) a + S1x1x1024.size a ≤ S1x2048x1024.size a := fun i v6408 k0_hw788 k0_h2 => k0_hw788 k0_h2

def k0_off1761 (v6405 : BitVec 32) : Fin 3 → Nat :=
  let c0_4118 : Index := 0#32
  let v6445 : Index := Scalar.indexCast v6405
  let c0_4119 : Index := 0#32
  ![0, v6445.toNat, 0]

def k0_chk785 (i : grid0.Coords) (v6405 : BitVec 32) : Prop :=
  (∀ (k0_h2 : k0_cond2 i = 1#1), ∀ a, (k0_off1757 v6405) a + S1x1x1024.size a ≤ S1x2048x1024.size a) ∧
  (∀ (k0_h2 : k0_cond2 i = 1#1), ∀ a, (k0_off1761 v6405) a + S1x1x1024.size a ≤ S1x2048x1024.size a)
theorem k0_off1757_inb : ∀ (i : grid0.Coords) (v6405 : BitVec 32) (k0_hw785 : k0_chk785 i v6405), ∀ (k0_h2 : k0_cond2 i = 1#1), ∀ a, (k0_off1757 v6405) a + S1x1x1024.size a ≤ S1x2048x1024.size a := fun i v6405 k0_hw785 k0_h2 => k0_hw785.1 k0_h2
theorem k0_off1761_inb : ∀ (i : grid0.Coords) (v6405 : BitVec 32) (k0_hw785 : k0_chk785 i v6405), ∀ (k0_h2 : k0_cond2 i = 1#1), ∀ a, (k0_off1761 v6405) a + S1x1x1024.size a ≤ S1x2048x1024.size a := fun i v6405 k0_hw785 k0_h2 => k0_hw785.2 k0_h2

def k0_off1762 (v6406 : BitVec 32) : Fin 3 → Nat :=
  let c0_4120 : Index := 0#32
  let v6449 : Index := Scalar.indexCast v6406
  let c0_4121 : Index := 0#32
  ![0, v6449.toNat, 0]

def k0_chk786 (i : grid0.Coords) (v6406 : BitVec 32) : Prop :=
  (∀ (k0_h2 : k0_cond2 i = 1#1), ∀ a, (k0_off1758 v6406) a + S1x1x1024.size a ≤ S1x2048x1024.size a) ∧
  (∀ (k0_h2 : k0_cond2 i = 1#1), ∀ a, (k0_off1762 v6406) a + S1x1x1024.size a ≤ S1x2048x1024.size a)
theorem k0_off1758_inb : ∀ (i : grid0.Coords) (v6406 : BitVec 32) (k0_hw786 : k0_chk786 i v6406), ∀ (k0_h2 : k0_cond2 i = 1#1), ∀ a, (k0_off1758 v6406) a + S1x1x1024.size a ≤ S1x2048x1024.size a := fun i v6406 k0_hw786 k0_h2 => k0_hw786.1 k0_h2
theorem k0_off1762_inb : ∀ (i : grid0.Coords) (v6406 : BitVec 32) (k0_hw786 : k0_chk786 i v6406), ∀ (k0_h2 : k0_cond2 i = 1#1), ∀ a, (k0_off1762 v6406) a + S1x1x1024.size a ≤ S1x2048x1024.size a := fun i v6406 k0_hw786 k0_h2 => k0_hw786.2 k0_h2

def k0_off1763 (v6407 : BitVec 32) : Fin 3 → Nat :=
  let c0_4122 : Index := 0#32
  let v6453 : Index := Scalar.indexCast v6407
  let c0_4123 : Index := 0#32
  ![0, v6453.toNat, 0]

def k0_chk787 (i : grid0.Coords) (v6407 : BitVec 32) : Prop :=
  (∀ (k0_h2 : k0_cond2 i = 1#1), ∀ a, (k0_off1759 v6407) a + S1x1x1024.size a ≤ S1x2048x1024.size a) ∧
  (∀ (k0_h2 : k0_cond2 i = 1#1), ∀ a, (k0_off1763 v6407) a + S1x1x1024.size a ≤ S1x2048x1024.size a)
theorem k0_off1759_inb : ∀ (i : grid0.Coords) (v6407 : BitVec 32) (k0_hw787 : k0_chk787 i v6407), ∀ (k0_h2 : k0_cond2 i = 1#1), ∀ a, (k0_off1759 v6407) a + S1x1x1024.size a ≤ S1x2048x1024.size a := fun i v6407 k0_hw787 k0_h2 => k0_hw787.1 k0_h2
theorem k0_off1763_inb : ∀ (i : grid0.Coords) (v6407 : BitVec 32) (k0_hw787 : k0_chk787 i v6407), ∀ (k0_h2 : k0_cond2 i = 1#1), ∀ a, (k0_off1763 v6407) a + S1x1x1024.size a ≤ S1x2048x1024.size a := fun i v6407 k0_hw787 k0_h2 => k0_hw787.2 k0_h2

def k0_off1764 (v6461 : BitVec 32) : Fin 3 → Nat :=
  let c0_4138 : Index := 0#32
  let v6465 : Index := Scalar.indexCast v6461
  let c0_4139 : Index := 0#32
  ![0, v6465.toNat, 0]

def k0_off1765 (v6462 : BitVec 32) : Fin 3 → Nat :=
  let c0_4146 : Index := 0#32
  let v6474 : Index := Scalar.indexCast v6462
  let c0_4147 : Index := 0#32
  ![0, v6474.toNat, 0]

def k0_off1766 (v6463 : BitVec 32) : Fin 3 → Nat :=
  let c0_4154 : Index := 0#32
  let v6483 : Index := Scalar.indexCast v6463
  let c0_4155 : Index := 0#32
  ![0, v6483.toNat, 0]

def k0_off1767 (v6464 : BitVec 32) : Fin 3 → Nat :=
  let c0_4162 : Index := 0#32
  let v6492 : Index := Scalar.indexCast v6464
  let c0_4163 : Index := 0#32
  ![0, v6492.toNat, 0]

def k0_chk792 (i : grid0.Coords) (v6464 : BitVec 32) : Prop :=
  (∀ (k0_h2 : k0_cond2 i = 1#1), ∀ a, (k0_off1767 v6464) a + S1x1x1024.size a ≤ S1x2048x1024.size a)
theorem k0_off1767_inb : ∀ (i : grid0.Coords) (v6464 : BitVec 32) (k0_hw792 : k0_chk792 i v6464), ∀ (k0_h2 : k0_cond2 i = 1#1), ∀ a, (k0_off1767 v6464) a + S1x1x1024.size a ≤ S1x2048x1024.size a := fun i v6464 k0_hw792 k0_h2 => k0_hw792 k0_h2

def k0_off1768 (v6461 : BitVec 32) : Fin 3 → Nat :=
  let c0_4170 : Index := 0#32
  let v6501 : Index := Scalar.indexCast v6461
  let c0_4171 : Index := 0#32
  ![0, v6501.toNat, 0]

def k0_chk789 (i : grid0.Coords) (v6461 : BitVec 32) : Prop :=
  (∀ (k0_h2 : k0_cond2 i = 1#1), ∀ a, (k0_off1764 v6461) a + S1x1x1024.size a ≤ S1x2048x1024.size a) ∧
  (∀ (k0_h2 : k0_cond2 i = 1#1), ∀ a, (k0_off1768 v6461) a + S1x1x1024.size a ≤ S1x2048x1024.size a)
theorem k0_off1764_inb : ∀ (i : grid0.Coords) (v6461 : BitVec 32) (k0_hw789 : k0_chk789 i v6461), ∀ (k0_h2 : k0_cond2 i = 1#1), ∀ a, (k0_off1764 v6461) a + S1x1x1024.size a ≤ S1x2048x1024.size a := fun i v6461 k0_hw789 k0_h2 => k0_hw789.1 k0_h2
theorem k0_off1768_inb : ∀ (i : grid0.Coords) (v6461 : BitVec 32) (k0_hw789 : k0_chk789 i v6461), ∀ (k0_h2 : k0_cond2 i = 1#1), ∀ a, (k0_off1768 v6461) a + S1x1x1024.size a ≤ S1x2048x1024.size a := fun i v6461 k0_hw789 k0_h2 => k0_hw789.2 k0_h2

def k0_off1769 (v6462 : BitVec 32) : Fin 3 → Nat :=
  let c0_4172 : Index := 0#32
  let v6505 : Index := Scalar.indexCast v6462
  let c0_4173 : Index := 0#32
  ![0, v6505.toNat, 0]

def k0_chk790 (i : grid0.Coords) (v6462 : BitVec 32) : Prop :=
  (∀ (k0_h2 : k0_cond2 i = 1#1), ∀ a, (k0_off1765 v6462) a + S1x1x1024.size a ≤ S1x2048x1024.size a) ∧
  (∀ (k0_h2 : k0_cond2 i = 1#1), ∀ a, (k0_off1769 v6462) a + S1x1x1024.size a ≤ S1x2048x1024.size a)
theorem k0_off1765_inb : ∀ (i : grid0.Coords) (v6462 : BitVec 32) (k0_hw790 : k0_chk790 i v6462), ∀ (k0_h2 : k0_cond2 i = 1#1), ∀ a, (k0_off1765 v6462) a + S1x1x1024.size a ≤ S1x2048x1024.size a := fun i v6462 k0_hw790 k0_h2 => k0_hw790.1 k0_h2
theorem k0_off1769_inb : ∀ (i : grid0.Coords) (v6462 : BitVec 32) (k0_hw790 : k0_chk790 i v6462), ∀ (k0_h2 : k0_cond2 i = 1#1), ∀ a, (k0_off1769 v6462) a + S1x1x1024.size a ≤ S1x2048x1024.size a := fun i v6462 k0_hw790 k0_h2 => k0_hw790.2 k0_h2

def k0_off1770 (v6463 : BitVec 32) : Fin 3 → Nat :=
  let c0_4174 : Index := 0#32
  let v6509 : Index := Scalar.indexCast v6463
  let c0_4175 : Index := 0#32
  ![0, v6509.toNat, 0]

def k0_chk791 (i : grid0.Coords) (v6463 : BitVec 32) : Prop :=
  (∀ (k0_h2 : k0_cond2 i = 1#1), ∀ a, (k0_off1766 v6463) a + S1x1x1024.size a ≤ S1x2048x1024.size a) ∧
  (∀ (k0_h2 : k0_cond2 i = 1#1), ∀ a, (k0_off1770 v6463) a + S1x1x1024.size a ≤ S1x2048x1024.size a)
theorem k0_off1766_inb : ∀ (i : grid0.Coords) (v6463 : BitVec 32) (k0_hw791 : k0_chk791 i v6463), ∀ (k0_h2 : k0_cond2 i = 1#1), ∀ a, (k0_off1766 v6463) a + S1x1x1024.size a ≤ S1x2048x1024.size a := fun i v6463 k0_hw791 k0_h2 => k0_hw791.1 k0_h2
theorem k0_off1770_inb : ∀ (i : grid0.Coords) (v6463 : BitVec 32) (k0_hw791 : k0_chk791 i v6463), ∀ (k0_h2 : k0_cond2 i = 1#1), ∀ a, (k0_off1770 v6463) a + S1x1x1024.size a ≤ S1x2048x1024.size a := fun i v6463 k0_hw791 k0_h2 => k0_hw791.2 k0_h2

def k0_off1771 (v6517 : BitVec 32) : Fin 3 → Nat :=
  let c0_4190 : Index := 0#32
  let v6521 : Index := Scalar.indexCast v6517
  let c0_4191 : Index := 0#32
  ![0, v6521.toNat, 0]

def k0_off1772 (v6518 : BitVec 32) : Fin 3 → Nat :=
  let c0_4198 : Index := 0#32
  let v6530 : Index := Scalar.indexCast v6518
  let c0_4199 : Index := 0#32
  ![0, v6530.toNat, 0]

def k0_off1773 (v6519 : BitVec 32) : Fin 3 → Nat :=
  let c0_4206 : Index := 0#32
  let v6539 : Index := Scalar.indexCast v6519
  let c0_4207 : Index := 0#32
  ![0, v6539.toNat, 0]

def k0_off1774 (v6520 : BitVec 32) : Fin 3 → Nat :=
  let c0_4214 : Index := 0#32
  let v6548 : Index := Scalar.indexCast v6520
  let c0_4215 : Index := 0#32
  ![0, v6548.toNat, 0]

def k0_chk796 (i : grid0.Coords) (v6520 : BitVec 32) : Prop :=
  (∀ (k0_h2 : k0_cond2 i = 1#1), ∀ a, (k0_off1774 v6520) a + S1x1x1024.size a ≤ S1x2048x1024.size a)
theorem k0_off1774_inb : ∀ (i : grid0.Coords) (v6520 : BitVec 32) (k0_hw796 : k0_chk796 i v6520), ∀ (k0_h2 : k0_cond2 i = 1#1), ∀ a, (k0_off1774 v6520) a + S1x1x1024.size a ≤ S1x2048x1024.size a := fun i v6520 k0_hw796 k0_h2 => k0_hw796 k0_h2

def k0_off1775 (v6517 : BitVec 32) : Fin 3 → Nat :=
  let c0_4222 : Index := 0#32
  let v6557 : Index := Scalar.indexCast v6517
  let c0_4223 : Index := 0#32
  ![0, v6557.toNat, 0]

def k0_chk793 (i : grid0.Coords) (v6517 : BitVec 32) : Prop :=
  (∀ (k0_h2 : k0_cond2 i = 1#1), ∀ a, (k0_off1771 v6517) a + S1x1x1024.size a ≤ S1x2048x1024.size a) ∧
  (∀ (k0_h2 : k0_cond2 i = 1#1), ∀ a, (k0_off1775 v6517) a + S1x1x1024.size a ≤ S1x2048x1024.size a)
theorem k0_off1771_inb : ∀ (i : grid0.Coords) (v6517 : BitVec 32) (k0_hw793 : k0_chk793 i v6517), ∀ (k0_h2 : k0_cond2 i = 1#1), ∀ a, (k0_off1771 v6517) a + S1x1x1024.size a ≤ S1x2048x1024.size a := fun i v6517 k0_hw793 k0_h2 => k0_hw793.1 k0_h2
theorem k0_off1775_inb : ∀ (i : grid0.Coords) (v6517 : BitVec 32) (k0_hw793 : k0_chk793 i v6517), ∀ (k0_h2 : k0_cond2 i = 1#1), ∀ a, (k0_off1775 v6517) a + S1x1x1024.size a ≤ S1x2048x1024.size a := fun i v6517 k0_hw793 k0_h2 => k0_hw793.2 k0_h2

def k0_off1776 (v6518 : BitVec 32) : Fin 3 → Nat :=
  let c0_4224 : Index := 0#32
  let v6561 : Index := Scalar.indexCast v6518
  let c0_4225 : Index := 0#32
  ![0, v6561.toNat, 0]

def k0_chk794 (i : grid0.Coords) (v6518 : BitVec 32) : Prop :=
  (∀ (k0_h2 : k0_cond2 i = 1#1), ∀ a, (k0_off1772 v6518) a + S1x1x1024.size a ≤ S1x2048x1024.size a) ∧
  (∀ (k0_h2 : k0_cond2 i = 1#1), ∀ a, (k0_off1776 v6518) a + S1x1x1024.size a ≤ S1x2048x1024.size a)
theorem k0_off1772_inb : ∀ (i : grid0.Coords) (v6518 : BitVec 32) (k0_hw794 : k0_chk794 i v6518), ∀ (k0_h2 : k0_cond2 i = 1#1), ∀ a, (k0_off1772 v6518) a + S1x1x1024.size a ≤ S1x2048x1024.size a := fun i v6518 k0_hw794 k0_h2 => k0_hw794.1 k0_h2
theorem k0_off1776_inb : ∀ (i : grid0.Coords) (v6518 : BitVec 32) (k0_hw794 : k0_chk794 i v6518), ∀ (k0_h2 : k0_cond2 i = 1#1), ∀ a, (k0_off1776 v6518) a + S1x1x1024.size a ≤ S1x2048x1024.size a := fun i v6518 k0_hw794 k0_h2 => k0_hw794.2 k0_h2

def k0_off1777 (v6519 : BitVec 32) : Fin 3 → Nat :=
  let c0_4226 : Index := 0#32
  let v6565 : Index := Scalar.indexCast v6519
  let c0_4227 : Index := 0#32
  ![0, v6565.toNat, 0]

def k0_chk795 (i : grid0.Coords) (v6519 : BitVec 32) : Prop :=
  (∀ (k0_h2 : k0_cond2 i = 1#1), ∀ a, (k0_off1773 v6519) a + S1x1x1024.size a ≤ S1x2048x1024.size a) ∧
  (∀ (k0_h2 : k0_cond2 i = 1#1), ∀ a, (k0_off1777 v6519) a + S1x1x1024.size a ≤ S1x2048x1024.size a)
theorem k0_off1773_inb : ∀ (i : grid0.Coords) (v6519 : BitVec 32) (k0_hw795 : k0_chk795 i v6519), ∀ (k0_h2 : k0_cond2 i = 1#1), ∀ a, (k0_off1773 v6519) a + S1x1x1024.size a ≤ S1x2048x1024.size a := fun i v6519 k0_hw795 k0_h2 => k0_hw795.1 k0_h2
theorem k0_off1777_inb : ∀ (i : grid0.Coords) (v6519 : BitVec 32) (k0_hw795 : k0_chk795 i v6519), ∀ (k0_h2 : k0_cond2 i = 1#1), ∀ a, (k0_off1777 v6519) a + S1x1x1024.size a ≤ S1x2048x1024.size a := fun i v6519 k0_hw795 k0_h2 => k0_hw795.2 k0_h2

def k0_off1778 (v6573 : BitVec 32) : Fin 3 → Nat :=
  let c0_4242 : Index := 0#32
  let v6577 : Index := Scalar.indexCast v6573
  let c0_4243 : Index := 0#32
  ![0, v6577.toNat, 0]

def k0_off1779 (v6574 : BitVec 32) : Fin 3 → Nat :=
  let c0_4250 : Index := 0#32
  let v6586 : Index := Scalar.indexCast v6574
  let c0_4251 : Index := 0#32
  ![0, v6586.toNat, 0]

def k0_off1780 (v6575 : BitVec 32) : Fin 3 → Nat :=
  let c0_4258 : Index := 0#32
  let v6595 : Index := Scalar.indexCast v6575
  let c0_4259 : Index := 0#32
  ![0, v6595.toNat, 0]

def k0_off1781 (v6576 : BitVec 32) : Fin 3 → Nat :=
  let c0_4266 : Index := 0#32
  let v6604 : Index := Scalar.indexCast v6576
  let c0_4267 : Index := 0#32
  ![0, v6604.toNat, 0]

def k0_chk800 (i : grid0.Coords) (v6576 : BitVec 32) : Prop :=
  (∀ (k0_h2 : k0_cond2 i = 1#1), ∀ a, (k0_off1781 v6576) a + S1x1x1024.size a ≤ S1x2048x1024.size a)
theorem k0_off1781_inb : ∀ (i : grid0.Coords) (v6576 : BitVec 32) (k0_hw800 : k0_chk800 i v6576), ∀ (k0_h2 : k0_cond2 i = 1#1), ∀ a, (k0_off1781 v6576) a + S1x1x1024.size a ≤ S1x2048x1024.size a := fun i v6576 k0_hw800 k0_h2 => k0_hw800 k0_h2

def k0_off1782 (v6573 : BitVec 32) : Fin 3 → Nat :=
  let c0_4274 : Index := 0#32
  let v6613 : Index := Scalar.indexCast v6573
  let c0_4275 : Index := 0#32
  ![0, v6613.toNat, 0]

def k0_chk797 (i : grid0.Coords) (v6573 : BitVec 32) : Prop :=
  (∀ (k0_h2 : k0_cond2 i = 1#1), ∀ a, (k0_off1778 v6573) a + S1x1x1024.size a ≤ S1x2048x1024.size a) ∧
  (∀ (k0_h2 : k0_cond2 i = 1#1), ∀ a, (k0_off1782 v6573) a + S1x1x1024.size a ≤ S1x2048x1024.size a)
theorem k0_off1778_inb : ∀ (i : grid0.Coords) (v6573 : BitVec 32) (k0_hw797 : k0_chk797 i v6573), ∀ (k0_h2 : k0_cond2 i = 1#1), ∀ a, (k0_off1778 v6573) a + S1x1x1024.size a ≤ S1x2048x1024.size a := fun i v6573 k0_hw797 k0_h2 => k0_hw797.1 k0_h2
theorem k0_off1782_inb : ∀ (i : grid0.Coords) (v6573 : BitVec 32) (k0_hw797 : k0_chk797 i v6573), ∀ (k0_h2 : k0_cond2 i = 1#1), ∀ a, (k0_off1782 v6573) a + S1x1x1024.size a ≤ S1x2048x1024.size a := fun i v6573 k0_hw797 k0_h2 => k0_hw797.2 k0_h2

def k0_off1783 (v6574 : BitVec 32) : Fin 3 → Nat :=
  let c0_4276 : Index := 0#32
  let v6617 : Index := Scalar.indexCast v6574
  let c0_4277 : Index := 0#32
  ![0, v6617.toNat, 0]

def k0_chk798 (i : grid0.Coords) (v6574 : BitVec 32) : Prop :=
  (∀ (k0_h2 : k0_cond2 i = 1#1), ∀ a, (k0_off1779 v6574) a + S1x1x1024.size a ≤ S1x2048x1024.size a) ∧
  (∀ (k0_h2 : k0_cond2 i = 1#1), ∀ a, (k0_off1783 v6574) a + S1x1x1024.size a ≤ S1x2048x1024.size a)
theorem k0_off1779_inb : ∀ (i : grid0.Coords) (v6574 : BitVec 32) (k0_hw798 : k0_chk798 i v6574), ∀ (k0_h2 : k0_cond2 i = 1#1), ∀ a, (k0_off1779 v6574) a + S1x1x1024.size a ≤ S1x2048x1024.size a := fun i v6574 k0_hw798 k0_h2 => k0_hw798.1 k0_h2
theorem k0_off1783_inb : ∀ (i : grid0.Coords) (v6574 : BitVec 32) (k0_hw798 : k0_chk798 i v6574), ∀ (k0_h2 : k0_cond2 i = 1#1), ∀ a, (k0_off1783 v6574) a + S1x1x1024.size a ≤ S1x2048x1024.size a := fun i v6574 k0_hw798 k0_h2 => k0_hw798.2 k0_h2

def k0_off1784 (v6575 : BitVec 32) : Fin 3 → Nat :=
  let c0_4278 : Index := 0#32
  let v6621 : Index := Scalar.indexCast v6575
  let c0_4279 : Index := 0#32
  ![0, v6621.toNat, 0]

def k0_chk799 (i : grid0.Coords) (v6575 : BitVec 32) : Prop :=
  (∀ (k0_h2 : k0_cond2 i = 1#1), ∀ a, (k0_off1780 v6575) a + S1x1x1024.size a ≤ S1x2048x1024.size a) ∧
  (∀ (k0_h2 : k0_cond2 i = 1#1), ∀ a, (k0_off1784 v6575) a + S1x1x1024.size a ≤ S1x2048x1024.size a)
theorem k0_off1780_inb : ∀ (i : grid0.Coords) (v6575 : BitVec 32) (k0_hw799 : k0_chk799 i v6575), ∀ (k0_h2 : k0_cond2 i = 1#1), ∀ a, (k0_off1780 v6575) a + S1x1x1024.size a ≤ S1x2048x1024.size a := fun i v6575 k0_hw799 k0_h2 => k0_hw799.1 k0_h2
theorem k0_off1784_inb : ∀ (i : grid0.Coords) (v6575 : BitVec 32) (k0_hw799 : k0_chk799 i v6575), ∀ (k0_h2 : k0_cond2 i = 1#1), ∀ a, (k0_off1784 v6575) a + S1x1x1024.size a ≤ S1x2048x1024.size a := fun i v6575 k0_hw799 k0_h2 => k0_hw799.2 k0_h2

def k0_off1785 (v6629 : BitVec 32) : Fin 3 → Nat :=
  let c0_4294 : Index := 0#32
  let v6633 : Index := Scalar.indexCast v6629
  let c0_4295 : Index := 0#32
  ![0, v6633.toNat, 0]

def k0_off1786 (v6630 : BitVec 32) : Fin 3 → Nat :=
  let c0_4302 : Index := 0#32
  let v6642 : Index := Scalar.indexCast v6630
  let c0_4303 : Index := 0#32
  ![0, v6642.toNat, 0]

def k0_off1787 (v6631 : BitVec 32) : Fin 3 → Nat :=
  let c0_4310 : Index := 0#32
  let v6651 : Index := Scalar.indexCast v6631
  let c0_4311 : Index := 0#32
  ![0, v6651.toNat, 0]

def k0_off1788 (v6632 : BitVec 32) : Fin 3 → Nat :=
  let c0_4318 : Index := 0#32
  let v6660 : Index := Scalar.indexCast v6632
  let c0_4319 : Index := 0#32
  ![0, v6660.toNat, 0]

def k0_chk804 (i : grid0.Coords) (v6632 : BitVec 32) : Prop :=
  (∀ (k0_h2 : k0_cond2 i = 1#1), ∀ a, (k0_off1788 v6632) a + S1x1x1024.size a ≤ S1x2048x1024.size a)
theorem k0_off1788_inb : ∀ (i : grid0.Coords) (v6632 : BitVec 32) (k0_hw804 : k0_chk804 i v6632), ∀ (k0_h2 : k0_cond2 i = 1#1), ∀ a, (k0_off1788 v6632) a + S1x1x1024.size a ≤ S1x2048x1024.size a := fun i v6632 k0_hw804 k0_h2 => k0_hw804 k0_h2

def k0_off1789 (v6629 : BitVec 32) : Fin 3 → Nat :=
  let c0_4326 : Index := 0#32
  let v6669 : Index := Scalar.indexCast v6629
  let c0_4327 : Index := 0#32
  ![0, v6669.toNat, 0]

def k0_chk801 (i : grid0.Coords) (v6629 : BitVec 32) : Prop :=
  (∀ (k0_h2 : k0_cond2 i = 1#1), ∀ a, (k0_off1785 v6629) a + S1x1x1024.size a ≤ S1x2048x1024.size a) ∧
  (∀ (k0_h2 : k0_cond2 i = 1#1), ∀ a, (k0_off1789 v6629) a + S1x1x1024.size a ≤ S1x2048x1024.size a)
theorem k0_off1785_inb : ∀ (i : grid0.Coords) (v6629 : BitVec 32) (k0_hw801 : k0_chk801 i v6629), ∀ (k0_h2 : k0_cond2 i = 1#1), ∀ a, (k0_off1785 v6629) a + S1x1x1024.size a ≤ S1x2048x1024.size a := fun i v6629 k0_hw801 k0_h2 => k0_hw801.1 k0_h2
theorem k0_off1789_inb : ∀ (i : grid0.Coords) (v6629 : BitVec 32) (k0_hw801 : k0_chk801 i v6629), ∀ (k0_h2 : k0_cond2 i = 1#1), ∀ a, (k0_off1789 v6629) a + S1x1x1024.size a ≤ S1x2048x1024.size a := fun i v6629 k0_hw801 k0_h2 => k0_hw801.2 k0_h2

def k0_off1790 (v6630 : BitVec 32) : Fin 3 → Nat :=
  let c0_4328 : Index := 0#32
  let v6673 : Index := Scalar.indexCast v6630
  let c0_4329 : Index := 0#32
  ![0, v6673.toNat, 0]

def k0_chk802 (i : grid0.Coords) (v6630 : BitVec 32) : Prop :=
  (∀ (k0_h2 : k0_cond2 i = 1#1), ∀ a, (k0_off1786 v6630) a + S1x1x1024.size a ≤ S1x2048x1024.size a) ∧
  (∀ (k0_h2 : k0_cond2 i = 1#1), ∀ a, (k0_off1790 v6630) a + S1x1x1024.size a ≤ S1x2048x1024.size a)
theorem k0_off1786_inb : ∀ (i : grid0.Coords) (v6630 : BitVec 32) (k0_hw802 : k0_chk802 i v6630), ∀ (k0_h2 : k0_cond2 i = 1#1), ∀ a, (k0_off1786 v6630) a + S1x1x1024.size a ≤ S1x2048x1024.size a := fun i v6630 k0_hw802 k0_h2 => k0_hw802.1 k0_h2
theorem k0_off1790_inb : ∀ (i : grid0.Coords) (v6630 : BitVec 32) (k0_hw802 : k0_chk802 i v6630), ∀ (k0_h2 : k0_cond2 i = 1#1), ∀ a, (k0_off1790 v6630) a + S1x1x1024.size a ≤ S1x2048x1024.size a := fun i v6630 k0_hw802 k0_h2 => k0_hw802.2 k0_h2

def k0_off1791 (v6631 : BitVec 32) : Fin 3 → Nat :=
  let c0_4330 : Index := 0#32
  let v6677 : Index := Scalar.indexCast v6631
  let c0_4331 : Index := 0#32
  ![0, v6677.toNat, 0]

def k0_chk803 (i : grid0.Coords) (v6631 : BitVec 32) : Prop :=
  (∀ (k0_h2 : k0_cond2 i = 1#1), ∀ a, (k0_off1787 v6631) a + S1x1x1024.size a ≤ S1x2048x1024.size a) ∧
  (∀ (k0_h2 : k0_cond2 i = 1#1), ∀ a, (k0_off1791 v6631) a + S1x1x1024.size a ≤ S1x2048x1024.size a)
theorem k0_off1787_inb : ∀ (i : grid0.Coords) (v6631 : BitVec 32) (k0_hw803 : k0_chk803 i v6631), ∀ (k0_h2 : k0_cond2 i = 1#1), ∀ a, (k0_off1787 v6631) a + S1x1x1024.size a ≤ S1x2048x1024.size a := fun i v6631 k0_hw803 k0_h2 => k0_hw803.1 k0_h2
theorem k0_off1791_inb : ∀ (i : grid0.Coords) (v6631 : BitVec 32) (k0_hw803 : k0_chk803 i v6631), ∀ (k0_h2 : k0_cond2 i = 1#1), ∀ a, (k0_off1791 v6631) a + S1x1x1024.size a ≤ S1x2048x1024.size a := fun i v6631 k0_hw803 k0_h2 => k0_hw803.2 k0_h2

def k0_off1792 (v6685 : BitVec 32) : Fin 3 → Nat :=
  let c0_4346 : Index := 0#32
  let v6689 : Index := Scalar.indexCast v6685
  let c0_4347 : Index := 0#32
  ![0, v6689.toNat, 0]

def k0_off1793 (v6686 : BitVec 32) : Fin 3 → Nat :=
  let c0_4354 : Index := 0#32
  let v6698 : Index := Scalar.indexCast v6686
  let c0_4355 : Index := 0#32
  ![0, v6698.toNat, 0]

def k0_off1794 (v6687 : BitVec 32) : Fin 3 → Nat :=
  let c0_4362 : Index := 0#32
  let v6707 : Index := Scalar.indexCast v6687
  let c0_4363 : Index := 0#32
  ![0, v6707.toNat, 0]

def k0_off1795 (v6688 : BitVec 32) : Fin 3 → Nat :=
  let c0_4370 : Index := 0#32
  let v6716 : Index := Scalar.indexCast v6688
  let c0_4371 : Index := 0#32
  ![0, v6716.toNat, 0]

def k0_chk808 (i : grid0.Coords) (v6688 : BitVec 32) : Prop :=
  (∀ (k0_h2 : k0_cond2 i = 1#1), ∀ a, (k0_off1795 v6688) a + S1x1x1024.size a ≤ S1x2048x1024.size a)
theorem k0_off1795_inb : ∀ (i : grid0.Coords) (v6688 : BitVec 32) (k0_hw808 : k0_chk808 i v6688), ∀ (k0_h2 : k0_cond2 i = 1#1), ∀ a, (k0_off1795 v6688) a + S1x1x1024.size a ≤ S1x2048x1024.size a := fun i v6688 k0_hw808 k0_h2 => k0_hw808 k0_h2

def k0_off1796 (v6685 : BitVec 32) : Fin 3 → Nat :=
  let c0_4378 : Index := 0#32
  let v6725 : Index := Scalar.indexCast v6685
  let c0_4379 : Index := 0#32
  ![0, v6725.toNat, 0]

def k0_chk805 (i : grid0.Coords) (v6685 : BitVec 32) : Prop :=
  (∀ (k0_h2 : k0_cond2 i = 1#1), ∀ a, (k0_off1792 v6685) a + S1x1x1024.size a ≤ S1x2048x1024.size a) ∧
  (∀ (k0_h2 : k0_cond2 i = 1#1), ∀ a, (k0_off1796 v6685) a + S1x1x1024.size a ≤ S1x2048x1024.size a)
theorem k0_off1792_inb : ∀ (i : grid0.Coords) (v6685 : BitVec 32) (k0_hw805 : k0_chk805 i v6685), ∀ (k0_h2 : k0_cond2 i = 1#1), ∀ a, (k0_off1792 v6685) a + S1x1x1024.size a ≤ S1x2048x1024.size a := fun i v6685 k0_hw805 k0_h2 => k0_hw805.1 k0_h2
theorem k0_off1796_inb : ∀ (i : grid0.Coords) (v6685 : BitVec 32) (k0_hw805 : k0_chk805 i v6685), ∀ (k0_h2 : k0_cond2 i = 1#1), ∀ a, (k0_off1796 v6685) a + S1x1x1024.size a ≤ S1x2048x1024.size a := fun i v6685 k0_hw805 k0_h2 => k0_hw805.2 k0_h2

def k0_off1797 (v6686 : BitVec 32) : Fin 3 → Nat :=
  let c0_4380 : Index := 0#32
  let v6729 : Index := Scalar.indexCast v6686
  let c0_4381 : Index := 0#32
  ![0, v6729.toNat, 0]

def k0_chk806 (i : grid0.Coords) (v6686 : BitVec 32) : Prop :=
  (∀ (k0_h2 : k0_cond2 i = 1#1), ∀ a, (k0_off1793 v6686) a + S1x1x1024.size a ≤ S1x2048x1024.size a) ∧
  (∀ (k0_h2 : k0_cond2 i = 1#1), ∀ a, (k0_off1797 v6686) a + S1x1x1024.size a ≤ S1x2048x1024.size a)
theorem k0_off1793_inb : ∀ (i : grid0.Coords) (v6686 : BitVec 32) (k0_hw806 : k0_chk806 i v6686), ∀ (k0_h2 : k0_cond2 i = 1#1), ∀ a, (k0_off1793 v6686) a + S1x1x1024.size a ≤ S1x2048x1024.size a := fun i v6686 k0_hw806 k0_h2 => k0_hw806.1 k0_h2
theorem k0_off1797_inb : ∀ (i : grid0.Coords) (v6686 : BitVec 32) (k0_hw806 : k0_chk806 i v6686), ∀ (k0_h2 : k0_cond2 i = 1#1), ∀ a, (k0_off1797 v6686) a + S1x1x1024.size a ≤ S1x2048x1024.size a := fun i v6686 k0_hw806 k0_h2 => k0_hw806.2 k0_h2

def k0_off1798 (v6687 : BitVec 32) : Fin 3 → Nat :=
  let c0_4382 : Index := 0#32
  let v6733 : Index := Scalar.indexCast v6687
  let c0_4383 : Index := 0#32
  ![0, v6733.toNat, 0]

def k0_chk807 (i : grid0.Coords) (v6687 : BitVec 32) : Prop :=
  (∀ (k0_h2 : k0_cond2 i = 1#1), ∀ a, (k0_off1794 v6687) a + S1x1x1024.size a ≤ S1x2048x1024.size a) ∧
  (∀ (k0_h2 : k0_cond2 i = 1#1), ∀ a, (k0_off1798 v6687) a + S1x1x1024.size a ≤ S1x2048x1024.size a)
theorem k0_off1794_inb : ∀ (i : grid0.Coords) (v6687 : BitVec 32) (k0_hw807 : k0_chk807 i v6687), ∀ (k0_h2 : k0_cond2 i = 1#1), ∀ a, (k0_off1794 v6687) a + S1x1x1024.size a ≤ S1x2048x1024.size a := fun i v6687 k0_hw807 k0_h2 => k0_hw807.1 k0_h2
theorem k0_off1798_inb : ∀ (i : grid0.Coords) (v6687 : BitVec 32) (k0_hw807 : k0_chk807 i v6687), ∀ (k0_h2 : k0_cond2 i = 1#1), ∀ a, (k0_off1798 v6687) a + S1x1x1024.size a ≤ S1x2048x1024.size a := fun i v6687 k0_hw807 k0_h2 => k0_hw807.2 k0_h2

def k0_off1799 (v6741 : BitVec 32) : Fin 3 → Nat :=
  let c0_4398 : Index := 0#32
  let v6745 : Index := Scalar.indexCast v6741
  let c0_4399 : Index := 0#32
  ![0, v6745.toNat, 0]

def k0_off1800 (v6742 : BitVec 32) : Fin 3 → Nat :=
  let c0_4406 : Index := 0#32
  let v6754 : Index := Scalar.indexCast v6742
  let c0_4407 : Index := 0#32
  ![0, v6754.toNat, 0]

def k0_off1801 (v6743 : BitVec 32) : Fin 3 → Nat :=
  let c0_4414 : Index := 0#32
  let v6763 : Index := Scalar.indexCast v6743
  let c0_4415 : Index := 0#32
  ![0, v6763.toNat, 0]

def k0_off1802 (v6744 : BitVec 32) : Fin 3 → Nat :=
  let c0_4422 : Index := 0#32
  let v6772 : Index := Scalar.indexCast v6744
  let c0_4423 : Index := 0#32
  ![0, v6772.toNat, 0]

def k0_chk812 (i : grid0.Coords) (v6744 : BitVec 32) : Prop :=
  (∀ (k0_h2 : k0_cond2 i = 1#1), ∀ a, (k0_off1802 v6744) a + S1x1x1024.size a ≤ S1x2048x1024.size a)
theorem k0_off1802_inb : ∀ (i : grid0.Coords) (v6744 : BitVec 32) (k0_hw812 : k0_chk812 i v6744), ∀ (k0_h2 : k0_cond2 i = 1#1), ∀ a, (k0_off1802 v6744) a + S1x1x1024.size a ≤ S1x2048x1024.size a := fun i v6744 k0_hw812 k0_h2 => k0_hw812 k0_h2

def k0_off1803 (v6741 : BitVec 32) : Fin 3 → Nat :=
  let c0_4430 : Index := 0#32
  let v6781 : Index := Scalar.indexCast v6741
  let c0_4431 : Index := 0#32
  ![0, v6781.toNat, 0]

def k0_chk809 (i : grid0.Coords) (v6741 : BitVec 32) : Prop :=
  (∀ (k0_h2 : k0_cond2 i = 1#1), ∀ a, (k0_off1799 v6741) a + S1x1x1024.size a ≤ S1x2048x1024.size a) ∧
  (∀ (k0_h2 : k0_cond2 i = 1#1), ∀ a, (k0_off1803 v6741) a + S1x1x1024.size a ≤ S1x2048x1024.size a)
theorem k0_off1799_inb : ∀ (i : grid0.Coords) (v6741 : BitVec 32) (k0_hw809 : k0_chk809 i v6741), ∀ (k0_h2 : k0_cond2 i = 1#1), ∀ a, (k0_off1799 v6741) a + S1x1x1024.size a ≤ S1x2048x1024.size a := fun i v6741 k0_hw809 k0_h2 => k0_hw809.1 k0_h2
theorem k0_off1803_inb : ∀ (i : grid0.Coords) (v6741 : BitVec 32) (k0_hw809 : k0_chk809 i v6741), ∀ (k0_h2 : k0_cond2 i = 1#1), ∀ a, (k0_off1803 v6741) a + S1x1x1024.size a ≤ S1x2048x1024.size a := fun i v6741 k0_hw809 k0_h2 => k0_hw809.2 k0_h2

def k0_off1804 (v6742 : BitVec 32) : Fin 3 → Nat :=
  let c0_4432 : Index := 0#32
  let v6785 : Index := Scalar.indexCast v6742
  let c0_4433 : Index := 0#32
  ![0, v6785.toNat, 0]

def k0_chk810 (i : grid0.Coords) (v6742 : BitVec 32) : Prop :=
  (∀ (k0_h2 : k0_cond2 i = 1#1), ∀ a, (k0_off1800 v6742) a + S1x1x1024.size a ≤ S1x2048x1024.size a) ∧
  (∀ (k0_h2 : k0_cond2 i = 1#1), ∀ a, (k0_off1804 v6742) a + S1x1x1024.size a ≤ S1x2048x1024.size a)
theorem k0_off1800_inb : ∀ (i : grid0.Coords) (v6742 : BitVec 32) (k0_hw810 : k0_chk810 i v6742), ∀ (k0_h2 : k0_cond2 i = 1#1), ∀ a, (k0_off1800 v6742) a + S1x1x1024.size a ≤ S1x2048x1024.size a := fun i v6742 k0_hw810 k0_h2 => k0_hw810.1 k0_h2
theorem k0_off1804_inb : ∀ (i : grid0.Coords) (v6742 : BitVec 32) (k0_hw810 : k0_chk810 i v6742), ∀ (k0_h2 : k0_cond2 i = 1#1), ∀ a, (k0_off1804 v6742) a + S1x1x1024.size a ≤ S1x2048x1024.size a := fun i v6742 k0_hw810 k0_h2 => k0_hw810.2 k0_h2

def k0_off1805 (v6743 : BitVec 32) : Fin 3 → Nat :=
  let c0_4434 : Index := 0#32
  let v6789 : Index := Scalar.indexCast v6743
  let c0_4435 : Index := 0#32
  ![0, v6789.toNat, 0]

def k0_chk811 (i : grid0.Coords) (v6743 : BitVec 32) : Prop :=
  (∀ (k0_h2 : k0_cond2 i = 1#1), ∀ a, (k0_off1801 v6743) a + S1x1x1024.size a ≤ S1x2048x1024.size a) ∧
  (∀ (k0_h2 : k0_cond2 i = 1#1), ∀ a, (k0_off1805 v6743) a + S1x1x1024.size a ≤ S1x2048x1024.size a)
theorem k0_off1801_inb : ∀ (i : grid0.Coords) (v6743 : BitVec 32) (k0_hw811 : k0_chk811 i v6743), ∀ (k0_h2 : k0_cond2 i = 1#1), ∀ a, (k0_off1801 v6743) a + S1x1x1024.size a ≤ S1x2048x1024.size a := fun i v6743 k0_hw811 k0_h2 => k0_hw811.1 k0_h2
theorem k0_off1805_inb : ∀ (i : grid0.Coords) (v6743 : BitVec 32) (k0_hw811 : k0_chk811 i v6743), ∀ (k0_h2 : k0_cond2 i = 1#1), ∀ a, (k0_off1805 v6743) a + S1x1x1024.size a ≤ S1x2048x1024.size a := fun i v6743 k0_hw811 k0_h2 => k0_hw811.2 k0_h2

def k0_off1806 (v6797 : BitVec 32) : Fin 3 → Nat :=
  let c0_4450 : Index := 0#32
  let v6801 : Index := Scalar.indexCast v6797
  let c0_4451 : Index := 0#32
  ![0, v6801.toNat, 0]

def k0_off1807 (v6798 : BitVec 32) : Fin 3 → Nat :=
  let c0_4458 : Index := 0#32
  let v6810 : Index := Scalar.indexCast v6798
  let c0_4459 : Index := 0#32
  ![0, v6810.toNat, 0]

def k0_off1808 (v6799 : BitVec 32) : Fin 3 → Nat :=
  let c0_4466 : Index := 0#32
  let v6819 : Index := Scalar.indexCast v6799
  let c0_4467 : Index := 0#32
  ![0, v6819.toNat, 0]

def k0_off1809 (v6800 : BitVec 32) : Fin 3 → Nat :=
  let c0_4474 : Index := 0#32
  let v6828 : Index := Scalar.indexCast v6800
  let c0_4475 : Index := 0#32
  ![0, v6828.toNat, 0]

def k0_chk816 (i : grid0.Coords) (v6800 : BitVec 32) : Prop :=
  (∀ (k0_h2 : k0_cond2 i = 1#1), ∀ a, (k0_off1809 v6800) a + S1x1x1024.size a ≤ S1x2048x1024.size a)
theorem k0_off1809_inb : ∀ (i : grid0.Coords) (v6800 : BitVec 32) (k0_hw816 : k0_chk816 i v6800), ∀ (k0_h2 : k0_cond2 i = 1#1), ∀ a, (k0_off1809 v6800) a + S1x1x1024.size a ≤ S1x2048x1024.size a := fun i v6800 k0_hw816 k0_h2 => k0_hw816 k0_h2

def k0_off1810 (v6797 : BitVec 32) : Fin 3 → Nat :=
  let c0_4482 : Index := 0#32
  let v6837 : Index := Scalar.indexCast v6797
  let c0_4483 : Index := 0#32
  ![0, v6837.toNat, 0]

def k0_chk813 (i : grid0.Coords) (v6797 : BitVec 32) : Prop :=
  (∀ (k0_h2 : k0_cond2 i = 1#1), ∀ a, (k0_off1806 v6797) a + S1x1x1024.size a ≤ S1x2048x1024.size a) ∧
  (∀ (k0_h2 : k0_cond2 i = 1#1), ∀ a, (k0_off1810 v6797) a + S1x1x1024.size a ≤ S1x2048x1024.size a)
theorem k0_off1806_inb : ∀ (i : grid0.Coords) (v6797 : BitVec 32) (k0_hw813 : k0_chk813 i v6797), ∀ (k0_h2 : k0_cond2 i = 1#1), ∀ a, (k0_off1806 v6797) a + S1x1x1024.size a ≤ S1x2048x1024.size a := fun i v6797 k0_hw813 k0_h2 => k0_hw813.1 k0_h2
theorem k0_off1810_inb : ∀ (i : grid0.Coords) (v6797 : BitVec 32) (k0_hw813 : k0_chk813 i v6797), ∀ (k0_h2 : k0_cond2 i = 1#1), ∀ a, (k0_off1810 v6797) a + S1x1x1024.size a ≤ S1x2048x1024.size a := fun i v6797 k0_hw813 k0_h2 => k0_hw813.2 k0_h2

def k0_off1811 (v6798 : BitVec 32) : Fin 3 → Nat :=
  let c0_4484 : Index := 0#32
  let v6841 : Index := Scalar.indexCast v6798
  let c0_4485 : Index := 0#32
  ![0, v6841.toNat, 0]

def k0_chk814 (i : grid0.Coords) (v6798 : BitVec 32) : Prop :=
  (∀ (k0_h2 : k0_cond2 i = 1#1), ∀ a, (k0_off1807 v6798) a + S1x1x1024.size a ≤ S1x2048x1024.size a) ∧
  (∀ (k0_h2 : k0_cond2 i = 1#1), ∀ a, (k0_off1811 v6798) a + S1x1x1024.size a ≤ S1x2048x1024.size a)
theorem k0_off1807_inb : ∀ (i : grid0.Coords) (v6798 : BitVec 32) (k0_hw814 : k0_chk814 i v6798), ∀ (k0_h2 : k0_cond2 i = 1#1), ∀ a, (k0_off1807 v6798) a + S1x1x1024.size a ≤ S1x2048x1024.size a := fun i v6798 k0_hw814 k0_h2 => k0_hw814.1 k0_h2
theorem k0_off1811_inb : ∀ (i : grid0.Coords) (v6798 : BitVec 32) (k0_hw814 : k0_chk814 i v6798), ∀ (k0_h2 : k0_cond2 i = 1#1), ∀ a, (k0_off1811 v6798) a + S1x1x1024.size a ≤ S1x2048x1024.size a := fun i v6798 k0_hw814 k0_h2 => k0_hw814.2 k0_h2

def k0_off1812 (v6799 : BitVec 32) : Fin 3 → Nat :=
  let c0_4486 : Index := 0#32
  let v6845 : Index := Scalar.indexCast v6799
  let c0_4487 : Index := 0#32
  ![0, v6845.toNat, 0]

def k0_chk815 (i : grid0.Coords) (v6799 : BitVec 32) : Prop :=
  (∀ (k0_h2 : k0_cond2 i = 1#1), ∀ a, (k0_off1808 v6799) a + S1x1x1024.size a ≤ S1x2048x1024.size a) ∧
  (∀ (k0_h2 : k0_cond2 i = 1#1), ∀ a, (k0_off1812 v6799) a + S1x1x1024.size a ≤ S1x2048x1024.size a)
theorem k0_off1808_inb : ∀ (i : grid0.Coords) (v6799 : BitVec 32) (k0_hw815 : k0_chk815 i v6799), ∀ (k0_h2 : k0_cond2 i = 1#1), ∀ a, (k0_off1808 v6799) a + S1x1x1024.size a ≤ S1x2048x1024.size a := fun i v6799 k0_hw815 k0_h2 => k0_hw815.1 k0_h2
theorem k0_off1812_inb : ∀ (i : grid0.Coords) (v6799 : BitVec 32) (k0_hw815 : k0_chk815 i v6799), ∀ (k0_h2 : k0_cond2 i = 1#1), ∀ a, (k0_off1812 v6799) a + S1x1x1024.size a ≤ S1x2048x1024.size a := fun i v6799 k0_hw815 k0_h2 => k0_hw815.2 k0_h2

def k0_off1813 (v6853 : BitVec 32) : Fin 3 → Nat :=
  let c0_4502 : Index := 0#32
  let v6857 : Index := Scalar.indexCast v6853
  let c0_4503 : Index := 0#32
  ![0, v6857.toNat, 0]

def k0_off1814 (v6854 : BitVec 32) : Fin 3 → Nat :=
  let c0_4510 : Index := 0#32
  let v6866 : Index := Scalar.indexCast v6854
  let c0_4511 : Index := 0#32
  ![0, v6866.toNat, 0]

def k0_off1815 (v6855 : BitVec 32) : Fin 3 → Nat :=
  let c0_4518 : Index := 0#32
  let v6875 : Index := Scalar.indexCast v6855
  let c0_4519 : Index := 0#32
  ![0, v6875.toNat, 0]

def k0_off1816 (v6856 : BitVec 32) : Fin 3 → Nat :=
  let c0_4526 : Index := 0#32
  let v6884 : Index := Scalar.indexCast v6856
  let c0_4527 : Index := 0#32
  ![0, v6884.toNat, 0]

def k0_chk820 (i : grid0.Coords) (v6856 : BitVec 32) : Prop :=
  (∀ (k0_h2 : k0_cond2 i = 1#1), ∀ a, (k0_off1816 v6856) a + S1x1x1024.size a ≤ S1x2048x1024.size a)
theorem k0_off1816_inb : ∀ (i : grid0.Coords) (v6856 : BitVec 32) (k0_hw820 : k0_chk820 i v6856), ∀ (k0_h2 : k0_cond2 i = 1#1), ∀ a, (k0_off1816 v6856) a + S1x1x1024.size a ≤ S1x2048x1024.size a := fun i v6856 k0_hw820 k0_h2 => k0_hw820 k0_h2

def k0_off1817 (v6853 : BitVec 32) : Fin 3 → Nat :=
  let c0_4534 : Index := 0#32
  let v6893 : Index := Scalar.indexCast v6853
  let c0_4535 : Index := 0#32
  ![0, v6893.toNat, 0]

def k0_chk817 (i : grid0.Coords) (v6853 : BitVec 32) : Prop :=
  (∀ (k0_h2 : k0_cond2 i = 1#1), ∀ a, (k0_off1813 v6853) a + S1x1x1024.size a ≤ S1x2048x1024.size a) ∧
  (∀ (k0_h2 : k0_cond2 i = 1#1), ∀ a, (k0_off1817 v6853) a + S1x1x1024.size a ≤ S1x2048x1024.size a)
theorem k0_off1813_inb : ∀ (i : grid0.Coords) (v6853 : BitVec 32) (k0_hw817 : k0_chk817 i v6853), ∀ (k0_h2 : k0_cond2 i = 1#1), ∀ a, (k0_off1813 v6853) a + S1x1x1024.size a ≤ S1x2048x1024.size a := fun i v6853 k0_hw817 k0_h2 => k0_hw817.1 k0_h2
theorem k0_off1817_inb : ∀ (i : grid0.Coords) (v6853 : BitVec 32) (k0_hw817 : k0_chk817 i v6853), ∀ (k0_h2 : k0_cond2 i = 1#1), ∀ a, (k0_off1817 v6853) a + S1x1x1024.size a ≤ S1x2048x1024.size a := fun i v6853 k0_hw817 k0_h2 => k0_hw817.2 k0_h2

def k0_off1818 (v6854 : BitVec 32) : Fin 3 → Nat :=
  let c0_4536 : Index := 0#32
  let v6897 : Index := Scalar.indexCast v6854
  let c0_4537 : Index := 0#32
  ![0, v6897.toNat, 0]

def k0_chk818 (i : grid0.Coords) (v6854 : BitVec 32) : Prop :=
  (∀ (k0_h2 : k0_cond2 i = 1#1), ∀ a, (k0_off1814 v6854) a + S1x1x1024.size a ≤ S1x2048x1024.size a) ∧
  (∀ (k0_h2 : k0_cond2 i = 1#1), ∀ a, (k0_off1818 v6854) a + S1x1x1024.size a ≤ S1x2048x1024.size a)
theorem k0_off1814_inb : ∀ (i : grid0.Coords) (v6854 : BitVec 32) (k0_hw818 : k0_chk818 i v6854), ∀ (k0_h2 : k0_cond2 i = 1#1), ∀ a, (k0_off1814 v6854) a + S1x1x1024.size a ≤ S1x2048x1024.size a := fun i v6854 k0_hw818 k0_h2 => k0_hw818.1 k0_h2
theorem k0_off1818_inb : ∀ (i : grid0.Coords) (v6854 : BitVec 32) (k0_hw818 : k0_chk818 i v6854), ∀ (k0_h2 : k0_cond2 i = 1#1), ∀ a, (k0_off1818 v6854) a + S1x1x1024.size a ≤ S1x2048x1024.size a := fun i v6854 k0_hw818 k0_h2 => k0_hw818.2 k0_h2

def k0_off1819 (v6855 : BitVec 32) : Fin 3 → Nat :=
  let c0_4538 : Index := 0#32
  let v6901 : Index := Scalar.indexCast v6855
  let c0_4539 : Index := 0#32
  ![0, v6901.toNat, 0]

def k0_chk819 (i : grid0.Coords) (v6855 : BitVec 32) : Prop :=
  (∀ (k0_h2 : k0_cond2 i = 1#1), ∀ a, (k0_off1815 v6855) a + S1x1x1024.size a ≤ S1x2048x1024.size a) ∧
  (∀ (k0_h2 : k0_cond2 i = 1#1), ∀ a, (k0_off1819 v6855) a + S1x1x1024.size a ≤ S1x2048x1024.size a)
theorem k0_off1815_inb : ∀ (i : grid0.Coords) (v6855 : BitVec 32) (k0_hw819 : k0_chk819 i v6855), ∀ (k0_h2 : k0_cond2 i = 1#1), ∀ a, (k0_off1815 v6855) a + S1x1x1024.size a ≤ S1x2048x1024.size a := fun i v6855 k0_hw819 k0_h2 => k0_hw819.1 k0_h2
theorem k0_off1819_inb : ∀ (i : grid0.Coords) (v6855 : BitVec 32) (k0_hw819 : k0_chk819 i v6855), ∀ (k0_h2 : k0_cond2 i = 1#1), ∀ a, (k0_off1819 v6855) a + S1x1x1024.size a ≤ S1x2048x1024.size a := fun i v6855 k0_hw819 k0_h2 => k0_hw819.2 k0_h2

def k0_off1820 (v6909 : BitVec 32) : Fin 3 → Nat :=
  let c0_4554 : Index := 0#32
  let v6913 : Index := Scalar.indexCast v6909
  let c0_4555 : Index := 0#32
  ![0, v6913.toNat, 0]

def k0_off1821 (v6910 : BitVec 32) : Fin 3 → Nat :=
  let c0_4562 : Index := 0#32
  let v6922 : Index := Scalar.indexCast v6910
  let c0_4563 : Index := 0#32
  ![0, v6922.toNat, 0]

def k0_off1822 (v6911 : BitVec 32) : Fin 3 → Nat :=
  let c0_4570 : Index := 0#32
  let v6931 : Index := Scalar.indexCast v6911
  let c0_4571 : Index := 0#32
  ![0, v6931.toNat, 0]

def k0_off1823 (v6912 : BitVec 32) : Fin 3 → Nat :=
  let c0_4578 : Index := 0#32
  let v6940 : Index := Scalar.indexCast v6912
  let c0_4579 : Index := 0#32
  ![0, v6940.toNat, 0]

def k0_chk824 (i : grid0.Coords) (v6912 : BitVec 32) : Prop :=
  (∀ (k0_h2 : k0_cond2 i = 1#1), ∀ a, (k0_off1823 v6912) a + S1x1x1024.size a ≤ S1x2048x1024.size a)
theorem k0_off1823_inb : ∀ (i : grid0.Coords) (v6912 : BitVec 32) (k0_hw824 : k0_chk824 i v6912), ∀ (k0_h2 : k0_cond2 i = 1#1), ∀ a, (k0_off1823 v6912) a + S1x1x1024.size a ≤ S1x2048x1024.size a := fun i v6912 k0_hw824 k0_h2 => k0_hw824 k0_h2

def k0_off1824 (v6909 : BitVec 32) : Fin 3 → Nat :=
  let c0_4586 : Index := 0#32
  let v6949 : Index := Scalar.indexCast v6909
  let c0_4587 : Index := 0#32
  ![0, v6949.toNat, 0]

def k0_chk821 (i : grid0.Coords) (v6909 : BitVec 32) : Prop :=
  (∀ (k0_h2 : k0_cond2 i = 1#1), ∀ a, (k0_off1820 v6909) a + S1x1x1024.size a ≤ S1x2048x1024.size a) ∧
  (∀ (k0_h2 : k0_cond2 i = 1#1), ∀ a, (k0_off1824 v6909) a + S1x1x1024.size a ≤ S1x2048x1024.size a)
theorem k0_off1820_inb : ∀ (i : grid0.Coords) (v6909 : BitVec 32) (k0_hw821 : k0_chk821 i v6909), ∀ (k0_h2 : k0_cond2 i = 1#1), ∀ a, (k0_off1820 v6909) a + S1x1x1024.size a ≤ S1x2048x1024.size a := fun i v6909 k0_hw821 k0_h2 => k0_hw821.1 k0_h2
theorem k0_off1824_inb : ∀ (i : grid0.Coords) (v6909 : BitVec 32) (k0_hw821 : k0_chk821 i v6909), ∀ (k0_h2 : k0_cond2 i = 1#1), ∀ a, (k0_off1824 v6909) a + S1x1x1024.size a ≤ S1x2048x1024.size a := fun i v6909 k0_hw821 k0_h2 => k0_hw821.2 k0_h2

def k0_off1825 (v6910 : BitVec 32) : Fin 3 → Nat :=
  let c0_4588 : Index := 0#32
  let v6953 : Index := Scalar.indexCast v6910
  let c0_4589 : Index := 0#32
  ![0, v6953.toNat, 0]

def k0_chk822 (i : grid0.Coords) (v6910 : BitVec 32) : Prop :=
  (∀ (k0_h2 : k0_cond2 i = 1#1), ∀ a, (k0_off1821 v6910) a + S1x1x1024.size a ≤ S1x2048x1024.size a) ∧
  (∀ (k0_h2 : k0_cond2 i = 1#1), ∀ a, (k0_off1825 v6910) a + S1x1x1024.size a ≤ S1x2048x1024.size a)
theorem k0_off1821_inb : ∀ (i : grid0.Coords) (v6910 : BitVec 32) (k0_hw822 : k0_chk822 i v6910), ∀ (k0_h2 : k0_cond2 i = 1#1), ∀ a, (k0_off1821 v6910) a + S1x1x1024.size a ≤ S1x2048x1024.size a := fun i v6910 k0_hw822 k0_h2 => k0_hw822.1 k0_h2
theorem k0_off1825_inb : ∀ (i : grid0.Coords) (v6910 : BitVec 32) (k0_hw822 : k0_chk822 i v6910), ∀ (k0_h2 : k0_cond2 i = 1#1), ∀ a, (k0_off1825 v6910) a + S1x1x1024.size a ≤ S1x2048x1024.size a := fun i v6910 k0_hw822 k0_h2 => k0_hw822.2 k0_h2

def k0_off1826 (v6911 : BitVec 32) : Fin 3 → Nat :=
  let c0_4590 : Index := 0#32
  let v6957 : Index := Scalar.indexCast v6911
  let c0_4591 : Index := 0#32
  ![0, v6957.toNat, 0]

def k0_chk823 (i : grid0.Coords) (v6911 : BitVec 32) : Prop :=
  (∀ (k0_h2 : k0_cond2 i = 1#1), ∀ a, (k0_off1822 v6911) a + S1x1x1024.size a ≤ S1x2048x1024.size a) ∧
  (∀ (k0_h2 : k0_cond2 i = 1#1), ∀ a, (k0_off1826 v6911) a + S1x1x1024.size a ≤ S1x2048x1024.size a)
theorem k0_off1822_inb : ∀ (i : grid0.Coords) (v6911 : BitVec 32) (k0_hw823 : k0_chk823 i v6911), ∀ (k0_h2 : k0_cond2 i = 1#1), ∀ a, (k0_off1822 v6911) a + S1x1x1024.size a ≤ S1x2048x1024.size a := fun i v6911 k0_hw823 k0_h2 => k0_hw823.1 k0_h2
theorem k0_off1826_inb : ∀ (i : grid0.Coords) (v6911 : BitVec 32) (k0_hw823 : k0_chk823 i v6911), ∀ (k0_h2 : k0_cond2 i = 1#1), ∀ a, (k0_off1826 v6911) a + S1x1x1024.size a ≤ S1x2048x1024.size a := fun i v6911 k0_hw823 k0_h2 => k0_hw823.2 k0_h2

def k0_off1827 (v6965 : BitVec 32) : Fin 3 → Nat :=
  let c0_4606 : Index := 0#32
  let v6969 : Index := Scalar.indexCast v6965
  let c0_4607 : Index := 0#32
  ![0, v6969.toNat, 0]

def k0_off1828 (v6966 : BitVec 32) : Fin 3 → Nat :=
  let c0_4614 : Index := 0#32
  let v6978 : Index := Scalar.indexCast v6966
  let c0_4615 : Index := 0#32
  ![0, v6978.toNat, 0]

def k0_off1829 (v6967 : BitVec 32) : Fin 3 → Nat :=
  let c0_4622 : Index := 0#32
  let v6987 : Index := Scalar.indexCast v6967
  let c0_4623 : Index := 0#32
  ![0, v6987.toNat, 0]

def k0_off1830 (v6968 : BitVec 32) : Fin 3 → Nat :=
  let c0_4630 : Index := 0#32
  let v6996 : Index := Scalar.indexCast v6968
  let c0_4631 : Index := 0#32
  ![0, v6996.toNat, 0]

def k0_chk828 (i : grid0.Coords) (v6968 : BitVec 32) : Prop :=
  (∀ (k0_h2 : k0_cond2 i = 1#1), ∀ a, (k0_off1830 v6968) a + S1x1x1024.size a ≤ S1x2048x1024.size a)
theorem k0_off1830_inb : ∀ (i : grid0.Coords) (v6968 : BitVec 32) (k0_hw828 : k0_chk828 i v6968), ∀ (k0_h2 : k0_cond2 i = 1#1), ∀ a, (k0_off1830 v6968) a + S1x1x1024.size a ≤ S1x2048x1024.size a := fun i v6968 k0_hw828 k0_h2 => k0_hw828 k0_h2

def k0_off1831 (v6965 : BitVec 32) : Fin 3 → Nat :=
  let c0_4638 : Index := 0#32
  let v7005 : Index := Scalar.indexCast v6965
  let c0_4639 : Index := 0#32
  ![0, v7005.toNat, 0]

def k0_chk825 (i : grid0.Coords) (v6965 : BitVec 32) : Prop :=
  (∀ (k0_h2 : k0_cond2 i = 1#1), ∀ a, (k0_off1827 v6965) a + S1x1x1024.size a ≤ S1x2048x1024.size a) ∧
  (∀ (k0_h2 : k0_cond2 i = 1#1), ∀ a, (k0_off1831 v6965) a + S1x1x1024.size a ≤ S1x2048x1024.size a)
theorem k0_off1827_inb : ∀ (i : grid0.Coords) (v6965 : BitVec 32) (k0_hw825 : k0_chk825 i v6965), ∀ (k0_h2 : k0_cond2 i = 1#1), ∀ a, (k0_off1827 v6965) a + S1x1x1024.size a ≤ S1x2048x1024.size a := fun i v6965 k0_hw825 k0_h2 => k0_hw825.1 k0_h2
theorem k0_off1831_inb : ∀ (i : grid0.Coords) (v6965 : BitVec 32) (k0_hw825 : k0_chk825 i v6965), ∀ (k0_h2 : k0_cond2 i = 1#1), ∀ a, (k0_off1831 v6965) a + S1x1x1024.size a ≤ S1x2048x1024.size a := fun i v6965 k0_hw825 k0_h2 => k0_hw825.2 k0_h2

def k0_off1832 (v6966 : BitVec 32) : Fin 3 → Nat :=
  let c0_4640 : Index := 0#32
  let v7009 : Index := Scalar.indexCast v6966
  let c0_4641 : Index := 0#32
  ![0, v7009.toNat, 0]

def k0_chk826 (i : grid0.Coords) (v6966 : BitVec 32) : Prop :=
  (∀ (k0_h2 : k0_cond2 i = 1#1), ∀ a, (k0_off1828 v6966) a + S1x1x1024.size a ≤ S1x2048x1024.size a) ∧
  (∀ (k0_h2 : k0_cond2 i = 1#1), ∀ a, (k0_off1832 v6966) a + S1x1x1024.size a ≤ S1x2048x1024.size a)
theorem k0_off1828_inb : ∀ (i : grid0.Coords) (v6966 : BitVec 32) (k0_hw826 : k0_chk826 i v6966), ∀ (k0_h2 : k0_cond2 i = 1#1), ∀ a, (k0_off1828 v6966) a + S1x1x1024.size a ≤ S1x2048x1024.size a := fun i v6966 k0_hw826 k0_h2 => k0_hw826.1 k0_h2
theorem k0_off1832_inb : ∀ (i : grid0.Coords) (v6966 : BitVec 32) (k0_hw826 : k0_chk826 i v6966), ∀ (k0_h2 : k0_cond2 i = 1#1), ∀ a, (k0_off1832 v6966) a + S1x1x1024.size a ≤ S1x2048x1024.size a := fun i v6966 k0_hw826 k0_h2 => k0_hw826.2 k0_h2

def k0_off1833 (v6967 : BitVec 32) : Fin 3 → Nat :=
  let c0_4642 : Index := 0#32
  let v7013 : Index := Scalar.indexCast v6967
  let c0_4643 : Index := 0#32
  ![0, v7013.toNat, 0]

def k0_chk827 (i : grid0.Coords) (v6967 : BitVec 32) : Prop :=
  (∀ (k0_h2 : k0_cond2 i = 1#1), ∀ a, (k0_off1829 v6967) a + S1x1x1024.size a ≤ S1x2048x1024.size a) ∧
  (∀ (k0_h2 : k0_cond2 i = 1#1), ∀ a, (k0_off1833 v6967) a + S1x1x1024.size a ≤ S1x2048x1024.size a)
theorem k0_off1829_inb : ∀ (i : grid0.Coords) (v6967 : BitVec 32) (k0_hw827 : k0_chk827 i v6967), ∀ (k0_h2 : k0_cond2 i = 1#1), ∀ a, (k0_off1829 v6967) a + S1x1x1024.size a ≤ S1x2048x1024.size a := fun i v6967 k0_hw827 k0_h2 => k0_hw827.1 k0_h2
theorem k0_off1833_inb : ∀ (i : grid0.Coords) (v6967 : BitVec 32) (k0_hw827 : k0_chk827 i v6967), ∀ (k0_h2 : k0_cond2 i = 1#1), ∀ a, (k0_off1833 v6967) a + S1x1x1024.size a ≤ S1x2048x1024.size a := fun i v6967 k0_hw827 k0_h2 => k0_hw827.2 k0_h2

def k0_off1834 (v7021 : BitVec 32) : Fin 3 → Nat :=
  let c0_4658 : Index := 0#32
  let v7025 : Index := Scalar.indexCast v7021
  let c0_4659 : Index := 0#32
  ![0, v7025.toNat, 0]

def k0_off1835 (v7022 : BitVec 32) : Fin 3 → Nat :=
  let c0_4666 : Index := 0#32
  let v7034 : Index := Scalar.indexCast v7022
  let c0_4667 : Index := 0#32
  ![0, v7034.toNat, 0]

def k0_off1836 (v7023 : BitVec 32) : Fin 3 → Nat :=
  let c0_4674 : Index := 0#32
  let v7043 : Index := Scalar.indexCast v7023
  let c0_4675 : Index := 0#32
  ![0, v7043.toNat, 0]

def k0_off1837 (v7024 : BitVec 32) : Fin 3 → Nat :=
  let c0_4682 : Index := 0#32
  let v7052 : Index := Scalar.indexCast v7024
  let c0_4683 : Index := 0#32
  ![0, v7052.toNat, 0]

def k0_chk832 (i : grid0.Coords) (v7024 : BitVec 32) : Prop :=
  (∀ (k0_h2 : k0_cond2 i = 1#1), ∀ a, (k0_off1837 v7024) a + S1x1x1024.size a ≤ S1x2048x1024.size a)
theorem k0_off1837_inb : ∀ (i : grid0.Coords) (v7024 : BitVec 32) (k0_hw832 : k0_chk832 i v7024), ∀ (k0_h2 : k0_cond2 i = 1#1), ∀ a, (k0_off1837 v7024) a + S1x1x1024.size a ≤ S1x2048x1024.size a := fun i v7024 k0_hw832 k0_h2 => k0_hw832 k0_h2

def k0_off1838 (v7021 : BitVec 32) : Fin 3 → Nat :=
  let c0_4690 : Index := 0#32
  let v7061 : Index := Scalar.indexCast v7021
  let c0_4691 : Index := 0#32
  ![0, v7061.toNat, 0]

def k0_chk829 (i : grid0.Coords) (v7021 : BitVec 32) : Prop :=
  (∀ (k0_h2 : k0_cond2 i = 1#1), ∀ a, (k0_off1834 v7021) a + S1x1x1024.size a ≤ S1x2048x1024.size a) ∧
  (∀ (k0_h2 : k0_cond2 i = 1#1), ∀ a, (k0_off1838 v7021) a + S1x1x1024.size a ≤ S1x2048x1024.size a)
theorem k0_off1834_inb : ∀ (i : grid0.Coords) (v7021 : BitVec 32) (k0_hw829 : k0_chk829 i v7021), ∀ (k0_h2 : k0_cond2 i = 1#1), ∀ a, (k0_off1834 v7021) a + S1x1x1024.size a ≤ S1x2048x1024.size a := fun i v7021 k0_hw829 k0_h2 => k0_hw829.1 k0_h2
theorem k0_off1838_inb : ∀ (i : grid0.Coords) (v7021 : BitVec 32) (k0_hw829 : k0_chk829 i v7021), ∀ (k0_h2 : k0_cond2 i = 1#1), ∀ a, (k0_off1838 v7021) a + S1x1x1024.size a ≤ S1x2048x1024.size a := fun i v7021 k0_hw829 k0_h2 => k0_hw829.2 k0_h2

def k0_off1839 (v7022 : BitVec 32) : Fin 3 → Nat :=
  let c0_4692 : Index := 0#32
  let v7065 : Index := Scalar.indexCast v7022
  let c0_4693 : Index := 0#32
  ![0, v7065.toNat, 0]

def k0_chk830 (i : grid0.Coords) (v7022 : BitVec 32) : Prop :=
  (∀ (k0_h2 : k0_cond2 i = 1#1), ∀ a, (k0_off1835 v7022) a + S1x1x1024.size a ≤ S1x2048x1024.size a) ∧
  (∀ (k0_h2 : k0_cond2 i = 1#1), ∀ a, (k0_off1839 v7022) a + S1x1x1024.size a ≤ S1x2048x1024.size a)
theorem k0_off1835_inb : ∀ (i : grid0.Coords) (v7022 : BitVec 32) (k0_hw830 : k0_chk830 i v7022), ∀ (k0_h2 : k0_cond2 i = 1#1), ∀ a, (k0_off1835 v7022) a + S1x1x1024.size a ≤ S1x2048x1024.size a := fun i v7022 k0_hw830 k0_h2 => k0_hw830.1 k0_h2
theorem k0_off1839_inb : ∀ (i : grid0.Coords) (v7022 : BitVec 32) (k0_hw830 : k0_chk830 i v7022), ∀ (k0_h2 : k0_cond2 i = 1#1), ∀ a, (k0_off1839 v7022) a + S1x1x1024.size a ≤ S1x2048x1024.size a := fun i v7022 k0_hw830 k0_h2 => k0_hw830.2 k0_h2

def k0_off1840 (v7023 : BitVec 32) : Fin 3 → Nat :=
  let c0_4694 : Index := 0#32
  let v7069 : Index := Scalar.indexCast v7023
  let c0_4695 : Index := 0#32
  ![0, v7069.toNat, 0]

def k0_chk831 (i : grid0.Coords) (v7023 : BitVec 32) : Prop :=
  (∀ (k0_h2 : k0_cond2 i = 1#1), ∀ a, (k0_off1836 v7023) a + S1x1x1024.size a ≤ S1x2048x1024.size a) ∧
  (∀ (k0_h2 : k0_cond2 i = 1#1), ∀ a, (k0_off1840 v7023) a + S1x1x1024.size a ≤ S1x2048x1024.size a)
theorem k0_off1836_inb : ∀ (i : grid0.Coords) (v7023 : BitVec 32) (k0_hw831 : k0_chk831 i v7023), ∀ (k0_h2 : k0_cond2 i = 1#1), ∀ a, (k0_off1836 v7023) a + S1x1x1024.size a ≤ S1x2048x1024.size a := fun i v7023 k0_hw831 k0_h2 => k0_hw831.1 k0_h2
theorem k0_off1840_inb : ∀ (i : grid0.Coords) (v7023 : BitVec 32) (k0_hw831 : k0_chk831 i v7023), ∀ (k0_h2 : k0_cond2 i = 1#1), ∀ a, (k0_off1840 v7023) a + S1x1x1024.size a ≤ S1x2048x1024.size a := fun i v7023 k0_hw831 k0_h2 => k0_hw831.2 k0_h2

def k0_off1841 (v7077 : BitVec 32) : Fin 3 → Nat :=
  let c0_4710 : Index := 0#32
  let v7081 : Index := Scalar.indexCast v7077
  let c0_4711 : Index := 0#32
  ![0, v7081.toNat, 0]

def k0_off1842 (v7078 : BitVec 32) : Fin 3 → Nat :=
  let c0_4718 : Index := 0#32
  let v7090 : Index := Scalar.indexCast v7078
  let c0_4719 : Index := 0#32
  ![0, v7090.toNat, 0]

def k0_off1843 (v7079 : BitVec 32) : Fin 3 → Nat :=
  let c0_4726 : Index := 0#32
  let v7099 : Index := Scalar.indexCast v7079
  let c0_4727 : Index := 0#32
  ![0, v7099.toNat, 0]

def k0_off1844 (v7080 : BitVec 32) : Fin 3 → Nat :=
  let c0_4734 : Index := 0#32
  let v7108 : Index := Scalar.indexCast v7080
  let c0_4735 : Index := 0#32
  ![0, v7108.toNat, 0]

def k0_chk836 (i : grid0.Coords) (v7080 : BitVec 32) : Prop :=
  (∀ (k0_h2 : k0_cond2 i = 1#1), ∀ a, (k0_off1844 v7080) a + S1x1x1024.size a ≤ S1x2048x1024.size a)
theorem k0_off1844_inb : ∀ (i : grid0.Coords) (v7080 : BitVec 32) (k0_hw836 : k0_chk836 i v7080), ∀ (k0_h2 : k0_cond2 i = 1#1), ∀ a, (k0_off1844 v7080) a + S1x1x1024.size a ≤ S1x2048x1024.size a := fun i v7080 k0_hw836 k0_h2 => k0_hw836 k0_h2

def k0_off1845 (v7077 : BitVec 32) : Fin 3 → Nat :=
  let c0_4742 : Index := 0#32
  let v7117 : Index := Scalar.indexCast v7077
  let c0_4743 : Index := 0#32
  ![0, v7117.toNat, 0]

def k0_chk833 (i : grid0.Coords) (v7077 : BitVec 32) : Prop :=
  (∀ (k0_h2 : k0_cond2 i = 1#1), ∀ a, (k0_off1841 v7077) a + S1x1x1024.size a ≤ S1x2048x1024.size a) ∧
  (∀ (k0_h2 : k0_cond2 i = 1#1), ∀ a, (k0_off1845 v7077) a + S1x1x1024.size a ≤ S1x2048x1024.size a)
theorem k0_off1841_inb : ∀ (i : grid0.Coords) (v7077 : BitVec 32) (k0_hw833 : k0_chk833 i v7077), ∀ (k0_h2 : k0_cond2 i = 1#1), ∀ a, (k0_off1841 v7077) a + S1x1x1024.size a ≤ S1x2048x1024.size a := fun i v7077 k0_hw833 k0_h2 => k0_hw833.1 k0_h2
theorem k0_off1845_inb : ∀ (i : grid0.Coords) (v7077 : BitVec 32) (k0_hw833 : k0_chk833 i v7077), ∀ (k0_h2 : k0_cond2 i = 1#1), ∀ a, (k0_off1845 v7077) a + S1x1x1024.size a ≤ S1x2048x1024.size a := fun i v7077 k0_hw833 k0_h2 => k0_hw833.2 k0_h2

def k0_off1846 (v7078 : BitVec 32) : Fin 3 → Nat :=
  let c0_4744 : Index := 0#32
  let v7121 : Index := Scalar.indexCast v7078
  let c0_4745 : Index := 0#32
  ![0, v7121.toNat, 0]

def k0_chk834 (i : grid0.Coords) (v7078 : BitVec 32) : Prop :=
  (∀ (k0_h2 : k0_cond2 i = 1#1), ∀ a, (k0_off1842 v7078) a + S1x1x1024.size a ≤ S1x2048x1024.size a) ∧
  (∀ (k0_h2 : k0_cond2 i = 1#1), ∀ a, (k0_off1846 v7078) a + S1x1x1024.size a ≤ S1x2048x1024.size a)
theorem k0_off1842_inb : ∀ (i : grid0.Coords) (v7078 : BitVec 32) (k0_hw834 : k0_chk834 i v7078), ∀ (k0_h2 : k0_cond2 i = 1#1), ∀ a, (k0_off1842 v7078) a + S1x1x1024.size a ≤ S1x2048x1024.size a := fun i v7078 k0_hw834 k0_h2 => k0_hw834.1 k0_h2
theorem k0_off1846_inb : ∀ (i : grid0.Coords) (v7078 : BitVec 32) (k0_hw834 : k0_chk834 i v7078), ∀ (k0_h2 : k0_cond2 i = 1#1), ∀ a, (k0_off1846 v7078) a + S1x1x1024.size a ≤ S1x2048x1024.size a := fun i v7078 k0_hw834 k0_h2 => k0_hw834.2 k0_h2

def k0_off1847 (v7079 : BitVec 32) : Fin 3 → Nat :=
  let c0_4746 : Index := 0#32
  let v7125 : Index := Scalar.indexCast v7079
  let c0_4747 : Index := 0#32
  ![0, v7125.toNat, 0]

def k0_chk835 (i : grid0.Coords) (v7079 : BitVec 32) : Prop :=
  (∀ (k0_h2 : k0_cond2 i = 1#1), ∀ a, (k0_off1843 v7079) a + S1x1x1024.size a ≤ S1x2048x1024.size a) ∧
  (∀ (k0_h2 : k0_cond2 i = 1#1), ∀ a, (k0_off1847 v7079) a + S1x1x1024.size a ≤ S1x2048x1024.size a)
theorem k0_off1843_inb : ∀ (i : grid0.Coords) (v7079 : BitVec 32) (k0_hw835 : k0_chk835 i v7079), ∀ (k0_h2 : k0_cond2 i = 1#1), ∀ a, (k0_off1843 v7079) a + S1x1x1024.size a ≤ S1x2048x1024.size a := fun i v7079 k0_hw835 k0_h2 => k0_hw835.1 k0_h2
theorem k0_off1847_inb : ∀ (i : grid0.Coords) (v7079 : BitVec 32) (k0_hw835 : k0_chk835 i v7079), ∀ (k0_h2 : k0_cond2 i = 1#1), ∀ a, (k0_off1847 v7079) a + S1x1x1024.size a ≤ S1x2048x1024.size a := fun i v7079 k0_hw835 k0_h2 => k0_hw835.2 k0_h2

def k0_off1848 (v7133 : BitVec 32) : Fin 3 → Nat :=
  let c0_4762 : Index := 0#32
  let v7137 : Index := Scalar.indexCast v7133
  let c0_4763 : Index := 0#32
  ![0, v7137.toNat, 0]

def k0_off1849 (v7134 : BitVec 32) : Fin 3 → Nat :=
  let c0_4770 : Index := 0#32
  let v7146 : Index := Scalar.indexCast v7134
  let c0_4771 : Index := 0#32
  ![0, v7146.toNat, 0]

def k0_off1850 (v7135 : BitVec 32) : Fin 3 → Nat :=
  let c0_4778 : Index := 0#32
  let v7155 : Index := Scalar.indexCast v7135
  let c0_4779 : Index := 0#32
  ![0, v7155.toNat, 0]

def k0_off1851 (v7136 : BitVec 32) : Fin 3 → Nat :=
  let c0_4786 : Index := 0#32
  let v7164 : Index := Scalar.indexCast v7136
  let c0_4787 : Index := 0#32
  ![0, v7164.toNat, 0]

def k0_chk840 (i : grid0.Coords) (v7136 : BitVec 32) : Prop :=
  (∀ (k0_h2 : k0_cond2 i = 1#1), ∀ a, (k0_off1851 v7136) a + S1x1x1024.size a ≤ S1x2048x1024.size a)
theorem k0_off1851_inb : ∀ (i : grid0.Coords) (v7136 : BitVec 32) (k0_hw840 : k0_chk840 i v7136), ∀ (k0_h2 : k0_cond2 i = 1#1), ∀ a, (k0_off1851 v7136) a + S1x1x1024.size a ≤ S1x2048x1024.size a := fun i v7136 k0_hw840 k0_h2 => k0_hw840 k0_h2

def k0_off1852 (v7133 : BitVec 32) : Fin 3 → Nat :=
  let c0_4794 : Index := 0#32
  let v7173 : Index := Scalar.indexCast v7133
  let c0_4795 : Index := 0#32
  ![0, v7173.toNat, 0]

def k0_chk837 (i : grid0.Coords) (v7133 : BitVec 32) : Prop :=
  (∀ (k0_h2 : k0_cond2 i = 1#1), ∀ a, (k0_off1848 v7133) a + S1x1x1024.size a ≤ S1x2048x1024.size a) ∧
  (∀ (k0_h2 : k0_cond2 i = 1#1), ∀ a, (k0_off1852 v7133) a + S1x1x1024.size a ≤ S1x2048x1024.size a)
theorem k0_off1848_inb : ∀ (i : grid0.Coords) (v7133 : BitVec 32) (k0_hw837 : k0_chk837 i v7133), ∀ (k0_h2 : k0_cond2 i = 1#1), ∀ a, (k0_off1848 v7133) a + S1x1x1024.size a ≤ S1x2048x1024.size a := fun i v7133 k0_hw837 k0_h2 => k0_hw837.1 k0_h2
theorem k0_off1852_inb : ∀ (i : grid0.Coords) (v7133 : BitVec 32) (k0_hw837 : k0_chk837 i v7133), ∀ (k0_h2 : k0_cond2 i = 1#1), ∀ a, (k0_off1852 v7133) a + S1x1x1024.size a ≤ S1x2048x1024.size a := fun i v7133 k0_hw837 k0_h2 => k0_hw837.2 k0_h2

def k0_off1853 (v7134 : BitVec 32) : Fin 3 → Nat :=
  let c0_4796 : Index := 0#32
  let v7177 : Index := Scalar.indexCast v7134
  let c0_4797 : Index := 0#32
  ![0, v7177.toNat, 0]

def k0_chk838 (i : grid0.Coords) (v7134 : BitVec 32) : Prop :=
  (∀ (k0_h2 : k0_cond2 i = 1#1), ∀ a, (k0_off1849 v7134) a + S1x1x1024.size a ≤ S1x2048x1024.size a) ∧
  (∀ (k0_h2 : k0_cond2 i = 1#1), ∀ a, (k0_off1853 v7134) a + S1x1x1024.size a ≤ S1x2048x1024.size a)
theorem k0_off1849_inb : ∀ (i : grid0.Coords) (v7134 : BitVec 32) (k0_hw838 : k0_chk838 i v7134), ∀ (k0_h2 : k0_cond2 i = 1#1), ∀ a, (k0_off1849 v7134) a + S1x1x1024.size a ≤ S1x2048x1024.size a := fun i v7134 k0_hw838 k0_h2 => k0_hw838.1 k0_h2
theorem k0_off1853_inb : ∀ (i : grid0.Coords) (v7134 : BitVec 32) (k0_hw838 : k0_chk838 i v7134), ∀ (k0_h2 : k0_cond2 i = 1#1), ∀ a, (k0_off1853 v7134) a + S1x1x1024.size a ≤ S1x2048x1024.size a := fun i v7134 k0_hw838 k0_h2 => k0_hw838.2 k0_h2

def k0_off1854 (v7135 : BitVec 32) : Fin 3 → Nat :=
  let c0_4798 : Index := 0#32
  let v7181 : Index := Scalar.indexCast v7135
  let c0_4799 : Index := 0#32
  ![0, v7181.toNat, 0]

def k0_chk839 (i : grid0.Coords) (v7135 : BitVec 32) : Prop :=
  (∀ (k0_h2 : k0_cond2 i = 1#1), ∀ a, (k0_off1850 v7135) a + S1x1x1024.size a ≤ S1x2048x1024.size a) ∧
  (∀ (k0_h2 : k0_cond2 i = 1#1), ∀ a, (k0_off1854 v7135) a + S1x1x1024.size a ≤ S1x2048x1024.size a)
theorem k0_off1850_inb : ∀ (i : grid0.Coords) (v7135 : BitVec 32) (k0_hw839 : k0_chk839 i v7135), ∀ (k0_h2 : k0_cond2 i = 1#1), ∀ a, (k0_off1850 v7135) a + S1x1x1024.size a ≤ S1x2048x1024.size a := fun i v7135 k0_hw839 k0_h2 => k0_hw839.1 k0_h2
theorem k0_off1854_inb : ∀ (i : grid0.Coords) (v7135 : BitVec 32) (k0_hw839 : k0_chk839 i v7135), ∀ (k0_h2 : k0_cond2 i = 1#1), ∀ a, (k0_off1854 v7135) a + S1x1x1024.size a ≤ S1x2048x1024.size a := fun i v7135 k0_hw839 k0_h2 => k0_hw839.2 k0_h2

def k0_off1855 (v7189 : BitVec 32) : Fin 3 → Nat :=
  let c0_4814 : Index := 0#32
  let v7193 : Index := Scalar.indexCast v7189
  let c0_4815 : Index := 0#32
  ![0, v7193.toNat, 0]

def k0_off1856 (v7190 : BitVec 32) : Fin 3 → Nat :=
  let c0_4822 : Index := 0#32
  let v7202 : Index := Scalar.indexCast v7190
  let c0_4823 : Index := 0#32
  ![0, v7202.toNat, 0]

def k0_off1857 (v7191 : BitVec 32) : Fin 3 → Nat :=
  let c0_4830 : Index := 0#32
  let v7211 : Index := Scalar.indexCast v7191
  let c0_4831 : Index := 0#32
  ![0, v7211.toNat, 0]

def k0_off1858 (v7192 : BitVec 32) : Fin 3 → Nat :=
  let c0_4838 : Index := 0#32
  let v7220 : Index := Scalar.indexCast v7192
  let c0_4839 : Index := 0#32
  ![0, v7220.toNat, 0]

def k0_chk844 (i : grid0.Coords) (v7192 : BitVec 32) : Prop :=
  (∀ (k0_h2 : k0_cond2 i = 1#1), ∀ a, (k0_off1858 v7192) a + S1x1x1024.size a ≤ S1x2048x1024.size a)
theorem k0_off1858_inb : ∀ (i : grid0.Coords) (v7192 : BitVec 32) (k0_hw844 : k0_chk844 i v7192), ∀ (k0_h2 : k0_cond2 i = 1#1), ∀ a, (k0_off1858 v7192) a + S1x1x1024.size a ≤ S1x2048x1024.size a := fun i v7192 k0_hw844 k0_h2 => k0_hw844 k0_h2

def k0_off1859 (v7189 : BitVec 32) : Fin 3 → Nat :=
  let c0_4846 : Index := 0#32
  let v7229 : Index := Scalar.indexCast v7189
  let c0_4847 : Index := 0#32
  ![0, v7229.toNat, 0]

def k0_chk841 (i : grid0.Coords) (v7189 : BitVec 32) : Prop :=
  (∀ (k0_h2 : k0_cond2 i = 1#1), ∀ a, (k0_off1855 v7189) a + S1x1x1024.size a ≤ S1x2048x1024.size a) ∧
  (∀ (k0_h2 : k0_cond2 i = 1#1), ∀ a, (k0_off1859 v7189) a + S1x1x1024.size a ≤ S1x2048x1024.size a)
theorem k0_off1855_inb : ∀ (i : grid0.Coords) (v7189 : BitVec 32) (k0_hw841 : k0_chk841 i v7189), ∀ (k0_h2 : k0_cond2 i = 1#1), ∀ a, (k0_off1855 v7189) a + S1x1x1024.size a ≤ S1x2048x1024.size a := fun i v7189 k0_hw841 k0_h2 => k0_hw841.1 k0_h2
theorem k0_off1859_inb : ∀ (i : grid0.Coords) (v7189 : BitVec 32) (k0_hw841 : k0_chk841 i v7189), ∀ (k0_h2 : k0_cond2 i = 1#1), ∀ a, (k0_off1859 v7189) a + S1x1x1024.size a ≤ S1x2048x1024.size a := fun i v7189 k0_hw841 k0_h2 => k0_hw841.2 k0_h2

def k0_off1860 (v7190 : BitVec 32) : Fin 3 → Nat :=
  let c0_4848 : Index := 0#32
  let v7233 : Index := Scalar.indexCast v7190
  let c0_4849 : Index := 0#32
  ![0, v7233.toNat, 0]

def k0_chk842 (i : grid0.Coords) (v7190 : BitVec 32) : Prop :=
  (∀ (k0_h2 : k0_cond2 i = 1#1), ∀ a, (k0_off1856 v7190) a + S1x1x1024.size a ≤ S1x2048x1024.size a) ∧
  (∀ (k0_h2 : k0_cond2 i = 1#1), ∀ a, (k0_off1860 v7190) a + S1x1x1024.size a ≤ S1x2048x1024.size a)
theorem k0_off1856_inb : ∀ (i : grid0.Coords) (v7190 : BitVec 32) (k0_hw842 : k0_chk842 i v7190), ∀ (k0_h2 : k0_cond2 i = 1#1), ∀ a, (k0_off1856 v7190) a + S1x1x1024.size a ≤ S1x2048x1024.size a := fun i v7190 k0_hw842 k0_h2 => k0_hw842.1 k0_h2
theorem k0_off1860_inb : ∀ (i : grid0.Coords) (v7190 : BitVec 32) (k0_hw842 : k0_chk842 i v7190), ∀ (k0_h2 : k0_cond2 i = 1#1), ∀ a, (k0_off1860 v7190) a + S1x1x1024.size a ≤ S1x2048x1024.size a := fun i v7190 k0_hw842 k0_h2 => k0_hw842.2 k0_h2

def k0_off1861 (v7191 : BitVec 32) : Fin 3 → Nat :=
  let c0_4850 : Index := 0#32
  let v7237 : Index := Scalar.indexCast v7191
  let c0_4851 : Index := 0#32
  ![0, v7237.toNat, 0]

def k0_chk843 (i : grid0.Coords) (v7191 : BitVec 32) : Prop :=
  (∀ (k0_h2 : k0_cond2 i = 1#1), ∀ a, (k0_off1857 v7191) a + S1x1x1024.size a ≤ S1x2048x1024.size a) ∧
  (∀ (k0_h2 : k0_cond2 i = 1#1), ∀ a, (k0_off1861 v7191) a + S1x1x1024.size a ≤ S1x2048x1024.size a)
theorem k0_off1857_inb : ∀ (i : grid0.Coords) (v7191 : BitVec 32) (k0_hw843 : k0_chk843 i v7191), ∀ (k0_h2 : k0_cond2 i = 1#1), ∀ a, (k0_off1857 v7191) a + S1x1x1024.size a ≤ S1x2048x1024.size a := fun i v7191 k0_hw843 k0_h2 => k0_hw843.1 k0_h2
theorem k0_off1861_inb : ∀ (i : grid0.Coords) (v7191 : BitVec 32) (k0_hw843 : k0_chk843 i v7191), ∀ (k0_h2 : k0_cond2 i = 1#1), ∀ a, (k0_off1861 v7191) a + S1x1x1024.size a ≤ S1x2048x1024.size a := fun i v7191 k0_hw843 k0_h2 => k0_hw843.2 k0_h2

def k0_off1862 (v7245 : BitVec 32) : Fin 3 → Nat :=
  let c0_4866 : Index := 0#32
  let v7249 : Index := Scalar.indexCast v7245
  let c0_4867 : Index := 0#32
  ![0, v7249.toNat, 0]

def k0_off1863 (v7246 : BitVec 32) : Fin 3 → Nat :=
  let c0_4874 : Index := 0#32
  let v7258 : Index := Scalar.indexCast v7246
  let c0_4875 : Index := 0#32
  ![0, v7258.toNat, 0]

def k0_off1864 (v7247 : BitVec 32) : Fin 3 → Nat :=
  let c0_4882 : Index := 0#32
  let v7267 : Index := Scalar.indexCast v7247
  let c0_4883 : Index := 0#32
  ![0, v7267.toNat, 0]

def k0_off1865 (v7248 : BitVec 32) : Fin 3 → Nat :=
  let c0_4890 : Index := 0#32
  let v7276 : Index := Scalar.indexCast v7248
  let c0_4891 : Index := 0#32
  ![0, v7276.toNat, 0]

def k0_chk848 (i : grid0.Coords) (v7248 : BitVec 32) : Prop :=
  (∀ (k0_h2 : k0_cond2 i = 1#1), ∀ a, (k0_off1865 v7248) a + S1x1x1024.size a ≤ S1x2048x1024.size a)
theorem k0_off1865_inb : ∀ (i : grid0.Coords) (v7248 : BitVec 32) (k0_hw848 : k0_chk848 i v7248), ∀ (k0_h2 : k0_cond2 i = 1#1), ∀ a, (k0_off1865 v7248) a + S1x1x1024.size a ≤ S1x2048x1024.size a := fun i v7248 k0_hw848 k0_h2 => k0_hw848 k0_h2

def k0_off1866 (v7245 : BitVec 32) : Fin 3 → Nat :=
  let c0_4898 : Index := 0#32
  let v7285 : Index := Scalar.indexCast v7245
  let c0_4899 : Index := 0#32
  ![0, v7285.toNat, 0]

def k0_chk845 (i : grid0.Coords) (v7245 : BitVec 32) : Prop :=
  (∀ (k0_h2 : k0_cond2 i = 1#1), ∀ a, (k0_off1862 v7245) a + S1x1x1024.size a ≤ S1x2048x1024.size a) ∧
  (∀ (k0_h2 : k0_cond2 i = 1#1), ∀ a, (k0_off1866 v7245) a + S1x1x1024.size a ≤ S1x2048x1024.size a)
theorem k0_off1862_inb : ∀ (i : grid0.Coords) (v7245 : BitVec 32) (k0_hw845 : k0_chk845 i v7245), ∀ (k0_h2 : k0_cond2 i = 1#1), ∀ a, (k0_off1862 v7245) a + S1x1x1024.size a ≤ S1x2048x1024.size a := fun i v7245 k0_hw845 k0_h2 => k0_hw845.1 k0_h2
theorem k0_off1866_inb : ∀ (i : grid0.Coords) (v7245 : BitVec 32) (k0_hw845 : k0_chk845 i v7245), ∀ (k0_h2 : k0_cond2 i = 1#1), ∀ a, (k0_off1866 v7245) a + S1x1x1024.size a ≤ S1x2048x1024.size a := fun i v7245 k0_hw845 k0_h2 => k0_hw845.2 k0_h2

def k0_off1867 (v7246 : BitVec 32) : Fin 3 → Nat :=
  let c0_4900 : Index := 0#32
  let v7289 : Index := Scalar.indexCast v7246
  let c0_4901 : Index := 0#32
  ![0, v7289.toNat, 0]

def k0_chk846 (i : grid0.Coords) (v7246 : BitVec 32) : Prop :=
  (∀ (k0_h2 : k0_cond2 i = 1#1), ∀ a, (k0_off1863 v7246) a + S1x1x1024.size a ≤ S1x2048x1024.size a) ∧
  (∀ (k0_h2 : k0_cond2 i = 1#1), ∀ a, (k0_off1867 v7246) a + S1x1x1024.size a ≤ S1x2048x1024.size a)
theorem k0_off1863_inb : ∀ (i : grid0.Coords) (v7246 : BitVec 32) (k0_hw846 : k0_chk846 i v7246), ∀ (k0_h2 : k0_cond2 i = 1#1), ∀ a, (k0_off1863 v7246) a + S1x1x1024.size a ≤ S1x2048x1024.size a := fun i v7246 k0_hw846 k0_h2 => k0_hw846.1 k0_h2
theorem k0_off1867_inb : ∀ (i : grid0.Coords) (v7246 : BitVec 32) (k0_hw846 : k0_chk846 i v7246), ∀ (k0_h2 : k0_cond2 i = 1#1), ∀ a, (k0_off1867 v7246) a + S1x1x1024.size a ≤ S1x2048x1024.size a := fun i v7246 k0_hw846 k0_h2 => k0_hw846.2 k0_h2

def k0_off1868 (v7247 : BitVec 32) : Fin 3 → Nat :=
  let c0_4902 : Index := 0#32
  let v7293 : Index := Scalar.indexCast v7247
  let c0_4903 : Index := 0#32
  ![0, v7293.toNat, 0]

def k0_chk847 (i : grid0.Coords) (v7247 : BitVec 32) : Prop :=
  (∀ (k0_h2 : k0_cond2 i = 1#1), ∀ a, (k0_off1864 v7247) a + S1x1x1024.size a ≤ S1x2048x1024.size a) ∧
  (∀ (k0_h2 : k0_cond2 i = 1#1), ∀ a, (k0_off1868 v7247) a + S1x1x1024.size a ≤ S1x2048x1024.size a)
theorem k0_off1864_inb : ∀ (i : grid0.Coords) (v7247 : BitVec 32) (k0_hw847 : k0_chk847 i v7247), ∀ (k0_h2 : k0_cond2 i = 1#1), ∀ a, (k0_off1864 v7247) a + S1x1x1024.size a ≤ S1x2048x1024.size a := fun i v7247 k0_hw847 k0_h2 => k0_hw847.1 k0_h2
theorem k0_off1868_inb : ∀ (i : grid0.Coords) (v7247 : BitVec 32) (k0_hw847 : k0_chk847 i v7247), ∀ (k0_h2 : k0_cond2 i = 1#1), ∀ a, (k0_off1868 v7247) a + S1x1x1024.size a ≤ S1x2048x1024.size a := fun i v7247 k0_hw847 k0_h2 => k0_hw847.2 k0_h2

def k0_off1869 (v7301 : BitVec 32) : Fin 3 → Nat :=
  let c0_4918 : Index := 0#32
  let v7305 : Index := Scalar.indexCast v7301
  let c0_4919 : Index := 0#32
  ![0, v7305.toNat, 0]

def k0_off1870 (v7302 : BitVec 32) : Fin 3 → Nat :=
  let c0_4926 : Index := 0#32
  let v7314 : Index := Scalar.indexCast v7302
  let c0_4927 : Index := 0#32
  ![0, v7314.toNat, 0]

def k0_off1871 (v7303 : BitVec 32) : Fin 3 → Nat :=
  let c0_4934 : Index := 0#32
  let v7323 : Index := Scalar.indexCast v7303
  let c0_4935 : Index := 0#32
  ![0, v7323.toNat, 0]

def k0_off1872 (v7304 : BitVec 32) : Fin 3 → Nat :=
  let c0_4942 : Index := 0#32
  let v7332 : Index := Scalar.indexCast v7304
  let c0_4943 : Index := 0#32
  ![0, v7332.toNat, 0]

def k0_chk852 (i : grid0.Coords) (v7304 : BitVec 32) : Prop :=
  (∀ (k0_h2 : k0_cond2 i = 1#1), ∀ a, (k0_off1872 v7304) a + S1x1x1024.size a ≤ S1x2048x1024.size a)
theorem k0_off1872_inb : ∀ (i : grid0.Coords) (v7304 : BitVec 32) (k0_hw852 : k0_chk852 i v7304), ∀ (k0_h2 : k0_cond2 i = 1#1), ∀ a, (k0_off1872 v7304) a + S1x1x1024.size a ≤ S1x2048x1024.size a := fun i v7304 k0_hw852 k0_h2 => k0_hw852 k0_h2

def k0_off1873 (v7301 : BitVec 32) : Fin 3 → Nat :=
  let c0_4950 : Index := 0#32
  let v7341 : Index := Scalar.indexCast v7301
  let c0_4951 : Index := 0#32
  ![0, v7341.toNat, 0]

def k0_chk849 (i : grid0.Coords) (v7301 : BitVec 32) : Prop :=
  (∀ (k0_h2 : k0_cond2 i = 1#1), ∀ a, (k0_off1869 v7301) a + S1x1x1024.size a ≤ S1x2048x1024.size a) ∧
  (∀ (k0_h2 : k0_cond2 i = 1#1), ∀ a, (k0_off1873 v7301) a + S1x1x1024.size a ≤ S1x2048x1024.size a)
theorem k0_off1869_inb : ∀ (i : grid0.Coords) (v7301 : BitVec 32) (k0_hw849 : k0_chk849 i v7301), ∀ (k0_h2 : k0_cond2 i = 1#1), ∀ a, (k0_off1869 v7301) a + S1x1x1024.size a ≤ S1x2048x1024.size a := fun i v7301 k0_hw849 k0_h2 => k0_hw849.1 k0_h2
theorem k0_off1873_inb : ∀ (i : grid0.Coords) (v7301 : BitVec 32) (k0_hw849 : k0_chk849 i v7301), ∀ (k0_h2 : k0_cond2 i = 1#1), ∀ a, (k0_off1873 v7301) a + S1x1x1024.size a ≤ S1x2048x1024.size a := fun i v7301 k0_hw849 k0_h2 => k0_hw849.2 k0_h2

def k0_off1874 (v7302 : BitVec 32) : Fin 3 → Nat :=
  let c0_4952 : Index := 0#32
  let v7345 : Index := Scalar.indexCast v7302
  let c0_4953 : Index := 0#32
  ![0, v7345.toNat, 0]

def k0_chk850 (i : grid0.Coords) (v7302 : BitVec 32) : Prop :=
  (∀ (k0_h2 : k0_cond2 i = 1#1), ∀ a, (k0_off1870 v7302) a + S1x1x1024.size a ≤ S1x2048x1024.size a) ∧
  (∀ (k0_h2 : k0_cond2 i = 1#1), ∀ a, (k0_off1874 v7302) a + S1x1x1024.size a ≤ S1x2048x1024.size a)
theorem k0_off1870_inb : ∀ (i : grid0.Coords) (v7302 : BitVec 32) (k0_hw850 : k0_chk850 i v7302), ∀ (k0_h2 : k0_cond2 i = 1#1), ∀ a, (k0_off1870 v7302) a + S1x1x1024.size a ≤ S1x2048x1024.size a := fun i v7302 k0_hw850 k0_h2 => k0_hw850.1 k0_h2
theorem k0_off1874_inb : ∀ (i : grid0.Coords) (v7302 : BitVec 32) (k0_hw850 : k0_chk850 i v7302), ∀ (k0_h2 : k0_cond2 i = 1#1), ∀ a, (k0_off1874 v7302) a + S1x1x1024.size a ≤ S1x2048x1024.size a := fun i v7302 k0_hw850 k0_h2 => k0_hw850.2 k0_h2

def k0_off1875 (v7303 : BitVec 32) : Fin 3 → Nat :=
  let c0_4954 : Index := 0#32
  let v7349 : Index := Scalar.indexCast v7303
  let c0_4955 : Index := 0#32
  ![0, v7349.toNat, 0]

def k0_chk851 (i : grid0.Coords) (v7303 : BitVec 32) : Prop :=
  (∀ (k0_h2 : k0_cond2 i = 1#1), ∀ a, (k0_off1871 v7303) a + S1x1x1024.size a ≤ S1x2048x1024.size a) ∧
  (∀ (k0_h2 : k0_cond2 i = 1#1), ∀ a, (k0_off1875 v7303) a + S1x1x1024.size a ≤ S1x2048x1024.size a)
theorem k0_off1871_inb : ∀ (i : grid0.Coords) (v7303 : BitVec 32) (k0_hw851 : k0_chk851 i v7303), ∀ (k0_h2 : k0_cond2 i = 1#1), ∀ a, (k0_off1871 v7303) a + S1x1x1024.size a ≤ S1x2048x1024.size a := fun i v7303 k0_hw851 k0_h2 => k0_hw851.1 k0_h2
theorem k0_off1875_inb : ∀ (i : grid0.Coords) (v7303 : BitVec 32) (k0_hw851 : k0_chk851 i v7303), ∀ (k0_h2 : k0_cond2 i = 1#1), ∀ a, (k0_off1875 v7303) a + S1x1x1024.size a ≤ S1x2048x1024.size a := fun i v7303 k0_hw851 k0_h2 => k0_hw851.2 k0_h2

def k0_off1876 (v7357 : BitVec 32) : Fin 3 → Nat :=
  let c0_4970 : Index := 0#32
  let v7361 : Index := Scalar.indexCast v7357
  let c0_4971 : Index := 0#32
  ![0, v7361.toNat, 0]

def k0_off1877 (v7358 : BitVec 32) : Fin 3 → Nat :=
  let c0_4978 : Index := 0#32
  let v7370 : Index := Scalar.indexCast v7358
  let c0_4979 : Index := 0#32
  ![0, v7370.toNat, 0]

def k0_off1878 (v7359 : BitVec 32) : Fin 3 → Nat :=
  let c0_4986 : Index := 0#32
  let v7379 : Index := Scalar.indexCast v7359
  let c0_4987 : Index := 0#32
  ![0, v7379.toNat, 0]

def k0_off1879 (v7360 : BitVec 32) : Fin 3 → Nat :=
  let c0_4994 : Index := 0#32
  let v7388 : Index := Scalar.indexCast v7360
  let c0_4995 : Index := 0#32
  ![0, v7388.toNat, 0]

def k0_chk856 (i : grid0.Coords) (v7360 : BitVec 32) : Prop :=
  (∀ (k0_h2 : k0_cond2 i = 1#1), ∀ a, (k0_off1879 v7360) a + S1x1x1024.size a ≤ S1x2048x1024.size a)
theorem k0_off1879_inb : ∀ (i : grid0.Coords) (v7360 : BitVec 32) (k0_hw856 : k0_chk856 i v7360), ∀ (k0_h2 : k0_cond2 i = 1#1), ∀ a, (k0_off1879 v7360) a + S1x1x1024.size a ≤ S1x2048x1024.size a := fun i v7360 k0_hw856 k0_h2 => k0_hw856 k0_h2

def k0_off1880 (v7357 : BitVec 32) : Fin 3 → Nat :=
  let c0_5002 : Index := 0#32
  let v7397 : Index := Scalar.indexCast v7357
  let c0_5003 : Index := 0#32
  ![0, v7397.toNat, 0]

def k0_chk853 (i : grid0.Coords) (v7357 : BitVec 32) : Prop :=
  (∀ (k0_h2 : k0_cond2 i = 1#1), ∀ a, (k0_off1876 v7357) a + S1x1x1024.size a ≤ S1x2048x1024.size a) ∧
  (∀ (k0_h2 : k0_cond2 i = 1#1), ∀ a, (k0_off1880 v7357) a + S1x1x1024.size a ≤ S1x2048x1024.size a)
theorem k0_off1876_inb : ∀ (i : grid0.Coords) (v7357 : BitVec 32) (k0_hw853 : k0_chk853 i v7357), ∀ (k0_h2 : k0_cond2 i = 1#1), ∀ a, (k0_off1876 v7357) a + S1x1x1024.size a ≤ S1x2048x1024.size a := fun i v7357 k0_hw853 k0_h2 => k0_hw853.1 k0_h2
theorem k0_off1880_inb : ∀ (i : grid0.Coords) (v7357 : BitVec 32) (k0_hw853 : k0_chk853 i v7357), ∀ (k0_h2 : k0_cond2 i = 1#1), ∀ a, (k0_off1880 v7357) a + S1x1x1024.size a ≤ S1x2048x1024.size a := fun i v7357 k0_hw853 k0_h2 => k0_hw853.2 k0_h2

def k0_off1881 (v7358 : BitVec 32) : Fin 3 → Nat :=
  let c0_5004 : Index := 0#32
  let v7401 : Index := Scalar.indexCast v7358
  let c0_5005 : Index := 0#32
  ![0, v7401.toNat, 0]

def k0_chk854 (i : grid0.Coords) (v7358 : BitVec 32) : Prop :=
  (∀ (k0_h2 : k0_cond2 i = 1#1), ∀ a, (k0_off1877 v7358) a + S1x1x1024.size a ≤ S1x2048x1024.size a) ∧
  (∀ (k0_h2 : k0_cond2 i = 1#1), ∀ a, (k0_off1881 v7358) a + S1x1x1024.size a ≤ S1x2048x1024.size a)
theorem k0_off1877_inb : ∀ (i : grid0.Coords) (v7358 : BitVec 32) (k0_hw854 : k0_chk854 i v7358), ∀ (k0_h2 : k0_cond2 i = 1#1), ∀ a, (k0_off1877 v7358) a + S1x1x1024.size a ≤ S1x2048x1024.size a := fun i v7358 k0_hw854 k0_h2 => k0_hw854.1 k0_h2
theorem k0_off1881_inb : ∀ (i : grid0.Coords) (v7358 : BitVec 32) (k0_hw854 : k0_chk854 i v7358), ∀ (k0_h2 : k0_cond2 i = 1#1), ∀ a, (k0_off1881 v7358) a + S1x1x1024.size a ≤ S1x2048x1024.size a := fun i v7358 k0_hw854 k0_h2 => k0_hw854.2 k0_h2

def k0_off1882 (v7359 : BitVec 32) : Fin 3 → Nat :=
  let c0_5006 : Index := 0#32
  let v7405 : Index := Scalar.indexCast v7359
  let c0_5007 : Index := 0#32
  ![0, v7405.toNat, 0]

def k0_chk855 (i : grid0.Coords) (v7359 : BitVec 32) : Prop :=
  (∀ (k0_h2 : k0_cond2 i = 1#1), ∀ a, (k0_off1878 v7359) a + S1x1x1024.size a ≤ S1x2048x1024.size a) ∧
  (∀ (k0_h2 : k0_cond2 i = 1#1), ∀ a, (k0_off1882 v7359) a + S1x1x1024.size a ≤ S1x2048x1024.size a)
theorem k0_off1878_inb : ∀ (i : grid0.Coords) (v7359 : BitVec 32) (k0_hw855 : k0_chk855 i v7359), ∀ (k0_h2 : k0_cond2 i = 1#1), ∀ a, (k0_off1878 v7359) a + S1x1x1024.size a ≤ S1x2048x1024.size a := fun i v7359 k0_hw855 k0_h2 => k0_hw855.1 k0_h2
theorem k0_off1882_inb : ∀ (i : grid0.Coords) (v7359 : BitVec 32) (k0_hw855 : k0_chk855 i v7359), ∀ (k0_h2 : k0_cond2 i = 1#1), ∀ a, (k0_off1882 v7359) a + S1x1x1024.size a ≤ S1x2048x1024.size a := fun i v7359 k0_hw855 k0_h2 => k0_hw855.2 k0_h2

def k0_off1883 (v7413 : BitVec 32) : Fin 3 → Nat :=
  let c0_5022 : Index := 0#32
  let v7417 : Index := Scalar.indexCast v7413
  let c0_5023 : Index := 0#32
  ![0, v7417.toNat, 0]

def k0_off1884 (v7414 : BitVec 32) : Fin 3 → Nat :=
  let c0_5030 : Index := 0#32
  let v7426 : Index := Scalar.indexCast v7414
  let c0_5031 : Index := 0#32
  ![0, v7426.toNat, 0]

def k0_off1885 (v7415 : BitVec 32) : Fin 3 → Nat :=
  let c0_5038 : Index := 0#32
  let v7435 : Index := Scalar.indexCast v7415
  let c0_5039 : Index := 0#32
  ![0, v7435.toNat, 0]

def k0_off1886 (v7416 : BitVec 32) : Fin 3 → Nat :=
  let c0_5046 : Index := 0#32
  let v7444 : Index := Scalar.indexCast v7416
  let c0_5047 : Index := 0#32
  ![0, v7444.toNat, 0]

def k0_chk860 (i : grid0.Coords) (v7416 : BitVec 32) : Prop :=
  (∀ (k0_h2 : k0_cond2 i = 1#1), ∀ a, (k0_off1886 v7416) a + S1x1x1024.size a ≤ S1x2048x1024.size a)
theorem k0_off1886_inb : ∀ (i : grid0.Coords) (v7416 : BitVec 32) (k0_hw860 : k0_chk860 i v7416), ∀ (k0_h2 : k0_cond2 i = 1#1), ∀ a, (k0_off1886 v7416) a + S1x1x1024.size a ≤ S1x2048x1024.size a := fun i v7416 k0_hw860 k0_h2 => k0_hw860 k0_h2

def k0_off1887 (v7413 : BitVec 32) : Fin 3 → Nat :=
  let c0_5054 : Index := 0#32
  let v7453 : Index := Scalar.indexCast v7413
  let c0_5055 : Index := 0#32
  ![0, v7453.toNat, 0]

def k0_chk857 (i : grid0.Coords) (v7413 : BitVec 32) : Prop :=
  (∀ (k0_h2 : k0_cond2 i = 1#1), ∀ a, (k0_off1883 v7413) a + S1x1x1024.size a ≤ S1x2048x1024.size a) ∧
  (∀ (k0_h2 : k0_cond2 i = 1#1), ∀ a, (k0_off1887 v7413) a + S1x1x1024.size a ≤ S1x2048x1024.size a)
theorem k0_off1883_inb : ∀ (i : grid0.Coords) (v7413 : BitVec 32) (k0_hw857 : k0_chk857 i v7413), ∀ (k0_h2 : k0_cond2 i = 1#1), ∀ a, (k0_off1883 v7413) a + S1x1x1024.size a ≤ S1x2048x1024.size a := fun i v7413 k0_hw857 k0_h2 => k0_hw857.1 k0_h2
theorem k0_off1887_inb : ∀ (i : grid0.Coords) (v7413 : BitVec 32) (k0_hw857 : k0_chk857 i v7413), ∀ (k0_h2 : k0_cond2 i = 1#1), ∀ a, (k0_off1887 v7413) a + S1x1x1024.size a ≤ S1x2048x1024.size a := fun i v7413 k0_hw857 k0_h2 => k0_hw857.2 k0_h2

def k0_off1888 (v7414 : BitVec 32) : Fin 3 → Nat :=
  let c0_5056 : Index := 0#32
  let v7457 : Index := Scalar.indexCast v7414
  let c0_5057 : Index := 0#32
  ![0, v7457.toNat, 0]

def k0_chk858 (i : grid0.Coords) (v7414 : BitVec 32) : Prop :=
  (∀ (k0_h2 : k0_cond2 i = 1#1), ∀ a, (k0_off1884 v7414) a + S1x1x1024.size a ≤ S1x2048x1024.size a) ∧
  (∀ (k0_h2 : k0_cond2 i = 1#1), ∀ a, (k0_off1888 v7414) a + S1x1x1024.size a ≤ S1x2048x1024.size a)
theorem k0_off1884_inb : ∀ (i : grid0.Coords) (v7414 : BitVec 32) (k0_hw858 : k0_chk858 i v7414), ∀ (k0_h2 : k0_cond2 i = 1#1), ∀ a, (k0_off1884 v7414) a + S1x1x1024.size a ≤ S1x2048x1024.size a := fun i v7414 k0_hw858 k0_h2 => k0_hw858.1 k0_h2
theorem k0_off1888_inb : ∀ (i : grid0.Coords) (v7414 : BitVec 32) (k0_hw858 : k0_chk858 i v7414), ∀ (k0_h2 : k0_cond2 i = 1#1), ∀ a, (k0_off1888 v7414) a + S1x1x1024.size a ≤ S1x2048x1024.size a := fun i v7414 k0_hw858 k0_h2 => k0_hw858.2 k0_h2

def k0_off1889 (v7415 : BitVec 32) : Fin 3 → Nat :=
  let c0_5058 : Index := 0#32
  let v7461 : Index := Scalar.indexCast v7415
  let c0_5059 : Index := 0#32
  ![0, v7461.toNat, 0]

def k0_chk859 (i : grid0.Coords) (v7415 : BitVec 32) : Prop :=
  (∀ (k0_h2 : k0_cond2 i = 1#1), ∀ a, (k0_off1885 v7415) a + S1x1x1024.size a ≤ S1x2048x1024.size a) ∧
  (∀ (k0_h2 : k0_cond2 i = 1#1), ∀ a, (k0_off1889 v7415) a + S1x1x1024.size a ≤ S1x2048x1024.size a)
theorem k0_off1885_inb : ∀ (i : grid0.Coords) (v7415 : BitVec 32) (k0_hw859 : k0_chk859 i v7415), ∀ (k0_h2 : k0_cond2 i = 1#1), ∀ a, (k0_off1885 v7415) a + S1x1x1024.size a ≤ S1x2048x1024.size a := fun i v7415 k0_hw859 k0_h2 => k0_hw859.1 k0_h2
theorem k0_off1889_inb : ∀ (i : grid0.Coords) (v7415 : BitVec 32) (k0_hw859 : k0_chk859 i v7415), ∀ (k0_h2 : k0_cond2 i = 1#1), ∀ a, (k0_off1889 v7415) a + S1x1x1024.size a ≤ S1x2048x1024.size a := fun i v7415 k0_hw859 k0_h2 => k0_hw859.2 k0_h2

def k0_off1890 (v7469 : BitVec 32) : Fin 3 → Nat :=
  let c0_5074 : Index := 0#32
  let v7473 : Index := Scalar.indexCast v7469
  let c0_5075 : Index := 0#32
  ![0, v7473.toNat, 0]

def k0_off1891 (v7470 : BitVec 32) : Fin 3 → Nat :=
  let c0_5082 : Index := 0#32
  let v7482 : Index := Scalar.indexCast v7470
  let c0_5083 : Index := 0#32
  ![0, v7482.toNat, 0]

def k0_off1892 (v7471 : BitVec 32) : Fin 3 → Nat :=
  let c0_5090 : Index := 0#32
  let v7491 : Index := Scalar.indexCast v7471
  let c0_5091 : Index := 0#32
  ![0, v7491.toNat, 0]

def k0_off1893 (v7472 : BitVec 32) : Fin 3 → Nat :=
  let c0_5098 : Index := 0#32
  let v7500 : Index := Scalar.indexCast v7472
  let c0_5099 : Index := 0#32
  ![0, v7500.toNat, 0]

def k0_chk864 (i : grid0.Coords) (v7472 : BitVec 32) : Prop :=
  (∀ (k0_h2 : k0_cond2 i = 1#1), ∀ a, (k0_off1893 v7472) a + S1x1x1024.size a ≤ S1x2048x1024.size a)
theorem k0_off1893_inb : ∀ (i : grid0.Coords) (v7472 : BitVec 32) (k0_hw864 : k0_chk864 i v7472), ∀ (k0_h2 : k0_cond2 i = 1#1), ∀ a, (k0_off1893 v7472) a + S1x1x1024.size a ≤ S1x2048x1024.size a := fun i v7472 k0_hw864 k0_h2 => k0_hw864 k0_h2

def k0_off1894 (v7469 : BitVec 32) : Fin 3 → Nat :=
  let c0_5106 : Index := 0#32
  let v7509 : Index := Scalar.indexCast v7469
  let c0_5107 : Index := 0#32
  ![0, v7509.toNat, 0]

def k0_chk861 (i : grid0.Coords) (v7469 : BitVec 32) : Prop :=
  (∀ (k0_h2 : k0_cond2 i = 1#1), ∀ a, (k0_off1890 v7469) a + S1x1x1024.size a ≤ S1x2048x1024.size a) ∧
  (∀ (k0_h2 : k0_cond2 i = 1#1), ∀ a, (k0_off1894 v7469) a + S1x1x1024.size a ≤ S1x2048x1024.size a)
theorem k0_off1890_inb : ∀ (i : grid0.Coords) (v7469 : BitVec 32) (k0_hw861 : k0_chk861 i v7469), ∀ (k0_h2 : k0_cond2 i = 1#1), ∀ a, (k0_off1890 v7469) a + S1x1x1024.size a ≤ S1x2048x1024.size a := fun i v7469 k0_hw861 k0_h2 => k0_hw861.1 k0_h2
theorem k0_off1894_inb : ∀ (i : grid0.Coords) (v7469 : BitVec 32) (k0_hw861 : k0_chk861 i v7469), ∀ (k0_h2 : k0_cond2 i = 1#1), ∀ a, (k0_off1894 v7469) a + S1x1x1024.size a ≤ S1x2048x1024.size a := fun i v7469 k0_hw861 k0_h2 => k0_hw861.2 k0_h2

def k0_off1895 (v7470 : BitVec 32) : Fin 3 → Nat :=
  let c0_5108 : Index := 0#32
  let v7513 : Index := Scalar.indexCast v7470
  let c0_5109 : Index := 0#32
  ![0, v7513.toNat, 0]

def k0_chk862 (i : grid0.Coords) (v7470 : BitVec 32) : Prop :=
  (∀ (k0_h2 : k0_cond2 i = 1#1), ∀ a, (k0_off1891 v7470) a + S1x1x1024.size a ≤ S1x2048x1024.size a) ∧
  (∀ (k0_h2 : k0_cond2 i = 1#1), ∀ a, (k0_off1895 v7470) a + S1x1x1024.size a ≤ S1x2048x1024.size a)
theorem k0_off1891_inb : ∀ (i : grid0.Coords) (v7470 : BitVec 32) (k0_hw862 : k0_chk862 i v7470), ∀ (k0_h2 : k0_cond2 i = 1#1), ∀ a, (k0_off1891 v7470) a + S1x1x1024.size a ≤ S1x2048x1024.size a := fun i v7470 k0_hw862 k0_h2 => k0_hw862.1 k0_h2
theorem k0_off1895_inb : ∀ (i : grid0.Coords) (v7470 : BitVec 32) (k0_hw862 : k0_chk862 i v7470), ∀ (k0_h2 : k0_cond2 i = 1#1), ∀ a, (k0_off1895 v7470) a + S1x1x1024.size a ≤ S1x2048x1024.size a := fun i v7470 k0_hw862 k0_h2 => k0_hw862.2 k0_h2

def k0_off1896 (v7471 : BitVec 32) : Fin 3 → Nat :=
  let c0_5110 : Index := 0#32
  let v7517 : Index := Scalar.indexCast v7471
  let c0_5111 : Index := 0#32
  ![0, v7517.toNat, 0]

def k0_chk863 (i : grid0.Coords) (v7471 : BitVec 32) : Prop :=
  (∀ (k0_h2 : k0_cond2 i = 1#1), ∀ a, (k0_off1892 v7471) a + S1x1x1024.size a ≤ S1x2048x1024.size a) ∧
  (∀ (k0_h2 : k0_cond2 i = 1#1), ∀ a, (k0_off1896 v7471) a + S1x1x1024.size a ≤ S1x2048x1024.size a)
theorem k0_off1892_inb : ∀ (i : grid0.Coords) (v7471 : BitVec 32) (k0_hw863 : k0_chk863 i v7471), ∀ (k0_h2 : k0_cond2 i = 1#1), ∀ a, (k0_off1892 v7471) a + S1x1x1024.size a ≤ S1x2048x1024.size a := fun i v7471 k0_hw863 k0_h2 => k0_hw863.1 k0_h2
theorem k0_off1896_inb : ∀ (i : grid0.Coords) (v7471 : BitVec 32) (k0_hw863 : k0_chk863 i v7471), ∀ (k0_h2 : k0_cond2 i = 1#1), ∀ a, (k0_off1896 v7471) a + S1x1x1024.size a ≤ S1x2048x1024.size a := fun i v7471 k0_hw863 k0_h2 => k0_hw863.2 k0_h2

def k0_off1897 (v7525 : BitVec 32) : Fin 3 → Nat :=
  let c0_5126 : Index := 0#32
  let v7529 : Index := Scalar.indexCast v7525
  let c0_5127 : Index := 0#32
  ![0, v7529.toNat, 0]

def k0_off1898 (v7526 : BitVec 32) : Fin 3 → Nat :=
  let c0_5134 : Index := 0#32
  let v7538 : Index := Scalar.indexCast v7526
  let c0_5135 : Index := 0#32
  ![0, v7538.toNat, 0]

def k0_off1899 (v7527 : BitVec 32) : Fin 3 → Nat :=
  let c0_5142 : Index := 0#32
  let v7547 : Index := Scalar.indexCast v7527
  let c0_5143 : Index := 0#32
  ![0, v7547.toNat, 0]

def k0_off1900 (v7528 : BitVec 32) : Fin 3 → Nat :=
  let c0_5150 : Index := 0#32
  let v7556 : Index := Scalar.indexCast v7528
  let c0_5151 : Index := 0#32
  ![0, v7556.toNat, 0]

def k0_chk868 (i : grid0.Coords) (v7528 : BitVec 32) : Prop :=
  (∀ (k0_h2 : k0_cond2 i = 1#1), ∀ a, (k0_off1900 v7528) a + S1x1x1024.size a ≤ S1x2048x1024.size a)
theorem k0_off1900_inb : ∀ (i : grid0.Coords) (v7528 : BitVec 32) (k0_hw868 : k0_chk868 i v7528), ∀ (k0_h2 : k0_cond2 i = 1#1), ∀ a, (k0_off1900 v7528) a + S1x1x1024.size a ≤ S1x2048x1024.size a := fun i v7528 k0_hw868 k0_h2 => k0_hw868 k0_h2

def k0_off1901 (v7525 : BitVec 32) : Fin 3 → Nat :=
  let c0_5158 : Index := 0#32
  let v7565 : Index := Scalar.indexCast v7525
  let c0_5159 : Index := 0#32
  ![0, v7565.toNat, 0]

def k0_chk865 (i : grid0.Coords) (v7525 : BitVec 32) : Prop :=
  (∀ (k0_h2 : k0_cond2 i = 1#1), ∀ a, (k0_off1897 v7525) a + S1x1x1024.size a ≤ S1x2048x1024.size a) ∧
  (∀ (k0_h2 : k0_cond2 i = 1#1), ∀ a, (k0_off1901 v7525) a + S1x1x1024.size a ≤ S1x2048x1024.size a)
theorem k0_off1897_inb : ∀ (i : grid0.Coords) (v7525 : BitVec 32) (k0_hw865 : k0_chk865 i v7525), ∀ (k0_h2 : k0_cond2 i = 1#1), ∀ a, (k0_off1897 v7525) a + S1x1x1024.size a ≤ S1x2048x1024.size a := fun i v7525 k0_hw865 k0_h2 => k0_hw865.1 k0_h2
theorem k0_off1901_inb : ∀ (i : grid0.Coords) (v7525 : BitVec 32) (k0_hw865 : k0_chk865 i v7525), ∀ (k0_h2 : k0_cond2 i = 1#1), ∀ a, (k0_off1901 v7525) a + S1x1x1024.size a ≤ S1x2048x1024.size a := fun i v7525 k0_hw865 k0_h2 => k0_hw865.2 k0_h2

def k0_off1902 (v7526 : BitVec 32) : Fin 3 → Nat :=
  let c0_5160 : Index := 0#32
  let v7569 : Index := Scalar.indexCast v7526
  let c0_5161 : Index := 0#32
  ![0, v7569.toNat, 0]

def k0_chk866 (i : grid0.Coords) (v7526 : BitVec 32) : Prop :=
  (∀ (k0_h2 : k0_cond2 i = 1#1), ∀ a, (k0_off1898 v7526) a + S1x1x1024.size a ≤ S1x2048x1024.size a) ∧
  (∀ (k0_h2 : k0_cond2 i = 1#1), ∀ a, (k0_off1902 v7526) a + S1x1x1024.size a ≤ S1x2048x1024.size a)
theorem k0_off1898_inb : ∀ (i : grid0.Coords) (v7526 : BitVec 32) (k0_hw866 : k0_chk866 i v7526), ∀ (k0_h2 : k0_cond2 i = 1#1), ∀ a, (k0_off1898 v7526) a + S1x1x1024.size a ≤ S1x2048x1024.size a := fun i v7526 k0_hw866 k0_h2 => k0_hw866.1 k0_h2
theorem k0_off1902_inb : ∀ (i : grid0.Coords) (v7526 : BitVec 32) (k0_hw866 : k0_chk866 i v7526), ∀ (k0_h2 : k0_cond2 i = 1#1), ∀ a, (k0_off1902 v7526) a + S1x1x1024.size a ≤ S1x2048x1024.size a := fun i v7526 k0_hw866 k0_h2 => k0_hw866.2 k0_h2

def k0_off1903 (v7527 : BitVec 32) : Fin 3 → Nat :=
  let c0_5162 : Index := 0#32
  let v7573 : Index := Scalar.indexCast v7527
  let c0_5163 : Index := 0#32
  ![0, v7573.toNat, 0]

def k0_chk867 (i : grid0.Coords) (v7527 : BitVec 32) : Prop :=
  (∀ (k0_h2 : k0_cond2 i = 1#1), ∀ a, (k0_off1899 v7527) a + S1x1x1024.size a ≤ S1x2048x1024.size a) ∧
  (∀ (k0_h2 : k0_cond2 i = 1#1), ∀ a, (k0_off1903 v7527) a + S1x1x1024.size a ≤ S1x2048x1024.size a)
theorem k0_off1899_inb : ∀ (i : grid0.Coords) (v7527 : BitVec 32) (k0_hw867 : k0_chk867 i v7527), ∀ (k0_h2 : k0_cond2 i = 1#1), ∀ a, (k0_off1899 v7527) a + S1x1x1024.size a ≤ S1x2048x1024.size a := fun i v7527 k0_hw867 k0_h2 => k0_hw867.1 k0_h2
theorem k0_off1903_inb : ∀ (i : grid0.Coords) (v7527 : BitVec 32) (k0_hw867 : k0_chk867 i v7527), ∀ (k0_h2 : k0_cond2 i = 1#1), ∀ a, (k0_off1903 v7527) a + S1x1x1024.size a ≤ S1x2048x1024.size a := fun i v7527 k0_hw867 k0_h2 => k0_hw867.2 k0_h2

def k0_off1904 (v7581 : BitVec 32) : Fin 3 → Nat :=
  let c0_5178 : Index := 0#32
  let v7585 : Index := Scalar.indexCast v7581
  let c0_5179 : Index := 0#32
  ![0, v7585.toNat, 0]

def k0_off1905 (v7582 : BitVec 32) : Fin 3 → Nat :=
  let c0_5186 : Index := 0#32
  let v7594 : Index := Scalar.indexCast v7582
  let c0_5187 : Index := 0#32
  ![0, v7594.toNat, 0]

def k0_off1906 (v7583 : BitVec 32) : Fin 3 → Nat :=
  let c0_5194 : Index := 0#32
  let v7603 : Index := Scalar.indexCast v7583
  let c0_5195 : Index := 0#32
  ![0, v7603.toNat, 0]

def k0_off1907 (v7584 : BitVec 32) : Fin 3 → Nat :=
  let c0_5202 : Index := 0#32
  let v7612 : Index := Scalar.indexCast v7584
  let c0_5203 : Index := 0#32
  ![0, v7612.toNat, 0]

def k0_chk872 (i : grid0.Coords) (v7584 : BitVec 32) : Prop :=
  (∀ (k0_h2 : k0_cond2 i = 1#1), ∀ a, (k0_off1907 v7584) a + S1x1x1024.size a ≤ S1x2048x1024.size a)
theorem k0_off1907_inb : ∀ (i : grid0.Coords) (v7584 : BitVec 32) (k0_hw872 : k0_chk872 i v7584), ∀ (k0_h2 : k0_cond2 i = 1#1), ∀ a, (k0_off1907 v7584) a + S1x1x1024.size a ≤ S1x2048x1024.size a := fun i v7584 k0_hw872 k0_h2 => k0_hw872 k0_h2

def k0_off1908 (v7581 : BitVec 32) : Fin 3 → Nat :=
  let c0_5210 : Index := 0#32
  let v7621 : Index := Scalar.indexCast v7581
  let c0_5211 : Index := 0#32
  ![0, v7621.toNat, 0]

def k0_chk869 (i : grid0.Coords) (v7581 : BitVec 32) : Prop :=
  (∀ (k0_h2 : k0_cond2 i = 1#1), ∀ a, (k0_off1904 v7581) a + S1x1x1024.size a ≤ S1x2048x1024.size a) ∧
  (∀ (k0_h2 : k0_cond2 i = 1#1), ∀ a, (k0_off1908 v7581) a + S1x1x1024.size a ≤ S1x2048x1024.size a)
theorem k0_off1904_inb : ∀ (i : grid0.Coords) (v7581 : BitVec 32) (k0_hw869 : k0_chk869 i v7581), ∀ (k0_h2 : k0_cond2 i = 1#1), ∀ a, (k0_off1904 v7581) a + S1x1x1024.size a ≤ S1x2048x1024.size a := fun i v7581 k0_hw869 k0_h2 => k0_hw869.1 k0_h2
theorem k0_off1908_inb : ∀ (i : grid0.Coords) (v7581 : BitVec 32) (k0_hw869 : k0_chk869 i v7581), ∀ (k0_h2 : k0_cond2 i = 1#1), ∀ a, (k0_off1908 v7581) a + S1x1x1024.size a ≤ S1x2048x1024.size a := fun i v7581 k0_hw869 k0_h2 => k0_hw869.2 k0_h2

def k0_off1909 (v7582 : BitVec 32) : Fin 3 → Nat :=
  let c0_5212 : Index := 0#32
  let v7625 : Index := Scalar.indexCast v7582
  let c0_5213 : Index := 0#32
  ![0, v7625.toNat, 0]

def k0_chk870 (i : grid0.Coords) (v7582 : BitVec 32) : Prop :=
  (∀ (k0_h2 : k0_cond2 i = 1#1), ∀ a, (k0_off1905 v7582) a + S1x1x1024.size a ≤ S1x2048x1024.size a) ∧
  (∀ (k0_h2 : k0_cond2 i = 1#1), ∀ a, (k0_off1909 v7582) a + S1x1x1024.size a ≤ S1x2048x1024.size a)
theorem k0_off1905_inb : ∀ (i : grid0.Coords) (v7582 : BitVec 32) (k0_hw870 : k0_chk870 i v7582), ∀ (k0_h2 : k0_cond2 i = 1#1), ∀ a, (k0_off1905 v7582) a + S1x1x1024.size a ≤ S1x2048x1024.size a := fun i v7582 k0_hw870 k0_h2 => k0_hw870.1 k0_h2
theorem k0_off1909_inb : ∀ (i : grid0.Coords) (v7582 : BitVec 32) (k0_hw870 : k0_chk870 i v7582), ∀ (k0_h2 : k0_cond2 i = 1#1), ∀ a, (k0_off1909 v7582) a + S1x1x1024.size a ≤ S1x2048x1024.size a := fun i v7582 k0_hw870 k0_h2 => k0_hw870.2 k0_h2

def k0_off1910 (v7583 : BitVec 32) : Fin 3 → Nat :=
  let c0_5214 : Index := 0#32
  let v7629 : Index := Scalar.indexCast v7583
  let c0_5215 : Index := 0#32
  ![0, v7629.toNat, 0]

def k0_chk871 (i : grid0.Coords) (v7583 : BitVec 32) : Prop :=
  (∀ (k0_h2 : k0_cond2 i = 1#1), ∀ a, (k0_off1906 v7583) a + S1x1x1024.size a ≤ S1x2048x1024.size a) ∧
  (∀ (k0_h2 : k0_cond2 i = 1#1), ∀ a, (k0_off1910 v7583) a + S1x1x1024.size a ≤ S1x2048x1024.size a)
theorem k0_off1906_inb : ∀ (i : grid0.Coords) (v7583 : BitVec 32) (k0_hw871 : k0_chk871 i v7583), ∀ (k0_h2 : k0_cond2 i = 1#1), ∀ a, (k0_off1906 v7583) a + S1x1x1024.size a ≤ S1x2048x1024.size a := fun i v7583 k0_hw871 k0_h2 => k0_hw871.1 k0_h2
theorem k0_off1910_inb : ∀ (i : grid0.Coords) (v7583 : BitVec 32) (k0_hw871 : k0_chk871 i v7583), ∀ (k0_h2 : k0_cond2 i = 1#1), ∀ a, (k0_off1910 v7583) a + S1x1x1024.size a ≤ S1x2048x1024.size a := fun i v7583 k0_hw871 k0_h2 => k0_hw871.2 k0_h2

def k0_off1911 (v7637 : BitVec 32) : Fin 3 → Nat :=
  let c0_5230 : Index := 0#32
  let v7641 : Index := Scalar.indexCast v7637
  let c0_5231 : Index := 0#32
  ![0, v7641.toNat, 0]

def k0_off1912 (v7638 : BitVec 32) : Fin 3 → Nat :=
  let c0_5238 : Index := 0#32
  let v7650 : Index := Scalar.indexCast v7638
  let c0_5239 : Index := 0#32
  ![0, v7650.toNat, 0]

def k0_off1913 (v7639 : BitVec 32) : Fin 3 → Nat :=
  let c0_5246 : Index := 0#32
  let v7659 : Index := Scalar.indexCast v7639
  let c0_5247 : Index := 0#32
  ![0, v7659.toNat, 0]

def k0_off1914 (v7640 : BitVec 32) : Fin 3 → Nat :=
  let c0_5254 : Index := 0#32
  let v7668 : Index := Scalar.indexCast v7640
  let c0_5255 : Index := 0#32
  ![0, v7668.toNat, 0]

def k0_chk876 (i : grid0.Coords) (v7640 : BitVec 32) : Prop :=
  (∀ (k0_h2 : k0_cond2 i = 1#1), ∀ a, (k0_off1914 v7640) a + S1x1x1024.size a ≤ S1x2048x1024.size a)
theorem k0_off1914_inb : ∀ (i : grid0.Coords) (v7640 : BitVec 32) (k0_hw876 : k0_chk876 i v7640), ∀ (k0_h2 : k0_cond2 i = 1#1), ∀ a, (k0_off1914 v7640) a + S1x1x1024.size a ≤ S1x2048x1024.size a := fun i v7640 k0_hw876 k0_h2 => k0_hw876 k0_h2

def k0_off1915 (v7637 : BitVec 32) : Fin 3 → Nat :=
  let c0_5262 : Index := 0#32
  let v7677 : Index := Scalar.indexCast v7637
  let c0_5263 : Index := 0#32
  ![0, v7677.toNat, 0]

def k0_chk873 (i : grid0.Coords) (v7637 : BitVec 32) : Prop :=
  (∀ (k0_h2 : k0_cond2 i = 1#1), ∀ a, (k0_off1911 v7637) a + S1x1x1024.size a ≤ S1x2048x1024.size a) ∧
  (∀ (k0_h2 : k0_cond2 i = 1#1), ∀ a, (k0_off1915 v7637) a + S1x1x1024.size a ≤ S1x2048x1024.size a)
theorem k0_off1911_inb : ∀ (i : grid0.Coords) (v7637 : BitVec 32) (k0_hw873 : k0_chk873 i v7637), ∀ (k0_h2 : k0_cond2 i = 1#1), ∀ a, (k0_off1911 v7637) a + S1x1x1024.size a ≤ S1x2048x1024.size a := fun i v7637 k0_hw873 k0_h2 => k0_hw873.1 k0_h2
theorem k0_off1915_inb : ∀ (i : grid0.Coords) (v7637 : BitVec 32) (k0_hw873 : k0_chk873 i v7637), ∀ (k0_h2 : k0_cond2 i = 1#1), ∀ a, (k0_off1915 v7637) a + S1x1x1024.size a ≤ S1x2048x1024.size a := fun i v7637 k0_hw873 k0_h2 => k0_hw873.2 k0_h2

def k0_off1916 (v7638 : BitVec 32) : Fin 3 → Nat :=
  let c0_5264 : Index := 0#32
  let v7681 : Index := Scalar.indexCast v7638
  let c0_5265 : Index := 0#32
  ![0, v7681.toNat, 0]

def k0_chk874 (i : grid0.Coords) (v7638 : BitVec 32) : Prop :=
  (∀ (k0_h2 : k0_cond2 i = 1#1), ∀ a, (k0_off1912 v7638) a + S1x1x1024.size a ≤ S1x2048x1024.size a) ∧
  (∀ (k0_h2 : k0_cond2 i = 1#1), ∀ a, (k0_off1916 v7638) a + S1x1x1024.size a ≤ S1x2048x1024.size a)
theorem k0_off1912_inb : ∀ (i : grid0.Coords) (v7638 : BitVec 32) (k0_hw874 : k0_chk874 i v7638), ∀ (k0_h2 : k0_cond2 i = 1#1), ∀ a, (k0_off1912 v7638) a + S1x1x1024.size a ≤ S1x2048x1024.size a := fun i v7638 k0_hw874 k0_h2 => k0_hw874.1 k0_h2
theorem k0_off1916_inb : ∀ (i : grid0.Coords) (v7638 : BitVec 32) (k0_hw874 : k0_chk874 i v7638), ∀ (k0_h2 : k0_cond2 i = 1#1), ∀ a, (k0_off1916 v7638) a + S1x1x1024.size a ≤ S1x2048x1024.size a := fun i v7638 k0_hw874 k0_h2 => k0_hw874.2 k0_h2

def k0_off1917 (v7639 : BitVec 32) : Fin 3 → Nat :=
  let c0_5266 : Index := 0#32
  let v7685 : Index := Scalar.indexCast v7639
  let c0_5267 : Index := 0#32
  ![0, v7685.toNat, 0]

def k0_chk875 (i : grid0.Coords) (v7639 : BitVec 32) : Prop :=
  (∀ (k0_h2 : k0_cond2 i = 1#1), ∀ a, (k0_off1913 v7639) a + S1x1x1024.size a ≤ S1x2048x1024.size a) ∧
  (∀ (k0_h2 : k0_cond2 i = 1#1), ∀ a, (k0_off1917 v7639) a + S1x1x1024.size a ≤ S1x2048x1024.size a)
theorem k0_off1913_inb : ∀ (i : grid0.Coords) (v7639 : BitVec 32) (k0_hw875 : k0_chk875 i v7639), ∀ (k0_h2 : k0_cond2 i = 1#1), ∀ a, (k0_off1913 v7639) a + S1x1x1024.size a ≤ S1x2048x1024.size a := fun i v7639 k0_hw875 k0_h2 => k0_hw875.1 k0_h2
theorem k0_off1917_inb : ∀ (i : grid0.Coords) (v7639 : BitVec 32) (k0_hw875 : k0_chk875 i v7639), ∀ (k0_h2 : k0_cond2 i = 1#1), ∀ a, (k0_off1917 v7639) a + S1x1x1024.size a ≤ S1x2048x1024.size a := fun i v7639 k0_hw875 k0_h2 => k0_hw875.2 k0_h2

def k0_off1918 (v7693 : BitVec 32) : Fin 3 → Nat :=
  let c0_5282 : Index := 0#32
  let v7697 : Index := Scalar.indexCast v7693
  let c0_5283 : Index := 0#32
  ![0, v7697.toNat, 0]

def k0_off1919 (v7694 : BitVec 32) : Fin 3 → Nat :=
  let c0_5290 : Index := 0#32
  let v7706 : Index := Scalar.indexCast v7694
  let c0_5291 : Index := 0#32
  ![0, v7706.toNat, 0]

def k0_off1920 (v7695 : BitVec 32) : Fin 3 → Nat :=
  let c0_5298 : Index := 0#32
  let v7715 : Index := Scalar.indexCast v7695
  let c0_5299 : Index := 0#32
  ![0, v7715.toNat, 0]

def k0_off1921 (v7696 : BitVec 32) : Fin 3 → Nat :=
  let c0_5306 : Index := 0#32
  let v7724 : Index := Scalar.indexCast v7696
  let c0_5307 : Index := 0#32
  ![0, v7724.toNat, 0]

def k0_chk880 (i : grid0.Coords) (v7696 : BitVec 32) : Prop :=
  (∀ (k0_h2 : k0_cond2 i = 1#1), ∀ a, (k0_off1921 v7696) a + S1x1x1024.size a ≤ S1x2048x1024.size a)
theorem k0_off1921_inb : ∀ (i : grid0.Coords) (v7696 : BitVec 32) (k0_hw880 : k0_chk880 i v7696), ∀ (k0_h2 : k0_cond2 i = 1#1), ∀ a, (k0_off1921 v7696) a + S1x1x1024.size a ≤ S1x2048x1024.size a := fun i v7696 k0_hw880 k0_h2 => k0_hw880 k0_h2

def k0_off1922 (v7693 : BitVec 32) : Fin 3 → Nat :=
  let c0_5314 : Index := 0#32
  let v7733 : Index := Scalar.indexCast v7693
  let c0_5315 : Index := 0#32
  ![0, v7733.toNat, 0]

def k0_chk877 (i : grid0.Coords) (v7693 : BitVec 32) : Prop :=
  (∀ (k0_h2 : k0_cond2 i = 1#1), ∀ a, (k0_off1918 v7693) a + S1x1x1024.size a ≤ S1x2048x1024.size a) ∧
  (∀ (k0_h2 : k0_cond2 i = 1#1), ∀ a, (k0_off1922 v7693) a + S1x1x1024.size a ≤ S1x2048x1024.size a)
theorem k0_off1918_inb : ∀ (i : grid0.Coords) (v7693 : BitVec 32) (k0_hw877 : k0_chk877 i v7693), ∀ (k0_h2 : k0_cond2 i = 1#1), ∀ a, (k0_off1918 v7693) a + S1x1x1024.size a ≤ S1x2048x1024.size a := fun i v7693 k0_hw877 k0_h2 => k0_hw877.1 k0_h2
theorem k0_off1922_inb : ∀ (i : grid0.Coords) (v7693 : BitVec 32) (k0_hw877 : k0_chk877 i v7693), ∀ (k0_h2 : k0_cond2 i = 1#1), ∀ a, (k0_off1922 v7693) a + S1x1x1024.size a ≤ S1x2048x1024.size a := fun i v7693 k0_hw877 k0_h2 => k0_hw877.2 k0_h2

def k0_off1923 (v7694 : BitVec 32) : Fin 3 → Nat :=
  let c0_5316 : Index := 0#32
  let v7737 : Index := Scalar.indexCast v7694
  let c0_5317 : Index := 0#32
  ![0, v7737.toNat, 0]

def k0_chk878 (i : grid0.Coords) (v7694 : BitVec 32) : Prop :=
  (∀ (k0_h2 : k0_cond2 i = 1#1), ∀ a, (k0_off1919 v7694) a + S1x1x1024.size a ≤ S1x2048x1024.size a) ∧
  (∀ (k0_h2 : k0_cond2 i = 1#1), ∀ a, (k0_off1923 v7694) a + S1x1x1024.size a ≤ S1x2048x1024.size a)
theorem k0_off1919_inb : ∀ (i : grid0.Coords) (v7694 : BitVec 32) (k0_hw878 : k0_chk878 i v7694), ∀ (k0_h2 : k0_cond2 i = 1#1), ∀ a, (k0_off1919 v7694) a + S1x1x1024.size a ≤ S1x2048x1024.size a := fun i v7694 k0_hw878 k0_h2 => k0_hw878.1 k0_h2
theorem k0_off1923_inb : ∀ (i : grid0.Coords) (v7694 : BitVec 32) (k0_hw878 : k0_chk878 i v7694), ∀ (k0_h2 : k0_cond2 i = 1#1), ∀ a, (k0_off1923 v7694) a + S1x1x1024.size a ≤ S1x2048x1024.size a := fun i v7694 k0_hw878 k0_h2 => k0_hw878.2 k0_h2

def k0_off1924 (v7695 : BitVec 32) : Fin 3 → Nat :=
  let c0_5318 : Index := 0#32
  let v7741 : Index := Scalar.indexCast v7695
  let c0_5319 : Index := 0#32
  ![0, v7741.toNat, 0]

def k0_chk879 (i : grid0.Coords) (v7695 : BitVec 32) : Prop :=
  (∀ (k0_h2 : k0_cond2 i = 1#1), ∀ a, (k0_off1920 v7695) a + S1x1x1024.size a ≤ S1x2048x1024.size a) ∧
  (∀ (k0_h2 : k0_cond2 i = 1#1), ∀ a, (k0_off1924 v7695) a + S1x1x1024.size a ≤ S1x2048x1024.size a)
theorem k0_off1920_inb : ∀ (i : grid0.Coords) (v7695 : BitVec 32) (k0_hw879 : k0_chk879 i v7695), ∀ (k0_h2 : k0_cond2 i = 1#1), ∀ a, (k0_off1920 v7695) a + S1x1x1024.size a ≤ S1x2048x1024.size a := fun i v7695 k0_hw879 k0_h2 => k0_hw879.1 k0_h2
theorem k0_off1924_inb : ∀ (i : grid0.Coords) (v7695 : BitVec 32) (k0_hw879 : k0_chk879 i v7695), ∀ (k0_h2 : k0_cond2 i = 1#1), ∀ a, (k0_off1924 v7695) a + S1x1x1024.size a ≤ S1x2048x1024.size a := fun i v7695 k0_hw879 k0_h2 => k0_hw879.2 k0_h2

def k0_off1925 (v7749 : BitVec 32) : Fin 3 → Nat :=
  let c0_5334 : Index := 0#32
  let v7753 : Index := Scalar.indexCast v7749
  let c0_5335 : Index := 0#32
  ![0, v7753.toNat, 0]

def k0_off1926 (v7750 : BitVec 32) : Fin 3 → Nat :=
  let c0_5342 : Index := 0#32
  let v7762 : Index := Scalar.indexCast v7750
  let c0_5343 : Index := 0#32
  ![0, v7762.toNat, 0]

def k0_off1927 (v7751 : BitVec 32) : Fin 3 → Nat :=
  let c0_5350 : Index := 0#32
  let v7771 : Index := Scalar.indexCast v7751
  let c0_5351 : Index := 0#32
  ![0, v7771.toNat, 0]

def k0_off1928 (v7752 : BitVec 32) : Fin 3 → Nat :=
  let c0_5358 : Index := 0#32
  let v7780 : Index := Scalar.indexCast v7752
  let c0_5359 : Index := 0#32
  ![0, v7780.toNat, 0]

def k0_chk884 (i : grid0.Coords) (v7752 : BitVec 32) : Prop :=
  (∀ (k0_h2 : k0_cond2 i = 1#1), ∀ a, (k0_off1928 v7752) a + S1x1x1024.size a ≤ S1x2048x1024.size a)
theorem k0_off1928_inb : ∀ (i : grid0.Coords) (v7752 : BitVec 32) (k0_hw884 : k0_chk884 i v7752), ∀ (k0_h2 : k0_cond2 i = 1#1), ∀ a, (k0_off1928 v7752) a + S1x1x1024.size a ≤ S1x2048x1024.size a := fun i v7752 k0_hw884 k0_h2 => k0_hw884 k0_h2

def k0_off1929 (v7749 : BitVec 32) : Fin 3 → Nat :=
  let c0_5366 : Index := 0#32
  let v7789 : Index := Scalar.indexCast v7749
  let c0_5367 : Index := 0#32
  ![0, v7789.toNat, 0]

def k0_chk881 (i : grid0.Coords) (v7749 : BitVec 32) : Prop :=
  (∀ (k0_h2 : k0_cond2 i = 1#1), ∀ a, (k0_off1925 v7749) a + S1x1x1024.size a ≤ S1x2048x1024.size a) ∧
  (∀ (k0_h2 : k0_cond2 i = 1#1), ∀ a, (k0_off1929 v7749) a + S1x1x1024.size a ≤ S1x2048x1024.size a)
theorem k0_off1925_inb : ∀ (i : grid0.Coords) (v7749 : BitVec 32) (k0_hw881 : k0_chk881 i v7749), ∀ (k0_h2 : k0_cond2 i = 1#1), ∀ a, (k0_off1925 v7749) a + S1x1x1024.size a ≤ S1x2048x1024.size a := fun i v7749 k0_hw881 k0_h2 => k0_hw881.1 k0_h2
theorem k0_off1929_inb : ∀ (i : grid0.Coords) (v7749 : BitVec 32) (k0_hw881 : k0_chk881 i v7749), ∀ (k0_h2 : k0_cond2 i = 1#1), ∀ a, (k0_off1929 v7749) a + S1x1x1024.size a ≤ S1x2048x1024.size a := fun i v7749 k0_hw881 k0_h2 => k0_hw881.2 k0_h2

def k0_off1930 (v7750 : BitVec 32) : Fin 3 → Nat :=
  let c0_5368 : Index := 0#32
  let v7793 : Index := Scalar.indexCast v7750
  let c0_5369 : Index := 0#32
  ![0, v7793.toNat, 0]

def k0_chk882 (i : grid0.Coords) (v7750 : BitVec 32) : Prop :=
  (∀ (k0_h2 : k0_cond2 i = 1#1), ∀ a, (k0_off1926 v7750) a + S1x1x1024.size a ≤ S1x2048x1024.size a) ∧
  (∀ (k0_h2 : k0_cond2 i = 1#1), ∀ a, (k0_off1930 v7750) a + S1x1x1024.size a ≤ S1x2048x1024.size a)
theorem k0_off1926_inb : ∀ (i : grid0.Coords) (v7750 : BitVec 32) (k0_hw882 : k0_chk882 i v7750), ∀ (k0_h2 : k0_cond2 i = 1#1), ∀ a, (k0_off1926 v7750) a + S1x1x1024.size a ≤ S1x2048x1024.size a := fun i v7750 k0_hw882 k0_h2 => k0_hw882.1 k0_h2
theorem k0_off1930_inb : ∀ (i : grid0.Coords) (v7750 : BitVec 32) (k0_hw882 : k0_chk882 i v7750), ∀ (k0_h2 : k0_cond2 i = 1#1), ∀ a, (k0_off1930 v7750) a + S1x1x1024.size a ≤ S1x2048x1024.size a := fun i v7750 k0_hw882 k0_h2 => k0_hw882.2 k0_h2

def k0_off1931 (v7751 : BitVec 32) : Fin 3 → Nat :=
  let c0_5370 : Index := 0#32
  let v7797 : Index := Scalar.indexCast v7751
  let c0_5371 : Index := 0#32
  ![0, v7797.toNat, 0]

def k0_chk883 (i : grid0.Coords) (v7751 : BitVec 32) : Prop :=
  (∀ (k0_h2 : k0_cond2 i = 1#1), ∀ a, (k0_off1927 v7751) a + S1x1x1024.size a ≤ S1x2048x1024.size a) ∧
  (∀ (k0_h2 : k0_cond2 i = 1#1), ∀ a, (k0_off1931 v7751) a + S1x1x1024.size a ≤ S1x2048x1024.size a)
theorem k0_off1927_inb : ∀ (i : grid0.Coords) (v7751 : BitVec 32) (k0_hw883 : k0_chk883 i v7751), ∀ (k0_h2 : k0_cond2 i = 1#1), ∀ a, (k0_off1927 v7751) a + S1x1x1024.size a ≤ S1x2048x1024.size a := fun i v7751 k0_hw883 k0_h2 => k0_hw883.1 k0_h2
theorem k0_off1931_inb : ∀ (i : grid0.Coords) (v7751 : BitVec 32) (k0_hw883 : k0_chk883 i v7751), ∀ (k0_h2 : k0_cond2 i = 1#1), ∀ a, (k0_off1931 v7751) a + S1x1x1024.size a ≤ S1x2048x1024.size a := fun i v7751 k0_hw883 k0_h2 => k0_hw883.2 k0_h2

def k0_off1932 (v7805 : BitVec 32) : Fin 3 → Nat :=
  let c0_5386 : Index := 0#32
  let v7809 : Index := Scalar.indexCast v7805
  let c0_5387 : Index := 0#32
  ![0, v7809.toNat, 0]

def k0_off1933 (v7806 : BitVec 32) : Fin 3 → Nat :=
  let c0_5394 : Index := 0#32
  let v7818 : Index := Scalar.indexCast v7806
  let c0_5395 : Index := 0#32
  ![0, v7818.toNat, 0]

def k0_off1934 (v7807 : BitVec 32) : Fin 3 → Nat :=
  let c0_5402 : Index := 0#32
  let v7827 : Index := Scalar.indexCast v7807
  let c0_5403 : Index := 0#32
  ![0, v7827.toNat, 0]

def k0_off1935 (v7808 : BitVec 32) : Fin 3 → Nat :=
  let c0_5410 : Index := 0#32
  let v7836 : Index := Scalar.indexCast v7808
  let c0_5411 : Index := 0#32
  ![0, v7836.toNat, 0]

def k0_chk888 (i : grid0.Coords) (v7808 : BitVec 32) : Prop :=
  (∀ (k0_h2 : k0_cond2 i = 1#1), ∀ a, (k0_off1935 v7808) a + S1x1x1024.size a ≤ S1x2048x1024.size a)
theorem k0_off1935_inb : ∀ (i : grid0.Coords) (v7808 : BitVec 32) (k0_hw888 : k0_chk888 i v7808), ∀ (k0_h2 : k0_cond2 i = 1#1), ∀ a, (k0_off1935 v7808) a + S1x1x1024.size a ≤ S1x2048x1024.size a := fun i v7808 k0_hw888 k0_h2 => k0_hw888 k0_h2

def k0_off1936 (v7805 : BitVec 32) : Fin 3 → Nat :=
  let c0_5418 : Index := 0#32
  let v7845 : Index := Scalar.indexCast v7805
  let c0_5419 : Index := 0#32
  ![0, v7845.toNat, 0]

def k0_chk885 (i : grid0.Coords) (v7805 : BitVec 32) : Prop :=
  (∀ (k0_h2 : k0_cond2 i = 1#1), ∀ a, (k0_off1932 v7805) a + S1x1x1024.size a ≤ S1x2048x1024.size a) ∧
  (∀ (k0_h2 : k0_cond2 i = 1#1), ∀ a, (k0_off1936 v7805) a + S1x1x1024.size a ≤ S1x2048x1024.size a)
theorem k0_off1932_inb : ∀ (i : grid0.Coords) (v7805 : BitVec 32) (k0_hw885 : k0_chk885 i v7805), ∀ (k0_h2 : k0_cond2 i = 1#1), ∀ a, (k0_off1932 v7805) a + S1x1x1024.size a ≤ S1x2048x1024.size a := fun i v7805 k0_hw885 k0_h2 => k0_hw885.1 k0_h2
theorem k0_off1936_inb : ∀ (i : grid0.Coords) (v7805 : BitVec 32) (k0_hw885 : k0_chk885 i v7805), ∀ (k0_h2 : k0_cond2 i = 1#1), ∀ a, (k0_off1936 v7805) a + S1x1x1024.size a ≤ S1x2048x1024.size a := fun i v7805 k0_hw885 k0_h2 => k0_hw885.2 k0_h2

def k0_off1937 (v7806 : BitVec 32) : Fin 3 → Nat :=
  let c0_5420 : Index := 0#32
  let v7849 : Index := Scalar.indexCast v7806
  let c0_5421 : Index := 0#32
  ![0, v7849.toNat, 0]

def k0_chk886 (i : grid0.Coords) (v7806 : BitVec 32) : Prop :=
  (∀ (k0_h2 : k0_cond2 i = 1#1), ∀ a, (k0_off1933 v7806) a + S1x1x1024.size a ≤ S1x2048x1024.size a) ∧
  (∀ (k0_h2 : k0_cond2 i = 1#1), ∀ a, (k0_off1937 v7806) a + S1x1x1024.size a ≤ S1x2048x1024.size a)
theorem k0_off1933_inb : ∀ (i : grid0.Coords) (v7806 : BitVec 32) (k0_hw886 : k0_chk886 i v7806), ∀ (k0_h2 : k0_cond2 i = 1#1), ∀ a, (k0_off1933 v7806) a + S1x1x1024.size a ≤ S1x2048x1024.size a := fun i v7806 k0_hw886 k0_h2 => k0_hw886.1 k0_h2
theorem k0_off1937_inb : ∀ (i : grid0.Coords) (v7806 : BitVec 32) (k0_hw886 : k0_chk886 i v7806), ∀ (k0_h2 : k0_cond2 i = 1#1), ∀ a, (k0_off1937 v7806) a + S1x1x1024.size a ≤ S1x2048x1024.size a := fun i v7806 k0_hw886 k0_h2 => k0_hw886.2 k0_h2

def k0_off1938 (v7807 : BitVec 32) : Fin 3 → Nat :=
  let c0_5422 : Index := 0#32
  let v7853 : Index := Scalar.indexCast v7807
  let c0_5423 : Index := 0#32
  ![0, v7853.toNat, 0]

def k0_chk887 (i : grid0.Coords) (v7807 : BitVec 32) : Prop :=
  (∀ (k0_h2 : k0_cond2 i = 1#1), ∀ a, (k0_off1934 v7807) a + S1x1x1024.size a ≤ S1x2048x1024.size a) ∧
  (∀ (k0_h2 : k0_cond2 i = 1#1), ∀ a, (k0_off1938 v7807) a + S1x1x1024.size a ≤ S1x2048x1024.size a)
theorem k0_off1934_inb : ∀ (i : grid0.Coords) (v7807 : BitVec 32) (k0_hw887 : k0_chk887 i v7807), ∀ (k0_h2 : k0_cond2 i = 1#1), ∀ a, (k0_off1934 v7807) a + S1x1x1024.size a ≤ S1x2048x1024.size a := fun i v7807 k0_hw887 k0_h2 => k0_hw887.1 k0_h2
theorem k0_off1938_inb : ∀ (i : grid0.Coords) (v7807 : BitVec 32) (k0_hw887 : k0_chk887 i v7807), ∀ (k0_h2 : k0_cond2 i = 1#1), ∀ a, (k0_off1938 v7807) a + S1x1x1024.size a ≤ S1x2048x1024.size a := fun i v7807 k0_hw887 k0_h2 => k0_hw887.2 k0_h2

def k0_off1939 (v7861 : BitVec 32) : Fin 3 → Nat :=
  let c0_5438 : Index := 0#32
  let v7865 : Index := Scalar.indexCast v7861
  let c0_5439 : Index := 0#32
  ![0, v7865.toNat, 0]

def k0_off1940 (v7862 : BitVec 32) : Fin 3 → Nat :=
  let c0_5446 : Index := 0#32
  let v7874 : Index := Scalar.indexCast v7862
  let c0_5447 : Index := 0#32
  ![0, v7874.toNat, 0]

def k0_off1941 (v7863 : BitVec 32) : Fin 3 → Nat :=
  let c0_5454 : Index := 0#32
  let v7883 : Index := Scalar.indexCast v7863
  let c0_5455 : Index := 0#32
  ![0, v7883.toNat, 0]

def k0_off1942 (v7864 : BitVec 32) : Fin 3 → Nat :=
  let c0_5462 : Index := 0#32
  let v7892 : Index := Scalar.indexCast v7864
  let c0_5463 : Index := 0#32
  ![0, v7892.toNat, 0]

def k0_chk892 (i : grid0.Coords) (v7864 : BitVec 32) : Prop :=
  (∀ (k0_h2 : k0_cond2 i = 1#1), ∀ a, (k0_off1942 v7864) a + S1x1x1024.size a ≤ S1x2048x1024.size a)
theorem k0_off1942_inb : ∀ (i : grid0.Coords) (v7864 : BitVec 32) (k0_hw892 : k0_chk892 i v7864), ∀ (k0_h2 : k0_cond2 i = 1#1), ∀ a, (k0_off1942 v7864) a + S1x1x1024.size a ≤ S1x2048x1024.size a := fun i v7864 k0_hw892 k0_h2 => k0_hw892 k0_h2

def k0_off1943 (v7861 : BitVec 32) : Fin 3 → Nat :=
  let c0_5470 : Index := 0#32
  let v7901 : Index := Scalar.indexCast v7861
  let c0_5471 : Index := 0#32
  ![0, v7901.toNat, 0]

def k0_chk889 (i : grid0.Coords) (v7861 : BitVec 32) : Prop :=
  (∀ (k0_h2 : k0_cond2 i = 1#1), ∀ a, (k0_off1939 v7861) a + S1x1x1024.size a ≤ S1x2048x1024.size a) ∧
  (∀ (k0_h2 : k0_cond2 i = 1#1), ∀ a, (k0_off1943 v7861) a + S1x1x1024.size a ≤ S1x2048x1024.size a)
theorem k0_off1939_inb : ∀ (i : grid0.Coords) (v7861 : BitVec 32) (k0_hw889 : k0_chk889 i v7861), ∀ (k0_h2 : k0_cond2 i = 1#1), ∀ a, (k0_off1939 v7861) a + S1x1x1024.size a ≤ S1x2048x1024.size a := fun i v7861 k0_hw889 k0_h2 => k0_hw889.1 k0_h2
theorem k0_off1943_inb : ∀ (i : grid0.Coords) (v7861 : BitVec 32) (k0_hw889 : k0_chk889 i v7861), ∀ (k0_h2 : k0_cond2 i = 1#1), ∀ a, (k0_off1943 v7861) a + S1x1x1024.size a ≤ S1x2048x1024.size a := fun i v7861 k0_hw889 k0_h2 => k0_hw889.2 k0_h2

def k0_off1944 (v7862 : BitVec 32) : Fin 3 → Nat :=
  let c0_5472 : Index := 0#32
  let v7905 : Index := Scalar.indexCast v7862
  let c0_5473 : Index := 0#32
  ![0, v7905.toNat, 0]

def k0_chk890 (i : grid0.Coords) (v7862 : BitVec 32) : Prop :=
  (∀ (k0_h2 : k0_cond2 i = 1#1), ∀ a, (k0_off1940 v7862) a + S1x1x1024.size a ≤ S1x2048x1024.size a) ∧
  (∀ (k0_h2 : k0_cond2 i = 1#1), ∀ a, (k0_off1944 v7862) a + S1x1x1024.size a ≤ S1x2048x1024.size a)
theorem k0_off1940_inb : ∀ (i : grid0.Coords) (v7862 : BitVec 32) (k0_hw890 : k0_chk890 i v7862), ∀ (k0_h2 : k0_cond2 i = 1#1), ∀ a, (k0_off1940 v7862) a + S1x1x1024.size a ≤ S1x2048x1024.size a := fun i v7862 k0_hw890 k0_h2 => k0_hw890.1 k0_h2
theorem k0_off1944_inb : ∀ (i : grid0.Coords) (v7862 : BitVec 32) (k0_hw890 : k0_chk890 i v7862), ∀ (k0_h2 : k0_cond2 i = 1#1), ∀ a, (k0_off1944 v7862) a + S1x1x1024.size a ≤ S1x2048x1024.size a := fun i v7862 k0_hw890 k0_h2 => k0_hw890.2 k0_h2

def k0_off1945 (v7863 : BitVec 32) : Fin 3 → Nat :=
  let c0_5474 : Index := 0#32
  let v7909 : Index := Scalar.indexCast v7863
  let c0_5475 : Index := 0#32
  ![0, v7909.toNat, 0]

def k0_chk891 (i : grid0.Coords) (v7863 : BitVec 32) : Prop :=
  (∀ (k0_h2 : k0_cond2 i = 1#1), ∀ a, (k0_off1941 v7863) a + S1x1x1024.size a ≤ S1x2048x1024.size a) ∧
  (∀ (k0_h2 : k0_cond2 i = 1#1), ∀ a, (k0_off1945 v7863) a + S1x1x1024.size a ≤ S1x2048x1024.size a)
theorem k0_off1941_inb : ∀ (i : grid0.Coords) (v7863 : BitVec 32) (k0_hw891 : k0_chk891 i v7863), ∀ (k0_h2 : k0_cond2 i = 1#1), ∀ a, (k0_off1941 v7863) a + S1x1x1024.size a ≤ S1x2048x1024.size a := fun i v7863 k0_hw891 k0_h2 => k0_hw891.1 k0_h2
theorem k0_off1945_inb : ∀ (i : grid0.Coords) (v7863 : BitVec 32) (k0_hw891 : k0_chk891 i v7863), ∀ (k0_h2 : k0_cond2 i = 1#1), ∀ a, (k0_off1945 v7863) a + S1x1x1024.size a ≤ S1x2048x1024.size a := fun i v7863 k0_hw891 k0_h2 => k0_hw891.2 k0_h2

def k0_off1946 (v7917 : BitVec 32) : Fin 3 → Nat :=
  let c0_5490 : Index := 0#32
  let v7921 : Index := Scalar.indexCast v7917
  let c0_5491 : Index := 0#32
  ![0, v7921.toNat, 0]

def k0_off1947 (v7918 : BitVec 32) : Fin 3 → Nat :=
  let c0_5498 : Index := 0#32
  let v7930 : Index := Scalar.indexCast v7918
  let c0_5499 : Index := 0#32
  ![0, v7930.toNat, 0]

def k0_off1948 (v7919 : BitVec 32) : Fin 3 → Nat :=
  let c0_5506 : Index := 0#32
  let v7939 : Index := Scalar.indexCast v7919
  let c0_5507 : Index := 0#32
  ![0, v7939.toNat, 0]

def k0_off1949 (v7920 : BitVec 32) : Fin 3 → Nat :=
  let c0_5514 : Index := 0#32
  let v7948 : Index := Scalar.indexCast v7920
  let c0_5515 : Index := 0#32
  ![0, v7948.toNat, 0]

def k0_chk896 (i : grid0.Coords) (v7920 : BitVec 32) : Prop :=
  (∀ (k0_h2 : k0_cond2 i = 1#1), ∀ a, (k0_off1949 v7920) a + S1x1x1024.size a ≤ S1x2048x1024.size a)
theorem k0_off1949_inb : ∀ (i : grid0.Coords) (v7920 : BitVec 32) (k0_hw896 : k0_chk896 i v7920), ∀ (k0_h2 : k0_cond2 i = 1#1), ∀ a, (k0_off1949 v7920) a + S1x1x1024.size a ≤ S1x2048x1024.size a := fun i v7920 k0_hw896 k0_h2 => k0_hw896 k0_h2

def k0_off1950 (v7917 : BitVec 32) : Fin 3 → Nat :=
  let c0_5522 : Index := 0#32
  let v7957 : Index := Scalar.indexCast v7917
  let c0_5523 : Index := 0#32
  ![0, v7957.toNat, 0]

def k0_chk893 (i : grid0.Coords) (v7917 : BitVec 32) : Prop :=
  (∀ (k0_h2 : k0_cond2 i = 1#1), ∀ a, (k0_off1946 v7917) a + S1x1x1024.size a ≤ S1x2048x1024.size a) ∧
  (∀ (k0_h2 : k0_cond2 i = 1#1), ∀ a, (k0_off1950 v7917) a + S1x1x1024.size a ≤ S1x2048x1024.size a)
theorem k0_off1946_inb : ∀ (i : grid0.Coords) (v7917 : BitVec 32) (k0_hw893 : k0_chk893 i v7917), ∀ (k0_h2 : k0_cond2 i = 1#1), ∀ a, (k0_off1946 v7917) a + S1x1x1024.size a ≤ S1x2048x1024.size a := fun i v7917 k0_hw893 k0_h2 => k0_hw893.1 k0_h2
theorem k0_off1950_inb : ∀ (i : grid0.Coords) (v7917 : BitVec 32) (k0_hw893 : k0_chk893 i v7917), ∀ (k0_h2 : k0_cond2 i = 1#1), ∀ a, (k0_off1950 v7917) a + S1x1x1024.size a ≤ S1x2048x1024.size a := fun i v7917 k0_hw893 k0_h2 => k0_hw893.2 k0_h2

def k0_off1951 (v7918 : BitVec 32) : Fin 3 → Nat :=
  let c0_5524 : Index := 0#32
  let v7961 : Index := Scalar.indexCast v7918
  let c0_5525 : Index := 0#32
  ![0, v7961.toNat, 0]

def k0_chk894 (i : grid0.Coords) (v7918 : BitVec 32) : Prop :=
  (∀ (k0_h2 : k0_cond2 i = 1#1), ∀ a, (k0_off1947 v7918) a + S1x1x1024.size a ≤ S1x2048x1024.size a) ∧
  (∀ (k0_h2 : k0_cond2 i = 1#1), ∀ a, (k0_off1951 v7918) a + S1x1x1024.size a ≤ S1x2048x1024.size a)
theorem k0_off1947_inb : ∀ (i : grid0.Coords) (v7918 : BitVec 32) (k0_hw894 : k0_chk894 i v7918), ∀ (k0_h2 : k0_cond2 i = 1#1), ∀ a, (k0_off1947 v7918) a + S1x1x1024.size a ≤ S1x2048x1024.size a := fun i v7918 k0_hw894 k0_h2 => k0_hw894.1 k0_h2
theorem k0_off1951_inb : ∀ (i : grid0.Coords) (v7918 : BitVec 32) (k0_hw894 : k0_chk894 i v7918), ∀ (k0_h2 : k0_cond2 i = 1#1), ∀ a, (k0_off1951 v7918) a + S1x1x1024.size a ≤ S1x2048x1024.size a := fun i v7918 k0_hw894 k0_h2 => k0_hw894.2 k0_h2

def k0_off1952 (v7919 : BitVec 32) : Fin 3 → Nat :=
  let c0_5526 : Index := 0#32
  let v7965 : Index := Scalar.indexCast v7919
  let c0_5527 : Index := 0#32
  ![0, v7965.toNat, 0]

def k0_chk895 (i : grid0.Coords) (v7919 : BitVec 32) : Prop :=
  (∀ (k0_h2 : k0_cond2 i = 1#1), ∀ a, (k0_off1948 v7919) a + S1x1x1024.size a ≤ S1x2048x1024.size a) ∧
  (∀ (k0_h2 : k0_cond2 i = 1#1), ∀ a, (k0_off1952 v7919) a + S1x1x1024.size a ≤ S1x2048x1024.size a)
theorem k0_off1948_inb : ∀ (i : grid0.Coords) (v7919 : BitVec 32) (k0_hw895 : k0_chk895 i v7919), ∀ (k0_h2 : k0_cond2 i = 1#1), ∀ a, (k0_off1948 v7919) a + S1x1x1024.size a ≤ S1x2048x1024.size a := fun i v7919 k0_hw895 k0_h2 => k0_hw895.1 k0_h2
theorem k0_off1952_inb : ∀ (i : grid0.Coords) (v7919 : BitVec 32) (k0_hw895 : k0_chk895 i v7919), ∀ (k0_h2 : k0_cond2 i = 1#1), ∀ a, (k0_off1952 v7919) a + S1x1x1024.size a ≤ S1x2048x1024.size a := fun i v7919 k0_hw895 k0_h2 => k0_hw895.2 k0_h2

def k0_off1953 (v7973 : BitVec 32) : Fin 3 → Nat :=
  let c0_5542 : Index := 0#32
  let v7977 : Index := Scalar.indexCast v7973
  let c0_5543 : Index := 0#32
  ![0, v7977.toNat, 0]

def k0_off1954 (v7974 : BitVec 32) : Fin 3 → Nat :=
  let c0_5550 : Index := 0#32
  let v7986 : Index := Scalar.indexCast v7974
  let c0_5551 : Index := 0#32
  ![0, v7986.toNat, 0]

def k0_off1955 (v7975 : BitVec 32) : Fin 3 → Nat :=
  let c0_5558 : Index := 0#32
  let v7995 : Index := Scalar.indexCast v7975
  let c0_5559 : Index := 0#32
  ![0, v7995.toNat, 0]

def k0_off1956 (v7976 : BitVec 32) : Fin 3 → Nat :=
  let c0_5566 : Index := 0#32
  let v8004 : Index := Scalar.indexCast v7976
  let c0_5567 : Index := 0#32
  ![0, v8004.toNat, 0]

def k0_chk900 (i : grid0.Coords) (v7976 : BitVec 32) : Prop :=
  (∀ (k0_h2 : k0_cond2 i = 1#1), ∀ a, (k0_off1956 v7976) a + S1x1x1024.size a ≤ S1x2048x1024.size a)
theorem k0_off1956_inb : ∀ (i : grid0.Coords) (v7976 : BitVec 32) (k0_hw900 : k0_chk900 i v7976), ∀ (k0_h2 : k0_cond2 i = 1#1), ∀ a, (k0_off1956 v7976) a + S1x1x1024.size a ≤ S1x2048x1024.size a := fun i v7976 k0_hw900 k0_h2 => k0_hw900 k0_h2

def k0_off1957 (v7973 : BitVec 32) : Fin 3 → Nat :=
  let c0_5574 : Index := 0#32
  let v8013 : Index := Scalar.indexCast v7973
  let c0_5575 : Index := 0#32
  ![0, v8013.toNat, 0]

def k0_chk897 (i : grid0.Coords) (v7973 : BitVec 32) : Prop :=
  (∀ (k0_h2 : k0_cond2 i = 1#1), ∀ a, (k0_off1953 v7973) a + S1x1x1024.size a ≤ S1x2048x1024.size a) ∧
  (∀ (k0_h2 : k0_cond2 i = 1#1), ∀ a, (k0_off1957 v7973) a + S1x1x1024.size a ≤ S1x2048x1024.size a)
theorem k0_off1953_inb : ∀ (i : grid0.Coords) (v7973 : BitVec 32) (k0_hw897 : k0_chk897 i v7973), ∀ (k0_h2 : k0_cond2 i = 1#1), ∀ a, (k0_off1953 v7973) a + S1x1x1024.size a ≤ S1x2048x1024.size a := fun i v7973 k0_hw897 k0_h2 => k0_hw897.1 k0_h2
theorem k0_off1957_inb : ∀ (i : grid0.Coords) (v7973 : BitVec 32) (k0_hw897 : k0_chk897 i v7973), ∀ (k0_h2 : k0_cond2 i = 1#1), ∀ a, (k0_off1957 v7973) a + S1x1x1024.size a ≤ S1x2048x1024.size a := fun i v7973 k0_hw897 k0_h2 => k0_hw897.2 k0_h2

def k0_off1958 (v7974 : BitVec 32) : Fin 3 → Nat :=
  let c0_5576 : Index := 0#32
  let v8017 : Index := Scalar.indexCast v7974
  let c0_5577 : Index := 0#32
  ![0, v8017.toNat, 0]

def k0_chk898 (i : grid0.Coords) (v7974 : BitVec 32) : Prop :=
  (∀ (k0_h2 : k0_cond2 i = 1#1), ∀ a, (k0_off1954 v7974) a + S1x1x1024.size a ≤ S1x2048x1024.size a) ∧
  (∀ (k0_h2 : k0_cond2 i = 1#1), ∀ a, (k0_off1958 v7974) a + S1x1x1024.size a ≤ S1x2048x1024.size a)
theorem k0_off1954_inb : ∀ (i : grid0.Coords) (v7974 : BitVec 32) (k0_hw898 : k0_chk898 i v7974), ∀ (k0_h2 : k0_cond2 i = 1#1), ∀ a, (k0_off1954 v7974) a + S1x1x1024.size a ≤ S1x2048x1024.size a := fun i v7974 k0_hw898 k0_h2 => k0_hw898.1 k0_h2
theorem k0_off1958_inb : ∀ (i : grid0.Coords) (v7974 : BitVec 32) (k0_hw898 : k0_chk898 i v7974), ∀ (k0_h2 : k0_cond2 i = 1#1), ∀ a, (k0_off1958 v7974) a + S1x1x1024.size a ≤ S1x2048x1024.size a := fun i v7974 k0_hw898 k0_h2 => k0_hw898.2 k0_h2

def k0_off1959 (v7975 : BitVec 32) : Fin 3 → Nat :=
  let c0_5578 : Index := 0#32
  let v8021 : Index := Scalar.indexCast v7975
  let c0_5579 : Index := 0#32
  ![0, v8021.toNat, 0]

def k0_chk899 (i : grid0.Coords) (v7975 : BitVec 32) : Prop :=
  (∀ (k0_h2 : k0_cond2 i = 1#1), ∀ a, (k0_off1955 v7975) a + S1x1x1024.size a ≤ S1x2048x1024.size a) ∧
  (∀ (k0_h2 : k0_cond2 i = 1#1), ∀ a, (k0_off1959 v7975) a + S1x1x1024.size a ≤ S1x2048x1024.size a)
theorem k0_off1955_inb : ∀ (i : grid0.Coords) (v7975 : BitVec 32) (k0_hw899 : k0_chk899 i v7975), ∀ (k0_h2 : k0_cond2 i = 1#1), ∀ a, (k0_off1955 v7975) a + S1x1x1024.size a ≤ S1x2048x1024.size a := fun i v7975 k0_hw899 k0_h2 => k0_hw899.1 k0_h2
theorem k0_off1959_inb : ∀ (i : grid0.Coords) (v7975 : BitVec 32) (k0_hw899 : k0_chk899 i v7975), ∀ (k0_h2 : k0_cond2 i = 1#1), ∀ a, (k0_off1959 v7975) a + S1x1x1024.size a ≤ S1x2048x1024.size a := fun i v7975 k0_hw899 k0_h2 => k0_hw899.2 k0_h2

def k0_off1960 (v8029 : BitVec 32) : Fin 3 → Nat :=
  let c0_5594 : Index := 0#32
  let v8033 : Index := Scalar.indexCast v8029
  let c0_5595 : Index := 0#32
  ![0, v8033.toNat, 0]

def k0_off1961 (v8030 : BitVec 32) : Fin 3 → Nat :=
  let c0_5602 : Index := 0#32
  let v8042 : Index := Scalar.indexCast v8030
  let c0_5603 : Index := 0#32
  ![0, v8042.toNat, 0]

def k0_off1962 (v8031 : BitVec 32) : Fin 3 → Nat :=
  let c0_5610 : Index := 0#32
  let v8051 : Index := Scalar.indexCast v8031
  let c0_5611 : Index := 0#32
  ![0, v8051.toNat, 0]

def k0_off1963 (v8032 : BitVec 32) : Fin 3 → Nat :=
  let c0_5618 : Index := 0#32
  let v8060 : Index := Scalar.indexCast v8032
  let c0_5619 : Index := 0#32
  ![0, v8060.toNat, 0]

def k0_chk904 (i : grid0.Coords) (v8032 : BitVec 32) : Prop :=
  (∀ (k0_h2 : k0_cond2 i = 1#1), ∀ a, (k0_off1963 v8032) a + S1x1x1024.size a ≤ S1x2048x1024.size a)
theorem k0_off1963_inb : ∀ (i : grid0.Coords) (v8032 : BitVec 32) (k0_hw904 : k0_chk904 i v8032), ∀ (k0_h2 : k0_cond2 i = 1#1), ∀ a, (k0_off1963 v8032) a + S1x1x1024.size a ≤ S1x2048x1024.size a := fun i v8032 k0_hw904 k0_h2 => k0_hw904 k0_h2

def k0_off1964 (v8029 : BitVec 32) : Fin 3 → Nat :=
  let c0_5626 : Index := 0#32
  let v8069 : Index := Scalar.indexCast v8029
  let c0_5627 : Index := 0#32
  ![0, v8069.toNat, 0]

def k0_chk901 (i : grid0.Coords) (v8029 : BitVec 32) : Prop :=
  (∀ (k0_h2 : k0_cond2 i = 1#1), ∀ a, (k0_off1960 v8029) a + S1x1x1024.size a ≤ S1x2048x1024.size a) ∧
  (∀ (k0_h2 : k0_cond2 i = 1#1), ∀ a, (k0_off1964 v8029) a + S1x1x1024.size a ≤ S1x2048x1024.size a)
theorem k0_off1960_inb : ∀ (i : grid0.Coords) (v8029 : BitVec 32) (k0_hw901 : k0_chk901 i v8029), ∀ (k0_h2 : k0_cond2 i = 1#1), ∀ a, (k0_off1960 v8029) a + S1x1x1024.size a ≤ S1x2048x1024.size a := fun i v8029 k0_hw901 k0_h2 => k0_hw901.1 k0_h2
theorem k0_off1964_inb : ∀ (i : grid0.Coords) (v8029 : BitVec 32) (k0_hw901 : k0_chk901 i v8029), ∀ (k0_h2 : k0_cond2 i = 1#1), ∀ a, (k0_off1964 v8029) a + S1x1x1024.size a ≤ S1x2048x1024.size a := fun i v8029 k0_hw901 k0_h2 => k0_hw901.2 k0_h2

def k0_off1965 (v8030 : BitVec 32) : Fin 3 → Nat :=
  let c0_5628 : Index := 0#32
  let v8073 : Index := Scalar.indexCast v8030
  let c0_5629 : Index := 0#32
  ![0, v8073.toNat, 0]

def k0_chk902 (i : grid0.Coords) (v8030 : BitVec 32) : Prop :=
  (∀ (k0_h2 : k0_cond2 i = 1#1), ∀ a, (k0_off1961 v8030) a + S1x1x1024.size a ≤ S1x2048x1024.size a) ∧
  (∀ (k0_h2 : k0_cond2 i = 1#1), ∀ a, (k0_off1965 v8030) a + S1x1x1024.size a ≤ S1x2048x1024.size a)
theorem k0_off1961_inb : ∀ (i : grid0.Coords) (v8030 : BitVec 32) (k0_hw902 : k0_chk902 i v8030), ∀ (k0_h2 : k0_cond2 i = 1#1), ∀ a, (k0_off1961 v8030) a + S1x1x1024.size a ≤ S1x2048x1024.size a := fun i v8030 k0_hw902 k0_h2 => k0_hw902.1 k0_h2
theorem k0_off1965_inb : ∀ (i : grid0.Coords) (v8030 : BitVec 32) (k0_hw902 : k0_chk902 i v8030), ∀ (k0_h2 : k0_cond2 i = 1#1), ∀ a, (k0_off1965 v8030) a + S1x1x1024.size a ≤ S1x2048x1024.size a := fun i v8030 k0_hw902 k0_h2 => k0_hw902.2 k0_h2

def k0_off1966 (v8031 : BitVec 32) : Fin 3 → Nat :=
  let c0_5630 : Index := 0#32
  let v8077 : Index := Scalar.indexCast v8031
  let c0_5631 : Index := 0#32
  ![0, v8077.toNat, 0]

def k0_chk903 (i : grid0.Coords) (v8031 : BitVec 32) : Prop :=
  (∀ (k0_h2 : k0_cond2 i = 1#1), ∀ a, (k0_off1962 v8031) a + S1x1x1024.size a ≤ S1x2048x1024.size a) ∧
  (∀ (k0_h2 : k0_cond2 i = 1#1), ∀ a, (k0_off1966 v8031) a + S1x1x1024.size a ≤ S1x2048x1024.size a)
theorem k0_off1962_inb : ∀ (i : grid0.Coords) (v8031 : BitVec 32) (k0_hw903 : k0_chk903 i v8031), ∀ (k0_h2 : k0_cond2 i = 1#1), ∀ a, (k0_off1962 v8031) a + S1x1x1024.size a ≤ S1x2048x1024.size a := fun i v8031 k0_hw903 k0_h2 => k0_hw903.1 k0_h2
theorem k0_off1966_inb : ∀ (i : grid0.Coords) (v8031 : BitVec 32) (k0_hw903 : k0_chk903 i v8031), ∀ (k0_h2 : k0_cond2 i = 1#1), ∀ a, (k0_off1966 v8031) a + S1x1x1024.size a ≤ S1x2048x1024.size a := fun i v8031 k0_hw903 k0_h2 => k0_hw903.2 k0_h2

def k0_off1967 (v8085 : BitVec 32) : Fin 3 → Nat :=
  let c0_5646 : Index := 0#32
  let v8089 : Index := Scalar.indexCast v8085
  let c0_5647 : Index := 0#32
  ![0, v8089.toNat, 0]

def k0_off1968 (v8086 : BitVec 32) : Fin 3 → Nat :=
  let c0_5654 : Index := 0#32
  let v8098 : Index := Scalar.indexCast v8086
  let c0_5655 : Index := 0#32
  ![0, v8098.toNat, 0]

def k0_off1969 (v8087 : BitVec 32) : Fin 3 → Nat :=
  let c0_5662 : Index := 0#32
  let v8107 : Index := Scalar.indexCast v8087
  let c0_5663 : Index := 0#32
  ![0, v8107.toNat, 0]

def k0_off1970 (v8088 : BitVec 32) : Fin 3 → Nat :=
  let c0_5670 : Index := 0#32
  let v8116 : Index := Scalar.indexCast v8088
  let c0_5671 : Index := 0#32
  ![0, v8116.toNat, 0]

def k0_chk908 (i : grid0.Coords) (v8088 : BitVec 32) : Prop :=
  (∀ (k0_h2 : k0_cond2 i = 1#1), ∀ a, (k0_off1970 v8088) a + S1x1x1024.size a ≤ S1x2048x1024.size a)
theorem k0_off1970_inb : ∀ (i : grid0.Coords) (v8088 : BitVec 32) (k0_hw908 : k0_chk908 i v8088), ∀ (k0_h2 : k0_cond2 i = 1#1), ∀ a, (k0_off1970 v8088) a + S1x1x1024.size a ≤ S1x2048x1024.size a := fun i v8088 k0_hw908 k0_h2 => k0_hw908 k0_h2

def k0_off1971 (v8085 : BitVec 32) : Fin 3 → Nat :=
  let c0_5678 : Index := 0#32
  let v8125 : Index := Scalar.indexCast v8085
  let c0_5679 : Index := 0#32
  ![0, v8125.toNat, 0]

def k0_chk905 (i : grid0.Coords) (v8085 : BitVec 32) : Prop :=
  (∀ (k0_h2 : k0_cond2 i = 1#1), ∀ a, (k0_off1967 v8085) a + S1x1x1024.size a ≤ S1x2048x1024.size a) ∧
  (∀ (k0_h2 : k0_cond2 i = 1#1), ∀ a, (k0_off1971 v8085) a + S1x1x1024.size a ≤ S1x2048x1024.size a)
theorem k0_off1967_inb : ∀ (i : grid0.Coords) (v8085 : BitVec 32) (k0_hw905 : k0_chk905 i v8085), ∀ (k0_h2 : k0_cond2 i = 1#1), ∀ a, (k0_off1967 v8085) a + S1x1x1024.size a ≤ S1x2048x1024.size a := fun i v8085 k0_hw905 k0_h2 => k0_hw905.1 k0_h2
theorem k0_off1971_inb : ∀ (i : grid0.Coords) (v8085 : BitVec 32) (k0_hw905 : k0_chk905 i v8085), ∀ (k0_h2 : k0_cond2 i = 1#1), ∀ a, (k0_off1971 v8085) a + S1x1x1024.size a ≤ S1x2048x1024.size a := fun i v8085 k0_hw905 k0_h2 => k0_hw905.2 k0_h2

def k0_off1972 (v8086 : BitVec 32) : Fin 3 → Nat :=
  let c0_5680 : Index := 0#32
  let v8129 : Index := Scalar.indexCast v8086
  let c0_5681 : Index := 0#32
  ![0, v8129.toNat, 0]

def k0_chk906 (i : grid0.Coords) (v8086 : BitVec 32) : Prop :=
  (∀ (k0_h2 : k0_cond2 i = 1#1), ∀ a, (k0_off1968 v8086) a + S1x1x1024.size a ≤ S1x2048x1024.size a) ∧
  (∀ (k0_h2 : k0_cond2 i = 1#1), ∀ a, (k0_off1972 v8086) a + S1x1x1024.size a ≤ S1x2048x1024.size a)
theorem k0_off1968_inb : ∀ (i : grid0.Coords) (v8086 : BitVec 32) (k0_hw906 : k0_chk906 i v8086), ∀ (k0_h2 : k0_cond2 i = 1#1), ∀ a, (k0_off1968 v8086) a + S1x1x1024.size a ≤ S1x2048x1024.size a := fun i v8086 k0_hw906 k0_h2 => k0_hw906.1 k0_h2
theorem k0_off1972_inb : ∀ (i : grid0.Coords) (v8086 : BitVec 32) (k0_hw906 : k0_chk906 i v8086), ∀ (k0_h2 : k0_cond2 i = 1#1), ∀ a, (k0_off1972 v8086) a + S1x1x1024.size a ≤ S1x2048x1024.size a := fun i v8086 k0_hw906 k0_h2 => k0_hw906.2 k0_h2

def k0_off1973 (v8087 : BitVec 32) : Fin 3 → Nat :=
  let c0_5682 : Index := 0#32
  let v8133 : Index := Scalar.indexCast v8087
  let c0_5683 : Index := 0#32
  ![0, v8133.toNat, 0]

def k0_chk907 (i : grid0.Coords) (v8087 : BitVec 32) : Prop :=
  (∀ (k0_h2 : k0_cond2 i = 1#1), ∀ a, (k0_off1969 v8087) a + S1x1x1024.size a ≤ S1x2048x1024.size a) ∧
  (∀ (k0_h2 : k0_cond2 i = 1#1), ∀ a, (k0_off1973 v8087) a + S1x1x1024.size a ≤ S1x2048x1024.size a)
theorem k0_off1969_inb : ∀ (i : grid0.Coords) (v8087 : BitVec 32) (k0_hw907 : k0_chk907 i v8087), ∀ (k0_h2 : k0_cond2 i = 1#1), ∀ a, (k0_off1969 v8087) a + S1x1x1024.size a ≤ S1x2048x1024.size a := fun i v8087 k0_hw907 k0_h2 => k0_hw907.1 k0_h2
theorem k0_off1973_inb : ∀ (i : grid0.Coords) (v8087 : BitVec 32) (k0_hw907 : k0_chk907 i v8087), ∀ (k0_h2 : k0_cond2 i = 1#1), ∀ a, (k0_off1973 v8087) a + S1x1x1024.size a ≤ S1x2048x1024.size a := fun i v8087 k0_hw907 k0_h2 => k0_hw907.2 k0_h2

def k0_off1974 (v8141 : BitVec 32) : Fin 3 → Nat :=
  let c0_5698 : Index := 0#32
  let v8145 : Index := Scalar.indexCast v8141
  let c0_5699 : Index := 0#32
  ![0, v8145.toNat, 0]

def k0_off1975 (v8142 : BitVec 32) : Fin 3 → Nat :=
  let c0_5706 : Index := 0#32
  let v8154 : Index := Scalar.indexCast v8142
  let c0_5707 : Index := 0#32
  ![0, v8154.toNat, 0]

def k0_off1976 (v8143 : BitVec 32) : Fin 3 → Nat :=
  let c0_5714 : Index := 0#32
  let v8163 : Index := Scalar.indexCast v8143
  let c0_5715 : Index := 0#32
  ![0, v8163.toNat, 0]

def k0_off1977 (v8144 : BitVec 32) : Fin 3 → Nat :=
  let c0_5722 : Index := 0#32
  let v8172 : Index := Scalar.indexCast v8144
  let c0_5723 : Index := 0#32
  ![0, v8172.toNat, 0]

def k0_chk912 (i : grid0.Coords) (v8144 : BitVec 32) : Prop :=
  (∀ (k0_h2 : k0_cond2 i = 1#1), ∀ a, (k0_off1977 v8144) a + S1x1x1024.size a ≤ S1x2048x1024.size a)
theorem k0_off1977_inb : ∀ (i : grid0.Coords) (v8144 : BitVec 32) (k0_hw912 : k0_chk912 i v8144), ∀ (k0_h2 : k0_cond2 i = 1#1), ∀ a, (k0_off1977 v8144) a + S1x1x1024.size a ≤ S1x2048x1024.size a := fun i v8144 k0_hw912 k0_h2 => k0_hw912 k0_h2

def k0_off1978 (v8141 : BitVec 32) : Fin 3 → Nat :=
  let c0_5730 : Index := 0#32
  let v8181 : Index := Scalar.indexCast v8141
  let c0_5731 : Index := 0#32
  ![0, v8181.toNat, 0]

def k0_chk909 (i : grid0.Coords) (v8141 : BitVec 32) : Prop :=
  (∀ (k0_h2 : k0_cond2 i = 1#1), ∀ a, (k0_off1974 v8141) a + S1x1x1024.size a ≤ S1x2048x1024.size a) ∧
  (∀ (k0_h2 : k0_cond2 i = 1#1), ∀ a, (k0_off1978 v8141) a + S1x1x1024.size a ≤ S1x2048x1024.size a)
theorem k0_off1974_inb : ∀ (i : grid0.Coords) (v8141 : BitVec 32) (k0_hw909 : k0_chk909 i v8141), ∀ (k0_h2 : k0_cond2 i = 1#1), ∀ a, (k0_off1974 v8141) a + S1x1x1024.size a ≤ S1x2048x1024.size a := fun i v8141 k0_hw909 k0_h2 => k0_hw909.1 k0_h2
theorem k0_off1978_inb : ∀ (i : grid0.Coords) (v8141 : BitVec 32) (k0_hw909 : k0_chk909 i v8141), ∀ (k0_h2 : k0_cond2 i = 1#1), ∀ a, (k0_off1978 v8141) a + S1x1x1024.size a ≤ S1x2048x1024.size a := fun i v8141 k0_hw909 k0_h2 => k0_hw909.2 k0_h2

def k0_off1979 (v8142 : BitVec 32) : Fin 3 → Nat :=
  let c0_5732 : Index := 0#32
  let v8185 : Index := Scalar.indexCast v8142
  let c0_5733 : Index := 0#32
  ![0, v8185.toNat, 0]

def k0_chk910 (i : grid0.Coords) (v8142 : BitVec 32) : Prop :=
  (∀ (k0_h2 : k0_cond2 i = 1#1), ∀ a, (k0_off1975 v8142) a + S1x1x1024.size a ≤ S1x2048x1024.size a) ∧
  (∀ (k0_h2 : k0_cond2 i = 1#1), ∀ a, (k0_off1979 v8142) a + S1x1x1024.size a ≤ S1x2048x1024.size a)
theorem k0_off1975_inb : ∀ (i : grid0.Coords) (v8142 : BitVec 32) (k0_hw910 : k0_chk910 i v8142), ∀ (k0_h2 : k0_cond2 i = 1#1), ∀ a, (k0_off1975 v8142) a + S1x1x1024.size a ≤ S1x2048x1024.size a := fun i v8142 k0_hw910 k0_h2 => k0_hw910.1 k0_h2
theorem k0_off1979_inb : ∀ (i : grid0.Coords) (v8142 : BitVec 32) (k0_hw910 : k0_chk910 i v8142), ∀ (k0_h2 : k0_cond2 i = 1#1), ∀ a, (k0_off1979 v8142) a + S1x1x1024.size a ≤ S1x2048x1024.size a := fun i v8142 k0_hw910 k0_h2 => k0_hw910.2 k0_h2

def k0_off1980 (v8143 : BitVec 32) : Fin 3 → Nat :=
  let c0_5734 : Index := 0#32
  let v8189 : Index := Scalar.indexCast v8143
  let c0_5735 : Index := 0#32
  ![0, v8189.toNat, 0]

def k0_chk911 (i : grid0.Coords) (v8143 : BitVec 32) : Prop :=
  (∀ (k0_h2 : k0_cond2 i = 1#1), ∀ a, (k0_off1976 v8143) a + S1x1x1024.size a ≤ S1x2048x1024.size a) ∧
  (∀ (k0_h2 : k0_cond2 i = 1#1), ∀ a, (k0_off1980 v8143) a + S1x1x1024.size a ≤ S1x2048x1024.size a)
theorem k0_off1976_inb : ∀ (i : grid0.Coords) (v8143 : BitVec 32) (k0_hw911 : k0_chk911 i v8143), ∀ (k0_h2 : k0_cond2 i = 1#1), ∀ a, (k0_off1976 v8143) a + S1x1x1024.size a ≤ S1x2048x1024.size a := fun i v8143 k0_hw911 k0_h2 => k0_hw911.1 k0_h2
theorem k0_off1980_inb : ∀ (i : grid0.Coords) (v8143 : BitVec 32) (k0_hw911 : k0_chk911 i v8143), ∀ (k0_h2 : k0_cond2 i = 1#1), ∀ a, (k0_off1980 v8143) a + S1x1x1024.size a ≤ S1x2048x1024.size a := fun i v8143 k0_hw911 k0_h2 => k0_hw911.2 k0_h2

def k0_off1981 (v8197 : BitVec 32) : Fin 3 → Nat :=
  let c0_5750 : Index := 0#32
  let v8201 : Index := Scalar.indexCast v8197
  let c0_5751 : Index := 0#32
  ![0, v8201.toNat, 0]

def k0_off1982 (v8198 : BitVec 32) : Fin 3 → Nat :=
  let c0_5758 : Index := 0#32
  let v8210 : Index := Scalar.indexCast v8198
  let c0_5759 : Index := 0#32
  ![0, v8210.toNat, 0]

def k0_off1983 (v8199 : BitVec 32) : Fin 3 → Nat :=
  let c0_5766 : Index := 0#32
  let v8219 : Index := Scalar.indexCast v8199
  let c0_5767 : Index := 0#32
  ![0, v8219.toNat, 0]

def k0_off1984 (v8200 : BitVec 32) : Fin 3 → Nat :=
  let c0_5774 : Index := 0#32
  let v8228 : Index := Scalar.indexCast v8200
  let c0_5775 : Index := 0#32
  ![0, v8228.toNat, 0]

def k0_chk916 (i : grid0.Coords) (v8200 : BitVec 32) : Prop :=
  (∀ (k0_h2 : k0_cond2 i = 1#1), ∀ a, (k0_off1984 v8200) a + S1x1x1024.size a ≤ S1x2048x1024.size a)
theorem k0_off1984_inb : ∀ (i : grid0.Coords) (v8200 : BitVec 32) (k0_hw916 : k0_chk916 i v8200), ∀ (k0_h2 : k0_cond2 i = 1#1), ∀ a, (k0_off1984 v8200) a + S1x1x1024.size a ≤ S1x2048x1024.size a := fun i v8200 k0_hw916 k0_h2 => k0_hw916 k0_h2

def k0_off1985 (v8197 : BitVec 32) : Fin 3 → Nat :=
  let c0_5782 : Index := 0#32
  let v8237 : Index := Scalar.indexCast v8197
  let c0_5783 : Index := 0#32
  ![0, v8237.toNat, 0]

def k0_chk913 (i : grid0.Coords) (v8197 : BitVec 32) : Prop :=
  (∀ (k0_h2 : k0_cond2 i = 1#1), ∀ a, (k0_off1981 v8197) a + S1x1x1024.size a ≤ S1x2048x1024.size a) ∧
  (∀ (k0_h2 : k0_cond2 i = 1#1), ∀ a, (k0_off1985 v8197) a + S1x1x1024.size a ≤ S1x2048x1024.size a)
theorem k0_off1981_inb : ∀ (i : grid0.Coords) (v8197 : BitVec 32) (k0_hw913 : k0_chk913 i v8197), ∀ (k0_h2 : k0_cond2 i = 1#1), ∀ a, (k0_off1981 v8197) a + S1x1x1024.size a ≤ S1x2048x1024.size a := fun i v8197 k0_hw913 k0_h2 => k0_hw913.1 k0_h2
theorem k0_off1985_inb : ∀ (i : grid0.Coords) (v8197 : BitVec 32) (k0_hw913 : k0_chk913 i v8197), ∀ (k0_h2 : k0_cond2 i = 1#1), ∀ a, (k0_off1985 v8197) a + S1x1x1024.size a ≤ S1x2048x1024.size a := fun i v8197 k0_hw913 k0_h2 => k0_hw913.2 k0_h2

def k0_off1986 (v8198 : BitVec 32) : Fin 3 → Nat :=
  let c0_5784 : Index := 0#32
  let v8241 : Index := Scalar.indexCast v8198
  let c0_5785 : Index := 0#32
  ![0, v8241.toNat, 0]

def k0_chk914 (i : grid0.Coords) (v8198 : BitVec 32) : Prop :=
  (∀ (k0_h2 : k0_cond2 i = 1#1), ∀ a, (k0_off1982 v8198) a + S1x1x1024.size a ≤ S1x2048x1024.size a) ∧
  (∀ (k0_h2 : k0_cond2 i = 1#1), ∀ a, (k0_off1986 v8198) a + S1x1x1024.size a ≤ S1x2048x1024.size a)
theorem k0_off1982_inb : ∀ (i : grid0.Coords) (v8198 : BitVec 32) (k0_hw914 : k0_chk914 i v8198), ∀ (k0_h2 : k0_cond2 i = 1#1), ∀ a, (k0_off1982 v8198) a + S1x1x1024.size a ≤ S1x2048x1024.size a := fun i v8198 k0_hw914 k0_h2 => k0_hw914.1 k0_h2
theorem k0_off1986_inb : ∀ (i : grid0.Coords) (v8198 : BitVec 32) (k0_hw914 : k0_chk914 i v8198), ∀ (k0_h2 : k0_cond2 i = 1#1), ∀ a, (k0_off1986 v8198) a + S1x1x1024.size a ≤ S1x2048x1024.size a := fun i v8198 k0_hw914 k0_h2 => k0_hw914.2 k0_h2

def k0_off1987 (v8199 : BitVec 32) : Fin 3 → Nat :=
  let c0_5786 : Index := 0#32
  let v8245 : Index := Scalar.indexCast v8199
  let c0_5787 : Index := 0#32
  ![0, v8245.toNat, 0]

def k0_chk915 (i : grid0.Coords) (v8199 : BitVec 32) : Prop :=
  (∀ (k0_h2 : k0_cond2 i = 1#1), ∀ a, (k0_off1983 v8199) a + S1x1x1024.size a ≤ S1x2048x1024.size a) ∧
  (∀ (k0_h2 : k0_cond2 i = 1#1), ∀ a, (k0_off1987 v8199) a + S1x1x1024.size a ≤ S1x2048x1024.size a)
theorem k0_off1983_inb : ∀ (i : grid0.Coords) (v8199 : BitVec 32) (k0_hw915 : k0_chk915 i v8199), ∀ (k0_h2 : k0_cond2 i = 1#1), ∀ a, (k0_off1983 v8199) a + S1x1x1024.size a ≤ S1x2048x1024.size a := fun i v8199 k0_hw915 k0_h2 => k0_hw915.1 k0_h2
theorem k0_off1987_inb : ∀ (i : grid0.Coords) (v8199 : BitVec 32) (k0_hw915 : k0_chk915 i v8199), ∀ (k0_h2 : k0_cond2 i = 1#1), ∀ a, (k0_off1987 v8199) a + S1x1x1024.size a ≤ S1x2048x1024.size a := fun i v8199 k0_hw915 k0_h2 => k0_hw915.2 k0_h2

def k0_off1988 (v8253 : BitVec 32) : Fin 3 → Nat :=
  let c0_5802 : Index := 0#32
  let v8257 : Index := Scalar.indexCast v8253
  let c0_5803 : Index := 0#32
  ![0, v8257.toNat, 0]

def k0_off1989 (v8254 : BitVec 32) : Fin 3 → Nat :=
  let c0_5810 : Index := 0#32
  let v8266 : Index := Scalar.indexCast v8254
  let c0_5811 : Index := 0#32
  ![0, v8266.toNat, 0]

def k0_off1990 (v8255 : BitVec 32) : Fin 3 → Nat :=
  let c0_5818 : Index := 0#32
  let v8275 : Index := Scalar.indexCast v8255
  let c0_5819 : Index := 0#32
  ![0, v8275.toNat, 0]

def k0_off1991 (v8256 : BitVec 32) : Fin 3 → Nat :=
  let c0_5826 : Index := 0#32
  let v8284 : Index := Scalar.indexCast v8256
  let c0_5827 : Index := 0#32
  ![0, v8284.toNat, 0]

def k0_chk920 (i : grid0.Coords) (v8256 : BitVec 32) : Prop :=
  (∀ (k0_h2 : k0_cond2 i = 1#1), ∀ a, (k0_off1991 v8256) a + S1x1x1024.size a ≤ S1x2048x1024.size a)
theorem k0_off1991_inb : ∀ (i : grid0.Coords) (v8256 : BitVec 32) (k0_hw920 : k0_chk920 i v8256), ∀ (k0_h2 : k0_cond2 i = 1#1), ∀ a, (k0_off1991 v8256) a + S1x1x1024.size a ≤ S1x2048x1024.size a := fun i v8256 k0_hw920 k0_h2 => k0_hw920 k0_h2

def k0_off1992 (v8253 : BitVec 32) : Fin 3 → Nat :=
  let c0_5834 : Index := 0#32
  let v8293 : Index := Scalar.indexCast v8253
  let c0_5835 : Index := 0#32
  ![0, v8293.toNat, 0]

def k0_chk917 (i : grid0.Coords) (v8253 : BitVec 32) : Prop :=
  (∀ (k0_h2 : k0_cond2 i = 1#1), ∀ a, (k0_off1988 v8253) a + S1x1x1024.size a ≤ S1x2048x1024.size a) ∧
  (∀ (k0_h2 : k0_cond2 i = 1#1), ∀ a, (k0_off1992 v8253) a + S1x1x1024.size a ≤ S1x2048x1024.size a)
theorem k0_off1988_inb : ∀ (i : grid0.Coords) (v8253 : BitVec 32) (k0_hw917 : k0_chk917 i v8253), ∀ (k0_h2 : k0_cond2 i = 1#1), ∀ a, (k0_off1988 v8253) a + S1x1x1024.size a ≤ S1x2048x1024.size a := fun i v8253 k0_hw917 k0_h2 => k0_hw917.1 k0_h2
theorem k0_off1992_inb : ∀ (i : grid0.Coords) (v8253 : BitVec 32) (k0_hw917 : k0_chk917 i v8253), ∀ (k0_h2 : k0_cond2 i = 1#1), ∀ a, (k0_off1992 v8253) a + S1x1x1024.size a ≤ S1x2048x1024.size a := fun i v8253 k0_hw917 k0_h2 => k0_hw917.2 k0_h2

def k0_off1993 (v8254 : BitVec 32) : Fin 3 → Nat :=
  let c0_5836 : Index := 0#32
  let v8297 : Index := Scalar.indexCast v8254
  let c0_5837 : Index := 0#32
  ![0, v8297.toNat, 0]

def k0_chk918 (i : grid0.Coords) (v8254 : BitVec 32) : Prop :=
  (∀ (k0_h2 : k0_cond2 i = 1#1), ∀ a, (k0_off1989 v8254) a + S1x1x1024.size a ≤ S1x2048x1024.size a) ∧
  (∀ (k0_h2 : k0_cond2 i = 1#1), ∀ a, (k0_off1993 v8254) a + S1x1x1024.size a ≤ S1x2048x1024.size a)
theorem k0_off1989_inb : ∀ (i : grid0.Coords) (v8254 : BitVec 32) (k0_hw918 : k0_chk918 i v8254), ∀ (k0_h2 : k0_cond2 i = 1#1), ∀ a, (k0_off1989 v8254) a + S1x1x1024.size a ≤ S1x2048x1024.size a := fun i v8254 k0_hw918 k0_h2 => k0_hw918.1 k0_h2
theorem k0_off1993_inb : ∀ (i : grid0.Coords) (v8254 : BitVec 32) (k0_hw918 : k0_chk918 i v8254), ∀ (k0_h2 : k0_cond2 i = 1#1), ∀ a, (k0_off1993 v8254) a + S1x1x1024.size a ≤ S1x2048x1024.size a := fun i v8254 k0_hw918 k0_h2 => k0_hw918.2 k0_h2

def k0_off1994 (v8255 : BitVec 32) : Fin 3 → Nat :=
  let c0_5838 : Index := 0#32
  let v8301 : Index := Scalar.indexCast v8255
  let c0_5839 : Index := 0#32
  ![0, v8301.toNat, 0]

def k0_chk919 (i : grid0.Coords) (v8255 : BitVec 32) : Prop :=
  (∀ (k0_h2 : k0_cond2 i = 1#1), ∀ a, (k0_off1990 v8255) a + S1x1x1024.size a ≤ S1x2048x1024.size a) ∧
  (∀ (k0_h2 : k0_cond2 i = 1#1), ∀ a, (k0_off1994 v8255) a + S1x1x1024.size a ≤ S1x2048x1024.size a)
theorem k0_off1990_inb : ∀ (i : grid0.Coords) (v8255 : BitVec 32) (k0_hw919 : k0_chk919 i v8255), ∀ (k0_h2 : k0_cond2 i = 1#1), ∀ a, (k0_off1990 v8255) a + S1x1x1024.size a ≤ S1x2048x1024.size a := fun i v8255 k0_hw919 k0_h2 => k0_hw919.1 k0_h2
theorem k0_off1994_inb : ∀ (i : grid0.Coords) (v8255 : BitVec 32) (k0_hw919 : k0_chk919 i v8255), ∀ (k0_h2 : k0_cond2 i = 1#1), ∀ a, (k0_off1994 v8255) a + S1x1x1024.size a ≤ S1x2048x1024.size a := fun i v8255 k0_hw919 k0_h2 => k0_hw919.2 k0_h2

def k0_off1995 (v8309 : BitVec 32) : Fin 3 → Nat :=
  let c0_5854 : Index := 0#32
  let v8313 : Index := Scalar.indexCast v8309
  let c0_5855 : Index := 0#32
  ![0, v8313.toNat, 0]

def k0_off1996 (v8310 : BitVec 32) : Fin 3 → Nat :=
  let c0_5862 : Index := 0#32
  let v8322 : Index := Scalar.indexCast v8310
  let c0_5863 : Index := 0#32
  ![0, v8322.toNat, 0]

def k0_off1997 (v8311 : BitVec 32) : Fin 3 → Nat :=
  let c0_5870 : Index := 0#32
  let v8331 : Index := Scalar.indexCast v8311
  let c0_5871 : Index := 0#32
  ![0, v8331.toNat, 0]

def k0_off1998 (v8312 : BitVec 32) : Fin 3 → Nat :=
  let c0_5878 : Index := 0#32
  let v8340 : Index := Scalar.indexCast v8312
  let c0_5879 : Index := 0#32
  ![0, v8340.toNat, 0]

def k0_chk924 (i : grid0.Coords) (v8312 : BitVec 32) : Prop :=
  (∀ (k0_h2 : k0_cond2 i = 1#1), ∀ a, (k0_off1998 v8312) a + S1x1x1024.size a ≤ S1x2048x1024.size a)
theorem k0_off1998_inb : ∀ (i : grid0.Coords) (v8312 : BitVec 32) (k0_hw924 : k0_chk924 i v8312), ∀ (k0_h2 : k0_cond2 i = 1#1), ∀ a, (k0_off1998 v8312) a + S1x1x1024.size a ≤ S1x2048x1024.size a := fun i v8312 k0_hw924 k0_h2 => k0_hw924 k0_h2

def k0_off1999 (v8309 : BitVec 32) : Fin 3 → Nat :=
  let c0_5886 : Index := 0#32
  let v8349 : Index := Scalar.indexCast v8309
  let c0_5887 : Index := 0#32
  ![0, v8349.toNat, 0]

def k0_chk921 (i : grid0.Coords) (v8309 : BitVec 32) : Prop :=
  (∀ (k0_h2 : k0_cond2 i = 1#1), ∀ a, (k0_off1995 v8309) a + S1x1x1024.size a ≤ S1x2048x1024.size a) ∧
  (∀ (k0_h2 : k0_cond2 i = 1#1), ∀ a, (k0_off1999 v8309) a + S1x1x1024.size a ≤ S1x2048x1024.size a)
theorem k0_off1995_inb : ∀ (i : grid0.Coords) (v8309 : BitVec 32) (k0_hw921 : k0_chk921 i v8309), ∀ (k0_h2 : k0_cond2 i = 1#1), ∀ a, (k0_off1995 v8309) a + S1x1x1024.size a ≤ S1x2048x1024.size a := fun i v8309 k0_hw921 k0_h2 => k0_hw921.1 k0_h2
theorem k0_off1999_inb : ∀ (i : grid0.Coords) (v8309 : BitVec 32) (k0_hw921 : k0_chk921 i v8309), ∀ (k0_h2 : k0_cond2 i = 1#1), ∀ a, (k0_off1999 v8309) a + S1x1x1024.size a ≤ S1x2048x1024.size a := fun i v8309 k0_hw921 k0_h2 => k0_hw921.2 k0_h2

def k0_off2000 (v8310 : BitVec 32) : Fin 3 → Nat :=
  let c0_5888 : Index := 0#32
  let v8353 : Index := Scalar.indexCast v8310
  let c0_5889 : Index := 0#32
  ![0, v8353.toNat, 0]

def k0_chk922 (i : grid0.Coords) (v8310 : BitVec 32) : Prop :=
  (∀ (k0_h2 : k0_cond2 i = 1#1), ∀ a, (k0_off1996 v8310) a + S1x1x1024.size a ≤ S1x2048x1024.size a) ∧
  (∀ (k0_h2 : k0_cond2 i = 1#1), ∀ a, (k0_off2000 v8310) a + S1x1x1024.size a ≤ S1x2048x1024.size a)
theorem k0_off1996_inb : ∀ (i : grid0.Coords) (v8310 : BitVec 32) (k0_hw922 : k0_chk922 i v8310), ∀ (k0_h2 : k0_cond2 i = 1#1), ∀ a, (k0_off1996 v8310) a + S1x1x1024.size a ≤ S1x2048x1024.size a := fun i v8310 k0_hw922 k0_h2 => k0_hw922.1 k0_h2
theorem k0_off2000_inb : ∀ (i : grid0.Coords) (v8310 : BitVec 32) (k0_hw922 : k0_chk922 i v8310), ∀ (k0_h2 : k0_cond2 i = 1#1), ∀ a, (k0_off2000 v8310) a + S1x1x1024.size a ≤ S1x2048x1024.size a := fun i v8310 k0_hw922 k0_h2 => k0_hw922.2 k0_h2

def k0_off2001 (v8311 : BitVec 32) : Fin 3 → Nat :=
  let c0_5890 : Index := 0#32
  let v8357 : Index := Scalar.indexCast v8311
  let c0_5891 : Index := 0#32
  ![0, v8357.toNat, 0]

def k0_chk923 (i : grid0.Coords) (v8311 : BitVec 32) : Prop :=
  (∀ (k0_h2 : k0_cond2 i = 1#1), ∀ a, (k0_off1997 v8311) a + S1x1x1024.size a ≤ S1x2048x1024.size a) ∧
  (∀ (k0_h2 : k0_cond2 i = 1#1), ∀ a, (k0_off2001 v8311) a + S1x1x1024.size a ≤ S1x2048x1024.size a)
theorem k0_off1997_inb : ∀ (i : grid0.Coords) (v8311 : BitVec 32) (k0_hw923 : k0_chk923 i v8311), ∀ (k0_h2 : k0_cond2 i = 1#1), ∀ a, (k0_off1997 v8311) a + S1x1x1024.size a ≤ S1x2048x1024.size a := fun i v8311 k0_hw923 k0_h2 => k0_hw923.1 k0_h2
theorem k0_off2001_inb : ∀ (i : grid0.Coords) (v8311 : BitVec 32) (k0_hw923 : k0_chk923 i v8311), ∀ (k0_h2 : k0_cond2 i = 1#1), ∀ a, (k0_off2001 v8311) a + S1x1x1024.size a ≤ S1x2048x1024.size a := fun i v8311 k0_hw923 k0_h2 => k0_hw923.2 k0_h2

def k0_off2002 (v8365 : BitVec 32) : Fin 3 → Nat :=
  let c0_5906 : Index := 0#32
  let v8369 : Index := Scalar.indexCast v8365
  let c0_5907 : Index := 0#32
  ![0, v8369.toNat, 0]

def k0_off2003 (v8366 : BitVec 32) : Fin 3 → Nat :=
  let c0_5914 : Index := 0#32
  let v8378 : Index := Scalar.indexCast v8366
  let c0_5915 : Index := 0#32
  ![0, v8378.toNat, 0]

def k0_off2004 (v8367 : BitVec 32) : Fin 3 → Nat :=
  let c0_5922 : Index := 0#32
  let v8387 : Index := Scalar.indexCast v8367
  let c0_5923 : Index := 0#32
  ![0, v8387.toNat, 0]

def k0_off2005 (v8368 : BitVec 32) : Fin 3 → Nat :=
  let c0_5930 : Index := 0#32
  let v8396 : Index := Scalar.indexCast v8368
  let c0_5931 : Index := 0#32
  ![0, v8396.toNat, 0]

def k0_chk928 (i : grid0.Coords) (v8368 : BitVec 32) : Prop :=
  (∀ (k0_h2 : k0_cond2 i = 1#1), ∀ a, (k0_off2005 v8368) a + S1x1x1024.size a ≤ S1x2048x1024.size a)
theorem k0_off2005_inb : ∀ (i : grid0.Coords) (v8368 : BitVec 32) (k0_hw928 : k0_chk928 i v8368), ∀ (k0_h2 : k0_cond2 i = 1#1), ∀ a, (k0_off2005 v8368) a + S1x1x1024.size a ≤ S1x2048x1024.size a := fun i v8368 k0_hw928 k0_h2 => k0_hw928 k0_h2

def k0_off2006 (v8365 : BitVec 32) : Fin 3 → Nat :=
  let c0_5938 : Index := 0#32
  let v8405 : Index := Scalar.indexCast v8365
  let c0_5939 : Index := 0#32
  ![0, v8405.toNat, 0]

def k0_chk925 (i : grid0.Coords) (v8365 : BitVec 32) : Prop :=
  (∀ (k0_h2 : k0_cond2 i = 1#1), ∀ a, (k0_off2002 v8365) a + S1x1x1024.size a ≤ S1x2048x1024.size a) ∧
  (∀ (k0_h2 : k0_cond2 i = 1#1), ∀ a, (k0_off2006 v8365) a + S1x1x1024.size a ≤ S1x2048x1024.size a)
theorem k0_off2002_inb : ∀ (i : grid0.Coords) (v8365 : BitVec 32) (k0_hw925 : k0_chk925 i v8365), ∀ (k0_h2 : k0_cond2 i = 1#1), ∀ a, (k0_off2002 v8365) a + S1x1x1024.size a ≤ S1x2048x1024.size a := fun i v8365 k0_hw925 k0_h2 => k0_hw925.1 k0_h2
theorem k0_off2006_inb : ∀ (i : grid0.Coords) (v8365 : BitVec 32) (k0_hw925 : k0_chk925 i v8365), ∀ (k0_h2 : k0_cond2 i = 1#1), ∀ a, (k0_off2006 v8365) a + S1x1x1024.size a ≤ S1x2048x1024.size a := fun i v8365 k0_hw925 k0_h2 => k0_hw925.2 k0_h2

def k0_off2007 (v8366 : BitVec 32) : Fin 3 → Nat :=
  let c0_5940 : Index := 0#32
  let v8409 : Index := Scalar.indexCast v8366
  let c0_5941 : Index := 0#32
  ![0, v8409.toNat, 0]

def k0_chk926 (i : grid0.Coords) (v8366 : BitVec 32) : Prop :=
  (∀ (k0_h2 : k0_cond2 i = 1#1), ∀ a, (k0_off2003 v8366) a + S1x1x1024.size a ≤ S1x2048x1024.size a) ∧
  (∀ (k0_h2 : k0_cond2 i = 1#1), ∀ a, (k0_off2007 v8366) a + S1x1x1024.size a ≤ S1x2048x1024.size a)
theorem k0_off2003_inb : ∀ (i : grid0.Coords) (v8366 : BitVec 32) (k0_hw926 : k0_chk926 i v8366), ∀ (k0_h2 : k0_cond2 i = 1#1), ∀ a, (k0_off2003 v8366) a + S1x1x1024.size a ≤ S1x2048x1024.size a := fun i v8366 k0_hw926 k0_h2 => k0_hw926.1 k0_h2
theorem k0_off2007_inb : ∀ (i : grid0.Coords) (v8366 : BitVec 32) (k0_hw926 : k0_chk926 i v8366), ∀ (k0_h2 : k0_cond2 i = 1#1), ∀ a, (k0_off2007 v8366) a + S1x1x1024.size a ≤ S1x2048x1024.size a := fun i v8366 k0_hw926 k0_h2 => k0_hw926.2 k0_h2

def k0_off2008 (v8367 : BitVec 32) : Fin 3 → Nat :=
  let c0_5942 : Index := 0#32
  let v8413 : Index := Scalar.indexCast v8367
  let c0_5943 : Index := 0#32
  ![0, v8413.toNat, 0]

def k0_chk927 (i : grid0.Coords) (v8367 : BitVec 32) : Prop :=
  (∀ (k0_h2 : k0_cond2 i = 1#1), ∀ a, (k0_off2004 v8367) a + S1x1x1024.size a ≤ S1x2048x1024.size a) ∧
  (∀ (k0_h2 : k0_cond2 i = 1#1), ∀ a, (k0_off2008 v8367) a + S1x1x1024.size a ≤ S1x2048x1024.size a)
theorem k0_off2004_inb : ∀ (i : grid0.Coords) (v8367 : BitVec 32) (k0_hw927 : k0_chk927 i v8367), ∀ (k0_h2 : k0_cond2 i = 1#1), ∀ a, (k0_off2004 v8367) a + S1x1x1024.size a ≤ S1x2048x1024.size a := fun i v8367 k0_hw927 k0_h2 => k0_hw927.1 k0_h2
theorem k0_off2008_inb : ∀ (i : grid0.Coords) (v8367 : BitVec 32) (k0_hw927 : k0_chk927 i v8367), ∀ (k0_h2 : k0_cond2 i = 1#1), ∀ a, (k0_off2008 v8367) a + S1x1x1024.size a ≤ S1x2048x1024.size a := fun i v8367 k0_hw927 k0_h2 => k0_hw927.2 k0_h2

def k0_off2009 (v8421 : BitVec 32) : Fin 3 → Nat :=
  let c0_5958 : Index := 0#32
  let v8425 : Index := Scalar.indexCast v8421
  let c0_5959 : Index := 0#32
  ![0, v8425.toNat, 0]

def k0_off2010 (v8422 : BitVec 32) : Fin 3 → Nat :=
  let c0_5966 : Index := 0#32
  let v8434 : Index := Scalar.indexCast v8422
  let c0_5967 : Index := 0#32
  ![0, v8434.toNat, 0]

def k0_off2011 (v8423 : BitVec 32) : Fin 3 → Nat :=
  let c0_5974 : Index := 0#32
  let v8443 : Index := Scalar.indexCast v8423
  let c0_5975 : Index := 0#32
  ![0, v8443.toNat, 0]

def k0_off2012 (v8424 : BitVec 32) : Fin 3 → Nat :=
  let c0_5982 : Index := 0#32
  let v8452 : Index := Scalar.indexCast v8424
  let c0_5983 : Index := 0#32
  ![0, v8452.toNat, 0]

def k0_chk932 (i : grid0.Coords) (v8424 : BitVec 32) : Prop :=
  (∀ (k0_h2 : k0_cond2 i = 1#1), ∀ a, (k0_off2012 v8424) a + S1x1x1024.size a ≤ S1x2048x1024.size a)
theorem k0_off2012_inb : ∀ (i : grid0.Coords) (v8424 : BitVec 32) (k0_hw932 : k0_chk932 i v8424), ∀ (k0_h2 : k0_cond2 i = 1#1), ∀ a, (k0_off2012 v8424) a + S1x1x1024.size a ≤ S1x2048x1024.size a := fun i v8424 k0_hw932 k0_h2 => k0_hw932 k0_h2

def k0_off2013 (v8421 : BitVec 32) : Fin 3 → Nat :=
  let c0_5990 : Index := 0#32
  let v8461 : Index := Scalar.indexCast v8421
  let c0_5991 : Index := 0#32
  ![0, v8461.toNat, 0]

def k0_chk929 (i : grid0.Coords) (v8421 : BitVec 32) : Prop :=
  (∀ (k0_h2 : k0_cond2 i = 1#1), ∀ a, (k0_off2009 v8421) a + S1x1x1024.size a ≤ S1x2048x1024.size a) ∧
  (∀ (k0_h2 : k0_cond2 i = 1#1), ∀ a, (k0_off2013 v8421) a + S1x1x1024.size a ≤ S1x2048x1024.size a)
theorem k0_off2009_inb : ∀ (i : grid0.Coords) (v8421 : BitVec 32) (k0_hw929 : k0_chk929 i v8421), ∀ (k0_h2 : k0_cond2 i = 1#1), ∀ a, (k0_off2009 v8421) a + S1x1x1024.size a ≤ S1x2048x1024.size a := fun i v8421 k0_hw929 k0_h2 => k0_hw929.1 k0_h2
theorem k0_off2013_inb : ∀ (i : grid0.Coords) (v8421 : BitVec 32) (k0_hw929 : k0_chk929 i v8421), ∀ (k0_h2 : k0_cond2 i = 1#1), ∀ a, (k0_off2013 v8421) a + S1x1x1024.size a ≤ S1x2048x1024.size a := fun i v8421 k0_hw929 k0_h2 => k0_hw929.2 k0_h2

def k0_off2014 (v8422 : BitVec 32) : Fin 3 → Nat :=
  let c0_5992 : Index := 0#32
  let v8465 : Index := Scalar.indexCast v8422
  let c0_5993 : Index := 0#32
  ![0, v8465.toNat, 0]

def k0_chk930 (i : grid0.Coords) (v8422 : BitVec 32) : Prop :=
  (∀ (k0_h2 : k0_cond2 i = 1#1), ∀ a, (k0_off2010 v8422) a + S1x1x1024.size a ≤ S1x2048x1024.size a) ∧
  (∀ (k0_h2 : k0_cond2 i = 1#1), ∀ a, (k0_off2014 v8422) a + S1x1x1024.size a ≤ S1x2048x1024.size a)
theorem k0_off2010_inb : ∀ (i : grid0.Coords) (v8422 : BitVec 32) (k0_hw930 : k0_chk930 i v8422), ∀ (k0_h2 : k0_cond2 i = 1#1), ∀ a, (k0_off2010 v8422) a + S1x1x1024.size a ≤ S1x2048x1024.size a := fun i v8422 k0_hw930 k0_h2 => k0_hw930.1 k0_h2
theorem k0_off2014_inb : ∀ (i : grid0.Coords) (v8422 : BitVec 32) (k0_hw930 : k0_chk930 i v8422), ∀ (k0_h2 : k0_cond2 i = 1#1), ∀ a, (k0_off2014 v8422) a + S1x1x1024.size a ≤ S1x2048x1024.size a := fun i v8422 k0_hw930 k0_h2 => k0_hw930.2 k0_h2

def k0_off2015 (v8423 : BitVec 32) : Fin 3 → Nat :=
  let c0_5994 : Index := 0#32
  let v8469 : Index := Scalar.indexCast v8423
  let c0_5995 : Index := 0#32
  ![0, v8469.toNat, 0]

def k0_chk931 (i : grid0.Coords) (v8423 : BitVec 32) : Prop :=
  (∀ (k0_h2 : k0_cond2 i = 1#1), ∀ a, (k0_off2011 v8423) a + S1x1x1024.size a ≤ S1x2048x1024.size a) ∧
  (∀ (k0_h2 : k0_cond2 i = 1#1), ∀ a, (k0_off2015 v8423) a + S1x1x1024.size a ≤ S1x2048x1024.size a)
theorem k0_off2011_inb : ∀ (i : grid0.Coords) (v8423 : BitVec 32) (k0_hw931 : k0_chk931 i v8423), ∀ (k0_h2 : k0_cond2 i = 1#1), ∀ a, (k0_off2011 v8423) a + S1x1x1024.size a ≤ S1x2048x1024.size a := fun i v8423 k0_hw931 k0_h2 => k0_hw931.1 k0_h2
theorem k0_off2015_inb : ∀ (i : grid0.Coords) (v8423 : BitVec 32) (k0_hw931 : k0_chk931 i v8423), ∀ (k0_h2 : k0_cond2 i = 1#1), ∀ a, (k0_off2015 v8423) a + S1x1x1024.size a ≤ S1x2048x1024.size a := fun i v8423 k0_hw931 k0_h2 => k0_hw931.2 k0_h2

def k0_off2016 (v8477 : BitVec 32) : Fin 3 → Nat :=
  let c0_6010 : Index := 0#32
  let v8481 : Index := Scalar.indexCast v8477
  let c0_6011 : Index := 0#32
  ![0, v8481.toNat, 0]

def k0_off2017 (v8478 : BitVec 32) : Fin 3 → Nat :=
  let c0_6018 : Index := 0#32
  let v8490 : Index := Scalar.indexCast v8478
  let c0_6019 : Index := 0#32
  ![0, v8490.toNat, 0]

def k0_off2018 (v8479 : BitVec 32) : Fin 3 → Nat :=
  let c0_6026 : Index := 0#32
  let v8499 : Index := Scalar.indexCast v8479
  let c0_6027 : Index := 0#32
  ![0, v8499.toNat, 0]

def k0_off2019 (v8480 : BitVec 32) : Fin 3 → Nat :=
  let c0_6034 : Index := 0#32
  let v8508 : Index := Scalar.indexCast v8480
  let c0_6035 : Index := 0#32
  ![0, v8508.toNat, 0]

def k0_chk936 (i : grid0.Coords) (v8480 : BitVec 32) : Prop :=
  (∀ (k0_h2 : k0_cond2 i = 1#1), ∀ a, (k0_off2019 v8480) a + S1x1x1024.size a ≤ S1x2048x1024.size a)
theorem k0_off2019_inb : ∀ (i : grid0.Coords) (v8480 : BitVec 32) (k0_hw936 : k0_chk936 i v8480), ∀ (k0_h2 : k0_cond2 i = 1#1), ∀ a, (k0_off2019 v8480) a + S1x1x1024.size a ≤ S1x2048x1024.size a := fun i v8480 k0_hw936 k0_h2 => k0_hw936 k0_h2

def k0_off2020 (v8477 : BitVec 32) : Fin 3 → Nat :=
  let c0_6042 : Index := 0#32
  let v8517 : Index := Scalar.indexCast v8477
  let c0_6043 : Index := 0#32
  ![0, v8517.toNat, 0]

def k0_chk933 (i : grid0.Coords) (v8477 : BitVec 32) : Prop :=
  (∀ (k0_h2 : k0_cond2 i = 1#1), ∀ a, (k0_off2016 v8477) a + S1x1x1024.size a ≤ S1x2048x1024.size a) ∧
  (∀ (k0_h2 : k0_cond2 i = 1#1), ∀ a, (k0_off2020 v8477) a + S1x1x1024.size a ≤ S1x2048x1024.size a)
theorem k0_off2016_inb : ∀ (i : grid0.Coords) (v8477 : BitVec 32) (k0_hw933 : k0_chk933 i v8477), ∀ (k0_h2 : k0_cond2 i = 1#1), ∀ a, (k0_off2016 v8477) a + S1x1x1024.size a ≤ S1x2048x1024.size a := fun i v8477 k0_hw933 k0_h2 => k0_hw933.1 k0_h2
theorem k0_off2020_inb : ∀ (i : grid0.Coords) (v8477 : BitVec 32) (k0_hw933 : k0_chk933 i v8477), ∀ (k0_h2 : k0_cond2 i = 1#1), ∀ a, (k0_off2020 v8477) a + S1x1x1024.size a ≤ S1x2048x1024.size a := fun i v8477 k0_hw933 k0_h2 => k0_hw933.2 k0_h2

def k0_off2021 (v8478 : BitVec 32) : Fin 3 → Nat :=
  let c0_6044 : Index := 0#32
  let v8521 : Index := Scalar.indexCast v8478
  let c0_6045 : Index := 0#32
  ![0, v8521.toNat, 0]

def k0_chk934 (i : grid0.Coords) (v8478 : BitVec 32) : Prop :=
  (∀ (k0_h2 : k0_cond2 i = 1#1), ∀ a, (k0_off2017 v8478) a + S1x1x1024.size a ≤ S1x2048x1024.size a) ∧
  (∀ (k0_h2 : k0_cond2 i = 1#1), ∀ a, (k0_off2021 v8478) a + S1x1x1024.size a ≤ S1x2048x1024.size a)
theorem k0_off2017_inb : ∀ (i : grid0.Coords) (v8478 : BitVec 32) (k0_hw934 : k0_chk934 i v8478), ∀ (k0_h2 : k0_cond2 i = 1#1), ∀ a, (k0_off2017 v8478) a + S1x1x1024.size a ≤ S1x2048x1024.size a := fun i v8478 k0_hw934 k0_h2 => k0_hw934.1 k0_h2
theorem k0_off2021_inb : ∀ (i : grid0.Coords) (v8478 : BitVec 32) (k0_hw934 : k0_chk934 i v8478), ∀ (k0_h2 : k0_cond2 i = 1#1), ∀ a, (k0_off2021 v8478) a + S1x1x1024.size a ≤ S1x2048x1024.size a := fun i v8478 k0_hw934 k0_h2 => k0_hw934.2 k0_h2

def k0_off2022 (v8479 : BitVec 32) : Fin 3 → Nat :=
  let c0_6046 : Index := 0#32
  let v8525 : Index := Scalar.indexCast v8479
  let c0_6047 : Index := 0#32
  ![0, v8525.toNat, 0]

def k0_chk935 (i : grid0.Coords) (v8479 : BitVec 32) : Prop :=
  (∀ (k0_h2 : k0_cond2 i = 1#1), ∀ a, (k0_off2018 v8479) a + S1x1x1024.size a ≤ S1x2048x1024.size a) ∧
  (∀ (k0_h2 : k0_cond2 i = 1#1), ∀ a, (k0_off2022 v8479) a + S1x1x1024.size a ≤ S1x2048x1024.size a)
theorem k0_off2018_inb : ∀ (i : grid0.Coords) (v8479 : BitVec 32) (k0_hw935 : k0_chk935 i v8479), ∀ (k0_h2 : k0_cond2 i = 1#1), ∀ a, (k0_off2018 v8479) a + S1x1x1024.size a ≤ S1x2048x1024.size a := fun i v8479 k0_hw935 k0_h2 => k0_hw935.1 k0_h2
theorem k0_off2022_inb : ∀ (i : grid0.Coords) (v8479 : BitVec 32) (k0_hw935 : k0_chk935 i v8479), ∀ (k0_h2 : k0_cond2 i = 1#1), ∀ a, (k0_off2022 v8479) a + S1x1x1024.size a ≤ S1x2048x1024.size a := fun i v8479 k0_hw935 k0_h2 => k0_hw935.2 k0_h2

def k0_off2023 (v8533 : BitVec 32) : Fin 3 → Nat :=
  let c0_6062 : Index := 0#32
  let v8537 : Index := Scalar.indexCast v8533
  let c0_6063 : Index := 0#32
  ![0, v8537.toNat, 0]

def k0_off2024 (v8534 : BitVec 32) : Fin 3 → Nat :=
  let c0_6070 : Index := 0#32
  let v8546 : Index := Scalar.indexCast v8534
  let c0_6071 : Index := 0#32
  ![0, v8546.toNat, 0]

def k0_off2025 (v8535 : BitVec 32) : Fin 3 → Nat :=
  let c0_6078 : Index := 0#32
  let v8555 : Index := Scalar.indexCast v8535
  let c0_6079 : Index := 0#32
  ![0, v8555.toNat, 0]

def k0_off2026 (v8536 : BitVec 32) : Fin 3 → Nat :=
  let c0_6086 : Index := 0#32
  let v8564 : Index := Scalar.indexCast v8536
  let c0_6087 : Index := 0#32
  ![0, v8564.toNat, 0]

def k0_chk940 (i : grid0.Coords) (v8536 : BitVec 32) : Prop :=
  (∀ (k0_h2 : k0_cond2 i = 1#1), ∀ a, (k0_off2026 v8536) a + S1x1x1024.size a ≤ S1x2048x1024.size a)
theorem k0_off2026_inb : ∀ (i : grid0.Coords) (v8536 : BitVec 32) (k0_hw940 : k0_chk940 i v8536), ∀ (k0_h2 : k0_cond2 i = 1#1), ∀ a, (k0_off2026 v8536) a + S1x1x1024.size a ≤ S1x2048x1024.size a := fun i v8536 k0_hw940 k0_h2 => k0_hw940 k0_h2

def k0_off2027 (v8533 : BitVec 32) : Fin 3 → Nat :=
  let c0_6094 : Index := 0#32
  let v8573 : Index := Scalar.indexCast v8533
  let c0_6095 : Index := 0#32
  ![0, v8573.toNat, 0]

def k0_chk937 (i : grid0.Coords) (v8533 : BitVec 32) : Prop :=
  (∀ (k0_h2 : k0_cond2 i = 1#1), ∀ a, (k0_off2023 v8533) a + S1x1x1024.size a ≤ S1x2048x1024.size a) ∧
  (∀ (k0_h2 : k0_cond2 i = 1#1), ∀ a, (k0_off2027 v8533) a + S1x1x1024.size a ≤ S1x2048x1024.size a)
theorem k0_off2023_inb : ∀ (i : grid0.Coords) (v8533 : BitVec 32) (k0_hw937 : k0_chk937 i v8533), ∀ (k0_h2 : k0_cond2 i = 1#1), ∀ a, (k0_off2023 v8533) a + S1x1x1024.size a ≤ S1x2048x1024.size a := fun i v8533 k0_hw937 k0_h2 => k0_hw937.1 k0_h2
theorem k0_off2027_inb : ∀ (i : grid0.Coords) (v8533 : BitVec 32) (k0_hw937 : k0_chk937 i v8533), ∀ (k0_h2 : k0_cond2 i = 1#1), ∀ a, (k0_off2027 v8533) a + S1x1x1024.size a ≤ S1x2048x1024.size a := fun i v8533 k0_hw937 k0_h2 => k0_hw937.2 k0_h2

def k0_off2028 (v8534 : BitVec 32) : Fin 3 → Nat :=
  let c0_6096 : Index := 0#32
  let v8577 : Index := Scalar.indexCast v8534
  let c0_6097 : Index := 0#32
  ![0, v8577.toNat, 0]

def k0_chk938 (i : grid0.Coords) (v8534 : BitVec 32) : Prop :=
  (∀ (k0_h2 : k0_cond2 i = 1#1), ∀ a, (k0_off2024 v8534) a + S1x1x1024.size a ≤ S1x2048x1024.size a) ∧
  (∀ (k0_h2 : k0_cond2 i = 1#1), ∀ a, (k0_off2028 v8534) a + S1x1x1024.size a ≤ S1x2048x1024.size a)
theorem k0_off2024_inb : ∀ (i : grid0.Coords) (v8534 : BitVec 32) (k0_hw938 : k0_chk938 i v8534), ∀ (k0_h2 : k0_cond2 i = 1#1), ∀ a, (k0_off2024 v8534) a + S1x1x1024.size a ≤ S1x2048x1024.size a := fun i v8534 k0_hw938 k0_h2 => k0_hw938.1 k0_h2
theorem k0_off2028_inb : ∀ (i : grid0.Coords) (v8534 : BitVec 32) (k0_hw938 : k0_chk938 i v8534), ∀ (k0_h2 : k0_cond2 i = 1#1), ∀ a, (k0_off2028 v8534) a + S1x1x1024.size a ≤ S1x2048x1024.size a := fun i v8534 k0_hw938 k0_h2 => k0_hw938.2 k0_h2

def k0_off2029 (v8535 : BitVec 32) : Fin 3 → Nat :=
  let c0_6098 : Index := 0#32
  let v8581 : Index := Scalar.indexCast v8535
  let c0_6099 : Index := 0#32
  ![0, v8581.toNat, 0]

def k0_chk939 (i : grid0.Coords) (v8535 : BitVec 32) : Prop :=
  (∀ (k0_h2 : k0_cond2 i = 1#1), ∀ a, (k0_off2025 v8535) a + S1x1x1024.size a ≤ S1x2048x1024.size a) ∧
  (∀ (k0_h2 : k0_cond2 i = 1#1), ∀ a, (k0_off2029 v8535) a + S1x1x1024.size a ≤ S1x2048x1024.size a)
theorem k0_off2025_inb : ∀ (i : grid0.Coords) (v8535 : BitVec 32) (k0_hw939 : k0_chk939 i v8535), ∀ (k0_h2 : k0_cond2 i = 1#1), ∀ a, (k0_off2025 v8535) a + S1x1x1024.size a ≤ S1x2048x1024.size a := fun i v8535 k0_hw939 k0_h2 => k0_hw939.1 k0_h2
theorem k0_off2029_inb : ∀ (i : grid0.Coords) (v8535 : BitVec 32) (k0_hw939 : k0_chk939 i v8535), ∀ (k0_h2 : k0_cond2 i = 1#1), ∀ a, (k0_off2029 v8535) a + S1x1x1024.size a ≤ S1x2048x1024.size a := fun i v8535 k0_hw939 k0_h2 => k0_hw939.2 k0_h2

def k0_off2030 (v8589 : BitVec 32) : Fin 3 → Nat :=
  let c0_6114 : Index := 0#32
  let v8593 : Index := Scalar.indexCast v8589
  let c0_6115 : Index := 0#32
  ![0, v8593.toNat, 0]

def k0_off2031 (v8590 : BitVec 32) : Fin 3 → Nat :=
  let c0_6122 : Index := 0#32
  let v8602 : Index := Scalar.indexCast v8590
  let c0_6123 : Index := 0#32
  ![0, v8602.toNat, 0]

def k0_off2032 (v8591 : BitVec 32) : Fin 3 → Nat :=
  let c0_6130 : Index := 0#32
  let v8611 : Index := Scalar.indexCast v8591
  let c0_6131 : Index := 0#32
  ![0, v8611.toNat, 0]

def k0_off2033 (v8592 : BitVec 32) : Fin 3 → Nat :=
  let c0_6138 : Index := 0#32
  let v8620 : Index := Scalar.indexCast v8592
  let c0_6139 : Index := 0#32
  ![0, v8620.toNat, 0]

def k0_chk944 (i : grid0.Coords) (v8592 : BitVec 32) : Prop :=
  (∀ (k0_h2 : k0_cond2 i = 1#1), ∀ a, (k0_off2033 v8592) a + S1x1x1024.size a ≤ S1x2048x1024.size a)
theorem k0_off2033_inb : ∀ (i : grid0.Coords) (v8592 : BitVec 32) (k0_hw944 : k0_chk944 i v8592), ∀ (k0_h2 : k0_cond2 i = 1#1), ∀ a, (k0_off2033 v8592) a + S1x1x1024.size a ≤ S1x2048x1024.size a := fun i v8592 k0_hw944 k0_h2 => k0_hw944 k0_h2

def k0_off2034 (v8589 : BitVec 32) : Fin 3 → Nat :=
  let c0_6146 : Index := 0#32
  let v8629 : Index := Scalar.indexCast v8589
  let c0_6147 : Index := 0#32
  ![0, v8629.toNat, 0]

def k0_chk941 (i : grid0.Coords) (v8589 : BitVec 32) : Prop :=
  (∀ (k0_h2 : k0_cond2 i = 1#1), ∀ a, (k0_off2030 v8589) a + S1x1x1024.size a ≤ S1x2048x1024.size a) ∧
  (∀ (k0_h2 : k0_cond2 i = 1#1), ∀ a, (k0_off2034 v8589) a + S1x1x1024.size a ≤ S1x2048x1024.size a)
theorem k0_off2030_inb : ∀ (i : grid0.Coords) (v8589 : BitVec 32) (k0_hw941 : k0_chk941 i v8589), ∀ (k0_h2 : k0_cond2 i = 1#1), ∀ a, (k0_off2030 v8589) a + S1x1x1024.size a ≤ S1x2048x1024.size a := fun i v8589 k0_hw941 k0_h2 => k0_hw941.1 k0_h2
theorem k0_off2034_inb : ∀ (i : grid0.Coords) (v8589 : BitVec 32) (k0_hw941 : k0_chk941 i v8589), ∀ (k0_h2 : k0_cond2 i = 1#1), ∀ a, (k0_off2034 v8589) a + S1x1x1024.size a ≤ S1x2048x1024.size a := fun i v8589 k0_hw941 k0_h2 => k0_hw941.2 k0_h2

def k0_off2035 (v8590 : BitVec 32) : Fin 3 → Nat :=
  let c0_6148 : Index := 0#32
  let v8633 : Index := Scalar.indexCast v8590
  let c0_6149 : Index := 0#32
  ![0, v8633.toNat, 0]

def k0_chk942 (i : grid0.Coords) (v8590 : BitVec 32) : Prop :=
  (∀ (k0_h2 : k0_cond2 i = 1#1), ∀ a, (k0_off2031 v8590) a + S1x1x1024.size a ≤ S1x2048x1024.size a) ∧
  (∀ (k0_h2 : k0_cond2 i = 1#1), ∀ a, (k0_off2035 v8590) a + S1x1x1024.size a ≤ S1x2048x1024.size a)
theorem k0_off2031_inb : ∀ (i : grid0.Coords) (v8590 : BitVec 32) (k0_hw942 : k0_chk942 i v8590), ∀ (k0_h2 : k0_cond2 i = 1#1), ∀ a, (k0_off2031 v8590) a + S1x1x1024.size a ≤ S1x2048x1024.size a := fun i v8590 k0_hw942 k0_h2 => k0_hw942.1 k0_h2
theorem k0_off2035_inb : ∀ (i : grid0.Coords) (v8590 : BitVec 32) (k0_hw942 : k0_chk942 i v8590), ∀ (k0_h2 : k0_cond2 i = 1#1), ∀ a, (k0_off2035 v8590) a + S1x1x1024.size a ≤ S1x2048x1024.size a := fun i v8590 k0_hw942 k0_h2 => k0_hw942.2 k0_h2

def k0_off2036 (v8591 : BitVec 32) : Fin 3 → Nat :=
  let c0_6150 : Index := 0#32
  let v8637 : Index := Scalar.indexCast v8591
  let c0_6151 : Index := 0#32
  ![0, v8637.toNat, 0]

def k0_chk943 (i : grid0.Coords) (v8591 : BitVec 32) : Prop :=
  (∀ (k0_h2 : k0_cond2 i = 1#1), ∀ a, (k0_off2032 v8591) a + S1x1x1024.size a ≤ S1x2048x1024.size a) ∧
  (∀ (k0_h2 : k0_cond2 i = 1#1), ∀ a, (k0_off2036 v8591) a + S1x1x1024.size a ≤ S1x2048x1024.size a)
theorem k0_off2032_inb : ∀ (i : grid0.Coords) (v8591 : BitVec 32) (k0_hw943 : k0_chk943 i v8591), ∀ (k0_h2 : k0_cond2 i = 1#1), ∀ a, (k0_off2032 v8591) a + S1x1x1024.size a ≤ S1x2048x1024.size a := fun i v8591 k0_hw943 k0_h2 => k0_hw943.1 k0_h2
theorem k0_off2036_inb : ∀ (i : grid0.Coords) (v8591 : BitVec 32) (k0_hw943 : k0_chk943 i v8591), ∀ (k0_h2 : k0_cond2 i = 1#1), ∀ a, (k0_off2036 v8591) a + S1x1x1024.size a ≤ S1x2048x1024.size a := fun i v8591 k0_hw943 k0_h2 => k0_hw943.2 k0_h2

def k0_off2037 (v8645 : BitVec 32) : Fin 3 → Nat :=
  let c0_6166 : Index := 0#32
  let v8649 : Index := Scalar.indexCast v8645
  let c0_6167 : Index := 0#32
  ![0, v8649.toNat, 0]

def k0_off2038 (v8646 : BitVec 32) : Fin 3 → Nat :=
  let c0_6174 : Index := 0#32
  let v8658 : Index := Scalar.indexCast v8646
  let c0_6175 : Index := 0#32
  ![0, v8658.toNat, 0]

def k0_off2039 (v8647 : BitVec 32) : Fin 3 → Nat :=
  let c0_6182 : Index := 0#32
  let v8667 : Index := Scalar.indexCast v8647
  let c0_6183 : Index := 0#32
  ![0, v8667.toNat, 0]

def k0_off2040 (v8648 : BitVec 32) : Fin 3 → Nat :=
  let c0_6190 : Index := 0#32
  let v8676 : Index := Scalar.indexCast v8648
  let c0_6191 : Index := 0#32
  ![0, v8676.toNat, 0]

def k0_chk948 (i : grid0.Coords) (v8648 : BitVec 32) : Prop :=
  (∀ (k0_h2 : k0_cond2 i = 1#1), ∀ a, (k0_off2040 v8648) a + S1x1x1024.size a ≤ S1x2048x1024.size a)
theorem k0_off2040_inb : ∀ (i : grid0.Coords) (v8648 : BitVec 32) (k0_hw948 : k0_chk948 i v8648), ∀ (k0_h2 : k0_cond2 i = 1#1), ∀ a, (k0_off2040 v8648) a + S1x1x1024.size a ≤ S1x2048x1024.size a := fun i v8648 k0_hw948 k0_h2 => k0_hw948 k0_h2

def k0_off2041 (v8645 : BitVec 32) : Fin 3 → Nat :=
  let c0_6198 : Index := 0#32
  let v8685 : Index := Scalar.indexCast v8645
  let c0_6199 : Index := 0#32
  ![0, v8685.toNat, 0]

def k0_chk945 (i : grid0.Coords) (v8645 : BitVec 32) : Prop :=
  (∀ (k0_h2 : k0_cond2 i = 1#1), ∀ a, (k0_off2037 v8645) a + S1x1x1024.size a ≤ S1x2048x1024.size a) ∧
  (∀ (k0_h2 : k0_cond2 i = 1#1), ∀ a, (k0_off2041 v8645) a + S1x1x1024.size a ≤ S1x2048x1024.size a)
theorem k0_off2037_inb : ∀ (i : grid0.Coords) (v8645 : BitVec 32) (k0_hw945 : k0_chk945 i v8645), ∀ (k0_h2 : k0_cond2 i = 1#1), ∀ a, (k0_off2037 v8645) a + S1x1x1024.size a ≤ S1x2048x1024.size a := fun i v8645 k0_hw945 k0_h2 => k0_hw945.1 k0_h2
theorem k0_off2041_inb : ∀ (i : grid0.Coords) (v8645 : BitVec 32) (k0_hw945 : k0_chk945 i v8645), ∀ (k0_h2 : k0_cond2 i = 1#1), ∀ a, (k0_off2041 v8645) a + S1x1x1024.size a ≤ S1x2048x1024.size a := fun i v8645 k0_hw945 k0_h2 => k0_hw945.2 k0_h2

def k0_off2042 (v8646 : BitVec 32) : Fin 3 → Nat :=
  let c0_6200 : Index := 0#32
  let v8689 : Index := Scalar.indexCast v8646
  let c0_6201 : Index := 0#32
  ![0, v8689.toNat, 0]

def k0_chk946 (i : grid0.Coords) (v8646 : BitVec 32) : Prop :=
  (∀ (k0_h2 : k0_cond2 i = 1#1), ∀ a, (k0_off2038 v8646) a + S1x1x1024.size a ≤ S1x2048x1024.size a) ∧
  (∀ (k0_h2 : k0_cond2 i = 1#1), ∀ a, (k0_off2042 v8646) a + S1x1x1024.size a ≤ S1x2048x1024.size a)
theorem k0_off2038_inb : ∀ (i : grid0.Coords) (v8646 : BitVec 32) (k0_hw946 : k0_chk946 i v8646), ∀ (k0_h2 : k0_cond2 i = 1#1), ∀ a, (k0_off2038 v8646) a + S1x1x1024.size a ≤ S1x2048x1024.size a := fun i v8646 k0_hw946 k0_h2 => k0_hw946.1 k0_h2
theorem k0_off2042_inb : ∀ (i : grid0.Coords) (v8646 : BitVec 32) (k0_hw946 : k0_chk946 i v8646), ∀ (k0_h2 : k0_cond2 i = 1#1), ∀ a, (k0_off2042 v8646) a + S1x1x1024.size a ≤ S1x2048x1024.size a := fun i v8646 k0_hw946 k0_h2 => k0_hw946.2 k0_h2

def k0_off2043 (v8647 : BitVec 32) : Fin 3 → Nat :=
  let c0_6202 : Index := 0#32
  let v8693 : Index := Scalar.indexCast v8647
  let c0_6203 : Index := 0#32
  ![0, v8693.toNat, 0]

def k0_chk947 (i : grid0.Coords) (v8647 : BitVec 32) : Prop :=
  (∀ (k0_h2 : k0_cond2 i = 1#1), ∀ a, (k0_off2039 v8647) a + S1x1x1024.size a ≤ S1x2048x1024.size a) ∧
  (∀ (k0_h2 : k0_cond2 i = 1#1), ∀ a, (k0_off2043 v8647) a + S1x1x1024.size a ≤ S1x2048x1024.size a)
theorem k0_off2039_inb : ∀ (i : grid0.Coords) (v8647 : BitVec 32) (k0_hw947 : k0_chk947 i v8647), ∀ (k0_h2 : k0_cond2 i = 1#1), ∀ a, (k0_off2039 v8647) a + S1x1x1024.size a ≤ S1x2048x1024.size a := fun i v8647 k0_hw947 k0_h2 => k0_hw947.1 k0_h2
theorem k0_off2043_inb : ∀ (i : grid0.Coords) (v8647 : BitVec 32) (k0_hw947 : k0_chk947 i v8647), ∀ (k0_h2 : k0_cond2 i = 1#1), ∀ a, (k0_off2043 v8647) a + S1x1x1024.size a ≤ S1x2048x1024.size a := fun i v8647 k0_hw947 k0_h2 => k0_hw947.2 k0_h2

def k0_off2044 (v8701 : BitVec 32) : Fin 3 → Nat :=
  let c0_6218 : Index := 0#32
  let v8705 : Index := Scalar.indexCast v8701
  let c0_6219 : Index := 0#32
  ![0, v8705.toNat, 0]

def k0_off2045 (v8702 : BitVec 32) : Fin 3 → Nat :=
  let c0_6226 : Index := 0#32
  let v8714 : Index := Scalar.indexCast v8702
  let c0_6227 : Index := 0#32
  ![0, v8714.toNat, 0]

def k0_off2046 (v8703 : BitVec 32) : Fin 3 → Nat :=
  let c0_6234 : Index := 0#32
  let v8723 : Index := Scalar.indexCast v8703
  let c0_6235 : Index := 0#32
  ![0, v8723.toNat, 0]

def k0_off2047 (v8704 : BitVec 32) : Fin 3 → Nat :=
  let c0_6242 : Index := 0#32
  let v8732 : Index := Scalar.indexCast v8704
  let c0_6243 : Index := 0#32
  ![0, v8732.toNat, 0]

def k0_chk952 (i : grid0.Coords) (v8704 : BitVec 32) : Prop :=
  (∀ (k0_h2 : k0_cond2 i = 1#1), ∀ a, (k0_off2047 v8704) a + S1x1x1024.size a ≤ S1x2048x1024.size a)
theorem k0_off2047_inb : ∀ (i : grid0.Coords) (v8704 : BitVec 32) (k0_hw952 : k0_chk952 i v8704), ∀ (k0_h2 : k0_cond2 i = 1#1), ∀ a, (k0_off2047 v8704) a + S1x1x1024.size a ≤ S1x2048x1024.size a := fun i v8704 k0_hw952 k0_h2 => k0_hw952 k0_h2

def k0_off2048 (v8701 : BitVec 32) : Fin 3 → Nat :=
  let c0_6250 : Index := 0#32
  let v8741 : Index := Scalar.indexCast v8701
  let c0_6251 : Index := 0#32
  ![0, v8741.toNat, 0]

def k0_chk949 (i : grid0.Coords) (v8701 : BitVec 32) : Prop :=
  (∀ (k0_h2 : k0_cond2 i = 1#1), ∀ a, (k0_off2044 v8701) a + S1x1x1024.size a ≤ S1x2048x1024.size a) ∧
  (∀ (k0_h2 : k0_cond2 i = 1#1), ∀ a, (k0_off2048 v8701) a + S1x1x1024.size a ≤ S1x2048x1024.size a)
theorem k0_off2044_inb : ∀ (i : grid0.Coords) (v8701 : BitVec 32) (k0_hw949 : k0_chk949 i v8701), ∀ (k0_h2 : k0_cond2 i = 1#1), ∀ a, (k0_off2044 v8701) a + S1x1x1024.size a ≤ S1x2048x1024.size a := fun i v8701 k0_hw949 k0_h2 => k0_hw949.1 k0_h2
theorem k0_off2048_inb : ∀ (i : grid0.Coords) (v8701 : BitVec 32) (k0_hw949 : k0_chk949 i v8701), ∀ (k0_h2 : k0_cond2 i = 1#1), ∀ a, (k0_off2048 v8701) a + S1x1x1024.size a ≤ S1x2048x1024.size a := fun i v8701 k0_hw949 k0_h2 => k0_hw949.2 k0_h2

def k0_off2049 (v8702 : BitVec 32) : Fin 3 → Nat :=
  let c0_6252 : Index := 0#32
  let v8745 : Index := Scalar.indexCast v8702
  let c0_6253 : Index := 0#32
  ![0, v8745.toNat, 0]

def k0_chk950 (i : grid0.Coords) (v8702 : BitVec 32) : Prop :=
  (∀ (k0_h2 : k0_cond2 i = 1#1), ∀ a, (k0_off2045 v8702) a + S1x1x1024.size a ≤ S1x2048x1024.size a) ∧
  (∀ (k0_h2 : k0_cond2 i = 1#1), ∀ a, (k0_off2049 v8702) a + S1x1x1024.size a ≤ S1x2048x1024.size a)
theorem k0_off2045_inb : ∀ (i : grid0.Coords) (v8702 : BitVec 32) (k0_hw950 : k0_chk950 i v8702), ∀ (k0_h2 : k0_cond2 i = 1#1), ∀ a, (k0_off2045 v8702) a + S1x1x1024.size a ≤ S1x2048x1024.size a := fun i v8702 k0_hw950 k0_h2 => k0_hw950.1 k0_h2
theorem k0_off2049_inb : ∀ (i : grid0.Coords) (v8702 : BitVec 32) (k0_hw950 : k0_chk950 i v8702), ∀ (k0_h2 : k0_cond2 i = 1#1), ∀ a, (k0_off2049 v8702) a + S1x1x1024.size a ≤ S1x2048x1024.size a := fun i v8702 k0_hw950 k0_h2 => k0_hw950.2 k0_h2

def k0_off2050 (v8703 : BitVec 32) : Fin 3 → Nat :=
  let c0_6254 : Index := 0#32
  let v8749 : Index := Scalar.indexCast v8703
  let c0_6255 : Index := 0#32
  ![0, v8749.toNat, 0]

def k0_chk951 (i : grid0.Coords) (v8703 : BitVec 32) : Prop :=
  (∀ (k0_h2 : k0_cond2 i = 1#1), ∀ a, (k0_off2046 v8703) a + S1x1x1024.size a ≤ S1x2048x1024.size a) ∧
  (∀ (k0_h2 : k0_cond2 i = 1#1), ∀ a, (k0_off2050 v8703) a + S1x1x1024.size a ≤ S1x2048x1024.size a)
theorem k0_off2046_inb : ∀ (i : grid0.Coords) (v8703 : BitVec 32) (k0_hw951 : k0_chk951 i v8703), ∀ (k0_h2 : k0_cond2 i = 1#1), ∀ a, (k0_off2046 v8703) a + S1x1x1024.size a ≤ S1x2048x1024.size a := fun i v8703 k0_hw951 k0_h2 => k0_hw951.1 k0_h2
theorem k0_off2050_inb : ∀ (i : grid0.Coords) (v8703 : BitVec 32) (k0_hw951 : k0_chk951 i v8703), ∀ (k0_h2 : k0_cond2 i = 1#1), ∀ a, (k0_off2050 v8703) a + S1x1x1024.size a ≤ S1x2048x1024.size a := fun i v8703 k0_hw951 k0_h2 => k0_hw951.2 k0_h2

def k0_off2051 (v8757 : BitVec 32) : Fin 3 → Nat :=
  let c0_6270 : Index := 0#32
  let v8761 : Index := Scalar.indexCast v8757
  let c0_6271 : Index := 0#32
  ![0, v8761.toNat, 0]

def k0_off2052 (v8758 : BitVec 32) : Fin 3 → Nat :=
  let c0_6278 : Index := 0#32
  let v8770 : Index := Scalar.indexCast v8758
  let c0_6279 : Index := 0#32
  ![0, v8770.toNat, 0]

def k0_off2053 (v8759 : BitVec 32) : Fin 3 → Nat :=
  let c0_6286 : Index := 0#32
  let v8779 : Index := Scalar.indexCast v8759
  let c0_6287 : Index := 0#32
  ![0, v8779.toNat, 0]

def k0_off2054 (v8760 : BitVec 32) : Fin 3 → Nat :=
  let c0_6294 : Index := 0#32
  let v8788 : Index := Scalar.indexCast v8760
  let c0_6295 : Index := 0#32
  ![0, v8788.toNat, 0]

def k0_chk956 (i : grid0.Coords) (v8760 : BitVec 32) : Prop :=
  (∀ (k0_h2 : k0_cond2 i = 1#1), ∀ a, (k0_off2054 v8760) a + S1x1x1024.size a ≤ S1x2048x1024.size a)
theorem k0_off2054_inb : ∀ (i : grid0.Coords) (v8760 : BitVec 32) (k0_hw956 : k0_chk956 i v8760), ∀ (k0_h2 : k0_cond2 i = 1#1), ∀ a, (k0_off2054 v8760) a + S1x1x1024.size a ≤ S1x2048x1024.size a := fun i v8760 k0_hw956 k0_h2 => k0_hw956 k0_h2

def k0_off2055 (v8757 : BitVec 32) : Fin 3 → Nat :=
  let c0_6302 : Index := 0#32
  let v8797 : Index := Scalar.indexCast v8757
  let c0_6303 : Index := 0#32
  ![0, v8797.toNat, 0]

def k0_chk953 (i : grid0.Coords) (v8757 : BitVec 32) : Prop :=
  (∀ (k0_h2 : k0_cond2 i = 1#1), ∀ a, (k0_off2051 v8757) a + S1x1x1024.size a ≤ S1x2048x1024.size a) ∧
  (∀ (k0_h2 : k0_cond2 i = 1#1), ∀ a, (k0_off2055 v8757) a + S1x1x1024.size a ≤ S1x2048x1024.size a)
theorem k0_off2051_inb : ∀ (i : grid0.Coords) (v8757 : BitVec 32) (k0_hw953 : k0_chk953 i v8757), ∀ (k0_h2 : k0_cond2 i = 1#1), ∀ a, (k0_off2051 v8757) a + S1x1x1024.size a ≤ S1x2048x1024.size a := fun i v8757 k0_hw953 k0_h2 => k0_hw953.1 k0_h2
theorem k0_off2055_inb : ∀ (i : grid0.Coords) (v8757 : BitVec 32) (k0_hw953 : k0_chk953 i v8757), ∀ (k0_h2 : k0_cond2 i = 1#1), ∀ a, (k0_off2055 v8757) a + S1x1x1024.size a ≤ S1x2048x1024.size a := fun i v8757 k0_hw953 k0_h2 => k0_hw953.2 k0_h2

def k0_off2056 (v8758 : BitVec 32) : Fin 3 → Nat :=
  let c0_6304 : Index := 0#32
  let v8801 : Index := Scalar.indexCast v8758
  let c0_6305 : Index := 0#32
  ![0, v8801.toNat, 0]

def k0_chk954 (i : grid0.Coords) (v8758 : BitVec 32) : Prop :=
  (∀ (k0_h2 : k0_cond2 i = 1#1), ∀ a, (k0_off2052 v8758) a + S1x1x1024.size a ≤ S1x2048x1024.size a) ∧
  (∀ (k0_h2 : k0_cond2 i = 1#1), ∀ a, (k0_off2056 v8758) a + S1x1x1024.size a ≤ S1x2048x1024.size a)
theorem k0_off2052_inb : ∀ (i : grid0.Coords) (v8758 : BitVec 32) (k0_hw954 : k0_chk954 i v8758), ∀ (k0_h2 : k0_cond2 i = 1#1), ∀ a, (k0_off2052 v8758) a + S1x1x1024.size a ≤ S1x2048x1024.size a := fun i v8758 k0_hw954 k0_h2 => k0_hw954.1 k0_h2
theorem k0_off2056_inb : ∀ (i : grid0.Coords) (v8758 : BitVec 32) (k0_hw954 : k0_chk954 i v8758), ∀ (k0_h2 : k0_cond2 i = 1#1), ∀ a, (k0_off2056 v8758) a + S1x1x1024.size a ≤ S1x2048x1024.size a := fun i v8758 k0_hw954 k0_h2 => k0_hw954.2 k0_h2

def k0_off2057 (v8759 : BitVec 32) : Fin 3 → Nat :=
  let c0_6306 : Index := 0#32
  let v8805 : Index := Scalar.indexCast v8759
  let c0_6307 : Index := 0#32
  ![0, v8805.toNat, 0]

def k0_chk955 (i : grid0.Coords) (v8759 : BitVec 32) : Prop :=
  (∀ (k0_h2 : k0_cond2 i = 1#1), ∀ a, (k0_off2053 v8759) a + S1x1x1024.size a ≤ S1x2048x1024.size a) ∧
  (∀ (k0_h2 : k0_cond2 i = 1#1), ∀ a, (k0_off2057 v8759) a + S1x1x1024.size a ≤ S1x2048x1024.size a)
theorem k0_off2053_inb : ∀ (i : grid0.Coords) (v8759 : BitVec 32) (k0_hw955 : k0_chk955 i v8759), ∀ (k0_h2 : k0_cond2 i = 1#1), ∀ a, (k0_off2053 v8759) a + S1x1x1024.size a ≤ S1x2048x1024.size a := fun i v8759 k0_hw955 k0_h2 => k0_hw955.1 k0_h2
theorem k0_off2057_inb : ∀ (i : grid0.Coords) (v8759 : BitVec 32) (k0_hw955 : k0_chk955 i v8759), ∀ (k0_h2 : k0_cond2 i = 1#1), ∀ a, (k0_off2057 v8759) a + S1x1x1024.size a ≤ S1x2048x1024.size a := fun i v8759 k0_hw955 k0_h2 => k0_hw955.2 k0_h2

def k0_off2058 (v8813 : BitVec 32) : Fin 3 → Nat :=
  let c0_6322 : Index := 0#32
  let v8817 : Index := Scalar.indexCast v8813
  let c0_6323 : Index := 0#32
  ![0, v8817.toNat, 0]

def k0_off2059 (v8814 : BitVec 32) : Fin 3 → Nat :=
  let c0_6330 : Index := 0#32
  let v8826 : Index := Scalar.indexCast v8814
  let c0_6331 : Index := 0#32
  ![0, v8826.toNat, 0]

def k0_off2060 (v8815 : BitVec 32) : Fin 3 → Nat :=
  let c0_6338 : Index := 0#32
  let v8835 : Index := Scalar.indexCast v8815
  let c0_6339 : Index := 0#32
  ![0, v8835.toNat, 0]

def k0_off2061 (v8816 : BitVec 32) : Fin 3 → Nat :=
  let c0_6346 : Index := 0#32
  let v8844 : Index := Scalar.indexCast v8816
  let c0_6347 : Index := 0#32
  ![0, v8844.toNat, 0]

def k0_chk960 (i : grid0.Coords) (v8816 : BitVec 32) : Prop :=
  (∀ (k0_h2 : k0_cond2 i = 1#1), ∀ a, (k0_off2061 v8816) a + S1x1x1024.size a ≤ S1x2048x1024.size a)
theorem k0_off2061_inb : ∀ (i : grid0.Coords) (v8816 : BitVec 32) (k0_hw960 : k0_chk960 i v8816), ∀ (k0_h2 : k0_cond2 i = 1#1), ∀ a, (k0_off2061 v8816) a + S1x1x1024.size a ≤ S1x2048x1024.size a := fun i v8816 k0_hw960 k0_h2 => k0_hw960 k0_h2

def k0_off2062 (v8813 : BitVec 32) : Fin 3 → Nat :=
  let c0_6354 : Index := 0#32
  let v8853 : Index := Scalar.indexCast v8813
  let c0_6355 : Index := 0#32
  ![0, v8853.toNat, 0]

def k0_chk957 (i : grid0.Coords) (v8813 : BitVec 32) : Prop :=
  (∀ (k0_h2 : k0_cond2 i = 1#1), ∀ a, (k0_off2058 v8813) a + S1x1x1024.size a ≤ S1x2048x1024.size a) ∧
  (∀ (k0_h2 : k0_cond2 i = 1#1), ∀ a, (k0_off2062 v8813) a + S1x1x1024.size a ≤ S1x2048x1024.size a)
theorem k0_off2058_inb : ∀ (i : grid0.Coords) (v8813 : BitVec 32) (k0_hw957 : k0_chk957 i v8813), ∀ (k0_h2 : k0_cond2 i = 1#1), ∀ a, (k0_off2058 v8813) a + S1x1x1024.size a ≤ S1x2048x1024.size a := fun i v8813 k0_hw957 k0_h2 => k0_hw957.1 k0_h2
theorem k0_off2062_inb : ∀ (i : grid0.Coords) (v8813 : BitVec 32) (k0_hw957 : k0_chk957 i v8813), ∀ (k0_h2 : k0_cond2 i = 1#1), ∀ a, (k0_off2062 v8813) a + S1x1x1024.size a ≤ S1x2048x1024.size a := fun i v8813 k0_hw957 k0_h2 => k0_hw957.2 k0_h2

def k0_off2063 (v8814 : BitVec 32) : Fin 3 → Nat :=
  let c0_6356 : Index := 0#32
  let v8857 : Index := Scalar.indexCast v8814
  let c0_6357 : Index := 0#32
  ![0, v8857.toNat, 0]

def k0_chk958 (i : grid0.Coords) (v8814 : BitVec 32) : Prop :=
  (∀ (k0_h2 : k0_cond2 i = 1#1), ∀ a, (k0_off2059 v8814) a + S1x1x1024.size a ≤ S1x2048x1024.size a) ∧
  (∀ (k0_h2 : k0_cond2 i = 1#1), ∀ a, (k0_off2063 v8814) a + S1x1x1024.size a ≤ S1x2048x1024.size a)
theorem k0_off2059_inb : ∀ (i : grid0.Coords) (v8814 : BitVec 32) (k0_hw958 : k0_chk958 i v8814), ∀ (k0_h2 : k0_cond2 i = 1#1), ∀ a, (k0_off2059 v8814) a + S1x1x1024.size a ≤ S1x2048x1024.size a := fun i v8814 k0_hw958 k0_h2 => k0_hw958.1 k0_h2
theorem k0_off2063_inb : ∀ (i : grid0.Coords) (v8814 : BitVec 32) (k0_hw958 : k0_chk958 i v8814), ∀ (k0_h2 : k0_cond2 i = 1#1), ∀ a, (k0_off2063 v8814) a + S1x1x1024.size a ≤ S1x2048x1024.size a := fun i v8814 k0_hw958 k0_h2 => k0_hw958.2 k0_h2

def k0_off2064 (v8815 : BitVec 32) : Fin 3 → Nat :=
  let c0_6358 : Index := 0#32
  let v8861 : Index := Scalar.indexCast v8815
  let c0_6359 : Index := 0#32
  ![0, v8861.toNat, 0]

def k0_chk959 (i : grid0.Coords) (v8815 : BitVec 32) : Prop :=
  (∀ (k0_h2 : k0_cond2 i = 1#1), ∀ a, (k0_off2060 v8815) a + S1x1x1024.size a ≤ S1x2048x1024.size a) ∧
  (∀ (k0_h2 : k0_cond2 i = 1#1), ∀ a, (k0_off2064 v8815) a + S1x1x1024.size a ≤ S1x2048x1024.size a)
theorem k0_off2060_inb : ∀ (i : grid0.Coords) (v8815 : BitVec 32) (k0_hw959 : k0_chk959 i v8815), ∀ (k0_h2 : k0_cond2 i = 1#1), ∀ a, (k0_off2060 v8815) a + S1x1x1024.size a ≤ S1x2048x1024.size a := fun i v8815 k0_hw959 k0_h2 => k0_hw959.1 k0_h2
theorem k0_off2064_inb : ∀ (i : grid0.Coords) (v8815 : BitVec 32) (k0_hw959 : k0_chk959 i v8815), ∀ (k0_h2 : k0_cond2 i = 1#1), ∀ a, (k0_off2064 v8815) a + S1x1x1024.size a ≤ S1x2048x1024.size a := fun i v8815 k0_hw959 k0_h2 => k0_hw959.2 k0_h2

def k0_off2065 (v8869 : BitVec 32) : Fin 3 → Nat :=
  let c0_6374 : Index := 0#32
  let v8873 : Index := Scalar.indexCast v8869
  let c0_6375 : Index := 0#32
  ![0, v8873.toNat, 0]

def k0_off2066 (v8870 : BitVec 32) : Fin 3 → Nat :=
  let c0_6382 : Index := 0#32
  let v8882 : Index := Scalar.indexCast v8870
  let c0_6383 : Index := 0#32
  ![0, v8882.toNat, 0]

def k0_off2067 (v8871 : BitVec 32) : Fin 3 → Nat :=
  let c0_6390 : Index := 0#32
  let v8891 : Index := Scalar.indexCast v8871
  let c0_6391 : Index := 0#32
  ![0, v8891.toNat, 0]

def k0_off2068 (v8872 : BitVec 32) : Fin 3 → Nat :=
  let c0_6398 : Index := 0#32
  let v8900 : Index := Scalar.indexCast v8872
  let c0_6399 : Index := 0#32
  ![0, v8900.toNat, 0]

def k0_chk964 (i : grid0.Coords) (v8872 : BitVec 32) : Prop :=
  (∀ (k0_h2 : k0_cond2 i = 1#1), ∀ a, (k0_off2068 v8872) a + S1x1x1024.size a ≤ S1x2048x1024.size a)
theorem k0_off2068_inb : ∀ (i : grid0.Coords) (v8872 : BitVec 32) (k0_hw964 : k0_chk964 i v8872), ∀ (k0_h2 : k0_cond2 i = 1#1), ∀ a, (k0_off2068 v8872) a + S1x1x1024.size a ≤ S1x2048x1024.size a := fun i v8872 k0_hw964 k0_h2 => k0_hw964 k0_h2

def k0_off2069 (v8869 : BitVec 32) : Fin 3 → Nat :=
  let c0_6406 : Index := 0#32
  let v8909 : Index := Scalar.indexCast v8869
  let c0_6407 : Index := 0#32
  ![0, v8909.toNat, 0]

def k0_chk961 (i : grid0.Coords) (v8869 : BitVec 32) : Prop :=
  (∀ (k0_h2 : k0_cond2 i = 1#1), ∀ a, (k0_off2065 v8869) a + S1x1x1024.size a ≤ S1x2048x1024.size a) ∧
  (∀ (k0_h2 : k0_cond2 i = 1#1), ∀ a, (k0_off2069 v8869) a + S1x1x1024.size a ≤ S1x2048x1024.size a)
theorem k0_off2065_inb : ∀ (i : grid0.Coords) (v8869 : BitVec 32) (k0_hw961 : k0_chk961 i v8869), ∀ (k0_h2 : k0_cond2 i = 1#1), ∀ a, (k0_off2065 v8869) a + S1x1x1024.size a ≤ S1x2048x1024.size a := fun i v8869 k0_hw961 k0_h2 => k0_hw961.1 k0_h2
theorem k0_off2069_inb : ∀ (i : grid0.Coords) (v8869 : BitVec 32) (k0_hw961 : k0_chk961 i v8869), ∀ (k0_h2 : k0_cond2 i = 1#1), ∀ a, (k0_off2069 v8869) a + S1x1x1024.size a ≤ S1x2048x1024.size a := fun i v8869 k0_hw961 k0_h2 => k0_hw961.2 k0_h2

def k0_off2070 (v8870 : BitVec 32) : Fin 3 → Nat :=
  let c0_6408 : Index := 0#32
  let v8913 : Index := Scalar.indexCast v8870
  let c0_6409 : Index := 0#32
  ![0, v8913.toNat, 0]

def k0_chk962 (i : grid0.Coords) (v8870 : BitVec 32) : Prop :=
  (∀ (k0_h2 : k0_cond2 i = 1#1), ∀ a, (k0_off2066 v8870) a + S1x1x1024.size a ≤ S1x2048x1024.size a) ∧
  (∀ (k0_h2 : k0_cond2 i = 1#1), ∀ a, (k0_off2070 v8870) a + S1x1x1024.size a ≤ S1x2048x1024.size a)
theorem k0_off2066_inb : ∀ (i : grid0.Coords) (v8870 : BitVec 32) (k0_hw962 : k0_chk962 i v8870), ∀ (k0_h2 : k0_cond2 i = 1#1), ∀ a, (k0_off2066 v8870) a + S1x1x1024.size a ≤ S1x2048x1024.size a := fun i v8870 k0_hw962 k0_h2 => k0_hw962.1 k0_h2
theorem k0_off2070_inb : ∀ (i : grid0.Coords) (v8870 : BitVec 32) (k0_hw962 : k0_chk962 i v8870), ∀ (k0_h2 : k0_cond2 i = 1#1), ∀ a, (k0_off2070 v8870) a + S1x1x1024.size a ≤ S1x2048x1024.size a := fun i v8870 k0_hw962 k0_h2 => k0_hw962.2 k0_h2

def k0_off2071 (v8871 : BitVec 32) : Fin 3 → Nat :=
  let c0_6410 : Index := 0#32
  let v8917 : Index := Scalar.indexCast v8871
  let c0_6411 : Index := 0#32
  ![0, v8917.toNat, 0]

def k0_chk963 (i : grid0.Coords) (v8871 : BitVec 32) : Prop :=
  (∀ (k0_h2 : k0_cond2 i = 1#1), ∀ a, (k0_off2067 v8871) a + S1x1x1024.size a ≤ S1x2048x1024.size a) ∧
  (∀ (k0_h2 : k0_cond2 i = 1#1), ∀ a, (k0_off2071 v8871) a + S1x1x1024.size a ≤ S1x2048x1024.size a)
theorem k0_off2067_inb : ∀ (i : grid0.Coords) (v8871 : BitVec 32) (k0_hw963 : k0_chk963 i v8871), ∀ (k0_h2 : k0_cond2 i = 1#1), ∀ a, (k0_off2067 v8871) a + S1x1x1024.size a ≤ S1x2048x1024.size a := fun i v8871 k0_hw963 k0_h2 => k0_hw963.1 k0_h2
theorem k0_off2071_inb : ∀ (i : grid0.Coords) (v8871 : BitVec 32) (k0_hw963 : k0_chk963 i v8871), ∀ (k0_h2 : k0_cond2 i = 1#1), ∀ a, (k0_off2071 v8871) a + S1x1x1024.size a ≤ S1x2048x1024.size a := fun i v8871 k0_hw963 k0_h2 => k0_hw963.2 k0_h2

def k0_off2072 (v8925 : BitVec 32) : Fin 3 → Nat :=
  let c0_6426 : Index := 0#32
  let v8929 : Index := Scalar.indexCast v8925
  let c0_6427 : Index := 0#32
  ![0, v8929.toNat, 0]

def k0_off2073 (v8926 : BitVec 32) : Fin 3 → Nat :=
  let c0_6434 : Index := 0#32
  let v8938 : Index := Scalar.indexCast v8926
  let c0_6435 : Index := 0#32
  ![0, v8938.toNat, 0]

def k0_off2074 (v8927 : BitVec 32) : Fin 3 → Nat :=
  let c0_6442 : Index := 0#32
  let v8947 : Index := Scalar.indexCast v8927
  let c0_6443 : Index := 0#32
  ![0, v8947.toNat, 0]

def k0_off2075 (v8928 : BitVec 32) : Fin 3 → Nat :=
  let c0_6450 : Index := 0#32
  let v8956 : Index := Scalar.indexCast v8928
  let c0_6451 : Index := 0#32
  ![0, v8956.toNat, 0]

def k0_chk968 (i : grid0.Coords) (v8928 : BitVec 32) : Prop :=
  (∀ (k0_h2 : k0_cond2 i = 1#1), ∀ a, (k0_off2075 v8928) a + S1x1x1024.size a ≤ S1x2048x1024.size a)
theorem k0_off2075_inb : ∀ (i : grid0.Coords) (v8928 : BitVec 32) (k0_hw968 : k0_chk968 i v8928), ∀ (k0_h2 : k0_cond2 i = 1#1), ∀ a, (k0_off2075 v8928) a + S1x1x1024.size a ≤ S1x2048x1024.size a := fun i v8928 k0_hw968 k0_h2 => k0_hw968 k0_h2

def k0_off2076 (v8925 : BitVec 32) : Fin 3 → Nat :=
  let c0_6458 : Index := 0#32
  let v8965 : Index := Scalar.indexCast v8925
  let c0_6459 : Index := 0#32
  ![0, v8965.toNat, 0]

def k0_chk965 (i : grid0.Coords) (v8925 : BitVec 32) : Prop :=
  (∀ (k0_h2 : k0_cond2 i = 1#1), ∀ a, (k0_off2072 v8925) a + S1x1x1024.size a ≤ S1x2048x1024.size a) ∧
  (∀ (k0_h2 : k0_cond2 i = 1#1), ∀ a, (k0_off2076 v8925) a + S1x1x1024.size a ≤ S1x2048x1024.size a)
theorem k0_off2072_inb : ∀ (i : grid0.Coords) (v8925 : BitVec 32) (k0_hw965 : k0_chk965 i v8925), ∀ (k0_h2 : k0_cond2 i = 1#1), ∀ a, (k0_off2072 v8925) a + S1x1x1024.size a ≤ S1x2048x1024.size a := fun i v8925 k0_hw965 k0_h2 => k0_hw965.1 k0_h2
theorem k0_off2076_inb : ∀ (i : grid0.Coords) (v8925 : BitVec 32) (k0_hw965 : k0_chk965 i v8925), ∀ (k0_h2 : k0_cond2 i = 1#1), ∀ a, (k0_off2076 v8925) a + S1x1x1024.size a ≤ S1x2048x1024.size a := fun i v8925 k0_hw965 k0_h2 => k0_hw965.2 k0_h2

def k0_off2077 (v8926 : BitVec 32) : Fin 3 → Nat :=
  let c0_6460 : Index := 0#32
  let v8969 : Index := Scalar.indexCast v8926
  let c0_6461 : Index := 0#32
  ![0, v8969.toNat, 0]

def k0_chk966 (i : grid0.Coords) (v8926 : BitVec 32) : Prop :=
  (∀ (k0_h2 : k0_cond2 i = 1#1), ∀ a, (k0_off2073 v8926) a + S1x1x1024.size a ≤ S1x2048x1024.size a) ∧
  (∀ (k0_h2 : k0_cond2 i = 1#1), ∀ a, (k0_off2077 v8926) a + S1x1x1024.size a ≤ S1x2048x1024.size a)
theorem k0_off2073_inb : ∀ (i : grid0.Coords) (v8926 : BitVec 32) (k0_hw966 : k0_chk966 i v8926), ∀ (k0_h2 : k0_cond2 i = 1#1), ∀ a, (k0_off2073 v8926) a + S1x1x1024.size a ≤ S1x2048x1024.size a := fun i v8926 k0_hw966 k0_h2 => k0_hw966.1 k0_h2
theorem k0_off2077_inb : ∀ (i : grid0.Coords) (v8926 : BitVec 32) (k0_hw966 : k0_chk966 i v8926), ∀ (k0_h2 : k0_cond2 i = 1#1), ∀ a, (k0_off2077 v8926) a + S1x1x1024.size a ≤ S1x2048x1024.size a := fun i v8926 k0_hw966 k0_h2 => k0_hw966.2 k0_h2

def k0_off2078 (v8927 : BitVec 32) : Fin 3 → Nat :=
  let c0_6462 : Index := 0#32
  let v8973 : Index := Scalar.indexCast v8927
  let c0_6463 : Index := 0#32
  ![0, v8973.toNat, 0]

def k0_chk967 (i : grid0.Coords) (v8927 : BitVec 32) : Prop :=
  (∀ (k0_h2 : k0_cond2 i = 1#1), ∀ a, (k0_off2074 v8927) a + S1x1x1024.size a ≤ S1x2048x1024.size a) ∧
  (∀ (k0_h2 : k0_cond2 i = 1#1), ∀ a, (k0_off2078 v8927) a + S1x1x1024.size a ≤ S1x2048x1024.size a)
theorem k0_off2074_inb : ∀ (i : grid0.Coords) (v8927 : BitVec 32) (k0_hw967 : k0_chk967 i v8927), ∀ (k0_h2 : k0_cond2 i = 1#1), ∀ a, (k0_off2074 v8927) a + S1x1x1024.size a ≤ S1x2048x1024.size a := fun i v8927 k0_hw967 k0_h2 => k0_hw967.1 k0_h2
theorem k0_off2078_inb : ∀ (i : grid0.Coords) (v8927 : BitVec 32) (k0_hw967 : k0_chk967 i v8927), ∀ (k0_h2 : k0_cond2 i = 1#1), ∀ a, (k0_off2078 v8927) a + S1x1x1024.size a ≤ S1x2048x1024.size a := fun i v8927 k0_hw967 k0_h2 => k0_hw967.2 k0_h2

def k0_off2079 (v8981 : BitVec 32) : Fin 3 → Nat :=
  let c0_6478 : Index := 0#32
  let v8985 : Index := Scalar.indexCast v8981
  let c0_6479 : Index := 0#32
  ![0, v8985.toNat, 0]

def k0_off2080 (v8982 : BitVec 32) : Fin 3 → Nat :=
  let c0_6486 : Index := 0#32
  let v8994 : Index := Scalar.indexCast v8982
  let c0_6487 : Index := 0#32
  ![0, v8994.toNat, 0]

def k0_off2081 (v8983 : BitVec 32) : Fin 3 → Nat :=
  let c0_6494 : Index := 0#32
  let v9003 : Index := Scalar.indexCast v8983
  let c0_6495 : Index := 0#32
  ![0, v9003.toNat, 0]

def k0_off2082 (v8984 : BitVec 32) : Fin 3 → Nat :=
  let c0_6502 : Index := 0#32
  let v9012 : Index := Scalar.indexCast v8984
  let c0_6503 : Index := 0#32
  ![0, v9012.toNat, 0]

def k0_chk972 (i : grid0.Coords) (v8984 : BitVec 32) : Prop :=
  (∀ (k0_h2 : k0_cond2 i = 1#1), ∀ a, (k0_off2082 v8984) a + S1x1x1024.size a ≤ S1x2048x1024.size a)
theorem k0_off2082_inb : ∀ (i : grid0.Coords) (v8984 : BitVec 32) (k0_hw972 : k0_chk972 i v8984), ∀ (k0_h2 : k0_cond2 i = 1#1), ∀ a, (k0_off2082 v8984) a + S1x1x1024.size a ≤ S1x2048x1024.size a := fun i v8984 k0_hw972 k0_h2 => k0_hw972 k0_h2

def k0_off2083 (v8981 : BitVec 32) : Fin 3 → Nat :=
  let c0_6510 : Index := 0#32
  let v9021 : Index := Scalar.indexCast v8981
  let c0_6511 : Index := 0#32
  ![0, v9021.toNat, 0]

def k0_chk969 (i : grid0.Coords) (v8981 : BitVec 32) : Prop :=
  (∀ (k0_h2 : k0_cond2 i = 1#1), ∀ a, (k0_off2079 v8981) a + S1x1x1024.size a ≤ S1x2048x1024.size a) ∧
  (∀ (k0_h2 : k0_cond2 i = 1#1), ∀ a, (k0_off2083 v8981) a + S1x1x1024.size a ≤ S1x2048x1024.size a)
theorem k0_off2079_inb : ∀ (i : grid0.Coords) (v8981 : BitVec 32) (k0_hw969 : k0_chk969 i v8981), ∀ (k0_h2 : k0_cond2 i = 1#1), ∀ a, (k0_off2079 v8981) a + S1x1x1024.size a ≤ S1x2048x1024.size a := fun i v8981 k0_hw969 k0_h2 => k0_hw969.1 k0_h2
theorem k0_off2083_inb : ∀ (i : grid0.Coords) (v8981 : BitVec 32) (k0_hw969 : k0_chk969 i v8981), ∀ (k0_h2 : k0_cond2 i = 1#1), ∀ a, (k0_off2083 v8981) a + S1x1x1024.size a ≤ S1x2048x1024.size a := fun i v8981 k0_hw969 k0_h2 => k0_hw969.2 k0_h2

def k0_off2084 (v8982 : BitVec 32) : Fin 3 → Nat :=
  let c0_6512 : Index := 0#32
  let v9025 : Index := Scalar.indexCast v8982
  let c0_6513 : Index := 0#32
  ![0, v9025.toNat, 0]

def k0_chk970 (i : grid0.Coords) (v8982 : BitVec 32) : Prop :=
  (∀ (k0_h2 : k0_cond2 i = 1#1), ∀ a, (k0_off2080 v8982) a + S1x1x1024.size a ≤ S1x2048x1024.size a) ∧
  (∀ (k0_h2 : k0_cond2 i = 1#1), ∀ a, (k0_off2084 v8982) a + S1x1x1024.size a ≤ S1x2048x1024.size a)
theorem k0_off2080_inb : ∀ (i : grid0.Coords) (v8982 : BitVec 32) (k0_hw970 : k0_chk970 i v8982), ∀ (k0_h2 : k0_cond2 i = 1#1), ∀ a, (k0_off2080 v8982) a + S1x1x1024.size a ≤ S1x2048x1024.size a := fun i v8982 k0_hw970 k0_h2 => k0_hw970.1 k0_h2
theorem k0_off2084_inb : ∀ (i : grid0.Coords) (v8982 : BitVec 32) (k0_hw970 : k0_chk970 i v8982), ∀ (k0_h2 : k0_cond2 i = 1#1), ∀ a, (k0_off2084 v8982) a + S1x1x1024.size a ≤ S1x2048x1024.size a := fun i v8982 k0_hw970 k0_h2 => k0_hw970.2 k0_h2

def k0_off2085 (v8983 : BitVec 32) : Fin 3 → Nat :=
  let c0_6514 : Index := 0#32
  let v9029 : Index := Scalar.indexCast v8983
  let c0_6515 : Index := 0#32
  ![0, v9029.toNat, 0]

def k0_chk971 (i : grid0.Coords) (v8983 : BitVec 32) : Prop :=
  (∀ (k0_h2 : k0_cond2 i = 1#1), ∀ a, (k0_off2081 v8983) a + S1x1x1024.size a ≤ S1x2048x1024.size a) ∧
  (∀ (k0_h2 : k0_cond2 i = 1#1), ∀ a, (k0_off2085 v8983) a + S1x1x1024.size a ≤ S1x2048x1024.size a)
theorem k0_off2081_inb : ∀ (i : grid0.Coords) (v8983 : BitVec 32) (k0_hw971 : k0_chk971 i v8983), ∀ (k0_h2 : k0_cond2 i = 1#1), ∀ a, (k0_off2081 v8983) a + S1x1x1024.size a ≤ S1x2048x1024.size a := fun i v8983 k0_hw971 k0_h2 => k0_hw971.1 k0_h2
theorem k0_off2085_inb : ∀ (i : grid0.Coords) (v8983 : BitVec 32) (k0_hw971 : k0_chk971 i v8983), ∀ (k0_h2 : k0_cond2 i = 1#1), ∀ a, (k0_off2085 v8983) a + S1x1x1024.size a ≤ S1x2048x1024.size a := fun i v8983 k0_hw971 k0_h2 => k0_hw971.2 k0_h2

def k0_off2086 (v9037 : BitVec 32) : Fin 3 → Nat :=
  let c0_6530 : Index := 0#32
  let v9041 : Index := Scalar.indexCast v9037
  let c0_6531 : Index := 0#32
  ![0, v9041.toNat, 0]

def k0_off2087 (v9038 : BitVec 32) : Fin 3 → Nat :=
  let c0_6538 : Index := 0#32
  let v9050 : Index := Scalar.indexCast v9038
  let c0_6539 : Index := 0#32
  ![0, v9050.toNat, 0]

def k0_off2088 (v9039 : BitVec 32) : Fin 3 → Nat :=
  let c0_6546 : Index := 0#32
  let v9059 : Index := Scalar.indexCast v9039
  let c0_6547 : Index := 0#32
  ![0, v9059.toNat, 0]

def k0_off2089 (v9040 : BitVec 32) : Fin 3 → Nat :=
  let c0_6554 : Index := 0#32
  let v9068 : Index := Scalar.indexCast v9040
  let c0_6555 : Index := 0#32
  ![0, v9068.toNat, 0]

def k0_chk976 (i : grid0.Coords) (v9040 : BitVec 32) : Prop :=
  (∀ (k0_h2 : k0_cond2 i = 1#1), ∀ a, (k0_off2089 v9040) a + S1x1x1024.size a ≤ S1x2048x1024.size a)
theorem k0_off2089_inb : ∀ (i : grid0.Coords) (v9040 : BitVec 32) (k0_hw976 : k0_chk976 i v9040), ∀ (k0_h2 : k0_cond2 i = 1#1), ∀ a, (k0_off2089 v9040) a + S1x1x1024.size a ≤ S1x2048x1024.size a := fun i v9040 k0_hw976 k0_h2 => k0_hw976 k0_h2

def k0_off2090 (v9037 : BitVec 32) : Fin 3 → Nat :=
  let c0_6562 : Index := 0#32
  let v9077 : Index := Scalar.indexCast v9037
  let c0_6563 : Index := 0#32
  ![0, v9077.toNat, 0]

def k0_chk973 (i : grid0.Coords) (v9037 : BitVec 32) : Prop :=
  (∀ (k0_h2 : k0_cond2 i = 1#1), ∀ a, (k0_off2086 v9037) a + S1x1x1024.size a ≤ S1x2048x1024.size a) ∧
  (∀ (k0_h2 : k0_cond2 i = 1#1), ∀ a, (k0_off2090 v9037) a + S1x1x1024.size a ≤ S1x2048x1024.size a)
theorem k0_off2086_inb : ∀ (i : grid0.Coords) (v9037 : BitVec 32) (k0_hw973 : k0_chk973 i v9037), ∀ (k0_h2 : k0_cond2 i = 1#1), ∀ a, (k0_off2086 v9037) a + S1x1x1024.size a ≤ S1x2048x1024.size a := fun i v9037 k0_hw973 k0_h2 => k0_hw973.1 k0_h2
theorem k0_off2090_inb : ∀ (i : grid0.Coords) (v9037 : BitVec 32) (k0_hw973 : k0_chk973 i v9037), ∀ (k0_h2 : k0_cond2 i = 1#1), ∀ a, (k0_off2090 v9037) a + S1x1x1024.size a ≤ S1x2048x1024.size a := fun i v9037 k0_hw973 k0_h2 => k0_hw973.2 k0_h2

def k0_off2091 (v9038 : BitVec 32) : Fin 3 → Nat :=
  let c0_6564 : Index := 0#32
  let v9081 : Index := Scalar.indexCast v9038
  let c0_6565 : Index := 0#32
  ![0, v9081.toNat, 0]

def k0_chk974 (i : grid0.Coords) (v9038 : BitVec 32) : Prop :=
  (∀ (k0_h2 : k0_cond2 i = 1#1), ∀ a, (k0_off2087 v9038) a + S1x1x1024.size a ≤ S1x2048x1024.size a) ∧
  (∀ (k0_h2 : k0_cond2 i = 1#1), ∀ a, (k0_off2091 v9038) a + S1x1x1024.size a ≤ S1x2048x1024.size a)
theorem k0_off2087_inb : ∀ (i : grid0.Coords) (v9038 : BitVec 32) (k0_hw974 : k0_chk974 i v9038), ∀ (k0_h2 : k0_cond2 i = 1#1), ∀ a, (k0_off2087 v9038) a + S1x1x1024.size a ≤ S1x2048x1024.size a := fun i v9038 k0_hw974 k0_h2 => k0_hw974.1 k0_h2
theorem k0_off2091_inb : ∀ (i : grid0.Coords) (v9038 : BitVec 32) (k0_hw974 : k0_chk974 i v9038), ∀ (k0_h2 : k0_cond2 i = 1#1), ∀ a, (k0_off2091 v9038) a + S1x1x1024.size a ≤ S1x2048x1024.size a := fun i v9038 k0_hw974 k0_h2 => k0_hw974.2 k0_h2

def k0_off2092 (v9039 : BitVec 32) : Fin 3 → Nat :=
  let c0_6566 : Index := 0#32
  let v9085 : Index := Scalar.indexCast v9039
  let c0_6567 : Index := 0#32
  ![0, v9085.toNat, 0]

def k0_chk975 (i : grid0.Coords) (v9039 : BitVec 32) : Prop :=
  (∀ (k0_h2 : k0_cond2 i = 1#1), ∀ a, (k0_off2088 v9039) a + S1x1x1024.size a ≤ S1x2048x1024.size a) ∧
  (∀ (k0_h2 : k0_cond2 i = 1#1), ∀ a, (k0_off2092 v9039) a + S1x1x1024.size a ≤ S1x2048x1024.size a)
theorem k0_off2088_inb : ∀ (i : grid0.Coords) (v9039 : BitVec 32) (k0_hw975 : k0_chk975 i v9039), ∀ (k0_h2 : k0_cond2 i = 1#1), ∀ a, (k0_off2088 v9039) a + S1x1x1024.size a ≤ S1x2048x1024.size a := fun i v9039 k0_hw975 k0_h2 => k0_hw975.1 k0_h2
theorem k0_off2092_inb : ∀ (i : grid0.Coords) (v9039 : BitVec 32) (k0_hw975 : k0_chk975 i v9039), ∀ (k0_h2 : k0_cond2 i = 1#1), ∀ a, (k0_off2092 v9039) a + S1x1x1024.size a ≤ S1x2048x1024.size a := fun i v9039 k0_hw975 k0_h2 => k0_hw975.2 k0_h2

def k0_off2093 (v9093 : BitVec 32) : Fin 3 → Nat :=
  let c0_6582 : Index := 0#32
  let v9097 : Index := Scalar.indexCast v9093
  let c0_6583 : Index := 0#32
  ![0, v9097.toNat, 0]

def k0_off2094 (v9094 : BitVec 32) : Fin 3 → Nat :=
  let c0_6590 : Index := 0#32
  let v9106 : Index := Scalar.indexCast v9094
  let c0_6591 : Index := 0#32
  ![0, v9106.toNat, 0]

def k0_off2095 (v9095 : BitVec 32) : Fin 3 → Nat :=
  let c0_6598 : Index := 0#32
  let v9115 : Index := Scalar.indexCast v9095
  let c0_6599 : Index := 0#32
  ![0, v9115.toNat, 0]

def k0_off2096 (v9096 : BitVec 32) : Fin 3 → Nat :=
  let c0_6606 : Index := 0#32
  let v9124 : Index := Scalar.indexCast v9096
  let c0_6607 : Index := 0#32
  ![0, v9124.toNat, 0]

def k0_chk980 (i : grid0.Coords) (v9096 : BitVec 32) : Prop :=
  (∀ (k0_h2 : k0_cond2 i = 1#1), ∀ a, (k0_off2096 v9096) a + S1x1x1024.size a ≤ S1x2048x1024.size a)
theorem k0_off2096_inb : ∀ (i : grid0.Coords) (v9096 : BitVec 32) (k0_hw980 : k0_chk980 i v9096), ∀ (k0_h2 : k0_cond2 i = 1#1), ∀ a, (k0_off2096 v9096) a + S1x1x1024.size a ≤ S1x2048x1024.size a := fun i v9096 k0_hw980 k0_h2 => k0_hw980 k0_h2

def k0_off2097 (v9093 : BitVec 32) : Fin 3 → Nat :=
  let c0_6614 : Index := 0#32
  let v9133 : Index := Scalar.indexCast v9093
  let c0_6615 : Index := 0#32
  ![0, v9133.toNat, 0]

def k0_chk977 (i : grid0.Coords) (v9093 : BitVec 32) : Prop :=
  (∀ (k0_h2 : k0_cond2 i = 1#1), ∀ a, (k0_off2093 v9093) a + S1x1x1024.size a ≤ S1x2048x1024.size a) ∧
  (∀ (k0_h2 : k0_cond2 i = 1#1), ∀ a, (k0_off2097 v9093) a + S1x1x1024.size a ≤ S1x2048x1024.size a)
theorem k0_off2093_inb : ∀ (i : grid0.Coords) (v9093 : BitVec 32) (k0_hw977 : k0_chk977 i v9093), ∀ (k0_h2 : k0_cond2 i = 1#1), ∀ a, (k0_off2093 v9093) a + S1x1x1024.size a ≤ S1x2048x1024.size a := fun i v9093 k0_hw977 k0_h2 => k0_hw977.1 k0_h2
theorem k0_off2097_inb : ∀ (i : grid0.Coords) (v9093 : BitVec 32) (k0_hw977 : k0_chk977 i v9093), ∀ (k0_h2 : k0_cond2 i = 1#1), ∀ a, (k0_off2097 v9093) a + S1x1x1024.size a ≤ S1x2048x1024.size a := fun i v9093 k0_hw977 k0_h2 => k0_hw977.2 k0_h2

def k0_off2098 (v9094 : BitVec 32) : Fin 3 → Nat :=
  let c0_6616 : Index := 0#32
  let v9137 : Index := Scalar.indexCast v9094
  let c0_6617 : Index := 0#32
  ![0, v9137.toNat, 0]

def k0_chk978 (i : grid0.Coords) (v9094 : BitVec 32) : Prop :=
  (∀ (k0_h2 : k0_cond2 i = 1#1), ∀ a, (k0_off2094 v9094) a + S1x1x1024.size a ≤ S1x2048x1024.size a) ∧
  (∀ (k0_h2 : k0_cond2 i = 1#1), ∀ a, (k0_off2098 v9094) a + S1x1x1024.size a ≤ S1x2048x1024.size a)
theorem k0_off2094_inb : ∀ (i : grid0.Coords) (v9094 : BitVec 32) (k0_hw978 : k0_chk978 i v9094), ∀ (k0_h2 : k0_cond2 i = 1#1), ∀ a, (k0_off2094 v9094) a + S1x1x1024.size a ≤ S1x2048x1024.size a := fun i v9094 k0_hw978 k0_h2 => k0_hw978.1 k0_h2
theorem k0_off2098_inb : ∀ (i : grid0.Coords) (v9094 : BitVec 32) (k0_hw978 : k0_chk978 i v9094), ∀ (k0_h2 : k0_cond2 i = 1#1), ∀ a, (k0_off2098 v9094) a + S1x1x1024.size a ≤ S1x2048x1024.size a := fun i v9094 k0_hw978 k0_h2 => k0_hw978.2 k0_h2

def k0_off2099 (v9095 : BitVec 32) : Fin 3 → Nat :=
  let c0_6618 : Index := 0#32
  let v9141 : Index := Scalar.indexCast v9095
  let c0_6619 : Index := 0#32
  ![0, v9141.toNat, 0]

def k0_chk979 (i : grid0.Coords) (v9095 : BitVec 32) : Prop :=
  (∀ (k0_h2 : k0_cond2 i = 1#1), ∀ a, (k0_off2095 v9095) a + S1x1x1024.size a ≤ S1x2048x1024.size a) ∧
  (∀ (k0_h2 : k0_cond2 i = 1#1), ∀ a, (k0_off2099 v9095) a + S1x1x1024.size a ≤ S1x2048x1024.size a)
theorem k0_off2095_inb : ∀ (i : grid0.Coords) (v9095 : BitVec 32) (k0_hw979 : k0_chk979 i v9095), ∀ (k0_h2 : k0_cond2 i = 1#1), ∀ a, (k0_off2095 v9095) a + S1x1x1024.size a ≤ S1x2048x1024.size a := fun i v9095 k0_hw979 k0_h2 => k0_hw979.1 k0_h2
theorem k0_off2099_inb : ∀ (i : grid0.Coords) (v9095 : BitVec 32) (k0_hw979 : k0_chk979 i v9095), ∀ (k0_h2 : k0_cond2 i = 1#1), ∀ a, (k0_off2099 v9095) a + S1x1x1024.size a ≤ S1x2048x1024.size a := fun i v9095 k0_hw979 k0_h2 => k0_hw979.2 k0_h2

def k0_off2100 (v9149 : BitVec 32) : Fin 3 → Nat :=
  let c0_6634 : Index := 0#32
  let v9153 : Index := Scalar.indexCast v9149
  let c0_6635 : Index := 0#32
  ![0, v9153.toNat, 0]

def k0_off2101 (v9150 : BitVec 32) : Fin 3 → Nat :=
  let c0_6642 : Index := 0#32
  let v9162 : Index := Scalar.indexCast v9150
  let c0_6643 : Index := 0#32
  ![0, v9162.toNat, 0]

variable {F : FTy → Type} [FloatOps F]

def k0_off2102 (v9151 : BitVec 32) : Fin 3 → Nat :=
  let c0_6650 : Index := 0#32
  let v9171 : Index := Scalar.indexCast v9151
  let c0_6651 : Index := 0#32
  ![0, v9171.toNat, 0]

def k0_off2103 (v9152 : BitVec 32) : Fin 3 → Nat :=
  let c0_6658 : Index := 0#32
  let v9180 : Index := Scalar.indexCast v9152
  let c0_6659 : Index := 0#32
  ![0, v9180.toNat, 0]

def k0_chk984 (i : grid0.Coords) (v9152 : BitVec 32) : Prop :=
  (∀ (k0_h2 : k0_cond2 i = 1#1), ∀ a, (k0_off2103 v9152) a + S1x1x1024.size a ≤ S1x2048x1024.size a)
theorem k0_off2103_inb : ∀ (i : grid0.Coords) (v9152 : BitVec 32) (k0_hw984 : k0_chk984 i v9152), ∀ (k0_h2 : k0_cond2 i = 1#1), ∀ a, (k0_off2103 v9152) a + S1x1x1024.size a ≤ S1x2048x1024.size a := fun i v9152 k0_hw984 k0_h2 => k0_hw984 k0_h2

def k0_off2104 (v9149 : BitVec 32) : Fin 3 → Nat :=
  let c0_6666 : Index := 0#32
  let v9189 : Index := Scalar.indexCast v9149
  let c0_6667 : Index := 0#32
  ![0, v9189.toNat, 0]

def k0_chk981 (i : grid0.Coords) (v9149 : BitVec 32) : Prop :=
  (∀ (k0_h2 : k0_cond2 i = 1#1), ∀ a, (k0_off2100 v9149) a + S1x1x1024.size a ≤ S1x2048x1024.size a) ∧
  (∀ (k0_h2 : k0_cond2 i = 1#1), ∀ a, (k0_off2104 v9149) a + S1x1x1024.size a ≤ S1x2048x1024.size a)
theorem k0_off2100_inb : ∀ (i : grid0.Coords) (v9149 : BitVec 32) (k0_hw981 : k0_chk981 i v9149), ∀ (k0_h2 : k0_cond2 i = 1#1), ∀ a, (k0_off2100 v9149) a + S1x1x1024.size a ≤ S1x2048x1024.size a := fun i v9149 k0_hw981 k0_h2 => k0_hw981.1 k0_h2
theorem k0_off2104_inb : ∀ (i : grid0.Coords) (v9149 : BitVec 32) (k0_hw981 : k0_chk981 i v9149), ∀ (k0_h2 : k0_cond2 i = 1#1), ∀ a, (k0_off2104 v9149) a + S1x1x1024.size a ≤ S1x2048x1024.size a := fun i v9149 k0_hw981 k0_h2 => k0_hw981.2 k0_h2

def k0_off2105 (v9150 : BitVec 32) : Fin 3 → Nat :=
  let c0_6668 : Index := 0#32
  let v9193 : Index := Scalar.indexCast v9150
  let c0_6669 : Index := 0#32
  ![0, v9193.toNat, 0]

def k0_chk982 (i : grid0.Coords) (v9150 : BitVec 32) : Prop :=
  (∀ (k0_h2 : k0_cond2 i = 1#1), ∀ a, (k0_off2101 v9150) a + S1x1x1024.size a ≤ S1x2048x1024.size a) ∧
  (∀ (k0_h2 : k0_cond2 i = 1#1), ∀ a, (k0_off2105 v9150) a + S1x1x1024.size a ≤ S1x2048x1024.size a)
theorem k0_off2101_inb : ∀ (i : grid0.Coords) (v9150 : BitVec 32) (k0_hw982 : k0_chk982 i v9150), ∀ (k0_h2 : k0_cond2 i = 1#1), ∀ a, (k0_off2101 v9150) a + S1x1x1024.size a ≤ S1x2048x1024.size a := fun i v9150 k0_hw982 k0_h2 => k0_hw982.1 k0_h2
theorem k0_off2105_inb : ∀ (i : grid0.Coords) (v9150 : BitVec 32) (k0_hw982 : k0_chk982 i v9150), ∀ (k0_h2 : k0_cond2 i = 1#1), ∀ a, (k0_off2105 v9150) a + S1x1x1024.size a ≤ S1x2048x1024.size a := fun i v9150 k0_hw982 k0_h2 => k0_hw982.2 k0_h2

def k0_off2106 (v9151 : BitVec 32) : Fin 3 → Nat :=
  let c0_6670 : Index := 0#32
  let v9197 : Index := Scalar.indexCast v9151
  let c0_6671 : Index := 0#32
  ![0, v9197.toNat, 0]

def k0_chk983 (i : grid0.Coords) (v9151 : BitVec 32) : Prop :=
  (∀ (k0_h2 : k0_cond2 i = 1#1), ∀ a, (k0_off2102 v9151) a + S1x1x1024.size a ≤ S1x2048x1024.size a) ∧
  (∀ (k0_h2 : k0_cond2 i = 1#1), ∀ a, (k0_off2106 v9151) a + S1x1x1024.size a ≤ S1x2048x1024.size a)
theorem k0_off2102_inb : ∀ (i : grid0.Coords) (v9151 : BitVec 32) (k0_hw983 : k0_chk983 i v9151), ∀ (k0_h2 : k0_cond2 i = 1#1), ∀ a, (k0_off2102 v9151) a + S1x1x1024.size a ≤ S1x2048x1024.size a := fun i v9151 k0_hw983 k0_h2 => k0_hw983.1 k0_h2
theorem k0_off2106_inb : ∀ (i : grid0.Coords) (v9151 : BitVec 32) (k0_hw983 : k0_chk983 i v9151), ∀ (k0_h2 : k0_cond2 i = 1#1), ∀ a, (k0_off2106 v9151) a + S1x1x1024.size a ≤ S1x2048x1024.size a := fun i v9151 k0_hw983 k0_h2 => k0_hw983.2 k0_h2

def k0_off2107 (v9205 : BitVec 32) : Fin 3 → Nat :=
  let c0_6686 : Index := 0#32
  let v9209 : Index := Scalar.indexCast v9205
  let c0_6687 : Index := 0#32
  ![0, v9209.toNat, 0]

def k0_off2108 (v9206 : BitVec 32) : Fin 3 → Nat :=
  let c0_6694 : Index := 0#32
  let v9218 : Index := Scalar.indexCast v9206
  let c0_6695 : Index := 0#32
  ![0, v9218.toNat, 0]

def k0_off2109 (v9207 : BitVec 32) : Fin 3 → Nat :=
  let c0_6702 : Index := 0#32
  let v9227 : Index := Scalar.indexCast v9207
  let c0_6703 : Index := 0#32
  ![0, v9227.toNat, 0]

def k0_off2110 (v9208 : BitVec 32) : Fin 3 → Nat :=
  let c0_6710 : Index := 0#32
  let v9236 : Index := Scalar.indexCast v9208
  let c0_6711 : Index := 0#32
  ![0, v9236.toNat, 0]

def k0_chk988 (i : grid0.Coords) (v9208 : BitVec 32) : Prop :=
  (∀ (k0_h2 : k0_cond2 i = 1#1), ∀ a, (k0_off2110 v9208) a + S1x1x1024.size a ≤ S1x2048x1024.size a)
theorem k0_off2110_inb : ∀ (i : grid0.Coords) (v9208 : BitVec 32) (k0_hw988 : k0_chk988 i v9208), ∀ (k0_h2 : k0_cond2 i = 1#1), ∀ a, (k0_off2110 v9208) a + S1x1x1024.size a ≤ S1x2048x1024.size a := fun i v9208 k0_hw988 k0_h2 => k0_hw988 k0_h2

def k0_off2111 (v9205 : BitVec 32) : Fin 3 → Nat :=
  let c0_6718 : Index := 0#32
  let v9245 : Index := Scalar.indexCast v9205
  let c0_6719 : Index := 0#32
  ![0, v9245.toNat, 0]

def k0_chk985 (i : grid0.Coords) (v9205 : BitVec 32) : Prop :=
  (∀ (k0_h2 : k0_cond2 i = 1#1), ∀ a, (k0_off2107 v9205) a + S1x1x1024.size a ≤ S1x2048x1024.size a) ∧
  (∀ (k0_h2 : k0_cond2 i = 1#1), ∀ a, (k0_off2111 v9205) a + S1x1x1024.size a ≤ S1x2048x1024.size a)
theorem k0_off2107_inb : ∀ (i : grid0.Coords) (v9205 : BitVec 32) (k0_hw985 : k0_chk985 i v9205), ∀ (k0_h2 : k0_cond2 i = 1#1), ∀ a, (k0_off2107 v9205) a + S1x1x1024.size a ≤ S1x2048x1024.size a := fun i v9205 k0_hw985 k0_h2 => k0_hw985.1 k0_h2
theorem k0_off2111_inb : ∀ (i : grid0.Coords) (v9205 : BitVec 32) (k0_hw985 : k0_chk985 i v9205), ∀ (k0_h2 : k0_cond2 i = 1#1), ∀ a, (k0_off2111 v9205) a + S1x1x1024.size a ≤ S1x2048x1024.size a := fun i v9205 k0_hw985 k0_h2 => k0_hw985.2 k0_h2

def k0_off2112 (v9206 : BitVec 32) : Fin 3 → Nat :=
  let c0_6720 : Index := 0#32
  let v9249 : Index := Scalar.indexCast v9206
  let c0_6721 : Index := 0#32
  ![0, v9249.toNat, 0]

def k0_chk986 (i : grid0.Coords) (v9206 : BitVec 32) : Prop :=
  (∀ (k0_h2 : k0_cond2 i = 1#1), ∀ a, (k0_off2108 v9206) a + S1x1x1024.size a ≤ S1x2048x1024.size a) ∧
  (∀ (k0_h2 : k0_cond2 i = 1#1), ∀ a, (k0_off2112 v9206) a + S1x1x1024.size a ≤ S1x2048x1024.size a)
theorem k0_off2108_inb : ∀ (i : grid0.Coords) (v9206 : BitVec 32) (k0_hw986 : k0_chk986 i v9206), ∀ (k0_h2 : k0_cond2 i = 1#1), ∀ a, (k0_off2108 v9206) a + S1x1x1024.size a ≤ S1x2048x1024.size a := fun i v9206 k0_hw986 k0_h2 => k0_hw986.1 k0_h2
theorem k0_off2112_inb : ∀ (i : grid0.Coords) (v9206 : BitVec 32) (k0_hw986 : k0_chk986 i v9206), ∀ (k0_h2 : k0_cond2 i = 1#1), ∀ a, (k0_off2112 v9206) a + S1x1x1024.size a ≤ S1x2048x1024.size a := fun i v9206 k0_hw986 k0_h2 => k0_hw986.2 k0_h2

def k0_off2113 (v9207 : BitVec 32) : Fin 3 → Nat :=
  let c0_6722 : Index := 0#32
  let v9253 : Index := Scalar.indexCast v9207
  let c0_6723 : Index := 0#32
  ![0, v9253.toNat, 0]

def k0_chk987 (i : grid0.Coords) (v9207 : BitVec 32) : Prop :=
  (∀ (k0_h2 : k0_cond2 i = 1#1), ∀ a, (k0_off2109 v9207) a + S1x1x1024.size a ≤ S1x2048x1024.size a) ∧
  (∀ (k0_h2 : k0_cond2 i = 1#1), ∀ a, (k0_off2113 v9207) a + S1x1x1024.size a ≤ S1x2048x1024.size a)
theorem k0_off2109_inb : ∀ (i : grid0.Coords) (v9207 : BitVec 32) (k0_hw987 : k0_chk987 i v9207), ∀ (k0_h2 : k0_cond2 i = 1#1), ∀ a, (k0_off2109 v9207) a + S1x1x1024.size a ≤ S1x2048x1024.size a := fun i v9207 k0_hw987 k0_h2 => k0_hw987.1 k0_h2
theorem k0_off2113_inb : ∀ (i : grid0.Coords) (v9207 : BitVec 32) (k0_hw987 : k0_chk987 i v9207), ∀ (k0_h2 : k0_cond2 i = 1#1), ∀ a, (k0_off2113 v9207) a + S1x1x1024.size a ≤ S1x2048x1024.size a := fun i v9207 k0_hw987 k0_h2 => k0_hw987.2 k0_h2

def k0_off2114 (v9261 : BitVec 32) : Fin 3 → Nat :=
  let c0_6738 : Index := 0#32
  let v9265 : Index := Scalar.indexCast v9261
  let c0_6739 : Index := 0#32
  ![0, v9265.toNat, 0]

def k0_off2115 (v9262 : BitVec 32) : Fin 3 → Nat :=
  let c0_6746 : Index := 0#32
  let v9274 : Index := Scalar.indexCast v9262
  let c0_6747 : Index := 0#32
  ![0, v9274.toNat, 0]

def k0_off2116 (v9263 : BitVec 32) : Fin 3 → Nat :=
  let c0_6754 : Index := 0#32
  let v9283 : Index := Scalar.indexCast v9263
  let c0_6755 : Index := 0#32
  ![0, v9283.toNat, 0]

def k0_off2117 (v9264 : BitVec 32) : Fin 3 → Nat :=
  let c0_6762 : Index := 0#32
  let v9292 : Index := Scalar.indexCast v9264
  let c0_6763 : Index := 0#32
  ![0, v9292.toNat, 0]

def k0_chk992 (i : grid0.Coords) (v9264 : BitVec 32) : Prop :=
  (∀ (k0_h2 : k0_cond2 i = 1#1), ∀ a, (k0_off2117 v9264) a + S1x1x1024.size a ≤ S1x2048x1024.size a)
theorem k0_off2117_inb : ∀ (i : grid0.Coords) (v9264 : BitVec 32) (k0_hw992 : k0_chk992 i v9264), ∀ (k0_h2 : k0_cond2 i = 1#1), ∀ a, (k0_off2117 v9264) a + S1x1x1024.size a ≤ S1x2048x1024.size a := fun i v9264 k0_hw992 k0_h2 => k0_hw992 k0_h2

def k0_off2118 (v9261 : BitVec 32) : Fin 3 → Nat :=
  let c0_6770 : Index := 0#32
  let v9301 : Index := Scalar.indexCast v9261
  let c0_6771 : Index := 0#32
  ![0, v9301.toNat, 0]

def k0_chk989 (i : grid0.Coords) (v9261 : BitVec 32) : Prop :=
  (∀ (k0_h2 : k0_cond2 i = 1#1), ∀ a, (k0_off2114 v9261) a + S1x1x1024.size a ≤ S1x2048x1024.size a) ∧
  (∀ (k0_h2 : k0_cond2 i = 1#1), ∀ a, (k0_off2118 v9261) a + S1x1x1024.size a ≤ S1x2048x1024.size a)
theorem k0_off2114_inb : ∀ (i : grid0.Coords) (v9261 : BitVec 32) (k0_hw989 : k0_chk989 i v9261), ∀ (k0_h2 : k0_cond2 i = 1#1), ∀ a, (k0_off2114 v9261) a + S1x1x1024.size a ≤ S1x2048x1024.size a := fun i v9261 k0_hw989 k0_h2 => k0_hw989.1 k0_h2
theorem k0_off2118_inb : ∀ (i : grid0.Coords) (v9261 : BitVec 32) (k0_hw989 : k0_chk989 i v9261), ∀ (k0_h2 : k0_cond2 i = 1#1), ∀ a, (k0_off2118 v9261) a + S1x1x1024.size a ≤ S1x2048x1024.size a := fun i v9261 k0_hw989 k0_h2 => k0_hw989.2 k0_h2

def k0_off2119 (v9262 : BitVec 32) : Fin 3 → Nat :=
  let c0_6772 : Index := 0#32
  let v9305 : Index := Scalar.indexCast v9262
  let c0_6773 : Index := 0#32
  ![0, v9305.toNat, 0]

def k0_chk990 (i : grid0.Coords) (v9262 : BitVec 32) : Prop :=
  (∀ (k0_h2 : k0_cond2 i = 1#1), ∀ a, (k0_off2115 v9262) a + S1x1x1024.size a ≤ S1x2048x1024.size a) ∧
  (∀ (k0_h2 : k0_cond2 i = 1#1), ∀ a, (k0_off2119 v9262) a + S1x1x1024.size a ≤ S1x2048x1024.size a)
theorem k0_off2115_inb : ∀ (i : grid0.Coords) (v9262 : BitVec 32) (k0_hw990 : k0_chk990 i v9262), ∀ (k0_h2 : k0_cond2 i = 1#1), ∀ a, (k0_off2115 v9262) a + S1x1x1024.size a ≤ S1x2048x1024.size a := fun i v9262 k0_hw990 k0_h2 => k0_hw990.1 k0_h2
theorem k0_off2119_inb : ∀ (i : grid0.Coords) (v9262 : BitVec 32) (k0_hw990 : k0_chk990 i v9262), ∀ (k0_h2 : k0_cond2 i = 1#1), ∀ a, (k0_off2119 v9262) a + S1x1x1024.size a ≤ S1x2048x1024.size a := fun i v9262 k0_hw990 k0_h2 => k0_hw990.2 k0_h2

def k0_off2120 (v9263 : BitVec 32) : Fin 3 → Nat :=
  let c0_6774 : Index := 0#32
  let v9309 : Index := Scalar.indexCast v9263
  let c0_6775 : Index := 0#32
  ![0, v9309.toNat, 0]

def k0_chk991 (i : grid0.Coords) (v9263 : BitVec 32) : Prop :=
  (∀ (k0_h2 : k0_cond2 i = 1#1), ∀ a, (k0_off2116 v9263) a + S1x1x1024.size a ≤ S1x2048x1024.size a) ∧
  (∀ (k0_h2 : k0_cond2 i = 1#1), ∀ a, (k0_off2120 v9263) a + S1x1x1024.size a ≤ S1x2048x1024.size a)
theorem k0_off2116_inb : ∀ (i : grid0.Coords) (v9263 : BitVec 32) (k0_hw991 : k0_chk991 i v9263), ∀ (k0_h2 : k0_cond2 i = 1#1), ∀ a, (k0_off2116 v9263) a + S1x1x1024.size a ≤ S1x2048x1024.size a := fun i v9263 k0_hw991 k0_h2 => k0_hw991.1 k0_h2
theorem k0_off2120_inb : ∀ (i : grid0.Coords) (v9263 : BitVec 32) (k0_hw991 : k0_chk991 i v9263), ∀ (k0_h2 : k0_cond2 i = 1#1), ∀ a, (k0_off2120 v9263) a + S1x1x1024.size a ≤ S1x2048x1024.size a := fun i v9263 k0_hw991 k0_h2 => k0_hw991.2 k0_h2

def k0_off2121 (v9317 : BitVec 32) : Fin 3 → Nat :=
  let c0_6790 : Index := 0#32
  let v9321 : Index := Scalar.indexCast v9317
  let c0_6791 : Index := 0#32
  ![0, v9321.toNat, 0]

def k0_off2122 (v9318 : BitVec 32) : Fin 3 → Nat :=
  let c0_6798 : Index := 0#32
  let v9330 : Index := Scalar.indexCast v9318
  let c0_6799 : Index := 0#32
  ![0, v9330.toNat, 0]

def k0_off2123 (v9319 : BitVec 32) : Fin 3 → Nat :=
  let c0_6806 : Index := 0#32
  let v9339 : Index := Scalar.indexCast v9319
  let c0_6807 : Index := 0#32
  ![0, v9339.toNat, 0]

def k0_off2124 (v9320 : BitVec 32) : Fin 3 → Nat :=
  let c0_6814 : Index := 0#32
  let v9348 : Index := Scalar.indexCast v9320
  let c0_6815 : Index := 0#32
  ![0, v9348.toNat, 0]

def k0_chk996 (i : grid0.Coords) (v9320 : BitVec 32) : Prop :=
  (∀ (k0_h2 : k0_cond2 i = 1#1), ∀ a, (k0_off2124 v9320) a + S1x1x1024.size a ≤ S1x2048x1024.size a)
theorem k0_off2124_inb : ∀ (i : grid0.Coords) (v9320 : BitVec 32) (k0_hw996 : k0_chk996 i v9320), ∀ (k0_h2 : k0_cond2 i = 1#1), ∀ a, (k0_off2124 v9320) a + S1x1x1024.size a ≤ S1x2048x1024.size a := fun i v9320 k0_hw996 k0_h2 => k0_hw996 k0_h2

def k0_off2125 (v9317 : BitVec 32) : Fin 3 → Nat :=
  let c0_6822 : Index := 0#32
  let v9357 : Index := Scalar.indexCast v9317
  let c0_6823 : Index := 0#32
  ![0, v9357.toNat, 0]

def k0_chk993 (i : grid0.Coords) (v9317 : BitVec 32) : Prop :=
  (∀ (k0_h2 : k0_cond2 i = 1#1), ∀ a, (k0_off2121 v9317) a + S1x1x1024.size a ≤ S1x2048x1024.size a) ∧
  (∀ (k0_h2 : k0_cond2 i = 1#1), ∀ a, (k0_off2125 v9317) a + S1x1x1024.size a ≤ S1x2048x1024.size a)
theorem k0_off2121_inb : ∀ (i : grid0.Coords) (v9317 : BitVec 32) (k0_hw993 : k0_chk993 i v9317), ∀ (k0_h2 : k0_cond2 i = 1#1), ∀ a, (k0_off2121 v9317) a + S1x1x1024.size a ≤ S1x2048x1024.size a := fun i v9317 k0_hw993 k0_h2 => k0_hw993.1 k0_h2
theorem k0_off2125_inb : ∀ (i : grid0.Coords) (v9317 : BitVec 32) (k0_hw993 : k0_chk993 i v9317), ∀ (k0_h2 : k0_cond2 i = 1#1), ∀ a, (k0_off2125 v9317) a + S1x1x1024.size a ≤ S1x2048x1024.size a := fun i v9317 k0_hw993 k0_h2 => k0_hw993.2 k0_h2

def k0_off2126 (v9318 : BitVec 32) : Fin 3 → Nat :=
  let c0_6824 : Index := 0#32
  let v9361 : Index := Scalar.indexCast v9318
  let c0_6825 : Index := 0#32
  ![0, v9361.toNat, 0]

def k0_chk994 (i : grid0.Coords) (v9318 : BitVec 32) : Prop :=
  (∀ (k0_h2 : k0_cond2 i = 1#1), ∀ a, (k0_off2122 v9318) a + S1x1x1024.size a ≤ S1x2048x1024.size a) ∧
  (∀ (k0_h2 : k0_cond2 i = 1#1), ∀ a, (k0_off2126 v9318) a + S1x1x1024.size a ≤ S1x2048x1024.size a)
theorem k0_off2122_inb : ∀ (i : grid0.Coords) (v9318 : BitVec 32) (k0_hw994 : k0_chk994 i v9318), ∀ (k0_h2 : k0_cond2 i = 1#1), ∀ a, (k0_off2122 v9318) a + S1x1x1024.size a ≤ S1x2048x1024.size a := fun i v9318 k0_hw994 k0_h2 => k0_hw994.1 k0_h2
theorem k0_off2126_inb : ∀ (i : grid0.Coords) (v9318 : BitVec 32) (k0_hw994 : k0_chk994 i v9318), ∀ (k0_h2 : k0_cond2 i = 1#1), ∀ a, (k0_off2126 v9318) a + S1x1x1024.size a ≤ S1x2048x1024.size a := fun i v9318 k0_hw994 k0_h2 => k0_hw994.2 k0_h2

def k0_off2127 (v9319 : BitVec 32) : Fin 3 → Nat :=
  let c0_6826 : Index := 0#32
  let v9365 : Index := Scalar.indexCast v9319
  let c0_6827 : Index := 0#32
  ![0, v9365.toNat, 0]

def k0_chk995 (i : grid0.Coords) (v9319 : BitVec 32) : Prop :=
  (∀ (k0_h2 : k0_cond2 i = 1#1), ∀ a, (k0_off2123 v9319) a + S1x1x1024.size a ≤ S1x2048x1024.size a) ∧
  (∀ (k0_h2 : k0_cond2 i = 1#1), ∀ a, (k0_off2127 v9319) a + S1x1x1024.size a ≤ S1x2048x1024.size a)
theorem k0_off2123_inb : ∀ (i : grid0.Coords) (v9319 : BitVec 32) (k0_hw995 : k0_chk995 i v9319), ∀ (k0_h2 : k0_cond2 i = 1#1), ∀ a, (k0_off2123 v9319) a + S1x1x1024.size a ≤ S1x2048x1024.size a := fun i v9319 k0_hw995 k0_h2 => k0_hw995.1 k0_h2
theorem k0_off2127_inb : ∀ (i : grid0.Coords) (v9319 : BitVec 32) (k0_hw995 : k0_chk995 i v9319), ∀ (k0_h2 : k0_cond2 i = 1#1), ∀ a, (k0_off2127 v9319) a + S1x1x1024.size a ≤ S1x2048x1024.size a := fun i v9319 k0_hw995 k0_h2 => k0_hw995.2 k0_h2

def k0_off2128 (v9373 : BitVec 32) : Fin 3 → Nat :=
  let c0_6842 : Index := 0#32
  let v9377 : Index := Scalar.indexCast v9373
  let c0_6843 : Index := 0#32
  ![0, v9377.toNat, 0]

def k0_off2129 (v9374 : BitVec 32) : Fin 3 → Nat :=
  let c0_6850 : Index := 0#32
  let v9386 : Index := Scalar.indexCast v9374
  let c0_6851 : Index := 0#32
  ![0, v9386.toNat, 0]

def k0_off2130 (v9375 : BitVec 32) : Fin 3 → Nat :=
  let c0_6858 : Index := 0#32
  let v9395 : Index := Scalar.indexCast v9375
  let c0_6859 : Index := 0#32
  ![0, v9395.toNat, 0]

def k0_off2131 (v9376 : BitVec 32) : Fin 3 → Nat :=
  let c0_6866 : Index := 0#32
  let v9404 : Index := Scalar.indexCast v9376
  let c0_6867 : Index := 0#32
  ![0, v9404.toNat, 0]

def k0_chk1000 (i : grid0.Coords) (v9376 : BitVec 32) : Prop :=
  (∀ (k0_h2 : k0_cond2 i = 1#1), ∀ a, (k0_off2131 v9376) a + S1x1x1024.size a ≤ S1x2048x1024.size a)
theorem k0_off2131_inb : ∀ (i : grid0.Coords) (v9376 : BitVec 32) (k0_hw1000 : k0_chk1000 i v9376), ∀ (k0_h2 : k0_cond2 i = 1#1), ∀ a, (k0_off2131 v9376) a + S1x1x1024.size a ≤ S1x2048x1024.size a := fun i v9376 k0_hw1000 k0_h2 => k0_hw1000 k0_h2

def k0_off2132 (v9373 : BitVec 32) : Fin 3 → Nat :=
  let c0_6874 : Index := 0#32
  let v9413 : Index := Scalar.indexCast v9373
  let c0_6875 : Index := 0#32
  ![0, v9413.toNat, 0]

def k0_chk997 (i : grid0.Coords) (v9373 : BitVec 32) : Prop :=
  (∀ (k0_h2 : k0_cond2 i = 1#1), ∀ a, (k0_off2128 v9373) a + S1x1x1024.size a ≤ S1x2048x1024.size a) ∧
  (∀ (k0_h2 : k0_cond2 i = 1#1), ∀ a, (k0_off2132 v9373) a + S1x1x1024.size a ≤ S1x2048x1024.size a)
theorem k0_off2128_inb : ∀ (i : grid0.Coords) (v9373 : BitVec 32) (k0_hw997 : k0_chk997 i v9373), ∀ (k0_h2 : k0_cond2 i = 1#1), ∀ a, (k0_off2128 v9373) a + S1x1x1024.size a ≤ S1x2048x1024.size a := fun i v9373 k0_hw997 k0_h2 => k0_hw997.1 k0_h2
theorem k0_off2132_inb : ∀ (i : grid0.Coords) (v9373 : BitVec 32) (k0_hw997 : k0_chk997 i v9373), ∀ (k0_h2 : k0_cond2 i = 1#1), ∀ a, (k0_off2132 v9373) a + S1x1x1024.size a ≤ S1x2048x1024.size a := fun i v9373 k0_hw997 k0_h2 => k0_hw997.2 k0_h2

def k0_off2133 (v9374 : BitVec 32) : Fin 3 → Nat :=
  let c0_6876 : Index := 0#32
  let v9417 : Index := Scalar.indexCast v9374
  let c0_6877 : Index := 0#32
  ![0, v9417.toNat, 0]

def k0_chk998 (i : grid0.Coords) (v9374 : BitVec 32) : Prop :=
  (∀ (k0_h2 : k0_cond2 i = 1#1), ∀ a, (k0_off2129 v9374) a + S1x1x1024.size a ≤ S1x2048x1024.size a) ∧
  (∀ (k0_h2 : k0_cond2 i = 1#1), ∀ a, (k0_off2133 v9374) a + S1x1x1024.size a ≤ S1x2048x1024.size a)
theorem k0_off2129_inb : ∀ (i : grid0.Coords) (v9374 : BitVec 32) (k0_hw998 : k0_chk998 i v9374), ∀ (k0_h2 : k0_cond2 i = 1#1), ∀ a, (k0_off2129 v9374) a + S1x1x1024.size a ≤ S1x2048x1024.size a := fun i v9374 k0_hw998 k0_h2 => k0_hw998.1 k0_h2
theorem k0_off2133_inb : ∀ (i : grid0.Coords) (v9374 : BitVec 32) (k0_hw998 : k0_chk998 i v9374), ∀ (k0_h2 : k0_cond2 i = 1#1), ∀ a, (k0_off2133 v9374) a + S1x1x1024.size a ≤ S1x2048x1024.size a := fun i v9374 k0_hw998 k0_h2 => k0_hw998.2 k0_h2

def k0_off2134 (v9375 : BitVec 32) : Fin 3 → Nat :=
  let c0_6878 : Index := 0#32
  let v9421 : Index := Scalar.indexCast v9375
  let c0_6879 : Index := 0#32
  ![0, v9421.toNat, 0]

def k0_chk999 (i : grid0.Coords) (v9375 : BitVec 32) : Prop :=
  (∀ (k0_h2 : k0_cond2 i = 1#1), ∀ a, (k0_off2130 v9375) a + S1x1x1024.size a ≤ S1x2048x1024.size a) ∧
  (∀ (k0_h2 : k0_cond2 i = 1#1), ∀ a, (k0_off2134 v9375) a + S1x1x1024.size a ≤ S1x2048x1024.size a)
theorem k0_off2130_inb : ∀ (i : grid0.Coords) (v9375 : BitVec 32) (k0_hw999 : k0_chk999 i v9375), ∀ (k0_h2 : k0_cond2 i = 1#1), ∀ a, (k0_off2130 v9375) a + S1x1x1024.size a ≤ S1x2048x1024.size a := fun i v9375 k0_hw999 k0_h2 => k0_hw999.1 k0_h2
theorem k0_off2134_inb : ∀ (i : grid0.Coords) (v9375 : BitVec 32) (k0_hw999 : k0_chk999 i v9375), ∀ (k0_h2 : k0_cond2 i = 1#1), ∀ a, (k0_off2134 v9375) a + S1x1x1024.size a ≤ S1x2048x1024.size a := fun i v9375 k0_hw999 k0_h2 => k0_hw999.2 k0_h2

def k0_off2135 (v9429 : BitVec 32) : Fin 3 → Nat :=
  let c0_6894 : Index := 0#32
  let v9433 : Index := Scalar.indexCast v9429
  let c0_6895 : Index := 0#32
  ![0, v9433.toNat, 0]

def k0_off2136 (v9430 : BitVec 32) : Fin 3 → Nat :=
  let c0_6902 : Index := 0#32
  let v9442 : Index := Scalar.indexCast v9430
  let c0_6903 : Index := 0#32
  ![0, v9442.toNat, 0]

def k0_off2137 (v9431 : BitVec 32) : Fin 3 → Nat :=
  let c0_6910 : Index := 0#32
  let v9451 : Index := Scalar.indexCast v9431
  let c0_6911 : Index := 0#32
  ![0, v9451.toNat, 0]

def k0_off2138 (v9432 : BitVec 32) : Fin 3 → Nat :=
  let c0_6918 : Index := 0#32
  let v9460 : Index := Scalar.indexCast v9432
  let c0_6919 : Index := 0#32
  ![0, v9460.toNat, 0]

def k0_chk1004 (i : grid0.Coords) (v9432 : BitVec 32) : Prop :=
  (∀ (k0_h2 : k0_cond2 i = 1#1), ∀ a, (k0_off2138 v9432) a + S1x1x1024.size a ≤ S1x2048x1024.size a)
theorem k0_off2138_inb : ∀ (i : grid0.Coords) (v9432 : BitVec 32) (k0_hw1004 : k0_chk1004 i v9432), ∀ (k0_h2 : k0_cond2 i = 1#1), ∀ a, (k0_off2138 v9432) a + S1x1x1024.size a ≤ S1x2048x1024.size a := fun i v9432 k0_hw1004 k0_h2 => k0_hw1004 k0_h2

def k0_off2139 (v9429 : BitVec 32) : Fin 3 → Nat :=
  let c0_6926 : Index := 0#32
  let v9469 : Index := Scalar.indexCast v9429
  let c0_6927 : Index := 0#32
  ![0, v9469.toNat, 0]

def k0_chk1001 (i : grid0.Coords) (v9429 : BitVec 32) : Prop :=
  (∀ (k0_h2 : k0_cond2 i = 1#1), ∀ a, (k0_off2135 v9429) a + S1x1x1024.size a ≤ S1x2048x1024.size a) ∧
  (∀ (k0_h2 : k0_cond2 i = 1#1), ∀ a, (k0_off2139 v9429) a + S1x1x1024.size a ≤ S1x2048x1024.size a)
theorem k0_off2135_inb : ∀ (i : grid0.Coords) (v9429 : BitVec 32) (k0_hw1001 : k0_chk1001 i v9429), ∀ (k0_h2 : k0_cond2 i = 1#1), ∀ a, (k0_off2135 v9429) a + S1x1x1024.size a ≤ S1x2048x1024.size a := fun i v9429 k0_hw1001 k0_h2 => k0_hw1001.1 k0_h2
theorem k0_off2139_inb : ∀ (i : grid0.Coords) (v9429 : BitVec 32) (k0_hw1001 : k0_chk1001 i v9429), ∀ (k0_h2 : k0_cond2 i = 1#1), ∀ a, (k0_off2139 v9429) a + S1x1x1024.size a ≤ S1x2048x1024.size a := fun i v9429 k0_hw1001 k0_h2 => k0_hw1001.2 k0_h2

def k0_off2140 (v9430 : BitVec 32) : Fin 3 → Nat :=
  let c0_6928 : Index := 0#32
  let v9473 : Index := Scalar.indexCast v9430
  let c0_6929 : Index := 0#32
  ![0, v9473.toNat, 0]

def k0_chk1002 (i : grid0.Coords) (v9430 : BitVec 32) : Prop :=
  (∀ (k0_h2 : k0_cond2 i = 1#1), ∀ a, (k0_off2136 v9430) a + S1x1x1024.size a ≤ S1x2048x1024.size a) ∧
  (∀ (k0_h2 : k0_cond2 i = 1#1), ∀ a, (k0_off2140 v9430) a + S1x1x1024.size a ≤ S1x2048x1024.size a)
theorem k0_off2136_inb : ∀ (i : grid0.Coords) (v9430 : BitVec 32) (k0_hw1002 : k0_chk1002 i v9430), ∀ (k0_h2 : k0_cond2 i = 1#1), ∀ a, (k0_off2136 v9430) a + S1x1x1024.size a ≤ S1x2048x1024.size a := fun i v9430 k0_hw1002 k0_h2 => k0_hw1002.1 k0_h2
theorem k0_off2140_inb : ∀ (i : grid0.Coords) (v9430 : BitVec 32) (k0_hw1002 : k0_chk1002 i v9430), ∀ (k0_h2 : k0_cond2 i = 1#1), ∀ a, (k0_off2140 v9430) a + S1x1x1024.size a ≤ S1x2048x1024.size a := fun i v9430 k0_hw1002 k0_h2 => k0_hw1002.2 k0_h2

def k0_off2141 (v9431 : BitVec 32) : Fin 3 → Nat :=
  let c0_6930 : Index := 0#32
  let v9477 : Index := Scalar.indexCast v9431
  let c0_6931 : Index := 0#32
  ![0, v9477.toNat, 0]

def k0_chk1003 (i : grid0.Coords) (v9431 : BitVec 32) : Prop :=
  (∀ (k0_h2 : k0_cond2 i = 1#1), ∀ a, (k0_off2137 v9431) a + S1x1x1024.size a ≤ S1x2048x1024.size a) ∧
  (∀ (k0_h2 : k0_cond2 i = 1#1), ∀ a, (k0_off2141 v9431) a + S1x1x1024.size a ≤ S1x2048x1024.size a)
theorem k0_off2137_inb : ∀ (i : grid0.Coords) (v9431 : BitVec 32) (k0_hw1003 : k0_chk1003 i v9431), ∀ (k0_h2 : k0_cond2 i = 1#1), ∀ a, (k0_off2137 v9431) a + S1x1x1024.size a ≤ S1x2048x1024.size a := fun i v9431 k0_hw1003 k0_h2 => k0_hw1003.1 k0_h2
theorem k0_off2141_inb : ∀ (i : grid0.Coords) (v9431 : BitVec 32) (k0_hw1003 : k0_chk1003 i v9431), ∀ (k0_h2 : k0_cond2 i = 1#1), ∀ a, (k0_off2141 v9431) a + S1x1x1024.size a ≤ S1x2048x1024.size a := fun i v9431 k0_hw1003 k0_h2 => k0_hw1003.2 k0_h2

def k0_off2142 (v9485 : BitVec 32) : Fin 3 → Nat :=
  let c0_6946 : Index := 0#32
  let v9489 : Index := Scalar.indexCast v9485
  let c0_6947 : Index := 0#32
  ![0, v9489.toNat, 0]

def k0_off2143 (v9486 : BitVec 32) : Fin 3 → Nat :=
  let c0_6954 : Index := 0#32
  let v9498 : Index := Scalar.indexCast v9486
  let c0_6955 : Index := 0#32
  ![0, v9498.toNat, 0]

def k0_off2144 (v9487 : BitVec 32) : Fin 3 → Nat :=
  let c0_6962 : Index := 0#32
  let v9507 : Index := Scalar.indexCast v9487
  let c0_6963 : Index := 0#32
  ![0, v9507.toNat, 0]

def k0_off2145 (v9488 : BitVec 32) : Fin 3 → Nat :=
  let c0_6970 : Index := 0#32
  let v9516 : Index := Scalar.indexCast v9488
  let c0_6971 : Index := 0#32
  ![0, v9516.toNat, 0]

def k0_chk1008 (i : grid0.Coords) (v9488 : BitVec 32) : Prop :=
  (∀ (k0_h2 : k0_cond2 i = 1#1), ∀ a, (k0_off2145 v9488) a + S1x1x1024.size a ≤ S1x2048x1024.size a)
theorem k0_off2145_inb : ∀ (i : grid0.Coords) (v9488 : BitVec 32) (k0_hw1008 : k0_chk1008 i v9488), ∀ (k0_h2 : k0_cond2 i = 1#1), ∀ a, (k0_off2145 v9488) a + S1x1x1024.size a ≤ S1x2048x1024.size a := fun i v9488 k0_hw1008 k0_h2 => k0_hw1008 k0_h2

def k0_off2146 (v9485 : BitVec 32) : Fin 3 → Nat :=
  let c0_6978 : Index := 0#32
  let v9525 : Index := Scalar.indexCast v9485
  let c0_6979 : Index := 0#32
  ![0, v9525.toNat, 0]

def k0_chk1005 (i : grid0.Coords) (v9485 : BitVec 32) : Prop :=
  (∀ (k0_h2 : k0_cond2 i = 1#1), ∀ a, (k0_off2142 v9485) a + S1x1x1024.size a ≤ S1x2048x1024.size a) ∧
  (∀ (k0_h2 : k0_cond2 i = 1#1), ∀ a, (k0_off2146 v9485) a + S1x1x1024.size a ≤ S1x2048x1024.size a)
theorem k0_off2142_inb : ∀ (i : grid0.Coords) (v9485 : BitVec 32) (k0_hw1005 : k0_chk1005 i v9485), ∀ (k0_h2 : k0_cond2 i = 1#1), ∀ a, (k0_off2142 v9485) a + S1x1x1024.size a ≤ S1x2048x1024.size a := fun i v9485 k0_hw1005 k0_h2 => k0_hw1005.1 k0_h2
theorem k0_off2146_inb : ∀ (i : grid0.Coords) (v9485 : BitVec 32) (k0_hw1005 : k0_chk1005 i v9485), ∀ (k0_h2 : k0_cond2 i = 1#1), ∀ a, (k0_off2146 v9485) a + S1x1x1024.size a ≤ S1x2048x1024.size a := fun i v9485 k0_hw1005 k0_h2 => k0_hw1005.2 k0_h2

def k0_off2147 (v9486 : BitVec 32) : Fin 3 → Nat :=
  let c0_6980 : Index := 0#32
  let v9529 : Index := Scalar.indexCast v9486
  let c0_6981 : Index := 0#32
  ![0, v9529.toNat, 0]

def k0_chk1006 (i : grid0.Coords) (v9486 : BitVec 32) : Prop :=
  (∀ (k0_h2 : k0_cond2 i = 1#1), ∀ a, (k0_off2143 v9486) a + S1x1x1024.size a ≤ S1x2048x1024.size a) ∧
  (∀ (k0_h2 : k0_cond2 i = 1#1), ∀ a, (k0_off2147 v9486) a + S1x1x1024.size a ≤ S1x2048x1024.size a)
theorem k0_off2143_inb : ∀ (i : grid0.Coords) (v9486 : BitVec 32) (k0_hw1006 : k0_chk1006 i v9486), ∀ (k0_h2 : k0_cond2 i = 1#1), ∀ a, (k0_off2143 v9486) a + S1x1x1024.size a ≤ S1x2048x1024.size a := fun i v9486 k0_hw1006 k0_h2 => k0_hw1006.1 k0_h2
theorem k0_off2147_inb : ∀ (i : grid0.Coords) (v9486 : BitVec 32) (k0_hw1006 : k0_chk1006 i v9486), ∀ (k0_h2 : k0_cond2 i = 1#1), ∀ a, (k0_off2147 v9486) a + S1x1x1024.size a ≤ S1x2048x1024.size a := fun i v9486 k0_hw1006 k0_h2 => k0_hw1006.2 k0_h2

def k0_off2148 (v9487 : BitVec 32) : Fin 3 → Nat :=
  let c0_6982 : Index := 0#32
  let v9533 : Index := Scalar.indexCast v9487
  let c0_6983 : Index := 0#32
  ![0, v9533.toNat, 0]

def k0_chk1007 (i : grid0.Coords) (v9487 : BitVec 32) : Prop :=
  (∀ (k0_h2 : k0_cond2 i = 1#1), ∀ a, (k0_off2144 v9487) a + S1x1x1024.size a ≤ S1x2048x1024.size a) ∧
  (∀ (k0_h2 : k0_cond2 i = 1#1), ∀ a, (k0_off2148 v9487) a + S1x1x1024.size a ≤ S1x2048x1024.size a)
theorem k0_off2144_inb : ∀ (i : grid0.Coords) (v9487 : BitVec 32) (k0_hw1007 : k0_chk1007 i v9487), ∀ (k0_h2 : k0_cond2 i = 1#1), ∀ a, (k0_off2144 v9487) a + S1x1x1024.size a ≤ S1x2048x1024.size a := fun i v9487 k0_hw1007 k0_h2 => k0_hw1007.1 k0_h2
theorem k0_off2148_inb : ∀ (i : grid0.Coords) (v9487 : BitVec 32) (k0_hw1007 : k0_chk1007 i v9487), ∀ (k0_h2 : k0_cond2 i = 1#1), ∀ a, (k0_off2148 v9487) a + S1x1x1024.size a ≤ S1x2048x1024.size a := fun i v9487 k0_hw1007 k0_h2 => k0_hw1007.2 k0_h2

def k0_off2149 (v9541 : BitVec 32) : Fin 3 → Nat :=
  let c0_6998 : Index := 0#32
  let v9545 : Index := Scalar.indexCast v9541
  let c0_6999 : Index := 0#32
  ![0, v9545.toNat, 0]

def k0_off2150 (v9542 : BitVec 32) : Fin 3 → Nat :=
  let c0_7006 : Index := 0#32
  let v9554 : Index := Scalar.indexCast v9542
  let c0_7007 : Index := 0#32
  ![0, v9554.toNat, 0]

def k0_off2151 (v9543 : BitVec 32) : Fin 3 → Nat :=
  let c0_7014 : Index := 0#32
  let v9563 : Index := Scalar.indexCast v9543
  let c0_7015 : Index := 0#32
  ![0, v9563.toNat, 0]

def k0_off2152 (v9544 : BitVec 32) : Fin 3 → Nat :=
  let c0_7022 : Index := 0#32
  let v9572 : Index := Scalar.indexCast v9544
  let c0_7023 : Index := 0#32
  ![0, v9572.toNat, 0]

def k0_chk1012 (i : grid0.Coords) (v9544 : BitVec 32) : Prop :=
  (∀ (k0_h2 : k0_cond2 i = 1#1), ∀ a, (k0_off2152 v9544) a + S1x1x1024.size a ≤ S1x2048x1024.size a)
theorem k0_off2152_inb : ∀ (i : grid0.Coords) (v9544 : BitVec 32) (k0_hw1012 : k0_chk1012 i v9544), ∀ (k0_h2 : k0_cond2 i = 1#1), ∀ a, (k0_off2152 v9544) a + S1x1x1024.size a ≤ S1x2048x1024.size a := fun i v9544 k0_hw1012 k0_h2 => k0_hw1012 k0_h2

def k0_off2153 (v9541 : BitVec 32) : Fin 3 → Nat :=
  let c0_7030 : Index := 0#32
  let v9581 : Index := Scalar.indexCast v9541
  let c0_7031 : Index := 0#32
  ![0, v9581.toNat, 0]

def k0_chk1009 (i : grid0.Coords) (v9541 : BitVec 32) : Prop :=
  (∀ (k0_h2 : k0_cond2 i = 1#1), ∀ a, (k0_off2149 v9541) a + S1x1x1024.size a ≤ S1x2048x1024.size a) ∧
  (∀ (k0_h2 : k0_cond2 i = 1#1), ∀ a, (k0_off2153 v9541) a + S1x1x1024.size a ≤ S1x2048x1024.size a)
theorem k0_off2149_inb : ∀ (i : grid0.Coords) (v9541 : BitVec 32) (k0_hw1009 : k0_chk1009 i v9541), ∀ (k0_h2 : k0_cond2 i = 1#1), ∀ a, (k0_off2149 v9541) a + S1x1x1024.size a ≤ S1x2048x1024.size a := fun i v9541 k0_hw1009 k0_h2 => k0_hw1009.1 k0_h2
theorem k0_off2153_inb : ∀ (i : grid0.Coords) (v9541 : BitVec 32) (k0_hw1009 : k0_chk1009 i v9541), ∀ (k0_h2 : k0_cond2 i = 1#1), ∀ a, (k0_off2153 v9541) a + S1x1x1024.size a ≤ S1x2048x1024.size a := fun i v9541 k0_hw1009 k0_h2 => k0_hw1009.2 k0_h2

def k0_off2154 (v9542 : BitVec 32) : Fin 3 → Nat :=
  let c0_7032 : Index := 0#32
  let v9585 : Index := Scalar.indexCast v9542
  let c0_7033 : Index := 0#32
  ![0, v9585.toNat, 0]

def k0_chk1010 (i : grid0.Coords) (v9542 : BitVec 32) : Prop :=
  (∀ (k0_h2 : k0_cond2 i = 1#1), ∀ a, (k0_off2150 v9542) a + S1x1x1024.size a ≤ S1x2048x1024.size a) ∧
  (∀ (k0_h2 : k0_cond2 i = 1#1), ∀ a, (k0_off2154 v9542) a + S1x1x1024.size a ≤ S1x2048x1024.size a)
theorem k0_off2150_inb : ∀ (i : grid0.Coords) (v9542 : BitVec 32) (k0_hw1010 : k0_chk1010 i v9542), ∀ (k0_h2 : k0_cond2 i = 1#1), ∀ a, (k0_off2150 v9542) a + S1x1x1024.size a ≤ S1x2048x1024.size a := fun i v9542 k0_hw1010 k0_h2 => k0_hw1010.1 k0_h2
theorem k0_off2154_inb : ∀ (i : grid0.Coords) (v9542 : BitVec 32) (k0_hw1010 : k0_chk1010 i v9542), ∀ (k0_h2 : k0_cond2 i = 1#1), ∀ a, (k0_off2154 v9542) a + S1x1x1024.size a ≤ S1x2048x1024.size a := fun i v9542 k0_hw1010 k0_h2 => k0_hw1010.2 k0_h2

def k0_off2155 (v9543 : BitVec 32) : Fin 3 → Nat :=
  let c0_7034 : Index := 0#32
  let v9589 : Index := Scalar.indexCast v9543
  let c0_7035 : Index := 0#32
  ![0, v9589.toNat, 0]

def k0_chk1011 (i : grid0.Coords) (v9543 : BitVec 32) : Prop :=
  (∀ (k0_h2 : k0_cond2 i = 1#1), ∀ a, (k0_off2151 v9543) a + S1x1x1024.size a ≤ S1x2048x1024.size a) ∧
  (∀ (k0_h2 : k0_cond2 i = 1#1), ∀ a, (k0_off2155 v9543) a + S1x1x1024.size a ≤ S1x2048x1024.size a)
theorem k0_off2151_inb : ∀ (i : grid0.Coords) (v9543 : BitVec 32) (k0_hw1011 : k0_chk1011 i v9543), ∀ (k0_h2 : k0_cond2 i = 1#1), ∀ a, (k0_off2151 v9543) a + S1x1x1024.size a ≤ S1x2048x1024.size a := fun i v9543 k0_hw1011 k0_h2 => k0_hw1011.1 k0_h2
theorem k0_off2155_inb : ∀ (i : grid0.Coords) (v9543 : BitVec 32) (k0_hw1011 : k0_chk1011 i v9543), ∀ (k0_h2 : k0_cond2 i = 1#1), ∀ a, (k0_off2155 v9543) a + S1x1x1024.size a ≤ S1x2048x1024.size a := fun i v9543 k0_hw1011 k0_h2 => k0_hw1011.2 k0_h2

def k0_off2156 (v9597 : BitVec 32) : Fin 3 → Nat :=
  let c0_7050 : Index := 0#32
  let v9601 : Index := Scalar.indexCast v9597
  let c0_7051 : Index := 0#32
  ![0, v9601.toNat, 0]

def k0_off2157 (v9598 : BitVec 32) : Fin 3 → Nat :=
  let c0_7058 : Index := 0#32
  let v9610 : Index := Scalar.indexCast v9598
  let c0_7059 : Index := 0#32
  ![0, v9610.toNat, 0]

def k0_off2158 (v9599 : BitVec 32) : Fin 3 → Nat :=
  let c0_7066 : Index := 0#32
  let v9619 : Index := Scalar.indexCast v9599
  let c0_7067 : Index := 0#32
  ![0, v9619.toNat, 0]

def k0_off2159 (v9600 : BitVec 32) : Fin 3 → Nat :=
  let c0_7074 : Index := 0#32
  let v9628 : Index := Scalar.indexCast v9600
  let c0_7075 : Index := 0#32
  ![0, v9628.toNat, 0]

def k0_chk1016 (i : grid0.Coords) (v9600 : BitVec 32) : Prop :=
  (∀ (k0_h2 : k0_cond2 i = 1#1), ∀ a, (k0_off2159 v9600) a + S1x1x1024.size a ≤ S1x2048x1024.size a)
theorem k0_off2159_inb : ∀ (i : grid0.Coords) (v9600 : BitVec 32) (k0_hw1016 : k0_chk1016 i v9600), ∀ (k0_h2 : k0_cond2 i = 1#1), ∀ a, (k0_off2159 v9600) a + S1x1x1024.size a ≤ S1x2048x1024.size a := fun i v9600 k0_hw1016 k0_h2 => k0_hw1016 k0_h2

def k0_off2160 (v9597 : BitVec 32) : Fin 3 → Nat :=
  let c0_7082 : Index := 0#32
  let v9637 : Index := Scalar.indexCast v9597
  let c0_7083 : Index := 0#32
  ![0, v9637.toNat, 0]

def k0_chk1013 (i : grid0.Coords) (v9597 : BitVec 32) : Prop :=
  (∀ (k0_h2 : k0_cond2 i = 1#1), ∀ a, (k0_off2156 v9597) a + S1x1x1024.size a ≤ S1x2048x1024.size a) ∧
  (∀ (k0_h2 : k0_cond2 i = 1#1), ∀ a, (k0_off2160 v9597) a + S1x1x1024.size a ≤ S1x2048x1024.size a)
theorem k0_off2156_inb : ∀ (i : grid0.Coords) (v9597 : BitVec 32) (k0_hw1013 : k0_chk1013 i v9597), ∀ (k0_h2 : k0_cond2 i = 1#1), ∀ a, (k0_off2156 v9597) a + S1x1x1024.size a ≤ S1x2048x1024.size a := fun i v9597 k0_hw1013 k0_h2 => k0_hw1013.1 k0_h2
theorem k0_off2160_inb : ∀ (i : grid0.Coords) (v9597 : BitVec 32) (k0_hw1013 : k0_chk1013 i v9597), ∀ (k0_h2 : k0_cond2 i = 1#1), ∀ a, (k0_off2160 v9597) a + S1x1x1024.size a ≤ S1x2048x1024.size a := fun i v9597 k0_hw1013 k0_h2 => k0_hw1013.2 k0_h2

def k0_off2161 (v9598 : BitVec 32) : Fin 3 → Nat :=
  let c0_7084 : Index := 0#32
  let v9641 : Index := Scalar.indexCast v9598
  let c0_7085 : Index := 0#32
  ![0, v9641.toNat, 0]

def k0_chk1014 (i : grid0.Coords) (v9598 : BitVec 32) : Prop :=
  (∀ (k0_h2 : k0_cond2 i = 1#1), ∀ a, (k0_off2157 v9598) a + S1x1x1024.size a ≤ S1x2048x1024.size a) ∧
  (∀ (k0_h2 : k0_cond2 i = 1#1), ∀ a, (k0_off2161 v9598) a + S1x1x1024.size a ≤ S1x2048x1024.size a)
theorem k0_off2157_inb : ∀ (i : grid0.Coords) (v9598 : BitVec 32) (k0_hw1014 : k0_chk1014 i v9598), ∀ (k0_h2 : k0_cond2 i = 1#1), ∀ a, (k0_off2157 v9598) a + S1x1x1024.size a ≤ S1x2048x1024.size a := fun i v9598 k0_hw1014 k0_h2 => k0_hw1014.1 k0_h2
theorem k0_off2161_inb : ∀ (i : grid0.Coords) (v9598 : BitVec 32) (k0_hw1014 : k0_chk1014 i v9598), ∀ (k0_h2 : k0_cond2 i = 1#1), ∀ a, (k0_off2161 v9598) a + S1x1x1024.size a ≤ S1x2048x1024.size a := fun i v9598 k0_hw1014 k0_h2 => k0_hw1014.2 k0_h2

def k0_off2162 (v9599 : BitVec 32) : Fin 3 → Nat :=
  let c0_7086 : Index := 0#32
  let v9645 : Index := Scalar.indexCast v9599
  let c0_7087 : Index := 0#32
  ![0, v9645.toNat, 0]

def k0_chk1015 (i : grid0.Coords) (v9599 : BitVec 32) : Prop :=
  (∀ (k0_h2 : k0_cond2 i = 1#1), ∀ a, (k0_off2158 v9599) a + S1x1x1024.size a ≤ S1x2048x1024.size a) ∧
  (∀ (k0_h2 : k0_cond2 i = 1#1), ∀ a, (k0_off2162 v9599) a + S1x1x1024.size a ≤ S1x2048x1024.size a)
theorem k0_off2158_inb : ∀ (i : grid0.Coords) (v9599 : BitVec 32) (k0_hw1015 : k0_chk1015 i v9599), ∀ (k0_h2 : k0_cond2 i = 1#1), ∀ a, (k0_off2158 v9599) a + S1x1x1024.size a ≤ S1x2048x1024.size a := fun i v9599 k0_hw1015 k0_h2 => k0_hw1015.1 k0_h2
theorem k0_off2162_inb : ∀ (i : grid0.Coords) (v9599 : BitVec 32) (k0_hw1015 : k0_chk1015 i v9599), ∀ (k0_h2 : k0_cond2 i = 1#1), ∀ a, (k0_off2162 v9599) a + S1x1x1024.size a ≤ S1x2048x1024.size a := fun i v9599 k0_hw1015 k0_h2 => k0_hw1015.2 k0_h2

def k0_off2163 (v9653 : BitVec 32) : Fin 3 → Nat :=
  let c0_7102 : Index := 0#32
  let v9657 : Index := Scalar.indexCast v9653
  let c0_7103 : Index := 0#32
  ![0, v9657.toNat, 0]

def k0_off2164 (v9654 : BitVec 32) : Fin 3 → Nat :=
  let c0_7110 : Index := 0#32
  let v9666 : Index := Scalar.indexCast v9654
  let c0_7111 : Index := 0#32
  ![0, v9666.toNat, 0]

def k0_off2165 (v9655 : BitVec 32) : Fin 3 → Nat :=
  let c0_7118 : Index := 0#32
  let v9675 : Index := Scalar.indexCast v9655
  let c0_7119 : Index := 0#32
  ![0, v9675.toNat, 0]

def k0_off2166 (v9656 : BitVec 32) : Fin 3 → Nat :=
  let c0_7126 : Index := 0#32
  let v9684 : Index := Scalar.indexCast v9656
  let c0_7127 : Index := 0#32
  ![0, v9684.toNat, 0]

def k0_chk1020 (i : grid0.Coords) (v9656 : BitVec 32) : Prop :=
  (∀ (k0_h2 : k0_cond2 i = 1#1), ∀ a, (k0_off2166 v9656) a + S1x1x1024.size a ≤ S1x2048x1024.size a)
theorem k0_off2166_inb : ∀ (i : grid0.Coords) (v9656 : BitVec 32) (k0_hw1020 : k0_chk1020 i v9656), ∀ (k0_h2 : k0_cond2 i = 1#1), ∀ a, (k0_off2166 v9656) a + S1x1x1024.size a ≤ S1x2048x1024.size a := fun i v9656 k0_hw1020 k0_h2 => k0_hw1020 k0_h2

def k0_off2167 (v9653 : BitVec 32) : Fin 3 → Nat :=
  let c0_7134 : Index := 0#32
  let v9693 : Index := Scalar.indexCast v9653
  let c0_7135 : Index := 0#32
  ![0, v9693.toNat, 0]

def k0_chk1017 (i : grid0.Coords) (v9653 : BitVec 32) : Prop :=
  (∀ (k0_h2 : k0_cond2 i = 1#1), ∀ a, (k0_off2163 v9653) a + S1x1x1024.size a ≤ S1x2048x1024.size a) ∧
  (∀ (k0_h2 : k0_cond2 i = 1#1), ∀ a, (k0_off2167 v9653) a + S1x1x1024.size a ≤ S1x2048x1024.size a)
theorem k0_off2163_inb : ∀ (i : grid0.Coords) (v9653 : BitVec 32) (k0_hw1017 : k0_chk1017 i v9653), ∀ (k0_h2 : k0_cond2 i = 1#1), ∀ a, (k0_off2163 v9653) a + S1x1x1024.size a ≤ S1x2048x1024.size a := fun i v9653 k0_hw1017 k0_h2 => k0_hw1017.1 k0_h2
theorem k0_off2167_inb : ∀ (i : grid0.Coords) (v9653 : BitVec 32) (k0_hw1017 : k0_chk1017 i v9653), ∀ (k0_h2 : k0_cond2 i = 1#1), ∀ a, (k0_off2167 v9653) a + S1x1x1024.size a ≤ S1x2048x1024.size a := fun i v9653 k0_hw1017 k0_h2 => k0_hw1017.2 k0_h2

def k0_off2168 (v9654 : BitVec 32) : Fin 3 → Nat :=
  let c0_7136 : Index := 0#32
  let v9697 : Index := Scalar.indexCast v9654
  let c0_7137 : Index := 0#32
  ![0, v9697.toNat, 0]

def k0_chk1018 (i : grid0.Coords) (v9654 : BitVec 32) : Prop :=
  (∀ (k0_h2 : k0_cond2 i = 1#1), ∀ a, (k0_off2164 v9654) a + S1x1x1024.size a ≤ S1x2048x1024.size a) ∧
  (∀ (k0_h2 : k0_cond2 i = 1#1), ∀ a, (k0_off2168 v9654) a + S1x1x1024.size a ≤ S1x2048x1024.size a)
theorem k0_off2164_inb : ∀ (i : grid0.Coords) (v9654 : BitVec 32) (k0_hw1018 : k0_chk1018 i v9654), ∀ (k0_h2 : k0_cond2 i = 1#1), ∀ a, (k0_off2164 v9654) a + S1x1x1024.size a ≤ S1x2048x1024.size a := fun i v9654 k0_hw1018 k0_h2 => k0_hw1018.1 k0_h2
theorem k0_off2168_inb : ∀ (i : grid0.Coords) (v9654 : BitVec 32) (k0_hw1018 : k0_chk1018 i v9654), ∀ (k0_h2 : k0_cond2 i = 1#1), ∀ a, (k0_off2168 v9654) a + S1x1x1024.size a ≤ S1x2048x1024.size a := fun i v9654 k0_hw1018 k0_h2 => k0_hw1018.2 k0_h2

def k0_off2169 (v9655 : BitVec 32) : Fin 3 → Nat :=
  let c0_7138 : Index := 0#32
  let v9701 : Index := Scalar.indexCast v9655
  let c0_7139 : Index := 0#32
  ![0, v9701.toNat, 0]

def k0_chk1019 (i : grid0.Coords) (v9655 : BitVec 32) : Prop :=
  (∀ (k0_h2 : k0_cond2 i = 1#1), ∀ a, (k0_off2165 v9655) a + S1x1x1024.size a ≤ S1x2048x1024.size a) ∧
  (∀ (k0_h2 : k0_cond2 i = 1#1), ∀ a, (k0_off2169 v9655) a + S1x1x1024.size a ≤ S1x2048x1024.size a)
theorem k0_off2165_inb : ∀ (i : grid0.Coords) (v9655 : BitVec 32) (k0_hw1019 : k0_chk1019 i v9655), ∀ (k0_h2 : k0_cond2 i = 1#1), ∀ a, (k0_off2165 v9655) a + S1x1x1024.size a ≤ S1x2048x1024.size a := fun i v9655 k0_hw1019 k0_h2 => k0_hw1019.1 k0_h2
theorem k0_off2169_inb : ∀ (i : grid0.Coords) (v9655 : BitVec 32) (k0_hw1019 : k0_chk1019 i v9655), ∀ (k0_h2 : k0_cond2 i = 1#1), ∀ a, (k0_off2169 v9655) a + S1x1x1024.size a ≤ S1x2048x1024.size a := fun i v9655 k0_hw1019 k0_h2 => k0_hw1019.2 k0_h2

def k0_off2170 (v9709 : BitVec 32) : Fin 3 → Nat :=
  let c0_7154 : Index := 0#32
  let v9713 : Index := Scalar.indexCast v9709
  let c0_7155 : Index := 0#32
  ![0, v9713.toNat, 0]

def k0_off2171 (v9710 : BitVec 32) : Fin 3 → Nat :=
  let c0_7162 : Index := 0#32
  let v9722 : Index := Scalar.indexCast v9710
  let c0_7163 : Index := 0#32
  ![0, v9722.toNat, 0]

def k0_off2172 (v9711 : BitVec 32) : Fin 3 → Nat :=
  let c0_7170 : Index := 0#32
  let v9731 : Index := Scalar.indexCast v9711
  let c0_7171 : Index := 0#32
  ![0, v9731.toNat, 0]

def k0_off2173 (v9712 : BitVec 32) : Fin 3 → Nat :=
  let c0_7178 : Index := 0#32
  let v9740 : Index := Scalar.indexCast v9712
  let c0_7179 : Index := 0#32
  ![0, v9740.toNat, 0]

def k0_chk1024 (i : grid0.Coords) (v9712 : BitVec 32) : Prop :=
  (∀ (k0_h2 : k0_cond2 i = 1#1), ∀ a, (k0_off2173 v9712) a + S1x1x1024.size a ≤ S1x2048x1024.size a)
theorem k0_off2173_inb : ∀ (i : grid0.Coords) (v9712 : BitVec 32) (k0_hw1024 : k0_chk1024 i v9712), ∀ (k0_h2 : k0_cond2 i = 1#1), ∀ a, (k0_off2173 v9712) a + S1x1x1024.size a ≤ S1x2048x1024.size a := fun i v9712 k0_hw1024 k0_h2 => k0_hw1024 k0_h2

def k0_off2174 (v9709 : BitVec 32) : Fin 3 → Nat :=
  let c0_7186 : Index := 0#32
  let v9749 : Index := Scalar.indexCast v9709
  let c0_7187 : Index := 0#32
  ![0, v9749.toNat, 0]

def k0_chk1021 (i : grid0.Coords) (v9709 : BitVec 32) : Prop :=
  (∀ (k0_h2 : k0_cond2 i = 1#1), ∀ a, (k0_off2170 v9709) a + S1x1x1024.size a ≤ S1x2048x1024.size a) ∧
  (∀ (k0_h2 : k0_cond2 i = 1#1), ∀ a, (k0_off2174 v9709) a + S1x1x1024.size a ≤ S1x2048x1024.size a)
theorem k0_off2170_inb : ∀ (i : grid0.Coords) (v9709 : BitVec 32) (k0_hw1021 : k0_chk1021 i v9709), ∀ (k0_h2 : k0_cond2 i = 1#1), ∀ a, (k0_off2170 v9709) a + S1x1x1024.size a ≤ S1x2048x1024.size a := fun i v9709 k0_hw1021 k0_h2 => k0_hw1021.1 k0_h2
theorem k0_off2174_inb : ∀ (i : grid0.Coords) (v9709 : BitVec 32) (k0_hw1021 : k0_chk1021 i v9709), ∀ (k0_h2 : k0_cond2 i = 1#1), ∀ a, (k0_off2174 v9709) a + S1x1x1024.size a ≤ S1x2048x1024.size a := fun i v9709 k0_hw1021 k0_h2 => k0_hw1021.2 k0_h2

def k0_off2175 (v9710 : BitVec 32) : Fin 3 → Nat :=
  let c0_7188 : Index := 0#32
  let v9753 : Index := Scalar.indexCast v9710
  let c0_7189 : Index := 0#32
  ![0, v9753.toNat, 0]

def k0_chk1022 (i : grid0.Coords) (v9710 : BitVec 32) : Prop :=
  (∀ (k0_h2 : k0_cond2 i = 1#1), ∀ a, (k0_off2171 v9710) a + S1x1x1024.size a ≤ S1x2048x1024.size a) ∧
  (∀ (k0_h2 : k0_cond2 i = 1#1), ∀ a, (k0_off2175 v9710) a + S1x1x1024.size a ≤ S1x2048x1024.size a)
theorem k0_off2171_inb : ∀ (i : grid0.Coords) (v9710 : BitVec 32) (k0_hw1022 : k0_chk1022 i v9710), ∀ (k0_h2 : k0_cond2 i = 1#1), ∀ a, (k0_off2171 v9710) a + S1x1x1024.size a ≤ S1x2048x1024.size a := fun i v9710 k0_hw1022 k0_h2 => k0_hw1022.1 k0_h2
theorem k0_off2175_inb : ∀ (i : grid0.Coords) (v9710 : BitVec 32) (k0_hw1022 : k0_chk1022 i v9710), ∀ (k0_h2 : k0_cond2 i = 1#1), ∀ a, (k0_off2175 v9710) a + S1x1x1024.size a ≤ S1x2048x1024.size a := fun i v9710 k0_hw1022 k0_h2 => k0_hw1022.2 k0_h2

def k0_off2176 (v9711 : BitVec 32) : Fin 3 → Nat :=
  let c0_7190 : Index := 0#32
  let v9757 : Index := Scalar.indexCast v9711
  let c0_7191 : Index := 0#32
  ![0, v9757.toNat, 0]

def k0_chk1023 (i : grid0.Coords) (v9711 : BitVec 32) : Prop :=
  (∀ (k0_h2 : k0_cond2 i = 1#1), ∀ a, (k0_off2172 v9711) a + S1x1x1024.size a ≤ S1x2048x1024.size a) ∧
  (∀ (k0_h2 : k0_cond2 i = 1#1), ∀ a, (k0_off2176 v9711) a + S1x1x1024.size a ≤ S1x2048x1024.size a)
theorem k0_off2172_inb : ∀ (i : grid0.Coords) (v9711 : BitVec 32) (k0_hw1023 : k0_chk1023 i v9711), ∀ (k0_h2 : k0_cond2 i = 1#1), ∀ a, (k0_off2172 v9711) a + S1x1x1024.size a ≤ S1x2048x1024.size a := fun i v9711 k0_hw1023 k0_h2 => k0_hw1023.1 k0_h2
theorem k0_off2176_inb : ∀ (i : grid0.Coords) (v9711 : BitVec 32) (k0_hw1023 : k0_chk1023 i v9711), ∀ (k0_h2 : k0_cond2 i = 1#1), ∀ a, (k0_off2176 v9711) a + S1x1x1024.size a ≤ S1x2048x1024.size a := fun i v9711 k0_hw1023 k0_h2 => k0_hw1023.2 k0_h2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16x2048x512 : Shape := ⟨3, ![16, 2048, 512]⟩
abbrev S16x16x256 : Shape := ⟨3, ![16, 16, 256]⟩
abbrev S16x2048x1024 : Shape := ⟨3, ![16, 2048, 1024]⟩
abbrev S144x1x1024 : Shape := ⟨3, ![144, 1, 1024]⟩
abbrev S16x1024x1024 : Shape := ⟨3, ![16, 1024, 1024]⟩
abbrev S_ : Shape := ⟨0, ![]⟩
abbrev S24x6x1x1024 : Shape := ⟨4, ![24, 6, 1, 1024]⟩
abbrev S16x1x1x1024 : Shape := ⟨4, ![16, 1, 1, 1024]⟩
abbrev S16x1x1024 : Shape := ⟨3, ![16, 1, 1024]⟩
abbrev S16 : Shape := ⟨1, ![16]⟩
abbrev S16x1x1 : Shape := ⟨3, ![16, 1, 1]⟩
abbrev S16x16x256x1 : Shape := ⟨4, ![16, 16, 256, 1]⟩
abbrev S16x16x256x2 : Shape := ⟨4, ![16, 16, 256, 2]⟩
abbrev S16x16x256x1024 : Shape := ⟨4, ![16, 16, 256, 1024]⟩
abbrev S16x1024x16x256 : Shape := ⟨4, ![16, 1024, 16, 256]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x512, .i32⟩
  | .hbm, ⟨1, _⟩ => ⟨S16x16x256, .i32⟩
  | .hbm, ⟨2, _⟩ => ⟨S16x16x256, .f32⟩
  | .hbm, ⟨3, _⟩ => ⟨S16x2048x1024, .f32⟩
  | .hbm, ⟨4, _⟩ => ⟨S144x1x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S_, .i32⟩
  | .hbm, ⟨9, _⟩ => ⟨S16x2048x512, .i32⟩
  | .hbm, ⟨10, _⟩ => ⟨S16x2048x512, .i32⟩
  | .hbm, ⟨11, _⟩ => ⟨S16x2048x512, .f32⟩
  | .hbm, ⟨12, _⟩ => ⟨S_, .i32⟩
  | .hbm, ⟨13, _⟩ => ⟨S16x2048x512, .i32⟩
  | .hbm, ⟨14, _⟩ => ⟨S16x2048x512, .i32⟩
  | .hbm, ⟨15, _⟩ => ⟨S16x2048x512, .f32⟩
  | .hbm, ⟨16, _⟩ => ⟨S16x2048x1024, .f32⟩
  | .hbm, ⟨17, _⟩ => ⟨S24x6x1x1024, .f32⟩
  | .hbm, ⟨18, _⟩ => ⟨S16x1x1x1024, .f32⟩
  | .hbm, ⟨19, _⟩ => ⟨S16x1x1024, .f32⟩
  | .hbm, ⟨20, _⟩ => ⟨S16, .i32⟩
  | .hbm, ⟨21, _⟩ => ⟨S16x1x1, .i32⟩
  | .hbm, ⟨22, _⟩ => ⟨S_, .i32⟩
  | .hbm, ⟨23, _⟩ => ⟨S16x1x1, .i32⟩
  | .hbm, ⟨24, _⟩ => ⟨S16x1x1, .i1⟩
  | .hbm, ⟨25, _⟩ => ⟨S_, .i32⟩
  | .hbm, ⟨26, _⟩ => ⟨S16x1x1, .i32⟩
  | .hbm, ⟨27, _⟩ => ⟨S16x1x1, .i32⟩
  | .hbm, ⟨28, _⟩ => ⟨S16x1x1, .i32⟩
  | .hbm, ⟨29, _⟩ => ⟨S_, .i32⟩
  | .hbm, ⟨30, _⟩ => ⟨S16x16x256, .i32⟩
  | .hbm, ⟨31, _⟩ => ⟨S16x16x256, .i1⟩
  | .hbm, ⟨32, _⟩ => ⟨S_, .i32⟩
  | .hbm, ⟨33, _⟩ => ⟨S16x16x256, .i32⟩
  | .hbm, ⟨34, _⟩ => ⟨S16x16x256, .i32⟩
  | .hbm, ⟨35, _⟩ => ⟨S16x16x256, .i32⟩
  | .hbm, ⟨36, _⟩ => ⟨S16x16x256, .i32⟩
  | .hbm, ⟨37, _⟩ => ⟨S16x16x256x1, .i32⟩
  | .hbm, ⟨38, _⟩ => ⟨S16x16x256x1, .i32⟩
  | .hbm, ⟨39, _⟩ => ⟨S16x16x256x2, .i32⟩
  | .hbm, ⟨40, _⟩ => ⟨S16x16x256x1024, .f32⟩
  | .hbm, ⟨41, _⟩ => ⟨S16x1024x1024, .f32⟩
  | .hbm, ⟨42, _⟩ => ⟨S16x1024x16x256, .f32⟩
  | .hbm, ⟨43, _⟩ => ⟨S16x16x256x1024, .f32⟩
  | .hbm, ⟨44, _⟩ => ⟨S16x1024x1024, .f32⟩
  | .hbm, ⟨45, _⟩ => ⟨S16x1024x16x256, .f32⟩
  | .hbm, ⟨46, _⟩ => ⟨S16x16x256x1024, .f32⟩
  | .hbm, ⟨47, _⟩ => ⟨S16x16x256x1024, .f32⟩
  | .hbm, ⟨48, _⟩ => ⟨S16x16x256x1024, .f32⟩
  | .hbm, ⟨49, _⟩ => ⟨S_, .f32⟩
  | .hbm, ⟨50, _⟩ => ⟨S16x16x256x1024, .f32⟩
  | .hbm, ⟨51, _⟩ => ⟨S16x16x256x1024, .f32⟩
  | .hbm, ⟨52, _⟩ => ⟨S_, .f32⟩
  | .hbm, ⟨53, _⟩ => ⟨S16x16x256x1024, .f32⟩
  | .hbm, ⟨54, _⟩ => ⟨S16x16x256x1024, .f32⟩
  | .hbm, ⟨55, _⟩ => ⟨S16x16x256x1024, .f32⟩
  | .hbm, ⟨56, _⟩ => ⟨S16x16x256x1024, .f32⟩
  | .hbm, ⟨57, _⟩ => ⟨S16x1024x1024, .f32⟩
  | .hbm, ⟨58, _⟩ => ⟨S16x1024x16x256, .f32⟩
  | .hbm, ⟨59, _⟩ => ⟨S16x16x256x1024, .f32⟩
  | .hbm, ⟨60, _⟩ => ⟨S16x16x256x1, .f32⟩
  | .hbm, ⟨61, _⟩ => ⟨S16x16x256x1024, .f32⟩
  | .hbm, ⟨62, _⟩ => ⟨S16x16x256x1024, .f32⟩
  | .hbm, ⟨63, _⟩ => ⟨S_, .f32⟩
  | .hbm, ⟨64, _⟩ => ⟨S16x2048x1024, .f32⟩
  | .hbm, ⟨65, _⟩ => ⟨S_, .i32⟩
  | .hbm, ⟨66, _⟩ => ⟨S16x1x1, .i32⟩
  | .hbm, ⟨67, _⟩ => ⟨S16x1x1, .i1⟩
  | .hbm, ⟨68, _⟩ => ⟨S_, .i32⟩
  | .hbm, ⟨69, _⟩ => ⟨S16x1x1, .i32⟩
  | .hbm, ⟨70, _⟩ => ⟨S16x1x1, .i32⟩
  | .hbm, ⟨71, _⟩ => ⟨S16x1x1, .i32⟩
  | .hbm, ⟨72, _⟩ => ⟨S_, .i32⟩
  | .hbm, ⟨73, _⟩ => ⟨S16x16x256, .i32⟩
  | .hbm, ⟨74, _⟩ => ⟨S16x16x256, .i1⟩
  | .hbm, ⟨75, _⟩ => ⟨S_, .i32⟩
  | .hbm, ⟨76, _⟩ => ⟨S16x16x256, .i32⟩
  | .hbm, ⟨77, _⟩ => ⟨S16x16x256, .i32⟩
  | .hbm, ⟨78, _⟩ => ⟨S16x16x256, .i32⟩
  | .hbm, ⟨79, _⟩ => ⟨S16x16x256, .i32⟩
  | .hbm, ⟨80, _⟩ => ⟨S16x16x256x1, .i32⟩
  | .hbm, ⟨81, _⟩ => ⟨S16x16x256x1, .i32⟩
  | .hbm, ⟨82, _⟩ => ⟨S16x16x256x2, .i32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | _, _ => ⟨S16x2048x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.Own.lean ====
module

public import proofs.«01_k».proof.KernelIdeal

@[expose] public section

set_option maxRecDepth 16384

noncomputable section

namespace Cert.Proof.Moe

open Cert.KernelIdeal
open Idealize.ShloMosaic Idealize.SL.Sem
open Cert.KernelIdeal.Facts Cert.KernelIdeal.Shapes1.Facts₀ Cert.KernelIdeal.Shapes2.Facts₀ Cert.KernelIdeal.K0.Facts₀

variable {nD : ℕ} {τ : Topo} {sig : RefSig} {Λ₀ : Labels} {F : FTy → Type} [FloatOps F] [Facts]

/-- A program of a core, of given arguments and labels. -/
abbrev PgOf (nD : ℕ) (τ : Topo) (sig : RefSig) (Λ : Labels) (F : FTy → Type) := Prog (TpuEff nD τ sig (Elt F) Λ .tc) PUnit.{1}

/-- The place of the word of the index and gate tables at expert `e`, slot `c`. -/
def tabOff (e : BitVec 32) (c : ℕ) : Fin 3 → ℕ := ![0, (Scalar.indexCast e).toNat, c]

/-- The place of row `v` of a sample's rows. -/
def rowOff (v : BitVec 32) : Fin 3 → ℕ := ![0, (Scalar.indexCast v).toNat, 0]

/-- The expert whose rows are fetched at a grid point: the next one, the last one staying. -/
def nextE (i : grid0.Coords) : BitVec 32 := Scalar.minsi (Scalar.addi (BitVec.ofNat 32 (i 1).val) 1#32) 15#32

/-- The expert whose results are added at a grid point: the one before. -/
def prevE (i : grid0.Coords) : BitVec 32 := Scalar.maxsi (Scalar.subi (BitVec.ofNat 32 (i 1).val) 1#32) 0#32

variable (i : grid0.Coords) (arg2 : Memref sig .tc .smem S1x16x256 .i32) (arg3 : Memref sig .tc .smem S1x16x256 .f32)
  (arg4 : Memref sig .tc .vmem S1x2048x512 .i32) (arg11 : Memref sig .tc .vmem S1x2048x1024 .f32)
  (arg12 : Memref sig .tc .vmem S256x512 .i32) (arg13 : Memref sig .tc .vmem S256x1024 .f32)

theorem tab_inb {off : Fin 3 → ℕ} {e c : ℕ} (h : off = ![0, e, c]) (he : e < 16) (hc : c < 256) : ∀ a, off a + S1x1x1.size a ≤ S1x16x256.size a := by
  subst h; intro a; fin_cases a
  · exact Nat.le_refl _
  · exact he
  · exact hc

theorem row_inb {c : ℕ} (hc : c < 256) : ∀ a, (![c, 0] : Fin 2 → ℕ) a + S1x512.size a ≤ S256x512.size a := by
  intro a; fin_cases a
  · exact hc
  · exact Nat.le_refl _

theorem yrow_inb {c : ℕ} (hc : c < 256) : ∀ a, (![c, 0] : Fin 2 → ℕ) a + S1x1024.size a ≤ S256x1024.size a := by
  intro a; fin_cases a
  · exact hc
  · exact Nat.le_refl _

/-- Fetch one row: read the row's number from the table, and copy that row of the sample's packed rows to row `c` of the
    fetched rows. -/
def gRow (off : Fin 3 → ℕ) (hoff : ∀ a, off a + S1x1x1.size a ≤ S1x16x256.size a) (chk : BitVec 32 → Prop) (dec : ∀ v, Decidable (chk v))
    (inb : ∀ v, chk v → ∀ a, rowOff v a + S1x1x512.size a ≤ S1x2048x512.size a) (c : ℕ) (hc : c < 256) (K : PgOf nD τ sig Λ₀ F) : Prog (TpuEff nD τ sig (Elt F) Λ₀ .tc) PUnit.{1} := do
  let v : Elt F .i32 ← smemLoad arg2 (Rect.unit (s := S1x16x256) off S1x1x1.size hoff) numel1_S1x1x1 rfl
  have h : chk v := (← Prog.lift (TpuEff.assume (chk v) (dec v))).down
  let x : Vec F S1x1x512 .i32 ← Prog.lift (.load arg4 (Rect.unit (s := S1x2048x512) (rowOff v) S1x1x512.size (inb v h)).toLoadRect (View.loadsAt_vmem h_S1x1x512))
  let _y : Vec F S1x512 .i32 ← Prog.lift (.load arg12 (Rect.unit (s := S256x512) ![c, 0] S1x512.size (row_inb hc)).toLoadRect (View.loadsAt_vmem h_S1x512))
  Prog.lift (.store arg12 (Rect.unit (s := S256x512) ![c, 0] S1x512.size (row_inb hc))
    (shapeCast S1x512 (shapeCast S1x512 x shapeCasts_S1x1x512_S1x512) shapeCasts_S1x512_S1x512 : IVec S1x512 32) Finset.univ (View.stores_vmem_bits_univ h_S1x512 rfl) (.inl rfl))
  K

/-- Row `c` of the first expert's, fetched. -/
abbrev gRow1 (h1 : k0_cond1 i = 1#1) (c : ℕ) (hc : c < 256) (K : PgOf nD τ sig Λ₀ F) : PgOf nD τ sig Λ₀ F :=
  gRow arg2 arg4 arg12 ![0, 0, c] (tab_inb (e := 0) (c := c) rfl (by decide) hc) (k0_chk1 i) (k0_chk1.dec i) (fun _ h => h h1) c hc K

theorem last_lt (n : ℕ) : 256 - (n + 1) < 256 := by omega

/-- The last `n` of the 256 rows, fetched for the first expert. -/
def gather1 (h1 : k0_cond1 i = 1#1) (K : PgOf nD τ sig Λ₀ F) : ℕ → PgOf nD τ sig Λ₀ F
  | 0 => K
  | n + 1 => gRow1 i arg2 arg4 arg12 h1 (256 - (n + 1)) (last_lt n) (gather1 h1 K n)

theorem gather1_succ {h1 : k0_cond1 i = 1#1} {K : PgOf nD τ sig Λ₀ F} {n : ℕ} {P K' : PgOf nD τ sig Λ₀ F}
    (hP : P = gRow1 i arg2 arg4 arg12 h1 (256 - (n + 1)) (last_lt n) K') (h : K' = gather1 i arg2 arg4 arg12 h1 K n) :
    P = gather1 i arg2 arg4 arg12 h1 K (n + 1) := by
  subst h; exact hP

theorem dite_step {c : Prop} [Decidable c] {A : c → PgOf nD τ sig Λ₀ F} {B T T' : PgOf nD τ sig Λ₀ F} {P : PgOf nD τ sig Λ₀ F} {G : c → PgOf nD τ sig Λ₀ F → PgOf nD τ sig Λ₀ F}
    (hP : P = dite c A fun _ => B) (hA : ∀ h, A h = G h T) (hB : B = T) (hT : T = T') : P = dite c (fun h => G h T') fun _ => T' := by
  subst hB hT hP; congr 1; funext h; exact hA h

theorem bind_dite {α β : Type} {c : Prop} [Decidable c] (A : c → Prog (TpuEff nD τ sig (Elt F) Λ₀ .tc) α) (B : ¬ c → Prog (TpuEff nD τ sig (Elt F) Λ₀ .tc) α)
    (k : α → Prog (TpuEff nD τ sig (Elt F) Λ₀ .tc) β) :
    Prog.bind (dite c A B) k = dite c (fun h => Prog.bind (A h) k) fun h => Prog.bind (B h) k := by
  by_cases h : c
  · rw [dif_pos h, dif_pos h]
  · rw [dif_neg h, dif_neg h]

theorem nextE_lt : (Scalar.indexCast (nextE i)).toNat < 16 := k0_off257_inb i 1

theorem prevE_lt : (Scalar.indexCast (prevE i)).toNat < 16 := k0_off769_inb i 1

/-- Row `c` of the next expert's, fetched. -/
abbrev gRow2 (c : ℕ) (hc : c < 256) (K : PgOf nD τ sig Λ₀ F) : PgOf nD τ sig Λ₀ F :=
  gRow arg2 arg4 arg12 (tabOff (nextE i) c) (tab_inb (c := c) rfl (nextE_lt i) hc) k0_chk257 k0_chk257.dec (fun _ h => h) c hc K

/-- The last `n` of the 256 rows, fetched for the next expert. -/
def gather2 (K : PgOf nD τ sig Λ₀ F) : ℕ → PgOf nD τ sig Λ₀ F
  | 0 => K
  | n + 1 => gRow2 i arg2 arg4 arg12 (256 - (n + 1)) (last_lt n) (gather2 K n)

theorem gather2_succ {K : PgOf nD τ sig Λ₀ F} {n : ℕ} {P K' : PgOf nD τ sig Λ₀ F}
    (hP : P = gRow2 i arg2 arg4 arg12 (256 - (n + 1)) (last_lt n) K') (h : K' = gather2 i arg2 arg4 arg12 K n) :
    P = gather2 i arg2 arg4 arg12 K (n + 1) := by
  subst h; exact hP

/-- A result row with a gated row added to it. -/
def upd (live : F .f32) (x : Vec F S1x1x1024 .f32) (g : F .f32) (y : Vec F S1x1024 .f32) : FVec F S1x1x1024 .f32 :=
  shapeCast S1x1x1024 (addf (shapeCast S1x1024 x shapeCasts_S1x1x1024_S1x1024 : FVec F S1x1024 .f32)
    (mulf (broadcast S1x1024 (Scalar.mulf g live)) y) : FVec F S1x1024 .f32) shapeCasts_S1x1024_S1x1x1024

/-- Store a result row, reading it (unused) before. -/
abbrev putRow (v : BitVec 32) (inb : ∀ a, rowOff v a + S1x1x1024.size a ≤ S1x2048x1024.size a) (w : FVec F S1x1x1024 .f32) :
    Prog (TpuEff nD τ sig (Elt F) Λ₀ .tc) PUnit.{1} := do
  let _y : Vec F S1x1x1024 .f32 ← Prog.lift (.load arg11 (Rect.unit (s := S1x2048x1024) (rowOff v) S1x1x1024.size inb).toLoadRect (View.loadsAt_vmem h_S1x1x1024))
  Prog.lift (.store arg11 (Rect.unit (s := S1x2048x1024) (rowOff v) S1x1x1024.size inb) w Finset.univ (View.stores_vmem_bits_univ h_S1x1x1024 rfl) (.inl rfl))

/-- A result row with its gated row added: read the row, the gate and the row to add. -/
abbrev sumRow (v : BitVec 32) (inb : ∀ a, rowOff v a + S1x1x1024.size a ≤ S1x2048x1024.size a) (off : Fin 3 → ℕ)
    (hoff : ∀ a, off a + S1x1x1.size a ≤ S1x16x256.size a) (live : F .f32) (c : ℕ) (hc : c < 256) :
    Prog (TpuEff nD τ sig (Elt F) Λ₀ .tc) (FVec F S1x1x1024 .f32) := do
  let x : Vec F S1x1x1024 .f32 ← Prog.lift (.load arg11 (Rect.unit (s := S1x2048x1024) (rowOff v) S1x1x1024.size inb).toLoadRect (View.loadsAt_vmem h_S1x1x1024))
  let g : Elt F .f32 ← smemLoad arg3 (Rect.unit (s := S1x16x256) off S1x1x1.size hoff) numel1_S1x1x1 rfl
  let y : Vec F S1x1024 .f32 ← Prog.lift (.load arg13 (Rect.unit (s := S256x1024) ![c, 0] S1x1024.size (yrow_inb hc)).toLoadRect (View.loadsAt_vmem h_S1x1024))
  pure (upd live x g y)

/-- Add four rows: read their numbers, form the four sums, store them. -/
def grp (off : ℕ → Fin 3 → ℕ) (hoff : ∀ c, c < 256 → ∀ a, off c a + S1x1x1.size a ≤ S1x16x256.size a)
    (chkA : BitVec 32 → Prop) (decA : ∀ v, Decidable (chkA v)) (inbA : ∀ v, chkA v → ∀ a, rowOff v a + S1x1x1024.size a ≤ S1x2048x1024.size a)
    (chkB : BitVec 32 → Prop) (decB : ∀ v, Decidable (chkB v)) (inbB : ∀ v, chkB v → ∀ a, rowOff v a + S1x1x1024.size a ≤ S1x2048x1024.size a)
    (live : F .f32) (c : ℕ) (hc : c + 3 < 256) (K : PgOf nD τ sig Λ₀ F) : Prog (TpuEff nD τ sig (Elt F) Λ₀ .tc) PUnit.{1} := do
  let v0 : Elt F .i32 ← smemLoad arg2 (Rect.unit (s := S1x16x256) (off c) S1x1x1.size (hoff c (by omega))) numel1_S1x1x1 rfl
  have h0 : chkA v0 := (← Prog.lift (TpuEff.assume (chkA v0) (decA v0))).down
  let v1 : Elt F .i32 ← smemLoad arg2 (Rect.unit (s := S1x16x256) (off (c + 1)) S1x1x1.size (hoff (c + 1) (by omega))) numel1_S1x1x1 rfl
  have h1 : chkA v1 := (← Prog.lift (TpuEff.assume (chkA v1) (decA v1))).down
  let v2 : Elt F .i32 ← smemLoad arg2 (Rect.unit (s := S1x16x256) (off (c + 2)) S1x1x1.size (hoff (c + 2) (by omega))) numel1_S1x1x1 rfl
  have h2 : chkA v2 := (← Prog.lift (TpuEff.assume (chkA v2) (decA v2))).down
  let v3 : Elt F .i32 ← smemLoad arg2 (Rect.unit (s := S1x16x256) (off (c + 3)) S1x1x1.size (hoff (c + 3) hc)) numel1_S1x1x1 rfl
  have h3 : chkB v3 := (← Prog.lift (TpuEff.assume (chkB v3) (decB v3))).down
  let w0 ← sumRow arg3 arg11 arg13 v0 (inbA v0 h0) (off c) (hoff c (by omega)) live c (by omega)
  let w1 ← sumRow arg3 arg11 arg13 v1 (inbA v1 h1) (off (c + 1)) (hoff (c + 1) (by omega)) live (c + 1) (by omega)
  let w2 ← sumRow arg3 arg11 arg13 v2 (inbA v2 h2) (off (c + 2)) (hoff (c + 2) (by omega)) live (c + 2) (by omega)
  let w3 ← sumRow arg3 arg11 arg13 v3 (inbB v3 h3) (off (c + 3)) (hoff (c + 3) hc) live (c + 3) hc
  putRow arg11 v0 (inbA v0 h0) w0
  putRow arg11 v1 (inbA v1 h1) w1
  putRow arg11 v2 (inbA v2 h2) w2
  putRow arg11 v3 (inbB v3 h3) w3
  K

/-- The factor of an expert's results: nothing has been computed before the first. -/
def liveE : F .f32 := Scalar.select (Scalar.cmpi .sgt (BitVec.ofNat 32 (i 1).val) 0#32) (Scalar.ofBits .f32 0x3F800000#32) (Scalar.ofBits .f32 0x00000000#32)

/-- Rows `c … c + 3` of the previous expert's results, added. -/
abbrev grp1 (c : ℕ) (hc : c + 3 < 256) (K : PgOf nD τ sig Λ₀ F) : PgOf nD τ sig Λ₀ F :=
  grp arg2 arg3 arg11 arg13 (tabOff (prevE i)) (fun c hc => tab_inb (c := c) rfl (prevE_lt i) hc) k0_chk513 k0_chk513.dec (fun _ h => h.1)
    k0_chk516 k0_chk516.dec (fun _ h => h) (liveE i) c hc K

/-- Rows `c … c + 3` of the last expert's results, added. -/
abbrev grp2 (h2 : k0_cond2 i = 1#1) (c : ℕ) (hc : c + 3 < 256) (K : PgOf nD τ sig Λ₀ F) : PgOf nD τ sig Λ₀ F :=
  grp arg2 arg3 arg11 arg13 (fun c => ![0, 15, c]) (fun c hc => tab_inb (e := 15) (c := c) rfl (by decide) hc) (k0_chk769 i) (k0_chk769.dec i) (fun _ h => h.1 h2)
    (k0_chk772 i) (k0_chk772.dec i) (fun _ h => h h2) (Scalar.ofBits .f32 0x3F800000#32) c hc K

theorem last4_lt (n : ℕ) : 4 * (64 - (n + 1)) + 3 < 256 := by omega

/-- The last `n` of the 64 groups of the previous expert's results, added. -/
def scatter1 (K : PgOf nD τ sig Λ₀ F) : ℕ → PgOf nD τ sig Λ₀ F
  | 0 => K
  | n + 1 => grp1 i arg2 arg3 arg11 arg13 (4 * (64 - (n + 1))) (last4_lt n) (scatter1 K n)

/-- The last `n` of the 64 groups of the last expert's results, added. -/
def scatter2 (h2 : k0_cond2 i = 1#1) (K : PgOf nD τ sig Λ₀ F) : ℕ → PgOf nD τ sig Λ₀ F
  | 0 => K
  | n + 1 => grp2 i arg2 arg3 arg11 arg13 h2 (4 * (64 - (n + 1))) (last4_lt n) (scatter2 h2 K n)

theorem scatter1_succ {K : PgOf nD τ sig Λ₀ F} {n : ℕ} {P K' : PgOf nD τ sig Λ₀ F} (hP : P = grp1 i arg2 arg3 arg11 arg13 (4 * (64 - (n + 1))) (last4_lt n) K')
    (h : K' = scatter1 i arg2 arg3 arg11 arg13 K n) : P = scatter1 i arg2 arg3 arg11 arg13 K (n + 1) := by
  subst h; exact hP

theorem scatter2_succ {h2 : k0_cond2 i = 1#1} {K : PgOf nD τ sig Λ₀ F} {n : ℕ} {P K' : PgOf nD τ sig Λ₀ F} (hP : P = grp2 i arg2 arg3 arg11 arg13 h2 (4 * (64 - (n + 1))) (last4_lt n) K')
    (h : K' = scatter2 i arg2 arg3 arg11 arg13 h2 K n) : P = scatter2 i arg2 arg3 arg11 arg13 h2 K (n + 1) := by
  subst h; exact hP

section Own
variable (arg5 : Memref sig .tc .vmem S1x2048x1024 .f32) (arg6 : Memref sig .tc .vmem S1x1x1024 .f32) (arg7 arg8 arg9 : Memref sig .tc .vmem S1x1024x1024 .bf16)
  (arg10 : Memref sig .tc .vmem S1x1024 .f32)

/-- The start of a sample: the result takes the residual rows, and the results to add are zero. -/
def start (K : PgOf nD τ sig Λ₀ F) : Prog (TpuEff nD τ sig (Elt F) Λ₀ .tc) PUnit.{1} := do
  let x : Vec F S1x2048x1024 .f32 ← Prog.lift (.load arg5 (Rect.unit (s := S1x2048x1024) ![0, 0, 0] S1x2048x1024.size inb_S1x2048x1024_S1x2048x1024_0_0_0).toLoadRect (View.loadsAt_vmem h_S1x2048x1024))
  let _x : Vec F S1x2048x1024 .f32 ← Prog.lift (.load arg11 (Rect.unit (s := S1x2048x1024) ![0, 0, 0] S1x2048x1024.size inb_S1x2048x1024_S1x2048x1024_0_0_0).toLoadRect (View.loadsAt_vmem h_S1x2048x1024))
  Prog.lift (.store arg11 (Rect.unit (s := S1x2048x1024) ![0, 0, 0] S1x2048x1024.size inb_S1x2048x1024_S1x2048x1024_0_0_0)
    (shapeCast S1x2048x1024 (shapeCast S2048x1024 x shapeCasts_S1x2048x1024_S2048x1024 : FVec F S2048x1024 .f32) shapeCasts_S2048x1024_S1x2048x1024 : FVec F S1x2048x1024 .f32)
    Finset.univ (View.stores_vmem_bits_univ h_S1x2048x1024 rfl) (.inl rfl))
  let _y : Vec F S256x1024 .f32 ← Prog.lift (.load arg13 (Rect.unit (s := S256x1024) ![0, 0] S256x1024.size inb_S256x1024_S256x1024_0_0).toLoadRect (View.loadsAt_vmem h_S256x1024))
  Prog.lift (.store arg13 (Rect.unit (s := S256x1024) ![0, 0] S256x1024.size inb_S256x1024_S256x1024_0_0)
    (shapeCast S256x1024 (broadcast S256x1024 (Scalar.ofBits .f32 0x00000000#32) : FVec F S256x1024 .f32) shapeCasts_S256x1024_S256x1024 : FVec F S256x1024 .f32)
    Finset.univ (View.stores_vmem_bits_univ h_S256x1024 rfl) (.inl rfl))
  K

/-- The fetched rows unpacked: the low halves of the words, then the high halves. -/
def unpacked (v : Vec F S256x512 .i32) : FVec F S256x1024 .bf16 :=
  truncf .bf16 (concatenate S256x1024 1 [⟨S256x512, unpackElementwise 0 v⟩, ⟨S256x512, unpackElementwise 1 v⟩] concatenates_S256x512_S256x512_S256x1024_d1 : FVec F S256x1024 .f32) bitsLt_bf16_f32

/-- The expert's two layers at the fetched rows, and the scale. -/
def expert (x : FVec F S256x1024 .bf16) (w1 w3 w2 : Vec F S1x1024x1024 .bf16) (g2 : Vec F S1x1x1024 .f32) : FVec F S256x1024 .f32 :=
  let a : FVec F S256x1024 .f32 := matmul dot_S256x1024_S1024x1024_S256x1024_1_0_0_1_n_n none x
    (shapeCast S1024x1024 w1 shapeCasts_S1x1024x1024_S1024x1024 : FVec F S1024x1024 .bf16) (constant S256x1024 .f32 0x00000000#32)
  let g : FVec F S256x1024 .f32 := matmul dot_S256x1024_S1024x1024_S256x1024_1_0_0_1_n_n none x
    (shapeCast S1024x1024 w3 shapeCasts_S1x1024x1024_S1024x1024 : FVec F S1024x1024 .bf16) (constant S256x1024 .f32 0x00000000#32)
  let y : FVec F S256x1024 .f32 := matmul dot_S256x1024_S1024x1024_S256x1024_1_0_0_1_n_n none
    (truncf .bf16 (mulf (mulf a (logistic a)) g : FVec F S256x1024 .f32) bitsLt_bf16_f32)
    (shapeCast S1024x1024 w2 shapeCasts_S1x1024x1024_S1024x1024 : FVec F S1024x1024 .bf16) (constant S256x1024 .f32 0x00000000#32)
  shapeCast S256x1024 (mulf y (broadcastTo S256x1024 (shapeCast S1x1024 g2 shapeCasts_S1x1x1024_S1x1024 : FVec F S1x1024 .f32) broadcasts_S1x1024_S256x1024) : FVec F S256x1024 .f32)
    shapeCasts_S256x1024_S256x1024

/-- One slab of 512 result rows, normalised. -/
def normed (x : Vec F S1x512x1024 .f32) (fg : Vec F S1x1024 .f32) : FVec F S1x512x1024 .f32 :=
  let o : FVec F S512x1024 .f32 := shapeCast S512x1024 x shapeCasts_S1x512x1024_S512x1024
  let s : FVec F S512x1 .f32 := shapeCast S512x1 (multiReduction .add [1] S512 (mulf o o) 0x00000000#32 reduces_S512x1024_S512 (.inl rfl) rfl : FVec F S512 .f32) shapeCasts_S512_S512x1
  let r : FVec F S512x1 .f32 := rsqrt (addf (divf s (broadcast S512x1 (Scalar.ofBits .f32 0x44800000#32))) (broadcast S512x1 (Scalar.ofBits .f32 0x358637BD#32)))
  shapeCast S1x512x1024 (mulf (mulf o (broadcastTo S512x1024 r broadcasts_S512x1_S512x1024))
    (broadcastTo S512x1024 (shapeCast S1x1024 fg shapeCasts_S1x1024_S1x1024 : FVec F S1x1024 .f32) broadcasts_S1x1024_S512x1024) : FVec F S512x1024 .f32) shapeCasts_S512x1024_S1x512x1024

/-- The end of a sample: the four slabs normalised. -/
def norms : Prog (TpuEff nD τ sig (Elt F) Λ₀ .tc) PUnit.{1} := do
  if h3 : k0_cond3 i = 1#1 then do
    Scf.Loop.for k0_t1_loop (k0_t1_ok i h3) ⟨⟩ fun t _ => do
      let x : Vec F S1x512x1024 .f32 ← Prog.lift (.load arg11 (Rect.unit (s := S1x2048x1024) (k0_off2177 t) S1x512x1024.size (k0_off2177_inb i t h3)).toLoadRect (View.loadsAt_vmem h_S1x512x1024))
      let fg : Vec F S1x1024 .f32 ← Prog.lift (.load arg10 (Rect.unit (s := S1x1024) ![0, 0] S1x1024.size inb_S1x1024_S1x1024_0_0).toLoadRect (View.loadsAt_vmem h_S1x1024))
      let _x : Vec F S1x512x1024 .f32 ← Prog.lift (.load arg11 (Rect.unit (s := S1x2048x1024) (k0_off2177 t) S1x512x1024.size (k0_off2177_inb i t h3)).toLoadRect (View.loadsAt_vmem h_S1x512x1024))
      Prog.lift (.store arg11 (Rect.unit (s := S1x2048x1024) (k0_off2177 t) S1x512x1024.size (k0_off2177_inb i t h3)) (normed x fg) Finset.univ (View.stores_vmem_bits_univ h_S1x512x1024 rfl) (.inl rfl))
      pure ⟨⟩
    pure ⟨⟩
  else do
    pure ⟨⟩
  pure ⟨⟩

/-- The last expert's results added, at the last expert; then the layer's end `E`. -/
def finish (E : PgOf nD τ sig Λ₀ F) : PgOf nD τ sig Λ₀ F := dite (k0_cond2 i = 1#1) (fun h2 => scatter2 i arg2 arg3 arg11 arg13 h2 E 64) fun _ => E

/-- The expert's results, computed and kept. -/
def compute (v7 : FVec F S256x1024 .bf16) (K : PgOf nD τ sig Λ₀ F) : Prog (TpuEff nD τ sig (Elt F) Λ₀ .tc) PUnit.{1} := do
  let w1 : Vec F S1x1024x1024 .bf16 ← Prog.lift (.load arg7 (Rect.unit (s := S1x1024x1024) ![0, 0, 0] S1x1024x1024.size inb_S1x1024x1024_S1x1024x1024_0_0_0).toLoadRect (View.loadsAt_vmem h_S1x1024x1024))
  let w3 : Vec F S1x1024x1024 .bf16 ← Prog.lift (.load arg8 (Rect.unit (s := S1x1024x1024) ![0, 0, 0] S1x1024x1024.size inb_S1x1024x1024_S1x1024x1024_0_0_0).toLoadRect (View.loadsAt_vmem h_S1x1024x1024))
  let w2 : Vec F S1x1024x1024 .bf16 ← Prog.lift (.load arg9 (Rect.unit (s := S1x1024x1024) ![0, 0, 0] S1x1024x1024.size inb_S1x1024x1024_S1x1024x1024_0_0_0).toLoadRect (View.loadsAt_vmem h_S1x1024x1024))
  let g2 : Vec F S1x1x1024 .f32 ← Prog.lift (.load arg6 (Rect.unit (s := S1x1x1024) ![0, 0, 0] S1x1x1024.size inb_S1x1x1024_S1x1x1024_0_0_0).toLoadRect (View.loadsAt_vmem h_S1x1x1024))
  let _y : Vec F S256x1024 .f32 ← Prog.lift (.load arg13 (Rect.unit (s := S256x1024) ![0, 0] S256x1024.size inb_S256x1024_S256x1024_0_0).toLoadRect (View.loadsAt_vmem h_S256x1024))
  Prog.lift (.store arg13 (Rect.unit (s := S256x1024) ![0, 0] S256x1024.size inb_S256x1024_S256x1024_0_0) (expert v7 w1 w3 w2 g2)
    Finset.univ (View.stores_vmem_bits_univ h_S256x1024 rfl) (.inl rfl))
  K

/-- A grid point after the start of a sample: unpack the fetched rows, fetch the next expert's, add the previous expert's
    results, compute this expert's. -/
def middle (E : PgOf nD τ sig Λ₀ F) : Prog (TpuEff nD τ sig (Elt F) Λ₀ .tc) PUnit.{1} := do
  let v : Vec F S256x512 .i32 ← Prog.lift (.load arg12 (Rect.unit (s := S256x512) ![0, 0] S256x512.size inb_S256x512_S256x512_0_0).toLoadRect (View.loadsAt_vmem h_S256x512))
  gather2 i arg2 arg4 arg12 (scatter1 i arg2 arg3 arg11 arg13 (compute arg13 arg6 arg7 arg8 arg9 (unpacked v) (finish i arg2 arg3 arg11 arg13 E)) 64) 256

/-- The kernel at a grid point. -/
def moe (E : PgOf nD τ sig Λ₀ F) : PgOf nD τ sig Λ₀ F := dite (k0_cond1 i = 1#1) (fun h1 => start arg11 arg13 arg5 (gather1 i arg2 arg4 arg12 h1 (middle i arg2 arg3 arg4 arg11 arg12 arg13 arg6 arg7 arg8 arg9 E) 256))
  fun _ => middle i arg2 arg3 arg4 arg11 arg12 arg13 arg6 arg7 arg8 arg9 E

theorem start_congr {K P K' : PgOf nD τ sig Λ₀ F} (hP : P = start arg11 arg13 arg5 K') (h : K' = K) : P = start arg11 arg13 arg5 K := by subst h; exact hP

theorem load_congr {α : Type} {e : TpuEff nD τ sig (Elt F) Λ₀ .tc α} {P : PgOf nD τ sig Λ₀ F} {k k' : α → PgOf nD τ sig Λ₀ F}
    (hP : P = .op e k') (h : ∀ v, k' v = k v) : P = .op e k := by
  obtain rfl : k' = k := funext h
  exact hP

end Own

end Cert.Proof.Moe
end
end
-- ==== Proof.Rules.lean ====
module

public import proofs.«01_k».proof.Proof.Own
public import proofs.«01_k».proof.Proof.Gen.KernelIdeal.Frame

@[expose] public section

set_option maxRecDepth 16384

noncomputable section

namespace Cert.Proof.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Λ₀ : Labels} {F : FTy → Type} [FloatOps F]

local notation "𝕄" => MT nD τ sig Unit (Elt F) ℕ (UR sig nD τ) ℕ

/-- What a run of the program `p` of core `c` ends in. -/
abbrev Run (D : Defs nD τ sig (Elt F) Λ₀) (c : Dev nD) (p : PgOf nD τ sig Λ₀ F) (Q : PUnit.{1} → sProp 𝕄) : sProp 𝕄 :=
  wp frame (wpE D Variants.none (c : Thread nD τ) none) Set.univ p Q

/-- Core `c` holds all of a buffer's elements, which read as `X`. -/
abbrev Own (c : Dev nD) {sp : Space} {sh : Shape} {e : EltTy} (m : Memref sig .tc sp sh e) (X : sh.Idx → Elt F e) : sProp 𝕄 :=
  owns (c : Thread nD τ) m fullShare X

variable {D : Defs nD τ sig (Elt F) Λ₀} (c : Dev nD)

theorem own_intro {sp : Space} {sh : Shape} {e : EltTy} (m : Memref sig .tc sp sh e) (g : m.view.ty.Contents (Elt F)) {X : sh.Idx → Elt F e}
    (h : m.view.read (Elt F) g = X) : (m.view.loc (c : Thread nD τ) ↦[m.view.set]{fullShare} g : sProp 𝕄) ⊢ Own c m X := by
  have h2 : iprop(∃ f, ⌜m.view.read (Elt F) f = X⌝ ∗ m.view.loc (c : Thread nD τ) ↦[m.view.set]{fullShare} f) ⊢ Own c m X := .rfl
  refine BIBase.Entails.trans ?_ h2
  iintro H; iexists g; isplitr; · ipureintro; exact h
  iexact H

omit [FloatOps F] in
theorem read_overlay {s : Shape} {e : EltTy} {sp : Space} (v : View sig .tc sp s e) (r : Rect s) (f : v.ty.Contents (Elt F)) (w : r.shape.Idx → Elt F e) :
    v.read (Elt F) ((v.slice r).write (Elt F) f w Finset.univ) = r.overlay (v.read (Elt F) f) w := by
  funext y
  by_cases hy : y ∈ r.set
  · obtain ⟨x, -, rfl⟩ := Finset.mem_map.mp (by rw [Rect.map_emb_univ]; exact hy : y ∈ Finset.univ.map r.emb)
    rw [Rect.overlay_emb]
    exact View.read_write_of_mem (v := v.slice r) f w (Finset.mem_univ x)
  · rw [Rect.overlay_of_not_mem _ _ _ hy]
    have h := View.read_writes_apply_of_forall_not_mem v f y [⟨r, w⟩] (by simpa using hy)
    exact h

/-- A load of a held buffer gives the part of its contents that the load reads. -/
theorem own_load {cs : CoreSpace} {s : Shape} {e : EltTy} {m : Memref sig .tc cs s e} {r : Rect s} {hl : m.view.LoadsAt r.toLoadRect} {k : (r.shape.Idx → Elt F e) → PgOf nD τ sig Λ₀ F}
    {X : s.Idx → Elt F e} {R S : sProp 𝕄} {P : PgOf nD τ sig Λ₀ F} {Q : PUnit.{1} → sProp 𝕄} (hS : S ⊣⊢ iprop(Own c m X ∗ R)) (hP : P = .op (.load m r.toLoadRect hl) k)
    (hk : S ⊢ Run D c (k (View.ld X r)) Q) : S ⊢ Run D c P Q := by
  subst hP
  refine hS.1.trans ?_
  iintro ⟨H, HR⟩
  ihave H' := (show Own c m X ⊢ iprop(∃ g, ⌜m.view.read (Elt F) g = X⌝ ∗ m.view.loc (c : Thread nD τ) ↦[m.view.set]{fullShare} g) from .rfl) $$ H
  icases H' with ⟨%g, %hg, H⟩
  iapply (wp_load Variants.none (c : Thread nD τ) none Set.univ (View.setOn_subset_set _ _)) $$ H
  iintro H
  have e1 : m.view.readAt (Elt F) r.toLoadRect g = View.ld X r := by rw [View.readAt_eq_ld, hg]
  have e2 : iprop(Own c m X ∗ R) ⊢ Run D c (k (m.view.readAt (Elt F) r.toLoadRect g)) Q := by rw [e1]; exact hS.2.trans hk
  iapply e2
  isplitl [H]
  · iapply (own_intro c m g hg); iexact H
  iexact HR

/-- A store to a held buffer lays what is stored over its contents. -/
theorem own_store {cs : CoreSpace} {s : Shape} {e : EltTy} {m : Memref sig .tc cs s e} {r : Rect s} {w : r.shape.Idx → Elt F e} {hx hm} {k : PUnit.{1} → PgOf nD τ sig Λ₀ F}
    {X : s.Idx → Elt F e} {R S S' : sProp 𝕄} {P : PgOf nD τ sig Λ₀ F} {Q : PUnit.{1} → sProp 𝕄} (hS : S ⊢ iprop(Own c m X ∗ R))
    (hS' : iprop(Own c m (r.overlay X w) ∗ R) ⊢ S') (hP : P = .op (.store m r w Finset.univ hx hm) k)
    (hk : S' ⊢ Run D c (k ⟨⟩) Q) : S ⊢ Run D c P Q := by
  subst hP
  refine hS.trans ?_
  iintro ⟨H, HR⟩
  ihave H' := (show Own c m X ⊢ iprop(∃ g, ⌜m.view.read (Elt F) g = X⌝ ∗ m.view.loc (c : Thread nD τ) ↦[m.view.set]{fullShare} g) from .rfl) $$ H
  icases H' with ⟨%g, %hg, H⟩
  iapply (wp_store Variants.none (c : Thread nD τ) none Set.univ (m := m) (r := r) (Mk := Finset.univ) (S := m.view.set) (f := g) (m.view.set_slice_subset r)) $$ H
  iintro H
  have e2 : iprop(Own c m (r.overlay X w) ∗ R) ⊢ Run D c (k ⟨⟩) Q := hS'.trans hk
  iapply e2
  isplitl [H]
  · iapply (own_intro c m ((m.access r).write (Elt F) g w Finset.univ) (by rw [← hg]; exact read_overlay m.view r g w)); iexact H
  iexact HR

/-- An assumption that holds. -/
theorem own_assume {φ : Prop} {d : Decidable φ} {k : PLift φ → PgOf nD τ sig Λ₀ F} {S : sProp 𝕄} {P : PgOf nD τ sig Λ₀ F} {Q : PUnit.{1} → sProp 𝕄} (h : φ) (hP : P = .op (.assume φ d) k)
    (hk : S ⊢ Run D c (k ⟨h⟩) Q) : S ⊢ Run D c P Q := by
  subst hP
  exact hk.trans (wp_assume Variants.none (c : Thread nD τ) none Set.univ h)

end Cert.Proof.Moe
end
end
-- ==== Proof.Held.lean ====
module

public import proofs.«01_k».proof.Proof.Rules

@[expose] public section

set_option maxRecDepth 16384

noncomputable section

namespace Cert.Proof.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F]

local notation "𝕄" => MT nD τ sig Unit (Elt F) ℕ (UR sig nD τ) ℕ

/-- The kernel's eleven buffers that every layer has. -/
structure Ms (sig : RefSig) where
  a2 : Memref sig .tc .smem S1x16x256 .i32
  a3 : Memref sig .tc .smem S1x16x256 .f32
  a4 : Memref sig .tc .vmem S1x2048x512 .i32
  a5 : Memref sig .tc .vmem S1x2048x1024 .f32
  a6 : Memref sig .tc .vmem S1x1x1024 .f32
  a7 : Memref sig .tc .vmem S1x1024x1024 .bf16
  a8 : Memref sig .tc .vmem S1x1024x1024 .bf16
  a9 : Memref sig .tc .vmem S1x1024x1024 .bf16
  a11 : Memref sig .tc .vmem S1x2048x1024 .f32
  a12 : Memref sig .tc .vmem S256x512 .i32
  a13 : Memref sig .tc .vmem S256x1024 .f32

/-- What the eight input buffers hold. -/
structure Ins (F : FTy → Type) where
  T : S1x16x256.Idx → Elt F .i32
  G : S1x16x256.Idx → Elt F .f32
  H : S1x2048x512.Idx → Elt F .i32
  X : S1x2048x1024.Idx → Elt F .f32
  g2 : S1x1x1024.Idx → Elt F .f32
  w1 : S1x1024x1024.Idx → Elt F .bf16
  w3 : S1x1024x1024.Idx → Elt F .bf16
  w2 : S1x1024x1024.Idx → Elt F .bf16

variable (c : Dev nD) (M : Ms sig) (R : sProp (MT nD τ sig Unit (Elt F) ℕ (UR sig nD τ) ℕ)) (I : Ins F)

/-- All buffers held: the inputs, what else the layer has (`R`), the result rows `O`, the fetched rows `XS` and the expert's results `YS`. -/
def St (O : S1x2048x1024.Idx → Elt F .f32) (XS : S256x512.Idx → Elt F .i32) (YS : S256x1024.Idx → Elt F .f32) : sProp 𝕄 :=
  iprop(Own c M.a2 I.T ∗ Own c M.a3 I.G ∗ Own c M.a4 I.H ∗ Own c M.a5 I.X ∗ Own c M.a6 I.g2 ∗ Own c M.a7 I.w1 ∗ Own c M.a8 I.w3 ∗ Own c M.a9 I.w2
    ∗ R ∗ Own c M.a11 O ∗ Own c M.a12 XS ∗ Own c M.a13 YS)

theorem St_T (O XS YS) : St c M R I O XS YS ⊣⊢ iprop(Own c M.a2 I.T ∗ Own c M.a3 I.G ∗ Own c M.a4 I.H ∗ Own c M.a5 I.X ∗ Own c M.a6 I.g2 ∗ Own c M.a7 I.w1 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold St; iintro ⟨H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_G (O XS YS) : St c M R I O XS YS ⊣⊢ iprop(Own c M.a3 I.G ∗ Own c M.a2 I.T ∗ Own c M.a4 I.H ∗ Own c M.a5 I.X ∗ Own c M.a6 I.g2 ∗ Own c M.a7 I.w1 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H1]; · iexact H1
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold St; iintro ⟨H1, H0, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_H (O XS YS) : St c M R I O XS YS ⊣⊢ iprop(Own c M.a4 I.H ∗ Own c M.a2 I.T ∗ Own c M.a3 I.G ∗ Own c M.a5 I.X ∗ Own c M.a6 I.g2 ∗ Own c M.a7 I.w1 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H2]; · iexact H2
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold St; iintro ⟨H2, H0, H1, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_X (O XS YS) : St c M R I O XS YS ⊣⊢ iprop(Own c M.a5 I.X ∗ Own c M.a2 I.T ∗ Own c M.a3 I.G ∗ Own c M.a4 I.H ∗ Own c M.a6 I.g2 ∗ Own c M.a7 I.w1 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H3]; · iexact H3
    isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold St; iintro ⟨H3, H0, H1, H2, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_g2 (O XS YS) : St c M R I O XS YS ⊣⊢ iprop(Own c M.a6 I.g2 ∗ Own c M.a2 I.T ∗ Own c M.a3 I.G ∗ Own c M.a4 I.H ∗ Own c M.a5 I.X ∗ Own c M.a7 I.w1 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H4]; · iexact H4
    isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    iexact H11
  · unfold St; iintro ⟨H4, H0, H1, H2, H3, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_w1 (O XS YS) : St c M R I O XS YS ⊣⊢ iprop(Own c M.a7 I.w1 ∗ Own c M.a2 I.T ∗ Own c M.a3 I.G ∗ Own c M.a4 I.H ∗ Own c M.a5 I.X ∗ Own c M.a6 I.g2 ∗ Own c M.a8 I.w3 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H5]; · iexact H5
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    iexact H11
  · unfold St; iintro ⟨H5, H0, H1, H2, H3, H4, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_w3 (O XS YS) : St c M R I O XS YS ⊣⊢ iprop(Own c M.a8 I.w3 ∗ Own c M.a2 I.T ∗ Own c M.a3 I.G ∗ Own c M.a4 I.H ∗ Own c M.a5 I.X ∗ Own c M.a6 I.g2 ∗ Own c M.a7 I.w1 ∗ Own c M.a9 I.w2 ∗ R ∗ Own c M.a11 O ∗ Own c M.a12 XS ∗ Own c M.a13 YS) := by
  constructor
  · unfold St; iintro ⟨H0, H1, H2, H3, H4, H5, H6, H7, H8, H9, H10, H11⟩
    isplitl [H6]; · iexact H6
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    isplitl [H9]; · iexact H9
    isplitl [H10]; · iexact H10
    iexact H11
  · unfold St; iintro ⟨H6, H0, H1, H2, H3, H4, H5, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_w2 (O XS YS) : St c M R I O XS YS ⊣⊢ iprop(Own c M.a9 I.w2 ∗ Own c M.a2 I.T ∗ Own c M.a3 I.G ∗ Own c M.a4 I.H ∗ Own c M.a5 I.X ∗ Own c M.a6 I.g2 ∗ Own c M.a7 I.w1 ∗ Own c M.a8 I.w3 ∗ R ∗ Own c M.a11 O ∗ Own c M.a12 XS ∗ Own c M.a13 YS) := by
  constructor
  · unfold St; iintro ⟨H0, H1, H2, H3, H4, H5, H6, H7, H8, H9, H10, H11⟩
    isplitl [H7]; · iexact H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    iexact H11
  · unfold St; iintro ⟨H7, H0, H1, H2, H3, H4, H5, H6, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_R (O XS YS) : St c M R I O XS YS ⊣⊢ iprop(R ∗ Own c M.a2 I.T ∗ Own c M.a3 I.G ∗ Own c M.a4 I.H ∗ Own c M.a5 I.X ∗ Own c M.a6 I.g2 ∗ Own c M.a7 I.w1 ∗ Own c M.a8 I.w3 ∗ Own c M.a9 I.w2 ∗ Own c M.a11 O ∗ Own c M.a12 XS ∗ Own c M.a13 YS) := by
  constructor
  · unfold St; iintro ⟨H0, H1, H2, H3, H4, H5, H6, H7, H8, H9, H10, H11⟩
    isplitl [H8]; · iexact H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11
  · unfold St; iintro ⟨H8, H0, H1, H2, H3, H4, H5, H6, H7, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_O (O XS YS) : St c M R I O XS YS ⊣⊢ iprop(Own c M.a11 O ∗ Own c M.a2 I.T ∗ Own c M.a3 I.G ∗ Own c M.a4 I.H ∗ Own c M.a5 I.X ∗ Own c M.a6 I.g2 ∗ Own c M.a7 I.w1 ∗ Own c M.a8 I.w3 ∗ Own c M.a9 I.w2 ∗ R ∗ Own c M.a12 XS ∗ Own c M.a13 YS) := by
  constructor
  · unfold St; iintro ⟨H0, H1, H2, H3, H4, H5, H6, H7, H8, H9, H10, H11⟩
    isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    iexact H11
  · unfold St; iintro ⟨H9, H0, H1, H2, H3, H4, H5, H6, H7, H8, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_XS (O XS YS) : St c M R I O XS YS ⊣⊢ iprop(Own c M.a12 XS ∗ Own c M.a2 I.T ∗ Own c M.a3 I.G ∗ Own c M.a4 I.H ∗ Own c M.a5 I.X ∗ Own c M.a6 I.g2 ∗ Own c M.a7 I.w1 ∗ Own c M.a8 I.w3 ∗ Own c M.a9 I.w2 ∗ R ∗ Own c M.a11 O ∗ Own c M.a13 YS) := by
  constructor
  · unfold St; iintro ⟨H0, H1, H2, H3, H4, H5, H6, H7, H8, H9, H10, H11⟩
    isplitl [H10]; · iexact H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H11
  · unfold St; iintro ⟨H10, H0, H1, H2, H3, H4, H5, H6, H7, H8, H9, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem St_YS (O XS YS) : St c M R I O XS YS ⊣⊢ iprop(Own c M.a13 YS ∗ Own c M.a2 I.T ∗ Own c M.a3 I.G ∗ Own c M.a4 I.H ∗ Own c M.a5 I.X ∗ Own c M.a6 I.g2 ∗ Own c M.a7 I.w1 ∗ Own c M.a8 I.w3 ∗ Own c M.a9 I.w2 ∗ R ∗ Own c M.a11 O ∗ Own c M.a12 XS) := by
  constructor
  · unfold St; iintro ⟨H0, H1, H2, H3, H4, H5, H6, H7, H8, H9, H10, H11⟩
    isplitl [H11]; · iexact H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold St; iintro ⟨H11, H0, H1, H2, H3, H4, H5, H6, H7, H8, H9, H10⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Moe
end
end
-- ==== Proof.State.lean ====
module

public import proofs.«01_k».proof.Proof.Own
public import Idealize.ShloMosaic.Lib.PointwiseCore
public import Idealize.ShloMosaic.Lib.Pipeline.FrameBody

@[expose] public section

set_option maxRecDepth 16384

noncomputable section

namespace Cert.Proof.Moe

open Cert.KernelIdeal
open Idealize.ShloMosaic
open Cert.KernelIdeal.Facts Cert.KernelIdeal.Shapes1.Facts₀ Cert.KernelIdeal.Shapes2.Facts₀ Cert.KernelIdeal.K0.Facts₀

variable {F : FTy → Type} [FloatOps F]

/-- The row a word names. -/
def rowN (v : BitVec 32) : Fin 2048 := ⟨v.toNat % 2048, Nat.mod_lt _ (by decide)⟩

theorem rowN_val {v : BitVec 32} (h : v.toNat < 2048) : (rowN v).val = v.toNat := Nat.mod_eq_of_lt h

/-- Slot `n` of an expert. -/
def slot (n : ℕ) : Fin 256 := ⟨n % 256, Nat.mod_lt _ (by decide)⟩

theorem slot_val {n : ℕ} (h : n < 256) : (slot n).val = n := Nat.mod_eq_of_lt h

section Pure
variable (T : S1x16x256.Idx → BitVec 32) (G : S1x16x256.Idx → F .f32) (H : S1x2048x512.Idx → BitVec 32)

/-- The rows of expert `e`, fetched. -/
def fetched (e : Fin 16) : S256x512.Idx → BitVec 32 := fun y => H (ix3 0 (rowN (T (ix3 0 e (y 0)))) (y 1))

/-- The first `n` rows of `A`, the others of `B`. -/
def part {α : Type} (n : ℕ) (A B : S256x512.Idx → α) : S256x512.Idx → α := fun y => if (y 0).val < n then A y else B y

/-- Row `r` replaced. -/
def putR (O : S1x2048x1024.Idx → F .f32) (r : Fin 2048) (w : Fin 1024 → F .f32) : S1x2048x1024.Idx → F .f32 :=
  fun y => if (y 1).val = r.val then w (y 2) else O y

/-- The sum for the slot `c` of expert `e`: the slot's result row and its gated row. -/
def sumR (live : F .f32) (e : Fin 16) (Y : S256x1024.Idx → F .f32) (O : S1x2048x1024.Idx → F .f32) (c : Fin 256) : Fin 1024 → F .f32 :=
  fun d => FloatOps.addf (O (ix3 0 (rowN (T (ix3 0 e c))) d)) (FloatOps.mulf (Scalar.mulf (G (ix3 0 e c)) live) (Y (ix2 c d)))

/-- Slot `c`'s sum, formed from the rows `O`, stored into the rows `O'`. -/
def put1 (live : F .f32) (e : Fin 16) (Y : S256x1024.Idx → F .f32) (O : S1x2048x1024.Idx → F .f32) (c : ℕ) (O' : S1x2048x1024.Idx → F .f32) :
    S1x2048x1024.Idx → F .f32 := putR O' (rowN (T (ix3 0 e (slot c)))) (sumR T G live e Y O (slot c))

/-- Four slots' sums stored. -/
def put4 (live : F .f32) (e : Fin 16) (Y : S256x1024.Idx → F .f32) (c : ℕ) (O : S1x2048x1024.Idx → F .f32) : S1x2048x1024.Idx → F .f32 :=
  put1 T G live e Y O (c + 3) (put1 T G live e Y O (c + 2) (put1 T G live e Y O (c + 1) (put1 T G live e Y O c O)))

/-- The first `n` groups of four slots' sums stored, one group after the other. -/
def added (live : F .f32) (e : Fin 16) (Y : S256x1024.Idx → F .f32) (O : S1x2048x1024.Idx → F .f32) : ℕ → S1x2048x1024.Idx → F .f32
  | 0 => O
  | n + 1 => put4 T G live e Y (4 * n) (added live e Y O n)
end Pure

theorem upd_apply [Facts] (live : F .f32) (x : Vec F S1x1x1024 .f32) (g : F .f32) (y : Vec F S1x1024 .f32) (d : Fin 1024) :
    upd live x g y (ix3 0 0 d) = FloatOps.addf (x (ix3 0 0 d)) (FloatOps.mulf (Scalar.mulf g live) (y (ix2 0 d))) := by
  pointwise [upd]

/-- A row without its leading axis. -/
theorem cast_row {α : Type} (x : S1x1x512.Idx → α) (h : S1x1x512.ShapeCasts S1x512) (d : Fin 512) : shapeCast S1x512 x h (ix2 0 d) = x (ix3 0 0 d) := by
  pointwise

/-- A loaded part at an index, the place told coordinate by coordinate. -/
theorem ld_unit {s : Shape} {e : EltTy} (X : s.Idx → Elt F e) (off size : Fin s.rank → ℕ) (h) (x : (Rect.unit off size h).shape.Idx) (y : s.Idx)
    (hy : ∀ a, (y a).val = off a + (x a).val) : View.ld X (Rect.unit off size h) x = X y :=
  congrArg X (Rect.emb_eq_of_coords (Rect.unit off size h) x y (by simpa using hy))

/-- A word of a table. -/
theorem ld_word {e : EltTy} (X : S1x16x256.Idx → Elt F e) {off : Fin 3 → ℕ} {k : Fin 16} {c : Fin 256} (ho : off = ![0, k.val, c.val]) (h)
    (x : (Rect.unit (s := S1x16x256) off S1x1x1.size h).shape.Idx) : View.ld X (Rect.unit (s := S1x16x256) off S1x1x1.size h) x = X (ix3 0 k c) := by
  subst ho
  refine ld_unit X _ _ h x _ fun a => ?_
  have hx : (x a).val = 0 := by
    have := (x a).isLt
    fin_cases a <;> exact Nat.lt_one_iff.mp this
  rw [hx]; fin_cases a <;> rfl

theorem row_of {v : BitVec 32} (hv : v.toNat < 2048) : (Scalar.indexCast v).toNat = (rowN v).val := (rowN_val hv).symm

/-- A row of a sample's rows. -/
theorem ld_row {n : ℕ} {e : EltTy} (X : (⟨3, ![1, 2048, n]⟩ : Shape).Idx → Elt F e) {v : BitVec 32} (hv : v.toNat < 2048) (h) (d : Fin n) :
    View.ld X (Rect.unit (s := ⟨3, ![1, 2048, n]⟩) (rowOff v) (⟨3, ![1, 1, n]⟩ : Shape).size h) (ix3 0 0 d) = X (ix3 0 (rowN v) d) := by
  refine ld_unit X _ _ h _ _ fun a => ?_
  fin_cases a
  · rfl
  · exact (row_of hv).symm
  · exact (Nat.zero_add _).symm

/-- A row of an expert's results. -/
theorem ld_yrow {e : EltTy} (X : S256x1024.Idx → Elt F e) {n : ℕ} (hn : n < 256) (h) (d : Fin 1024) :
    View.ld X (Rect.unit (s := S256x1024) ![n, 0] S1x1024.size h) (ix2 0 d) = X (ix2 (slot n) d) := by
  refine ld_unit X _ _ h _ _ fun a => ?_
  fin_cases a
  · exact slot_val hn
  · exact (Nat.zero_add _).symm

/-- A whole buffer. -/
theorem ld_whole {s : Shape} {e : EltTy} (X : s.Idx → Elt F e) {off : Fin s.rank → ℕ} (ho : ∀ a, off a = 0) (h) : View.ld X (Rect.unit off s.size h) = X :=
  funext fun x => ld_unit X _ _ h x x fun a => by rw [ho, Nat.zero_add]

/-- Contents laid over others, at a place they cover. -/
theorem overlay_hit {s : Shape} {α : Type} (X : s.Idx → α) (off size : Fin s.rank → ℕ) (h) (w : (Rect.unit off size h).shape.Idx → α)
    (x : (Rect.unit off size h).shape.Idx) (y : s.Idx) (hy : ∀ a, (y a).val = off a + (x a).val) : (Rect.unit off size h).overlay X w y = w x := by
  rw [← Rect.emb_eq_of_coords (Rect.unit off size h) x y (by simpa using hy), Rect.overlay_emb]

/-- Contents laid over others, at a place outside. -/
theorem overlay_miss {s : Shape} {α : Type} (X : s.Idx → α) (off size : Fin s.rank → ℕ) (h) (w : (Rect.unit off size h).shape.Idx → α)
    (y : s.Idx) (a : Fin s.rank) (hy : (y a).val < off a ∨ off a + size a ≤ (y a).val) : (Rect.unit off size h).overlay X w y = X y := by
  refine Rect.overlay_of_not_mem _ _ _ fun hm => ?_
  obtain ⟨x, -, hx⟩ := Finset.mem_map.mp (by rw [Rect.map_emb_univ]; exact hm : y ∈ Finset.univ.map (Rect.unit off size h).emb)
  have h1 : (x a).val < size a := (x a).isLt
  have h2 : (y a).val = off a + 1 * (x a).val := by rw [← hx]; rfl
  omega

/-- A whole buffer replaced. -/
theorem overlay_whole {s : Shape} {α : Type} (X : s.Idx → α) {off : Fin s.rank → ℕ} (ho : ∀ a, off a = 0) (h) (w : s.Idx → α) : (Rect.unit off s.size h).overlay X w = w :=
  funext fun y => overlay_hit X off s.size h w y y fun a => by rw [ho, Nat.zero_add]

/-- A row of the result rows replaced. -/
theorem overlay_row (O : S1x2048x1024.Idx → F .f32) {v : BitVec 32} (hv : v.toNat < 2048) (h) (w : S1x1x1024.Idx → F .f32) :
    (Rect.unit (s := S1x2048x1024) (rowOff v) S1x1x1024.size h).overlay O w = putR O (rowN v) fun d => w (ix3 0 0 d) := by
  funext y
  unfold putR
  by_cases hy : (y 1).val = (rowN v).val
  · rw [if_pos hy]
    refine overlay_hit O _ _ h w (ix3 0 0 (y 2)) y fun a => ?_
    fin_cases a
    · exact Nat.lt_one_iff.mp (y 0).isLt
    · exact hy.trans (row_of hv).symm
    · exact (Nat.zero_add _).symm
  · rw [if_neg hy]
    refine overlay_miss O _ _ h w y 1 ?_
    have h1 : rowOff v 1 = (rowN v).val := row_of hv
    have h2 : S1x1x1024.size 1 = 1 := rfl
    rw [h1, h2]
    omega

/-- A row of the fetched rows replaced. -/
theorem overlay_xrow {α : Type} (X : S256x512.Idx → α) {n : ℕ} (h) (w : S1x512.Idx → α) (y : S256x512.Idx) :
    (Rect.unit (s := S256x512) ![n, 0] S1x512.size h).overlay X w y = if (y 0).val = n then w (ix2 0 (y 1)) else X y := by
  by_cases hy : (y 0).val = n
  · rw [if_pos hy]
    refine overlay_hit X _ _ h w (ix2 0 (y 1)) y fun a => ?_
    fin_cases a
    · exact hy
    · exact (Nat.zero_add _).symm
  · rw [if_neg hy]
    refine overlay_miss X _ _ h w y 0 ?_
    have h1 : (![n, 0] : Fin 2 → ℕ) 0 = n := rfl
    have h2 : S1x512.size 0 = 1 := rfl
    rw [h1, h2]
    omega

/-- The slab `t` of 512 result rows. -/
def slab (O : S1x2048x1024.Idx → Elt F .f32) (t : Fin 4) : S1x512x1024.Idx → Elt F .f32 :=
  fun x => O (ix3 0 ⟨512 * t.val + (x 1).val, by have := (x 1).isLt; have h : S1x512x1024.size 1 = 512 := rfl; omega⟩ (x 2))

/-- All result rows, normalised slab by slab. -/
def normAll [Facts] (O : S1x2048x1024.Idx → Elt F .f32) (fg : S1x1024.Idx → Elt F .f32) : S1x2048x1024.Idx → Elt F .f32 :=
  fun y => normed (slab O ⟨(y 1).val / 512, by have := (y 1).isLt; have h : S1x2048x1024.size 1 = 2048 := rfl; omega⟩) fg (ix3 0 ⟨(y 1).val % 512, Nat.mod_lt _ (by decide)⟩ (y 2))

/-- The rows of the first `n` slabs normalised. -/
def normPart [Facts] (O : S1x2048x1024.Idx → Elt F .f32) (fg : S1x1024.Idx → Elt F .f32) (n : ℕ) : S1x2048x1024.Idx → Elt F .f32 :=
  fun y => if (y 1).val < 512 * n then normAll O fg y else O y

theorem slab_off : ∀ t : Fin k0_t1_loop.trips, k0_off2177 t = ![0, 512 * t.val, 0] := by decide

theorem trips_eq : k0_t1_loop.trips = 4 := by decide

/-- A slab that has not been normalised yet, loaded. -/
theorem ld_slab [Facts] (O : S1x2048x1024.Idx → Elt F .f32) (fg : S1x1024.Idx → Elt F .f32) (t : Fin 4) {off : Fin 3 → ℕ} (ho : off = ![0, 512 * t.val, 0]) (h) :
    View.ld (normPart O fg t.val) (Rect.unit (s := S1x2048x1024) off S1x512x1024.size h) = slab O t := by
  subst ho
  funext x
  have h1 : (x 1).val < 512 := (x 1).isLt
  have ht : t.val < 4 := t.isLt
  refine (ld_unit (normPart O fg t.val) _ _ h x (ix3 0 ⟨512 * t.val + (x 1).val, by omega⟩ (x 2)) fun a => ?_).trans ?_
  · fin_cases a
    · show 0 = 0 + (x 0).val
      have : (x 0).val = 0 := Nat.lt_one_iff.mp (x 0).isLt
      omega
    · rfl
    · exact (Nat.zero_add _).symm
  · exact if_neg (Nat.not_lt.mpr (Nat.le_add_right _ _))

/-- A slab normalised. -/
theorem overlay_slab [Facts] (O : S1x2048x1024.Idx → Elt F .f32) (fg : S1x1024.Idx → Elt F .f32) (t : Fin 4) {off : Fin 3 → ℕ} (ho : off = ![0, 512 * t.val, 0]) (h) :
    (Rect.unit (s := S1x2048x1024) off S1x512x1024.size h).overlay (normPart O fg t.val) (normed (slab O t) fg) = normPart O fg (t.val + 1) := by
  subst ho
  funext y
  have ht : t.val < 4 := t.isLt
  by_cases hy : 512 * t.val ≤ (y 1).val ∧ (y 1).val < 512 * t.val + 512
  · refine (overlay_hit _ _ _ h _ (ix3 0 ⟨(y 1).val % 512, Nat.mod_lt _ (by decide)⟩ (y 2)) y fun a => ?_).trans ?_
    · fin_cases a
      · exact Nat.lt_one_iff.mp (y 0).isLt
      · show (y 1).val = 512 * t.val + (y 1).val % 512
        omega
      · exact (Nat.zero_add _).symm
    · refine Eq.trans ?_ (if_pos (show (y 1).val < 512 * (t.val + 1) by omega)).symm
      unfold normAll
      congr 2
      exact Fin.ext (by show t.val = (y 1).val / 512; omega)
  · refine (overlay_miss _ _ _ h _ y 1 ?_).trans ?_
    · show (y 1).val < 512 * t.val ∨ 512 * t.val + 512 ≤ (y 1).val
      omega
    · unfold normPart
      exact if_congr (by omega) rfl rfl

end Cert.Proof.Moe
end
end
-- ==== Proof.Body.lean ====
module

public import proofs.«01_k».proof.Proof.Held
public import proofs.«01_k».proof.Proof.State

@[expose] public section

set_option maxRecDepth 16384

noncomputable section

namespace Cert.Proof.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Shapes1.Facts₀ Cert.KernelIdeal.Shapes2.Facts₀ Cert.KernelIdeal.K0.Facts₀

variable {nD : ℕ} {τ : Topo} {sig : RefSig} {Λ₀ : Labels} {F : FTy → Type} [FloatOps F] [Facts] {D : Defs nD τ sig (Elt F) Λ₀}

local notation "𝕄" => MT nD τ sig Unit (Elt F) ℕ (UR sig nD τ) ℕ

/-- A row's place lies within the rows. -/
theorem row_fits {v : BitVec 32} (hv : v.toNat < 2048) (n : ℕ) : ∀ a, rowOff v a + (⟨3, ![1, 1, n]⟩ : Shape).size a ≤ (⟨3, ![1, 2048, n]⟩ : Shape).size a := by
  intro a; fin_cases a
  · exact Nat.le_refl _
  · exact hv
  · exact (Nat.zero_add _).le

variable (c : Dev nD) (M : Ms sig) (R : sProp (MT nD τ sig Unit (Elt F) ℕ (UR sig nD τ) ℕ)) (I : Ins F) (i : grid0.Coords) {Q : PUnit.{1} → sProp (MT nD τ sig Unit (Elt F) ℕ (UR sig nD τ) ℕ)}
  {O : S1x2048x1024.Idx → Elt F .f32} {XS XS' : S256x512.Idx → Elt F .i32} {YS : S256x1024.Idx → Elt F .f32}

/-- Fetching one row. -/
theorem run_gRow (hT : ∀ j, (I.T j : BitVec 32).toNat < 2048) {off : Fin 3 → ℕ} {hoff} {chk : BitVec 32 → Prop} {dec} {inb} {n : ℕ} {hn : n < 256} {K : PgOf nD τ sig Λ₀ F}
    (k : Fin 16) (ho : off = ![0, k.val, n]) (hchk : ∀ v : BitVec 32, v.toNat < 2048 → chk v)
    (hX : XS' = fun y => if (y 0).val = n then I.H (ix3 0 (rowN (I.T (ix3 0 k (slot n)))) (y 1)) else XS y)
    (hK : St c M R I O XS' YS ⊢ Run D c K Q) : St c M R I O XS YS ⊢ Run D c (gRow M.a2 M.a4 M.a12 off hoff chk dec inb n hn K) Q := by
  refine own_load c (St_T c M R I O XS YS) rfl ?_
  have ew : ∀ x, View.ld I.T (Rect.unit (s := S1x16x256) off S1x1x1.size hoff) x = I.T (ix3 0 k (slot n)) := fun x =>
    ld_word I.T (by rw [ho, slot_val hn]) hoff x
  have hv : ∀ x, (View.ld I.T (Rect.unit (s := S1x16x256) off S1x1x1.size hoff) x : BitVec 32).toNat < 2048 := fun x => by rw [ew]; exact hT _
  refine own_assume c (hchk _ (hv _)) rfl ?_
  refine own_load c (St_H c M R I O XS YS) rfl ?_
  refine own_load c (St_XS c M R I O XS YS) rfl ?_
  refine own_store c (St_XS c M R I O XS YS).1 ?_ rfl hK
  refine BIBase.Entails.trans ?_ (St_XS c M R I O XS' YS).2
  rw [hX]
  refine Entails.of_eq (congrArg (fun Z => iprop(Own c M.a12 Z ∗ _)) (funext fun y => ?_))
  rw [overlay_xrow]
  refine if_congr Iff.rfl ?_ rfl
  rw [shapeCast_self]
  refine (cast_row _ _ _).trans ?_
  refine (ld_row I.H ?_ _ _).trans ?_
  · exact hv _
  · rw [ew]

/-- Fetching the rows of an expert, from row `256 - n` on. -/
theorem part_step {α : Type} (A B : S256x512.Idx → α) (n : ℕ) :
    part (n + 1) A B = fun y => if (y 0).val = n then A y else part n A B y := by
  funext y; unfold part
  by_cases h : (y 0).val = n
  · rw [if_pos (by omega), if_pos h]
  · rw [if_neg h]; exact if_congr (by omega) rfl rfl

theorem part_all {α : Type} (A B : S256x512.Idx → α) : part 256 A B = A := funext fun y => if_pos (y 0).isLt
theorem part_none {α : Type} (A B : S256x512.Idx → α) : part 0 A B = B := funext fun y => if_neg (Nat.not_lt_zero _)

theorem fetched_put (T : S1x16x256.Idx → BitVec 32) (H : S1x2048x512.Idx → BitVec 32) (B : S256x512.Idx → BitVec 32) (k : Fin 16) (n : ℕ) :
    part (n + 1) (fetched T H k) B = fun y => if (y 0).val = n then H (ix3 0 (rowN (T (ix3 0 k (slot n)))) (y 1)) else part n (fetched T H k) B y := by
  rw [part_step]; funext y
  by_cases h : (y 0).val = n
  · rw [if_pos h, if_pos h]
    have e : slot n = y 0 := Fin.ext (by rw [← h]; exact slot_val (y 0).isLt)
    rw [e]; rfl
  · rw [if_neg h, if_neg h]

theorem run_gather1 (hT : ∀ j, (I.T j : BitVec 32).toNat < 2048) (h1 : k0_cond1 i = 1#1) {K : PgOf nD τ sig Λ₀ F}
    (hK : St c M R I O (fetched I.T I.H 0) YS ⊢ Run D c K Q) : ∀ n, n ≤ 256 → St c M R I O (part (256 - n) (fetched I.T I.H 0) XS) YS ⊢ Run D c (gather1 i M.a2 M.a4 M.a12 h1 K n) Q
  | 0, _ => by rw [show 256 - 0 = 256 from rfl, part_all]; exact hK
  | n + 1, h => by
    refine run_gRow c M R I hT (hoff := tab_inb (e := 0) (c := 256 - (n + 1)) rfl (by decide) (last_lt n)) (inb := fun _ h => h h1) (hn := last_lt n) (0 : Fin 16) rfl (fun v hv _ => row_fits hv 512) ?_ (run_gather1 hT h1 hK n (by omega))
    rw [show 256 - n = 256 - (n + 1) + 1 by omega, fetched_put]

/-- The expert whose rows are fetched, as a number. -/
def nx : Fin 16 := ⟨(Scalar.indexCast (nextE i)).toNat, nextE_lt i⟩
/-- The expert whose results are added, as a number. -/
def pv : Fin 16 := ⟨(Scalar.indexCast (prevE i)).toNat, prevE_lt i⟩

theorem run_gather2 (hT : ∀ j, (I.T j : BitVec 32).toNat < 2048) {K : PgOf nD τ sig Λ₀ F}
    (hK : St c M R I O (fetched I.T I.H (nx i)) YS ⊢ Run D c K Q) : ∀ n, n ≤ 256 → St c M R I O (part (256 - n) (fetched I.T I.H (nx i)) XS) YS ⊢ Run D c (gather2 i M.a2 M.a4 M.a12 K n) Q
  | 0, _ => by rw [show 256 - 0 = 256 from rfl, part_all]; exact hK
  | n + 1, h => by
    refine run_gRow c M R I hT (hoff := tab_inb (c := 256 - (n + 1)) rfl (nextE_lt i) (last_lt n)) (inb := fun _ h => h) (hn := last_lt n) (nx i) rfl (fun v hv => row_fits hv 512) ?_ (run_gather2 hT hK n (by omega))
    rw [show 256 - n = 256 - (n + 1) + 1 by omega, fetched_put]

/-- One sum: the rows are left as they were. -/
theorem run_sumRow {v : BitVec 32} (hv : v.toNat < 2048) {inb} {off : Fin 3 → ℕ} {hoff} {live : F .f32} {n : ℕ} {hn : n < 256} (k : Fin 16) (ho : off = ![0, k.val, n])
    (ev : v = I.T (ix3 0 k (slot n))) {f : FVec F S1x1x1024 .f32 → PgOf nD τ sig Λ₀ F} {P : PgOf nD τ sig Λ₀ F} (hP : P = Prog.bind (sumRow M.a3 M.a11 M.a13 v inb off hoff live n hn) f)
    (hK : ∀ w : FVec F S1x1x1024 .f32, (fun d => w (ix3 0 0 d)) = sumR I.T I.G live k YS O (slot n) → (St c M R I O XS YS ⊢ Run D c (f w) Q)) :
    St c M R I O XS YS ⊢ Run D c P Q := by
  subst hP
  refine own_load c (St_O c M R I O XS YS) rfl ?_
  refine own_load c (St_G c M R I O XS YS) rfl ?_
  refine own_load c (St_YS c M R I O XS YS) rfl ?_
  refine hK _ (funext fun d => ?_)
  rw [upd_apply, ld_word I.G (k := k) (c := slot n) (by rw [ho, slot_val hn]) hoff, ld_yrow YS hn]
  unfold sumR
  rw [← ev]
  exact congrArg (FloatOps.addf · _) (ld_row O hv inb d)

/-- Storing one sum. -/
theorem run_putRow {v : BitVec 32} (hv : v.toNat < 2048) {inb} {w : FVec F S1x1x1024 .f32} {f : PUnit.{1} → PgOf nD τ sig Λ₀ F} {P : PgOf nD τ sig Λ₀ F} (hP : P = Prog.bind (putRow M.a11 v inb w) f)
    (hK : St c M R I (putR O (rowN v) fun d => w (ix3 0 0 d)) XS YS ⊢ Run D c (f ⟨⟩) Q) : St c M R I O XS YS ⊢ Run D c P Q := by
  subst hP
  refine own_load c (St_O c M R I O XS YS) rfl ?_
  refine own_store c (St_O c M R I O XS YS).1 ?_ rfl hK
  rw [overlay_row O hv]
  exact (St_O c M R I _ XS YS).2

/-- A value handed on. -/
theorem run_ret {α : Type} {a : α} {f : α → PgOf nD τ sig Λ₀ F} {P : PgOf nD τ sig Λ₀ F} {S : sProp 𝕄} (hP : P = Prog.bind (.ret a) f) (hk : S ⊢ Run D c (f a) Q) : S ⊢ Run D c P Q := by
  subst hP; exact hk

/-- Adding four rows. -/
theorem run_grp (hT : ∀ j, (I.T j : BitVec 32).toNat < 2048) {off : ℕ → Fin 3 → ℕ} {hoff} {chkA : BitVec 32 → Prop} {decA inbA} {chkB : BitVec 32 → Prop} {decB inbB}
    {live : F .f32} {n : ℕ} {hn : n + 3 < 256} {K : PgOf nD τ sig Λ₀ F} (k : Fin 16) (ho : ∀ n, off n = ![0, k.val, n])
    (hA : ∀ v : BitVec 32, v.toNat < 2048 → chkA v) (hB : ∀ v : BitVec 32, v.toNat < 2048 → chkB v)
    (hK : St c M R I (put4 I.T I.G live k YS n O) XS YS ⊢ Run D c K Q) :
    St c M R I O XS YS ⊢ Run D c (grp M.a2 M.a3 M.a11 M.a13 off hoff chkA decA inbA chkB decB inbB live n hn K) Q := by
  have ew : ∀ m (hm : m < 256) x, View.ld I.T (Rect.unit (s := S1x16x256) (off m) S1x1x1.size (hoff m hm)) x = I.T (ix3 0 k (slot m)) := fun m hm x =>
    ld_word I.T (by rw [ho, slot_val hm]) (hoff m hm) x
  have hv : ∀ m (hm : m < 256) x, (View.ld I.T (Rect.unit (s := S1x16x256) (off m) S1x1x1.size (hoff m hm)) x : BitVec 32).toNat < 2048 := fun m hm x => by rw [ew m hm x]; exact hT _
  have b0 : n < 256 := by omega
  have b1 : n + 1 < 256 := by omega
  have b2 : n + 2 < 256 := by omega
  have b3 : n + 3 < 256 := hn
  refine own_load c (St_T c M R I O XS YS) rfl ?_
  refine own_assume c (hA _ (hv n b0 _)) rfl ?_
  refine own_load c (St_T c M R I O XS YS) rfl ?_
  refine own_assume c (hA _ (hv (n + 1) b1 _)) rfl ?_
  refine own_load c (St_T c M R I O XS YS) rfl ?_
  refine own_assume c (hA _ (hv (n + 2) b2 _)) rfl ?_
  refine own_load c (St_T c M R I O XS YS) rfl ?_
  refine own_assume c (hB _ (hv (n + 3) b3 _)) rfl ?_
  refine run_ret c rfl ?_
  refine run_sumRow c M R I (hv n b0 _) k (ho n) (ew n b0 _) rfl fun x0 h0 => ?_
  refine run_sumRow c M R I (hv (n + 1) b1 _) k (ho (n + 1)) (ew (n + 1) b1 _) rfl fun x1 h1 => ?_
  refine run_sumRow c M R I (hv (n + 2) b2 _) k (ho (n + 2)) (ew (n + 2) b2 _) rfl fun x2 h2 => ?_
  refine run_sumRow c M R I (hv (n + 3) b3 _) k (ho (n + 3)) (ew (n + 3) b3 _) rfl fun x3 h3 => ?_
  refine run_putRow c M R I (hv n b0 _) rfl ?_
  refine run_putRow c M R I (hv (n + 1) b1 _) rfl ?_
  refine run_putRow c M R I (hv (n + 2) b2 _) rfl ?_
  refine run_putRow c M R I (hv (n + 3) b3 _) rfl ?_
  rw [h0, h1, h2, h3, ew n b0, ew (n + 1) b1, ew (n + 2) b2, ew (n + 3) b3]
  exact hK

theorem run_scatter1 (hT : ∀ j, (I.T j : BitVec 32).toNat < 2048) {K : PgOf nD τ sig Λ₀ F}
    (hK : St c M R I (added I.T I.G (liveE i) (pv i) YS O 64) XS YS ⊢ Run D c K Q) :
    ∀ n, n ≤ 64 → St c M R I (added I.T I.G (liveE i) (pv i) YS O (64 - n)) XS YS ⊢ Run D c (scatter1 i M.a2 M.a3 M.a11 M.a13 K n) Q
  | 0, _ => hK
  | n + 1, h => by
    refine run_grp c M R I hT (hoff := fun c hc => tab_inb (c := c) rfl (prevE_lt i) hc) (inbA := fun _ h => h.1) (inbB := fun _ h => h) (hn := last4_lt n) (pv i) (fun _ => rfl) (fun v hv => ⟨row_fits hv 1024, row_fits hv 1024⟩) (fun v hv => row_fits hv 1024) ?_
    have e := run_scatter1 hT hK n (by omega)
    rw [show 64 - n = 64 - (n + 1) + 1 by omega] at e
    exact e

theorem run_scatter2 (hT : ∀ j, (I.T j : BitVec 32).toNat < 2048) (h2 : k0_cond2 i = 1#1) {K : PgOf nD τ sig Λ₀ F}
    (hK : St c M R I (added I.T I.G (Scalar.ofBits .f32 0x3F800000#32) 15 YS O 64) XS YS ⊢ Run D c K Q) :
    ∀ n, n ≤ 64 → St c M R I (added I.T I.G (Scalar.ofBits .f32 0x3F800000#32) 15 YS O (64 - n)) XS YS ⊢ Run D c (scatter2 i M.a2 M.a3 M.a11 M.a13 h2 K n) Q
  | 0, _ => hK
  | n + 1, h => by
    refine run_grp c M R I hT (hoff := fun c hc => tab_inb (e := 15) (c := c) rfl (by decide) hc) (inbA := fun _ h => h.1 h2) (inbB := fun _ h => h h2) (hn := last4_lt n) (15 : Fin 16) (fun _ => rfl) (fun v hv => ⟨fun _ => row_fits hv 1024, fun _ => row_fits hv 1024⟩) (fun v hv _ => row_fits hv 1024) ?_
    have e := run_scatter2 hT h2 hK n (by omega)
    rw [show 64 - n = 64 - (n + 1) + 1 by omega] at e
    exact e

/-- What a grid point leaves: the result rows, the fetched rows, the expert's results. -/
structure Kept (F : FTy → Type) where
  O : S1x2048x1024.Idx → Elt F .f32
  XS : S256x512.Idx → Elt F .i32
  YS : S256x1024.Idx → Elt F .f32

/-- What the start of a sample leaves. -/
def opened (s : Kept F) : Kept F :=
  if k0_cond1 i = 1#1 then ⟨I.X, fetched I.T I.H 0, fun _ => Scalar.ofBits .f32 0x00000000#32⟩ else s

/-- The expert's results from the rows fetched. -/
def results (XS : S256x512.Idx → Elt F .i32) : S256x1024.Idx → Elt F .f32 := expert (unpacked XS) I.w1 I.w3 I.w2 I.g2

/-- The last expert's results added, at the last expert. -/
def lastAdded (YS : S256x1024.Idx → Elt F .f32) (O : S1x2048x1024.Idx → Elt F .f32) : S1x2048x1024.Idx → Elt F .f32 :=
  if k0_cond2 i = 1#1 then added I.T I.G (Scalar.ofBits .f32 0x3F800000#32) 15 YS O 64 else O

/-- The rows normalised, at the last expert of the last layer. -/
def lastNormed (fg : S1x1024.Idx → Elt F .f32) (O : S1x2048x1024.Idx → Elt F .f32) : S1x2048x1024.Idx → Elt F .f32 :=
  if k0_cond3 i = 1#1 then normAll O fg else O

/-- What a grid point leaves after the start, in a layer that ends by `N`. -/
def stepped (N : (S1x2048x1024.Idx → Elt F .f32) → S1x2048x1024.Idx → Elt F .f32) (s : Kept F) : Kept F :=
  ⟨N (lastAdded I i (results I s.XS) (added I.T I.G (liveE i) (pv i) s.YS s.O 64)), fetched I.T I.H (nx i), results I s.XS⟩

theorem run_pure {S : sProp 𝕄} (h : S ⊢ Q ⟨⟩) : S ⊢ Run D c (.ret ⟨⟩) Q := by
  have e : (iprop(|={Set.univ}=> Q ⟨⟩) : sProp 𝕄) ⊢ Run D c (.ret ⟨⟩) Q := Entails.of_eq (wp_ret ..).symm
  refine BIBase.Entails.trans ?_ e
  iintro H; imodintro; iapply h; iexact H

theorem run_norms (a10 : Memref sig .tc .vmem S1x1024 .f32) (fg : S1x1024.Idx → Elt F .f32) (hK : St c M (Own c a10 fg) I (lastNormed i fg O) XS YS ⊢ Q ⟨⟩) :
    St c M (Own c a10 fg) I O XS YS ⊢ Run D c (norms i M.a11 a10) Q := by
  unfold norms
  by_cases h3 : k0_cond3 i = 1#1
  · unfold lastNormed at hK
    rw [if_pos h3] at hK
    rw [dif_pos h3]
    have hb : ∀ (t : Fin k0_t1_loop.trips) (_ : PUnit.{1}), St c M (Own c a10 fg) I (normPart O fg t.val) XS YS ⊢ Run D c (do
        let x : Vec F S1x512x1024 .f32 ← Prog.lift (.load M.a11 (Rect.unit (s := S1x2048x1024) (k0_off2177 t) S1x512x1024.size (k0_off2177_inb i t h3)).toLoadRect (View.loadsAt_vmem h_S1x512x1024))
        let g : Vec F S1x1024 .f32 ← Prog.lift (.load a10 (Rect.unit (s := S1x1024) ![0, 0] S1x1024.size inb_S1x1024_S1x1024_0_0).toLoadRect (View.loadsAt_vmem h_S1x1024))
        let _x : Vec F S1x512x1024 .f32 ← Prog.lift (.load M.a11 (Rect.unit (s := S1x2048x1024) (k0_off2177 t) S1x512x1024.size (k0_off2177_inb i t h3)).toLoadRect (View.loadsAt_vmem h_S1x512x1024))
        Prog.lift (.store M.a11 (Rect.unit (s := S1x2048x1024) (k0_off2177 t) S1x512x1024.size (k0_off2177_inb i t h3)) (normed x g) Finset.univ (View.stores_vmem_bits_univ h_S1x512x1024 rfl) (.inl rfl))
        pure ⟨⟩) fun _ => St c M (Own c a10 fg) I (normPart O fg (t.val + 1)) XS YS := fun t _ => by
      refine own_load c (St_O c M (Own c a10 fg) I _ XS YS) rfl ?_
      refine own_load c (St_R c M (Own c a10 fg) I _ XS YS) rfl ?_
      refine own_load c (St_O c M (Own c a10 fg) I _ XS YS) rfl ?_
      refine own_store c (St_O c M (Own c a10 fg) I _ XS YS).1 ?_ rfl (run_pure c .rfl)
      rw [show View.ld (normPart O fg t.val) (Rect.unit (s := S1x2048x1024) (k0_off2177 t) S1x512x1024.size (k0_off2177_inb i t h3)) = slab O (t.cast trips_eq)
        from ld_slab O fg (t.cast trips_eq) (slab_off t) _, ld_whole fg (fun a => by fin_cases a <;> rfl)]
      refine BIBase.Entails.trans (Entails.of_eq ?_) (St_O c M (Own c a10 fg) I _ XS YS).2
      exact congrArg (fun Z => iprop(Own c M.a11 Z ∗ _)) (overlay_slab O fg (t.cast trips_eq) (slab_off t) _)
    have h0 : normPart O fg 0 = O := funext fun y => if_neg (Nat.not_lt_zero _)
    have h4 : normPart O fg k0_t1_loop.trips = normAll O fg := funext fun y => if_pos (by rw [trips_eq]; exact (y 1).isLt)
    refine BIBase.Entails.trans ?_ (Entails.of_eq (wp_bind ..).symm)
    have hf := Scf.wp_for (Q := fun _ => Run D c (.ret ⟨⟩) Q) frame (wpE D Variants.none (c : Thread nD τ) none) Set.univ _ _ _ (k0_t1_ok i h3) ⟨⟩ _
      (fun n _ => St c M (Own c a10 fg) I (normPart O fg n) XS YS) hb
    refine BIBase.Entails.trans ?_ hf
    rw [h0]
    iintro H
    isplitl [H]; · iexact H
    iintro %acc H
    have hq : St c M (Own c a10 fg) I (normPart O fg k0_t1_loop.trips) XS YS ⊢ Run D c (.ret ⟨⟩) Q := by rw [h4]; exact run_pure c hK
    iapply hq; iexact H
  · unfold lastNormed at hK
    rw [if_neg h3] at hK
    rw [dif_neg h3]
    exact run_pure c hK

/-- A layer's end `E` makes `N` of the result rows. -/
def Makes (D : Defs nD τ sig (Elt F) Λ₀) (E : PgOf nD τ sig Λ₀ F) (N : (S1x2048x1024.Idx → Elt F .f32) → S1x2048x1024.Idx → Elt F .f32) (Q : PUnit.{1} → sProp (MT nD τ sig Unit (Elt F) ℕ (UR sig nD τ) ℕ)) : Prop :=
  ∀ O XS YS, (St c M R I (N O) XS YS ⊢ Q ⟨⟩) → St c M R I O XS YS ⊢ Run D c E Q

variable {E : PgOf nD τ sig Λ₀ F} {N : (S1x2048x1024.Idx → Elt F .f32) → S1x2048x1024.Idx → Elt F .f32} (hE : Makes c M R I D E N Q)
include hE

theorem run_finish (hT : ∀ j, (I.T j : BitVec 32).toNat < 2048) (hK : St c M R I (N (lastAdded I i YS O)) XS YS ⊢ Q ⟨⟩) :
    St c M R I O XS YS ⊢ Run D c (finish i M.a2 M.a3 M.a11 M.a13 E) Q := by
  unfold finish
  by_cases h2 : k0_cond2 i = 1#1
  · unfold lastAdded at hK
    rw [if_pos h2] at hK
    rw [dif_pos h2]
    exact run_scatter2 c M R I i hT h2 (hE _ _ _ hK) 64 (Nat.le_refl _)
  · unfold lastAdded at hK
    rw [if_neg h2] at hK
    rw [dif_neg h2]
    exact hE _ _ _ hK

omit hE in
theorem run_compute {v : FVec F S256x1024 .bf16} {K : PgOf nD τ sig Λ₀ F} (hK : St c M R I O XS (expert v I.w1 I.w3 I.w2 I.g2) ⊢ Run D c K Q) :
    St c M R I O XS YS ⊢ Run D c (compute M.a13 M.a6 M.a7 M.a8 M.a9 v K) Q := by
  have z3 : ∀ a : Fin 3, (![0, 0, 0] : Fin 3 → ℕ) a = 0 := by decide
  have z2 : ∀ a : Fin 2, (![0, 0] : Fin 2 → ℕ) a = 0 := by decide
  refine own_load c (St_w1 c M R I _ XS YS) rfl ?_
  refine own_load c (St_w3 c M R I _ XS YS) rfl ?_
  refine own_load c (St_w2 c M R I _ XS YS) rfl ?_
  refine own_load c (St_g2 c M R I _ XS YS) rfl ?_
  refine own_load c (St_YS c M R I _ XS YS) rfl ?_
  refine own_store c (St_YS c M R I _ XS YS).1 ?_ rfl hK
  rw [ld_whole I.w1 z3, ld_whole I.w3 z3, ld_whole I.w2 z3, ld_whole I.g2 z3]
  refine BIBase.Entails.trans (Entails.of_eq ?_) (St_YS c M R I _ XS _).2
  exact congrArg (fun Z => iprop(Own c M.a13 Z ∗ _)) (overlay_whole YS z2 _ _)

theorem run_middle (hT : ∀ j, (I.T j : BitVec 32).toNat < 2048) (s : Kept F)
    (hK : St c M R I (stepped I i N s).O (stepped I i N s).XS (stepped I i N s).YS ⊢ Q ⟨⟩) :
    St c M R I s.O s.XS s.YS ⊢ Run D c (middle i M.a2 M.a3 M.a4 M.a11 M.a12 M.a13 M.a6 M.a7 M.a8 M.a9 E) Q := by
  refine own_load c (St_XS c M R I _ _ _) rfl ?_
  rw [ld_whole s.XS (by decide)]
  have e : part (256 - 256) (fetched I.T I.H (nx i)) s.XS = s.XS := part_none _ _
  refine BIBase.Entails.trans (Entails.of_eq (by rw [e])) (run_gather2 (XS := s.XS) c M R I i hT ?_ 256 (Nat.le_refl _))
  refine run_scatter1 c M R I i hT ?_ 64 (Nat.le_refl _)
  exact run_compute c M R I (run_finish c M R I i hE hT hK)

omit hE in
theorem run_start {K : PgOf nD τ sig Λ₀ F} (hK : St c M R I I.X XS (fun _ => Scalar.ofBits .f32 0x00000000#32) ⊢ Run D c K Q) :
    St c M R I O XS YS ⊢ Run D c (start M.a11 M.a13 M.a5 K) Q := by
  have z3 : ∀ a : Fin 3, (![0, 0, 0] : Fin 3 → ℕ) a = 0 := by decide
  have z2 : ∀ a : Fin 2, (![0, 0] : Fin 2 → ℕ) a = 0 := by decide
  refine own_load c (St_X c M R I _ XS YS) rfl ?_
  refine own_load c (St_O c M R I _ XS YS) rfl ?_
  refine own_store (S' := St c M R I I.X XS YS) c (St_O c M R I _ XS YS).1 ?_ rfl ?_
  · rw [ld_whole I.X z3, shapeCast_shapeCast]
    refine BIBase.Entails.trans (Entails.of_eq ?_) (St_O c M R I _ XS _).2
    exact congrArg (fun Z => iprop(Own c M.a11 Z ∗ _)) (overlay_whole O z3 _ _)
  refine own_load c (St_YS c M R I _ XS YS) rfl ?_
  refine own_store c (St_YS c M R I _ XS YS).1 ?_ rfl hK
  rw [shapeCast_self]
  refine BIBase.Entails.trans (Entails.of_eq ?_) (St_YS c M R I _ XS _).2
  exact congrArg (fun Z => iprop(Own c M.a13 Z ∗ _)) (overlay_whole YS z2 _ _)

omit hE in
/-- The first point of a row: the buffers are opened, then the point goes on as any other. -/
theorem run_opened (hT : ∀ j, (I.T j : BitVec 32).toNat < 2048) (h1 : k0_cond1 i = 1#1) {K : PgOf nD τ sig Λ₀ F}
    (hK : St c M R I I.X (fetched I.T I.H 0) (fun _ => Scalar.ofBits .f32 0x00000000#32) ⊢ Run D c K Q) :
    St c M R I O XS YS ⊢ Run D c (start M.a11 M.a13 M.a5 (gather1 i M.a2 M.a4 M.a12 h1 K 256)) Q := by
  refine run_start c M R I ?_
  have e : part (256 - 256) (fetched I.T I.H 0) XS = XS := part_none _ _
  exact BIBase.Entails.trans (Entails.of_eq (by rw [e])) (run_gather1 (XS := XS) c M R I i hT h1 hK 256 (Nat.le_refl _))

/-- A grid point: the kernel leaves its inputs as they are and the three other buffers as `opened` and `stepped` say. -/
theorem run_moe (hT : ∀ j, (I.T j : BitVec 32).toNat < 2048) (s s' : Kept F) (hs : opened I i s = s')
    (hK : St c M R I (stepped I i N s').O (stepped I i N s').XS (stepped I i N s').YS ⊢ Q ⟨⟩) :
    St c M R I s.O s.XS s.YS ⊢ Run D c (moe i M.a2 M.a3 M.a4 M.a11 M.a12 M.a13 M.a5 M.a6 M.a7 M.a8 M.a9 E) Q := by
  have hm := run_middle c M R I i hE hT s' hK
  unfold moe
  by_cases h1 : k0_cond1 i = 1#1
  · unfold opened at hs
    rw [if_pos h1] at hs
    subst hs
    rw [dif_pos h1]
    exact run_opened c M R I i hT h1 hm
  · unfold opened at hs
    rw [if_neg h1] at hs
    subst hs
    rw [dif_neg h1]
    exact hm

end Cert.Proof.Moe
end
end
-- ==== Proof.Points.lean ====
module

public import proofs.«01_k».proof.Proof.Body

@[expose] public section

set_option maxRecDepth 16384

noncomputable section

namespace Cert.Proof.Moe

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Λ₀ : Labels} {F : FTy → Type} [FloatOps F] [Facts] {D : Defs nD τ sig (Elt F) Λ₀}

local notation "𝕄" => MT nD τ sig Unit (Elt F) ℕ (UR sig nD τ) ℕ

theorem points : grid0.N = 256 := by decide

/-- The grid point numbered `n`. -/
def pt (n : ℕ) : Fin grid0.N := ⟨n % 256, lt_of_lt_of_eq (Nat.mod_lt _ (by decide)) points.symm⟩

theorem pt_val (t : Fin grid0.N) : pt t.val = t := Fin.ext (Nat.mod_eq_of_lt (lt_of_lt_of_eq t.isLt points))

/-- What a layer makes of the result rows at the end of a point. -/
abbrev Ending (F : FTy → Type) := (S1x2048x1024.Idx → Elt F .f32) → S1x2048x1024.Idx → Elt F .f32

variable (I : Fin grid0.N → Ins F) (N : Fin grid0.N → Ending F)

/-- What the result's buffer and the two scratch buffers hold before point `n`, when the inputs hold `I` and the layer's end
    makes `N`. At the first point of a row nothing reads it. -/
def keptOf : ℕ → Kept F
  | 0 => ⟨fun _ => Scalar.ofBits .f32 0x00000000#32, fun _ => (0#32 : BitVec 32), fun _ => Scalar.ofBits .f32 0x00000000#32⟩
  | n + 1 => stepped (I (pt n)) (grid0.coords (pt n)) (N (pt n)) (opened (I (pt n)) (grid0.coords (pt n)) (keptOf n))

theorem keptOf_succ (t : Fin grid0.N) : keptOf I N (t.val + 1) = stepped (I t) (grid0.coords t) (N t) (opened (I t) (grid0.coords t) (keptOf I N t.val)) := by
  show stepped (I (pt t.val)) (grid0.coords (pt t.val)) (N (pt t.val)) _ = _
  rw [pt_val]

theorem first_iff : ∀ t : Fin grid0.N, k0_cond1 (grid0.coords t) = 1#1 ↔ t.val % 16 = 0 := by decide +kernel

omit [Facts] in
theorem opened_first {i : grid0.Coords} (h : k0_cond1 i = 1#1) (I : Ins F) (s s' : Kept F) : opened I i s = opened I i s' := by
  unfold opened; rw [if_pos h, if_pos h]

variable (c : Dev nD) (M : Ms sig) (R : sProp (MT nD τ sig Unit (Elt F) ℕ (UR sig nD τ) ℕ))

/-- The kernel's body at a point. -/
theorem run_at (t : Fin grid0.N) (hT : ∀ j, ((I t).T j : BitVec 32).toNat < 2048) (s : Kept F) (hs : t.val % 16 ≠ 0 → s = keptOf I N t.val)
    {Q : PUnit.{1} → sProp 𝕄} {E : PgOf nD τ sig Λ₀ F} (hE : Makes c M R (I t) D E (N t) Q)
    (hK : St c M R (I t) (keptOf I N (t.val + 1)).O (keptOf I N (t.val + 1)).XS (keptOf I N (t.val + 1)).YS ⊢ Q ⟨⟩) :
    St c M R (I t) s.O s.XS s.YS ⊢ Run D c (moe (grid0.coords t) M.a2 M.a3 M.a4 M.a11 M.a12 M.a13 M.a5 M.a6 M.a7 M.a8 M.a9 E) Q := by
  have e : opened (I t) (grid0.coords t) s = opened (I t) (grid0.coords t) (keptOf I N t.val) := by
    by_cases h : t.val % 16 = 0
    · exact opened_first ((first_iff t).2 h) _ _ _
    · rw [hs h]
  rw [keptOf_succ] at hK
  exact run_moe c M R (I t) (grid0.coords t) hE hT s _ e hK

end Cert.Proof.Moe
end
-- ==== Proof.Same.lean ====
module

public import proofs.«01_k».proof.Proof.Own

@[expose] public section

set_option maxRecDepth 16384

noncomputable section

namespace Cert.Proof.Moe

open Cert.KernelIdeal
open Idealize.ShloMosaic Idealize.SL.Sem
open Cert.KernelIdeal.Facts Cert.KernelIdeal.Shapes1.Facts₀ Cert.KernelIdeal.Shapes2.Facts₀ Cert.KernelIdeal.K0.Facts₀

variable {F : FTy → Type} [FloatOps F] [Facts]

variable (i : grid0.Coords) (arg2 : Memref sig .tc .smem S1x16x256 .i32) (arg3 : Memref sig .tc .smem S1x16x256 .f32)
  (arg4 : Memref sig .tc .vmem S1x2048x512 .i32) (arg11 : Memref sig .tc .vmem S1x2048x1024 .f32)
  (arg12 : Memref sig .tc .vmem S256x512 .i32) (arg13 : Memref sig .tc .vmem S256x1024 .f32)

section
variable (harg2 : arg2.IsWhole) (harg3 : arg3.IsWhole) (harg4 : arg4.IsWhole)
  (arg5 : Memref sig .tc .vmem S1x2048x1024 .f32) (harg5 : arg5.IsWhole) (arg6 : Memref sig .tc .vmem S1x1x1024 .f32) (harg6 : arg6.IsWhole)
  (arg7 : Memref sig .tc .vmem S1x1024x1024 .bf16) (harg7 : arg7.IsWhole) (arg8 : Memref sig .tc .vmem S1x1024x1024 .bf16) (harg8 : arg8.IsWhole)
  (arg9 : Memref sig .tc .vmem S1x1024x1024 .bf16) (harg9 : arg9.IsWhole) (arg10 : Memref sig .tc .vmem S1x1024 .f32) (harg10 : arg10.IsWhole)
  (harg11 : arg11.IsWhole) (harg12 : arg12.IsWhole) (harg13 : arg13.IsWhole)

set_option maxHeartbeats 4000000 in
/-- The kernel, as printed, is the loops over rows and groups of rows. -/
theorem moe_eq : cc0_moe (F := F) i arg2 harg2 arg3 harg3 arg4 harg4 arg5 harg5 arg6 harg6 arg7 harg7 arg8 harg8 arg9 harg9 arg10 harg10 arg11 harg11 arg12 harg12 arg13 harg13
   = moe i arg2 arg3 arg4 arg11 arg12 arg13 arg5 arg6 arg7 arg8 arg9 (norms i arg11 arg10) := by
  apply dite_step (G := fun h1 T => start arg11 arg13 arg5 (gather1 i arg2 arg4 arg12 h1 T 256))
  case hP => exact (congrArg (fun q => Prog.bind q _) (bind_dite _ _ _)).trans ((bind_dite _ _ _).trans rfl)
  case hB => exact rfl
  case hA =>
    intro h1
    refine start_congr (K' := _) _ _ _ rfl ?_
    iterate 256 refine gather1_succ _ _ _ _ rfl ?_
    exact rfl
  case hT =>
    refine load_congr rfl fun v => ?_
    iterate 256 refine gather2_succ _ _ _ _ rfl ?_
    iterate 64 refine scatter1_succ _ _ _ _ _ rfl ?_
    refine load_congr rfl fun w1 => ?_
    refine load_congr rfl fun w3 => ?_
    refine load_congr rfl fun w2 => ?_
    refine load_congr rfl fun g2 => ?_
    refine load_congr rfl fun _ => ?_
    refine load_congr rfl fun _ => ?_
    apply dite_step (G := fun h2 T => scatter2 i arg2 arg3 arg11 arg13 h2 T 64)
    case hP => exact (bind_dite _ _ _).trans rfl
    case hB => exact rfl
    case hA =>
      intro h2
      iterate 64 refine scatter2_succ _ _ _ _ _ rfl ?_
      exact rfl
    case hT => exact rfl

end
end Cert.Proof.Moe
end
end
-- ==== Proof.Run.lean ====
module

public import proofs.«01_k».proof.Proof.Points
public import proofs.«01_k».proof.Proof.Same
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the eight input buffers that every layer has hold at point `t`: their arrays' blocks there. -/
def ins (t : Fin cfg0.N) : Ins F :=
  ⟨iblk m c 0 t, iblk m c 1 t, iblk m c 2 t, iblk m c 3 t, iblk m c 4 t, iblk m c 5 t, iblk m c 6 t, iblk m c 7 t⟩

/-- What the last layer makes of the result rows at point `t`: at a sample's last point, normalised by the scale. -/
def normed_at (t : Fin cfg0.N) : Ending F := lastNormed (grid0.coords t) (iblk m c 8 t)

/-- What the result's buffer and the two scratch buffers hold before point `n`. -/
def kept : ℕ → Kept F := keptOf (ins m c) (normed_at m c)

/-- Between points: the scratch buffers, as `kept` says except before the first point of a row, and the generator's register. -/
def between (n : ℕ) : sProp 𝕄 :=
  iprop((∃ s : Kept F, ⌜n % 16 ≠ 0 → s.XS = (kept m c n).XS ∧ s.YS = (kept m c n).YS⌝
    ∗ Own c (Memref.whole cc0_scratch0) s.XS ∗ Own c (Memref.whole cc0_scratch1) s.YS) ∗ ∃ r, prngReg c r)

/-- The proof data: inputs stay, the result's buffer as `kept` says after the point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t | ⟨8, _⟩ => iblk m c 8 t
    | ⟨9, _⟩ => (kept m c (t.val + 1)).O
  Φ t := between m c t.val
  q _ := fullShare
  owed _ := 0

theorem A_eq (w) : (dats m 0 c).A w = V m c (Pipeline.arrRef spec0 w) := by dsimp only [dats]

theorem between_start (t : Fin cfg0.N) : (dats m 0 c).Φ t.castSucc = between m c t.val := by
  dsimp only [dats]; exact Pipeline.Dat.Φ_castSucc (fun n _ => between m c n) t

theorem between_end (t : Fin cfg0.N) : (dats m 0 c).Φ t.succ = between m c (t.val + 1) := by
  dsimp only [dats]; rw [Fin.val_succ]

/-- After the first point of a row the result's buffer holds what the point before left. -/
theorem before_result (t : Fin cfg0.N) (ht : t.val % 16 ≠ 0) (d) : (dats m 0 c).before 9 t d = (kept m c t.val).O := by
  have h0 : t.val ≠ 0 := fun h => ht (by rw [h])
  have hf : (cfg0.win 9).fetch t = false := rfl
  rw [Dat.before_of_pos _ 9 t h0 hf]
  have hfl : ¬ (cfg0.win 9).flush ⟨t.val - 1, Nat.lt_of_le_of_lt (Nat.sub_le _ _) t.isLt⟩ = true := by
    rw [flush0_9]; show ¬ (t.val - 1) % 16 = 15; omega
  rw [if_neg hfl]
  have e : (t.val - 1) + 1 = t.val := by omega
  show (kept m c ((t.val - 1) + 1)).O = _
  rw [e]

/-- The point's buffers that every layer has. -/
def bufs (t : Fin cfg0.N) : Ms sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_9.stage (cfg0.slots t 9), Memref.whole cc0_scratch0, Memref.whole cc0_scratch1⟩

/-- The point's buffer of the scale, held. -/
def scale (t : Fin cfg0.N) : sProp 𝕄 := Own c (win0_8.stage (cfg0.slots t 8)) (iblk m c 8 t)

/-- The kernel's body at a point, from what the pipeline hands it. -/
theorem run_point (hT : ∀ t j, ((ins m c t).T j : BitVec 32).toNat < 2048) (t : Fin cfg0.N) (s : Kept F)
    (hs : t.val % 16 ≠ 0 → s = kept m c t.val) {Q : PUnit.{1} → sProp 𝕄}
    (hK : St c (bufs t) (scale m c t) (ins m c t) (kept m c (t.val + 1)).O (kept m c (t.val + 1)).XS (kept m c (t.val + 1)).YS ⊢ Q ⟨⟩) :
    St c (bufs t) (scale m c t) (ins m c t) s.O s.XS s.YS ⊢ Run defs₀ c (bodyAt0 t) Q := by
  unfold bodyAt0
  rw [moe_eq]
  exact run_at (ins m c) (normed_at m c) c (bufs t) (scale m c t) t (hT t) s hs (fun _ _ _ h => run_norms c (bufs t) (ins m c t) (grid0.coords t) _ _ h) hK

/-- The same with what is to follow. -/
theorem run_then (hT : ∀ t j, ((ins m c t).T j : BitVec 32).toNat < 2048) (t : Fin cfg0.N) (s : Kept F)
    (hs : t.val % 16 ≠ 0 → s = kept m c t.val) {Q : PUnit.{1} → sProp 𝕄} :
    iprop(St c (bufs t) (scale m c t) (ins m c t) s.O s.XS s.YS ∗ (St c (bufs t) (scale m c t) (ins m c t) (kept m c (t.val + 1)).O (kept m c (t.val + 1)).XS (kept m c (t.val + 1)).YS -∗ Q ⟨⟩))
      ⊢ Run defs₀ c (bodyAt0 t) Q :=
  (BI.Laws.sep_mono_left (Q := iprop(St c (bufs t) (scale m c t) (ins m c t) (kept m c (t.val + 1)).O (kept m c (t.val + 1)).XS (kept m c (t.val + 1)).YS -∗ Q ⟨⟩))
    (run_point m c hT t s hs (Q := fun _ => St c (bufs t) (scale m c t) (ins m c t) (kept m c (t.val + 1)).O (kept m c (t.val + 1)).XS (kept m c (t.val + 1)).YS)
      Entails.rfl)).trans ((wp_frame_r _ _ _).trans (wp_mono _ _ _ fun ⟨⟩ => by iintro ⟨H, HQ⟩; iapply HQ; iexact H))

/-- The pipeline's obligation for the kernel's body. -/
theorem body (hT : ∀ t j, ((ins m c t).T j : BitVec 32).toNat < 2048) : Pipeline.BodyObligation (dats m 0 c) defs₀ Variants.none () Set.univ := fun t => by
  rw [bigSep_W0, bigSep_W0]
  dsimp only
  rw [between_start, between_end]
  unfold Dat.owesAt Pipeline.owesWithin
  rw [show (dats m 0 c).owed t.castSucc = 0 from rfl, show (dats m 0 c).owed t.succ = 0 from rfl]
  unfold between
  iintro ⟨⟨⟨%s, %hs, HXS, HYS⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl),
    before0_6_of m (dats m 0 c) (A_eq m c 6) (fun _ => rfl), before0_7_of m (dats m 0 c) (A_eq m c 7) (fun _ => rfl),
    before0_8_of m (dats m 0 c) (A_eq m c 8) (fun _ => rfl)]
  have hall : t.val % 16 ≠ 0 → (⟨(dats m 0 c).before 9 t d9, s.XS, s.YS⟩ : Kept F) = kept m c t.val := fun h => by
    rw [before_result m c t h d9, (hs h).1, (hs h).2]
  iapply (run_then m c hT t ⟨(dats m 0 c).before 9 t d9, s.XS, s.YS⟩ hall)
  isplitl [H0 H1 H2 H3 H4 H5 H6 H7 H8 H9 HXS HYS]
  · unfold St scale
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HXS]; · iexact HXS
    iexact HYS
  unfold St scale
  iintro ⟨H0, H1, H2, H3, H4, H5, H6, H7, H8, H9, HXS, HYS⟩
  isplitl [HXS HYS HR]
  · isplitl [HXS HYS]
    · iexists (kept m c (t.val + 1))
      isplitr; · ipureintro; exact fun _ => ⟨rfl, rfl⟩
      isplitl [HXS]; · iexact HXS
      iexact HYS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- Before the first point the scratch buffers hold anything. -/
theorem enter : Pipeline.ΦA (Val := Elt F) spec0 c ⊢ (dats m 0 c).Φ 0 := by
  rw [show (dats m 0 c).Φ 0 = between m c 0 from rfl]
  unfold between Pipeline.ΦA
  rw [scopedRest0_eq]
  iintro ⟨⟨⟨%f0, H0⟩, ⟨%f1, H1⟩⟩, HR⟩
  isplitl [H0 H1]
  · iexists (⟨(kept m c 0).O, f0, f1⟩ : Kept F)
    isplitr; · ipureintro; exact fun h => absurd rfl h
    unfold Own
    rw [owns_whole, owns_whole]
    isplitl [H0]; · iexact H0
    iexact H1
  iexact HR

/-- After the last point they are given back. -/
theorem leave : (dats m 0 c).Φ (Fin.last cfg0.N) ⊢ Pipeline.ΦA (Val := Elt F) spec0 c := by
  rw [show (dats m 0 c).Φ (Fin.last cfg0.N) = between m c cfg0.N from rfl]
  unfold between Pipeline.ΦA
  rw [scopedRest0_eq]
  simp only [Own, owns_whole]
  iintro ⟨⟨%s, -, H0, H1⟩, HR⟩
  isplitl [H0 H1]
  · isplitl [H0]
    · iexists _; iexact H0
    iexists _; iexact H1
  iexact HR

/-- What a run of the kernel ends with: the arguments as they were, the result at what the pipeline wrote back, every counter at zero. -/
def Ends (r : PUnit.{1} × MemSt nD τ sig (Elt F)) : Prop :=
  (∀ c : Dev nD, r.2.mem ((c.tc : Thread nD τ).loc main_v1) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) ∧ r.2.sem = fun _ => 0

/-- The kernel runs, whatever the floats are, from rows that lie in range. -/
theorem run_main (hT : ∀ c t j, ((ins m c t).T j : BitVec 32).toNat < 2048) :
    θ_run defs (onTc (τ := τ) (main (F := F))) ⟨m, fun _ => 0, ρ⟩ (Ends m) :=
  Pipeline.θ_run_frame_track cfgs (dats m) 0 launch0 defs₀ Variants.none m ρ main (fun c => (body m c (hT c)).loose) (fun _ w => by fin_cases w <;> rfl) (fun _ _ => rfl)
    (V m) (hmain m Variants.none) (A_eq m) (enter m) (leave m) (Ends m) fun r h =>
      ⟨fun c => ⟨(h.1 c).1 9, ((h.1 c).1 2).trans (((dats m 0 c).arrAt_in 2 rfl _).trans ((A_eq m c 2).trans (V_main_arg0 m c))),
        ((h.1 c).1 0).trans (((dats m 0 c).arrAt_in 0 rfl _).trans ((A_eq m c 0).trans (V_main_arg1 m c))),
        ((h.1 c).1 1).trans (((dats m 0 c).arrAt_in 1 rfl _).trans ((A_eq m c 1).trans (V_main_arg2 m c))),
        ((h.1 c).1 3).trans (((dats m 0 c).arrAt_in 3 rfl _).trans ((A_eq m c 3).trans (V_main_arg3 m c))),
        ((h.1 c).1 4).trans (((dats m 0 c).arrAt_in 4 rfl _).trans ((A_eq m c 4).trans (V_main_arg4 m c))),
        ((h.1 c).1 5).trans (((dats m 0 c).arrAt_in 5 rfl _).trans ((A_eq m c 5).trans (V_main_arg5 m c))),
        ((h.1 c).1 6).trans (((dats m 0 c).arrAt_in 6 rfl _).trans ((A_eq m c 6).trans (V_main_arg6 m c))),
        ((h.1 c).1 7).trans (((dats m 0 c).arrAt_in 7 rfl _).trans ((A_eq m c 7).trans (V_main_arg7 m c))),
        ((h.1 c).2 main_arg8 (Pipeline.mem_restRefs_of main_arg8 (by decide) (by decide))).trans (V_main_arg8 m c)⟩, h.2⟩

/-- The tables' words at a point are words of the table's array. -/
theorem rows_of (h : ∀ (c : Dev nD) j, (m ((c.tc : Thread nD τ).loc main_arg1) j : BitVec 32).toNat < 2048) : ∀ c t j, ((ins m c t).T j : BitVec 32).toNat < 2048 := fun c t j => by
  show (V m c main_arg1 _ : BitVec 32).toNat < 2048
  rw [V_main_arg1]
  exact h c _

end Cert.Proof.Moe
end
-- ==== Proof.Bits.lean ====
module

public import proofs.«01_k».proof.Proof.Same
public import proofs.«01_k».proof.Proof.SameBits

@[expose] public section

set_option maxRecDepth 16384

noncomputable section

namespace Cert.Proof.Moe

open Idealize.ShloMosaic Idealize.ShloMosaic.TcCoe
open Idealize.SL Idealize.SL.Sem

variable {F : FTy → Type} [FloatOps F] [Cert.Kernel.Facts] [Cert.KernelIdeal.Facts]

/-- The two programs' kernel bodies run the same program for every label. -/
theorem bodies_eq : Cert.Kernel.defs₀ (F := F) = Cert.KernelIdeal.defs₀ (F := F) := by
  refine congrArg Defs.onTc ?_
  funext l a
  match l, a with
  | 0, (t, s) => exact (bits_eq ..).trans (Eq.trans rfl (moe_eq ..).symm)
  | ⟨_ + 1, h⟩, _ => exact absurd h (Nat.not_lt.2 (Nat.le_add_left _ _))

/-- The two programs have the same body table. -/
theorem defs_eq : Cert.Kernel.defs (F := F) = Cert.KernelIdeal.defs (F := F) :=
  congrArg (Pipeline.defs Cert.KernelIdeal.pcfgs) bodies_eq

/-- The two programs have the same host code. -/
theorem main_eq : Cert.Kernel.main (F := F) = Cert.KernelIdeal.main (F := F) := rfl

end Cert.Proof.Moe
end
-- ==== Proof.Range.lean ====
module

public import proofs.«01_k».proof.Proof.State
public import proofs.«01_k».proof.Proof.Gen.Pre_rows_in_range
public import proofs.«01_k».proof.Proof.Gen.Pre_rows_distinct_and_finite

@[expose] public section

set_option maxRecDepth 16384

noncomputable section

namespace Cert.Proof.Moe

open Idealize.ShloMosaic

variable {F : FTy → Type} [FloatOps F]

/-- A word between zero and 2048, signed, is less than 2048. -/
theorem word_range (v : BitVec 32) (h : BitVec.ofBool (BitVec.sle 0#32 v) &&& BitVec.ofBool (BitVec.slt v 2048#32) = 1#1) : v.toNat < 2048 := by
  have h1 : BitVec.sle 0#32 v = true := by
    cases e : BitVec.sle 0#32 v with
    | true => rfl
    | false => rw [e] at h; cases e' : BitVec.slt v 2048#32 <;> rw [e'] at h <;> exact absurd h (by decide)
  have h2 : BitVec.slt v 2048#32 = true := by
    cases e : BitVec.slt v 2048#32 with
    | true => rfl
    | false => rw [e, h1] at h; exact absurd h (by decide)
  rw [BitVec.sle, decide_eq_true_eq] at h1
  rw [BitVec.slt, decide_eq_true_eq] at h2
  have e2 : (2048#32 : BitVec 32).toInt = 2048 := by decide
  have e0 : (0#32 : BitVec 32).toInt = 0 := by decide
  rw [e2] at h2
  rw [e0] at h1
  rw [BitVec.toInt_eq_toNat_cond] at h1 h2
  split at h1 <;> omega

/-- `rows_in_range` read at one word of the table. -/
theorem in_range {a0 a1 a2 a3 a4 a5 a6 a7 a8} (h : Cert.Pre_rows_in_range.fn (F := F) a0 a1 a2 a3 a4 a5 a6 a7 a8 = fun _ => 1#1) (j) :
    (a1 j : BitVec 32).toNat < 2048 := word_range _ (congrFun h j)

/-- `rows_distinct_and_finite`, its first part, read at one word of the table. -/
theorem in_range' {a0 a1 a2 a3 a4 a5 a6 a7 a8} (h : (Cert.Pre_rows_distinct_and_finite.fn (F := F) a0 a1 a2 a3 a4 a5 a6 a7 a8).1 = fun _ => 1#1) (j) :
    (a1 j : BitVec 32).toNat < 2048 := word_range _ (congrFun h j)

end Cert.Proof.Moe
end
-- ==== Proof.Frames.lean ====
module

public import proofs.«01_k».proof.Proof.Run
public import proofs.«01_k».proof.Proof.Bits
public import proofs.«01_k».proof.Proof.Range
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_rows_in_range
public import proofs.«01_k».proof.Proof.Gen.Pre_rows_distinct_and_finite

@[expose] public section

set_option maxRecDepth 16384

noncomputable section

namespace Cert.Proof.Moe

open Idealize.ShloMosaic Idealize.ShloMosaic.TcCoe
open Idealize.SL Idealize.SL.Sem

variable {F : FTy → Type} [FloatOps F]

/-- Every run from rows in range ends with the operands as they were and no signal left over. -/
theorem run_keeps (m : (ℓ : Loc KernelIdeal.nD KernelIdeal.τ KernelIdeal.sig) → Buf (Elt F) ℓ) (ρ : Dev KernelIdeal.nD → PrngReg)
    (h : ∀ (c : Dev KernelIdeal.nD) j, (m (c.tc.loc KernelIdeal.main_arg1) j : BitVec 32).toNat < 2048) :
    θ_run (KernelIdeal.defs (F := F)) (onTc (τ := KernelIdeal.τ) (KernelIdeal.main (F := F))) ⟨m, fun _ => 0, ρ⟩ (fun r => (∀ c : Dev KernelIdeal.nD,
    r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3)
    ∧ r.2.mem ((c.tc : Thread KernelIdeal.nD KernelIdeal.τ).loc KernelIdeal.main_arg4) = m ((c.tc : Thread KernelIdeal.nD KernelIdeal.τ).loc KernelIdeal.main_arg4)
    ∧ r.2.mem ((c.tc : Thread KernelIdeal.nD KernelIdeal.τ).loc KernelIdeal.main_arg5) = m ((c.tc : Thread KernelIdeal.nD KernelIdeal.τ).loc KernelIdeal.main_arg5)
    ∧ r.2.mem ((c.tc : Thread KernelIdeal.nD KernelIdeal.τ).loc KernelIdeal.main_arg6) = m ((c.tc : Thread KernelIdeal.nD KernelIdeal.τ).loc KernelIdeal.main_arg6)
    ∧ r.2.mem ((c.tc : Thread KernelIdeal.nD KernelIdeal.τ).loc KernelIdeal.main_arg7) = m ((c.tc : Thread KernelIdeal.nD KernelIdeal.τ).loc KernelIdeal.main_arg7)
    ∧ r.2.mem ((c.tc : Thread KernelIdeal.nD KernelIdeal.τ).loc KernelIdeal.main_arg8) = m ((c.tc : Thread KernelIdeal.nD KernelIdeal.τ).loc KernelIdeal.main_arg8))
    ∧ r.2.sem = fun _ => 0) :=
  (θ_run KernelIdeal.defs _ _).mono (fun _ h => ⟨fun c => (h.1 c).2, h.2⟩) (run_main m ρ (rows_of m h))

/-- The kernel terminates from rows in range, leaves its operands and every signal at zero: the run above over bits, whose
    body table is the kernel's. -/
theorem frame_kernel : Cert.quiescent_Kernel := fun m ρ h =>
  have key : ∀ D, D = KernelIdeal.defs (F := Bits) → θ_run D (onTc (τ := KernelIdeal.τ) (KernelIdeal.main (F := Bits))) ⟨m, fun _ => 0, ρ⟩ _ := by
    rintro _ rfl; exact run_keeps m ρ fun c j => in_range (h c) j
  key _ defs_eq

/-- The same of the kernel over the extended reals. -/
theorem frame_kernelIdeal : Cert.quiescent_KernelIdeal := fun m ρ h => run_keeps m ρ fun c j => in_range (h c) j

/-- The same under the second condition, which asks for more. -/
theorem frame_kernelIdeal' : Cert.quiescent_KernelIdeal_pre_rows_distinct_and_finite := fun m ρ h =>
  run_keeps m ρ fun c j => in_range' (h c).1 j

/-- The reference terminates, leaves its operands, and has no signals. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same under the second condition. -/
theorem frame_reference' : Cert.quiescent_ReferenceIdeal_pre_rows_distinct_and_finite := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Moe
end
-- ==== Proof.Value.Sums.lean ====
module

public import proofs.«01_k».proof.Proof.Body
public import Idealize.ShloMosaic.Lib.Pointwise

@[expose] public section

set_option maxRecDepth 16384

noncomputable section

namespace Cert.Proof.Moe

open Cert.KernelIdeal
open Idealize.ShloMosaic

variable (T : S1x16x256.Idx → BitVec 32) (G : S1x16x256.Idx → Ideal .f32) (live : Ideal .f32) (e : Fin 16) (Y : S256x1024.Idx → Ideal .f32)

/-- What slot `c` of expert `e` adds to row `r` at column `d`: its gated result where it names that row, nothing elsewhere. -/
def adds (r : Fin 2048) (d : Fin 1024) (c : Fin 256) : EReal :=
  if rowN (T (ix3 0 e c)) = r then (G (ix3 0 e c) * live) * Y (ix2 c d) else 0

theorem put1_apply (O : S1x2048x1024.Idx → Ideal .f32) (c : ℕ) (O' : S1x2048x1024.Idx → Ideal .f32) (r : Fin 2048) (d : Fin 1024) :
    put1 T G live e Y O c O' (ix3 0 r d) =
      if rowN (T (ix3 0 e (slot c))) = r then O (ix3 0 r d) + adds T G live e Y r d (slot c) else O' (ix3 0 r d) := by
  by_cases h : rowN (T (ix3 0 e (slot c))) = r
  · subst h
    rw [if_pos rfl, adds, if_pos rfl, put1, putR]
    exact if_pos rfl
  · rw [if_neg h, put1, putR]
    exact if_neg fun h' => h (Fin.ext h').symm

/-- Four sums formed from the same rows, stored one after another, add up where the four slots name four rows. -/
theorem put4_apply (O : S1x2048x1024.Idx → Ideal .f32) (c : ℕ) (r : Fin 2048) (d : Fin 1024)
    (h : ∀ i j : ℕ, i < j → j < 4 → rowN (T (ix3 0 e (slot (c + i)))) ≠ rowN (T (ix3 0 e (slot (c + j))))) :
    put4 T G live e Y c O (ix3 0 r d) = O (ix3 0 r d) + ∑ i ∈ Finset.range 4, adds T G live e Y r d (slot (c + i)) := by
  have z : ∀ i, rowN (T (ix3 0 e (slot (c + i)))) ≠ r → adds T G live e Y r d (slot (c + i)) = 0 := fun i hi => if_neg hi
  have one : ∀ i, i < 4 → rowN (T (ix3 0 e (slot (c + i)))) = r → ∀ j, j < 4 → j ≠ i → adds T G live e Y r d (slot (c + j)) = 0 := by
    intro i hi hr j hj hne
    refine z j fun hj' => ?_
    rcases Nat.lt_or_gt_of_ne hne with hl | hl
    · exact h j i hl hi (hj'.trans hr.symm)
    · exact h i j hl hj (hr.trans hj'.symm)
  have all : ∀ i, i < 4 → rowN (T (ix3 0 e (slot (c + i)))) = r →
      ∑ i ∈ Finset.range 4, adds T G live e Y r d (slot (c + i)) = adds T G live e Y r d (slot (c + i)) := by
    intro i hi hr
    exact Finset.sum_eq_single i (fun j hj hne => one i hi hr j (Finset.mem_range.mp hj) hne) fun hn => absurd (Finset.mem_range.mpr hi) hn
  unfold put4
  rw [put1_apply]
  split
  · rename_i hr; rw [all 3 (by omega) hr]
  rename_i h3
  rw [put1_apply]
  split
  · rename_i hr; rw [all 2 (by omega) hr]
  rename_i h2
  rw [put1_apply]
  split
  · rename_i hr; rw [all 1 (by omega) hr]
  rename_i h1
  rw [put1_apply]
  split
  · rename_i hr; rw [all 0 (by omega) hr]; rfl
  rename_i h0
  rw [Finset.sum_eq_zero, add_zero]
  intro i hi
  have := Finset.mem_range.mp hi
  interval_cases i
  · exact z 0 h0
  · exact z 1 h1
  · exact z 2 h2
  · exact z 3 h3

/-- The rows named by each group of four slots of expert `e` are four. -/
def Distinct4 : Prop := ∀ n : ℕ, n < 64 → ∀ i j : ℕ, i < j → j < 4 → rowN (T (ix3 0 e (slot (4 * n + i)))) ≠ rowN (T (ix3 0 e (slot (4 * n + j))))

variable {T e} in
theorem added_range (hd : Distinct4 T e) (O : S1x2048x1024.Idx → Ideal .f32) (r : Fin 2048) (d : Fin 1024) : ∀ n, n ≤ 64 →
    added T G live e Y O n (ix3 0 r d) = O (ix3 0 r d) + ∑ i ∈ Finset.range (4 * n), adds T G live e Y r d (slot i)
  | 0, _ => by rw [Finset.range_zero, Finset.sum_empty, add_zero]; rfl
  | n + 1, hn => by
    rw [added, put4_apply _ _ _ _ _ _ _ _ _ (hd n (by omega)), added_range hd O r d n (by omega), add_assoc, Nat.mul_succ, Finset.sum_range_add]

variable {T e} in
/-- An expert's sixty-four groups add each slot's gated result to its row. -/
theorem added_apply (hd : Distinct4 T e) (O : S1x2048x1024.Idx → Ideal .f32) (r : Fin 2048) (d : Fin 1024) :
    added T G live e Y O 64 (ix3 0 r d) = O (ix3 0 r d) + ∑ c : Fin 256, adds T G live e Y r d c := by
  rw [added_range G live Y hd O r d 64 le_rfl, Finset.sum_range]
  exact congrArg _ (Finset.sum_congr rfl fun c _ => by rw [show slot c.val = c from Fin.ext (slot_val c.isLt)])

/-- Nothing is added where the results are zero. -/
theorem adds_zero (r : Fin 2048) (d : Fin 1024) (c : Fin 256) (h : Y (ix2 c d) = 0) : adds T G live e Y r d c = 0 := by
  rw [adds, h, mul_zero, ite_self]

end Cert.Proof.Moe
end
-- ==== Proof.Value.Expert.lean ====
module

public import proofs.«01_k».proof.Proof.Value.Sums
public import Idealize.ShloMosaic.Lib.IdealHost

@[expose] public section

set_option maxRecDepth 16384

noncomputable section

namespace Cert.Proof.Moe

open Cert.KernelIdeal
open Idealize.ShloMosaic
open Cert.KernelIdeal.Facts Cert.KernelIdeal.Shapes1.Facts₀ Cert.KernelIdeal.Shapes2.Facts₀ Cert.KernelIdeal.K0.Facts₀

/-- The number in a word's half: the low half or the high half, a bf16 pattern each. -/
def half (v : BitVec 32) (i : ℕ) : EReal := Ideal.ofBits .bf16 (v.extractLsb' (i * 16) 16)

/-- Feature `k` of the packed row `w`: the low halves are the first 512, the high halves the others. -/
def feat (w : Fin 512 → BitVec 32) (k : Fin 1024) : EReal :=
  if h : k.val < 512 then half (w ⟨k.val, h⟩) 0 else half (w ⟨k.val - 512, by omega⟩) 1

/-- The two layers of an expert at one row of features: `w1`, `w3` and `w2` its weights, each by row and column. -/
def hidden (x : Fin 1024 → EReal) (w1 w3 : Fin 1024 → Fin 1024 → EReal) (f : Fin 1024) : EReal :=
  ((∑ k, x k * w1 k f) * Ideal.logistic (∑ k, x k * w1 k f)) * (∑ k, x k * w3 k f)

def layer (x : Fin 1024 → EReal) (w1 w3 w2 : Fin 1024 → Fin 1024 → EReal) (d : Fin 1024) : EReal :=
  ∑ f, hidden x w1 w3 f * w2 f d

variable [Facts]

theorem unpacked_apply (v : S256x512.Idx → BitVec 32) (c : Fin 256) (k : Fin 1024) :
    unpacked (F := Ideal) v (ix2 c k) = feat (fun j => v (ix2 c j)) k := by
  unfold unpacked feat half
  pointwise

theorem expert_apply (x : FVec Ideal S256x1024 .bf16) (w1 w3 w2 : Vec Ideal S1x1024x1024 .bf16) (g2 : Vec Ideal S1x1x1024 .f32) (c : Fin 256) (d : Fin 1024) :
    expert x w1 w3 w2 g2 (ix2 c d) =
      layer (fun k => x (ix2 c k)) (fun k f => w1 (ix3 0 k f)) (fun k f => w3 (ix3 0 k f)) (fun f d => w2 (ix3 0 f d)) d * g2 (ix3 0 0 d) := by
  unfold layer hidden
  pointwise [expert]

/-- A row divided by the root of its mean square and scaled. -/
def rms (o g : Fin 1024 → EReal) (d : Fin 1024) : EReal :=
  o d * Ideal.rsqrt (Ideal.div (∑ k, o k * o k) (Ideal.ofBits .f32 0x44800000#32) + Ideal.ofBits .f32 0x358637BD#32) * g d

theorem normed_apply (x : Vec Ideal S1x512x1024 .f32) (fg : Vec Ideal S1x1024 .f32) (r : Fin 512) (d : Fin 1024) :
    normed x fg (ix3 0 r d) = rms (fun k => x (ix3 0 r k)) (fun k => fg (ix2 0 k)) d := by
  unfold rms
  pointwise [normed]

theorem normAll_apply (O : S1x2048x1024.Idx → Ideal .f32) (fg : S1x1024.Idx → Ideal .f32) (r : Fin 2048) (d : Fin 1024) :
    normAll (F := Ideal) O fg (ix3 0 r d) = rms (fun k => O (ix3 0 r k)) (fun k => fg (ix2 0 k)) d := by
  rw [normAll]
  refine (normed_apply _ _ _ _).trans ?_
  have e : ∀ k, slab (F := Ideal) O ⟨r.val / 512, by omega⟩ (ix3 0 ⟨r.val % 512, Nat.mod_lt _ (by decide)⟩ k) = O (ix3 0 r k) := fun k => by
    unfold slab
    congr 2
    exact Fin.ext (Nat.div_add_mod _ _)
  exact congrArg (fun o => rms o (fun k => fg (ix2 0 k)) d) (funext e)

end Cert.Proof.Moe
end
-- ==== Proof.Value.Layer.lean ====
module

public import proofs.«01_k».proof.Proof.Points
public import proofs.«01_k».proof.Proof.Value.Expert

@[expose] public section

set_option maxRecDepth 16384

noncomputable section

namespace Cert.Proof.Moe

open Cert.KernelIdeal
open Idealize.ShloMosaic

theorem all3 {a b : ℕ} {P : (⟨3, ![1, a, b]⟩ : Shape).Idx → Prop} (h : ∀ x y, P (ix3 0 x y)) (j) : P j := by
  have e : j = ix3 0 (j 1) (j 2) := by
    funext k
    match k with
    | 0 => exact Subsingleton.elim (α := Fin 1) _ _
    | 1 => rfl
    | 2 => rfl
  rw [e]
  exact h _ _

/-- The sample of a point and its expert. -/
def sam (t : Fin grid0.N) : Fin 16 := ⟨t.val / 16, by have := t.isLt; have h : grid0.N = 256 := points; omega⟩
def exq (t : Fin grid0.N) : Fin 16 := ⟨t.val % 16, by omega⟩

/-- A point's next and previous expert, the factor of the results of the point before, and the tests of the first and the last point of a sample. -/
theorem nx_eq : ∀ t : Fin grid0.N, t.val % 16 < 15 → (nx (grid0.coords t)).val = t.val % 16 + 1 := (by decide +kernel : ∀ t : Fin grid0.N, _)
theorem pv_eq : ∀ t : Fin grid0.N, (pv (grid0.coords t)).val = t.val % 16 - 1 := (by decide +kernel : ∀ t : Fin grid0.N, _)
theorem last2_iff : ∀ t : Fin grid0.N, k0_cond2 (grid0.coords t) = 1#1 ↔ t.val % 16 = 15 := (by decide +kernel : ∀ t : Fin grid0.N, _)

/-- The operands that every layer has: the packed rows, the rows' numbers, the gates, the residual rows, the scales, the weights. -/
structure Arrs where
  a0 : IVec S16x2048x512 32
  a1 : IVec S16x16x256 32
  a2 : FVec Ideal S16x16x256 .f32
  a3 : FVec Ideal S16x2048x1024 .f32
  a4 : FVec Ideal S144x1x1024 .f32
  a5 : FVec Ideal S16x1024x1024 .bf16
  a6 : FVec Ideal S16x1024x1024 .bf16
  a7 : FVec Ideal S16x1024x1024 .bf16

variable (A : Arrs) (N : Fin grid0.N → Ending Ideal)

/-- The operands, entry by entry. -/
def aH (b : Fin 16) (r : Fin 2048) (j : Fin 512) : BitVec 32 := A.a0 (ix3 b r j)
def aT (b e : Fin 16) (s : Fin 256) : BitVec 32 := A.a1 (ix3 b e s)
def aG (b e : Fin 16) (s : Fin 256) : EReal := A.a2 (ix3 b e s)
def aX (b : Fin 16) (r : Fin 2048) (d : Fin 1024) : EReal := A.a3 (ix3 b r d)
def aM (b : Fin 16) (d : Fin 1024) : EReal := A.a4 (ix3 ⟨6 * b.val + 5, by omega⟩ 0 d)
def aW1 (e : Fin 16) (k f : Fin 1024) : EReal := A.a5 (ix3 e k f)
def aW3 (e : Fin 16) (k f : Fin 1024) : EReal := A.a6 (ix3 e k f)
def aW2 (e : Fin 16) (f d : Fin 1024) : EReal := A.a7 (ix3 e f d)

/-- The blocks of the operands at a point. -/
def Arrs.at (t : Fin grid0.N) : Ins Ideal where
  T j := A.a1 (ix3 (sam t) (j 1) (j 2))
  G j := A.a2 (ix3 (sam t) (j 1) (j 2))
  H j := A.a0 (ix3 (sam t) (j 1) (j 2))
  X j := A.a3 (ix3 (sam t) (j 1) (j 2))
  g2 j := A.a4 (ix3 ⟨6 * (sam t).val + 5, by omega⟩ 0 (j 2))
  w1 j := A.a5 (ix3 (exq t) (j 1) (j 2))
  w3 j := A.a6 (ix3 (exq t) (j 1) (j 2))
  w2 j := A.a7 (ix3 (exq t) (j 1) (j 2))

/-- The rows and gates are the same at every point of a sample. -/
theorem at_T (t t' : Fin grid0.N) (h : sam t = sam t') : (A.at t).T = (A.at t').T := congrArg (fun (b : Fin 16) (j : S1x16x256.Idx) => A.a1 (ix3 b (j 1) (j 2))) h
theorem at_G (t t' : Fin grid0.N) (h : sam t = sam t') : (A.at t).G = (A.at t').G := congrArg (fun (b : Fin 16) (j : S1x16x256.Idx) => A.a2 (ix3 b (j 1) (j 2))) h
theorem at_H (t t' : Fin grid0.N) (h : sam t = sam t') : (A.at t).H = (A.at t').H := congrArg (fun (b : Fin 16) (j : S1x2048x512.Idx) => A.a0 (ix3 b (j 1) (j 2))) h

/-- Buffers that hold a point's blocks, entry by entry, hold what `Arrs.at` says. -/
theorem at_eq (I : Ins Ideal) (t : Fin grid0.N) (hT : ∀ e s, I.T (ix3 0 e s) = A.a1 (ix3 (sam t) e s)) (hG : ∀ e s, I.G (ix3 0 e s) = A.a2 (ix3 (sam t) e s))
    (hH : ∀ r d, I.H (ix3 0 r d) = A.a0 (ix3 (sam t) r d)) (hX : ∀ r d, I.X (ix3 0 r d) = A.a3 (ix3 (sam t) r d))
    (hg : ∀ d, I.g2 (ix3 0 0 d) = A.a4 (ix3 ⟨6 * (sam t).val + 5, by omega⟩ 0 d)) (h1 : ∀ k f, I.w1 (ix3 0 k f) = A.a5 (ix3 (exq t) k f))
    (h3 : ∀ k f, I.w3 (ix3 0 k f) = A.a6 (ix3 (exq t) k f)) (h2 : ∀ k f, I.w2 (ix3 0 k f) = A.a7 (ix3 (exq t) k f)) : I = A.at t := by
  obtain ⟨T, G, H, X, g2, w1, w3, w2⟩ := I
  obtain rfl : T = (A.at t).T := funext (all3 (P := fun j => T j = (A.at t).T j) hT)
  obtain rfl : G = (A.at t).G := funext (all3 (P := fun j => G j = (A.at t).G j) hG)
  obtain rfl : H = (A.at t).H := funext (all3 (P := fun j => H j = (A.at t).H j) hH)
  obtain rfl : X = (A.at t).X := funext (all3 (P := fun j => X j = (A.at t).X j) hX)
  obtain rfl : g2 = (A.at t).g2 := funext (all3 (P := fun j => g2 j = (A.at t).g2 j) fun x y => by obtain rfl : x = 0 := Subsingleton.elim (α := Fin 1) _ _; exact hg y)
  obtain rfl : w1 = (A.at t).w1 := funext (all3 (P := fun j => w1 j = (A.at t).w1 j) h1)
  obtain rfl : w3 = (A.at t).w3 := funext (all3 (P := fun j => w3 j = (A.at t).w3 j) h3)
  obtain rfl : w2 = (A.at t).w2 := funext (all3 (P := fun j => w2 j = (A.at t).w2 j) h2)
  rfl

/-- The point of sample `b` and expert `e`. -/
def at_ (b e : Fin 16) : Fin grid0.N := ⟨16 * b.val + e.val, by have h : grid0.N = 256 := points; omega⟩

theorem sam_at (b e : Fin 16) : sam (at_ b e) = b := Fin.ext (by show (16 * b.val + e.val) / 16 = b.val; omega)
theorem exq_at (b e : Fin 16) : exq (at_ b e) = e := Fin.ext (by show (16 * b.val + e.val) % 16 = e.val; omega)
theorem mod_at (b e : Fin 16) : (at_ b e).val % 16 = e.val := by show (16 * b.val + e.val) % 16 = e.val; omega

theorem live_zero : ∀ t : Fin grid0.N, t.val % 16 ≠ 0 → liveE (F := Ideal) (grid0.coords t) = Scalar.ofBits .f32 0x3F800000#32 := fun t h => by
  have e : Scalar.cmpi .sgt (BitVec.ofNat 32 (grid0.coords t 1).val) 0#32 = 1#1 :=
    (by decide +kernel : ∀ t : Fin grid0.N, t.val % 16 ≠ 0 → Scalar.cmpi .sgt (BitVec.ofNat 32 (grid0.coords t 1).val) 0#32 = 1#1) t h
  rw [liveE, e]; rfl

/-- A sample's operands at its point of expert `e`. -/
abbrev I_ (b e : Fin 16) : Ins Ideal := A.at (at_ b e)

/-- What the three buffers hold at the point of expert `e`, its start done. -/
def state (b e : Fin 16) : Kept Ideal := opened (I_ A b e) (grid0.coords (at_ b e)) (keptOf A.at N (at_ b e).val)

theorem state_zero (b : Fin 16) : state A N b 0 = ⟨(I_ A b 0).X, fetched (I_ A b 0).T (I_ A b 0).H 0, fun _ => (Scalar.ofBits .f32 0x00000000#32 : Ideal .f32)⟩ :=
  if_pos ((first_iff _).2 (mod_at b 0))

theorem state_succ (b e e' : Fin 16) (h : e'.val = e.val + 1) : state A N b e' = stepped (I_ A b e) (grid0.coords (at_ b e)) (N (at_ b e)) (state A N b e) := by
  unfold state
  rw [← keptOf_succ]
  have hn : ¬ k0_cond1 (grid0.coords (at_ b e')) = 1#1 := fun h' => by
    have := (first_iff _).1 h'; rw [mod_at] at this; omega
  rw [opened, if_neg hn]
  congr 1
  show 16 * b.val + e'.val = 16 * b.val + e.val + 1
  omega

/-- The results of expert `e`. -/
def res (b e : Fin 16) : S256x1024.Idx → Ideal .f32 := results (I_ A b e) (fetched (I_ A b e).T (I_ A b e).H e)

/-- What expert `e` adds to row `r`. -/
def gain (b : Fin 16) (r : Fin 2048) (d : Fin 1024) (e : Fin 16) : EReal :=
  ∑ s : Fin 256, adds (I_ A b e).T (I_ A b e).G (Scalar.ofBits .f32 0x3F800000#32) e (res A b e) r d s

theorem state_XS (b : Fin 16) : ∀ e : Fin 16, (state A N b e).XS = fetched (I_ A b e).T (I_ A b e).H e := by
  intro e
  by_cases h : e = 0
  · subst h; rw [state_zero]
  · have h0 : e.val ≠ 0 := fun h' => h (Fin.ext h')
    have hp : e.val = (⟨e.val - 1, by omega⟩ : Fin 16).val + 1 := by show e.val = e.val - 1 + 1; omega
    rw [state_succ A N b ⟨e.val - 1, by omega⟩ e hp]
    show fetched (I_ A b ⟨e.val - 1, by omega⟩).T (I_ A b ⟨e.val - 1, by omega⟩).H (nx (grid0.coords (at_ b ⟨e.val - 1, by omega⟩))) = _
    rw [show nx (grid0.coords (at_ b ⟨e.val - 1, by omega⟩)) = e from Fin.ext (by
      rw [nx_eq _ (by rw [mod_at]; show e.val - 1 < 15; omega), mod_at]; show e.val - 1 + 1 = e.val; omega),
      at_T A (at_ b ⟨e.val - 1, by omega⟩) (at_ b e) (by rw [sam_at, sam_at]), at_H A (at_ b ⟨e.val - 1, by omega⟩) (at_ b e) (by rw [sam_at, sam_at])]

theorem state_YS (b e e' : Fin 16) (h : e'.val = e.val + 1) : (state A N b e').YS = res A b e := by
  rw [state_succ A N b e e' h]
  show results (I_ A b e) (state A N b e).XS = _
  rw [state_XS, res]

variable {A} in
/-- The rows after the additions at the point of expert `e`: those of the experts before it. -/
theorem added_state (hd : ∀ b e e', Distinct4 (I_ A b e).T e') (b e : Fin 16) (r : Fin 2048) (d : Fin 1024)
    (hO : (state A N b e).O (ix3 0 r d) = aX A b r d + ∑ k : Fin 16, if k.val + 1 < e.val then gain A b r d k else 0) :
    added (F := Ideal) (I_ A b e).T (I_ A b e).G (liveE (grid0.coords (at_ b e))) (pv (grid0.coords (at_ b e))) (state A N b e).YS (state A N b e).O 64 (ix3 0 r d)
      = aX A b r d + ∑ k : Fin 16, if k.val < e.val then gain A b r d k else 0 := by
  rw [added_apply _ _ _ (hd b e _), hO]
  by_cases h : e = 0
  · subst h
    rw [state_zero]
    rw [Finset.sum_eq_zero (s := (Finset.univ : Finset (Fin 256))) fun s _ => adds_zero _ _ _ _ _ _ _ _ ?_, add_zero]
    · rfl
    · show Ideal.ofBits .f32 0x00000000#32 = 0
      simp
  · have h0 : e.val ≠ 0 := fun h' => h (Fin.ext h')
    have hp : e.val = (⟨e.val - 1, by omega⟩ : Fin 16).val + 1 := by show e.val = e.val - 1 + 1; omega
    have ep : pv (grid0.coords (at_ b e)) = ⟨e.val - 1, by omega⟩ := Fin.ext (by rw [pv_eq, mod_at])
    rw [state_YS A N b ⟨e.val - 1, by omega⟩ e hp, live_zero _ (by rw [mod_at]; exact h0), ep,
      at_T A (at_ b e) (at_ b ⟨e.val - 1, by omega⟩) (by rw [sam_at, sam_at]), at_G A (at_ b e) (at_ b ⟨e.val - 1, by omega⟩) (by rw [sam_at, sam_at]),
      add_assoc]
    congr 1
    rw [← gain, ← Fintype.sum_ite_eq (⟨e.val - 1, by omega⟩ : Fin 16) (fun k => gain A b r d k), ← Finset.sum_add_distrib]
    refine Finset.sum_congr rfl fun k _ => ?_
    by_cases h1 : k.val + 1 < e.val
    · rw [if_pos h1, if_neg (fun h' => by have := congrArg Fin.val h'; simp only at this; omega), if_pos (by omega), add_zero]
    · by_cases h2 : k.val < e.val
      · rw [if_neg h1, if_pos (Fin.ext (by show e.val - 1 = k.val; omega)), if_pos h2, zero_add]
      · rw [if_neg h1, if_neg (fun h' => by have := congrArg Fin.val h'; simp only at this; omega), if_neg h2, add_zero]

variable {A} in
theorem state_O {N : Fin grid0.N → Ending Ideal} (hN : ∀ t O, t.val % 16 ≠ 15 → N t O = O) (hd : ∀ b e e', Distinct4 (I_ A b e).T e') (b : Fin 16) (r : Fin 2048) (d : Fin 1024) : ∀ n (h : n < 16),
    (state A N b ⟨n, h⟩).O (ix3 0 r d) = aX A b r d + ∑ k : Fin 16, if k.val + 1 < n then gain A b r d k else 0
  | 0, _ => by
    rw [show (⟨0, by omega⟩ : Fin 16) = 0 from rfl, state_zero]
    simp only [Nat.not_lt_zero, if_false, Finset.sum_const_zero, add_zero]
    show A.a3 (ix3 (sam (at_ b 0)) r d) = _
    rw [sam_at]; rfl
  | n + 1, h => by
    rw [state_succ A N b ⟨n, by omega⟩ ⟨n + 1, h⟩ rfl]
    have e2 : ¬ k0_cond2 (grid0.coords (at_ b ⟨n, by omega⟩)) = 1#1 := fun h' => by
      have := (last2_iff _).1 h'; rw [mod_at] at this; have : n = 15 := this; omega
    rw [stepped]
    dsimp only
    rw [hN _ _ (by rw [mod_at]; show n ≠ 15; omega), lastAdded, if_neg e2, added_state N hd b ⟨n, by omega⟩ r d (state_O hN hd b r d n (by omega))]
    simp only [Nat.add_lt_add_iff_right]

/-- A sample's rows before they are normalised. -/
def summed (b : Fin 16) (r : Fin 2048) (d : Fin 1024) : EReal := aX A b r d + ∑ e : Fin 16, gain A b r d e

variable {A} in
/-- What a sample's last point leaves in the result's buffer. -/
theorem keptOf_last {N : Fin grid0.N → Ending Ideal} (hN : ∀ t O, t.val % 16 ≠ 15 → N t O = O) (hd : ∀ b e e', Distinct4 (I_ A b e).T e') (b : Fin 16) :
    ∃ O : S1x2048x1024.Idx → Ideal .f32, (∀ (r : Fin 2048) (k : Fin 1024), O (ix3 0 r k) = summed A b r k) ∧ (keptOf A.at N ((at_ b 15).val + 1)).O = N (at_ b 15) O := by
  refine ⟨_, fun r k => ?_, by rw [keptOf_succ, stepped]⟩
  rw [lastAdded, if_pos ((last2_iff _).2 (mod_at b 15))]
  rw [added_apply _ _ _ (hd b 15 15)]
  have ha := added_state N hd b 15 r k (state_O hN hd b r k 15 (by omega))
  have hx : results (I_ A b 15) (state A N b 15).XS = res A b 15 := by rw [state_XS, res]
  show added (F := Ideal) (I_ A b 15).T (I_ A b 15).G (liveE (grid0.coords (at_ b 15))) (pv (grid0.coords (at_ b 15))) (state A N b 15).YS (state A N b 15).O 64 (ix3 0 r k)
    + ∑ s : Fin 256, adds (I_ A b 15).T (I_ A b 15).G (Scalar.ofBits .f32 0x3F800000#32) 15 (results (I_ A b 15) (state A N b 15).XS) r k s = _
  rw [hx, ha, summed, add_assoc]
  congr 1
  rw [← gain, ← Fintype.sum_ite_eq (15 : Fin 16) (fun e => gain A b r k e), ← Finset.sum_add_distrib]
  refine Finset.sum_congr rfl fun e _ => ?_
  have h15 : (15 : Fin 16).val = 15 := rfl
  by_cases h : e.val < (15 : Fin 16).val
  · rw [if_pos h, if_neg (fun h' => by have := congrArg Fin.val h'; omega), add_zero]
  · rw [if_neg h, if_pos (Fin.ext (by show 15 = e.val; omega)), zero_add]

/-- The features of the row that slot `s` of expert `e` names. -/
def feats (b e : Fin 16) (s : Fin 256) : Fin 1024 → EReal := feat (aH A b (rowN (aT A b e s)))

/-- The expert's two layers at that row. -/
def outs (b e : Fin 16) (s : Fin 256) (d : Fin 1024) : EReal := layer (feats A b e s) (aW1 A e) (aW3 A e) (aW2 A e) d

theorem res_apply (b e : Fin 16) (s : Fin 256) (d : Fin 1024) : res A b e (ix2 s d) = outs A b e s d * aM A b d := by
  have hx : (fun k => unpacked (F := Ideal) (fetched (I_ A b e).T (I_ A b e).H e) (ix2 s k)) = feats A b e s := by
    funext k
    rw [unpacked_apply, feats]
    congr 1
    funext j
    show (I_ A b e).H (ix3 0 (rowN ((I_ A b e).T (ix3 0 e s))) j) = _
    show A.a0 (ix3 (sam (at_ b e)) (rowN (A.a1 (ix3 (sam (at_ b e)) e s))) j) = _
    rw [sam_at]; rfl
  have h1 : (fun k f => (I_ A b e).w1 (ix3 0 k f)) = aW1 A e := by funext k f; show A.a5 (ix3 (exq (at_ b e)) k f) = _; rw [exq_at]; rfl
  have h3 : (fun k f => (I_ A b e).w3 (ix3 0 k f)) = aW3 A e := by funext k f; show A.a6 (ix3 (exq (at_ b e)) k f) = _; rw [exq_at]; rfl
  have h2 : (fun k f => (I_ A b e).w2 (ix3 0 k f)) = aW2 A e := by funext k f; show A.a7 (ix3 (exq (at_ b e)) k f) = _; rw [exq_at]; rfl
  have hg : (I_ A b e).g2 (ix3 0 0 d) = aM A b d := by
    show A.a4 (ix3 ⟨6 * (sam (at_ b e)).val + 5, _⟩ 0 d) = A.a4 (ix3 ⟨6 * b.val + 5, _⟩ 0 d)
    simp only [sam_at]
  rw [res, results, expert_apply, hx, h1, h3, h2, hg, outs]

theorem gain_eq (b : Fin 16) (r : Fin 2048) (d : Fin 1024) (e : Fin 16) :
    gain A b r d e = ∑ s : Fin 256, if rowN (aT A b e s) = r then aG A b e s * (outs A b e s d * aM A b d) else 0 := by
  refine Finset.sum_congr rfl fun s _ => ?_
  have ht : (I_ A b e).T (ix3 0 e s) = aT A b e s := by
    show A.a1 (ix3 (sam (at_ b e)) e s) = _
    rw [sam_at]; rfl
  have hg : (I_ A b e).G (ix3 0 e s) = aG A b e s := by
    show A.a2 (ix3 (sam (at_ b e)) e s) = _
    rw [sam_at]; rfl
  have h1 : (Scalar.ofBits .f32 0x3F800000#32 : Ideal .f32) = (1 : EReal) := Ideal.ofBits_one_f32
  rw [adds, ht, hg, res_apply, h1, mul_one]

end Cert.Proof.Moe
end
-- ==== Proof.Value.Blocks.lean ====
module

public import proofs.«01_k».proof.Proof.Run
public import proofs.«01_k».proof.Proof.Value.Layer
public import Idealize.ShloMosaic.Lib.Pipeline.ValueKit

@[expose] public section

set_option maxRecDepth 16384

noncomputable section

namespace Cert.Proof.Moe

open Cert.KernelIdeal Cert.KernelIdeal.Gen
open Idealize.ShloMosaic Idealize.ShloMosaic.Pipeline

variable (m : (ℓ : Loc nD τ sig) → Buf (Elt Ideal) ℓ) (c : Dev nD)

theorem idx : ∀ t : Fin cfg0.N, win0_0.index t = ![t.val / 16, 0, 0] ∧ win0_1.index t = ![t.val / 16, 0, 0] ∧ win0_2.index t = ![t.val / 16, 0, 0]
    ∧ win0_3.index t = ![t.val / 16, 0, 0] ∧ win0_4.index t = ![6 * (t.val / 16) + 5, 0, 0] ∧ win0_5.index t = ![t.val % 16, 0, 0]
    ∧ win0_6.index t = ![t.val % 16, 0, 0] ∧ win0_7.index t = ![t.val % 16, 0, 0] ∧ win0_8.index t = ![0, 0] ∧ win0_9.index t = ![t.val / 16, 0, 0] :=
  (by decide +kernel : ∀ t : Fin grid0.N, _)

theorem ins_T (t : Fin cfg0.N) (e : Fin 16) (s : Fin 256) : (ins m c t).T (ix3 0 e s) = m (c.tc.loc main_arg1) (ix3 (sam t) e s) := by
  show iblk m c 0 t (ix3 0 e s) = _
  blk_ext [iblk, V, idx t, sam]
theorem ins_G (t : Fin cfg0.N) (e : Fin 16) (s : Fin 256) : (ins m c t).G (ix3 0 e s) = m (c.tc.loc main_arg2) (ix3 (sam t) e s) := by
  show iblk m c 1 t (ix3 0 e s) = _
  blk_ext [iblk, V, idx t, sam]
theorem ins_H (t : Fin cfg0.N) (r : Fin 2048) (d : Fin 512) : (ins m c t).H (ix3 0 r d) = m (c.tc.loc main_arg0) (ix3 (sam t) r d) := by
  show iblk m c 2 t (ix3 0 r d) = _
  blk_ext [iblk, V, idx t, sam]
theorem ins_X (t : Fin cfg0.N) (r : Fin 2048) (d : Fin 1024) : (ins m c t).X (ix3 0 r d) = m (c.tc.loc main_arg3) (ix3 (sam t) r d) := by
  show iblk m c 3 t (ix3 0 r d) = _
  blk_ext [iblk, V, idx t, sam]
theorem ins_g2 (t : Fin cfg0.N) (d : Fin 1024) : (ins m c t).g2 (ix3 0 0 d) = m (c.tc.loc main_arg4) (ix3 ⟨6 * (sam t).val + 5, by omega⟩ 0 d) := by
  show iblk m c 4 t (ix3 0 0 d) = _
  blk_ext [iblk, V, idx t, sam]
theorem ins_w1 (t : Fin cfg0.N) (k f : Fin 1024) : (ins m c t).w1 (ix3 0 k f) = m (c.tc.loc main_arg5) (ix3 (exq t) k f) := by
  show iblk m c 5 t (ix3 0 k f) = _
  blk_ext [iblk, V, idx t, exq]
theorem ins_w3 (t : Fin cfg0.N) (k f : Fin 1024) : (ins m c t).w3 (ix3 0 k f) = m (c.tc.loc main_arg6) (ix3 (exq t) k f) := by
  show iblk m c 6 t (ix3 0 k f) = _
  blk_ext [iblk, V, idx t, exq]
theorem ins_w2 (t : Fin cfg0.N) (k f : Fin 1024) : (ins m c t).w2 (ix3 0 k f) = m (c.tc.loc main_arg7) (ix3 (exq t) k f) := by
  show iblk m c 7 t (ix3 0 k f) = _
  blk_ext [iblk, V, idx t, exq]
theorem scale_at (t : Fin cfg0.N) (d : Fin 1024) : iblk m c 8 t (ix2 0 d) = m (c.tc.loc main_arg8) (ix1 d) := by
  blk_simp [iblk]
  entry_read
  pointwise
  blk_ext [idx t]

/-- The kernel's operands. -/
def arrs : Arrs := ⟨m (c.tc.loc main_arg0), m (c.tc.loc main_arg1), m (c.tc.loc main_arg2), m (c.tc.loc main_arg3), m (c.tc.loc main_arg4), m (c.tc.loc main_arg5),
  m (c.tc.loc main_arg6), m (c.tc.loc main_arg7)⟩

/-- At a point the input buffers hold the operands' blocks. -/
theorem ins_eq : ins m c = (arrs m c).at := funext fun t =>
  at_eq _ _ t (ins_T m c t) (ins_G m c t) (ins_H m c t) (ins_X m c t) (ins_g2 m c t) (ins_w1 m c t) (ins_w3 m c t) (ins_w2 m c t)

end Cert.Proof.Moe
end
-- ==== Proof.Value.Sample.lean ====
module

public import proofs.«01_k».proof.Proof.Value.Blocks

@[expose] public section

set_option maxRecDepth 16384

noncomputable section

namespace Cert.Proof.Moe

open Cert.KernelIdeal Cert.KernelIdeal.Gen
open Idealize.ShloMosaic Idealize.ShloMosaic.Pipeline

variable (m : (ℓ : Loc nD τ sig) → Buf (Elt Ideal) ℓ) (c : Dev nD)

/-- The last scale. -/
def aF (d : Fin 1024) : EReal := m (c.tc.loc main_arg8) (ix1 d)

/-- The test of the last point of a sample. -/
theorem last3_iff : ∀ t : Fin cfg0.N, k0_cond3 (grid0.coords t) = 1#1 ↔ t.val % 16 = 15 := (by decide +kernel : ∀ t : Fin grid0.N, _)

variable {m} in
/-- What a sample's last point leaves in the result's buffer. -/
theorem kept_last (hd : ∀ b e e', Distinct4 (I_ (arrs m c) b e).T e') (b : Fin 16) (r : Fin 2048) (d : Fin 1024) :
    (kept m c ((at_ b 15).val + 1)).O (ix3 0 r d) = rms (summed (arrs m c) b r) (aF m c) d := by
  have hN : ∀ t O, t.val % 16 ≠ 15 → normed_at m c t O = O := fun t O h => by
    rw [normed_at, lastNormed, if_neg fun h' => h ((last3_iff t).1 h')]
  obtain ⟨O, hO, e⟩ := keptOf_last hN hd b
  rw [kept, ins_eq, e, normed_at, lastNormed, if_pos ((last3_iff _).2 (mod_at b 15)), normAll_apply]
  exact congrFun (congrArg₂ rms (funext (hO r)) (funext fun k => scale_at m c _ k)) d

/-- The kernel's result array after the run. -/
theorem result (hd : ∀ b e e', Distinct4 (I_ (arrs m c) b e).T e') :
    (dats m 0 c).arrAt 9 cfg0.N = fun j => rms (summed (arrs m c) (j 0) (j 1)) (aF m c) (j 2) := by
  refine (dats m 0 c).arrAt_eq_of_covers 9 _ (by decide +kernel) fun t hf y => ?_
  have ht := (flush0_9 t).1 hf
  obtain ⟨b, rfl⟩ : ∃ b, t = at_ b 15 := ⟨sam t, Fin.ext (by show t.val = 16 * (t.val / 16) + 15; omega)⟩
  revert y
  refine all3 fun x y => ?_
  have h0 : (((cfg0.win 9).blk (at_ b 15)).view.emb (ix3 0 x y)) = ix3 b x y := by
    have hi : win0_9.index (at_ b 15) = ![b.val, 0, 0] := by
      rw [(idx (at_ b 15)).2.2.2.2.2.2.2.2.2, show (at_ b 15).val / 16 = b.val from congrArg Fin.val (sam_at b 15)]
    blk_ext [hi]
  refine (kept_last c hd b x y).trans ?_
  rw [h0]
  rfl

end Cert.Proof.Moe
end
-- ==== Proof.Value.Halves.lean ====
module

public import proofs.«01_k».proof.Proof.Value.Expert

@[expose] public section

noncomputable section

namespace Cert.Proof.Moe

open Idealize.ShloMosaic

/-- A half over sixteen zero bits, read as an f32, is the half read as a bf16. -/
theorem widened (x : BitVec 16) (w : BitVec 32) (h : w.toNat = x.toNat * 65536) : Ideal.ofBits .f32 w = Ideal.ofBits .bf16 x := by
  show Ideal.ieee 8 23 w = Ideal.ieee 8 7 x
  have hs : w.extractLsb' (8 + 23) 1 = x.extractLsb' (8 + 7) 1 := BitVec.eq_of_toNat_eq (by
    simp only [BitVec.extractLsb'_toNat, Nat.shiftRight_eq_div_pow, h]; omega)
  have he : w.extractLsb' 23 8 = x.extractLsb' 7 8 := BitVec.eq_of_toNat_eq (by
    simp only [BitVec.extractLsb'_toNat, Nat.shiftRight_eq_div_pow, h]; omega)
  have hf : (w.extractLsb' 0 23).toNat = (x.extractLsb' 0 7).toNat * 65536 := by
    simp only [BitVec.extractLsb'_toNat, Nat.shiftRight_eq_div_pow, h]; omega
  unfold Ideal.ieee
  simp only [hs, he, hf]
  have hz : ((x.extractLsb' 0 7).toNat * 65536 = 0) = ((x.extractLsb' 0 7).toNat = 0) := propext (by omega)
  simp only [hz]
  have hp : ∀ a : ℤ, (2 : ℝ) ^ (a - 7) = 65536 * (2 : ℝ) ^ (a - 23) := fun a => by
    rw [show a - 7 = 16 + (a - 23) by ring, zpow_add₀ two_ne_zero]; norm_num
  split
  · rfl
  · split
    · congr 1
      push_cast
      rw [show (2 : ℝ) ^ (-133 : ℤ) = 65536 * (2 : ℝ) ^ (-149 : ℤ) from by simpa using hp (-126)]; ring
    · congr 1
      push_cast
      rw [hp]; ring

theorem low_half (v : BitVec 32) : Ideal.ofBits .f32 (v <<< 16) = half v 0 :=
  widened _ _ (by simp only [BitVec.toNat_shiftLeft, BitVec.extractLsb'_toNat, Nat.shiftRight_eq_div_pow, Nat.shiftLeft_eq]; omega)

theorem high_half (v : BitVec 32) : Ideal.ofBits .f32 (v &&& 4294901760#32) = half v 1 := by
  refine widened _ _ ?_
  have h := IdealRules.bf16_pack.hi16_append v
  have h' : (v &&& 4294901760#32) = v.extractLsb' 16 16 ++ (0#16 : BitVec 16) := h.symm
  rw [h', BitVec.toNat_append, Nat.shiftLeft_eq]
  simp only [BitVec.toNat_ofNat, Nat.zero_mod, Nat.or_zero]

/-- A half whose eight exponent bits are not all set is a number. -/
theorem half_real (v : BitVec 32) (i : ℕ) (h : (v.extractLsb' (i * 16) 16).extractLsb' 7 8 ≠ 255#8) : ∃ r : ℝ, half v i = (r : EReal) := by
  show ∃ r : ℝ, Ideal.ieee 8 7 (v.extractLsb' (i * 16) 16) = (r : EReal)
  unfold Ideal.ieee
  have : ((v.extractLsb' (i * 16) 16).extractLsb' 7 8).toNat ≠ 2 ^ 8 - 1 := fun e => h (BitVec.eq_of_toNat_eq e)
  simp only [this, if_false]
  split
  · exact ⟨_, rfl⟩
  · exact ⟨_, rfl⟩

theorem low_real (v : BitVec 32) (h : v &&& 0x7F80#32 ≠ 0x7F80#32) : ∃ r : ℝ, half v 0 = (r : EReal) := by
  refine half_real v 0 fun e => h ?_
  have hb : ∀ i : ℕ, i < 8 → v.getLsbD (7 + i) = true := fun i hi => by
    have := congrArg (fun z : BitVec 8 => z.getLsbD i) e
    simp only [BitVec.getLsbD_extractLsb'] at this
    have h1 : (255#8).getLsbD i = true := by interval_cases i <;> rfl
    rw [h1] at this
    simp [hi, show 7 + i < 16 by omega] at this
    exact this
  refine BitVec.eq_of_getLsbD_eq fun i hi => ?_
  rw [BitVec.getLsbD_and]
  by_cases hr : 7 ≤ i ∧ i < 15
  · have := hb (i - 7) (by omega)
    rw [show 7 + (i - 7) = i by omega] at this
    rw [this, Bool.true_and]
  · have : (0x7F80#32).getLsbD i = false := by
      have : i < 7 ∨ 15 ≤ i := by omega
      interval_cases i <;> first | rfl | omega
    rw [this, Bool.and_false]

theorem high_real (v : BitVec 32) (h : v &&& 0x7F800000#32 ≠ 0x7F800000#32) : ∃ r : ℝ, half v 1 = (r : EReal) := by
  refine half_real v 1 fun e => h ?_
  have hb : ∀ i : ℕ, i < 8 → v.getLsbD (23 + i) = true := fun i hi => by
    have := congrArg (fun z : BitVec 8 => z.getLsbD i) e
    simp only [BitVec.getLsbD_extractLsb'] at this
    have h1 : (255#8).getLsbD i = true := by interval_cases i <;> rfl
    rw [h1] at this
    simp [hi, show 7 + i < 16 by omega] at this
    rw [← this]; congr 1; omega
  refine BitVec.eq_of_getLsbD_eq fun i hi => ?_
  rw [BitVec.getLsbD_and]
  by_cases hr : 23 ≤ i ∧ i < 31
  · have := hb (i - 23) (by omega)
    rw [show 23 + (i - 23) = i by omega] at this
    rw [this, Bool.true_and]
  · have : (0x7F800000#32).getLsbD i = false := by
      have : i < 23 ∨ 31 ≤ i := by omega
      interval_cases i <;> first | rfl | omega
    rw [this, Bool.and_false]

end Cert.Proof.Moe
-- ==== Proof.Value.Numbers.lean ====
module

public import proofs.«01_k».proof.Proof.Value.Layer
public import proofs.«01_k».proof.Proof.Value.Halves

@[expose] public section

set_option maxRecDepth 16384

noncomputable section

namespace Cert.Proof.Moe

open Idealize.ShloMosaic

/-- A number: neither infinity. -/
def Num (x : EReal) : Prop := ∃ r : ℝ, x = (r : EReal)

theorem num_mul {x y : EReal} (hx : Num x) (hy : Num y) : Num (x * y) := by
  obtain ⟨a, rfl⟩ := hx
  obtain ⟨b, rfl⟩ := hy
  exact ⟨a * b, (EReal.coe_mul a b).symm⟩

theorem num_add {x y : EReal} (hx : Num x) (hy : Num y) : Num (x + y) := by
  obtain ⟨a, rfl⟩ := hx
  obtain ⟨b, rfl⟩ := hy
  exact ⟨a + b, (EReal.coe_add a b).symm⟩

theorem num_sum {ι : Type} (s : Finset ι) (f : ι → EReal) (h : ∀ i, Num (f i)) : Num (∑ i ∈ s, f i) := by
  classical
  refine Finset.induction_on s ⟨0, by simp⟩ fun i s hi ih => ?_
  rw [Finset.sum_insert hi]
  exact num_add (h i) ih

theorem num_logistic {x : EReal} (h : Num x) : Num (Ideal.logistic x) := by
  obtain ⟨a, rfl⟩ := h
  exact ⟨_, Ideal.logistic_coe a⟩

/-- A number distributes over a sum of numbers. -/
theorem mul_sum_num {ι : Type} {a : EReal} (ha : Num a) (s : Finset ι) (f : ι → EReal) (h : ∀ i, Num (f i)) : a * ∑ i ∈ s, f i = ∑ i ∈ s, a * f i := by
  classical
  refine Finset.induction_on s (by simp) fun i s hi ih => ?_
  rw [Finset.sum_insert hi, Finset.sum_insert hi, ← ih]
  obtain ⟨x, rfl⟩ := ha
  obtain ⟨y, hy⟩ := h i
  obtain ⟨z, hz⟩ := num_sum s f h
  rw [hy, hz]
  exact_mod_cast mul_add x y z

theorem num_hidden {x : Fin 1024 → EReal} {w1 w3 : Fin 1024 → Fin 1024 → EReal} (hx : ∀ k, Num (x k)) (h1 : ∀ k f, Num (w1 k f)) (h3 : ∀ k f, Num (w3 k f)) (f : Fin 1024) :
    Num (hidden x w1 w3 f) := by
  have h : Num (∑ k, x k * w1 k f) := num_sum _ _ fun k => num_mul (hx k) (h1 k f)
  exact num_mul (num_mul h (num_logistic h)) (num_sum _ _ fun k => num_mul (hx k) (h3 k f))

theorem num_layer {x : Fin 1024 → EReal} {w1 w3 w2 : Fin 1024 → Fin 1024 → EReal} (hx : ∀ k, Num (x k)) (h1 : ∀ k f, Num (w1 k f)) (h3 : ∀ k f, Num (w3 k f))
    (h2 : ∀ f d, Num (w2 f d)) (d : Fin 1024) : Num (layer x w1 w3 w2 d) :=
  num_sum _ _ fun f => num_mul (num_hidden hx h1 h3 f) (h2 f d)

theorem num_feat {w : Fin 512 → BitVec 32} (h : ∀ j, Num (half (w j) 0) ∧ Num (half (w j) 1)) (k : Fin 1024) : Num (feat w k) := by
  unfold feat
  split
  · exact (h _).1
  · exact (h _).2

/-- What is asked of a layer's operands: the rows named exist, four in a group differ, and what is multiplied is a number. -/
structure Good (A : Arrs) : Prop where
  rows : ∀ b e s, (aT A b e s).toNat < 2048
  apart : ∀ b e e', Distinct4 (I_ A b e).T e'
  outs : ∀ b e s d, Num (outs A b e s d)
  gates : ∀ b e s, Num (aG A b e s)
  scales : ∀ b d, Num (aM A b d)

end Cert.Proof.Moe
end
-- ==== Proof.Value.Given.lean ====
module

public import proofs.«01_k».proof.Proof.Value.Numbers
public import proofs.«01_k».proof.Proof.Range

@[expose] public section

set_option maxRecDepth 16384

noncomputable section

namespace Cert.Proof.Moe

open Idealize.ShloMosaic
open Cert.Pre_rows_distinct_and_finite

theorem num_of_abs (x : Ideal .f32) (h : FloatOps.cmpf (F := Ideal) .olt (FloatOps.absf x) (Scalar.ofBits .f32 0x7F800000#32) = 1#1) : Num x := by
  have e : (Scalar.ofBits .f32 0x7F800000#32 : Ideal .f32) = (⊤ : EReal) := by
    show Ideal.ieee 8 23 (0x7F800000#32) = ⊤
    unfold Ideal.ieee
    have h1 : ((0x7F800000#32).extractLsb' 23 8).toNat = 2 ^ 8 - 1 := by decide
    have h2 : ((0x7F800000#32).extractLsb' 0 23).toNat = 0 := by decide
    have h3 : ((0x7F800000#32).extractLsb' (8 + 23) 1 == 1#1) = false := by decide
    simp only [h1, h2, h3, if_true]
    rfl
  rw [e] at h
  have h' : Ideal.cmp .olt (max (x : EReal) (-x)) ⊤ = 1#1 := h
  have hl : max (x : EReal) (-x) < ⊤ := by
    by_contra hn
    rw [Ideal.cmp] at h'
    simp only [hn, decide_false] at h'
    exact absurd h' (by decide)
  obtain ⟨h1, h2⟩ := max_lt_iff.1 hl
  induction x using EReal.rec with
  | bot => exact absurd h2 (by simp)
  | top => exact absurd h1 (by simp)
  | coe r => exact ⟨r, rfl⟩

theorem bit_and {p q : BitVec 1} (h : p &&& q = 1#1) : p = 1#1 ∧ q = 1#1 := by
  revert h; revert p q; decide

theorem word_ne {x y : BitVec 32} (h : IntOp.cmpi .ne x y = 1#1) : x ≠ y := by
  rintro rfl
  have : IntOp.cmpi .ne x x = 0#1 := by simp [IntOp.cmpi]
  rw [this] at h
  exact absurd h (by decide)

variable [Facts] {a0 : IVec S16x2048x512 32} {a1 : IVec S16x16x256 32} {a2 : FVec Ideal S16x16x256 .f32} {a3 : FVec Ideal S16x2048x1024 .f32}
  {a4 : FVec Ideal S144x1x1024 .f32} {a5 a6 a7 : FVec Ideal S16x1024x1024 .bf16} {a8 : FVec Ideal S1024 .f32}

/-- The four rows of a group, read off `rows_distinct_and_finite`. -/
theorem rows_distinct (h : (fn (F := Ideal) a0 a1 a2 a3 a4 a5 a6 a7 a8).2.1 = fun _ => 1#1) (b e : Fin 16) (n : Fin 64) (i j : ℕ) (hij : i < j) (hj : j < 4) :
    a1 (ix3 b e ⟨n.val * 4 + i, by omega⟩) ≠ a1 (ix3 b e ⟨n.val * 4 + j, by omega⟩) := by
  have h0 := congrFun h (ix3 b e n)
  have hw : (fn (F := Ideal) a0 a1 a2 a3 a4 a5 a6 a7 a8).2.1 (ix3 b e n) =
      (((((IntOp.cmpi .ne (a1 (ix3 b e ⟨n.val * 4, by omega⟩)) (a1 (ix3 b e ⟨n.val * 4 + 1, by omega⟩))
        &&& IntOp.cmpi .ne (a1 (ix3 b e ⟨n.val * 4, by omega⟩)) (a1 (ix3 b e ⟨n.val * 4 + 2, by omega⟩)))
        &&& IntOp.cmpi .ne (a1 (ix3 b e ⟨n.val * 4, by omega⟩)) (a1 (ix3 b e ⟨n.val * 4 + 3, by omega⟩)))
        &&& IntOp.cmpi .ne (a1 (ix3 b e ⟨n.val * 4 + 1, by omega⟩)) (a1 (ix3 b e ⟨n.val * 4 + 2, by omega⟩)))
        &&& IntOp.cmpi .ne (a1 (ix3 b e ⟨n.val * 4 + 1, by omega⟩)) (a1 (ix3 b e ⟨n.val * 4 + 3, by omega⟩)))
        &&& IntOp.cmpi .ne (a1 (ix3 b e ⟨n.val * 4 + 2, by omega⟩)) (a1 (ix3 b e ⟨n.val * 4 + 3, by omega⟩))) := by
    unfold fn fn_part1 fn_part2
    pointwise
    rfl
  rw [hw] at h0
  obtain ⟨h0, h23⟩ := bit_and h0
  obtain ⟨h0, h13⟩ := bit_and h0
  obtain ⟨h0, h12⟩ := bit_and h0
  obtain ⟨h0, h03⟩ := bit_and h0
  obtain ⟨h01, h02⟩ := bit_and h0
  have : (i = 0 ∧ j = 1) ∨ (i = 0 ∧ j = 2) ∨ (i = 0 ∧ j = 3) ∨ (i = 1 ∧ j = 2) ∨ (i = 1 ∧ j = 3) ∨ (i = 2 ∧ j = 3) := by omega
  rcases this with ⟨rfl, rfl⟩ | ⟨rfl, rfl⟩ | ⟨rfl, rfl⟩ | ⟨rfl, rfl⟩ | ⟨rfl, rfl⟩ | ⟨rfl, rfl⟩
  · exact word_ne h01
  · exact word_ne h02
  · exact word_ne h03
  · exact word_ne h12
  · exact word_ne h13
  · exact word_ne h23

theorem halves_num (h : (fn (F := Ideal) a0 a1 a2 a3 a4 a5 a6 a7 a8).2.2.1 = fun _ => 1#1) (j) : Num (half (a0 j) 0) ∧ Num (half (a0 j) 1) := by
  obtain ⟨h1, h2⟩ := bit_and (p := IntOp.cmpi .ne (a0 j &&& 32640#32) 32640#32) (q := IntOp.cmpi .ne (a0 j &&& 2139095040#32) 2139095040#32) (congrFun h j)
  exact ⟨low_real _ (word_ne h1), high_real _ (word_ne h2)⟩

theorem gates_num (h : (fn (F := Ideal) a0 a1 a2 a3 a4 a5 a6 a7 a8).2.2.2.1 = fun _ => 1#1) (j) : Num (a2 j) := num_of_abs _ (congrFun h j)
theorem mods_num (h : (fn (F := Ideal) a0 a1 a2 a3 a4 a5 a6 a7 a8).2.2.2.2.1 = fun _ => 1#1) (j) : Num (a4 j) := num_of_abs _ (congrFun h j)
theorem w1_num (h : (fn (F := Ideal) a0 a1 a2 a3 a4 a5 a6 a7 a8).2.2.2.2.2.1 = fun _ => 1#1) (j) : Num (a5 j) := num_of_abs (a5 j) (congrFun h j)
theorem w3_num (h : (fn (F := Ideal) a0 a1 a2 a3 a4 a5 a6 a7 a8).2.2.2.2.2.2.1 = fun _ => 1#1) (j) : Num (a6 j) := num_of_abs (a6 j) (congrFun h j)
theorem w2_num (h : (fn (F := Ideal) a0 a1 a2 a3 a4 a5 a6 a7 a8).2.2.2.2.2.2.2 = fun _ => 1#1) (j) : Num (a7 j) := num_of_abs (a7 j) (congrFun h j)

/-- Operands that meet `rows_distinct_and_finite` are good. -/
theorem good {A : Arrs} (h1 : (fn (F := Ideal) A.a0 A.a1 A.a2 A.a3 A.a4 A.a5 A.a6 A.a7 a8).1 = fun _ => 1#1) (h2 : (fn (F := Ideal) A.a0 A.a1 A.a2 A.a3 A.a4 A.a5 A.a6 A.a7 a8).2.1 = fun _ => 1#1)
    (h3 : (fn (F := Ideal) A.a0 A.a1 A.a2 A.a3 A.a4 A.a5 A.a6 A.a7 a8).2.2.1 = fun _ => 1#1) (h4 : (fn (F := Ideal) A.a0 A.a1 A.a2 A.a3 A.a4 A.a5 A.a6 A.a7 a8).2.2.2.1 = fun _ => 1#1)
    (h5 : (fn (F := Ideal) A.a0 A.a1 A.a2 A.a3 A.a4 A.a5 A.a6 A.a7 a8).2.2.2.2.1 = fun _ => 1#1) (h6 : (fn (F := Ideal) A.a0 A.a1 A.a2 A.a3 A.a4 A.a5 A.a6 A.a7 a8).2.2.2.2.2.1 = fun _ => 1#1)
    (h7 : (fn (F := Ideal) A.a0 A.a1 A.a2 A.a3 A.a4 A.a5 A.a6 A.a7 a8).2.2.2.2.2.2.1 = fun _ => 1#1) (h8 : (fn (F := Ideal) A.a0 A.a1 A.a2 A.a3 A.a4 A.a5 A.a6 A.a7 a8).2.2.2.2.2.2.2 = fun _ => 1#1) : Good A where
  rows b e s := in_range' h1 (ix3 b e s)
  apart b e e' := by
    have rows_lt : ∀ b e s, (aT A b e s).toNat < 2048 := fun b e s => in_range' h1 (ix3 b e s)
    intro n hn i j hij hj hEq
    have ht : ∀ s, (I_ A b e).T (ix3 0 e' s) = aT A b e' s := fun s => by
      show A.a1 (ix3 (sam (at_ b e)) e' s) = _
      rw [sam_at]; rfl
    rw [ht, ht, Fin.ext_iff, rowN_val (rows_lt _ _ _), rowN_val (rows_lt _ _ _)] at hEq
    have hs : ∀ k, (hk : k < 4) → slot (4 * n + k) = ⟨(⟨n, hn⟩ : Fin 64).val * 4 + k, by show n * 4 + k < 256; omega⟩ := fun k hk =>
      Fin.ext (by show (4 * n + k) % 256 = n * 4 + k; omega)
    rw [hs i (by omega), hs j hj] at hEq
    exact rows_distinct h2 b e' ⟨n, hn⟩ i j hij hj (BitVec.eq_of_toNat_eq hEq)
  outs b e s d := num_layer (num_feat fun j => halves_num h3 _) (fun k f => w1_num h6 (ix3 e k f)) (fun k f => w3_num h7 (ix3 e k f)) (fun f d => w2_num h8 (ix3 e f d)) d
  gates b e s := gates_num h4 (ix3 b e s)
  scales b d := mods_num h5 _

end Cert.Proof.Moe
-- ==== Proof.Value.Reference.lean ====
module

public import proofs.«01_k».proof.Proof.Value.Halves
public import proofs.«01_k».proof.Proof.Gen.ReferenceIdeal.Run
public import Idealize.ShloMosaic.Lib.Routing.OpsPair

@[expose] public section

set_option maxRecDepth 16384

noncomputable section

namespace Cert.Proof.Moe.Ref

open Cert.ReferenceIdeal Cert.ReferenceIdeal.Gen
open Idealize.ShloMosaic Idealize.ShloMosaic.TcCoe Idealize.SL.Sem

/-- The pairs (sample, row) of the reference's gather and scatter: each expert's rows, with the sample they are in. -/
def samples : IVec S16x1x1 32 := broadcastInDim S16x1x1 ![0] bcast_S16_S16x1x1_0 (iotaInDim S16 32 0)

def pairs (a1 : IVec S16x16x256 32) : IVec S16x16x256x2 32 :=
  concatenate S16x16x256x2 3 [⟨S16x16x256x1, (broadcastInDim S16x16x256x1 ![0, 1, 2] bcast_S16x16x256_S16x16x256x1_0_1_2 (broadcastInDim S16x16x256 ![0, 1, 2] bcast_S16x1x1_S16x16x256_0_1_2 (select (cmpi .slt samples (broadcastInDim S16x1x1 ![] bcast_S_S16x1x1 (constantI S_ 32 0#32))) (addi samples (broadcastInDim S16x1x1 ![] bcast_S_S16x1x1 (constantI S_ 32 16#32))) samples)))⟩, ⟨S16x16x256x1, (broadcastInDim S16x16x256x1 ![0, 1, 2] bcast_S16x16x256_S16x16x256x1_0_1_2 (select (cmpi .slt a1 (broadcastInDim S16x16x256 ![] bcast_S_S16x16x256 (constantI S_ 32 0#32))) (addi a1 (broadcastInDim S16x16x256 ![] bcast_S_S16x16x256 (constantI S_ 32 2048#32))) a1))⟩] concatenates_S16x16x256x1_S16x16x256x1_S16x16x256x2_d3

/-- The packed features, unpacked. -/
def features (a0 : IVec S16x2048x512 32) : FVec Ideal S16x2048x1024 .f32 :=
  concatenate S16x2048x1024 2 [⟨S16x2048x512, (bitcastToFloat (F := Ideal) .f32 (Host.shli a0 (broadcastInDim S16x2048x512 ![] bcast_S_S16x2048x512 (constantI S_ 32 16#32))))⟩, ⟨S16x2048x512, (bitcastToFloat (F := Ideal) .f32 (andi a0 (broadcastInDim S16x2048x512 ![] bcast_S_S16x2048x512 (constantI S_ 32 4294901760#32))))⟩] concatenates_S16x2048x512_S16x2048x512_S16x2048x1024_d2

/-- The features of the rows of every expert. -/
def chosen (x : FVec Ideal S16x2048x1024 .f32) (p : IVec S16x16x256x2 32) : FVec Ideal S16x16x256x1024 .f32 :=
  Host.gather gather_S16x2048x1024_S16x16x256x2_S16x16x256x1024_3_01_n_n_01_3_111024 x p

/-- A weight applied to every expert's rows. -/
def applied (w : FVec Ideal S16x1024x1024 .bf16) (x : FVec Ideal S16x16x256x1024 .f32) : FVec Ideal S16x16x256x1024 .f32 :=
  transpose S16x16x256x1024 [2, 0, 3, 1] (Host.dotGeneral dot_S16x1024x1024_S16x16x256x1024_S16x1024x16x256_1_3_2_02_0_1 none (extf .f32 w bitsLt_bf16_f32) x) transposes_S16x1024x16x256_S16x16x256x1024_2_0_3_1

def gated (a g : FVec Ideal S16x16x256x1024 .f32) : FVec Ideal S16x16x256x1024 .f32 :=
  mulf (mulf a (Host.divf (broadcastInDim S16x16x256x1024 ![] bcast_S_S16x16x256x1024 (constant S_ .f32 0x3F800000#32)) (addf (broadcastInDim S16x16x256x1024 ![] bcast_S_S16x16x256x1024 (constant S_ .f32 0x3F800000#32)) (Host.exp (Host.negf a))))) g

def weighted (y : FVec Ideal S16x16x256x1024 .f32) (a2 : FVec Ideal S16x16x256 .f32) : FVec Ideal S16x16x256x1024 .f32 :=
  mulf y (broadcastInDim S16x16x256x1024 ![0, 1, 2, 3] bcast_S16x16x256x1_S16x16x256x1024_0_1_2_3 (broadcastInDim S16x16x256x1 ![0, 1, 2] bcast_S16x16x256_S16x16x256x1_0_1_2 a2))

/-- The experts' results added at their rows. -/
def scattered (p : IVec S16x16x256x2 32) (u : FVec Ideal S16x16x256x1024 .f32) : FVec Ideal S16x2048x1024 .f32 :=
  Host.scatterAdd scatter_S16x2048x1024_S16x16x256x2_S16x16x256x1024_3_01_01_3 (broadcastInDim S16x2048x1024 ![] bcast_S_S16x2048x1024 (constant S_ .f32 0x00000000#32)) p u

def residual (a3 s : FVec Ideal S16x2048x1024 .f32) (a4 : FVec Ideal S144x1x1024 .f32) : FVec Ideal S16x2048x1024 .f32 :=
  addf a3 (mulf (broadcastInDim S16x2048x1024 ![0, 1, 2] bcast_S16x1x1024_S16x2048x1024_0_1_2 (shapeCast _ (extractStridedSlice S16x1x1x1024 ![0, 5, 0, 0] (shapeCast _ a4 shapeCasts_S144x1x1024_S24x6x1x1024) slices_S24x6x1x1024_S16x1x1x1024_0_5_0_0) shapeCasts_S16x1x1x1024_S16x1x1024)) s)

def normalised (o : FVec Ideal S16x2048x1024 .f32) (a8 : FVec Ideal S1024 .f32) : FVec Ideal S16x2048x1024 .f32 :=
  mulf (mulf o (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf o o) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a8))

def experts (a0 : IVec S16x2048x512 32) (a1 : IVec S16x16x256 32) (a5 a6 a7 : FVec Ideal S16x1024x1024 .bf16) : FVec Ideal S16x16x256x1024 .f32 :=
  applied a7 (gated (applied a5 (chosen (features a0) (pairs a1))) (applied a6 (chosen (features a0) (pairs a1))))

/-- The reference's rows before they are normalised. -/
def total (a0 : IVec S16x2048x512 32) (a1 : IVec S16x16x256 32) (a2 : FVec Ideal S16x16x256 .f32) (a3 : FVec Ideal S16x2048x1024 .f32)
    (a4 : FVec Ideal S144x1x1024 .f32) (a5 a6 a7 : FVec Ideal S16x1024x1024 .bf16) : FVec Ideal S16x2048x1024 .f32 :=
  residual a3 (scattered (pairs a1) (weighted (experts a0 a1 a5 a6 a7) a2)) a4

theorem term_eq (m : (ℓ : Loc nD τ sig) → Buf (Elt Ideal) ℓ) (c : Dev nD) :
    Value.res_main_v72 m c = normalised (total (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))) (m (c.tc.loc main_arg8)) := by
  unfold Value.res_main_v72
  rfl

theorem pairs_0 (a1 : IVec S16x16x256 32) (b e : Fin 16) (s : Fin 256) : pairs a1 (ix4 b e s 0) = BitVec.ofNat 32 b.val := by
  have h : pairs a1 (ix4 b e s 0) = Scalar.select (IntOp.cmpi .slt (BitVec.ofNat 32 b.val) 0#32) (IntOp.addi (BitVec.ofNat 32 b.val) 16#32) (BitVec.ofNat 32 b.val) := by
    unfold pairs samples
    pointwise
  rw [h]
  exact Routing.wrap_of_lt _ _ (by rw [BitVec.toNat_ofNat]; omega)

theorem pairs_1 (a1 : IVec S16x16x256 32) (b e : Fin 16) (s : Fin 256) (h : (a1 (ix3 b e s)).toNat < 2048) : pairs a1 (ix4 b e s 1) = a1 (ix3 b e s) := by
  have h' : pairs a1 (ix4 b e s 1) = Scalar.select (IntOp.cmpi .slt (a1 (ix3 b e s)) 0#32) (IntOp.addi (a1 (ix3 b e s)) 2048#32) (a1 (ix3 b e s)) := by
    unfold pairs samples
    pointwise
  rw [h']
  exact Routing.wrap_of_lt _ _ (by omega)

theorem applied_apply (w : FVec Ideal S16x1024x1024 .bf16) (x : FVec Ideal S16x16x256x1024 .f32) (b e : Fin 16) (s : Fin 256) (d : Fin 1024) :
    applied w x (ix4 b e s d) = ∑ k : Fin 1024, (w (ix3 e k d) : EReal) * x (ix4 b e s k) := by
  unfold applied
  pointwise

theorem gated_apply (a g : FVec Ideal S16x16x256x1024 .f32) (j : S16x16x256x1024.Idx) :
    gated a g j = ((a j : EReal) * Ideal.logistic (a j)) * g j := by
  unfold gated
  pointwise
  rfl

theorem weighted_apply (y : FVec Ideal S16x16x256x1024 .f32) (a2 : FVec Ideal S16x16x256 .f32) (b e : Fin 16) (s : Fin 256) (d : Fin 1024) :
    weighted y a2 (ix4 b e s d) = (y (ix4 b e s d) : EReal) * a2 (ix3 b e s) := by
  unfold weighted
  pointwise

theorem residual_apply (a3 s : FVec Ideal S16x2048x1024 .f32) (a4 : FVec Ideal S144x1x1024 .f32) (b : Fin 16) (r : Fin 2048) (d : Fin 1024) :
    residual a3 s a4 (ix3 b r d) = (a3 (ix3 b r d) : EReal) + (a4 (ix3 ⟨6 * b.val + 5, by omega⟩ 0 d) : EReal) * s (ix3 b r d) := by
  unfold residual
  pointwise
  congr 5
  omega

theorem normalised_apply (o : FVec Ideal S16x2048x1024 .f32) (a8 : FVec Ideal S1024 .f32) (b : Fin 16) (r : Fin 2048) (d : Fin 1024) :
    normalised o a8 (ix3 b r d) = rms (fun k => o (ix3 b r k)) (fun k => a8 (ix1 k)) d := by
  unfold normalised rms
  pointwise

theorem scat_si (b e : Fin 16) (s : Fin 256) (k : Fin 1024) :
    (scatter_S16x2048x1024_S16x16x256x2_S16x16x256x1024_3_01_01_3).siIdx (ix4 b e s k) ⟨0, by decide⟩ = ix4 b e s 0 := by
  funext a
  fin_cases a <;> rfl

theorem scat_si' (b e : Fin 16) (s : Fin 256) (k : Fin 1024) :
    (scatter_S16x2048x1024_S16x16x256x2_S16x16x256x1024_3_01_01_3).siIdx (ix4 b e s k) ⟨1, by decide⟩ = ix4 b e s 1 := by
  funext a
  fin_cases a <;> rfl

theorem scat_lands (p : IVec S16x16x256x2 32) (b' e : Fin 16) (s : Fin 256) (k : Fin 1024) (b : Fin 16) (r : Fin 2048) (d : Fin 1024) :
    (scatter_S16x2048x1024_S16x16x256x2_S16x16x256x1024_3_01_01_3).resultIdx? (ix4 b' e s k) p = some (ix3 b r d)
      ↔ (p (ix4 b' e s 0)).toInt = b.val ∧ (p (ix4 b' e s 1)).toInt = r.val ∧ k = d := by
  have h0 : (scatter_S16x2048x1024_S16x16x256x2_S16x16x256x1024_3_01_01_3).start (ix4 b' e s k) p 0 = (p (ix4 b' e s 0)).toInt := by
    rw [← scat_si b' e s k]; rfl
  have h1 : (scatter_S16x2048x1024_S16x16x256x2_S16x16x256x1024_3_01_01_3).start (ix4 b' e s k) p 1 = (p (ix4 b' e s 1)).toInt := by
    rw [← scat_si' b' e s k]; rfl
  have h2 : (scatter_S16x2048x1024_S16x16x256x2_S16x16x256x1024_3_01_01_3).start (ix4 b' e s k) p 2 = 0 := rfl
  have w0 : (scatter_S16x2048x1024_S16x16x256x2_S16x16x256x1024_3_01_01_3).window (ix4 b' e s k) 0 = 0 := rfl
  have w1 : (scatter_S16x2048x1024_S16x16x256x2_S16x16x256x1024_3_01_01_3).window (ix4 b' e s k) 1 = 0 := rfl
  have w2 : (scatter_S16x2048x1024_S16x16x256x2_S16x16x256x1024_3_01_01_3).window (ix4 b' e s k) 2 = k.val := rfl
  rw [Routing.resultIdx?_eq_some]
  constructor
  · intro h
    have a0 := h 0
    have a1 := h 1
    have a2 := h 2
    rw [h0, w0] at a0
    rw [h1, w1] at a1
    rw [h2, w2] at a2
    have a0 : _ = (b.val : ℤ) := a0
    have a1 : _ = (r.val : ℤ) := a1
    have a2 : _ = (d.val : ℤ) := a2
    exact ⟨by omega, by omega, Fin.ext (by omega)⟩
  · rintro ⟨a0, a1, rfl⟩ a
    match a with
    | ⟨0, _⟩ => show _ + _ = (b.val : ℤ); exact (congrArg₂ (· + ·) h0 (congrArg Nat.cast w0)).trans (by simpa using a0)
    | ⟨1, _⟩ => show _ + _ = (r.val : ℤ); exact (congrArg₂ (· + ·) h1 (congrArg Nat.cast w1)).trans (by simpa using a1)
    | ⟨2, _⟩ => show _ + _ = (k.val : ℤ); exact (congrArg₂ (· + ·) h2 (congrArg Nat.cast w2)).trans (by simp)

theorem gath_si (b e : Fin 16) (s : Fin 256) (k : Fin 1024) :
    (gather_S16x2048x1024_S16x16x256x2_S16x16x256x1024_3_01_n_n_01_3_111024).siIdx (ix4 b e s k) ⟨0, by decide⟩ = ix4 b e s 0 := by
  funext a
  fin_cases a <;> rfl

theorem gath_si' (b e : Fin 16) (s : Fin 256) (k : Fin 1024) :
    (gather_S16x2048x1024_S16x16x256x2_S16x16x256x1024_3_01_n_n_01_3_111024).siIdx (ix4 b e s k) ⟨1, by decide⟩ = ix4 b e s 1 := by
  funext a
  fin_cases a <;> rfl

theorem gath_apply {α : Type} (x : S16x2048x1024.Idx → α) (p : IVec S16x16x256x2 32) (b e : Fin 16) (s : Fin 256) (k : Fin 1024) (r : Fin 2048)
    (h0 : p (ix4 b e s 0) = BitVec.ofNat 32 b.val) (h1 : (p (ix4 b e s 1)).toNat = r.val) :
    Host.gather gather_S16x2048x1024_S16x16x256x2_S16x16x256x1024_3_01_n_n_01_3_111024 x p (ix4 b e s k) = x (ix3 b r k) := by
  unfold Host.gather
  congr 1
  funext a
  apply Fin.ext
  match a with
  | ⟨0, _⟩ =>
    show min (p ((gather_S16x2048x1024_S16x16x256x2_S16x16x256x1024_3_01_n_n_01_3_111024).siIdx (ix4 b e s k) ⟨0, by decide⟩)).toInt.toNat 15 + 0 + 0 = b.val
    rw [gath_si, h0]
    have : (BitVec.ofNat 32 b.val).toInt = b.val := by rw [BitVec.toInt_eq_toNat_of_lt] <;> rw [BitVec.toNat_ofNat] <;> omega
    rw [this]; omega
  | ⟨1, _⟩ =>
    show min (p ((gather_S16x2048x1024_S16x16x256x2_S16x16x256x1024_3_01_n_n_01_3_111024).siIdx (ix4 b e s k) ⟨1, by decide⟩)).toInt.toNat 2047 + 0 + 0 = r.val
    rw [gath_si']
    have : (p (ix4 b e s 1)).toInt = r.val := by rw [BitVec.toInt_eq_toNat_of_lt] <;> omega
    rw [this]; omega
  | ⟨2, _⟩ =>
    show 0 + 0 + k.val = k.val
    omega

theorem features_apply (a0 : IVec S16x2048x512 32) (b : Fin 16) (r : Fin 2048) (k : Fin 1024) :
    features a0 (ix3 b r k) = feat (fun j => a0 (ix3 b r j)) k := by
  have h : features a0 (ix3 b r k) = if h : k.val < 512 then Ideal.ofBits .f32 (a0 (ix3 b r ⟨k.val, h⟩) <<< 16)
      else Ideal.ofBits .f32 (a0 (ix3 b r ⟨k.val - 512, by omega⟩) &&& 4294901760#32) := by
    unfold features
    pointwise
    rfl
  rw [h, feat]
  split
  · exact low_half _
  · exact high_half _

/-- The scatter's sum at a row: every expert's slots that name the row. -/
theorem scattered_apply (p : IVec S16x16x256x2 32) (u : FVec Ideal S16x16x256x1024 .f32) (t : Fin 16 → Fin 16 → Fin 256 → BitVec 32)
    (h0 : ∀ b e s, p (ix4 b e s 0) = BitVec.ofNat 32 b.val) (h1 : ∀ b e s, p (ix4 b e s 1) = t b e s) (ht : ∀ b e s, (t b e s).toNat < 2048)
    (b : Fin 16) (r : Fin 2048) (d : Fin 1024) :
    scattered p u (ix3 b r d) = ∑ e : Fin 16, ∑ s : Fin 256, if rowN (t b e s) = r then (u (ix4 b e s d) : EReal) else 0 := by
  have hz : (broadcastInDim S16x2048x1024 ![] bcast_S_S16x2048x1024 (constant (F := Ideal) S_ .f32 0x00000000#32) (ix3 b r d) : EReal) = 0 := Ideal.ofBits_zero_f32
  show broadcastInDim S16x2048x1024 ![] bcast_S_S16x2048x1024 (constant (F := Ideal) S_ .f32 0x00000000#32) (ix3 b r d) + ∑ j ∈ _, (u j : EReal) = _
  rw [hz, zero_add, ← Fintype.sum_prod_type' (fun e s => if rowN (t b e s) = r then (u (ix4 b e s d) : EReal) else 0), ← Finset.sum_filter]
  have hl : ∀ (b' e : Fin 16) (s : Fin 256) (k : Fin 1024),
      (scatter_S16x2048x1024_S16x16x256x2_S16x16x256x1024_3_01_01_3).resultIdx? (ix4 b' e s k) p = some (ix3 b r d) ↔ b' = b ∧ rowN (t b' e s) = r ∧ k = d := by
    intro b' e s k
    have e0 : (BitVec.ofNat 32 b'.val).toInt = b'.val := by rw [BitVec.toInt_eq_toNat_of_lt] <;> rw [BitVec.toNat_ofNat] <;> omega
    have h := ht b' e s
    have e1 : (t b' e s).toInt = (t b' e s).toNat := by rw [BitVec.toInt_eq_toNat_of_lt]; omega
    have e2 := rowN_val h
    rw [scat_lands, h0, h1, e0, e1, Fin.ext_iff, Fin.ext_iff (a := rowN _), e2]
    omega
  have hj4 : ∀ j : S16x16x256x1024.Idx, j = ix4 (j 0) (j 1) (j 2) (j 3) := fun j => by
    funext a
    fin_cases a <;> rfl
  have hj : ∀ j : S16x16x256x1024.Idx, (scatter_S16x2048x1024_S16x16x256x2_S16x16x256x1024_3_01_01_3).resultIdx? j p = some (ix3 b r d) →
      j 0 = b ∧ rowN (t (j 0) (j 1) (j 2)) = r ∧ j 3 = d := fun j h => (hl _ _ _ _).1 ((congrArg (fun j => ScatterDims.resultIdx? _ j p) (hj4 j)).symm.trans h)
  refine Finset.sum_bij' (fun j _ => ((j 1, j 2) : Fin 16 × Fin 256)) (fun q _ => ix4 b q.1 q.2 d) ?_ ?_ ?_ ?_ ?_
  · intro j h
    obtain ⟨h0, h1, -⟩ := hj j (Finset.mem_filter.1 h).2
    rw [h0] at h1
    exact Finset.mem_filter.2 ⟨Finset.mem_univ _, h1⟩
  · intro q h
    exact Finset.mem_filter.2 ⟨Finset.mem_univ _, (hl _ _ _ _).2 ⟨rfl, (Finset.mem_filter.1 h).2, rfl⟩⟩
  · intro j h
    obtain ⟨h0, -, h3⟩ := hj j (Finset.mem_filter.1 h).2
    show ix4 b (j 1) (j 2) d = j
    rw [← h0, ← h3]
    exact (hj4 j).symm
  · intro q h
    rfl
  · intro j h
    obtain ⟨h0, -, h3⟩ := hj j (Finset.mem_filter.1 h).2
    show u j = u (ix4 b (j 1) (j 2) d)
    rw [← h0, ← h3]
    exact congrArg u (hj4 j)

end Cert.Proof.Moe.Ref
-- ==== Proof.Value.Match.lean ====
module

public import proofs.«01_k».proof.Proof.Value.Numbers
public import proofs.«01_k».proof.Proof.Value.Reference

@[expose] public section

set_option maxRecDepth 16384

noncomputable section

namespace Cert.Proof.Moe

open Idealize.ShloMosaic
open Cert.KernelIdeal

variable {A : Arrs} (h : Good A)
include h

/-- The reference's experts, at one slot. -/
theorem experts_apply (b e : Fin 16) (s : Fin 256) (d : Fin 1024) :
    Ref.experts A.a0 A.a1 A.a5 A.a6 A.a7 (ix4 b e s d)
      = outs A b e s d := by
  have hx : ∀ k, Ref.chosen (Ref.features A.a0) (Ref.pairs A.a1) (ix4 b e s k) = feats A b e s k := fun k => by
    have h1 : Ref.pairs A.a1 (ix4 b e s 1) = aT A b e s := Ref.pairs_1 _ b e s (h.rows b e s)
    refine (Ref.gath_apply _ _ b e s k (rowN (aT A b e s)) (Ref.pairs_0 _ b e s) ?_).trans (Ref.features_apply _ _ _ _)
    rw [h1, rowN_val (h.rows b e s)]
  have hl : ∀ (w : FVec Ideal S16x1024x1024 .bf16) (f : Fin 1024),
      Ref.applied w (Ref.chosen (Ref.features A.a0) (Ref.pairs A.a1)) (ix4 b e s f)
        = ∑ k : Fin 1024, feats A b e s k * (w (ix3 e k f) : EReal) := fun w f => by
    rw [Ref.applied_apply]
    exact Finset.sum_congr rfl fun k _ => by rw [hx, mul_comm]
  rw [Ref.experts, Ref.applied_apply, outs, layer]
  refine Finset.sum_congr rfl fun f _ => ?_
  rw [Ref.gated_apply, hl, hl, mul_comm]
  rfl

/-- The reference's rows before they are normalised, at one entry: the kernel's own sum. -/
theorem total_apply (b : Fin 16) (r : Fin 2048) (d : Fin 1024) : Ref.total A.a0 A.a1 A.a2 A.a3 A.a4 A.a5 A.a6 A.a7 (ix3 b r d) = summed A b r d := by
  unfold Ref.total
  rw [Ref.residual_apply, Ref.scattered_apply _ _ (aT A) (Ref.pairs_0 _) (fun b e s => Ref.pairs_1 _ b e s (h.rows b e s)) h.rows]
  have hw : ∀ e s, Ref.weighted (Ref.experts A.a0 A.a1 A.a5 A.a6 A.a7)
      A.a2 (ix4 b e s d) = outs A b e s d * aG A b e s := fun e s => by
    rw [Ref.weighted_apply, experts_apply h]
    rfl
  have hn : ∀ e s, Num (if rowN (aT A b e s) = r then outs A b e s d * aG A b e s else 0) := fun e s => by
    split
    · exact num_mul (h.outs b e s d) (h.gates b e s)
    · exact ⟨0, rfl⟩
  simp only [hw]
  unfold summed
  refine congrArg (aX A b r d + ·) ?_
  refine (mul_sum_num (h.scales b d) _ _ fun e => num_sum _ _ (hn e)).trans (Finset.sum_congr rfl fun e _ => ?_)
  rw [gain_eq]
  refine (mul_sum_num (h.scales b d) _ _ (hn e)).trans (Finset.sum_congr rfl fun s _ => ?_)
  split
  · rw [mul_comm, mul_comm (outs A b e s d), mul_assoc]
  · exact mul_zero _

end Cert.Proof.Moe
-- ==== Proof.Algebraic.lean ====
module

public import proofs.«01_k».proof.Defs
public import proofs.«01_k».proof.Proof.Value.Sample
public import proofs.«01_k».proof.Proof.Value.Given
public import proofs.«01_k».proof.Proof.Value.Match

@[expose] public section

set_option maxRecDepth 16384

noncomputable section

namespace Cert.Proof.Moe

open Idealize.ShloMosaic Idealize.ShloMosaic.TcCoe Idealize.SL.Sem
open Cert.KernelIdeal

variable {m : (ℓ : Loc nD τ sig) → Buf (Elt Ideal) ℓ} (h : Cert.Pre_KernelIdeal_rows_distinct_and_finite m) (c : Dev nD)
include h

theorem good_arrs : Good (arrs m c) :=
  good (h c).1 (h c).2.1 (h c).2.2.1 (h c).2.2.2.1 (h c).2.2.2.2.1 (h c).2.2.2.2.2.1 (h c).2.2.2.2.2.2.1 (h c).2.2.2.2.2.2.2

/-- What the kernel leaves is what the reference's term is, of the kernel's operands. -/
theorem results_eq : (dats m 0 c).arrAt 9 cfg0.N = Ref.normalised (Ref.total (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7))) (m (c.tc.loc main_arg8)) := by
  rw [result m c (good_arrs h c).apart]
  funext j
  have hj : j = ix3 (j 0) (j 1) (j 2) := by
    funext a
    fin_cases a <;> rfl
  refine Eq.trans ?_ (congrArg _ hj.symm)
  refine Eq.trans ?_ (Ref.normalised_apply _ _ _ _ _).symm
  exact congrFun (congrArg₂ rms (funext fun k => (total_apply (good_arrs h c) (j 0) (j 1) k).symm) rfl) (j 2)

omit h in
theorem algebraic : Cert.algebraic_KernelIdeal_ReferenceIdeal_pre_rows_distinct_and_finite := fun m g m' g' h hm =>
  ⟨fun c => (dats m 0 c).arrAt 9 cfg0.N,
    (θ_run Cert.KernelIdeal.defs _ _).mono (fun _ h => h.1) (run_main m g (rows_of m fun c j => in_range' (h c).1 j)),
    (θ_run Cert.ReferenceIdeal.defs _ _).mono (fun r hr c => ⟨(hr c).1.trans (by
      refine (Ref.term_eq m' c).trans (Eq.trans ?_ (results_eq h c).symm)
      obtain ⟨h0, h1, h2, h3, h4, h5, h6, h7, h8⟩ := hm c
      rw [h0, h1, h2, h3, h4, h5, h6, h7, h8]), (hr c).2⟩) (Cert.ReferenceIdeal.Value.run (F := Ideal) m' g')⟩

end Cert.Proof.Moe
end
-- ==== Proof.First.Same.lean ====
module

public import proofs.«01_k».proof.Proof.Own
public import proofs.«01_k».proof.Kernel3Ideal

@[expose] public section

set_option maxRecDepth 16384

noncomputable section

namespace Cert.Proof.Moe.First

open Cert.Kernel3Ideal
open Idealize.ShloMosaic Idealize.SL.Sem

variable {F : FTy → Type} [FloatOps F] [Cert.Kernel3Ideal.Facts] [Cert.KernelIdeal.Facts]

variable (i : grid0.Coords) (arg2 : Memref sig .tc .smem S1x16x256 .i32) (arg3 : Memref sig .tc .smem S1x16x256 .f32)
  (arg4 : Memref sig .tc .vmem S1x2048x512 .i32) (arg11 : Memref sig .tc .vmem S1x2048x1024 .f32)
  (arg12 : Memref sig .tc .vmem S256x512 .i32) (arg13 : Memref sig .tc .vmem S256x1024 .f32)

section
variable (harg2 : arg2.IsWhole) (harg3 : arg3.IsWhole) (harg4 : arg4.IsWhole)
  (arg5 : Memref sig .tc .vmem S1x2048x1024 .f32) (harg5 : arg5.IsWhole) (arg6 : Memref sig .tc .vmem S1x1x1024 .f32) (harg6 : arg6.IsWhole)
  (arg7 : Memref sig .tc .vmem S1x1024x1024 .bf16) (harg7 : arg7.IsWhole) (arg8 : Memref sig .tc .vmem S1x1024x1024 .bf16) (harg8 : arg8.IsWhole)
  (arg9 : Memref sig .tc .vmem S1x1024x1024 .bf16) (harg9 : arg9.IsWhole)
  (harg11 : arg11.IsWhole) (harg12 : arg12.IsWhole) (harg13 : arg13.IsWhole)

set_option maxHeartbeats 4000000 in
/-- The first layer's kernel, as printed, is the loops over rows and groups of rows. -/
theorem moe_eq : cc0_moe (F := F) i arg2 harg2 arg3 harg3 arg4 harg4 arg5 harg5 arg6 harg6 arg7 harg7 arg8 harg8 arg9 harg9 arg11 harg11 arg12 harg12 arg13 harg13
   = moe i arg2 arg3 arg4 arg11 arg12 arg13 arg5 arg6 arg7 arg8 arg9 (pure ⟨⟩) := by
  apply dite_step (G := fun h1 T => start arg11 arg13 arg5 (gather1 i arg2 arg4 arg12 h1 T 256))
  case hP => exact (congrArg (fun q => Prog.bind q _) (bind_dite _ _ _)).trans ((bind_dite _ _ _).trans rfl)
  case hB => exact rfl
  case hA =>
    intro h1
    refine start_congr (K' := _) _ _ _ rfl ?_
    iterate 256 refine gather1_succ _ _ _ _ rfl ?_
    exact rfl
  case hT =>
    refine load_congr rfl fun v => ?_
    iterate 256 refine gather2_succ _ _ _ _ rfl ?_
    iterate 64 refine scatter1_succ _ _ _ _ _ rfl ?_
    refine load_congr rfl fun w1 => ?_
    refine load_congr rfl fun w3 => ?_
    refine load_congr rfl fun w2 => ?_
    refine load_congr rfl fun g2 => ?_
    refine load_congr rfl fun _ => ?_
    refine load_congr rfl fun _ => ?_
    apply dite_step (G := fun h2 T => scatter2 i arg2 arg3 arg11 arg13 h2 T 64)
    case hP => exact rfl
    case hB => exact rfl
    case hA =>
      intro h2
      iterate 64 refine scatter2_succ _ _ _ _ _ rfl ?_
      exact rfl
    case hT => exact rfl

end
end Cert.Proof.Moe.First
end
end
-- ==== Proof.First.Run.lean ====
module

public import proofs.«01_k».proof.Proof.Points
public import proofs.«01_k».proof.Proof.First.Same
public import proofs.«01_k».proof.Proof.Gen.Kernel3Ideal.Launch
public import proofs.«01_k».proof.Proof.Gen.Kernel3Ideal.Points
public import proofs.«01_k».proof.Proof.Gen.Kernel3Ideal.Frame

@[expose] public section

set_option maxRecDepth 16384

noncomputable section

namespace Cert.Proof.Moe.First

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- What the eight input buffers that every layer has hold at point `t`: their arrays' blocks there. -/
def ins (t : Fin cfg0.N) : Ins F :=
  ⟨iblk m c 0 t, iblk m c 1 t, iblk m c 2 t, iblk m c 3 t, iblk m c 4 t, iblk m c 5 t, iblk m c 6 t, iblk m c 7 t⟩

/-- What the result's buffer and the two scratch buffers hold before point `n`. -/
def kept : ℕ → Kept F := keptOf (ins m c) fun _ O => O

/-- Between points: the scratch buffers, as `kept` says except before the first point of a row, and the generator's register. -/
def between (n : ℕ) : sProp 𝕄 :=
  iprop((∃ s : Kept F, ⌜n % 16 ≠ 0 → s.XS = (kept m c n).XS ∧ s.YS = (kept m c n).YS⌝
    ∗ Own c (Memref.whole cc0_scratch0) s.XS ∗ Own c (Memref.whole cc0_scratch1) s.YS) ∗ ∃ r, prngReg c r)

/-- The proof data: inputs stay, the result's buffer as `kept` says after the point, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t
    | ⟨8, _⟩ => (kept m c (t.val + 1)).O
  Φ t := between m c t.val
  q _ := fullShare
  owed _ := 0

theorem A_eq (w) : (dats m 0 c).A w = V m c (Pipeline.arrRef spec0 w) := by dsimp only [dats]

theorem between_start (t : Fin cfg0.N) : (dats m 0 c).Φ t.castSucc = between m c t.val := by
  dsimp only [dats]; exact Pipeline.Dat.Φ_castSucc (fun n _ => between m c n) t

theorem between_end (t : Fin cfg0.N) : (dats m 0 c).Φ t.succ = between m c (t.val + 1) := by
  dsimp only [dats]; rw [Fin.val_succ]

/-- After the first point of a row the result's buffer holds what the point before left. -/
theorem before_result (t : Fin cfg0.N) (ht : t.val % 16 ≠ 0) (d) : (dats m 0 c).before 8 t d = (kept m c t.val).O := by
  have h0 : t.val ≠ 0 := fun h => ht (by rw [h])
  have hf : (cfg0.win 8).fetch t = false := rfl
  rw [Dat.before_of_pos _ 8 t h0 hf]
  have hfl : ¬ (cfg0.win 8).flush ⟨t.val - 1, Nat.lt_of_le_of_lt (Nat.sub_le _ _) t.isLt⟩ = true := by
    rw [flush0_8]; show ¬ (t.val - 1) % 16 = 15; omega
  rw [if_neg hfl]
  have e : (t.val - 1) + 1 = t.val := by omega
  show (kept m c ((t.val - 1) + 1)).O = _
  rw [e]

/-- The point's buffers that every layer has. -/
def bufs (t : Fin cfg0.N) : Ms sig :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), Memref.whole cc0_scratch0, Memref.whole cc0_scratch1⟩

/-- The kernel's body at a point, from what the pipeline hands it. -/
theorem run_point (hT : ∀ t j, ((ins m c t).T j : BitVec 32).toNat < 2048) (t : Fin cfg0.N) (s : Kept F)
    (hs : t.val % 16 ≠ 0 → s = kept m c t.val) {Q : PUnit.{1} → sProp 𝕄}
    (hK : St c (bufs t) iprop(emp) (ins m c t) (kept m c (t.val + 1)).O (kept m c (t.val + 1)).XS (kept m c (t.val + 1)).YS ⊢ Q ⟨⟩) :
    St c (bufs t) iprop(emp) (ins m c t) s.O s.XS s.YS ⊢ Run defs₀ c (bodyAt0 t) Q := by
  unfold bodyAt0
  rw [moe_eq]
  exact run_at (ins m c) (fun _ O => O) c (bufs t) iprop(emp) t (hT t) s hs (fun _ _ _ h => run_pure c h) hK

/-- The same with what is to follow. -/
theorem run_then (hT : ∀ t j, ((ins m c t).T j : BitVec 32).toNat < 2048) (t : Fin cfg0.N) (s : Kept F)
    (hs : t.val % 16 ≠ 0 → s = kept m c t.val) {Q : PUnit.{1} → sProp 𝕄} :
    iprop(St c (bufs t) iprop(emp) (ins m c t) s.O s.XS s.YS ∗ (St c (bufs t) iprop(emp) (ins m c t) (kept m c (t.val + 1)).O (kept m c (t.val + 1)).XS (kept m c (t.val + 1)).YS -∗ Q ⟨⟩))
      ⊢ Run defs₀ c (bodyAt0 t) Q :=
  (BI.Laws.sep_mono_left (Q := iprop(St c (bufs t) iprop(emp) (ins m c t) (kept m c (t.val + 1)).O (kept m c (t.val + 1)).XS (kept m c (t.val + 1)).YS -∗ Q ⟨⟩))
    (run_point m c hT t s hs (Q := fun _ => St c (bufs t) iprop(emp) (ins m c t) (kept m c (t.val + 1)).O (kept m c (t.val + 1)).XS (kept m c (t.val + 1)).YS)
      Entails.rfl)).trans ((wp_frame_r _ _ _).trans (wp_mono _ _ _ fun ⟨⟩ => by iintro ⟨H, HQ⟩; iapply HQ; iexact H))

/-- The pipeline's obligation for the kernel's body. -/
theorem body (hT : ∀ t j, ((ins m c t).T j : BitVec 32).toNat < 2048) : Pipeline.BodyObligation (dats m 0 c) defs₀ Variants.none () Set.univ := fun t => by
  rw [bigSep_W0, bigSep_W0]
  dsimp only
  rw [between_start, between_end]
  unfold Dat.owesAt Pipeline.owesWithin
  rw [show (dats m 0 c).owed t.castSucc = 0 from rfl, show (dats m 0 c).owed t.succ = 0 from rfl]
  unfold between
  iintro ⟨⟨⟨%s, %hs, HXS, HYS⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H9⟩⟩
  rw [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl),
    before0_6_of m (dats m 0 c) (A_eq m c 6) (fun _ => rfl), before0_7_of m (dats m 0 c) (A_eq m c 7) (fun _ => rfl)]
  have hall : t.val % 16 ≠ 0 → (⟨(dats m 0 c).before 8 t d8, s.XS, s.YS⟩ : Kept F) = kept m c t.val := fun h => by
    rw [before_result m c t h d8, (hs h).1, (hs h).2]
  iapply (run_then m c hT t ⟨(dats m 0 c).before 8 t d8, s.XS, s.YS⟩ hall)
  isplitl [H0 H1 H2 H3 H4 H5 H6 H7 H9 HXS HYS]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitr; · iempintro
    isplitl [H9]; · iexact H9
    isplitl [HXS]; · iexact HXS
    iexact HYS
  unfold St
  iintro ⟨H0, H1, H2, H3, H4, H5, H6, H7, -, H9, HXS, HYS⟩
  isplitl [HXS HYS HR]
  · isplitl [HXS HYS]
    · iexists (kept m c (t.val + 1))
      isplitr; · ipureintro; exact fun _ => ⟨rfl, rfl⟩
      isplitl [HXS]; · iexact HXS
      iexact HYS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H9

/-- Before the first point the scratch buffers hold anything. -/
theorem enter : Pipeline.ΦA (Val := Elt F) spec0 c ⊢ (dats m 0 c).Φ 0 := by
  rw [show (dats m 0 c).Φ 0 = between m c 0 from rfl]
  unfold between Pipeline.ΦA
  rw [scopedRest0_eq]
  iintro ⟨⟨⟨%f0, H0⟩, ⟨%f1, H1⟩⟩, HR⟩
  isplitl [H0 H1]
  · iexists (⟨(kept m c 0).O, f0, f1⟩ : Kept F)
    isplitr; · ipureintro; exact fun h => absurd rfl h
    unfold Own
    rw [owns_whole, owns_whole]
    isplitl [H0]; · iexact H0
    iexact H1
  iexact HR

/-- After the last point they are given back. -/
theorem leave : (dats m 0 c).Φ (Fin.last cfg0.N) ⊢ Pipeline.ΦA (Val := Elt F) spec0 c := by
  rw [show (dats m 0 c).Φ (Fin.last cfg0.N) = between m c cfg0.N from rfl]
  unfold between Pipeline.ΦA
  rw [scopedRest0_eq]
  simp only [Own, owns_whole]
  iintro ⟨⟨%s, -, H0, H1⟩, HR⟩
  isplitl [H0 H1]
  · isplitl [H0]
    · iexists _; iexact H0
    iexists _; iexact H1
  iexact HR

/-- What a run of the kernel ends with: the arguments as they were, the result at what the pipeline wrote back, every counter at zero. -/
def Ends (r : PUnit.{1} × MemSt nD τ sig (Elt F)) : Prop :=
  (∀ c : Dev nD, r.2.mem ((c.tc : Thread nD τ).loc main_v0) = (dats m 0 c).arrAt 8 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0

/-- The kernel runs, whatever the floats are, from rows that lie in range. -/
theorem run_main (hT : ∀ c t j, ((ins m c t).T j : BitVec 32).toNat < 2048) :
    θ_run defs (onTc (τ := τ) (main (F := F))) ⟨m, fun _ => 0, ρ⟩ (Ends m) :=
  Pipeline.θ_run_frame_track cfgs (dats m) 0 launch0 defs₀ Variants.none m ρ main (fun c => (body m c (hT c)).loose) (fun _ w => by fin_cases w <;> rfl) (fun _ _ => rfl)
    (V m) (hmain m Variants.none) (A_eq m) (enter m) (leave m) (Ends m) fun r h =>
      ⟨fun c => ⟨(h.1 c).1 8, ((h.1 c).1 2).trans (((dats m 0 c).arrAt_in 2 rfl _).trans ((A_eq m c 2).trans (V_main_arg0 m c))),
        ((h.1 c).1 0).trans (((dats m 0 c).arrAt_in 0 rfl _).trans ((A_eq m c 0).trans (V_main_arg1 m c))),
        ((h.1 c).1 1).trans (((dats m 0 c).arrAt_in 1 rfl _).trans ((A_eq m c 1).trans (V_main_arg2 m c))),
        ((h.1 c).1 3).trans (((dats m 0 c).arrAt_in 3 rfl _).trans ((A_eq m c 3).trans (V_main_arg3 m c))),
        ((h.1 c).1 4).trans (((dats m 0 c).arrAt_in 4 rfl _).trans ((A_eq m c 4).trans (V_main_arg4 m c))),
        ((h.1 c).1 5).trans (((dats m 0 c).arrAt_in 5 rfl _).trans ((A_eq m c 5).trans (V_main_arg5 m c))),
        ((h.1 c).1 6).trans (((dats m 0 c).arrAt_in 6 rfl _).trans ((A_eq m c 6).trans (V_main_arg6 m c))),
        ((h.1 c).1 7).trans (((dats m 0 c).arrAt_in 7 rfl _).trans ((A_eq m c 7).trans (V_main_arg7 m c)))⟩, h.2⟩

/-- The tables' words at a point are words of the table's array. -/
theorem rows_of (h : ∀ (c : Dev nD) j, (m ((c.tc : Thread nD τ).loc main_arg1) j : BitVec 32).toNat < 2048) : ∀ c t j, ((ins m c t).T j : BitVec 32).toNat < 2048 := fun c t j => by
  show (V m c main_arg1 _ : BitVec 32).toNat < 2048
  rw [V_main_arg1]
  exact h c _

end Cert.Proof.Moe.First
end
-- ==== Proof.First.Bits.lean ====
module

public import proofs.«01_k».proof.Proof.First.Same
public import proofs.«01_k».proof.Proof.First.SameBits

@[expose] public section

set_option maxRecDepth 16384

noncomputable section

namespace Cert.Proof.Moe.First

open Idealize.ShloMosaic Idealize.ShloMosaic.TcCoe
open Idealize.SL Idealize.SL.Sem

variable {F : FTy → Type} [FloatOps F] [Cert.Kernel3.Facts] [Cert.Kernel3Ideal.Facts] [Cert.KernelIdeal.Facts]

/-- The two programs' kernel bodies run the same program for every label. -/
theorem bodies_eq : Cert.Kernel3.defs₀ (F := F) = Cert.Kernel3Ideal.defs₀ (F := F) := by
  refine congrArg Defs.onTc ?_
  funext l a
  match l, a with
  | 0, (t, s) => exact (bits_eq ..).trans (Eq.trans rfl (moe_eq ..).symm)
  | ⟨_ + 1, h⟩, _ => exact absurd h (Nat.not_lt.2 (Nat.le_add_left _ _))

/-- The two programs have the same body table. -/
theorem defs_eq : Cert.Kernel3.defs (F := F) = Cert.Kernel3Ideal.defs (F := F) :=
  congrArg (Pipeline.defs Cert.Kernel3Ideal.pcfgs) bodies_eq

/-- The two programs have the same host code. -/
theorem main_eq : Cert.Kernel3.main (F := F) = Cert.Kernel3Ideal.main (F := F) := rfl

end Cert.Proof.Moe.First
end
-- ==== Proof.First.Frames.lean ====
module

public import proofs.«01_k».proof.Proof.First.Run
public import proofs.«01_k».proof.Proof.First.Bits
public import proofs.«01_k».proof.Proof.Range
public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.Gen.Pre_rows_in_range3
public import proofs.«01_k».proof.Proof.Gen.Pre_rows_distinct_and_finite3

@[expose] public section

set_option maxRecDepth 16384

noncomputable section

namespace Cert.Proof.Moe.First

open Idealize.ShloMosaic Idealize.ShloMosaic.TcCoe
open Idealize.SL Idealize.SL.Sem

variable {F : FTy → Type} [FloatOps F]

/-- `rows_in_range3` read at one word of the table. -/
theorem in_range3 {a0 a1 a2 a3 a4 a5 a6 a7} (h : Cert.Pre_rows_in_range3.fn (F := F) a0 a1 a2 a3 a4 a5 a6 a7 = fun _ => 1#1) (j) :
    (a1 j : BitVec 32).toNat < 2048 := word_range _ (congrFun h j)

/-- `rows_distinct_and_finite3`, its first part, read at one word of the table. -/
theorem in_range3' {a0 a1 a2 a3 a4 a5 a6 a7} (h : (Cert.Pre_rows_distinct_and_finite3.fn (F := F) a0 a1 a2 a3 a4 a5 a6 a7).1 = fun _ => 1#1) (j) :
    (a1 j : BitVec 32).toNat < 2048 := word_range _ (congrFun h j)

/-- Every run from rows in range ends with the operands as they were and no signal left over. -/
theorem run_keeps (m : (ℓ : Loc Kernel3Ideal.nD Kernel3Ideal.τ Kernel3Ideal.sig) → Buf (Elt F) ℓ) (ρ : Dev Kernel3Ideal.nD → PrngReg)
    (h : ∀ (c : Dev Kernel3Ideal.nD) j, (m (c.tc.loc Kernel3Ideal.main_arg1) j : BitVec 32).toNat < 2048) :
    θ_run (Kernel3Ideal.defs (F := F)) (onTc (τ := Kernel3Ideal.τ) (Kernel3Ideal.main (F := F))) ⟨m, fun _ => 0, ρ⟩ (fun r => (∀ c : Dev Kernel3Ideal.nD,
    r.2.mem ((c.tc : Thread Kernel3Ideal.nD Kernel3Ideal.τ).loc Kernel3Ideal.main_arg0) = m ((c.tc : Thread Kernel3Ideal.nD Kernel3Ideal.τ).loc Kernel3Ideal.main_arg0)
    ∧ r.2.mem ((c.tc : Thread Kernel3Ideal.nD Kernel3Ideal.τ).loc Kernel3Ideal.main_arg1) = m ((c.tc : Thread Kernel3Ideal.nD Kernel3Ideal.τ).loc Kernel3Ideal.main_arg1)
    ∧ r.2.mem ((c.tc : Thread Kernel3Ideal.nD Kernel3Ideal.τ).loc Kernel3Ideal.main_arg2) = m ((c.tc : Thread Kernel3Ideal.nD Kernel3Ideal.τ).loc Kernel3Ideal.main_arg2)
    ∧ r.2.mem ((c.tc : Thread Kernel3Ideal.nD Kernel3Ideal.τ).loc Kernel3Ideal.main_arg3) = m ((c.tc : Thread Kernel3Ideal.nD Kernel3Ideal.τ).loc Kernel3Ideal.main_arg3)
    ∧ r.2.mem ((c.tc : Thread Kernel3Ideal.nD Kernel3Ideal.τ).loc Kernel3Ideal.main_arg4) = m ((c.tc : Thread Kernel3Ideal.nD Kernel3Ideal.τ).loc Kernel3Ideal.main_arg4)
    ∧ r.2.mem ((c.tc : Thread Kernel3Ideal.nD Kernel3Ideal.τ).loc Kernel3Ideal.main_arg5) = m ((c.tc : Thread Kernel3Ideal.nD Kernel3Ideal.τ).loc Kernel3Ideal.main_arg5)
    ∧ r.2.mem ((c.tc : Thread Kernel3Ideal.nD Kernel3Ideal.τ).loc Kernel3Ideal.main_arg6) = m ((c.tc : Thread Kernel3Ideal.nD Kernel3Ideal.τ).loc Kernel3Ideal.main_arg6)
    ∧ r.2.mem ((c.tc : Thread Kernel3Ideal.nD Kernel3Ideal.τ).loc Kernel3Ideal.main_arg7) = m ((c.tc : Thread Kernel3Ideal.nD Kernel3Ideal.τ).loc Kernel3Ideal.main_arg7))
    ∧ r.2.sem = fun _ => 0) :=
  (θ_run Kernel3Ideal.defs _ _).mono (fun _ h => ⟨fun c => (h.1 c).2, h.2⟩) (run_main m ρ (rows_of m h))

/-- The kernel terminates from rows in range, leaves its operands and every signal at zero: the run above over bits, whose
    body table is the kernel's. -/
theorem frame_kernel : Cert.quiescent_Kernel3 := fun m ρ h =>
  have key : ∀ D, D = Kernel3Ideal.defs (F := Bits) → θ_run D (onTc (τ := Kernel3Ideal.τ) (Kernel3Ideal.main (F := Bits))) ⟨m, fun _ => 0, ρ⟩ _ := by
    rintro _ rfl; exact run_keeps m ρ fun c j => in_range3 (h c) j
  key _ defs_eq

/-- The same of the kernel over the extended reals. -/
theorem frame_kernelIdeal : Cert.quiescent_Kernel3Ideal := fun m ρ h => run_keeps m ρ fun c j => in_range3 (h c) j

/-- The same under the second condition, which asks for more. -/
theorem frame_kernelIdeal' : Cert.quiescent_Kernel3Ideal_pre_rows_distinct_and_finite3 := fun m ρ h =>
  run_keeps m ρ fun c j => in_range3' (h c).1 j

/-- The reference terminates, leaves its operands, and has no signals. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The same under the second condition. -/
theorem frame_reference' : Cert.quiescent_Reference3Ideal_pre_rows_distinct_and_finite3 := fun m ρ _ =>
  (θ_run Cert.Reference3Ideal.defs _ _).mono (fun r h => ⟨fun c => (h c).2, sem_eq_zero_of_no_sems (by decide) r.2⟩) (Cert.Reference3Ideal.Value.run (F := Ideal) m ρ)

end Cert.Proof.Moe.First
end
-- ==== Proof.First.Blocks.lean ====
module

public import proofs.«01_k».proof.Proof.First.Run
public import proofs.«01_k».proof.Proof.Value.Layer
public import Idealize.ShloMosaic.Lib.Pipeline.ValueKit

@[expose] public section

set_option maxRecDepth 16384

noncomputable section

namespace Cert.Proof.Moe.First

open Cert.Kernel3Ideal Cert.Kernel3Ideal.Gen
open Idealize.ShloMosaic Idealize.ShloMosaic.Pipeline

variable (m : (ℓ : Loc nD τ sig) → Buf (Elt Ideal) ℓ) (c : Dev nD)

theorem idx : ∀ t : Fin cfg0.N, win0_0.index t = ![t.val / 16, 0, 0] ∧ win0_1.index t = ![t.val / 16, 0, 0] ∧ win0_2.index t = ![t.val / 16, 0, 0]
    ∧ win0_3.index t = ![t.val / 16, 0, 0] ∧ win0_4.index t = ![6 * (t.val / 16) + 5, 0, 0] ∧ win0_5.index t = ![t.val % 16, 0, 0]
    ∧ win0_6.index t = ![t.val % 16, 0, 0] ∧ win0_7.index t = ![t.val % 16, 0, 0] ∧ win0_8.index t = ![t.val / 16, 0, 0] :=
  (by decide +kernel : ∀ t : Fin grid0.N, _)

theorem ins_T (t : Fin cfg0.N) (e : Fin 16) (s : Fin 256) : (ins m c t).T (ix3 0 e s) = m (c.tc.loc main_arg1) (ix3 (sam t) e s) := by
  show iblk m c 0 t (ix3 0 e s) = _
  blk_ext [iblk, V, idx t, sam]
theorem ins_G (t : Fin cfg0.N) (e : Fin 16) (s : Fin 256) : (ins m c t).G (ix3 0 e s) = m (c.tc.loc main_arg2) (ix3 (sam t) e s) := by
  show iblk m c 1 t (ix3 0 e s) = _
  blk_ext [iblk, V, idx t, sam]
theorem ins_H (t : Fin cfg0.N) (r : Fin 2048) (d : Fin 512) : (ins m c t).H (ix3 0 r d) = m (c.tc.loc main_arg0) (ix3 (sam t) r d) := by
  show iblk m c 2 t (ix3 0 r d) = _
  blk_ext [iblk, V, idx t, sam]
theorem ins_X (t : Fin cfg0.N) (r : Fin 2048) (d : Fin 1024) : (ins m c t).X (ix3 0 r d) = m (c.tc.loc main_arg3) (ix3 (sam t) r d) := by
  show iblk m c 3 t (ix3 0 r d) = _
  blk_ext [iblk, V, idx t, sam]
theorem ins_g2 (t : Fin cfg0.N) (d : Fin 1024) : (ins m c t).g2 (ix3 0 0 d) = m (c.tc.loc main_arg4) (ix3 ⟨6 * (sam t).val + 5, by omega⟩ 0 d) := by
  show iblk m c 4 t (ix3 0 0 d) = _
  blk_ext [iblk, V, idx t, sam]
theorem ins_w1 (t : Fin cfg0.N) (k f : Fin 1024) : (ins m c t).w1 (ix3 0 k f) = m (c.tc.loc main_arg5) (ix3 (exq t) k f) := by
  show iblk m c 5 t (ix3 0 k f) = _
  blk_ext [iblk, V, idx t, exq]
theorem ins_w3 (t : Fin cfg0.N) (k f : Fin 1024) : (ins m c t).w3 (ix3 0 k f) = m (c.tc.loc main_arg6) (ix3 (exq t) k f) := by
  show iblk m c 6 t (ix3 0 k f) = _
  blk_ext [iblk, V, idx t, exq]
theorem ins_w2 (t : Fin cfg0.N) (k f : Fin 1024) : (ins m c t).w2 (ix3 0 k f) = m (c.tc.loc main_arg7) (ix3 (exq t) k f) := by
  show iblk m c 7 t (ix3 0 k f) = _
  blk_ext [iblk, V, idx t, exq]
/-- The kernel's operands. -/
def arrs : Arrs := ⟨m (c.tc.loc main_arg0), m (c.tc.loc main_arg1), m (c.tc.loc main_arg2), m (c.tc.loc main_arg3), m (c.tc.loc main_arg4), m (c.tc.loc main_arg5),
  m (c.tc.loc main_arg6), m (c.tc.loc main_arg7)⟩

/-- At a point the input buffers hold the operands' blocks. -/
theorem ins_eq : ins m c = (arrs m c).at := funext fun t =>
  at_eq _ _ t (ins_T m c t) (ins_G m c t) (ins_H m c t) (ins_X m c t) (ins_g2 m c t) (ins_w1 m c t) (ins_w3 m c t) (ins_w2 m c t)

end Cert.Proof.Moe.First
end
-- ==== Proof.First.Sample.lean ====
module

public import proofs.«01_k».proof.Proof.First.Blocks

@[expose] public section

set_option maxRecDepth 16384

noncomputable section

namespace Cert.Proof.Moe.First

open Cert.Kernel3Ideal Cert.Kernel3Ideal.Gen
open Idealize.ShloMosaic Idealize.ShloMosaic.Pipeline

variable (m : (ℓ : Loc nD τ sig) → Buf (Elt Ideal) ℓ) (c : Dev nD)

variable {m} in
/-- What a sample's last point leaves in the result's buffer. -/
theorem kept_last (hd : ∀ b e e', Distinct4 (I_ (arrs m c) b e).T e') (b : Fin 16) (r : Fin 2048) (d : Fin 1024) :
    (kept m c ((at_ b 15).val + 1)).O (ix3 0 r d) = summed (arrs m c) b r d := by
  obtain ⟨O, hO, e⟩ := keptOf_last (N := fun _ O => O) (fun _ _ _ => rfl) hd b
  rw [kept, ins_eq, e]
  exact hO r d

/-- The kernel's result array after the run. -/
theorem result (hd : ∀ b e e', Distinct4 (I_ (arrs m c) b e).T e') :
    (dats m 0 c).arrAt 8 cfg0.N = fun j => summed (arrs m c) (j 0) (j 1) (j 2) := by
  refine (dats m 0 c).arrAt_eq_of_covers 8 _ (by decide +kernel) fun t hf y => ?_
  have ht := (flush0_8 t).1 hf
  obtain ⟨b, rfl⟩ : ∃ b, t = at_ b 15 := ⟨sam t, Fin.ext (by show t.val = 16 * (t.val / 16) + 15; omega)⟩
  revert y
  refine all3 fun x y => ?_
  have h0 : (((cfg0.win 8).blk (at_ b 15)).view.emb (ix3 0 x y)) = ix3 b x y := by
    have hi : win0_8.index (at_ b 15) = ![b.val, 0, 0] := by
      rw [(idx (at_ b 15)).2.2.2.2.2.2.2.2, show (at_ b 15).val / 16 = b.val from congrArg Fin.val (sam_at b 15)]
    blk_ext [hi]
  refine (kept_last c hd b x y).trans ?_
  rw [h0]
  rfl

end Cert.Proof.Moe.First
end
-- ==== Proof.First.Algebraic.lean ====
module

public import proofs.«01_k».proof.Proof.First.Sample
public import proofs.«01_k».proof.Proof.First.Frames
public import proofs.«01_k».proof.Proof.Value.Given
public import proofs.«01_k».proof.Proof.Value.Match
public import proofs.«01_k».proof.Proof.Gen.Reference3Ideal.Run

@[expose] public section

set_option maxRecDepth 16384

noncomputable section

namespace Cert.Proof.Moe.First

open Idealize.ShloMosaic Idealize.ShloMosaic.TcCoe Idealize.SL.Sem
open Cert.Kernel3Ideal

/-- The first layer's reference returns the rows that the last layer's goes on to normalise. -/
theorem term_eq (m : (ℓ : Loc Reference3Ideal.nD Reference3Ideal.τ Reference3Ideal.sig) → Buf (Elt Ideal) ℓ) (c : Dev Reference3Ideal.nD) :
    Reference3Ideal.Value.res_main_v59 m c = Ref.total (m (c.tc.loc Reference3Ideal.main_arg0)) (m (c.tc.loc Reference3Ideal.main_arg1)) (m (c.tc.loc Reference3Ideal.main_arg2)) (m (c.tc.loc Reference3Ideal.main_arg3))
      (m (c.tc.loc Reference3Ideal.main_arg4)) (m (c.tc.loc Reference3Ideal.main_arg5)) (m (c.tc.loc Reference3Ideal.main_arg6)) (m (c.tc.loc Reference3Ideal.main_arg7)) := by
  unfold Reference3Ideal.Value.res_main_v59
  rfl

variable {m : (ℓ : Loc nD τ sig) → Buf (Elt Ideal) ℓ} (h : Cert.Pre_Kernel3Ideal_rows_distinct_and_finite3 m) (c : Dev nD)
include h

/-- The condition is that of the last layer, whose ninth operand it does not read. -/
theorem good_arrs : Good (arrs m c) :=
  good (a8 := fun _ => (0 : EReal)) (h c).1 (h c).2.1 (h c).2.2.1 (h c).2.2.2.1 (h c).2.2.2.2.1 (h c).2.2.2.2.2.1 (h c).2.2.2.2.2.2.1 (h c).2.2.2.2.2.2.2

/-- What the kernel leaves is what the reference's term is, of the kernel's operands. -/
theorem results_eq : (dats m 0 c).arrAt 8 cfg0.N = Ref.total (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) := by
  rw [result m c (good_arrs h c).apart]
  funext j
  have hj : j = ix3 (j 0) (j 1) (j 2) := by
    funext a
    fin_cases a <;> rfl
  refine Eq.trans ?_ (congrArg _ hj.symm)
  exact (total_apply (good_arrs h c) (j 0) (j 1) (j 2)).symm

omit h in
theorem algebraic : Cert.algebraic_Kernel3Ideal_Reference3Ideal_pre_rows_distinct_and_finite3 := fun m g m' g' h hm =>
  ⟨fun c => (dats m 0 c).arrAt 8 cfg0.N,
    (θ_run Cert.Kernel3Ideal.defs _ _).mono (fun _ h => h.1) (run_main m g (rows_of m fun c j => in_range3' (h c).1 j)),
    (θ_run Cert.Reference3Ideal.defs _ _).mono (fun r hr c => ⟨(hr c).1.trans (by
      refine (term_eq m' c).trans (Eq.trans ?_ (results_eq h c).symm)
      obtain ⟨h0, h1, h2, h3, h4, h5, h6, h7⟩ := hm c
      rw [h0, h1, h2, h3, h4, h5, h6, h7]), (hr c).2⟩) (Cert.Reference3Ideal.Value.run (F := Ideal) m' g')⟩

end Cert.Proof.Moe.First
end
-- ==== Proof.lean ====
/- The claims of this certificate, assembled, for the last layer's call and for the first layer's: the frames of Frames (one run,
   over any float values, serves the kernel over bits and over the extended reals) and the value equation of Algebraic. -/
module

public import proofs.«01_k».proof.Proof.Frames
public import proofs.«01_k».proof.Proof.Algebraic
public import proofs.«01_k».proof.Proof.First.Frames
public import proofs.«01_k».proof.Proof.First.Algebraic
public import proofs.«01_k».proof.Proof.Gen.Kernel2
public import proofs.«01_k».proof.Proof.Gen.Kernel2.Frame
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_rows_in_range3
public import proofs.«01_k».proof.Proof.Gen.Pre_rows_distinct_and_finite3

@[expose] public section

namespace Cert.Proof

/-- Every claim: kernel, ideal kernel and reference terminate and leave their operands; nothing was rewritten between the
    kernel and its ideal form; the ideal kernel and the reference have the same result. So for the last layer's expert call and for the first layer's.
    The call that packs the activations terminates and leaves its operands too. -/
theorem claim : Cert.Claim :=
  ⟨Cert.Kernel.Gen.facts, Cert.KernelIdeal.Gen.facts, Cert.ReferenceIdeal.Gen.facts, Cert.Kernel2.Gen.facts, Cert.Kernel3.Gen.facts,
    Cert.Kernel3Ideal.Gen.facts, Cert.Reference3Ideal.Gen.facts, Cert.Pre_rows_in_range.Gen.facts,
    Cert.Pre_rows_distinct_and_finite.Gen.facts, Cert.Pre_rows_in_range3.Gen.facts, Cert.Pre_rows_distinct_and_finite3.Gen.facts,
    Moe.frame_kernel, Moe.frame_kernelIdeal, Moe.frame_kernelIdeal', Moe.frame_reference, Moe.frame_reference',
    fun m ρ _ => Cert.Kernel2.Gen.frame m ρ, Moe.First.frame_kernel, Moe.First.frame_kernelIdeal, Moe.First.frame_kernelIdeal',
    Moe.First.frame_reference, Moe.First.frame_reference', trivial, Moe.algebraic, trivial, Moe.First.algebraic⟩

end Cert.Proof

end
